-- ==== Defs.lean ====
def Pre_Kernel [hPre_finite : Cert.Pre_finite.Facts] (m : (ℓ : Loc Cert.Kernel.nD Cert.Kernel.τ Cert.Kernel.sig) → Buf (Elt Bits) ℓ) : Prop :=
  ∀ c : Dev Cert.Kernel.nD,
    (Cert.Pre_finite.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 [hPre_finite2 : Cert.Pre_finite2.Facts] (m : (ℓ : Loc Cert.Kernel2.nD Cert.Kernel2.τ Cert.Kernel2.sig) → Buf (Elt Bits) ℓ) : Prop :=
  ∀ c : Dev Cert.Kernel2.nD,
    (Cert.Pre_finite2.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3))) = (fun _ => 1#1)

def Pre_Kernel2Ideal [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 [hPre_pair : Cert.Pre_pair.Facts] (m : (ℓ : Loc Cert.Kernel14.nD Cert.Kernel14.τ Cert.Kernel14.sig) → Buf (Elt Bits) ℓ) : Prop :=
  ∀ c : Dev Cert.Kernel14.nD,
    (Cert.Pre_pair.fn (F := Bits) (m ((c.tc : Thread Cert.Kernel14.nD Cert.Kernel14.τ).loc Cert.Kernel14.main_arg0)) (m ((c.tc : Thread Cert.Kernel14.nD Cert.Kernel14.τ).loc Cert.Kernel14.main_arg1)) (m ((c.tc : Thread Cert.Kernel14.nD Cert.Kernel14.τ).loc Cert.Kernel14.main_arg2)) (m ((c.tc : Thread Cert.Kernel14.nD Cert.Kernel14.τ).loc Cert.Kernel14.main_arg3)) (m ((c.tc : Thread Cert.Kernel14.nD Cert.Kernel14.τ).loc Cert.Kernel14.main_arg4)) (m ((c.tc : Thread Cert.Kernel14.nD Cert.Kernel14.τ).loc Cert.Kernel14.main_arg5)) (m ((c.tc : Thread Cert.Kernel14.nD Cert.Kernel14.τ).loc Cert.Kernel14.main_arg6)) (m ((c.tc : Thread Cert.Kernel14.nD Cert.Kernel14.τ).loc Cert.Kernel14.main_arg7)) (m ((c.tc : Thread Cert.Kernel14.nD Cert.Kernel14.τ).loc Cert.Kernel14.main_arg8)) (m ((c.tc : Thread Cert.Kernel14.nD Cert.Kernel14.τ).loc Cert.Kernel14.main_arg9))) = (fun _ => 1#1)

def Pre_Kernel14Ideal [hPre_pair : Cert.Pre_pair.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_pair.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5)) (m ((c.tc : Thread Cert.Kernel14Ideal.nD Cert.Kernel14Ideal.τ).loc Cert.Kernel14Ideal.main_arg6)) (m ((c.tc : Thread Cert.Kernel14Ideal.nD Cert.Kernel14Ideal.τ).loc Cert.Kernel14Ideal.main_arg7)) (m ((c.tc : Thread Cert.Kernel14Ideal.nD Cert.Kernel14Ideal.τ).loc Cert.Kernel14Ideal.main_arg8)) (m ((c.tc : Thread Cert.Kernel14Ideal.nD Cert.Kernel14Ideal.τ).loc Cert.Kernel14Ideal.main_arg9))) = (fun _ => 1#1)

def Pre_Reference14Ideal [hPre_pair : Cert.Pre_pair.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_pair.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5)) (m ((c.tc : Thread Cert.Reference14Ideal.nD Cert.Reference14Ideal.τ).loc Cert.Reference14Ideal.main_arg6)) (m ((c.tc : Thread Cert.Reference14Ideal.nD Cert.Reference14Ideal.τ).loc Cert.Reference14Ideal.main_arg7)) (m ((c.tc : Thread Cert.Reference14Ideal.nD Cert.Reference14Ideal.τ).loc Cert.Reference14Ideal.main_arg8)) (m ((c.tc : Thread Cert.Reference14Ideal.nD Cert.Reference14Ideal.τ).loc Cert.Reference14Ideal.main_arg9))) = (fun _ => 1#1)

def Pre_Kernel15 [hPre_pair : Cert.Pre_pair.Facts] (m : (ℓ : Loc Cert.Kernel15.nD Cert.Kernel15.τ Cert.Kernel15.sig) → Buf (Elt Bits) ℓ) : Prop :=
  ∀ c : Dev Cert.Kernel15.nD,
    (Cert.Pre_pair.fn (F := Bits) (m ((c.tc : Thread Cert.Kernel15.nD Cert.Kernel15.τ).loc Cert.Kernel15.main_arg0)) (m ((c.tc : Thread Cert.Kernel15.nD Cert.Kernel15.τ).loc Cert.Kernel15.main_arg1)) (m ((c.tc : Thread Cert.Kernel15.nD Cert.Kernel15.τ).loc Cert.Kernel15.main_arg2)) (m ((c.tc : Thread Cert.Kernel15.nD Cert.Kernel15.τ).loc Cert.Kernel15.main_arg3)) (m ((c.tc : Thread Cert.Kernel15.nD Cert.Kernel15.τ).loc Cert.Kernel15.main_arg4)) (m ((c.tc : Thread Cert.Kernel15.nD Cert.Kernel15.τ).loc Cert.Kernel15.main_arg5)) (m ((c.tc : Thread Cert.Kernel15.nD Cert.Kernel15.τ).loc Cert.Kernel15.main_arg6)) (m ((c.tc : Thread Cert.Kernel15.nD Cert.Kernel15.τ).loc Cert.Kernel15.main_arg7)) (m ((c.tc : Thread Cert.Kernel15.nD Cert.Kernel15.τ).loc Cert.Kernel15.main_arg8)) (m ((c.tc : Thread Cert.Kernel15.nD Cert.Kernel15.τ).loc Cert.Kernel15.main_arg9))) = (fun _ => 1#1)

def Pre_Kernel15Ideal [hPre_pair : Cert.Pre_pair.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_pair.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg5)) (m ((c.tc : Thread Cert.Kernel15Ideal.nD Cert.Kernel15Ideal.τ).loc Cert.Kernel15Ideal.main_arg6)) (m ((c.tc : Thread Cert.Kernel15Ideal.nD Cert.Kernel15Ideal.τ).loc Cert.Kernel15Ideal.main_arg7)) (m ((c.tc : Thread Cert.Kernel15Ideal.nD Cert.Kernel15Ideal.τ).loc Cert.Kernel15Ideal.main_arg8)) (m ((c.tc : Thread Cert.Kernel15Ideal.nD Cert.Kernel15Ideal.τ).loc Cert.Kernel15Ideal.main_arg9))) = (fun _ => 1#1)

def Pre_Reference15Ideal [hPre_pair : Cert.Pre_pair.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_pair.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4)) (m ((c.tc : Thread Cert.Reference15Ideal.nD Cert.Reference15Ideal.τ).loc Cert.Reference15Ideal.main_arg5)) (m ((c.tc : Thread Cert.Reference15Ideal.nD Cert.Reference15Ideal.τ).loc Cert.Reference15Ideal.main_arg6)) (m ((c.tc : Thread Cert.Reference15Ideal.nD Cert.Reference15Ideal.τ).loc Cert.Reference15Ideal.main_arg7)) (m ((c.tc : Thread Cert.Reference15Ideal.nD Cert.Reference15Ideal.τ).loc Cert.Reference15Ideal.main_arg8)) (m ((c.tc : Thread Cert.Reference15Ideal.nD Cert.Reference15Ideal.τ).loc Cert.Reference15Ideal.main_arg9))) = (fun _ => 1#1)

def Pre_Kernel16 [hPre_pair : Cert.Pre_pair.Facts] (m : (ℓ : Loc Cert.Kernel16.nD Cert.Kernel16.τ Cert.Kernel16.sig) → Buf (Elt Bits) ℓ) : Prop :=
  ∀ c : Dev Cert.Kernel16.nD,
    (Cert.Pre_pair.fn (F := Bits) (m ((c.tc : Thread Cert.Kernel16.nD Cert.Kernel16.τ).loc Cert.Kernel16.main_arg0)) (m ((c.tc : Thread Cert.Kernel16.nD Cert.Kernel16.τ).loc Cert.Kernel16.main_arg1)) (m ((c.tc : Thread Cert.Kernel16.nD Cert.Kernel16.τ).loc Cert.Kernel16.main_arg2)) (m ((c.tc : Thread Cert.Kernel16.nD Cert.Kernel16.τ).loc Cert.Kernel16.main_arg3)) (m ((c.tc : Thread Cert.Kernel16.nD Cert.Kernel16.τ).loc Cert.Kernel16.main_arg4)) (m ((c.tc : Thread Cert.Kernel16.nD Cert.Kernel16.τ).loc Cert.Kernel16.main_arg5)) (m ((c.tc : Thread Cert.Kernel16.nD Cert.Kernel16.τ).loc Cert.Kernel16.main_arg6)) (m ((c.tc : Thread Cert.Kernel16.nD Cert.Kernel16.τ).loc Cert.Kernel16.main_arg7)) (m ((c.tc : Thread Cert.Kernel16.nD Cert.Kernel16.τ).loc Cert.Kernel16.main_arg8)) (m ((c.tc : Thread Cert.Kernel16.nD Cert.Kernel16.τ).loc Cert.Kernel16.main_arg9))) = (fun _ => 1#1)

def Pre_Kernel16Ideal [hPre_pair : Cert.Pre_pair.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_pair.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg5)) (m ((c.tc : Thread Cert.Kernel16Ideal.nD Cert.Kernel16Ideal.τ).loc Cert.Kernel16Ideal.main_arg6)) (m ((c.tc : Thread Cert.Kernel16Ideal.nD Cert.Kernel16Ideal.τ).loc Cert.Kernel16Ideal.main_arg7)) (m ((c.tc : Thread Cert.Kernel16Ideal.nD Cert.Kernel16Ideal.τ).loc Cert.Kernel16Ideal.main_arg8)) (m ((c.tc : Thread Cert.Kernel16Ideal.nD Cert.Kernel16Ideal.τ).loc Cert.Kernel16Ideal.main_arg9))) = (fun _ => 1#1)

def Pre_Reference16Ideal [hPre_pair : Cert.Pre_pair.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_pair.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4)) (m ((c.tc : Thread Cert.Reference16Ideal.nD Cert.Reference16Ideal.τ).loc Cert.Reference16Ideal.main_arg5)) (m ((c.tc : Thread Cert.Reference16Ideal.nD Cert.Reference16Ideal.τ).loc Cert.Reference16Ideal.main_arg6)) (m ((c.tc : Thread Cert.Reference16Ideal.nD Cert.Reference16Ideal.τ).loc Cert.Reference16Ideal.main_arg7)) (m ((c.tc : Thread Cert.Reference16Ideal.nD Cert.Reference16Ideal.τ).loc Cert.Reference16Ideal.main_arg8)) (m ((c.tc : Thread Cert.Reference16Ideal.nD Cert.Reference16Ideal.τ).loc Cert.Reference16Ideal.main_arg9))) = (fun _ => 1#1)

def Pre_Kernel17 [hPre_pair : Cert.Pre_pair.Facts] (m : (ℓ : Loc Cert.Kernel17.nD Cert.Kernel17.τ Cert.Kernel17.sig) → Buf (Elt Bits) ℓ) : Prop :=
  ∀ c : Dev Cert.Kernel17.nD,
    (Cert.Pre_pair.fn (F := Bits) (m ((c.tc : Thread Cert.Kernel17.nD Cert.Kernel17.τ).loc Cert.Kernel17.main_arg0)) (m ((c.tc : Thread Cert.Kernel17.nD Cert.Kernel17.τ).loc Cert.Kernel17.main_arg1)) (m ((c.tc : Thread Cert.Kernel17.nD Cert.Kernel17.τ).loc Cert.Kernel17.main_arg2)) (m ((c.tc : Thread Cert.Kernel17.nD Cert.Kernel17.τ).loc Cert.Kernel17.main_arg3)) (m ((c.tc : Thread Cert.Kernel17.nD Cert.Kernel17.τ).loc Cert.Kernel17.main_arg4)) (m ((c.tc : Thread Cert.Kernel17.nD Cert.Kernel17.τ).loc Cert.Kernel17.main_arg5)) (m ((c.tc : Thread Cert.Kernel17.nD Cert.Kernel17.τ).loc Cert.Kernel17.main_arg6)) (m ((c.tc : Thread Cert.Kernel17.nD Cert.Kernel17.τ).loc Cert.Kernel17.main_arg7)) (m ((c.tc : Thread Cert.Kernel17.nD Cert.Kernel17.τ).loc Cert.Kernel17.main_arg8)) (m ((c.tc : Thread Cert.Kernel17.nD Cert.Kernel17.τ).loc Cert.Kernel17.main_arg9))) = (fun _ => 1#1)

def Pre_Kernel17Ideal [hPre_pair : Cert.Pre_pair.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_pair.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5)) (m ((c.tc : Thread Cert.Kernel17Ideal.nD Cert.Kernel17Ideal.τ).loc Cert.Kernel17Ideal.main_arg6)) (m ((c.tc : Thread Cert.Kernel17Ideal.nD Cert.Kernel17Ideal.τ).loc Cert.Kernel17Ideal.main_arg7)) (m ((c.tc : Thread Cert.Kernel17Ideal.nD Cert.Kernel17Ideal.τ).loc Cert.Kernel17Ideal.main_arg8)) (m ((c.tc : Thread Cert.Kernel17Ideal.nD Cert.Kernel17Ideal.τ).loc Cert.Kernel17Ideal.main_arg9))) = (fun _ => 1#1)

def Pre_Reference17Ideal [hPre_pair : Cert.Pre_pair.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_pair.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4)) (m ((c.tc : Thread Cert.Reference17Ideal.nD Cert.Reference17Ideal.τ).loc Cert.Reference17Ideal.main_arg5)) (m ((c.tc : Thread Cert.Reference17Ideal.nD Cert.Reference17Ideal.τ).loc Cert.Reference17Ideal.main_arg6)) (m ((c.tc : Thread Cert.Reference17Ideal.nD Cert.Reference17Ideal.τ).loc Cert.Reference17Ideal.main_arg7)) (m ((c.tc : Thread Cert.Reference17Ideal.nD Cert.Reference17Ideal.τ).loc Cert.Reference17Ideal.main_arg8)) (m ((c.tc : Thread Cert.Reference17Ideal.nD Cert.Reference17Ideal.τ).loc Cert.Reference17Ideal.main_arg9))) = (fun _ => 1#1)

def Pre_Kernel18 [hPre_pair2 : Cert.Pre_pair2.Facts] (m : (ℓ : Loc Cert.Kernel18.nD Cert.Kernel18.τ Cert.Kernel18.sig) → Buf (Elt Bits) ℓ) : Prop :=
  ∀ c : Dev Cert.Kernel18.nD,
    (Cert.Pre_pair2.fn (F := Bits) (m ((c.tc : Thread Cert.Kernel18.nD Cert.Kernel18.τ).loc Cert.Kernel18.main_arg0)) (m ((c.tc : Thread Cert.Kernel18.nD Cert.Kernel18.τ).loc Cert.Kernel18.main_arg1)) (m ((c.tc : Thread Cert.Kernel18.nD Cert.Kernel18.τ).loc Cert.Kernel18.main_arg2)) (m ((c.tc : Thread Cert.Kernel18.nD Cert.Kernel18.τ).loc Cert.Kernel18.main_arg3)) (m ((c.tc : Thread Cert.Kernel18.nD Cert.Kernel18.τ).loc Cert.Kernel18.main_arg4)) (m ((c.tc : Thread Cert.Kernel18.nD Cert.Kernel18.τ).loc Cert.Kernel18.main_arg5)) (m ((c.tc : Thread Cert.Kernel18.nD Cert.Kernel18.τ).loc Cert.Kernel18.main_arg6)) (m ((c.tc : Thread Cert.Kernel18.nD Cert.Kernel18.τ).loc Cert.Kernel18.main_arg7)) (m ((c.tc : Thread Cert.Kernel18.nD Cert.Kernel18.τ).loc Cert.Kernel18.main_arg8)) (m ((c.tc : Thread Cert.Kernel18.nD Cert.Kernel18.τ).loc Cert.Kernel18.main_arg9))) = (fun _ => 1#1)

def Pre_Kernel18Ideal [hPre_pair2 : Cert.Pre_pair2.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_pair2.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)) (m ((c.tc : Thread Cert.Kernel18Ideal.nD Cert.Kernel18Ideal.τ).loc Cert.Kernel18Ideal.main_arg5)) (m ((c.tc : Thread Cert.Kernel18Ideal.nD Cert.Kernel18Ideal.τ).loc Cert.Kernel18Ideal.main_arg6)) (m ((c.tc : Thread Cert.Kernel18Ideal.nD Cert.Kernel18Ideal.τ).loc Cert.Kernel18Ideal.main_arg7)) (m ((c.tc : Thread Cert.Kernel18Ideal.nD Cert.Kernel18Ideal.τ).loc Cert.Kernel18Ideal.main_arg8)) (m ((c.tc : Thread Cert.Kernel18Ideal.nD Cert.Kernel18Ideal.τ).loc Cert.Kernel18Ideal.main_arg9))) = (fun _ => 1#1)

def Pre_Reference18Ideal [hPre_pair2 : Cert.Pre_pair2.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_pair2.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4)) (m ((c.tc : Thread Cert.Reference18Ideal.nD Cert.Reference18Ideal.τ).loc Cert.Reference18Ideal.main_arg5)) (m ((c.tc : Thread Cert.Reference18Ideal.nD Cert.Reference18Ideal.τ).loc Cert.Reference18Ideal.main_arg6)) (m ((c.tc : Thread Cert.Reference18Ideal.nD Cert.Reference18Ideal.τ).loc Cert.Reference18Ideal.main_arg7)) (m ((c.tc : Thread Cert.Reference18Ideal.nD Cert.Reference18Ideal.τ).loc Cert.Reference18Ideal.main_arg8)) (m ((c.tc : Thread Cert.Reference18Ideal.nD Cert.Reference18Ideal.τ).loc Cert.Reference18Ideal.main_arg9))) = (fun _ => 1#1)

def Pre_Kernel19 [hPre_pair2 : Cert.Pre_pair2.Facts] (m : (ℓ : Loc Cert.Kernel19.nD Cert.Kernel19.τ Cert.Kernel19.sig) → Buf (Elt Bits) ℓ) : Prop :=
  ∀ c : Dev Cert.Kernel19.nD,
    (Cert.Pre_pair2.fn (F := Bits) (m ((c.tc : Thread Cert.Kernel19.nD Cert.Kernel19.τ).loc Cert.Kernel19.main_arg0)) (m ((c.tc : Thread Cert.Kernel19.nD Cert.Kernel19.τ).loc Cert.Kernel19.main_arg1)) (m ((c.tc : Thread Cert.Kernel19.nD Cert.Kernel19.τ).loc Cert.Kernel19.main_arg2)) (m ((c.tc : Thread Cert.Kernel19.nD Cert.Kernel19.τ).loc Cert.Kernel19.main_arg3)) (m ((c.tc : Thread Cert.Kernel19.nD Cert.Kernel19.τ).loc Cert.Kernel19.main_arg4)) (m ((c.tc : Thread Cert.Kernel19.nD Cert.Kernel19.τ).loc Cert.Kernel19.main_arg5)) (m ((c.tc : Thread Cert.Kernel19.nD Cert.Kernel19.τ).loc Cert.Kernel19.main_arg6)) (m ((c.tc : Thread Cert.Kernel19.nD Cert.Kernel19.τ).loc Cert.Kernel19.main_arg7)) (m ((c.tc : Thread Cert.Kernel19.nD Cert.Kernel19.τ).loc Cert.Kernel19.main_arg8)) (m ((c.tc : Thread Cert.Kernel19.nD Cert.Kernel19.τ).loc Cert.Kernel19.main_arg9))) = (fun _ => 1#1)

def Pre_Kernel19Ideal [hPre_pair2 : Cert.Pre_pair2.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_pair2.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)) (m ((c.tc : Thread Cert.Kernel19Ideal.nD Cert.Kernel19Ideal.τ).loc Cert.Kernel19Ideal.main_arg5)) (m ((c.tc : Thread Cert.Kernel19Ideal.nD Cert.Kernel19Ideal.τ).loc Cert.Kernel19Ideal.main_arg6)) (m ((c.tc : Thread Cert.Kernel19Ideal.nD Cert.Kernel19Ideal.τ).loc Cert.Kernel19Ideal.main_arg7)) (m ((c.tc : Thread Cert.Kernel19Ideal.nD Cert.Kernel19Ideal.τ).loc Cert.Kernel19Ideal.main_arg8)) (m ((c.tc : Thread Cert.Kernel19Ideal.nD Cert.Kernel19Ideal.τ).loc Cert.Kernel19Ideal.main_arg9))) = (fun _ => 1#1)

def Pre_Reference19Ideal [hPre_pair2 : Cert.Pre_pair2.Facts] (m : (ℓ : Loc Cert.Reference19Ideal.nD Cert.Reference19Ideal.τ Cert.Reference19Ideal.sig) → Buf (Elt Ideal) ℓ) : Prop :=
  ∀ c : Dev Cert.Reference19Ideal.nD,
    (Cert.Pre_pair2.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4)) (m ((c.tc : Thread Cert.Reference19Ideal.nD Cert.Reference19Ideal.τ).loc Cert.Reference19Ideal.main_arg5)) (m ((c.tc : Thread Cert.Reference19Ideal.nD Cert.Reference19Ideal.τ).loc Cert.Reference19Ideal.main_arg6)) (m ((c.tc : Thread Cert.Reference19Ideal.nD Cert.Reference19Ideal.τ).loc Cert.Reference19Ideal.main_arg7)) (m ((c.tc : Thread Cert.Reference19Ideal.nD Cert.Reference19Ideal.τ).loc Cert.Reference19Ideal.main_arg8)) (m ((c.tc : Thread Cert.Reference19Ideal.nD Cert.Reference19Ideal.τ).loc Cert.Reference19Ideal.main_arg9))) = (fun _ => 1#1)

def Pre_Kernel20 [hPre_pair2 : Cert.Pre_pair2.Facts] (m : (ℓ : Loc Cert.Kernel20.nD Cert.Kernel20.τ Cert.Kernel20.sig) → Buf (Elt Bits) ℓ) : Prop :=
  ∀ c : Dev Cert.Kernel20.nD,
    (Cert.Pre_pair2.fn (F := Bits) (m ((c.tc : Thread Cert.Kernel20.nD Cert.Kernel20.τ).loc Cert.Kernel20.main_arg0)) (m ((c.tc : Thread Cert.Kernel20.nD Cert.Kernel20.τ).loc Cert.Kernel20.main_arg1)) (m ((c.tc : Thread Cert.Kernel20.nD Cert.Kernel20.τ).loc Cert.Kernel20.main_arg2)) (m ((c.tc : Thread Cert.Kernel20.nD Cert.Kernel20.τ).loc Cert.Kernel20.main_arg3)) (m ((c.tc : Thread Cert.Kernel20.nD Cert.Kernel20.τ).loc Cert.Kernel20.main_arg4)) (m ((c.tc : Thread Cert.Kernel20.nD Cert.Kernel20.τ).loc Cert.Kernel20.main_arg5)) (m ((c.tc : Thread Cert.Kernel20.nD Cert.Kernel20.τ).loc Cert.Kernel20.main_arg6)) (m ((c.tc : Thread Cert.Kernel20.nD Cert.Kernel20.τ).loc Cert.Kernel20.main_arg7)) (m ((c.tc : Thread Cert.Kernel20.nD Cert.Kernel20.τ).loc Cert.Kernel20.main_arg8)) (m ((c.tc : Thread Cert.Kernel20.nD Cert.Kernel20.τ).loc Cert.Kernel20.main_arg9))) = (fun _ => 1#1)

def Pre_Kernel20Ideal [hPre_pair2 : Cert.Pre_pair2.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_pair2.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg4)) (m ((c.tc : Thread Cert.Kernel20Ideal.nD Cert.Kernel20Ideal.τ).loc Cert.Kernel20Ideal.main_arg5)) (m ((c.tc : Thread Cert.Kernel20Ideal.nD Cert.Kernel20Ideal.τ).loc Cert.Kernel20Ideal.main_arg6)) (m ((c.tc : Thread Cert.Kernel20Ideal.nD Cert.Kernel20Ideal.τ).loc Cert.Kernel20Ideal.main_arg7)) (m ((c.tc : Thread Cert.Kernel20Ideal.nD Cert.Kernel20Ideal.τ).loc Cert.Kernel20Ideal.main_arg8)) (m ((c.tc : Thread Cert.Kernel20Ideal.nD Cert.Kernel20Ideal.τ).loc Cert.Kernel20Ideal.main_arg9))) = (fun _ => 1#1)

def Pre_Reference20Ideal [hPre_pair2 : Cert.Pre_pair2.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_pair2.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3)) (m ((c.tc : Thread Cert.Reference20Ideal.nD Cert.Reference20Ideal.τ).loc Cert.Reference20Ideal.main_arg4)) (m ((c.tc : Thread Cert.Reference20Ideal.nD Cert.Reference20Ideal.τ).loc Cert.Reference20Ideal.main_arg5)) (m ((c.tc : Thread Cert.Reference20Ideal.nD Cert.Reference20Ideal.τ).loc Cert.Reference20Ideal.main_arg6)) (m ((c.tc : Thread Cert.Reference20Ideal.nD Cert.Reference20Ideal.τ).loc Cert.Reference20Ideal.main_arg7)) (m ((c.tc : Thread Cert.Reference20Ideal.nD Cert.Reference20Ideal.τ).loc Cert.Reference20Ideal.main_arg8)) (m ((c.tc : Thread Cert.Reference20Ideal.nD Cert.Reference20Ideal.τ).loc Cert.Reference20Ideal.main_arg9))) = (fun _ => 1#1)

def Pre_Kernel21 [hPre_pair2 : Cert.Pre_pair2.Facts] (m : (ℓ : Loc Cert.Kernel21.nD Cert.Kernel21.τ Cert.Kernel21.sig) → Buf (Elt Bits) ℓ) : Prop :=
  ∀ c : Dev Cert.Kernel21.nD,
    (Cert.Pre_pair2.fn (F := Bits) (m ((c.tc : Thread Cert.Kernel21.nD Cert.Kernel21.τ).loc Cert.Kernel21.main_arg0)) (m ((c.tc : Thread Cert.Kernel21.nD Cert.Kernel21.τ).loc Cert.Kernel21.main_arg1)) (m ((c.tc : Thread Cert.Kernel21.nD Cert.Kernel21.τ).loc Cert.Kernel21.main_arg2)) (m ((c.tc : Thread Cert.Kernel21.nD Cert.Kernel21.τ).loc Cert.Kernel21.main_arg3)) (m ((c.tc : Thread Cert.Kernel21.nD Cert.Kernel21.τ).loc Cert.Kernel21.main_arg4)) (m ((c.tc : Thread Cert.Kernel21.nD Cert.Kernel21.τ).loc Cert.Kernel21.main_arg5)) (m ((c.tc : Thread Cert.Kernel21.nD Cert.Kernel21.τ).loc Cert.Kernel21.main_arg6)) (m ((c.tc : Thread Cert.Kernel21.nD Cert.Kernel21.τ).loc Cert.Kernel21.main_arg7)) (m ((c.tc : Thread Cert.Kernel21.nD Cert.Kernel21.τ).loc Cert.Kernel21.main_arg8)) (m ((c.tc : Thread Cert.Kernel21.nD Cert.Kernel21.τ).loc Cert.Kernel21.main_arg9))) = (fun _ => 1#1)

def Pre_Kernel21Ideal [hPre_pair2 : Cert.Pre_pair2.Facts] (m : (ℓ : Loc Cert.Kernel21Ideal.nD Cert.Kernel21Ideal.τ Cert.Kernel21Ideal.sig) → Buf (Elt Ideal) ℓ) : Prop :=
  ∀ c : Dev Cert.Kernel21Ideal.nD,
    (Cert.Pre_pair2.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg4)) (m ((c.tc : Thread Cert.Kernel21Ideal.nD Cert.Kernel21Ideal.τ).loc Cert.Kernel21Ideal.main_arg5)) (m ((c.tc : Thread Cert.Kernel21Ideal.nD Cert.Kernel21Ideal.τ).loc Cert.Kernel21Ideal.main_arg6)) (m ((c.tc : Thread Cert.Kernel21Ideal.nD Cert.Kernel21Ideal.τ).loc Cert.Kernel21Ideal.main_arg7)) (m ((c.tc : Thread Cert.Kernel21Ideal.nD Cert.Kernel21Ideal.τ).loc Cert.Kernel21Ideal.main_arg8)) (m ((c.tc : Thread Cert.Kernel21Ideal.nD Cert.Kernel21Ideal.τ).loc Cert.Kernel21Ideal.main_arg9))) = (fun _ => 1#1)

def Pre_Reference21Ideal [hPre_pair2 : Cert.Pre_pair2.Facts] (m : (ℓ : Loc Cert.Reference21Ideal.nD Cert.Reference21Ideal.τ Cert.Reference21Ideal.sig) → Buf (Elt Ideal) ℓ) : Prop :=
  ∀ c : Dev Cert.Reference21Ideal.nD,
    (Cert.Pre_pair2.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2)) (m ((c.tc : Thread Cert.Reference21Ideal.nD Cert.Reference21Ideal.τ).loc Cert.Reference21Ideal.main_arg3)) (m ((c.tc : Thread Cert.Reference21Ideal.nD Cert.Reference21Ideal.τ).loc Cert.Reference21Ideal.main_arg4)) (m ((c.tc : Thread Cert.Reference21Ideal.nD Cert.Reference21Ideal.τ).loc Cert.Reference21Ideal.main_arg5)) (m ((c.tc : Thread Cert.Reference21Ideal.nD Cert.Reference21Ideal.τ).loc Cert.Reference21Ideal.main_arg6)) (m ((c.tc : Thread Cert.Reference21Ideal.nD Cert.Reference21Ideal.τ).loc Cert.Reference21Ideal.main_arg7)) (m ((c.tc : Thread Cert.Reference21Ideal.nD Cert.Reference21Ideal.τ).loc Cert.Reference21Ideal.main_arg8)) (m ((c.tc : Thread Cert.Reference21Ideal.nD Cert.Reference21Ideal.τ).loc Cert.Reference21Ideal.main_arg9))) = (fun _ => 1#1)

def Pre_Kernel22 [hPre_pair3 : Cert.Pre_pair3.Facts] (m : (ℓ : Loc Cert.Kernel22.nD Cert.Kernel22.τ Cert.Kernel22.sig) → Buf (Elt Bits) ℓ) : Prop :=
  ∀ c : Dev Cert.Kernel22.nD,
    (Cert.Pre_pair3.fn (F := Bits) (m ((c.tc : Thread Cert.Kernel22.nD Cert.Kernel22.τ).loc Cert.Kernel22.main_arg0)) (m ((c.tc : Thread Cert.Kernel22.nD Cert.Kernel22.τ).loc Cert.Kernel22.main_arg1)) (m ((c.tc : Thread Cert.Kernel22.nD Cert.Kernel22.τ).loc Cert.Kernel22.main_arg2)) (m ((c.tc : Thread Cert.Kernel22.nD Cert.Kernel22.τ).loc Cert.Kernel22.main_arg3)) (m ((c.tc : Thread Cert.Kernel22.nD Cert.Kernel22.τ).loc Cert.Kernel22.main_arg4)) (m ((c.tc : Thread Cert.Kernel22.nD Cert.Kernel22.τ).loc Cert.Kernel22.main_arg5)) (m ((c.tc : Thread Cert.Kernel22.nD Cert.Kernel22.τ).loc Cert.Kernel22.main_arg6)) (m ((c.tc : Thread Cert.Kernel22.nD Cert.Kernel22.τ).loc Cert.Kernel22.main_arg7)) (m ((c.tc : Thread Cert.Kernel22.nD Cert.Kernel22.τ).loc Cert.Kernel22.main_arg8)) (m ((c.tc : Thread Cert.Kernel22.nD Cert.Kernel22.τ).loc Cert.Kernel22.main_arg9))) = (fun _ => 1#1)

def Pre_Kernel22Ideal [hPre_pair3 : Cert.Pre_pair3.Facts] (m : (ℓ : Loc Cert.Kernel22Ideal.nD Cert.Kernel22Ideal.τ Cert.Kernel22Ideal.sig) → Buf (Elt Ideal) ℓ) : Prop :=
  ∀ c : Dev Cert.Kernel22Ideal.nD,
    (Cert.Pre_pair3.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3)) (m ((c.tc : Thread Cert.Kernel22Ideal.nD Cert.Kernel22Ideal.τ).loc Cert.Kernel22Ideal.main_arg4)) (m ((c.tc : Thread Cert.Kernel22Ideal.nD Cert.Kernel22Ideal.τ).loc Cert.Kernel22Ideal.main_arg5)) (m ((c.tc : Thread Cert.Kernel22Ideal.nD Cert.Kernel22Ideal.τ).loc Cert.Kernel22Ideal.main_arg6)) (m ((c.tc : Thread Cert.Kernel22Ideal.nD Cert.Kernel22Ideal.τ).loc Cert.Kernel22Ideal.main_arg7)) (m ((c.tc : Thread Cert.Kernel22Ideal.nD Cert.Kernel22Ideal.τ).loc Cert.Kernel22Ideal.main_arg8)) (m ((c.tc : Thread Cert.Kernel22Ideal.nD Cert.Kernel22Ideal.τ).loc Cert.Kernel22Ideal.main_arg9))) = (fun _ => 1#1)

def Pre_Reference22Ideal [hPre_pair3 : Cert.Pre_pair3.Facts] (m : (ℓ : Loc Cert.Reference22Ideal.nD Cert.Reference22Ideal.τ Cert.Reference22Ideal.sig) → Buf (Elt Ideal) ℓ) : Prop :=
  ∀ c : Dev Cert.Reference22Ideal.nD,
    (Cert.Pre_pair3.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2)) (m ((c.tc : Thread Cert.Reference22Ideal.nD Cert.Reference22Ideal.τ).loc Cert.Reference22Ideal.main_arg3)) (m ((c.tc : Thread Cert.Reference22Ideal.nD Cert.Reference22Ideal.τ).loc Cert.Reference22Ideal.main_arg4)) (m ((c.tc : Thread Cert.Reference22Ideal.nD Cert.Reference22Ideal.τ).loc Cert.Reference22Ideal.main_arg5)) (m ((c.tc : Thread Cert.Reference22Ideal.nD Cert.Reference22Ideal.τ).loc Cert.Reference22Ideal.main_arg6)) (m ((c.tc : Thread Cert.Reference22Ideal.nD Cert.Reference22Ideal.τ).loc Cert.Reference22Ideal.main_arg7)) (m ((c.tc : Thread Cert.Reference22Ideal.nD Cert.Reference22Ideal.τ).loc Cert.Reference22Ideal.main_arg8)) (m ((c.tc : Thread Cert.Reference22Ideal.nD Cert.Reference22Ideal.τ).loc Cert.Reference22Ideal.main_arg9))) = (fun _ => 1#1)

def Pre_Kernel23 [hPre_pair3 : Cert.Pre_pair3.Facts] (m : (ℓ : Loc Cert.Kernel23.nD Cert.Kernel23.τ Cert.Kernel23.sig) → Buf (Elt Bits) ℓ) : Prop :=
  ∀ c : Dev Cert.Kernel23.nD,
    (Cert.Pre_pair3.fn (F := Bits) (m ((c.tc : Thread Cert.Kernel23.nD Cert.Kernel23.τ).loc Cert.Kernel23.main_arg0)) (m ((c.tc : Thread Cert.Kernel23.nD Cert.Kernel23.τ).loc Cert.Kernel23.main_arg1)) (m ((c.tc : Thread Cert.Kernel23.nD Cert.Kernel23.τ).loc Cert.Kernel23.main_arg2)) (m ((c.tc : Thread Cert.Kernel23.nD Cert.Kernel23.τ).loc Cert.Kernel23.main_arg3)) (m ((c.tc : Thread Cert.Kernel23.nD Cert.Kernel23.τ).loc Cert.Kernel23.main_arg4)) (m ((c.tc : Thread Cert.Kernel23.nD Cert.Kernel23.τ).loc Cert.Kernel23.main_arg5)) (m ((c.tc : Thread Cert.Kernel23.nD Cert.Kernel23.τ).loc Cert.Kernel23.main_arg6)) (m ((c.tc : Thread Cert.Kernel23.nD Cert.Kernel23.τ).loc Cert.Kernel23.main_arg7)) (m ((c.tc : Thread Cert.Kernel23.nD Cert.Kernel23.τ).loc Cert.Kernel23.main_arg8)) (m ((c.tc : Thread Cert.Kernel23.nD Cert.Kernel23.τ).loc Cert.Kernel23.main_arg9))) = (fun _ => 1#1)

def Pre_Kernel23Ideal [hPre_pair3 : Cert.Pre_pair3.Facts] (m : (ℓ : Loc Cert.Kernel23Ideal.nD Cert.Kernel23Ideal.τ Cert.Kernel23Ideal.sig) → Buf (Elt Ideal) ℓ) : Prop :=
  ∀ c : Dev Cert.Kernel23Ideal.nD,
    (Cert.Pre_pair3.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)) (m ((c.tc : Thread Cert.Kernel23Ideal.nD Cert.Kernel23Ideal.τ).loc Cert.Kernel23Ideal.main_arg4)) (m ((c.tc : Thread Cert.Kernel23Ideal.nD Cert.Kernel23Ideal.τ).loc Cert.Kernel23Ideal.main_arg5)) (m ((c.tc : Thread Cert.Kernel23Ideal.nD Cert.Kernel23Ideal.τ).loc Cert.Kernel23Ideal.main_arg6)) (m ((c.tc : Thread Cert.Kernel23Ideal.nD Cert.Kernel23Ideal.τ).loc Cert.Kernel23Ideal.main_arg7)) (m ((c.tc : Thread Cert.Kernel23Ideal.nD Cert.Kernel23Ideal.τ).loc Cert.Kernel23Ideal.main_arg8)) (m ((c.tc : Thread Cert.Kernel23Ideal.nD Cert.Kernel23Ideal.τ).loc Cert.Kernel23Ideal.main_arg9))) = (fun _ => 1#1)

def Pre_Reference23Ideal [hPre_pair3 : Cert.Pre_pair3.Facts] (m : (ℓ : Loc Cert.Reference23Ideal.nD Cert.Reference23Ideal.τ Cert.Reference23Ideal.sig) → Buf (Elt Ideal) ℓ) : Prop :=
  ∀ c : Dev Cert.Reference23Ideal.nD,
    (Cert.Pre_pair3.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3)) (m ((c.tc : Thread Cert.Reference23Ideal.nD Cert.Reference23Ideal.τ).loc Cert.Reference23Ideal.main_arg4)) (m ((c.tc : Thread Cert.Reference23Ideal.nD Cert.Reference23Ideal.τ).loc Cert.Reference23Ideal.main_arg5)) (m ((c.tc : Thread Cert.Reference23Ideal.nD Cert.Reference23Ideal.τ).loc Cert.Reference23Ideal.main_arg6)) (m ((c.tc : Thread Cert.Reference23Ideal.nD Cert.Reference23Ideal.τ).loc Cert.Reference23Ideal.main_arg7)) (m ((c.tc : Thread Cert.Reference23Ideal.nD Cert.Reference23Ideal.τ).loc Cert.Reference23Ideal.main_arg8)) (m ((c.tc : Thread Cert.Reference23Ideal.nD Cert.Reference23Ideal.τ).loc Cert.Reference23Ideal.main_arg9))) = (fun _ => 1#1)

def Pre_Kernel24 [hPre_pair3 : Cert.Pre_pair3.Facts] (m : (ℓ : Loc Cert.Kernel24.nD Cert.Kernel24.τ Cert.Kernel24.sig) → Buf (Elt Bits) ℓ) : Prop :=
  ∀ c : Dev Cert.Kernel24.nD,
    (Cert.Pre_pair3.fn (F := Bits) (m ((c.tc : Thread Cert.Kernel24.nD Cert.Kernel24.τ).loc Cert.Kernel24.main_arg0)) (m ((c.tc : Thread Cert.Kernel24.nD Cert.Kernel24.τ).loc Cert.Kernel24.main_arg1)) (m ((c.tc : Thread Cert.Kernel24.nD Cert.Kernel24.τ).loc Cert.Kernel24.main_arg2)) (m ((c.tc : Thread Cert.Kernel24.nD Cert.Kernel24.τ).loc Cert.Kernel24.main_arg3)) (m ((c.tc : Thread Cert.Kernel24.nD Cert.Kernel24.τ).loc Cert.Kernel24.main_arg4)) (m ((c.tc : Thread Cert.Kernel24.nD Cert.Kernel24.τ).loc Cert.Kernel24.main_arg5)) (m ((c.tc : Thread Cert.Kernel24.nD Cert.Kernel24.τ).loc Cert.Kernel24.main_arg6)) (m ((c.tc : Thread Cert.Kernel24.nD Cert.Kernel24.τ).loc Cert.Kernel24.main_arg7)) (m ((c.tc : Thread Cert.Kernel24.nD Cert.Kernel24.τ).loc Cert.Kernel24.main_arg8)) (m ((c.tc : Thread Cert.Kernel24.nD Cert.Kernel24.τ).loc Cert.Kernel24.main_arg9))) = (fun _ => 1#1)

def Pre_Kernel24Ideal [hPre_pair3 : Cert.Pre_pair3.Facts] (m : (ℓ : Loc Cert.Kernel24Ideal.nD Cert.Kernel24Ideal.τ Cert.Kernel24Ideal.sig) → Buf (Elt Ideal) ℓ) : Prop :=
  ∀ c : Dev Cert.Kernel24Ideal.nD,
    (Cert.Pre_pair3.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3)) (m ((c.tc : Thread Cert.Kernel24Ideal.nD Cert.Kernel24Ideal.τ).loc Cert.Kernel24Ideal.main_arg4)) (m ((c.tc : Thread Cert.Kernel24Ideal.nD Cert.Kernel24Ideal.τ).loc Cert.Kernel24Ideal.main_arg5)) (m ((c.tc : Thread Cert.Kernel24Ideal.nD Cert.Kernel24Ideal.τ).loc Cert.Kernel24Ideal.main_arg6)) (m ((c.tc : Thread Cert.Kernel24Ideal.nD Cert.Kernel24Ideal.τ).loc Cert.Kernel24Ideal.main_arg7)) (m ((c.tc : Thread Cert.Kernel24Ideal.nD Cert.Kernel24Ideal.τ).loc Cert.Kernel24Ideal.main_arg8)) (m ((c.tc : Thread Cert.Kernel24Ideal.nD Cert.Kernel24Ideal.τ).loc Cert.Kernel24Ideal.main_arg9))) = (fun _ => 1#1)

def Pre_Reference24Ideal [hPre_pair3 : Cert.Pre_pair3.Facts] (m : (ℓ : Loc Cert.Reference24Ideal.nD Cert.Reference24Ideal.τ Cert.Reference24Ideal.sig) → Buf (Elt Ideal) ℓ) : Prop :=
  ∀ c : Dev Cert.Reference24Ideal.nD,
    (Cert.Pre_pair3.fn (F := Ideal) (m ((c.tc : Thread Cert.Reference24Ideal.nD Cert.Reference24Ideal.τ).loc Cert.Reference24Ideal.main_arg0)) (m ((c.tc : Thread Cert.Reference24Ideal.nD Cert.Reference24Ideal.τ).loc Cert.Reference24Ideal.main_arg1)) (m ((c.tc : Thread Cert.Reference24Ideal.nD Cert.Reference24Ideal.τ).loc Cert.Reference24Ideal.main_arg2)) (m ((c.tc : Thread Cert.Reference24Ideal.nD Cert.Reference24Ideal.τ).loc Cert.Reference24Ideal.main_arg3)) (m ((c.tc : Thread Cert.Reference24Ideal.nD Cert.Reference24Ideal.τ).loc Cert.Reference24Ideal.main_arg4)) (m ((c.tc : Thread Cert.Reference24Ideal.nD Cert.Reference24Ideal.τ).loc Cert.Reference24Ideal.main_arg5)) (m ((c.tc : Thread Cert.Reference24Ideal.nD Cert.Reference24Ideal.τ).loc Cert.Reference24Ideal.main_arg6)) (m ((c.tc : Thread Cert.Reference24Ideal.nD Cert.Reference24Ideal.τ).loc Cert.Reference24Ideal.main_arg7)) (m ((c.tc : Thread Cert.Reference24Ideal.nD Cert.Reference24Ideal.τ).loc Cert.Reference24Ideal.main_arg8)) (m ((c.tc : Thread Cert.Reference24Ideal.nD Cert.Reference24Ideal.τ).loc Cert.Reference24Ideal.main_arg9))) = (fun _ => 1#1)

def Pre_Kernel25 [hPre_pair3 : Cert.Pre_pair3.Facts] (m : (ℓ : Loc Cert.Kernel25.nD Cert.Kernel25.τ Cert.Kernel25.sig) → Buf (Elt Bits) ℓ) : Prop :=
  ∀ c : Dev Cert.Kernel25.nD,
    (Cert.Pre_pair3.fn (F := Bits) (m ((c.tc : Thread Cert.Kernel25.nD Cert.Kernel25.τ).loc Cert.Kernel25.main_arg0)) (m ((c.tc : Thread Cert.Kernel25.nD Cert.Kernel25.τ).loc Cert.Kernel25.main_arg1)) (m ((c.tc : Thread Cert.Kernel25.nD Cert.Kernel25.τ).loc Cert.Kernel25.main_arg2)) (m ((c.tc : Thread Cert.Kernel25.nD Cert.Kernel25.τ).loc Cert.Kernel25.main_arg3)) (m ((c.tc : Thread Cert.Kernel25.nD Cert.Kernel25.τ).loc Cert.Kernel25.main_arg4)) (m ((c.tc : Thread Cert.Kernel25.nD Cert.Kernel25.τ).loc Cert.Kernel25.main_arg5)) (m ((c.tc : Thread Cert.Kernel25.nD Cert.Kernel25.τ).loc Cert.Kernel25.main_arg6)) (m ((c.tc : Thread Cert.Kernel25.nD Cert.Kernel25.τ).loc Cert.Kernel25.main_arg7)) (m ((c.tc : Thread Cert.Kernel25.nD Cert.Kernel25.τ).loc Cert.Kernel25.main_arg8)) (m ((c.tc : Thread Cert.Kernel25.nD Cert.Kernel25.τ).loc Cert.Kernel25.main_arg9))) = (fun _ => 1#1)

def Pre_Kernel25Ideal [hPre_pair3 : Cert.Pre_pair3.Facts] (m : (ℓ : Loc Cert.Kernel25Ideal.nD Cert.Kernel25Ideal.τ Cert.Kernel25Ideal.sig) → Buf (Elt Ideal) ℓ) : Prop :=
  ∀ c : Dev Cert.Kernel25Ideal.nD,
    (Cert.Pre_pair3.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4)) (m ((c.tc : Thread Cert.Kernel25Ideal.nD Cert.Kernel25Ideal.τ).loc Cert.Kernel25Ideal.main_arg5)) (m ((c.tc : Thread Cert.Kernel25Ideal.nD Cert.Kernel25Ideal.τ).loc Cert.Kernel25Ideal.main_arg6)) (m ((c.tc : Thread Cert.Kernel25Ideal.nD Cert.Kernel25Ideal.τ).loc Cert.Kernel25Ideal.main_arg7)) (m ((c.tc : Thread Cert.Kernel25Ideal.nD Cert.Kernel25Ideal.τ).loc Cert.Kernel25Ideal.main_arg8)) (m ((c.tc : Thread Cert.Kernel25Ideal.nD Cert.Kernel25Ideal.τ).loc Cert.Kernel25Ideal.main_arg9))) = (fun _ => 1#1)

def Pre_Reference25Ideal [hPre_pair3 : Cert.Pre_pair3.Facts] (m : (ℓ : Loc Cert.Reference25Ideal.nD Cert.Reference25Ideal.τ Cert.Reference25Ideal.sig) → Buf (Elt Ideal) ℓ) : Prop :=
  ∀ c : Dev Cert.Reference25Ideal.nD,
    (Cert.Pre_pair3.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2)) (m ((c.tc : Thread Cert.Reference25Ideal.nD Cert.Reference25Ideal.τ).loc Cert.Reference25Ideal.main_arg3)) (m ((c.tc : Thread Cert.Reference25Ideal.nD Cert.Reference25Ideal.τ).loc Cert.Reference25Ideal.main_arg4)) (m ((c.tc : Thread Cert.Reference25Ideal.nD Cert.Reference25Ideal.τ).loc Cert.Reference25Ideal.main_arg5)) (m ((c.tc : Thread Cert.Reference25Ideal.nD Cert.Reference25Ideal.τ).loc Cert.Reference25Ideal.main_arg6)) (m ((c.tc : Thread Cert.Reference25Ideal.nD Cert.Reference25Ideal.τ).loc Cert.Reference25Ideal.main_arg7)) (m ((c.tc : Thread Cert.Reference25Ideal.nD Cert.Reference25Ideal.τ).loc Cert.Reference25Ideal.main_arg8)) (m ((c.tc : Thread Cert.Reference25Ideal.nD Cert.Reference25Ideal.τ).loc Cert.Reference25Ideal.main_arg9))) = (fun _ => 1#1)

def Pre_Kernel26 [hPre_pair4 : Cert.Pre_pair4.Facts] (m : (ℓ : Loc Cert.Kernel26.nD Cert.Kernel26.τ Cert.Kernel26.sig) → Buf (Elt Bits) ℓ) : Prop :=
  ∀ c : Dev Cert.Kernel26.nD,
    (Cert.Pre_pair4.fn (F := Bits) (m ((c.tc : Thread Cert.Kernel26.nD Cert.Kernel26.τ).loc Cert.Kernel26.main_arg0)) (m ((c.tc : Thread Cert.Kernel26.nD Cert.Kernel26.τ).loc Cert.Kernel26.main_arg1)) (m ((c.tc : Thread Cert.Kernel26.nD Cert.Kernel26.τ).loc Cert.Kernel26.main_arg2)) (m ((c.tc : Thread Cert.Kernel26.nD Cert.Kernel26.τ).loc Cert.Kernel26.main_arg3)) (m ((c.tc : Thread Cert.Kernel26.nD Cert.Kernel26.τ).loc Cert.Kernel26.main_arg4)) (m ((c.tc : Thread Cert.Kernel26.nD Cert.Kernel26.τ).loc Cert.Kernel26.main_arg5)) (m ((c.tc : Thread Cert.Kernel26.nD Cert.Kernel26.τ).loc Cert.Kernel26.main_arg6)) (m ((c.tc : Thread Cert.Kernel26.nD Cert.Kernel26.τ).loc Cert.Kernel26.main_arg7)) (m ((c.tc : Thread Cert.Kernel26.nD Cert.Kernel26.τ).loc Cert.Kernel26.main_arg8)) (m ((c.tc : Thread Cert.Kernel26.nD Cert.Kernel26.τ).loc Cert.Kernel26.main_arg9))) = (fun _ => 1#1)

def Pre_Kernel26Ideal [hPre_pair4 : Cert.Pre_pair4.Facts] (m : (ℓ : Loc Cert.Kernel26Ideal.nD Cert.Kernel26Ideal.τ Cert.Kernel26Ideal.sig) → Buf (Elt Ideal) ℓ) : Prop :=
  ∀ c : Dev Cert.Kernel26Ideal.nD,
    (Cert.Pre_pair4.fn (F := Ideal) (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg2)) (m ((c.tc : Thread Cert.Kernel26Ideal.nD Cert.Kernel26Ideal.τ).loc Cert.Kernel26Ideal.main_arg3)) (m ((c.tc : Thread Cert.Kernel26Ideal.nD Cert.Kernel26Ideal.τ).loc Cert.Kernel26Ideal.main_arg4)) (m ((c.tc : Thread Cert.Kernel26Ideal.nD Cert.Kernel26Ideal.τ).loc Cert.Kernel26Ideal.main_arg5)) (m ((c.tc : Thread Cert.Kernel26Ideal.nD Cert.Kernel26Ideal.τ).loc Cert.Kernel26Ideal.main_arg6)) (m ((c.tc : Thread Cert.Kernel26Ideal.nD Cert.Kernel26Ideal.τ).loc Cert.Kernel26Ideal.main_arg7)) (m ((c.tc : Thread Cert.Kernel26Ideal.nD Cert.Kernel26Ideal.τ).loc Cert.Kernel26Ideal.main_arg8)) (m ((c.tc : Thread Cert.Kernel26Ideal.nD Cert.Kernel26Ideal.τ).loc Cert.Kernel26Ideal.main_arg9))) = (fun _ => 1#1)

def Pre_Reference26Ideal [hPre_pair4 : Cert.Pre_pair4.Facts] (m : (ℓ : Loc Cert.Reference26Ideal.nD Cert.Reference26Ideal.τ Cert.Reference26Ideal.sig) → Buf (Elt Ideal) ℓ) : Prop :=
  ∀ c : Dev Cert.Reference26Ideal.nD,
    (Cert.Pre_pair4.fn (F := Ideal) (m ((c.tc : Thread Cert.Reference26Ideal.nD Cert.Reference26Ideal.τ).loc Cert.Reference26Ideal.main_arg0)) (m ((c.tc : Thread Cert.Reference26Ideal.nD Cert.Reference26Ideal.τ).loc Cert.Reference26Ideal.main_arg1)) (m ((c.tc : Thread Cert.Reference26Ideal.nD Cert.Reference26Ideal.τ).loc Cert.Reference26Ideal.main_arg2)) (m ((c.tc : Thread Cert.Reference26Ideal.nD Cert.Reference26Ideal.τ).loc Cert.Reference26Ideal.main_arg3)) (m ((c.tc : Thread Cert.Reference26Ideal.nD Cert.Reference26Ideal.τ).loc Cert.Reference26Ideal.main_arg4)) (m ((c.tc : Thread Cert.Reference26Ideal.nD Cert.Reference26Ideal.τ).loc Cert.Reference26Ideal.main_arg5)) (m ((c.tc : Thread Cert.Reference26Ideal.nD Cert.Reference26Ideal.τ).loc Cert.Reference26Ideal.main_arg6)) (m ((c.tc : Thread Cert.Reference26Ideal.nD Cert.Reference26Ideal.τ).loc Cert.Reference26Ideal.main_arg7)) (m ((c.tc : Thread Cert.Reference26Ideal.nD Cert.Reference26Ideal.τ).loc Cert.Reference26Ideal.main_arg8)) (m ((c.tc : Thread Cert.Reference26Ideal.nD Cert.Reference26Ideal.τ).loc Cert.Reference26Ideal.main_arg9))) = (fun _ => 1#1)

def Pre_Kernel27 [hPre_pair4 : Cert.Pre_pair4.Facts] (m : (ℓ : Loc Cert.Kernel27.nD Cert.Kernel27.τ Cert.Kernel27.sig) → Buf (Elt Bits) ℓ) : Prop :=
  ∀ c : Dev Cert.Kernel27.nD,
    (Cert.Pre_pair4.fn (F := Bits) (m ((c.tc : Thread Cert.Kernel27.nD Cert.Kernel27.τ).loc Cert.Kernel27.main_arg0)) (m ((c.tc : Thread Cert.Kernel27.nD Cert.Kernel27.τ).loc Cert.Kernel27.main_arg1)) (m ((c.tc : Thread Cert.Kernel27.nD Cert.Kernel27.τ).loc Cert.Kernel27.main_arg2)) (m ((c.tc : Thread Cert.Kernel27.nD Cert.Kernel27.τ).loc Cert.Kernel27.main_arg3)) (m ((c.tc : Thread Cert.Kernel27.nD Cert.Kernel27.τ).loc Cert.Kernel27.main_arg4)) (m ((c.tc : Thread Cert.Kernel27.nD Cert.Kernel27.τ).loc Cert.Kernel27.main_arg5)) (m ((c.tc : Thread Cert.Kernel27.nD Cert.Kernel27.τ).loc Cert.Kernel27.main_arg6)) (m ((c.tc : Thread Cert.Kernel27.nD Cert.Kernel27.τ).loc Cert.Kernel27.main_arg7)) (m ((c.tc : Thread Cert.Kernel27.nD Cert.Kernel27.τ).loc Cert.Kernel27.main_arg8)) (m ((c.tc : Thread Cert.Kernel27.nD Cert.Kernel27.τ).loc Cert.Kernel27.main_arg9))) = (fun _ => 1#1)

def Pre_Kernel27Ideal [hPre_pair4 : Cert.Pre_pair4.Facts] (m : (ℓ : Loc Cert.Kernel27Ideal.nD Cert.Kernel27Ideal.τ Cert.Kernel27Ideal.sig) → Buf (Elt Ideal) ℓ) : Prop :=
  ∀ c : Dev Cert.Kernel27Ideal.nD,
    (Cert.Pre_pair4.fn (F := Ideal) (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2)) (m ((c.tc : Thread Cert.Kernel27Ideal.nD Cert.Kernel27Ideal.τ).loc Cert.Kernel27Ideal.main_arg3)) (m ((c.tc : Thread Cert.Kernel27Ideal.nD Cert.Kernel27Ideal.τ).loc Cert.Kernel27Ideal.main_arg4)) (m ((c.tc : Thread Cert.Kernel27Ideal.nD Cert.Kernel27Ideal.τ).loc Cert.Kernel27Ideal.main_arg5)) (m ((c.tc : Thread Cert.Kernel27Ideal.nD Cert.Kernel27Ideal.τ).loc Cert.Kernel27Ideal.main_arg6)) (m ((c.tc : Thread Cert.Kernel27Ideal.nD Cert.Kernel27Ideal.τ).loc Cert.Kernel27Ideal.main_arg7)) (m ((c.tc : Thread Cert.Kernel27Ideal.nD Cert.Kernel27Ideal.τ).loc Cert.Kernel27Ideal.main_arg8)) (m ((c.tc : Thread Cert.Kernel27Ideal.nD Cert.Kernel27Ideal.τ).loc Cert.Kernel27Ideal.main_arg9))) = (fun _ => 1#1)

def Pre_Reference27Ideal [hPre_pair4 : Cert.Pre_pair4.Facts] (m : (ℓ : Loc Cert.Reference27Ideal.nD Cert.Reference27Ideal.τ Cert.Reference27Ideal.sig) → Buf (Elt Ideal) ℓ) : Prop :=
  ∀ c : Dev Cert.Reference27Ideal.nD,
    (Cert.Pre_pair4.fn (F := Ideal) (m ((c.tc : Thread Cert.Reference27Ideal.nD Cert.Reference27Ideal.τ).loc Cert.Reference27Ideal.main_arg0)) (m ((c.tc : Thread Cert.Reference27Ideal.nD Cert.Reference27Ideal.τ).loc Cert.Reference27Ideal.main_arg1)) (m ((c.tc : Thread Cert.Reference27Ideal.nD Cert.Reference27Ideal.τ).loc Cert.Reference27Ideal.main_arg2)) (m ((c.tc : Thread Cert.Reference27Ideal.nD Cert.Reference27Ideal.τ).loc Cert.Reference27Ideal.main_arg3)) (m ((c.tc : Thread Cert.Reference27Ideal.nD Cert.Reference27Ideal.τ).loc Cert.Reference27Ideal.main_arg4)) (m ((c.tc : Thread Cert.Reference27Ideal.nD Cert.Reference27Ideal.τ).loc Cert.Reference27Ideal.main_arg5)) (m ((c.tc : Thread Cert.Reference27Ideal.nD Cert.Reference27Ideal.τ).loc Cert.Reference27Ideal.main_arg6)) (m ((c.tc : Thread Cert.Reference27Ideal.nD Cert.Reference27Ideal.τ).loc Cert.Reference27Ideal.main_arg7)) (m ((c.tc : Thread Cert.Reference27Ideal.nD Cert.Reference27Ideal.τ).loc Cert.Reference27Ideal.main_arg8)) (m ((c.tc : Thread Cert.Reference27Ideal.nD Cert.Reference27Ideal.τ).loc Cert.Reference27Ideal.main_arg9))) = (fun _ => 1#1)

def Pre_Kernel28 [hPre_pair4 : Cert.Pre_pair4.Facts] (m : (ℓ : Loc Cert.Kernel28.nD Cert.Kernel28.τ Cert.Kernel28.sig) → Buf (Elt Bits) ℓ) : Prop :=
  ∀ c : Dev Cert.Kernel28.nD,
    (Cert.Pre_pair4.fn (F := Bits) (m ((c.tc : Thread Cert.Kernel28.nD Cert.Kernel28.τ).loc Cert.Kernel28.main_arg0)) (m ((c.tc : Thread Cert.Kernel28.nD Cert.Kernel28.τ).loc Cert.Kernel28.main_arg1)) (m ((c.tc : Thread Cert.Kernel28.nD Cert.Kernel28.τ).loc Cert.Kernel28.main_arg2)) (m ((c.tc : Thread Cert.Kernel28.nD Cert.Kernel28.τ).loc Cert.Kernel28.main_arg3)) (m ((c.tc : Thread Cert.Kernel28.nD Cert.Kernel28.τ).loc Cert.Kernel28.main_arg4)) (m ((c.tc : Thread Cert.Kernel28.nD Cert.Kernel28.τ).loc Cert.Kernel28.main_arg5)) (m ((c.tc : Thread Cert.Kernel28.nD Cert.Kernel28.τ).loc Cert.Kernel28.main_arg6)) (m ((c.tc : Thread Cert.Kernel28.nD Cert.Kernel28.τ).loc Cert.Kernel28.main_arg7)) (m ((c.tc : Thread Cert.Kernel28.nD Cert.Kernel28.τ).loc Cert.Kernel28.main_arg8)) (m ((c.tc : Thread Cert.Kernel28.nD Cert.Kernel28.τ).loc Cert.Kernel28.main_arg9))) = (fun _ => 1#1)

def Pre_Kernel28Ideal [hPre_pair4 : Cert.Pre_pair4.Facts] (m : (ℓ : Loc Cert.Kernel28Ideal.nD Cert.Kernel28Ideal.τ Cert.Kernel28Ideal.sig) → Buf (Elt Ideal) ℓ) : Prop :=
  ∀ c : Dev Cert.Kernel28Ideal.nD,
    (Cert.Pre_pair4.fn (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)) (m ((c.tc : Thread Cert.Kernel28Ideal.nD Cert.Kernel28Ideal.τ).loc Cert.Kernel28Ideal.main_arg3)) (m ((c.tc : Thread Cert.Kernel28Ideal.nD Cert.Kernel28Ideal.τ).loc Cert.Kernel28Ideal.main_arg4)) (m ((c.tc : Thread Cert.Kernel28Ideal.nD Cert.Kernel28Ideal.τ).loc Cert.Kernel28Ideal.main_arg5)) (m ((c.tc : Thread Cert.Kernel28Ideal.nD Cert.Kernel28Ideal.τ).loc Cert.Kernel28Ideal.main_arg6)) (m ((c.tc : Thread Cert.Kernel28Ideal.nD Cert.Kernel28Ideal.τ).loc Cert.Kernel28Ideal.main_arg7)) (m ((c.tc : Thread Cert.Kernel28Ideal.nD Cert.Kernel28Ideal.τ).loc Cert.Kernel28Ideal.main_arg8)) (m ((c.tc : Thread Cert.Kernel28Ideal.nD Cert.Kernel28Ideal.τ).loc Cert.Kernel28Ideal.main_arg9))) = (fun _ => 1#1)

def Pre_Reference28Ideal [hPre_pair4 : Cert.Pre_pair4.Facts] (m : (ℓ : Loc Cert.Reference28Ideal.nD Cert.Reference28Ideal.τ Cert.Reference28Ideal.sig) → Buf (Elt Ideal) ℓ) : Prop :=
  ∀ c : Dev Cert.Reference28Ideal.nD,
    (Cert.Pre_pair4.fn (F := Ideal) (m ((c.tc : Thread Cert.Reference28Ideal.nD Cert.Reference28Ideal.τ).loc Cert.Reference28Ideal.main_arg0)) (m ((c.tc : Thread Cert.Reference28Ideal.nD Cert.Reference28Ideal.τ).loc Cert.Reference28Ideal.main_arg1)) (m ((c.tc : Thread Cert.Reference28Ideal.nD Cert.Reference28Ideal.τ).loc Cert.Reference28Ideal.main_arg2)) (m ((c.tc : Thread Cert.Reference28Ideal.nD Cert.Reference28Ideal.τ).loc Cert.Reference28Ideal.main_arg3)) (m ((c.tc : Thread Cert.Reference28Ideal.nD Cert.Reference28Ideal.τ).loc Cert.Reference28Ideal.main_arg4)) (m ((c.tc : Thread Cert.Reference28Ideal.nD Cert.Reference28Ideal.τ).loc Cert.Reference28Ideal.main_arg5)) (m ((c.tc : Thread Cert.Reference28Ideal.nD Cert.Reference28Ideal.τ).loc Cert.Reference28Ideal.main_arg6)) (m ((c.tc : Thread Cert.Reference28Ideal.nD Cert.Reference28Ideal.τ).loc Cert.Reference28Ideal.main_arg7)) (m ((c.tc : Thread Cert.Reference28Ideal.nD Cert.Reference28Ideal.τ).loc Cert.Reference28Ideal.main_arg8)) (m ((c.tc : Thread Cert.Reference28Ideal.nD Cert.Reference28Ideal.τ).loc Cert.Reference28Ideal.main_arg9))) = (fun _ => 1#1)

def Pre_Kernel29 [hPre_pair4 : Cert.Pre_pair4.Facts] (m : (ℓ : Loc Cert.Kernel29.nD Cert.Kernel29.τ Cert.Kernel29.sig) → Buf (Elt Bits) ℓ) : Prop :=
  ∀ c : Dev Cert.Kernel29.nD,
    (Cert.Pre_pair4.fn (F := Bits) (m ((c.tc : Thread Cert.Kernel29.nD Cert.Kernel29.τ).loc Cert.Kernel29.main_arg0)) (m ((c.tc : Thread Cert.Kernel29.nD Cert.Kernel29.τ).loc Cert.Kernel29.main_arg1)) (m ((c.tc : Thread Cert.Kernel29.nD Cert.Kernel29.τ).loc Cert.Kernel29.main_arg2)) (m ((c.tc : Thread Cert.Kernel29.nD Cert.Kernel29.τ).loc Cert.Kernel29.main_arg3)) (m ((c.tc : Thread Cert.Kernel29.nD Cert.Kernel29.τ).loc Cert.Kernel29.main_arg4)) (m ((c.tc : Thread Cert.Kernel29.nD Cert.Kernel29.τ).loc Cert.Kernel29.main_arg5)) (m ((c.tc : Thread Cert.Kernel29.nD Cert.Kernel29.τ).loc Cert.Kernel29.main_arg6)) (m ((c.tc : Thread Cert.Kernel29.nD Cert.Kernel29.τ).loc Cert.Kernel29.main_arg7)) (m ((c.tc : Thread Cert.Kernel29.nD Cert.Kernel29.τ).loc Cert.Kernel29.main_arg8)) (m ((c.tc : Thread Cert.Kernel29.nD Cert.Kernel29.τ).loc Cert.Kernel29.main_arg9))) = (fun _ => 1#1)

def Pre_Kernel29Ideal [hPre_pair4 : Cert.Pre_pair4.Facts] (m : (ℓ : Loc Cert.Kernel29Ideal.nD Cert.Kernel29Ideal.τ Cert.Kernel29Ideal.sig) → Buf (Elt Ideal) ℓ) : Prop :=
  ∀ c : Dev Cert.Kernel29Ideal.nD,
    (Cert.Pre_pair4.fn (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)) (m ((c.tc : Thread Cert.Kernel29Ideal.nD Cert.Kernel29Ideal.τ).loc Cert.Kernel29Ideal.main_arg3)) (m ((c.tc : Thread Cert.Kernel29Ideal.nD Cert.Kernel29Ideal.τ).loc Cert.Kernel29Ideal.main_arg4)) (m ((c.tc : Thread Cert.Kernel29Ideal.nD Cert.Kernel29Ideal.τ).loc Cert.Kernel29Ideal.main_arg5)) (m ((c.tc : Thread Cert.Kernel29Ideal.nD Cert.Kernel29Ideal.τ).loc Cert.Kernel29Ideal.main_arg6)) (m ((c.tc : Thread Cert.Kernel29Ideal.nD Cert.Kernel29Ideal.τ).loc Cert.Kernel29Ideal.main_arg7)) (m ((c.tc : Thread Cert.Kernel29Ideal.nD Cert.Kernel29Ideal.τ).loc Cert.Kernel29Ideal.main_arg8)) (m ((c.tc : Thread Cert.Kernel29Ideal.nD Cert.Kernel29Ideal.τ).loc Cert.Kernel29Ideal.main_arg9))) = (fun _ => 1#1)

def Pre_Reference29Ideal [hPre_pair4 : Cert.Pre_pair4.Facts] (m : (ℓ : Loc Cert.Reference29Ideal.nD Cert.Reference29Ideal.τ Cert.Reference29Ideal.sig) → Buf (Elt Ideal) ℓ) : Prop :=
  ∀ c : Dev Cert.Reference29Ideal.nD,
    (Cert.Pre_pair4.fn (F := Ideal) (m ((c.tc : Thread Cert.Reference29Ideal.nD Cert.Reference29Ideal.τ).loc Cert.Reference29Ideal.main_arg0)) (m ((c.tc : Thread Cert.Reference29Ideal.nD Cert.Reference29Ideal.τ).loc Cert.Reference29Ideal.main_arg1)) (m ((c.tc : Thread Cert.Reference29Ideal.nD Cert.Reference29Ideal.τ).loc Cert.Reference29Ideal.main_arg2)) (m ((c.tc : Thread Cert.Reference29Ideal.nD Cert.Reference29Ideal.τ).loc Cert.Reference29Ideal.main_arg3)) (m ((c.tc : Thread Cert.Reference29Ideal.nD Cert.Reference29Ideal.τ).loc Cert.Reference29Ideal.main_arg4)) (m ((c.tc : Thread Cert.Reference29Ideal.nD Cert.Reference29Ideal.τ).loc Cert.Reference29Ideal.main_arg5)) (m ((c.tc : Thread Cert.Reference29Ideal.nD Cert.Reference29Ideal.τ).loc Cert.Reference29Ideal.main_arg6)) (m ((c.tc : Thread Cert.Reference29Ideal.nD Cert.Reference29Ideal.τ).loc Cert.Reference29Ideal.main_arg7)) (m ((c.tc : Thread Cert.Reference29Ideal.nD Cert.Reference29Ideal.τ).loc Cert.Reference29Ideal.main_arg8)) (m ((c.tc : Thread Cert.Reference29Ideal.nD Cert.Reference29Ideal.τ).loc Cert.Reference29Ideal.main_arg9))) = (fun _ => 1#1)

def Pre_Kernel30 [hPre_pair5 : Cert.Pre_pair5.Facts] (m : (ℓ : Loc Cert.Kernel30.nD Cert.Kernel30.τ Cert.Kernel30.sig) → Buf (Elt Bits) ℓ) : Prop :=
  ∀ c : Dev Cert.Kernel30.nD,
    (Cert.Pre_pair5.fn (F := Bits) (m ((c.tc : Thread Cert.Kernel30.nD Cert.Kernel30.τ).loc Cert.Kernel30.main_arg0)) (m ((c.tc : Thread Cert.Kernel30.nD Cert.Kernel30.τ).loc Cert.Kernel30.main_arg1)) (m ((c.tc : Thread Cert.Kernel30.nD Cert.Kernel30.τ).loc Cert.Kernel30.main_arg2)) (m ((c.tc : Thread Cert.Kernel30.nD Cert.Kernel30.τ).loc Cert.Kernel30.main_arg3)) (m ((c.tc : Thread Cert.Kernel30.nD Cert.Kernel30.τ).loc Cert.Kernel30.main_arg4)) (m ((c.tc : Thread Cert.Kernel30.nD Cert.Kernel30.τ).loc Cert.Kernel30.main_arg5)) (m ((c.tc : Thread Cert.Kernel30.nD Cert.Kernel30.τ).loc Cert.Kernel30.main_arg6)) (m ((c.tc : Thread Cert.Kernel30.nD Cert.Kernel30.τ).loc Cert.Kernel30.main_arg7)) (m ((c.tc : Thread Cert.Kernel30.nD Cert.Kernel30.τ).loc Cert.Kernel30.main_arg8)) (m ((c.tc : Thread Cert.Kernel30.nD Cert.Kernel30.τ).loc Cert.Kernel30.main_arg9))) = (fun _ => 1#1)

def Pre_Kernel30Ideal [hPre_pair5 : Cert.Pre_pair5.Facts] (m : (ℓ : Loc Cert.Kernel30Ideal.nD Cert.Kernel30Ideal.τ Cert.Kernel30Ideal.sig) → Buf (Elt Ideal) ℓ) : Prop :=
  ∀ c : Dev Cert.Kernel30Ideal.nD,
    (Cert.Pre_pair5.fn (F := Ideal) (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2)) (m ((c.tc : Thread Cert.Kernel30Ideal.nD Cert.Kernel30Ideal.τ).loc Cert.Kernel30Ideal.main_arg3)) (m ((c.tc : Thread Cert.Kernel30Ideal.nD Cert.Kernel30Ideal.τ).loc Cert.Kernel30Ideal.main_arg4)) (m ((c.tc : Thread Cert.Kernel30Ideal.nD Cert.Kernel30Ideal.τ).loc Cert.Kernel30Ideal.main_arg5)) (m ((c.tc : Thread Cert.Kernel30Ideal.nD Cert.Kernel30Ideal.τ).loc Cert.Kernel30Ideal.main_arg6)) (m ((c.tc : Thread Cert.Kernel30Ideal.nD Cert.Kernel30Ideal.τ).loc Cert.Kernel30Ideal.main_arg7)) (m ((c.tc : Thread Cert.Kernel30Ideal.nD Cert.Kernel30Ideal.τ).loc Cert.Kernel30Ideal.main_arg8)) (m ((c.tc : Thread Cert.Kernel30Ideal.nD Cert.Kernel30Ideal.τ).loc Cert.Kernel30Ideal.main_arg9))) = (fun _ => 1#1)

def Pre_Reference30Ideal [hPre_pair5 : Cert.Pre_pair5.Facts] (m : (ℓ : Loc Cert.Reference30Ideal.nD Cert.Reference30Ideal.τ Cert.Reference30Ideal.sig) → Buf (Elt Ideal) ℓ) : Prop :=
  ∀ c : Dev Cert.Reference30Ideal.nD,
    (Cert.Pre_pair5.fn (F := Ideal) (m ((c.tc : Thread Cert.Reference30Ideal.nD Cert.Reference30Ideal.τ).loc Cert.Reference30Ideal.main_arg0)) (m ((c.tc : Thread Cert.Reference30Ideal.nD Cert.Reference30Ideal.τ).loc Cert.Reference30Ideal.main_arg1)) (m ((c.tc : Thread Cert.Reference30Ideal.nD Cert.Reference30Ideal.τ).loc Cert.Reference30Ideal.main_arg2)) (m ((c.tc : Thread Cert.Reference30Ideal.nD Cert.Reference30Ideal.τ).loc Cert.Reference30Ideal.main_arg3)) (m ((c.tc : Thread Cert.Reference30Ideal.nD Cert.Reference30Ideal.τ).loc Cert.Reference30Ideal.main_arg4)) (m ((c.tc : Thread Cert.Reference30Ideal.nD Cert.Reference30Ideal.τ).loc Cert.Reference30Ideal.main_arg5)) (m ((c.tc : Thread Cert.Reference30Ideal.nD Cert.Reference30Ideal.τ).loc Cert.Reference30Ideal.main_arg6)) (m ((c.tc : Thread Cert.Reference30Ideal.nD Cert.Reference30Ideal.τ).loc Cert.Reference30Ideal.main_arg7)) (m ((c.tc : Thread Cert.Reference30Ideal.nD Cert.Reference30Ideal.τ).loc Cert.Reference30Ideal.main_arg8)) (m ((c.tc : Thread Cert.Reference30Ideal.nD Cert.Reference30Ideal.τ).loc Cert.Reference30Ideal.main_arg9))) = (fun _ => 1#1)

def Pre_Kernel31 [hPre_pair5 : Cert.Pre_pair5.Facts] (m : (ℓ : Loc Cert.Kernel31.nD Cert.Kernel31.τ Cert.Kernel31.sig) → Buf (Elt Bits) ℓ) : Prop :=
  ∀ c : Dev Cert.Kernel31.nD,
    (Cert.Pre_pair5.fn (F := Bits) (m ((c.tc : Thread Cert.Kernel31.nD Cert.Kernel31.τ).loc Cert.Kernel31.main_arg0)) (m ((c.tc : Thread Cert.Kernel31.nD Cert.Kernel31.τ).loc Cert.Kernel31.main_arg1)) (m ((c.tc : Thread Cert.Kernel31.nD Cert.Kernel31.τ).loc Cert.Kernel31.main_arg2)) (m ((c.tc : Thread Cert.Kernel31.nD Cert.Kernel31.τ).loc Cert.Kernel31.main_arg3)) (m ((c.tc : Thread Cert.Kernel31.nD Cert.Kernel31.τ).loc Cert.Kernel31.main_arg4)) (m ((c.tc : Thread Cert.Kernel31.nD Cert.Kernel31.τ).loc Cert.Kernel31.main_arg5)) (m ((c.tc : Thread Cert.Kernel31.nD Cert.Kernel31.τ).loc Cert.Kernel31.main_arg6)) (m ((c.tc : Thread Cert.Kernel31.nD Cert.Kernel31.τ).loc Cert.Kernel31.main_arg7)) (m ((c.tc : Thread Cert.Kernel31.nD Cert.Kernel31.τ).loc Cert.Kernel31.main_arg8)) (m ((c.tc : Thread Cert.Kernel31.nD Cert.Kernel31.τ).loc Cert.Kernel31.main_arg9))) = (fun _ => 1#1)

def Pre_Kernel31Ideal [hPre_pair5 : Cert.Pre_pair5.Facts] (m : (ℓ : Loc Cert.Kernel31Ideal.nD Cert.Kernel31Ideal.τ Cert.Kernel31Ideal.sig) → Buf (Elt Ideal) ℓ) : Prop :=
  ∀ c : Dev Cert.Kernel31Ideal.nD,
    (Cert.Pre_pair5.fn (F := Ideal) (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2)) (m ((c.tc : Thread Cert.Kernel31Ideal.nD Cert.Kernel31Ideal.τ).loc Cert.Kernel31Ideal.main_arg3)) (m ((c.tc : Thread Cert.Kernel31Ideal.nD Cert.Kernel31Ideal.τ).loc Cert.Kernel31Ideal.main_arg4)) (m ((c.tc : Thread Cert.Kernel31Ideal.nD Cert.Kernel31Ideal.τ).loc Cert.Kernel31Ideal.main_arg5)) (m ((c.tc : Thread Cert.Kernel31Ideal.nD Cert.Kernel31Ideal.τ).loc Cert.Kernel31Ideal.main_arg6)) (m ((c.tc : Thread Cert.Kernel31Ideal.nD Cert.Kernel31Ideal.τ).loc Cert.Kernel31Ideal.main_arg7)) (m ((c.tc : Thread Cert.Kernel31Ideal.nD Cert.Kernel31Ideal.τ).loc Cert.Kernel31Ideal.main_arg8)) (m ((c.tc : Thread Cert.Kernel31Ideal.nD Cert.Kernel31Ideal.τ).loc Cert.Kernel31Ideal.main_arg9))) = (fun _ => 1#1)

def Pre_Reference31Ideal [hPre_pair5 : Cert.Pre_pair5.Facts] (m : (ℓ : Loc Cert.Reference31Ideal.nD Cert.Reference31Ideal.τ Cert.Reference31Ideal.sig) → Buf (Elt Ideal) ℓ) : Prop :=
  ∀ c : Dev Cert.Reference31Ideal.nD,
    (Cert.Pre_pair5.fn (F := Ideal) (m ((c.tc : Thread Cert.Reference31Ideal.nD Cert.Reference31Ideal.τ).loc Cert.Reference31Ideal.main_arg0)) (m ((c.tc : Thread Cert.Reference31Ideal.nD Cert.Reference31Ideal.τ).loc Cert.Reference31Ideal.main_arg1)) (m ((c.tc : Thread Cert.Reference31Ideal.nD Cert.Reference31Ideal.τ).loc Cert.Reference31Ideal.main_arg2)) (m ((c.tc : Thread Cert.Reference31Ideal.nD Cert.Reference31Ideal.τ).loc Cert.Reference31Ideal.main_arg3)) (m ((c.tc : Thread Cert.Reference31Ideal.nD Cert.Reference31Ideal.τ).loc Cert.Reference31Ideal.main_arg4)) (m ((c.tc : Thread Cert.Reference31Ideal.nD Cert.Reference31Ideal.τ).loc Cert.Reference31Ideal.main_arg5)) (m ((c.tc : Thread Cert.Reference31Ideal.nD Cert.Reference31Ideal.τ).loc Cert.Reference31Ideal.main_arg6)) (m ((c.tc : Thread Cert.Reference31Ideal.nD Cert.Reference31Ideal.τ).loc Cert.Reference31Ideal.main_arg7)) (m ((c.tc : Thread Cert.Reference31Ideal.nD Cert.Reference31Ideal.τ).loc Cert.Reference31Ideal.main_arg8)) (m ((c.tc : Thread Cert.Reference31Ideal.nD Cert.Reference31Ideal.τ).loc Cert.Reference31Ideal.main_arg9))) = (fun _ => 1#1)

def Pre_Kernel32 [hPre_pair5 : Cert.Pre_pair5.Facts] (m : (ℓ : Loc Cert.Kernel32.nD Cert.Kernel32.τ Cert.Kernel32.sig) → Buf (Elt Bits) ℓ) : Prop :=
  ∀ c : Dev Cert.Kernel32.nD,
    (Cert.Pre_pair5.fn (F := Bits) (m ((c.tc : Thread Cert.Kernel32.nD Cert.Kernel32.τ).loc Cert.Kernel32.main_arg0)) (m ((c.tc : Thread Cert.Kernel32.nD Cert.Kernel32.τ).loc Cert.Kernel32.main_arg1)) (m ((c.tc : Thread Cert.Kernel32.nD Cert.Kernel32.τ).loc Cert.Kernel32.main_arg2)) (m ((c.tc : Thread Cert.Kernel32.nD Cert.Kernel32.τ).loc Cert.Kernel32.main_arg3)) (m ((c.tc : Thread Cert.Kernel32.nD Cert.Kernel32.τ).loc Cert.Kernel32.main_arg4)) (m ((c.tc : Thread Cert.Kernel32.nD Cert.Kernel32.τ).loc Cert.Kernel32.main_arg5)) (m ((c.tc : Thread Cert.Kernel32.nD Cert.Kernel32.τ).loc Cert.Kernel32.main_arg6)) (m ((c.tc : Thread Cert.Kernel32.nD Cert.Kernel32.τ).loc Cert.Kernel32.main_arg7)) (m ((c.tc : Thread Cert.Kernel32.nD Cert.Kernel32.τ).loc Cert.Kernel32.main_arg8)) (m ((c.tc : Thread Cert.Kernel32.nD Cert.Kernel32.τ).loc Cert.Kernel32.main_arg9))) = (fun _ => 1#1)

def Pre_Kernel32Ideal [hPre_pair5 : Cert.Pre_pair5.Facts] (m : (ℓ : Loc Cert.Kernel32Ideal.nD Cert.Kernel32Ideal.τ Cert.Kernel32Ideal.sig) → Buf (Elt Ideal) ℓ) : Prop :=
  ∀ c : Dev Cert.Kernel32Ideal.nD,
    (Cert.Pre_pair5.fn (F := Ideal) (m ((c.tc : Thread Cert.Kernel32Ideal.nD Cert.Kernel32Ideal.τ).loc Cert.Kernel32Ideal.main_arg0)) (m ((c.tc : Thread Cert.Kernel32Ideal.nD Cert.Kernel32Ideal.τ).loc Cert.Kernel32Ideal.main_arg1)) (m ((c.tc : Thread Cert.Kernel32Ideal.nD Cert.Kernel32Ideal.τ).loc Cert.Kernel32Ideal.main_arg2)) (m ((c.tc : Thread Cert.Kernel32Ideal.nD Cert.Kernel32Ideal.τ).loc Cert.Kernel32Ideal.main_arg3)) (m ((c.tc : Thread Cert.Kernel32Ideal.nD Cert.Kernel32Ideal.τ).loc Cert.Kernel32Ideal.main_arg4)) (m ((c.tc : Thread Cert.Kernel32Ideal.nD Cert.Kernel32Ideal.τ).loc Cert.Kernel32Ideal.main_arg5)) (m ((c.tc : Thread Cert.Kernel32Ideal.nD Cert.Kernel32Ideal.τ).loc Cert.Kernel32Ideal.main_arg6)) (m ((c.tc : Thread Cert.Kernel32Ideal.nD Cert.Kernel32Ideal.τ).loc Cert.Kernel32Ideal.main_arg7)) (m ((c.tc : Thread Cert.Kernel32Ideal.nD Cert.Kernel32Ideal.τ).loc Cert.Kernel32Ideal.main_arg8)) (m ((c.tc : Thread Cert.Kernel32Ideal.nD Cert.Kernel32Ideal.τ).loc Cert.Kernel32Ideal.main_arg9))) = (fun _ => 1#1)

def Pre_Reference32Ideal [hPre_pair5 : Cert.Pre_pair5.Facts] (m : (ℓ : Loc Cert.Reference32Ideal.nD Cert.Reference32Ideal.τ Cert.Reference32Ideal.sig) → Buf (Elt Ideal) ℓ) : Prop :=
  ∀ c : Dev Cert.Reference32Ideal.nD,
    (Cert.Pre_pair5.fn (F := Ideal) (m ((c.tc : Thread Cert.Reference32Ideal.nD Cert.Reference32Ideal.τ).loc Cert.Reference32Ideal.main_arg0)) (m ((c.tc : Thread Cert.Reference32Ideal.nD Cert.Reference32Ideal.τ).loc Cert.Reference32Ideal.main_arg1)) (m ((c.tc : Thread Cert.Reference32Ideal.nD Cert.Reference32Ideal.τ).loc Cert.Reference32Ideal.main_arg2)) (m ((c.tc : Thread Cert.Reference32Ideal.nD Cert.Reference32Ideal.τ).loc Cert.Reference32Ideal.main_arg3)) (m ((c.tc : Thread Cert.Reference32Ideal.nD Cert.Reference32Ideal.τ).loc Cert.Reference32Ideal.main_arg4)) (m ((c.tc : Thread Cert.Reference32Ideal.nD Cert.Reference32Ideal.τ).loc Cert.Reference32Ideal.main_arg5)) (m ((c.tc : Thread Cert.Reference32Ideal.nD Cert.Reference32Ideal.τ).loc Cert.Reference32Ideal.main_arg6)) (m ((c.tc : Thread Cert.Reference32Ideal.nD Cert.Reference32Ideal.τ).loc Cert.Reference32Ideal.main_arg7)) (m ((c.tc : Thread Cert.Reference32Ideal.nD Cert.Reference32Ideal.τ).loc Cert.Reference32Ideal.main_arg8)) (m ((c.tc : Thread Cert.Reference32Ideal.nD Cert.Reference32Ideal.τ).loc Cert.Reference32Ideal.main_arg9))) = (fun _ => 1#1)

def Pre_Kernel33 [hPre_pair5 : Cert.Pre_pair5.Facts] (m : (ℓ : Loc Cert.Kernel33.nD Cert.Kernel33.τ Cert.Kernel33.sig) → Buf (Elt Bits) ℓ) : Prop :=
  ∀ c : Dev Cert.Kernel33.nD,
    (Cert.Pre_pair5.fn (F := Bits) (m ((c.tc : Thread Cert.Kernel33.nD Cert.Kernel33.τ).loc Cert.Kernel33.main_arg0)) (m ((c.tc : Thread Cert.Kernel33.nD Cert.Kernel33.τ).loc Cert.Kernel33.main_arg1)) (m ((c.tc : Thread Cert.Kernel33.nD Cert.Kernel33.τ).loc Cert.Kernel33.main_arg2)) (m ((c.tc : Thread Cert.Kernel33.nD Cert.Kernel33.τ).loc Cert.Kernel33.main_arg3)) (m ((c.tc : Thread Cert.Kernel33.nD Cert.Kernel33.τ).loc Cert.Kernel33.main_arg4)) (m ((c.tc : Thread Cert.Kernel33.nD Cert.Kernel33.τ).loc Cert.Kernel33.main_arg5)) (m ((c.tc : Thread Cert.Kernel33.nD Cert.Kernel33.τ).loc Cert.Kernel33.main_arg6)) (m ((c.tc : Thread Cert.Kernel33.nD Cert.Kernel33.τ).loc Cert.Kernel33.main_arg7)) (m ((c.tc : Thread Cert.Kernel33.nD Cert.Kernel33.τ).loc Cert.Kernel33.main_arg8)) (m ((c.tc : Thread Cert.Kernel33.nD Cert.Kernel33.τ).loc Cert.Kernel33.main_arg9))) = (fun _ => 1#1)

def Pre_Kernel33Ideal [hPre_pair5 : Cert.Pre_pair5.Facts] (m : (ℓ : Loc Cert.Kernel33Ideal.nD Cert.Kernel33Ideal.τ Cert.Kernel33Ideal.sig) → Buf (Elt Ideal) ℓ) : Prop :=
  ∀ c : Dev Cert.Kernel33Ideal.nD,
    (Cert.Pre_pair5.fn (F := Ideal) (m ((c.tc : Thread Cert.Kernel33Ideal.nD Cert.Kernel33Ideal.τ).loc Cert.Kernel33Ideal.main_arg0)) (m ((c.tc : Thread Cert.Kernel33Ideal.nD Cert.Kernel33Ideal.τ).loc Cert.Kernel33Ideal.main_arg1)) (m ((c.tc : Thread Cert.Kernel33Ideal.nD Cert.Kernel33Ideal.τ).loc Cert.Kernel33Ideal.main_arg2)) (m ((c.tc : Thread Cert.Kernel33Ideal.nD Cert.Kernel33Ideal.τ).loc Cert.Kernel33Ideal.main_arg3)) (m ((c.tc : Thread Cert.Kernel33Ideal.nD Cert.Kernel33Ideal.τ).loc Cert.Kernel33Ideal.main_arg4)) (m ((c.tc : Thread Cert.Kernel33Ideal.nD Cert.Kernel33Ideal.τ).loc Cert.Kernel33Ideal.main_arg5)) (m ((c.tc : Thread Cert.Kernel33Ideal.nD Cert.Kernel33Ideal.τ).loc Cert.Kernel33Ideal.main_arg6)) (m ((c.tc : Thread Cert.Kernel33Ideal.nD Cert.Kernel33Ideal.τ).loc Cert.Kernel33Ideal.main_arg7)) (m ((c.tc : Thread Cert.Kernel33Ideal.nD Cert.Kernel33Ideal.τ).loc Cert.Kernel33Ideal.main_arg8)) (m ((c.tc : Thread Cert.Kernel33Ideal.nD Cert.Kernel33Ideal.τ).loc Cert.Kernel33Ideal.main_arg9))) = (fun _ => 1#1)

def Pre_Reference33Ideal [hPre_pair5 : Cert.Pre_pair5.Facts] (m : (ℓ : Loc Cert.Reference33Ideal.nD Cert.Reference33Ideal.τ Cert.Reference33Ideal.sig) → Buf (Elt Ideal) ℓ) : Prop :=
  ∀ c : Dev Cert.Reference33Ideal.nD,
    (Cert.Pre_pair5.fn (F := Ideal) (m ((c.tc : Thread Cert.Reference33Ideal.nD Cert.Reference33Ideal.τ).loc Cert.Reference33Ideal.main_arg0)) (m ((c.tc : Thread Cert.Reference33Ideal.nD Cert.Reference33Ideal.τ).loc Cert.Reference33Ideal.main_arg1)) (m ((c.tc : Thread Cert.Reference33Ideal.nD Cert.Reference33Ideal.τ).loc Cert.Reference33Ideal.main_arg2)) (m ((c.tc : Thread Cert.Reference33Ideal.nD Cert.Reference33Ideal.τ).loc Cert.Reference33Ideal.main_arg3)) (m ((c.tc : Thread Cert.Reference33Ideal.nD Cert.Reference33Ideal.τ).loc Cert.Reference33Ideal.main_arg4)) (m ((c.tc : Thread Cert.Reference33Ideal.nD Cert.Reference33Ideal.τ).loc Cert.Reference33Ideal.main_arg5)) (m ((c.tc : Thread Cert.Reference33Ideal.nD Cert.Reference33Ideal.τ).loc Cert.Reference33Ideal.main_arg6)) (m ((c.tc : Thread Cert.Reference33Ideal.nD Cert.Reference33Ideal.τ).loc Cert.Reference33Ideal.main_arg7)) (m ((c.tc : Thread Cert.Reference33Ideal.nD Cert.Reference33Ideal.τ).loc Cert.Reference33Ideal.main_arg8)) (m ((c.tc : Thread Cert.Reference33Ideal.nD Cert.Reference33Ideal.τ).loc Cert.Reference33Ideal.main_arg9))) = (fun _ => 1#1)

def Pre_Kernel34 [hPre_pair6 : Cert.Pre_pair6.Facts] (m : (ℓ : Loc Cert.Kernel34.nD Cert.Kernel34.τ Cert.Kernel34.sig) → Buf (Elt Bits) ℓ) : Prop :=
  ∀ c : Dev Cert.Kernel34.nD,
    (Cert.Pre_pair6.fn (F := Bits) (m ((c.tc : Thread Cert.Kernel34.nD Cert.Kernel34.τ).loc Cert.Kernel34.main_arg0)) (m ((c.tc : Thread Cert.Kernel34.nD Cert.Kernel34.τ).loc Cert.Kernel34.main_arg1)) (m ((c.tc : Thread Cert.Kernel34.nD Cert.Kernel34.τ).loc Cert.Kernel34.main_arg2)) (m ((c.tc : Thread Cert.Kernel34.nD Cert.Kernel34.τ).loc Cert.Kernel34.main_arg3)) (m ((c.tc : Thread Cert.Kernel34.nD Cert.Kernel34.τ).loc Cert.Kernel34.main_arg4)) (m ((c.tc : Thread Cert.Kernel34.nD Cert.Kernel34.τ).loc Cert.Kernel34.main_arg5)) (m ((c.tc : Thread Cert.Kernel34.nD Cert.Kernel34.τ).loc Cert.Kernel34.main_arg6)) (m ((c.tc : Thread Cert.Kernel34.nD Cert.Kernel34.τ).loc Cert.Kernel34.main_arg7)) (m ((c.tc : Thread Cert.Kernel34.nD Cert.Kernel34.τ).loc Cert.Kernel34.main_arg8)) (m ((c.tc : Thread Cert.Kernel34.nD Cert.Kernel34.τ).loc Cert.Kernel34.main_arg9))) = (fun _ => 1#1)

def Pre_Kernel34Ideal [hPre_pair6 : Cert.Pre_pair6.Facts] (m : (ℓ : Loc Cert.Kernel34Ideal.nD Cert.Kernel34Ideal.τ Cert.Kernel34Ideal.sig) → Buf (Elt Ideal) ℓ) : Prop :=
  ∀ c : Dev Cert.Kernel34Ideal.nD,
    (Cert.Pre_pair6.fn (F := Ideal) (m ((c.tc : Thread Cert.Kernel34Ideal.nD Cert.Kernel34Ideal.τ).loc Cert.Kernel34Ideal.main_arg0)) (m ((c.tc : Thread Cert.Kernel34Ideal.nD Cert.Kernel34Ideal.τ).loc Cert.Kernel34Ideal.main_arg1)) (m ((c.tc : Thread Cert.Kernel34Ideal.nD Cert.Kernel34Ideal.τ).loc Cert.Kernel34Ideal.main_arg2)) (m ((c.tc : Thread Cert.Kernel34Ideal.nD Cert.Kernel34Ideal.τ).loc Cert.Kernel34Ideal.main_arg3)) (m ((c.tc : Thread Cert.Kernel34Ideal.nD Cert.Kernel34Ideal.τ).loc Cert.Kernel34Ideal.main_arg4)) (m ((c.tc : Thread Cert.Kernel34Ideal.nD Cert.Kernel34Ideal.τ).loc Cert.Kernel34Ideal.main_arg5)) (m ((c.tc : Thread Cert.Kernel34Ideal.nD Cert.Kernel34Ideal.τ).loc Cert.Kernel34Ideal.main_arg6)) (m ((c.tc : Thread Cert.Kernel34Ideal.nD Cert.Kernel34Ideal.τ).loc Cert.Kernel34Ideal.main_arg7)) (m ((c.tc : Thread Cert.Kernel34Ideal.nD Cert.Kernel34Ideal.τ).loc Cert.Kernel34Ideal.main_arg8)) (m ((c.tc : Thread Cert.Kernel34Ideal.nD Cert.Kernel34Ideal.τ).loc Cert.Kernel34Ideal.main_arg9))) = (fun _ => 1#1)

def Pre_Reference34Ideal [hPre_pair6 : Cert.Pre_pair6.Facts] (m : (ℓ : Loc Cert.Reference34Ideal.nD Cert.Reference34Ideal.τ Cert.Reference34Ideal.sig) → Buf (Elt Ideal) ℓ) : Prop :=
  ∀ c : Dev Cert.Reference34Ideal.nD,
    (Cert.Pre_pair6.fn (F := Ideal) (m ((c.tc : Thread Cert.Reference34Ideal.nD Cert.Reference34Ideal.τ).loc Cert.Reference34Ideal.main_arg0)) (m ((c.tc : Thread Cert.Reference34Ideal.nD Cert.Reference34Ideal.τ).loc Cert.Reference34Ideal.main_arg1)) (m ((c.tc : Thread Cert.Reference34Ideal.nD Cert.Reference34Ideal.τ).loc Cert.Reference34Ideal.main_arg2)) (m ((c.tc : Thread Cert.Reference34Ideal.nD Cert.Reference34Ideal.τ).loc Cert.Reference34Ideal.main_arg3)) (m ((c.tc : Thread Cert.Reference34Ideal.nD Cert.Reference34Ideal.τ).loc Cert.Reference34Ideal.main_arg4)) (m ((c.tc : Thread Cert.Reference34Ideal.nD Cert.Reference34Ideal.τ).loc Cert.Reference34Ideal.main_arg5)) (m ((c.tc : Thread Cert.Reference34Ideal.nD Cert.Reference34Ideal.τ).loc Cert.Reference34Ideal.main_arg6)) (m ((c.tc : Thread Cert.Reference34Ideal.nD Cert.Reference34Ideal.τ).loc Cert.Reference34Ideal.main_arg7)) (m ((c.tc : Thread Cert.Reference34Ideal.nD Cert.Reference34Ideal.τ).loc Cert.Reference34Ideal.main_arg8)) (m ((c.tc : Thread Cert.Reference34Ideal.nD Cert.Reference34Ideal.τ).loc Cert.Reference34Ideal.main_arg9))) = (fun _ => 1#1)

def Pre_Kernel35 [hPre_pair6 : Cert.Pre_pair6.Facts] (m : (ℓ : Loc Cert.Kernel35.nD Cert.Kernel35.τ Cert.Kernel35.sig) → Buf (Elt Bits) ℓ) : Prop :=
  ∀ c : Dev Cert.Kernel35.nD,
    (Cert.Pre_pair6.fn (F := Bits) (m ((c.tc : Thread Cert.Kernel35.nD Cert.Kernel35.τ).loc Cert.Kernel35.main_arg0)) (m ((c.tc : Thread Cert.Kernel35.nD Cert.Kernel35.τ).loc Cert.Kernel35.main_arg1)) (m ((c.tc : Thread Cert.Kernel35.nD Cert.Kernel35.τ).loc Cert.Kernel35.main_arg2)) (m ((c.tc : Thread Cert.Kernel35.nD Cert.Kernel35.τ).loc Cert.Kernel35.main_arg3)) (m ((c.tc : Thread Cert.Kernel35.nD Cert.Kernel35.τ).loc Cert.Kernel35.main_arg4)) (m ((c.tc : Thread Cert.Kernel35.nD Cert.Kernel35.τ).loc Cert.Kernel35.main_arg5)) (m ((c.tc : Thread Cert.Kernel35.nD Cert.Kernel35.τ).loc Cert.Kernel35.main_arg6)) (m ((c.tc : Thread Cert.Kernel35.nD Cert.Kernel35.τ).loc Cert.Kernel35.main_arg7)) (m ((c.tc : Thread Cert.Kernel35.nD Cert.Kernel35.τ).loc Cert.Kernel35.main_arg8)) (m ((c.tc : Thread Cert.Kernel35.nD Cert.Kernel35.τ).loc Cert.Kernel35.main_arg9))) = (fun _ => 1#1)

def Pre_Kernel35Ideal [hPre_pair6 : Cert.Pre_pair6.Facts] (m : (ℓ : Loc Cert.Kernel35Ideal.nD Cert.Kernel35Ideal.τ Cert.Kernel35Ideal.sig) → Buf (Elt Ideal) ℓ) : Prop :=
  ∀ c : Dev Cert.Kernel35Ideal.nD,
    (Cert.Pre_pair6.fn (F := Ideal) (m ((c.tc : Thread Cert.Kernel35Ideal.nD Cert.Kernel35Ideal.τ).loc Cert.Kernel35Ideal.main_arg0)) (m ((c.tc : Thread Cert.Kernel35Ideal.nD Cert.Kernel35Ideal.τ).loc Cert.Kernel35Ideal.main_arg1)) (m ((c.tc : Thread Cert.Kernel35Ideal.nD Cert.Kernel35Ideal.τ).loc Cert.Kernel35Ideal.main_arg2)) (m ((c.tc : Thread Cert.Kernel35Ideal.nD Cert.Kernel35Ideal.τ).loc Cert.Kernel35Ideal.main_arg3)) (m ((c.tc : Thread Cert.Kernel35Ideal.nD Cert.Kernel35Ideal.τ).loc Cert.Kernel35Ideal.main_arg4)) (m ((c.tc : Thread Cert.Kernel35Ideal.nD Cert.Kernel35Ideal.τ).loc Cert.Kernel35Ideal.main_arg5)) (m ((c.tc : Thread Cert.Kernel35Ideal.nD Cert.Kernel35Ideal.τ).loc Cert.Kernel35Ideal.main_arg6)) (m ((c.tc : Thread Cert.Kernel35Ideal.nD Cert.Kernel35Ideal.τ).loc Cert.Kernel35Ideal.main_arg7)) (m ((c.tc : Thread Cert.Kernel35Ideal.nD Cert.Kernel35Ideal.τ).loc Cert.Kernel35Ideal.main_arg8)) (m ((c.tc : Thread Cert.Kernel35Ideal.nD Cert.Kernel35Ideal.τ).loc Cert.Kernel35Ideal.main_arg9))) = (fun _ => 1#1)

def Pre_Reference35Ideal [hPre_pair6 : Cert.Pre_pair6.Facts] (m : (ℓ : Loc Cert.Reference35Ideal.nD Cert.Reference35Ideal.τ Cert.Reference35Ideal.sig) → Buf (Elt Ideal) ℓ) : Prop :=
  ∀ c : Dev Cert.Reference35Ideal.nD,
    (Cert.Pre_pair6.fn (F := Ideal) (m ((c.tc : Thread Cert.Reference35Ideal.nD Cert.Reference35Ideal.τ).loc Cert.Reference35Ideal.main_arg0)) (m ((c.tc : Thread Cert.Reference35Ideal.nD Cert.Reference35Ideal.τ).loc Cert.Reference35Ideal.main_arg1)) (m ((c.tc : Thread Cert.Reference35Ideal.nD Cert.Reference35Ideal.τ).loc Cert.Reference35Ideal.main_arg2)) (m ((c.tc : Thread Cert.Reference35Ideal.nD Cert.Reference35Ideal.τ).loc Cert.Reference35Ideal.main_arg3)) (m ((c.tc : Thread Cert.Reference35Ideal.nD Cert.Reference35Ideal.τ).loc Cert.Reference35Ideal.main_arg4)) (m ((c.tc : Thread Cert.Reference35Ideal.nD Cert.Reference35Ideal.τ).loc Cert.Reference35Ideal.main_arg5)) (m ((c.tc : Thread Cert.Reference35Ideal.nD Cert.Reference35Ideal.τ).loc Cert.Reference35Ideal.main_arg6)) (m ((c.tc : Thread Cert.Reference35Ideal.nD Cert.Reference35Ideal.τ).loc Cert.Reference35Ideal.main_arg7)) (m ((c.tc : Thread Cert.Reference35Ideal.nD Cert.Reference35Ideal.τ).loc Cert.Reference35Ideal.main_arg8)) (m ((c.tc : Thread Cert.Reference35Ideal.nD Cert.Reference35Ideal.τ).loc Cert.Reference35Ideal.main_arg9))) = (fun _ => 1#1)

def Pre_Kernel36 [hPre_pair6 : Cert.Pre_pair6.Facts] (m : (ℓ : Loc Cert.Kernel36.nD Cert.Kernel36.τ Cert.Kernel36.sig) → Buf (Elt Bits) ℓ) : Prop :=
  ∀ c : Dev Cert.Kernel36.nD,
    (Cert.Pre_pair6.fn (F := Bits) (m ((c.tc : Thread Cert.Kernel36.nD Cert.Kernel36.τ).loc Cert.Kernel36.main_arg0)) (m ((c.tc : Thread Cert.Kernel36.nD Cert.Kernel36.τ).loc Cert.Kernel36.main_arg1)) (m ((c.tc : Thread Cert.Kernel36.nD Cert.Kernel36.τ).loc Cert.Kernel36.main_arg2)) (m ((c.tc : Thread Cert.Kernel36.nD Cert.Kernel36.τ).loc Cert.Kernel36.main_arg3)) (m ((c.tc : Thread Cert.Kernel36.nD Cert.Kernel36.τ).loc Cert.Kernel36.main_arg4)) (m ((c.tc : Thread Cert.Kernel36.nD Cert.Kernel36.τ).loc Cert.Kernel36.main_arg5)) (m ((c.tc : Thread Cert.Kernel36.nD Cert.Kernel36.τ).loc Cert.Kernel36.main_arg6)) (m ((c.tc : Thread Cert.Kernel36.nD Cert.Kernel36.τ).loc Cert.Kernel36.main_arg7)) (m ((c.tc : Thread Cert.Kernel36.nD Cert.Kernel36.τ).loc Cert.Kernel36.main_arg8)) (m ((c.tc : Thread Cert.Kernel36.nD Cert.Kernel36.τ).loc Cert.Kernel36.main_arg9))) = (fun _ => 1#1)

def Pre_Kernel36Ideal [hPre_pair6 : Cert.Pre_pair6.Facts] (m : (ℓ : Loc Cert.Kernel36Ideal.nD Cert.Kernel36Ideal.τ Cert.Kernel36Ideal.sig) → Buf (Elt Ideal) ℓ) : Prop :=
  ∀ c : Dev Cert.Kernel36Ideal.nD,
    (Cert.Pre_pair6.fn (F := Ideal) (m ((c.tc : Thread Cert.Kernel36Ideal.nD Cert.Kernel36Ideal.τ).loc Cert.Kernel36Ideal.main_arg0)) (m ((c.tc : Thread Cert.Kernel36Ideal.nD Cert.Kernel36Ideal.τ).loc Cert.Kernel36Ideal.main_arg1)) (m ((c.tc : Thread Cert.Kernel36Ideal.nD Cert.Kernel36Ideal.τ).loc Cert.Kernel36Ideal.main_arg2)) (m ((c.tc : Thread Cert.Kernel36Ideal.nD Cert.Kernel36Ideal.τ).loc Cert.Kernel36Ideal.main_arg3)) (m ((c.tc : Thread Cert.Kernel36Ideal.nD Cert.Kernel36Ideal.τ).loc Cert.Kernel36Ideal.main_arg4)) (m ((c.tc : Thread Cert.Kernel36Ideal.nD Cert.Kernel36Ideal.τ).loc Cert.Kernel36Ideal.main_arg5)) (m ((c.tc : Thread Cert.Kernel36Ideal.nD Cert.Kernel36Ideal.τ).loc Cert.Kernel36Ideal.main_arg6)) (m ((c.tc : Thread Cert.Kernel36Ideal.nD Cert.Kernel36Ideal.τ).loc Cert.Kernel36Ideal.main_arg7)) (m ((c.tc : Thread Cert.Kernel36Ideal.nD Cert.Kernel36Ideal.τ).loc Cert.Kernel36Ideal.main_arg8)) (m ((c.tc : Thread Cert.Kernel36Ideal.nD Cert.Kernel36Ideal.τ).loc Cert.Kernel36Ideal.main_arg9))) = (fun _ => 1#1)

def Pre_Reference36Ideal [hPre_pair6 : Cert.Pre_pair6.Facts] (m : (ℓ : Loc Cert.Reference36Ideal.nD Cert.Reference36Ideal.τ Cert.Reference36Ideal.sig) → Buf (Elt Ideal) ℓ) : Prop :=
  ∀ c : Dev Cert.Reference36Ideal.nD,
    (Cert.Pre_pair6.fn (F := Ideal) (m ((c.tc : Thread Cert.Reference36Ideal.nD Cert.Reference36Ideal.τ).loc Cert.Reference36Ideal.main_arg0)) (m ((c.tc : Thread Cert.Reference36Ideal.nD Cert.Reference36Ideal.τ).loc Cert.Reference36Ideal.main_arg1)) (m ((c.tc : Thread Cert.Reference36Ideal.nD Cert.Reference36Ideal.τ).loc Cert.Reference36Ideal.main_arg2)) (m ((c.tc : Thread Cert.Reference36Ideal.nD Cert.Reference36Ideal.τ).loc Cert.Reference36Ideal.main_arg3)) (m ((c.tc : Thread Cert.Reference36Ideal.nD Cert.Reference36Ideal.τ).loc Cert.Reference36Ideal.main_arg4)) (m ((c.tc : Thread Cert.Reference36Ideal.nD Cert.Reference36Ideal.τ).loc Cert.Reference36Ideal.main_arg5)) (m ((c.tc : Thread Cert.Reference36Ideal.nD Cert.Reference36Ideal.τ).loc Cert.Reference36Ideal.main_arg6)) (m ((c.tc : Thread Cert.Reference36Ideal.nD Cert.Reference36Ideal.τ).loc Cert.Reference36Ideal.main_arg7)) (m ((c.tc : Thread Cert.Reference36Ideal.nD Cert.Reference36Ideal.τ).loc Cert.Reference36Ideal.main_arg8)) (m ((c.tc : Thread Cert.Reference36Ideal.nD Cert.Reference36Ideal.τ).loc Cert.Reference36Ideal.main_arg9))) = (fun _ => 1#1)

def Pre_Kernel37 [hPre_pair6 : Cert.Pre_pair6.Facts] (m : (ℓ : Loc Cert.Kernel37.nD Cert.Kernel37.τ Cert.Kernel37.sig) → Buf (Elt Bits) ℓ) : Prop :=
  ∀ c : Dev Cert.Kernel37.nD,
    (Cert.Pre_pair6.fn (F := Bits) (m ((c.tc : Thread Cert.Kernel37.nD Cert.Kernel37.τ).loc Cert.Kernel37.main_arg0)) (m ((c.tc : Thread Cert.Kernel37.nD Cert.Kernel37.τ).loc Cert.Kernel37.main_arg1)) (m ((c.tc : Thread Cert.Kernel37.nD Cert.Kernel37.τ).loc Cert.Kernel37.main_arg2)) (m ((c.tc : Thread Cert.Kernel37.nD Cert.Kernel37.τ).loc Cert.Kernel37.main_arg3)) (m ((c.tc : Thread Cert.Kernel37.nD Cert.Kernel37.τ).loc Cert.Kernel37.main_arg4)) (m ((c.tc : Thread Cert.Kernel37.nD Cert.Kernel37.τ).loc Cert.Kernel37.main_arg5)) (m ((c.tc : Thread Cert.Kernel37.nD Cert.Kernel37.τ).loc Cert.Kernel37.main_arg6)) (m ((c.tc : Thread Cert.Kernel37.nD Cert.Kernel37.τ).loc Cert.Kernel37.main_arg7)) (m ((c.tc : Thread Cert.Kernel37.nD Cert.Kernel37.τ).loc Cert.Kernel37.main_arg8)) (m ((c.tc : Thread Cert.Kernel37.nD Cert.Kernel37.τ).loc Cert.Kernel37.main_arg9))) = (fun _ => 1#1)

def Pre_Kernel37Ideal [hPre_pair6 : Cert.Pre_pair6.Facts] (m : (ℓ : Loc Cert.Kernel37Ideal.nD Cert.Kernel37Ideal.τ Cert.Kernel37Ideal.sig) → Buf (Elt Ideal) ℓ) : Prop :=
  ∀ c : Dev Cert.Kernel37Ideal.nD,
    (Cert.Pre_pair6.fn (F := Ideal) (m ((c.tc : Thread Cert.Kernel37Ideal.nD Cert.Kernel37Ideal.τ).loc Cert.Kernel37Ideal.main_arg0)) (m ((c.tc : Thread Cert.Kernel37Ideal.nD Cert.Kernel37Ideal.τ).loc Cert.Kernel37Ideal.main_arg1)) (m ((c.tc : Thread Cert.Kernel37Ideal.nD Cert.Kernel37Ideal.τ).loc Cert.Kernel37Ideal.main_arg2)) (m ((c.tc : Thread Cert.Kernel37Ideal.nD Cert.Kernel37Ideal.τ).loc Cert.Kernel37Ideal.main_arg3)) (m ((c.tc : Thread Cert.Kernel37Ideal.nD Cert.Kernel37Ideal.τ).loc Cert.Kernel37Ideal.main_arg4)) (m ((c.tc : Thread Cert.Kernel37Ideal.nD Cert.Kernel37Ideal.τ).loc Cert.Kernel37Ideal.main_arg5)) (m ((c.tc : Thread Cert.Kernel37Ideal.nD Cert.Kernel37Ideal.τ).loc Cert.Kernel37Ideal.main_arg6)) (m ((c.tc : Thread Cert.Kernel37Ideal.nD Cert.Kernel37Ideal.τ).loc Cert.Kernel37Ideal.main_arg7)) (m ((c.tc : Thread Cert.Kernel37Ideal.nD Cert.Kernel37Ideal.τ).loc Cert.Kernel37Ideal.main_arg8)) (m ((c.tc : Thread Cert.Kernel37Ideal.nD Cert.Kernel37Ideal.τ).loc Cert.Kernel37Ideal.main_arg9))) = (fun _ => 1#1)

def Pre_Reference37Ideal [hPre_pair6 : Cert.Pre_pair6.Facts] (m : (ℓ : Loc Cert.Reference37Ideal.nD Cert.Reference37Ideal.τ Cert.Reference37Ideal.sig) → Buf (Elt Ideal) ℓ) : Prop :=
  ∀ c : Dev Cert.Reference37Ideal.nD,
    (Cert.Pre_pair6.fn (F := Ideal) (m ((c.tc : Thread Cert.Reference37Ideal.nD Cert.Reference37Ideal.τ).loc Cert.Reference37Ideal.main_arg0)) (m ((c.tc : Thread Cert.Reference37Ideal.nD Cert.Reference37Ideal.τ).loc Cert.Reference37Ideal.main_arg1)) (m ((c.tc : Thread Cert.Reference37Ideal.nD Cert.Reference37Ideal.τ).loc Cert.Reference37Ideal.main_arg2)) (m ((c.tc : Thread Cert.Reference37Ideal.nD Cert.Reference37Ideal.τ).loc Cert.Reference37Ideal.main_arg3)) (m ((c.tc : Thread Cert.Reference37Ideal.nD Cert.Reference37Ideal.τ).loc Cert.Reference37Ideal.main_arg4)) (m ((c.tc : Thread Cert.Reference37Ideal.nD Cert.Reference37Ideal.τ).loc Cert.Reference37Ideal.main_arg5)) (m ((c.tc : Thread Cert.Reference37Ideal.nD Cert.Reference37Ideal.τ).loc Cert.Reference37Ideal.main_arg6)) (m ((c.tc : Thread Cert.Reference37Ideal.nD Cert.Reference37Ideal.τ).loc Cert.Reference37Ideal.main_arg7)) (m ((c.tc : Thread Cert.Reference37Ideal.nD Cert.Reference37Ideal.τ).loc Cert.Reference37Ideal.main_arg8)) (m ((c.tc : Thread Cert.Reference37Ideal.nD Cert.Reference37Ideal.τ).loc Cert.Reference37Ideal.main_arg9))) = (fun _ => 1#1)

def Pre_Kernel38 [hPre_pair7 : Cert.Pre_pair7.Facts] (m : (ℓ : Loc Cert.Kernel38.nD Cert.Kernel38.τ Cert.Kernel38.sig) → Buf (Elt Bits) ℓ) : Prop :=
  ∀ c : Dev Cert.Kernel38.nD,
    (Cert.Pre_pair7.fn (F := Bits) (m ((c.tc : Thread Cert.Kernel38.nD Cert.Kernel38.τ).loc Cert.Kernel38.main_arg0)) (m ((c.tc : Thread Cert.Kernel38.nD Cert.Kernel38.τ).loc Cert.Kernel38.main_arg1)) (m ((c.tc : Thread Cert.Kernel38.nD Cert.Kernel38.τ).loc Cert.Kernel38.main_arg2)) (m ((c.tc : Thread Cert.Kernel38.nD Cert.Kernel38.τ).loc Cert.Kernel38.main_arg3)) (m ((c.tc : Thread Cert.Kernel38.nD Cert.Kernel38.τ).loc Cert.Kernel38.main_arg4)) (m ((c.tc : Thread Cert.Kernel38.nD Cert.Kernel38.τ).loc Cert.Kernel38.main_arg5)) (m ((c.tc : Thread Cert.Kernel38.nD Cert.Kernel38.τ).loc Cert.Kernel38.main_arg6)) (m ((c.tc : Thread Cert.Kernel38.nD Cert.Kernel38.τ).loc Cert.Kernel38.main_arg7)) (m ((c.tc : Thread Cert.Kernel38.nD Cert.Kernel38.τ).loc Cert.Kernel38.main_arg8)) (m ((c.tc : Thread Cert.Kernel38.nD Cert.Kernel38.τ).loc Cert.Kernel38.main_arg9))) = (fun _ => 1#1)

def Pre_Kernel38Ideal [hPre_pair7 : Cert.Pre_pair7.Facts] (m : (ℓ : Loc Cert.Kernel38Ideal.nD Cert.Kernel38Ideal.τ Cert.Kernel38Ideal.sig) → Buf (Elt Ideal) ℓ) : Prop :=
  ∀ c : Dev Cert.Kernel38Ideal.nD,
    (Cert.Pre_pair7.fn (F := Ideal) (m ((c.tc : Thread Cert.Kernel38Ideal.nD Cert.Kernel38Ideal.τ).loc Cert.Kernel38Ideal.main_arg0)) (m ((c.tc : Thread Cert.Kernel38Ideal.nD Cert.Kernel38Ideal.τ).loc Cert.Kernel38Ideal.main_arg1)) (m ((c.tc : Thread Cert.Kernel38Ideal.nD Cert.Kernel38Ideal.τ).loc Cert.Kernel38Ideal.main_arg2)) (m ((c.tc : Thread Cert.Kernel38Ideal.nD Cert.Kernel38Ideal.τ).loc Cert.Kernel38Ideal.main_arg3)) (m ((c.tc : Thread Cert.Kernel38Ideal.nD Cert.Kernel38Ideal.τ).loc Cert.Kernel38Ideal.main_arg4)) (m ((c.tc : Thread Cert.Kernel38Ideal.nD Cert.Kernel38Ideal.τ).loc Cert.Kernel38Ideal.main_arg5)) (m ((c.tc : Thread Cert.Kernel38Ideal.nD Cert.Kernel38Ideal.τ).loc Cert.Kernel38Ideal.main_arg6)) (m ((c.tc : Thread Cert.Kernel38Ideal.nD Cert.Kernel38Ideal.τ).loc Cert.Kernel38Ideal.main_arg7)) (m ((c.tc : Thread Cert.Kernel38Ideal.nD Cert.Kernel38Ideal.τ).loc Cert.Kernel38Ideal.main_arg8)) (m ((c.tc : Thread Cert.Kernel38Ideal.nD Cert.Kernel38Ideal.τ).loc Cert.Kernel38Ideal.main_arg9))) = (fun _ => 1#1)

def Pre_Reference38Ideal [hPre_pair7 : Cert.Pre_pair7.Facts] (m : (ℓ : Loc Cert.Reference38Ideal.nD Cert.Reference38Ideal.τ Cert.Reference38Ideal.sig) → Buf (Elt Ideal) ℓ) : Prop :=
  ∀ c : Dev Cert.Reference38Ideal.nD,
    (Cert.Pre_pair7.fn (F := Ideal) (m ((c.tc : Thread Cert.Reference38Ideal.nD Cert.Reference38Ideal.τ).loc Cert.Reference38Ideal.main_arg0)) (m ((c.tc : Thread Cert.Reference38Ideal.nD Cert.Reference38Ideal.τ).loc Cert.Reference38Ideal.main_arg1)) (m ((c.tc : Thread Cert.Reference38Ideal.nD Cert.Reference38Ideal.τ).loc Cert.Reference38Ideal.main_arg2)) (m ((c.tc : Thread Cert.Reference38Ideal.nD Cert.Reference38Ideal.τ).loc Cert.Reference38Ideal.main_arg3)) (m ((c.tc : Thread Cert.Reference38Ideal.nD Cert.Reference38Ideal.τ).loc Cert.Reference38Ideal.main_arg4)) (m ((c.tc : Thread Cert.Reference38Ideal.nD Cert.Reference38Ideal.τ).loc Cert.Reference38Ideal.main_arg5)) (m ((c.tc : Thread Cert.Reference38Ideal.nD Cert.Reference38Ideal.τ).loc Cert.Reference38Ideal.main_arg6)) (m ((c.tc : Thread Cert.Reference38Ideal.nD Cert.Reference38Ideal.τ).loc Cert.Reference38Ideal.main_arg7)) (m ((c.tc : Thread Cert.Reference38Ideal.nD Cert.Reference38Ideal.τ).loc Cert.Reference38Ideal.main_arg8)) (m ((c.tc : Thread Cert.Reference38Ideal.nD Cert.Reference38Ideal.τ).loc Cert.Reference38Ideal.main_arg9))) = (fun _ => 1#1)

def Pre_Kernel39 [hPre_pair7 : Cert.Pre_pair7.Facts] (m : (ℓ : Loc Cert.Kernel39.nD Cert.Kernel39.τ Cert.Kernel39.sig) → Buf (Elt Bits) ℓ) : Prop :=
  ∀ c : Dev Cert.Kernel39.nD,
    (Cert.Pre_pair7.fn (F := Bits) (m ((c.tc : Thread Cert.Kernel39.nD Cert.Kernel39.τ).loc Cert.Kernel39.main_arg0)) (m ((c.tc : Thread Cert.Kernel39.nD Cert.Kernel39.τ).loc Cert.Kernel39.main_arg1)) (m ((c.tc : Thread Cert.Kernel39.nD Cert.Kernel39.τ).loc Cert.Kernel39.main_arg2)) (m ((c.tc : Thread Cert.Kernel39.nD Cert.Kernel39.τ).loc Cert.Kernel39.main_arg3)) (m ((c.tc : Thread Cert.Kernel39.nD Cert.Kernel39.τ).loc Cert.Kernel39.main_arg4)) (m ((c.tc : Thread Cert.Kernel39.nD Cert.Kernel39.τ).loc Cert.Kernel39.main_arg5)) (m ((c.tc : Thread Cert.Kernel39.nD Cert.Kernel39.τ).loc Cert.Kernel39.main_arg6)) (m ((c.tc : Thread Cert.Kernel39.nD Cert.Kernel39.τ).loc Cert.Kernel39.main_arg7)) (m ((c.tc : Thread Cert.Kernel39.nD Cert.Kernel39.τ).loc Cert.Kernel39.main_arg8)) (m ((c.tc : Thread Cert.Kernel39.nD Cert.Kernel39.τ).loc Cert.Kernel39.main_arg9))) = (fun _ => 1#1)

def Pre_Kernel39Ideal [hPre_pair7 : Cert.Pre_pair7.Facts] (m : (ℓ : Loc Cert.Kernel39Ideal.nD Cert.Kernel39Ideal.τ Cert.Kernel39Ideal.sig) → Buf (Elt Ideal) ℓ) : Prop :=
  ∀ c : Dev Cert.Kernel39Ideal.nD,
    (Cert.Pre_pair7.fn (F := Ideal) (m ((c.tc : Thread Cert.Kernel39Ideal.nD Cert.Kernel39Ideal.τ).loc Cert.Kernel39Ideal.main_arg0)) (m ((c.tc : Thread Cert.Kernel39Ideal.nD Cert.Kernel39Ideal.τ).loc Cert.Kernel39Ideal.main_arg1)) (m ((c.tc : Thread Cert.Kernel39Ideal.nD Cert.Kernel39Ideal.τ).loc Cert.Kernel39Ideal.main_arg2)) (m ((c.tc : Thread Cert.Kernel39Ideal.nD Cert.Kernel39Ideal.τ).loc Cert.Kernel39Ideal.main_arg3)) (m ((c.tc : Thread Cert.Kernel39Ideal.nD Cert.Kernel39Ideal.τ).loc Cert.Kernel39Ideal.main_arg4)) (m ((c.tc : Thread Cert.Kernel39Ideal.nD Cert.Kernel39Ideal.τ).loc Cert.Kernel39Ideal.main_arg5)) (m ((c.tc : Thread Cert.Kernel39Ideal.nD Cert.Kernel39Ideal.τ).loc Cert.Kernel39Ideal.main_arg6)) (m ((c.tc : Thread Cert.Kernel39Ideal.nD Cert.Kernel39Ideal.τ).loc Cert.Kernel39Ideal.main_arg7)) (m ((c.tc : Thread Cert.Kernel39Ideal.nD Cert.Kernel39Ideal.τ).loc Cert.Kernel39Ideal.main_arg8)) (m ((c.tc : Thread Cert.Kernel39Ideal.nD Cert.Kernel39Ideal.τ).loc Cert.Kernel39Ideal.main_arg9))) = (fun _ => 1#1)

def Pre_Reference39Ideal [hPre_pair7 : Cert.Pre_pair7.Facts] (m : (ℓ : Loc Cert.Reference39Ideal.nD Cert.Reference39Ideal.τ Cert.Reference39Ideal.sig) → Buf (Elt Ideal) ℓ) : Prop :=
  ∀ c : Dev Cert.Reference39Ideal.nD,
    (Cert.Pre_pair7.fn (F := Ideal) (m ((c.tc : Thread Cert.Reference39Ideal.nD Cert.Reference39Ideal.τ).loc Cert.Reference39Ideal.main_arg0)) (m ((c.tc : Thread Cert.Reference39Ideal.nD Cert.Reference39Ideal.τ).loc Cert.Reference39Ideal.main_arg1)) (m ((c.tc : Thread Cert.Reference39Ideal.nD Cert.Reference39Ideal.τ).loc Cert.Reference39Ideal.main_arg2)) (m ((c.tc : Thread Cert.Reference39Ideal.nD Cert.Reference39Ideal.τ).loc Cert.Reference39Ideal.main_arg3)) (m ((c.tc : Thread Cert.Reference39Ideal.nD Cert.Reference39Ideal.τ).loc Cert.Reference39Ideal.main_arg4)) (m ((c.tc : Thread Cert.Reference39Ideal.nD Cert.Reference39Ideal.τ).loc Cert.Reference39Ideal.main_arg5)) (m ((c.tc : Thread Cert.Reference39Ideal.nD Cert.Reference39Ideal.τ).loc Cert.Reference39Ideal.main_arg6)) (m ((c.tc : Thread Cert.Reference39Ideal.nD Cert.Reference39Ideal.τ).loc Cert.Reference39Ideal.main_arg7)) (m ((c.tc : Thread Cert.Reference39Ideal.nD Cert.Reference39Ideal.τ).loc Cert.Reference39Ideal.main_arg8)) (m ((c.tc : Thread Cert.Reference39Ideal.nD Cert.Reference39Ideal.τ).loc Cert.Reference39Ideal.main_arg9))) = (fun _ => 1#1)

def Pre_Kernel40 [hPre_pair7 : Cert.Pre_pair7.Facts] (m : (ℓ : Loc Cert.Kernel40.nD Cert.Kernel40.τ Cert.Kernel40.sig) → Buf (Elt Bits) ℓ) : Prop :=
  ∀ c : Dev Cert.Kernel40.nD,
    (Cert.Pre_pair7.fn (F := Bits) (m ((c.tc : Thread Cert.Kernel40.nD Cert.Kernel40.τ).loc Cert.Kernel40.main_arg0)) (m ((c.tc : Thread Cert.Kernel40.nD Cert.Kernel40.τ).loc Cert.Kernel40.main_arg1)) (m ((c.tc : Thread Cert.Kernel40.nD Cert.Kernel40.τ).loc Cert.Kernel40.main_arg2)) (m ((c.tc : Thread Cert.Kernel40.nD Cert.Kernel40.τ).loc Cert.Kernel40.main_arg3)) (m ((c.tc : Thread Cert.Kernel40.nD Cert.Kernel40.τ).loc Cert.Kernel40.main_arg4)) (m ((c.tc : Thread Cert.Kernel40.nD Cert.Kernel40.τ).loc Cert.Kernel40.main_arg5)) (m ((c.tc : Thread Cert.Kernel40.nD Cert.Kernel40.τ).loc Cert.Kernel40.main_arg6)) (m ((c.tc : Thread Cert.Kernel40.nD Cert.Kernel40.τ).loc Cert.Kernel40.main_arg7)) (m ((c.tc : Thread Cert.Kernel40.nD Cert.Kernel40.τ).loc Cert.Kernel40.main_arg8)) (m ((c.tc : Thread Cert.Kernel40.nD Cert.Kernel40.τ).loc Cert.Kernel40.main_arg9))) = (fun _ => 1#1)

def Pre_Kernel40Ideal [hPre_pair7 : Cert.Pre_pair7.Facts] (m : (ℓ : Loc Cert.Kernel40Ideal.nD Cert.Kernel40Ideal.τ Cert.Kernel40Ideal.sig) → Buf (Elt Ideal) ℓ) : Prop :=
  ∀ c : Dev Cert.Kernel40Ideal.nD,
    (Cert.Pre_pair7.fn (F := Ideal) (m ((c.tc : Thread Cert.Kernel40Ideal.nD Cert.Kernel40Ideal.τ).loc Cert.Kernel40Ideal.main_arg0)) (m ((c.tc : Thread Cert.Kernel40Ideal.nD Cert.Kernel40Ideal.τ).loc Cert.Kernel40Ideal.main_arg1)) (m ((c.tc : Thread Cert.Kernel40Ideal.nD Cert.Kernel40Ideal.τ).loc Cert.Kernel40Ideal.main_arg2)) (m ((c.tc : Thread Cert.Kernel40Ideal.nD Cert.Kernel40Ideal.τ).loc Cert.Kernel40Ideal.main_arg3)) (m ((c.tc : Thread Cert.Kernel40Ideal.nD Cert.Kernel40Ideal.τ).loc Cert.Kernel40Ideal.main_arg4)) (m ((c.tc : Thread Cert.Kernel40Ideal.nD Cert.Kernel40Ideal.τ).loc Cert.Kernel40Ideal.main_arg5)) (m ((c.tc : Thread Cert.Kernel40Ideal.nD Cert.Kernel40Ideal.τ).loc Cert.Kernel40Ideal.main_arg6)) (m ((c.tc : Thread Cert.Kernel40Ideal.nD Cert.Kernel40Ideal.τ).loc Cert.Kernel40Ideal.main_arg7)) (m ((c.tc : Thread Cert.Kernel40Ideal.nD Cert.Kernel40Ideal.τ).loc Cert.Kernel40Ideal.main_arg8)) (m ((c.tc : Thread Cert.Kernel40Ideal.nD Cert.Kernel40Ideal.τ).loc Cert.Kernel40Ideal.main_arg9))) = (fun _ => 1#1)

def Pre_Reference40Ideal [hPre_pair7 : Cert.Pre_pair7.Facts] (m : (ℓ : Loc Cert.Reference40Ideal.nD Cert.Reference40Ideal.τ Cert.Reference40Ideal.sig) → Buf (Elt Ideal) ℓ) : Prop :=
  ∀ c : Dev Cert.Reference40Ideal.nD,
    (Cert.Pre_pair7.fn (F := Ideal) (m ((c.tc : Thread Cert.Reference40Ideal.nD Cert.Reference40Ideal.τ).loc Cert.Reference40Ideal.main_arg0)) (m ((c.tc : Thread Cert.Reference40Ideal.nD Cert.Reference40Ideal.τ).loc Cert.Reference40Ideal.main_arg1)) (m ((c.tc : Thread Cert.Reference40Ideal.nD Cert.Reference40Ideal.τ).loc Cert.Reference40Ideal.main_arg2)) (m ((c.tc : Thread Cert.Reference40Ideal.nD Cert.Reference40Ideal.τ).loc Cert.Reference40Ideal.main_arg3)) (m ((c.tc : Thread Cert.Reference40Ideal.nD Cert.Reference40Ideal.τ).loc Cert.Reference40Ideal.main_arg4)) (m ((c.tc : Thread Cert.Reference40Ideal.nD Cert.Reference40Ideal.τ).loc Cert.Reference40Ideal.main_arg5)) (m ((c.tc : Thread Cert.Reference40Ideal.nD Cert.Reference40Ideal.τ).loc Cert.Reference40Ideal.main_arg6)) (m ((c.tc : Thread Cert.Reference40Ideal.nD Cert.Reference40Ideal.τ).loc Cert.Reference40Ideal.main_arg7)) (m ((c.tc : Thread Cert.Reference40Ideal.nD Cert.Reference40Ideal.τ).loc Cert.Reference40Ideal.main_arg8)) (m ((c.tc : Thread Cert.Reference40Ideal.nD Cert.Reference40Ideal.τ).loc Cert.Reference40Ideal.main_arg9))) = (fun _ => 1#1)

def Pre_Kernel41 [hPre_pair7 : Cert.Pre_pair7.Facts] (m : (ℓ : Loc Cert.Kernel41.nD Cert.Kernel41.τ Cert.Kernel41.sig) → Buf (Elt Bits) ℓ) : Prop :=
  ∀ c : Dev Cert.Kernel41.nD,
    (Cert.Pre_pair7.fn (F := Bits) (m ((c.tc : Thread Cert.Kernel41.nD Cert.Kernel41.τ).loc Cert.Kernel41.main_arg0)) (m ((c.tc : Thread Cert.Kernel41.nD Cert.Kernel41.τ).loc Cert.Kernel41.main_arg1)) (m ((c.tc : Thread Cert.Kernel41.nD Cert.Kernel41.τ).loc Cert.Kernel41.main_arg2)) (m ((c.tc : Thread Cert.Kernel41.nD Cert.Kernel41.τ).loc Cert.Kernel41.main_arg3)) (m ((c.tc : Thread Cert.Kernel41.nD Cert.Kernel41.τ).loc Cert.Kernel41.main_arg4)) (m ((c.tc : Thread Cert.Kernel41.nD Cert.Kernel41.τ).loc Cert.Kernel41.main_arg5)) (m ((c.tc : Thread Cert.Kernel41.nD Cert.Kernel41.τ).loc Cert.Kernel41.main_arg6)) (m ((c.tc : Thread Cert.Kernel41.nD Cert.Kernel41.τ).loc Cert.Kernel41.main_arg7)) (m ((c.tc : Thread Cert.Kernel41.nD Cert.Kernel41.τ).loc Cert.Kernel41.main_arg8)) (m ((c.tc : Thread Cert.Kernel41.nD Cert.Kernel41.τ).loc Cert.Kernel41.main_arg9))) = (fun _ => 1#1)

def Pre_Kernel41Ideal [hPre_pair7 : Cert.Pre_pair7.Facts] (m : (ℓ : Loc Cert.Kernel41Ideal.nD Cert.Kernel41Ideal.τ Cert.Kernel41Ideal.sig) → Buf (Elt Ideal) ℓ) : Prop :=
  ∀ c : Dev Cert.Kernel41Ideal.nD,
    (Cert.Pre_pair7.fn (F := Ideal) (m ((c.tc : Thread Cert.Kernel41Ideal.nD Cert.Kernel41Ideal.τ).loc Cert.Kernel41Ideal.main_arg0)) (m ((c.tc : Thread Cert.Kernel41Ideal.nD Cert.Kernel41Ideal.τ).loc Cert.Kernel41Ideal.main_arg1)) (m ((c.tc : Thread Cert.Kernel41Ideal.nD Cert.Kernel41Ideal.τ).loc Cert.Kernel41Ideal.main_arg2)) (m ((c.tc : Thread Cert.Kernel41Ideal.nD Cert.Kernel41Ideal.τ).loc Cert.Kernel41Ideal.main_arg3)) (m ((c.tc : Thread Cert.Kernel41Ideal.nD Cert.Kernel41Ideal.τ).loc Cert.Kernel41Ideal.main_arg4)) (m ((c.tc : Thread Cert.Kernel41Ideal.nD Cert.Kernel41Ideal.τ).loc Cert.Kernel41Ideal.main_arg5)) (m ((c.tc : Thread Cert.Kernel41Ideal.nD Cert.Kernel41Ideal.τ).loc Cert.Kernel41Ideal.main_arg6)) (m ((c.tc : Thread Cert.Kernel41Ideal.nD Cert.Kernel41Ideal.τ).loc Cert.Kernel41Ideal.main_arg7)) (m ((c.tc : Thread Cert.Kernel41Ideal.nD Cert.Kernel41Ideal.τ).loc Cert.Kernel41Ideal.main_arg8)) (m ((c.tc : Thread Cert.Kernel41Ideal.nD Cert.Kernel41Ideal.τ).loc Cert.Kernel41Ideal.main_arg9))) = (fun _ => 1#1)

def Pre_Reference41Ideal [hPre_pair7 : Cert.Pre_pair7.Facts] (m : (ℓ : Loc Cert.Reference41Ideal.nD Cert.Reference41Ideal.τ Cert.Reference41Ideal.sig) → Buf (Elt Ideal) ℓ) : Prop :=
  ∀ c : Dev Cert.Reference41Ideal.nD,
    (Cert.Pre_pair7.fn (F := Ideal) (m ((c.tc : Thread Cert.Reference41Ideal.nD Cert.Reference41Ideal.τ).loc Cert.Reference41Ideal.main_arg0)) (m ((c.tc : Thread Cert.Reference41Ideal.nD Cert.Reference41Ideal.τ).loc Cert.Reference41Ideal.main_arg1)) (m ((c.tc : Thread Cert.Reference41Ideal.nD Cert.Reference41Ideal.τ).loc Cert.Reference41Ideal.main_arg2)) (m ((c.tc : Thread Cert.Reference41Ideal.nD Cert.Reference41Ideal.τ).loc Cert.Reference41Ideal.main_arg3)) (m ((c.tc : Thread Cert.Reference41Ideal.nD Cert.Reference41Ideal.τ).loc Cert.Reference41Ideal.main_arg4)) (m ((c.tc : Thread Cert.Reference41Ideal.nD Cert.Reference41Ideal.τ).loc Cert.Reference41Ideal.main_arg5)) (m ((c.tc : Thread Cert.Reference41Ideal.nD Cert.Reference41Ideal.τ).loc Cert.Reference41Ideal.main_arg6)) (m ((c.tc : Thread Cert.Reference41Ideal.nD Cert.Reference41Ideal.τ).loc Cert.Reference41Ideal.main_arg7)) (m ((c.tc : Thread Cert.Reference41Ideal.nD Cert.Reference41Ideal.τ).loc Cert.Reference41Ideal.main_arg8)) (m ((c.tc : Thread Cert.Reference41Ideal.nD Cert.Reference41Ideal.τ).loc Cert.Reference41Ideal.main_arg9))) = (fun _ => 1#1)

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def Pre_Kernel43 (m : (ℓ : Loc Cert.Kernel43.nD Cert.Kernel43.τ Cert.Kernel43.sig) → Buf (Elt Bits) ℓ) : Prop :=
  True

def Pre_Kernel43Ideal (m : (ℓ : Loc Cert.Kernel43Ideal.nD Cert.Kernel43Ideal.τ Cert.Kernel43Ideal.sig) → Buf (Elt Ideal) ℓ) : Prop :=
  True

def Pre_Reference43Ideal (m : (ℓ : Loc Cert.Reference43Ideal.nD Cert.Reference43Ideal.τ Cert.Reference43Ideal.sig) → Buf (Elt Ideal) ℓ) : Prop :=
  True

def Pre_Kernel44 (m : (ℓ : Loc Cert.Kernel44.nD Cert.Kernel44.τ Cert.Kernel44.sig) → Buf (Elt Bits) ℓ) : Prop :=
  True

def Pre_Kernel44Ideal (m : (ℓ : Loc Cert.Kernel44Ideal.nD Cert.Kernel44Ideal.τ Cert.Kernel44Ideal.sig) → Buf (Elt Ideal) ℓ) : Prop :=
  True

def Pre_Reference44Ideal (m : (ℓ : Loc Cert.Reference44Ideal.nD Cert.Reference44Ideal.τ Cert.Reference44Ideal.sig) → Buf (Elt Ideal) ℓ) : Prop :=
  True

def Pre_Kernel45 (m : (ℓ : Loc Cert.Kernel45.nD Cert.Kernel45.τ Cert.Kernel45.sig) → Buf (Elt Bits) ℓ) : Prop :=
  True

def Pre_Kernel45Ideal (m : (ℓ : Loc Cert.Kernel45Ideal.nD Cert.Kernel45Ideal.τ Cert.Kernel45Ideal.sig) → Buf (Elt Ideal) ℓ) : Prop :=
  True

def Pre_Reference45Ideal (m : (ℓ : Loc Cert.Reference45Ideal.nD Cert.Reference45Ideal.τ Cert.Reference45Ideal.sig) → Buf (Elt Ideal) ℓ) : Prop :=
  True

def Pre_Kernel46 (m : (ℓ : Loc Cert.Kernel46.nD Cert.Kernel46.τ Cert.Kernel46.sig) → Buf (Elt Bits) ℓ) : Prop :=
  True

def Pre_Kernel46Ideal (m : (ℓ : Loc Cert.Kernel46Ideal.nD Cert.Kernel46Ideal.τ Cert.Kernel46Ideal.sig) → Buf (Elt Ideal) ℓ) : Prop :=
  True

def Pre_Reference46Ideal (m : (ℓ : Loc Cert.Reference46Ideal.nD Cert.Reference46Ideal.τ Cert.Reference46Ideal.sig) → Buf (Elt Ideal) ℓ) : Prop :=
  True

def Pre_Kernel47 (m : (ℓ : Loc Cert.Kernel47.nD Cert.Kernel47.τ Cert.Kernel47.sig) → Buf (Elt Bits) ℓ) : Prop :=
  True

def Pre_Kernel47Ideal (m : (ℓ : Loc Cert.Kernel47Ideal.nD Cert.Kernel47Ideal.τ Cert.Kernel47Ideal.sig) → Buf (Elt Ideal) ℓ) : Prop :=
  True

def Pre_Reference47Ideal (m : (ℓ : Loc Cert.Reference47Ideal.nD Cert.Reference47Ideal.τ Cert.Reference47Ideal.sig) → Buf (Elt Ideal) ℓ) : Prop :=
  True

def Pre_Kernel48 (m : (ℓ : Loc Cert.Kernel48.nD Cert.Kernel48.τ Cert.Kernel48.sig) → Buf (Elt Bits) ℓ) : Prop :=
  True

def Pre_Kernel48Ideal (m : (ℓ : Loc Cert.Kernel48Ideal.nD Cert.Kernel48Ideal.τ Cert.Kernel48Ideal.sig) → Buf (Elt Ideal) ℓ) : Prop :=
  True

def Pre_Reference48Ideal (m : (ℓ : Loc Cert.Reference48Ideal.nD Cert.Reference48Ideal.τ Cert.Reference48Ideal.sig) → Buf (Elt Ideal) ℓ) : Prop :=
  True

def quiescent_Kernel [hKernel : Cert.Kernel.Facts] [hPre_finite : Cert.Pre_finite.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] [hPre_finite2 : Cert.Pre_finite2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] [hPre_pair : Cert.Pre_pair.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7)
      ∧ r.2.mem ((c.tc : Thread Cert.Kernel14.nD Cert.Kernel14.τ).loc Cert.Kernel14.main_arg8) = m ((c.tc : Thread Cert.Kernel14.nD Cert.Kernel14.τ).loc Cert.Kernel14.main_arg8)
      ∧ r.2.mem ((c.tc : Thread Cert.Kernel14.nD Cert.Kernel14.τ).loc Cert.Kernel14.main_arg9) = m ((c.tc : Thread Cert.Kernel14.nD Cert.Kernel14.τ).loc Cert.Kernel14.main_arg9))
      ∧ r.2.sem = fun _ => 0)

def quiescent_Kernel14Ideal [hKernel14Ideal : Cert.Kernel14Ideal.Facts] [hPre_pair : Cert.Pre_pair.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
      ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9))
      ∧ r.2.sem = fun _ => 0)

def quiescent_Reference14Ideal [hReference14Ideal : Cert.Reference14Ideal.Facts] [hPre_pair : Cert.Pre_pair.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8)
      ∧ r.2.mem ((c.tc : Thread Cert.Reference14Ideal.nD Cert.Reference14Ideal.τ).loc Cert.Reference14Ideal.main_arg9) = m ((c.tc : Thread Cert.Reference14Ideal.nD Cert.Reference14Ideal.τ).loc Cert.Reference14Ideal.main_arg9))
      ∧ r.2.sem = fun _ => 0)

def quiescent_Kernel15 [hKernel15 : Cert.Kernel15.Facts] [hPre_pair : Cert.Pre_pair.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8)
      ∧ r.2.mem ((c.tc : Thread Cert.Kernel15.nD Cert.Kernel15.τ).loc Cert.Kernel15.main_arg9) = m ((c.tc : Thread Cert.Kernel15.nD Cert.Kernel15.τ).loc Cert.Kernel15.main_arg9))
      ∧ r.2.sem = fun _ => 0)

def quiescent_Kernel15Ideal [hKernel15Ideal : Cert.Kernel15Ideal.Facts] [hPre_pair : Cert.Pre_pair.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
      ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9))
      ∧ r.2.sem = fun _ => 0)

def quiescent_Reference15Ideal [hReference15Ideal : Cert.Reference15Ideal.Facts] [hPre_pair : Cert.Pre_pair.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8)
      ∧ r.2.mem ((c.tc : Thread Cert.Reference15Ideal.nD Cert.Reference15Ideal.τ).loc Cert.Reference15Ideal.main_arg9) = m ((c.tc : Thread Cert.Reference15Ideal.nD Cert.Reference15Ideal.τ).loc Cert.Reference15Ideal.main_arg9))
      ∧ r.2.sem = fun _ => 0)

def quiescent_Kernel16 [hKernel16 : Cert.Kernel16.Facts] [hPre_pair : Cert.Pre_pair.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6)
      ∧ r.2.mem ((c.tc : Thread Cert.Kernel16.nD Cert.Kernel16.τ).loc Cert.Kernel16.main_arg7) = m ((c.tc : Thread Cert.Kernel16.nD Cert.Kernel16.τ).loc Cert.Kernel16.main_arg7)
      ∧ r.2.mem ((c.tc : Thread Cert.Kernel16.nD Cert.Kernel16.τ).loc Cert.Kernel16.main_arg8) = m ((c.tc : Thread Cert.Kernel16.nD Cert.Kernel16.τ).loc Cert.Kernel16.main_arg8)
      ∧ r.2.mem ((c.tc : Thread Cert.Kernel16.nD Cert.Kernel16.τ).loc Cert.Kernel16.main_arg9) = m ((c.tc : Thread Cert.Kernel16.nD Cert.Kernel16.τ).loc Cert.Kernel16.main_arg9))
      ∧ r.2.sem = fun _ => 0)

def quiescent_Kernel16Ideal [hKernel16Ideal : Cert.Kernel16Ideal.Facts] [hPre_pair : Cert.Pre_pair.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
      ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7)
      ∧ r.2.mem ((c.tc : Thread Cert.Kernel16Ideal.nD Cert.Kernel16Ideal.τ).loc Cert.Kernel16Ideal.main_arg8) = m ((c.tc : Thread Cert.Kernel16Ideal.nD Cert.Kernel16Ideal.τ).loc Cert.Kernel16Ideal.main_arg8)
      ∧ r.2.mem ((c.tc : Thread Cert.Kernel16Ideal.nD Cert.Kernel16Ideal.τ).loc Cert.Kernel16Ideal.main_arg9) = m ((c.tc : Thread Cert.Kernel16Ideal.nD Cert.Kernel16Ideal.τ).loc Cert.Kernel16Ideal.main_arg9))
      ∧ r.2.sem = fun _ => 0)

def quiescent_Reference16Ideal [hReference16Ideal : Cert.Reference16Ideal.Facts] [hPre_pair : Cert.Pre_pair.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6)
      ∧ r.2.mem ((c.tc : Thread Cert.Reference16Ideal.nD Cert.Reference16Ideal.τ).loc Cert.Reference16Ideal.main_arg7) = m ((c.tc : Thread Cert.Reference16Ideal.nD Cert.Reference16Ideal.τ).loc Cert.Reference16Ideal.main_arg7)
      ∧ r.2.mem ((c.tc : Thread Cert.Reference16Ideal.nD Cert.Reference16Ideal.τ).loc Cert.Reference16Ideal.main_arg8) = m ((c.tc : Thread Cert.Reference16Ideal.nD Cert.Reference16Ideal.τ).loc Cert.Reference16Ideal.main_arg8)
      ∧ r.2.mem ((c.tc : Thread Cert.Reference16Ideal.nD Cert.Reference16Ideal.τ).loc Cert.Reference16Ideal.main_arg9) = m ((c.tc : Thread Cert.Reference16Ideal.nD Cert.Reference16Ideal.τ).loc Cert.Reference16Ideal.main_arg9))
      ∧ r.2.sem = fun _ => 0)

def quiescent_Kernel17 [hKernel17 : Cert.Kernel17.Facts] [hPre_pair : Cert.Pre_pair.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6)
      ∧ r.2.mem ((c.tc : Thread Cert.Kernel17.nD Cert.Kernel17.τ).loc Cert.Kernel17.main_arg7) = m ((c.tc : Thread Cert.Kernel17.nD Cert.Kernel17.τ).loc Cert.Kernel17.main_arg7)
      ∧ r.2.mem ((c.tc : Thread Cert.Kernel17.nD Cert.Kernel17.τ).loc Cert.Kernel17.main_arg8) = m ((c.tc : Thread Cert.Kernel17.nD Cert.Kernel17.τ).loc Cert.Kernel17.main_arg8)
      ∧ r.2.mem ((c.tc : Thread Cert.Kernel17.nD Cert.Kernel17.τ).loc Cert.Kernel17.main_arg9) = m ((c.tc : Thread Cert.Kernel17.nD Cert.Kernel17.τ).loc Cert.Kernel17.main_arg9))
      ∧ r.2.sem = fun _ => 0)

def quiescent_Kernel17Ideal [hKernel17Ideal : Cert.Kernel17Ideal.Facts] [hPre_pair : Cert.Pre_pair.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
      ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
      ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8)
      ∧ r.2.mem ((c.tc : Thread Cert.Kernel17Ideal.nD Cert.Kernel17Ideal.τ).loc Cert.Kernel17Ideal.main_arg9) = m ((c.tc : Thread Cert.Kernel17Ideal.nD Cert.Kernel17Ideal.τ).loc Cert.Kernel17Ideal.main_arg9))
      ∧ r.2.sem = fun _ => 0)

def quiescent_Reference17Ideal [hReference17Ideal : Cert.Reference17Ideal.Facts] [hPre_pair : Cert.Pre_pair.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6)
      ∧ r.2.mem ((c.tc : Thread Cert.Reference17Ideal.nD Cert.Reference17Ideal.τ).loc Cert.Reference17Ideal.main_arg7) = m ((c.tc : Thread Cert.Reference17Ideal.nD Cert.Reference17Ideal.τ).loc Cert.Reference17Ideal.main_arg7)
      ∧ r.2.mem ((c.tc : Thread Cert.Reference17Ideal.nD Cert.Reference17Ideal.τ).loc Cert.Reference17Ideal.main_arg8) = m ((c.tc : Thread Cert.Reference17Ideal.nD Cert.Reference17Ideal.τ).loc Cert.Reference17Ideal.main_arg8)
      ∧ r.2.mem ((c.tc : Thread Cert.Reference17Ideal.nD Cert.Reference17Ideal.τ).loc Cert.Reference17Ideal.main_arg9) = m ((c.tc : Thread Cert.Reference17Ideal.nD Cert.Reference17Ideal.τ).loc Cert.Reference17Ideal.main_arg9))
      ∧ r.2.sem = fun _ => 0)

def quiescent_Kernel18 [hKernel18 : Cert.Kernel18.Facts] [hPre_pair2 : Cert.Pre_pair2.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6)
      ∧ r.2.mem ((c.tc : Thread Cert.Kernel18.nD Cert.Kernel18.τ).loc Cert.Kernel18.main_arg7) = m ((c.tc : Thread Cert.Kernel18.nD Cert.Kernel18.τ).loc Cert.Kernel18.main_arg7)
      ∧ r.2.mem ((c.tc : Thread Cert.Kernel18.nD Cert.Kernel18.τ).loc Cert.Kernel18.main_arg8) = m ((c.tc : Thread Cert.Kernel18.nD Cert.Kernel18.τ).loc Cert.Kernel18.main_arg8)
      ∧ r.2.mem ((c.tc : Thread Cert.Kernel18.nD Cert.Kernel18.τ).loc Cert.Kernel18.main_arg9) = m ((c.tc : Thread Cert.Kernel18.nD Cert.Kernel18.τ).loc Cert.Kernel18.main_arg9))
      ∧ r.2.sem = fun _ => 0)

def quiescent_Kernel18Ideal [hKernel18Ideal : Cert.Kernel18Ideal.Facts] [hPre_pair2 : Cert.Pre_pair2.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
      ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7)
      ∧ r.2.mem ((c.tc : Thread Cert.Kernel18Ideal.nD Cert.Kernel18Ideal.τ).loc Cert.Kernel18Ideal.main_arg8) = m ((c.tc : Thread Cert.Kernel18Ideal.nD Cert.Kernel18Ideal.τ).loc Cert.Kernel18Ideal.main_arg8)
      ∧ r.2.mem ((c.tc : Thread Cert.Kernel18Ideal.nD Cert.Kernel18Ideal.τ).loc Cert.Kernel18Ideal.main_arg9) = m ((c.tc : Thread Cert.Kernel18Ideal.nD Cert.Kernel18Ideal.τ).loc Cert.Kernel18Ideal.main_arg9))
      ∧ r.2.sem = fun _ => 0)

def quiescent_Reference18Ideal [hReference18Ideal : Cert.Reference18Ideal.Facts] [hPre_pair2 : Cert.Pre_pair2.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6)
      ∧ r.2.mem ((c.tc : Thread Cert.Reference18Ideal.nD Cert.Reference18Ideal.τ).loc Cert.Reference18Ideal.main_arg7) = m ((c.tc : Thread Cert.Reference18Ideal.nD Cert.Reference18Ideal.τ).loc Cert.Reference18Ideal.main_arg7)
      ∧ r.2.mem ((c.tc : Thread Cert.Reference18Ideal.nD Cert.Reference18Ideal.τ).loc Cert.Reference18Ideal.main_arg8) = m ((c.tc : Thread Cert.Reference18Ideal.nD Cert.Reference18Ideal.τ).loc Cert.Reference18Ideal.main_arg8)
      ∧ r.2.mem ((c.tc : Thread Cert.Reference18Ideal.nD Cert.Reference18Ideal.τ).loc Cert.Reference18Ideal.main_arg9) = m ((c.tc : Thread Cert.Reference18Ideal.nD Cert.Reference18Ideal.τ).loc Cert.Reference18Ideal.main_arg9))
      ∧ r.2.sem = fun _ => 0)

def quiescent_Kernel19 [hKernel19 : Cert.Kernel19.Facts] [hPre_pair2 : Cert.Pre_pair2.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5)
      ∧ r.2.mem ((c.tc : Thread Cert.Kernel19.nD Cert.Kernel19.τ).loc Cert.Kernel19.main_arg6) = m ((c.tc : Thread Cert.Kernel19.nD Cert.Kernel19.τ).loc Cert.Kernel19.main_arg6)
      ∧ r.2.mem ((c.tc : Thread Cert.Kernel19.nD Cert.Kernel19.τ).loc Cert.Kernel19.main_arg7) = m ((c.tc : Thread Cert.Kernel19.nD Cert.Kernel19.τ).loc Cert.Kernel19.main_arg7)
      ∧ r.2.mem ((c.tc : Thread Cert.Kernel19.nD Cert.Kernel19.τ).loc Cert.Kernel19.main_arg8) = m ((c.tc : Thread Cert.Kernel19.nD Cert.Kernel19.τ).loc Cert.Kernel19.main_arg8)
      ∧ r.2.mem ((c.tc : Thread Cert.Kernel19.nD Cert.Kernel19.τ).loc Cert.Kernel19.main_arg9) = m ((c.tc : Thread Cert.Kernel19.nD Cert.Kernel19.τ).loc Cert.Kernel19.main_arg9))
      ∧ r.2.sem = fun _ => 0)

def quiescent_Kernel19Ideal [hKernel19Ideal : Cert.Kernel19Ideal.Facts] [hPre_pair2 : Cert.Pre_pair2.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
      ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
      ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8)
      ∧ r.2.mem ((c.tc : Thread Cert.Kernel19Ideal.nD Cert.Kernel19Ideal.τ).loc Cert.Kernel19Ideal.main_arg9) = m ((c.tc : Thread Cert.Kernel19Ideal.nD Cert.Kernel19Ideal.τ).loc Cert.Kernel19Ideal.main_arg9))
      ∧ r.2.sem = fun _ => 0)

def quiescent_Reference19Ideal [hReference19Ideal : Cert.Reference19Ideal.Facts] [hPre_pair2 : Cert.Pre_pair2.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6)
      ∧ r.2.mem ((c.tc : Thread Cert.Reference19Ideal.nD Cert.Reference19Ideal.τ).loc Cert.Reference19Ideal.main_arg7) = m ((c.tc : Thread Cert.Reference19Ideal.nD Cert.Reference19Ideal.τ).loc Cert.Reference19Ideal.main_arg7)
      ∧ r.2.mem ((c.tc : Thread Cert.Reference19Ideal.nD Cert.Reference19Ideal.τ).loc Cert.Reference19Ideal.main_arg8) = m ((c.tc : Thread Cert.Reference19Ideal.nD Cert.Reference19Ideal.τ).loc Cert.Reference19Ideal.main_arg8)
      ∧ r.2.mem ((c.tc : Thread Cert.Reference19Ideal.nD Cert.Reference19Ideal.τ).loc Cert.Reference19Ideal.main_arg9) = m ((c.tc : Thread Cert.Reference19Ideal.nD Cert.Reference19Ideal.τ).loc Cert.Reference19Ideal.main_arg9))
      ∧ r.2.sem = fun _ => 0)

def quiescent_Kernel20 [hKernel20 : Cert.Kernel20.Facts] [hPre_pair2 : Cert.Pre_pair2.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5)
      ∧ r.2.mem ((c.tc : Thread Cert.Kernel20.nD Cert.Kernel20.τ).loc Cert.Kernel20.main_arg6) = m ((c.tc : Thread Cert.Kernel20.nD Cert.Kernel20.τ).loc Cert.Kernel20.main_arg6)
      ∧ r.2.mem ((c.tc : Thread Cert.Kernel20.nD Cert.Kernel20.τ).loc Cert.Kernel20.main_arg7) = m ((c.tc : Thread Cert.Kernel20.nD Cert.Kernel20.τ).loc Cert.Kernel20.main_arg7)
      ∧ r.2.mem ((c.tc : Thread Cert.Kernel20.nD Cert.Kernel20.τ).loc Cert.Kernel20.main_arg8) = m ((c.tc : Thread Cert.Kernel20.nD Cert.Kernel20.τ).loc Cert.Kernel20.main_arg8)
      ∧ r.2.mem ((c.tc : Thread Cert.Kernel20.nD Cert.Kernel20.τ).loc Cert.Kernel20.main_arg9) = m ((c.tc : Thread Cert.Kernel20.nD Cert.Kernel20.τ).loc Cert.Kernel20.main_arg9))
      ∧ r.2.sem = fun _ => 0)

def quiescent_Kernel20Ideal [hKernel20Ideal : Cert.Kernel20Ideal.Facts] [hPre_pair2 : Cert.Pre_pair2.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
      ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
      ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7)
      ∧ r.2.mem ((c.tc : Thread Cert.Kernel20Ideal.nD Cert.Kernel20Ideal.τ).loc Cert.Kernel20Ideal.main_arg8) = m ((c.tc : Thread Cert.Kernel20Ideal.nD Cert.Kernel20Ideal.τ).loc Cert.Kernel20Ideal.main_arg8)
      ∧ r.2.mem ((c.tc : Thread Cert.Kernel20Ideal.nD Cert.Kernel20Ideal.τ).loc Cert.Kernel20Ideal.main_arg9) = m ((c.tc : Thread Cert.Kernel20Ideal.nD Cert.Kernel20Ideal.τ).loc Cert.Kernel20Ideal.main_arg9))
      ∧ r.2.sem = fun _ => 0)

def quiescent_Reference20Ideal [hReference20Ideal : Cert.Reference20Ideal.Facts] [hPre_pair2 : Cert.Pre_pair2.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5)
      ∧ r.2.mem ((c.tc : Thread Cert.Reference20Ideal.nD Cert.Reference20Ideal.τ).loc Cert.Reference20Ideal.main_arg6) = m ((c.tc : Thread Cert.Reference20Ideal.nD Cert.Reference20Ideal.τ).loc Cert.Reference20Ideal.main_arg6)
      ∧ r.2.mem ((c.tc : Thread Cert.Reference20Ideal.nD Cert.Reference20Ideal.τ).loc Cert.Reference20Ideal.main_arg7) = m ((c.tc : Thread Cert.Reference20Ideal.nD Cert.Reference20Ideal.τ).loc Cert.Reference20Ideal.main_arg7)
      ∧ r.2.mem ((c.tc : Thread Cert.Reference20Ideal.nD Cert.Reference20Ideal.τ).loc Cert.Reference20Ideal.main_arg8) = m ((c.tc : Thread Cert.Reference20Ideal.nD Cert.Reference20Ideal.τ).loc Cert.Reference20Ideal.main_arg8)
      ∧ r.2.mem ((c.tc : Thread Cert.Reference20Ideal.nD Cert.Reference20Ideal.τ).loc Cert.Reference20Ideal.main_arg9) = m ((c.tc : Thread Cert.Reference20Ideal.nD Cert.Reference20Ideal.τ).loc Cert.Reference20Ideal.main_arg9))
      ∧ r.2.sem = fun _ => 0)

def quiescent_Kernel21 [hKernel21 : Cert.Kernel21.Facts] [hPre_pair2 : Cert.Pre_pair2.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5)
      ∧ r.2.mem ((c.tc : Thread Cert.Kernel21.nD Cert.Kernel21.τ).loc Cert.Kernel21.main_arg6) = m ((c.tc : Thread Cert.Kernel21.nD Cert.Kernel21.τ).loc Cert.Kernel21.main_arg6)
      ∧ r.2.mem ((c.tc : Thread Cert.Kernel21.nD Cert.Kernel21.τ).loc Cert.Kernel21.main_arg7) = m ((c.tc : Thread Cert.Kernel21.nD Cert.Kernel21.τ).loc Cert.Kernel21.main_arg7)
      ∧ r.2.mem ((c.tc : Thread Cert.Kernel21.nD Cert.Kernel21.τ).loc Cert.Kernel21.main_arg8) = m ((c.tc : Thread Cert.Kernel21.nD Cert.Kernel21.τ).loc Cert.Kernel21.main_arg8)
      ∧ r.2.mem ((c.tc : Thread Cert.Kernel21.nD Cert.Kernel21.τ).loc Cert.Kernel21.main_arg9) = m ((c.tc : Thread Cert.Kernel21.nD Cert.Kernel21.τ).loc Cert.Kernel21.main_arg9))
      ∧ r.2.sem = fun _ => 0)

def quiescent_Kernel21Ideal [hKernel21Ideal : Cert.Kernel21Ideal.Facts] [hPre_pair2 : Cert.Pre_pair2.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
      ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
      ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7)
      ∧ r.2.mem ((c.tc : Thread Cert.Kernel21Ideal.nD Cert.Kernel21Ideal.τ).loc Cert.Kernel21Ideal.main_arg8) = m ((c.tc : Thread Cert.Kernel21Ideal.nD Cert.Kernel21Ideal.τ).loc Cert.Kernel21Ideal.main_arg8)
      ∧ r.2.mem ((c.tc : Thread Cert.Kernel21Ideal.nD Cert.Kernel21Ideal.τ).loc Cert.Kernel21Ideal.main_arg9) = m ((c.tc : Thread Cert.Kernel21Ideal.nD Cert.Kernel21Ideal.τ).loc Cert.Kernel21Ideal.main_arg9))
      ∧ r.2.sem = fun _ => 0)

def quiescent_Reference21Ideal [hReference21Ideal : Cert.Reference21Ideal.Facts] [hPre_pair2 : Cert.Pre_pair2.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6)
      ∧ r.2.mem ((c.tc : Thread Cert.Reference21Ideal.nD Cert.Reference21Ideal.τ).loc Cert.Reference21Ideal.main_arg7) = m ((c.tc : Thread Cert.Reference21Ideal.nD Cert.Reference21Ideal.τ).loc Cert.Reference21Ideal.main_arg7)
      ∧ r.2.mem ((c.tc : Thread Cert.Reference21Ideal.nD Cert.Reference21Ideal.τ).loc Cert.Reference21Ideal.main_arg8) = m ((c.tc : Thread Cert.Reference21Ideal.nD Cert.Reference21Ideal.τ).loc Cert.Reference21Ideal.main_arg8)
      ∧ r.2.mem ((c.tc : Thread Cert.Reference21Ideal.nD Cert.Reference21Ideal.τ).loc Cert.Reference21Ideal.main_arg9) = m ((c.tc : Thread Cert.Reference21Ideal.nD Cert.Reference21Ideal.τ).loc Cert.Reference21Ideal.main_arg9))
      ∧ r.2.sem = fun _ => 0)

def quiescent_Kernel22 [hKernel22 : Cert.Kernel22.Facts] [hPre_pair3 : Cert.Pre_pair3.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6)
      ∧ r.2.mem ((c.tc : Thread Cert.Kernel22.nD Cert.Kernel22.τ).loc Cert.Kernel22.main_arg7) = m ((c.tc : Thread Cert.Kernel22.nD Cert.Kernel22.τ).loc Cert.Kernel22.main_arg7)
      ∧ r.2.mem ((c.tc : Thread Cert.Kernel22.nD Cert.Kernel22.τ).loc Cert.Kernel22.main_arg8) = m ((c.tc : Thread Cert.Kernel22.nD Cert.Kernel22.τ).loc Cert.Kernel22.main_arg8)
      ∧ r.2.mem ((c.tc : Thread Cert.Kernel22.nD Cert.Kernel22.τ).loc Cert.Kernel22.main_arg9) = m ((c.tc : Thread Cert.Kernel22.nD Cert.Kernel22.τ).loc Cert.Kernel22.main_arg9))
      ∧ r.2.sem = fun _ => 0)

def quiescent_Kernel22Ideal [hKernel22Ideal : Cert.Kernel22Ideal.Facts] [hPre_pair3 : Cert.Pre_pair3.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
      ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7)
      ∧ r.2.mem ((c.tc : Thread Cert.Kernel22Ideal.nD Cert.Kernel22Ideal.τ).loc Cert.Kernel22Ideal.main_arg8) = m ((c.tc : Thread Cert.Kernel22Ideal.nD Cert.Kernel22Ideal.τ).loc Cert.Kernel22Ideal.main_arg8)
      ∧ r.2.mem ((c.tc : Thread Cert.Kernel22Ideal.nD Cert.Kernel22Ideal.τ).loc Cert.Kernel22Ideal.main_arg9) = m ((c.tc : Thread Cert.Kernel22Ideal.nD Cert.Kernel22Ideal.τ).loc Cert.Kernel22Ideal.main_arg9))
      ∧ r.2.sem = fun _ => 0)

def quiescent_Reference22Ideal [hReference22Ideal : Cert.Reference22Ideal.Facts] [hPre_pair3 : Cert.Pre_pair3.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6)
      ∧ r.2.mem ((c.tc : Thread Cert.Reference22Ideal.nD Cert.Reference22Ideal.τ).loc Cert.Reference22Ideal.main_arg7) = m ((c.tc : Thread Cert.Reference22Ideal.nD Cert.Reference22Ideal.τ).loc Cert.Reference22Ideal.main_arg7)
      ∧ r.2.mem ((c.tc : Thread Cert.Reference22Ideal.nD Cert.Reference22Ideal.τ).loc Cert.Reference22Ideal.main_arg8) = m ((c.tc : Thread Cert.Reference22Ideal.nD Cert.Reference22Ideal.τ).loc Cert.Reference22Ideal.main_arg8)
      ∧ r.2.mem ((c.tc : Thread Cert.Reference22Ideal.nD Cert.Reference22Ideal.τ).loc Cert.Reference22Ideal.main_arg9) = m ((c.tc : Thread Cert.Reference22Ideal.nD Cert.Reference22Ideal.τ).loc Cert.Reference22Ideal.main_arg9))
      ∧ r.2.sem = fun _ => 0)

def quiescent_Kernel23 [hKernel23 : Cert.Kernel23.Facts] [hPre_pair3 : Cert.Pre_pair3.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5)
      ∧ r.2.mem ((c.tc : Thread Cert.Kernel23.nD Cert.Kernel23.τ).loc Cert.Kernel23.main_arg6) = m ((c.tc : Thread Cert.Kernel23.nD Cert.Kernel23.τ).loc Cert.Kernel23.main_arg6)
      ∧ r.2.mem ((c.tc : Thread Cert.Kernel23.nD Cert.Kernel23.τ).loc Cert.Kernel23.main_arg7) = m ((c.tc : Thread Cert.Kernel23.nD Cert.Kernel23.τ).loc Cert.Kernel23.main_arg7)
      ∧ r.2.mem ((c.tc : Thread Cert.Kernel23.nD Cert.Kernel23.τ).loc Cert.Kernel23.main_arg8) = m ((c.tc : Thread Cert.Kernel23.nD Cert.Kernel23.τ).loc Cert.Kernel23.main_arg8)
      ∧ r.2.mem ((c.tc : Thread Cert.Kernel23.nD Cert.Kernel23.τ).loc Cert.Kernel23.main_arg9) = m ((c.tc : Thread Cert.Kernel23.nD Cert.Kernel23.τ).loc Cert.Kernel23.main_arg9))
      ∧ r.2.sem = fun _ => 0)

def quiescent_Kernel23Ideal [hKernel23Ideal : Cert.Kernel23Ideal.Facts] [hPre_pair3 : Cert.Pre_pair3.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
      ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
      ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7)
      ∧ r.2.mem ((c.tc : Thread Cert.Kernel23Ideal.nD Cert.Kernel23Ideal.τ).loc Cert.Kernel23Ideal.main_arg8) = m ((c.tc : Thread Cert.Kernel23Ideal.nD Cert.Kernel23Ideal.τ).loc Cert.Kernel23Ideal.main_arg8)
      ∧ r.2.mem ((c.tc : Thread Cert.Kernel23Ideal.nD Cert.Kernel23Ideal.τ).loc Cert.Kernel23Ideal.main_arg9) = m ((c.tc : Thread Cert.Kernel23Ideal.nD Cert.Kernel23Ideal.τ).loc Cert.Kernel23Ideal.main_arg9))
      ∧ r.2.sem = fun _ => 0)

def quiescent_Reference23Ideal [hReference23Ideal : Cert.Reference23Ideal.Facts] [hPre_pair3 : Cert.Pre_pair3.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5)
      ∧ r.2.mem ((c.tc : Thread Cert.Reference23Ideal.nD Cert.Reference23Ideal.τ).loc Cert.Reference23Ideal.main_arg6) = m ((c.tc : Thread Cert.Reference23Ideal.nD Cert.Reference23Ideal.τ).loc Cert.Reference23Ideal.main_arg6)
      ∧ r.2.mem ((c.tc : Thread Cert.Reference23Ideal.nD Cert.Reference23Ideal.τ).loc Cert.Reference23Ideal.main_arg7) = m ((c.tc : Thread Cert.Reference23Ideal.nD Cert.Reference23Ideal.τ).loc Cert.Reference23Ideal.main_arg7)
      ∧ r.2.mem ((c.tc : Thread Cert.Reference23Ideal.nD Cert.Reference23Ideal.τ).loc Cert.Reference23Ideal.main_arg8) = m ((c.tc : Thread Cert.Reference23Ideal.nD Cert.Reference23Ideal.τ).loc Cert.Reference23Ideal.main_arg8)
      ∧ r.2.mem ((c.tc : Thread Cert.Reference23Ideal.nD Cert.Reference23Ideal.τ).loc Cert.Reference23Ideal.main_arg9) = m ((c.tc : Thread Cert.Reference23Ideal.nD Cert.Reference23Ideal.τ).loc Cert.Reference23Ideal.main_arg9))
      ∧ r.2.sem = fun _ => 0)

def quiescent_Kernel24 [hKernel24 : Cert.Kernel24.Facts] [hPre_pair3 : Cert.Pre_pair3.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5)
      ∧ r.2.mem ((c.tc : Thread Cert.Kernel24.nD Cert.Kernel24.τ).loc Cert.Kernel24.main_arg6) = m ((c.tc : Thread Cert.Kernel24.nD Cert.Kernel24.τ).loc Cert.Kernel24.main_arg6)
      ∧ r.2.mem ((c.tc : Thread Cert.Kernel24.nD Cert.Kernel24.τ).loc Cert.Kernel24.main_arg7) = m ((c.tc : Thread Cert.Kernel24.nD Cert.Kernel24.τ).loc Cert.Kernel24.main_arg7)
      ∧ r.2.mem ((c.tc : Thread Cert.Kernel24.nD Cert.Kernel24.τ).loc Cert.Kernel24.main_arg8) = m ((c.tc : Thread Cert.Kernel24.nD Cert.Kernel24.τ).loc Cert.Kernel24.main_arg8)
      ∧ r.2.mem ((c.tc : Thread Cert.Kernel24.nD Cert.Kernel24.τ).loc Cert.Kernel24.main_arg9) = m ((c.tc : Thread Cert.Kernel24.nD Cert.Kernel24.τ).loc Cert.Kernel24.main_arg9))
      ∧ r.2.sem = fun _ => 0)

def quiescent_Kernel24Ideal [hKernel24Ideal : Cert.Kernel24Ideal.Facts] [hPre_pair3 : Cert.Pre_pair3.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
      ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
      ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7)
      ∧ r.2.mem ((c.tc : Thread Cert.Kernel24Ideal.nD Cert.Kernel24Ideal.τ).loc Cert.Kernel24Ideal.main_arg8) = m ((c.tc : Thread Cert.Kernel24Ideal.nD Cert.Kernel24Ideal.τ).loc Cert.Kernel24Ideal.main_arg8)
      ∧ r.2.mem ((c.tc : Thread Cert.Kernel24Ideal.nD Cert.Kernel24Ideal.τ).loc Cert.Kernel24Ideal.main_arg9) = m ((c.tc : Thread Cert.Kernel24Ideal.nD Cert.Kernel24Ideal.τ).loc Cert.Kernel24Ideal.main_arg9))
      ∧ r.2.sem = fun _ => 0)

def quiescent_Reference24Ideal [hReference24Ideal : Cert.Reference24Ideal.Facts] [hPre_pair3 : Cert.Pre_pair3.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5)
      ∧ r.2.mem ((c.tc : Thread Cert.Reference24Ideal.nD Cert.Reference24Ideal.τ).loc Cert.Reference24Ideal.main_arg6) = m ((c.tc : Thread Cert.Reference24Ideal.nD Cert.Reference24Ideal.τ).loc Cert.Reference24Ideal.main_arg6)
      ∧ r.2.mem ((c.tc : Thread Cert.Reference24Ideal.nD Cert.Reference24Ideal.τ).loc Cert.Reference24Ideal.main_arg7) = m ((c.tc : Thread Cert.Reference24Ideal.nD Cert.Reference24Ideal.τ).loc Cert.Reference24Ideal.main_arg7)
      ∧ r.2.mem ((c.tc : Thread Cert.Reference24Ideal.nD Cert.Reference24Ideal.τ).loc Cert.Reference24Ideal.main_arg8) = m ((c.tc : Thread Cert.Reference24Ideal.nD Cert.Reference24Ideal.τ).loc Cert.Reference24Ideal.main_arg8)
      ∧ r.2.mem ((c.tc : Thread Cert.Reference24Ideal.nD Cert.Reference24Ideal.τ).loc Cert.Reference24Ideal.main_arg9) = m ((c.tc : Thread Cert.Reference24Ideal.nD Cert.Reference24Ideal.τ).loc Cert.Reference24Ideal.main_arg9))
      ∧ r.2.sem = fun _ => 0)

def quiescent_Kernel25 [hKernel25 : Cert.Kernel25.Facts] [hPre_pair3 : Cert.Pre_pair3.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5)
      ∧ r.2.mem ((c.tc : Thread Cert.Kernel25.nD Cert.Kernel25.τ).loc Cert.Kernel25.main_arg6) = m ((c.tc : Thread Cert.Kernel25.nD Cert.Kernel25.τ).loc Cert.Kernel25.main_arg6)
      ∧ r.2.mem ((c.tc : Thread Cert.Kernel25.nD Cert.Kernel25.τ).loc Cert.Kernel25.main_arg7) = m ((c.tc : Thread Cert.Kernel25.nD Cert.Kernel25.τ).loc Cert.Kernel25.main_arg7)
      ∧ r.2.mem ((c.tc : Thread Cert.Kernel25.nD Cert.Kernel25.τ).loc Cert.Kernel25.main_arg8) = m ((c.tc : Thread Cert.Kernel25.nD Cert.Kernel25.τ).loc Cert.Kernel25.main_arg8)
      ∧ r.2.mem ((c.tc : Thread Cert.Kernel25.nD Cert.Kernel25.τ).loc Cert.Kernel25.main_arg9) = m ((c.tc : Thread Cert.Kernel25.nD Cert.Kernel25.τ).loc Cert.Kernel25.main_arg9))
      ∧ r.2.sem = fun _ => 0)

def quiescent_Kernel25Ideal [hKernel25Ideal : Cert.Kernel25Ideal.Facts] [hPre_pair3 : Cert.Pre_pair3.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
      ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
      ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7)
      ∧ r.2.mem ((c.tc : Thread Cert.Kernel25Ideal.nD Cert.Kernel25Ideal.τ).loc Cert.Kernel25Ideal.main_arg8) = m ((c.tc : Thread Cert.Kernel25Ideal.nD Cert.Kernel25Ideal.τ).loc Cert.Kernel25Ideal.main_arg8)
      ∧ r.2.mem ((c.tc : Thread Cert.Kernel25Ideal.nD Cert.Kernel25Ideal.τ).loc Cert.Kernel25Ideal.main_arg9) = m ((c.tc : Thread Cert.Kernel25Ideal.nD Cert.Kernel25Ideal.τ).loc Cert.Kernel25Ideal.main_arg9))
      ∧ r.2.sem = fun _ => 0)

def quiescent_Reference25Ideal [hReference25Ideal : Cert.Reference25Ideal.Facts] [hPre_pair3 : Cert.Pre_pair3.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5)
      ∧ r.2.mem ((c.tc : Thread Cert.Reference25Ideal.nD Cert.Reference25Ideal.τ).loc Cert.Reference25Ideal.main_arg6) = m ((c.tc : Thread Cert.Reference25Ideal.nD Cert.Reference25Ideal.τ).loc Cert.Reference25Ideal.main_arg6)
      ∧ r.2.mem ((c.tc : Thread Cert.Reference25Ideal.nD Cert.Reference25Ideal.τ).loc Cert.Reference25Ideal.main_arg7) = m ((c.tc : Thread Cert.Reference25Ideal.nD Cert.Reference25Ideal.τ).loc Cert.Reference25Ideal.main_arg7)
      ∧ r.2.mem ((c.tc : Thread Cert.Reference25Ideal.nD Cert.Reference25Ideal.τ).loc Cert.Reference25Ideal.main_arg8) = m ((c.tc : Thread Cert.Reference25Ideal.nD Cert.Reference25Ideal.τ).loc Cert.Reference25Ideal.main_arg8)
      ∧ r.2.mem ((c.tc : Thread Cert.Reference25Ideal.nD Cert.Reference25Ideal.τ).loc Cert.Reference25Ideal.main_arg9) = m ((c.tc : Thread Cert.Reference25Ideal.nD Cert.Reference25Ideal.τ).loc Cert.Reference25Ideal.main_arg9))
      ∧ r.2.sem = fun _ => 0)

def quiescent_Kernel26 [hKernel26 : Cert.Kernel26.Facts] [hPre_pair4 : Cert.Pre_pair4.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4)
      ∧ r.2.mem ((c.tc : Thread Cert.Kernel26.nD Cert.Kernel26.τ).loc Cert.Kernel26.main_arg5) = m ((c.tc : Thread Cert.Kernel26.nD Cert.Kernel26.τ).loc Cert.Kernel26.main_arg5)
      ∧ r.2.mem ((c.tc : Thread Cert.Kernel26.nD Cert.Kernel26.τ).loc Cert.Kernel26.main_arg6) = m ((c.tc : Thread Cert.Kernel26.nD Cert.Kernel26.τ).loc Cert.Kernel26.main_arg6)
      ∧ r.2.mem ((c.tc : Thread Cert.Kernel26.nD Cert.Kernel26.τ).loc Cert.Kernel26.main_arg7) = m ((c.tc : Thread Cert.Kernel26.nD Cert.Kernel26.τ).loc Cert.Kernel26.main_arg7)
      ∧ r.2.mem ((c.tc : Thread Cert.Kernel26.nD Cert.Kernel26.τ).loc Cert.Kernel26.main_arg8) = m ((c.tc : Thread Cert.Kernel26.nD Cert.Kernel26.τ).loc Cert.Kernel26.main_arg8)
      ∧ r.2.mem ((c.tc : Thread Cert.Kernel26.nD Cert.Kernel26.τ).loc Cert.Kernel26.main_arg9) = m ((c.tc : Thread Cert.Kernel26.nD Cert.Kernel26.τ).loc Cert.Kernel26.main_arg9))
      ∧ r.2.sem = fun _ => 0)

def quiescent_Kernel26Ideal [hKernel26Ideal : Cert.Kernel26Ideal.Facts] [hPre_pair4 : Cert.Pre_pair4.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
      ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5)
      ∧ r.2.mem ((c.tc : Thread Cert.Kernel26Ideal.nD Cert.Kernel26Ideal.τ).loc Cert.Kernel26Ideal.main_arg6) = m ((c.tc : Thread Cert.Kernel26Ideal.nD Cert.Kernel26Ideal.τ).loc Cert.Kernel26Ideal.main_arg6)
      ∧ r.2.mem ((c.tc : Thread Cert.Kernel26Ideal.nD Cert.Kernel26Ideal.τ).loc Cert.Kernel26Ideal.main_arg7) = m ((c.tc : Thread Cert.Kernel26Ideal.nD Cert.Kernel26Ideal.τ).loc Cert.Kernel26Ideal.main_arg7)
      ∧ r.2.mem ((c.tc : Thread Cert.Kernel26Ideal.nD Cert.Kernel26Ideal.τ).loc Cert.Kernel26Ideal.main_arg8) = m ((c.tc : Thread Cert.Kernel26Ideal.nD Cert.Kernel26Ideal.τ).loc Cert.Kernel26Ideal.main_arg8)
      ∧ r.2.mem ((c.tc : Thread Cert.Kernel26Ideal.nD Cert.Kernel26Ideal.τ).loc Cert.Kernel26Ideal.main_arg9) = m ((c.tc : Thread Cert.Kernel26Ideal.nD Cert.Kernel26Ideal.τ).loc Cert.Kernel26Ideal.main_arg9))
      ∧ r.2.sem = fun _ => 0)

def quiescent_Reference26Ideal [hReference26Ideal : Cert.Reference26Ideal.Facts] [hPre_pair4 : Cert.Pre_pair4.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4)
      ∧ r.2.mem ((c.tc : Thread Cert.Reference26Ideal.nD Cert.Reference26Ideal.τ).loc Cert.Reference26Ideal.main_arg5) = m ((c.tc : Thread Cert.Reference26Ideal.nD Cert.Reference26Ideal.τ).loc Cert.Reference26Ideal.main_arg5)
      ∧ r.2.mem ((c.tc : Thread Cert.Reference26Ideal.nD Cert.Reference26Ideal.τ).loc Cert.Reference26Ideal.main_arg6) = m ((c.tc : Thread Cert.Reference26Ideal.nD Cert.Reference26Ideal.τ).loc Cert.Reference26Ideal.main_arg6)
      ∧ r.2.mem ((c.tc : Thread Cert.Reference26Ideal.nD Cert.Reference26Ideal.τ).loc Cert.Reference26Ideal.main_arg7) = m ((c.tc : Thread Cert.Reference26Ideal.nD Cert.Reference26Ideal.τ).loc Cert.Reference26Ideal.main_arg7)
      ∧ r.2.mem ((c.tc : Thread Cert.Reference26Ideal.nD Cert.Reference26Ideal.τ).loc Cert.Reference26Ideal.main_arg8) = m ((c.tc : Thread Cert.Reference26Ideal.nD Cert.Reference26Ideal.τ).loc Cert.Reference26Ideal.main_arg8)
      ∧ r.2.mem ((c.tc : Thread Cert.Reference26Ideal.nD Cert.Reference26Ideal.τ).loc Cert.Reference26Ideal.main_arg9) = m ((c.tc : Thread Cert.Reference26Ideal.nD Cert.Reference26Ideal.τ).loc Cert.Reference26Ideal.main_arg9))
      ∧ r.2.sem = fun _ => 0)

def quiescent_Kernel27 [hKernel27 : Cert.Kernel27.Facts] [hPre_pair4 : Cert.Pre_pair4.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4)
      ∧ r.2.mem ((c.tc : Thread Cert.Kernel27.nD Cert.Kernel27.τ).loc Cert.Kernel27.main_arg5) = m ((c.tc : Thread Cert.Kernel27.nD Cert.Kernel27.τ).loc Cert.Kernel27.main_arg5)
      ∧ r.2.mem ((c.tc : Thread Cert.Kernel27.nD Cert.Kernel27.τ).loc Cert.Kernel27.main_arg6) = m ((c.tc : Thread Cert.Kernel27.nD Cert.Kernel27.τ).loc Cert.Kernel27.main_arg6)
      ∧ r.2.mem ((c.tc : Thread Cert.Kernel27.nD Cert.Kernel27.τ).loc Cert.Kernel27.main_arg7) = m ((c.tc : Thread Cert.Kernel27.nD Cert.Kernel27.τ).loc Cert.Kernel27.main_arg7)
      ∧ r.2.mem ((c.tc : Thread Cert.Kernel27.nD Cert.Kernel27.τ).loc Cert.Kernel27.main_arg8) = m ((c.tc : Thread Cert.Kernel27.nD Cert.Kernel27.τ).loc Cert.Kernel27.main_arg8)
      ∧ r.2.mem ((c.tc : Thread Cert.Kernel27.nD Cert.Kernel27.τ).loc Cert.Kernel27.main_arg9) = m ((c.tc : Thread Cert.Kernel27.nD Cert.Kernel27.τ).loc Cert.Kernel27.main_arg9))
      ∧ r.2.sem = fun _ => 0)

def quiescent_Kernel27Ideal [hKernel27Ideal : Cert.Kernel27Ideal.Facts] [hPre_pair4 : Cert.Pre_pair4.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
      ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5)
      ∧ r.2.mem ((c.tc : Thread Cert.Kernel27Ideal.nD Cert.Kernel27Ideal.τ).loc Cert.Kernel27Ideal.main_arg6) = m ((c.tc : Thread Cert.Kernel27Ideal.nD Cert.Kernel27Ideal.τ).loc Cert.Kernel27Ideal.main_arg6)
      ∧ r.2.mem ((c.tc : Thread Cert.Kernel27Ideal.nD Cert.Kernel27Ideal.τ).loc Cert.Kernel27Ideal.main_arg7) = m ((c.tc : Thread Cert.Kernel27Ideal.nD Cert.Kernel27Ideal.τ).loc Cert.Kernel27Ideal.main_arg7)
      ∧ r.2.mem ((c.tc : Thread Cert.Kernel27Ideal.nD Cert.Kernel27Ideal.τ).loc Cert.Kernel27Ideal.main_arg8) = m ((c.tc : Thread Cert.Kernel27Ideal.nD Cert.Kernel27Ideal.τ).loc Cert.Kernel27Ideal.main_arg8)
      ∧ r.2.mem ((c.tc : Thread Cert.Kernel27Ideal.nD Cert.Kernel27Ideal.τ).loc Cert.Kernel27Ideal.main_arg9) = m ((c.tc : Thread Cert.Kernel27Ideal.nD Cert.Kernel27Ideal.τ).loc Cert.Kernel27Ideal.main_arg9))
      ∧ r.2.sem = fun _ => 0)

def quiescent_Reference27Ideal [hReference27Ideal : Cert.Reference27Ideal.Facts] [hPre_pair4 : Cert.Pre_pair4.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4)
      ∧ r.2.mem ((c.tc : Thread Cert.Reference27Ideal.nD Cert.Reference27Ideal.τ).loc Cert.Reference27Ideal.main_arg5) = m ((c.tc : Thread Cert.Reference27Ideal.nD Cert.Reference27Ideal.τ).loc Cert.Reference27Ideal.main_arg5)
      ∧ r.2.mem ((c.tc : Thread Cert.Reference27Ideal.nD Cert.Reference27Ideal.τ).loc Cert.Reference27Ideal.main_arg6) = m ((c.tc : Thread Cert.Reference27Ideal.nD Cert.Reference27Ideal.τ).loc Cert.Reference27Ideal.main_arg6)
      ∧ r.2.mem ((c.tc : Thread Cert.Reference27Ideal.nD Cert.Reference27Ideal.τ).loc Cert.Reference27Ideal.main_arg7) = m ((c.tc : Thread Cert.Reference27Ideal.nD Cert.Reference27Ideal.τ).loc Cert.Reference27Ideal.main_arg7)
      ∧ r.2.mem ((c.tc : Thread Cert.Reference27Ideal.nD Cert.Reference27Ideal.τ).loc Cert.Reference27Ideal.main_arg8) = m ((c.tc : Thread Cert.Reference27Ideal.nD Cert.Reference27Ideal.τ).loc Cert.Reference27Ideal.main_arg8)
      ∧ r.2.mem ((c.tc : Thread Cert.Reference27Ideal.nD Cert.Reference27Ideal.τ).loc Cert.Reference27Ideal.main_arg9) = m ((c.tc : Thread Cert.Reference27Ideal.nD Cert.Reference27Ideal.τ).loc Cert.Reference27Ideal.main_arg9))
      ∧ r.2.sem = fun _ => 0)

def quiescent_Kernel28 [hKernel28 : Cert.Kernel28.Facts] [hPre_pair4 : Cert.Pre_pair4.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4)
      ∧ r.2.mem ((c.tc : Thread Cert.Kernel28.nD Cert.Kernel28.τ).loc Cert.Kernel28.main_arg5) = m ((c.tc : Thread Cert.Kernel28.nD Cert.Kernel28.τ).loc Cert.Kernel28.main_arg5)
      ∧ r.2.mem ((c.tc : Thread Cert.Kernel28.nD Cert.Kernel28.τ).loc Cert.Kernel28.main_arg6) = m ((c.tc : Thread Cert.Kernel28.nD Cert.Kernel28.τ).loc Cert.Kernel28.main_arg6)
      ∧ r.2.mem ((c.tc : Thread Cert.Kernel28.nD Cert.Kernel28.τ).loc Cert.Kernel28.main_arg7) = m ((c.tc : Thread Cert.Kernel28.nD Cert.Kernel28.τ).loc Cert.Kernel28.main_arg7)
      ∧ r.2.mem ((c.tc : Thread Cert.Kernel28.nD Cert.Kernel28.τ).loc Cert.Kernel28.main_arg8) = m ((c.tc : Thread Cert.Kernel28.nD Cert.Kernel28.τ).loc Cert.Kernel28.main_arg8)
      ∧ r.2.mem ((c.tc : Thread Cert.Kernel28.nD Cert.Kernel28.τ).loc Cert.Kernel28.main_arg9) = m ((c.tc : Thread Cert.Kernel28.nD Cert.Kernel28.τ).loc Cert.Kernel28.main_arg9))
      ∧ r.2.sem = fun _ => 0)

def quiescent_Kernel28Ideal [hKernel28Ideal : Cert.Kernel28Ideal.Facts] [hPre_pair4 : Cert.Pre_pair4.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
      ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5)
      ∧ r.2.mem ((c.tc : Thread Cert.Kernel28Ideal.nD Cert.Kernel28Ideal.τ).loc Cert.Kernel28Ideal.main_arg6) = m ((c.tc : Thread Cert.Kernel28Ideal.nD Cert.Kernel28Ideal.τ).loc Cert.Kernel28Ideal.main_arg6)
      ∧ r.2.mem ((c.tc : Thread Cert.Kernel28Ideal.nD Cert.Kernel28Ideal.τ).loc Cert.Kernel28Ideal.main_arg7) = m ((c.tc : Thread Cert.Kernel28Ideal.nD Cert.Kernel28Ideal.τ).loc Cert.Kernel28Ideal.main_arg7)
      ∧ r.2.mem ((c.tc : Thread Cert.Kernel28Ideal.nD Cert.Kernel28Ideal.τ).loc Cert.Kernel28Ideal.main_arg8) = m ((c.tc : Thread Cert.Kernel28Ideal.nD Cert.Kernel28Ideal.τ).loc Cert.Kernel28Ideal.main_arg8)
      ∧ r.2.mem ((c.tc : Thread Cert.Kernel28Ideal.nD Cert.Kernel28Ideal.τ).loc Cert.Kernel28Ideal.main_arg9) = m ((c.tc : Thread Cert.Kernel28Ideal.nD Cert.Kernel28Ideal.τ).loc Cert.Kernel28Ideal.main_arg9))
      ∧ r.2.sem = fun _ => 0)

def quiescent_Reference28Ideal [hReference28Ideal : Cert.Reference28Ideal.Facts] [hPre_pair4 : Cert.Pre_pair4.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4)
      ∧ r.2.mem ((c.tc : Thread Cert.Reference28Ideal.nD Cert.Reference28Ideal.τ).loc Cert.Reference28Ideal.main_arg5) = m ((c.tc : Thread Cert.Reference28Ideal.nD Cert.Reference28Ideal.τ).loc Cert.Reference28Ideal.main_arg5)
      ∧ r.2.mem ((c.tc : Thread Cert.Reference28Ideal.nD Cert.Reference28Ideal.τ).loc Cert.Reference28Ideal.main_arg6) = m ((c.tc : Thread Cert.Reference28Ideal.nD Cert.Reference28Ideal.τ).loc Cert.Reference28Ideal.main_arg6)
      ∧ r.2.mem ((c.tc : Thread Cert.Reference28Ideal.nD Cert.Reference28Ideal.τ).loc Cert.Reference28Ideal.main_arg7) = m ((c.tc : Thread Cert.Reference28Ideal.nD Cert.Reference28Ideal.τ).loc Cert.Reference28Ideal.main_arg7)
      ∧ r.2.mem ((c.tc : Thread Cert.Reference28Ideal.nD Cert.Reference28Ideal.τ).loc Cert.Reference28Ideal.main_arg8) = m ((c.tc : Thread Cert.Reference28Ideal.nD Cert.Reference28Ideal.τ).loc Cert.Reference28Ideal.main_arg8)
      ∧ r.2.mem ((c.tc : Thread Cert.Reference28Ideal.nD Cert.Reference28Ideal.τ).loc Cert.Reference28Ideal.main_arg9) = m ((c.tc : Thread Cert.Reference28Ideal.nD Cert.Reference28Ideal.τ).loc Cert.Reference28Ideal.main_arg9))
      ∧ r.2.sem = fun _ => 0)

def quiescent_Kernel29 [hKernel29 : Cert.Kernel29.Facts] [hPre_pair4 : Cert.Pre_pair4.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4)
      ∧ r.2.mem ((c.tc : Thread Cert.Kernel29.nD Cert.Kernel29.τ).loc Cert.Kernel29.main_arg5) = m ((c.tc : Thread Cert.Kernel29.nD Cert.Kernel29.τ).loc Cert.Kernel29.main_arg5)
      ∧ r.2.mem ((c.tc : Thread Cert.Kernel29.nD Cert.Kernel29.τ).loc Cert.Kernel29.main_arg6) = m ((c.tc : Thread Cert.Kernel29.nD Cert.Kernel29.τ).loc Cert.Kernel29.main_arg6)
      ∧ r.2.mem ((c.tc : Thread Cert.Kernel29.nD Cert.Kernel29.τ).loc Cert.Kernel29.main_arg7) = m ((c.tc : Thread Cert.Kernel29.nD Cert.Kernel29.τ).loc Cert.Kernel29.main_arg7)
      ∧ r.2.mem ((c.tc : Thread Cert.Kernel29.nD Cert.Kernel29.τ).loc Cert.Kernel29.main_arg8) = m ((c.tc : Thread Cert.Kernel29.nD Cert.Kernel29.τ).loc Cert.Kernel29.main_arg8)
      ∧ r.2.mem ((c.tc : Thread Cert.Kernel29.nD Cert.Kernel29.τ).loc Cert.Kernel29.main_arg9) = m ((c.tc : Thread Cert.Kernel29.nD Cert.Kernel29.τ).loc Cert.Kernel29.main_arg9))
      ∧ r.2.sem = fun _ => 0)

def quiescent_Kernel29Ideal [hKernel29Ideal : Cert.Kernel29Ideal.Facts] [hPre_pair4 : Cert.Pre_pair4.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
      ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5)
      ∧ r.2.mem ((c.tc : Thread Cert.Kernel29Ideal.nD Cert.Kernel29Ideal.τ).loc Cert.Kernel29Ideal.main_arg6) = m ((c.tc : Thread Cert.Kernel29Ideal.nD Cert.Kernel29Ideal.τ).loc Cert.Kernel29Ideal.main_arg6)
      ∧ r.2.mem ((c.tc : Thread Cert.Kernel29Ideal.nD Cert.Kernel29Ideal.τ).loc Cert.Kernel29Ideal.main_arg7) = m ((c.tc : Thread Cert.Kernel29Ideal.nD Cert.Kernel29Ideal.τ).loc Cert.Kernel29Ideal.main_arg7)
      ∧ r.2.mem ((c.tc : Thread Cert.Kernel29Ideal.nD Cert.Kernel29Ideal.τ).loc Cert.Kernel29Ideal.main_arg8) = m ((c.tc : Thread Cert.Kernel29Ideal.nD Cert.Kernel29Ideal.τ).loc Cert.Kernel29Ideal.main_arg8)
      ∧ r.2.mem ((c.tc : Thread Cert.Kernel29Ideal.nD Cert.Kernel29Ideal.τ).loc Cert.Kernel29Ideal.main_arg9) = m ((c.tc : Thread Cert.Kernel29Ideal.nD Cert.Kernel29Ideal.τ).loc Cert.Kernel29Ideal.main_arg9))
      ∧ r.2.sem = fun _ => 0)

def quiescent_Reference29Ideal [hReference29Ideal : Cert.Reference29Ideal.Facts] [hPre_pair4 : Cert.Pre_pair4.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4)
      ∧ r.2.mem ((c.tc : Thread Cert.Reference29Ideal.nD Cert.Reference29Ideal.τ).loc Cert.Reference29Ideal.main_arg5) = m ((c.tc : Thread Cert.Reference29Ideal.nD Cert.Reference29Ideal.τ).loc Cert.Reference29Ideal.main_arg5)
      ∧ r.2.mem ((c.tc : Thread Cert.Reference29Ideal.nD Cert.Reference29Ideal.τ).loc Cert.Reference29Ideal.main_arg6) = m ((c.tc : Thread Cert.Reference29Ideal.nD Cert.Reference29Ideal.τ).loc Cert.Reference29Ideal.main_arg6)
      ∧ r.2.mem ((c.tc : Thread Cert.Reference29Ideal.nD Cert.Reference29Ideal.τ).loc Cert.Reference29Ideal.main_arg7) = m ((c.tc : Thread Cert.Reference29Ideal.nD Cert.Reference29Ideal.τ).loc Cert.Reference29Ideal.main_arg7)
      ∧ r.2.mem ((c.tc : Thread Cert.Reference29Ideal.nD Cert.Reference29Ideal.τ).loc Cert.Reference29Ideal.main_arg8) = m ((c.tc : Thread Cert.Reference29Ideal.nD Cert.Reference29Ideal.τ).loc Cert.Reference29Ideal.main_arg8)
      ∧ r.2.mem ((c.tc : Thread Cert.Reference29Ideal.nD Cert.Reference29Ideal.τ).loc Cert.Reference29Ideal.main_arg9) = m ((c.tc : Thread Cert.Reference29Ideal.nD Cert.Reference29Ideal.τ).loc Cert.Reference29Ideal.main_arg9))
      ∧ r.2.sem = fun _ => 0)

def quiescent_Kernel30 [hKernel30 : Cert.Kernel30.Facts] [hPre_pair5 : Cert.Pre_pair5.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3)
      ∧ r.2.mem ((c.tc : Thread Cert.Kernel30.nD Cert.Kernel30.τ).loc Cert.Kernel30.main_arg4) = m ((c.tc : Thread Cert.Kernel30.nD Cert.Kernel30.τ).loc Cert.Kernel30.main_arg4)
      ∧ r.2.mem ((c.tc : Thread Cert.Kernel30.nD Cert.Kernel30.τ).loc Cert.Kernel30.main_arg5) = m ((c.tc : Thread Cert.Kernel30.nD Cert.Kernel30.τ).loc Cert.Kernel30.main_arg5)
      ∧ r.2.mem ((c.tc : Thread Cert.Kernel30.nD Cert.Kernel30.τ).loc Cert.Kernel30.main_arg6) = m ((c.tc : Thread Cert.Kernel30.nD Cert.Kernel30.τ).loc Cert.Kernel30.main_arg6)
      ∧ r.2.mem ((c.tc : Thread Cert.Kernel30.nD Cert.Kernel30.τ).loc Cert.Kernel30.main_arg7) = m ((c.tc : Thread Cert.Kernel30.nD Cert.Kernel30.τ).loc Cert.Kernel30.main_arg7)
      ∧ r.2.mem ((c.tc : Thread Cert.Kernel30.nD Cert.Kernel30.τ).loc Cert.Kernel30.main_arg8) = m ((c.tc : Thread Cert.Kernel30.nD Cert.Kernel30.τ).loc Cert.Kernel30.main_arg8)
      ∧ r.2.mem ((c.tc : Thread Cert.Kernel30.nD Cert.Kernel30.τ).loc Cert.Kernel30.main_arg9) = m ((c.tc : Thread Cert.Kernel30.nD Cert.Kernel30.τ).loc Cert.Kernel30.main_arg9))
      ∧ r.2.sem = fun _ => 0)

def quiescent_Kernel30Ideal [hKernel30Ideal : Cert.Kernel30Ideal.Facts] [hPre_pair5 : Cert.Pre_pair5.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
      ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4)
      ∧ r.2.mem ((c.tc : Thread Cert.Kernel30Ideal.nD Cert.Kernel30Ideal.τ).loc Cert.Kernel30Ideal.main_arg5) = m ((c.tc : Thread Cert.Kernel30Ideal.nD Cert.Kernel30Ideal.τ).loc Cert.Kernel30Ideal.main_arg5)
      ∧ r.2.mem ((c.tc : Thread Cert.Kernel30Ideal.nD Cert.Kernel30Ideal.τ).loc Cert.Kernel30Ideal.main_arg6) = m ((c.tc : Thread Cert.Kernel30Ideal.nD Cert.Kernel30Ideal.τ).loc Cert.Kernel30Ideal.main_arg6)
      ∧ r.2.mem ((c.tc : Thread Cert.Kernel30Ideal.nD Cert.Kernel30Ideal.τ).loc Cert.Kernel30Ideal.main_arg7) = m ((c.tc : Thread Cert.Kernel30Ideal.nD Cert.Kernel30Ideal.τ).loc Cert.Kernel30Ideal.main_arg7)
      ∧ r.2.mem ((c.tc : Thread Cert.Kernel30Ideal.nD Cert.Kernel30Ideal.τ).loc Cert.Kernel30Ideal.main_arg8) = m ((c.tc : Thread Cert.Kernel30Ideal.nD Cert.Kernel30Ideal.τ).loc Cert.Kernel30Ideal.main_arg8)
      ∧ r.2.mem ((c.tc : Thread Cert.Kernel30Ideal.nD Cert.Kernel30Ideal.τ).loc Cert.Kernel30Ideal.main_arg9) = m ((c.tc : Thread Cert.Kernel30Ideal.nD Cert.Kernel30Ideal.τ).loc Cert.Kernel30Ideal.main_arg9))
      ∧ r.2.sem = fun _ => 0)

def quiescent_Reference30Ideal [hReference30Ideal : Cert.Reference30Ideal.Facts] [hPre_pair5 : Cert.Pre_pair5.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3)
      ∧ r.2.mem ((c.tc : Thread Cert.Reference30Ideal.nD Cert.Reference30Ideal.τ).loc Cert.Reference30Ideal.main_arg4) = m ((c.tc : Thread Cert.Reference30Ideal.nD Cert.Reference30Ideal.τ).loc Cert.Reference30Ideal.main_arg4)
      ∧ r.2.mem ((c.tc : Thread Cert.Reference30Ideal.nD Cert.Reference30Ideal.τ).loc Cert.Reference30Ideal.main_arg5) = m ((c.tc : Thread Cert.Reference30Ideal.nD Cert.Reference30Ideal.τ).loc Cert.Reference30Ideal.main_arg5)
      ∧ r.2.mem ((c.tc : Thread Cert.Reference30Ideal.nD Cert.Reference30Ideal.τ).loc Cert.Reference30Ideal.main_arg6) = m ((c.tc : Thread Cert.Reference30Ideal.nD Cert.Reference30Ideal.τ).loc Cert.Reference30Ideal.main_arg6)
      ∧ r.2.mem ((c.tc : Thread Cert.Reference30Ideal.nD Cert.Reference30Ideal.τ).loc Cert.Reference30Ideal.main_arg7) = m ((c.tc : Thread Cert.Reference30Ideal.nD Cert.Reference30Ideal.τ).loc Cert.Reference30Ideal.main_arg7)
      ∧ r.2.mem ((c.tc : Thread Cert.Reference30Ideal.nD Cert.Reference30Ideal.τ).loc Cert.Reference30Ideal.main_arg8) = m ((c.tc : Thread Cert.Reference30Ideal.nD Cert.Reference30Ideal.τ).loc Cert.Reference30Ideal.main_arg8)
      ∧ r.2.mem ((c.tc : Thread Cert.Reference30Ideal.nD Cert.Reference30Ideal.τ).loc Cert.Reference30Ideal.main_arg9) = m ((c.tc : Thread Cert.Reference30Ideal.nD Cert.Reference30Ideal.τ).loc Cert.Reference30Ideal.main_arg9))
      ∧ r.2.sem = fun _ => 0)

def quiescent_Kernel31 [hKernel31 : Cert.Kernel31.Facts] [hPre_pair5 : Cert.Pre_pair5.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3)
      ∧ r.2.mem ((c.tc : Thread Cert.Kernel31.nD Cert.Kernel31.τ).loc Cert.Kernel31.main_arg4) = m ((c.tc : Thread Cert.Kernel31.nD Cert.Kernel31.τ).loc Cert.Kernel31.main_arg4)
      ∧ r.2.mem ((c.tc : Thread Cert.Kernel31.nD Cert.Kernel31.τ).loc Cert.Kernel31.main_arg5) = m ((c.tc : Thread Cert.Kernel31.nD Cert.Kernel31.τ).loc Cert.Kernel31.main_arg5)
      ∧ r.2.mem ((c.tc : Thread Cert.Kernel31.nD Cert.Kernel31.τ).loc Cert.Kernel31.main_arg6) = m ((c.tc : Thread Cert.Kernel31.nD Cert.Kernel31.τ).loc Cert.Kernel31.main_arg6)
      ∧ r.2.mem ((c.tc : Thread Cert.Kernel31.nD Cert.Kernel31.τ).loc Cert.Kernel31.main_arg7) = m ((c.tc : Thread Cert.Kernel31.nD Cert.Kernel31.τ).loc Cert.Kernel31.main_arg7)
      ∧ r.2.mem ((c.tc : Thread Cert.Kernel31.nD Cert.Kernel31.τ).loc Cert.Kernel31.main_arg8) = m ((c.tc : Thread Cert.Kernel31.nD Cert.Kernel31.τ).loc Cert.Kernel31.main_arg8)
      ∧ r.2.mem ((c.tc : Thread Cert.Kernel31.nD Cert.Kernel31.τ).loc Cert.Kernel31.main_arg9) = m ((c.tc : Thread Cert.Kernel31.nD Cert.Kernel31.τ).loc Cert.Kernel31.main_arg9))
      ∧ r.2.sem = fun _ => 0)

def quiescent_Kernel31Ideal [hKernel31Ideal : Cert.Kernel31Ideal.Facts] [hPre_pair5 : Cert.Pre_pair5.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
      ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
      ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5)
      ∧ r.2.mem ((c.tc : Thread Cert.Kernel31Ideal.nD Cert.Kernel31Ideal.τ).loc Cert.Kernel31Ideal.main_arg6) = m ((c.tc : Thread Cert.Kernel31Ideal.nD Cert.Kernel31Ideal.τ).loc Cert.Kernel31Ideal.main_arg6)
      ∧ r.2.mem ((c.tc : Thread Cert.Kernel31Ideal.nD Cert.Kernel31Ideal.τ).loc Cert.Kernel31Ideal.main_arg7) = m ((c.tc : Thread Cert.Kernel31Ideal.nD Cert.Kernel31Ideal.τ).loc Cert.Kernel31Ideal.main_arg7)
      ∧ r.2.mem ((c.tc : Thread Cert.Kernel31Ideal.nD Cert.Kernel31Ideal.τ).loc Cert.Kernel31Ideal.main_arg8) = m ((c.tc : Thread Cert.Kernel31Ideal.nD Cert.Kernel31Ideal.τ).loc Cert.Kernel31Ideal.main_arg8)
      ∧ r.2.mem ((c.tc : Thread Cert.Kernel31Ideal.nD Cert.Kernel31Ideal.τ).loc Cert.Kernel31Ideal.main_arg9) = m ((c.tc : Thread Cert.Kernel31Ideal.nD Cert.Kernel31Ideal.τ).loc Cert.Kernel31Ideal.main_arg9))
      ∧ r.2.sem = fun _ => 0)

def quiescent_Reference31Ideal [hReference31Ideal : Cert.Reference31Ideal.Facts] [hPre_pair5 : Cert.Pre_pair5.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3)
      ∧ r.2.mem ((c.tc : Thread Cert.Reference31Ideal.nD Cert.Reference31Ideal.τ).loc Cert.Reference31Ideal.main_arg4) = m ((c.tc : Thread Cert.Reference31Ideal.nD Cert.Reference31Ideal.τ).loc Cert.Reference31Ideal.main_arg4)
      ∧ r.2.mem ((c.tc : Thread Cert.Reference31Ideal.nD Cert.Reference31Ideal.τ).loc Cert.Reference31Ideal.main_arg5) = m ((c.tc : Thread Cert.Reference31Ideal.nD Cert.Reference31Ideal.τ).loc Cert.Reference31Ideal.main_arg5)
      ∧ r.2.mem ((c.tc : Thread Cert.Reference31Ideal.nD Cert.Reference31Ideal.τ).loc Cert.Reference31Ideal.main_arg6) = m ((c.tc : Thread Cert.Reference31Ideal.nD Cert.Reference31Ideal.τ).loc Cert.Reference31Ideal.main_arg6)
      ∧ r.2.mem ((c.tc : Thread Cert.Reference31Ideal.nD Cert.Reference31Ideal.τ).loc Cert.Reference31Ideal.main_arg7) = m ((c.tc : Thread Cert.Reference31Ideal.nD Cert.Reference31Ideal.τ).loc Cert.Reference31Ideal.main_arg7)
      ∧ r.2.mem ((c.tc : Thread Cert.Reference31Ideal.nD Cert.Reference31Ideal.τ).loc Cert.Reference31Ideal.main_arg8) = m ((c.tc : Thread Cert.Reference31Ideal.nD Cert.Reference31Ideal.τ).loc Cert.Reference31Ideal.main_arg8)
      ∧ r.2.mem ((c.tc : Thread Cert.Reference31Ideal.nD Cert.Reference31Ideal.τ).loc Cert.Reference31Ideal.main_arg9) = m ((c.tc : Thread Cert.Reference31Ideal.nD Cert.Reference31Ideal.τ).loc Cert.Reference31Ideal.main_arg9))
      ∧ r.2.sem = fun _ => 0)

def quiescent_Kernel32 [hKernel32 : Cert.Kernel32.Facts] [hPre_pair5 : Cert.Pre_pair5.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3)
      ∧ r.2.mem ((c.tc : Thread Cert.Kernel32.nD Cert.Kernel32.τ).loc Cert.Kernel32.main_arg4) = m ((c.tc : Thread Cert.Kernel32.nD Cert.Kernel32.τ).loc Cert.Kernel32.main_arg4)
      ∧ r.2.mem ((c.tc : Thread Cert.Kernel32.nD Cert.Kernel32.τ).loc Cert.Kernel32.main_arg5) = m ((c.tc : Thread Cert.Kernel32.nD Cert.Kernel32.τ).loc Cert.Kernel32.main_arg5)
      ∧ r.2.mem ((c.tc : Thread Cert.Kernel32.nD Cert.Kernel32.τ).loc Cert.Kernel32.main_arg6) = m ((c.tc : Thread Cert.Kernel32.nD Cert.Kernel32.τ).loc Cert.Kernel32.main_arg6)
      ∧ r.2.mem ((c.tc : Thread Cert.Kernel32.nD Cert.Kernel32.τ).loc Cert.Kernel32.main_arg7) = m ((c.tc : Thread Cert.Kernel32.nD Cert.Kernel32.τ).loc Cert.Kernel32.main_arg7)
      ∧ r.2.mem ((c.tc : Thread Cert.Kernel32.nD Cert.Kernel32.τ).loc Cert.Kernel32.main_arg8) = m ((c.tc : Thread Cert.Kernel32.nD Cert.Kernel32.τ).loc Cert.Kernel32.main_arg8)
      ∧ r.2.mem ((c.tc : Thread Cert.Kernel32.nD Cert.Kernel32.τ).loc Cert.Kernel32.main_arg9) = m ((c.tc : Thread Cert.Kernel32.nD Cert.Kernel32.τ).loc Cert.Kernel32.main_arg9))
      ∧ r.2.sem = fun _ => 0)

def quiescent_Kernel32Ideal [hKernel32Ideal : Cert.Kernel32Ideal.Facts] [hPre_pair5 : Cert.Pre_pair5.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
      ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4)
      ∧ r.2.mem ((c.tc : Thread Cert.Kernel32Ideal.nD Cert.Kernel32Ideal.τ).loc Cert.Kernel32Ideal.main_arg5) = m ((c.tc : Thread Cert.Kernel32Ideal.nD Cert.Kernel32Ideal.τ).loc Cert.Kernel32Ideal.main_arg5)
      ∧ r.2.mem ((c.tc : Thread Cert.Kernel32Ideal.nD Cert.Kernel32Ideal.τ).loc Cert.Kernel32Ideal.main_arg6) = m ((c.tc : Thread Cert.Kernel32Ideal.nD Cert.Kernel32Ideal.τ).loc Cert.Kernel32Ideal.main_arg6)
      ∧ r.2.mem ((c.tc : Thread Cert.Kernel32Ideal.nD Cert.Kernel32Ideal.τ).loc Cert.Kernel32Ideal.main_arg7) = m ((c.tc : Thread Cert.Kernel32Ideal.nD Cert.Kernel32Ideal.τ).loc Cert.Kernel32Ideal.main_arg7)
      ∧ r.2.mem ((c.tc : Thread Cert.Kernel32Ideal.nD Cert.Kernel32Ideal.τ).loc Cert.Kernel32Ideal.main_arg8) = m ((c.tc : Thread Cert.Kernel32Ideal.nD Cert.Kernel32Ideal.τ).loc Cert.Kernel32Ideal.main_arg8)
      ∧ r.2.mem ((c.tc : Thread Cert.Kernel32Ideal.nD Cert.Kernel32Ideal.τ).loc Cert.Kernel32Ideal.main_arg9) = m ((c.tc : Thread Cert.Kernel32Ideal.nD Cert.Kernel32Ideal.τ).loc Cert.Kernel32Ideal.main_arg9))
      ∧ r.2.sem = fun _ => 0)

def quiescent_Reference32Ideal [hReference32Ideal : Cert.Reference32Ideal.Facts] [hPre_pair5 : Cert.Pre_pair5.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3)
      ∧ r.2.mem ((c.tc : Thread Cert.Reference32Ideal.nD Cert.Reference32Ideal.τ).loc Cert.Reference32Ideal.main_arg4) = m ((c.tc : Thread Cert.Reference32Ideal.nD Cert.Reference32Ideal.τ).loc Cert.Reference32Ideal.main_arg4)
      ∧ r.2.mem ((c.tc : Thread Cert.Reference32Ideal.nD Cert.Reference32Ideal.τ).loc Cert.Reference32Ideal.main_arg5) = m ((c.tc : Thread Cert.Reference32Ideal.nD Cert.Reference32Ideal.τ).loc Cert.Reference32Ideal.main_arg5)
      ∧ r.2.mem ((c.tc : Thread Cert.Reference32Ideal.nD Cert.Reference32Ideal.τ).loc Cert.Reference32Ideal.main_arg6) = m ((c.tc : Thread Cert.Reference32Ideal.nD Cert.Reference32Ideal.τ).loc Cert.Reference32Ideal.main_arg6)
      ∧ r.2.mem ((c.tc : Thread Cert.Reference32Ideal.nD Cert.Reference32Ideal.τ).loc Cert.Reference32Ideal.main_arg7) = m ((c.tc : Thread Cert.Reference32Ideal.nD Cert.Reference32Ideal.τ).loc Cert.Reference32Ideal.main_arg7)
      ∧ r.2.mem ((c.tc : Thread Cert.Reference32Ideal.nD Cert.Reference32Ideal.τ).loc Cert.Reference32Ideal.main_arg8) = m ((c.tc : Thread Cert.Reference32Ideal.nD Cert.Reference32Ideal.τ).loc Cert.Reference32Ideal.main_arg8)
      ∧ r.2.mem ((c.tc : Thread Cert.Reference32Ideal.nD Cert.Reference32Ideal.τ).loc Cert.Reference32Ideal.main_arg9) = m ((c.tc : Thread Cert.Reference32Ideal.nD Cert.Reference32Ideal.τ).loc Cert.Reference32Ideal.main_arg9))
      ∧ r.2.sem = fun _ => 0)

def quiescent_Kernel33 [hKernel33 : Cert.Kernel33.Facts] [hPre_pair5 : Cert.Pre_pair5.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3)
      ∧ r.2.mem ((c.tc : Thread Cert.Kernel33.nD Cert.Kernel33.τ).loc Cert.Kernel33.main_arg4) = m ((c.tc : Thread Cert.Kernel33.nD Cert.Kernel33.τ).loc Cert.Kernel33.main_arg4)
      ∧ r.2.mem ((c.tc : Thread Cert.Kernel33.nD Cert.Kernel33.τ).loc Cert.Kernel33.main_arg5) = m ((c.tc : Thread Cert.Kernel33.nD Cert.Kernel33.τ).loc Cert.Kernel33.main_arg5)
      ∧ r.2.mem ((c.tc : Thread Cert.Kernel33.nD Cert.Kernel33.τ).loc Cert.Kernel33.main_arg6) = m ((c.tc : Thread Cert.Kernel33.nD Cert.Kernel33.τ).loc Cert.Kernel33.main_arg6)
      ∧ r.2.mem ((c.tc : Thread Cert.Kernel33.nD Cert.Kernel33.τ).loc Cert.Kernel33.main_arg7) = m ((c.tc : Thread Cert.Kernel33.nD Cert.Kernel33.τ).loc Cert.Kernel33.main_arg7)
      ∧ r.2.mem ((c.tc : Thread Cert.Kernel33.nD Cert.Kernel33.τ).loc Cert.Kernel33.main_arg8) = m ((c.tc : Thread Cert.Kernel33.nD Cert.Kernel33.τ).loc Cert.Kernel33.main_arg8)
      ∧ r.2.mem ((c.tc : Thread Cert.Kernel33.nD Cert.Kernel33.τ).loc Cert.Kernel33.main_arg9) = m ((c.tc : Thread Cert.Kernel33.nD Cert.Kernel33.τ).loc Cert.Kernel33.main_arg9))
      ∧ r.2.sem = fun _ => 0)

def quiescent_Kernel33Ideal [hKernel33Ideal : Cert.Kernel33Ideal.Facts] [hPre_pair5 : Cert.Pre_pair5.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
      ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4)
      ∧ r.2.mem ((c.tc : Thread Cert.Kernel33Ideal.nD Cert.Kernel33Ideal.τ).loc Cert.Kernel33Ideal.main_arg5) = m ((c.tc : Thread Cert.Kernel33Ideal.nD Cert.Kernel33Ideal.τ).loc Cert.Kernel33Ideal.main_arg5)
      ∧ r.2.mem ((c.tc : Thread Cert.Kernel33Ideal.nD Cert.Kernel33Ideal.τ).loc Cert.Kernel33Ideal.main_arg6) = m ((c.tc : Thread Cert.Kernel33Ideal.nD Cert.Kernel33Ideal.τ).loc Cert.Kernel33Ideal.main_arg6)
      ∧ r.2.mem ((c.tc : Thread Cert.Kernel33Ideal.nD Cert.Kernel33Ideal.τ).loc Cert.Kernel33Ideal.main_arg7) = m ((c.tc : Thread Cert.Kernel33Ideal.nD Cert.Kernel33Ideal.τ).loc Cert.Kernel33Ideal.main_arg7)
      ∧ r.2.mem ((c.tc : Thread Cert.Kernel33Ideal.nD Cert.Kernel33Ideal.τ).loc Cert.Kernel33Ideal.main_arg8) = m ((c.tc : Thread Cert.Kernel33Ideal.nD Cert.Kernel33Ideal.τ).loc Cert.Kernel33Ideal.main_arg8)
      ∧ r.2.mem ((c.tc : Thread Cert.Kernel33Ideal.nD Cert.Kernel33Ideal.τ).loc Cert.Kernel33Ideal.main_arg9) = m ((c.tc : Thread Cert.Kernel33Ideal.nD Cert.Kernel33Ideal.τ).loc Cert.Kernel33Ideal.main_arg9))
      ∧ r.2.sem = fun _ => 0)

def quiescent_Reference33Ideal [hReference33Ideal : Cert.Reference33Ideal.Facts] [hPre_pair5 : Cert.Pre_pair5.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3)
      ∧ r.2.mem ((c.tc : Thread Cert.Reference33Ideal.nD Cert.Reference33Ideal.τ).loc Cert.Reference33Ideal.main_arg4) = m ((c.tc : Thread Cert.Reference33Ideal.nD Cert.Reference33Ideal.τ).loc Cert.Reference33Ideal.main_arg4)
      ∧ r.2.mem ((c.tc : Thread Cert.Reference33Ideal.nD Cert.Reference33Ideal.τ).loc Cert.Reference33Ideal.main_arg5) = m ((c.tc : Thread Cert.Reference33Ideal.nD Cert.Reference33Ideal.τ).loc Cert.Reference33Ideal.main_arg5)
      ∧ r.2.mem ((c.tc : Thread Cert.Reference33Ideal.nD Cert.Reference33Ideal.τ).loc Cert.Reference33Ideal.main_arg6) = m ((c.tc : Thread Cert.Reference33Ideal.nD Cert.Reference33Ideal.τ).loc Cert.Reference33Ideal.main_arg6)
      ∧ r.2.mem ((c.tc : Thread Cert.Reference33Ideal.nD Cert.Reference33Ideal.τ).loc Cert.Reference33Ideal.main_arg7) = m ((c.tc : Thread Cert.Reference33Ideal.nD Cert.Reference33Ideal.τ).loc Cert.Reference33Ideal.main_arg7)
      ∧ r.2.mem ((c.tc : Thread Cert.Reference33Ideal.nD Cert.Reference33Ideal.τ).loc Cert.Reference33Ideal.main_arg8) = m ((c.tc : Thread Cert.Reference33Ideal.nD Cert.Reference33Ideal.τ).loc Cert.Reference33Ideal.main_arg8)
      ∧ r.2.mem ((c.tc : Thread Cert.Reference33Ideal.nD Cert.Reference33Ideal.τ).loc Cert.Reference33Ideal.main_arg9) = m ((c.tc : Thread Cert.Reference33Ideal.nD Cert.Reference33Ideal.τ).loc Cert.Reference33Ideal.main_arg9))
      ∧ r.2.sem = fun _ => 0)

def quiescent_Kernel34 [hKernel34 : Cert.Kernel34.Facts] [hPre_pair6 : Cert.Pre_pair6.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3)
      ∧ r.2.mem ((c.tc : Thread Cert.Kernel34.nD Cert.Kernel34.τ).loc Cert.Kernel34.main_arg4) = m ((c.tc : Thread Cert.Kernel34.nD Cert.Kernel34.τ).loc Cert.Kernel34.main_arg4)
      ∧ r.2.mem ((c.tc : Thread Cert.Kernel34.nD Cert.Kernel34.τ).loc Cert.Kernel34.main_arg5) = m ((c.tc : Thread Cert.Kernel34.nD Cert.Kernel34.τ).loc Cert.Kernel34.main_arg5)
      ∧ r.2.mem ((c.tc : Thread Cert.Kernel34.nD Cert.Kernel34.τ).loc Cert.Kernel34.main_arg6) = m ((c.tc : Thread Cert.Kernel34.nD Cert.Kernel34.τ).loc Cert.Kernel34.main_arg6)
      ∧ r.2.mem ((c.tc : Thread Cert.Kernel34.nD Cert.Kernel34.τ).loc Cert.Kernel34.main_arg7) = m ((c.tc : Thread Cert.Kernel34.nD Cert.Kernel34.τ).loc Cert.Kernel34.main_arg7)
      ∧ r.2.mem ((c.tc : Thread Cert.Kernel34.nD Cert.Kernel34.τ).loc Cert.Kernel34.main_arg8) = m ((c.tc : Thread Cert.Kernel34.nD Cert.Kernel34.τ).loc Cert.Kernel34.main_arg8)
      ∧ r.2.mem ((c.tc : Thread Cert.Kernel34.nD Cert.Kernel34.τ).loc Cert.Kernel34.main_arg9) = m ((c.tc : Thread Cert.Kernel34.nD Cert.Kernel34.τ).loc Cert.Kernel34.main_arg9))
      ∧ r.2.sem = fun _ => 0)

def quiescent_Kernel34Ideal [hKernel34Ideal : Cert.Kernel34Ideal.Facts] [hPre_pair6 : Cert.Pre_pair6.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3)
      ∧ r.2.mem ((c.tc : Thread Cert.Kernel34Ideal.nD Cert.Kernel34Ideal.τ).loc Cert.Kernel34Ideal.main_arg4) = m ((c.tc : Thread Cert.Kernel34Ideal.nD Cert.Kernel34Ideal.τ).loc Cert.Kernel34Ideal.main_arg4)
      ∧ r.2.mem ((c.tc : Thread Cert.Kernel34Ideal.nD Cert.Kernel34Ideal.τ).loc Cert.Kernel34Ideal.main_arg5) = m ((c.tc : Thread Cert.Kernel34Ideal.nD Cert.Kernel34Ideal.τ).loc Cert.Kernel34Ideal.main_arg5)
      ∧ r.2.mem ((c.tc : Thread Cert.Kernel34Ideal.nD Cert.Kernel34Ideal.τ).loc Cert.Kernel34Ideal.main_arg6) = m ((c.tc : Thread Cert.Kernel34Ideal.nD Cert.Kernel34Ideal.τ).loc Cert.Kernel34Ideal.main_arg6)
      ∧ r.2.mem ((c.tc : Thread Cert.Kernel34Ideal.nD Cert.Kernel34Ideal.τ).loc Cert.Kernel34Ideal.main_arg7) = m ((c.tc : Thread Cert.Kernel34Ideal.nD Cert.Kernel34Ideal.τ).loc Cert.Kernel34Ideal.main_arg7)
      ∧ r.2.mem ((c.tc : Thread Cert.Kernel34Ideal.nD Cert.Kernel34Ideal.τ).loc Cert.Kernel34Ideal.main_arg8) = m ((c.tc : Thread Cert.Kernel34Ideal.nD Cert.Kernel34Ideal.τ).loc Cert.Kernel34Ideal.main_arg8)
      ∧ r.2.mem ((c.tc : Thread Cert.Kernel34Ideal.nD Cert.Kernel34Ideal.τ).loc Cert.Kernel34Ideal.main_arg9) = m ((c.tc : Thread Cert.Kernel34Ideal.nD Cert.Kernel34Ideal.τ).loc Cert.Kernel34Ideal.main_arg9))
      ∧ r.2.sem = fun _ => 0)

def quiescent_Reference34Ideal [hReference34Ideal : Cert.Reference34Ideal.Facts] [hPre_pair6 : Cert.Pre_pair6.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3)
      ∧ r.2.mem ((c.tc : Thread Cert.Reference34Ideal.nD Cert.Reference34Ideal.τ).loc Cert.Reference34Ideal.main_arg4) = m ((c.tc : Thread Cert.Reference34Ideal.nD Cert.Reference34Ideal.τ).loc Cert.Reference34Ideal.main_arg4)
      ∧ r.2.mem ((c.tc : Thread Cert.Reference34Ideal.nD Cert.Reference34Ideal.τ).loc Cert.Reference34Ideal.main_arg5) = m ((c.tc : Thread Cert.Reference34Ideal.nD Cert.Reference34Ideal.τ).loc Cert.Reference34Ideal.main_arg5)
      ∧ r.2.mem ((c.tc : Thread Cert.Reference34Ideal.nD Cert.Reference34Ideal.τ).loc Cert.Reference34Ideal.main_arg6) = m ((c.tc : Thread Cert.Reference34Ideal.nD Cert.Reference34Ideal.τ).loc Cert.Reference34Ideal.main_arg6)
      ∧ r.2.mem ((c.tc : Thread Cert.Reference34Ideal.nD Cert.Reference34Ideal.τ).loc Cert.Reference34Ideal.main_arg7) = m ((c.tc : Thread Cert.Reference34Ideal.nD Cert.Reference34Ideal.τ).loc Cert.Reference34Ideal.main_arg7)
      ∧ r.2.mem ((c.tc : Thread Cert.Reference34Ideal.nD Cert.Reference34Ideal.τ).loc Cert.Reference34Ideal.main_arg8) = m ((c.tc : Thread Cert.Reference34Ideal.nD Cert.Reference34Ideal.τ).loc Cert.Reference34Ideal.main_arg8)
      ∧ r.2.mem ((c.tc : Thread Cert.Reference34Ideal.nD Cert.Reference34Ideal.τ).loc Cert.Reference34Ideal.main_arg9) = m ((c.tc : Thread Cert.Reference34Ideal.nD Cert.Reference34Ideal.τ).loc Cert.Reference34Ideal.main_arg9))
      ∧ r.2.sem = fun _ => 0)

def quiescent_Kernel35 [hKernel35 : Cert.Kernel35.Facts] [hPre_pair6 : Cert.Pre_pair6.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3)
      ∧ r.2.mem ((c.tc : Thread Cert.Kernel35.nD Cert.Kernel35.τ).loc Cert.Kernel35.main_arg4) = m ((c.tc : Thread Cert.Kernel35.nD Cert.Kernel35.τ).loc Cert.Kernel35.main_arg4)
      ∧ r.2.mem ((c.tc : Thread Cert.Kernel35.nD Cert.Kernel35.τ).loc Cert.Kernel35.main_arg5) = m ((c.tc : Thread Cert.Kernel35.nD Cert.Kernel35.τ).loc Cert.Kernel35.main_arg5)
      ∧ r.2.mem ((c.tc : Thread Cert.Kernel35.nD Cert.Kernel35.τ).loc Cert.Kernel35.main_arg6) = m ((c.tc : Thread Cert.Kernel35.nD Cert.Kernel35.τ).loc Cert.Kernel35.main_arg6)
      ∧ r.2.mem ((c.tc : Thread Cert.Kernel35.nD Cert.Kernel35.τ).loc Cert.Kernel35.main_arg7) = m ((c.tc : Thread Cert.Kernel35.nD Cert.Kernel35.τ).loc Cert.Kernel35.main_arg7)
      ∧ r.2.mem ((c.tc : Thread Cert.Kernel35.nD Cert.Kernel35.τ).loc Cert.Kernel35.main_arg8) = m ((c.tc : Thread Cert.Kernel35.nD Cert.Kernel35.τ).loc Cert.Kernel35.main_arg8)
      ∧ r.2.mem ((c.tc : Thread Cert.Kernel35.nD Cert.Kernel35.τ).loc Cert.Kernel35.main_arg9) = m ((c.tc : Thread Cert.Kernel35.nD Cert.Kernel35.τ).loc Cert.Kernel35.main_arg9))
      ∧ r.2.sem = fun _ => 0)

def quiescent_Kernel35Ideal [hKernel35Ideal : Cert.Kernel35Ideal.Facts] [hPre_pair6 : Cert.Pre_pair6.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3)
      ∧ r.2.mem ((c.tc : Thread Cert.Kernel35Ideal.nD Cert.Kernel35Ideal.τ).loc Cert.Kernel35Ideal.main_arg4) = m ((c.tc : Thread Cert.Kernel35Ideal.nD Cert.Kernel35Ideal.τ).loc Cert.Kernel35Ideal.main_arg4)
      ∧ r.2.mem ((c.tc : Thread Cert.Kernel35Ideal.nD Cert.Kernel35Ideal.τ).loc Cert.Kernel35Ideal.main_arg5) = m ((c.tc : Thread Cert.Kernel35Ideal.nD Cert.Kernel35Ideal.τ).loc Cert.Kernel35Ideal.main_arg5)
      ∧ r.2.mem ((c.tc : Thread Cert.Kernel35Ideal.nD Cert.Kernel35Ideal.τ).loc Cert.Kernel35Ideal.main_arg6) = m ((c.tc : Thread Cert.Kernel35Ideal.nD Cert.Kernel35Ideal.τ).loc Cert.Kernel35Ideal.main_arg6)
      ∧ r.2.mem ((c.tc : Thread Cert.Kernel35Ideal.nD Cert.Kernel35Ideal.τ).loc Cert.Kernel35Ideal.main_arg7) = m ((c.tc : Thread Cert.Kernel35Ideal.nD Cert.Kernel35Ideal.τ).loc Cert.Kernel35Ideal.main_arg7)
      ∧ r.2.mem ((c.tc : Thread Cert.Kernel35Ideal.nD Cert.Kernel35Ideal.τ).loc Cert.Kernel35Ideal.main_arg8) = m ((c.tc : Thread Cert.Kernel35Ideal.nD Cert.Kernel35Ideal.τ).loc Cert.Kernel35Ideal.main_arg8)
      ∧ r.2.mem ((c.tc : Thread Cert.Kernel35Ideal.nD Cert.Kernel35Ideal.τ).loc Cert.Kernel35Ideal.main_arg9) = m ((c.tc : Thread Cert.Kernel35Ideal.nD Cert.Kernel35Ideal.τ).loc Cert.Kernel35Ideal.main_arg9))
      ∧ r.2.sem = fun _ => 0)

def quiescent_Reference35Ideal [hReference35Ideal : Cert.Reference35Ideal.Facts] [hPre_pair6 : Cert.Pre_pair6.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3)
      ∧ r.2.mem ((c.tc : Thread Cert.Reference35Ideal.nD Cert.Reference35Ideal.τ).loc Cert.Reference35Ideal.main_arg4) = m ((c.tc : Thread Cert.Reference35Ideal.nD Cert.Reference35Ideal.τ).loc Cert.Reference35Ideal.main_arg4)
      ∧ r.2.mem ((c.tc : Thread Cert.Reference35Ideal.nD Cert.Reference35Ideal.τ).loc Cert.Reference35Ideal.main_arg5) = m ((c.tc : Thread Cert.Reference35Ideal.nD Cert.Reference35Ideal.τ).loc Cert.Reference35Ideal.main_arg5)
      ∧ r.2.mem ((c.tc : Thread Cert.Reference35Ideal.nD Cert.Reference35Ideal.τ).loc Cert.Reference35Ideal.main_arg6) = m ((c.tc : Thread Cert.Reference35Ideal.nD Cert.Reference35Ideal.τ).loc Cert.Reference35Ideal.main_arg6)
      ∧ r.2.mem ((c.tc : Thread Cert.Reference35Ideal.nD Cert.Reference35Ideal.τ).loc Cert.Reference35Ideal.main_arg7) = m ((c.tc : Thread Cert.Reference35Ideal.nD Cert.Reference35Ideal.τ).loc Cert.Reference35Ideal.main_arg7)
      ∧ r.2.mem ((c.tc : Thread Cert.Reference35Ideal.nD Cert.Reference35Ideal.τ).loc Cert.Reference35Ideal.main_arg8) = m ((c.tc : Thread Cert.Reference35Ideal.nD Cert.Reference35Ideal.τ).loc Cert.Reference35Ideal.main_arg8)
      ∧ r.2.mem ((c.tc : Thread Cert.Reference35Ideal.nD Cert.Reference35Ideal.τ).loc Cert.Reference35Ideal.main_arg9) = m ((c.tc : Thread Cert.Reference35Ideal.nD Cert.Reference35Ideal.τ).loc Cert.Reference35Ideal.main_arg9))
      ∧ r.2.sem = fun _ => 0)

def quiescent_Kernel36 [hKernel36 : Cert.Kernel36.Facts] [hPre_pair6 : Cert.Pre_pair6.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3)
      ∧ r.2.mem ((c.tc : Thread Cert.Kernel36.nD Cert.Kernel36.τ).loc Cert.Kernel36.main_arg4) = m ((c.tc : Thread Cert.Kernel36.nD Cert.Kernel36.τ).loc Cert.Kernel36.main_arg4)
      ∧ r.2.mem ((c.tc : Thread Cert.Kernel36.nD Cert.Kernel36.τ).loc Cert.Kernel36.main_arg5) = m ((c.tc : Thread Cert.Kernel36.nD Cert.Kernel36.τ).loc Cert.Kernel36.main_arg5)
      ∧ r.2.mem ((c.tc : Thread Cert.Kernel36.nD Cert.Kernel36.τ).loc Cert.Kernel36.main_arg6) = m ((c.tc : Thread Cert.Kernel36.nD Cert.Kernel36.τ).loc Cert.Kernel36.main_arg6)
      ∧ r.2.mem ((c.tc : Thread Cert.Kernel36.nD Cert.Kernel36.τ).loc Cert.Kernel36.main_arg7) = m ((c.tc : Thread Cert.Kernel36.nD Cert.Kernel36.τ).loc Cert.Kernel36.main_arg7)
      ∧ r.2.mem ((c.tc : Thread Cert.Kernel36.nD Cert.Kernel36.τ).loc Cert.Kernel36.main_arg8) = m ((c.tc : Thread Cert.Kernel36.nD Cert.Kernel36.τ).loc Cert.Kernel36.main_arg8)
      ∧ r.2.mem ((c.tc : Thread Cert.Kernel36.nD Cert.Kernel36.τ).loc Cert.Kernel36.main_arg9) = m ((c.tc : Thread Cert.Kernel36.nD Cert.Kernel36.τ).loc Cert.Kernel36.main_arg9))
      ∧ r.2.sem = fun _ => 0)

def quiescent_Kernel36Ideal [hKernel36Ideal : Cert.Kernel36Ideal.Facts] [hPre_pair6 : Cert.Pre_pair6.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3)
      ∧ r.2.mem ((c.tc : Thread Cert.Kernel36Ideal.nD Cert.Kernel36Ideal.τ).loc Cert.Kernel36Ideal.main_arg4) = m ((c.tc : Thread Cert.Kernel36Ideal.nD Cert.Kernel36Ideal.τ).loc Cert.Kernel36Ideal.main_arg4)
      ∧ r.2.mem ((c.tc : Thread Cert.Kernel36Ideal.nD Cert.Kernel36Ideal.τ).loc Cert.Kernel36Ideal.main_arg5) = m ((c.tc : Thread Cert.Kernel36Ideal.nD Cert.Kernel36Ideal.τ).loc Cert.Kernel36Ideal.main_arg5)
      ∧ r.2.mem ((c.tc : Thread Cert.Kernel36Ideal.nD Cert.Kernel36Ideal.τ).loc Cert.Kernel36Ideal.main_arg6) = m ((c.tc : Thread Cert.Kernel36Ideal.nD Cert.Kernel36Ideal.τ).loc Cert.Kernel36Ideal.main_arg6)
      ∧ r.2.mem ((c.tc : Thread Cert.Kernel36Ideal.nD Cert.Kernel36Ideal.τ).loc Cert.Kernel36Ideal.main_arg7) = m ((c.tc : Thread Cert.Kernel36Ideal.nD Cert.Kernel36Ideal.τ).loc Cert.Kernel36Ideal.main_arg7)
      ∧ r.2.mem ((c.tc : Thread Cert.Kernel36Ideal.nD Cert.Kernel36Ideal.τ).loc Cert.Kernel36Ideal.main_arg8) = m ((c.tc : Thread Cert.Kernel36Ideal.nD Cert.Kernel36Ideal.τ).loc Cert.Kernel36Ideal.main_arg8)
      ∧ r.2.mem ((c.tc : Thread Cert.Kernel36Ideal.nD Cert.Kernel36Ideal.τ).loc Cert.Kernel36Ideal.main_arg9) = m ((c.tc : Thread Cert.Kernel36Ideal.nD Cert.Kernel36Ideal.τ).loc Cert.Kernel36Ideal.main_arg9))
      ∧ r.2.sem = fun _ => 0)

def quiescent_Reference36Ideal [hReference36Ideal : Cert.Reference36Ideal.Facts] [hPre_pair6 : Cert.Pre_pair6.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3)
      ∧ r.2.mem ((c.tc : Thread Cert.Reference36Ideal.nD Cert.Reference36Ideal.τ).loc Cert.Reference36Ideal.main_arg4) = m ((c.tc : Thread Cert.Reference36Ideal.nD Cert.Reference36Ideal.τ).loc Cert.Reference36Ideal.main_arg4)
      ∧ r.2.mem ((c.tc : Thread Cert.Reference36Ideal.nD Cert.Reference36Ideal.τ).loc Cert.Reference36Ideal.main_arg5) = m ((c.tc : Thread Cert.Reference36Ideal.nD Cert.Reference36Ideal.τ).loc Cert.Reference36Ideal.main_arg5)
      ∧ r.2.mem ((c.tc : Thread Cert.Reference36Ideal.nD Cert.Reference36Ideal.τ).loc Cert.Reference36Ideal.main_arg6) = m ((c.tc : Thread Cert.Reference36Ideal.nD Cert.Reference36Ideal.τ).loc Cert.Reference36Ideal.main_arg6)
      ∧ r.2.mem ((c.tc : Thread Cert.Reference36Ideal.nD Cert.Reference36Ideal.τ).loc Cert.Reference36Ideal.main_arg7) = m ((c.tc : Thread Cert.Reference36Ideal.nD Cert.Reference36Ideal.τ).loc Cert.Reference36Ideal.main_arg7)
      ∧ r.2.mem ((c.tc : Thread Cert.Reference36Ideal.nD Cert.Reference36Ideal.τ).loc Cert.Reference36Ideal.main_arg8) = m ((c.tc : Thread Cert.Reference36Ideal.nD Cert.Reference36Ideal.τ).loc Cert.Reference36Ideal.main_arg8)
      ∧ r.2.mem ((c.tc : Thread Cert.Reference36Ideal.nD Cert.Reference36Ideal.τ).loc Cert.Reference36Ideal.main_arg9) = m ((c.tc : Thread Cert.Reference36Ideal.nD Cert.Reference36Ideal.τ).loc Cert.Reference36Ideal.main_arg9))
      ∧ r.2.sem = fun _ => 0)

def quiescent_Kernel37 [hKernel37 : Cert.Kernel37.Facts] [hPre_pair6 : Cert.Pre_pair6.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3)
      ∧ r.2.mem ((c.tc : Thread Cert.Kernel37.nD Cert.Kernel37.τ).loc Cert.Kernel37.main_arg4) = m ((c.tc : Thread Cert.Kernel37.nD Cert.Kernel37.τ).loc Cert.Kernel37.main_arg4)
      ∧ r.2.mem ((c.tc : Thread Cert.Kernel37.nD Cert.Kernel37.τ).loc Cert.Kernel37.main_arg5) = m ((c.tc : Thread Cert.Kernel37.nD Cert.Kernel37.τ).loc Cert.Kernel37.main_arg5)
      ∧ r.2.mem ((c.tc : Thread Cert.Kernel37.nD Cert.Kernel37.τ).loc Cert.Kernel37.main_arg6) = m ((c.tc : Thread Cert.Kernel37.nD Cert.Kernel37.τ).loc Cert.Kernel37.main_arg6)
      ∧ r.2.mem ((c.tc : Thread Cert.Kernel37.nD Cert.Kernel37.τ).loc Cert.Kernel37.main_arg7) = m ((c.tc : Thread Cert.Kernel37.nD Cert.Kernel37.τ).loc Cert.Kernel37.main_arg7)
      ∧ r.2.mem ((c.tc : Thread Cert.Kernel37.nD Cert.Kernel37.τ).loc Cert.Kernel37.main_arg8) = m ((c.tc : Thread Cert.Kernel37.nD Cert.Kernel37.τ).loc Cert.Kernel37.main_arg8)
      ∧ r.2.mem ((c.tc : Thread Cert.Kernel37.nD Cert.Kernel37.τ).loc Cert.Kernel37.main_arg9) = m ((c.tc : Thread Cert.Kernel37.nD Cert.Kernel37.τ).loc Cert.Kernel37.main_arg9))
      ∧ r.2.sem = fun _ => 0)

def quiescent_Kernel37Ideal [hKernel37Ideal : Cert.Kernel37Ideal.Facts] [hPre_pair6 : Cert.Pre_pair6.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3)
      ∧ r.2.mem ((c.tc : Thread Cert.Kernel37Ideal.nD Cert.Kernel37Ideal.τ).loc Cert.Kernel37Ideal.main_arg4) = m ((c.tc : Thread Cert.Kernel37Ideal.nD Cert.Kernel37Ideal.τ).loc Cert.Kernel37Ideal.main_arg4)
      ∧ r.2.mem ((c.tc : Thread Cert.Kernel37Ideal.nD Cert.Kernel37Ideal.τ).loc Cert.Kernel37Ideal.main_arg5) = m ((c.tc : Thread Cert.Kernel37Ideal.nD Cert.Kernel37Ideal.τ).loc Cert.Kernel37Ideal.main_arg5)
      ∧ r.2.mem ((c.tc : Thread Cert.Kernel37Ideal.nD Cert.Kernel37Ideal.τ).loc Cert.Kernel37Ideal.main_arg6) = m ((c.tc : Thread Cert.Kernel37Ideal.nD Cert.Kernel37Ideal.τ).loc Cert.Kernel37Ideal.main_arg6)
      ∧ r.2.mem ((c.tc : Thread Cert.Kernel37Ideal.nD Cert.Kernel37Ideal.τ).loc Cert.Kernel37Ideal.main_arg7) = m ((c.tc : Thread Cert.Kernel37Ideal.nD Cert.Kernel37Ideal.τ).loc Cert.Kernel37Ideal.main_arg7)
      ∧ r.2.mem ((c.tc : Thread Cert.Kernel37Ideal.nD Cert.Kernel37Ideal.τ).loc Cert.Kernel37Ideal.main_arg8) = m ((c.tc : Thread Cert.Kernel37Ideal.nD Cert.Kernel37Ideal.τ).loc Cert.Kernel37Ideal.main_arg8)
      ∧ r.2.mem ((c.tc : Thread Cert.Kernel37Ideal.nD Cert.Kernel37Ideal.τ).loc Cert.Kernel37Ideal.main_arg9) = m ((c.tc : Thread Cert.Kernel37Ideal.nD Cert.Kernel37Ideal.τ).loc Cert.Kernel37Ideal.main_arg9))
      ∧ r.2.sem = fun _ => 0)

def quiescent_Reference37Ideal [hReference37Ideal : Cert.Reference37Ideal.Facts] [hPre_pair6 : Cert.Pre_pair6.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3)
      ∧ r.2.mem ((c.tc : Thread Cert.Reference37Ideal.nD Cert.Reference37Ideal.τ).loc Cert.Reference37Ideal.main_arg4) = m ((c.tc : Thread Cert.Reference37Ideal.nD Cert.Reference37Ideal.τ).loc Cert.Reference37Ideal.main_arg4)
      ∧ r.2.mem ((c.tc : Thread Cert.Reference37Ideal.nD Cert.Reference37Ideal.τ).loc Cert.Reference37Ideal.main_arg5) = m ((c.tc : Thread Cert.Reference37Ideal.nD Cert.Reference37Ideal.τ).loc Cert.Reference37Ideal.main_arg5)
      ∧ r.2.mem ((c.tc : Thread Cert.Reference37Ideal.nD Cert.Reference37Ideal.τ).loc Cert.Reference37Ideal.main_arg6) = m ((c.tc : Thread Cert.Reference37Ideal.nD Cert.Reference37Ideal.τ).loc Cert.Reference37Ideal.main_arg6)
      ∧ r.2.mem ((c.tc : Thread Cert.Reference37Ideal.nD Cert.Reference37Ideal.τ).loc Cert.Reference37Ideal.main_arg7) = m ((c.tc : Thread Cert.Reference37Ideal.nD Cert.Reference37Ideal.τ).loc Cert.Reference37Ideal.main_arg7)
      ∧ r.2.mem ((c.tc : Thread Cert.Reference37Ideal.nD Cert.Reference37Ideal.τ).loc Cert.Reference37Ideal.main_arg8) = m ((c.tc : Thread Cert.Reference37Ideal.nD Cert.Reference37Ideal.τ).loc Cert.Reference37Ideal.main_arg8)
      ∧ r.2.mem ((c.tc : Thread Cert.Reference37Ideal.nD Cert.Reference37Ideal.τ).loc Cert.Reference37Ideal.main_arg9) = m ((c.tc : Thread Cert.Reference37Ideal.nD Cert.Reference37Ideal.τ).loc Cert.Reference37Ideal.main_arg9))
      ∧ r.2.sem = fun _ => 0)

def quiescent_Kernel38 [hKernel38 : Cert.Kernel38.Facts] [hPre_pair7 : Cert.Pre_pair7.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3)
      ∧ r.2.mem ((c.tc : Thread Cert.Kernel38.nD Cert.Kernel38.τ).loc Cert.Kernel38.main_arg4) = m ((c.tc : Thread Cert.Kernel38.nD Cert.Kernel38.τ).loc Cert.Kernel38.main_arg4)
      ∧ r.2.mem ((c.tc : Thread Cert.Kernel38.nD Cert.Kernel38.τ).loc Cert.Kernel38.main_arg5) = m ((c.tc : Thread Cert.Kernel38.nD Cert.Kernel38.τ).loc Cert.Kernel38.main_arg5)
      ∧ r.2.mem ((c.tc : Thread Cert.Kernel38.nD Cert.Kernel38.τ).loc Cert.Kernel38.main_arg6) = m ((c.tc : Thread Cert.Kernel38.nD Cert.Kernel38.τ).loc Cert.Kernel38.main_arg6)
      ∧ r.2.mem ((c.tc : Thread Cert.Kernel38.nD Cert.Kernel38.τ).loc Cert.Kernel38.main_arg7) = m ((c.tc : Thread Cert.Kernel38.nD Cert.Kernel38.τ).loc Cert.Kernel38.main_arg7)
      ∧ r.2.mem ((c.tc : Thread Cert.Kernel38.nD Cert.Kernel38.τ).loc Cert.Kernel38.main_arg8) = m ((c.tc : Thread Cert.Kernel38.nD Cert.Kernel38.τ).loc Cert.Kernel38.main_arg8)
      ∧ r.2.mem ((c.tc : Thread Cert.Kernel38.nD Cert.Kernel38.τ).loc Cert.Kernel38.main_arg9) = m ((c.tc : Thread Cert.Kernel38.nD Cert.Kernel38.τ).loc Cert.Kernel38.main_arg9))
      ∧ r.2.sem = fun _ => 0)

def quiescent_Kernel38Ideal [hKernel38Ideal : Cert.Kernel38Ideal.Facts] [hPre_pair7 : Cert.Pre_pair7.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3)
      ∧ r.2.mem ((c.tc : Thread Cert.Kernel38Ideal.nD Cert.Kernel38Ideal.τ).loc Cert.Kernel38Ideal.main_arg4) = m ((c.tc : Thread Cert.Kernel38Ideal.nD Cert.Kernel38Ideal.τ).loc Cert.Kernel38Ideal.main_arg4)
      ∧ r.2.mem ((c.tc : Thread Cert.Kernel38Ideal.nD Cert.Kernel38Ideal.τ).loc Cert.Kernel38Ideal.main_arg5) = m ((c.tc : Thread Cert.Kernel38Ideal.nD Cert.Kernel38Ideal.τ).loc Cert.Kernel38Ideal.main_arg5)
      ∧ r.2.mem ((c.tc : Thread Cert.Kernel38Ideal.nD Cert.Kernel38Ideal.τ).loc Cert.Kernel38Ideal.main_arg6) = m ((c.tc : Thread Cert.Kernel38Ideal.nD Cert.Kernel38Ideal.τ).loc Cert.Kernel38Ideal.main_arg6)
      ∧ r.2.mem ((c.tc : Thread Cert.Kernel38Ideal.nD Cert.Kernel38Ideal.τ).loc Cert.Kernel38Ideal.main_arg7) = m ((c.tc : Thread Cert.Kernel38Ideal.nD Cert.Kernel38Ideal.τ).loc Cert.Kernel38Ideal.main_arg7)
      ∧ r.2.mem ((c.tc : Thread Cert.Kernel38Ideal.nD Cert.Kernel38Ideal.τ).loc Cert.Kernel38Ideal.main_arg8) = m ((c.tc : Thread Cert.Kernel38Ideal.nD Cert.Kernel38Ideal.τ).loc Cert.Kernel38Ideal.main_arg8)
      ∧ r.2.mem ((c.tc : Thread Cert.Kernel38Ideal.nD Cert.Kernel38Ideal.τ).loc Cert.Kernel38Ideal.main_arg9) = m ((c.tc : Thread Cert.Kernel38Ideal.nD Cert.Kernel38Ideal.τ).loc Cert.Kernel38Ideal.main_arg9))
      ∧ r.2.sem = fun _ => 0)

def quiescent_Reference38Ideal [hReference38Ideal : Cert.Reference38Ideal.Facts] [hPre_pair7 : Cert.Pre_pair7.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3)
      ∧ r.2.mem ((c.tc : Thread Cert.Reference38Ideal.nD Cert.Reference38Ideal.τ).loc Cert.Reference38Ideal.main_arg4) = m ((c.tc : Thread Cert.Reference38Ideal.nD Cert.Reference38Ideal.τ).loc Cert.Reference38Ideal.main_arg4)
      ∧ r.2.mem ((c.tc : Thread Cert.Reference38Ideal.nD Cert.Reference38Ideal.τ).loc Cert.Reference38Ideal.main_arg5) = m ((c.tc : Thread Cert.Reference38Ideal.nD Cert.Reference38Ideal.τ).loc Cert.Reference38Ideal.main_arg5)
      ∧ r.2.mem ((c.tc : Thread Cert.Reference38Ideal.nD Cert.Reference38Ideal.τ).loc Cert.Reference38Ideal.main_arg6) = m ((c.tc : Thread Cert.Reference38Ideal.nD Cert.Reference38Ideal.τ).loc Cert.Reference38Ideal.main_arg6)
      ∧ r.2.mem ((c.tc : Thread Cert.Reference38Ideal.nD Cert.Reference38Ideal.τ).loc Cert.Reference38Ideal.main_arg7) = m ((c.tc : Thread Cert.Reference38Ideal.nD Cert.Reference38Ideal.τ).loc Cert.Reference38Ideal.main_arg7)
      ∧ r.2.mem ((c.tc : Thread Cert.Reference38Ideal.nD Cert.Reference38Ideal.τ).loc Cert.Reference38Ideal.main_arg8) = m ((c.tc : Thread Cert.Reference38Ideal.nD Cert.Reference38Ideal.τ).loc Cert.Reference38Ideal.main_arg8)
      ∧ r.2.mem ((c.tc : Thread Cert.Reference38Ideal.nD Cert.Reference38Ideal.τ).loc Cert.Reference38Ideal.main_arg9) = m ((c.tc : Thread Cert.Reference38Ideal.nD Cert.Reference38Ideal.τ).loc Cert.Reference38Ideal.main_arg9))
      ∧ r.2.sem = fun _ => 0)

def quiescent_Kernel39 [hKernel39 : Cert.Kernel39.Facts] [hPre_pair7 : Cert.Pre_pair7.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2)
      ∧ r.2.mem ((c.tc : Thread Cert.Kernel39.nD Cert.Kernel39.τ).loc Cert.Kernel39.main_arg3) = m ((c.tc : Thread Cert.Kernel39.nD Cert.Kernel39.τ).loc Cert.Kernel39.main_arg3)
      ∧ r.2.mem ((c.tc : Thread Cert.Kernel39.nD Cert.Kernel39.τ).loc Cert.Kernel39.main_arg4) = m ((c.tc : Thread Cert.Kernel39.nD Cert.Kernel39.τ).loc Cert.Kernel39.main_arg4)
      ∧ r.2.mem ((c.tc : Thread Cert.Kernel39.nD Cert.Kernel39.τ).loc Cert.Kernel39.main_arg5) = m ((c.tc : Thread Cert.Kernel39.nD Cert.Kernel39.τ).loc Cert.Kernel39.main_arg5)
      ∧ r.2.mem ((c.tc : Thread Cert.Kernel39.nD Cert.Kernel39.τ).loc Cert.Kernel39.main_arg6) = m ((c.tc : Thread Cert.Kernel39.nD Cert.Kernel39.τ).loc Cert.Kernel39.main_arg6)
      ∧ r.2.mem ((c.tc : Thread Cert.Kernel39.nD Cert.Kernel39.τ).loc Cert.Kernel39.main_arg7) = m ((c.tc : Thread Cert.Kernel39.nD Cert.Kernel39.τ).loc Cert.Kernel39.main_arg7)
      ∧ r.2.mem ((c.tc : Thread Cert.Kernel39.nD Cert.Kernel39.τ).loc Cert.Kernel39.main_arg8) = m ((c.tc : Thread Cert.Kernel39.nD Cert.Kernel39.τ).loc Cert.Kernel39.main_arg8)
      ∧ r.2.mem ((c.tc : Thread Cert.Kernel39.nD Cert.Kernel39.τ).loc Cert.Kernel39.main_arg9) = m ((c.tc : Thread Cert.Kernel39.nD Cert.Kernel39.τ).loc Cert.Kernel39.main_arg9))
      ∧ r.2.sem = fun _ => 0)

def quiescent_Kernel39Ideal [hKernel39Ideal : Cert.Kernel39Ideal.Facts] [hPre_pair7 : Cert.Pre_pair7.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
      ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3)
      ∧ r.2.mem ((c.tc : Thread Cert.Kernel39Ideal.nD Cert.Kernel39Ideal.τ).loc Cert.Kernel39Ideal.main_arg4) = m ((c.tc : Thread Cert.Kernel39Ideal.nD Cert.Kernel39Ideal.τ).loc Cert.Kernel39Ideal.main_arg4)
      ∧ r.2.mem ((c.tc : Thread Cert.Kernel39Ideal.nD Cert.Kernel39Ideal.τ).loc Cert.Kernel39Ideal.main_arg5) = m ((c.tc : Thread Cert.Kernel39Ideal.nD Cert.Kernel39Ideal.τ).loc Cert.Kernel39Ideal.main_arg5)
      ∧ r.2.mem ((c.tc : Thread Cert.Kernel39Ideal.nD Cert.Kernel39Ideal.τ).loc Cert.Kernel39Ideal.main_arg6) = m ((c.tc : Thread Cert.Kernel39Ideal.nD Cert.Kernel39Ideal.τ).loc Cert.Kernel39Ideal.main_arg6)
      ∧ r.2.mem ((c.tc : Thread Cert.Kernel39Ideal.nD Cert.Kernel39Ideal.τ).loc Cert.Kernel39Ideal.main_arg7) = m ((c.tc : Thread Cert.Kernel39Ideal.nD Cert.Kernel39Ideal.τ).loc Cert.Kernel39Ideal.main_arg7)
      ∧ r.2.mem ((c.tc : Thread Cert.Kernel39Ideal.nD Cert.Kernel39Ideal.τ).loc Cert.Kernel39Ideal.main_arg8) = m ((c.tc : Thread Cert.Kernel39Ideal.nD Cert.Kernel39Ideal.τ).loc Cert.Kernel39Ideal.main_arg8)
      ∧ r.2.mem ((c.tc : Thread Cert.Kernel39Ideal.nD Cert.Kernel39Ideal.τ).loc Cert.Kernel39Ideal.main_arg9) = m ((c.tc : Thread Cert.Kernel39Ideal.nD Cert.Kernel39Ideal.τ).loc Cert.Kernel39Ideal.main_arg9))
      ∧ r.2.sem = fun _ => 0)

def quiescent_Reference39Ideal [hReference39Ideal : Cert.Reference39Ideal.Facts] [hPre_pair7 : Cert.Pre_pair7.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2)
      ∧ r.2.mem ((c.tc : Thread Cert.Reference39Ideal.nD Cert.Reference39Ideal.τ).loc Cert.Reference39Ideal.main_arg3) = m ((c.tc : Thread Cert.Reference39Ideal.nD Cert.Reference39Ideal.τ).loc Cert.Reference39Ideal.main_arg3)
      ∧ r.2.mem ((c.tc : Thread Cert.Reference39Ideal.nD Cert.Reference39Ideal.τ).loc Cert.Reference39Ideal.main_arg4) = m ((c.tc : Thread Cert.Reference39Ideal.nD Cert.Reference39Ideal.τ).loc Cert.Reference39Ideal.main_arg4)
      ∧ r.2.mem ((c.tc : Thread Cert.Reference39Ideal.nD Cert.Reference39Ideal.τ).loc Cert.Reference39Ideal.main_arg5) = m ((c.tc : Thread Cert.Reference39Ideal.nD Cert.Reference39Ideal.τ).loc Cert.Reference39Ideal.main_arg5)
      ∧ r.2.mem ((c.tc : Thread Cert.Reference39Ideal.nD Cert.Reference39Ideal.τ).loc Cert.Reference39Ideal.main_arg6) = m ((c.tc : Thread Cert.Reference39Ideal.nD Cert.Reference39Ideal.τ).loc Cert.Reference39Ideal.main_arg6)
      ∧ r.2.mem ((c.tc : Thread Cert.Reference39Ideal.nD Cert.Reference39Ideal.τ).loc Cert.Reference39Ideal.main_arg7) = m ((c.tc : Thread Cert.Reference39Ideal.nD Cert.Reference39Ideal.τ).loc Cert.Reference39Ideal.main_arg7)
      ∧ r.2.mem ((c.tc : Thread Cert.Reference39Ideal.nD Cert.Reference39Ideal.τ).loc Cert.Reference39Ideal.main_arg8) = m ((c.tc : Thread Cert.Reference39Ideal.nD Cert.Reference39Ideal.τ).loc Cert.Reference39Ideal.main_arg8)
      ∧ r.2.mem ((c.tc : Thread Cert.Reference39Ideal.nD Cert.Reference39Ideal.τ).loc Cert.Reference39Ideal.main_arg9) = m ((c.tc : Thread Cert.Reference39Ideal.nD Cert.Reference39Ideal.τ).loc Cert.Reference39Ideal.main_arg9))
      ∧ r.2.sem = fun _ => 0)

def quiescent_Kernel40 [hKernel40 : Cert.Kernel40.Facts] [hPre_pair7 : Cert.Pre_pair7.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2)
      ∧ r.2.mem ((c.tc : Thread Cert.Kernel40.nD Cert.Kernel40.τ).loc Cert.Kernel40.main_arg3) = m ((c.tc : Thread Cert.Kernel40.nD Cert.Kernel40.τ).loc Cert.Kernel40.main_arg3)
      ∧ r.2.mem ((c.tc : Thread Cert.Kernel40.nD Cert.Kernel40.τ).loc Cert.Kernel40.main_arg4) = m ((c.tc : Thread Cert.Kernel40.nD Cert.Kernel40.τ).loc Cert.Kernel40.main_arg4)
      ∧ r.2.mem ((c.tc : Thread Cert.Kernel40.nD Cert.Kernel40.τ).loc Cert.Kernel40.main_arg5) = m ((c.tc : Thread Cert.Kernel40.nD Cert.Kernel40.τ).loc Cert.Kernel40.main_arg5)
      ∧ r.2.mem ((c.tc : Thread Cert.Kernel40.nD Cert.Kernel40.τ).loc Cert.Kernel40.main_arg6) = m ((c.tc : Thread Cert.Kernel40.nD Cert.Kernel40.τ).loc Cert.Kernel40.main_arg6)
      ∧ r.2.mem ((c.tc : Thread Cert.Kernel40.nD Cert.Kernel40.τ).loc Cert.Kernel40.main_arg7) = m ((c.tc : Thread Cert.Kernel40.nD Cert.Kernel40.τ).loc Cert.Kernel40.main_arg7)
      ∧ r.2.mem ((c.tc : Thread Cert.Kernel40.nD Cert.Kernel40.τ).loc Cert.Kernel40.main_arg8) = m ((c.tc : Thread Cert.Kernel40.nD Cert.Kernel40.τ).loc Cert.Kernel40.main_arg8)
      ∧ r.2.mem ((c.tc : Thread Cert.Kernel40.nD Cert.Kernel40.τ).loc Cert.Kernel40.main_arg9) = m ((c.tc : Thread Cert.Kernel40.nD Cert.Kernel40.τ).loc Cert.Kernel40.main_arg9))
      ∧ r.2.sem = fun _ => 0)

def quiescent_Kernel40Ideal [hKernel40Ideal : Cert.Kernel40Ideal.Facts] [hPre_pair7 : Cert.Pre_pair7.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
      ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3)
      ∧ r.2.mem ((c.tc : Thread Cert.Kernel40Ideal.nD Cert.Kernel40Ideal.τ).loc Cert.Kernel40Ideal.main_arg4) = m ((c.tc : Thread Cert.Kernel40Ideal.nD Cert.Kernel40Ideal.τ).loc Cert.Kernel40Ideal.main_arg4)
      ∧ r.2.mem ((c.tc : Thread Cert.Kernel40Ideal.nD Cert.Kernel40Ideal.τ).loc Cert.Kernel40Ideal.main_arg5) = m ((c.tc : Thread Cert.Kernel40Ideal.nD Cert.Kernel40Ideal.τ).loc Cert.Kernel40Ideal.main_arg5)
      ∧ r.2.mem ((c.tc : Thread Cert.Kernel40Ideal.nD Cert.Kernel40Ideal.τ).loc Cert.Kernel40Ideal.main_arg6) = m ((c.tc : Thread Cert.Kernel40Ideal.nD Cert.Kernel40Ideal.τ).loc Cert.Kernel40Ideal.main_arg6)
      ∧ r.2.mem ((c.tc : Thread Cert.Kernel40Ideal.nD Cert.Kernel40Ideal.τ).loc Cert.Kernel40Ideal.main_arg7) = m ((c.tc : Thread Cert.Kernel40Ideal.nD Cert.Kernel40Ideal.τ).loc Cert.Kernel40Ideal.main_arg7)
      ∧ r.2.mem ((c.tc : Thread Cert.Kernel40Ideal.nD Cert.Kernel40Ideal.τ).loc Cert.Kernel40Ideal.main_arg8) = m ((c.tc : Thread Cert.Kernel40Ideal.nD Cert.Kernel40Ideal.τ).loc Cert.Kernel40Ideal.main_arg8)
      ∧ r.2.mem ((c.tc : Thread Cert.Kernel40Ideal.nD Cert.Kernel40Ideal.τ).loc Cert.Kernel40Ideal.main_arg9) = m ((c.tc : Thread Cert.Kernel40Ideal.nD Cert.Kernel40Ideal.τ).loc Cert.Kernel40Ideal.main_arg9))
      ∧ r.2.sem = fun _ => 0)

def quiescent_Reference40Ideal [hReference40Ideal : Cert.Reference40Ideal.Facts] [hPre_pair7 : Cert.Pre_pair7.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2)
      ∧ r.2.mem ((c.tc : Thread Cert.Reference40Ideal.nD Cert.Reference40Ideal.τ).loc Cert.Reference40Ideal.main_arg3) = m ((c.tc : Thread Cert.Reference40Ideal.nD Cert.Reference40Ideal.τ).loc Cert.Reference40Ideal.main_arg3)
      ∧ r.2.mem ((c.tc : Thread Cert.Reference40Ideal.nD Cert.Reference40Ideal.τ).loc Cert.Reference40Ideal.main_arg4) = m ((c.tc : Thread Cert.Reference40Ideal.nD Cert.Reference40Ideal.τ).loc Cert.Reference40Ideal.main_arg4)
      ∧ r.2.mem ((c.tc : Thread Cert.Reference40Ideal.nD Cert.Reference40Ideal.τ).loc Cert.Reference40Ideal.main_arg5) = m ((c.tc : Thread Cert.Reference40Ideal.nD Cert.Reference40Ideal.τ).loc Cert.Reference40Ideal.main_arg5)
      ∧ r.2.mem ((c.tc : Thread Cert.Reference40Ideal.nD Cert.Reference40Ideal.τ).loc Cert.Reference40Ideal.main_arg6) = m ((c.tc : Thread Cert.Reference40Ideal.nD Cert.Reference40Ideal.τ).loc Cert.Reference40Ideal.main_arg6)
      ∧ r.2.mem ((c.tc : Thread Cert.Reference40Ideal.nD Cert.Reference40Ideal.τ).loc Cert.Reference40Ideal.main_arg7) = m ((c.tc : Thread Cert.Reference40Ideal.nD Cert.Reference40Ideal.τ).loc Cert.Reference40Ideal.main_arg7)
      ∧ r.2.mem ((c.tc : Thread Cert.Reference40Ideal.nD Cert.Reference40Ideal.τ).loc Cert.Reference40Ideal.main_arg8) = m ((c.tc : Thread Cert.Reference40Ideal.nD Cert.Reference40Ideal.τ).loc Cert.Reference40Ideal.main_arg8)
      ∧ r.2.mem ((c.tc : Thread Cert.Reference40Ideal.nD Cert.Reference40Ideal.τ).loc Cert.Reference40Ideal.main_arg9) = m ((c.tc : Thread Cert.Reference40Ideal.nD Cert.Reference40Ideal.τ).loc Cert.Reference40Ideal.main_arg9))
      ∧ r.2.sem = fun _ => 0)

def quiescent_Kernel41 [hKernel41 : Cert.Kernel41.Facts] [hPre_pair7 : Cert.Pre_pair7.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1)
      ∧ r.2.mem ((c.tc : Thread Cert.Kernel41.nD Cert.Kernel41.τ).loc Cert.Kernel41.main_arg2) = m ((c.tc : Thread Cert.Kernel41.nD Cert.Kernel41.τ).loc Cert.Kernel41.main_arg2)
      ∧ r.2.mem ((c.tc : Thread Cert.Kernel41.nD Cert.Kernel41.τ).loc Cert.Kernel41.main_arg3) = m ((c.tc : Thread Cert.Kernel41.nD Cert.Kernel41.τ).loc Cert.Kernel41.main_arg3)
      ∧ r.2.mem ((c.tc : Thread Cert.Kernel41.nD Cert.Kernel41.τ).loc Cert.Kernel41.main_arg4) = m ((c.tc : Thread Cert.Kernel41.nD Cert.Kernel41.τ).loc Cert.Kernel41.main_arg4)
      ∧ r.2.mem ((c.tc : Thread Cert.Kernel41.nD Cert.Kernel41.τ).loc Cert.Kernel41.main_arg5) = m ((c.tc : Thread Cert.Kernel41.nD Cert.Kernel41.τ).loc Cert.Kernel41.main_arg5)
      ∧ r.2.mem ((c.tc : Thread Cert.Kernel41.nD Cert.Kernel41.τ).loc Cert.Kernel41.main_arg6) = m ((c.tc : Thread Cert.Kernel41.nD Cert.Kernel41.τ).loc Cert.Kernel41.main_arg6)
      ∧ r.2.mem ((c.tc : Thread Cert.Kernel41.nD Cert.Kernel41.τ).loc Cert.Kernel41.main_arg7) = m ((c.tc : Thread Cert.Kernel41.nD Cert.Kernel41.τ).loc Cert.Kernel41.main_arg7)
      ∧ r.2.mem ((c.tc : Thread Cert.Kernel41.nD Cert.Kernel41.τ).loc Cert.Kernel41.main_arg8) = m ((c.tc : Thread Cert.Kernel41.nD Cert.Kernel41.τ).loc Cert.Kernel41.main_arg8)
      ∧ r.2.mem ((c.tc : Thread Cert.Kernel41.nD Cert.Kernel41.τ).loc Cert.Kernel41.main_arg9) = m ((c.tc : Thread Cert.Kernel41.nD Cert.Kernel41.τ).loc Cert.Kernel41.main_arg9))
      ∧ r.2.sem = fun _ => 0)

def quiescent_Kernel41Ideal [hKernel41Ideal : Cert.Kernel41Ideal.Facts] [hPre_pair7 : Cert.Pre_pair7.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
      ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
      ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3)
      ∧ r.2.mem ((c.tc : Thread Cert.Kernel41Ideal.nD Cert.Kernel41Ideal.τ).loc Cert.Kernel41Ideal.main_arg4) = m ((c.tc : Thread Cert.Kernel41Ideal.nD Cert.Kernel41Ideal.τ).loc Cert.Kernel41Ideal.main_arg4)
      ∧ r.2.mem ((c.tc : Thread Cert.Kernel41Ideal.nD Cert.Kernel41Ideal.τ).loc Cert.Kernel41Ideal.main_arg5) = m ((c.tc : Thread Cert.Kernel41Ideal.nD Cert.Kernel41Ideal.τ).loc Cert.Kernel41Ideal.main_arg5)
      ∧ r.2.mem ((c.tc : Thread Cert.Kernel41Ideal.nD Cert.Kernel41Ideal.τ).loc Cert.Kernel41Ideal.main_arg6) = m ((c.tc : Thread Cert.Kernel41Ideal.nD Cert.Kernel41Ideal.τ).loc Cert.Kernel41Ideal.main_arg6)
      ∧ r.2.mem ((c.tc : Thread Cert.Kernel41Ideal.nD Cert.Kernel41Ideal.τ).loc Cert.Kernel41Ideal.main_arg7) = m ((c.tc : Thread Cert.Kernel41Ideal.nD Cert.Kernel41Ideal.τ).loc Cert.Kernel41Ideal.main_arg7)
      ∧ r.2.mem ((c.tc : Thread Cert.Kernel41Ideal.nD Cert.Kernel41Ideal.τ).loc Cert.Kernel41Ideal.main_arg8) = m ((c.tc : Thread Cert.Kernel41Ideal.nD Cert.Kernel41Ideal.τ).loc Cert.Kernel41Ideal.main_arg8)
      ∧ r.2.mem ((c.tc : Thread Cert.Kernel41Ideal.nD Cert.Kernel41Ideal.τ).loc Cert.Kernel41Ideal.main_arg9) = m ((c.tc : Thread Cert.Kernel41Ideal.nD Cert.Kernel41Ideal.τ).loc Cert.Kernel41Ideal.main_arg9))
      ∧ r.2.sem = fun _ => 0)

def quiescent_Reference41Ideal [hReference41Ideal : Cert.Reference41Ideal.Facts] [hPre_pair7 : Cert.Pre_pair7.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1)
      ∧ r.2.mem ((c.tc : Thread Cert.Reference41Ideal.nD Cert.Reference41Ideal.τ).loc Cert.Reference41Ideal.main_arg2) = m ((c.tc : Thread Cert.Reference41Ideal.nD Cert.Reference41Ideal.τ).loc Cert.Reference41Ideal.main_arg2)
      ∧ r.2.mem ((c.tc : Thread Cert.Reference41Ideal.nD Cert.Reference41Ideal.τ).loc Cert.Reference41Ideal.main_arg3) = m ((c.tc : Thread Cert.Reference41Ideal.nD Cert.Reference41Ideal.τ).loc Cert.Reference41Ideal.main_arg3)
      ∧ r.2.mem ((c.tc : Thread Cert.Reference41Ideal.nD Cert.Reference41Ideal.τ).loc Cert.Reference41Ideal.main_arg4) = m ((c.tc : Thread Cert.Reference41Ideal.nD Cert.Reference41Ideal.τ).loc Cert.Reference41Ideal.main_arg4)
      ∧ r.2.mem ((c.tc : Thread Cert.Reference41Ideal.nD Cert.Reference41Ideal.τ).loc Cert.Reference41Ideal.main_arg5) = m ((c.tc : Thread Cert.Reference41Ideal.nD Cert.Reference41Ideal.τ).loc Cert.Reference41Ideal.main_arg5)
      ∧ r.2.mem ((c.tc : Thread Cert.Reference41Ideal.nD Cert.Reference41Ideal.τ).loc Cert.Reference41Ideal.main_arg6) = m ((c.tc : Thread Cert.Reference41Ideal.nD Cert.Reference41Ideal.τ).loc Cert.Reference41Ideal.main_arg6)
      ∧ r.2.mem ((c.tc : Thread Cert.Reference41Ideal.nD Cert.Reference41Ideal.τ).loc Cert.Reference41Ideal.main_arg7) = m ((c.tc : Thread Cert.Reference41Ideal.nD Cert.Reference41Ideal.τ).loc Cert.Reference41Ideal.main_arg7)
      ∧ r.2.mem ((c.tc : Thread Cert.Reference41Ideal.nD Cert.Reference41Ideal.τ).loc Cert.Reference41Ideal.main_arg8) = m ((c.tc : Thread Cert.Reference41Ideal.nD Cert.Reference41Ideal.τ).loc Cert.Reference41Ideal.main_arg8)
      ∧ r.2.mem ((c.tc : Thread Cert.Reference41Ideal.nD Cert.Reference41Ideal.τ).loc Cert.Reference41Ideal.main_arg9) = m ((c.tc : Thread Cert.Reference41Ideal.nD Cert.Reference41Ideal.τ).loc Cert.Reference41Ideal.main_arg9))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1))
      ∧ r.2.sem = fun _ => 0)

def quiescent_Kernel43 [hKernel43 : Cert.Kernel43.Facts] : Prop :=
  ∀ (m : (ℓ : Loc Cert.Kernel43.nD Cert.Kernel43.τ Cert.Kernel43.sig) → Buf (Elt Bits) ℓ) (g : Dev Cert.Kernel43.nD → PrngReg), Pre_Kernel43 m →
    θ_run (Cert.Kernel43.defs (F := Bits)) (onTc (τ := Cert.Kernel43.τ) (Cert.Kernel43.main (F := Bits))) ⟨m, fun _ => 0, g⟩ (fun r => (∀ c : Dev Cert.Kernel43.nD,
      r.2.mem ((c.tc : Thread Cert.Kernel43.nD Cert.Kernel43.τ).loc Cert.Kernel43.main_arg0) = m ((c.tc : Thread Cert.Kernel43.nD Cert.Kernel43.τ).loc Cert.Kernel43.main_arg0)
      ∧ r.2.mem ((c.tc : Thread Cert.Kernel43.nD Cert.Kernel43.τ).loc Cert.Kernel43.main_arg1) = m ((c.tc : Thread Cert.Kernel43.nD Cert.Kernel43.τ).loc Cert.Kernel43.main_arg1)
      ∧ r.2.mem ((c.tc : Thread Cert.Kernel43.nD Cert.Kernel43.τ).loc Cert.Kernel43.main_arg2) = m ((c.tc : Thread Cert.Kernel43.nD Cert.Kernel43.τ).loc Cert.Kernel43.main_arg2)
      ∧ r.2.mem ((c.tc : Thread Cert.Kernel43.nD Cert.Kernel43.τ).loc Cert.Kernel43.main_arg3) = m ((c.tc : Thread Cert.Kernel43.nD Cert.Kernel43.τ).loc Cert.Kernel43.main_arg3))
      ∧ r.2.sem = fun _ => 0)

def quiescent_Kernel43Ideal [hKernel43Ideal : Cert.Kernel43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg), Pre_Kernel43Ideal m →
    θ_run (Cert.Kernel43Ideal.defs (F := Ideal)) (onTc (τ := Cert.Kernel43Ideal.τ) (Cert.Kernel43Ideal.main (F := Ideal))) ⟨m, fun _ => 0, g⟩ (fun r => (∀ c : Dev Cert.Kernel43Ideal.nD,
      r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
      ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
      ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2)
      ∧ r.2.mem ((c.tc : Thread Cert.Kernel43Ideal.nD Cert.Kernel43Ideal.τ).loc Cert.Kernel43Ideal.main_arg3) = m ((c.tc : Thread Cert.Kernel43Ideal.nD Cert.Kernel43Ideal.τ).loc Cert.Kernel43Ideal.main_arg3))
      ∧ r.2.sem = fun _ => 0)

def quiescent_Reference43Ideal [hReference43Ideal : Cert.Reference43Ideal.Facts] : Prop :=
  ∀ (m : (ℓ : Loc Cert.Reference43Ideal.nD Cert.Reference43Ideal.τ Cert.Reference43Ideal.sig) → Buf (Elt Ideal) ℓ) (g : Dev Cert.Reference43Ideal.nD → PrngReg), Pre_Reference43Ideal m →
    θ_run (Cert.Reference43Ideal.defs (F := Ideal)) (onTc (τ := Cert.Reference43Ideal.τ) (Cert.Reference43Ideal.main (F := Ideal))) ⟨m, fun _ => 0, g⟩ (fun r => (∀ c : Dev Cert.Reference43Ideal.nD,
      r.2.mem ((c.tc : Thread Cert.Reference43Ideal.nD Cert.Reference43Ideal.τ).loc Cert.Reference43Ideal.main_arg0) = m ((c.tc : Thread Cert.Reference43Ideal.nD Cert.Reference43Ideal.τ).loc Cert.Reference43Ideal.main_arg0)
      ∧ r.2.mem ((c.tc : Thread Cert.Reference43Ideal.nD Cert.Reference43Ideal.τ).loc Cert.Reference43Ideal.main_arg1) = m ((c.tc : Thread Cert.Reference43Ideal.nD Cert.Reference43Ideal.τ).loc Cert.Reference43Ideal.main_arg1)
      ∧ r.2.mem ((c.tc : Thread Cert.Reference43Ideal.nD Cert.Reference43Ideal.τ).loc Cert.Reference43Ideal.main_arg2) = m ((c.tc : Thread Cert.Reference43Ideal.nD Cert.Reference43Ideal.τ).loc Cert.Reference43Ideal.main_arg2)
      ∧ r.2.mem ((c.tc : Thread Cert.Reference43Ideal.nD Cert.Reference43Ideal.τ).loc Cert.Reference43Ideal.main_arg3) = m ((c.tc : Thread Cert.Reference43Ideal.nD Cert.Reference43Ideal.τ).loc Cert.Reference43Ideal.main_arg3))
      ∧ r.2.sem = fun _ => 0)

def quiescent_Kernel44 [hKernel44 : Cert.Kernel44.Facts] : Prop :=
  ∀ (m : (ℓ : Loc Cert.Kernel44.nD Cert.Kernel44.τ Cert.Kernel44.sig) → Buf (Elt Bits) ℓ) (g : Dev Cert.Kernel44.nD → PrngReg), Pre_Kernel44 m →
    θ_run (Cert.Kernel44.defs (F := Bits)) (onTc (τ := Cert.Kernel44.τ) (Cert.Kernel44.main (F := Bits))) ⟨m, fun _ => 0, g⟩ (fun r => (∀ c : Dev Cert.Kernel44.nD,
      r.2.mem ((c.tc : Thread Cert.Kernel44.nD Cert.Kernel44.τ).loc Cert.Kernel44.main_arg0) = m ((c.tc : Thread Cert.Kernel44.nD Cert.Kernel44.τ).loc Cert.Kernel44.main_arg0)
      ∧ r.2.mem ((c.tc : Thread Cert.Kernel44.nD Cert.Kernel44.τ).loc Cert.Kernel44.main_arg1) = m ((c.tc : Thread Cert.Kernel44.nD Cert.Kernel44.τ).loc Cert.Kernel44.main_arg1)
      ∧ r.2.mem ((c.tc : Thread Cert.Kernel44.nD Cert.Kernel44.τ).loc Cert.Kernel44.main_arg2) = m ((c.tc : Thread Cert.Kernel44.nD Cert.Kernel44.τ).loc Cert.Kernel44.main_arg2)
      ∧ r.2.mem ((c.tc : Thread Cert.Kernel44.nD Cert.Kernel44.τ).loc Cert.Kernel44.main_arg3) = m ((c.tc : Thread Cert.Kernel44.nD Cert.Kernel44.τ).loc Cert.Kernel44.main_arg3)
      ∧ r.2.mem ((c.tc : Thread Cert.Kernel44.nD Cert.Kernel44.τ).loc Cert.Kernel44.main_arg4) = m ((c.tc : Thread Cert.Kernel44.nD Cert.Kernel44.τ).loc Cert.Kernel44.main_arg4))
      ∧ r.2.sem = fun _ => 0)

def quiescent_Kernel44Ideal [hKernel44Ideal : Cert.Kernel44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg), Pre_Kernel44Ideal m →
    θ_run (Cert.Kernel44Ideal.defs (F := Ideal)) (onTc (τ := Cert.Kernel44Ideal.τ) (Cert.Kernel44Ideal.main (F := Ideal))) ⟨m, fun _ => 0, g⟩ (fun r => (∀ c : Dev Cert.Kernel44Ideal.nD,
      r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
      ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1)
      ∧ r.2.mem ((c.tc : Thread Cert.Kernel44Ideal.nD Cert.Kernel44Ideal.τ).loc Cert.Kernel44Ideal.main_arg2) = m ((c.tc : Thread Cert.Kernel44Ideal.nD Cert.Kernel44Ideal.τ).loc Cert.Kernel44Ideal.main_arg2)
      ∧ r.2.mem ((c.tc : Thread Cert.Kernel44Ideal.nD Cert.Kernel44Ideal.τ).loc Cert.Kernel44Ideal.main_arg3) = m ((c.tc : Thread Cert.Kernel44Ideal.nD Cert.Kernel44Ideal.τ).loc Cert.Kernel44Ideal.main_arg3)
      ∧ r.2.mem ((c.tc : Thread Cert.Kernel44Ideal.nD Cert.Kernel44Ideal.τ).loc Cert.Kernel44Ideal.main_arg4) = m ((c.tc : Thread Cert.Kernel44Ideal.nD Cert.Kernel44Ideal.τ).loc Cert.Kernel44Ideal.main_arg4))
      ∧ r.2.sem = fun _ => 0)

def quiescent_Reference44Ideal [hReference44Ideal : Cert.Reference44Ideal.Facts] : Prop :=
  ∀ (m : (ℓ : Loc Cert.Reference44Ideal.nD Cert.Reference44Ideal.τ Cert.Reference44Ideal.sig) → Buf (Elt Ideal) ℓ) (g : Dev Cert.Reference44Ideal.nD → PrngReg), Pre_Reference44Ideal m →
    θ_run (Cert.Reference44Ideal.defs (F := Ideal)) (onTc (τ := Cert.Reference44Ideal.τ) (Cert.Reference44Ideal.main (F := Ideal))) ⟨m, fun _ => 0, g⟩ (fun r => (∀ c : Dev Cert.Reference44Ideal.nD,
      r.2.mem ((c.tc : Thread Cert.Reference44Ideal.nD Cert.Reference44Ideal.τ).loc Cert.Reference44Ideal.main_arg0) = m ((c.tc : Thread Cert.Reference44Ideal.nD Cert.Reference44Ideal.τ).loc Cert.Reference44Ideal.main_arg0)
      ∧ r.2.mem ((c.tc : Thread Cert.Reference44Ideal.nD Cert.Reference44Ideal.τ).loc Cert.Reference44Ideal.main_arg1) = m ((c.tc : Thread Cert.Reference44Ideal.nD Cert.Reference44Ideal.τ).loc Cert.Reference44Ideal.main_arg1)
      ∧ r.2.mem ((c.tc : Thread Cert.Reference44Ideal.nD Cert.Reference44Ideal.τ).loc Cert.Reference44Ideal.main_arg2) = m ((c.tc : Thread Cert.Reference44Ideal.nD Cert.Reference44Ideal.τ).loc Cert.Reference44Ideal.main_arg2)
      ∧ r.2.mem ((c.tc : Thread Cert.Reference44Ideal.nD Cert.Reference44Ideal.τ).loc Cert.Reference44Ideal.main_arg3) = m ((c.tc : Thread Cert.Reference44Ideal.nD Cert.Reference44Ideal.τ).loc Cert.Reference44Ideal.main_arg3)
      ∧ r.2.mem ((c.tc : Thread Cert.Reference44Ideal.nD Cert.Reference44Ideal.τ).loc Cert.Reference44Ideal.main_arg4) = m ((c.tc : Thread Cert.Reference44Ideal.nD Cert.Reference44Ideal.τ).loc Cert.Reference44Ideal.main_arg4))
      ∧ r.2.sem = fun _ => 0)

def quiescent_Kernel45 [hKernel45 : Cert.Kernel45.Facts] : Prop :=
  ∀ (m : (ℓ : Loc Cert.Kernel45.nD Cert.Kernel45.τ Cert.Kernel45.sig) → Buf (Elt Bits) ℓ) (g : Dev Cert.Kernel45.nD → PrngReg), Pre_Kernel45 m →
    θ_run (Cert.Kernel45.defs (F := Bits)) (onTc (τ := Cert.Kernel45.τ) (Cert.Kernel45.main (F := Bits))) ⟨m, fun _ => 0, g⟩ (fun r => (∀ c : Dev Cert.Kernel45.nD,
      r.2.mem ((c.tc : Thread Cert.Kernel45.nD Cert.Kernel45.τ).loc Cert.Kernel45.main_arg0) = m ((c.tc : Thread Cert.Kernel45.nD Cert.Kernel45.τ).loc Cert.Kernel45.main_arg0)
      ∧ r.2.mem ((c.tc : Thread Cert.Kernel45.nD Cert.Kernel45.τ).loc Cert.Kernel45.main_arg1) = m ((c.tc : Thread Cert.Kernel45.nD Cert.Kernel45.τ).loc Cert.Kernel45.main_arg1))
      ∧ r.2.sem = fun _ => 0)

def quiescent_Kernel45Ideal [hKernel45Ideal : Cert.Kernel45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg), Pre_Kernel45Ideal m →
    θ_run (Cert.Kernel45Ideal.defs (F := Ideal)) (onTc (τ := Cert.Kernel45Ideal.τ) (Cert.Kernel45Ideal.main (F := Ideal))) ⟨m, fun _ => 0, g⟩ (fun r => (∀ c : Dev Cert.Kernel45Ideal.nD,
      r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
      ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1))
      ∧ r.2.sem = fun _ => 0)

def quiescent_Reference45Ideal [hReference45Ideal : Cert.Reference45Ideal.Facts] : Prop :=
  ∀ (m : (ℓ : Loc Cert.Reference45Ideal.nD Cert.Reference45Ideal.τ Cert.Reference45Ideal.sig) → Buf (Elt Ideal) ℓ) (g : Dev Cert.Reference45Ideal.nD → PrngReg), Pre_Reference45Ideal m →
    θ_run (Cert.Reference45Ideal.defs (F := Ideal)) (onTc (τ := Cert.Reference45Ideal.τ) (Cert.Reference45Ideal.main (F := Ideal))) ⟨m, fun _ => 0, g⟩ (fun r => (∀ c : Dev Cert.Reference45Ideal.nD,
      r.2.mem ((c.tc : Thread Cert.Reference45Ideal.nD Cert.Reference45Ideal.τ).loc Cert.Reference45Ideal.main_arg0) = m ((c.tc : Thread Cert.Reference45Ideal.nD Cert.Reference45Ideal.τ).loc Cert.Reference45Ideal.main_arg0)
      ∧ r.2.mem ((c.tc : Thread Cert.Reference45Ideal.nD Cert.Reference45Ideal.τ).loc Cert.Reference45Ideal.main_arg1) = m ((c.tc : Thread Cert.Reference45Ideal.nD Cert.Reference45Ideal.τ).loc Cert.Reference45Ideal.main_arg1))
      ∧ r.2.sem = fun _ => 0)

def quiescent_Kernel46 [hKernel46 : Cert.Kernel46.Facts] : Prop :=
  ∀ (m : (ℓ : Loc Cert.Kernel46.nD Cert.Kernel46.τ Cert.Kernel46.sig) → Buf (Elt Bits) ℓ) (g : Dev Cert.Kernel46.nD → PrngReg), Pre_Kernel46 m →
    θ_run (Cert.Kernel46.defs (F := Bits)) (onTc (τ := Cert.Kernel46.τ) (Cert.Kernel46.main (F := Bits))) ⟨m, fun _ => 0, g⟩ (fun r => (∀ c : Dev Cert.Kernel46.nD,
      r.2.mem ((c.tc : Thread Cert.Kernel46.nD Cert.Kernel46.τ).loc Cert.Kernel46.main_arg0) = m ((c.tc : Thread Cert.Kernel46.nD Cert.Kernel46.τ).loc Cert.Kernel46.main_arg0)
      ∧ r.2.mem ((c.tc : Thread Cert.Kernel46.nD Cert.Kernel46.τ).loc Cert.Kernel46.main_arg1) = m ((c.tc : Thread Cert.Kernel46.nD Cert.Kernel46.τ).loc Cert.Kernel46.main_arg1))
      ∧ r.2.sem = fun _ => 0)

def quiescent_Kernel46Ideal [hKernel46Ideal : Cert.Kernel46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg), Pre_Kernel46Ideal m →
    θ_run (Cert.Kernel46Ideal.defs (F := Ideal)) (onTc (τ := Cert.Kernel46Ideal.τ) (Cert.Kernel46Ideal.main (F := Ideal))) ⟨m, fun _ => 0, g⟩ (fun r => (∀ c : Dev Cert.Kernel46Ideal.nD,
      r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
      ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1))
      ∧ r.2.sem = fun _ => 0)

def quiescent_Reference46Ideal [hReference46Ideal : Cert.Reference46Ideal.Facts] : Prop :=
  ∀ (m : (ℓ : Loc Cert.Reference46Ideal.nD Cert.Reference46Ideal.τ Cert.Reference46Ideal.sig) → Buf (Elt Ideal) ℓ) (g : Dev Cert.Reference46Ideal.nD → PrngReg), Pre_Reference46Ideal m →
    θ_run (Cert.Reference46Ideal.defs (F := Ideal)) (onTc (τ := Cert.Reference46Ideal.τ) (Cert.Reference46Ideal.main (F := Ideal))) ⟨m, fun _ => 0, g⟩ (fun r => (∀ c : Dev Cert.Reference46Ideal.nD,
      r.2.mem ((c.tc : Thread Cert.Reference46Ideal.nD Cert.Reference46Ideal.τ).loc Cert.Reference46Ideal.main_arg0) = m ((c.tc : Thread Cert.Reference46Ideal.nD Cert.Reference46Ideal.τ).loc Cert.Reference46Ideal.main_arg0)
      ∧ r.2.mem ((c.tc : Thread Cert.Reference46Ideal.nD Cert.Reference46Ideal.τ).loc Cert.Reference46Ideal.main_arg1) = m ((c.tc : Thread Cert.Reference46Ideal.nD Cert.Reference46Ideal.τ).loc Cert.Reference46Ideal.main_arg1))
      ∧ r.2.sem = fun _ => 0)

def quiescent_Kernel47 [hKernel47 : Cert.Kernel47.Facts] : Prop :=
  ∀ (m : (ℓ : Loc Cert.Kernel47.nD Cert.Kernel47.τ Cert.Kernel47.sig) → Buf (Elt Bits) ℓ) (g : Dev Cert.Kernel47.nD → PrngReg), Pre_Kernel47 m →
    θ_run (Cert.Kernel47.defs (F := Bits)) (onTc (τ := Cert.Kernel47.τ) (Cert.Kernel47.main (F := Bits))) ⟨m, fun _ => 0, g⟩ (fun r => (∀ c : Dev Cert.Kernel47.nD,
      r.2.mem ((c.tc : Thread Cert.Kernel47.nD Cert.Kernel47.τ).loc Cert.Kernel47.main_arg0) = m ((c.tc : Thread Cert.Kernel47.nD Cert.Kernel47.τ).loc Cert.Kernel47.main_arg0)
      ∧ r.2.mem ((c.tc : Thread Cert.Kernel47.nD Cert.Kernel47.τ).loc Cert.Kernel47.main_arg1) = m ((c.tc : Thread Cert.Kernel47.nD Cert.Kernel47.τ).loc Cert.Kernel47.main_arg1))
      ∧ r.2.sem = fun _ => 0)

def quiescent_Kernel47Ideal [hKernel47Ideal : Cert.Kernel47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg), Pre_Kernel47Ideal m →
    θ_run (Cert.Kernel47Ideal.defs (F := Ideal)) (onTc (τ := Cert.Kernel47Ideal.τ) (Cert.Kernel47Ideal.main (F := Ideal))) ⟨m, fun _ => 0, g⟩ (fun r => (∀ c : Dev Cert.Kernel47Ideal.nD,
      r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0)
      ∧ r.2.mem ((c.tc : Thread Cert.Kernel47Ideal.nD Cert.Kernel47Ideal.τ).loc Cert.Kernel47Ideal.main_arg1) = m ((c.tc : Thread Cert.Kernel47Ideal.nD Cert.Kernel47Ideal.τ).loc Cert.Kernel47Ideal.main_arg1))
      ∧ r.2.sem = fun _ => 0)

def quiescent_Reference47Ideal [hReference47Ideal : Cert.Reference47Ideal.Facts] : Prop :=
  ∀ (m : (ℓ : Loc Cert.Reference47Ideal.nD Cert.Reference47Ideal.τ Cert.Reference47Ideal.sig) → Buf (Elt Ideal) ℓ) (g : Dev Cert.Reference47Ideal.nD → PrngReg), Pre_Reference47Ideal m →
    θ_run (Cert.Reference47Ideal.defs (F := Ideal)) (onTc (τ := Cert.Reference47Ideal.τ) (Cert.Reference47Ideal.main (F := Ideal))) ⟨m, fun _ => 0, g⟩ (fun r => (∀ c : Dev Cert.Reference47Ideal.nD,
      r.2.mem ((c.tc : Thread Cert.Reference47Ideal.nD Cert.Reference47Ideal.τ).loc Cert.Reference47Ideal.main_arg0) = m ((c.tc : Thread Cert.Reference47Ideal.nD Cert.Reference47Ideal.τ).loc Cert.Reference47Ideal.main_arg0)
      ∧ r.2.mem ((c.tc : Thread Cert.Reference47Ideal.nD Cert.Reference47Ideal.τ).loc Cert.Reference47Ideal.main_arg1) = m ((c.tc : Thread Cert.Reference47Ideal.nD Cert.Reference47Ideal.τ).loc Cert.Reference47Ideal.main_arg1))
      ∧ r.2.sem = fun _ => 0)

def quiescent_Kernel48 [hKernel48 : Cert.Kernel48.Facts] : Prop :=
  ∀ (m : (ℓ : Loc Cert.Kernel48.nD Cert.Kernel48.τ Cert.Kernel48.sig) → Buf (Elt Bits) ℓ) (g : Dev Cert.Kernel48.nD → PrngReg), Pre_Kernel48 m →
    θ_run (Cert.Kernel48.defs (F := Bits)) (onTc (τ := Cert.Kernel48.τ) (Cert.Kernel48.main (F := Bits))) ⟨m, fun _ => 0, g⟩ (fun r => (∀ c : Dev Cert.Kernel48.nD,
      r.2.mem ((c.tc : Thread Cert.Kernel48.nD Cert.Kernel48.τ).loc Cert.Kernel48.main_arg0) = m ((c.tc : Thread Cert.Kernel48.nD Cert.Kernel48.τ).loc Cert.Kernel48.main_arg0)
      ∧ r.2.mem ((c.tc : Thread Cert.Kernel48.nD Cert.Kernel48.τ).loc Cert.Kernel48.main_arg1) = m ((c.tc : Thread Cert.Kernel48.nD Cert.Kernel48.τ).loc Cert.Kernel48.main_arg1)
      ∧ r.2.mem ((c.tc : Thread Cert.Kernel48.nD Cert.Kernel48.τ).loc Cert.Kernel48.main_arg2) = m ((c.tc : Thread Cert.Kernel48.nD Cert.Kernel48.τ).loc Cert.Kernel48.main_arg2))
      ∧ r.2.sem = fun _ => 0)

def quiescent_Kernel48Ideal [hKernel48Ideal : Cert.Kernel48Ideal.Facts] : Prop :=
  ∀ (m : (ℓ : Loc Cert.Kernel48Ideal.nD Cert.Kernel48Ideal.τ Cert.Kernel48Ideal.sig) → Buf (Elt Ideal) ℓ) (g : Dev Cert.Kernel48Ideal.nD → PrngReg), Pre_Kernel48Ideal m →
    θ_run (Cert.Kernel48Ideal.defs (F := Ideal)) (onTc (τ := Cert.Kernel48Ideal.τ) (Cert.Kernel48Ideal.main (F := Ideal))) ⟨m, fun _ => 0, g⟩ (fun r => (∀ c : Dev Cert.Kernel48Ideal.nD,
      r.2.mem ((c.tc : Thread Cert.Kernel48Ideal.nD Cert.Kernel48Ideal.τ).loc Cert.Kernel48Ideal.main_arg0) = m ((c.tc : Thread Cert.Kernel48Ideal.nD Cert.Kernel48Ideal.τ).loc Cert.Kernel48Ideal.main_arg0)
      ∧ r.2.mem ((c.tc : Thread Cert.Kernel48Ideal.nD Cert.Kernel48Ideal.τ).loc Cert.Kernel48Ideal.main_arg1) = m ((c.tc : Thread Cert.Kernel48Ideal.nD Cert.Kernel48Ideal.τ).loc Cert.Kernel48Ideal.main_arg1)
      ∧ r.2.mem ((c.tc : Thread Cert.Kernel48Ideal.nD Cert.Kernel48Ideal.τ).loc Cert.Kernel48Ideal.main_arg2) = m ((c.tc : Thread Cert.Kernel48Ideal.nD Cert.Kernel48Ideal.τ).loc Cert.Kernel48Ideal.main_arg2))
      ∧ r.2.sem = fun _ => 0)

def quiescent_Reference48Ideal [hReference48Ideal : Cert.Reference48Ideal.Facts] : Prop :=
  ∀ (m : (ℓ : Loc Cert.Reference48Ideal.nD Cert.Reference48Ideal.τ Cert.Reference48Ideal.sig) → Buf (Elt Ideal) ℓ) (g : Dev Cert.Reference48Ideal.nD → PrngReg), Pre_Reference48Ideal m →
    θ_run (Cert.Reference48Ideal.defs (F := Ideal)) (onTc (τ := Cert.Reference48Ideal.τ) (Cert.Reference48Ideal.main (F := Ideal))) ⟨m, fun _ => 0, g⟩ (fun r => (∀ c : Dev Cert.Reference48Ideal.nD,
      r.2.mem ((c.tc : Thread Cert.Reference48Ideal.nD Cert.Reference48Ideal.τ).loc Cert.Reference48Ideal.main_arg0) = m ((c.tc : Thread Cert.Reference48Ideal.nD Cert.Reference48Ideal.τ).loc Cert.Reference48Ideal.main_arg0)
      ∧ r.2.mem ((c.tc : Thread Cert.Reference48Ideal.nD Cert.Reference48Ideal.τ).loc Cert.Reference48Ideal.main_arg1) = m ((c.tc : Thread Cert.Reference48Ideal.nD Cert.Reference48Ideal.τ).loc Cert.Reference48Ideal.main_arg1)
      ∧ r.2.mem ((c.tc : Thread Cert.Reference48Ideal.nD Cert.Reference48Ideal.τ).loc Cert.Reference48Ideal.main_arg2) = m ((c.tc : Thread Cert.Reference48Ideal.nD Cert.Reference48Ideal.τ).loc Cert.Reference48Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13_11) = v0 c
          ∧ r.2.mem ((c.tc : Thread Cert.ReferenceIdeal.nD Cert.ReferenceIdeal.τ).loc Cert.ReferenceIdeal.main_v13_12) = v1 c
          ∧ r.2.mem ((c.tc : Thread Cert.ReferenceIdeal.nD Cert.ReferenceIdeal.τ).loc Cert.ReferenceIdeal.main_v13_7) = v2 c
          ∧ r.2.mem ((c.tc : Thread Cert.ReferenceIdeal.nD Cert.ReferenceIdeal.τ).loc Cert.ReferenceIdeal.main_v13_8) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3_7) = v0 c
          ∧ r.2.mem ((c.tc : Thread Cert.Reference2Ideal.nD Cert.Reference2Ideal.τ).loc Cert.Reference2Ideal.main_v3_8) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v11) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_v8) = v1 c
          ∧ r.2.mem ((c.tc : Thread Cert.Reference7Ideal.nD Cert.Reference7Ideal.τ).loc Cert.Reference7Ideal.main_v11) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v29) = v0 c
          ∧ r.2.mem ((c.tc : Thread Cert.Reference8Ideal.nD Cert.Reference8Ideal.τ).loc Cert.Reference8Ideal.main_v30) = v1 c
          ∧ r.2.mem ((c.tc : Thread Cert.Reference8Ideal.nD Cert.Reference8Ideal.τ).loc Cert.Reference8Ideal.main_v34) = v2 c
          ∧ r.2.mem ((c.tc : Thread Cert.Reference8Ideal.nD Cert.Reference8Ideal.τ).loc Cert.Reference8Ideal.main_v21) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v14) = v0 c
          ∧ r.2.mem ((c.tc : Thread Cert.Reference12Ideal.nD Cert.Reference12Ideal.τ).loc Cert.Reference12Ideal.main_v15) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_v24) = v1 c
          ∧ r.2.mem ((c.tc : Thread Cert.Reference13Ideal.nD Cert.Reference13Ideal.τ).loc Cert.Reference13Ideal.main_v5) = v2 c
          ∧ r.2.mem ((c.tc : Thread Cert.Reference13Ideal.nD Cert.Reference13Ideal.τ).loc Cert.Reference13Ideal.main_v11) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] [hPre_pair : Cert.Pre_pair.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)
      ∧ m' ((c.tc : Thread Cert.Reference14Ideal.nD Cert.Reference14Ideal.τ).loc Cert.Reference14Ideal.main_arg8) = m ((c.tc : Thread Cert.Kernel14Ideal.nD Cert.Kernel14Ideal.τ).loc Cert.Kernel14Ideal.main_arg8)
      ∧ m' ((c.tc : Thread Cert.Reference14Ideal.nD Cert.Reference14Ideal.τ).loc Cert.Reference14Ideal.main_arg9) = m ((c.tc : Thread Cert.Kernel14Ideal.nD Cert.Kernel14Ideal.τ).loc Cert.Kernel14Ideal.main_arg9)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
          ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
          ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v39) = v0 c
          ∧ r.2.mem ((c.tc : Thread Cert.Reference14Ideal.nD Cert.Reference14Ideal.τ).loc Cert.Reference14Ideal.main_v40) = v1 c
          ∧ r.2.mem ((c.tc : Thread Cert.Reference14Ideal.nD Cert.Reference14Ideal.τ).loc Cert.Reference14Ideal.main_v41) = v2 c
          ∧ r.2.mem ((c.tc : Thread Cert.Reference14Ideal.nD Cert.Reference14Ideal.τ).loc Cert.Reference14Ideal.main_v42) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7)
          ∧ r.2.mem ((c.tc : Thread Cert.Reference14Ideal.nD Cert.Reference14Ideal.τ).loc Cert.Reference14Ideal.main_arg8) = m' ((c.tc : Thread Cert.Reference14Ideal.nD Cert.Reference14Ideal.τ).loc Cert.Reference14Ideal.main_arg8)
          ∧ r.2.mem ((c.tc : Thread Cert.Reference14Ideal.nD Cert.Reference14Ideal.τ).loc Cert.Reference14Ideal.main_arg9) = m' ((c.tc : Thread Cert.Reference14Ideal.nD Cert.Reference14Ideal.τ).loc Cert.Reference14Ideal.main_arg9))

def preserves_Kernel15_Kernel15Ideal : Prop :=
  True

def algebraic_Kernel15Ideal_Reference15Ideal [hKernel15Ideal : Cert.Kernel15Ideal.Facts] [hReference15Ideal : Cert.Reference15Ideal.Facts] [hPre_pair : Cert.Pre_pair.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)
      ∧ m' ((c.tc : Thread Cert.Reference15Ideal.nD Cert.Reference15Ideal.τ).loc Cert.Reference15Ideal.main_arg9) = m ((c.tc : Thread Cert.Kernel15Ideal.nD Cert.Kernel15Ideal.τ).loc Cert.Kernel15Ideal.main_arg9)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
          ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v39) = v0 c
          ∧ r.2.mem ((c.tc : Thread Cert.Reference15Ideal.nD Cert.Reference15Ideal.τ).loc Cert.Reference15Ideal.main_v40) = v1 c
          ∧ r.2.mem ((c.tc : Thread Cert.Reference15Ideal.nD Cert.Reference15Ideal.τ).loc Cert.Reference15Ideal.main_v41) = v2 c
          ∧ r.2.mem ((c.tc : Thread Cert.Reference15Ideal.nD Cert.Reference15Ideal.τ).loc Cert.Reference15Ideal.main_v42) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8)
          ∧ r.2.mem ((c.tc : Thread Cert.Reference15Ideal.nD Cert.Reference15Ideal.τ).loc Cert.Reference15Ideal.main_arg9) = m' ((c.tc : Thread Cert.Reference15Ideal.nD Cert.Reference15Ideal.τ).loc Cert.Reference15Ideal.main_arg9))

def preserves_Kernel16_Kernel16Ideal : Prop :=
  True

def algebraic_Kernel16Ideal_Reference16Ideal [hKernel16Ideal : Cert.Kernel16Ideal.Facts] [hReference16Ideal : Cert.Reference16Ideal.Facts] [hPre_pair : Cert.Pre_pair.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)
      ∧ m' ((c.tc : Thread Cert.Reference16Ideal.nD Cert.Reference16Ideal.τ).loc Cert.Reference16Ideal.main_arg7) = m ((c.tc : Thread Cert.Kernel16Ideal.nD Cert.Kernel16Ideal.τ).loc Cert.Kernel16Ideal.main_arg7)
      ∧ m' ((c.tc : Thread Cert.Reference16Ideal.nD Cert.Reference16Ideal.τ).loc Cert.Reference16Ideal.main_arg8) = m ((c.tc : Thread Cert.Kernel16Ideal.nD Cert.Kernel16Ideal.τ).loc Cert.Kernel16Ideal.main_arg8)
      ∧ m' ((c.tc : Thread Cert.Reference16Ideal.nD Cert.Reference16Ideal.τ).loc Cert.Reference16Ideal.main_arg9) = m ((c.tc : Thread Cert.Kernel16Ideal.nD Cert.Kernel16Ideal.τ).loc Cert.Kernel16Ideal.main_arg9)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
          ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7)
          ∧ r.2.mem ((c.tc : Thread Cert.Kernel16Ideal.nD Cert.Kernel16Ideal.τ).loc Cert.Kernel16Ideal.main_arg8) = m ((c.tc : Thread Cert.Kernel16Ideal.nD Cert.Kernel16Ideal.τ).loc Cert.Kernel16Ideal.main_arg8)
          ∧ r.2.mem ((c.tc : Thread Cert.Kernel16Ideal.nD Cert.Kernel16Ideal.τ).loc Cert.Kernel16Ideal.main_arg9) = m ((c.tc : Thread Cert.Kernel16Ideal.nD Cert.Kernel16Ideal.τ).loc Cert.Kernel16Ideal.main_arg9))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v39) = v0 c
          ∧ r.2.mem ((c.tc : Thread Cert.Reference16Ideal.nD Cert.Reference16Ideal.τ).loc Cert.Reference16Ideal.main_v40) = v1 c
          ∧ r.2.mem ((c.tc : Thread Cert.Reference16Ideal.nD Cert.Reference16Ideal.τ).loc Cert.Reference16Ideal.main_v41) = v2 c
          ∧ r.2.mem ((c.tc : Thread Cert.Reference16Ideal.nD Cert.Reference16Ideal.τ).loc Cert.Reference16Ideal.main_v42) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6)
          ∧ r.2.mem ((c.tc : Thread Cert.Reference16Ideal.nD Cert.Reference16Ideal.τ).loc Cert.Reference16Ideal.main_arg7) = m' ((c.tc : Thread Cert.Reference16Ideal.nD Cert.Reference16Ideal.τ).loc Cert.Reference16Ideal.main_arg7)
          ∧ r.2.mem ((c.tc : Thread Cert.Reference16Ideal.nD Cert.Reference16Ideal.τ).loc Cert.Reference16Ideal.main_arg8) = m' ((c.tc : Thread Cert.Reference16Ideal.nD Cert.Reference16Ideal.τ).loc Cert.Reference16Ideal.main_arg8)
          ∧ r.2.mem ((c.tc : Thread Cert.Reference16Ideal.nD Cert.Reference16Ideal.τ).loc Cert.Reference16Ideal.main_arg9) = m' ((c.tc : Thread Cert.Reference16Ideal.nD Cert.Reference16Ideal.τ).loc Cert.Reference16Ideal.main_arg9))

def preserves_Kernel17_Kernel17Ideal : Prop :=
  True

def algebraic_Kernel17Ideal_Reference17Ideal [hKernel17Ideal : Cert.Kernel17Ideal.Facts] [hReference17Ideal : Cert.Reference17Ideal.Facts] [hPre_pair : Cert.Pre_pair.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)
      ∧ m' ((c.tc : Thread Cert.Reference17Ideal.nD Cert.Reference17Ideal.τ).loc Cert.Reference17Ideal.main_arg7) = m ((c.tc : Thread Cert.Kernel17Ideal.nD Cert.Kernel17Ideal.τ).loc Cert.Kernel17Ideal.main_arg7)
      ∧ m' ((c.tc : Thread Cert.Reference17Ideal.nD Cert.Reference17Ideal.τ).loc Cert.Reference17Ideal.main_arg8) = m ((c.tc : Thread Cert.Kernel17Ideal.nD Cert.Kernel17Ideal.τ).loc Cert.Kernel17Ideal.main_arg8)
      ∧ m' ((c.tc : Thread Cert.Reference17Ideal.nD Cert.Reference17Ideal.τ).loc Cert.Reference17Ideal.main_arg9) = m ((c.tc : Thread Cert.Kernel17Ideal.nD Cert.Kernel17Ideal.τ).loc Cert.Kernel17Ideal.main_arg9)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
          ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
          ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8)
          ∧ r.2.mem ((c.tc : Thread Cert.Kernel17Ideal.nD Cert.Kernel17Ideal.τ).loc Cert.Kernel17Ideal.main_arg9) = m ((c.tc : Thread Cert.Kernel17Ideal.nD Cert.Kernel17Ideal.τ).loc Cert.Kernel17Ideal.main_arg9))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v39) = v0 c
          ∧ r.2.mem ((c.tc : Thread Cert.Reference17Ideal.nD Cert.Reference17Ideal.τ).loc Cert.Reference17Ideal.main_v40) = v1 c
          ∧ r.2.mem ((c.tc : Thread Cert.Reference17Ideal.nD Cert.Reference17Ideal.τ).loc Cert.Reference17Ideal.main_v41) = v2 c
          ∧ r.2.mem ((c.tc : Thread Cert.Reference17Ideal.nD Cert.Reference17Ideal.τ).loc Cert.Reference17Ideal.main_v42) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6)
          ∧ r.2.mem ((c.tc : Thread Cert.Reference17Ideal.nD Cert.Reference17Ideal.τ).loc Cert.Reference17Ideal.main_arg7) = m' ((c.tc : Thread Cert.Reference17Ideal.nD Cert.Reference17Ideal.τ).loc Cert.Reference17Ideal.main_arg7)
          ∧ r.2.mem ((c.tc : Thread Cert.Reference17Ideal.nD Cert.Reference17Ideal.τ).loc Cert.Reference17Ideal.main_arg8) = m' ((c.tc : Thread Cert.Reference17Ideal.nD Cert.Reference17Ideal.τ).loc Cert.Reference17Ideal.main_arg8)
          ∧ r.2.mem ((c.tc : Thread Cert.Reference17Ideal.nD Cert.Reference17Ideal.τ).loc Cert.Reference17Ideal.main_arg9) = m' ((c.tc : Thread Cert.Reference17Ideal.nD Cert.Reference17Ideal.τ).loc Cert.Reference17Ideal.main_arg9))

def preserves_Kernel18_Kernel18Ideal : Prop :=
  True

def algebraic_Kernel18Ideal_Reference18Ideal [hKernel18Ideal : Cert.Kernel18Ideal.Facts] [hReference18Ideal : Cert.Reference18Ideal.Facts] [hPre_pair2 : Cert.Pre_pair2.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)
      ∧ m' ((c.tc : Thread Cert.Reference18Ideal.nD Cert.Reference18Ideal.τ).loc Cert.Reference18Ideal.main_arg7) = m ((c.tc : Thread Cert.Kernel18Ideal.nD Cert.Kernel18Ideal.τ).loc Cert.Kernel18Ideal.main_arg7)
      ∧ m' ((c.tc : Thread Cert.Reference18Ideal.nD Cert.Reference18Ideal.τ).loc Cert.Reference18Ideal.main_arg8) = m ((c.tc : Thread Cert.Kernel18Ideal.nD Cert.Kernel18Ideal.τ).loc Cert.Kernel18Ideal.main_arg8)
      ∧ m' ((c.tc : Thread Cert.Reference18Ideal.nD Cert.Reference18Ideal.τ).loc Cert.Reference18Ideal.main_arg9) = m ((c.tc : Thread Cert.Kernel18Ideal.nD Cert.Kernel18Ideal.τ).loc Cert.Kernel18Ideal.main_arg9)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
          ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7)
          ∧ r.2.mem ((c.tc : Thread Cert.Kernel18Ideal.nD Cert.Kernel18Ideal.τ).loc Cert.Kernel18Ideal.main_arg8) = m ((c.tc : Thread Cert.Kernel18Ideal.nD Cert.Kernel18Ideal.τ).loc Cert.Kernel18Ideal.main_arg8)
          ∧ r.2.mem ((c.tc : Thread Cert.Kernel18Ideal.nD Cert.Kernel18Ideal.τ).loc Cert.Kernel18Ideal.main_arg9) = m ((c.tc : Thread Cert.Kernel18Ideal.nD Cert.Kernel18Ideal.τ).loc Cert.Kernel18Ideal.main_arg9))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v39) = v0 c
          ∧ r.2.mem ((c.tc : Thread Cert.Reference18Ideal.nD Cert.Reference18Ideal.τ).loc Cert.Reference18Ideal.main_v40) = v1 c
          ∧ r.2.mem ((c.tc : Thread Cert.Reference18Ideal.nD Cert.Reference18Ideal.τ).loc Cert.Reference18Ideal.main_v41) = v2 c
          ∧ r.2.mem ((c.tc : Thread Cert.Reference18Ideal.nD Cert.Reference18Ideal.τ).loc Cert.Reference18Ideal.main_v42) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6)
          ∧ r.2.mem ((c.tc : Thread Cert.Reference18Ideal.nD Cert.Reference18Ideal.τ).loc Cert.Reference18Ideal.main_arg7) = m' ((c.tc : Thread Cert.Reference18Ideal.nD Cert.Reference18Ideal.τ).loc Cert.Reference18Ideal.main_arg7)
          ∧ r.2.mem ((c.tc : Thread Cert.Reference18Ideal.nD Cert.Reference18Ideal.τ).loc Cert.Reference18Ideal.main_arg8) = m' ((c.tc : Thread Cert.Reference18Ideal.nD Cert.Reference18Ideal.τ).loc Cert.Reference18Ideal.main_arg8)
          ∧ r.2.mem ((c.tc : Thread Cert.Reference18Ideal.nD Cert.Reference18Ideal.τ).loc Cert.Reference18Ideal.main_arg9) = m' ((c.tc : Thread Cert.Reference18Ideal.nD Cert.Reference18Ideal.τ).loc Cert.Reference18Ideal.main_arg9))

def preserves_Kernel19_Kernel19Ideal : Prop :=
  True

def algebraic_Kernel19Ideal_Reference19Ideal [hKernel19Ideal : Cert.Kernel19Ideal.Facts] [hReference19Ideal : Cert.Reference19Ideal.Facts] [hPre_pair2 : Cert.Pre_pair2.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)
      ∧ m' ((c.tc : Thread Cert.Reference19Ideal.nD Cert.Reference19Ideal.τ).loc Cert.Reference19Ideal.main_arg6) = m ((c.tc : Thread Cert.Kernel19Ideal.nD Cert.Kernel19Ideal.τ).loc Cert.Kernel19Ideal.main_arg6)
      ∧ m' ((c.tc : Thread Cert.Reference19Ideal.nD Cert.Reference19Ideal.τ).loc Cert.Reference19Ideal.main_arg7) = m ((c.tc : Thread Cert.Kernel19Ideal.nD Cert.Kernel19Ideal.τ).loc Cert.Kernel19Ideal.main_arg7)
      ∧ m' ((c.tc : Thread Cert.Reference19Ideal.nD Cert.Reference19Ideal.τ).loc Cert.Reference19Ideal.main_arg8) = m ((c.tc : Thread Cert.Kernel19Ideal.nD Cert.Kernel19Ideal.τ).loc Cert.Kernel19Ideal.main_arg8)
      ∧ m' ((c.tc : Thread Cert.Reference19Ideal.nD Cert.Reference19Ideal.τ).loc Cert.Reference19Ideal.main_arg9) = m ((c.tc : Thread Cert.Kernel19Ideal.nD Cert.Kernel19Ideal.τ).loc Cert.Kernel19Ideal.main_arg9)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
          ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
          ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
          ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8)
          ∧ r.2.mem ((c.tc : Thread Cert.Kernel19Ideal.nD Cert.Kernel19Ideal.τ).loc Cert.Kernel19Ideal.main_arg9) = m ((c.tc : Thread Cert.Kernel19Ideal.nD Cert.Kernel19Ideal.τ).loc Cert.Kernel19Ideal.main_arg9))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v39) = v0 c
          ∧ r.2.mem ((c.tc : Thread Cert.Reference19Ideal.nD Cert.Reference19Ideal.τ).loc Cert.Reference19Ideal.main_v40) = v1 c
          ∧ r.2.mem ((c.tc : Thread Cert.Reference19Ideal.nD Cert.Reference19Ideal.τ).loc Cert.Reference19Ideal.main_v41) = v2 c
          ∧ r.2.mem ((c.tc : Thread Cert.Reference19Ideal.nD Cert.Reference19Ideal.τ).loc Cert.Reference19Ideal.main_v42) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5)
          ∧ r.2.mem ((c.tc : Thread Cert.Reference19Ideal.nD Cert.Reference19Ideal.τ).loc Cert.Reference19Ideal.main_arg6) = m' ((c.tc : Thread Cert.Reference19Ideal.nD Cert.Reference19Ideal.τ).loc Cert.Reference19Ideal.main_arg6)
          ∧ r.2.mem ((c.tc : Thread Cert.Reference19Ideal.nD Cert.Reference19Ideal.τ).loc Cert.Reference19Ideal.main_arg7) = m' ((c.tc : Thread Cert.Reference19Ideal.nD Cert.Reference19Ideal.τ).loc Cert.Reference19Ideal.main_arg7)
          ∧ r.2.mem ((c.tc : Thread Cert.Reference19Ideal.nD Cert.Reference19Ideal.τ).loc Cert.Reference19Ideal.main_arg8) = m' ((c.tc : Thread Cert.Reference19Ideal.nD Cert.Reference19Ideal.τ).loc Cert.Reference19Ideal.main_arg8)
          ∧ r.2.mem ((c.tc : Thread Cert.Reference19Ideal.nD Cert.Reference19Ideal.τ).loc Cert.Reference19Ideal.main_arg9) = m' ((c.tc : Thread Cert.Reference19Ideal.nD Cert.Reference19Ideal.τ).loc Cert.Reference19Ideal.main_arg9))

def preserves_Kernel20_Kernel20Ideal : Prop :=
  True

def algebraic_Kernel20Ideal_Reference20Ideal [hKernel20Ideal : Cert.Kernel20Ideal.Facts] [hReference20Ideal : Cert.Reference20Ideal.Facts] [hPre_pair2 : Cert.Pre_pair2.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)
      ∧ m' ((c.tc : Thread Cert.Reference20Ideal.nD Cert.Reference20Ideal.τ).loc Cert.Reference20Ideal.main_arg6) = m ((c.tc : Thread Cert.Kernel20Ideal.nD Cert.Kernel20Ideal.τ).loc Cert.Kernel20Ideal.main_arg6)
      ∧ m' ((c.tc : Thread Cert.Reference20Ideal.nD Cert.Reference20Ideal.τ).loc Cert.Reference20Ideal.main_arg7) = m ((c.tc : Thread Cert.Kernel20Ideal.nD Cert.Kernel20Ideal.τ).loc Cert.Kernel20Ideal.main_arg7)
      ∧ m' ((c.tc : Thread Cert.Reference20Ideal.nD Cert.Reference20Ideal.τ).loc Cert.Reference20Ideal.main_arg8) = m ((c.tc : Thread Cert.Kernel20Ideal.nD Cert.Kernel20Ideal.τ).loc Cert.Kernel20Ideal.main_arg8)
      ∧ m' ((c.tc : Thread Cert.Reference20Ideal.nD Cert.Reference20Ideal.τ).loc Cert.Reference20Ideal.main_arg9) = m ((c.tc : Thread Cert.Kernel20Ideal.nD Cert.Kernel20Ideal.τ).loc Cert.Kernel20Ideal.main_arg9)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
          ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
          ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7)
          ∧ r.2.mem ((c.tc : Thread Cert.Kernel20Ideal.nD Cert.Kernel20Ideal.τ).loc Cert.Kernel20Ideal.main_arg8) = m ((c.tc : Thread Cert.Kernel20Ideal.nD Cert.Kernel20Ideal.τ).loc Cert.Kernel20Ideal.main_arg8)
          ∧ r.2.mem ((c.tc : Thread Cert.Kernel20Ideal.nD Cert.Kernel20Ideal.τ).loc Cert.Kernel20Ideal.main_arg9) = m ((c.tc : Thread Cert.Kernel20Ideal.nD Cert.Kernel20Ideal.τ).loc Cert.Kernel20Ideal.main_arg9))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v39) = v0 c
          ∧ r.2.mem ((c.tc : Thread Cert.Reference20Ideal.nD Cert.Reference20Ideal.τ).loc Cert.Reference20Ideal.main_v40) = v1 c
          ∧ r.2.mem ((c.tc : Thread Cert.Reference20Ideal.nD Cert.Reference20Ideal.τ).loc Cert.Reference20Ideal.main_v41) = v2 c
          ∧ r.2.mem ((c.tc : Thread Cert.Reference20Ideal.nD Cert.Reference20Ideal.τ).loc Cert.Reference20Ideal.main_v42) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5)
          ∧ r.2.mem ((c.tc : Thread Cert.Reference20Ideal.nD Cert.Reference20Ideal.τ).loc Cert.Reference20Ideal.main_arg6) = m' ((c.tc : Thread Cert.Reference20Ideal.nD Cert.Reference20Ideal.τ).loc Cert.Reference20Ideal.main_arg6)
          ∧ r.2.mem ((c.tc : Thread Cert.Reference20Ideal.nD Cert.Reference20Ideal.τ).loc Cert.Reference20Ideal.main_arg7) = m' ((c.tc : Thread Cert.Reference20Ideal.nD Cert.Reference20Ideal.τ).loc Cert.Reference20Ideal.main_arg7)
          ∧ r.2.mem ((c.tc : Thread Cert.Reference20Ideal.nD Cert.Reference20Ideal.τ).loc Cert.Reference20Ideal.main_arg8) = m' ((c.tc : Thread Cert.Reference20Ideal.nD Cert.Reference20Ideal.τ).loc Cert.Reference20Ideal.main_arg8)
          ∧ r.2.mem ((c.tc : Thread Cert.Reference20Ideal.nD Cert.Reference20Ideal.τ).loc Cert.Reference20Ideal.main_arg9) = m' ((c.tc : Thread Cert.Reference20Ideal.nD Cert.Reference20Ideal.τ).loc Cert.Reference20Ideal.main_arg9))

def preserves_Kernel21_Kernel21Ideal : Prop :=
  True

def algebraic_Kernel21Ideal_Reference21Ideal [hKernel21Ideal : Cert.Kernel21Ideal.Facts] [hReference21Ideal : Cert.Reference21Ideal.Facts] [hPre_pair2 : Cert.Pre_pair2.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)
      ∧ m' ((c.tc : Thread Cert.Reference21Ideal.nD Cert.Reference21Ideal.τ).loc Cert.Reference21Ideal.main_arg6) = m ((c.tc : Thread Cert.Kernel21Ideal.nD Cert.Kernel21Ideal.τ).loc Cert.Kernel21Ideal.main_arg6)
      ∧ m' ((c.tc : Thread Cert.Reference21Ideal.nD Cert.Reference21Ideal.τ).loc Cert.Reference21Ideal.main_arg7) = m ((c.tc : Thread Cert.Kernel21Ideal.nD Cert.Kernel21Ideal.τ).loc Cert.Kernel21Ideal.main_arg7)
      ∧ m' ((c.tc : Thread Cert.Reference21Ideal.nD Cert.Reference21Ideal.τ).loc Cert.Reference21Ideal.main_arg8) = m ((c.tc : Thread Cert.Kernel21Ideal.nD Cert.Kernel21Ideal.τ).loc Cert.Kernel21Ideal.main_arg8)
      ∧ m' ((c.tc : Thread Cert.Reference21Ideal.nD Cert.Reference21Ideal.τ).loc Cert.Reference21Ideal.main_arg9) = m ((c.tc : Thread Cert.Kernel21Ideal.nD Cert.Kernel21Ideal.τ).loc Cert.Kernel21Ideal.main_arg9)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
          ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
          ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7)
          ∧ r.2.mem ((c.tc : Thread Cert.Kernel21Ideal.nD Cert.Kernel21Ideal.τ).loc Cert.Kernel21Ideal.main_arg8) = m ((c.tc : Thread Cert.Kernel21Ideal.nD Cert.Kernel21Ideal.τ).loc Cert.Kernel21Ideal.main_arg8)
          ∧ r.2.mem ((c.tc : Thread Cert.Kernel21Ideal.nD Cert.Kernel21Ideal.τ).loc Cert.Kernel21Ideal.main_arg9) = m ((c.tc : Thread Cert.Kernel21Ideal.nD Cert.Kernel21Ideal.τ).loc Cert.Kernel21Ideal.main_arg9))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v39) = v0 c
          ∧ r.2.mem ((c.tc : Thread Cert.Reference21Ideal.nD Cert.Reference21Ideal.τ).loc Cert.Reference21Ideal.main_v40) = v1 c
          ∧ r.2.mem ((c.tc : Thread Cert.Reference21Ideal.nD Cert.Reference21Ideal.τ).loc Cert.Reference21Ideal.main_v41) = v2 c
          ∧ r.2.mem ((c.tc : Thread Cert.Reference21Ideal.nD Cert.Reference21Ideal.τ).loc Cert.Reference21Ideal.main_v42) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5)
          ∧ r.2.mem ((c.tc : Thread Cert.Reference21Ideal.nD Cert.Reference21Ideal.τ).loc Cert.Reference21Ideal.main_arg6) = m' ((c.tc : Thread Cert.Reference21Ideal.nD Cert.Reference21Ideal.τ).loc Cert.Reference21Ideal.main_arg6)
          ∧ r.2.mem ((c.tc : Thread Cert.Reference21Ideal.nD Cert.Reference21Ideal.τ).loc Cert.Reference21Ideal.main_arg7) = m' ((c.tc : Thread Cert.Reference21Ideal.nD Cert.Reference21Ideal.τ).loc Cert.Reference21Ideal.main_arg7)
          ∧ r.2.mem ((c.tc : Thread Cert.Reference21Ideal.nD Cert.Reference21Ideal.τ).loc Cert.Reference21Ideal.main_arg8) = m' ((c.tc : Thread Cert.Reference21Ideal.nD Cert.Reference21Ideal.τ).loc Cert.Reference21Ideal.main_arg8)
          ∧ r.2.mem ((c.tc : Thread Cert.Reference21Ideal.nD Cert.Reference21Ideal.τ).loc Cert.Reference21Ideal.main_arg9) = m' ((c.tc : Thread Cert.Reference21Ideal.nD Cert.Reference21Ideal.τ).loc Cert.Reference21Ideal.main_arg9))

def preserves_Kernel22_Kernel22Ideal : Prop :=
  True

def algebraic_Kernel22Ideal_Reference22Ideal [hKernel22Ideal : Cert.Kernel22Ideal.Facts] [hReference22Ideal : Cert.Reference22Ideal.Facts] [hPre_pair3 : Cert.Pre_pair3.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)
      ∧ m' ((c.tc : Thread Cert.Reference22Ideal.nD Cert.Reference22Ideal.τ).loc Cert.Reference22Ideal.main_arg7) = m ((c.tc : Thread Cert.Kernel22Ideal.nD Cert.Kernel22Ideal.τ).loc Cert.Kernel22Ideal.main_arg7)
      ∧ m' ((c.tc : Thread Cert.Reference22Ideal.nD Cert.Reference22Ideal.τ).loc Cert.Reference22Ideal.main_arg8) = m ((c.tc : Thread Cert.Kernel22Ideal.nD Cert.Kernel22Ideal.τ).loc Cert.Kernel22Ideal.main_arg8)
      ∧ m' ((c.tc : Thread Cert.Reference22Ideal.nD Cert.Reference22Ideal.τ).loc Cert.Reference22Ideal.main_arg9) = m ((c.tc : Thread Cert.Kernel22Ideal.nD Cert.Kernel22Ideal.τ).loc Cert.Kernel22Ideal.main_arg9)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
          ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7)
          ∧ r.2.mem ((c.tc : Thread Cert.Kernel22Ideal.nD Cert.Kernel22Ideal.τ).loc Cert.Kernel22Ideal.main_arg8) = m ((c.tc : Thread Cert.Kernel22Ideal.nD Cert.Kernel22Ideal.τ).loc Cert.Kernel22Ideal.main_arg8)
          ∧ r.2.mem ((c.tc : Thread Cert.Kernel22Ideal.nD Cert.Kernel22Ideal.τ).loc Cert.Kernel22Ideal.main_arg9) = m ((c.tc : Thread Cert.Kernel22Ideal.nD Cert.Kernel22Ideal.τ).loc Cert.Kernel22Ideal.main_arg9))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v39) = v0 c
          ∧ r.2.mem ((c.tc : Thread Cert.Reference22Ideal.nD Cert.Reference22Ideal.τ).loc Cert.Reference22Ideal.main_v40) = v1 c
          ∧ r.2.mem ((c.tc : Thread Cert.Reference22Ideal.nD Cert.Reference22Ideal.τ).loc Cert.Reference22Ideal.main_v41) = v2 c
          ∧ r.2.mem ((c.tc : Thread Cert.Reference22Ideal.nD Cert.Reference22Ideal.τ).loc Cert.Reference22Ideal.main_v42) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6)
          ∧ r.2.mem ((c.tc : Thread Cert.Reference22Ideal.nD Cert.Reference22Ideal.τ).loc Cert.Reference22Ideal.main_arg7) = m' ((c.tc : Thread Cert.Reference22Ideal.nD Cert.Reference22Ideal.τ).loc Cert.Reference22Ideal.main_arg7)
          ∧ r.2.mem ((c.tc : Thread Cert.Reference22Ideal.nD Cert.Reference22Ideal.τ).loc Cert.Reference22Ideal.main_arg8) = m' ((c.tc : Thread Cert.Reference22Ideal.nD Cert.Reference22Ideal.τ).loc Cert.Reference22Ideal.main_arg8)
          ∧ r.2.mem ((c.tc : Thread Cert.Reference22Ideal.nD Cert.Reference22Ideal.τ).loc Cert.Reference22Ideal.main_arg9) = m' ((c.tc : Thread Cert.Reference22Ideal.nD Cert.Reference22Ideal.τ).loc Cert.Reference22Ideal.main_arg9))

def preserves_Kernel23_Kernel23Ideal : Prop :=
  True

def algebraic_Kernel23Ideal_Reference23Ideal [hKernel23Ideal : Cert.Kernel23Ideal.Facts] [hReference23Ideal : Cert.Reference23Ideal.Facts] [hPre_pair3 : Cert.Pre_pair3.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)
      ∧ m' ((c.tc : Thread Cert.Reference23Ideal.nD Cert.Reference23Ideal.τ).loc Cert.Reference23Ideal.main_arg6) = m ((c.tc : Thread Cert.Kernel23Ideal.nD Cert.Kernel23Ideal.τ).loc Cert.Kernel23Ideal.main_arg6)
      ∧ m' ((c.tc : Thread Cert.Reference23Ideal.nD Cert.Reference23Ideal.τ).loc Cert.Reference23Ideal.main_arg7) = m ((c.tc : Thread Cert.Kernel23Ideal.nD Cert.Kernel23Ideal.τ).loc Cert.Kernel23Ideal.main_arg7)
      ∧ m' ((c.tc : Thread Cert.Reference23Ideal.nD Cert.Reference23Ideal.τ).loc Cert.Reference23Ideal.main_arg8) = m ((c.tc : Thread Cert.Kernel23Ideal.nD Cert.Kernel23Ideal.τ).loc Cert.Kernel23Ideal.main_arg8)
      ∧ m' ((c.tc : Thread Cert.Reference23Ideal.nD Cert.Reference23Ideal.τ).loc Cert.Reference23Ideal.main_arg9) = m ((c.tc : Thread Cert.Kernel23Ideal.nD Cert.Kernel23Ideal.τ).loc Cert.Kernel23Ideal.main_arg9)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
          ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
          ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7)
          ∧ r.2.mem ((c.tc : Thread Cert.Kernel23Ideal.nD Cert.Kernel23Ideal.τ).loc Cert.Kernel23Ideal.main_arg8) = m ((c.tc : Thread Cert.Kernel23Ideal.nD Cert.Kernel23Ideal.τ).loc Cert.Kernel23Ideal.main_arg8)
          ∧ r.2.mem ((c.tc : Thread Cert.Kernel23Ideal.nD Cert.Kernel23Ideal.τ).loc Cert.Kernel23Ideal.main_arg9) = m ((c.tc : Thread Cert.Kernel23Ideal.nD Cert.Kernel23Ideal.τ).loc Cert.Kernel23Ideal.main_arg9))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v39) = v0 c
          ∧ r.2.mem ((c.tc : Thread Cert.Reference23Ideal.nD Cert.Reference23Ideal.τ).loc Cert.Reference23Ideal.main_v40) = v1 c
          ∧ r.2.mem ((c.tc : Thread Cert.Reference23Ideal.nD Cert.Reference23Ideal.τ).loc Cert.Reference23Ideal.main_v41) = v2 c
          ∧ r.2.mem ((c.tc : Thread Cert.Reference23Ideal.nD Cert.Reference23Ideal.τ).loc Cert.Reference23Ideal.main_v42) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5)
          ∧ r.2.mem ((c.tc : Thread Cert.Reference23Ideal.nD Cert.Reference23Ideal.τ).loc Cert.Reference23Ideal.main_arg6) = m' ((c.tc : Thread Cert.Reference23Ideal.nD Cert.Reference23Ideal.τ).loc Cert.Reference23Ideal.main_arg6)
          ∧ r.2.mem ((c.tc : Thread Cert.Reference23Ideal.nD Cert.Reference23Ideal.τ).loc Cert.Reference23Ideal.main_arg7) = m' ((c.tc : Thread Cert.Reference23Ideal.nD Cert.Reference23Ideal.τ).loc Cert.Reference23Ideal.main_arg7)
          ∧ r.2.mem ((c.tc : Thread Cert.Reference23Ideal.nD Cert.Reference23Ideal.τ).loc Cert.Reference23Ideal.main_arg8) = m' ((c.tc : Thread Cert.Reference23Ideal.nD Cert.Reference23Ideal.τ).loc Cert.Reference23Ideal.main_arg8)
          ∧ r.2.mem ((c.tc : Thread Cert.Reference23Ideal.nD Cert.Reference23Ideal.τ).loc Cert.Reference23Ideal.main_arg9) = m' ((c.tc : Thread Cert.Reference23Ideal.nD Cert.Reference23Ideal.τ).loc Cert.Reference23Ideal.main_arg9))

def preserves_Kernel24_Kernel24Ideal : Prop :=
  True

def algebraic_Kernel24Ideal_Reference24Ideal [hKernel24Ideal : Cert.Kernel24Ideal.Facts] [hReference24Ideal : Cert.Reference24Ideal.Facts] [hPre_pair3 : Cert.Pre_pair3.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)
      ∧ m' ((c.tc : Thread Cert.Reference24Ideal.nD Cert.Reference24Ideal.τ).loc Cert.Reference24Ideal.main_arg6) = m ((c.tc : Thread Cert.Kernel24Ideal.nD Cert.Kernel24Ideal.τ).loc Cert.Kernel24Ideal.main_arg6)
      ∧ m' ((c.tc : Thread Cert.Reference24Ideal.nD Cert.Reference24Ideal.τ).loc Cert.Reference24Ideal.main_arg7) = m ((c.tc : Thread Cert.Kernel24Ideal.nD Cert.Kernel24Ideal.τ).loc Cert.Kernel24Ideal.main_arg7)
      ∧ m' ((c.tc : Thread Cert.Reference24Ideal.nD Cert.Reference24Ideal.τ).loc Cert.Reference24Ideal.main_arg8) = m ((c.tc : Thread Cert.Kernel24Ideal.nD Cert.Kernel24Ideal.τ).loc Cert.Kernel24Ideal.main_arg8)
      ∧ m' ((c.tc : Thread Cert.Reference24Ideal.nD Cert.Reference24Ideal.τ).loc Cert.Reference24Ideal.main_arg9) = m ((c.tc : Thread Cert.Kernel24Ideal.nD Cert.Kernel24Ideal.τ).loc Cert.Kernel24Ideal.main_arg9)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
          ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
          ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7)
          ∧ r.2.mem ((c.tc : Thread Cert.Kernel24Ideal.nD Cert.Kernel24Ideal.τ).loc Cert.Kernel24Ideal.main_arg8) = m ((c.tc : Thread Cert.Kernel24Ideal.nD Cert.Kernel24Ideal.τ).loc Cert.Kernel24Ideal.main_arg8)
          ∧ r.2.mem ((c.tc : Thread Cert.Kernel24Ideal.nD Cert.Kernel24Ideal.τ).loc Cert.Kernel24Ideal.main_arg9) = m ((c.tc : Thread Cert.Kernel24Ideal.nD Cert.Kernel24Ideal.τ).loc Cert.Kernel24Ideal.main_arg9))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v39) = v0 c
          ∧ r.2.mem ((c.tc : Thread Cert.Reference24Ideal.nD Cert.Reference24Ideal.τ).loc Cert.Reference24Ideal.main_v40) = v1 c
          ∧ r.2.mem ((c.tc : Thread Cert.Reference24Ideal.nD Cert.Reference24Ideal.τ).loc Cert.Reference24Ideal.main_v41) = v2 c
          ∧ r.2.mem ((c.tc : Thread Cert.Reference24Ideal.nD Cert.Reference24Ideal.τ).loc Cert.Reference24Ideal.main_v42) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5)
          ∧ r.2.mem ((c.tc : Thread Cert.Reference24Ideal.nD Cert.Reference24Ideal.τ).loc Cert.Reference24Ideal.main_arg6) = m' ((c.tc : Thread Cert.Reference24Ideal.nD Cert.Reference24Ideal.τ).loc Cert.Reference24Ideal.main_arg6)
          ∧ r.2.mem ((c.tc : Thread Cert.Reference24Ideal.nD Cert.Reference24Ideal.τ).loc Cert.Reference24Ideal.main_arg7) = m' ((c.tc : Thread Cert.Reference24Ideal.nD Cert.Reference24Ideal.τ).loc Cert.Reference24Ideal.main_arg7)
          ∧ r.2.mem ((c.tc : Thread Cert.Reference24Ideal.nD Cert.Reference24Ideal.τ).loc Cert.Reference24Ideal.main_arg8) = m' ((c.tc : Thread Cert.Reference24Ideal.nD Cert.Reference24Ideal.τ).loc Cert.Reference24Ideal.main_arg8)
          ∧ r.2.mem ((c.tc : Thread Cert.Reference24Ideal.nD Cert.Reference24Ideal.τ).loc Cert.Reference24Ideal.main_arg9) = m' ((c.tc : Thread Cert.Reference24Ideal.nD Cert.Reference24Ideal.τ).loc Cert.Reference24Ideal.main_arg9))

def preserves_Kernel25_Kernel25Ideal : Prop :=
  True

def algebraic_Kernel25Ideal_Reference25Ideal [hKernel25Ideal : Cert.Kernel25Ideal.Facts] [hReference25Ideal : Cert.Reference25Ideal.Facts] [hPre_pair3 : Cert.Pre_pair3.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)
      ∧ m' ((c.tc : Thread Cert.Reference25Ideal.nD Cert.Reference25Ideal.τ).loc Cert.Reference25Ideal.main_arg6) = m ((c.tc : Thread Cert.Kernel25Ideal.nD Cert.Kernel25Ideal.τ).loc Cert.Kernel25Ideal.main_arg6)
      ∧ m' ((c.tc : Thread Cert.Reference25Ideal.nD Cert.Reference25Ideal.τ).loc Cert.Reference25Ideal.main_arg7) = m ((c.tc : Thread Cert.Kernel25Ideal.nD Cert.Kernel25Ideal.τ).loc Cert.Kernel25Ideal.main_arg7)
      ∧ m' ((c.tc : Thread Cert.Reference25Ideal.nD Cert.Reference25Ideal.τ).loc Cert.Reference25Ideal.main_arg8) = m ((c.tc : Thread Cert.Kernel25Ideal.nD Cert.Kernel25Ideal.τ).loc Cert.Kernel25Ideal.main_arg8)
      ∧ m' ((c.tc : Thread Cert.Reference25Ideal.nD Cert.Reference25Ideal.τ).loc Cert.Reference25Ideal.main_arg9) = m ((c.tc : Thread Cert.Kernel25Ideal.nD Cert.Kernel25Ideal.τ).loc Cert.Kernel25Ideal.main_arg9)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
          ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
          ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7)
          ∧ r.2.mem ((c.tc : Thread Cert.Kernel25Ideal.nD Cert.Kernel25Ideal.τ).loc Cert.Kernel25Ideal.main_arg8) = m ((c.tc : Thread Cert.Kernel25Ideal.nD Cert.Kernel25Ideal.τ).loc Cert.Kernel25Ideal.main_arg8)
          ∧ r.2.mem ((c.tc : Thread Cert.Kernel25Ideal.nD Cert.Kernel25Ideal.τ).loc Cert.Kernel25Ideal.main_arg9) = m ((c.tc : Thread Cert.Kernel25Ideal.nD Cert.Kernel25Ideal.τ).loc Cert.Kernel25Ideal.main_arg9))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v39) = v0 c
          ∧ r.2.mem ((c.tc : Thread Cert.Reference25Ideal.nD Cert.Reference25Ideal.τ).loc Cert.Reference25Ideal.main_v40) = v1 c
          ∧ r.2.mem ((c.tc : Thread Cert.Reference25Ideal.nD Cert.Reference25Ideal.τ).loc Cert.Reference25Ideal.main_v41) = v2 c
          ∧ r.2.mem ((c.tc : Thread Cert.Reference25Ideal.nD Cert.Reference25Ideal.τ).loc Cert.Reference25Ideal.main_v42) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5)
          ∧ r.2.mem ((c.tc : Thread Cert.Reference25Ideal.nD Cert.Reference25Ideal.τ).loc Cert.Reference25Ideal.main_arg6) = m' ((c.tc : Thread Cert.Reference25Ideal.nD Cert.Reference25Ideal.τ).loc Cert.Reference25Ideal.main_arg6)
          ∧ r.2.mem ((c.tc : Thread Cert.Reference25Ideal.nD Cert.Reference25Ideal.τ).loc Cert.Reference25Ideal.main_arg7) = m' ((c.tc : Thread Cert.Reference25Ideal.nD Cert.Reference25Ideal.τ).loc Cert.Reference25Ideal.main_arg7)
          ∧ r.2.mem ((c.tc : Thread Cert.Reference25Ideal.nD Cert.Reference25Ideal.τ).loc Cert.Reference25Ideal.main_arg8) = m' ((c.tc : Thread Cert.Reference25Ideal.nD Cert.Reference25Ideal.τ).loc Cert.Reference25Ideal.main_arg8)
          ∧ r.2.mem ((c.tc : Thread Cert.Reference25Ideal.nD Cert.Reference25Ideal.τ).loc Cert.Reference25Ideal.main_arg9) = m' ((c.tc : Thread Cert.Reference25Ideal.nD Cert.Reference25Ideal.τ).loc Cert.Reference25Ideal.main_arg9))

def preserves_Kernel26_Kernel26Ideal : Prop :=
  True

def algebraic_Kernel26Ideal_Reference26Ideal [hKernel26Ideal : Cert.Kernel26Ideal.Facts] [hReference26Ideal : Cert.Reference26Ideal.Facts] [hPre_pair4 : Cert.Pre_pair4.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)
      ∧ m' ((c.tc : Thread Cert.Reference26Ideal.nD Cert.Reference26Ideal.τ).loc Cert.Reference26Ideal.main_arg5) = m ((c.tc : Thread Cert.Kernel26Ideal.nD Cert.Kernel26Ideal.τ).loc Cert.Kernel26Ideal.main_arg5)
      ∧ m' ((c.tc : Thread Cert.Reference26Ideal.nD Cert.Reference26Ideal.τ).loc Cert.Reference26Ideal.main_arg6) = m ((c.tc : Thread Cert.Kernel26Ideal.nD Cert.Kernel26Ideal.τ).loc Cert.Kernel26Ideal.main_arg6)
      ∧ m' ((c.tc : Thread Cert.Reference26Ideal.nD Cert.Reference26Ideal.τ).loc Cert.Reference26Ideal.main_arg7) = m ((c.tc : Thread Cert.Kernel26Ideal.nD Cert.Kernel26Ideal.τ).loc Cert.Kernel26Ideal.main_arg7)
      ∧ m' ((c.tc : Thread Cert.Reference26Ideal.nD Cert.Reference26Ideal.τ).loc Cert.Reference26Ideal.main_arg8) = m ((c.tc : Thread Cert.Kernel26Ideal.nD Cert.Kernel26Ideal.τ).loc Cert.Kernel26Ideal.main_arg8)
      ∧ m' ((c.tc : Thread Cert.Reference26Ideal.nD Cert.Reference26Ideal.τ).loc Cert.Reference26Ideal.main_arg9) = m ((c.tc : Thread Cert.Kernel26Ideal.nD Cert.Kernel26Ideal.τ).loc Cert.Kernel26Ideal.main_arg9)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
          ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5)
          ∧ r.2.mem ((c.tc : Thread Cert.Kernel26Ideal.nD Cert.Kernel26Ideal.τ).loc Cert.Kernel26Ideal.main_arg6) = m ((c.tc : Thread Cert.Kernel26Ideal.nD Cert.Kernel26Ideal.τ).loc Cert.Kernel26Ideal.main_arg6)
          ∧ r.2.mem ((c.tc : Thread Cert.Kernel26Ideal.nD Cert.Kernel26Ideal.τ).loc Cert.Kernel26Ideal.main_arg7) = m ((c.tc : Thread Cert.Kernel26Ideal.nD Cert.Kernel26Ideal.τ).loc Cert.Kernel26Ideal.main_arg7)
          ∧ r.2.mem ((c.tc : Thread Cert.Kernel26Ideal.nD Cert.Kernel26Ideal.τ).loc Cert.Kernel26Ideal.main_arg8) = m ((c.tc : Thread Cert.Kernel26Ideal.nD Cert.Kernel26Ideal.τ).loc Cert.Kernel26Ideal.main_arg8)
          ∧ r.2.mem ((c.tc : Thread Cert.Kernel26Ideal.nD Cert.Kernel26Ideal.τ).loc Cert.Kernel26Ideal.main_arg9) = m ((c.tc : Thread Cert.Kernel26Ideal.nD Cert.Kernel26Ideal.τ).loc Cert.Kernel26Ideal.main_arg9))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v39) = v0 c
          ∧ r.2.mem ((c.tc : Thread Cert.Reference26Ideal.nD Cert.Reference26Ideal.τ).loc Cert.Reference26Ideal.main_v40) = v1 c
          ∧ r.2.mem ((c.tc : Thread Cert.Reference26Ideal.nD Cert.Reference26Ideal.τ).loc Cert.Reference26Ideal.main_v41) = v2 c
          ∧ r.2.mem ((c.tc : Thread Cert.Reference26Ideal.nD Cert.Reference26Ideal.τ).loc Cert.Reference26Ideal.main_v42) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4)
          ∧ r.2.mem ((c.tc : Thread Cert.Reference26Ideal.nD Cert.Reference26Ideal.τ).loc Cert.Reference26Ideal.main_arg5) = m' ((c.tc : Thread Cert.Reference26Ideal.nD Cert.Reference26Ideal.τ).loc Cert.Reference26Ideal.main_arg5)
          ∧ r.2.mem ((c.tc : Thread Cert.Reference26Ideal.nD Cert.Reference26Ideal.τ).loc Cert.Reference26Ideal.main_arg6) = m' ((c.tc : Thread Cert.Reference26Ideal.nD Cert.Reference26Ideal.τ).loc Cert.Reference26Ideal.main_arg6)
          ∧ r.2.mem ((c.tc : Thread Cert.Reference26Ideal.nD Cert.Reference26Ideal.τ).loc Cert.Reference26Ideal.main_arg7) = m' ((c.tc : Thread Cert.Reference26Ideal.nD Cert.Reference26Ideal.τ).loc Cert.Reference26Ideal.main_arg7)
          ∧ r.2.mem ((c.tc : Thread Cert.Reference26Ideal.nD Cert.Reference26Ideal.τ).loc Cert.Reference26Ideal.main_arg8) = m' ((c.tc : Thread Cert.Reference26Ideal.nD Cert.Reference26Ideal.τ).loc Cert.Reference26Ideal.main_arg8)
          ∧ r.2.mem ((c.tc : Thread Cert.Reference26Ideal.nD Cert.Reference26Ideal.τ).loc Cert.Reference26Ideal.main_arg9) = m' ((c.tc : Thread Cert.Reference26Ideal.nD Cert.Reference26Ideal.τ).loc Cert.Reference26Ideal.main_arg9))

def preserves_Kernel27_Kernel27Ideal : Prop :=
  True

def algebraic_Kernel27Ideal_Reference27Ideal [hKernel27Ideal : Cert.Kernel27Ideal.Facts] [hReference27Ideal : Cert.Reference27Ideal.Facts] [hPre_pair4 : Cert.Pre_pair4.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)
      ∧ m' ((c.tc : Thread Cert.Reference27Ideal.nD Cert.Reference27Ideal.τ).loc Cert.Reference27Ideal.main_arg5) = m ((c.tc : Thread Cert.Kernel27Ideal.nD Cert.Kernel27Ideal.τ).loc Cert.Kernel27Ideal.main_arg5)
      ∧ m' ((c.tc : Thread Cert.Reference27Ideal.nD Cert.Reference27Ideal.τ).loc Cert.Reference27Ideal.main_arg6) = m ((c.tc : Thread Cert.Kernel27Ideal.nD Cert.Kernel27Ideal.τ).loc Cert.Kernel27Ideal.main_arg6)
      ∧ m' ((c.tc : Thread Cert.Reference27Ideal.nD Cert.Reference27Ideal.τ).loc Cert.Reference27Ideal.main_arg7) = m ((c.tc : Thread Cert.Kernel27Ideal.nD Cert.Kernel27Ideal.τ).loc Cert.Kernel27Ideal.main_arg7)
      ∧ m' ((c.tc : Thread Cert.Reference27Ideal.nD Cert.Reference27Ideal.τ).loc Cert.Reference27Ideal.main_arg8) = m ((c.tc : Thread Cert.Kernel27Ideal.nD Cert.Kernel27Ideal.τ).loc Cert.Kernel27Ideal.main_arg8)
      ∧ m' ((c.tc : Thread Cert.Reference27Ideal.nD Cert.Reference27Ideal.τ).loc Cert.Reference27Ideal.main_arg9) = m ((c.tc : Thread Cert.Kernel27Ideal.nD Cert.Kernel27Ideal.τ).loc Cert.Kernel27Ideal.main_arg9)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
          ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5)
          ∧ r.2.mem ((c.tc : Thread Cert.Kernel27Ideal.nD Cert.Kernel27Ideal.τ).loc Cert.Kernel27Ideal.main_arg6) = m ((c.tc : Thread Cert.Kernel27Ideal.nD Cert.Kernel27Ideal.τ).loc Cert.Kernel27Ideal.main_arg6)
          ∧ r.2.mem ((c.tc : Thread Cert.Kernel27Ideal.nD Cert.Kernel27Ideal.τ).loc Cert.Kernel27Ideal.main_arg7) = m ((c.tc : Thread Cert.Kernel27Ideal.nD Cert.Kernel27Ideal.τ).loc Cert.Kernel27Ideal.main_arg7)
          ∧ r.2.mem ((c.tc : Thread Cert.Kernel27Ideal.nD Cert.Kernel27Ideal.τ).loc Cert.Kernel27Ideal.main_arg8) = m ((c.tc : Thread Cert.Kernel27Ideal.nD Cert.Kernel27Ideal.τ).loc Cert.Kernel27Ideal.main_arg8)
          ∧ r.2.mem ((c.tc : Thread Cert.Kernel27Ideal.nD Cert.Kernel27Ideal.τ).loc Cert.Kernel27Ideal.main_arg9) = m ((c.tc : Thread Cert.Kernel27Ideal.nD Cert.Kernel27Ideal.τ).loc Cert.Kernel27Ideal.main_arg9))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v39) = v0 c
          ∧ r.2.mem ((c.tc : Thread Cert.Reference27Ideal.nD Cert.Reference27Ideal.τ).loc Cert.Reference27Ideal.main_v40) = v1 c
          ∧ r.2.mem ((c.tc : Thread Cert.Reference27Ideal.nD Cert.Reference27Ideal.τ).loc Cert.Reference27Ideal.main_v41) = v2 c
          ∧ r.2.mem ((c.tc : Thread Cert.Reference27Ideal.nD Cert.Reference27Ideal.τ).loc Cert.Reference27Ideal.main_v42) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4)
          ∧ r.2.mem ((c.tc : Thread Cert.Reference27Ideal.nD Cert.Reference27Ideal.τ).loc Cert.Reference27Ideal.main_arg5) = m' ((c.tc : Thread Cert.Reference27Ideal.nD Cert.Reference27Ideal.τ).loc Cert.Reference27Ideal.main_arg5)
          ∧ r.2.mem ((c.tc : Thread Cert.Reference27Ideal.nD Cert.Reference27Ideal.τ).loc Cert.Reference27Ideal.main_arg6) = m' ((c.tc : Thread Cert.Reference27Ideal.nD Cert.Reference27Ideal.τ).loc Cert.Reference27Ideal.main_arg6)
          ∧ r.2.mem ((c.tc : Thread Cert.Reference27Ideal.nD Cert.Reference27Ideal.τ).loc Cert.Reference27Ideal.main_arg7) = m' ((c.tc : Thread Cert.Reference27Ideal.nD Cert.Reference27Ideal.τ).loc Cert.Reference27Ideal.main_arg7)
          ∧ r.2.mem ((c.tc : Thread Cert.Reference27Ideal.nD Cert.Reference27Ideal.τ).loc Cert.Reference27Ideal.main_arg8) = m' ((c.tc : Thread Cert.Reference27Ideal.nD Cert.Reference27Ideal.τ).loc Cert.Reference27Ideal.main_arg8)
          ∧ r.2.mem ((c.tc : Thread Cert.Reference27Ideal.nD Cert.Reference27Ideal.τ).loc Cert.Reference27Ideal.main_arg9) = m' ((c.tc : Thread Cert.Reference27Ideal.nD Cert.Reference27Ideal.τ).loc Cert.Reference27Ideal.main_arg9))

def preserves_Kernel28_Kernel28Ideal : Prop :=
  True

def algebraic_Kernel28Ideal_Reference28Ideal [hKernel28Ideal : Cert.Kernel28Ideal.Facts] [hReference28Ideal : Cert.Reference28Ideal.Facts] [hPre_pair4 : Cert.Pre_pair4.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)
      ∧ m' ((c.tc : Thread Cert.Reference28Ideal.nD Cert.Reference28Ideal.τ).loc Cert.Reference28Ideal.main_arg5) = m ((c.tc : Thread Cert.Kernel28Ideal.nD Cert.Kernel28Ideal.τ).loc Cert.Kernel28Ideal.main_arg5)
      ∧ m' ((c.tc : Thread Cert.Reference28Ideal.nD Cert.Reference28Ideal.τ).loc Cert.Reference28Ideal.main_arg6) = m ((c.tc : Thread Cert.Kernel28Ideal.nD Cert.Kernel28Ideal.τ).loc Cert.Kernel28Ideal.main_arg6)
      ∧ m' ((c.tc : Thread Cert.Reference28Ideal.nD Cert.Reference28Ideal.τ).loc Cert.Reference28Ideal.main_arg7) = m ((c.tc : Thread Cert.Kernel28Ideal.nD Cert.Kernel28Ideal.τ).loc Cert.Kernel28Ideal.main_arg7)
      ∧ m' ((c.tc : Thread Cert.Reference28Ideal.nD Cert.Reference28Ideal.τ).loc Cert.Reference28Ideal.main_arg8) = m ((c.tc : Thread Cert.Kernel28Ideal.nD Cert.Kernel28Ideal.τ).loc Cert.Kernel28Ideal.main_arg8)
      ∧ m' ((c.tc : Thread Cert.Reference28Ideal.nD Cert.Reference28Ideal.τ).loc Cert.Reference28Ideal.main_arg9) = m ((c.tc : Thread Cert.Kernel28Ideal.nD Cert.Kernel28Ideal.τ).loc Cert.Kernel28Ideal.main_arg9)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
          ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5)
          ∧ r.2.mem ((c.tc : Thread Cert.Kernel28Ideal.nD Cert.Kernel28Ideal.τ).loc Cert.Kernel28Ideal.main_arg6) = m ((c.tc : Thread Cert.Kernel28Ideal.nD Cert.Kernel28Ideal.τ).loc Cert.Kernel28Ideal.main_arg6)
          ∧ r.2.mem ((c.tc : Thread Cert.Kernel28Ideal.nD Cert.Kernel28Ideal.τ).loc Cert.Kernel28Ideal.main_arg7) = m ((c.tc : Thread Cert.Kernel28Ideal.nD Cert.Kernel28Ideal.τ).loc Cert.Kernel28Ideal.main_arg7)
          ∧ r.2.mem ((c.tc : Thread Cert.Kernel28Ideal.nD Cert.Kernel28Ideal.τ).loc Cert.Kernel28Ideal.main_arg8) = m ((c.tc : Thread Cert.Kernel28Ideal.nD Cert.Kernel28Ideal.τ).loc Cert.Kernel28Ideal.main_arg8)
          ∧ r.2.mem ((c.tc : Thread Cert.Kernel28Ideal.nD Cert.Kernel28Ideal.τ).loc Cert.Kernel28Ideal.main_arg9) = m ((c.tc : Thread Cert.Kernel28Ideal.nD Cert.Kernel28Ideal.τ).loc Cert.Kernel28Ideal.main_arg9))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v39) = v0 c
          ∧ r.2.mem ((c.tc : Thread Cert.Reference28Ideal.nD Cert.Reference28Ideal.τ).loc Cert.Reference28Ideal.main_v40) = v1 c
          ∧ r.2.mem ((c.tc : Thread Cert.Reference28Ideal.nD Cert.Reference28Ideal.τ).loc Cert.Reference28Ideal.main_v41) = v2 c
          ∧ r.2.mem ((c.tc : Thread Cert.Reference28Ideal.nD Cert.Reference28Ideal.τ).loc Cert.Reference28Ideal.main_v42) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4)
          ∧ r.2.mem ((c.tc : Thread Cert.Reference28Ideal.nD Cert.Reference28Ideal.τ).loc Cert.Reference28Ideal.main_arg5) = m' ((c.tc : Thread Cert.Reference28Ideal.nD Cert.Reference28Ideal.τ).loc Cert.Reference28Ideal.main_arg5)
          ∧ r.2.mem ((c.tc : Thread Cert.Reference28Ideal.nD Cert.Reference28Ideal.τ).loc Cert.Reference28Ideal.main_arg6) = m' ((c.tc : Thread Cert.Reference28Ideal.nD Cert.Reference28Ideal.τ).loc Cert.Reference28Ideal.main_arg6)
          ∧ r.2.mem ((c.tc : Thread Cert.Reference28Ideal.nD Cert.Reference28Ideal.τ).loc Cert.Reference28Ideal.main_arg7) = m' ((c.tc : Thread Cert.Reference28Ideal.nD Cert.Reference28Ideal.τ).loc Cert.Reference28Ideal.main_arg7)
          ∧ r.2.mem ((c.tc : Thread Cert.Reference28Ideal.nD Cert.Reference28Ideal.τ).loc Cert.Reference28Ideal.main_arg8) = m' ((c.tc : Thread Cert.Reference28Ideal.nD Cert.Reference28Ideal.τ).loc Cert.Reference28Ideal.main_arg8)
          ∧ r.2.mem ((c.tc : Thread Cert.Reference28Ideal.nD Cert.Reference28Ideal.τ).loc Cert.Reference28Ideal.main_arg9) = m' ((c.tc : Thread Cert.Reference28Ideal.nD Cert.Reference28Ideal.τ).loc Cert.Reference28Ideal.main_arg9))

def preserves_Kernel29_Kernel29Ideal : Prop :=
  True

def algebraic_Kernel29Ideal_Reference29Ideal [hKernel29Ideal : Cert.Kernel29Ideal.Facts] [hReference29Ideal : Cert.Reference29Ideal.Facts] [hPre_pair4 : Cert.Pre_pair4.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)
      ∧ m' ((c.tc : Thread Cert.Reference29Ideal.nD Cert.Reference29Ideal.τ).loc Cert.Reference29Ideal.main_arg5) = m ((c.tc : Thread Cert.Kernel29Ideal.nD Cert.Kernel29Ideal.τ).loc Cert.Kernel29Ideal.main_arg5)
      ∧ m' ((c.tc : Thread Cert.Reference29Ideal.nD Cert.Reference29Ideal.τ).loc Cert.Reference29Ideal.main_arg6) = m ((c.tc : Thread Cert.Kernel29Ideal.nD Cert.Kernel29Ideal.τ).loc Cert.Kernel29Ideal.main_arg6)
      ∧ m' ((c.tc : Thread Cert.Reference29Ideal.nD Cert.Reference29Ideal.τ).loc Cert.Reference29Ideal.main_arg7) = m ((c.tc : Thread Cert.Kernel29Ideal.nD Cert.Kernel29Ideal.τ).loc Cert.Kernel29Ideal.main_arg7)
      ∧ m' ((c.tc : Thread Cert.Reference29Ideal.nD Cert.Reference29Ideal.τ).loc Cert.Reference29Ideal.main_arg8) = m ((c.tc : Thread Cert.Kernel29Ideal.nD Cert.Kernel29Ideal.τ).loc Cert.Kernel29Ideal.main_arg8)
      ∧ m' ((c.tc : Thread Cert.Reference29Ideal.nD Cert.Reference29Ideal.τ).loc Cert.Reference29Ideal.main_arg9) = m ((c.tc : Thread Cert.Kernel29Ideal.nD Cert.Kernel29Ideal.τ).loc Cert.Kernel29Ideal.main_arg9)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
          ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5)
          ∧ r.2.mem ((c.tc : Thread Cert.Kernel29Ideal.nD Cert.Kernel29Ideal.τ).loc Cert.Kernel29Ideal.main_arg6) = m ((c.tc : Thread Cert.Kernel29Ideal.nD Cert.Kernel29Ideal.τ).loc Cert.Kernel29Ideal.main_arg6)
          ∧ r.2.mem ((c.tc : Thread Cert.Kernel29Ideal.nD Cert.Kernel29Ideal.τ).loc Cert.Kernel29Ideal.main_arg7) = m ((c.tc : Thread Cert.Kernel29Ideal.nD Cert.Kernel29Ideal.τ).loc Cert.Kernel29Ideal.main_arg7)
          ∧ r.2.mem ((c.tc : Thread Cert.Kernel29Ideal.nD Cert.Kernel29Ideal.τ).loc Cert.Kernel29Ideal.main_arg8) = m ((c.tc : Thread Cert.Kernel29Ideal.nD Cert.Kernel29Ideal.τ).loc Cert.Kernel29Ideal.main_arg8)
          ∧ r.2.mem ((c.tc : Thread Cert.Kernel29Ideal.nD Cert.Kernel29Ideal.τ).loc Cert.Kernel29Ideal.main_arg9) = m ((c.tc : Thread Cert.Kernel29Ideal.nD Cert.Kernel29Ideal.τ).loc Cert.Kernel29Ideal.main_arg9))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v39) = v0 c
          ∧ r.2.mem ((c.tc : Thread Cert.Reference29Ideal.nD Cert.Reference29Ideal.τ).loc Cert.Reference29Ideal.main_v40) = v1 c
          ∧ r.2.mem ((c.tc : Thread Cert.Reference29Ideal.nD Cert.Reference29Ideal.τ).loc Cert.Reference29Ideal.main_v41) = v2 c
          ∧ r.2.mem ((c.tc : Thread Cert.Reference29Ideal.nD Cert.Reference29Ideal.τ).loc Cert.Reference29Ideal.main_v42) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4)
          ∧ r.2.mem ((c.tc : Thread Cert.Reference29Ideal.nD Cert.Reference29Ideal.τ).loc Cert.Reference29Ideal.main_arg5) = m' ((c.tc : Thread Cert.Reference29Ideal.nD Cert.Reference29Ideal.τ).loc Cert.Reference29Ideal.main_arg5)
          ∧ r.2.mem ((c.tc : Thread Cert.Reference29Ideal.nD Cert.Reference29Ideal.τ).loc Cert.Reference29Ideal.main_arg6) = m' ((c.tc : Thread Cert.Reference29Ideal.nD Cert.Reference29Ideal.τ).loc Cert.Reference29Ideal.main_arg6)
          ∧ r.2.mem ((c.tc : Thread Cert.Reference29Ideal.nD Cert.Reference29Ideal.τ).loc Cert.Reference29Ideal.main_arg7) = m' ((c.tc : Thread Cert.Reference29Ideal.nD Cert.Reference29Ideal.τ).loc Cert.Reference29Ideal.main_arg7)
          ∧ r.2.mem ((c.tc : Thread Cert.Reference29Ideal.nD Cert.Reference29Ideal.τ).loc Cert.Reference29Ideal.main_arg8) = m' ((c.tc : Thread Cert.Reference29Ideal.nD Cert.Reference29Ideal.τ).loc Cert.Reference29Ideal.main_arg8)
          ∧ r.2.mem ((c.tc : Thread Cert.Reference29Ideal.nD Cert.Reference29Ideal.τ).loc Cert.Reference29Ideal.main_arg9) = m' ((c.tc : Thread Cert.Reference29Ideal.nD Cert.Reference29Ideal.τ).loc Cert.Reference29Ideal.main_arg9))

def preserves_Kernel30_Kernel30Ideal : Prop :=
  True

def algebraic_Kernel30Ideal_Reference30Ideal [hKernel30Ideal : Cert.Kernel30Ideal.Facts] [hReference30Ideal : Cert.Reference30Ideal.Facts] [hPre_pair5 : Cert.Pre_pair5.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)
      ∧ m' ((c.tc : Thread Cert.Reference30Ideal.nD Cert.Reference30Ideal.τ).loc Cert.Reference30Ideal.main_arg4) = m ((c.tc : Thread Cert.Kernel30Ideal.nD Cert.Kernel30Ideal.τ).loc Cert.Kernel30Ideal.main_arg4)
      ∧ m' ((c.tc : Thread Cert.Reference30Ideal.nD Cert.Reference30Ideal.τ).loc Cert.Reference30Ideal.main_arg5) = m ((c.tc : Thread Cert.Kernel30Ideal.nD Cert.Kernel30Ideal.τ).loc Cert.Kernel30Ideal.main_arg5)
      ∧ m' ((c.tc : Thread Cert.Reference30Ideal.nD Cert.Reference30Ideal.τ).loc Cert.Reference30Ideal.main_arg6) = m ((c.tc : Thread Cert.Kernel30Ideal.nD Cert.Kernel30Ideal.τ).loc Cert.Kernel30Ideal.main_arg6)
      ∧ m' ((c.tc : Thread Cert.Reference30Ideal.nD Cert.Reference30Ideal.τ).loc Cert.Reference30Ideal.main_arg7) = m ((c.tc : Thread Cert.Kernel30Ideal.nD Cert.Kernel30Ideal.τ).loc Cert.Kernel30Ideal.main_arg7)
      ∧ m' ((c.tc : Thread Cert.Reference30Ideal.nD Cert.Reference30Ideal.τ).loc Cert.Reference30Ideal.main_arg8) = m ((c.tc : Thread Cert.Kernel30Ideal.nD Cert.Kernel30Ideal.τ).loc Cert.Kernel30Ideal.main_arg8)
      ∧ m' ((c.tc : Thread Cert.Reference30Ideal.nD Cert.Reference30Ideal.τ).loc Cert.Reference30Ideal.main_arg9) = m ((c.tc : Thread Cert.Kernel30Ideal.nD Cert.Kernel30Ideal.τ).loc Cert.Kernel30Ideal.main_arg9)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)) (v3 : (c : Dev Cert.Kernel30Ideal.nD) → Buf (Elt Ideal) ((c.tc : Thread Cert.Kernel30Ideal.nD Cert.Kernel30Ideal.τ).loc Cert.Kernel30Ideal.main_v0_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_v0_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
          ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4)
          ∧ r.2.mem ((c.tc : Thread Cert.Kernel30Ideal.nD Cert.Kernel30Ideal.τ).loc Cert.Kernel30Ideal.main_arg5) = m ((c.tc : Thread Cert.Kernel30Ideal.nD Cert.Kernel30Ideal.τ).loc Cert.Kernel30Ideal.main_arg5)
          ∧ r.2.mem ((c.tc : Thread Cert.Kernel30Ideal.nD Cert.Kernel30Ideal.τ).loc Cert.Kernel30Ideal.main_arg6) = m ((c.tc : Thread Cert.Kernel30Ideal.nD Cert.Kernel30Ideal.τ).loc Cert.Kernel30Ideal.main_arg6)
          ∧ r.2.mem ((c.tc : Thread Cert.Kernel30Ideal.nD Cert.Kernel30Ideal.τ).loc Cert.Kernel30Ideal.main_arg7) = m ((c.tc : Thread Cert.Kernel30Ideal.nD Cert.Kernel30Ideal.τ).loc Cert.Kernel30Ideal.main_arg7)
          ∧ r.2.mem ((c.tc : Thread Cert.Kernel30Ideal.nD Cert.Kernel30Ideal.τ).loc Cert.Kernel30Ideal.main_arg8) = m ((c.tc : Thread Cert.Kernel30Ideal.nD Cert.Kernel30Ideal.τ).loc Cert.Kernel30Ideal.main_arg8)
          ∧ r.2.mem ((c.tc : Thread Cert.Kernel30Ideal.nD Cert.Kernel30Ideal.τ).loc Cert.Kernel30Ideal.main_arg9) = m ((c.tc : Thread Cert.Kernel30Ideal.nD Cert.Kernel30Ideal.τ).loc Cert.Kernel30Ideal.main_arg9))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v39) = v0 c
          ∧ r.2.mem ((c.tc : Thread Cert.Reference30Ideal.nD Cert.Reference30Ideal.τ).loc Cert.Reference30Ideal.main_v40) = v1 c
          ∧ r.2.mem ((c.tc : Thread Cert.Reference30Ideal.nD Cert.Reference30Ideal.τ).loc Cert.Reference30Ideal.main_v41) = v2 c
          ∧ r.2.mem ((c.tc : Thread Cert.Reference30Ideal.nD Cert.Reference30Ideal.τ).loc Cert.Reference30Ideal.main_v42) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3)
          ∧ r.2.mem ((c.tc : Thread Cert.Reference30Ideal.nD Cert.Reference30Ideal.τ).loc Cert.Reference30Ideal.main_arg4) = m' ((c.tc : Thread Cert.Reference30Ideal.nD Cert.Reference30Ideal.τ).loc Cert.Reference30Ideal.main_arg4)
          ∧ r.2.mem ((c.tc : Thread Cert.Reference30Ideal.nD Cert.Reference30Ideal.τ).loc Cert.Reference30Ideal.main_arg5) = m' ((c.tc : Thread Cert.Reference30Ideal.nD Cert.Reference30Ideal.τ).loc Cert.Reference30Ideal.main_arg5)
          ∧ r.2.mem ((c.tc : Thread Cert.Reference30Ideal.nD Cert.Reference30Ideal.τ).loc Cert.Reference30Ideal.main_arg6) = m' ((c.tc : Thread Cert.Reference30Ideal.nD Cert.Reference30Ideal.τ).loc Cert.Reference30Ideal.main_arg6)
          ∧ r.2.mem ((c.tc : Thread Cert.Reference30Ideal.nD Cert.Reference30Ideal.τ).loc Cert.Reference30Ideal.main_arg7) = m' ((c.tc : Thread Cert.Reference30Ideal.nD Cert.Reference30Ideal.τ).loc Cert.Reference30Ideal.main_arg7)
          ∧ r.2.mem ((c.tc : Thread Cert.Reference30Ideal.nD Cert.Reference30Ideal.τ).loc Cert.Reference30Ideal.main_arg8) = m' ((c.tc : Thread Cert.Reference30Ideal.nD Cert.Reference30Ideal.τ).loc Cert.Reference30Ideal.main_arg8)
          ∧ r.2.mem ((c.tc : Thread Cert.Reference30Ideal.nD Cert.Reference30Ideal.τ).loc Cert.Reference30Ideal.main_arg9) = m' ((c.tc : Thread Cert.Reference30Ideal.nD Cert.Reference30Ideal.τ).loc Cert.Reference30Ideal.main_arg9))

def preserves_Kernel31_Kernel31Ideal : Prop :=
  True

def algebraic_Kernel31Ideal_Reference31Ideal [hKernel31Ideal : Cert.Kernel31Ideal.Facts] [hReference31Ideal : Cert.Reference31Ideal.Facts] [hPre_pair5 : Cert.Pre_pair5.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)
      ∧ m' ((c.tc : Thread Cert.Reference31Ideal.nD Cert.Reference31Ideal.τ).loc Cert.Reference31Ideal.main_arg4) = m ((c.tc : Thread Cert.Kernel31Ideal.nD Cert.Kernel31Ideal.τ).loc Cert.Kernel31Ideal.main_arg4)
      ∧ m' ((c.tc : Thread Cert.Reference31Ideal.nD Cert.Reference31Ideal.τ).loc Cert.Reference31Ideal.main_arg5) = m ((c.tc : Thread Cert.Kernel31Ideal.nD Cert.Kernel31Ideal.τ).loc Cert.Kernel31Ideal.main_arg5)
      ∧ m' ((c.tc : Thread Cert.Reference31Ideal.nD Cert.Reference31Ideal.τ).loc Cert.Reference31Ideal.main_arg6) = m ((c.tc : Thread Cert.Kernel31Ideal.nD Cert.Kernel31Ideal.τ).loc Cert.Kernel31Ideal.main_arg6)
      ∧ m' ((c.tc : Thread Cert.Reference31Ideal.nD Cert.Reference31Ideal.τ).loc Cert.Reference31Ideal.main_arg7) = m ((c.tc : Thread Cert.Kernel31Ideal.nD Cert.Kernel31Ideal.τ).loc Cert.Kernel31Ideal.main_arg7)
      ∧ m' ((c.tc : Thread Cert.Reference31Ideal.nD Cert.Reference31Ideal.τ).loc Cert.Reference31Ideal.main_arg8) = m ((c.tc : Thread Cert.Kernel31Ideal.nD Cert.Kernel31Ideal.τ).loc Cert.Kernel31Ideal.main_arg8)
      ∧ m' ((c.tc : Thread Cert.Reference31Ideal.nD Cert.Reference31Ideal.τ).loc Cert.Reference31Ideal.main_arg9) = m ((c.tc : Thread Cert.Kernel31Ideal.nD Cert.Kernel31Ideal.τ).loc Cert.Kernel31Ideal.main_arg9)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)) (v3 : (c : Dev Cert.Kernel31Ideal.nD) → Buf (Elt Ideal) ((c.tc : Thread Cert.Kernel31Ideal.nD Cert.Kernel31Ideal.τ).loc Cert.Kernel31Ideal.main_v0_3)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_v0_3) = v3 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
          ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
          ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5)
          ∧ r.2.mem ((c.tc : Thread Cert.Kernel31Ideal.nD Cert.Kernel31Ideal.τ).loc Cert.Kernel31Ideal.main_arg6) = m ((c.tc : Thread Cert.Kernel31Ideal.nD Cert.Kernel31Ideal.τ).loc Cert.Kernel31Ideal.main_arg6)
          ∧ r.2.mem ((c.tc : Thread Cert.Kernel31Ideal.nD Cert.Kernel31Ideal.τ).loc Cert.Kernel31Ideal.main_arg7) = m ((c.tc : Thread Cert.Kernel31Ideal.nD Cert.Kernel31Ideal.τ).loc Cert.Kernel31Ideal.main_arg7)
          ∧ r.2.mem ((c.tc : Thread Cert.Kernel31Ideal.nD Cert.Kernel31Ideal.τ).loc Cert.Kernel31Ideal.main_arg8) = m ((c.tc : Thread Cert.Kernel31Ideal.nD Cert.Kernel31Ideal.τ).loc Cert.Kernel31Ideal.main_arg8)
          ∧ r.2.mem ((c.tc : Thread Cert.Kernel31Ideal.nD Cert.Kernel31Ideal.τ).loc Cert.Kernel31Ideal.main_arg9) = m ((c.tc : Thread Cert.Kernel31Ideal.nD Cert.Kernel31Ideal.τ).loc Cert.Kernel31Ideal.main_arg9))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v39) = v0 c
          ∧ r.2.mem ((c.tc : Thread Cert.Reference31Ideal.nD Cert.Reference31Ideal.τ).loc Cert.Reference31Ideal.main_v40) = v1 c
          ∧ r.2.mem ((c.tc : Thread Cert.Reference31Ideal.nD Cert.Reference31Ideal.τ).loc Cert.Reference31Ideal.main_v41) = v2 c
          ∧ r.2.mem ((c.tc : Thread Cert.Reference31Ideal.nD Cert.Reference31Ideal.τ).loc Cert.Reference31Ideal.main_v42) = v3 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3)
          ∧ r.2.mem ((c.tc : Thread Cert.Reference31Ideal.nD Cert.Reference31Ideal.τ).loc Cert.Reference31Ideal.main_arg4) = m' ((c.tc : Thread Cert.Reference31Ideal.nD Cert.Reference31Ideal.τ).loc Cert.Reference31Ideal.main_arg4)
          ∧ r.2.mem ((c.tc : Thread Cert.Reference31Ideal.nD Cert.Reference31Ideal.τ).loc Cert.Reference31Ideal.main_arg5) = m' ((c.tc : Thread Cert.Reference31Ideal.nD Cert.Reference31Ideal.τ).loc Cert.Reference31Ideal.main_arg5)
          ∧ r.2.mem ((c.tc : Thread Cert.Reference31Ideal.nD Cert.Reference31Ideal.τ).loc Cert.Reference31Ideal.main_arg6) = m' ((c.tc : Thread Cert.Reference31Ideal.nD Cert.Reference31Ideal.τ).loc Cert.Reference31Ideal.main_arg6)
          ∧ r.2.mem ((c.tc : Thread Cert.Reference31Ideal.nD Cert.Reference31Ideal.τ).loc Cert.Reference31Ideal.main_arg7) = m' ((c.tc : Thread Cert.Reference31Ideal.nD Cert.Reference31Ideal.τ).loc Cert.Reference31Ideal.main_arg7)
          ∧ r.2.mem ((c.tc : Thread Cert.Reference31Ideal.nD Cert.Reference31Ideal.τ).loc Cert.Reference31Ideal.main_arg8) = m' ((c.tc : Thread Cert.Reference31Ideal.nD Cert.Reference31Ideal.τ).loc Cert.Reference31Ideal.main_arg8)
          ∧ r.2.mem ((c.tc : Thread Cert.Reference31Ideal.nD Cert.Reference31Ideal.τ).loc Cert.Reference31Ideal.main_arg9) = m' ((c.tc : Thread Cert.Reference31Ideal.nD Cert.Reference31Ideal.τ).loc Cert.Reference31Ideal.main_arg9))

def preserves_Kernel32_Kernel32Ideal : Prop :=
  True

def algebraic_Kernel32Ideal_Reference32Ideal [hKernel32Ideal : Cert.Kernel32Ideal.Facts] [hReference32Ideal : Cert.Reference32Ideal.Facts] [hPre_pair5 : Cert.Pre_pair5.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)
      ∧ m' ((c.tc : Thread Cert.Reference32Ideal.nD Cert.Reference32Ideal.τ).loc Cert.Reference32Ideal.main_arg4) = m ((c.tc : Thread Cert.Kernel32Ideal.nD Cert.Kernel32Ideal.τ).loc Cert.Kernel32Ideal.main_arg4)
      ∧ m' ((c.tc : Thread Cert.Reference32Ideal.nD Cert.Reference32Ideal.τ).loc Cert.Reference32Ideal.main_arg5) = m ((c.tc : Thread Cert.Kernel32Ideal.nD Cert.Kernel32Ideal.τ).loc Cert.Kernel32Ideal.main_arg5)
      ∧ m' ((c.tc : Thread Cert.Reference32Ideal.nD Cert.Reference32Ideal.τ).loc Cert.Reference32Ideal.main_arg6) = m ((c.tc : Thread Cert.Kernel32Ideal.nD Cert.Kernel32Ideal.τ).loc Cert.Kernel32Ideal.main_arg6)
      ∧ m' ((c.tc : Thread Cert.Reference32Ideal.nD Cert.Reference32Ideal.τ).loc Cert.Reference32Ideal.main_arg7) = m ((c.tc : Thread Cert.Kernel32Ideal.nD Cert.Kernel32Ideal.τ).loc Cert.Kernel32Ideal.main_arg7)
      ∧ m' ((c.tc : Thread Cert.Reference32Ideal.nD Cert.Reference32Ideal.τ).loc Cert.Reference32Ideal.main_arg8) = m ((c.tc : Thread Cert.Kernel32Ideal.nD Cert.Kernel32Ideal.τ).loc Cert.Kernel32Ideal.main_arg8)
      ∧ m' ((c.tc : Thread Cert.Reference32Ideal.nD Cert.Reference32Ideal.τ).loc Cert.Reference32Ideal.main_arg9) = m ((c.tc : Thread Cert.Kernel32Ideal.nD Cert.Kernel32Ideal.τ).loc Cert.Kernel32Ideal.main_arg9)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)) (v3 : (c : Dev Cert.Kernel32Ideal.nD) → Buf (Elt Ideal) ((c.tc : Thread Cert.Kernel32Ideal.nD Cert.Kernel32Ideal.τ).loc Cert.Kernel32Ideal.main_v0_3)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_v0_3) = v3 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
          ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4)
          ∧ r.2.mem ((c.tc : Thread Cert.Kernel32Ideal.nD Cert.Kernel32Ideal.τ).loc Cert.Kernel32Ideal.main_arg5) = m ((c.tc : Thread Cert.Kernel32Ideal.nD Cert.Kernel32Ideal.τ).loc Cert.Kernel32Ideal.main_arg5)
          ∧ r.2.mem ((c.tc : Thread Cert.Kernel32Ideal.nD Cert.Kernel32Ideal.τ).loc Cert.Kernel32Ideal.main_arg6) = m ((c.tc : Thread Cert.Kernel32Ideal.nD Cert.Kernel32Ideal.τ).loc Cert.Kernel32Ideal.main_arg6)
          ∧ r.2.mem ((c.tc : Thread Cert.Kernel32Ideal.nD Cert.Kernel32Ideal.τ).loc Cert.Kernel32Ideal.main_arg7) = m ((c.tc : Thread Cert.Kernel32Ideal.nD Cert.Kernel32Ideal.τ).loc Cert.Kernel32Ideal.main_arg7)
          ∧ r.2.mem ((c.tc : Thread Cert.Kernel32Ideal.nD Cert.Kernel32Ideal.τ).loc Cert.Kernel32Ideal.main_arg8) = m ((c.tc : Thread Cert.Kernel32Ideal.nD Cert.Kernel32Ideal.τ).loc Cert.Kernel32Ideal.main_arg8)
          ∧ r.2.mem ((c.tc : Thread Cert.Kernel32Ideal.nD Cert.Kernel32Ideal.τ).loc Cert.Kernel32Ideal.main_arg9) = m ((c.tc : Thread Cert.Kernel32Ideal.nD Cert.Kernel32Ideal.τ).loc Cert.Kernel32Ideal.main_arg9))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v39) = v0 c
          ∧ r.2.mem ((c.tc : Thread Cert.Reference32Ideal.nD Cert.Reference32Ideal.τ).loc Cert.Reference32Ideal.main_v40) = v1 c
          ∧ r.2.mem ((c.tc : Thread Cert.Reference32Ideal.nD Cert.Reference32Ideal.τ).loc Cert.Reference32Ideal.main_v41) = v2 c
          ∧ r.2.mem ((c.tc : Thread Cert.Reference32Ideal.nD Cert.Reference32Ideal.τ).loc Cert.Reference32Ideal.main_v42) = v3 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3)
          ∧ r.2.mem ((c.tc : Thread Cert.Reference32Ideal.nD Cert.Reference32Ideal.τ).loc Cert.Reference32Ideal.main_arg4) = m' ((c.tc : Thread Cert.Reference32Ideal.nD Cert.Reference32Ideal.τ).loc Cert.Reference32Ideal.main_arg4)
          ∧ r.2.mem ((c.tc : Thread Cert.Reference32Ideal.nD Cert.Reference32Ideal.τ).loc Cert.Reference32Ideal.main_arg5) = m' ((c.tc : Thread Cert.Reference32Ideal.nD Cert.Reference32Ideal.τ).loc Cert.Reference32Ideal.main_arg5)
          ∧ r.2.mem ((c.tc : Thread Cert.Reference32Ideal.nD Cert.Reference32Ideal.τ).loc Cert.Reference32Ideal.main_arg6) = m' ((c.tc : Thread Cert.Reference32Ideal.nD Cert.Reference32Ideal.τ).loc Cert.Reference32Ideal.main_arg6)
          ∧ r.2.mem ((c.tc : Thread Cert.Reference32Ideal.nD Cert.Reference32Ideal.τ).loc Cert.Reference32Ideal.main_arg7) = m' ((c.tc : Thread Cert.Reference32Ideal.nD Cert.Reference32Ideal.τ).loc Cert.Reference32Ideal.main_arg7)
          ∧ r.2.mem ((c.tc : Thread Cert.Reference32Ideal.nD Cert.Reference32Ideal.τ).loc Cert.Reference32Ideal.main_arg8) = m' ((c.tc : Thread Cert.Reference32Ideal.nD Cert.Reference32Ideal.τ).loc Cert.Reference32Ideal.main_arg8)
          ∧ r.2.mem ((c.tc : Thread Cert.Reference32Ideal.nD Cert.Reference32Ideal.τ).loc Cert.Reference32Ideal.main_arg9) = m' ((c.tc : Thread Cert.Reference32Ideal.nD Cert.Reference32Ideal.τ).loc Cert.Reference32Ideal.main_arg9))

def preserves_Kernel33_Kernel33Ideal : Prop :=
  True

def algebraic_Kernel33Ideal_Reference33Ideal [hKernel33Ideal : Cert.Kernel33Ideal.Facts] [hReference33Ideal : Cert.Reference33Ideal.Facts] [hPre_pair5 : Cert.Pre_pair5.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)
      ∧ m' ((c.tc : Thread Cert.Reference33Ideal.nD Cert.Reference33Ideal.τ).loc Cert.Reference33Ideal.main_arg4) = m ((c.tc : Thread Cert.Kernel33Ideal.nD Cert.Kernel33Ideal.τ).loc Cert.Kernel33Ideal.main_arg4)
      ∧ m' ((c.tc : Thread Cert.Reference33Ideal.nD Cert.Reference33Ideal.τ).loc Cert.Reference33Ideal.main_arg5) = m ((c.tc : Thread Cert.Kernel33Ideal.nD Cert.Kernel33Ideal.τ).loc Cert.Kernel33Ideal.main_arg5)
      ∧ m' ((c.tc : Thread Cert.Reference33Ideal.nD Cert.Reference33Ideal.τ).loc Cert.Reference33Ideal.main_arg6) = m ((c.tc : Thread Cert.Kernel33Ideal.nD Cert.Kernel33Ideal.τ).loc Cert.Kernel33Ideal.main_arg6)
      ∧ m' ((c.tc : Thread Cert.Reference33Ideal.nD Cert.Reference33Ideal.τ).loc Cert.Reference33Ideal.main_arg7) = m ((c.tc : Thread Cert.Kernel33Ideal.nD Cert.Kernel33Ideal.τ).loc Cert.Kernel33Ideal.main_arg7)
      ∧ m' ((c.tc : Thread Cert.Reference33Ideal.nD Cert.Reference33Ideal.τ).loc Cert.Reference33Ideal.main_arg8) = m ((c.tc : Thread Cert.Kernel33Ideal.nD Cert.Kernel33Ideal.τ).loc Cert.Kernel33Ideal.main_arg8)
      ∧ m' ((c.tc : Thread Cert.Reference33Ideal.nD Cert.Reference33Ideal.τ).loc Cert.Reference33Ideal.main_arg9) = m ((c.tc : Thread Cert.Kernel33Ideal.nD Cert.Kernel33Ideal.τ).loc Cert.Kernel33Ideal.main_arg9)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)) (v3 : (c : Dev Cert.Kernel33Ideal.nD) → Buf (Elt Ideal) ((c.tc : Thread Cert.Kernel33Ideal.nD Cert.Kernel33Ideal.τ).loc Cert.Kernel33Ideal.main_v0_3)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_v0_3) = v3 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
          ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4)
          ∧ r.2.mem ((c.tc : Thread Cert.Kernel33Ideal.nD Cert.Kernel33Ideal.τ).loc Cert.Kernel33Ideal.main_arg5) = m ((c.tc : Thread Cert.Kernel33Ideal.nD Cert.Kernel33Ideal.τ).loc Cert.Kernel33Ideal.main_arg5)
          ∧ r.2.mem ((c.tc : Thread Cert.Kernel33Ideal.nD Cert.Kernel33Ideal.τ).loc Cert.Kernel33Ideal.main_arg6) = m ((c.tc : Thread Cert.Kernel33Ideal.nD Cert.Kernel33Ideal.τ).loc Cert.Kernel33Ideal.main_arg6)
          ∧ r.2.mem ((c.tc : Thread Cert.Kernel33Ideal.nD Cert.Kernel33Ideal.τ).loc Cert.Kernel33Ideal.main_arg7) = m ((c.tc : Thread Cert.Kernel33Ideal.nD Cert.Kernel33Ideal.τ).loc Cert.Kernel33Ideal.main_arg7)
          ∧ r.2.mem ((c.tc : Thread Cert.Kernel33Ideal.nD Cert.Kernel33Ideal.τ).loc Cert.Kernel33Ideal.main_arg8) = m ((c.tc : Thread Cert.Kernel33Ideal.nD Cert.Kernel33Ideal.τ).loc Cert.Kernel33Ideal.main_arg8)
          ∧ r.2.mem ((c.tc : Thread Cert.Kernel33Ideal.nD Cert.Kernel33Ideal.τ).loc Cert.Kernel33Ideal.main_arg9) = m ((c.tc : Thread Cert.Kernel33Ideal.nD Cert.Kernel33Ideal.τ).loc Cert.Kernel33Ideal.main_arg9))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v39) = v0 c
          ∧ r.2.mem ((c.tc : Thread Cert.Reference33Ideal.nD Cert.Reference33Ideal.τ).loc Cert.Reference33Ideal.main_v40) = v1 c
          ∧ r.2.mem ((c.tc : Thread Cert.Reference33Ideal.nD Cert.Reference33Ideal.τ).loc Cert.Reference33Ideal.main_v41) = v2 c
          ∧ r.2.mem ((c.tc : Thread Cert.Reference33Ideal.nD Cert.Reference33Ideal.τ).loc Cert.Reference33Ideal.main_v42) = v3 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3)
          ∧ r.2.mem ((c.tc : Thread Cert.Reference33Ideal.nD Cert.Reference33Ideal.τ).loc Cert.Reference33Ideal.main_arg4) = m' ((c.tc : Thread Cert.Reference33Ideal.nD Cert.Reference33Ideal.τ).loc Cert.Reference33Ideal.main_arg4)
          ∧ r.2.mem ((c.tc : Thread Cert.Reference33Ideal.nD Cert.Reference33Ideal.τ).loc Cert.Reference33Ideal.main_arg5) = m' ((c.tc : Thread Cert.Reference33Ideal.nD Cert.Reference33Ideal.τ).loc Cert.Reference33Ideal.main_arg5)
          ∧ r.2.mem ((c.tc : Thread Cert.Reference33Ideal.nD Cert.Reference33Ideal.τ).loc Cert.Reference33Ideal.main_arg6) = m' ((c.tc : Thread Cert.Reference33Ideal.nD Cert.Reference33Ideal.τ).loc Cert.Reference33Ideal.main_arg6)
          ∧ r.2.mem ((c.tc : Thread Cert.Reference33Ideal.nD Cert.Reference33Ideal.τ).loc Cert.Reference33Ideal.main_arg7) = m' ((c.tc : Thread Cert.Reference33Ideal.nD Cert.Reference33Ideal.τ).loc Cert.Reference33Ideal.main_arg7)
          ∧ r.2.mem ((c.tc : Thread Cert.Reference33Ideal.nD Cert.Reference33Ideal.τ).loc Cert.Reference33Ideal.main_arg8) = m' ((c.tc : Thread Cert.Reference33Ideal.nD Cert.Reference33Ideal.τ).loc Cert.Reference33Ideal.main_arg8)
          ∧ r.2.mem ((c.tc : Thread Cert.Reference33Ideal.nD Cert.Reference33Ideal.τ).loc Cert.Reference33Ideal.main_arg9) = m' ((c.tc : Thread Cert.Reference33Ideal.nD Cert.Reference33Ideal.τ).loc Cert.Reference33Ideal.main_arg9))

def preserves_Kernel34_Kernel34Ideal : Prop :=
  True

def algebraic_Kernel34Ideal_Reference34Ideal [hKernel34Ideal : Cert.Kernel34Ideal.Facts] [hReference34Ideal : Cert.Reference34Ideal.Facts] [hPre_pair6 : Cert.Pre_pair6.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)
      ∧ m' ((c.tc : Thread Cert.Reference34Ideal.nD Cert.Reference34Ideal.τ).loc Cert.Reference34Ideal.main_arg4) = m ((c.tc : Thread Cert.Kernel34Ideal.nD Cert.Kernel34Ideal.τ).loc Cert.Kernel34Ideal.main_arg4)
      ∧ m' ((c.tc : Thread Cert.Reference34Ideal.nD Cert.Reference34Ideal.τ).loc Cert.Reference34Ideal.main_arg5) = m ((c.tc : Thread Cert.Kernel34Ideal.nD Cert.Kernel34Ideal.τ).loc Cert.Kernel34Ideal.main_arg5)
      ∧ m' ((c.tc : Thread Cert.Reference34Ideal.nD Cert.Reference34Ideal.τ).loc Cert.Reference34Ideal.main_arg6) = m ((c.tc : Thread Cert.Kernel34Ideal.nD Cert.Kernel34Ideal.τ).loc Cert.Kernel34Ideal.main_arg6)
      ∧ m' ((c.tc : Thread Cert.Reference34Ideal.nD Cert.Reference34Ideal.τ).loc Cert.Reference34Ideal.main_arg7) = m ((c.tc : Thread Cert.Kernel34Ideal.nD Cert.Kernel34Ideal.τ).loc Cert.Kernel34Ideal.main_arg7)
      ∧ m' ((c.tc : Thread Cert.Reference34Ideal.nD Cert.Reference34Ideal.τ).loc Cert.Reference34Ideal.main_arg8) = m ((c.tc : Thread Cert.Kernel34Ideal.nD Cert.Kernel34Ideal.τ).loc Cert.Kernel34Ideal.main_arg8)
      ∧ m' ((c.tc : Thread Cert.Reference34Ideal.nD Cert.Reference34Ideal.τ).loc Cert.Reference34Ideal.main_arg9) = m ((c.tc : Thread Cert.Kernel34Ideal.nD Cert.Kernel34Ideal.τ).loc Cert.Kernel34Ideal.main_arg9)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)) (v3 : (c : Dev Cert.Kernel34Ideal.nD) → Buf (Elt Ideal) ((c.tc : Thread Cert.Kernel34Ideal.nD Cert.Kernel34Ideal.τ).loc Cert.Kernel34Ideal.main_v0_3)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_v0_3) = v3 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3)
          ∧ r.2.mem ((c.tc : Thread Cert.Kernel34Ideal.nD Cert.Kernel34Ideal.τ).loc Cert.Kernel34Ideal.main_arg4) = m ((c.tc : Thread Cert.Kernel34Ideal.nD Cert.Kernel34Ideal.τ).loc Cert.Kernel34Ideal.main_arg4)
          ∧ r.2.mem ((c.tc : Thread Cert.Kernel34Ideal.nD Cert.Kernel34Ideal.τ).loc Cert.Kernel34Ideal.main_arg5) = m ((c.tc : Thread Cert.Kernel34Ideal.nD Cert.Kernel34Ideal.τ).loc Cert.Kernel34Ideal.main_arg5)
          ∧ r.2.mem ((c.tc : Thread Cert.Kernel34Ideal.nD Cert.Kernel34Ideal.τ).loc Cert.Kernel34Ideal.main_arg6) = m ((c.tc : Thread Cert.Kernel34Ideal.nD Cert.Kernel34Ideal.τ).loc Cert.Kernel34Ideal.main_arg6)
          ∧ r.2.mem ((c.tc : Thread Cert.Kernel34Ideal.nD Cert.Kernel34Ideal.τ).loc Cert.Kernel34Ideal.main_arg7) = m ((c.tc : Thread Cert.Kernel34Ideal.nD Cert.Kernel34Ideal.τ).loc Cert.Kernel34Ideal.main_arg7)
          ∧ r.2.mem ((c.tc : Thread Cert.Kernel34Ideal.nD Cert.Kernel34Ideal.τ).loc Cert.Kernel34Ideal.main_arg8) = m ((c.tc : Thread Cert.Kernel34Ideal.nD Cert.Kernel34Ideal.τ).loc Cert.Kernel34Ideal.main_arg8)
          ∧ r.2.mem ((c.tc : Thread Cert.Kernel34Ideal.nD Cert.Kernel34Ideal.τ).loc Cert.Kernel34Ideal.main_arg9) = m ((c.tc : Thread Cert.Kernel34Ideal.nD Cert.Kernel34Ideal.τ).loc Cert.Kernel34Ideal.main_arg9))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v39) = v0 c
          ∧ r.2.mem ((c.tc : Thread Cert.Reference34Ideal.nD Cert.Reference34Ideal.τ).loc Cert.Reference34Ideal.main_v40) = v1 c
          ∧ r.2.mem ((c.tc : Thread Cert.Reference34Ideal.nD Cert.Reference34Ideal.τ).loc Cert.Reference34Ideal.main_v41) = v2 c
          ∧ r.2.mem ((c.tc : Thread Cert.Reference34Ideal.nD Cert.Reference34Ideal.τ).loc Cert.Reference34Ideal.main_v42) = v3 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3)
          ∧ r.2.mem ((c.tc : Thread Cert.Reference34Ideal.nD Cert.Reference34Ideal.τ).loc Cert.Reference34Ideal.main_arg4) = m' ((c.tc : Thread Cert.Reference34Ideal.nD Cert.Reference34Ideal.τ).loc Cert.Reference34Ideal.main_arg4)
          ∧ r.2.mem ((c.tc : Thread Cert.Reference34Ideal.nD Cert.Reference34Ideal.τ).loc Cert.Reference34Ideal.main_arg5) = m' ((c.tc : Thread Cert.Reference34Ideal.nD Cert.Reference34Ideal.τ).loc Cert.Reference34Ideal.main_arg5)
          ∧ r.2.mem ((c.tc : Thread Cert.Reference34Ideal.nD Cert.Reference34Ideal.τ).loc Cert.Reference34Ideal.main_arg6) = m' ((c.tc : Thread Cert.Reference34Ideal.nD Cert.Reference34Ideal.τ).loc Cert.Reference34Ideal.main_arg6)
          ∧ r.2.mem ((c.tc : Thread Cert.Reference34Ideal.nD Cert.Reference34Ideal.τ).loc Cert.Reference34Ideal.main_arg7) = m' ((c.tc : Thread Cert.Reference34Ideal.nD Cert.Reference34Ideal.τ).loc Cert.Reference34Ideal.main_arg7)
          ∧ r.2.mem ((c.tc : Thread Cert.Reference34Ideal.nD Cert.Reference34Ideal.τ).loc Cert.Reference34Ideal.main_arg8) = m' ((c.tc : Thread Cert.Reference34Ideal.nD Cert.Reference34Ideal.τ).loc Cert.Reference34Ideal.main_arg8)
          ∧ r.2.mem ((c.tc : Thread Cert.Reference34Ideal.nD Cert.Reference34Ideal.τ).loc Cert.Reference34Ideal.main_arg9) = m' ((c.tc : Thread Cert.Reference34Ideal.nD Cert.Reference34Ideal.τ).loc Cert.Reference34Ideal.main_arg9))

def preserves_Kernel35_Kernel35Ideal : Prop :=
  True

def algebraic_Kernel35Ideal_Reference35Ideal [hKernel35Ideal : Cert.Kernel35Ideal.Facts] [hReference35Ideal : Cert.Reference35Ideal.Facts] [hPre_pair6 : Cert.Pre_pair6.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)
      ∧ m' ((c.tc : Thread Cert.Reference35Ideal.nD Cert.Reference35Ideal.τ).loc Cert.Reference35Ideal.main_arg4) = m ((c.tc : Thread Cert.Kernel35Ideal.nD Cert.Kernel35Ideal.τ).loc Cert.Kernel35Ideal.main_arg4)
      ∧ m' ((c.tc : Thread Cert.Reference35Ideal.nD Cert.Reference35Ideal.τ).loc Cert.Reference35Ideal.main_arg5) = m ((c.tc : Thread Cert.Kernel35Ideal.nD Cert.Kernel35Ideal.τ).loc Cert.Kernel35Ideal.main_arg5)
      ∧ m' ((c.tc : Thread Cert.Reference35Ideal.nD Cert.Reference35Ideal.τ).loc Cert.Reference35Ideal.main_arg6) = m ((c.tc : Thread Cert.Kernel35Ideal.nD Cert.Kernel35Ideal.τ).loc Cert.Kernel35Ideal.main_arg6)
      ∧ m' ((c.tc : Thread Cert.Reference35Ideal.nD Cert.Reference35Ideal.τ).loc Cert.Reference35Ideal.main_arg7) = m ((c.tc : Thread Cert.Kernel35Ideal.nD Cert.Kernel35Ideal.τ).loc Cert.Kernel35Ideal.main_arg7)
      ∧ m' ((c.tc : Thread Cert.Reference35Ideal.nD Cert.Reference35Ideal.τ).loc Cert.Reference35Ideal.main_arg8) = m ((c.tc : Thread Cert.Kernel35Ideal.nD Cert.Kernel35Ideal.τ).loc Cert.Kernel35Ideal.main_arg8)
      ∧ m' ((c.tc : Thread Cert.Reference35Ideal.nD Cert.Reference35Ideal.τ).loc Cert.Reference35Ideal.main_arg9) = m ((c.tc : Thread Cert.Kernel35Ideal.nD Cert.Kernel35Ideal.τ).loc Cert.Kernel35Ideal.main_arg9)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)) (v2 : (c : Dev Cert.Kernel35Ideal.nD) → Buf (Elt Ideal) ((c.tc : Thread Cert.Kernel35Ideal.nD Cert.Kernel35Ideal.τ).loc Cert.Kernel35Ideal.main_v0_2)) (v3 : (c : Dev Cert.Kernel35Ideal.nD) → Buf (Elt Ideal) ((c.tc : Thread Cert.Kernel35Ideal.nD Cert.Kernel35Ideal.τ).loc Cert.Kernel35Ideal.main_v0_3)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_v0_2) = v2 c
          ∧ r.2.mem ((c.tc : Thread Cert.Kernel35Ideal.nD Cert.Kernel35Ideal.τ).loc Cert.Kernel35Ideal.main_v0_3) = v3 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3)
          ∧ r.2.mem ((c.tc : Thread Cert.Kernel35Ideal.nD Cert.Kernel35Ideal.τ).loc Cert.Kernel35Ideal.main_arg4) = m ((c.tc : Thread Cert.Kernel35Ideal.nD Cert.Kernel35Ideal.τ).loc Cert.Kernel35Ideal.main_arg4)
          ∧ r.2.mem ((c.tc : Thread Cert.Kernel35Ideal.nD Cert.Kernel35Ideal.τ).loc Cert.Kernel35Ideal.main_arg5) = m ((c.tc : Thread Cert.Kernel35Ideal.nD Cert.Kernel35Ideal.τ).loc Cert.Kernel35Ideal.main_arg5)
          ∧ r.2.mem ((c.tc : Thread Cert.Kernel35Ideal.nD Cert.Kernel35Ideal.τ).loc Cert.Kernel35Ideal.main_arg6) = m ((c.tc : Thread Cert.Kernel35Ideal.nD Cert.Kernel35Ideal.τ).loc Cert.Kernel35Ideal.main_arg6)
          ∧ r.2.mem ((c.tc : Thread Cert.Kernel35Ideal.nD Cert.Kernel35Ideal.τ).loc Cert.Kernel35Ideal.main_arg7) = m ((c.tc : Thread Cert.Kernel35Ideal.nD Cert.Kernel35Ideal.τ).loc Cert.Kernel35Ideal.main_arg7)
          ∧ r.2.mem ((c.tc : Thread Cert.Kernel35Ideal.nD Cert.Kernel35Ideal.τ).loc Cert.Kernel35Ideal.main_arg8) = m ((c.tc : Thread Cert.Kernel35Ideal.nD Cert.Kernel35Ideal.τ).loc Cert.Kernel35Ideal.main_arg8)
          ∧ r.2.mem ((c.tc : Thread Cert.Kernel35Ideal.nD Cert.Kernel35Ideal.τ).loc Cert.Kernel35Ideal.main_arg9) = m ((c.tc : Thread Cert.Kernel35Ideal.nD Cert.Kernel35Ideal.τ).loc Cert.Kernel35Ideal.main_arg9))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v39) = v0 c
          ∧ r.2.mem ((c.tc : Thread Cert.Reference35Ideal.nD Cert.Reference35Ideal.τ).loc Cert.Reference35Ideal.main_v40) = v1 c
          ∧ r.2.mem ((c.tc : Thread Cert.Reference35Ideal.nD Cert.Reference35Ideal.τ).loc Cert.Reference35Ideal.main_v41) = v2 c
          ∧ r.2.mem ((c.tc : Thread Cert.Reference35Ideal.nD Cert.Reference35Ideal.τ).loc Cert.Reference35Ideal.main_v42) = v3 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3)
          ∧ r.2.mem ((c.tc : Thread Cert.Reference35Ideal.nD Cert.Reference35Ideal.τ).loc Cert.Reference35Ideal.main_arg4) = m' ((c.tc : Thread Cert.Reference35Ideal.nD Cert.Reference35Ideal.τ).loc Cert.Reference35Ideal.main_arg4)
          ∧ r.2.mem ((c.tc : Thread Cert.Reference35Ideal.nD Cert.Reference35Ideal.τ).loc Cert.Reference35Ideal.main_arg5) = m' ((c.tc : Thread Cert.Reference35Ideal.nD Cert.Reference35Ideal.τ).loc Cert.Reference35Ideal.main_arg5)
          ∧ r.2.mem ((c.tc : Thread Cert.Reference35Ideal.nD Cert.Reference35Ideal.τ).loc Cert.Reference35Ideal.main_arg6) = m' ((c.tc : Thread Cert.Reference35Ideal.nD Cert.Reference35Ideal.τ).loc Cert.Reference35Ideal.main_arg6)
          ∧ r.2.mem ((c.tc : Thread Cert.Reference35Ideal.nD Cert.Reference35Ideal.τ).loc Cert.Reference35Ideal.main_arg7) = m' ((c.tc : Thread Cert.Reference35Ideal.nD Cert.Reference35Ideal.τ).loc Cert.Reference35Ideal.main_arg7)
          ∧ r.2.mem ((c.tc : Thread Cert.Reference35Ideal.nD Cert.Reference35Ideal.τ).loc Cert.Reference35Ideal.main_arg8) = m' ((c.tc : Thread Cert.Reference35Ideal.nD Cert.Reference35Ideal.τ).loc Cert.Reference35Ideal.main_arg8)
          ∧ r.2.mem ((c.tc : Thread Cert.Reference35Ideal.nD Cert.Reference35Ideal.τ).loc Cert.Reference35Ideal.main_arg9) = m' ((c.tc : Thread Cert.Reference35Ideal.nD Cert.Reference35Ideal.τ).loc Cert.Reference35Ideal.main_arg9))

def preserves_Kernel36_Kernel36Ideal : Prop :=
  True

def algebraic_Kernel36Ideal_Reference36Ideal [hKernel36Ideal : Cert.Kernel36Ideal.Facts] [hReference36Ideal : Cert.Reference36Ideal.Facts] [hPre_pair6 : Cert.Pre_pair6.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)
      ∧ m' ((c.tc : Thread Cert.Reference36Ideal.nD Cert.Reference36Ideal.τ).loc Cert.Reference36Ideal.main_arg4) = m ((c.tc : Thread Cert.Kernel36Ideal.nD Cert.Kernel36Ideal.τ).loc Cert.Kernel36Ideal.main_arg4)
      ∧ m' ((c.tc : Thread Cert.Reference36Ideal.nD Cert.Reference36Ideal.τ).loc Cert.Reference36Ideal.main_arg5) = m ((c.tc : Thread Cert.Kernel36Ideal.nD Cert.Kernel36Ideal.τ).loc Cert.Kernel36Ideal.main_arg5)
      ∧ m' ((c.tc : Thread Cert.Reference36Ideal.nD Cert.Reference36Ideal.τ).loc Cert.Reference36Ideal.main_arg6) = m ((c.tc : Thread Cert.Kernel36Ideal.nD Cert.Kernel36Ideal.τ).loc Cert.Kernel36Ideal.main_arg6)
      ∧ m' ((c.tc : Thread Cert.Reference36Ideal.nD Cert.Reference36Ideal.τ).loc Cert.Reference36Ideal.main_arg7) = m ((c.tc : Thread Cert.Kernel36Ideal.nD Cert.Kernel36Ideal.τ).loc Cert.Kernel36Ideal.main_arg7)
      ∧ m' ((c.tc : Thread Cert.Reference36Ideal.nD Cert.Reference36Ideal.τ).loc Cert.Reference36Ideal.main_arg8) = m ((c.tc : Thread Cert.Kernel36Ideal.nD Cert.Kernel36Ideal.τ).loc Cert.Kernel36Ideal.main_arg8)
      ∧ m' ((c.tc : Thread Cert.Reference36Ideal.nD Cert.Reference36Ideal.τ).loc Cert.Reference36Ideal.main_arg9) = m ((c.tc : Thread Cert.Kernel36Ideal.nD Cert.Kernel36Ideal.τ).loc Cert.Kernel36Ideal.main_arg9)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)) (v2 : (c : Dev Cert.Kernel36Ideal.nD) → Buf (Elt Ideal) ((c.tc : Thread Cert.Kernel36Ideal.nD Cert.Kernel36Ideal.τ).loc Cert.Kernel36Ideal.main_v0_2)) (v3 : (c : Dev Cert.Kernel36Ideal.nD) → Buf (Elt Ideal) ((c.tc : Thread Cert.Kernel36Ideal.nD Cert.Kernel36Ideal.τ).loc Cert.Kernel36Ideal.main_v0_3)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_v0_2) = v2 c
          ∧ r.2.mem ((c.tc : Thread Cert.Kernel36Ideal.nD Cert.Kernel36Ideal.τ).loc Cert.Kernel36Ideal.main_v0_3) = v3 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3)
          ∧ r.2.mem ((c.tc : Thread Cert.Kernel36Ideal.nD Cert.Kernel36Ideal.τ).loc Cert.Kernel36Ideal.main_arg4) = m ((c.tc : Thread Cert.Kernel36Ideal.nD Cert.Kernel36Ideal.τ).loc Cert.Kernel36Ideal.main_arg4)
          ∧ r.2.mem ((c.tc : Thread Cert.Kernel36Ideal.nD Cert.Kernel36Ideal.τ).loc Cert.Kernel36Ideal.main_arg5) = m ((c.tc : Thread Cert.Kernel36Ideal.nD Cert.Kernel36Ideal.τ).loc Cert.Kernel36Ideal.main_arg5)
          ∧ r.2.mem ((c.tc : Thread Cert.Kernel36Ideal.nD Cert.Kernel36Ideal.τ).loc Cert.Kernel36Ideal.main_arg6) = m ((c.tc : Thread Cert.Kernel36Ideal.nD Cert.Kernel36Ideal.τ).loc Cert.Kernel36Ideal.main_arg6)
          ∧ r.2.mem ((c.tc : Thread Cert.Kernel36Ideal.nD Cert.Kernel36Ideal.τ).loc Cert.Kernel36Ideal.main_arg7) = m ((c.tc : Thread Cert.Kernel36Ideal.nD Cert.Kernel36Ideal.τ).loc Cert.Kernel36Ideal.main_arg7)
          ∧ r.2.mem ((c.tc : Thread Cert.Kernel36Ideal.nD Cert.Kernel36Ideal.τ).loc Cert.Kernel36Ideal.main_arg8) = m ((c.tc : Thread Cert.Kernel36Ideal.nD Cert.Kernel36Ideal.τ).loc Cert.Kernel36Ideal.main_arg8)
          ∧ r.2.mem ((c.tc : Thread Cert.Kernel36Ideal.nD Cert.Kernel36Ideal.τ).loc Cert.Kernel36Ideal.main_arg9) = m ((c.tc : Thread Cert.Kernel36Ideal.nD Cert.Kernel36Ideal.τ).loc Cert.Kernel36Ideal.main_arg9))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v39) = v0 c
          ∧ r.2.mem ((c.tc : Thread Cert.Reference36Ideal.nD Cert.Reference36Ideal.τ).loc Cert.Reference36Ideal.main_v40) = v1 c
          ∧ r.2.mem ((c.tc : Thread Cert.Reference36Ideal.nD Cert.Reference36Ideal.τ).loc Cert.Reference36Ideal.main_v41) = v2 c
          ∧ r.2.mem ((c.tc : Thread Cert.Reference36Ideal.nD Cert.Reference36Ideal.τ).loc Cert.Reference36Ideal.main_v42) = v3 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3)
          ∧ r.2.mem ((c.tc : Thread Cert.Reference36Ideal.nD Cert.Reference36Ideal.τ).loc Cert.Reference36Ideal.main_arg4) = m' ((c.tc : Thread Cert.Reference36Ideal.nD Cert.Reference36Ideal.τ).loc Cert.Reference36Ideal.main_arg4)
          ∧ r.2.mem ((c.tc : Thread Cert.Reference36Ideal.nD Cert.Reference36Ideal.τ).loc Cert.Reference36Ideal.main_arg5) = m' ((c.tc : Thread Cert.Reference36Ideal.nD Cert.Reference36Ideal.τ).loc Cert.Reference36Ideal.main_arg5)
          ∧ r.2.mem ((c.tc : Thread Cert.Reference36Ideal.nD Cert.Reference36Ideal.τ).loc Cert.Reference36Ideal.main_arg6) = m' ((c.tc : Thread Cert.Reference36Ideal.nD Cert.Reference36Ideal.τ).loc Cert.Reference36Ideal.main_arg6)
          ∧ r.2.mem ((c.tc : Thread Cert.Reference36Ideal.nD Cert.Reference36Ideal.τ).loc Cert.Reference36Ideal.main_arg7) = m' ((c.tc : Thread Cert.Reference36Ideal.nD Cert.Reference36Ideal.τ).loc Cert.Reference36Ideal.main_arg7)
          ∧ r.2.mem ((c.tc : Thread Cert.Reference36Ideal.nD Cert.Reference36Ideal.τ).loc Cert.Reference36Ideal.main_arg8) = m' ((c.tc : Thread Cert.Reference36Ideal.nD Cert.Reference36Ideal.τ).loc Cert.Reference36Ideal.main_arg8)
          ∧ r.2.mem ((c.tc : Thread Cert.Reference36Ideal.nD Cert.Reference36Ideal.τ).loc Cert.Reference36Ideal.main_arg9) = m' ((c.tc : Thread Cert.Reference36Ideal.nD Cert.Reference36Ideal.τ).loc Cert.Reference36Ideal.main_arg9))

def preserves_Kernel37_Kernel37Ideal : Prop :=
  True

def algebraic_Kernel37Ideal_Reference37Ideal [hKernel37Ideal : Cert.Kernel37Ideal.Facts] [hReference37Ideal : Cert.Reference37Ideal.Facts] [hPre_pair6 : Cert.Pre_pair6.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)
      ∧ m' ((c.tc : Thread Cert.Reference37Ideal.nD Cert.Reference37Ideal.τ).loc Cert.Reference37Ideal.main_arg4) = m ((c.tc : Thread Cert.Kernel37Ideal.nD Cert.Kernel37Ideal.τ).loc Cert.Kernel37Ideal.main_arg4)
      ∧ m' ((c.tc : Thread Cert.Reference37Ideal.nD Cert.Reference37Ideal.τ).loc Cert.Reference37Ideal.main_arg5) = m ((c.tc : Thread Cert.Kernel37Ideal.nD Cert.Kernel37Ideal.τ).loc Cert.Kernel37Ideal.main_arg5)
      ∧ m' ((c.tc : Thread Cert.Reference37Ideal.nD Cert.Reference37Ideal.τ).loc Cert.Reference37Ideal.main_arg6) = m ((c.tc : Thread Cert.Kernel37Ideal.nD Cert.Kernel37Ideal.τ).loc Cert.Kernel37Ideal.main_arg6)
      ∧ m' ((c.tc : Thread Cert.Reference37Ideal.nD Cert.Reference37Ideal.τ).loc Cert.Reference37Ideal.main_arg7) = m ((c.tc : Thread Cert.Kernel37Ideal.nD Cert.Kernel37Ideal.τ).loc Cert.Kernel37Ideal.main_arg7)
      ∧ m' ((c.tc : Thread Cert.Reference37Ideal.nD Cert.Reference37Ideal.τ).loc Cert.Reference37Ideal.main_arg8) = m ((c.tc : Thread Cert.Kernel37Ideal.nD Cert.Kernel37Ideal.τ).loc Cert.Kernel37Ideal.main_arg8)
      ∧ m' ((c.tc : Thread Cert.Reference37Ideal.nD Cert.Reference37Ideal.τ).loc Cert.Reference37Ideal.main_arg9) = m ((c.tc : Thread Cert.Kernel37Ideal.nD Cert.Kernel37Ideal.τ).loc Cert.Kernel37Ideal.main_arg9)) →
    ∃ (v0 : (c : Dev Cert.Kernel37Ideal.nD) → Buf (Elt Ideal) ((c.tc : Thread Cert.Kernel37Ideal.nD Cert.Kernel37Ideal.τ).loc Cert.Kernel37Ideal.main_v0_0)) (v1 : (c : Dev Cert.Kernel37Ideal.nD) → Buf (Elt Ideal) ((c.tc : Thread Cert.Kernel37Ideal.nD Cert.Kernel37Ideal.τ).loc Cert.Kernel37Ideal.main_v0_1)) (v2 : (c : Dev Cert.Kernel37Ideal.nD) → Buf (Elt Ideal) ((c.tc : Thread Cert.Kernel37Ideal.nD Cert.Kernel37Ideal.τ).loc Cert.Kernel37Ideal.main_v0_2)) (v3 : (c : Dev Cert.Kernel37Ideal.nD) → Buf (Elt Ideal) ((c.tc : Thread Cert.Kernel37Ideal.nD Cert.Kernel37Ideal.τ).loc Cert.Kernel37Ideal.main_v0_3)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0_0) = v0 c
          ∧ r.2.mem ((c.tc : Thread Cert.Kernel37Ideal.nD Cert.Kernel37Ideal.τ).loc Cert.Kernel37Ideal.main_v0_1) = v1 c
          ∧ r.2.mem ((c.tc : Thread Cert.Kernel37Ideal.nD Cert.Kernel37Ideal.τ).loc Cert.Kernel37Ideal.main_v0_2) = v2 c
          ∧ r.2.mem ((c.tc : Thread Cert.Kernel37Ideal.nD Cert.Kernel37Ideal.τ).loc Cert.Kernel37Ideal.main_v0_3) = v3 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3)
          ∧ r.2.mem ((c.tc : Thread Cert.Kernel37Ideal.nD Cert.Kernel37Ideal.τ).loc Cert.Kernel37Ideal.main_arg4) = m ((c.tc : Thread Cert.Kernel37Ideal.nD Cert.Kernel37Ideal.τ).loc Cert.Kernel37Ideal.main_arg4)
          ∧ r.2.mem ((c.tc : Thread Cert.Kernel37Ideal.nD Cert.Kernel37Ideal.τ).loc Cert.Kernel37Ideal.main_arg5) = m ((c.tc : Thread Cert.Kernel37Ideal.nD Cert.Kernel37Ideal.τ).loc Cert.Kernel37Ideal.main_arg5)
          ∧ r.2.mem ((c.tc : Thread Cert.Kernel37Ideal.nD Cert.Kernel37Ideal.τ).loc Cert.Kernel37Ideal.main_arg6) = m ((c.tc : Thread Cert.Kernel37Ideal.nD Cert.Kernel37Ideal.τ).loc Cert.Kernel37Ideal.main_arg6)
          ∧ r.2.mem ((c.tc : Thread Cert.Kernel37Ideal.nD Cert.Kernel37Ideal.τ).loc Cert.Kernel37Ideal.main_arg7) = m ((c.tc : Thread Cert.Kernel37Ideal.nD Cert.Kernel37Ideal.τ).loc Cert.Kernel37Ideal.main_arg7)
          ∧ r.2.mem ((c.tc : Thread Cert.Kernel37Ideal.nD Cert.Kernel37Ideal.τ).loc Cert.Kernel37Ideal.main_arg8) = m ((c.tc : Thread Cert.Kernel37Ideal.nD Cert.Kernel37Ideal.τ).loc Cert.Kernel37Ideal.main_arg8)
          ∧ r.2.mem ((c.tc : Thread Cert.Kernel37Ideal.nD Cert.Kernel37Ideal.τ).loc Cert.Kernel37Ideal.main_arg9) = m ((c.tc : Thread Cert.Kernel37Ideal.nD Cert.Kernel37Ideal.τ).loc Cert.Kernel37Ideal.main_arg9))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v39) = v0 c
          ∧ r.2.mem ((c.tc : Thread Cert.Reference37Ideal.nD Cert.Reference37Ideal.τ).loc Cert.Reference37Ideal.main_v40) = v1 c
          ∧ r.2.mem ((c.tc : Thread Cert.Reference37Ideal.nD Cert.Reference37Ideal.τ).loc Cert.Reference37Ideal.main_v41) = v2 c
          ∧ r.2.mem ((c.tc : Thread Cert.Reference37Ideal.nD Cert.Reference37Ideal.τ).loc Cert.Reference37Ideal.main_v42) = v3 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3)
          ∧ r.2.mem ((c.tc : Thread Cert.Reference37Ideal.nD Cert.Reference37Ideal.τ).loc Cert.Reference37Ideal.main_arg4) = m' ((c.tc : Thread Cert.Reference37Ideal.nD Cert.Reference37Ideal.τ).loc Cert.Reference37Ideal.main_arg4)
          ∧ r.2.mem ((c.tc : Thread Cert.Reference37Ideal.nD Cert.Reference37Ideal.τ).loc Cert.Reference37Ideal.main_arg5) = m' ((c.tc : Thread Cert.Reference37Ideal.nD Cert.Reference37Ideal.τ).loc Cert.Reference37Ideal.main_arg5)
          ∧ r.2.mem ((c.tc : Thread Cert.Reference37Ideal.nD Cert.Reference37Ideal.τ).loc Cert.Reference37Ideal.main_arg6) = m' ((c.tc : Thread Cert.Reference37Ideal.nD Cert.Reference37Ideal.τ).loc Cert.Reference37Ideal.main_arg6)
          ∧ r.2.mem ((c.tc : Thread Cert.Reference37Ideal.nD Cert.Reference37Ideal.τ).loc Cert.Reference37Ideal.main_arg7) = m' ((c.tc : Thread Cert.Reference37Ideal.nD Cert.Reference37Ideal.τ).loc Cert.Reference37Ideal.main_arg7)
          ∧ r.2.mem ((c.tc : Thread Cert.Reference37Ideal.nD Cert.Reference37Ideal.τ).loc Cert.Reference37Ideal.main_arg8) = m' ((c.tc : Thread Cert.Reference37Ideal.nD Cert.Reference37Ideal.τ).loc Cert.Reference37Ideal.main_arg8)
          ∧ r.2.mem ((c.tc : Thread Cert.Reference37Ideal.nD Cert.Reference37Ideal.τ).loc Cert.Reference37Ideal.main_arg9) = m' ((c.tc : Thread Cert.Reference37Ideal.nD Cert.Reference37Ideal.τ).loc Cert.Reference37Ideal.main_arg9))

def preserves_Kernel38_Kernel38Ideal : Prop :=
  True

def algebraic_Kernel38Ideal_Reference38Ideal [hKernel38Ideal : Cert.Kernel38Ideal.Facts] [hReference38Ideal : Cert.Reference38Ideal.Facts] [hPre_pair7 : Cert.Pre_pair7.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)
      ∧ m' ((c.tc : Thread Cert.Reference38Ideal.nD Cert.Reference38Ideal.τ).loc Cert.Reference38Ideal.main_arg4) = m ((c.tc : Thread Cert.Kernel38Ideal.nD Cert.Kernel38Ideal.τ).loc Cert.Kernel38Ideal.main_arg4)
      ∧ m' ((c.tc : Thread Cert.Reference38Ideal.nD Cert.Reference38Ideal.τ).loc Cert.Reference38Ideal.main_arg5) = m ((c.tc : Thread Cert.Kernel38Ideal.nD Cert.Kernel38Ideal.τ).loc Cert.Kernel38Ideal.main_arg5)
      ∧ m' ((c.tc : Thread Cert.Reference38Ideal.nD Cert.Reference38Ideal.τ).loc Cert.Reference38Ideal.main_arg6) = m ((c.tc : Thread Cert.Kernel38Ideal.nD Cert.Kernel38Ideal.τ).loc Cert.Kernel38Ideal.main_arg6)
      ∧ m' ((c.tc : Thread Cert.Reference38Ideal.nD Cert.Reference38Ideal.τ).loc Cert.Reference38Ideal.main_arg7) = m ((c.tc : Thread Cert.Kernel38Ideal.nD Cert.Kernel38Ideal.τ).loc Cert.Kernel38Ideal.main_arg7)
      ∧ m' ((c.tc : Thread Cert.Reference38Ideal.nD Cert.Reference38Ideal.τ).loc Cert.Reference38Ideal.main_arg8) = m ((c.tc : Thread Cert.Kernel38Ideal.nD Cert.Kernel38Ideal.τ).loc Cert.Kernel38Ideal.main_arg8)
      ∧ m' ((c.tc : Thread Cert.Reference38Ideal.nD Cert.Reference38Ideal.τ).loc Cert.Reference38Ideal.main_arg9) = m ((c.tc : Thread Cert.Kernel38Ideal.nD Cert.Kernel38Ideal.τ).loc Cert.Kernel38Ideal.main_arg9)) →
    ∃ (v0 : (c : Dev Cert.Kernel38Ideal.nD) → Buf (Elt Ideal) ((c.tc : Thread Cert.Kernel38Ideal.nD Cert.Kernel38Ideal.τ).loc Cert.Kernel38Ideal.main_v0_0)) (v1 : (c : Dev Cert.Kernel38Ideal.nD) → Buf (Elt Ideal) ((c.tc : Thread Cert.Kernel38Ideal.nD Cert.Kernel38Ideal.τ).loc Cert.Kernel38Ideal.main_v0_1)) (v2 : (c : Dev Cert.Kernel38Ideal.nD) → Buf (Elt Ideal) ((c.tc : Thread Cert.Kernel38Ideal.nD Cert.Kernel38Ideal.τ).loc Cert.Kernel38Ideal.main_v0_2)) (v3 : (c : Dev Cert.Kernel38Ideal.nD) → Buf (Elt Ideal) ((c.tc : Thread Cert.Kernel38Ideal.nD Cert.Kernel38Ideal.τ).loc Cert.Kernel38Ideal.main_v0_3)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0_0) = v0 c
          ∧ r.2.mem ((c.tc : Thread Cert.Kernel38Ideal.nD Cert.Kernel38Ideal.τ).loc Cert.Kernel38Ideal.main_v0_1) = v1 c
          ∧ r.2.mem ((c.tc : Thread Cert.Kernel38Ideal.nD Cert.Kernel38Ideal.τ).loc Cert.Kernel38Ideal.main_v0_2) = v2 c
          ∧ r.2.mem ((c.tc : Thread Cert.Kernel38Ideal.nD Cert.Kernel38Ideal.τ).loc Cert.Kernel38Ideal.main_v0_3) = v3 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3)
          ∧ r.2.mem ((c.tc : Thread Cert.Kernel38Ideal.nD Cert.Kernel38Ideal.τ).loc Cert.Kernel38Ideal.main_arg4) = m ((c.tc : Thread Cert.Kernel38Ideal.nD Cert.Kernel38Ideal.τ).loc Cert.Kernel38Ideal.main_arg4)
          ∧ r.2.mem ((c.tc : Thread Cert.Kernel38Ideal.nD Cert.Kernel38Ideal.τ).loc Cert.Kernel38Ideal.main_arg5) = m ((c.tc : Thread Cert.Kernel38Ideal.nD Cert.Kernel38Ideal.τ).loc Cert.Kernel38Ideal.main_arg5)
          ∧ r.2.mem ((c.tc : Thread Cert.Kernel38Ideal.nD Cert.Kernel38Ideal.τ).loc Cert.Kernel38Ideal.main_arg6) = m ((c.tc : Thread Cert.Kernel38Ideal.nD Cert.Kernel38Ideal.τ).loc Cert.Kernel38Ideal.main_arg6)
          ∧ r.2.mem ((c.tc : Thread Cert.Kernel38Ideal.nD Cert.Kernel38Ideal.τ).loc Cert.Kernel38Ideal.main_arg7) = m ((c.tc : Thread Cert.Kernel38Ideal.nD Cert.Kernel38Ideal.τ).loc Cert.Kernel38Ideal.main_arg7)
          ∧ r.2.mem ((c.tc : Thread Cert.Kernel38Ideal.nD Cert.Kernel38Ideal.τ).loc Cert.Kernel38Ideal.main_arg8) = m ((c.tc : Thread Cert.Kernel38Ideal.nD Cert.Kernel38Ideal.τ).loc Cert.Kernel38Ideal.main_arg8)
          ∧ r.2.mem ((c.tc : Thread Cert.Kernel38Ideal.nD Cert.Kernel38Ideal.τ).loc Cert.Kernel38Ideal.main_arg9) = m ((c.tc : Thread Cert.Kernel38Ideal.nD Cert.Kernel38Ideal.τ).loc Cert.Kernel38Ideal.main_arg9))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v37) = v0 c
          ∧ r.2.mem ((c.tc : Thread Cert.Reference38Ideal.nD Cert.Reference38Ideal.τ).loc Cert.Reference38Ideal.main_v38) = v1 c
          ∧ r.2.mem ((c.tc : Thread Cert.Reference38Ideal.nD Cert.Reference38Ideal.τ).loc Cert.Reference38Ideal.main_v39) = v2 c
          ∧ r.2.mem ((c.tc : Thread Cert.Reference38Ideal.nD Cert.Reference38Ideal.τ).loc Cert.Reference38Ideal.main_v40) = v3 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3)
          ∧ r.2.mem ((c.tc : Thread Cert.Reference38Ideal.nD Cert.Reference38Ideal.τ).loc Cert.Reference38Ideal.main_arg4) = m' ((c.tc : Thread Cert.Reference38Ideal.nD Cert.Reference38Ideal.τ).loc Cert.Reference38Ideal.main_arg4)
          ∧ r.2.mem ((c.tc : Thread Cert.Reference38Ideal.nD Cert.Reference38Ideal.τ).loc Cert.Reference38Ideal.main_arg5) = m' ((c.tc : Thread Cert.Reference38Ideal.nD Cert.Reference38Ideal.τ).loc Cert.Reference38Ideal.main_arg5)
          ∧ r.2.mem ((c.tc : Thread Cert.Reference38Ideal.nD Cert.Reference38Ideal.τ).loc Cert.Reference38Ideal.main_arg6) = m' ((c.tc : Thread Cert.Reference38Ideal.nD Cert.Reference38Ideal.τ).loc Cert.Reference38Ideal.main_arg6)
          ∧ r.2.mem ((c.tc : Thread Cert.Reference38Ideal.nD Cert.Reference38Ideal.τ).loc Cert.Reference38Ideal.main_arg7) = m' ((c.tc : Thread Cert.Reference38Ideal.nD Cert.Reference38Ideal.τ).loc Cert.Reference38Ideal.main_arg7)
          ∧ r.2.mem ((c.tc : Thread Cert.Reference38Ideal.nD Cert.Reference38Ideal.τ).loc Cert.Reference38Ideal.main_arg8) = m' ((c.tc : Thread Cert.Reference38Ideal.nD Cert.Reference38Ideal.τ).loc Cert.Reference38Ideal.main_arg8)
          ∧ r.2.mem ((c.tc : Thread Cert.Reference38Ideal.nD Cert.Reference38Ideal.τ).loc Cert.Reference38Ideal.main_arg9) = m' ((c.tc : Thread Cert.Reference38Ideal.nD Cert.Reference38Ideal.τ).loc Cert.Reference38Ideal.main_arg9))

def preserves_Kernel39_Kernel39Ideal : Prop :=
  True

def algebraic_Kernel39Ideal_Reference39Ideal [hKernel39Ideal : Cert.Kernel39Ideal.Facts] [hReference39Ideal : Cert.Reference39Ideal.Facts] [hPre_pair7 : Cert.Pre_pair7.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)
      ∧ m' ((c.tc : Thread Cert.Reference39Ideal.nD Cert.Reference39Ideal.τ).loc Cert.Reference39Ideal.main_arg3) = m ((c.tc : Thread Cert.Kernel39Ideal.nD Cert.Kernel39Ideal.τ).loc Cert.Kernel39Ideal.main_arg3)
      ∧ m' ((c.tc : Thread Cert.Reference39Ideal.nD Cert.Reference39Ideal.τ).loc Cert.Reference39Ideal.main_arg4) = m ((c.tc : Thread Cert.Kernel39Ideal.nD Cert.Kernel39Ideal.τ).loc Cert.Kernel39Ideal.main_arg4)
      ∧ m' ((c.tc : Thread Cert.Reference39Ideal.nD Cert.Reference39Ideal.τ).loc Cert.Reference39Ideal.main_arg5) = m ((c.tc : Thread Cert.Kernel39Ideal.nD Cert.Kernel39Ideal.τ).loc Cert.Kernel39Ideal.main_arg5)
      ∧ m' ((c.tc : Thread Cert.Reference39Ideal.nD Cert.Reference39Ideal.τ).loc Cert.Reference39Ideal.main_arg6) = m ((c.tc : Thread Cert.Kernel39Ideal.nD Cert.Kernel39Ideal.τ).loc Cert.Kernel39Ideal.main_arg6)
      ∧ m' ((c.tc : Thread Cert.Reference39Ideal.nD Cert.Reference39Ideal.τ).loc Cert.Reference39Ideal.main_arg7) = m ((c.tc : Thread Cert.Kernel39Ideal.nD Cert.Kernel39Ideal.τ).loc Cert.Kernel39Ideal.main_arg7)
      ∧ m' ((c.tc : Thread Cert.Reference39Ideal.nD Cert.Reference39Ideal.τ).loc Cert.Reference39Ideal.main_arg8) = m ((c.tc : Thread Cert.Kernel39Ideal.nD Cert.Kernel39Ideal.τ).loc Cert.Kernel39Ideal.main_arg8)
      ∧ m' ((c.tc : Thread Cert.Reference39Ideal.nD Cert.Reference39Ideal.τ).loc Cert.Reference39Ideal.main_arg9) = m ((c.tc : Thread Cert.Kernel39Ideal.nD Cert.Kernel39Ideal.τ).loc Cert.Kernel39Ideal.main_arg9)) →
    ∃ (v0 : (c : Dev Cert.Kernel39Ideal.nD) → Buf (Elt Ideal) ((c.tc : Thread Cert.Kernel39Ideal.nD Cert.Kernel39Ideal.τ).loc Cert.Kernel39Ideal.main_v0_0)) (v1 : (c : Dev Cert.Kernel39Ideal.nD) → Buf (Elt Ideal) ((c.tc : Thread Cert.Kernel39Ideal.nD Cert.Kernel39Ideal.τ).loc Cert.Kernel39Ideal.main_v0_1)) (v2 : (c : Dev Cert.Kernel39Ideal.nD) → Buf (Elt Ideal) ((c.tc : Thread Cert.Kernel39Ideal.nD Cert.Kernel39Ideal.τ).loc Cert.Kernel39Ideal.main_v0_2)) (v3 : (c : Dev Cert.Kernel39Ideal.nD) → Buf (Elt Ideal) ((c.tc : Thread Cert.Kernel39Ideal.nD Cert.Kernel39Ideal.τ).loc Cert.Kernel39Ideal.main_v0_3)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0_0) = v0 c
          ∧ r.2.mem ((c.tc : Thread Cert.Kernel39Ideal.nD Cert.Kernel39Ideal.τ).loc Cert.Kernel39Ideal.main_v0_1) = v1 c
          ∧ r.2.mem ((c.tc : Thread Cert.Kernel39Ideal.nD Cert.Kernel39Ideal.τ).loc Cert.Kernel39Ideal.main_v0_2) = v2 c
          ∧ r.2.mem ((c.tc : Thread Cert.Kernel39Ideal.nD Cert.Kernel39Ideal.τ).loc Cert.Kernel39Ideal.main_v0_3) = v3 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
          ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3)
          ∧ r.2.mem ((c.tc : Thread Cert.Kernel39Ideal.nD Cert.Kernel39Ideal.τ).loc Cert.Kernel39Ideal.main_arg4) = m ((c.tc : Thread Cert.Kernel39Ideal.nD Cert.Kernel39Ideal.τ).loc Cert.Kernel39Ideal.main_arg4)
          ∧ r.2.mem ((c.tc : Thread Cert.Kernel39Ideal.nD Cert.Kernel39Ideal.τ).loc Cert.Kernel39Ideal.main_arg5) = m ((c.tc : Thread Cert.Kernel39Ideal.nD Cert.Kernel39Ideal.τ).loc Cert.Kernel39Ideal.main_arg5)
          ∧ r.2.mem ((c.tc : Thread Cert.Kernel39Ideal.nD Cert.Kernel39Ideal.τ).loc Cert.Kernel39Ideal.main_arg6) = m ((c.tc : Thread Cert.Kernel39Ideal.nD Cert.Kernel39Ideal.τ).loc Cert.Kernel39Ideal.main_arg6)
          ∧ r.2.mem ((c.tc : Thread Cert.Kernel39Ideal.nD Cert.Kernel39Ideal.τ).loc Cert.Kernel39Ideal.main_arg7) = m ((c.tc : Thread Cert.Kernel39Ideal.nD Cert.Kernel39Ideal.τ).loc Cert.Kernel39Ideal.main_arg7)
          ∧ r.2.mem ((c.tc : Thread Cert.Kernel39Ideal.nD Cert.Kernel39Ideal.τ).loc Cert.Kernel39Ideal.main_arg8) = m ((c.tc : Thread Cert.Kernel39Ideal.nD Cert.Kernel39Ideal.τ).loc Cert.Kernel39Ideal.main_arg8)
          ∧ r.2.mem ((c.tc : Thread Cert.Kernel39Ideal.nD Cert.Kernel39Ideal.τ).loc Cert.Kernel39Ideal.main_arg9) = m ((c.tc : Thread Cert.Kernel39Ideal.nD Cert.Kernel39Ideal.τ).loc Cert.Kernel39Ideal.main_arg9))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v37) = v0 c
          ∧ r.2.mem ((c.tc : Thread Cert.Reference39Ideal.nD Cert.Reference39Ideal.τ).loc Cert.Reference39Ideal.main_v38) = v1 c
          ∧ r.2.mem ((c.tc : Thread Cert.Reference39Ideal.nD Cert.Reference39Ideal.τ).loc Cert.Reference39Ideal.main_v39) = v2 c
          ∧ r.2.mem ((c.tc : Thread Cert.Reference39Ideal.nD Cert.Reference39Ideal.τ).loc Cert.Reference39Ideal.main_v40) = v3 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2)
          ∧ r.2.mem ((c.tc : Thread Cert.Reference39Ideal.nD Cert.Reference39Ideal.τ).loc Cert.Reference39Ideal.main_arg3) = m' ((c.tc : Thread Cert.Reference39Ideal.nD Cert.Reference39Ideal.τ).loc Cert.Reference39Ideal.main_arg3)
          ∧ r.2.mem ((c.tc : Thread Cert.Reference39Ideal.nD Cert.Reference39Ideal.τ).loc Cert.Reference39Ideal.main_arg4) = m' ((c.tc : Thread Cert.Reference39Ideal.nD Cert.Reference39Ideal.τ).loc Cert.Reference39Ideal.main_arg4)
          ∧ r.2.mem ((c.tc : Thread Cert.Reference39Ideal.nD Cert.Reference39Ideal.τ).loc Cert.Reference39Ideal.main_arg5) = m' ((c.tc : Thread Cert.Reference39Ideal.nD Cert.Reference39Ideal.τ).loc Cert.Reference39Ideal.main_arg5)
          ∧ r.2.mem ((c.tc : Thread Cert.Reference39Ideal.nD Cert.Reference39Ideal.τ).loc Cert.Reference39Ideal.main_arg6) = m' ((c.tc : Thread Cert.Reference39Ideal.nD Cert.Reference39Ideal.τ).loc Cert.Reference39Ideal.main_arg6)
          ∧ r.2.mem ((c.tc : Thread Cert.Reference39Ideal.nD Cert.Reference39Ideal.τ).loc Cert.Reference39Ideal.main_arg7) = m' ((c.tc : Thread Cert.Reference39Ideal.nD Cert.Reference39Ideal.τ).loc Cert.Reference39Ideal.main_arg7)
          ∧ r.2.mem ((c.tc : Thread Cert.Reference39Ideal.nD Cert.Reference39Ideal.τ).loc Cert.Reference39Ideal.main_arg8) = m' ((c.tc : Thread Cert.Reference39Ideal.nD Cert.Reference39Ideal.τ).loc Cert.Reference39Ideal.main_arg8)
          ∧ r.2.mem ((c.tc : Thread Cert.Reference39Ideal.nD Cert.Reference39Ideal.τ).loc Cert.Reference39Ideal.main_arg9) = m' ((c.tc : Thread Cert.Reference39Ideal.nD Cert.Reference39Ideal.τ).loc Cert.Reference39Ideal.main_arg9))

def preserves_Kernel40_Kernel40Ideal : Prop :=
  True

def algebraic_Kernel40Ideal_Reference40Ideal [hKernel40Ideal : Cert.Kernel40Ideal.Facts] [hReference40Ideal : Cert.Reference40Ideal.Facts] [hPre_pair7 : Cert.Pre_pair7.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)
      ∧ m' ((c.tc : Thread Cert.Reference40Ideal.nD Cert.Reference40Ideal.τ).loc Cert.Reference40Ideal.main_arg3) = m ((c.tc : Thread Cert.Kernel40Ideal.nD Cert.Kernel40Ideal.τ).loc Cert.Kernel40Ideal.main_arg3)
      ∧ m' ((c.tc : Thread Cert.Reference40Ideal.nD Cert.Reference40Ideal.τ).loc Cert.Reference40Ideal.main_arg4) = m ((c.tc : Thread Cert.Kernel40Ideal.nD Cert.Kernel40Ideal.τ).loc Cert.Kernel40Ideal.main_arg4)
      ∧ m' ((c.tc : Thread Cert.Reference40Ideal.nD Cert.Reference40Ideal.τ).loc Cert.Reference40Ideal.main_arg5) = m ((c.tc : Thread Cert.Kernel40Ideal.nD Cert.Kernel40Ideal.τ).loc Cert.Kernel40Ideal.main_arg5)
      ∧ m' ((c.tc : Thread Cert.Reference40Ideal.nD Cert.Reference40Ideal.τ).loc Cert.Reference40Ideal.main_arg6) = m ((c.tc : Thread Cert.Kernel40Ideal.nD Cert.Kernel40Ideal.τ).loc Cert.Kernel40Ideal.main_arg6)
      ∧ m' ((c.tc : Thread Cert.Reference40Ideal.nD Cert.Reference40Ideal.τ).loc Cert.Reference40Ideal.main_arg7) = m ((c.tc : Thread Cert.Kernel40Ideal.nD Cert.Kernel40Ideal.τ).loc Cert.Kernel40Ideal.main_arg7)
      ∧ m' ((c.tc : Thread Cert.Reference40Ideal.nD Cert.Reference40Ideal.τ).loc Cert.Reference40Ideal.main_arg8) = m ((c.tc : Thread Cert.Kernel40Ideal.nD Cert.Kernel40Ideal.τ).loc Cert.Kernel40Ideal.main_arg8)
      ∧ m' ((c.tc : Thread Cert.Reference40Ideal.nD Cert.Reference40Ideal.τ).loc Cert.Reference40Ideal.main_arg9) = m ((c.tc : Thread Cert.Kernel40Ideal.nD Cert.Kernel40Ideal.τ).loc Cert.Kernel40Ideal.main_arg9)) →
    ∃ (v0 : (c : Dev Cert.Kernel40Ideal.nD) → Buf (Elt Ideal) ((c.tc : Thread Cert.Kernel40Ideal.nD Cert.Kernel40Ideal.τ).loc Cert.Kernel40Ideal.main_v0_0)) (v1 : (c : Dev Cert.Kernel40Ideal.nD) → Buf (Elt Ideal) ((c.tc : Thread Cert.Kernel40Ideal.nD Cert.Kernel40Ideal.τ).loc Cert.Kernel40Ideal.main_v0_1)) (v2 : (c : Dev Cert.Kernel40Ideal.nD) → Buf (Elt Ideal) ((c.tc : Thread Cert.Kernel40Ideal.nD Cert.Kernel40Ideal.τ).loc Cert.Kernel40Ideal.main_v0_2)) (v3 : (c : Dev Cert.Kernel40Ideal.nD) → Buf (Elt Ideal) ((c.tc : Thread Cert.Kernel40Ideal.nD Cert.Kernel40Ideal.τ).loc Cert.Kernel40Ideal.main_v0_3)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0_0) = v0 c
          ∧ r.2.mem ((c.tc : Thread Cert.Kernel40Ideal.nD Cert.Kernel40Ideal.τ).loc Cert.Kernel40Ideal.main_v0_1) = v1 c
          ∧ r.2.mem ((c.tc : Thread Cert.Kernel40Ideal.nD Cert.Kernel40Ideal.τ).loc Cert.Kernel40Ideal.main_v0_2) = v2 c
          ∧ r.2.mem ((c.tc : Thread Cert.Kernel40Ideal.nD Cert.Kernel40Ideal.τ).loc Cert.Kernel40Ideal.main_v0_3) = v3 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
          ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3)
          ∧ r.2.mem ((c.tc : Thread Cert.Kernel40Ideal.nD Cert.Kernel40Ideal.τ).loc Cert.Kernel40Ideal.main_arg4) = m ((c.tc : Thread Cert.Kernel40Ideal.nD Cert.Kernel40Ideal.τ).loc Cert.Kernel40Ideal.main_arg4)
          ∧ r.2.mem ((c.tc : Thread Cert.Kernel40Ideal.nD Cert.Kernel40Ideal.τ).loc Cert.Kernel40Ideal.main_arg5) = m ((c.tc : Thread Cert.Kernel40Ideal.nD Cert.Kernel40Ideal.τ).loc Cert.Kernel40Ideal.main_arg5)
          ∧ r.2.mem ((c.tc : Thread Cert.Kernel40Ideal.nD Cert.Kernel40Ideal.τ).loc Cert.Kernel40Ideal.main_arg6) = m ((c.tc : Thread Cert.Kernel40Ideal.nD Cert.Kernel40Ideal.τ).loc Cert.Kernel40Ideal.main_arg6)
          ∧ r.2.mem ((c.tc : Thread Cert.Kernel40Ideal.nD Cert.Kernel40Ideal.τ).loc Cert.Kernel40Ideal.main_arg7) = m ((c.tc : Thread Cert.Kernel40Ideal.nD Cert.Kernel40Ideal.τ).loc Cert.Kernel40Ideal.main_arg7)
          ∧ r.2.mem ((c.tc : Thread Cert.Kernel40Ideal.nD Cert.Kernel40Ideal.τ).loc Cert.Kernel40Ideal.main_arg8) = m ((c.tc : Thread Cert.Kernel40Ideal.nD Cert.Kernel40Ideal.τ).loc Cert.Kernel40Ideal.main_arg8)
          ∧ r.2.mem ((c.tc : Thread Cert.Kernel40Ideal.nD Cert.Kernel40Ideal.τ).loc Cert.Kernel40Ideal.main_arg9) = m ((c.tc : Thread Cert.Kernel40Ideal.nD Cert.Kernel40Ideal.τ).loc Cert.Kernel40Ideal.main_arg9))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v37) = v0 c
          ∧ r.2.mem ((c.tc : Thread Cert.Reference40Ideal.nD Cert.Reference40Ideal.τ).loc Cert.Reference40Ideal.main_v38) = v1 c
          ∧ r.2.mem ((c.tc : Thread Cert.Reference40Ideal.nD Cert.Reference40Ideal.τ).loc Cert.Reference40Ideal.main_v39) = v2 c
          ∧ r.2.mem ((c.tc : Thread Cert.Reference40Ideal.nD Cert.Reference40Ideal.τ).loc Cert.Reference40Ideal.main_v40) = v3 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2)
          ∧ r.2.mem ((c.tc : Thread Cert.Reference40Ideal.nD Cert.Reference40Ideal.τ).loc Cert.Reference40Ideal.main_arg3) = m' ((c.tc : Thread Cert.Reference40Ideal.nD Cert.Reference40Ideal.τ).loc Cert.Reference40Ideal.main_arg3)
          ∧ r.2.mem ((c.tc : Thread Cert.Reference40Ideal.nD Cert.Reference40Ideal.τ).loc Cert.Reference40Ideal.main_arg4) = m' ((c.tc : Thread Cert.Reference40Ideal.nD Cert.Reference40Ideal.τ).loc Cert.Reference40Ideal.main_arg4)
          ∧ r.2.mem ((c.tc : Thread Cert.Reference40Ideal.nD Cert.Reference40Ideal.τ).loc Cert.Reference40Ideal.main_arg5) = m' ((c.tc : Thread Cert.Reference40Ideal.nD Cert.Reference40Ideal.τ).loc Cert.Reference40Ideal.main_arg5)
          ∧ r.2.mem ((c.tc : Thread Cert.Reference40Ideal.nD Cert.Reference40Ideal.τ).loc Cert.Reference40Ideal.main_arg6) = m' ((c.tc : Thread Cert.Reference40Ideal.nD Cert.Reference40Ideal.τ).loc Cert.Reference40Ideal.main_arg6)
          ∧ r.2.mem ((c.tc : Thread Cert.Reference40Ideal.nD Cert.Reference40Ideal.τ).loc Cert.Reference40Ideal.main_arg7) = m' ((c.tc : Thread Cert.Reference40Ideal.nD Cert.Reference40Ideal.τ).loc Cert.Reference40Ideal.main_arg7)
          ∧ r.2.mem ((c.tc : Thread Cert.Reference40Ideal.nD Cert.Reference40Ideal.τ).loc Cert.Reference40Ideal.main_arg8) = m' ((c.tc : Thread Cert.Reference40Ideal.nD Cert.Reference40Ideal.τ).loc Cert.Reference40Ideal.main_arg8)
          ∧ r.2.mem ((c.tc : Thread Cert.Reference40Ideal.nD Cert.Reference40Ideal.τ).loc Cert.Reference40Ideal.main_arg9) = m' ((c.tc : Thread Cert.Reference40Ideal.nD Cert.Reference40Ideal.τ).loc Cert.Reference40Ideal.main_arg9))

def preserves_Kernel41_Kernel41Ideal : Prop :=
  True

def algebraic_Kernel41Ideal_Reference41Ideal [hKernel41Ideal : Cert.Kernel41Ideal.Facts] [hReference41Ideal : Cert.Reference41Ideal.Facts] [hPre_pair7 : Cert.Pre_pair7.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)
      ∧ m' ((c.tc : Thread Cert.Reference41Ideal.nD Cert.Reference41Ideal.τ).loc Cert.Reference41Ideal.main_arg2) = m ((c.tc : Thread Cert.Kernel41Ideal.nD Cert.Kernel41Ideal.τ).loc Cert.Kernel41Ideal.main_arg2)
      ∧ m' ((c.tc : Thread Cert.Reference41Ideal.nD Cert.Reference41Ideal.τ).loc Cert.Reference41Ideal.main_arg3) = m ((c.tc : Thread Cert.Kernel41Ideal.nD Cert.Kernel41Ideal.τ).loc Cert.Kernel41Ideal.main_arg3)
      ∧ m' ((c.tc : Thread Cert.Reference41Ideal.nD Cert.Reference41Ideal.τ).loc Cert.Reference41Ideal.main_arg4) = m ((c.tc : Thread Cert.Kernel41Ideal.nD Cert.Kernel41Ideal.τ).loc Cert.Kernel41Ideal.main_arg4)
      ∧ m' ((c.tc : Thread Cert.Reference41Ideal.nD Cert.Reference41Ideal.τ).loc Cert.Reference41Ideal.main_arg5) = m ((c.tc : Thread Cert.Kernel41Ideal.nD Cert.Kernel41Ideal.τ).loc Cert.Kernel41Ideal.main_arg5)
      ∧ m' ((c.tc : Thread Cert.Reference41Ideal.nD Cert.Reference41Ideal.τ).loc Cert.Reference41Ideal.main_arg6) = m ((c.tc : Thread Cert.Kernel41Ideal.nD Cert.Kernel41Ideal.τ).loc Cert.Kernel41Ideal.main_arg6)
      ∧ m' ((c.tc : Thread Cert.Reference41Ideal.nD Cert.Reference41Ideal.τ).loc Cert.Reference41Ideal.main_arg7) = m ((c.tc : Thread Cert.Kernel41Ideal.nD Cert.Kernel41Ideal.τ).loc Cert.Kernel41Ideal.main_arg7)
      ∧ m' ((c.tc : Thread Cert.Reference41Ideal.nD Cert.Reference41Ideal.τ).loc Cert.Reference41Ideal.main_arg8) = m ((c.tc : Thread Cert.Kernel41Ideal.nD Cert.Kernel41Ideal.τ).loc Cert.Kernel41Ideal.main_arg8)
      ∧ m' ((c.tc : Thread Cert.Reference41Ideal.nD Cert.Reference41Ideal.τ).loc Cert.Reference41Ideal.main_arg9) = m ((c.tc : Thread Cert.Kernel41Ideal.nD Cert.Kernel41Ideal.τ).loc Cert.Kernel41Ideal.main_arg9)) →
    ∃ (v0 : (c : Dev Cert.Kernel41Ideal.nD) → Buf (Elt Ideal) ((c.tc : Thread Cert.Kernel41Ideal.nD Cert.Kernel41Ideal.τ).loc Cert.Kernel41Ideal.main_v0_0)) (v1 : (c : Dev Cert.Kernel41Ideal.nD) → Buf (Elt Ideal) ((c.tc : Thread Cert.Kernel41Ideal.nD Cert.Kernel41Ideal.τ).loc Cert.Kernel41Ideal.main_v0_1)) (v2 : (c : Dev Cert.Kernel41Ideal.nD) → Buf (Elt Ideal) ((c.tc : Thread Cert.Kernel41Ideal.nD Cert.Kernel41Ideal.τ).loc Cert.Kernel41Ideal.main_v0_2)) (v3 : (c : Dev Cert.Kernel41Ideal.nD) → Buf (Elt Ideal) ((c.tc : Thread Cert.Kernel41Ideal.nD Cert.Kernel41Ideal.τ).loc Cert.Kernel41Ideal.main_v0_3)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v0_0) = v0 c
          ∧ r.2.mem ((c.tc : Thread Cert.Kernel41Ideal.nD Cert.Kernel41Ideal.τ).loc Cert.Kernel41Ideal.main_v0_1) = v1 c
          ∧ r.2.mem ((c.tc : Thread Cert.Kernel41Ideal.nD Cert.Kernel41Ideal.τ).loc Cert.Kernel41Ideal.main_v0_2) = v2 c
          ∧ r.2.mem ((c.tc : Thread Cert.Kernel41Ideal.nD Cert.Kernel41Ideal.τ).loc Cert.Kernel41Ideal.main_v0_3) = v3 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
          ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
          ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3)
          ∧ r.2.mem ((c.tc : Thread Cert.Kernel41Ideal.nD Cert.Kernel41Ideal.τ).loc Cert.Kernel41Ideal.main_arg4) = m ((c.tc : Thread Cert.Kernel41Ideal.nD Cert.Kernel41Ideal.τ).loc Cert.Kernel41Ideal.main_arg4)
          ∧ r.2.mem ((c.tc : Thread Cert.Kernel41Ideal.nD Cert.Kernel41Ideal.τ).loc Cert.Kernel41Ideal.main_arg5) = m ((c.tc : Thread Cert.Kernel41Ideal.nD Cert.Kernel41Ideal.τ).loc Cert.Kernel41Ideal.main_arg5)
          ∧ r.2.mem ((c.tc : Thread Cert.Kernel41Ideal.nD Cert.Kernel41Ideal.τ).loc Cert.Kernel41Ideal.main_arg6) = m ((c.tc : Thread Cert.Kernel41Ideal.nD Cert.Kernel41Ideal.τ).loc Cert.Kernel41Ideal.main_arg6)
          ∧ r.2.mem ((c.tc : Thread Cert.Kernel41Ideal.nD Cert.Kernel41Ideal.τ).loc Cert.Kernel41Ideal.main_arg7) = m ((c.tc : Thread Cert.Kernel41Ideal.nD Cert.Kernel41Ideal.τ).loc Cert.Kernel41Ideal.main_arg7)
          ∧ r.2.mem ((c.tc : Thread Cert.Kernel41Ideal.nD Cert.Kernel41Ideal.τ).loc Cert.Kernel41Ideal.main_arg8) = m ((c.tc : Thread Cert.Kernel41Ideal.nD Cert.Kernel41Ideal.τ).loc Cert.Kernel41Ideal.main_arg8)
          ∧ r.2.mem ((c.tc : Thread Cert.Kernel41Ideal.nD Cert.Kernel41Ideal.τ).loc Cert.Kernel41Ideal.main_arg9) = m ((c.tc : Thread Cert.Kernel41Ideal.nD Cert.Kernel41Ideal.τ).loc Cert.Kernel41Ideal.main_arg9))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v37) = v0 c
          ∧ r.2.mem ((c.tc : Thread Cert.Reference41Ideal.nD Cert.Reference41Ideal.τ).loc Cert.Reference41Ideal.main_v38) = v1 c
          ∧ r.2.mem ((c.tc : Thread Cert.Reference41Ideal.nD Cert.Reference41Ideal.τ).loc Cert.Reference41Ideal.main_v39) = v2 c
          ∧ r.2.mem ((c.tc : Thread Cert.Reference41Ideal.nD Cert.Reference41Ideal.τ).loc Cert.Reference41Ideal.main_v40) = v3 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1)
          ∧ r.2.mem ((c.tc : Thread Cert.Reference41Ideal.nD Cert.Reference41Ideal.τ).loc Cert.Reference41Ideal.main_arg2) = m' ((c.tc : Thread Cert.Reference41Ideal.nD Cert.Reference41Ideal.τ).loc Cert.Reference41Ideal.main_arg2)
          ∧ r.2.mem ((c.tc : Thread Cert.Reference41Ideal.nD Cert.Reference41Ideal.τ).loc Cert.Reference41Ideal.main_arg3) = m' ((c.tc : Thread Cert.Reference41Ideal.nD Cert.Reference41Ideal.τ).loc Cert.Reference41Ideal.main_arg3)
          ∧ r.2.mem ((c.tc : Thread Cert.Reference41Ideal.nD Cert.Reference41Ideal.τ).loc Cert.Reference41Ideal.main_arg4) = m' ((c.tc : Thread Cert.Reference41Ideal.nD Cert.Reference41Ideal.τ).loc Cert.Reference41Ideal.main_arg4)
          ∧ r.2.mem ((c.tc : Thread Cert.Reference41Ideal.nD Cert.Reference41Ideal.τ).loc Cert.Reference41Ideal.main_arg5) = m' ((c.tc : Thread Cert.Reference41Ideal.nD Cert.Reference41Ideal.τ).loc Cert.Reference41Ideal.main_arg5)
          ∧ r.2.mem ((c.tc : Thread Cert.Reference41Ideal.nD Cert.Reference41Ideal.τ).loc Cert.Reference41Ideal.main_arg6) = m' ((c.tc : Thread Cert.Reference41Ideal.nD Cert.Reference41Ideal.τ).loc Cert.Reference41Ideal.main_arg6)
          ∧ r.2.mem ((c.tc : Thread Cert.Reference41Ideal.nD Cert.Reference41Ideal.τ).loc Cert.Reference41Ideal.main_arg7) = m' ((c.tc : Thread Cert.Reference41Ideal.nD Cert.Reference41Ideal.τ).loc Cert.Reference41Ideal.main_arg7)
          ∧ r.2.mem ((c.tc : Thread Cert.Reference41Ideal.nD Cert.Reference41Ideal.τ).loc Cert.Reference41Ideal.main_arg8) = m' ((c.tc : Thread Cert.Reference41Ideal.nD Cert.Reference41Ideal.τ).loc Cert.Reference41Ideal.main_arg8)
          ∧ r.2.mem ((c.tc : Thread Cert.Reference41Ideal.nD Cert.Reference41Ideal.τ).loc Cert.Reference41Ideal.main_arg9) = m' ((c.tc : Thread Cert.Reference41Ideal.nD Cert.Reference41Ideal.τ).loc Cert.Reference41Ideal.main_arg9))

def preserves_Kernel42_Kernel42Ideal : Prop :=
  True

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)) →
    ∃ (v0 : (c : Dev Cert.Kernel42Ideal.nD) → Buf (Elt Ideal) ((c.tc : Thread Cert.Kernel42Ideal.nD Cert.Kernel42Ideal.τ).loc Cert.Kernel42Ideal.main_v0)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v0) = v0 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v4) = v0 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1))

def preserves_Kernel43_Kernel43Ideal : Prop :=
  True

def algebraic_Kernel43Ideal_Reference43Ideal [hKernel43Ideal : Cert.Kernel43Ideal.Facts] [hReference43Ideal : Cert.Reference43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg)
    (m' : (ℓ : Loc Cert.Reference43Ideal.nD Cert.Reference43Ideal.τ Cert.Reference43Ideal.sig) → Buf (Elt Ideal) ℓ) (g' : Dev Cert.Reference43Ideal.nD → PrngReg), Pre_Kernel43Ideal m →
    (∀ c : Dev Cert.Kernel43Ideal.nD,
      m' ((c.tc : Thread Cert.Reference43Ideal.nD Cert.Reference43Ideal.τ).loc Cert.Reference43Ideal.main_arg0) = m ((c.tc : Thread Cert.Kernel43Ideal.nD Cert.Kernel43Ideal.τ).loc Cert.Kernel43Ideal.main_arg0)
      ∧ m' ((c.tc : Thread Cert.Reference43Ideal.nD Cert.Reference43Ideal.τ).loc Cert.Reference43Ideal.main_arg1) = m ((c.tc : Thread Cert.Kernel43Ideal.nD Cert.Kernel43Ideal.τ).loc Cert.Kernel43Ideal.main_arg1)
      ∧ m' ((c.tc : Thread Cert.Reference43Ideal.nD Cert.Reference43Ideal.τ).loc Cert.Reference43Ideal.main_arg2) = m ((c.tc : Thread Cert.Kernel43Ideal.nD Cert.Kernel43Ideal.τ).loc Cert.Kernel43Ideal.main_arg2)
      ∧ m' ((c.tc : Thread Cert.Reference43Ideal.nD Cert.Reference43Ideal.τ).loc Cert.Reference43Ideal.main_arg3) = m ((c.tc : Thread Cert.Kernel43Ideal.nD Cert.Kernel43Ideal.τ).loc Cert.Kernel43Ideal.main_arg3)) →
    ∃ (v0 : (c : Dev Cert.Kernel43Ideal.nD) → Buf (Elt Ideal) ((c.tc : Thread Cert.Kernel43Ideal.nD Cert.Kernel43Ideal.τ).loc Cert.Kernel43Ideal.main_v0_0)) (v1 : (c : Dev Cert.Kernel43Ideal.nD) → Buf (Elt Ideal) ((c.tc : Thread Cert.Kernel43Ideal.nD Cert.Kernel43Ideal.τ).loc Cert.Kernel43Ideal.main_v0_1)),
      θ_run (Cert.Kernel43Ideal.defs (F := Ideal)) (onTc (τ := Cert.Kernel43Ideal.τ) (Cert.Kernel43Ideal.main (F := Ideal))) ⟨m, fun _ => 0, g⟩ (fun r => ∀ c : Dev Cert.Kernel43Ideal.nD,
          r.2.mem ((c.tc : Thread Cert.Kernel43Ideal.nD Cert.Kernel43Ideal.τ).loc Cert.Kernel43Ideal.main_v0_0) = v0 c
          ∧ r.2.mem ((c.tc : Thread Cert.Kernel43Ideal.nD Cert.Kernel43Ideal.τ).loc Cert.Kernel43Ideal.main_v0_1) = v1 c
          ∧ r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
          ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
          ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2)
          ∧ r.2.mem ((c.tc : Thread Cert.Kernel43Ideal.nD Cert.Kernel43Ideal.τ).loc Cert.Kernel43Ideal.main_arg3) = m ((c.tc : Thread Cert.Kernel43Ideal.nD Cert.Kernel43Ideal.τ).loc Cert.Kernel43Ideal.main_arg3))
      ∧ θ_run (Cert.Reference43Ideal.defs (F := Ideal)) (onTc (τ := Cert.Reference43Ideal.τ) (Cert.Reference43Ideal.main (F := Ideal))) ⟨m', fun _ => 0, g'⟩ (fun r => ∀ c : Dev Cert.Reference43Ideal.nD,
          r.2.mem ((c.tc : Thread Cert.Reference43Ideal.nD Cert.Reference43Ideal.τ).loc Cert.Reference43Ideal.main_v4) = v0 c
          ∧ r.2.mem ((c.tc : Thread Cert.Reference43Ideal.nD Cert.Reference43Ideal.τ).loc Cert.Reference43Ideal.main_v22) = v1 c
          ∧ r.2.mem ((c.tc : Thread Cert.Reference43Ideal.nD Cert.Reference43Ideal.τ).loc Cert.Reference43Ideal.main_arg0) = m' ((c.tc : Thread Cert.Reference43Ideal.nD Cert.Reference43Ideal.τ).loc Cert.Reference43Ideal.main_arg0)
          ∧ r.2.mem ((c.tc : Thread Cert.Reference43Ideal.nD Cert.Reference43Ideal.τ).loc Cert.Reference43Ideal.main_arg1) = m' ((c.tc : Thread Cert.Reference43Ideal.nD Cert.Reference43Ideal.τ).loc Cert.Reference43Ideal.main_arg1)
          ∧ r.2.mem ((c.tc : Thread Cert.Reference43Ideal.nD Cert.Reference43Ideal.τ).loc Cert.Reference43Ideal.main_arg2) = m' ((c.tc : Thread Cert.Reference43Ideal.nD Cert.Reference43Ideal.τ).loc Cert.Reference43Ideal.main_arg2)
          ∧ r.2.mem ((c.tc : Thread Cert.Reference43Ideal.nD Cert.Reference43Ideal.τ).loc Cert.Reference43Ideal.main_arg3) = m' ((c.tc : Thread Cert.Reference43Ideal.nD Cert.Reference43Ideal.τ).loc Cert.Reference43Ideal.main_arg3))

def preserves_Kernel44_Kernel44Ideal : Prop :=
  True

def algebraic_Kernel44Ideal_Reference44Ideal [hKernel44Ideal : Cert.Kernel44Ideal.Facts] [hReference44Ideal : Cert.Reference44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg)
    (m' : (ℓ : Loc Cert.Reference44Ideal.nD Cert.Reference44Ideal.τ Cert.Reference44Ideal.sig) → Buf (Elt Ideal) ℓ) (g' : Dev Cert.Reference44Ideal.nD → PrngReg), Pre_Kernel44Ideal m →
    (∀ c : Dev Cert.Kernel44Ideal.nD,
      m' ((c.tc : Thread Cert.Reference44Ideal.nD Cert.Reference44Ideal.τ).loc Cert.Reference44Ideal.main_arg0) = m ((c.tc : Thread Cert.Kernel44Ideal.nD Cert.Kernel44Ideal.τ).loc Cert.Kernel44Ideal.main_arg0)
      ∧ m' ((c.tc : Thread Cert.Reference44Ideal.nD Cert.Reference44Ideal.τ).loc Cert.Reference44Ideal.main_arg1) = m ((c.tc : Thread Cert.Kernel44Ideal.nD Cert.Kernel44Ideal.τ).loc Cert.Kernel44Ideal.main_arg1)
      ∧ m' ((c.tc : Thread Cert.Reference44Ideal.nD Cert.Reference44Ideal.τ).loc Cert.Reference44Ideal.main_arg2) = m ((c.tc : Thread Cert.Kernel44Ideal.nD Cert.Kernel44Ideal.τ).loc Cert.Kernel44Ideal.main_arg2)
      ∧ m' ((c.tc : Thread Cert.Reference44Ideal.nD Cert.Reference44Ideal.τ).loc Cert.Reference44Ideal.main_arg3) = m ((c.tc : Thread Cert.Kernel44Ideal.nD Cert.Kernel44Ideal.τ).loc Cert.Kernel44Ideal.main_arg3)
      ∧ m' ((c.tc : Thread Cert.Reference44Ideal.nD Cert.Reference44Ideal.τ).loc Cert.Reference44Ideal.main_arg4) = m ((c.tc : Thread Cert.Kernel44Ideal.nD Cert.Kernel44Ideal.τ).loc Cert.Kernel44Ideal.main_arg4)) →
    ∃ (v0 : (c : Dev Cert.Kernel44Ideal.nD) → Buf (Elt Ideal) ((c.tc : Thread Cert.Kernel44Ideal.nD Cert.Kernel44Ideal.τ).loc Cert.Kernel44Ideal.main_v0_0)) (v1 : (c : Dev Cert.Kernel44Ideal.nD) → Buf (Elt Ideal) ((c.tc : Thread Cert.Kernel44Ideal.nD Cert.Kernel44Ideal.τ).loc Cert.Kernel44Ideal.main_v0_1)) (v2 : (c : Dev Cert.Kernel44Ideal.nD) → Buf (Elt Ideal) ((c.tc : Thread Cert.Kernel44Ideal.nD Cert.Kernel44Ideal.τ).loc Cert.Kernel44Ideal.main_v0_2)) (v3 : (c : Dev Cert.Kernel44Ideal.nD) → Buf (Elt Ideal) ((c.tc : Thread Cert.Kernel44Ideal.nD Cert.Kernel44Ideal.τ).loc Cert.Kernel44Ideal.main_v0_3)),
      θ_run (Cert.Kernel44Ideal.defs (F := Ideal)) (onTc (τ := Cert.Kernel44Ideal.τ) (Cert.Kernel44Ideal.main (F := Ideal))) ⟨m, fun _ => 0, g⟩ (fun r => ∀ c : Dev Cert.Kernel44Ideal.nD,
          r.2.mem ((c.tc : Thread Cert.Kernel44Ideal.nD Cert.Kernel44Ideal.τ).loc Cert.Kernel44Ideal.main_v0_0) = v0 c
          ∧ r.2.mem ((c.tc : Thread Cert.Kernel44Ideal.nD Cert.Kernel44Ideal.τ).loc Cert.Kernel44Ideal.main_v0_1) = v1 c
          ∧ r.2.mem ((c.tc : Thread Cert.Kernel44Ideal.nD Cert.Kernel44Ideal.τ).loc Cert.Kernel44Ideal.main_v0_2) = v2 c
          ∧ r.2.mem ((c.tc : Thread Cert.Kernel44Ideal.nD Cert.Kernel44Ideal.τ).loc Cert.Kernel44Ideal.main_v0_3) = v3 c
          ∧ r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
          ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1)
          ∧ r.2.mem ((c.tc : Thread Cert.Kernel44Ideal.nD Cert.Kernel44Ideal.τ).loc Cert.Kernel44Ideal.main_arg2) = m ((c.tc : Thread Cert.Kernel44Ideal.nD Cert.Kernel44Ideal.τ).loc Cert.Kernel44Ideal.main_arg2)
          ∧ r.2.mem ((c.tc : Thread Cert.Kernel44Ideal.nD Cert.Kernel44Ideal.τ).loc Cert.Kernel44Ideal.main_arg3) = m ((c.tc : Thread Cert.Kernel44Ideal.nD Cert.Kernel44Ideal.τ).loc Cert.Kernel44Ideal.main_arg3)
          ∧ r.2.mem ((c.tc : Thread Cert.Kernel44Ideal.nD Cert.Kernel44Ideal.τ).loc Cert.Kernel44Ideal.main_arg4) = m ((c.tc : Thread Cert.Kernel44Ideal.nD Cert.Kernel44Ideal.τ).loc Cert.Kernel44Ideal.main_arg4))
      ∧ θ_run (Cert.Reference44Ideal.defs (F := Ideal)) (onTc (τ := Cert.Reference44Ideal.τ) (Cert.Reference44Ideal.main (F := Ideal))) ⟨m', fun _ => 0, g'⟩ (fun r => ∀ c : Dev Cert.Reference44Ideal.nD,
          r.2.mem ((c.tc : Thread Cert.Reference44Ideal.nD Cert.Reference44Ideal.τ).loc Cert.Reference44Ideal.main_v33) = v0 c
          ∧ r.2.mem ((c.tc : Thread Cert.Reference44Ideal.nD Cert.Reference44Ideal.τ).loc Cert.Reference44Ideal.main_v34) = v1 c
          ∧ r.2.mem ((c.tc : Thread Cert.Reference44Ideal.nD Cert.Reference44Ideal.τ).loc Cert.Reference44Ideal.main_v35) = v2 c
          ∧ r.2.mem ((c.tc : Thread Cert.Reference44Ideal.nD Cert.Reference44Ideal.τ).loc Cert.Reference44Ideal.main_v36) = v3 c
          ∧ r.2.mem ((c.tc : Thread Cert.Reference44Ideal.nD Cert.Reference44Ideal.τ).loc Cert.Reference44Ideal.main_arg0) = m' ((c.tc : Thread Cert.Reference44Ideal.nD Cert.Reference44Ideal.τ).loc Cert.Reference44Ideal.main_arg0)
          ∧ r.2.mem ((c.tc : Thread Cert.Reference44Ideal.nD Cert.Reference44Ideal.τ).loc Cert.Reference44Ideal.main_arg1) = m' ((c.tc : Thread Cert.Reference44Ideal.nD Cert.Reference44Ideal.τ).loc Cert.Reference44Ideal.main_arg1)
          ∧ r.2.mem ((c.tc : Thread Cert.Reference44Ideal.nD Cert.Reference44Ideal.τ).loc Cert.Reference44Ideal.main_arg2) = m' ((c.tc : Thread Cert.Reference44Ideal.nD Cert.Reference44Ideal.τ).loc Cert.Reference44Ideal.main_arg2)
          ∧ r.2.mem ((c.tc : Thread Cert.Reference44Ideal.nD Cert.Reference44Ideal.τ).loc Cert.Reference44Ideal.main_arg3) = m' ((c.tc : Thread Cert.Reference44Ideal.nD Cert.Reference44Ideal.τ).loc Cert.Reference44Ideal.main_arg3)
          ∧ r.2.mem ((c.tc : Thread Cert.Reference44Ideal.nD Cert.Reference44Ideal.τ).loc Cert.Reference44Ideal.main_arg4) = m' ((c.tc : Thread Cert.Reference44Ideal.nD Cert.Reference44Ideal.τ).loc Cert.Reference44Ideal.main_arg4))

def preserves_Kernel45_Kernel45Ideal : Prop :=
  True

def algebraic_Kernel45Ideal_Reference45Ideal [hKernel45Ideal : Cert.Kernel45Ideal.Facts] [hReference45Ideal : Cert.Reference45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg)
    (m' : (ℓ : Loc Cert.Reference45Ideal.nD Cert.Reference45Ideal.τ Cert.Reference45Ideal.sig) → Buf (Elt Ideal) ℓ) (g' : Dev Cert.Reference45Ideal.nD → PrngReg), Pre_Kernel45Ideal m →
    (∀ c : Dev Cert.Kernel45Ideal.nD,
      m' ((c.tc : Thread Cert.Reference45Ideal.nD Cert.Reference45Ideal.τ).loc Cert.Reference45Ideal.main_arg0) = m ((c.tc : Thread Cert.Kernel45Ideal.nD Cert.Kernel45Ideal.τ).loc Cert.Kernel45Ideal.main_arg0)
      ∧ m' ((c.tc : Thread Cert.Reference45Ideal.nD Cert.Reference45Ideal.τ).loc Cert.Reference45Ideal.main_arg1) = m ((c.tc : Thread Cert.Kernel45Ideal.nD Cert.Kernel45Ideal.τ).loc Cert.Kernel45Ideal.main_arg1)) →
    ∃ (v0 : (c : Dev Cert.Kernel45Ideal.nD) → Buf (Elt Ideal) ((c.tc : Thread Cert.Kernel45Ideal.nD Cert.Kernel45Ideal.τ).loc Cert.Kernel45Ideal.main_v0)),
      θ_run (Cert.Kernel45Ideal.defs (F := Ideal)) (onTc (τ := Cert.Kernel45Ideal.τ) (Cert.Kernel45Ideal.main (F := Ideal))) ⟨m, fun _ => 0, g⟩ (fun r => ∀ c : Dev Cert.Kernel45Ideal.nD,
          r.2.mem ((c.tc : Thread Cert.Kernel45Ideal.nD Cert.Kernel45Ideal.τ).loc Cert.Kernel45Ideal.main_v0) = v0 c
          ∧ r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
          ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1))
      ∧ θ_run (Cert.Reference45Ideal.defs (F := Ideal)) (onTc (τ := Cert.Reference45Ideal.τ) (Cert.Reference45Ideal.main (F := Ideal))) ⟨m', fun _ => 0, g'⟩ (fun r => ∀ c : Dev Cert.Reference45Ideal.nD,
          r.2.mem ((c.tc : Thread Cert.Reference45Ideal.nD Cert.Reference45Ideal.τ).loc Cert.Reference45Ideal.main_v4) = v0 c
          ∧ r.2.mem ((c.tc : Thread Cert.Reference45Ideal.nD Cert.Reference45Ideal.τ).loc Cert.Reference45Ideal.main_arg0) = m' ((c.tc : Thread Cert.Reference45Ideal.nD Cert.Reference45Ideal.τ).loc Cert.Reference45Ideal.main_arg0)
          ∧ r.2.mem ((c.tc : Thread Cert.Reference45Ideal.nD Cert.Reference45Ideal.τ).loc Cert.Reference45Ideal.main_arg1) = m' ((c.tc : Thread Cert.Reference45Ideal.nD Cert.Reference45Ideal.τ).loc Cert.Reference45Ideal.main_arg1))

def preserves_Kernel46_Kernel46Ideal : Prop :=
  True

def algebraic_Kernel46Ideal_Reference46Ideal [hKernel46Ideal : Cert.Kernel46Ideal.Facts] [hReference46Ideal : Cert.Reference46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg)
    (m' : (ℓ : Loc Cert.Reference46Ideal.nD Cert.Reference46Ideal.τ Cert.Reference46Ideal.sig) → Buf (Elt Ideal) ℓ) (g' : Dev Cert.Reference46Ideal.nD → PrngReg), Pre_Kernel46Ideal m →
    (∀ c : Dev Cert.Kernel46Ideal.nD,
      m' ((c.tc : Thread Cert.Reference46Ideal.nD Cert.Reference46Ideal.τ).loc Cert.Reference46Ideal.main_arg0) = m ((c.tc : Thread Cert.Kernel46Ideal.nD Cert.Kernel46Ideal.τ).loc Cert.Kernel46Ideal.main_arg0)
      ∧ m' ((c.tc : Thread Cert.Reference46Ideal.nD Cert.Reference46Ideal.τ).loc Cert.Reference46Ideal.main_arg1) = m ((c.tc : Thread Cert.Kernel46Ideal.nD Cert.Kernel46Ideal.τ).loc Cert.Kernel46Ideal.main_arg1)) →
    ∃ (v0 : (c : Dev Cert.Kernel46Ideal.nD) → Buf (Elt Ideal) ((c.tc : Thread Cert.Kernel46Ideal.nD Cert.Kernel46Ideal.τ).loc Cert.Kernel46Ideal.main_v0)),
      θ_run (Cert.Kernel46Ideal.defs (F := Ideal)) (onTc (τ := Cert.Kernel46Ideal.τ) (Cert.Kernel46Ideal.main (F := Ideal))) ⟨m, fun _ => 0, g⟩ (fun r => ∀ c : Dev Cert.Kernel46Ideal.nD,
          r.2.mem ((c.tc : Thread Cert.Kernel46Ideal.nD Cert.Kernel46Ideal.τ).loc Cert.Kernel46Ideal.main_v0) = v0 c
          ∧ r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
          ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1))
      ∧ θ_run (Cert.Reference46Ideal.defs (F := Ideal)) (onTc (τ := Cert.Reference46Ideal.τ) (Cert.Reference46Ideal.main (F := Ideal))) ⟨m', fun _ => 0, g'⟩ (fun r => ∀ c : Dev Cert.Reference46Ideal.nD,
          r.2.mem ((c.tc : Thread Cert.Reference46Ideal.nD Cert.Reference46Ideal.τ).loc Cert.Reference46Ideal.main_v4) = v0 c
          ∧ r.2.mem ((c.tc : Thread Cert.Reference46Ideal.nD Cert.Reference46Ideal.τ).loc Cert.Reference46Ideal.main_arg0) = m' ((c.tc : Thread Cert.Reference46Ideal.nD Cert.Reference46Ideal.τ).loc Cert.Reference46Ideal.main_arg0)
          ∧ r.2.mem ((c.tc : Thread Cert.Reference46Ideal.nD Cert.Reference46Ideal.τ).loc Cert.Reference46Ideal.main_arg1) = m' ((c.tc : Thread Cert.Reference46Ideal.nD Cert.Reference46Ideal.τ).loc Cert.Reference46Ideal.main_arg1))

def preserves_Kernel47_Kernel47Ideal : Prop :=
  True

def algebraic_Kernel47Ideal_Reference47Ideal [hKernel47Ideal : Cert.Kernel47Ideal.Facts] [hReference47Ideal : Cert.Reference47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg)
    (m' : (ℓ : Loc Cert.Reference47Ideal.nD Cert.Reference47Ideal.τ Cert.Reference47Ideal.sig) → Buf (Elt Ideal) ℓ) (g' : Dev Cert.Reference47Ideal.nD → PrngReg), Pre_Kernel47Ideal m →
    (∀ c : Dev Cert.Kernel47Ideal.nD,
      m' ((c.tc : Thread Cert.Reference47Ideal.nD Cert.Reference47Ideal.τ).loc Cert.Reference47Ideal.main_arg0) = m ((c.tc : Thread Cert.Kernel47Ideal.nD Cert.Kernel47Ideal.τ).loc Cert.Kernel47Ideal.main_arg0)
      ∧ m' ((c.tc : Thread Cert.Reference47Ideal.nD Cert.Reference47Ideal.τ).loc Cert.Reference47Ideal.main_arg1) = m ((c.tc : Thread Cert.Kernel47Ideal.nD Cert.Kernel47Ideal.τ).loc Cert.Kernel47Ideal.main_arg1)) →
    ∃ (v0 : (c : Dev Cert.Kernel47Ideal.nD) → Buf (Elt Ideal) ((c.tc : Thread Cert.Kernel47Ideal.nD Cert.Kernel47Ideal.τ).loc Cert.Kernel47Ideal.main_v0)),
      θ_run (Cert.Kernel47Ideal.defs (F := Ideal)) (onTc (τ := Cert.Kernel47Ideal.τ) (Cert.Kernel47Ideal.main (F := Ideal))) ⟨m, fun _ => 0, g⟩ (fun r => ∀ c : Dev Cert.Kernel47Ideal.nD,
          r.2.mem ((c.tc : Thread Cert.Kernel47Ideal.nD Cert.Kernel47Ideal.τ).loc Cert.Kernel47Ideal.main_v0) = v0 c
          ∧ r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0)
          ∧ r.2.mem ((c.tc : Thread Cert.Kernel47Ideal.nD Cert.Kernel47Ideal.τ).loc Cert.Kernel47Ideal.main_arg1) = m ((c.tc : Thread Cert.Kernel47Ideal.nD Cert.Kernel47Ideal.τ).loc Cert.Kernel47Ideal.main_arg1))
      ∧ θ_run (Cert.Reference47Ideal.defs (F := Ideal)) (onTc (τ := Cert.Reference47Ideal.τ) (Cert.Reference47Ideal.main (F := Ideal))) ⟨m', fun _ => 0, g'⟩ (fun r => ∀ c : Dev Cert.Reference47Ideal.nD,
          r.2.mem ((c.tc : Thread Cert.Reference47Ideal.nD Cert.Reference47Ideal.τ).loc Cert.Reference47Ideal.main_v6) = v0 c
          ∧ r.2.mem ((c.tc : Thread Cert.Reference47Ideal.nD Cert.Reference47Ideal.τ).loc Cert.Reference47Ideal.main_arg0) = m' ((c.tc : Thread Cert.Reference47Ideal.nD Cert.Reference47Ideal.τ).loc Cert.Reference47Ideal.main_arg0)
          ∧ r.2.mem ((c.tc : Thread Cert.Reference47Ideal.nD Cert.Reference47Ideal.τ).loc Cert.Reference47Ideal.main_arg1) = m' ((c.tc : Thread Cert.Reference47Ideal.nD Cert.Reference47Ideal.τ).loc Cert.Reference47Ideal.main_arg1))

def preserves_Kernel48_Kernel48Ideal : Prop :=
  True

def algebraic_Kernel48Ideal_Reference48Ideal [hKernel48Ideal : Cert.Kernel48Ideal.Facts] [hReference48Ideal : Cert.Reference48Ideal.Facts] : Prop :=
  ∀ (m : (ℓ : Loc Cert.Kernel48Ideal.nD Cert.Kernel48Ideal.τ Cert.Kernel48Ideal.sig) → Buf (Elt Ideal) ℓ) (g : Dev Cert.Kernel48Ideal.nD → PrngReg)
    (m' : (ℓ : Loc Cert.Reference48Ideal.nD Cert.Reference48Ideal.τ Cert.Reference48Ideal.sig) → Buf (Elt Ideal) ℓ) (g' : Dev Cert.Reference48Ideal.nD → PrngReg), Pre_Kernel48Ideal m →
    (∀ c : Dev Cert.Kernel48Ideal.nD,
      m' ((c.tc : Thread Cert.Reference48Ideal.nD Cert.Reference48Ideal.τ).loc Cert.Reference48Ideal.main_arg0) = m ((c.tc : Thread Cert.Kernel48Ideal.nD Cert.Kernel48Ideal.τ).loc Cert.Kernel48Ideal.main_arg0)
      ∧ m' ((c.tc : Thread Cert.Reference48Ideal.nD Cert.Reference48Ideal.τ).loc Cert.Reference48Ideal.main_arg1) = m ((c.tc : Thread Cert.Kernel48Ideal.nD Cert.Kernel48Ideal.τ).loc Cert.Kernel48Ideal.main_arg1)
      ∧ m' ((c.tc : Thread Cert.Reference48Ideal.nD Cert.Reference48Ideal.τ).loc Cert.Reference48Ideal.main_arg2) = m ((c.tc : Thread Cert.Kernel48Ideal.nD Cert.Kernel48Ideal.τ).loc Cert.Kernel48Ideal.main_arg2)) →
    ∃ (v0 : (c : Dev Cert.Kernel48Ideal.nD) → Buf (Elt Ideal) ((c.tc : Thread Cert.Kernel48Ideal.nD Cert.Kernel48Ideal.τ).loc Cert.Kernel48Ideal.main_v1_0)) (v1 : (c : Dev Cert.Kernel48Ideal.nD) → Buf (Elt Ideal) ((c.tc : Thread Cert.Kernel48Ideal.nD Cert.Kernel48Ideal.τ).loc Cert.Kernel48Ideal.main_v1_1)),
      θ_run (Cert.Kernel48Ideal.defs (F := Ideal)) (onTc (τ := Cert.Kernel48Ideal.τ) (Cert.Kernel48Ideal.main (F := Ideal))) ⟨m, fun _ => 0, g⟩ (fun r => ∀ c : Dev Cert.Kernel48Ideal.nD,
          r.2.mem ((c.tc : Thread Cert.Kernel48Ideal.nD Cert.Kernel48Ideal.τ).loc Cert.Kernel48Ideal.main_v1_0) = v0 c
          ∧ r.2.mem ((c.tc : Thread Cert.Kernel48Ideal.nD Cert.Kernel48Ideal.τ).loc Cert.Kernel48Ideal.main_v1_1) = v1 c
          ∧ r.2.mem ((c.tc : Thread Cert.Kernel48Ideal.nD Cert.Kernel48Ideal.τ).loc Cert.Kernel48Ideal.main_arg0) = m ((c.tc : Thread Cert.Kernel48Ideal.nD Cert.Kernel48Ideal.τ).loc Cert.Kernel48Ideal.main_arg0)
          ∧ r.2.mem ((c.tc : Thread Cert.Kernel48Ideal.nD Cert.Kernel48Ideal.τ).loc Cert.Kernel48Ideal.main_arg1) = m ((c.tc : Thread Cert.Kernel48Ideal.nD Cert.Kernel48Ideal.τ).loc Cert.Kernel48Ideal.main_arg1)
          ∧ r.2.mem ((c.tc : Thread Cert.Kernel48Ideal.nD Cert.Kernel48Ideal.τ).loc Cert.Kernel48Ideal.main_arg2) = m ((c.tc : Thread Cert.Kernel48Ideal.nD Cert.Kernel48Ideal.τ).loc Cert.Kernel48Ideal.main_arg2))
      ∧ θ_run (Cert.Reference48Ideal.defs (F := Ideal)) (onTc (τ := Cert.Reference48Ideal.τ) (Cert.Reference48Ideal.main (F := Ideal))) ⟨m', fun _ => 0, g'⟩ (fun r => ∀ c : Dev Cert.Reference48Ideal.nD,
          r.2.mem ((c.tc : Thread Cert.Reference48Ideal.nD Cert.Reference48Ideal.τ).loc Cert.Reference48Ideal.main_v5) = v0 c
          ∧ r.2.mem ((c.tc : Thread Cert.Reference48Ideal.nD Cert.Reference48Ideal.τ).loc Cert.Reference48Ideal.main_v13) = v1 c
          ∧ r.2.mem ((c.tc : Thread Cert.Reference48Ideal.nD Cert.Reference48Ideal.τ).loc Cert.Reference48Ideal.main_arg0) = m' ((c.tc : Thread Cert.Reference48Ideal.nD Cert.Reference48Ideal.τ).loc Cert.Reference48Ideal.main_arg0)
          ∧ r.2.mem ((c.tc : Thread Cert.Reference48Ideal.nD Cert.Reference48Ideal.τ).loc Cert.Reference48Ideal.main_arg1) = m' ((c.tc : Thread Cert.Reference48Ideal.nD Cert.Reference48Ideal.τ).loc Cert.Reference48Ideal.main_arg1)
          ∧ r.2.mem ((c.tc : Thread Cert.Reference48Ideal.nD Cert.Reference48Ideal.τ).loc Cert.Reference48Ideal.main_arg2) = m' ((c.tc : Thread Cert.Reference48Ideal.nD Cert.Reference48Ideal.τ).loc Cert.Reference48Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hKernel43 : Cert.Kernel43.Facts) (hKernel43Ideal : Cert.Kernel43Ideal.Facts) (hReference43Ideal : Cert.Reference43Ideal.Facts) (hKernel44 : Cert.Kernel44.Facts) (hKernel44Ideal : Cert.Kernel44Ideal.Facts) (hReference44Ideal : Cert.Reference44Ideal.Facts) (hKernel45 : Cert.Kernel45.Facts) (hKernel45Ideal : Cert.Kernel45Ideal.Facts) (hReference45Ideal : Cert.Reference45Ideal.Facts) (hKernel46 : Cert.Kernel46.Facts) (hKernel46Ideal : Cert.Kernel46Ideal.Facts) (hReference46Ideal : Cert.Reference46Ideal.Facts) (hKernel47 : Cert.Kernel47.Facts) (hKernel47Ideal : Cert.Kernel47Ideal.Facts) (hReference47Ideal : Cert.Reference47Ideal.Facts) (hKernel48 : Cert.Kernel48.Facts) (hKernel48Ideal : Cert.Kernel48Ideal.Facts) (hReference48Ideal : Cert.Reference48Ideal.Facts) (hPre_finite : Cert.Pre_finite.Facts) (hPre_finite2 : Cert.Pre_finite2.Facts) (hPre_pair : Cert.Pre_pair.Facts) (hPre_pair2 : Cert.Pre_pair2.Facts) (hPre_pair3 : Cert.Pre_pair3.Facts) (hPre_pair4 : Cert.Pre_pair4.Facts) (hPre_pair5 : Cert.Pre_pair5.Facts) (hPre_pair6 : Cert.Pre_pair6.Facts) (hPre_pair7 : Cert.Pre_pair7.Facts),
    quiescent_Kernel (hKernel := hKernel) (hPre_finite := hPre_finite)
    ∧ quiescent_KernelIdeal (hKernelIdeal := hKernelIdeal) (hPre_finite := hPre_finite)
    ∧ quiescent_ReferenceIdeal (hReferenceIdeal := hReferenceIdeal) (hPre_finite := hPre_finite)
    ∧ quiescent_Kernel2 (hKernel2 := hKernel2) (hPre_finite2 := hPre_finite2)
    ∧ quiescent_Kernel2Ideal (hKernel2Ideal := hKernel2Ideal) (hPre_finite2 := hPre_finite2)
    ∧ quiescent_Reference2Ideal (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14) (hPre_pair := hPre_pair)
    ∧ quiescent_Kernel14Ideal (hKernel14Ideal := hKernel14Ideal) (hPre_pair := hPre_pair)
    ∧ quiescent_Reference14Ideal (hReference14Ideal := hReference14Ideal) (hPre_pair := hPre_pair)
    ∧ quiescent_Kernel15 (hKernel15 := hKernel15) (hPre_pair := hPre_pair)
    ∧ quiescent_Kernel15Ideal (hKernel15Ideal := hKernel15Ideal) (hPre_pair := hPre_pair)
    ∧ quiescent_Reference15Ideal (hReference15Ideal := hReference15Ideal) (hPre_pair := hPre_pair)
    ∧ quiescent_Kernel16 (hKernel16 := hKernel16) (hPre_pair := hPre_pair)
    ∧ quiescent_Kernel16Ideal (hKernel16Ideal := hKernel16Ideal) (hPre_pair := hPre_pair)
    ∧ quiescent_Reference16Ideal (hReference16Ideal := hReference16Ideal) (hPre_pair := hPre_pair)
    ∧ quiescent_Kernel17 (hKernel17 := hKernel17) (hPre_pair := hPre_pair)
    ∧ quiescent_Kernel17Ideal (hKernel17Ideal := hKernel17Ideal) (hPre_pair := hPre_pair)
    ∧ quiescent_Reference17Ideal (hReference17Ideal := hReference17Ideal) (hPre_pair := hPre_pair)
    ∧ quiescent_Kernel18 (hKernel18 := hKernel18) (hPre_pair2 := hPre_pair2)
    ∧ quiescent_Kernel18Ideal (hKernel18Ideal := hKernel18Ideal) (hPre_pair2 := hPre_pair2)
    ∧ quiescent_Reference18Ideal (hReference18Ideal := hReference18Ideal) (hPre_pair2 := hPre_pair2)
    ∧ quiescent_Kernel19 (hKernel19 := hKernel19) (hPre_pair2 := hPre_pair2)
    ∧ quiescent_Kernel19Ideal (hKernel19Ideal := hKernel19Ideal) (hPre_pair2 := hPre_pair2)
    ∧ quiescent_Reference19Ideal (hReference19Ideal := hReference19Ideal) (hPre_pair2 := hPre_pair2)
    ∧ quiescent_Kernel20 (hKernel20 := hKernel20) (hPre_pair2 := hPre_pair2)
    ∧ quiescent_Kernel20Ideal (hKernel20Ideal := hKernel20Ideal) (hPre_pair2 := hPre_pair2)
    ∧ quiescent_Reference20Ideal (hReference20Ideal := hReference20Ideal) (hPre_pair2 := hPre_pair2)
    ∧ quiescent_Kernel21 (hKernel21 := hKernel21) (hPre_pair2 := hPre_pair2)
    ∧ quiescent_Kernel21Ideal (hKernel21Ideal := hKernel21Ideal) (hPre_pair2 := hPre_pair2)
    ∧ quiescent_Reference21Ideal (hReference21Ideal := hReference21Ideal) (hPre_pair2 := hPre_pair2)
    ∧ quiescent_Kernel22 (hKernel22 := hKernel22) (hPre_pair3 := hPre_pair3)
    ∧ quiescent_Kernel22Ideal (hKernel22Ideal := hKernel22Ideal) (hPre_pair3 := hPre_pair3)
    ∧ quiescent_Reference22Ideal (hReference22Ideal := hReference22Ideal) (hPre_pair3 := hPre_pair3)
    ∧ quiescent_Kernel23 (hKernel23 := hKernel23) (hPre_pair3 := hPre_pair3)
    ∧ quiescent_Kernel23Ideal (hKernel23Ideal := hKernel23Ideal) (hPre_pair3 := hPre_pair3)
    ∧ quiescent_Reference23Ideal (hReference23Ideal := hReference23Ideal) (hPre_pair3 := hPre_pair3)
    ∧ quiescent_Kernel24 (hKernel24 := hKernel24) (hPre_pair3 := hPre_pair3)
    ∧ quiescent_Kernel24Ideal (hKernel24Ideal := hKernel24Ideal) (hPre_pair3 := hPre_pair3)
    ∧ quiescent_Reference24Ideal (hReference24Ideal := hReference24Ideal) (hPre_pair3 := hPre_pair3)
    ∧ quiescent_Kernel25 (hKernel25 := hKernel25) (hPre_pair3 := hPre_pair3)
    ∧ quiescent_Kernel25Ideal (hKernel25Ideal := hKernel25Ideal) (hPre_pair3 := hPre_pair3)
    ∧ quiescent_Reference25Ideal (hReference25Ideal := hReference25Ideal) (hPre_pair3 := hPre_pair3)
    ∧ quiescent_Kernel26 (hKernel26 := hKernel26) (hPre_pair4 := hPre_pair4)
    ∧ quiescent_Kernel26Ideal (hKernel26Ideal := hKernel26Ideal) (hPre_pair4 := hPre_pair4)
    ∧ quiescent_Reference26Ideal (hReference26Ideal := hReference26Ideal) (hPre_pair4 := hPre_pair4)
    ∧ quiescent_Kernel27 (hKernel27 := hKernel27) (hPre_pair4 := hPre_pair4)
    ∧ quiescent_Kernel27Ideal (hKernel27Ideal := hKernel27Ideal) (hPre_pair4 := hPre_pair4)
    ∧ quiescent_Reference27Ideal (hReference27Ideal := hReference27Ideal) (hPre_pair4 := hPre_pair4)
    ∧ quiescent_Kernel28 (hKernel28 := hKernel28) (hPre_pair4 := hPre_pair4)
    ∧ quiescent_Kernel28Ideal (hKernel28Ideal := hKernel28Ideal) (hPre_pair4 := hPre_pair4)
    ∧ quiescent_Reference28Ideal (hReference28Ideal := hReference28Ideal) (hPre_pair4 := hPre_pair4)
    ∧ quiescent_Kernel29 (hKernel29 := hKernel29) (hPre_pair4 := hPre_pair4)
    ∧ quiescent_Kernel29Ideal (hKernel29Ideal := hKernel29Ideal) (hPre_pair4 := hPre_pair4)
    ∧ quiescent_Reference29Ideal (hReference29Ideal := hReference29Ideal) (hPre_pair4 := hPre_pair4)
    ∧ quiescent_Kernel30 (hKernel30 := hKernel30) (hPre_pair5 := hPre_pair5)
    ∧ quiescent_Kernel30Ideal (hKernel30Ideal := hKernel30Ideal) (hPre_pair5 := hPre_pair5)
    ∧ quiescent_Reference30Ideal (hReference30Ideal := hReference30Ideal) (hPre_pair5 := hPre_pair5)
    ∧ quiescent_Kernel31 (hKernel31 := hKernel31) (hPre_pair5 := hPre_pair5)
    ∧ quiescent_Kernel31Ideal (hKernel31Ideal := hKernel31Ideal) (hPre_pair5 := hPre_pair5)
    ∧ quiescent_Reference31Ideal (hReference31Ideal := hReference31Ideal) (hPre_pair5 := hPre_pair5)
    ∧ quiescent_Kernel32 (hKernel32 := hKernel32) (hPre_pair5 := hPre_pair5)
    ∧ quiescent_Kernel32Ideal (hKernel32Ideal := hKernel32Ideal) (hPre_pair5 := hPre_pair5)
    ∧ quiescent_Reference32Ideal (hReference32Ideal := hReference32Ideal) (hPre_pair5 := hPre_pair5)
    ∧ quiescent_Kernel33 (hKernel33 := hKernel33) (hPre_pair5 := hPre_pair5)
    ∧ quiescent_Kernel33Ideal (hKernel33Ideal := hKernel33Ideal) (hPre_pair5 := hPre_pair5)
    ∧ quiescent_Reference33Ideal (hReference33Ideal := hReference33Ideal) (hPre_pair5 := hPre_pair5)
    ∧ quiescent_Kernel34 (hKernel34 := hKernel34) (hPre_pair6 := hPre_pair6)
    ∧ quiescent_Kernel34Ideal (hKernel34Ideal := hKernel34Ideal) (hPre_pair6 := hPre_pair6)
    ∧ quiescent_Reference34Ideal (hReference34Ideal := hReference34Ideal) (hPre_pair6 := hPre_pair6)
    ∧ quiescent_Kernel35 (hKernel35 := hKernel35) (hPre_pair6 := hPre_pair6)
    ∧ quiescent_Kernel35Ideal (hKernel35Ideal := hKernel35Ideal) (hPre_pair6 := hPre_pair6)
    ∧ quiescent_Reference35Ideal (hReference35Ideal := hReference35Ideal) (hPre_pair6 := hPre_pair6)
    ∧ quiescent_Kernel36 (hKernel36 := hKernel36) (hPre_pair6 := hPre_pair6)
    ∧ quiescent_Kernel36Ideal (hKernel36Ideal := hKernel36Ideal) (hPre_pair6 := hPre_pair6)
    ∧ quiescent_Reference36Ideal (hReference36Ideal := hReference36Ideal) (hPre_pair6 := hPre_pair6)
    ∧ quiescent_Kernel37 (hKernel37 := hKernel37) (hPre_pair6 := hPre_pair6)
    ∧ quiescent_Kernel37Ideal (hKernel37Ideal := hKernel37Ideal) (hPre_pair6 := hPre_pair6)
    ∧ quiescent_Reference37Ideal (hReference37Ideal := hReference37Ideal) (hPre_pair6 := hPre_pair6)
    ∧ quiescent_Kernel38 (hKernel38 := hKernel38) (hPre_pair7 := hPre_pair7)
    ∧ quiescent_Kernel38Ideal (hKernel38Ideal := hKernel38Ideal) (hPre_pair7 := hPre_pair7)
    ∧ quiescent_Reference38Ideal (hReference38Ideal := hReference38Ideal) (hPre_pair7 := hPre_pair7)
    ∧ quiescent_Kernel39 (hKernel39 := hKernel39) (hPre_pair7 := hPre_pair7)
    ∧ quiescent_Kernel39Ideal (hKernel39Ideal := hKernel39Ideal) (hPre_pair7 := hPre_pair7)
    ∧ quiescent_Reference39Ideal (hReference39Ideal := hReference39Ideal) (hPre_pair7 := hPre_pair7)
    ∧ quiescent_Kernel40 (hKernel40 := hKernel40) (hPre_pair7 := hPre_pair7)
    ∧ quiescent_Kernel40Ideal (hKernel40Ideal := hKernel40Ideal) (hPre_pair7 := hPre_pair7)
    ∧ quiescent_Reference40Ideal (hReference40Ideal := hReference40Ideal) (hPre_pair7 := hPre_pair7)
    ∧ quiescent_Kernel41 (hKernel41 := hKernel41) (hPre_pair7 := hPre_pair7)
    ∧ quiescent_Kernel41Ideal (hKernel41Ideal := hKernel41Ideal) (hPre_pair7 := hPre_pair7)
    ∧ quiescent_Reference41Ideal (hReference41Ideal := hReference41Ideal) (hPre_pair7 := hPre_pair7)
    ∧ quiescent_Kernel42 (hKernel42 := hKernel42)
    ∧ quiescent_Kernel42Ideal (hKernel42Ideal := hKernel42Ideal)
    ∧ quiescent_Reference42Ideal (hReference42Ideal := hReference42Ideal)
    ∧ quiescent_Kernel43 (hKernel43 := hKernel43)
    ∧ quiescent_Kernel43Ideal (hKernel43Ideal := hKernel43Ideal)
    ∧ quiescent_Reference43Ideal (hReference43Ideal := hReference43Ideal)
    ∧ quiescent_Kernel44 (hKernel44 := hKernel44)
    ∧ quiescent_Kernel44Ideal (hKernel44Ideal := hKernel44Ideal)
    ∧ quiescent_Reference44Ideal (hReference44Ideal := hReference44Ideal)
    ∧ quiescent_Kernel45 (hKernel45 := hKernel45)
    ∧ quiescent_Kernel45Ideal (hKernel45Ideal := hKernel45Ideal)
    ∧ quiescent_Reference45Ideal (hReference45Ideal := hReference45Ideal)
    ∧ quiescent_Kernel46 (hKernel46 := hKernel46)
    ∧ quiescent_Kernel46Ideal (hKernel46Ideal := hKernel46Ideal)
    ∧ quiescent_Reference46Ideal (hReference46Ideal := hReference46Ideal)
    ∧ quiescent_Kernel47 (hKernel47 := hKernel47)
    ∧ quiescent_Kernel47Ideal (hKernel47Ideal := hKernel47Ideal)
    ∧ quiescent_Reference47Ideal (hReference47Ideal := hReference47Ideal)
    ∧ quiescent_Kernel48 (hKernel48 := hKernel48)
    ∧ quiescent_Kernel48Ideal (hKernel48Ideal := hKernel48Ideal)
    ∧ quiescent_Reference48Ideal (hReference48Ideal := hReference48Ideal)
    ∧ preserves_Kernel_KernelIdeal
    ∧ algebraic_KernelIdeal_ReferenceIdeal (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal) (hPre_pair := hPre_pair)
    ∧ preserves_Kernel15_Kernel15Ideal
    ∧ algebraic_Kernel15Ideal_Reference15Ideal (hKernel15Ideal := hKernel15Ideal) (hReference15Ideal := hReference15Ideal) (hPre_pair := hPre_pair)
    ∧ preserves_Kernel16_Kernel16Ideal
    ∧ algebraic_Kernel16Ideal_Reference16Ideal (hKernel16Ideal := hKernel16Ideal) (hReference16Ideal := hReference16Ideal) (hPre_pair := hPre_pair)
    ∧ preserves_Kernel17_Kernel17Ideal
    ∧ algebraic_Kernel17Ideal_Reference17Ideal (hKernel17Ideal := hKernel17Ideal) (hReference17Ideal := hReference17Ideal) (hPre_pair := hPre_pair)
    ∧ preserves_Kernel18_Kernel18Ideal
    ∧ algebraic_Kernel18Ideal_Reference18Ideal (hKernel18Ideal := hKernel18Ideal) (hReference18Ideal := hReference18Ideal) (hPre_pair2 := hPre_pair2)
    ∧ preserves_Kernel19_Kernel19Ideal
    ∧ algebraic_Kernel19Ideal_Reference19Ideal (hKernel19Ideal := hKernel19Ideal) (hReference19Ideal := hReference19Ideal) (hPre_pair2 := hPre_pair2)
    ∧ preserves_Kernel20_Kernel20Ideal
    ∧ algebraic_Kernel20Ideal_Reference20Ideal (hKernel20Ideal := hKernel20Ideal) (hReference20Ideal := hReference20Ideal) (hPre_pair2 := hPre_pair2)
    ∧ preserves_Kernel21_Kernel21Ideal
    ∧ algebraic_Kernel21Ideal_Reference21Ideal (hKernel21Ideal := hKernel21Ideal) (hReference21Ideal := hReference21Ideal) (hPre_pair2 := hPre_pair2)
    ∧ preserves_Kernel22_Kernel22Ideal
    ∧ algebraic_Kernel22Ideal_Reference22Ideal (hKernel22Ideal := hKernel22Ideal) (hReference22Ideal := hReference22Ideal) (hPre_pair3 := hPre_pair3)
    ∧ preserves_Kernel23_Kernel23Ideal
    ∧ algebraic_Kernel23Ideal_Reference23Ideal (hKernel23Ideal := hKernel23Ideal) (hReference23Ideal := hReference23Ideal) (hPre_pair3 := hPre_pair3)
    ∧ preserves_Kernel24_Kernel24Ideal
    ∧ algebraic_Kernel24Ideal_Reference24Ideal (hKernel24Ideal := hKernel24Ideal) (hReference24Ideal := hReference24Ideal) (hPre_pair3 := hPre_pair3)
    ∧ preserves_Kernel25_Kernel25Ideal
    ∧ algebraic_Kernel25Ideal_Reference25Ideal (hKernel25Ideal := hKernel25Ideal) (hReference25Ideal := hReference25Ideal) (hPre_pair3 := hPre_pair3)
    ∧ preserves_Kernel26_Kernel26Ideal
    ∧ algebraic_Kernel26Ideal_Reference26Ideal (hKernel26Ideal := hKernel26Ideal) (hReference26Ideal := hReference26Ideal) (hPre_pair4 := hPre_pair4)
    ∧ preserves_Kernel27_Kernel27Ideal
    ∧ algebraic_Kernel27Ideal_Reference27Ideal (hKernel27Ideal := hKernel27Ideal) (hReference27Ideal := hReference27Ideal) (hPre_pair4 := hPre_pair4)
    ∧ preserves_Kernel28_Kernel28Ideal
    ∧ algebraic_Kernel28Ideal_Reference28Ideal (hKernel28Ideal := hKernel28Ideal) (hReference28Ideal := hReference28Ideal) (hPre_pair4 := hPre_pair4)
    ∧ preserves_Kernel29_Kernel29Ideal
    ∧ algebraic_Kernel29Ideal_Reference29Ideal (hKernel29Ideal := hKernel29Ideal) (hReference29Ideal := hReference29Ideal) (hPre_pair4 := hPre_pair4)
    ∧ preserves_Kernel30_Kernel30Ideal
    ∧ algebraic_Kernel30Ideal_Reference30Ideal (hKernel30Ideal := hKernel30Ideal) (hReference30Ideal := hReference30Ideal) (hPre_pair5 := hPre_pair5)
    ∧ preserves_Kernel31_Kernel31Ideal
    ∧ algebraic_Kernel31Ideal_Reference31Ideal (hKernel31Ideal := hKernel31Ideal) (hReference31Ideal := hReference31Ideal) (hPre_pair5 := hPre_pair5)
    ∧ preserves_Kernel32_Kernel32Ideal
    ∧ algebraic_Kernel32Ideal_Reference32Ideal (hKernel32Ideal := hKernel32Ideal) (hReference32Ideal := hReference32Ideal) (hPre_pair5 := hPre_pair5)
    ∧ preserves_Kernel33_Kernel33Ideal
    ∧ algebraic_Kernel33Ideal_Reference33Ideal (hKernel33Ideal := hKernel33Ideal) (hReference33Ideal := hReference33Ideal) (hPre_pair5 := hPre_pair5)
    ∧ preserves_Kernel34_Kernel34Ideal
    ∧ algebraic_Kernel34Ideal_Reference34Ideal (hKernel34Ideal := hKernel34Ideal) (hReference34Ideal := hReference34Ideal) (hPre_pair6 := hPre_pair6)
    ∧ preserves_Kernel35_Kernel35Ideal
    ∧ algebraic_Kernel35Ideal_Reference35Ideal (hKernel35Ideal := hKernel35Ideal) (hReference35Ideal := hReference35Ideal) (hPre_pair6 := hPre_pair6)
    ∧ preserves_Kernel36_Kernel36Ideal
    ∧ algebraic_Kernel36Ideal_Reference36Ideal (hKernel36Ideal := hKernel36Ideal) (hReference36Ideal := hReference36Ideal) (hPre_pair6 := hPre_pair6)
    ∧ preserves_Kernel37_Kernel37Ideal
    ∧ algebraic_Kernel37Ideal_Reference37Ideal (hKernel37Ideal := hKernel37Ideal) (hReference37Ideal := hReference37Ideal) (hPre_pair6 := hPre_pair6)
    ∧ preserves_Kernel38_Kernel38Ideal
    ∧ algebraic_Kernel38Ideal_Reference38Ideal (hKernel38Ideal := hKernel38Ideal) (hReference38Ideal := hReference38Ideal) (hPre_pair7 := hPre_pair7)
    ∧ preserves_Kernel39_Kernel39Ideal
    ∧ algebraic_Kernel39Ideal_Reference39Ideal (hKernel39Ideal := hKernel39Ideal) (hReference39Ideal := hReference39Ideal) (hPre_pair7 := hPre_pair7)
    ∧ preserves_Kernel40_Kernel40Ideal
    ∧ algebraic_Kernel40Ideal_Reference40Ideal (hKernel40Ideal := hKernel40Ideal) (hReference40Ideal := hReference40Ideal) (hPre_pair7 := hPre_pair7)
    ∧ preserves_Kernel41_Kernel41Ideal
    ∧ algebraic_Kernel41Ideal_Reference41Ideal (hKernel41Ideal := hKernel41Ideal) (hReference41Ideal := hReference41Ideal) (hPre_pair7 := hPre_pair7)
    ∧ preserves_Kernel42_Kernel42Ideal
    ∧ algebraic_Kernel42Ideal_Reference42Ideal (hKernel42Ideal := hKernel42Ideal) (hReference42Ideal := hReference42Ideal)
    ∧ preserves_Kernel43_Kernel43Ideal
    ∧ algebraic_Kernel43Ideal_Reference43Ideal (hKernel43Ideal := hKernel43Ideal) (hReference43Ideal := hReference43Ideal)
    ∧ preserves_Kernel44_Kernel44Ideal
    ∧ algebraic_Kernel44Ideal_Reference44Ideal (hKernel44Ideal := hKernel44Ideal) (hReference44Ideal := hReference44Ideal)
    ∧ preserves_Kernel45_Kernel45Ideal
    ∧ algebraic_Kernel45Ideal_Reference45Ideal (hKernel45Ideal := hKernel45Ideal) (hReference45Ideal := hReference45Ideal)
    ∧ preserves_Kernel46_Kernel46Ideal
    ∧ algebraic_Kernel46Ideal_Reference46Ideal (hKernel46Ideal := hKernel46Ideal) (hReference46Ideal := hReference46Ideal)
    ∧ preserves_Kernel47_Kernel47Ideal
    ∧ algebraic_Kernel47Ideal_Reference47Ideal (hKernel47Ideal := hKernel47Ideal) (hReference47Ideal := hReference47Ideal)
    ∧ preserves_Kernel48_Kernel48Ideal
    ∧ algebraic_Kernel48Ideal_Reference48Ideal (hKernel48Ideal := hKernel48Ideal) (hReference48Ideal := hReference48Ideal)
-- ==== Pre_finite.lean ====
abbrev S2048x4096 : Shape := ⟨2, ![2048, 4096]⟩
abbrev S1x4096 : Shape := ⟨2, ![1, 4096]⟩
abbrev S_ : Shape := ⟨0, ![]⟩

class Facts : Prop where
  bcast_S_S2048x4096 : S_.BroadcastsInDim S2048x4096 (![] : Fin 0 → Fin S2048x4096.rank)
  bcast_S_S1x4096 : S_.BroadcastsInDim S1x4096 (![] : Fin 0 → Fin S1x4096.rank)
  bcast_S1x4096_S2048x4096_0_1 : S1x4096.BroadcastsInDim S2048x4096 (![0, 1] : Fin 2 → Fin S2048x4096.rank)

variable [Facts]

def fn_part1 {F : FTy → Type} [FloatOps F] (main_arg5 : FVec F S2048x4096 .f32) (main_v16 : IVec S2048x4096 1) (main_v17 : FVec F S2048x4096 .f32) (main_v18 : FVec F S2048x4096 .f32) : IVec S2048x4096 1 :=
  let main_v19 : IVec S2048x4096 1 := cmpf .olt main_v17 main_v18
  let main_v20 : IVec S2048x4096 1 := andi main_v16 main_v19
  let main_v21 : FVec F S2048x4096 .f32 := Host.absf main_arg5
  let main_cst_4 : FVec F S_ .f32 := constant S_ .f32 0x7F800000#32
  let main_v22 : FVec F S2048x4096 .f32 := broadcastInDim S2048x4096 ![] bcast_S_S2048x4096 main_cst_4
  let main_v23 : IVec S2048x4096 1 := cmpf .olt main_v21 main_v22
  let main_v24 : IVec S2048x4096 1 := andi main_v20 main_v23
  main_v24

def fn {F : FTy → Type} [FloatOps F] (main_arg0 : FVec F S2048x4096 .f32) (main_arg1 : FVec F S2048x4096 .f32) (main_arg2 : FVec F S1x4096 .f32) (main_arg3 : FVec F S1x4096 .f32) (main_arg4 : FVec F S2048x4096 .f32) (main_arg5 : FVec F S2048x4096 .f32) : IVec S2048x4096 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_v3 : FVec F S2048x4096 .f32 := Host.absf main_arg1
  let main_cst_0 : FVec F S_ .f32 := constant S_ .f32 0x7F800000#32
  let main_v4 : FVec F S2048x4096 .f32 := broadcastInDim S2048x4096 ![] bcast_S_S2048x4096 main_cst_0
  let main_v5 : IVec S2048x4096 1 := cmpf .olt main_v3 main_v4
  let main_v6 : IVec S2048x4096 1 := andi main_v2 main_v5
  let main_v7 : FVec F S1x4096 .f32 := Host.absf main_arg2
  let main_cst_1 : FVec F S_ .f32 := constant S_ .f32 0x7F800000#32
  let main_v8 : FVec F S1x4096 .f32 := broadcastInDim S1x4096 ![] bcast_S_S1x4096 main_cst_1
  let main_v9 : IVec S1x4096 1 := cmpf .olt main_v7 main_v8
  let main_v10 : IVec S2048x4096 1 := broadcastInDim S2048x4096 ![0, 1] bcast_S1x4096_S2048x4096_0_1 main_v9
  let main_v11 : IVec S2048x4096 1 := andi main_v6 main_v10
  let main_v12 : FVec F S1x4096 .f32 := Host.absf main_arg3
  let main_cst_2 : FVec F S_ .f32 := constant S_ .f32 0x7F800000#32
  let main_v13 : FVec F S1x4096 .f32 := broadcastInDim S1x4096 ![] bcast_S_S1x4096 main_cst_2
  let main_v14 : IVec S1x4096 1 := cmpf .olt main_v12 main_v13
  let main_v15 : IVec S2048x4096 1 := broadcastInDim S2048x4096 ![0, 1] bcast_S1x4096_S2048x4096_0_1 main_v14
  let main_v16 : IVec S2048x4096 1 := andi main_v11 main_v15
  let main_v17 : FVec F S2048x4096 .f32 := Host.absf main_arg4
  let main_cst_3 : FVec F S_ .f32 := constant S_ .f32 0x7F800000#32
  let main_v18 : FVec F S2048x4096 .f32 := broadcastInDim S2048x4096 ![] bcast_S_S2048x4096 main_cst_3
  fn_part1 (F := F) main_arg5 main_v16 main_v17 main_v18
-- ==== Pre_finite2.lean ====
abbrev S2048x4096 : Shape := ⟨2, ![2048, 4096]⟩
abbrev S1x4096 : Shape := ⟨2, ![1, 4096]⟩
abbrev S_ : Shape := ⟨0, ![]⟩

class Facts : Prop where
  bcast_S_S2048x4096 : S_.BroadcastsInDim S2048x4096 (![] : Fin 0 → Fin S2048x4096.rank)
  bcast_S_S1x4096 : S_.BroadcastsInDim S1x4096 (![] : Fin 0 → Fin S1x4096.rank)
  bcast_S1x4096_S2048x4096_0_1 : S1x4096.BroadcastsInDim S2048x4096 (![0, 1] : Fin 2 → Fin S2048x4096.rank)

variable [Facts]

def fn {F : FTy → Type} [FloatOps F] (main_arg0 : FVec F S2048x4096 .f32) (main_arg1 : FVec F S2048x4096 .f32) (main_arg2 : FVec F S1x4096 .f32) (main_arg3 : FVec F S1x4096 .f32) : IVec S2048x4096 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_v3 : FVec F S2048x4096 .f32 := Host.absf main_arg1
  let main_cst_0 : FVec F S_ .f32 := constant S_ .f32 0x7F800000#32
  let main_v4 : FVec F S2048x4096 .f32 := broadcastInDim S2048x4096 ![] bcast_S_S2048x4096 main_cst_0
  let main_v5 : IVec S2048x4096 1 := cmpf .olt main_v3 main_v4
  let main_v6 : IVec S2048x4096 1 := andi main_v2 main_v5
  let main_v7 : FVec F S1x4096 .f32 := Host.absf main_arg2
  let main_cst_1 : FVec F S_ .f32 := constant S_ .f32 0x7F800000#32
  let main_v8 : FVec F S1x4096 .f32 := broadcastInDim S1x4096 ![] bcast_S_S1x4096 main_cst_1
  let main_v9 : IVec S1x4096 1 := cmpf .olt main_v7 main_v8
  let main_v10 : IVec S2048x4096 1 := broadcastInDim S2048x4096 ![0, 1] bcast_S1x4096_S2048x4096_0_1 main_v9
  let main_v11 : IVec S2048x4096 1 := andi main_v6 main_v10
  let main_v12 : FVec F S1x4096 .f32 := Host.absf main_arg3
  let main_cst_2 : FVec F S_ .f32 := constant S_ .f32 0x7F800000#32
  let main_v13 : FVec F S1x4096 .f32 := broadcastInDim S1x4096 ![] bcast_S_S1x4096 main_cst_2
  let main_v14 : IVec S1x4096 1 := cmpf .olt main_v12 main_v13
  let main_v15 : IVec S2048x4096 1 := broadcastInDim S2048x4096 ![0, 1] bcast_S1x4096_S2048x4096_0_1 main_v14
  let main_v16 : IVec S2048x4096 1 := andi main_v11 main_v15
  main_v16
-- ==== Pre_pair.lean ====
abbrev S1 : Shape := ⟨1, ![1]⟩
abbrev S2x2048x1408 : Shape := ⟨3, ![2, 2048, 1408]⟩
abbrev S2048x1408 : Shape := ⟨2, ![2048, 1408]⟩
abbrev S4x2048x1408 : Shape := ⟨3, ![4, 2048, 1408]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S2x2048x1408 .bf16) (main_arg2 : FVec F S2048x1408 .bf16) (main_arg3 : FVec F S4x2048x1408 .f32) (main_arg4 : FVec F S4x2048x1408 .f32) (main_arg5 : FVec F S4x2048x1408 .f32) (main_arg6 : FVec F S4x2048x1408 .f32) (main_arg7 : FVec F S4x2048x1408 .f32) (main_arg8 : FVec F S4x2048x1408 .f32) (main_arg9 : FVec F S4x2048x1408 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 2#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_pair2.lean ====
abbrev S1 : Shape := ⟨1, ![1]⟩
abbrev S2x704x2048 : Shape := ⟨3, ![2, 704, 2048]⟩
abbrev S704x2048 : Shape := ⟨2, ![704, 2048]⟩
abbrev S4x704x2048 : Shape := ⟨3, ![4, 704, 2048]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S2x704x2048 .bf16) (main_arg2 : FVec F S704x2048 .bf16) (main_arg3 : FVec F S4x704x2048 .f32) (main_arg4 : FVec F S4x704x2048 .f32) (main_arg5 : FVec F S4x704x2048 .f32) (main_arg6 : FVec F S4x704x2048 .f32) (main_arg7 : FVec F S4x704x2048 .f32) (main_arg8 : FVec F S4x704x2048 .f32) (main_arg9 : FVec F S4x704x2048 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 2#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_pair3.lean ====
abbrev S1 : Shape := ⟨1, ![1]⟩
abbrev S2x1024x256 : Shape := ⟨3, ![2, 1024, 256]⟩
abbrev S1024x256 : Shape := ⟨2, ![1024, 256]⟩
abbrev S4x1024x256 : Shape := ⟨3, ![4, 1024, 256]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S2x1024x256 .bf16) (main_arg2 : FVec F S1024x256 .bf16) (main_arg3 : FVec F S4x1024x256 .f32) (main_arg4 : FVec F S4x1024x256 .f32) (main_arg5 : FVec F S4x1024x256 .f32) (main_arg6 : FVec F S4x1024x256 .f32) (main_arg7 : FVec F S4x1024x256 .f32) (main_arg8 : FVec F S4x1024x256 .f32) (main_arg9 : FVec F S4x1024x256 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 2#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_pair4.lean ====
abbrev S1 : Shape := ⟨1, ![1]⟩
abbrev S2x2048x1152 : Shape := ⟨3, ![2, 2048, 1152]⟩
abbrev S2048x1152 : Shape := ⟨2, ![2048, 1152]⟩
abbrev S4x2048x1152 : Shape := ⟨3, ![4, 2048, 1152]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S2x2048x1152 .bf16) (main_arg2 : FVec F S2048x1152 .bf16) (main_arg3 : FVec F S4x2048x1152 .f32) (main_arg4 : FVec F S4x2048x1152 .f32) (main_arg5 : FVec F S4x2048x1152 .f32) (main_arg6 : FVec F S4x2048x1152 .f32) (main_arg7 : FVec F S4x2048x1152 .f32) (main_arg8 : FVec F S4x2048x1152 .f32) (main_arg9 : FVec F S4x2048x1152 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 2#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_pair5.lean ====
abbrev S1 : Shape := ⟨1, ![1]⟩
abbrev S2x128x1024 : Shape := ⟨3, ![2, 128, 1024]⟩
abbrev S128x1024 : Shape := ⟨2, ![128, 1024]⟩
abbrev S4x128x1024 : Shape := ⟨3, ![4, 128, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S2x128x1024 .bf16) (main_arg2 : FVec F S128x1024 .bf16) (main_arg3 : FVec F S4x128x1024 .f32) (main_arg4 : FVec F S4x128x1024 .f32) (main_arg5 : FVec F S4x128x1024 .f32) (main_arg6 : FVec F S4x128x1024 .f32) (main_arg7 : FVec F S4x128x1024 .f32) (main_arg8 : FVec F S4x128x1024 .f32) (main_arg9 : FVec F S4x128x1024 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 2#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_pair6.lean ====
abbrev S1 : Shape := ⟨1, ![1]⟩
abbrev S2x256x2048 : Shape := ⟨3, ![2, 256, 2048]⟩
abbrev S256x2048 : Shape := ⟨2, ![256, 2048]⟩
abbrev S4x256x2048 : Shape := ⟨3, ![4, 256, 2048]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S2x256x2048 .bf16) (main_arg2 : FVec F S256x2048 .bf16) (main_arg3 : FVec F S4x256x2048 .f32) (main_arg4 : FVec F S4x256x2048 .f32) (main_arg5 : FVec F S4x256x2048 .f32) (main_arg6 : FVec F S4x256x2048 .f32) (main_arg7 : FVec F S4x256x2048 .f32) (main_arg8 : FVec F S4x256x2048 .f32) (main_arg9 : FVec F S4x256x2048 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 2#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_pair7.lean ====
abbrev S1 : Shape := ⟨1, ![1]⟩
abbrev S2x4x384 : Shape := ⟨3, ![2, 4, 384]⟩
abbrev S4x384 : Shape := ⟨2, ![4, 384]⟩
abbrev S4x4x384 : Shape := ⟨3, ![4, 4, 384]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S2x4x384 .f32) (main_arg2 : FVec F S4x384 .f32) (main_arg3 : FVec F S4x4x384 .f32) (main_arg4 : FVec F S4x4x384 .f32) (main_arg5 : FVec F S4x4x384 .f32) (main_arg6 : FVec F S4x4x384 .f32) (main_arg7 : FVec F S4x4x384 .f32) (main_arg8 : FVec F S4x4x384 .f32) (main_arg9 : FVec F S4x4x384 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 2#32
  let main_v2 : IVec S1 32 := broadcastInDim S1 ![] bcast_S_S1 main_c_0
  let main_v3 : IVec S1 1 := cmpi .slt main_arg0 main_v2
  let main_v4 : IVec S1 1 := andi main_v1 main_v3
  main_v4
-- ==== Kernel.lean ====
abbrev S2048x4096 : Shape := ⟨2, ![2048, 4096]⟩
abbrev S1x4096 : Shape := ⟨2, ![1, 4096]⟩
abbrev S2048x256 : Shape := ⟨2, ![2048, 256]⟩
abbrev S1x256 : Shape := ⟨2, ![1, 256]⟩
abbrev S8x256 : Shape := ⟨2, ![8, 256]⟩
abbrev S256 : Shape := ⟨1, ![256]⟩

abbrev nBuf : Space → Nat
  | .hbm => 10
  | .vmem => 20
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S1x4096, .f32⟩
  | .hbm, ⟨3, _⟩ => ⟨S1x4096, .f32⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S1x4096, .f32⟩
  | .hbm, ⟨9, _⟩ => ⟨S1x4096, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S2048x256, .f32⟩
  | .local _ .vmem, ⟨13, _⟩ => ⟨S2048x256, .f32⟩
  | .local _ .vmem, ⟨14, _⟩ => ⟨S2048x256, .f32⟩
  | .local _ .vmem, ⟨15, _⟩ => ⟨S2048x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_15 : BitVec 32 := 0#32
  let c255_i32 : BitVec 32 := 255#32
  let v131 : BitVec 32 := Scalar.addi c0_i32_15 c255_i32
  let c1_i32_16 : BitVec 32 := 1#32
  ⟨c0_i32_15, v131, c1_i32_16⟩
def k0_mult1 (k0_t1 : Fin k0_t1_loop.trips) : BitVec 32 :=
  let c255_i32_55 : BitVec 32 := 255#32
  let c0_i32_15 : BitVec 32 := 0#32
  let c1_i32_16 : BitVec 32 := 1#32
  let arg11 : BitVec 32 := Scf.iv c0_i32_15 c1_i32_16 k0_t1
  let v237 : BitVec 32 := Scalar.subi c255_i32_55 arg11
  let c8_i32 : BitVec 32 := 8#32
  let v238 : BitVec 32 := Scalar.muli v237 c8_i32
  v238
def k0_mult2 (k0_t1 : Fin k0_t1_loop.trips) : BitVec 32 :=
  let c254_i32 : BitVec 32 := 254#32
  let c0_i32_15 : BitVec 32 := 0#32
  let c1_i32_16 : BitVec 32 := 1#32
  let arg11 : BitVec 32 := Scf.iv c0_i32_15 c1_i32_16 k0_t1
  let v240 : BitVec 32 := Scalar.subi c254_i32 arg11
  let c8_i32_56 : BitVec 32 := 8#32
  let v241 : BitVec 32 := Scalar.muli v240 c8_i32_56
  v241
def k0_off1 (k0_t1 : Fin k0_t1_loop.trips) (c254_i32 : BitVec 32) : Fin 2 → Nat :=
  let c0_i32_15 : BitVec 32 := 0#32
  let c1_i32_16 : BitVec 32 := 1#32
  let arg11 : BitVec 32 := Scf.iv c0_i32_15 c1_i32_16 k0_t1
  let v240 : BitVec 32 := Scalar.subi c254_i32 arg11
  let c8_i32_56 : BitVec 32 := 8#32
  let v241 : BitVec 32 := Scalar.muli v240 c8_i32_56
  let v242 : BitVec 32 := v241
  let v243 : Index := Scalar.indexCast v242
  let c0_57 : Index := 0#32
  ![v243.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
abbrev S2048x4096 : Shape := ⟨2, ![2048, 4096]⟩
abbrev S1x4096 : Shape := ⟨2, ![1, 4096]⟩
abbrev S2048x256 : Shape := ⟨2, ![2048, 256]⟩
abbrev S1x256 : Shape := ⟨2, ![1, 256]⟩
abbrev S8x256 : Shape := ⟨2, ![8, 256]⟩
abbrev S256 : Shape := ⟨1, ![256]⟩

abbrev nBuf : Space → Nat
  | .hbm => 10
  | .vmem => 20
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S1x4096, .f32⟩
  | .hbm, ⟨3, _⟩ => ⟨S1x4096, .f32⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S1x4096, .f32⟩
  | .hbm, ⟨9, _⟩ => ⟨S1x4096, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S2048x256, .f32⟩
  | .local _ .vmem, ⟨13, _⟩ => ⟨S2048x256, .f32⟩
  | .local _ .vmem, ⟨14, _⟩ => ⟨S2048x256, .f32⟩
  | .local _ .vmem, ⟨15, _⟩ => ⟨S2048x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_15 : BitVec 32 := 0#32
  let c255_i32 : BitVec 32 := 255#32
  let v131 : BitVec 32 := Scalar.addi c0_i32_15 c255_i32
  let c1_i32_16 : BitVec 32 := 1#32
  ⟨c0_i32_15, v131, c1_i32_16⟩
def k0_mult1 (k0_t1 : Fin k0_t1_loop.trips) : BitVec 32 :=
  let c255_i32_55 : BitVec 32 := 255#32
  let c0_i32_15 : BitVec 32 := 0#32
  let c1_i32_16 : BitVec 32 := 1#32
  let arg11 : BitVec 32 := Scf.iv c0_i32_15 c1_i32_16 k0_t1
  let v237 : BitVec 32 := Scalar.subi c255_i32_55 arg11
  let c8_i32 : BitVec 32 := 8#32
  let v238 : BitVec 32 := Scalar.muli v237 c8_i32
  v238
def k0_mult2 (k0_t1 : Fin k0_t1_loop.trips) : BitVec 32 :=
  let c254_i32 : BitVec 32 := 254#32
  let c0_i32_15 : BitVec 32 := 0#32
  let c1_i32_16 : BitVec 32 := 1#32
  let arg11 : BitVec 32 := Scf.iv c0_i32_15 c1_i32_16 k0_t1
  let v240 : BitVec 32 := Scalar.subi c254_i32 arg11
  let c8_i32_56 : BitVec 32 := 8#32
  let v241 : BitVec 32 := Scalar.muli v240 c8_i32_56
  v241
def k0_off1 (k0_t1 : Fin k0_t1_loop.trips) (c254_i32 : BitVec 32) : Fin 2 → Nat :=
  let c0_i32_15 : BitVec 32 := 0#32
  let c1_i32_16 : BitVec 32 := 1#32
  let arg11 : BitVec 32 := Scf.iv c0_i32_15 c1_i32_16 k0_t1
  let v240 : BitVec 32 := Scalar.subi c254_i32 arg11
  let c8_i32_56 : BitVec 32 := 8#32
  let v241 : BitVec 32 := Scalar.muli v240 c8_i32_56
  let v242 : BitVec 32 := v241
  let v243 : Index := Scalar.indexCast v242
  let c0_57 : Index := 0#32
  ![v243.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S2048x4096 : Shape := ⟨2, ![2048, 4096]⟩
abbrev S1x4096 : Shape := ⟨2, ![1, 4096]⟩
abbrev S_ : Shape := ⟨0, ![]⟩
abbrev S2049x4096 : Shape := ⟨2, ![2049, 4096]⟩
abbrev S4096 : Shape := ⟨1, ![4096]⟩

abbrev nBuf : Space → Nat
  | .hbm => 92
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S1x4096, .f32⟩
  | .hbm, ⟨3, _⟩ => ⟨S1x4096, .f32⟩
  | .hbm, ⟨4, _⟩ => ⟨S2048x4096, .f32⟩
  | .hbm, ⟨5, _⟩ => ⟨S2048x4096, .f32⟩
  | .hbm, ⟨6, _⟩ => ⟨S_, .i32⟩
  | .hbm, ⟨7, _⟩ => ⟨S_, .f32⟩
  | .hbm, ⟨8, _⟩ => ⟨S2049x4096, .f32⟩
  | .hbm, ⟨9, _⟩ => ⟨S2048x4096, .f32⟩
  | .hbm, ⟨10, _⟩ => ⟨S_, .i32⟩
  | .hbm, ⟨11, _⟩ => ⟨S_, .f32⟩
  | .hbm, ⟨12, _⟩ => ⟨S2049x4096, .f32⟩
  | .hbm, ⟨13, _⟩ => ⟨S2048x4096, .f32⟩
  | .hbm, ⟨14, _⟩ => ⟨S4096, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S_, .f32⟩
  | .hbm, ⟨23, _⟩ => ⟨S1x4096, .f32⟩
  | .hbm, ⟨24, _⟩ => ⟨S_, .f32⟩
  | .hbm, ⟨25, _⟩ => ⟨S1x4096, .f32⟩
  | .hbm, ⟨26, _⟩ => ⟨S_, .f32⟩
  | .hbm, ⟨27, _⟩ => ⟨S2048x4096, .f32⟩
  | .hbm, ⟨28, _⟩ => ⟨S_, .f32⟩
  | .hbm, ⟨29, _⟩ => ⟨S2048x4096, .f32⟩
  | .hbm, ⟨30, _⟩ => ⟨S_, .i32⟩
  | .hbm, ⟨31, _⟩ => ⟨S2048x4096, .f32⟩
  | .hbm, ⟨32, _⟩ => ⟨S2048x4096, .f32⟩
  | .hbm, ⟨33, _⟩ => ⟨S2048x4096, .f32⟩
  | .hbm, ⟨34, _⟩ => ⟨S2048x4096, .f32⟩
  | .hbm, ⟨35, _⟩ => ⟨S4096, .f32⟩
  | .hbm, ⟨36, _⟩ => ⟨S4096, .f32⟩
  | .hbm, ⟨37, _⟩ => ⟨S_, .i32⟩
  | .hbm, ⟨38, _⟩ => ⟨S1x4096, .f32⟩
  | .hbm, ⟨39, _⟩ => ⟨S1x4096, .f32⟩
  | .hbm, ⟨40, _⟩ => ⟨S4096, .f32⟩
  | .hbm, ⟨41, _⟩ => ⟨S4096, .f32⟩
  | .hbm, ⟨42, _⟩ => ⟨S2048x4096, .f32⟩
  | .hbm, ⟨43, _⟩ => ⟨S2048x4096, .f32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S1x4096, .f32⟩
  | .hbm, ⟨52, _⟩ => ⟨S4096, .f32⟩
  | .hbm, ⟨53, _⟩ => ⟨S_, .i32⟩
  | .hbm, ⟨54, _⟩ => ⟨S1x4096, .f32⟩
  | .hbm, ⟨55, _⟩ => ⟨S4096, .f32⟩
  | .hbm, ⟨56, _⟩ => ⟨S_, .i32⟩
  | .hbm, ⟨57, _⟩ => ⟨S1x4096, .f32⟩
  | .hbm, ⟨58, _⟩ => ⟨S4096, .f32⟩
  | .hbm, ⟨59, _⟩ => ⟨S_, .i32⟩
  | .hbm, ⟨60, _⟩ => ⟨S1x4096, .f32⟩
  | .hbm, ⟨61, _⟩ => ⟨S4096, .f32⟩
  | .hbm, ⟨62, _⟩ => ⟨S4096, .f32⟩
  | .hbm, ⟨63, _⟩ => ⟨S4096, .f32⟩
  | .hbm, ⟨64, _⟩ => ⟨S4096, .f32⟩
  | .hbm, ⟨65, _⟩ => ⟨S1x4096, .f32⟩
  | .hbm, ⟨66, _⟩ => ⟨S1x4096, .f32⟩
  | .hbm, ⟨67, _⟩ => ⟨S4096, .f32⟩
  | .hbm, ⟨68, _⟩ => ⟨S1x4096, .f32⟩
  | .hbm, ⟨69, _⟩ => ⟨S1x4096, .f32⟩
  | .hbm, ⟨70, _⟩ => ⟨S4096, .f32⟩
  | .hbm, ⟨71, _⟩ => ⟨S4096, .f32⟩
  | .hbm, ⟨72, _⟩ => ⟨S4096, .f32⟩
  | .hbm, ⟨73, _⟩ => ⟨S4096, .f32⟩
  | .hbm, ⟨74, _⟩ => ⟨S1x4096, .f32⟩
  | .hbm, ⟨75, _⟩ => ⟨S1x4096, .f32⟩
  | .hbm, ⟨76, _⟩ => ⟨S4096, .f32⟩
  | .hbm, ⟨77, _⟩ => ⟨S1x4096, .f32⟩
  | .hbm, ⟨78, _⟩ => ⟨S1x4096, .f32⟩
  | .hbm, ⟨79, _⟩ => ⟨S4096, .f32⟩
  | .hbm, ⟨80, _⟩ => ⟨S4096, .f32⟩
  | .hbm, ⟨81, _⟩ => ⟨S4096, .f32⟩
  | .hbm, ⟨82, _⟩ => ⟨S4096, .f32⟩
  | .hbm, ⟨83, _⟩ => ⟨S4096, .f32⟩
  | .hbm, ⟨84, _⟩ => ⟨S1x4096, .f32⟩
  | .hbm, ⟨85, _⟩ => ⟨S_, .i32⟩
  | .hbm, ⟨86, _⟩ => ⟨S2048x4096, .f32⟩
  | .hbm, ⟨87, _⟩ => ⟨S1x4096, .f32⟩
  | .hbm, ⟨88, _⟩ => ⟨S_, .i32⟩
  | .hbm, ⟨89, _⟩ => ⟨S2048x4096, .f32⟩
  | .hbm, ⟨90, _⟩ => ⟨S_, .i32⟩
  | .hbm, ⟨91, _⟩ => ⟨S_, .i32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_call1_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_cst_4 : Ref sig .tc := ⟨.hbm, 24, rfl⟩
abbrev main_v10 : Ref sig .tc := ⟨.hbm, 25, rfl⟩
abbrev main_cst_5 : Ref sig .tc := ⟨.hbm, 26, rfl⟩
abbrev main_v11 : Ref sig .tc := ⟨.hbm, 27, rfl⟩
abbrev main_cst_6 : Ref sig .tc := ⟨.hbm, 28, rfl⟩
abbrev main_v12 : Ref sig .tc := ⟨.hbm, 29, rfl⟩
abbrev main_c_7 : Ref sig .tc := ⟨.hbm, 30, rfl⟩
abbrev main_v13_0 : Ref sig .tc := ⟨.hbm, 31, rfl⟩
abbrev main_v13_1 : Ref sig .tc := ⟨.hbm, 32, rfl⟩
abbrev main_v13_2 : Ref sig .tc := ⟨.hbm, 33, rfl⟩
abbrev main_v13_3 : Ref sig .tc := ⟨.hbm, 34, rfl⟩
abbrev main_v13_4 : Ref sig .tc := ⟨.hbm, 35, rfl⟩
abbrev main_v13_5 : Ref sig .tc := ⟨.hbm, 36, rfl⟩
abbrev main_v13_6 : Ref sig .tc := ⟨.hbm, 37, rfl⟩
abbrev main_v13_7 : Ref sig .tc := ⟨.hbm, 38, rfl⟩
abbrev main_v13_8 : Ref sig .tc := ⟨.hbm, 39, rfl⟩
abbrev main_v13_9 : Ref sig .tc := ⟨.hbm, 40, rfl⟩
abbrev main_v13_10 : Ref sig .tc := ⟨.hbm, 41, rfl⟩
abbrev main_v13_11 : Ref sig .tc := ⟨.hbm, 42, rfl⟩
abbrev main_v13_12 : Ref sig .tc := ⟨.hbm, 43, rfl⟩
abbrev main_while0c_c_20 : Ref sig .tc := ⟨.hbm, 44, rfl⟩
abbrev main_while0c_v14 : Ref sig .tc := ⟨.hbm, 45, rfl⟩
abbrev main_while0b_c_20 : Ref sig .tc := ⟨.hbm, 46, rfl⟩
abbrev main_while0b_v14 : Ref sig .tc := ⟨.hbm, 47, rfl⟩
abbrev main_while0b_c_21 : Ref sig .tc := ⟨.hbm, 48, rfl⟩
abbrev main_while0b_v15 : Ref sig .tc := ⟨.hbm, 49, rfl⟩
abbrev main_while0b_call2_c : Ref sig .tc := ⟨.hbm, 50, rfl⟩
abbrev main_while0b_call2_v0 : Ref sig .tc := ⟨.hbm, 51, rfl⟩
abbrev main_while0b_v16 : Ref sig .tc := ⟨.hbm, 52, rfl⟩
abbrev main_while0b_call3_c : Ref sig .tc := ⟨.hbm, 53, rfl⟩
abbrev main_while0b_call3_v0 : Ref sig .tc := ⟨.hbm, 54, rfl⟩
abbrev main_while0b_v17 : Ref sig .tc := ⟨.hbm, 55, rfl⟩
abbrev main_while0b_call4_c : Ref sig .tc := ⟨.hbm, 56, rfl⟩
abbrev main_while0b_call4_v0 : Ref sig .tc := ⟨.hbm, 57, rfl⟩
abbrev main_while0b_v18 : Ref sig .tc := ⟨.hbm, 58, rfl⟩
abbrev main_while0b_call5_c : Ref sig .tc := ⟨.hbm, 59, rfl⟩
abbrev main_while0b_call5_v0 : Ref sig .tc := ⟨.hbm, 60, rfl⟩
abbrev main_while0b_v19 : Ref sig .tc := ⟨.hbm, 61, rfl⟩
abbrev main_while0b_v20 : Ref sig .tc := ⟨.hbm, 62, rfl⟩
abbrev main_while0b_v21 : Ref sig .tc := ⟨.hbm, 63, rfl⟩
abbrev main_while0b_v22 : Ref sig .tc := ⟨.hbm, 64, rfl⟩
abbrev main_while0b_v23 : Ref sig .tc := ⟨.hbm, 65, rfl⟩
abbrev main_while0b_v24 : Ref sig .tc := ⟨.hbm, 66, rfl⟩
abbrev main_while0b_v25 : Ref sig .tc := ⟨.hbm, 67, rfl⟩
abbrev main_while0b_v26 : Ref sig .tc := ⟨.hbm, 68, rfl⟩
abbrev main_while0b_v27 : Ref sig .tc := ⟨.hbm, 69, rfl⟩
abbrev main_while0b_v28 : Ref sig .tc := ⟨.hbm, 70, rfl⟩
abbrev main_while0b_v29 : Ref sig .tc := ⟨.hbm, 71, rfl⟩
abbrev main_while0b_v30 : Ref sig .tc := ⟨.hbm, 72, rfl⟩
abbrev main_while0b_v31 : Ref sig .tc := ⟨.hbm, 73, rfl⟩
abbrev main_while0b_v32 : Ref sig .tc := ⟨.hbm, 74, rfl⟩
abbrev main_while0b_v33 : Ref sig .tc := ⟨.hbm, 75, rfl⟩
abbrev main_while0b_v34 : Ref sig .tc := ⟨.hbm, 76, rfl⟩
abbrev main_while0b_v35 : Ref sig .tc := ⟨.hbm, 77, rfl⟩
abbrev main_while0b_v36 : Ref sig .tc := ⟨.hbm, 78, rfl⟩
abbrev main_while0b_v37 : Ref sig .tc := ⟨.hbm, 79, rfl⟩
abbrev main_while0b_v38 : Ref sig .tc := ⟨.hbm, 80, rfl⟩
abbrev main_while0b_v39 : Ref sig .tc := ⟨.hbm, 81, rfl⟩
abbrev main_while0b_v40 : Ref sig .tc := ⟨.hbm, 82, rfl⟩
abbrev main_while0b_v41 : Ref sig .tc := ⟨.hbm, 83, rfl⟩
abbrev main_while0b_call6_v0 : Ref sig .tc := ⟨.hbm, 84, rfl⟩
abbrev main_while0b_call6_c : Ref sig .tc := ⟨.hbm, 85, rfl⟩
abbrev main_while0b_v42 : Ref sig .tc := ⟨.hbm, 86, rfl⟩
abbrev main_while0b_call7_v0 : Ref sig .tc := ⟨.hbm, 87, rfl⟩
abbrev main_while0b_call7_c : Ref sig .tc := ⟨.hbm, 88, rfl⟩
abbrev main_while0b_v43 : Ref sig .tc := ⟨.hbm, 89, rfl⟩
abbrev main_while0b_c_22 : Ref sig .tc := ⟨.hbm, 90, rfl⟩
abbrev main_while0b_v44 : Ref sig .tc := ⟨.hbm, 91, rfl⟩

abbrev nD : Nat := 1
abbrev τ : Topo := Topo.v7x

variable {F : FTy → Type} [FloatOps F]

abbrev main_while0_count : Scf.Loop 32 := ⟨0#32, 2048#32, 1#32⟩
-- ==== Kernel2.lean ====
abbrev S2048x4096 : Shape := ⟨2, ![2048, 4096]⟩
abbrev S1x4096 : Shape := ⟨2, ![1, 4096]⟩
abbrev S2048x512 : Shape := ⟨2, ![2048, 512]⟩
abbrev S1x512 : Shape := ⟨2, ![1, 512]⟩
abbrev S8x512 : Shape := ⟨2, ![8, 512]⟩

abbrev nBuf : Space → Nat
  | .hbm => 6
  | .vmem => 12
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S1x4096, .f32⟩
  | .hbm, ⟨3, _⟩ => ⟨S1x4096, .f32⟩
  | .hbm, ⟨4, _⟩ => ⟨S2048x4096, .f32⟩
  | .hbm, ⟨5, _⟩ => ⟨S2048x4096, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S2048x512, .f32⟩
  | .local _ .vmem, ⟨9, _⟩ => ⟨S2048x512, .f32⟩
  | .local _ .vmem, ⟨10, _⟩ => ⟨S2048x512, .f32⟩
  | .local _ .vmem, ⟨11, _⟩ => ⟨S2048x512, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_13 : BitVec 32 := 0#32
  let c256_i32 : BitVec 32 := 256#32
  let v128 : BitVec 32 := Scalar.addi c0_i32_13 c256_i32
  let c1_i32_14 : BitVec 32 := 1#32
  ⟨c0_i32_13, v128, c1_i32_14⟩
def k0_mult1 (k0_t1 : Fin k0_t1_loop.trips) : BitVec 32 :=
  let c0_i32_13 : BitVec 32 := 0#32
  let c1_i32_14 : BitVec 32 := 1#32
  let arg7 : BitVec 32 := Scf.iv c0_i32_13 c1_i32_14 k0_t1
  let c8_i32 : BitVec 32 := 8#32
  let v130 : BitVec 32 := Scalar.muli arg7 c8_i32
  v130
def k0_off1 (k0_t1 : Fin k0_t1_loop.trips) : Fin 2 → Nat :=
  let c0_i32_13 : BitVec 32 := 0#32
  let c1_i32_14 : BitVec 32 := 1#32
  let arg7 : BitVec 32 := Scf.iv c0_i32_13 c1_i32_14 k0_t1
  let c8_i32 : BitVec 32 := 8#32
  let v130 : BitVec 32 := Scalar.muli arg7 c8_i32
  let v131 : BitVec 32 := v130
  let v132 : Index := Scalar.indexCast v131
  let c0_16 : Index := 0#32
  ![v132.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S2048x4096 : Shape := ⟨2, ![2048, 4096]⟩
abbrev S1x4096 : Shape := ⟨2, ![1, 4096]⟩
abbrev S_ : Shape := ⟨0, ![]⟩
abbrev S4096 : Shape := ⟨1, ![4096]⟩

abbrev nBuf : Space → Nat
  | .hbm => 48
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S1x4096, .f32⟩
  | .hbm, ⟨3, _⟩ => ⟨S1x4096, .f32⟩
  | .hbm, ⟨4, _⟩ => ⟨S_, .f32⟩
  | .hbm, ⟨5, _⟩ => ⟨S4096, .f32⟩
  | .hbm, ⟨6, _⟩ => ⟨S_, .f32⟩
  | .hbm, ⟨7, _⟩ => ⟨S2048x4096, .f32⟩
  | .hbm, ⟨8, _⟩ => ⟨S_, .f32⟩
  | .hbm, ⟨9, _⟩ => ⟨S2048x4096, .f32⟩
  | .hbm, ⟨10, _⟩ => ⟨S_, .i32⟩
  | .hbm, ⟨11, _⟩ => ⟨S2048x4096, .f32⟩
  | .hbm, ⟨12, _⟩ => ⟨S2048x4096, .f32⟩
  | .hbm, ⟨13, _⟩ => ⟨S1x4096, .f32⟩
  | .hbm, ⟨14, _⟩ => ⟨S1x4096, .f32⟩
  | .hbm, ⟨15, _⟩ => ⟨S_, .i32⟩
  | .hbm, ⟨16, _⟩ => ⟨S4096, .f32⟩
  | .hbm, ⟨17, _⟩ => ⟨S4096, .f32⟩
  | .hbm, ⟨18, _⟩ => ⟨S2048x4096, .f32⟩
  | .hbm, ⟨19, _⟩ => ⟨S2048x4096, .f32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S1x4096, .f32⟩
  | .hbm, ⟨24, _⟩ => ⟨S4096, .f32⟩
  | .hbm, ⟨25, _⟩ => ⟨S_, .i32⟩
  | .hbm, ⟨26, _⟩ => ⟨S1x4096, .f32⟩
  | .hbm, ⟨27, _⟩ => ⟨S4096, .f32⟩
  | .hbm, ⟨28, _⟩ => ⟨S4096, .f32⟩
  | .hbm, ⟨29, _⟩ => ⟨S4096, .f32⟩
  | .hbm, ⟨30, _⟩ => ⟨S4096, .f32⟩
  | .hbm, ⟨31, _⟩ => ⟨S4096, .f32⟩
  | .hbm, ⟨32, _⟩ => ⟨S4096, .f32⟩
  | .hbm, ⟨33, _⟩ => ⟨S4096, .f32⟩
  | .hbm, ⟨34, _⟩ => ⟨S4096, .f32⟩
  | .hbm, ⟨35, _⟩ => ⟨S4096, .f32⟩
  | .hbm, ⟨36, _⟩ => ⟨S4096, .f32⟩
  | .hbm, ⟨37, _⟩ => ⟨S4096, .f32⟩
  | .hbm, ⟨38, _⟩ => ⟨S4096, .f32⟩
  | .hbm, ⟨39, _⟩ => ⟨S4096, .f32⟩
  | .hbm, ⟨40, _⟩ => ⟨S1x4096, .f32⟩
  | .hbm, ⟨41, _⟩ => ⟨S_, .i32⟩
  | .hbm, ⟨42, _⟩ => ⟨S2048x4096, .f32⟩
  | .hbm, ⟨43, _⟩ => ⟨S1x4096, .f32⟩
  | .hbm, ⟨44, _⟩ => ⟨S_, .i32⟩
  | .hbm, ⟨45, _⟩ => ⟨S2048x4096, .f32⟩
  | .hbm, ⟨46, _⟩ => ⟨S_, .i32⟩
  | .hbm, ⟨47, _⟩ => ⟨S_, .i32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_c : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_v3_5 : Ref sig .tc := ⟨.hbm, 16, rfl⟩
abbrev main_v3_6 : Ref sig .tc := ⟨.hbm, 17, rfl⟩
abbrev main_v3_7 : Ref sig .tc := ⟨.hbm, 18, rfl⟩
abbrev main_v3_8 : Ref sig .tc := ⟨.hbm, 19, rfl⟩
abbrev main_while0c_c_10 : Ref sig .tc := ⟨.hbm, 20, rfl⟩
abbrev main_while0c_v4 : Ref sig .tc := ⟨.hbm, 21, rfl⟩
abbrev main_while0b_call0_c : Ref sig .tc := ⟨.hbm, 22, rfl⟩
abbrev main_while0b_call0_v0 : Ref sig .tc := ⟨.hbm, 23, rfl⟩
abbrev main_while0b_v4 : Ref sig .tc := ⟨.hbm, 24, rfl⟩
abbrev main_while0b_call1_c : Ref sig .tc := ⟨.hbm, 25, rfl⟩
abbrev main_while0b_call1_v0 : Ref sig .tc := ⟨.hbm, 26, rfl⟩
abbrev main_while0b_v5 : Ref sig .tc := ⟨.hbm, 27, rfl⟩
abbrev main_while0b_v6 : Ref sig .tc := ⟨.hbm, 28, rfl⟩
abbrev main_while0b_v7 : Ref sig .tc := ⟨.hbm, 29, rfl⟩
abbrev main_while0b_v8 : Ref sig .tc := ⟨.hbm, 30, rfl⟩
abbrev main_while0b_v9 : Ref sig .tc := ⟨.hbm, 31, rfl⟩
abbrev main_while0b_v10 : Ref sig .tc := ⟨.hbm, 32, rfl⟩
abbrev main_while0b_v11 : Ref sig .tc := ⟨.hbm, 33, rfl⟩
abbrev main_while0b_v12 : Ref sig .tc := ⟨.hbm, 34, rfl⟩
abbrev main_while0b_v13 : Ref sig .tc := ⟨.hbm, 35, rfl⟩
abbrev main_while0b_v14 : Ref sig .tc := ⟨.hbm, 36, rfl⟩
abbrev main_while0b_v15 : Ref sig .tc := ⟨.hbm, 37, rfl⟩
abbrev main_while0b_v16 : Ref sig .tc := ⟨.hbm, 38, rfl⟩
abbrev main_while0b_v17 : Ref sig .tc := ⟨.hbm, 39, rfl⟩
abbrev main_while0b_call2_v0 : Ref sig .tc := ⟨.hbm, 40, rfl⟩
abbrev main_while0b_call2_c : Ref sig .tc := ⟨.hbm, 41, rfl⟩
abbrev main_while0b_v18 : Ref sig .tc := ⟨.hbm, 42, rfl⟩
abbrev main_while0b_call3_v0 : Ref sig .tc := ⟨.hbm, 43, rfl⟩
abbrev main_while0b_call3_c : Ref sig .tc := ⟨.hbm, 44, rfl⟩
abbrev main_while0b_v19 : Ref sig .tc := ⟨.hbm, 45, rfl⟩
abbrev main_while0b_c_10 : Ref sig .tc := ⟨.hbm, 46, rfl⟩
abbrev main_while0b_v20 : Ref sig .tc := ⟨.hbm, 47, rfl⟩

abbrev nD : Nat := 1
abbrev τ : Topo := Topo.v7x

variable {F : FTy → Type} [FloatOps F]

abbrev main_while0_count : Scf.Loop 32 := ⟨0#32, 2048#32, 1#32⟩
-- ==== Kernel3.lean ====
abbrev S2048x2048 : Shape := ⟨2, ![2048, 2048]⟩
abbrev S5632x2048 : Shape := ⟨2, ![5632, 2048]⟩
abbrev S2048x5632 : Shape := ⟨2, ![2048, 5632]⟩
abbrev S2x2048x5632 : Shape := ⟨3, ![2, 2048, 5632]⟩
abbrev S1024x2048 : Shape := ⟨2, ![1024, 2048]⟩
abbrev S512x2048 : Shape := ⟨2, ![512, 2048]⟩
abbrev S1024x512 : Shape := ⟨2, ![1024, 512]⟩
abbrev S2x1024x512 : Shape := ⟨3, ![2, 1024, 512]⟩
abbrev S1x1024x512 : Shape := ⟨3, ![1, 1024, 512]⟩

abbrev nBuf : Space → Nat
  | .hbm => 5
  | .vmem => 11
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2048x5632, .bf16⟩
  | .hbm, ⟨3, _⟩ => ⟨S2048x5632, .bf16⟩
  | .hbm, ⟨4, _⟩ => ⟨S2x2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S2x1024x512, .bf16⟩
  | .local _ .vmem, ⟨9, _⟩ => ⟨S2x1024x512, .bf16⟩
  | .local _ .vmem, ⟨10, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 11, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference3Ideal.lean ====
abbrev S2048x2048 : Shape := ⟨2, ![2048, 2048]⟩
abbrev S5632x2048 : Shape := ⟨2, ![5632, 2048]⟩
abbrev S2048x5632 : Shape := ⟨2, ![2048, 5632]⟩
abbrev S_ : Shape := ⟨0, ![]⟩
abbrev S1x2048x5632 : Shape := ⟨3, ![1, 2048, 5632]⟩
abbrev S2x2048x5632 : Shape := ⟨3, ![2, 2048, 5632]⟩

abbrev nBuf : Space → Nat
  | .hbm => 34
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2048x5632, .bf16⟩
  | .hbm, ⟨3, _⟩ => ⟨S2048x5632, .bf16⟩
  | .hbm, ⟨4, _⟩ => ⟨S2048x2048, .f32⟩
  | .hbm, ⟨5, _⟩ => ⟨S5632x2048, .f32⟩
  | .hbm, ⟨6, _⟩ => ⟨S2048x5632, .f32⟩
  | .hbm, ⟨7, _⟩ => ⟨S2048x5632, .f32⟩
  | .hbm, ⟨8, _⟩ => ⟨S2048x5632, .f32⟩
  | .hbm, ⟨9, _⟩ => ⟨S2048x5632, .f32⟩
  | .hbm, ⟨10, _⟩ => ⟨S_, .f32⟩
  | .hbm, ⟨11, _⟩ => ⟨S2048x5632, .f32⟩
  | .hbm, ⟨12, _⟩ => ⟨S2048x5632, .f32⟩
  | .hbm, ⟨13, _⟩ => ⟨S_, .f32⟩
  | .hbm, ⟨14, _⟩ => ⟨S2048x5632, .f32⟩
  | .hbm, ⟨15, _⟩ => ⟨S2048x5632, .f32⟩
  | .hbm, ⟨16, _⟩ => ⟨S_, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S2048x2048, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S2048x5632, .f32⟩
  | .hbm, ⟨27, _⟩ => ⟨S2048x5632, .f32⟩
  | .hbm, ⟨28, _⟩ => ⟨S2048x5632, .f32⟩
  | .hbm, ⟨29, _⟩ => ⟨S2048x5632, .f32⟩
  | .hbm, ⟨30, _⟩ => ⟨S1x2048x5632, .f32⟩
  | .hbm, ⟨31, _⟩ => ⟨S1x2048x5632, .f32⟩
  | .hbm, ⟨32, _⟩ => ⟨S2x2048x5632, .f32⟩
  | .hbm, ⟨33, _⟩ => ⟨S2x2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩

abbrev nD : Nat := 1
abbrev τ : Topo := Topo.v7x

variable {F : FTy → Type} [FloatOps F]
-- ==== Kernel4.lean ====
abbrev S2048x5632 : Shape := ⟨2, ![2048, 5632]⟩
abbrev S2048x2048 : Shape := ⟨2, ![2048, 2048]⟩
abbrev S5632x2048 : Shape := ⟨2, ![5632, 2048]⟩
abbrev S512x512 : Shape := ⟨2, ![512, 512]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S5632x2048, .bf16⟩
  | .local _ .vmem, ⟨0, _⟩ => ⟨S512x512, .bf16⟩
  | .local _ .vmem, ⟨1, _⟩ => ⟨S512x512, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference4Ideal.lean ====
abbrev S2048x5632 : Shape := ⟨2, ![2048, 5632]⟩
abbrev S2048x2048 : Shape := ⟨2, ![2048, 2048]⟩
abbrev S5632x2048 : Shape := ⟨2, ![5632, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S2048x5632, .f32⟩
  | .hbm, ⟨3, _⟩ => ⟨S2048x2048, .f32⟩
  | .hbm, ⟨4, _⟩ => ⟨S2048x5632, .f32⟩
  | .hbm, ⟨5, _⟩ => ⟨S5632x2048, .f32⟩
  | .hbm, ⟨6, _⟩ => ⟨S5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel5.lean ====
abbrev S2x2048x5632 : Shape := ⟨3, ![2, 2048, 5632]⟩
abbrev S8x2048x1408 : Shape := ⟨3, ![8, 2048, 1408]⟩
abbrev S2048x2048 : Shape := ⟨2, ![2048, 2048]⟩
abbrev S1x1024x1408 : Shape := ⟨3, ![1, 1024, 1408]⟩
abbrev S1024x1024 : Shape := ⟨2, ![1024, 1024]⟩
abbrev S1024x1408 : Shape := ⟨2, ![1024, 1408]⟩

abbrev nBuf : Space → Nat
  | .hbm => 4
  | .vmem => 9
  | .smem => 0
  | _ => 0

abbrev bufTy : (tb : Table) → Fin (tcTables nBuf tb) → BufTy
  | .hbm, ⟨0, _⟩ => ⟨S2x2048x5632, .bf16⟩
  | .hbm, ⟨1, _⟩ => ⟨S8x2048x1408, .bf16⟩
  | .hbm, ⟨2, _⟩ => ⟨S2048x2048, .f32⟩
  | .hbm, ⟨3, _⟩ => ⟨S2048x2048, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2x2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S2x2048x5632 : Shape := ⟨3, ![2, 2048, 5632]⟩
abbrev S8x2048x1408 : Shape := ⟨3, ![8, 2048, 1408]⟩
abbrev S2048x2048 : Shape := ⟨2, ![2048, 2048]⟩
abbrev S2048x8x1408 : Shape := ⟨3, ![2048, 8, 1408]⟩
abbrev S2048x11264 : Shape := ⟨2, ![2048, 11264]⟩
abbrev S1x2048x5632 : Shape := ⟨3, ![1, 2048, 5632]⟩
abbrev S2048x5632 : Shape := ⟨2, ![2048, 5632]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S2x2048x5632, .bf16⟩
  | .hbm, ⟨1, _⟩ => ⟨S8x2048x1408, .bf16⟩
  | .hbm, ⟨2, _⟩ => ⟨S2048x2048, .f32⟩
  | .hbm, ⟨3, _⟩ => ⟨S8x2048x1408, .f32⟩
  | .hbm, ⟨4, _⟩ => ⟨S2048x8x1408, .f32⟩
  | .hbm, ⟨5, _⟩ => ⟨S2048x11264, .f32⟩
  | .hbm, ⟨6, _⟩ => ⟨S1x2048x5632, .bf16⟩
  | .hbm, ⟨7, _⟩ => ⟨S2048x5632, .bf16⟩
  | .hbm, ⟨8, _⟩ => ⟨S1x2048x5632, .bf16⟩
  | .hbm, ⟨9, _⟩ => ⟨S2048x5632, .bf16⟩
  | .hbm, ⟨10, _⟩ => ⟨S2048x11264, .bf16⟩
  | .hbm, ⟨11, _⟩ => ⟨S2048x11264, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | _, _ => ⟨S2x2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel6.lean ====
abbrev S2048x2048 : Shape := ⟨2, ![2048, 2048]⟩
abbrev S2x2048x5632 : Shape := ⟨3, ![2, 2048, 5632]⟩
abbrev S8x2048x1408 : Shape := ⟨3, ![8, 2048, 1408]⟩
abbrev S512x2048 : Shape := ⟨2, ![512, 2048]⟩
abbrev S1x2048x1408 : Shape := ⟨3, ![1, 2048, 1408]⟩
abbrev S1x512x1408 : Shape := ⟨3, ![1, 512, 1408]⟩
abbrev S512x1408 : Shape := ⟨2, ![512, 1408]⟩
abbrev S2048x1408 : Shape := ⟨2, ![2048, 1408]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2x2048x5632, .bf16⟩
  | .hbm, ⟨2, _⟩ => ⟨S2048x2048, .bf16⟩
  | .hbm, ⟨3, _⟩ => ⟨S8x2048x1408, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x512x1408, .bf16⟩
  | .local _ .vmem, ⟨5, _⟩ => ⟨S1x512x1408, .bf16⟩
  | .local _ .vmem, ⟨6, _⟩ => ⟨S512x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def k0_cond3 (i : grid0.Coords) : BitVec 1 :=
  let arg2 : BitVec 32 := BitVec.ofNat 32 (i 2).val
  let c0_i32_7 : BitVec 32 := 0#32
  let v11 : BitVec 1 := Scalar.cmpi .eq arg2 c0_i32_7
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x2048 : Shape := ⟨2, ![2048, 2048]⟩
abbrev S2x2048x5632 : Shape := ⟨3, ![2, 2048, 5632]⟩
abbrev S1x2048x5632 : Shape := ⟨3, ![1, 2048, 5632]⟩
abbrev S2048x5632 : Shape := ⟨2, ![2048, 5632]⟩
abbrev S2048x11264 : Shape := ⟨2, ![2048, 11264]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2x2048x5632, .bf16⟩
  | .hbm, ⟨2, _⟩ => ⟨S2048x2048, .f32⟩
  | .hbm, ⟨3, _⟩ => ⟨S1x2048x5632, .bf16⟩
  | .hbm, ⟨4, _⟩ => ⟨S2048x5632, .bf16⟩
  | .hbm, ⟨5, _⟩ => ⟨S1x2048x5632, .bf16⟩
  | .hbm, ⟨6, _⟩ => ⟨S2048x5632, .bf16⟩
  | .hbm, ⟨7, _⟩ => ⟨S2048x11264, .bf16⟩
  | .hbm, ⟨8, _⟩ => ⟨S2048x11264, .f32⟩
  | .hbm, ⟨9, _⟩ => ⟨S11264x2048, .f32⟩
  | .hbm, ⟨10, _⟩ => ⟨S2048x11264, .f32⟩
  | .hbm, ⟨11, _⟩ => ⟨S2048x8x1408, .f32⟩
  | .hbm, ⟨12, _⟩ => ⟨S8x2048x1408, .f32⟩
  | .hbm, ⟨13, _⟩ => ⟨S8x2048x1408, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Kernel7.lean ====
abbrev S2048x2048 : Shape := ⟨2, ![2048, 2048]⟩
abbrev S8x2048x1408 : Shape := ⟨3, ![8, 2048, 1408]⟩
abbrev S2048x5632 : Shape := ⟨2, ![2048, 5632]⟩
abbrev S256x2048 : Shape := ⟨2, ![256, 2048]⟩
abbrev S1x2048x1408 : Shape := ⟨3, ![1, 2048, 1408]⟩
abbrev S256x1408 : Shape := ⟨2, ![256, 1408]⟩
abbrev S2048x1408 : Shape := ⟨2, ![2048, 1408]⟩

abbrev nBuf : Space → Nat
  | .hbm => 5
  | .vmem => 12
  | .smem => 0
  | _ => 0

abbrev bufTy : (tb : Table) → Fin (tcTables nBuf tb) → BufTy
  | .hbm, ⟨0, _⟩ => ⟨S2048x2048, .bf16⟩
  | .hbm, ⟨1, _⟩ => ⟨S8x2048x1408, .bf16⟩
  | .hbm, ⟨2, _⟩ => ⟨S2048x5632, .bf16⟩
  | .hbm, ⟨3, _⟩ => ⟨S2048x5632, .bf16⟩
  | .hbm, ⟨4, _⟩ => ⟨S2048x5632, .bf16⟩
  | .local _ .vmem, ⟨0, _⟩ => ⟨S256x2048, .bf16⟩
  | .local _ .vmem, ⟨1, _⟩ => ⟨S256x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S256x1408, .bf16⟩
  | .local _ .vmem, ⟨7, _⟩ => ⟨S256x1408, .bf16⟩
  | .local _ .vmem, ⟨8, _⟩ => ⟨S256x1408, .bf16⟩
  | .local _ .vmem, ⟨9, _⟩ => ⟨S256x1408, .bf16⟩
  | .local _ .vmem, ⟨10, _⟩ => ⟨S256x1408, .bf16⟩
  | .local _ .vmem, ⟨11, _⟩ => ⟨S256x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S2048x2048 : Shape := ⟨2, ![2048, 2048]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S2048x5632 : Shape := ⟨2, ![2048, 5632]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x1408, .bf16⟩
  | .hbm, ⟨2, _⟩ => ⟨S8x2048x1408, .f32⟩
  | .hbm, ⟨3, _⟩ => ⟨S2048x8x1408, .f32⟩
  | .hbm, ⟨4, _⟩ => ⟨S2048x11264, .f32⟩
  | .hbm, ⟨5, _⟩ => ⟨S2048x2048, .f32⟩
  | .hbm, ⟨6, _⟩ => ⟨S2048x11264, .f32⟩
  | .hbm, ⟨7, _⟩ => ⟨S2048x5632, .f32⟩
  | .hbm, ⟨8, _⟩ => ⟨S2048x5632, .f32⟩
  | .hbm, ⟨9, _⟩ => ⟨S2048x5632, .bf16⟩
  | .hbm, ⟨10, _⟩ => ⟨S2048x5632, .bf16⟩
  | .hbm, ⟨11, _⟩ => ⟨S2048x5632, .f32⟩
  | .hbm, ⟨12, _⟩ => ⟨S2048x5632, .f32⟩
  | .hbm, ⟨13, _⟩ => ⟨S_, .f32⟩
  | .hbm, ⟨14, _⟩ => ⟨S2048x5632, .f32⟩
  | .hbm, ⟨15, _⟩ => ⟨S2048x5632, .f32⟩
  | .hbm, ⟨16, _⟩ => ⟨S_, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x5632, .f32⟩
  | .hbm, ⟨21, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Kernel8.lean ====
abbrev S2048x5632 : Shape := ⟨2, ![2048, 5632]⟩
abbrev S5632x2048 : Shape := ⟨2, ![5632, 2048]⟩
abbrev S2048x2048 : Shape := ⟨2, ![2048, 2048]⟩
abbrev S1x2048 : Shape := ⟨2, ![1, 2048]⟩
abbrev S2048x1 : Shape := ⟨2, ![2048, 1]⟩
abbrev S512x512 : Shape := ⟨2, ![512, 512]⟩
abbrev S512x2048 : Shape := ⟨2, ![512, 2048]⟩
abbrev S512x1 : Shape := ⟨2, ![512, 1]⟩
abbrev S512 : Shape := ⟨1, ![512]⟩

abbrev nBuf : Space → Nat
  | .hbm => 9
  | .vmem => 17
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S2048x2048, .f32⟩
  | .hbm, ⟨8, _⟩ => ⟨S2048x1, .f32⟩
  | .local _ .vmem, ⟨0, _⟩ => ⟨S512x512, .bf16⟩
  | .local _ .vmem, ⟨1, _⟩ => ⟨S512x512, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S512x2048, .f32⟩
  | .local _ .vmem, ⟨13, _⟩ => ⟨S512x2048, .f32⟩
  | .local _ .vmem, ⟨14, _⟩ => ⟨S512x1, .f32⟩
  | .local _ .vmem, ⟨15, _⟩ => ⟨S512x1, .f32⟩
  | .local _ .vmem, ⟨16, _⟩ => ⟨S512x2048, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![4, 1, 11], ![false, false, false]⟩

def k0_cond3 (i : grid0.Coords) : BitVec 1 :=
  let arg2 : BitVec 32 := BitVec.ofNat 32 (i 2).val
  let c10_i32 : BitVec 32 := 10#32
  let v9 : BitVec 1 := Scalar.cmpi .eq arg2 c10_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== Reference8Ideal.lean ====
abbrev S2048x5632 : Shape := ⟨2, ![2048, 5632]⟩
abbrev S5632x2048 : Shape := ⟨2, ![5632, 2048]⟩
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 47
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x5632, .f32⟩
  | .hbm, ⟨9, _⟩ => ⟨S5632x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x2048, .bf16⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel9.lean ====
abbrev S2048x2048 : Shape := ⟨2, ![2048, 2048]⟩
abbrev S2048x9216 : Shape := ⟨2, ![2048, 9216]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x9216, .bf16⟩
  | .hbm, ⟨2, _⟩ => ⟨S2048x9216, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 9, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x2048 : Shape := ⟨2, ![2048, 2048]⟩
abbrev S2048x9216 : Shape := ⟨2, ![2048, 9216]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x9216, .bf16⟩
  | .hbm, ⟨2, _⟩ => ⟨S2048x2048, .f32⟩
  | .hbm, ⟨3, _⟩ => ⟨S2048x9216, .f32⟩
  | .hbm, ⟨4, _⟩ => ⟨S2048x9216, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S2048x9216 : Shape := ⟨2, ![2048, 9216]⟩
abbrev S2048x2048 : Shape := ⟨2, ![2048, 2048]⟩
abbrev S512x2304 : Shape := ⟨2, ![512, 2304]⟩
abbrev S1024x2304 : Shape := ⟨2, ![1024, 2304]⟩
abbrev S512x1024 : Shape := ⟨2, ![512, 1024]⟩

abbrev nBuf : Space → Nat
  | .hbm => 5
  | .vmem => 11
  | .smem => 0
  | _ => 0

abbrev bufTy : (tb : Table) → Fin (tcTables nBuf tb) → BufTy
  | .hbm, ⟨0, _⟩ => ⟨S2048x9216, .bf16⟩
  | .hbm, ⟨1, _⟩ => ⟨S2048x9216, .bf16⟩
  | .hbm, ⟨2, _⟩ => ⟨S2048x2048, .f32⟩
  | .hbm, ⟨3, _⟩ => ⟨S2048x2048, .f32⟩
  | .hbm, ⟨4, _⟩ => ⟨S2048x2048, .f32⟩
  | .local _ .vmem, ⟨0, _⟩ => ⟨S512x2304, .bf16⟩
  | .local _ .vmem, ⟨1, _⟩ => ⟨S512x2304, .bf16⟩
  | .local _ .vmem, ⟨2, _⟩ => ⟨S1024x2304, .bf16⟩
  | .local _ .vmem, ⟨3, _⟩ => ⟨S1024x2304, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S2048x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference10Ideal.lean ====
abbrev S2048x9216 : Shape := ⟨2, ![2048, 9216]⟩
abbrev S2048x2048 : Shape := ⟨2, ![2048, 2048]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S2048x9216, .bf16⟩
  | .hbm, ⟨1, _⟩ => ⟨S2048x9216, .bf16⟩
  | .hbm, ⟨2, _⟩ => ⟨S2048x2048, .f32⟩
  | .hbm, ⟨3, _⟩ => ⟨S2048x2048, .f32⟩
  | .hbm, ⟨4, _⟩ => ⟨S2048x9216, .f32⟩
  | .hbm, ⟨5, _⟩ => ⟨S2048x9216, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | _, _ => ⟨S2048x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel11.lean ====
abbrev S2048x2048 : Shape := ⟨2, ![2048, 2048]⟩
abbrev S2048x9216 : Shape := ⟨2, ![2048, 9216]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x9216, .bf16⟩
  | .hbm, ⟨2, _⟩ => ⟨S2048x2048, .bf16⟩
  | .hbm, ⟨3, _⟩ => ⟨S2048x9216, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 9, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x2048 : Shape := ⟨2, ![2048, 2048]⟩
abbrev S2048x9216 : Shape := ⟨2, ![2048, 9216]⟩
abbrev S9216x2048 : Shape := ⟨2, ![9216, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x9216, .bf16⟩
  | .hbm, ⟨2, _⟩ => ⟨S2048x2048, .f32⟩
  | .hbm, ⟨3, _⟩ => ⟨S2048x9216, .f32⟩
  | .hbm, ⟨4, _⟩ => ⟨S9216x2048, .f32⟩
  | .hbm, ⟨5, _⟩ => ⟨S2048x9216, .f32⟩
  | .hbm, ⟨6, _⟩ => ⟨S2048x9216, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel12.lean ====
abbrev S2048x2048 : Shape := ⟨2, ![2048, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x1, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x1, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_9 : BitVec 32 := 0#32
  let v17 : BitVec 1 := Scalar.cmpi .ne v16 c0_i32_9
  v17

def k0_cond2 (i : grid0.Coords) : BitVec 1 :=
  let arg0 : BitVec 32 := BitVec.ofNat 32 (i 0).val
  let c0_i32_10 : BitVec 32 := 0#32
  let v18 : BitVec 1 := Scalar.cmpi .sgt arg0 c0_i32_10
  let v19 : BitVec 32 := Scalar.extui v18
  let c0_i32_11 : BitVec 32 := 0#32
  let v20 : BitVec 1 := Scalar.cmpi .ne v19 c0_i32_11
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference12Ideal.lean ====
abbrev S2048x2048 : Shape := ⟨2, ![2048, 2048]⟩
abbrev S_ : Shape := ⟨0, ![]⟩
abbrev S2048 : Shape := ⟨1, ![2048]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x2048, .f32⟩
  | .hbm, ⟨24, _⟩ => ⟨S2048x2048, .f32⟩
  | .hbm, ⟨25, _⟩ => ⟨S1x1, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel13.lean ====
abbrev S8x9216x128 : Shape := ⟨3, ![8, 9216, 128]⟩
abbrev S9216x128 : Shape := ⟨2, ![9216, 128]⟩
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x9216x128, .f32⟩
  | .hbm, ⟨1, _⟩ => ⟨S9216x128, .f32⟩
  | .hbm, ⟨2, _⟩ => ⟨S9216x128, .f32⟩
  | .hbm, ⟨3, _⟩ => ⟨S9216x128, .f32⟩
  | .hbm, ⟨4, _⟩ => ⟨S9216x128, .f32⟩
  | .hbm, ⟨5, _⟩ => ⟨S9216x128, .f32⟩
  | .hbm, ⟨6, _⟩ => ⟨S9216x128, .f32⟩
  | .hbm, ⟨7, _⟩ => ⟨S9216x128, .f32⟩
  | .local _ .vmem, ⟨0, _⟩ => ⟨S8x512x128, .f32⟩
  | .local _ .vmem, ⟨1, _⟩ => ⟨S8x512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | _, _ => ⟨S8x9216x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![18], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S8x9216x128 : Shape := ⟨3, ![8, 9216, 128]⟩
abbrev S9216x128 : Shape := ⟨2, ![9216, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x9216x128, .f32⟩
  | .hbm, ⟨1, _⟩ => ⟨S9216x128, .f32⟩
  | .hbm, ⟨2, _⟩ => ⟨S9216x128, .f32⟩
  | .hbm, ⟨3, _⟩ => ⟨S9216x128, .f32⟩
  | .hbm, ⟨4, _⟩ => ⟨S_, .f32⟩
  | .hbm, ⟨5, _⟩ => ⟨S9216x128, .f32⟩
  | .hbm, ⟨6, _⟩ => ⟨S_, .f32⟩
  | .hbm, ⟨7, _⟩ => ⟨S9216x128, .f32⟩
  | .hbm, ⟨8, _⟩ => ⟨S9216x128, .f32⟩
  | .hbm, ⟨9, _⟩ => ⟨S_, .f32⟩
  | .hbm, ⟨10, _⟩ => ⟨S9216x128, .f32⟩
  | .hbm, ⟨11, _⟩ => ⟨S9216x128, .f32⟩
  | .hbm, ⟨12, _⟩ => ⟨S9216x128, .f32⟩
  | .hbm, ⟨13, _⟩ => ⟨S_, .f32⟩
  | .hbm, ⟨14, _⟩ => ⟨S9216x128, .f32⟩
  | .hbm, ⟨15, _⟩ => ⟨S9216x128, .f32⟩
  | .hbm, ⟨16, _⟩ => ⟨S9216x128, .f32⟩
  | .hbm, ⟨17, _⟩ => ⟨S_, .f32⟩
  | .hbm, ⟨18, _⟩ => ⟨S9216x128, .f32⟩
  | .hbm, ⟨19, _⟩ => ⟨S9216x128, .f32⟩
  | .hbm, ⟨20, _⟩ => ⟨S9216x128, .f32⟩
  | .hbm, ⟨21, _⟩ => ⟨S_, .f32⟩
  | .hbm, ⟨22, _⟩ => ⟨S9216x128, .f32⟩
  | .hbm, ⟨23, _⟩ => ⟨S9216x128, .f32⟩
  | .hbm, ⟨24, _⟩ => ⟨S_, .f32⟩
  | .hbm, ⟨25, _⟩ => ⟨S9216x128, .f32⟩
  | .hbm, ⟨26, _⟩ => ⟨S9216x128, .f32⟩
  | .hbm, ⟨27, _⟩ => ⟨S9216x128, .f32⟩
  | .hbm, ⟨28, _⟩ => ⟨S_, .f32⟩
  | .hbm, ⟨29, _⟩ => ⟨S9216x128, .f32⟩
  | .hbm, ⟨30, _⟩ => ⟨S9216x128, .f32⟩
  | .hbm, ⟨31, _⟩ => ⟨S9216x128, .f32⟩
  | .hbm, ⟨32, _⟩ => ⟨S_, .f32⟩
  | .hbm, ⟨33, _⟩ => ⟨S9216x128, .f32⟩
  | .hbm, ⟨34, _⟩ => ⟨S9216x128, .f32⟩
  | .hbm, ⟨35, _⟩ => ⟨S9216x128, .f32⟩
  | .hbm, ⟨36, _⟩ => ⟨S_, .f32⟩
  | .hbm, ⟨37, _⟩ => ⟨S9216x128, .f32⟩
  | .hbm, ⟨38, _⟩ => ⟨S9216x128, .f32⟩
  | _, _ => ⟨S8x9216x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel14.lean ====
abbrev S1 : Shape := ⟨1, ![1]⟩
abbrev S2x2048x1408 : Shape := ⟨3, ![2, 2048, 1408]⟩
abbrev S2048x1408 : Shape := ⟨2, ![2048, 1408]⟩
abbrev S4x2048x1408 : Shape := ⟨3, ![4, 2048, 1408]⟩
abbrev S1x128x1408 : Shape := ⟨3, ![1, 128, 1408]⟩
abbrev S128x1408 : Shape := ⟨2, ![128, 1408]⟩

abbrev nBuf : Space → Nat
  | .hbm => 13
  | .vmem => 18
  | .smem => 1
  | _ => 0

abbrev bufTy : (tb : Table) → Fin (tcTables nBuf tb) → BufTy
  | .hbm, ⟨0, _⟩ => ⟨S2x2048x1408, .bf16⟩
  | .hbm, ⟨1, _⟩ => ⟨S2048x1408, .bf16⟩
  | .hbm, ⟨2, _⟩ => ⟨S4x2048x1408, .f32⟩
  | .hbm, ⟨3, _⟩ => ⟨S4x2048x1408, .f32⟩
  | .hbm, ⟨4, _⟩ => ⟨S4x2048x1408, .f32⟩
  | .hbm, ⟨5, _⟩ => ⟨S4x2048x1408, .f32⟩
  | .hbm, ⟨6, _⟩ => ⟨S4x2048x1408, .f32⟩
  | .hbm, ⟨7, _⟩ => ⟨S4x2048x1408, .f32⟩
  | .hbm, ⟨8, _⟩ => ⟨S4x2048x1408, .f32⟩
  | .hbm, ⟨9, _⟩ => ⟨S4x2048x1408, .f32⟩
  | .hbm, ⟨10, _⟩ => ⟨S4x2048x1408, .f32⟩
  | .hbm, ⟨11, _⟩ => ⟨S4x2048x1408, .f32⟩
  | .hbm, ⟨12, _⟩ => ⟨S4x2048x1408, .f32⟩
  | .local _ .vmem, ⟨0, _⟩ => ⟨S1x128x1408, .bf16⟩
  | .local _ .vmem, ⟨1, _⟩ => ⟨S1x128x1408, .bf16⟩
  | .local _ .vmem, ⟨2, _⟩ => ⟨S128x1408, .bf16⟩
  | .local _ .vmem, ⟨3, _⟩ => ⟨S128x1408, .bf16⟩
  | .local _ .vmem, ⟨4, _⟩ => ⟨S1x128x1408, .f32⟩
  | .local _ .vmem, ⟨5, _⟩ => ⟨S1x128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | .local _ .vmem, ⟨16, _⟩ => ⟨S1x128x1408, .f32⟩
  | .local _ .vmem, ⟨17, _⟩ => ⟨S1x128x1408, .f32⟩
  | .local _ .smem, ⟨0, _⟩ => ⟨S1, .i32⟩
  | _, _ => ⟨S2x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_12 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S1x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel14Ideal.lean ====
abbrev S1 : Shape := ⟨1, ![1]⟩
abbrev S2x2048x1408 : Shape := ⟨3, ![2, 2048, 1408]⟩
abbrev S2048x1408 : Shape := ⟨2, ![2048, 1408]⟩
abbrev S4x2048x1408 : Shape := ⟨3, ![4, 2048, 1408]⟩
abbrev S1x128x1408 : Shape := ⟨3, ![1, 128, 1408]⟩
abbrev S128x1408 : Shape := ⟨2, ![128, 1408]⟩

abbrev nBuf : Space → Nat
  | .hbm => 13
  | .vmem => 18
  | .smem => 1
  | _ => 0

abbrev bufTy : (tb : Table) → Fin (tcTables nBuf tb) → BufTy
  | .hbm, ⟨0, _⟩ => ⟨S2x2048x1408, .bf16⟩
  | .hbm, ⟨1, _⟩ => ⟨S2048x1408, .bf16⟩
  | .hbm, ⟨2, _⟩ => ⟨S4x2048x1408, .f32⟩
  | .hbm, ⟨3, _⟩ => ⟨S4x2048x1408, .f32⟩
  | .hbm, ⟨4, _⟩ => ⟨S4x2048x1408, .f32⟩
  | .hbm, ⟨5, _⟩ => ⟨S4x2048x1408, .f32⟩
  | .hbm, ⟨6, _⟩ => ⟨S4x2048x1408, .f32⟩
  | .hbm, ⟨7, _⟩ => ⟨S4x2048x1408, .f32⟩
  | .hbm, ⟨8, _⟩ => ⟨S4x2048x1408, .f32⟩
  | .hbm, ⟨9, _⟩ => ⟨S4x2048x1408, .f32⟩
  | .hbm, ⟨10, _⟩ => ⟨S4x2048x1408, .f32⟩
  | .hbm, ⟨11, _⟩ => ⟨S4x2048x1408, .f32⟩
  | .hbm, ⟨12, _⟩ => ⟨S4x2048x1408, .f32⟩
  | .local _ .vmem, ⟨0, _⟩ => ⟨S1x128x1408, .bf16⟩
  | .local _ .vmem, ⟨1, _⟩ => ⟨S1x128x1408, .bf16⟩
  | .local _ .vmem, ⟨2, _⟩ => ⟨S128x1408, .bf16⟩
  | .local _ .vmem, ⟨3, _⟩ => ⟨S128x1408, .bf16⟩
  | .local _ .vmem, ⟨4, _⟩ => ⟨S1x128x1408, .f32⟩
  | .local _ .vmem, ⟨5, _⟩ => ⟨S1x128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | .local _ .vmem, ⟨16, _⟩ => ⟨S1x128x1408, .f32⟩
  | .local _ .vmem, ⟨17, _⟩ => ⟨S1x128x1408, .f32⟩
  | .local _ .smem, ⟨0, _⟩ => ⟨S1, .i32⟩
  | _, _ => ⟨S2x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_12 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S1x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference14Ideal.lean ====
abbrev S1 : Shape := ⟨1, ![1]⟩
abbrev S2x2048x1408 : Shape := ⟨3, ![2, 2048, 1408]⟩
abbrev S2048x1408 : Shape := ⟨2, ![2048, 1408]⟩
abbrev S4x2048x1408 : Shape := ⟨3, ![4, 2048, 1408]⟩
abbrev S_ : Shape := ⟨0, ![]⟩
abbrev S1x2048x1408 : Shape := ⟨3, ![1, 2048, 1408]⟩
abbrev S4 : Shape := ⟨1, ![4]⟩
abbrev S4x1x1 : Shape := ⟨3, ![4, 1, 1]⟩

abbrev nBuf : Space → Nat
  | .hbm => 68
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x2048x1408, .bf16⟩
  | .hbm, ⟨2, _⟩ => ⟨S2048x1408, .bf16⟩
  | .hbm, ⟨3, _⟩ => ⟨S4x2048x1408, .f32⟩
  | .hbm, ⟨4, _⟩ => ⟨S4x2048x1408, .f32⟩
  | .hbm, ⟨5, _⟩ => ⟨S4x2048x1408, .f32⟩
  | .hbm, ⟨6, _⟩ => ⟨S4x2048x1408, .f32⟩
  | .hbm, ⟨7, _⟩ => ⟨S4x2048x1408, .f32⟩
  | .hbm, ⟨8, _⟩ => ⟨S4x2048x1408, .f32⟩
  | .hbm, ⟨9, _⟩ => ⟨S4x2048x1408, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1x2048x1408, .bf16⟩
  | .hbm, ⟨14, _⟩ => ⟨S2048x1408, .bf16⟩
  | .hbm, ⟨15, _⟩ => ⟨S1x2048x1408, .bf16⟩
  | .hbm, ⟨16, _⟩ => ⟨S2048x1408, .bf16⟩
  | .hbm, ⟨17, _⟩ => ⟨S2048x1408, .bf16⟩
  | .hbm, ⟨18, _⟩ => ⟨S2048x1408, .f32⟩
  | .hbm, ⟨19, _⟩ => ⟨S2048x1408, .f32⟩
  | .hbm, ⟨20, _⟩ => ⟨S2048x1408, .f32⟩
  | .hbm, ⟨21, _⟩ => ⟨S4x2048x1408, .f32⟩
  | .hbm, ⟨22, _⟩ => ⟨S4, .i32⟩
  | .hbm, ⟨23, _⟩ => ⟨S4x1x1, .i32⟩
  | .hbm, ⟨24, _⟩ => ⟨S_, .i32⟩
  | .hbm, ⟨25, _⟩ => ⟨S4x1x1, .i32⟩
  | .hbm, ⟨26, _⟩ => ⟨S4x1x1, .i1⟩
  | .hbm, ⟨27, _⟩ => ⟨S_, .f32⟩
  | .hbm, ⟨28, _⟩ => ⟨S4x2048x1408, .f32⟩
  | .hbm, ⟨29, _⟩ => ⟨S4x2048x1408, .f32⟩
  | .hbm, ⟨30, _⟩ => ⟨S_, .f32⟩
  | .hbm, ⟨31, _⟩ => ⟨S4x2048x1408, .f32⟩
  | .hbm, ⟨32, _⟩ => ⟨S4x2048x1408, .f32⟩
  | .hbm, ⟨33, _⟩ => ⟨S4x2048x1408, .f32⟩
  | .hbm, ⟨34, _⟩ => ⟨S_, .f32⟩
  | .hbm, ⟨35, _⟩ => ⟨S4x2048x1408, .f32⟩
  | .hbm, ⟨36, _⟩ => ⟨S4x2048x1408, .f32⟩
  | .hbm, ⟨37, _⟩ => ⟨S4x2048x1408, .f32⟩
  | .hbm, ⟨38, _⟩ => ⟨S_, .f32⟩
  | .hbm, ⟨39, _⟩ => ⟨S4x2048x1408, .f32⟩
  | .hbm, ⟨40, _⟩ => ⟨S4x2048x1408, .f32⟩
  | .hbm, ⟨41, _⟩ => ⟨S4x2048x1408, .f32⟩
  | .hbm, ⟨42, _⟩ => ⟨S_, .f32⟩
  | .hbm, ⟨43, _⟩ => ⟨S4x2048x1408, .f32⟩
  | .hbm, ⟨44, _⟩ => ⟨S4x2048x1408, .f32⟩
  | .hbm, ⟨45, _⟩ => ⟨S_, .f32⟩
  | .hbm, ⟨46, _⟩ => ⟨S4x2048x1408, .f32⟩
  | .hbm, ⟨47, _⟩ => ⟨S4x2048x1408, .f32⟩
  | .hbm, ⟨48, _⟩ => ⟨S4x2048x1408, .f32⟩
  | .hbm, ⟨49, _⟩ => ⟨S_, .f32⟩
  | .hbm, ⟨50, _⟩ => ⟨S4x2048x1408, .f32⟩
  | .hbm, ⟨51, _⟩ => ⟨S4x2048x1408, .f32⟩
  | .hbm, ⟨52, _⟩ => ⟨S4x2048x1408, .f32⟩
  | .hbm, ⟨53, _⟩ => ⟨S_, .f32⟩
  | .hbm, ⟨54, _⟩ => ⟨S4x2048x1408, .f32⟩
  | .hbm, ⟨55, _⟩ => ⟨S4x2048x1408, .f32⟩
  | .hbm, ⟨56, _⟩ => ⟨S4x2048x1408, .f32⟩
  | .hbm, ⟨57, _⟩ => ⟨S_, .f32⟩
  | .hbm, ⟨58, _⟩ => ⟨S4x2048x1408, .f32⟩
  | .hbm, ⟨59, _⟩ => ⟨S4x2048x1408, .f32⟩
  | .hbm, ⟨60, _⟩ => ⟨S4x2048x1408, .i1⟩
  | .hbm, ⟨61, _⟩ => ⟨S4x2048x1408, .f32⟩
  | .hbm, ⟨62, _⟩ => ⟨S4x2048x1408, .i1⟩
  | .hbm, ⟨63, _⟩ => ⟨S4x2048x1408, .f32⟩
  | .hbm, ⟨64, _⟩ => ⟨S4x2048x1408, .i1⟩
  | .hbm, ⟨65, _⟩ => ⟨S4x2048x1408, .f32⟩
  | .hbm, ⟨66, _⟩ => ⟨S4x2048x1408, .i1⟩
  | .hbm, ⟨67, _⟩ => ⟨S4x2048x1408, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_0 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_call1_v0 : Ref sig .tc := ⟨.hbm, 60, rfl⟩
abbrev main_v39 : Ref sig .tc := ⟨.hbm, 61, rfl⟩
abbrev main_call2_v0 : Ref sig .tc := ⟨.hbm, 62, rfl⟩
abbrev main_v40 : Ref sig .tc := ⟨.hbm, 63, rfl⟩
abbrev main_call3_v0 : Ref sig .tc := ⟨.hbm, 64, rfl⟩
abbrev main_v41 : Ref sig .tc := ⟨.hbm, 65, rfl⟩
abbrev main_call4_v0 : Ref sig .tc := ⟨.hbm, 66, rfl⟩
abbrev main_v42 : Ref sig .tc := ⟨.hbm, 67, rfl⟩

abbrev nD : Nat := 1
abbrev τ : Topo := Topo.v7x

variable {F : FTy → Type} [FloatOps F]
-- ==== Kernel15.lean ====
abbrev S1 : Shape := ⟨1, ![1]⟩
abbrev S2x2048x1408 : Shape := ⟨3, ![2, 2048, 1408]⟩
abbrev S2048x1408 : Shape := ⟨2, ![2048, 1408]⟩
abbrev S4x2048x1408 : Shape := ⟨3, ![4, 2048, 1408]⟩
abbrev S1x128x1408 : Shape := ⟨3, ![1, 128, 1408]⟩
abbrev S128x1408 : Shape := ⟨2, ![128, 1408]⟩

abbrev nBuf : Space → Nat
  | .hbm => 13
  | .vmem => 18
  | .smem => 1
  | _ => 0

abbrev bufTy : (tb : Table) → Fin (tcTables nBuf tb) → BufTy
  | .hbm, ⟨0, _⟩ => ⟨S2x2048x1408, .bf16⟩
  | .hbm, ⟨1, _⟩ => ⟨S2048x1408, .bf16⟩
  | .hbm, ⟨2, _⟩ => ⟨S4x2048x1408, .f32⟩
  | .hbm, ⟨3, _⟩ => ⟨S4x2048x1408, .f32⟩
  | .hbm, ⟨4, _⟩ => ⟨S4x2048x1408, .f32⟩
  | .hbm, ⟨5, _⟩ => ⟨S4x2048x1408, .f32⟩
  | .hbm, ⟨6, _⟩ => ⟨S4x2048x1408, .f32⟩
  | .hbm, ⟨7, _⟩ => ⟨S4x2048x1408, .f32⟩
  | .hbm, ⟨8, _⟩ => ⟨S4x2048x1408, .f32⟩
  | .hbm, ⟨9, _⟩ => ⟨S4x2048x1408, .f32⟩
  | .hbm, ⟨10, _⟩ => ⟨S4x2048x1408, .f32⟩
  | .hbm, ⟨11, _⟩ => ⟨S4x2048x1408, .f32⟩
  | .hbm, ⟨12, _⟩ => ⟨S4x2048x1408, .f32⟩
  | .local _ .vmem, ⟨0, _⟩ => ⟨S1x128x1408, .bf16⟩
  | .local _ .vmem, ⟨1, _⟩ => ⟨S1x128x1408, .bf16⟩
  | .local _ .vmem, ⟨2, _⟩ => ⟨S128x1408, .bf16⟩
  | .local _ .vmem, ⟨3, _⟩ => ⟨S128x1408, .bf16⟩
  | .local _ .vmem, ⟨4, _⟩ => ⟨S1x128x1408, .f32⟩
  | .local _ .vmem, ⟨5, _⟩ => ⟨S1x128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | .local _ .vmem, ⟨16, _⟩ => ⟨S1x128x1408, .f32⟩
  | .local _ .vmem, ⟨17, _⟩ => ⟨S1x128x1408, .f32⟩
  | .local _ .smem, ⟨0, _⟩ => ⟨S1, .i32⟩
  | _, _ => ⟨S2x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_10 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_12 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage0_0 : Fin 2 → Memref sig .tc .vmem S1x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel15Ideal.lean ====
abbrev S1 : Shape := ⟨1, ![1]⟩
abbrev S2x2048x1408 : Shape := ⟨3, ![2, 2048, 1408]⟩
abbrev S2048x1408 : Shape := ⟨2, ![2048, 1408]⟩
abbrev S4x2048x1408 : Shape := ⟨3, ![4, 2048, 1408]⟩
abbrev S1x128x1408 : Shape := ⟨3, ![1, 128, 1408]⟩
abbrev S128x1408 : Shape := ⟨2, ![128, 1408]⟩

abbrev nBuf : Space → Nat
  | .hbm => 13
  | .vmem => 18
  | .smem => 1
  | _ => 0

abbrev bufTy : (tb : Table) → Fin (tcTables nBuf tb) → BufTy
  | .hbm, ⟨0, _⟩ => ⟨S2x2048x1408, .bf16⟩
  | .hbm, ⟨1, _⟩ => ⟨S2048x1408, .bf16⟩
  | .hbm, ⟨2, _⟩ => ⟨S4x2048x1408, .f32⟩
  | .hbm, ⟨3, _⟩ => ⟨S4x2048x1408, .f32⟩
  | .hbm, ⟨4, _⟩ => ⟨S4x2048x1408, .f32⟩
  | .hbm, ⟨5, _⟩ => ⟨S4x2048x1408, .f32⟩
  | .hbm, ⟨6, _⟩ => ⟨S4x2048x1408, .f32⟩
  | .hbm, ⟨7, _⟩ => ⟨S4x2048x1408, .f32⟩
  | .hbm, ⟨8, _⟩ => ⟨S4x2048x1408, .f32⟩
  | .hbm, ⟨9, _⟩ => ⟨S4x2048x1408, .f32⟩
  | .hbm, ⟨10, _⟩ => ⟨S4x2048x1408, .f32⟩
  | .hbm, ⟨11, _⟩ => ⟨S4x2048x1408, .f32⟩
  | .hbm, ⟨12, _⟩ => ⟨S4x2048x1408, .f32⟩
  | .local _ .vmem, ⟨0, _⟩ => ⟨S1x128x1408, .bf16⟩
  | .local _ .vmem, ⟨1, _⟩ => ⟨S1x128x1408, .bf16⟩
  | .local _ .vmem, ⟨2, _⟩ => ⟨S128x1408, .bf16⟩
  | .local _ .vmem, ⟨3, _⟩ => ⟨S128x1408, .bf16⟩
  | .local _ .vmem, ⟨4, _⟩ => ⟨S1x128x1408, .f32⟩
  | .local _ .vmem, ⟨5, _⟩ => ⟨S1x128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | .local _ .vmem, ⟨16, _⟩ => ⟨S1x128x1408, .f32⟩
  | .local _ .vmem, ⟨17, _⟩ => ⟨S1x128x1408, .f32⟩
  | .local _ .smem, ⟨0, _⟩ => ⟨S1, .i32⟩
  | _, _ => ⟨S2x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_10 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_12 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage0_0 : Fin 2 → Memref sig .tc .vmem S1x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference15Ideal.lean ====
abbrev S1 : Shape := ⟨1, ![1]⟩
abbrev S2x2048x1408 : Shape := ⟨3, ![2, 2048, 1408]⟩
abbrev S2048x1408 : Shape := ⟨2, ![2048, 1408]⟩
abbrev S4x2048x1408 : Shape := ⟨3, ![4, 2048, 1408]⟩
abbrev S_ : Shape := ⟨0, ![]⟩
abbrev S1x2048x1408 : Shape := ⟨3, ![1, 2048, 1408]⟩
abbrev S4 : Shape := ⟨1, ![4]⟩
abbrev S4x1x1 : Shape := ⟨3, ![4, 1, 1]⟩

abbrev nBuf : Space → Nat
  | .hbm => 68
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x2048x1408, .bf16⟩
  | .hbm, ⟨2, _⟩ => ⟨S2048x1408, .bf16⟩
  | .hbm, ⟨3, _⟩ => ⟨S4x2048x1408, .f32⟩
  | .hbm, ⟨4, _⟩ => ⟨S4x2048x1408, .f32⟩
  | .hbm, ⟨5, _⟩ => ⟨S4x2048x1408, .f32⟩
  | .hbm, ⟨6, _⟩ => ⟨S4x2048x1408, .f32⟩
  | .hbm, ⟨7, _⟩ => ⟨S4x2048x1408, .f32⟩
  | .hbm, ⟨8, _⟩ => ⟨S4x2048x1408, .f32⟩
  | .hbm, ⟨9, _⟩ => ⟨S4x2048x1408, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1x2048x1408, .bf16⟩
  | .hbm, ⟨14, _⟩ => ⟨S2048x1408, .bf16⟩
  | .hbm, ⟨15, _⟩ => ⟨S1x2048x1408, .bf16⟩
  | .hbm, ⟨16, _⟩ => ⟨S2048x1408, .bf16⟩
  | .hbm, ⟨17, _⟩ => ⟨S2048x1408, .bf16⟩
  | .hbm, ⟨18, _⟩ => ⟨S2048x1408, .f32⟩
  | .hbm, ⟨19, _⟩ => ⟨S2048x1408, .f32⟩
  | .hbm, ⟨20, _⟩ => ⟨S2048x1408, .f32⟩
  | .hbm, ⟨21, _⟩ => ⟨S4x2048x1408, .f32⟩
  | .hbm, ⟨22, _⟩ => ⟨S4, .i32⟩
  | .hbm, ⟨23, _⟩ => ⟨S4x1x1, .i32⟩
  | .hbm, ⟨24, _⟩ => ⟨S_, .i32⟩
  | .hbm, ⟨25, _⟩ => ⟨S4x1x1, .i32⟩
  | .hbm, ⟨26, _⟩ => ⟨S4x1x1, .i1⟩
  | .hbm, ⟨27, _⟩ => ⟨S_, .f32⟩
  | .hbm, ⟨28, _⟩ => ⟨S4x2048x1408, .f32⟩
  | .hbm, ⟨29, _⟩ => ⟨S4x2048x1408, .f32⟩
  | .hbm, ⟨30, _⟩ => ⟨S_, .f32⟩
  | .hbm, ⟨31, _⟩ => ⟨S4x2048x1408, .f32⟩
  | .hbm, ⟨32, _⟩ => ⟨S4x2048x1408, .f32⟩
  | .hbm, ⟨33, _⟩ => ⟨S4x2048x1408, .f32⟩
  | .hbm, ⟨34, _⟩ => ⟨S_, .f32⟩
  | .hbm, ⟨35, _⟩ => ⟨S4x2048x1408, .f32⟩
  | .hbm, ⟨36, _⟩ => ⟨S4x2048x1408, .f32⟩
  | .hbm, ⟨37, _⟩ => ⟨S4x2048x1408, .f32⟩
  | .hbm, ⟨38, _⟩ => ⟨S_, .f32⟩
  | .hbm, ⟨39, _⟩ => ⟨S4x2048x1408, .f32⟩
  | .hbm, ⟨40, _⟩ => ⟨S4x2048x1408, .f32⟩
  | .hbm, ⟨41, _⟩ => ⟨S4x2048x1408, .f32⟩
  | .hbm, ⟨42, _⟩ => ⟨S_, .f32⟩
  | .hbm, ⟨43, _⟩ => ⟨S4x2048x1408, .f32⟩
  | .hbm, ⟨44, _⟩ => ⟨S4x2048x1408, .f32⟩
  | .hbm, ⟨45, _⟩ => ⟨S_, .f32⟩
  | .hbm, ⟨46, _⟩ => ⟨S4x2048x1408, .f32⟩
  | .hbm, ⟨47, _⟩ => ⟨S4x2048x1408, .f32⟩
  | .hbm, ⟨48, _⟩ => ⟨S4x2048x1408, .f32⟩
  | .hbm, ⟨49, _⟩ => ⟨S_, .f32⟩
  | .hbm, ⟨50, _⟩ => ⟨S4x2048x1408, .f32⟩
  | .hbm, ⟨51, _⟩ => ⟨S4x2048x1408, .f32⟩
  | .hbm, ⟨52, _⟩ => ⟨S4x2048x1408, .f32⟩
  | .hbm, ⟨53, _⟩ => ⟨S_, .f32⟩
  | .hbm, ⟨54, _⟩ => ⟨S4x2048x1408, .f32⟩
  | .hbm, ⟨55, _⟩ => ⟨S4x2048x1408, .f32⟩
  | .hbm, ⟨56, _⟩ => ⟨S4x2048x1408, .f32⟩
  | .hbm, ⟨57, _⟩ => ⟨S_, .f32⟩
  | .hbm, ⟨58, _⟩ => ⟨S4x2048x1408, .f32⟩
  | .hbm, ⟨59, _⟩ => ⟨S4x2048x1408, .f32⟩
  | .hbm, ⟨60, _⟩ => ⟨S4x2048x1408, .i1⟩
  | .hbm, ⟨61, _⟩ => ⟨S4x2048x1408, .f32⟩
  | .hbm, ⟨62, _⟩ => ⟨S4x2048x1408, .i1⟩
  | .hbm, ⟨63, _⟩ => ⟨S4x2048x1408, .f32⟩
  | .hbm, ⟨64, _⟩ => ⟨S4x2048x1408, .i1⟩
  | .hbm, ⟨65, _⟩ => ⟨S4x2048x1408, .f32⟩
  | .hbm, ⟨66, _⟩ => ⟨S4x2048x1408, .i1⟩
  | .hbm, ⟨67, _⟩ => ⟨S4x2048x1408, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_0 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_call1_v0 : Ref sig .tc := ⟨.hbm, 60, rfl⟩
abbrev main_v39 : Ref sig .tc := ⟨.hbm, 61, rfl⟩
abbrev main_call2_v0 : Ref sig .tc := ⟨.hbm, 62, rfl⟩
abbrev main_v40 : Ref sig .tc := ⟨.hbm, 63, rfl⟩
abbrev main_call3_v0 : Ref sig .tc := ⟨.hbm, 64, rfl⟩
abbrev main_v41 : Ref sig .tc := ⟨.hbm, 65, rfl⟩
abbrev main_call4_v0 : Ref sig .tc := ⟨.hbm, 66, rfl⟩
abbrev main_v42 : Ref sig .tc := ⟨.hbm, 67, rfl⟩

abbrev nD : Nat := 1
abbrev τ : Topo := Topo.v7x

variable {F : FTy → Type} [FloatOps F]
-- ==== Kernel16.lean ====
abbrev S1 : Shape := ⟨1, ![1]⟩
abbrev S2x2048x1408 : Shape := ⟨3, ![2, 2048, 1408]⟩
abbrev S2048x1408 : Shape := ⟨2, ![2048, 1408]⟩
abbrev S4x2048x1408 : Shape := ⟨3, ![4, 2048, 1408]⟩
abbrev S1x128x1408 : Shape := ⟨3, ![1, 128, 1408]⟩
abbrev S128x1408 : Shape := ⟨2, ![128, 1408]⟩

abbrev nBuf : Space → Nat
  | .hbm => 13
  | .vmem => 18
  | .smem => 1
  | _ => 0

abbrev bufTy : (tb : Table) → Fin (tcTables nBuf tb) → BufTy
  | .hbm, ⟨0, _⟩ => ⟨S2x2048x1408, .bf16⟩
  | .hbm, ⟨1, _⟩ => ⟨S2048x1408, .bf16⟩
  | .hbm, ⟨2, _⟩ => ⟨S4x2048x1408, .f32⟩
  | .hbm, ⟨3, _⟩ => ⟨S4x2048x1408, .f32⟩
  | .hbm, ⟨4, _⟩ => ⟨S4x2048x1408, .f32⟩
  | .hbm, ⟨5, _⟩ => ⟨S4x2048x1408, .f32⟩
  | .hbm, ⟨6, _⟩ => ⟨S4x2048x1408, .f32⟩
  | .hbm, ⟨7, _⟩ => ⟨S4x2048x1408, .f32⟩
  | .hbm, ⟨8, _⟩ => ⟨S4x2048x1408, .f32⟩
  | .hbm, ⟨9, _⟩ => ⟨S4x2048x1408, .f32⟩
  | .hbm, ⟨10, _⟩ => ⟨S4x2048x1408, .f32⟩
  | .hbm, ⟨11, _⟩ => ⟨S4x2048x1408, .f32⟩
  | .hbm, ⟨12, _⟩ => ⟨S4x2048x1408, .f32⟩
  | .local _ .vmem, ⟨0, _⟩ => ⟨S1x128x1408, .bf16⟩
  | .local _ .vmem, ⟨1, _⟩ => ⟨S1x128x1408, .bf16⟩
  | .local _ .vmem, ⟨2, _⟩ => ⟨S128x1408, .bf16⟩
  | .local _ .vmem, ⟨3, _⟩ => ⟨S128x1408, .bf16⟩
  | .local _ .vmem, ⟨4, _⟩ => ⟨S1x128x1408, .f32⟩
  | .local _ .vmem, ⟨5, _⟩ => ⟨S1x128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | .local _ .vmem, ⟨16, _⟩ => ⟨S1x128x1408, .f32⟩
  | .local _ .vmem, ⟨17, _⟩ => ⟨S1x128x1408, .f32⟩
  | .local _ .smem, ⟨0, _⟩ => ⟨S1, .i32⟩
  | _, _ => ⟨S2x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel16Ideal.lean ====
abbrev S1 : Shape := ⟨1, ![1]⟩
abbrev S2x2048x1408 : Shape := ⟨3, ![2, 2048, 1408]⟩
abbrev S2048x1408 : Shape := ⟨2, ![2048, 1408]⟩
abbrev S4x2048x1408 : Shape := ⟨3, ![4, 2048, 1408]⟩
abbrev S1x128x1408 : Shape := ⟨3, ![1, 128, 1408]⟩
abbrev S128x1408 : Shape := ⟨2, ![128, 1408]⟩

abbrev nBuf : Space → Nat
  | .hbm => 13
  | .vmem => 18
  | .smem => 1
  | _ => 0

abbrev bufTy : (tb : Table) → Fin (tcTables nBuf tb) → BufTy
  | .hbm, ⟨0, _⟩ => ⟨S2x2048x1408, .bf16⟩
  | .hbm, ⟨1, _⟩ => ⟨S2048x1408, .bf16⟩
  | .hbm, ⟨2, _⟩ => ⟨S4x2048x1408, .f32⟩
  | .hbm, ⟨3, _⟩ => ⟨S4x2048x1408, .f32⟩
  | .hbm, ⟨4, _⟩ => ⟨S4x2048x1408, .f32⟩
  | .hbm, ⟨5, _⟩ => ⟨S4x2048x1408, .f32⟩
  | .hbm, ⟨6, _⟩ => ⟨S4x2048x1408, .f32⟩
  | .hbm, ⟨7, _⟩ => ⟨S4x2048x1408, .f32⟩
  | .hbm, ⟨8, _⟩ => ⟨S4x2048x1408, .f32⟩
  | .hbm, ⟨9, _⟩ => ⟨S4x2048x1408, .f32⟩
  | .hbm, ⟨10, _⟩ => ⟨S4x2048x1408, .f32⟩
  | .hbm, ⟨11, _⟩ => ⟨S4x2048x1408, .f32⟩
  | .hbm, ⟨12, _⟩ => ⟨S4x2048x1408, .f32⟩
  | .local _ .vmem, ⟨0, _⟩ => ⟨S1x128x1408, .bf16⟩
  | .local _ .vmem, ⟨1, _⟩ => ⟨S1x128x1408, .bf16⟩
  | .local _ .vmem, ⟨2, _⟩ => ⟨S128x1408, .bf16⟩
  | .local _ .vmem, ⟨3, _⟩ => ⟨S128x1408, .bf16⟩
  | .local _ .vmem, ⟨4, _⟩ => ⟨S1x128x1408, .f32⟩
  | .local _ .vmem, ⟨5, _⟩ => ⟨S1x128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | .local _ .vmem, ⟨16, _⟩ => ⟨S1x128x1408, .f32⟩
  | .local _ .vmem, ⟨17, _⟩ => ⟨S1x128x1408, .f32⟩
  | .local _ .smem, ⟨0, _⟩ => ⟨S1, .i32⟩
  | _, _ => ⟨S2x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference16Ideal.lean ====
abbrev S1 : Shape := ⟨1, ![1]⟩
abbrev S2x2048x1408 : Shape := ⟨3, ![2, 2048, 1408]⟩
abbrev S2048x1408 : Shape := ⟨2, ![2048, 1408]⟩
abbrev S4x2048x1408 : Shape := ⟨3, ![4, 2048, 1408]⟩
abbrev S_ : Shape := ⟨0, ![]⟩
abbrev S1x2048x1408 : Shape := ⟨3, ![1, 2048, 1408]⟩
abbrev S4 : Shape := ⟨1, ![4]⟩
abbrev S4x1x1 : Shape := ⟨3, ![4, 1, 1]⟩

abbrev nBuf : Space → Nat
  | .hbm => 68
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x2048x1408, .bf16⟩
  | .hbm, ⟨2, _⟩ => ⟨S2048x1408, .bf16⟩
  | .hbm, ⟨3, _⟩ => ⟨S4x2048x1408, .f32⟩
  | .hbm, ⟨4, _⟩ => ⟨S4x2048x1408, .f32⟩
  | .hbm, ⟨5, _⟩ => ⟨S4x2048x1408, .f32⟩
  | .hbm, ⟨6, _⟩ => ⟨S4x2048x1408, .f32⟩
  | .hbm, ⟨7, _⟩ => ⟨S4x2048x1408, .f32⟩
  | .hbm, ⟨8, _⟩ => ⟨S4x2048x1408, .f32⟩
  | .hbm, ⟨9, _⟩ => ⟨S4x2048x1408, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1x2048x1408, .bf16⟩
  | .hbm, ⟨14, _⟩ => ⟨S2048x1408, .bf16⟩
  | .hbm, ⟨15, _⟩ => ⟨S1x2048x1408, .bf16⟩
  | .hbm, ⟨16, _⟩ => ⟨S2048x1408, .bf16⟩
  | .hbm, ⟨17, _⟩ => ⟨S2048x1408, .bf16⟩
  | .hbm, ⟨18, _⟩ => ⟨S2048x1408, .f32⟩
  | .hbm, ⟨19, _⟩ => ⟨S2048x1408, .f32⟩
  | .hbm, ⟨20, _⟩ => ⟨S2048x1408, .f32⟩
  | .hbm, ⟨21, _⟩ => ⟨S4x2048x1408, .f32⟩
  | .hbm, ⟨22, _⟩ => ⟨S4, .i32⟩
  | .hbm, ⟨23, _⟩ => ⟨S4x1x1, .i32⟩
  | .hbm, ⟨24, _⟩ => ⟨S_, .i32⟩
  | .hbm, ⟨25, _⟩ => ⟨S4x1x1, .i32⟩
  | .hbm, ⟨26, _⟩ => ⟨S4x1x1, .i1⟩
  | .hbm, ⟨27, _⟩ => ⟨S_, .f32⟩
  | .hbm, ⟨28, _⟩ => ⟨S4x2048x1408, .f32⟩
  | .hbm, ⟨29, _⟩ => ⟨S4x2048x1408, .f32⟩
  | .hbm, ⟨30, _⟩ => ⟨S_, .f32⟩
  | .hbm, ⟨31, _⟩ => ⟨S4x2048x1408, .f32⟩
  | .hbm, ⟨32, _⟩ => ⟨S4x2048x1408, .f32⟩
  | .hbm, ⟨33, _⟩ => ⟨S4x2048x1408, .f32⟩
  | .hbm, ⟨34, _⟩ => ⟨S_, .f32⟩
  | .hbm, ⟨35, _⟩ => ⟨S4x2048x1408, .f32⟩
  | .hbm, ⟨36, _⟩ => ⟨S4x2048x1408, .f32⟩
  | .hbm, ⟨37, _⟩ => ⟨S4x2048x1408, .f32⟩
  | .hbm, ⟨38, _⟩ => ⟨S_, .f32⟩
  | .hbm, ⟨39, _⟩ => ⟨S4x2048x1408, .f32⟩
  | .hbm, ⟨40, _⟩ => ⟨S4x2048x1408, .f32⟩
  | .hbm, ⟨41, _⟩ => ⟨S4x2048x1408, .f32⟩
  | .hbm, ⟨42, _⟩ => ⟨S_, .f32⟩
  | .hbm, ⟨43, _⟩ => ⟨S4x2048x1408, .f32⟩
  | .hbm, ⟨44, _⟩ => ⟨S4x2048x1408, .f32⟩
  | .hbm, ⟨45, _⟩ => ⟨S_, .f32⟩
  | .hbm, ⟨46, _⟩ => ⟨S4x2048x1408, .f32⟩
  | .hbm, ⟨47, _⟩ => ⟨S4x2048x1408, .f32⟩
  | .hbm, ⟨48, _⟩ => ⟨S4x2048x1408, .f32⟩
  | .hbm, ⟨49, _⟩ => ⟨S_, .f32⟩
  | .hbm, ⟨50, _⟩ => ⟨S4x2048x1408, .f32⟩
  | .hbm, ⟨51, _⟩ => ⟨S4x2048x1408, .f32⟩
  | .hbm, ⟨52, _⟩ => ⟨S4x2048x1408, .f32⟩
  | .hbm, ⟨53, _⟩ => ⟨S_, .f32⟩
  | .hbm, ⟨54, _⟩ => ⟨S4x2048x1408, .f32⟩
  | .hbm, ⟨55, _⟩ => ⟨S4x2048x1408, .f32⟩
  | .hbm, ⟨56, _⟩ => ⟨S4x2048x1408, .f32⟩
  | .hbm, ⟨57, _⟩ => ⟨S_, .f32⟩
  | .hbm, ⟨58, _⟩ => ⟨S4x2048x1408, .f32⟩
  | .hbm, ⟨59, _⟩ => ⟨S4x2048x1408, .f32⟩
  | .hbm, ⟨60, _⟩ => ⟨S4x2048x1408, .i1⟩
  | .hbm, ⟨61, _⟩ => ⟨S4x2048x1408, .f32⟩
  | .hbm, ⟨62, _⟩ => ⟨S4x2048x1408, .i1⟩
  | .hbm, ⟨63, _⟩ => ⟨S4x2048x1408, .f32⟩
  | .hbm, ⟨64, _⟩ => ⟨S4x2048x1408, .i1⟩
  | .hbm, ⟨65, _⟩ => ⟨S4x2048x1408, .f32⟩
  | .hbm, ⟨66, _⟩ => ⟨S4x2048x1408, .i1⟩
  | .hbm, ⟨67, _⟩ => ⟨S4x2048x1408, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_0 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_call1_v0 : Ref sig .tc := ⟨.hbm, 60, rfl⟩
abbrev main_v39 : Ref sig .tc := ⟨.hbm, 61, rfl⟩
abbrev main_call2_v0 : Ref sig .tc := ⟨.hbm, 62, rfl⟩
abbrev main_v40 : Ref sig .tc := ⟨.hbm, 63, rfl⟩
abbrev main_call3_v0 : Ref sig .tc := ⟨.hbm, 64, rfl⟩
abbrev main_v41 : Ref sig .tc := ⟨.hbm, 65, rfl⟩
abbrev main_call4_v0 : Ref sig .tc := ⟨.hbm, 66, rfl⟩
abbrev main_v42 : Ref sig .tc := ⟨.hbm, 67, rfl⟩

abbrev nD : Nat := 1
abbrev τ : Topo := Topo.v7x

variable {F : FTy → Type} [FloatOps F]
-- ==== Kernel17.lean ====
abbrev S1 : Shape := ⟨1, ![1]⟩
abbrev S2x2048x1408 : Shape := ⟨3, ![2, 2048, 1408]⟩
abbrev S2048x1408 : Shape := ⟨2, ![2048, 1408]⟩
abbrev S4x2048x1408 : Shape := ⟨3, ![4, 2048, 1408]⟩
abbrev S1x128x1408 : Shape := ⟨3, ![1, 128, 1408]⟩
abbrev S128x1408 : Shape := ⟨2, ![128, 1408]⟩

abbrev nBuf : Space → Nat
  | .hbm => 13
  | .vmem => 18
  | .smem => 1
  | _ => 0

abbrev bufTy : (tb : Table) → Fin (tcTables nBuf tb) → BufTy
  | .hbm, ⟨0, _⟩ => ⟨S2x2048x1408, .bf16⟩
  | .hbm, ⟨1, _⟩ => ⟨S2048x1408, .bf16⟩
  | .hbm, ⟨2, _⟩ => ⟨S4x2048x1408, .f32⟩
  | .hbm, ⟨3, _⟩ => ⟨S4x2048x1408, .f32⟩
  | .hbm, ⟨4, _⟩ => ⟨S4x2048x1408, .f32⟩
  | .hbm, ⟨5, _⟩ => ⟨S4x2048x1408, .f32⟩
  | .hbm, ⟨6, _⟩ => ⟨S4x2048x1408, .f32⟩
  | .hbm, ⟨7, _⟩ => ⟨S4x2048x1408, .f32⟩
  | .hbm, ⟨8, _⟩ => ⟨S4x2048x1408, .f32⟩
  | .hbm, ⟨9, _⟩ => ⟨S4x2048x1408, .f32⟩
  | .hbm, ⟨10, _⟩ => ⟨S4x2048x1408, .f32⟩
  | .hbm, ⟨11, _⟩ => ⟨S4x2048x1408, .f32⟩
  | .hbm, ⟨12, _⟩ => ⟨S4x2048x1408, .f32⟩
  | .local _ .vmem, ⟨0, _⟩ => ⟨S1x128x1408, .bf16⟩
  | .local _ .vmem, ⟨1, _⟩ => ⟨S1x128x1408, .bf16⟩
  | .local _ .vmem, ⟨2, _⟩ => ⟨S128x1408, .bf16⟩
  | .local _ .vmem, ⟨3, _⟩ => ⟨S128x1408, .bf16⟩
  | .local _ .vmem, ⟨4, _⟩ => ⟨S1x128x1408, .f32⟩
  | .local _ .vmem, ⟨5, _⟩ => ⟨S1x128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | .local _ .vmem, ⟨16, _⟩ => ⟨S1x128x1408, .f32⟩
  | .local _ .vmem, ⟨17, _⟩ => ⟨S1x128x1408, .f32⟩
  | .local _ .smem, ⟨0, _⟩ => ⟨S1, .i32⟩
  | _, _ => ⟨S2x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel17Ideal.lean ====
abbrev S1 : Shape := ⟨1, ![1]⟩
abbrev S2x2048x1408 : Shape := ⟨3, ![2, 2048, 1408]⟩
abbrev S2048x1408 : Shape := ⟨2, ![2048, 1408]⟩
abbrev S4x2048x1408 : Shape := ⟨3, ![4, 2048, 1408]⟩
abbrev S1x128x1408 : Shape := ⟨3, ![1, 128, 1408]⟩
abbrev S128x1408 : Shape := ⟨2, ![128, 1408]⟩

abbrev nBuf : Space → Nat
  | .hbm => 13
  | .vmem => 18
  | .smem => 1
  | _ => 0

abbrev bufTy : (tb : Table) → Fin (tcTables nBuf tb) → BufTy
  | .hbm, ⟨0, _⟩ => ⟨S2x2048x1408, .bf16⟩
  | .hbm, ⟨1, _⟩ => ⟨S2048x1408, .bf16⟩
  | .hbm, ⟨2, _⟩ => ⟨S4x2048x1408, .f32⟩
  | .hbm, ⟨3, _⟩ => ⟨S4x2048x1408, .f32⟩
  | .hbm, ⟨4, _⟩ => ⟨S4x2048x1408, .f32⟩
  | .hbm, ⟨5, _⟩ => ⟨S4x2048x1408, .f32⟩
  | .hbm, ⟨6, _⟩ => ⟨S4x2048x1408, .f32⟩
  | .hbm, ⟨7, _⟩ => ⟨S4x2048x1408, .f32⟩
  | .hbm, ⟨8, _⟩ => ⟨S4x2048x1408, .f32⟩
  | .hbm, ⟨9, _⟩ => ⟨S4x2048x1408, .f32⟩
  | .hbm, ⟨10, _⟩ => ⟨S4x2048x1408, .f32⟩
  | .hbm, ⟨11, _⟩ => ⟨S4x2048x1408, .f32⟩
  | .hbm, ⟨12, _⟩ => ⟨S4x2048x1408, .f32⟩
  | .local _ .vmem, ⟨0, _⟩ => ⟨S1x128x1408, .bf16⟩
  | .local _ .vmem, ⟨1, _⟩ => ⟨S1x128x1408, .bf16⟩
  | .local _ .vmem, ⟨2, _⟩ => ⟨S128x1408, .bf16⟩
  | .local _ .vmem, ⟨3, _⟩ => ⟨S128x1408, .bf16⟩
  | .local _ .vmem, ⟨4, _⟩ => ⟨S1x128x1408, .f32⟩
  | .local _ .vmem, ⟨5, _⟩ => ⟨S1x128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | .local _ .vmem, ⟨16, _⟩ => ⟨S1x128x1408, .f32⟩
  | .local _ .vmem, ⟨17, _⟩ => ⟨S1x128x1408, .f32⟩
  | .local _ .smem, ⟨0, _⟩ => ⟨S1, .i32⟩
  | _, _ => ⟨S2x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference17Ideal.lean ====
abbrev S1 : Shape := ⟨1, ![1]⟩
abbrev S2x2048x1408 : Shape := ⟨3, ![2, 2048, 1408]⟩
abbrev S2048x1408 : Shape := ⟨2, ![2048, 1408]⟩
abbrev S4x2048x1408 : Shape := ⟨3, ![4, 2048, 1408]⟩
abbrev S_ : Shape := ⟨0, ![]⟩
abbrev S1x2048x1408 : Shape := ⟨3, ![1, 2048, 1408]⟩
abbrev S4 : Shape := ⟨1, ![4]⟩
abbrev S4x1x1 : Shape := ⟨3, ![4, 1, 1]⟩

abbrev nBuf : Space → Nat
  | .hbm => 68
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x2048x1408, .bf16⟩
  | .hbm, ⟨2, _⟩ => ⟨S2048x1408, .bf16⟩
  | .hbm, ⟨3, _⟩ => ⟨S4x2048x1408, .f32⟩
  | .hbm, ⟨4, _⟩ => ⟨S4x2048x1408, .f32⟩
  | .hbm, ⟨5, _⟩ => ⟨S4x2048x1408, .f32⟩
  | .hbm, ⟨6, _⟩ => ⟨S4x2048x1408, .f32⟩
  | .hbm, ⟨7, _⟩ => ⟨S4x2048x1408, .f32⟩
  | .hbm, ⟨8, _⟩ => ⟨S4x2048x1408, .f32⟩
  | .hbm, ⟨9, _⟩ => ⟨S4x2048x1408, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1x2048x1408, .bf16⟩
  | .hbm, ⟨14, _⟩ => ⟨S2048x1408, .bf16⟩
  | .hbm, ⟨15, _⟩ => ⟨S1x2048x1408, .bf16⟩
  | .hbm, ⟨16, _⟩ => ⟨S2048x1408, .bf16⟩
  | .hbm, ⟨17, _⟩ => ⟨S2048x1408, .bf16⟩
  | .hbm, ⟨18, _⟩ => ⟨S2048x1408, .f32⟩
  | .hbm, ⟨19, _⟩ => ⟨S2048x1408, .f32⟩
  | .hbm, ⟨20, _⟩ => ⟨S2048x1408, .f32⟩
  | .hbm, ⟨21, _⟩ => ⟨S4x2048x1408, .f32⟩
  | .hbm, ⟨22, _⟩ => ⟨S4, .i32⟩
  | .hbm, ⟨23, _⟩ => ⟨S4x1x1, .i32⟩
  | .hbm, ⟨24, _⟩ => ⟨S_, .i32⟩
  | .hbm, ⟨25, _⟩ => ⟨S4x1x1, .i32⟩
  | .hbm, ⟨26, _⟩ => ⟨S4x1x1, .i1⟩
  | .hbm, ⟨27, _⟩ => ⟨S_, .f32⟩
  | .hbm, ⟨28, _⟩ => ⟨S4x2048x1408, .f32⟩
  | .hbm, ⟨29, _⟩ => ⟨S4x2048x1408, .f32⟩
  | .hbm, ⟨30, _⟩ => ⟨S_, .f32⟩
  | .hbm, ⟨31, _⟩ => ⟨S4x2048x1408, .f32⟩
  | .hbm, ⟨32, _⟩ => ⟨S4x2048x1408, .f32⟩
  | .hbm, ⟨33, _⟩ => ⟨S4x2048x1408, .f32⟩
  | .hbm, ⟨34, _⟩ => ⟨S_, .f32⟩
  | .hbm, ⟨35, _⟩ => ⟨S4x2048x1408, .f32⟩
  | .hbm, ⟨36, _⟩ => ⟨S4x2048x1408, .f32⟩
  | .hbm, ⟨37, _⟩ => ⟨S4x2048x1408, .f32⟩
  | .hbm, ⟨38, _⟩ => ⟨S_, .f32⟩
  | .hbm, ⟨39, _⟩ => ⟨S4x2048x1408, .f32⟩
  | .hbm, ⟨40, _⟩ => ⟨S4x2048x1408, .f32⟩
  | .hbm, ⟨41, _⟩ => ⟨S4x2048x1408, .f32⟩
  | .hbm, ⟨42, _⟩ => ⟨S_, .f32⟩
  | .hbm, ⟨43, _⟩ => ⟨S4x2048x1408, .f32⟩
  | .hbm, ⟨44, _⟩ => ⟨S4x2048x1408, .f32⟩
  | .hbm, ⟨45, _⟩ => ⟨S_, .f32⟩
  | .hbm, ⟨46, _⟩ => ⟨S4x2048x1408, .f32⟩
  | .hbm, ⟨47, _⟩ => ⟨S4x2048x1408, .f32⟩
  | .hbm, ⟨48, _⟩ => ⟨S4x2048x1408, .f32⟩
  | .hbm, ⟨49, _⟩ => ⟨S_, .f32⟩
  | .hbm, ⟨50, _⟩ => ⟨S4x2048x1408, .f32⟩
  | .hbm, ⟨51, _⟩ => ⟨S4x2048x1408, .f32⟩
  | .hbm, ⟨52, _⟩ => ⟨S4x2048x1408, .f32⟩
  | .hbm, ⟨53, _⟩ => ⟨S_, .f32⟩
  | .hbm, ⟨54, _⟩ => ⟨S4x2048x1408, .f32⟩
  | .hbm, ⟨55, _⟩ => ⟨S4x2048x1408, .f32⟩
  | .hbm, ⟨56, _⟩ => ⟨S4x2048x1408, .f32⟩
  | .hbm, ⟨57, _⟩ => ⟨S_, .f32⟩
  | .hbm, ⟨58, _⟩ => ⟨S4x2048x1408, .f32⟩
  | .hbm, ⟨59, _⟩ => ⟨S4x2048x1408, .f32⟩
  | .hbm, ⟨60, _⟩ => ⟨S4x2048x1408, .i1⟩
  | .hbm, ⟨61, _⟩ => ⟨S4x2048x1408, .f32⟩
  | .hbm, ⟨62, _⟩ => ⟨S4x2048x1408, .i1⟩
  | .hbm, ⟨63, _⟩ => ⟨S4x2048x1408, .f32⟩
  | .hbm, ⟨64, _⟩ => ⟨S4x2048x1408, .i1⟩
  | .hbm, ⟨65, _⟩ => ⟨S4x2048x1408, .f32⟩
  | .hbm, ⟨66, _⟩ => ⟨S4x2048x1408, .i1⟩
  | .hbm, ⟨67, _⟩ => ⟨S4x2048x1408, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_0 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_call1_v0 : Ref sig .tc := ⟨.hbm, 60, rfl⟩
abbrev main_v39 : Ref sig .tc := ⟨.hbm, 61, rfl⟩
abbrev main_call2_v0 : Ref sig .tc := ⟨.hbm, 62, rfl⟩
abbrev main_v40 : Ref sig .tc := ⟨.hbm, 63, rfl⟩
abbrev main_call3_v0 : Ref sig .tc := ⟨.hbm, 64, rfl⟩
abbrev main_v41 : Ref sig .tc := ⟨.hbm, 65, rfl⟩
abbrev main_call4_v0 : Ref sig .tc := ⟨.hbm, 66, rfl⟩
abbrev main_v42 : Ref sig .tc := ⟨.hbm, 67, rfl⟩

abbrev nD : Nat := 1
abbrev τ : Topo := Topo.v7x

variable {F : FTy → Type} [FloatOps F]
-- ==== Kernel18.lean ====
abbrev S1 : Shape := ⟨1, ![1]⟩
abbrev S2x704x2048 : Shape := ⟨3, ![2, 704, 2048]⟩
abbrev S704x2048 : Shape := ⟨2, ![704, 2048]⟩
abbrev S4x704x2048 : Shape := ⟨3, ![4, 704, 2048]⟩
abbrev S1x64x2048 : Shape := ⟨3, ![1, 64, 2048]⟩
abbrev S64x2048 : Shape := ⟨2, ![64, 2048]⟩

abbrev nBuf : Space → Nat
  | .hbm => 13
  | .vmem => 18
  | .smem => 1
  | _ => 0

abbrev bufTy : (tb : Table) → Fin (tcTables nBuf tb) → BufTy
  | .hbm, ⟨0, _⟩ => ⟨S2x704x2048, .bf16⟩
  | .hbm, ⟨1, _⟩ => ⟨S704x2048, .bf16⟩
  | .hbm, ⟨2, _⟩ => ⟨S4x704x2048, .f32⟩
  | .hbm, ⟨3, _⟩ => ⟨S4x704x2048, .f32⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S4x704x2048, .f32⟩
  | .hbm, ⟨8, _⟩ => ⟨S4x704x2048, .f32⟩
  | .hbm, ⟨9, _⟩ => ⟨S4x704x2048, .f32⟩
  | .hbm, ⟨10, _⟩ => ⟨S4x704x2048, .f32⟩
  | .hbm, ⟨11, _⟩ => ⟨S4x704x2048, .f32⟩
  | .hbm, ⟨12, _⟩ => ⟨S4x704x2048, .f32⟩
  | .local _ .vmem, ⟨0, _⟩ => ⟨S1x64x2048, .bf16⟩
  | .local _ .vmem, ⟨1, _⟩ => ⟨S1x64x2048, .bf16⟩
  | .local _ .vmem, ⟨2, _⟩ => ⟨S64x2048, .bf16⟩
  | .local _ .vmem, ⟨3, _⟩ => ⟨S64x2048, .bf16⟩
  | .local _ .vmem, ⟨4, _⟩ => ⟨S1x64x2048, .f32⟩
  | .local _ .vmem, ⟨5, _⟩ => ⟨S1x64x2048, .f32⟩
  | .local _ .vmem, ⟨6, _⟩ => ⟨S1x64x2048, .f32⟩
  | .local _ .vmem, ⟨7, _⟩ => ⟨S1x64x2048, .f32⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | .local _ .vmem, ⟨16, _⟩ => ⟨S1x64x2048, .f32⟩
  | .local _ .vmem, ⟨17, _⟩ => ⟨S1x64x2048, .f32⟩
  | .local _ .smem, ⟨0, _⟩ => ⟨S1, .i32⟩
  | _, _ => ⟨S2x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![11], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_12 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S1x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel18Ideal.lean ====
abbrev S1 : Shape := ⟨1, ![1]⟩
abbrev S2x704x2048 : Shape := ⟨3, ![2, 704, 2048]⟩
abbrev S704x2048 : Shape := ⟨2, ![704, 2048]⟩
abbrev S4x704x2048 : Shape := ⟨3, ![4, 704, 2048]⟩
abbrev S1x64x2048 : Shape := ⟨3, ![1, 64, 2048]⟩
abbrev S64x2048 : Shape := ⟨2, ![64, 2048]⟩

abbrev nBuf : Space → Nat
  | .hbm => 13
  | .vmem => 18
  | .smem => 1
  | _ => 0

abbrev bufTy : (tb : Table) → Fin (tcTables nBuf tb) → BufTy
  | .hbm, ⟨0, _⟩ => ⟨S2x704x2048, .bf16⟩
  | .hbm, ⟨1, _⟩ => ⟨S704x2048, .bf16⟩
  | .hbm, ⟨2, _⟩ => ⟨S4x704x2048, .f32⟩
  | .hbm, ⟨3, _⟩ => ⟨S4x704x2048, .f32⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S4x704x2048, .f32⟩
  | .hbm, ⟨8, _⟩ => ⟨S4x704x2048, .f32⟩
  | .hbm, ⟨9, _⟩ => ⟨S4x704x2048, .f32⟩
  | .hbm, ⟨10, _⟩ => ⟨S4x704x2048, .f32⟩
  | .hbm, ⟨11, _⟩ => ⟨S4x704x2048, .f32⟩
  | .hbm, ⟨12, _⟩ => ⟨S4x704x2048, .f32⟩
  | .local _ .vmem, ⟨0, _⟩ => ⟨S1x64x2048, .bf16⟩
  | .local _ .vmem, ⟨1, _⟩ => ⟨S1x64x2048, .bf16⟩
  | .local _ .vmem, ⟨2, _⟩ => ⟨S64x2048, .bf16⟩
  | .local _ .vmem, ⟨3, _⟩ => ⟨S64x2048, .bf16⟩
  | .local _ .vmem, ⟨4, _⟩ => ⟨S1x64x2048, .f32⟩
  | .local _ .vmem, ⟨5, _⟩ => ⟨S1x64x2048, .f32⟩
  | .local _ .vmem, ⟨6, _⟩ => ⟨S1x64x2048, .f32⟩
  | .local _ .vmem, ⟨7, _⟩ => ⟨S1x64x2048, .f32⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | .local _ .vmem, ⟨16, _⟩ => ⟨S1x64x2048, .f32⟩
  | .local _ .vmem, ⟨17, _⟩ => ⟨S1x64x2048, .f32⟩
  | .local _ .smem, ⟨0, _⟩ => ⟨S1, .i32⟩
  | _, _ => ⟨S2x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![11], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_12 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S1x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference18Ideal.lean ====
abbrev S1 : Shape := ⟨1, ![1]⟩
abbrev S2x704x2048 : Shape := ⟨3, ![2, 704, 2048]⟩
abbrev S704x2048 : Shape := ⟨2, ![704, 2048]⟩
abbrev S4x704x2048 : Shape := ⟨3, ![4, 704, 2048]⟩
abbrev S_ : Shape := ⟨0, ![]⟩
abbrev S1x704x2048 : Shape := ⟨3, ![1, 704, 2048]⟩
abbrev S4 : Shape := ⟨1, ![4]⟩
abbrev S4x1x1 : Shape := ⟨3, ![4, 1, 1]⟩

abbrev nBuf : Space → Nat
  | .hbm => 68
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x704x2048, .bf16⟩
  | .hbm, ⟨2, _⟩ => ⟨S704x2048, .bf16⟩
  | .hbm, ⟨3, _⟩ => ⟨S4x704x2048, .f32⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S4x704x2048, .f32⟩
  | .hbm, ⟨8, _⟩ => ⟨S4x704x2048, .f32⟩
  | .hbm, ⟨9, _⟩ => ⟨S4x704x2048, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1x704x2048, .bf16⟩
  | .hbm, ⟨14, _⟩ => ⟨S704x2048, .bf16⟩
  | .hbm, ⟨15, _⟩ => ⟨S1x704x2048, .bf16⟩
  | .hbm, ⟨16, _⟩ => ⟨S704x2048, .bf16⟩
  | .hbm, ⟨17, _⟩ => ⟨S704x2048, .bf16⟩
  | .hbm, ⟨18, _⟩ => ⟨S704x2048, .f32⟩
  | .hbm, ⟨19, _⟩ => ⟨S704x2048, .f32⟩
  | .hbm, ⟨20, _⟩ => ⟨S704x2048, .f32⟩
  | .hbm, ⟨21, _⟩ => ⟨S4x704x2048, .f32⟩
  | .hbm, ⟨22, _⟩ => ⟨S4, .i32⟩
  | .hbm, ⟨23, _⟩ => ⟨S4x1x1, .i32⟩
  | .hbm, ⟨24, _⟩ => ⟨S_, .i32⟩
  | .hbm, ⟨25, _⟩ => ⟨S4x1x1, .i32⟩
  | .hbm, ⟨26, _⟩ => ⟨S4x1x1, .i1⟩
  | .hbm, ⟨27, _⟩ => ⟨S_, .f32⟩
  | .hbm, ⟨28, _⟩ => ⟨S4x704x2048, .f32⟩
  | .hbm, ⟨29, _⟩ => ⟨S4x704x2048, .f32⟩
  | .hbm, ⟨30, _⟩ => ⟨S_, .f32⟩
  | .hbm, ⟨31, _⟩ => ⟨S4x704x2048, .f32⟩
  | .hbm, ⟨32, _⟩ => ⟨S4x704x2048, .f32⟩
  | .hbm, ⟨33, _⟩ => ⟨S4x704x2048, .f32⟩
  | .hbm, ⟨34, _⟩ => ⟨S_, .f32⟩
  | .hbm, ⟨35, _⟩ => ⟨S4x704x2048, .f32⟩
  | .hbm, ⟨36, _⟩ => ⟨S4x704x2048, .f32⟩
  | .hbm, ⟨37, _⟩ => ⟨S4x704x2048, .f32⟩
  | .hbm, ⟨38, _⟩ => ⟨S_, .f32⟩
  | .hbm, ⟨39, _⟩ => ⟨S4x704x2048, .f32⟩
  | .hbm, ⟨40, _⟩ => ⟨S4x704x2048, .f32⟩
  | .hbm, ⟨41, _⟩ => ⟨S4x704x2048, .f32⟩
  | .hbm, ⟨42, _⟩ => ⟨S_, .f32⟩
  | .hbm, ⟨43, _⟩ => ⟨S4x704x2048, .f32⟩
  | .hbm, ⟨44, _⟩ => ⟨S4x704x2048, .f32⟩
  | .hbm, ⟨45, _⟩ => ⟨S_, .f32⟩
  | .hbm, ⟨46, _⟩ => ⟨S4x704x2048, .f32⟩
  | .hbm, ⟨47, _⟩ => ⟨S4x704x2048, .f32⟩
  | .hbm, ⟨48, _⟩ => ⟨S4x704x2048, .f32⟩
  | .hbm, ⟨49, _⟩ => ⟨S_, .f32⟩
  | .hbm, ⟨50, _⟩ => ⟨S4x704x2048, .f32⟩
  | .hbm, ⟨51, _⟩ => ⟨S4x704x2048, .f32⟩
  | .hbm, ⟨52, _⟩ => ⟨S4x704x2048, .f32⟩
  | .hbm, ⟨53, _⟩ => ⟨S_, .f32⟩
  | .hbm, ⟨54, _⟩ => ⟨S4x704x2048, .f32⟩
  | .hbm, ⟨55, _⟩ => ⟨S4x704x2048, .f32⟩
  | .hbm, ⟨56, _⟩ => ⟨S4x704x2048, .f32⟩
  | .hbm, ⟨57, _⟩ => ⟨S_, .f32⟩
  | .hbm, ⟨58, _⟩ => ⟨S4x704x2048, .f32⟩
  | .hbm, ⟨59, _⟩ => ⟨S4x704x2048, .f32⟩
  | .hbm, ⟨60, _⟩ => ⟨S4x704x2048, .i1⟩
  | .hbm, ⟨61, _⟩ => ⟨S4x704x2048, .f32⟩
  | .hbm, ⟨62, _⟩ => ⟨S4x704x2048, .i1⟩
  | .hbm, ⟨63, _⟩ => ⟨S4x704x2048, .f32⟩
  | .hbm, ⟨64, _⟩ => ⟨S4x704x2048, .i1⟩
  | .hbm, ⟨65, _⟩ => ⟨S4x704x2048, .f32⟩
  | .hbm, ⟨66, _⟩ => ⟨S4x704x2048, .i1⟩
  | .hbm, ⟨67, _⟩ => ⟨S4x704x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_0 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_call1_v0 : Ref sig .tc := ⟨.hbm, 60, rfl⟩
abbrev main_v39 : Ref sig .tc := ⟨.hbm, 61, rfl⟩
abbrev main_call2_v0 : Ref sig .tc := ⟨.hbm, 62, rfl⟩
abbrev main_v40 : Ref sig .tc := ⟨.hbm, 63, rfl⟩
abbrev main_call3_v0 : Ref sig .tc := ⟨.hbm, 64, rfl⟩
abbrev main_v41 : Ref sig .tc := ⟨.hbm, 65, rfl⟩
abbrev main_call4_v0 : Ref sig .tc := ⟨.hbm, 66, rfl⟩
abbrev main_v42 : Ref sig .tc := ⟨.hbm, 67, rfl⟩

abbrev nD : Nat := 1
abbrev τ : Topo := Topo.v7x

variable {F : FTy → Type} [FloatOps F]
-- ==== Kernel19.lean ====
abbrev S1 : Shape := ⟨1, ![1]⟩
abbrev S2x704x2048 : Shape := ⟨3, ![2, 704, 2048]⟩
abbrev S704x2048 : Shape := ⟨2, ![704, 2048]⟩
abbrev S4x704x2048 : Shape := ⟨3, ![4, 704, 2048]⟩
abbrev S1x64x2048 : Shape := ⟨3, ![1, 64, 2048]⟩
abbrev S64x2048 : Shape := ⟨2, ![64, 2048]⟩

abbrev nBuf : Space → Nat
  | .hbm => 13
  | .vmem => 18
  | .smem => 1
  | _ => 0

abbrev bufTy : (tb : Table) → Fin (tcTables nBuf tb) → BufTy
  | .hbm, ⟨0, _⟩ => ⟨S2x704x2048, .bf16⟩
  | .hbm, ⟨1, _⟩ => ⟨S704x2048, .bf16⟩
  | .hbm, ⟨2, _⟩ => ⟨S4x704x2048, .f32⟩
  | .hbm, ⟨3, _⟩ => ⟨S4x704x2048, .f32⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S4x704x2048, .f32⟩
  | .hbm, ⟨8, _⟩ => ⟨S4x704x2048, .f32⟩
  | .hbm, ⟨9, _⟩ => ⟨S4x704x2048, .f32⟩
  | .hbm, ⟨10, _⟩ => ⟨S4x704x2048, .f32⟩
  | .hbm, ⟨11, _⟩ => ⟨S4x704x2048, .f32⟩
  | .hbm, ⟨12, _⟩ => ⟨S4x704x2048, .f32⟩
  | .local _ .vmem, ⟨0, _⟩ => ⟨S1x64x2048, .bf16⟩
  | .local _ .vmem, ⟨1, _⟩ => ⟨S1x64x2048, .bf16⟩
  | .local _ .vmem, ⟨2, _⟩ => ⟨S64x2048, .bf16⟩
  | .local _ .vmem, ⟨3, _⟩ => ⟨S64x2048, .bf16⟩
  | .local _ .vmem, ⟨4, _⟩ => ⟨S1x64x2048, .f32⟩
  | .local _ .vmem, ⟨5, _⟩ => ⟨S1x64x2048, .f32⟩
  | .local _ .vmem, ⟨6, _⟩ => ⟨S1x64x2048, .f32⟩
  | .local _ .vmem, ⟨7, _⟩ => ⟨S1x64x2048, .f32⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | .local _ .vmem, ⟨16, _⟩ => ⟨S1x64x2048, .f32⟩
  | .local _ .vmem, ⟨17, _⟩ => ⟨S1x64x2048, .f32⟩
  | .local _ .smem, ⟨0, _⟩ => ⟨S1, .i32⟩
  | _, _ => ⟨S2x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![11], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_10 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_12 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage0_0 : Fin 2 → Memref sig .tc .vmem S1x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel19Ideal.lean ====
abbrev S1 : Shape := ⟨1, ![1]⟩
abbrev S2x704x2048 : Shape := ⟨3, ![2, 704, 2048]⟩
abbrev S704x2048 : Shape := ⟨2, ![704, 2048]⟩
abbrev S4x704x2048 : Shape := ⟨3, ![4, 704, 2048]⟩
abbrev S1x64x2048 : Shape := ⟨3, ![1, 64, 2048]⟩
abbrev S64x2048 : Shape := ⟨2, ![64, 2048]⟩

abbrev nBuf : Space → Nat
  | .hbm => 13
  | .vmem => 18
  | .smem => 1
  | _ => 0

abbrev bufTy : (tb : Table) → Fin (tcTables nBuf tb) → BufTy
  | .hbm, ⟨0, _⟩ => ⟨S2x704x2048, .bf16⟩
  | .hbm, ⟨1, _⟩ => ⟨S704x2048, .bf16⟩
  | .hbm, ⟨2, _⟩ => ⟨S4x704x2048, .f32⟩
  | .hbm, ⟨3, _⟩ => ⟨S4x704x2048, .f32⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S4x704x2048, .f32⟩
  | .hbm, ⟨8, _⟩ => ⟨S4x704x2048, .f32⟩
  | .hbm, ⟨9, _⟩ => ⟨S4x704x2048, .f32⟩
  | .hbm, ⟨10, _⟩ => ⟨S4x704x2048, .f32⟩
  | .hbm, ⟨11, _⟩ => ⟨S4x704x2048, .f32⟩
  | .hbm, ⟨12, _⟩ => ⟨S4x704x2048, .f32⟩
  | .local _ .vmem, ⟨0, _⟩ => ⟨S1x64x2048, .bf16⟩
  | .local _ .vmem, ⟨1, _⟩ => ⟨S1x64x2048, .bf16⟩
  | .local _ .vmem, ⟨2, _⟩ => ⟨S64x2048, .bf16⟩
  | .local _ .vmem, ⟨3, _⟩ => ⟨S64x2048, .bf16⟩
  | .local _ .vmem, ⟨4, _⟩ => ⟨S1x64x2048, .f32⟩
  | .local _ .vmem, ⟨5, _⟩ => ⟨S1x64x2048, .f32⟩
  | .local _ .vmem, ⟨6, _⟩ => ⟨S1x64x2048, .f32⟩
  | .local _ .vmem, ⟨7, _⟩ => ⟨S1x64x2048, .f32⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | .local _ .vmem, ⟨16, _⟩ => ⟨S1x64x2048, .f32⟩
  | .local _ .vmem, ⟨17, _⟩ => ⟨S1x64x2048, .f32⟩
  | .local _ .smem, ⟨0, _⟩ => ⟨S1, .i32⟩
  | _, _ => ⟨S2x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![11], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_10 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_12 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage0_0 : Fin 2 → Memref sig .tc .vmem S1x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference19Ideal.lean ====
abbrev S1 : Shape := ⟨1, ![1]⟩
abbrev S2x704x2048 : Shape := ⟨3, ![2, 704, 2048]⟩
abbrev S704x2048 : Shape := ⟨2, ![704, 2048]⟩
abbrev S4x704x2048 : Shape := ⟨3, ![4, 704, 2048]⟩
abbrev S_ : Shape := ⟨0, ![]⟩
abbrev S1x704x2048 : Shape := ⟨3, ![1, 704, 2048]⟩
abbrev S4 : Shape := ⟨1, ![4]⟩
abbrev S4x1x1 : Shape := ⟨3, ![4, 1, 1]⟩

abbrev nBuf : Space → Nat
  | .hbm => 68
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x704x2048, .bf16⟩
  | .hbm, ⟨2, _⟩ => ⟨S704x2048, .bf16⟩
  | .hbm, ⟨3, _⟩ => ⟨S4x704x2048, .f32⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S4x704x2048, .f32⟩
  | .hbm, ⟨8, _⟩ => ⟨S4x704x2048, .f32⟩
  | .hbm, ⟨9, _⟩ => ⟨S4x704x2048, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1x704x2048, .bf16⟩
  | .hbm, ⟨14, _⟩ => ⟨S704x2048, .bf16⟩
  | .hbm, ⟨15, _⟩ => ⟨S1x704x2048, .bf16⟩
  | .hbm, ⟨16, _⟩ => ⟨S704x2048, .bf16⟩
  | .hbm, ⟨17, _⟩ => ⟨S704x2048, .bf16⟩
  | .hbm, ⟨18, _⟩ => ⟨S704x2048, .f32⟩
  | .hbm, ⟨19, _⟩ => ⟨S704x2048, .f32⟩
  | .hbm, ⟨20, _⟩ => ⟨S704x2048, .f32⟩
  | .hbm, ⟨21, _⟩ => ⟨S4x704x2048, .f32⟩
  | .hbm, ⟨22, _⟩ => ⟨S4, .i32⟩
  | .hbm, ⟨23, _⟩ => ⟨S4x1x1, .i32⟩
  | .hbm, ⟨24, _⟩ => ⟨S_, .i32⟩
  | .hbm, ⟨25, _⟩ => ⟨S4x1x1, .i32⟩
  | .hbm, ⟨26, _⟩ => ⟨S4x1x1, .i1⟩
  | .hbm, ⟨27, _⟩ => ⟨S_, .f32⟩
  | .hbm, ⟨28, _⟩ => ⟨S4x704x2048, .f32⟩
  | .hbm, ⟨29, _⟩ => ⟨S4x704x2048, .f32⟩
  | .hbm, ⟨30, _⟩ => ⟨S_, .f32⟩
  | .hbm, ⟨31, _⟩ => ⟨S4x704x2048, .f32⟩
  | .hbm, ⟨32, _⟩ => ⟨S4x704x2048, .f32⟩
  | .hbm, ⟨33, _⟩ => ⟨S4x704x2048, .f32⟩
  | .hbm, ⟨34, _⟩ => ⟨S_, .f32⟩
  | .hbm, ⟨35, _⟩ => ⟨S4x704x2048, .f32⟩
  | .hbm, ⟨36, _⟩ => ⟨S4x704x2048, .f32⟩
  | .hbm, ⟨37, _⟩ => ⟨S4x704x2048, .f32⟩
  | .hbm, ⟨38, _⟩ => ⟨S_, .f32⟩
  | .hbm, ⟨39, _⟩ => ⟨S4x704x2048, .f32⟩
  | .hbm, ⟨40, _⟩ => ⟨S4x704x2048, .f32⟩
  | .hbm, ⟨41, _⟩ => ⟨S4x704x2048, .f32⟩
  | .hbm, ⟨42, _⟩ => ⟨S_, .f32⟩
  | .hbm, ⟨43, _⟩ => ⟨S4x704x2048, .f32⟩
  | .hbm, ⟨44, _⟩ => ⟨S4x704x2048, .f32⟩
  | .hbm, ⟨45, _⟩ => ⟨S_, .f32⟩
  | .hbm, ⟨46, _⟩ => ⟨S4x704x2048, .f32⟩
  | .hbm, ⟨47, _⟩ => ⟨S4x704x2048, .f32⟩
  | .hbm, ⟨48, _⟩ => ⟨S4x704x2048, .f32⟩
  | .hbm, ⟨49, _⟩ => ⟨S_, .f32⟩
  | .hbm, ⟨50, _⟩ => ⟨S4x704x2048, .f32⟩
  | .hbm, ⟨51, _⟩ => ⟨S4x704x2048, .f32⟩
  | .hbm, ⟨52, _⟩ => ⟨S4x704x2048, .f32⟩
  | .hbm, ⟨53, _⟩ => ⟨S_, .f32⟩
  | .hbm, ⟨54, _⟩ => ⟨S4x704x2048, .f32⟩
  | .hbm, ⟨55, _⟩ => ⟨S4x704x2048, .f32⟩
  | .hbm, ⟨56, _⟩ => ⟨S4x704x2048, .f32⟩
  | .hbm, ⟨57, _⟩ => ⟨S_, .f32⟩
  | .hbm, ⟨58, _⟩ => ⟨S4x704x2048, .f32⟩
  | .hbm, ⟨59, _⟩ => ⟨S4x704x2048, .f32⟩
  | .hbm, ⟨60, _⟩ => ⟨S4x704x2048, .i1⟩
  | .hbm, ⟨61, _⟩ => ⟨S4x704x2048, .f32⟩
  | .hbm, ⟨62, _⟩ => ⟨S4x704x2048, .i1⟩
  | .hbm, ⟨63, _⟩ => ⟨S4x704x2048, .f32⟩
  | .hbm, ⟨64, _⟩ => ⟨S4x704x2048, .i1⟩
  | .hbm, ⟨65, _⟩ => ⟨S4x704x2048, .f32⟩
  | .hbm, ⟨66, _⟩ => ⟨S4x704x2048, .i1⟩
  | .hbm, ⟨67, _⟩ => ⟨S4x704x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_0 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_call1_v0 : Ref sig .tc := ⟨.hbm, 60, rfl⟩
abbrev main_v39 : Ref sig .tc := ⟨.hbm, 61, rfl⟩
abbrev main_call2_v0 : Ref sig .tc := ⟨.hbm, 62, rfl⟩
abbrev main_v40 : Ref sig .tc := ⟨.hbm, 63, rfl⟩
abbrev main_call3_v0 : Ref sig .tc := ⟨.hbm, 64, rfl⟩
abbrev main_v41 : Ref sig .tc := ⟨.hbm, 65, rfl⟩
abbrev main_call4_v0 : Ref sig .tc := ⟨.hbm, 66, rfl⟩
abbrev main_v42 : Ref sig .tc := ⟨.hbm, 67, rfl⟩

abbrev nD : Nat := 1
abbrev τ : Topo := Topo.v7x

variable {F : FTy → Type} [FloatOps F]
-- ==== Kernel20.lean ====
abbrev S1 : Shape := ⟨1, ![1]⟩
abbrev S2x704x2048 : Shape := ⟨3, ![2, 704, 2048]⟩
abbrev S704x2048 : Shape := ⟨2, ![704, 2048]⟩
abbrev S4x704x2048 : Shape := ⟨3, ![4, 704, 2048]⟩
abbrev S1x64x2048 : Shape := ⟨3, ![1, 64, 2048]⟩
abbrev S64x2048 : Shape := ⟨2, ![64, 2048]⟩

abbrev nBuf : Space → Nat
  | .hbm => 13
  | .vmem => 18
  | .smem => 1
  | _ => 0

abbrev bufTy : (tb : Table) → Fin (tcTables nBuf tb) → BufTy
  | .hbm, ⟨0, _⟩ => ⟨S2x704x2048, .bf16⟩
  | .hbm, ⟨1, _⟩ => ⟨S704x2048, .bf16⟩
  | .hbm, ⟨2, _⟩ => ⟨S4x704x2048, .f32⟩
  | .hbm, ⟨3, _⟩ => ⟨S4x704x2048, .f32⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S4x704x2048, .f32⟩
  | .hbm, ⟨8, _⟩ => ⟨S4x704x2048, .f32⟩
  | .hbm, ⟨9, _⟩ => ⟨S4x704x2048, .f32⟩
  | .hbm, ⟨10, _⟩ => ⟨S4x704x2048, .f32⟩
  | .hbm, ⟨11, _⟩ => ⟨S4x704x2048, .f32⟩
  | .hbm, ⟨12, _⟩ => ⟨S4x704x2048, .f32⟩
  | .local _ .vmem, ⟨0, _⟩ => ⟨S1x64x2048, .bf16⟩
  | .local _ .vmem, ⟨1, _⟩ => ⟨S1x64x2048, .bf16⟩
  | .local _ .vmem, ⟨2, _⟩ => ⟨S64x2048, .bf16⟩
  | .local _ .vmem, ⟨3, _⟩ => ⟨S64x2048, .bf16⟩
  | .local _ .vmem, ⟨4, _⟩ => ⟨S1x64x2048, .f32⟩
  | .local _ .vmem, ⟨5, _⟩ => ⟨S1x64x2048, .f32⟩
  | .local _ .vmem, ⟨6, _⟩ => ⟨S1x64x2048, .f32⟩
  | .local _ .vmem, ⟨7, _⟩ => ⟨S1x64x2048, .f32⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | .local _ .vmem, ⟨16, _⟩ => ⟨S1x64x2048, .f32⟩
  | .local _ .vmem, ⟨17, _⟩ => ⟨S1x64x2048, .f32⟩
  | .local _ .smem, ⟨0, _⟩ => ⟨S1, .i32⟩
  | _, _ => ⟨S2x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![11], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel20Ideal.lean ====
abbrev S1 : Shape := ⟨1, ![1]⟩
abbrev S2x704x2048 : Shape := ⟨3, ![2, 704, 2048]⟩
abbrev S704x2048 : Shape := ⟨2, ![704, 2048]⟩
abbrev S4x704x2048 : Shape := ⟨3, ![4, 704, 2048]⟩
abbrev S1x64x2048 : Shape := ⟨3, ![1, 64, 2048]⟩
abbrev S64x2048 : Shape := ⟨2, ![64, 2048]⟩

abbrev nBuf : Space → Nat
  | .hbm => 13
  | .vmem => 18
  | .smem => 1
  | _ => 0

abbrev bufTy : (tb : Table) → Fin (tcTables nBuf tb) → BufTy
  | .hbm, ⟨0, _⟩ => ⟨S2x704x2048, .bf16⟩
  | .hbm, ⟨1, _⟩ => ⟨S704x2048, .bf16⟩
  | .hbm, ⟨2, _⟩ => ⟨S4x704x2048, .f32⟩
  | .hbm, ⟨3, _⟩ => ⟨S4x704x2048, .f32⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S4x704x2048, .f32⟩
  | .hbm, ⟨8, _⟩ => ⟨S4x704x2048, .f32⟩
  | .hbm, ⟨9, _⟩ => ⟨S4x704x2048, .f32⟩
  | .hbm, ⟨10, _⟩ => ⟨S4x704x2048, .f32⟩
  | .hbm, ⟨11, _⟩ => ⟨S4x704x2048, .f32⟩
  | .hbm, ⟨12, _⟩ => ⟨S4x704x2048, .f32⟩
  | .local _ .vmem, ⟨0, _⟩ => ⟨S1x64x2048, .bf16⟩
  | .local _ .vmem, ⟨1, _⟩ => ⟨S1x64x2048, .bf16⟩
  | .local _ .vmem, ⟨2, _⟩ => ⟨S64x2048, .bf16⟩
  | .local _ .vmem, ⟨3, _⟩ => ⟨S64x2048, .bf16⟩
  | .local _ .vmem, ⟨4, _⟩ => ⟨S1x64x2048, .f32⟩
  | .local _ .vmem, ⟨5, _⟩ => ⟨S1x64x2048, .f32⟩
  | .local _ .vmem, ⟨6, _⟩ => ⟨S1x64x2048, .f32⟩
  | .local _ .vmem, ⟨7, _⟩ => ⟨S1x64x2048, .f32⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | .local _ .vmem, ⟨16, _⟩ => ⟨S1x64x2048, .f32⟩
  | .local _ .vmem, ⟨17, _⟩ => ⟨S1x64x2048, .f32⟩
  | .local _ .smem, ⟨0, _⟩ => ⟨S1, .i32⟩
  | _, _ => ⟨S2x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![11], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference20Ideal.lean ====
abbrev S1 : Shape := ⟨1, ![1]⟩
abbrev S2x704x2048 : Shape := ⟨3, ![2, 704, 2048]⟩
abbrev S704x2048 : Shape := ⟨2, ![704, 2048]⟩
abbrev S4x704x2048 : Shape := ⟨3, ![4, 704, 2048]⟩
abbrev S_ : Shape := ⟨0, ![]⟩
abbrev S1x704x2048 : Shape := ⟨3, ![1, 704, 2048]⟩
abbrev S4 : Shape := ⟨1, ![4]⟩
abbrev S4x1x1 : Shape := ⟨3, ![4, 1, 1]⟩

abbrev nBuf : Space → Nat
  | .hbm => 68
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x704x2048, .bf16⟩
  | .hbm, ⟨2, _⟩ => ⟨S704x2048, .bf16⟩
  | .hbm, ⟨3, _⟩ => ⟨S4x704x2048, .f32⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S4x704x2048, .f32⟩
  | .hbm, ⟨8, _⟩ => ⟨S4x704x2048, .f32⟩
  | .hbm, ⟨9, _⟩ => ⟨S4x704x2048, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1x704x2048, .bf16⟩
  | .hbm, ⟨14, _⟩ => ⟨S704x2048, .bf16⟩
  | .hbm, ⟨15, _⟩ => ⟨S1x704x2048, .bf16⟩
  | .hbm, ⟨16, _⟩ => ⟨S704x2048, .bf16⟩
  | .hbm, ⟨17, _⟩ => ⟨S704x2048, .bf16⟩
  | .hbm, ⟨18, _⟩ => ⟨S704x2048, .f32⟩
  | .hbm, ⟨19, _⟩ => ⟨S704x2048, .f32⟩
  | .hbm, ⟨20, _⟩ => ⟨S704x2048, .f32⟩
  | .hbm, ⟨21, _⟩ => ⟨S4x704x2048, .f32⟩
  | .hbm, ⟨22, _⟩ => ⟨S4, .i32⟩
  | .hbm, ⟨23, _⟩ => ⟨S4x1x1, .i32⟩
  | .hbm, ⟨24, _⟩ => ⟨S_, .i32⟩
  | .hbm, ⟨25, _⟩ => ⟨S4x1x1, .i32⟩
  | .hbm, ⟨26, _⟩ => ⟨S4x1x1, .i1⟩
  | .hbm, ⟨27, _⟩ => ⟨S_, .f32⟩
  | .hbm, ⟨28, _⟩ => ⟨S4x704x2048, .f32⟩
  | .hbm, ⟨29, _⟩ => ⟨S4x704x2048, .f32⟩
  | .hbm, ⟨30, _⟩ => ⟨S_, .f32⟩
  | .hbm, ⟨31, _⟩ => ⟨S4x704x2048, .f32⟩
  | .hbm, ⟨32, _⟩ => ⟨S4x704x2048, .f32⟩
  | .hbm, ⟨33, _⟩ => ⟨S4x704x2048, .f32⟩
  | .hbm, ⟨34, _⟩ => ⟨S_, .f32⟩
  | .hbm, ⟨35, _⟩ => ⟨S4x704x2048, .f32⟩
  | .hbm, ⟨36, _⟩ => ⟨S4x704x2048, .f32⟩
  | .hbm, ⟨37, _⟩ => ⟨S4x704x2048, .f32⟩
  | .hbm, ⟨38, _⟩ => ⟨S_, .f32⟩
  | .hbm, ⟨39, _⟩ => ⟨S4x704x2048, .f32⟩
  | .hbm, ⟨40, _⟩ => ⟨S4x704x2048, .f32⟩
  | .hbm, ⟨41, _⟩ => ⟨S4x704x2048, .f32⟩
  | .hbm, ⟨42, _⟩ => ⟨S_, .f32⟩
  | .hbm, ⟨43, _⟩ => ⟨S4x704x2048, .f32⟩
  | .hbm, ⟨44, _⟩ => ⟨S4x704x2048, .f32⟩
  | .hbm, ⟨45, _⟩ => ⟨S_, .f32⟩
  | .hbm, ⟨46, _⟩ => ⟨S4x704x2048, .f32⟩
  | .hbm, ⟨47, _⟩ => ⟨S4x704x2048, .f32⟩
  | .hbm, ⟨48, _⟩ => ⟨S4x704x2048, .f32⟩
  | .hbm, ⟨49, _⟩ => ⟨S_, .f32⟩
  | .hbm, ⟨50, _⟩ => ⟨S4x704x2048, .f32⟩
  | .hbm, ⟨51, _⟩ => ⟨S4x704x2048, .f32⟩
  | .hbm, ⟨52, _⟩ => ⟨S4x704x2048, .f32⟩
  | .hbm, ⟨53, _⟩ => ⟨S_, .f32⟩
  | .hbm, ⟨54, _⟩ => ⟨S4x704x2048, .f32⟩
  | .hbm, ⟨55, _⟩ => ⟨S4x704x2048, .f32⟩
  | .hbm, ⟨56, _⟩ => ⟨S4x704x2048, .f32⟩
  | .hbm, ⟨57, _⟩ => ⟨S_, .f32⟩
  | .hbm, ⟨58, _⟩ => ⟨S4x704x2048, .f32⟩
  | .hbm, ⟨59, _⟩ => ⟨S4x704x2048, .f32⟩
  | .hbm, ⟨60, _⟩ => ⟨S4x704x2048, .i1⟩
  | .hbm, ⟨61, _⟩ => ⟨S4x704x2048, .f32⟩
  | .hbm, ⟨62, _⟩ => ⟨S4x704x2048, .i1⟩
  | .hbm, ⟨63, _⟩ => ⟨S4x704x2048, .f32⟩
  | .hbm, ⟨64, _⟩ => ⟨S4x704x2048, .i1⟩
  | .hbm, ⟨65, _⟩ => ⟨S4x704x2048, .f32⟩
  | .hbm, ⟨66, _⟩ => ⟨S4x704x2048, .i1⟩
  | .hbm, ⟨67, _⟩ => ⟨S4x704x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_0 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_call1_v0 : Ref sig .tc := ⟨.hbm, 60, rfl⟩
abbrev main_v39 : Ref sig .tc := ⟨.hbm, 61, rfl⟩
abbrev main_call2_v0 : Ref sig .tc := ⟨.hbm, 62, rfl⟩
abbrev main_v40 : Ref sig .tc := ⟨.hbm, 63, rfl⟩
abbrev main_call3_v0 : Ref sig .tc := ⟨.hbm, 64, rfl⟩
abbrev main_v41 : Ref sig .tc := ⟨.hbm, 65, rfl⟩
abbrev main_call4_v0 : Ref sig .tc := ⟨.hbm, 66, rfl⟩
abbrev main_v42 : Ref sig .tc := ⟨.hbm, 67, rfl⟩

abbrev nD : Nat := 1
abbrev τ : Topo := Topo.v7x

variable {F : FTy → Type} [FloatOps F]
-- ==== Kernel21.lean ====
abbrev S1 : Shape := ⟨1, ![1]⟩
abbrev S2x704x2048 : Shape := ⟨3, ![2, 704, 2048]⟩
abbrev S704x2048 : Shape := ⟨2, ![704, 2048]⟩
abbrev S4x704x2048 : Shape := ⟨3, ![4, 704, 2048]⟩
abbrev S1x64x2048 : Shape := ⟨3, ![1, 64, 2048]⟩
abbrev S64x2048 : Shape := ⟨2, ![64, 2048]⟩

abbrev nBuf : Space → Nat
  | .hbm => 13
  | .vmem => 18
  | .smem => 1
  | _ => 0

abbrev bufTy : (tb : Table) → Fin (tcTables nBuf tb) → BufTy
  | .hbm, ⟨0, _⟩ => ⟨S2x704x2048, .bf16⟩
  | .hbm, ⟨1, _⟩ => ⟨S704x2048, .bf16⟩
  | .hbm, ⟨2, _⟩ => ⟨S4x704x2048, .f32⟩
  | .hbm, ⟨3, _⟩ => ⟨S4x704x2048, .f32⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S4x704x2048, .f32⟩
  | .hbm, ⟨8, _⟩ => ⟨S4x704x2048, .f32⟩
  | .hbm, ⟨9, _⟩ => ⟨S4x704x2048, .f32⟩
  | .hbm, ⟨10, _⟩ => ⟨S4x704x2048, .f32⟩
  | .hbm, ⟨11, _⟩ => ⟨S4x704x2048, .f32⟩
  | .hbm, ⟨12, _⟩ => ⟨S4x704x2048, .f32⟩
  | .local _ .vmem, ⟨0, _⟩ => ⟨S1x64x2048, .bf16⟩
  | .local _ .vmem, ⟨1, _⟩ => ⟨S1x64x2048, .bf16⟩
  | .local _ .vmem, ⟨2, _⟩ => ⟨S64x2048, .bf16⟩
  | .local _ .vmem, ⟨3, _⟩ => ⟨S64x2048, .bf16⟩
  | .local _ .vmem, ⟨4, _⟩ => ⟨S1x64x2048, .f32⟩
  | .local _ .vmem, ⟨5, _⟩ => ⟨S1x64x2048, .f32⟩
  | .local _ .vmem, ⟨6, _⟩ => ⟨S1x64x2048, .f32⟩
  | .local _ .vmem, ⟨7, _⟩ => ⟨S1x64x2048, .f32⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | .local _ .vmem, ⟨16, _⟩ => ⟨S1x64x2048, .f32⟩
  | .local _ .vmem, ⟨17, _⟩ => ⟨S1x64x2048, .f32⟩
  | .local _ .smem, ⟨0, _⟩ => ⟨S1, .i32⟩
  | _, _ => ⟨S2x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![11], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel21Ideal.lean ====
abbrev S1 : Shape := ⟨1, ![1]⟩
abbrev S2x704x2048 : Shape := ⟨3, ![2, 704, 2048]⟩
abbrev S704x2048 : Shape := ⟨2, ![704, 2048]⟩
abbrev S4x704x2048 : Shape := ⟨3, ![4, 704, 2048]⟩
abbrev S1x64x2048 : Shape := ⟨3, ![1, 64, 2048]⟩
abbrev S64x2048 : Shape := ⟨2, ![64, 2048]⟩

abbrev nBuf : Space → Nat
  | .hbm => 13
  | .vmem => 18
  | .smem => 1
  | _ => 0

abbrev bufTy : (tb : Table) → Fin (tcTables nBuf tb) → BufTy
  | .hbm, ⟨0, _⟩ => ⟨S2x704x2048, .bf16⟩
  | .hbm, ⟨1, _⟩ => ⟨S704x2048, .bf16⟩
  | .hbm, ⟨2, _⟩ => ⟨S4x704x2048, .f32⟩
  | .hbm, ⟨3, _⟩ => ⟨S4x704x2048, .f32⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S4x704x2048, .f32⟩
  | .hbm, ⟨8, _⟩ => ⟨S4x704x2048, .f32⟩
  | .hbm, ⟨9, _⟩ => ⟨S4x704x2048, .f32⟩
  | .hbm, ⟨10, _⟩ => ⟨S4x704x2048, .f32⟩
  | .hbm, ⟨11, _⟩ => ⟨S4x704x2048, .f32⟩
  | .hbm, ⟨12, _⟩ => ⟨S4x704x2048, .f32⟩
  | .local _ .vmem, ⟨0, _⟩ => ⟨S1x64x2048, .bf16⟩
  | .local _ .vmem, ⟨1, _⟩ => ⟨S1x64x2048, .bf16⟩
  | .local _ .vmem, ⟨2, _⟩ => ⟨S64x2048, .bf16⟩
  | .local _ .vmem, ⟨3, _⟩ => ⟨S64x2048, .bf16⟩
  | .local _ .vmem, ⟨4, _⟩ => ⟨S1x64x2048, .f32⟩
  | .local _ .vmem, ⟨5, _⟩ => ⟨S1x64x2048, .f32⟩
  | .local _ .vmem, ⟨6, _⟩ => ⟨S1x64x2048, .f32⟩
  | .local _ .vmem, ⟨7, _⟩ => ⟨S1x64x2048, .f32⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | .local _ .vmem, ⟨16, _⟩ => ⟨S1x64x2048, .f32⟩
  | .local _ .vmem, ⟨17, _⟩ => ⟨S1x64x2048, .f32⟩
  | .local _ .smem, ⟨0, _⟩ => ⟨S1, .i32⟩
  | _, _ => ⟨S2x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![11], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference21Ideal.lean ====
abbrev S1 : Shape := ⟨1, ![1]⟩
abbrev S2x704x2048 : Shape := ⟨3, ![2, 704, 2048]⟩
abbrev S704x2048 : Shape := ⟨2, ![704, 2048]⟩
abbrev S4x704x2048 : Shape := ⟨3, ![4, 704, 2048]⟩
abbrev S_ : Shape := ⟨0, ![]⟩
abbrev S1x704x2048 : Shape := ⟨3, ![1, 704, 2048]⟩
abbrev S4 : Shape := ⟨1, ![4]⟩
abbrev S4x1x1 : Shape := ⟨3, ![4, 1, 1]⟩

abbrev nBuf : Space → Nat
  | .hbm => 68
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x704x2048, .bf16⟩
  | .hbm, ⟨2, _⟩ => ⟨S704x2048, .bf16⟩
  | .hbm, ⟨3, _⟩ => ⟨S4x704x2048, .f32⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S4x704x2048, .f32⟩
  | .hbm, ⟨8, _⟩ => ⟨S4x704x2048, .f32⟩
  | .hbm, ⟨9, _⟩ => ⟨S4x704x2048, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1x704x2048, .bf16⟩
  | .hbm, ⟨14, _⟩ => ⟨S704x2048, .bf16⟩
  | .hbm, ⟨15, _⟩ => ⟨S1x704x2048, .bf16⟩
  | .hbm, ⟨16, _⟩ => ⟨S704x2048, .bf16⟩
  | .hbm, ⟨17, _⟩ => ⟨S704x2048, .bf16⟩
  | .hbm, ⟨18, _⟩ => ⟨S704x2048, .f32⟩
  | .hbm, ⟨19, _⟩ => ⟨S704x2048, .f32⟩
  | .hbm, ⟨20, _⟩ => ⟨S704x2048, .f32⟩
  | .hbm, ⟨21, _⟩ => ⟨S4x704x2048, .f32⟩
  | .hbm, ⟨22, _⟩ => ⟨S4, .i32⟩
  | .hbm, ⟨23, _⟩ => ⟨S4x1x1, .i32⟩
  | .hbm, ⟨24, _⟩ => ⟨S_, .i32⟩
  | .hbm, ⟨25, _⟩ => ⟨S4x1x1, .i32⟩
  | .hbm, ⟨26, _⟩ => ⟨S4x1x1, .i1⟩
  | .hbm, ⟨27, _⟩ => ⟨S_, .f32⟩
  | .hbm, ⟨28, _⟩ => ⟨S4x704x2048, .f32⟩
  | .hbm, ⟨29, _⟩ => ⟨S4x704x2048, .f32⟩
  | .hbm, ⟨30, _⟩ => ⟨S_, .f32⟩
  | .hbm, ⟨31, _⟩ => ⟨S4x704x2048, .f32⟩
  | .hbm, ⟨32, _⟩ => ⟨S4x704x2048, .f32⟩
  | .hbm, ⟨33, _⟩ => ⟨S4x704x2048, .f32⟩
  | .hbm, ⟨34, _⟩ => ⟨S_, .f32⟩
  | .hbm, ⟨35, _⟩ => ⟨S4x704x2048, .f32⟩
  | .hbm, ⟨36, _⟩ => ⟨S4x704x2048, .f32⟩
  | .hbm, ⟨37, _⟩ => ⟨S4x704x2048, .f32⟩
  | .hbm, ⟨38, _⟩ => ⟨S_, .f32⟩
  | .hbm, ⟨39, _⟩ => ⟨S4x704x2048, .f32⟩
  | .hbm, ⟨40, _⟩ => ⟨S4x704x2048, .f32⟩
  | .hbm, ⟨41, _⟩ => ⟨S4x704x2048, .f32⟩
  | .hbm, ⟨42, _⟩ => ⟨S_, .f32⟩
  | .hbm, ⟨43, _⟩ => ⟨S4x704x2048, .f32⟩
  | .hbm, ⟨44, _⟩ => ⟨S4x704x2048, .f32⟩
  | .hbm, ⟨45, _⟩ => ⟨S_, .f32⟩
  | .hbm, ⟨46, _⟩ => ⟨S4x704x2048, .f32⟩
  | .hbm, ⟨47, _⟩ => ⟨S4x704x2048, .f32⟩
  | .hbm, ⟨48, _⟩ => ⟨S4x704x2048, .f32⟩
  | .hbm, ⟨49, _⟩ => ⟨S_, .f32⟩
  | .hbm, ⟨50, _⟩ => ⟨S4x704x2048, .f32⟩
  | .hbm, ⟨51, _⟩ => ⟨S4x704x2048, .f32⟩
  | .hbm, ⟨52, _⟩ => ⟨S4x704x2048, .f32⟩
  | .hbm, ⟨53, _⟩ => ⟨S_, .f32⟩
  | .hbm, ⟨54, _⟩ => ⟨S4x704x2048, .f32⟩
  | .hbm, ⟨55, _⟩ => ⟨S4x704x2048, .f32⟩
  | .hbm, ⟨56, _⟩ => ⟨S4x704x2048, .f32⟩
  | .hbm, ⟨57, _⟩ => ⟨S_, .f32⟩
  | .hbm, ⟨58, _⟩ => ⟨S4x704x2048, .f32⟩
  | .hbm, ⟨59, _⟩ => ⟨S4x704x2048, .f32⟩
  | .hbm, ⟨60, _⟩ => ⟨S4x704x2048, .i1⟩
  | .hbm, ⟨61, _⟩ => ⟨S4x704x2048, .f32⟩
  | .hbm, ⟨62, _⟩ => ⟨S4x704x2048, .i1⟩
  | .hbm, ⟨63, _⟩ => ⟨S4x704x2048, .f32⟩
  | .hbm, ⟨64, _⟩ => ⟨S4x704x2048, .i1⟩
  | .hbm, ⟨65, _⟩ => ⟨S4x704x2048, .f32⟩
  | .hbm, ⟨66, _⟩ => ⟨S4x704x2048, .i1⟩
  | .hbm, ⟨67, _⟩ => ⟨S4x704x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_0 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_call1_v0 : Ref sig .tc := ⟨.hbm, 60, rfl⟩
abbrev main_v39 : Ref sig .tc := ⟨.hbm, 61, rfl⟩
abbrev main_call2_v0 : Ref sig .tc := ⟨.hbm, 62, rfl⟩
abbrev main_v40 : Ref sig .tc := ⟨.hbm, 63, rfl⟩
abbrev main_call3_v0 : Ref sig .tc := ⟨.hbm, 64, rfl⟩
abbrev main_v41 : Ref sig .tc := ⟨.hbm, 65, rfl⟩
abbrev main_call4_v0 : Ref sig .tc := ⟨.hbm, 66, rfl⟩
abbrev main_v42 : Ref sig .tc := ⟨.hbm, 67, rfl⟩

abbrev nD : Nat := 1
abbrev τ : Topo := Topo.v7x

variable {F : FTy → Type} [FloatOps F]
-- ==== Kernel22.lean ====
abbrev S1 : Shape := ⟨1, ![1]⟩
abbrev S2x1024x256 : Shape := ⟨3, ![2, 1024, 256]⟩
abbrev S1024x256 : Shape := ⟨2, ![1024, 256]⟩
abbrev S4x1024x256 : Shape := ⟨3, ![4, 1024, 256]⟩
abbrev S1x1024x256 : Shape := ⟨3, ![1, 1024, 256]⟩

abbrev nBuf : Space → Nat
  | .hbm => 13
  | .vmem => 9
  | .smem => 1
  | _ => 0

abbrev bufTy : (tb : Table) → Fin (tcTables nBuf tb) → BufTy
  | .hbm, ⟨0, _⟩ => ⟨S2x1024x256, .bf16⟩
  | .hbm, ⟨1, _⟩ => ⟨S1024x256, .bf16⟩
  | .hbm, ⟨2, _⟩ => ⟨S4x1024x256, .f32⟩
  | .hbm, ⟨3, _⟩ => ⟨S4x1024x256, .f32⟩
  | .hbm, ⟨4, _⟩ => ⟨S4x1024x256, .f32⟩
  | .hbm, ⟨5, _⟩ => ⟨S4x1024x256, .f32⟩
  | .hbm, ⟨6, _⟩ => ⟨S4x1024x256, .f32⟩
  | .hbm, ⟨7, _⟩ => ⟨S4x1024x256, .f32⟩
  | .hbm, ⟨8, _⟩ => ⟨S4x1024x256, .f32⟩
  | .hbm, ⟨9, _⟩ => ⟨S4x1024x256, .f32⟩
  | .hbm, ⟨10, _⟩ => ⟨S4x1024x256, .f32⟩
  | .hbm, ⟨11, _⟩ => ⟨S4x1024x256, .f32⟩
  | .hbm, ⟨12, _⟩ => ⟨S4x1024x256, .f32⟩
  | .local _ .vmem, ⟨0, _⟩ => ⟨S1x1024x256, .bf16⟩
  | .local _ .vmem, ⟨1, _⟩ => ⟨S1024x256, .bf16⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | .local _ .vmem, ⟨8, _⟩ => ⟨S1x1024x256, .f32⟩
  | .local _ .smem, ⟨0, _⟩ => ⟨S1, .i32⟩
  | _, _ => ⟨S2x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_12 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 1 → Memref sig .tc .vmem S1x1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x1024x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Kernel22Ideal.lean ====
abbrev S1 : Shape := ⟨1, ![1]⟩
abbrev S2x1024x256 : Shape := ⟨3, ![2, 1024, 256]⟩
abbrev S1024x256 : Shape := ⟨2, ![1024, 256]⟩
abbrev S4x1024x256 : Shape := ⟨3, ![4, 1024, 256]⟩
abbrev S1x1024x256 : Shape := ⟨3, ![1, 1024, 256]⟩

abbrev nBuf : Space → Nat
  | .hbm => 13
  | .vmem => 9
  | .smem => 1
  | _ => 0

abbrev bufTy : (tb : Table) → Fin (tcTables nBuf tb) → BufTy
  | .hbm, ⟨0, _⟩ => ⟨S2x1024x256, .bf16⟩
  | .hbm, ⟨1, _⟩ => ⟨S1024x256, .bf16⟩
  | .hbm, ⟨2, _⟩ => ⟨S4x1024x256, .f32⟩
  | .hbm, ⟨3, _⟩ => ⟨S4x1024x256, .f32⟩
  | .hbm, ⟨4, _⟩ => ⟨S4x1024x256, .f32⟩
  | .hbm, ⟨5, _⟩ => ⟨S4x1024x256, .f32⟩
  | .hbm, ⟨6, _⟩ => ⟨S4x1024x256, .f32⟩
  | .hbm, ⟨7, _⟩ => ⟨S4x1024x256, .f32⟩
  | .hbm, ⟨8, _⟩ => ⟨S4x1024x256, .f32⟩
  | .hbm, ⟨9, _⟩ => ⟨S4x1024x256, .f32⟩
  | .hbm, ⟨10, _⟩ => ⟨S4x1024x256, .f32⟩
  | .hbm, ⟨11, _⟩ => ⟨S4x1024x256, .f32⟩
  | .hbm, ⟨12, _⟩ => ⟨S4x1024x256, .f32⟩
  | .local _ .vmem, ⟨0, _⟩ => ⟨S1x1024x256, .bf16⟩
  | .local _ .vmem, ⟨1, _⟩ => ⟨S1024x256, .bf16⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | .local _ .vmem, ⟨8, _⟩ => ⟨S1x1024x256, .f32⟩
  | .local _ .smem, ⟨0, _⟩ => ⟨S1, .i32⟩
  | _, _ => ⟨S2x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_12 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 1 → Memref sig .tc .vmem S1x1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x1024x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference22Ideal.lean ====
abbrev S1 : Shape := ⟨1, ![1]⟩
abbrev S2x1024x256 : Shape := ⟨3, ![2, 1024, 256]⟩
abbrev S1024x256 : Shape := ⟨2, ![1024, 256]⟩
abbrev S4x1024x256 : Shape := ⟨3, ![4, 1024, 256]⟩
abbrev S_ : Shape := ⟨0, ![]⟩
abbrev S1x1024x256 : Shape := ⟨3, ![1, 1024, 256]⟩
abbrev S4 : Shape := ⟨1, ![4]⟩
abbrev S4x1x1 : Shape := ⟨3, ![4, 1, 1]⟩

abbrev nBuf : Space → Nat
  | .hbm => 68
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x1024x256, .bf16⟩
  | .hbm, ⟨2, _⟩ => ⟨S1024x256, .bf16⟩
  | .hbm, ⟨3, _⟩ => ⟨S4x1024x256, .f32⟩
  | .hbm, ⟨4, _⟩ => ⟨S4x1024x256, .f32⟩
  | .hbm, ⟨5, _⟩ => ⟨S4x1024x256, .f32⟩
  | .hbm, ⟨6, _⟩ => ⟨S4x1024x256, .f32⟩
  | .hbm, ⟨7, _⟩ => ⟨S4x1024x256, .f32⟩
  | .hbm, ⟨8, _⟩ => ⟨S4x1024x256, .f32⟩
  | .hbm, ⟨9, _⟩ => ⟨S4x1024x256, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1x1024x256, .bf16⟩
  | .hbm, ⟨14, _⟩ => ⟨S1024x256, .bf16⟩
  | .hbm, ⟨15, _⟩ => ⟨S1x1024x256, .bf16⟩
  | .hbm, ⟨16, _⟩ => ⟨S1024x256, .bf16⟩
  | .hbm, ⟨17, _⟩ => ⟨S1024x256, .bf16⟩
  | .hbm, ⟨18, _⟩ => ⟨S1024x256, .f32⟩
  | .hbm, ⟨19, _⟩ => ⟨S1024x256, .f32⟩
  | .hbm, ⟨20, _⟩ => ⟨S1024x256, .f32⟩
  | .hbm, ⟨21, _⟩ => ⟨S4x1024x256, .f32⟩
  | .hbm, ⟨22, _⟩ => ⟨S4, .i32⟩
  | .hbm, ⟨23, _⟩ => ⟨S4x1x1, .i32⟩
  | .hbm, ⟨24, _⟩ => ⟨S_, .i32⟩
  | .hbm, ⟨25, _⟩ => ⟨S4x1x1, .i32⟩
  | .hbm, ⟨26, _⟩ => ⟨S4x1x1, .i1⟩
  | .hbm, ⟨27, _⟩ => ⟨S_, .f32⟩
  | .hbm, ⟨28, _⟩ => ⟨S4x1024x256, .f32⟩
  | .hbm, ⟨29, _⟩ => ⟨S4x1024x256, .f32⟩
  | .hbm, ⟨30, _⟩ => ⟨S_, .f32⟩
  | .hbm, ⟨31, _⟩ => ⟨S4x1024x256, .f32⟩
  | .hbm, ⟨32, _⟩ => ⟨S4x1024x256, .f32⟩
  | .hbm, ⟨33, _⟩ => ⟨S4x1024x256, .f32⟩
  | .hbm, ⟨34, _⟩ => ⟨S_, .f32⟩
  | .hbm, ⟨35, _⟩ => ⟨S4x1024x256, .f32⟩
  | .hbm, ⟨36, _⟩ => ⟨S4x1024x256, .f32⟩
  | .hbm, ⟨37, _⟩ => ⟨S4x1024x256, .f32⟩
  | .hbm, ⟨38, _⟩ => ⟨S_, .f32⟩
  | .hbm, ⟨39, _⟩ => ⟨S4x1024x256, .f32⟩
  | .hbm, ⟨40, _⟩ => ⟨S4x1024x256, .f32⟩
  | .hbm, ⟨41, _⟩ => ⟨S4x1024x256, .f32⟩
  | .hbm, ⟨42, _⟩ => ⟨S_, .f32⟩
  | .hbm, ⟨43, _⟩ => ⟨S4x1024x256, .f32⟩
  | .hbm, ⟨44, _⟩ => ⟨S4x1024x256, .f32⟩
  | .hbm, ⟨45, _⟩ => ⟨S_, .f32⟩
  | .hbm, ⟨46, _⟩ => ⟨S4x1024x256, .f32⟩
  | .hbm, ⟨47, _⟩ => ⟨S4x1024x256, .f32⟩
  | .hbm, ⟨48, _⟩ => ⟨S4x1024x256, .f32⟩
  | .hbm, ⟨49, _⟩ => ⟨S_, .f32⟩
  | .hbm, ⟨50, _⟩ => ⟨S4x1024x256, .f32⟩
  | .hbm, ⟨51, _⟩ => ⟨S4x1024x256, .f32⟩
  | .hbm, ⟨52, _⟩ => ⟨S4x1024x256, .f32⟩
  | .hbm, ⟨53, _⟩ => ⟨S_, .f32⟩
  | .hbm, ⟨54, _⟩ => ⟨S4x1024x256, .f32⟩
  | .hbm, ⟨55, _⟩ => ⟨S4x1024x256, .f32⟩
  | .hbm, ⟨56, _⟩ => ⟨S4x1024x256, .f32⟩
  | .hbm, ⟨57, _⟩ => ⟨S_, .f32⟩
  | .hbm, ⟨58, _⟩ => ⟨S4x1024x256, .f32⟩
  | .hbm, ⟨59, _⟩ => ⟨S4x1024x256, .f32⟩
  | .hbm, ⟨60, _⟩ => ⟨S4x1024x256, .i1⟩
  | .hbm, ⟨61, _⟩ => ⟨S4x1024x256, .f32⟩
  | .hbm, ⟨62, _⟩ => ⟨S4x1024x256, .i1⟩
  | .hbm, ⟨63, _⟩ => ⟨S4x1024x256, .f32⟩
  | .hbm, ⟨64, _⟩ => ⟨S4x1024x256, .i1⟩
  | .hbm, ⟨65, _⟩ => ⟨S4x1024x256, .f32⟩
  | .hbm, ⟨66, _⟩ => ⟨S4x1024x256, .i1⟩
  | .hbm, ⟨67, _⟩ => ⟨S4x1024x256, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_0 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_call1_v0 : Ref sig .tc := ⟨.hbm, 60, rfl⟩
abbrev main_v39 : Ref sig .tc := ⟨.hbm, 61, rfl⟩
abbrev main_call2_v0 : Ref sig .tc := ⟨.hbm, 62, rfl⟩
abbrev main_v40 : Ref sig .tc := ⟨.hbm, 63, rfl⟩
abbrev main_call3_v0 : Ref sig .tc := ⟨.hbm, 64, rfl⟩
abbrev main_v41 : Ref sig .tc := ⟨.hbm, 65, rfl⟩
abbrev main_call4_v0 : Ref sig .tc := ⟨.hbm, 66, rfl⟩
abbrev main_v42 : Ref sig .tc := ⟨.hbm, 67, rfl⟩

abbrev nD : Nat := 1
abbrev τ : Topo := Topo.v7x

variable {F : FTy → Type} [FloatOps F]
-- ==== Kernel23.lean ====
abbrev S1 : Shape := ⟨1, ![1]⟩
abbrev S2x1024x256 : Shape := ⟨3, ![2, 1024, 256]⟩
abbrev S1024x256 : Shape := ⟨2, ![1024, 256]⟩
abbrev S4x1024x256 : Shape := ⟨3, ![4, 1024, 256]⟩
abbrev S1x1024x256 : Shape := ⟨3, ![1, 1024, 256]⟩

abbrev nBuf : Space → Nat
  | .hbm => 13
  | .vmem => 9
  | .smem => 1
  | _ => 0

abbrev bufTy : (tb : Table) → Fin (tcTables nBuf tb) → BufTy
  | .hbm, ⟨0, _⟩ => ⟨S2x1024x256, .bf16⟩
  | .hbm, ⟨1, _⟩ => ⟨S1024x256, .bf16⟩
  | .hbm, ⟨2, _⟩ => ⟨S4x1024x256, .f32⟩
  | .hbm, ⟨3, _⟩ => ⟨S4x1024x256, .f32⟩
  | .hbm, ⟨4, _⟩ => ⟨S4x1024x256, .f32⟩
  | .hbm, ⟨5, _⟩ => ⟨S4x1024x256, .f32⟩
  | .hbm, ⟨6, _⟩ => ⟨S4x1024x256, .f32⟩
  | .hbm, ⟨7, _⟩ => ⟨S4x1024x256, .f32⟩
  | .hbm, ⟨8, _⟩ => ⟨S4x1024x256, .f32⟩
  | .hbm, ⟨9, _⟩ => ⟨S4x1024x256, .f32⟩
  | .hbm, ⟨10, _⟩ => ⟨S4x1024x256, .f32⟩
  | .hbm, ⟨11, _⟩ => ⟨S4x1024x256, .f32⟩
  | .hbm, ⟨12, _⟩ => ⟨S4x1024x256, .f32⟩
  | .local _ .vmem, ⟨0, _⟩ => ⟨S1x1024x256, .bf16⟩
  | .local _ .vmem, ⟨1, _⟩ => ⟨S1024x256, .bf16⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | .local _ .vmem, ⟨8, _⟩ => ⟨S1x1024x256, .f32⟩
  | .local _ .smem, ⟨0, _⟩ => ⟨S1, .i32⟩
  | _, _ => ⟨S2x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_10 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_12 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage0_0 : Fin 1 → Memref sig .tc .vmem S1x1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x1024x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Kernel23Ideal.lean ====
abbrev S1 : Shape := ⟨1, ![1]⟩
abbrev S2x1024x256 : Shape := ⟨3, ![2, 1024, 256]⟩
abbrev S1024x256 : Shape := ⟨2, ![1024, 256]⟩
abbrev S4x1024x256 : Shape := ⟨3, ![4, 1024, 256]⟩
abbrev S1x1024x256 : Shape := ⟨3, ![1, 1024, 256]⟩

abbrev nBuf : Space → Nat
  | .hbm => 13
  | .vmem => 9
  | .smem => 1
  | _ => 0

abbrev bufTy : (tb : Table) → Fin (tcTables nBuf tb) → BufTy
  | .hbm, ⟨0, _⟩ => ⟨S2x1024x256, .bf16⟩
  | .hbm, ⟨1, _⟩ => ⟨S1024x256, .bf16⟩
  | .hbm, ⟨2, _⟩ => ⟨S4x1024x256, .f32⟩
  | .hbm, ⟨3, _⟩ => ⟨S4x1024x256, .f32⟩
  | .hbm, ⟨4, _⟩ => ⟨S4x1024x256, .f32⟩
  | .hbm, ⟨5, _⟩ => ⟨S4x1024x256, .f32⟩
  | .hbm, ⟨6, _⟩ => ⟨S4x1024x256, .f32⟩
  | .hbm, ⟨7, _⟩ => ⟨S4x1024x256, .f32⟩
  | .hbm, ⟨8, _⟩ => ⟨S4x1024x256, .f32⟩
  | .hbm, ⟨9, _⟩ => ⟨S4x1024x256, .f32⟩
  | .hbm, ⟨10, _⟩ => ⟨S4x1024x256, .f32⟩
  | .hbm, ⟨11, _⟩ => ⟨S4x1024x256, .f32⟩
  | .hbm, ⟨12, _⟩ => ⟨S4x1024x256, .f32⟩
  | .local _ .vmem, ⟨0, _⟩ => ⟨S1x1024x256, .bf16⟩
  | .local _ .vmem, ⟨1, _⟩ => ⟨S1024x256, .bf16⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | .local _ .vmem, ⟨8, _⟩ => ⟨S1x1024x256, .f32⟩
  | .local _ .smem, ⟨0, _⟩ => ⟨S1, .i32⟩
  | _, _ => ⟨S2x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_10 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_12 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage0_0 : Fin 1 → Memref sig .tc .vmem S1x1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x1024x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference23Ideal.lean ====
abbrev S1 : Shape := ⟨1, ![1]⟩
abbrev S2x1024x256 : Shape := ⟨3, ![2, 1024, 256]⟩
abbrev S1024x256 : Shape := ⟨2, ![1024, 256]⟩
abbrev S4x1024x256 : Shape := ⟨3, ![4, 1024, 256]⟩
abbrev S_ : Shape := ⟨0, ![]⟩
abbrev S1x1024x256 : Shape := ⟨3, ![1, 1024, 256]⟩
abbrev S4 : Shape := ⟨1, ![4]⟩
abbrev S4x1x1 : Shape := ⟨3, ![4, 1, 1]⟩

abbrev nBuf : Space → Nat
  | .hbm => 68
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x1024x256, .bf16⟩
  | .hbm, ⟨2, _⟩ => ⟨S1024x256, .bf16⟩
  | .hbm, ⟨3, _⟩ => ⟨S4x1024x256, .f32⟩
  | .hbm, ⟨4, _⟩ => ⟨S4x1024x256, .f32⟩
  | .hbm, ⟨5, _⟩ => ⟨S4x1024x256, .f32⟩
  | .hbm, ⟨6, _⟩ => ⟨S4x1024x256, .f32⟩
  | .hbm, ⟨7, _⟩ => ⟨S4x1024x256, .f32⟩
  | .hbm, ⟨8, _⟩ => ⟨S4x1024x256, .f32⟩
  | .hbm, ⟨9, _⟩ => ⟨S4x1024x256, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1x1024x256, .bf16⟩
  | .hbm, ⟨14, _⟩ => ⟨S1024x256, .bf16⟩
  | .hbm, ⟨15, _⟩ => ⟨S1x1024x256, .bf16⟩
  | .hbm, ⟨16, _⟩ => ⟨S1024x256, .bf16⟩
  | .hbm, ⟨17, _⟩ => ⟨S1024x256, .bf16⟩
  | .hbm, ⟨18, _⟩ => ⟨S1024x256, .f32⟩
  | .hbm, ⟨19, _⟩ => ⟨S1024x256, .f32⟩
  | .hbm, ⟨20, _⟩ => ⟨S1024x256, .f32⟩
  | .hbm, ⟨21, _⟩ => ⟨S4x1024x256, .f32⟩
  | .hbm, ⟨22, _⟩ => ⟨S4, .i32⟩
  | .hbm, ⟨23, _⟩ => ⟨S4x1x1, .i32⟩
  | .hbm, ⟨24, _⟩ => ⟨S_, .i32⟩
  | .hbm, ⟨25, _⟩ => ⟨S4x1x1, .i32⟩
  | .hbm, ⟨26, _⟩ => ⟨S4x1x1, .i1⟩
  | .hbm, ⟨27, _⟩ => ⟨S_, .f32⟩
  | .hbm, ⟨28, _⟩ => ⟨S4x1024x256, .f32⟩
  | .hbm, ⟨29, _⟩ => ⟨S4x1024x256, .f32⟩
  | .hbm, ⟨30, _⟩ => ⟨S_, .f32⟩
  | .hbm, ⟨31, _⟩ => ⟨S4x1024x256, .f32⟩
  | .hbm, ⟨32, _⟩ => ⟨S4x1024x256, .f32⟩
  | .hbm, ⟨33, _⟩ => ⟨S4x1024x256, .f32⟩
  | .hbm, ⟨34, _⟩ => ⟨S_, .f32⟩
  | .hbm, ⟨35, _⟩ => ⟨S4x1024x256, .f32⟩
  | .hbm, ⟨36, _⟩ => ⟨S4x1024x256, .f32⟩
  | .hbm, ⟨37, _⟩ => ⟨S4x1024x256, .f32⟩
  | .hbm, ⟨38, _⟩ => ⟨S_, .f32⟩
  | .hbm, ⟨39, _⟩ => ⟨S4x1024x256, .f32⟩
  | .hbm, ⟨40, _⟩ => ⟨S4x1024x256, .f32⟩
  | .hbm, ⟨41, _⟩ => ⟨S4x1024x256, .f32⟩
  | .hbm, ⟨42, _⟩ => ⟨S_, .f32⟩
  | .hbm, ⟨43, _⟩ => ⟨S4x1024x256, .f32⟩
  | .hbm, ⟨44, _⟩ => ⟨S4x1024x256, .f32⟩
  | .hbm, ⟨45, _⟩ => ⟨S_, .f32⟩
  | .hbm, ⟨46, _⟩ => ⟨S4x1024x256, .f32⟩
  | .hbm, ⟨47, _⟩ => ⟨S4x1024x256, .f32⟩
  | .hbm, ⟨48, _⟩ => ⟨S4x1024x256, .f32⟩
  | .hbm, ⟨49, _⟩ => ⟨S_, .f32⟩
  | .hbm, ⟨50, _⟩ => ⟨S4x1024x256, .f32⟩
  | .hbm, ⟨51, _⟩ => ⟨S4x1024x256, .f32⟩
  | .hbm, ⟨52, _⟩ => ⟨S4x1024x256, .f32⟩
  | .hbm, ⟨53, _⟩ => ⟨S_, .f32⟩
  | .hbm, ⟨54, _⟩ => ⟨S4x1024x256, .f32⟩
  | .hbm, ⟨55, _⟩ => ⟨S4x1024x256, .f32⟩
  | .hbm, ⟨56, _⟩ => ⟨S4x1024x256, .f32⟩
  | .hbm, ⟨57, _⟩ => ⟨S_, .f32⟩
  | .hbm, ⟨58, _⟩ => ⟨S4x1024x256, .f32⟩
  | .hbm, ⟨59, _⟩ => ⟨S4x1024x256, .f32⟩
  | .hbm, ⟨60, _⟩ => ⟨S4x1024x256, .i1⟩
  | .hbm, ⟨61, _⟩ => ⟨S4x1024x256, .f32⟩
  | .hbm, ⟨62, _⟩ => ⟨S4x1024x256, .i1⟩
  | .hbm, ⟨63, _⟩ => ⟨S4x1024x256, .f32⟩
  | .hbm, ⟨64, _⟩ => ⟨S4x1024x256, .i1⟩
  | .hbm, ⟨65, _⟩ => ⟨S4x1024x256, .f32⟩
  | .hbm, ⟨66, _⟩ => ⟨S4x1024x256, .i1⟩
  | .hbm, ⟨67, _⟩ => ⟨S4x1024x256, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_0 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_call1_v0 : Ref sig .tc := ⟨.hbm, 60, rfl⟩
abbrev main_v39 : Ref sig .tc := ⟨.hbm, 61, rfl⟩
abbrev main_call2_v0 : Ref sig .tc := ⟨.hbm, 62, rfl⟩
abbrev main_v40 : Ref sig .tc := ⟨.hbm, 63, rfl⟩
abbrev main_call3_v0 : Ref sig .tc := ⟨.hbm, 64, rfl⟩
abbrev main_v41 : Ref sig .tc := ⟨.hbm, 65, rfl⟩
abbrev main_call4_v0 : Ref sig .tc := ⟨.hbm, 66, rfl⟩
abbrev main_v42 : Ref sig .tc := ⟨.hbm, 67, rfl⟩

abbrev nD : Nat := 1
abbrev τ : Topo := Topo.v7x

variable {F : FTy → Type} [FloatOps F]
-- ==== Kernel24.lean ====
abbrev S1 : Shape := ⟨1, ![1]⟩
abbrev S2x1024x256 : Shape := ⟨3, ![2, 1024, 256]⟩
abbrev S1024x256 : Shape := ⟨2, ![1024, 256]⟩
abbrev S4x1024x256 : Shape := ⟨3, ![4, 1024, 256]⟩
abbrev S1x1024x256 : Shape := ⟨3, ![1, 1024, 256]⟩

abbrev nBuf : Space → Nat
  | .hbm => 13
  | .vmem => 9
  | .smem => 1
  | _ => 0

abbrev bufTy : (tb : Table) → Fin (tcTables nBuf tb) → BufTy
  | .hbm, ⟨0, _⟩ => ⟨S2x1024x256, .bf16⟩
  | .hbm, ⟨1, _⟩ => ⟨S1024x256, .bf16⟩
  | .hbm, ⟨2, _⟩ => ⟨S4x1024x256, .f32⟩
  | .hbm, ⟨3, _⟩ => ⟨S4x1024x256, .f32⟩
  | .hbm, ⟨4, _⟩ => ⟨S4x1024x256, .f32⟩
  | .hbm, ⟨5, _⟩ => ⟨S4x1024x256, .f32⟩
  | .hbm, ⟨6, _⟩ => ⟨S4x1024x256, .f32⟩
  | .hbm, ⟨7, _⟩ => ⟨S4x1024x256, .f32⟩
  | .hbm, ⟨8, _⟩ => ⟨S4x1024x256, .f32⟩
  | .hbm, ⟨9, _⟩ => ⟨S4x1024x256, .f32⟩
  | .hbm, ⟨10, _⟩ => ⟨S4x1024x256, .f32⟩
  | .hbm, ⟨11, _⟩ => ⟨S4x1024x256, .f32⟩
  | .hbm, ⟨12, _⟩ => ⟨S4x1024x256, .f32⟩
  | .local _ .vmem, ⟨0, _⟩ => ⟨S1x1024x256, .bf16⟩
  | .local _ .vmem, ⟨1, _⟩ => ⟨S1024x256, .bf16⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | .local _ .vmem, ⟨8, _⟩ => ⟨S1x1024x256, .f32⟩
  | .local _ .smem, ⟨0, _⟩ => ⟨S1, .i32⟩
  | _, _ => ⟨S2x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 1 → Memref sig .tc .vmem S1x1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x1024x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Kernel24Ideal.lean ====
abbrev S1 : Shape := ⟨1, ![1]⟩
abbrev S2x1024x256 : Shape := ⟨3, ![2, 1024, 256]⟩
abbrev S1024x256 : Shape := ⟨2, ![1024, 256]⟩
abbrev S4x1024x256 : Shape := ⟨3, ![4, 1024, 256]⟩
abbrev S1x1024x256 : Shape := ⟨3, ![1, 1024, 256]⟩

abbrev nBuf : Space → Nat
  | .hbm => 13
  | .vmem => 9
  | .smem => 1
  | _ => 0

abbrev bufTy : (tb : Table) → Fin (tcTables nBuf tb) → BufTy
  | .hbm, ⟨0, _⟩ => ⟨S2x1024x256, .bf16⟩
  | .hbm, ⟨1, _⟩ => ⟨S1024x256, .bf16⟩
  | .hbm, ⟨2, _⟩ => ⟨S4x1024x256, .f32⟩
  | .hbm, ⟨3, _⟩ => ⟨S4x1024x256, .f32⟩
  | .hbm, ⟨4, _⟩ => ⟨S4x1024x256, .f32⟩
  | .hbm, ⟨5, _⟩ => ⟨S4x1024x256, .f32⟩
  | .hbm, ⟨6, _⟩ => ⟨S4x1024x256, .f32⟩
  | .hbm, ⟨7, _⟩ => ⟨S4x1024x256, .f32⟩
  | .hbm, ⟨8, _⟩ => ⟨S4x1024x256, .f32⟩
  | .hbm, ⟨9, _⟩ => ⟨S4x1024x256, .f32⟩
  | .hbm, ⟨10, _⟩ => ⟨S4x1024x256, .f32⟩
  | .hbm, ⟨11, _⟩ => ⟨S4x1024x256, .f32⟩
  | .hbm, ⟨12, _⟩ => ⟨S4x1024x256, .f32⟩
  | .local _ .vmem, ⟨0, _⟩ => ⟨S1x1024x256, .bf16⟩
  | .local _ .vmem, ⟨1, _⟩ => ⟨S1024x256, .bf16⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | .local _ .vmem, ⟨8, _⟩ => ⟨S1x1024x256, .f32⟩
  | .local _ .smem, ⟨0, _⟩ => ⟨S1, .i32⟩
  | _, _ => ⟨S2x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 1 → Memref sig .tc .vmem S1x1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x1024x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference24Ideal.lean ====
abbrev S1 : Shape := ⟨1, ![1]⟩
abbrev S2x1024x256 : Shape := ⟨3, ![2, 1024, 256]⟩
abbrev S1024x256 : Shape := ⟨2, ![1024, 256]⟩
abbrev S4x1024x256 : Shape := ⟨3, ![4, 1024, 256]⟩
abbrev S_ : Shape := ⟨0, ![]⟩
abbrev S1x1024x256 : Shape := ⟨3, ![1, 1024, 256]⟩
abbrev S4 : Shape := ⟨1, ![4]⟩
abbrev S4x1x1 : Shape := ⟨3, ![4, 1, 1]⟩

abbrev nBuf : Space → Nat
  | .hbm => 68
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x1024x256, .bf16⟩
  | .hbm, ⟨2, _⟩ => ⟨S1024x256, .bf16⟩
  | .hbm, ⟨3, _⟩ => ⟨S4x1024x256, .f32⟩
  | .hbm, ⟨4, _⟩ => ⟨S4x1024x256, .f32⟩
  | .hbm, ⟨5, _⟩ => ⟨S4x1024x256, .f32⟩
  | .hbm, ⟨6, _⟩ => ⟨S4x1024x256, .f32⟩
  | .hbm, ⟨7, _⟩ => ⟨S4x1024x256, .f32⟩
  | .hbm, ⟨8, _⟩ => ⟨S4x1024x256, .f32⟩
  | .hbm, ⟨9, _⟩ => ⟨S4x1024x256, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1x1024x256, .bf16⟩
  | .hbm, ⟨14, _⟩ => ⟨S1024x256, .bf16⟩
  | .hbm, ⟨15, _⟩ => ⟨S1x1024x256, .bf16⟩
  | .hbm, ⟨16, _⟩ => ⟨S1024x256, .bf16⟩
  | .hbm, ⟨17, _⟩ => ⟨S1024x256, .bf16⟩
  | .hbm, ⟨18, _⟩ => ⟨S1024x256, .f32⟩
  | .hbm, ⟨19, _⟩ => ⟨S1024x256, .f32⟩
  | .hbm, ⟨20, _⟩ => ⟨S1024x256, .f32⟩
  | .hbm, ⟨21, _⟩ => ⟨S4x1024x256, .f32⟩
  | .hbm, ⟨22, _⟩ => ⟨S4, .i32⟩
  | .hbm, ⟨23, _⟩ => ⟨S4x1x1, .i32⟩
  | .hbm, ⟨24, _⟩ => ⟨S_, .i32⟩
  | .hbm, ⟨25, _⟩ => ⟨S4x1x1, .i32⟩
  | .hbm, ⟨26, _⟩ => ⟨S4x1x1, .i1⟩
  | .hbm, ⟨27, _⟩ => ⟨S_, .f32⟩
  | .hbm, ⟨28, _⟩ => ⟨S4x1024x256, .f32⟩
  | .hbm, ⟨29, _⟩ => ⟨S4x1024x256, .f32⟩
  | .hbm, ⟨30, _⟩ => ⟨S_, .f32⟩
  | .hbm, ⟨31, _⟩ => ⟨S4x1024x256, .f32⟩
  | .hbm, ⟨32, _⟩ => ⟨S4x1024x256, .f32⟩
  | .hbm, ⟨33, _⟩ => ⟨S4x1024x256, .f32⟩
  | .hbm, ⟨34, _⟩ => ⟨S_, .f32⟩
  | .hbm, ⟨35, _⟩ => ⟨S4x1024x256, .f32⟩
  | .hbm, ⟨36, _⟩ => ⟨S4x1024x256, .f32⟩
  | .hbm, ⟨37, _⟩ => ⟨S4x1024x256, .f32⟩
  | .hbm, ⟨38, _⟩ => ⟨S_, .f32⟩
  | .hbm, ⟨39, _⟩ => ⟨S4x1024x256, .f32⟩
  | .hbm, ⟨40, _⟩ => ⟨S4x1024x256, .f32⟩
  | .hbm, ⟨41, _⟩ => ⟨S4x1024x256, .f32⟩
  | .hbm, ⟨42, _⟩ => ⟨S_, .f32⟩
  | .hbm, ⟨43, _⟩ => ⟨S4x1024x256, .f32⟩
  | .hbm, ⟨44, _⟩ => ⟨S4x1024x256, .f32⟩
  | .hbm, ⟨45, _⟩ => ⟨S_, .f32⟩
  | .hbm, ⟨46, _⟩ => ⟨S4x1024x256, .f32⟩
  | .hbm, ⟨47, _⟩ => ⟨S4x1024x256, .f32⟩
  | .hbm, ⟨48, _⟩ => ⟨S4x1024x256, .f32⟩
  | .hbm, ⟨49, _⟩ => ⟨S_, .f32⟩
  | .hbm, ⟨50, _⟩ => ⟨S4x1024x256, .f32⟩
  | .hbm, ⟨51, _⟩ => ⟨S4x1024x256, .f32⟩
  | .hbm, ⟨52, _⟩ => ⟨S4x1024x256, .f32⟩
  | .hbm, ⟨53, _⟩ => ⟨S_, .f32⟩
  | .hbm, ⟨54, _⟩ => ⟨S4x1024x256, .f32⟩
  | .hbm, ⟨55, _⟩ => ⟨S4x1024x256, .f32⟩
  | .hbm, ⟨56, _⟩ => ⟨S4x1024x256, .f32⟩
  | .hbm, ⟨57, _⟩ => ⟨S_, .f32⟩
  | .hbm, ⟨58, _⟩ => ⟨S4x1024x256, .f32⟩
  | .hbm, ⟨59, _⟩ => ⟨S4x1024x256, .f32⟩
  | .hbm, ⟨60, _⟩ => ⟨S4x1024x256, .i1⟩
  | .hbm, ⟨61, _⟩ => ⟨S4x1024x256, .f32⟩
  | .hbm, ⟨62, _⟩ => ⟨S4x1024x256, .i1⟩
  | .hbm, ⟨63, _⟩ => ⟨S4x1024x256, .f32⟩
  | .hbm, ⟨64, _⟩ => ⟨S4x1024x256, .i1⟩
  | .hbm, ⟨65, _⟩ => ⟨S4x1024x256, .f32⟩
  | .hbm, ⟨66, _⟩ => ⟨S4x1024x256, .i1⟩
  | .hbm, ⟨67, _⟩ => ⟨S4x1024x256, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_0 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_call1_v0 : Ref sig .tc := ⟨.hbm, 60, rfl⟩
abbrev main_v39 : Ref sig .tc := ⟨.hbm, 61, rfl⟩
abbrev main_call2_v0 : Ref sig .tc := ⟨.hbm, 62, rfl⟩
abbrev main_v40 : Ref sig .tc := ⟨.hbm, 63, rfl⟩
abbrev main_call3_v0 : Ref sig .tc := ⟨.hbm, 64, rfl⟩
abbrev main_v41 : Ref sig .tc := ⟨.hbm, 65, rfl⟩
abbrev main_call4_v0 : Ref sig .tc := ⟨.hbm, 66, rfl⟩
abbrev main_v42 : Ref sig .tc := ⟨.hbm, 67, rfl⟩

abbrev nD : Nat := 1
abbrev τ : Topo := Topo.v7x

variable {F : FTy → Type} [FloatOps F]
-- ==== Kernel25.lean ====
abbrev S1 : Shape := ⟨1, ![1]⟩
abbrev S2x1024x256 : Shape := ⟨3, ![2, 1024, 256]⟩
abbrev S1024x256 : Shape := ⟨2, ![1024, 256]⟩
abbrev S4x1024x256 : Shape := ⟨3, ![4, 1024, 256]⟩
abbrev S1x1024x256 : Shape := ⟨3, ![1, 1024, 256]⟩

abbrev nBuf : Space → Nat
  | .hbm => 13
  | .vmem => 9
  | .smem => 1
  | _ => 0

abbrev bufTy : (tb : Table) → Fin (tcTables nBuf tb) → BufTy
  | .hbm, ⟨0, _⟩ => ⟨S2x1024x256, .bf16⟩
  | .hbm, ⟨1, _⟩ => ⟨S1024x256, .bf16⟩
  | .hbm, ⟨2, _⟩ => ⟨S4x1024x256, .f32⟩
  | .hbm, ⟨3, _⟩ => ⟨S4x1024x256, .f32⟩
  | .hbm, ⟨4, _⟩ => ⟨S4x1024x256, .f32⟩
  | .hbm, ⟨5, _⟩ => ⟨S4x1024x256, .f32⟩
  | .hbm, ⟨6, _⟩ => ⟨S4x1024x256, .f32⟩
  | .hbm, ⟨7, _⟩ => ⟨S4x1024x256, .f32⟩
  | .hbm, ⟨8, _⟩ => ⟨S4x1024x256, .f32⟩
  | .hbm, ⟨9, _⟩ => ⟨S4x1024x256, .f32⟩
  | .hbm, ⟨10, _⟩ => ⟨S4x1024x256, .f32⟩
  | .hbm, ⟨11, _⟩ => ⟨S4x1024x256, .f32⟩
  | .hbm, ⟨12, _⟩ => ⟨S4x1024x256, .f32⟩
  | .local _ .vmem, ⟨0, _⟩ => ⟨S1x1024x256, .bf16⟩
  | .local _ .vmem, ⟨1, _⟩ => ⟨S1024x256, .bf16⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | .local _ .vmem, ⟨8, _⟩ => ⟨S1x1024x256, .f32⟩
  | .local _ .smem, ⟨0, _⟩ => ⟨S1, .i32⟩
  | _, _ => ⟨S2x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x1024x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Kernel25Ideal.lean ====
abbrev S1 : Shape := ⟨1, ![1]⟩
abbrev S2x1024x256 : Shape := ⟨3, ![2, 1024, 256]⟩
abbrev S1024x256 : Shape := ⟨2, ![1024, 256]⟩
abbrev S4x1024x256 : Shape := ⟨3, ![4, 1024, 256]⟩
abbrev S1x1024x256 : Shape := ⟨3, ![1, 1024, 256]⟩

abbrev nBuf : Space → Nat
  | .hbm => 13
  | .vmem => 9
  | .smem => 1
  | _ => 0

abbrev bufTy : (tb : Table) → Fin (tcTables nBuf tb) → BufTy
  | .hbm, ⟨0, _⟩ => ⟨S2x1024x256, .bf16⟩
  | .hbm, ⟨1, _⟩ => ⟨S1024x256, .bf16⟩
  | .hbm, ⟨2, _⟩ => ⟨S4x1024x256, .f32⟩
  | .hbm, ⟨3, _⟩ => ⟨S4x1024x256, .f32⟩
  | .hbm, ⟨4, _⟩ => ⟨S4x1024x256, .f32⟩
  | .hbm, ⟨5, _⟩ => ⟨S4x1024x256, .f32⟩
  | .hbm, ⟨6, _⟩ => ⟨S4x1024x256, .f32⟩
  | .hbm, ⟨7, _⟩ => ⟨S4x1024x256, .f32⟩
  | .hbm, ⟨8, _⟩ => ⟨S4x1024x256, .f32⟩
  | .hbm, ⟨9, _⟩ => ⟨S4x1024x256, .f32⟩
  | .hbm, ⟨10, _⟩ => ⟨S4x1024x256, .f32⟩
  | .hbm, ⟨11, _⟩ => ⟨S4x1024x256, .f32⟩
  | .hbm, ⟨12, _⟩ => ⟨S4x1024x256, .f32⟩
  | .local _ .vmem, ⟨0, _⟩ => ⟨S1x1024x256, .bf16⟩
  | .local _ .vmem, ⟨1, _⟩ => ⟨S1024x256, .bf16⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | .local _ .vmem, ⟨8, _⟩ => ⟨S1x1024x256, .f32⟩
  | .local _ .smem, ⟨0, _⟩ => ⟨S1, .i32⟩
  | _, _ => ⟨S2x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x1024x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference25Ideal.lean ====
abbrev S1 : Shape := ⟨1, ![1]⟩
abbrev S2x1024x256 : Shape := ⟨3, ![2, 1024, 256]⟩
abbrev S1024x256 : Shape := ⟨2, ![1024, 256]⟩
abbrev S4x1024x256 : Shape := ⟨3, ![4, 1024, 256]⟩
abbrev S_ : Shape := ⟨0, ![]⟩
abbrev S1x1024x256 : Shape := ⟨3, ![1, 1024, 256]⟩
abbrev S4 : Shape := ⟨1, ![4]⟩
abbrev S4x1x1 : Shape := ⟨3, ![4, 1, 1]⟩

abbrev nBuf : Space → Nat
  | .hbm => 68
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x1024x256, .bf16⟩
  | .hbm, ⟨2, _⟩ => ⟨S1024x256, .bf16⟩
  | .hbm, ⟨3, _⟩ => ⟨S4x1024x256, .f32⟩
  | .hbm, ⟨4, _⟩ => ⟨S4x1024x256, .f32⟩
  | .hbm, ⟨5, _⟩ => ⟨S4x1024x256, .f32⟩
  | .hbm, ⟨6, _⟩ => ⟨S4x1024x256, .f32⟩
  | .hbm, ⟨7, _⟩ => ⟨S4x1024x256, .f32⟩
  | .hbm, ⟨8, _⟩ => ⟨S4x1024x256, .f32⟩
  | .hbm, ⟨9, _⟩ => ⟨S4x1024x256, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1x1024x256, .bf16⟩
  | .hbm, ⟨14, _⟩ => ⟨S1024x256, .bf16⟩
  | .hbm, ⟨15, _⟩ => ⟨S1x1024x256, .bf16⟩
  | .hbm, ⟨16, _⟩ => ⟨S1024x256, .bf16⟩
  | .hbm, ⟨17, _⟩ => ⟨S1024x256, .bf16⟩
  | .hbm, ⟨18, _⟩ => ⟨S1024x256, .f32⟩
  | .hbm, ⟨19, _⟩ => ⟨S1024x256, .f32⟩
  | .hbm, ⟨20, _⟩ => ⟨S1024x256, .f32⟩
  | .hbm, ⟨21, _⟩ => ⟨S4x1024x256, .f32⟩
  | .hbm, ⟨22, _⟩ => ⟨S4, .i32⟩
  | .hbm, ⟨23, _⟩ => ⟨S4x1x1, .i32⟩
  | .hbm, ⟨24, _⟩ => ⟨S_, .i32⟩
  | .hbm, ⟨25, _⟩ => ⟨S4x1x1, .i32⟩
  | .hbm, ⟨26, _⟩ => ⟨S4x1x1, .i1⟩
  | .hbm, ⟨27, _⟩ => ⟨S_, .f32⟩
  | .hbm, ⟨28, _⟩ => ⟨S4x1024x256, .f32⟩
  | .hbm, ⟨29, _⟩ => ⟨S4x1024x256, .f32⟩
  | .hbm, ⟨30, _⟩ => ⟨S_, .f32⟩
  | .hbm, ⟨31, _⟩ => ⟨S4x1024x256, .f32⟩
  | .hbm, ⟨32, _⟩ => ⟨S4x1024x256, .f32⟩
  | .hbm, ⟨33, _⟩ => ⟨S4x1024x256, .f32⟩
  | .hbm, ⟨34, _⟩ => ⟨S_, .f32⟩
  | .hbm, ⟨35, _⟩ => ⟨S4x1024x256, .f32⟩
  | .hbm, ⟨36, _⟩ => ⟨S4x1024x256, .f32⟩
  | .hbm, ⟨37, _⟩ => ⟨S4x1024x256, .f32⟩
  | .hbm, ⟨38, _⟩ => ⟨S_, .f32⟩
  | .hbm, ⟨39, _⟩ => ⟨S4x1024x256, .f32⟩
  | .hbm, ⟨40, _⟩ => ⟨S4x1024x256, .f32⟩
  | .hbm, ⟨41, _⟩ => ⟨S4x1024x256, .f32⟩
  | .hbm, ⟨42, _⟩ => ⟨S_, .f32⟩
  | .hbm, ⟨43, _⟩ => ⟨S4x1024x256, .f32⟩
  | .hbm, ⟨44, _⟩ => ⟨S4x1024x256, .f32⟩
  | .hbm, ⟨45, _⟩ => ⟨S_, .f32⟩
  | .hbm, ⟨46, _⟩ => ⟨S4x1024x256, .f32⟩
  | .hbm, ⟨47, _⟩ => ⟨S4x1024x256, .f32⟩
  | .hbm, ⟨48, _⟩ => ⟨S4x1024x256, .f32⟩
  | .hbm, ⟨49, _⟩ => ⟨S_, .f32⟩
  | .hbm, ⟨50, _⟩ => ⟨S4x1024x256, .f32⟩
  | .hbm, ⟨51, _⟩ => ⟨S4x1024x256, .f32⟩
  | .hbm, ⟨52, _⟩ => ⟨S4x1024x256, .f32⟩
  | .hbm, ⟨53, _⟩ => ⟨S_, .f32⟩
  | .hbm, ⟨54, _⟩ => ⟨S4x1024x256, .f32⟩
  | .hbm, ⟨55, _⟩ => ⟨S4x1024x256, .f32⟩
  | .hbm, ⟨56, _⟩ => ⟨S4x1024x256, .f32⟩
  | .hbm, ⟨57, _⟩ => ⟨S_, .f32⟩
  | .hbm, ⟨58, _⟩ => ⟨S4x1024x256, .f32⟩
  | .hbm, ⟨59, _⟩ => ⟨S4x1024x256, .f32⟩
  | .hbm, ⟨60, _⟩ => ⟨S4x1024x256, .i1⟩
  | .hbm, ⟨61, _⟩ => ⟨S4x1024x256, .f32⟩
  | .hbm, ⟨62, _⟩ => ⟨S4x1024x256, .i1⟩
  | .hbm, ⟨63, _⟩ => ⟨S4x1024x256, .f32⟩
  | .hbm, ⟨64, _⟩ => ⟨S4x1024x256, .i1⟩
  | .hbm, ⟨65, _⟩ => ⟨S4x1024x256, .f32⟩
  | .hbm, ⟨66, _⟩ => ⟨S4x1024x256, .i1⟩
  | .hbm, ⟨67, _⟩ => ⟨S4x1024x256, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_0 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_call1_v0 : Ref sig .tc := ⟨.hbm, 60, rfl⟩
abbrev main_v39 : Ref sig .tc := ⟨.hbm, 61, rfl⟩
abbrev main_call2_v0 : Ref sig .tc := ⟨.hbm, 62, rfl⟩
abbrev main_v40 : Ref sig .tc := ⟨.hbm, 63, rfl⟩
abbrev main_call3_v0 : Ref sig .tc := ⟨.hbm, 64, rfl⟩
abbrev main_v41 : Ref sig .tc := ⟨.hbm, 65, rfl⟩
abbrev main_call4_v0 : Ref sig .tc := ⟨.hbm, 66, rfl⟩
abbrev main_v42 : Ref sig .tc := ⟨.hbm, 67, rfl⟩

abbrev nD : Nat := 1
abbrev τ : Topo := Topo.v7x

variable {F : FTy → Type} [FloatOps F]
-- ==== Kernel26.lean ====
abbrev S1 : Shape := ⟨1, ![1]⟩
abbrev S2x2048x1152 : Shape := ⟨3, ![2, 2048, 1152]⟩
abbrev S2048x1152 : Shape := ⟨2, ![2048, 1152]⟩
abbrev S4x2048x1152 : Shape := ⟨3, ![4, 2048, 1152]⟩
abbrev S1x128x1152 : Shape := ⟨3, ![1, 128, 1152]⟩
abbrev S128x1152 : Shape := ⟨2, ![128, 1152]⟩

abbrev nBuf : Space → Nat
  | .hbm => 13
  | .vmem => 18
  | .smem => 1
  | _ => 0

abbrev bufTy : (tb : Table) → Fin (tcTables nBuf tb) → BufTy
  | .hbm, ⟨0, _⟩ => ⟨S2x2048x1152, .bf16⟩
  | .hbm, ⟨1, _⟩ => ⟨S2048x1152, .bf16⟩
  | .hbm, ⟨2, _⟩ => ⟨S4x2048x1152, .f32⟩
  | .hbm, ⟨3, _⟩ => ⟨S4x2048x1152, .f32⟩
  | .hbm, ⟨4, _⟩ => ⟨S4x2048x1152, .f32⟩
  | .hbm, ⟨5, _⟩ => ⟨S4x2048x1152, .f32⟩
  | .hbm, ⟨6, _⟩ => ⟨S4x2048x1152, .f32⟩
  | .hbm, ⟨7, _⟩ => ⟨S4x2048x1152, .f32⟩
  | .hbm, ⟨8, _⟩ => ⟨S4x2048x1152, .f32⟩
  | .hbm, ⟨9, _⟩ => ⟨S4x2048x1152, .f32⟩
  | .hbm, ⟨10, _⟩ => ⟨S4x2048x1152, .f32⟩
  | .hbm, ⟨11, _⟩ => ⟨S4x2048x1152, .f32⟩
  | .hbm, ⟨12, _⟩ => ⟨S4x2048x1152, .f32⟩
  | .local _ .vmem, ⟨0, _⟩ => ⟨S1x128x1152, .bf16⟩
  | .local _ .vmem, ⟨1, _⟩ => ⟨S1x128x1152, .bf16⟩
  | .local _ .vmem, ⟨2, _⟩ => ⟨S128x1152, .bf16⟩
  | .local _ .vmem, ⟨3, _⟩ => ⟨S128x1152, .bf16⟩
  | .local _ .vmem, ⟨4, _⟩ => ⟨S1x128x1152, .f32⟩
  | .local _ .vmem, ⟨5, _⟩ => ⟨S1x128x1152, .f32⟩
  | .local _ .vmem, ⟨6, _⟩ => ⟨S1x128x1152, .f32⟩
  | .local _ .vmem, ⟨7, _⟩ => ⟨S1x128x1152, .f32⟩
  | .local _ .vmem, ⟨8, _⟩ => ⟨S1x128x1152, .f32⟩
  | .local _ .vmem, ⟨9, _⟩ => ⟨S1x128x1152, .f32⟩
  | .local _ .vmem, ⟨10, _⟩ => ⟨S1x128x1152, .f32⟩
  | .local _ .vmem, ⟨11, _⟩ => ⟨S1x128x1152, .f32⟩
  | .local _ .vmem, ⟨12, _⟩ => ⟨S1x128x1152, .f32⟩
  | .local _ .vmem, ⟨13, _⟩ => ⟨S1x128x1152, .f32⟩
  | .local _ .vmem, ⟨14, _⟩ => ⟨S1x128x1152, .f32⟩
  | .local _ .vmem, ⟨15, _⟩ => ⟨S1x128x1152, .f32⟩
  | .local _ .vmem, ⟨16, _⟩ => ⟨S1x128x1152, .f32⟩
  | .local _ .vmem, ⟨17, _⟩ => ⟨S1x128x1152, .f32⟩
  | .local _ .smem, ⟨0, _⟩ => ⟨S1, .i32⟩
  | _, _ => ⟨S2x2048x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_12 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S1x128x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1152 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel26Ideal.lean ====
abbrev S1 : Shape := ⟨1, ![1]⟩
abbrev S2x2048x1152 : Shape := ⟨3, ![2, 2048, 1152]⟩
abbrev S2048x1152 : Shape := ⟨2, ![2048, 1152]⟩
abbrev S4x2048x1152 : Shape := ⟨3, ![4, 2048, 1152]⟩
abbrev S1x128x1152 : Shape := ⟨3, ![1, 128, 1152]⟩
abbrev S128x1152 : Shape := ⟨2, ![128, 1152]⟩

abbrev nBuf : Space → Nat
  | .hbm => 13
  | .vmem => 18
  | .smem => 1
  | _ => 0

abbrev bufTy : (tb : Table) → Fin (tcTables nBuf tb) → BufTy
  | .hbm, ⟨0, _⟩ => ⟨S2x2048x1152, .bf16⟩
  | .hbm, ⟨1, _⟩ => ⟨S2048x1152, .bf16⟩
  | .hbm, ⟨2, _⟩ => ⟨S4x2048x1152, .f32⟩
  | .hbm, ⟨3, _⟩ => ⟨S4x2048x1152, .f32⟩
  | .hbm, ⟨4, _⟩ => ⟨S4x2048x1152, .f32⟩
  | .hbm, ⟨5, _⟩ => ⟨S4x2048x1152, .f32⟩
  | .hbm, ⟨6, _⟩ => ⟨S4x2048x1152, .f32⟩
  | .hbm, ⟨7, _⟩ => ⟨S4x2048x1152, .f32⟩
  | .hbm, ⟨8, _⟩ => ⟨S4x2048x1152, .f32⟩
  | .hbm, ⟨9, _⟩ => ⟨S4x2048x1152, .f32⟩
  | .hbm, ⟨10, _⟩ => ⟨S4x2048x1152, .f32⟩
  | .hbm, ⟨11, _⟩ => ⟨S4x2048x1152, .f32⟩
  | .hbm, ⟨12, _⟩ => ⟨S4x2048x1152, .f32⟩
  | .local _ .vmem, ⟨0, _⟩ => ⟨S1x128x1152, .bf16⟩
  | .local _ .vmem, ⟨1, _⟩ => ⟨S1x128x1152, .bf16⟩
  | .local _ .vmem, ⟨2, _⟩ => ⟨S128x1152, .bf16⟩
  | .local _ .vmem, ⟨3, _⟩ => ⟨S128x1152, .bf16⟩
  | .local _ .vmem, ⟨4, _⟩ => ⟨S1x128x1152, .f32⟩
  | .local _ .vmem, ⟨5, _⟩ => ⟨S1x128x1152, .f32⟩
  | .local _ .vmem, ⟨6, _⟩ => ⟨S1x128x1152, .f32⟩
  | .local _ .vmem, ⟨7, _⟩ => ⟨S1x128x1152, .f32⟩
  | .local _ .vmem, ⟨8, _⟩ => ⟨S1x128x1152, .f32⟩
  | .local _ .vmem, ⟨9, _⟩ => ⟨S1x128x1152, .f32⟩
  | .local _ .vmem, ⟨10, _⟩ => ⟨S1x128x1152, .f32⟩
  | .local _ .vmem, ⟨11, _⟩ => ⟨S1x128x1152, .f32⟩
  | .local _ .vmem, ⟨12, _⟩ => ⟨S1x128x1152, .f32⟩
  | .local _ .vmem, ⟨13, _⟩ => ⟨S1x128x1152, .f32⟩
  | .local _ .vmem, ⟨14, _⟩ => ⟨S1x128x1152, .f32⟩
  | .local _ .vmem, ⟨15, _⟩ => ⟨S1x128x1152, .f32⟩
  | .local _ .vmem, ⟨16, _⟩ => ⟨S1x128x1152, .f32⟩
  | .local _ .vmem, ⟨17, _⟩ => ⟨S1x128x1152, .f32⟩
  | .local _ .smem, ⟨0, _⟩ => ⟨S1, .i32⟩
  | _, _ => ⟨S2x2048x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_12 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S1x128x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1152 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference26Ideal.lean ====
abbrev S1 : Shape := ⟨1, ![1]⟩
abbrev S2x2048x1152 : Shape := ⟨3, ![2, 2048, 1152]⟩
abbrev S2048x1152 : Shape := ⟨2, ![2048, 1152]⟩
abbrev S4x2048x1152 : Shape := ⟨3, ![4, 2048, 1152]⟩
abbrev S_ : Shape := ⟨0, ![]⟩
abbrev S1x2048x1152 : Shape := ⟨3, ![1, 2048, 1152]⟩
abbrev S4 : Shape := ⟨1, ![4]⟩
abbrev S4x1x1 : Shape := ⟨3, ![4, 1, 1]⟩

abbrev nBuf : Space → Nat
  | .hbm => 68
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x2048x1152, .bf16⟩
  | .hbm, ⟨2, _⟩ => ⟨S2048x1152, .bf16⟩
  | .hbm, ⟨3, _⟩ => ⟨S4x2048x1152, .f32⟩
  | .hbm, ⟨4, _⟩ => ⟨S4x2048x1152, .f32⟩
  | .hbm, ⟨5, _⟩ => ⟨S4x2048x1152, .f32⟩
  | .hbm, ⟨6, _⟩ => ⟨S4x2048x1152, .f32⟩
  | .hbm, ⟨7, _⟩ => ⟨S4x2048x1152, .f32⟩
  | .hbm, ⟨8, _⟩ => ⟨S4x2048x1152, .f32⟩
  | .hbm, ⟨9, _⟩ => ⟨S4x2048x1152, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1x2048x1152, .bf16⟩
  | .hbm, ⟨14, _⟩ => ⟨S2048x1152, .bf16⟩
  | .hbm, ⟨15, _⟩ => ⟨S1x2048x1152, .bf16⟩
  | .hbm, ⟨16, _⟩ => ⟨S2048x1152, .bf16⟩
  | .hbm, ⟨17, _⟩ => ⟨S2048x1152, .bf16⟩
  | .hbm, ⟨18, _⟩ => ⟨S2048x1152, .f32⟩
  | .hbm, ⟨19, _⟩ => ⟨S2048x1152, .f32⟩
  | .hbm, ⟨20, _⟩ => ⟨S2048x1152, .f32⟩
  | .hbm, ⟨21, _⟩ => ⟨S4x2048x1152, .f32⟩
  | .hbm, ⟨22, _⟩ => ⟨S4, .i32⟩
  | .hbm, ⟨23, _⟩ => ⟨S4x1x1, .i32⟩
  | .hbm, ⟨24, _⟩ => ⟨S_, .i32⟩
  | .hbm, ⟨25, _⟩ => ⟨S4x1x1, .i32⟩
  | .hbm, ⟨26, _⟩ => ⟨S4x1x1, .i1⟩
  | .hbm, ⟨27, _⟩ => ⟨S_, .f32⟩
  | .hbm, ⟨28, _⟩ => ⟨S4x2048x1152, .f32⟩
  | .hbm, ⟨29, _⟩ => ⟨S4x2048x1152, .f32⟩
  | .hbm, ⟨30, _⟩ => ⟨S_, .f32⟩
  | .hbm, ⟨31, _⟩ => ⟨S4x2048x1152, .f32⟩
  | .hbm, ⟨32, _⟩ => ⟨S4x2048x1152, .f32⟩
  | .hbm, ⟨33, _⟩ => ⟨S4x2048x1152, .f32⟩
  | .hbm, ⟨34, _⟩ => ⟨S_, .f32⟩
  | .hbm, ⟨35, _⟩ => ⟨S4x2048x1152, .f32⟩
  | .hbm, ⟨36, _⟩ => ⟨S4x2048x1152, .f32⟩
  | .hbm, ⟨37, _⟩ => ⟨S4x2048x1152, .f32⟩
  | .hbm, ⟨38, _⟩ => ⟨S_, .f32⟩
  | .hbm, ⟨39, _⟩ => ⟨S4x2048x1152, .f32⟩
  | .hbm, ⟨40, _⟩ => ⟨S4x2048x1152, .f32⟩
  | .hbm, ⟨41, _⟩ => ⟨S4x2048x1152, .f32⟩
  | .hbm, ⟨42, _⟩ => ⟨S_, .f32⟩
  | .hbm, ⟨43, _⟩ => ⟨S4x2048x1152, .f32⟩
  | .hbm, ⟨44, _⟩ => ⟨S4x2048x1152, .f32⟩
  | .hbm, ⟨45, _⟩ => ⟨S_, .f32⟩
  | .hbm, ⟨46, _⟩ => ⟨S4x2048x1152, .f32⟩
  | .hbm, ⟨47, _⟩ => ⟨S4x2048x1152, .f32⟩
  | .hbm, ⟨48, _⟩ => ⟨S4x2048x1152, .f32⟩
  | .hbm, ⟨49, _⟩ => ⟨S_, .f32⟩
  | .hbm, ⟨50, _⟩ => ⟨S4x2048x1152, .f32⟩
  | .hbm, ⟨51, _⟩ => ⟨S4x2048x1152, .f32⟩
  | .hbm, ⟨52, _⟩ => ⟨S4x2048x1152, .f32⟩
  | .hbm, ⟨53, _⟩ => ⟨S_, .f32⟩
  | .hbm, ⟨54, _⟩ => ⟨S4x2048x1152, .f32⟩
  | .hbm, ⟨55, _⟩ => ⟨S4x2048x1152, .f32⟩
  | .hbm, ⟨56, _⟩ => ⟨S4x2048x1152, .f32⟩
  | .hbm, ⟨57, _⟩ => ⟨S_, .f32⟩
  | .hbm, ⟨58, _⟩ => ⟨S4x2048x1152, .f32⟩
  | .hbm, ⟨59, _⟩ => ⟨S4x2048x1152, .f32⟩
  | .hbm, ⟨60, _⟩ => ⟨S4x2048x1152, .i1⟩
  | .hbm, ⟨61, _⟩ => ⟨S4x2048x1152, .f32⟩
  | .hbm, ⟨62, _⟩ => ⟨S4x2048x1152, .i1⟩
  | .hbm, ⟨63, _⟩ => ⟨S4x2048x1152, .f32⟩
  | .hbm, ⟨64, _⟩ => ⟨S4x2048x1152, .i1⟩
  | .hbm, ⟨65, _⟩ => ⟨S4x2048x1152, .f32⟩
  | .hbm, ⟨66, _⟩ => ⟨S4x2048x1152, .i1⟩
  | .hbm, ⟨67, _⟩ => ⟨S4x2048x1152, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_0 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_call1_v0 : Ref sig .tc := ⟨.hbm, 60, rfl⟩
abbrev main_v39 : Ref sig .tc := ⟨.hbm, 61, rfl⟩
abbrev main_call2_v0 : Ref sig .tc := ⟨.hbm, 62, rfl⟩
abbrev main_v40 : Ref sig .tc := ⟨.hbm, 63, rfl⟩
abbrev main_call3_v0 : Ref sig .tc := ⟨.hbm, 64, rfl⟩
abbrev main_v41 : Ref sig .tc := ⟨.hbm, 65, rfl⟩
abbrev main_call4_v0 : Ref sig .tc := ⟨.hbm, 66, rfl⟩
abbrev main_v42 : Ref sig .tc := ⟨.hbm, 67, rfl⟩

abbrev nD : Nat := 1
abbrev τ : Topo := Topo.v7x

variable {F : FTy → Type} [FloatOps F]
-- ==== Kernel27.lean ====
abbrev S1 : Shape := ⟨1, ![1]⟩
abbrev S2x2048x1152 : Shape := ⟨3, ![2, 2048, 1152]⟩
abbrev S2048x1152 : Shape := ⟨2, ![2048, 1152]⟩
abbrev S4x2048x1152 : Shape := ⟨3, ![4, 2048, 1152]⟩
abbrev S1x128x1152 : Shape := ⟨3, ![1, 128, 1152]⟩
abbrev S128x1152 : Shape := ⟨2, ![128, 1152]⟩

abbrev nBuf : Space → Nat
  | .hbm => 13
  | .vmem => 18
  | .smem => 1
  | _ => 0

abbrev bufTy : (tb : Table) → Fin (tcTables nBuf tb) → BufTy
  | .hbm, ⟨0, _⟩ => ⟨S2x2048x1152, .bf16⟩
  | .hbm, ⟨1, _⟩ => ⟨S2048x1152, .bf16⟩
  | .hbm, ⟨2, _⟩ => ⟨S4x2048x1152, .f32⟩
  | .hbm, ⟨3, _⟩ => ⟨S4x2048x1152, .f32⟩
  | .hbm, ⟨4, _⟩ => ⟨S4x2048x1152, .f32⟩
  | .hbm, ⟨5, _⟩ => ⟨S4x2048x1152, .f32⟩
  | .hbm, ⟨6, _⟩ => ⟨S4x2048x1152, .f32⟩
  | .hbm, ⟨7, _⟩ => ⟨S4x2048x1152, .f32⟩
  | .hbm, ⟨8, _⟩ => ⟨S4x2048x1152, .f32⟩
  | .hbm, ⟨9, _⟩ => ⟨S4x2048x1152, .f32⟩
  | .hbm, ⟨10, _⟩ => ⟨S4x2048x1152, .f32⟩
  | .hbm, ⟨11, _⟩ => ⟨S4x2048x1152, .f32⟩
  | .hbm, ⟨12, _⟩ => ⟨S4x2048x1152, .f32⟩
  | .local _ .vmem, ⟨0, _⟩ => ⟨S1x128x1152, .bf16⟩
  | .local _ .vmem, ⟨1, _⟩ => ⟨S1x128x1152, .bf16⟩
  | .local _ .vmem, ⟨2, _⟩ => ⟨S128x1152, .bf16⟩
  | .local _ .vmem, ⟨3, _⟩ => ⟨S128x1152, .bf16⟩
  | .local _ .vmem, ⟨4, _⟩ => ⟨S1x128x1152, .f32⟩
  | .local _ .vmem, ⟨5, _⟩ => ⟨S1x128x1152, .f32⟩
  | .local _ .vmem, ⟨6, _⟩ => ⟨S1x128x1152, .f32⟩
  | .local _ .vmem, ⟨7, _⟩ => ⟨S1x128x1152, .f32⟩
  | .local _ .vmem, ⟨8, _⟩ => ⟨S1x128x1152, .f32⟩
  | .local _ .vmem, ⟨9, _⟩ => ⟨S1x128x1152, .f32⟩
  | .local _ .vmem, ⟨10, _⟩ => ⟨S1x128x1152, .f32⟩
  | .local _ .vmem, ⟨11, _⟩ => ⟨S1x128x1152, .f32⟩
  | .local _ .vmem, ⟨12, _⟩ => ⟨S1x128x1152, .f32⟩
  | .local _ .vmem, ⟨13, _⟩ => ⟨S1x128x1152, .f32⟩
  | .local _ .vmem, ⟨14, _⟩ => ⟨S1x128x1152, .f32⟩
  | .local _ .vmem, ⟨15, _⟩ => ⟨S1x128x1152, .f32⟩
  | .local _ .vmem, ⟨16, _⟩ => ⟨S1x128x1152, .f32⟩
  | .local _ .vmem, ⟨17, _⟩ => ⟨S1x128x1152, .f32⟩
  | .local _ .smem, ⟨0, _⟩ => ⟨S1, .i32⟩
  | _, _ => ⟨S2x2048x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_10 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_12 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage0_0 : Fin 2 → Memref sig .tc .vmem S1x128x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1152 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel27Ideal.lean ====
abbrev S1 : Shape := ⟨1, ![1]⟩
abbrev S2x2048x1152 : Shape := ⟨3, ![2, 2048, 1152]⟩
abbrev S2048x1152 : Shape := ⟨2, ![2048, 1152]⟩
abbrev S4x2048x1152 : Shape := ⟨3, ![4, 2048, 1152]⟩
abbrev S1x128x1152 : Shape := ⟨3, ![1, 128, 1152]⟩
abbrev S128x1152 : Shape := ⟨2, ![128, 1152]⟩

abbrev nBuf : Space → Nat
  | .hbm => 13
  | .vmem => 18
  | .smem => 1
  | _ => 0

abbrev bufTy : (tb : Table) → Fin (tcTables nBuf tb) → BufTy
  | .hbm, ⟨0, _⟩ => ⟨S2x2048x1152, .bf16⟩
  | .hbm, ⟨1, _⟩ => ⟨S2048x1152, .bf16⟩
  | .hbm, ⟨2, _⟩ => ⟨S4x2048x1152, .f32⟩
  | .hbm, ⟨3, _⟩ => ⟨S4x2048x1152, .f32⟩
  | .hbm, ⟨4, _⟩ => ⟨S4x2048x1152, .f32⟩
  | .hbm, ⟨5, _⟩ => ⟨S4x2048x1152, .f32⟩
  | .hbm, ⟨6, _⟩ => ⟨S4x2048x1152, .f32⟩
  | .hbm, ⟨7, _⟩ => ⟨S4x2048x1152, .f32⟩
  | .hbm, ⟨8, _⟩ => ⟨S4x2048x1152, .f32⟩
  | .hbm, ⟨9, _⟩ => ⟨S4x2048x1152, .f32⟩
  | .hbm, ⟨10, _⟩ => ⟨S4x2048x1152, .f32⟩
  | .hbm, ⟨11, _⟩ => ⟨S4x2048x1152, .f32⟩
  | .hbm, ⟨12, _⟩ => ⟨S4x2048x1152, .f32⟩
  | .local _ .vmem, ⟨0, _⟩ => ⟨S1x128x1152, .bf16⟩
  | .local _ .vmem, ⟨1, _⟩ => ⟨S1x128x1152, .bf16⟩
  | .local _ .vmem, ⟨2, _⟩ => ⟨S128x1152, .bf16⟩
  | .local _ .vmem, ⟨3, _⟩ => ⟨S128x1152, .bf16⟩
  | .local _ .vmem, ⟨4, _⟩ => ⟨S1x128x1152, .f32⟩
  | .local _ .vmem, ⟨5, _⟩ => ⟨S1x128x1152, .f32⟩
  | .local _ .vmem, ⟨6, _⟩ => ⟨S1x128x1152, .f32⟩
  | .local _ .vmem, ⟨7, _⟩ => ⟨S1x128x1152, .f32⟩
  | .local _ .vmem, ⟨8, _⟩ => ⟨S1x128x1152, .f32⟩
  | .local _ .vmem, ⟨9, _⟩ => ⟨S1x128x1152, .f32⟩
  | .local _ .vmem, ⟨10, _⟩ => ⟨S1x128x1152, .f32⟩
  | .local _ .vmem, ⟨11, _⟩ => ⟨S1x128x1152, .f32⟩
  | .local _ .vmem, ⟨12, _⟩ => ⟨S1x128x1152, .f32⟩
  | .local _ .vmem, ⟨13, _⟩ => ⟨S1x128x1152, .f32⟩
  | .local _ .vmem, ⟨14, _⟩ => ⟨S1x128x1152, .f32⟩
  | .local _ .vmem, ⟨15, _⟩ => ⟨S1x128x1152, .f32⟩
  | .local _ .vmem, ⟨16, _⟩ => ⟨S1x128x1152, .f32⟩
  | .local _ .vmem, ⟨17, _⟩ => ⟨S1x128x1152, .f32⟩
  | .local _ .smem, ⟨0, _⟩ => ⟨S1, .i32⟩
  | _, _ => ⟨S2x2048x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_10 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_12 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage0_0 : Fin 2 → Memref sig .tc .vmem S1x128x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1152 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference27Ideal.lean ====
abbrev S1 : Shape := ⟨1, ![1]⟩
abbrev S2x2048x1152 : Shape := ⟨3, ![2, 2048, 1152]⟩
abbrev S2048x1152 : Shape := ⟨2, ![2048, 1152]⟩
abbrev S4x2048x1152 : Shape := ⟨3, ![4, 2048, 1152]⟩
abbrev S_ : Shape := ⟨0, ![]⟩
abbrev S1x2048x1152 : Shape := ⟨3, ![1, 2048, 1152]⟩
abbrev S4 : Shape := ⟨1, ![4]⟩
abbrev S4x1x1 : Shape := ⟨3, ![4, 1, 1]⟩

abbrev nBuf : Space → Nat
  | .hbm => 68
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x2048x1152, .bf16⟩
  | .hbm, ⟨2, _⟩ => ⟨S2048x1152, .bf16⟩
  | .hbm, ⟨3, _⟩ => ⟨S4x2048x1152, .f32⟩
  | .hbm, ⟨4, _⟩ => ⟨S4x2048x1152, .f32⟩
  | .hbm, ⟨5, _⟩ => ⟨S4x2048x1152, .f32⟩
  | .hbm, ⟨6, _⟩ => ⟨S4x2048x1152, .f32⟩
  | .hbm, ⟨7, _⟩ => ⟨S4x2048x1152, .f32⟩
  | .hbm, ⟨8, _⟩ => ⟨S4x2048x1152, .f32⟩
  | .hbm, ⟨9, _⟩ => ⟨S4x2048x1152, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1x2048x1152, .bf16⟩
  | .hbm, ⟨14, _⟩ => ⟨S2048x1152, .bf16⟩
  | .hbm, ⟨15, _⟩ => ⟨S1x2048x1152, .bf16⟩
  | .hbm, ⟨16, _⟩ => ⟨S2048x1152, .bf16⟩
  | .hbm, ⟨17, _⟩ => ⟨S2048x1152, .bf16⟩
  | .hbm, ⟨18, _⟩ => ⟨S2048x1152, .f32⟩
  | .hbm, ⟨19, _⟩ => ⟨S2048x1152, .f32⟩
  | .hbm, ⟨20, _⟩ => ⟨S2048x1152, .f32⟩
  | .hbm, ⟨21, _⟩ => ⟨S4x2048x1152, .f32⟩
  | .hbm, ⟨22, _⟩ => ⟨S4, .i32⟩
  | .hbm, ⟨23, _⟩ => ⟨S4x1x1, .i32⟩
  | .hbm, ⟨24, _⟩ => ⟨S_, .i32⟩
  | .hbm, ⟨25, _⟩ => ⟨S4x1x1, .i32⟩
  | .hbm, ⟨26, _⟩ => ⟨S4x1x1, .i1⟩
  | .hbm, ⟨27, _⟩ => ⟨S_, .f32⟩
  | .hbm, ⟨28, _⟩ => ⟨S4x2048x1152, .f32⟩
  | .hbm, ⟨29, _⟩ => ⟨S4x2048x1152, .f32⟩
  | .hbm, ⟨30, _⟩ => ⟨S_, .f32⟩
  | .hbm, ⟨31, _⟩ => ⟨S4x2048x1152, .f32⟩
  | .hbm, ⟨32, _⟩ => ⟨S4x2048x1152, .f32⟩
  | .hbm, ⟨33, _⟩ => ⟨S4x2048x1152, .f32⟩
  | .hbm, ⟨34, _⟩ => ⟨S_, .f32⟩
  | .hbm, ⟨35, _⟩ => ⟨S4x2048x1152, .f32⟩
  | .hbm, ⟨36, _⟩ => ⟨S4x2048x1152, .f32⟩
  | .hbm, ⟨37, _⟩ => ⟨S4x2048x1152, .f32⟩
  | .hbm, ⟨38, _⟩ => ⟨S_, .f32⟩
  | .hbm, ⟨39, _⟩ => ⟨S4x2048x1152, .f32⟩
  | .hbm, ⟨40, _⟩ => ⟨S4x2048x1152, .f32⟩
  | .hbm, ⟨41, _⟩ => ⟨S4x2048x1152, .f32⟩
  | .hbm, ⟨42, _⟩ => ⟨S_, .f32⟩
  | .hbm, ⟨43, _⟩ => ⟨S4x2048x1152, .f32⟩
  | .hbm, ⟨44, _⟩ => ⟨S4x2048x1152, .f32⟩
  | .hbm, ⟨45, _⟩ => ⟨S_, .f32⟩
  | .hbm, ⟨46, _⟩ => ⟨S4x2048x1152, .f32⟩
  | .hbm, ⟨47, _⟩ => ⟨S4x2048x1152, .f32⟩
  | .hbm, ⟨48, _⟩ => ⟨S4x2048x1152, .f32⟩
  | .hbm, ⟨49, _⟩ => ⟨S_, .f32⟩
  | .hbm, ⟨50, _⟩ => ⟨S4x2048x1152, .f32⟩
  | .hbm, ⟨51, _⟩ => ⟨S4x2048x1152, .f32⟩
  | .hbm, ⟨52, _⟩ => ⟨S4x2048x1152, .f32⟩
  | .hbm, ⟨53, _⟩ => ⟨S_, .f32⟩
  | .hbm, ⟨54, _⟩ => ⟨S4x2048x1152, .f32⟩
  | .hbm, ⟨55, _⟩ => ⟨S4x2048x1152, .f32⟩
  | .hbm, ⟨56, _⟩ => ⟨S4x2048x1152, .f32⟩
  | .hbm, ⟨57, _⟩ => ⟨S_, .f32⟩
  | .hbm, ⟨58, _⟩ => ⟨S4x2048x1152, .f32⟩
  | .hbm, ⟨59, _⟩ => ⟨S4x2048x1152, .f32⟩
  | .hbm, ⟨60, _⟩ => ⟨S4x2048x1152, .i1⟩
  | .hbm, ⟨61, _⟩ => ⟨S4x2048x1152, .f32⟩
  | .hbm, ⟨62, _⟩ => ⟨S4x2048x1152, .i1⟩
  | .hbm, ⟨63, _⟩ => ⟨S4x2048x1152, .f32⟩
  | .hbm, ⟨64, _⟩ => ⟨S4x2048x1152, .i1⟩
  | .hbm, ⟨65, _⟩ => ⟨S4x2048x1152, .f32⟩
  | .hbm, ⟨66, _⟩ => ⟨S4x2048x1152, .i1⟩
  | .hbm, ⟨67, _⟩ => ⟨S4x2048x1152, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_0 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_call1_v0 : Ref sig .tc := ⟨.hbm, 60, rfl⟩
abbrev main_v39 : Ref sig .tc := ⟨.hbm, 61, rfl⟩
abbrev main_call2_v0 : Ref sig .tc := ⟨.hbm, 62, rfl⟩
abbrev main_v40 : Ref sig .tc := ⟨.hbm, 63, rfl⟩
abbrev main_call3_v0 : Ref sig .tc := ⟨.hbm, 64, rfl⟩
abbrev main_v41 : Ref sig .tc := ⟨.hbm, 65, rfl⟩
abbrev main_call4_v0 : Ref sig .tc := ⟨.hbm, 66, rfl⟩
abbrev main_v42 : Ref sig .tc := ⟨.hbm, 67, rfl⟩

abbrev nD : Nat := 1
abbrev τ : Topo := Topo.v7x

variable {F : FTy → Type} [FloatOps F]
-- ==== Kernel28.lean ====
abbrev S1 : Shape := ⟨1, ![1]⟩
abbrev S2x2048x1152 : Shape := ⟨3, ![2, 2048, 1152]⟩
abbrev S2048x1152 : Shape := ⟨2, ![2048, 1152]⟩
abbrev S4x2048x1152 : Shape := ⟨3, ![4, 2048, 1152]⟩
abbrev S1x128x1152 : Shape := ⟨3, ![1, 128, 1152]⟩
abbrev S128x1152 : Shape := ⟨2, ![128, 1152]⟩

abbrev nBuf : Space → Nat
  | .hbm => 13
  | .vmem => 18
  | .smem => 1
  | _ => 0

abbrev bufTy : (tb : Table) → Fin (tcTables nBuf tb) → BufTy
  | .hbm, ⟨0, _⟩ => ⟨S2x2048x1152, .bf16⟩
  | .hbm, ⟨1, _⟩ => ⟨S2048x1152, .bf16⟩
  | .hbm, ⟨2, _⟩ => ⟨S4x2048x1152, .f32⟩
  | .hbm, ⟨3, _⟩ => ⟨S4x2048x1152, .f32⟩
  | .hbm, ⟨4, _⟩ => ⟨S4x2048x1152, .f32⟩
  | .hbm, ⟨5, _⟩ => ⟨S4x2048x1152, .f32⟩
  | .hbm, ⟨6, _⟩ => ⟨S4x2048x1152, .f32⟩
  | .hbm, ⟨7, _⟩ => ⟨S4x2048x1152, .f32⟩
  | .hbm, ⟨8, _⟩ => ⟨S4x2048x1152, .f32⟩
  | .hbm, ⟨9, _⟩ => ⟨S4x2048x1152, .f32⟩
  | .hbm, ⟨10, _⟩ => ⟨S4x2048x1152, .f32⟩
  | .hbm, ⟨11, _⟩ => ⟨S4x2048x1152, .f32⟩
  | .hbm, ⟨12, _⟩ => ⟨S4x2048x1152, .f32⟩
  | .local _ .vmem, ⟨0, _⟩ => ⟨S1x128x1152, .bf16⟩
  | .local _ .vmem, ⟨1, _⟩ => ⟨S1x128x1152, .bf16⟩
  | .local _ .vmem, ⟨2, _⟩ => ⟨S128x1152, .bf16⟩
  | .local _ .vmem, ⟨3, _⟩ => ⟨S128x1152, .bf16⟩
  | .local _ .vmem, ⟨4, _⟩ => ⟨S1x128x1152, .f32⟩
  | .local _ .vmem, ⟨5, _⟩ => ⟨S1x128x1152, .f32⟩
  | .local _ .vmem, ⟨6, _⟩ => ⟨S1x128x1152, .f32⟩
  | .local _ .vmem, ⟨7, _⟩ => ⟨S1x128x1152, .f32⟩
  | .local _ .vmem, ⟨8, _⟩ => ⟨S1x128x1152, .f32⟩
  | .local _ .vmem, ⟨9, _⟩ => ⟨S1x128x1152, .f32⟩
  | .local _ .vmem, ⟨10, _⟩ => ⟨S1x128x1152, .f32⟩
  | .local _ .vmem, ⟨11, _⟩ => ⟨S1x128x1152, .f32⟩
  | .local _ .vmem, ⟨12, _⟩ => ⟨S1x128x1152, .f32⟩
  | .local _ .vmem, ⟨13, _⟩ => ⟨S1x128x1152, .f32⟩
  | .local _ .vmem, ⟨14, _⟩ => ⟨S1x128x1152, .f32⟩
  | .local _ .vmem, ⟨15, _⟩ => ⟨S1x128x1152, .f32⟩
  | .local _ .vmem, ⟨16, _⟩ => ⟨S1x128x1152, .f32⟩
  | .local _ .vmem, ⟨17, _⟩ => ⟨S1x128x1152, .f32⟩
  | .local _ .smem, ⟨0, _⟩ => ⟨S1, .i32⟩
  | _, _ => ⟨S2x2048x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x128x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1152 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel28Ideal.lean ====
abbrev S1 : Shape := ⟨1, ![1]⟩
abbrev S2x2048x1152 : Shape := ⟨3, ![2, 2048, 1152]⟩
abbrev S2048x1152 : Shape := ⟨2, ![2048, 1152]⟩
abbrev S4x2048x1152 : Shape := ⟨3, ![4, 2048, 1152]⟩
abbrev S1x128x1152 : Shape := ⟨3, ![1, 128, 1152]⟩
abbrev S128x1152 : Shape := ⟨2, ![128, 1152]⟩

abbrev nBuf : Space → Nat
  | .hbm => 13
  | .vmem => 18
  | .smem => 1
  | _ => 0

abbrev bufTy : (tb : Table) → Fin (tcTables nBuf tb) → BufTy
  | .hbm, ⟨0, _⟩ => ⟨S2x2048x1152, .bf16⟩
  | .hbm, ⟨1, _⟩ => ⟨S2048x1152, .bf16⟩
  | .hbm, ⟨2, _⟩ => ⟨S4x2048x1152, .f32⟩
  | .hbm, ⟨3, _⟩ => ⟨S4x2048x1152, .f32⟩
  | .hbm, ⟨4, _⟩ => ⟨S4x2048x1152, .f32⟩
  | .hbm, ⟨5, _⟩ => ⟨S4x2048x1152, .f32⟩
  | .hbm, ⟨6, _⟩ => ⟨S4x2048x1152, .f32⟩
  | .hbm, ⟨7, _⟩ => ⟨S4x2048x1152, .f32⟩
  | .hbm, ⟨8, _⟩ => ⟨S4x2048x1152, .f32⟩
  | .hbm, ⟨9, _⟩ => ⟨S4x2048x1152, .f32⟩
  | .hbm, ⟨10, _⟩ => ⟨S4x2048x1152, .f32⟩
  | .hbm, ⟨11, _⟩ => ⟨S4x2048x1152, .f32⟩
  | .hbm, ⟨12, _⟩ => ⟨S4x2048x1152, .f32⟩
  | .local _ .vmem, ⟨0, _⟩ => ⟨S1x128x1152, .bf16⟩
  | .local _ .vmem, ⟨1, _⟩ => ⟨S1x128x1152, .bf16⟩
  | .local _ .vmem, ⟨2, _⟩ => ⟨S128x1152, .bf16⟩
  | .local _ .vmem, ⟨3, _⟩ => ⟨S128x1152, .bf16⟩
  | .local _ .vmem, ⟨4, _⟩ => ⟨S1x128x1152, .f32⟩
  | .local _ .vmem, ⟨5, _⟩ => ⟨S1x128x1152, .f32⟩
  | .local _ .vmem, ⟨6, _⟩ => ⟨S1x128x1152, .f32⟩
  | .local _ .vmem, ⟨7, _⟩ => ⟨S1x128x1152, .f32⟩
  | .local _ .vmem, ⟨8, _⟩ => ⟨S1x128x1152, .f32⟩
  | .local _ .vmem, ⟨9, _⟩ => ⟨S1x128x1152, .f32⟩
  | .local _ .vmem, ⟨10, _⟩ => ⟨S1x128x1152, .f32⟩
  | .local _ .vmem, ⟨11, _⟩ => ⟨S1x128x1152, .f32⟩
  | .local _ .vmem, ⟨12, _⟩ => ⟨S1x128x1152, .f32⟩
  | .local _ .vmem, ⟨13, _⟩ => ⟨S1x128x1152, .f32⟩
  | .local _ .vmem, ⟨14, _⟩ => ⟨S1x128x1152, .f32⟩
  | .local _ .vmem, ⟨15, _⟩ => ⟨S1x128x1152, .f32⟩
  | .local _ .vmem, ⟨16, _⟩ => ⟨S1x128x1152, .f32⟩
  | .local _ .vmem, ⟨17, _⟩ => ⟨S1x128x1152, .f32⟩
  | .local _ .smem, ⟨0, _⟩ => ⟨S1, .i32⟩
  | _, _ => ⟨S2x2048x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x128x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1152 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference28Ideal.lean ====
abbrev S1 : Shape := ⟨1, ![1]⟩
abbrev S2x2048x1152 : Shape := ⟨3, ![2, 2048, 1152]⟩
abbrev S2048x1152 : Shape := ⟨2, ![2048, 1152]⟩
abbrev S4x2048x1152 : Shape := ⟨3, ![4, 2048, 1152]⟩
abbrev S_ : Shape := ⟨0, ![]⟩
abbrev S1x2048x1152 : Shape := ⟨3, ![1, 2048, 1152]⟩
abbrev S4 : Shape := ⟨1, ![4]⟩
abbrev S4x1x1 : Shape := ⟨3, ![4, 1, 1]⟩

abbrev nBuf : Space → Nat
  | .hbm => 68
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x2048x1152, .bf16⟩
  | .hbm, ⟨2, _⟩ => ⟨S2048x1152, .bf16⟩
  | .hbm, ⟨3, _⟩ => ⟨S4x2048x1152, .f32⟩
  | .hbm, ⟨4, _⟩ => ⟨S4x2048x1152, .f32⟩
  | .hbm, ⟨5, _⟩ => ⟨S4x2048x1152, .f32⟩
  | .hbm, ⟨6, _⟩ => ⟨S4x2048x1152, .f32⟩
  | .hbm, ⟨7, _⟩ => ⟨S4x2048x1152, .f32⟩
  | .hbm, ⟨8, _⟩ => ⟨S4x2048x1152, .f32⟩
  | .hbm, ⟨9, _⟩ => ⟨S4x2048x1152, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1x2048x1152, .bf16⟩
  | .hbm, ⟨14, _⟩ => ⟨S2048x1152, .bf16⟩
  | .hbm, ⟨15, _⟩ => ⟨S1x2048x1152, .bf16⟩
  | .hbm, ⟨16, _⟩ => ⟨S2048x1152, .bf16⟩
  | .hbm, ⟨17, _⟩ => ⟨S2048x1152, .bf16⟩
  | .hbm, ⟨18, _⟩ => ⟨S2048x1152, .f32⟩
  | .hbm, ⟨19, _⟩ => ⟨S2048x1152, .f32⟩
  | .hbm, ⟨20, _⟩ => ⟨S2048x1152, .f32⟩
  | .hbm, ⟨21, _⟩ => ⟨S4x2048x1152, .f32⟩
  | .hbm, ⟨22, _⟩ => ⟨S4, .i32⟩
  | .hbm, ⟨23, _⟩ => ⟨S4x1x1, .i32⟩
  | .hbm, ⟨24, _⟩ => ⟨S_, .i32⟩
  | .hbm, ⟨25, _⟩ => ⟨S4x1x1, .i32⟩
  | .hbm, ⟨26, _⟩ => ⟨S4x1x1, .i1⟩
  | .hbm, ⟨27, _⟩ => ⟨S_, .f32⟩
  | .hbm, ⟨28, _⟩ => ⟨S4x2048x1152, .f32⟩
  | .hbm, ⟨29, _⟩ => ⟨S4x2048x1152, .f32⟩
  | .hbm, ⟨30, _⟩ => ⟨S_, .f32⟩
  | .hbm, ⟨31, _⟩ => ⟨S4x2048x1152, .f32⟩
  | .hbm, ⟨32, _⟩ => ⟨S4x2048x1152, .f32⟩
  | .hbm, ⟨33, _⟩ => ⟨S4x2048x1152, .f32⟩
  | .hbm, ⟨34, _⟩ => ⟨S_, .f32⟩
  | .hbm, ⟨35, _⟩ => ⟨S4x2048x1152, .f32⟩
  | .hbm, ⟨36, _⟩ => ⟨S4x2048x1152, .f32⟩
  | .hbm, ⟨37, _⟩ => ⟨S4x2048x1152, .f32⟩
  | .hbm, ⟨38, _⟩ => ⟨S_, .f32⟩
  | .hbm, ⟨39, _⟩ => ⟨S4x2048x1152, .f32⟩
  | .hbm, ⟨40, _⟩ => ⟨S4x2048x1152, .f32⟩
  | .hbm, ⟨41, _⟩ => ⟨S4x2048x1152, .f32⟩
  | .hbm, ⟨42, _⟩ => ⟨S_, .f32⟩
  | .hbm, ⟨43, _⟩ => ⟨S4x2048x1152, .f32⟩
  | .hbm, ⟨44, _⟩ => ⟨S4x2048x1152, .f32⟩
  | .hbm, ⟨45, _⟩ => ⟨S_, .f32⟩
  | .hbm, ⟨46, _⟩ => ⟨S4x2048x1152, .f32⟩
  | .hbm, ⟨47, _⟩ => ⟨S4x2048x1152, .f32⟩
  | .hbm, ⟨48, _⟩ => ⟨S4x2048x1152, .f32⟩
  | .hbm, ⟨49, _⟩ => ⟨S_, .f32⟩
  | .hbm, ⟨50, _⟩ => ⟨S4x2048x1152, .f32⟩
  | .hbm, ⟨51, _⟩ => ⟨S4x2048x1152, .f32⟩
  | .hbm, ⟨52, _⟩ => ⟨S4x2048x1152, .f32⟩
  | .hbm, ⟨53, _⟩ => ⟨S_, .f32⟩
  | .hbm, ⟨54, _⟩ => ⟨S4x2048x1152, .f32⟩
  | .hbm, ⟨55, _⟩ => ⟨S4x2048x1152, .f32⟩
  | .hbm, ⟨56, _⟩ => ⟨S4x2048x1152, .f32⟩
  | .hbm, ⟨57, _⟩ => ⟨S_, .f32⟩
  | .hbm, ⟨58, _⟩ => ⟨S4x2048x1152, .f32⟩
  | .hbm, ⟨59, _⟩ => ⟨S4x2048x1152, .f32⟩
  | .hbm, ⟨60, _⟩ => ⟨S4x2048x1152, .i1⟩
  | .hbm, ⟨61, _⟩ => ⟨S4x2048x1152, .f32⟩
  | .hbm, ⟨62, _⟩ => ⟨S4x2048x1152, .i1⟩
  | .hbm, ⟨63, _⟩ => ⟨S4x2048x1152, .f32⟩
  | .hbm, ⟨64, _⟩ => ⟨S4x2048x1152, .i1⟩
  | .hbm, ⟨65, _⟩ => ⟨S4x2048x1152, .f32⟩
  | .hbm, ⟨66, _⟩ => ⟨S4x2048x1152, .i1⟩
  | .hbm, ⟨67, _⟩ => ⟨S4x2048x1152, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_0 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_call1_v0 : Ref sig .tc := ⟨.hbm, 60, rfl⟩
abbrev main_v39 : Ref sig .tc := ⟨.hbm, 61, rfl⟩
abbrev main_call2_v0 : Ref sig .tc := ⟨.hbm, 62, rfl⟩
abbrev main_v40 : Ref sig .tc := ⟨.hbm, 63, rfl⟩
abbrev main_call3_v0 : Ref sig .tc := ⟨.hbm, 64, rfl⟩
abbrev main_v41 : Ref sig .tc := ⟨.hbm, 65, rfl⟩
abbrev main_call4_v0 : Ref sig .tc := ⟨.hbm, 66, rfl⟩
abbrev main_v42 : Ref sig .tc := ⟨.hbm, 67, rfl⟩

abbrev nD : Nat := 1
abbrev τ : Topo := Topo.v7x

variable {F : FTy → Type} [FloatOps F]
-- ==== Kernel29.lean ====
abbrev S1 : Shape := ⟨1, ![1]⟩
abbrev S2x2048x1152 : Shape := ⟨3, ![2, 2048, 1152]⟩
abbrev S2048x1152 : Shape := ⟨2, ![2048, 1152]⟩
abbrev S4x2048x1152 : Shape := ⟨3, ![4, 2048, 1152]⟩
abbrev S1x128x1152 : Shape := ⟨3, ![1, 128, 1152]⟩
abbrev S128x1152 : Shape := ⟨2, ![128, 1152]⟩

abbrev nBuf : Space → Nat
  | .hbm => 13
  | .vmem => 18
  | .smem => 1
  | _ => 0

abbrev bufTy : (tb : Table) → Fin (tcTables nBuf tb) → BufTy
  | .hbm, ⟨0, _⟩ => ⟨S2x2048x1152, .bf16⟩
  | .hbm, ⟨1, _⟩ => ⟨S2048x1152, .bf16⟩
  | .hbm, ⟨2, _⟩ => ⟨S4x2048x1152, .f32⟩
  | .hbm, ⟨3, _⟩ => ⟨S4x2048x1152, .f32⟩
  | .hbm, ⟨4, _⟩ => ⟨S4x2048x1152, .f32⟩
  | .hbm, ⟨5, _⟩ => ⟨S4x2048x1152, .f32⟩
  | .hbm, ⟨6, _⟩ => ⟨S4x2048x1152, .f32⟩
  | .hbm, ⟨7, _⟩ => ⟨S4x2048x1152, .f32⟩
  | .hbm, ⟨8, _⟩ => ⟨S4x2048x1152, .f32⟩
  | .hbm, ⟨9, _⟩ => ⟨S4x2048x1152, .f32⟩
  | .hbm, ⟨10, _⟩ => ⟨S4x2048x1152, .f32⟩
  | .hbm, ⟨11, _⟩ => ⟨S4x2048x1152, .f32⟩
  | .hbm, ⟨12, _⟩ => ⟨S4x2048x1152, .f32⟩
  | .local _ .vmem, ⟨0, _⟩ => ⟨S1x128x1152, .bf16⟩
  | .local _ .vmem, ⟨1, _⟩ => ⟨S1x128x1152, .bf16⟩
  | .local _ .vmem, ⟨2, _⟩ => ⟨S128x1152, .bf16⟩
  | .local _ .vmem, ⟨3, _⟩ => ⟨S128x1152, .bf16⟩
  | .local _ .vmem, ⟨4, _⟩ => ⟨S1x128x1152, .f32⟩
  | .local _ .vmem, ⟨5, _⟩ => ⟨S1x128x1152, .f32⟩
  | .local _ .vmem, ⟨6, _⟩ => ⟨S1x128x1152, .f32⟩
  | .local _ .vmem, ⟨7, _⟩ => ⟨S1x128x1152, .f32⟩
  | .local _ .vmem, ⟨8, _⟩ => ⟨S1x128x1152, .f32⟩
  | .local _ .vmem, ⟨9, _⟩ => ⟨S1x128x1152, .f32⟩
  | .local _ .vmem, ⟨10, _⟩ => ⟨S1x128x1152, .f32⟩
  | .local _ .vmem, ⟨11, _⟩ => ⟨S1x128x1152, .f32⟩
  | .local _ .vmem, ⟨12, _⟩ => ⟨S1x128x1152, .f32⟩
  | .local _ .vmem, ⟨13, _⟩ => ⟨S1x128x1152, .f32⟩
  | .local _ .vmem, ⟨14, _⟩ => ⟨S1x128x1152, .f32⟩
  | .local _ .vmem, ⟨15, _⟩ => ⟨S1x128x1152, .f32⟩
  | .local _ .vmem, ⟨16, _⟩ => ⟨S1x128x1152, .f32⟩
  | .local _ .vmem, ⟨17, _⟩ => ⟨S1x128x1152, .f32⟩
  | .local _ .smem, ⟨0, _⟩ => ⟨S1, .i32⟩
  | _, _ => ⟨S2x2048x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1152 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel29Ideal.lean ====
abbrev S1 : Shape := ⟨1, ![1]⟩
abbrev S2x2048x1152 : Shape := ⟨3, ![2, 2048, 1152]⟩
abbrev S2048x1152 : Shape := ⟨2, ![2048, 1152]⟩
abbrev S4x2048x1152 : Shape := ⟨3, ![4, 2048, 1152]⟩
abbrev S1x128x1152 : Shape := ⟨3, ![1, 128, 1152]⟩
abbrev S128x1152 : Shape := ⟨2, ![128, 1152]⟩

abbrev nBuf : Space → Nat
  | .hbm => 13
  | .vmem => 18
  | .smem => 1
  | _ => 0

abbrev bufTy : (tb : Table) → Fin (tcTables nBuf tb) → BufTy
  | .hbm, ⟨0, _⟩ => ⟨S2x2048x1152, .bf16⟩
  | .hbm, ⟨1, _⟩ => ⟨S2048x1152, .bf16⟩
  | .hbm, ⟨2, _⟩ => ⟨S4x2048x1152, .f32⟩
  | .hbm, ⟨3, _⟩ => ⟨S4x2048x1152, .f32⟩
  | .hbm, ⟨4, _⟩ => ⟨S4x2048x1152, .f32⟩
  | .hbm, ⟨5, _⟩ => ⟨S4x2048x1152, .f32⟩
  | .hbm, ⟨6, _⟩ => ⟨S4x2048x1152, .f32⟩
  | .hbm, ⟨7, _⟩ => ⟨S4x2048x1152, .f32⟩
  | .hbm, ⟨8, _⟩ => ⟨S4x2048x1152, .f32⟩
  | .hbm, ⟨9, _⟩ => ⟨S4x2048x1152, .f32⟩
  | .hbm, ⟨10, _⟩ => ⟨S4x2048x1152, .f32⟩
  | .hbm, ⟨11, _⟩ => ⟨S4x2048x1152, .f32⟩
  | .hbm, ⟨12, _⟩ => ⟨S4x2048x1152, .f32⟩
  | .local _ .vmem, ⟨0, _⟩ => ⟨S1x128x1152, .bf16⟩
  | .local _ .vmem, ⟨1, _⟩ => ⟨S1x128x1152, .bf16⟩
  | .local _ .vmem, ⟨2, _⟩ => ⟨S128x1152, .bf16⟩
  | .local _ .vmem, ⟨3, _⟩ => ⟨S128x1152, .bf16⟩
  | .local _ .vmem, ⟨4, _⟩ => ⟨S1x128x1152, .f32⟩
  | .local _ .vmem, ⟨5, _⟩ => ⟨S1x128x1152, .f32⟩
  | .local _ .vmem, ⟨6, _⟩ => ⟨S1x128x1152, .f32⟩
  | .local _ .vmem, ⟨7, _⟩ => ⟨S1x128x1152, .f32⟩
  | .local _ .vmem, ⟨8, _⟩ => ⟨S1x128x1152, .f32⟩
  | .local _ .vmem, ⟨9, _⟩ => ⟨S1x128x1152, .f32⟩
  | .local _ .vmem, ⟨10, _⟩ => ⟨S1x128x1152, .f32⟩
  | .local _ .vmem, ⟨11, _⟩ => ⟨S1x128x1152, .f32⟩
  | .local _ .vmem, ⟨12, _⟩ => ⟨S1x128x1152, .f32⟩
  | .local _ .vmem, ⟨13, _⟩ => ⟨S1x128x1152, .f32⟩
  | .local _ .vmem, ⟨14, _⟩ => ⟨S1x128x1152, .f32⟩
  | .local _ .vmem, ⟨15, _⟩ => ⟨S1x128x1152, .f32⟩
  | .local _ .vmem, ⟨16, _⟩ => ⟨S1x128x1152, .f32⟩
  | .local _ .vmem, ⟨17, _⟩ => ⟨S1x128x1152, .f32⟩
  | .local _ .smem, ⟨0, _⟩ => ⟨S1, .i32⟩
  | _, _ => ⟨S2x2048x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1152 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference29Ideal.lean ====
abbrev S1 : Shape := ⟨1, ![1]⟩
abbrev S2x2048x1152 : Shape := ⟨3, ![2, 2048, 1152]⟩
abbrev S2048x1152 : Shape := ⟨2, ![2048, 1152]⟩
abbrev S4x2048x1152 : Shape := ⟨3, ![4, 2048, 1152]⟩
abbrev S_ : Shape := ⟨0, ![]⟩
abbrev S1x2048x1152 : Shape := ⟨3, ![1, 2048, 1152]⟩
abbrev S4 : Shape := ⟨1, ![4]⟩
abbrev S4x1x1 : Shape := ⟨3, ![4, 1, 1]⟩

abbrev nBuf : Space → Nat
  | .hbm => 68
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x2048x1152, .bf16⟩
  | .hbm, ⟨2, _⟩ => ⟨S2048x1152, .bf16⟩
  | .hbm, ⟨3, _⟩ => ⟨S4x2048x1152, .f32⟩
  | .hbm, ⟨4, _⟩ => ⟨S4x2048x1152, .f32⟩
  | .hbm, ⟨5, _⟩ => ⟨S4x2048x1152, .f32⟩
  | .hbm, ⟨6, _⟩ => ⟨S4x2048x1152, .f32⟩
  | .hbm, ⟨7, _⟩ => ⟨S4x2048x1152, .f32⟩
  | .hbm, ⟨8, _⟩ => ⟨S4x2048x1152, .f32⟩
  | .hbm, ⟨9, _⟩ => ⟨S4x2048x1152, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1x2048x1152, .bf16⟩
  | .hbm, ⟨14, _⟩ => ⟨S2048x1152, .bf16⟩
  | .hbm, ⟨15, _⟩ => ⟨S1x2048x1152, .bf16⟩
  | .hbm, ⟨16, _⟩ => ⟨S2048x1152, .bf16⟩
  | .hbm, ⟨17, _⟩ => ⟨S2048x1152, .bf16⟩
  | .hbm, ⟨18, _⟩ => ⟨S2048x1152, .f32⟩
  | .hbm, ⟨19, _⟩ => ⟨S2048x1152, .f32⟩
  | .hbm, ⟨20, _⟩ => ⟨S2048x1152, .f32⟩
  | .hbm, ⟨21, _⟩ => ⟨S4x2048x1152, .f32⟩
  | .hbm, ⟨22, _⟩ => ⟨S4, .i32⟩
  | .hbm, ⟨23, _⟩ => ⟨S4x1x1, .i32⟩
  | .hbm, ⟨24, _⟩ => ⟨S_, .i32⟩
  | .hbm, ⟨25, _⟩ => ⟨S4x1x1, .i32⟩
  | .hbm, ⟨26, _⟩ => ⟨S4x1x1, .i1⟩
  | .hbm, ⟨27, _⟩ => ⟨S_, .f32⟩
  | .hbm, ⟨28, _⟩ => ⟨S4x2048x1152, .f32⟩
  | .hbm, ⟨29, _⟩ => ⟨S4x2048x1152, .f32⟩
  | .hbm, ⟨30, _⟩ => ⟨S_, .f32⟩
  | .hbm, ⟨31, _⟩ => ⟨S4x2048x1152, .f32⟩
  | .hbm, ⟨32, _⟩ => ⟨S4x2048x1152, .f32⟩
  | .hbm, ⟨33, _⟩ => ⟨S4x2048x1152, .f32⟩
  | .hbm, ⟨34, _⟩ => ⟨S_, .f32⟩
  | .hbm, ⟨35, _⟩ => ⟨S4x2048x1152, .f32⟩
  | .hbm, ⟨36, _⟩ => ⟨S4x2048x1152, .f32⟩
  | .hbm, ⟨37, _⟩ => ⟨S4x2048x1152, .f32⟩
  | .hbm, ⟨38, _⟩ => ⟨S_, .f32⟩
  | .hbm, ⟨39, _⟩ => ⟨S4x2048x1152, .f32⟩
  | .hbm, ⟨40, _⟩ => ⟨S4x2048x1152, .f32⟩
  | .hbm, ⟨41, _⟩ => ⟨S4x2048x1152, .f32⟩
  | .hbm, ⟨42, _⟩ => ⟨S_, .f32⟩
  | .hbm, ⟨43, _⟩ => ⟨S4x2048x1152, .f32⟩
  | .hbm, ⟨44, _⟩ => ⟨S4x2048x1152, .f32⟩
  | .hbm, ⟨45, _⟩ => ⟨S_, .f32⟩
  | .hbm, ⟨46, _⟩ => ⟨S4x2048x1152, .f32⟩
  | .hbm, ⟨47, _⟩ => ⟨S4x2048x1152, .f32⟩
  | .hbm, ⟨48, _⟩ => ⟨S4x2048x1152, .f32⟩
  | .hbm, ⟨49, _⟩ => ⟨S_, .f32⟩
  | .hbm, ⟨50, _⟩ => ⟨S4x2048x1152, .f32⟩
  | .hbm, ⟨51, _⟩ => ⟨S4x2048x1152, .f32⟩
  | .hbm, ⟨52, _⟩ => ⟨S4x2048x1152, .f32⟩
  | .hbm, ⟨53, _⟩ => ⟨S_, .f32⟩
  | .hbm, ⟨54, _⟩ => ⟨S4x2048x1152, .f32⟩
  | .hbm, ⟨55, _⟩ => ⟨S4x2048x1152, .f32⟩
  | .hbm, ⟨56, _⟩ => ⟨S4x2048x1152, .f32⟩
  | .hbm, ⟨57, _⟩ => ⟨S_, .f32⟩
  | .hbm, ⟨58, _⟩ => ⟨S4x2048x1152, .f32⟩
  | .hbm, ⟨59, _⟩ => ⟨S4x2048x1152, .f32⟩
  | .hbm, ⟨60, _⟩ => ⟨S4x2048x1152, .i1⟩
  | .hbm, ⟨61, _⟩ => ⟨S4x2048x1152, .f32⟩
  | .hbm, ⟨62, _⟩ => ⟨S4x2048x1152, .i1⟩
  | .hbm, ⟨63, _⟩ => ⟨S4x2048x1152, .f32⟩
  | .hbm, ⟨64, _⟩ => ⟨S4x2048x1152, .i1⟩
  | .hbm, ⟨65, _⟩ => ⟨S4x2048x1152, .f32⟩
  | .hbm, ⟨66, _⟩ => ⟨S4x2048x1152, .i1⟩
  | .hbm, ⟨67, _⟩ => ⟨S4x2048x1152, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_0 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_call1_v0 : Ref sig .tc := ⟨.hbm, 60, rfl⟩
abbrev main_v39 : Ref sig .tc := ⟨.hbm, 61, rfl⟩
abbrev main_call2_v0 : Ref sig .tc := ⟨.hbm, 62, rfl⟩
abbrev main_v40 : Ref sig .tc := ⟨.hbm, 63, rfl⟩
abbrev main_call3_v0 : Ref sig .tc := ⟨.hbm, 64, rfl⟩
abbrev main_v41 : Ref sig .tc := ⟨.hbm, 65, rfl⟩
abbrev main_call4_v0 : Ref sig .tc := ⟨.hbm, 66, rfl⟩
abbrev main_v42 : Ref sig .tc := ⟨.hbm, 67, rfl⟩

abbrev nD : Nat := 1
abbrev τ : Topo := Topo.v7x

variable {F : FTy → Type} [FloatOps F]
-- ==== Kernel30.lean ====
abbrev S1 : Shape := ⟨1, ![1]⟩
abbrev S2x128x1024 : Shape := ⟨3, ![2, 128, 1024]⟩
abbrev S128x1024 : Shape := ⟨2, ![128, 1024]⟩
abbrev S4x128x1024 : Shape := ⟨3, ![4, 128, 1024]⟩
abbrev S1x128x1024 : Shape := ⟨3, ![1, 128, 1024]⟩

abbrev nBuf : Space → Nat
  | .hbm => 13
  | .vmem => 9
  | .smem => 1
  | _ => 0

abbrev bufTy : (tb : Table) → Fin (tcTables nBuf tb) → BufTy
  | .hbm, ⟨0, _⟩ => ⟨S2x128x1024, .bf16⟩
  | .hbm, ⟨1, _⟩ => ⟨S128x1024, .bf16⟩
  | .hbm, ⟨2, _⟩ => ⟨S4x128x1024, .f32⟩
  | .hbm, ⟨3, _⟩ => ⟨S4x128x1024, .f32⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S4x128x1024, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .hbm, ⟨11, _⟩ => ⟨S4x128x1024, .f32⟩
  | .hbm, ⟨12, _⟩ => ⟨S4x128x1024, .f32⟩
  | .local _ .vmem, ⟨0, _⟩ => ⟨S1x128x1024, .bf16⟩
  | .local _ .vmem, ⟨1, _⟩ => ⟨S128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .smem, ⟨0, _⟩ => ⟨S1, .i32⟩
  | _, _ => ⟨S2x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_12 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 1 → Memref sig .tc .vmem S1x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Kernel30Ideal.lean ====
abbrev S1 : Shape := ⟨1, ![1]⟩
abbrev S2x128x1024 : Shape := ⟨3, ![2, 128, 1024]⟩
abbrev S128x1024 : Shape := ⟨2, ![128, 1024]⟩
abbrev S4x128x1024 : Shape := ⟨3, ![4, 128, 1024]⟩
abbrev S1x128x1024 : Shape := ⟨3, ![1, 128, 1024]⟩

abbrev nBuf : Space → Nat
  | .hbm => 13
  | .vmem => 9
  | .smem => 1
  | _ => 0

abbrev bufTy : (tb : Table) → Fin (tcTables nBuf tb) → BufTy
  | .hbm, ⟨0, _⟩ => ⟨S2x128x1024, .bf16⟩
  | .hbm, ⟨1, _⟩ => ⟨S128x1024, .bf16⟩
  | .hbm, ⟨2, _⟩ => ⟨S4x128x1024, .f32⟩
  | .hbm, ⟨3, _⟩ => ⟨S4x128x1024, .f32⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S4x128x1024, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .hbm, ⟨11, _⟩ => ⟨S4x128x1024, .f32⟩
  | .hbm, ⟨12, _⟩ => ⟨S4x128x1024, .f32⟩
  | .local _ .vmem, ⟨0, _⟩ => ⟨S1x128x1024, .bf16⟩
  | .local _ .vmem, ⟨1, _⟩ => ⟨S128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .smem, ⟨0, _⟩ => ⟨S1, .i32⟩
  | _, _ => ⟨S2x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_12 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 1 → Memref sig .tc .vmem S1x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference30Ideal.lean ====
abbrev S1 : Shape := ⟨1, ![1]⟩
abbrev S2x128x1024 : Shape := ⟨3, ![2, 128, 1024]⟩
abbrev S128x1024 : Shape := ⟨2, ![128, 1024]⟩
abbrev S4x128x1024 : Shape := ⟨3, ![4, 128, 1024]⟩
abbrev S_ : Shape := ⟨0, ![]⟩
abbrev S1x128x1024 : Shape := ⟨3, ![1, 128, 1024]⟩
abbrev S4 : Shape := ⟨1, ![4]⟩
abbrev S4x1x1 : Shape := ⟨3, ![4, 1, 1]⟩

abbrev nBuf : Space → Nat
  | .hbm => 68
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x128x1024, .bf16⟩
  | .hbm, ⟨2, _⟩ => ⟨S128x1024, .bf16⟩
  | .hbm, ⟨3, _⟩ => ⟨S4x128x1024, .f32⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S4x128x1024, .f32⟩
  | .hbm, ⟨8, _⟩ => ⟨S4x128x1024, .f32⟩
  | .hbm, ⟨9, _⟩ => ⟨S4x128x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1x128x1024, .bf16⟩
  | .hbm, ⟨14, _⟩ => ⟨S128x1024, .bf16⟩
  | .hbm, ⟨15, _⟩ => ⟨S1x128x1024, .bf16⟩
  | .hbm, ⟨16, _⟩ => ⟨S128x1024, .bf16⟩
  | .hbm, ⟨17, _⟩ => ⟨S128x1024, .bf16⟩
  | .hbm, ⟨18, _⟩ => ⟨S128x1024, .f32⟩
  | .hbm, ⟨19, _⟩ => ⟨S128x1024, .f32⟩
  | .hbm, ⟨20, _⟩ => ⟨S128x1024, .f32⟩
  | .hbm, ⟨21, _⟩ => ⟨S4x128x1024, .f32⟩
  | .hbm, ⟨22, _⟩ => ⟨S4, .i32⟩
  | .hbm, ⟨23, _⟩ => ⟨S4x1x1, .i32⟩
  | .hbm, ⟨24, _⟩ => ⟨S_, .i32⟩
  | .hbm, ⟨25, _⟩ => ⟨S4x1x1, .i32⟩
  | .hbm, ⟨26, _⟩ => ⟨S4x1x1, .i1⟩
  | .hbm, ⟨27, _⟩ => ⟨S_, .f32⟩
  | .hbm, ⟨28, _⟩ => ⟨S4x128x1024, .f32⟩
  | .hbm, ⟨29, _⟩ => ⟨S4x128x1024, .f32⟩
  | .hbm, ⟨30, _⟩ => ⟨S_, .f32⟩
  | .hbm, ⟨31, _⟩ => ⟨S4x128x1024, .f32⟩
  | .hbm, ⟨32, _⟩ => ⟨S4x128x1024, .f32⟩
  | .hbm, ⟨33, _⟩ => ⟨S4x128x1024, .f32⟩
  | .hbm, ⟨34, _⟩ => ⟨S_, .f32⟩
  | .hbm, ⟨35, _⟩ => ⟨S4x128x1024, .f32⟩
  | .hbm, ⟨36, _⟩ => ⟨S4x128x1024, .f32⟩
  | .hbm, ⟨37, _⟩ => ⟨S4x128x1024, .f32⟩
  | .hbm, ⟨38, _⟩ => ⟨S_, .f32⟩
  | .hbm, ⟨39, _⟩ => ⟨S4x128x1024, .f32⟩
  | .hbm, ⟨40, _⟩ => ⟨S4x128x1024, .f32⟩
  | .hbm, ⟨41, _⟩ => ⟨S4x128x1024, .f32⟩
  | .hbm, ⟨42, _⟩ => ⟨S_, .f32⟩
  | .hbm, ⟨43, _⟩ => ⟨S4x128x1024, .f32⟩
  | .hbm, ⟨44, _⟩ => ⟨S4x128x1024, .f32⟩
  | .hbm, ⟨45, _⟩ => ⟨S_, .f32⟩
  | .hbm, ⟨46, _⟩ => ⟨S4x128x1024, .f32⟩
  | .hbm, ⟨47, _⟩ => ⟨S4x128x1024, .f32⟩
  | .hbm, ⟨48, _⟩ => ⟨S4x128x1024, .f32⟩
  | .hbm, ⟨49, _⟩ => ⟨S_, .f32⟩
  | .hbm, ⟨50, _⟩ => ⟨S4x128x1024, .f32⟩
  | .hbm, ⟨51, _⟩ => ⟨S4x128x1024, .f32⟩
  | .hbm, ⟨52, _⟩ => ⟨S4x128x1024, .f32⟩
  | .hbm, ⟨53, _⟩ => ⟨S_, .f32⟩
  | .hbm, ⟨54, _⟩ => ⟨S4x128x1024, .f32⟩
  | .hbm, ⟨55, _⟩ => ⟨S4x128x1024, .f32⟩
  | .hbm, ⟨56, _⟩ => ⟨S4x128x1024, .f32⟩
  | .hbm, ⟨57, _⟩ => ⟨S_, .f32⟩
  | .hbm, ⟨58, _⟩ => ⟨S4x128x1024, .f32⟩
  | .hbm, ⟨59, _⟩ => ⟨S4x128x1024, .f32⟩
  | .hbm, ⟨60, _⟩ => ⟨S4x128x1024, .i1⟩
  | .hbm, ⟨61, _⟩ => ⟨S4x128x1024, .f32⟩
  | .hbm, ⟨62, _⟩ => ⟨S4x128x1024, .i1⟩
  | .hbm, ⟨63, _⟩ => ⟨S4x128x1024, .f32⟩
  | .hbm, ⟨64, _⟩ => ⟨S4x128x1024, .i1⟩
  | .hbm, ⟨65, _⟩ => ⟨S4x128x1024, .f32⟩
  | .hbm, ⟨66, _⟩ => ⟨S4x128x1024, .i1⟩
  | .hbm, ⟨67, _⟩ => ⟨S4x128x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_0 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_call1_v0 : Ref sig .tc := ⟨.hbm, 60, rfl⟩
abbrev main_v39 : Ref sig .tc := ⟨.hbm, 61, rfl⟩
abbrev main_call2_v0 : Ref sig .tc := ⟨.hbm, 62, rfl⟩
abbrev main_v40 : Ref sig .tc := ⟨.hbm, 63, rfl⟩
abbrev main_call3_v0 : Ref sig .tc := ⟨.hbm, 64, rfl⟩
abbrev main_v41 : Ref sig .tc := ⟨.hbm, 65, rfl⟩
abbrev main_call4_v0 : Ref sig .tc := ⟨.hbm, 66, rfl⟩
abbrev main_v42 : Ref sig .tc := ⟨.hbm, 67, rfl⟩

abbrev nD : Nat := 1
abbrev τ : Topo := Topo.v7x

variable {F : FTy → Type} [FloatOps F]
-- ==== Kernel31.lean ====
abbrev S1 : Shape := ⟨1, ![1]⟩
abbrev S2x128x1024 : Shape := ⟨3, ![2, 128, 1024]⟩
abbrev S128x1024 : Shape := ⟨2, ![128, 1024]⟩
abbrev S4x128x1024 : Shape := ⟨3, ![4, 128, 1024]⟩
abbrev S1x128x1024 : Shape := ⟨3, ![1, 128, 1024]⟩

abbrev nBuf : Space → Nat
  | .hbm => 13
  | .vmem => 9
  | .smem => 1
  | _ => 0

abbrev bufTy : (tb : Table) → Fin (tcTables nBuf tb) → BufTy
  | .hbm, ⟨0, _⟩ => ⟨S2x128x1024, .bf16⟩
  | .hbm, ⟨1, _⟩ => ⟨S128x1024, .bf16⟩
  | .hbm, ⟨2, _⟩ => ⟨S4x128x1024, .f32⟩
  | .hbm, ⟨3, _⟩ => ⟨S4x128x1024, .f32⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S4x128x1024, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .hbm, ⟨11, _⟩ => ⟨S4x128x1024, .f32⟩
  | .hbm, ⟨12, _⟩ => ⟨S4x128x1024, .f32⟩
  | .local _ .vmem, ⟨0, _⟩ => ⟨S1x128x1024, .bf16⟩
  | .local _ .vmem, ⟨1, _⟩ => ⟨S128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .smem, ⟨0, _⟩ => ⟨S1, .i32⟩
  | _, _ => ⟨S2x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_10 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_12 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage0_0 : Fin 1 → Memref sig .tc .vmem S1x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Kernel31Ideal.lean ====
abbrev S1 : Shape := ⟨1, ![1]⟩
abbrev S2x128x1024 : Shape := ⟨3, ![2, 128, 1024]⟩
abbrev S128x1024 : Shape := ⟨2, ![128, 1024]⟩
abbrev S4x128x1024 : Shape := ⟨3, ![4, 128, 1024]⟩
abbrev S1x128x1024 : Shape := ⟨3, ![1, 128, 1024]⟩

abbrev nBuf : Space → Nat
  | .hbm => 13
  | .vmem => 9
  | .smem => 1
  | _ => 0

abbrev bufTy : (tb : Table) → Fin (tcTables nBuf tb) → BufTy
  | .hbm, ⟨0, _⟩ => ⟨S2x128x1024, .bf16⟩
  | .hbm, ⟨1, _⟩ => ⟨S128x1024, .bf16⟩
  | .hbm, ⟨2, _⟩ => ⟨S4x128x1024, .f32⟩
  | .hbm, ⟨3, _⟩ => ⟨S4x128x1024, .f32⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S4x128x1024, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .hbm, ⟨11, _⟩ => ⟨S4x128x1024, .f32⟩
  | .hbm, ⟨12, _⟩ => ⟨S4x128x1024, .f32⟩
  | .local _ .vmem, ⟨0, _⟩ => ⟨S1x128x1024, .bf16⟩
  | .local _ .vmem, ⟨1, _⟩ => ⟨S128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .smem, ⟨0, _⟩ => ⟨S1, .i32⟩
  | _, _ => ⟨S2x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_10 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_12 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage0_0 : Fin 1 → Memref sig .tc .vmem S1x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference31Ideal.lean ====
abbrev S1 : Shape := ⟨1, ![1]⟩
abbrev S2x128x1024 : Shape := ⟨3, ![2, 128, 1024]⟩
abbrev S128x1024 : Shape := ⟨2, ![128, 1024]⟩
abbrev S4x128x1024 : Shape := ⟨3, ![4, 128, 1024]⟩
abbrev S_ : Shape := ⟨0, ![]⟩
abbrev S1x128x1024 : Shape := ⟨3, ![1, 128, 1024]⟩
abbrev S4 : Shape := ⟨1, ![4]⟩
abbrev S4x1x1 : Shape := ⟨3, ![4, 1, 1]⟩

abbrev nBuf : Space → Nat
  | .hbm => 68
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x128x1024, .bf16⟩
  | .hbm, ⟨2, _⟩ => ⟨S128x1024, .bf16⟩
  | .hbm, ⟨3, _⟩ => ⟨S4x128x1024, .f32⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S4x128x1024, .f32⟩
  | .hbm, ⟨8, _⟩ => ⟨S4x128x1024, .f32⟩
  | .hbm, ⟨9, _⟩ => ⟨S4x128x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1x128x1024, .bf16⟩
  | .hbm, ⟨14, _⟩ => ⟨S128x1024, .bf16⟩
  | .hbm, ⟨15, _⟩ => ⟨S1x128x1024, .bf16⟩
  | .hbm, ⟨16, _⟩ => ⟨S128x1024, .bf16⟩
  | .hbm, ⟨17, _⟩ => ⟨S128x1024, .bf16⟩
  | .hbm, ⟨18, _⟩ => ⟨S128x1024, .f32⟩
  | .hbm, ⟨19, _⟩ => ⟨S128x1024, .f32⟩
  | .hbm, ⟨20, _⟩ => ⟨S128x1024, .f32⟩
  | .hbm, ⟨21, _⟩ => ⟨S4x128x1024, .f32⟩
  | .hbm, ⟨22, _⟩ => ⟨S4, .i32⟩
  | .hbm, ⟨23, _⟩ => ⟨S4x1x1, .i32⟩
  | .hbm, ⟨24, _⟩ => ⟨S_, .i32⟩
  | .hbm, ⟨25, _⟩ => ⟨S4x1x1, .i32⟩
  | .hbm, ⟨26, _⟩ => ⟨S4x1x1, .i1⟩
  | .hbm, ⟨27, _⟩ => ⟨S_, .f32⟩
  | .hbm, ⟨28, _⟩ => ⟨S4x128x1024, .f32⟩
  | .hbm, ⟨29, _⟩ => ⟨S4x128x1024, .f32⟩
  | .hbm, ⟨30, _⟩ => ⟨S_, .f32⟩
  | .hbm, ⟨31, _⟩ => ⟨S4x128x1024, .f32⟩
  | .hbm, ⟨32, _⟩ => ⟨S4x128x1024, .f32⟩
  | .hbm, ⟨33, _⟩ => ⟨S4x128x1024, .f32⟩
  | .hbm, ⟨34, _⟩ => ⟨S_, .f32⟩
  | .hbm, ⟨35, _⟩ => ⟨S4x128x1024, .f32⟩
  | .hbm, ⟨36, _⟩ => ⟨S4x128x1024, .f32⟩
  | .hbm, ⟨37, _⟩ => ⟨S4x128x1024, .f32⟩
  | .hbm, ⟨38, _⟩ => ⟨S_, .f32⟩
  | .hbm, ⟨39, _⟩ => ⟨S4x128x1024, .f32⟩
  | .hbm, ⟨40, _⟩ => ⟨S4x128x1024, .f32⟩
  | .hbm, ⟨41, _⟩ => ⟨S4x128x1024, .f32⟩
  | .hbm, ⟨42, _⟩ => ⟨S_, .f32⟩
  | .hbm, ⟨43, _⟩ => ⟨S4x128x1024, .f32⟩
  | .hbm, ⟨44, _⟩ => ⟨S4x128x1024, .f32⟩
  | .hbm, ⟨45, _⟩ => ⟨S_, .f32⟩
  | .hbm, ⟨46, _⟩ => ⟨S4x128x1024, .f32⟩
  | .hbm, ⟨47, _⟩ => ⟨S4x128x1024, .f32⟩
  | .hbm, ⟨48, _⟩ => ⟨S4x128x1024, .f32⟩
  | .hbm, ⟨49, _⟩ => ⟨S_, .f32⟩
  | .hbm, ⟨50, _⟩ => ⟨S4x128x1024, .f32⟩
  | .hbm, ⟨51, _⟩ => ⟨S4x128x1024, .f32⟩
  | .hbm, ⟨52, _⟩ => ⟨S4x128x1024, .f32⟩
  | .hbm, ⟨53, _⟩ => ⟨S_, .f32⟩
  | .hbm, ⟨54, _⟩ => ⟨S4x128x1024, .f32⟩
  | .hbm, ⟨55, _⟩ => ⟨S4x128x1024, .f32⟩
  | .hbm, ⟨56, _⟩ => ⟨S4x128x1024, .f32⟩
  | .hbm, ⟨57, _⟩ => ⟨S_, .f32⟩
  | .hbm, ⟨58, _⟩ => ⟨S4x128x1024, .f32⟩
  | .hbm, ⟨59, _⟩ => ⟨S4x128x1024, .f32⟩
  | .hbm, ⟨60, _⟩ => ⟨S4x128x1024, .i1⟩
  | .hbm, ⟨61, _⟩ => ⟨S4x128x1024, .f32⟩
  | .hbm, ⟨62, _⟩ => ⟨S4x128x1024, .i1⟩
  | .hbm, ⟨63, _⟩ => ⟨S4x128x1024, .f32⟩
  | .hbm, ⟨64, _⟩ => ⟨S4x128x1024, .i1⟩
  | .hbm, ⟨65, _⟩ => ⟨S4x128x1024, .f32⟩
  | .hbm, ⟨66, _⟩ => ⟨S4x128x1024, .i1⟩
  | .hbm, ⟨67, _⟩ => ⟨S4x128x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_0 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_call1_v0 : Ref sig .tc := ⟨.hbm, 60, rfl⟩
abbrev main_v39 : Ref sig .tc := ⟨.hbm, 61, rfl⟩
abbrev main_call2_v0 : Ref sig .tc := ⟨.hbm, 62, rfl⟩
abbrev main_v40 : Ref sig .tc := ⟨.hbm, 63, rfl⟩
abbrev main_call3_v0 : Ref sig .tc := ⟨.hbm, 64, rfl⟩
abbrev main_v41 : Ref sig .tc := ⟨.hbm, 65, rfl⟩
abbrev main_call4_v0 : Ref sig .tc := ⟨.hbm, 66, rfl⟩
abbrev main_v42 : Ref sig .tc := ⟨.hbm, 67, rfl⟩

abbrev nD : Nat := 1
abbrev τ : Topo := Topo.v7x

variable {F : FTy → Type} [FloatOps F]
-- ==== Kernel32.lean ====
abbrev S1 : Shape := ⟨1, ![1]⟩
abbrev S2x128x1024 : Shape := ⟨3, ![2, 128, 1024]⟩
abbrev S128x1024 : Shape := ⟨2, ![128, 1024]⟩
abbrev S4x128x1024 : Shape := ⟨3, ![4, 128, 1024]⟩
abbrev S1x128x1024 : Shape := ⟨3, ![1, 128, 1024]⟩

abbrev nBuf : Space → Nat
  | .hbm => 13
  | .vmem => 9
  | .smem => 1
  | _ => 0

abbrev bufTy : (tb : Table) → Fin (tcTables nBuf tb) → BufTy
  | .hbm, ⟨0, _⟩ => ⟨S2x128x1024, .bf16⟩
  | .hbm, ⟨1, _⟩ => ⟨S128x1024, .bf16⟩
  | .hbm, ⟨2, _⟩ => ⟨S4x128x1024, .f32⟩
  | .hbm, ⟨3, _⟩ => ⟨S4x128x1024, .f32⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S4x128x1024, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .hbm, ⟨11, _⟩ => ⟨S4x128x1024, .f32⟩
  | .hbm, ⟨12, _⟩ => ⟨S4x128x1024, .f32⟩
  | .local _ .vmem, ⟨0, _⟩ => ⟨S1x128x1024, .bf16⟩
  | .local _ .vmem, ⟨1, _⟩ => ⟨S128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .smem, ⟨0, _⟩ => ⟨S1, .i32⟩
  | _, _ => ⟨S2x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 1 → Memref sig .tc .vmem S1x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Kernel32Ideal.lean ====
abbrev S1 : Shape := ⟨1, ![1]⟩
abbrev S2x128x1024 : Shape := ⟨3, ![2, 128, 1024]⟩
abbrev S128x1024 : Shape := ⟨2, ![128, 1024]⟩
abbrev S4x128x1024 : Shape := ⟨3, ![4, 128, 1024]⟩
abbrev S1x128x1024 : Shape := ⟨3, ![1, 128, 1024]⟩

abbrev nBuf : Space → Nat
  | .hbm => 13
  | .vmem => 9
  | .smem => 1
  | _ => 0

abbrev bufTy : (tb : Table) → Fin (tcTables nBuf tb) → BufTy
  | .hbm, ⟨0, _⟩ => ⟨S2x128x1024, .bf16⟩
  | .hbm, ⟨1, _⟩ => ⟨S128x1024, .bf16⟩
  | .hbm, ⟨2, _⟩ => ⟨S4x128x1024, .f32⟩
  | .hbm, ⟨3, _⟩ => ⟨S4x128x1024, .f32⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S4x128x1024, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .hbm, ⟨11, _⟩ => ⟨S4x128x1024, .f32⟩
  | .hbm, ⟨12, _⟩ => ⟨S4x128x1024, .f32⟩
  | .local _ .vmem, ⟨0, _⟩ => ⟨S1x128x1024, .bf16⟩
  | .local _ .vmem, ⟨1, _⟩ => ⟨S128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .smem, ⟨0, _⟩ => ⟨S1, .i32⟩
  | _, _ => ⟨S2x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 1 → Memref sig .tc .vmem S1x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference32Ideal.lean ====
abbrev S1 : Shape := ⟨1, ![1]⟩
abbrev S2x128x1024 : Shape := ⟨3, ![2, 128, 1024]⟩
abbrev S128x1024 : Shape := ⟨2, ![128, 1024]⟩
abbrev S4x128x1024 : Shape := ⟨3, ![4, 128, 1024]⟩
abbrev S_ : Shape := ⟨0, ![]⟩
abbrev S1x128x1024 : Shape := ⟨3, ![1, 128, 1024]⟩
abbrev S4 : Shape := ⟨1, ![4]⟩
abbrev S4x1x1 : Shape := ⟨3, ![4, 1, 1]⟩

abbrev nBuf : Space → Nat
  | .hbm => 68
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x128x1024, .bf16⟩
  | .hbm, ⟨2, _⟩ => ⟨S128x1024, .bf16⟩
  | .hbm, ⟨3, _⟩ => ⟨S4x128x1024, .f32⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S4x128x1024, .f32⟩
  | .hbm, ⟨8, _⟩ => ⟨S4x128x1024, .f32⟩
  | .hbm, ⟨9, _⟩ => ⟨S4x128x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1x128x1024, .bf16⟩
  | .hbm, ⟨14, _⟩ => ⟨S128x1024, .bf16⟩
  | .hbm, ⟨15, _⟩ => ⟨S1x128x1024, .bf16⟩
  | .hbm, ⟨16, _⟩ => ⟨S128x1024, .bf16⟩
  | .hbm, ⟨17, _⟩ => ⟨S128x1024, .bf16⟩
  | .hbm, ⟨18, _⟩ => ⟨S128x1024, .f32⟩
  | .hbm, ⟨19, _⟩ => ⟨S128x1024, .f32⟩
  | .hbm, ⟨20, _⟩ => ⟨S128x1024, .f32⟩
  | .hbm, ⟨21, _⟩ => ⟨S4x128x1024, .f32⟩
  | .hbm, ⟨22, _⟩ => ⟨S4, .i32⟩
  | .hbm, ⟨23, _⟩ => ⟨S4x1x1, .i32⟩
  | .hbm, ⟨24, _⟩ => ⟨S_, .i32⟩
  | .hbm, ⟨25, _⟩ => ⟨S4x1x1, .i32⟩
  | .hbm, ⟨26, _⟩ => ⟨S4x1x1, .i1⟩
  | .hbm, ⟨27, _⟩ => ⟨S_, .f32⟩
  | .hbm, ⟨28, _⟩ => ⟨S4x128x1024, .f32⟩
  | .hbm, ⟨29, _⟩ => ⟨S4x128x1024, .f32⟩
  | .hbm, ⟨30, _⟩ => ⟨S_, .f32⟩
  | .hbm, ⟨31, _⟩ => ⟨S4x128x1024, .f32⟩
  | .hbm, ⟨32, _⟩ => ⟨S4x128x1024, .f32⟩
  | .hbm, ⟨33, _⟩ => ⟨S4x128x1024, .f32⟩
  | .hbm, ⟨34, _⟩ => ⟨S_, .f32⟩
  | .hbm, ⟨35, _⟩ => ⟨S4x128x1024, .f32⟩
  | .hbm, ⟨36, _⟩ => ⟨S4x128x1024, .f32⟩
  | .hbm, ⟨37, _⟩ => ⟨S4x128x1024, .f32⟩
  | .hbm, ⟨38, _⟩ => ⟨S_, .f32⟩
  | .hbm, ⟨39, _⟩ => ⟨S4x128x1024, .f32⟩
  | .hbm, ⟨40, _⟩ => ⟨S4x128x1024, .f32⟩
  | .hbm, ⟨41, _⟩ => ⟨S4x128x1024, .f32⟩
  | .hbm, ⟨42, _⟩ => ⟨S_, .f32⟩
  | .hbm, ⟨43, _⟩ => ⟨S4x128x1024, .f32⟩
  | .hbm, ⟨44, _⟩ => ⟨S4x128x1024, .f32⟩
  | .hbm, ⟨45, _⟩ => ⟨S_, .f32⟩
  | .hbm, ⟨46, _⟩ => ⟨S4x128x1024, .f32⟩
  | .hbm, ⟨47, _⟩ => ⟨S4x128x1024, .f32⟩
  | .hbm, ⟨48, _⟩ => ⟨S4x128x1024, .f32⟩
  | .hbm, ⟨49, _⟩ => ⟨S_, .f32⟩
  | .hbm, ⟨50, _⟩ => ⟨S4x128x1024, .f32⟩
  | .hbm, ⟨51, _⟩ => ⟨S4x128x1024, .f32⟩
  | .hbm, ⟨52, _⟩ => ⟨S4x128x1024, .f32⟩
  | .hbm, ⟨53, _⟩ => ⟨S_, .f32⟩
  | .hbm, ⟨54, _⟩ => ⟨S4x128x1024, .f32⟩
  | .hbm, ⟨55, _⟩ => ⟨S4x128x1024, .f32⟩
  | .hbm, ⟨56, _⟩ => ⟨S4x128x1024, .f32⟩
  | .hbm, ⟨57, _⟩ => ⟨S_, .f32⟩
  | .hbm, ⟨58, _⟩ => ⟨S4x128x1024, .f32⟩
  | .hbm, ⟨59, _⟩ => ⟨S4x128x1024, .f32⟩
  | .hbm, ⟨60, _⟩ => ⟨S4x128x1024, .i1⟩
  | .hbm, ⟨61, _⟩ => ⟨S4x128x1024, .f32⟩
  | .hbm, ⟨62, _⟩ => ⟨S4x128x1024, .i1⟩
  | .hbm, ⟨63, _⟩ => ⟨S4x128x1024, .f32⟩
  | .hbm, ⟨64, _⟩ => ⟨S4x128x1024, .i1⟩
  | .hbm, ⟨65, _⟩ => ⟨S4x128x1024, .f32⟩
  | .hbm, ⟨66, _⟩ => ⟨S4x128x1024, .i1⟩
  | .hbm, ⟨67, _⟩ => ⟨S4x128x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_0 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_call1_v0 : Ref sig .tc := ⟨.hbm, 60, rfl⟩
abbrev main_v39 : Ref sig .tc := ⟨.hbm, 61, rfl⟩
abbrev main_call2_v0 : Ref sig .tc := ⟨.hbm, 62, rfl⟩
abbrev main_v40 : Ref sig .tc := ⟨.hbm, 63, rfl⟩
abbrev main_call3_v0 : Ref sig .tc := ⟨.hbm, 64, rfl⟩
abbrev main_v41 : Ref sig .tc := ⟨.hbm, 65, rfl⟩
abbrev main_call4_v0 : Ref sig .tc := ⟨.hbm, 66, rfl⟩
abbrev main_v42 : Ref sig .tc := ⟨.hbm, 67, rfl⟩

abbrev nD : Nat := 1
abbrev τ : Topo := Topo.v7x

variable {F : FTy → Type} [FloatOps F]
-- ==== Kernel33.lean ====
abbrev S1 : Shape := ⟨1, ![1]⟩
abbrev S2x128x1024 : Shape := ⟨3, ![2, 128, 1024]⟩
abbrev S128x1024 : Shape := ⟨2, ![128, 1024]⟩
abbrev S4x128x1024 : Shape := ⟨3, ![4, 128, 1024]⟩
abbrev S1x128x1024 : Shape := ⟨3, ![1, 128, 1024]⟩

abbrev nBuf : Space → Nat
  | .hbm => 13
  | .vmem => 9
  | .smem => 1
  | _ => 0

abbrev bufTy : (tb : Table) → Fin (tcTables nBuf tb) → BufTy
  | .hbm, ⟨0, _⟩ => ⟨S2x128x1024, .bf16⟩
  | .hbm, ⟨1, _⟩ => ⟨S128x1024, .bf16⟩
  | .hbm, ⟨2, _⟩ => ⟨S4x128x1024, .f32⟩
  | .hbm, ⟨3, _⟩ => ⟨S4x128x1024, .f32⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S4x128x1024, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .hbm, ⟨11, _⟩ => ⟨S4x128x1024, .f32⟩
  | .hbm, ⟨12, _⟩ => ⟨S4x128x1024, .f32⟩
  | .local _ .vmem, ⟨0, _⟩ => ⟨S1x128x1024, .bf16⟩
  | .local _ .vmem, ⟨1, _⟩ => ⟨S128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .smem, ⟨0, _⟩ => ⟨S1, .i32⟩
  | _, _ => ⟨S2x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Kernel33Ideal.lean ====
abbrev S1 : Shape := ⟨1, ![1]⟩
abbrev S2x128x1024 : Shape := ⟨3, ![2, 128, 1024]⟩
abbrev S128x1024 : Shape := ⟨2, ![128, 1024]⟩
abbrev S4x128x1024 : Shape := ⟨3, ![4, 128, 1024]⟩
abbrev S1x128x1024 : Shape := ⟨3, ![1, 128, 1024]⟩

abbrev nBuf : Space → Nat
  | .hbm => 13
  | .vmem => 9
  | .smem => 1
  | _ => 0

abbrev bufTy : (tb : Table) → Fin (tcTables nBuf tb) → BufTy
  | .hbm, ⟨0, _⟩ => ⟨S2x128x1024, .bf16⟩
  | .hbm, ⟨1, _⟩ => ⟨S128x1024, .bf16⟩
  | .hbm, ⟨2, _⟩ => ⟨S4x128x1024, .f32⟩
  | .hbm, ⟨3, _⟩ => ⟨S4x128x1024, .f32⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S4x128x1024, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .hbm, ⟨11, _⟩ => ⟨S4x128x1024, .f32⟩
  | .hbm, ⟨12, _⟩ => ⟨S4x128x1024, .f32⟩
  | .local _ .vmem, ⟨0, _⟩ => ⟨S1x128x1024, .bf16⟩
  | .local _ .vmem, ⟨1, _⟩ => ⟨S128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .smem, ⟨0, _⟩ => ⟨S1, .i32⟩
  | _, _ => ⟨S2x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference33Ideal.lean ====
abbrev S1 : Shape := ⟨1, ![1]⟩
abbrev S2x128x1024 : Shape := ⟨3, ![2, 128, 1024]⟩
abbrev S128x1024 : Shape := ⟨2, ![128, 1024]⟩
abbrev S4x128x1024 : Shape := ⟨3, ![4, 128, 1024]⟩
abbrev S_ : Shape := ⟨0, ![]⟩
abbrev S1x128x1024 : Shape := ⟨3, ![1, 128, 1024]⟩
abbrev S4 : Shape := ⟨1, ![4]⟩
abbrev S4x1x1 : Shape := ⟨3, ![4, 1, 1]⟩

abbrev nBuf : Space → Nat
  | .hbm => 68
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x128x1024, .bf16⟩
  | .hbm, ⟨2, _⟩ => ⟨S128x1024, .bf16⟩
  | .hbm, ⟨3, _⟩ => ⟨S4x128x1024, .f32⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S4x128x1024, .f32⟩
  | .hbm, ⟨8, _⟩ => ⟨S4x128x1024, .f32⟩
  | .hbm, ⟨9, _⟩ => ⟨S4x128x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1x128x1024, .bf16⟩
  | .hbm, ⟨14, _⟩ => ⟨S128x1024, .bf16⟩
  | .hbm, ⟨15, _⟩ => ⟨S1x128x1024, .bf16⟩
  | .hbm, ⟨16, _⟩ => ⟨S128x1024, .bf16⟩
  | .hbm, ⟨17, _⟩ => ⟨S128x1024, .bf16⟩
  | .hbm, ⟨18, _⟩ => ⟨S128x1024, .f32⟩
  | .hbm, ⟨19, _⟩ => ⟨S128x1024, .f32⟩
  | .hbm, ⟨20, _⟩ => ⟨S128x1024, .f32⟩
  | .hbm, ⟨21, _⟩ => ⟨S4x128x1024, .f32⟩
  | .hbm, ⟨22, _⟩ => ⟨S4, .i32⟩
  | .hbm, ⟨23, _⟩ => ⟨S4x1x1, .i32⟩
  | .hbm, ⟨24, _⟩ => ⟨S_, .i32⟩
  | .hbm, ⟨25, _⟩ => ⟨S4x1x1, .i32⟩
  | .hbm, ⟨26, _⟩ => ⟨S4x1x1, .i1⟩
  | .hbm, ⟨27, _⟩ => ⟨S_, .f32⟩
  | .hbm, ⟨28, _⟩ => ⟨S4x128x1024, .f32⟩
  | .hbm, ⟨29, _⟩ => ⟨S4x128x1024, .f32⟩
  | .hbm, ⟨30, _⟩ => ⟨S_, .f32⟩
  | .hbm, ⟨31, _⟩ => ⟨S4x128x1024, .f32⟩
  | .hbm, ⟨32, _⟩ => ⟨S4x128x1024, .f32⟩
  | .hbm, ⟨33, _⟩ => ⟨S4x128x1024, .f32⟩
  | .hbm, ⟨34, _⟩ => ⟨S_, .f32⟩
  | .hbm, ⟨35, _⟩ => ⟨S4x128x1024, .f32⟩
  | .hbm, ⟨36, _⟩ => ⟨S4x128x1024, .f32⟩
  | .hbm, ⟨37, _⟩ => ⟨S4x128x1024, .f32⟩
  | .hbm, ⟨38, _⟩ => ⟨S_, .f32⟩
  | .hbm, ⟨39, _⟩ => ⟨S4x128x1024, .f32⟩
  | .hbm, ⟨40, _⟩ => ⟨S4x128x1024, .f32⟩
  | .hbm, ⟨41, _⟩ => ⟨S4x128x1024, .f32⟩
  | .hbm, ⟨42, _⟩ => ⟨S_, .f32⟩
  | .hbm, ⟨43, _⟩ => ⟨S4x128x1024, .f32⟩
  | .hbm, ⟨44, _⟩ => ⟨S4x128x1024, .f32⟩
  | .hbm, ⟨45, _⟩ => ⟨S_, .f32⟩
  | .hbm, ⟨46, _⟩ => ⟨S4x128x1024, .f32⟩
  | .hbm, ⟨47, _⟩ => ⟨S4x128x1024, .f32⟩
  | .hbm, ⟨48, _⟩ => ⟨S4x128x1024, .f32⟩
  | .hbm, ⟨49, _⟩ => ⟨S_, .f32⟩
  | .hbm, ⟨50, _⟩ => ⟨S4x128x1024, .f32⟩
  | .hbm, ⟨51, _⟩ => ⟨S4x128x1024, .f32⟩
  | .hbm, ⟨52, _⟩ => ⟨S4x128x1024, .f32⟩
  | .hbm, ⟨53, _⟩ => ⟨S_, .f32⟩
  | .hbm, ⟨54, _⟩ => ⟨S4x128x1024, .f32⟩
  | .hbm, ⟨55, _⟩ => ⟨S4x128x1024, .f32⟩
  | .hbm, ⟨56, _⟩ => ⟨S4x128x1024, .f32⟩
  | .hbm, ⟨57, _⟩ => ⟨S_, .f32⟩
  | .hbm, ⟨58, _⟩ => ⟨S4x128x1024, .f32⟩
  | .hbm, ⟨59, _⟩ => ⟨S4x128x1024, .f32⟩
  | .hbm, ⟨60, _⟩ => ⟨S4x128x1024, .i1⟩
  | .hbm, ⟨61, _⟩ => ⟨S4x128x1024, .f32⟩
  | .hbm, ⟨62, _⟩ => ⟨S4x128x1024, .i1⟩
  | .hbm, ⟨63, _⟩ => ⟨S4x128x1024, .f32⟩
  | .hbm, ⟨64, _⟩ => ⟨S4x128x1024, .i1⟩
  | .hbm, ⟨65, _⟩ => ⟨S4x128x1024, .f32⟩
  | .hbm, ⟨66, _⟩ => ⟨S4x128x1024, .i1⟩
  | .hbm, ⟨67, _⟩ => ⟨S4x128x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_0 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_call1_v0 : Ref sig .tc := ⟨.hbm, 60, rfl⟩
abbrev main_v39 : Ref sig .tc := ⟨.hbm, 61, rfl⟩
abbrev main_call2_v0 : Ref sig .tc := ⟨.hbm, 62, rfl⟩
abbrev main_v40 : Ref sig .tc := ⟨.hbm, 63, rfl⟩
abbrev main_call3_v0 : Ref sig .tc := ⟨.hbm, 64, rfl⟩
abbrev main_v41 : Ref sig .tc := ⟨.hbm, 65, rfl⟩
abbrev main_call4_v0 : Ref sig .tc := ⟨.hbm, 66, rfl⟩
abbrev main_v42 : Ref sig .tc := ⟨.hbm, 67, rfl⟩

abbrev nD : Nat := 1
abbrev τ : Topo := Topo.v7x

variable {F : FTy → Type} [FloatOps F]
-- ==== Kernel34.lean ====
abbrev S1 : Shape := ⟨1, ![1]⟩
abbrev S2x256x2048 : Shape := ⟨3, ![2, 256, 2048]⟩
abbrev S256x2048 : Shape := ⟨2, ![256, 2048]⟩
abbrev S4x256x2048 : Shape := ⟨3, ![4, 256, 2048]⟩
abbrev S1x128x2048 : Shape := ⟨3, ![1, 128, 2048]⟩
abbrev S128x2048 : Shape := ⟨2, ![128, 2048]⟩

abbrev nBuf : Space → Nat
  | .hbm => 13
  | .vmem => 18
  | .smem => 1
  | _ => 0

abbrev bufTy : (tb : Table) → Fin (tcTables nBuf tb) → BufTy
  | .hbm, ⟨0, _⟩ => ⟨S2x256x2048, .bf16⟩
  | .hbm, ⟨1, _⟩ => ⟨S256x2048, .bf16⟩
  | .hbm, ⟨2, _⟩ => ⟨S4x256x2048, .f32⟩
  | .hbm, ⟨3, _⟩ => ⟨S4x256x2048, .f32⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S4x256x2048, .f32⟩
  | .hbm, ⟨8, _⟩ => ⟨S4x256x2048, .f32⟩
  | .hbm, ⟨9, _⟩ => ⟨S4x256x2048, .f32⟩
  | .hbm, ⟨10, _⟩ => ⟨S4x256x2048, .f32⟩
  | .hbm, ⟨11, _⟩ => ⟨S4x256x2048, .f32⟩
  | .hbm, ⟨12, _⟩ => ⟨S4x256x2048, .f32⟩
  | .local _ .vmem, ⟨0, _⟩ => ⟨S1x128x2048, .bf16⟩
  | .local _ .vmem, ⟨1, _⟩ => ⟨S1x128x2048, .bf16⟩
  | .local _ .vmem, ⟨2, _⟩ => ⟨S128x2048, .bf16⟩
  | .local _ .vmem, ⟨3, _⟩ => ⟨S128x2048, .bf16⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .smem, ⟨0, _⟩ => ⟨S1, .i32⟩
  | _, _ => ⟨S2x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_12 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel34Ideal.lean ====
abbrev S1 : Shape := ⟨1, ![1]⟩
abbrev S2x256x2048 : Shape := ⟨3, ![2, 256, 2048]⟩
abbrev S256x2048 : Shape := ⟨2, ![256, 2048]⟩
abbrev S4x256x2048 : Shape := ⟨3, ![4, 256, 2048]⟩
abbrev S1x128x2048 : Shape := ⟨3, ![1, 128, 2048]⟩
abbrev S128x2048 : Shape := ⟨2, ![128, 2048]⟩

abbrev nBuf : Space → Nat
  | .hbm => 13
  | .vmem => 18
  | .smem => 1
  | _ => 0

abbrev bufTy : (tb : Table) → Fin (tcTables nBuf tb) → BufTy
  | .hbm, ⟨0, _⟩ => ⟨S2x256x2048, .bf16⟩
  | .hbm, ⟨1, _⟩ => ⟨S256x2048, .bf16⟩
  | .hbm, ⟨2, _⟩ => ⟨S4x256x2048, .f32⟩
  | .hbm, ⟨3, _⟩ => ⟨S4x256x2048, .f32⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S4x256x2048, .f32⟩
  | .hbm, ⟨8, _⟩ => ⟨S4x256x2048, .f32⟩
  | .hbm, ⟨9, _⟩ => ⟨S4x256x2048, .f32⟩
  | .hbm, ⟨10, _⟩ => ⟨S4x256x2048, .f32⟩
  | .hbm, ⟨11, _⟩ => ⟨S4x256x2048, .f32⟩
  | .hbm, ⟨12, _⟩ => ⟨S4x256x2048, .f32⟩
  | .local _ .vmem, ⟨0, _⟩ => ⟨S1x128x2048, .bf16⟩
  | .local _ .vmem, ⟨1, _⟩ => ⟨S1x128x2048, .bf16⟩
  | .local _ .vmem, ⟨2, _⟩ => ⟨S128x2048, .bf16⟩
  | .local _ .vmem, ⟨3, _⟩ => ⟨S128x2048, .bf16⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .smem, ⟨0, _⟩ => ⟨S1, .i32⟩
  | _, _ => ⟨S2x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_12 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference34Ideal.lean ====
abbrev S1 : Shape := ⟨1, ![1]⟩
abbrev S2x256x2048 : Shape := ⟨3, ![2, 256, 2048]⟩
abbrev S256x2048 : Shape := ⟨2, ![256, 2048]⟩
abbrev S4x256x2048 : Shape := ⟨3, ![4, 256, 2048]⟩
abbrev S_ : Shape := ⟨0, ![]⟩
abbrev S1x256x2048 : Shape := ⟨3, ![1, 256, 2048]⟩
abbrev S4 : Shape := ⟨1, ![4]⟩
abbrev S4x1x1 : Shape := ⟨3, ![4, 1, 1]⟩

abbrev nBuf : Space → Nat
  | .hbm => 68
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x256x2048, .bf16⟩
  | .hbm, ⟨2, _⟩ => ⟨S256x2048, .bf16⟩
  | .hbm, ⟨3, _⟩ => ⟨S4x256x2048, .f32⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S4x256x2048, .f32⟩
  | .hbm, ⟨8, _⟩ => ⟨S4x256x2048, .f32⟩
  | .hbm, ⟨9, _⟩ => ⟨S4x256x2048, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1x256x2048, .bf16⟩
  | .hbm, ⟨14, _⟩ => ⟨S256x2048, .bf16⟩
  | .hbm, ⟨15, _⟩ => ⟨S1x256x2048, .bf16⟩
  | .hbm, ⟨16, _⟩ => ⟨S256x2048, .bf16⟩
  | .hbm, ⟨17, _⟩ => ⟨S256x2048, .bf16⟩
  | .hbm, ⟨18, _⟩ => ⟨S256x2048, .f32⟩
  | .hbm, ⟨19, _⟩ => ⟨S256x2048, .f32⟩
  | .hbm, ⟨20, _⟩ => ⟨S256x2048, .f32⟩
  | .hbm, ⟨21, _⟩ => ⟨S4x256x2048, .f32⟩
  | .hbm, ⟨22, _⟩ => ⟨S4, .i32⟩
  | .hbm, ⟨23, _⟩ => ⟨S4x1x1, .i32⟩
  | .hbm, ⟨24, _⟩ => ⟨S_, .i32⟩
  | .hbm, ⟨25, _⟩ => ⟨S4x1x1, .i32⟩
  | .hbm, ⟨26, _⟩ => ⟨S4x1x1, .i1⟩
  | .hbm, ⟨27, _⟩ => ⟨S_, .f32⟩
  | .hbm, ⟨28, _⟩ => ⟨S4x256x2048, .f32⟩
  | .hbm, ⟨29, _⟩ => ⟨S4x256x2048, .f32⟩
  | .hbm, ⟨30, _⟩ => ⟨S_, .f32⟩
  | .hbm, ⟨31, _⟩ => ⟨S4x256x2048, .f32⟩
  | .hbm, ⟨32, _⟩ => ⟨S4x256x2048, .f32⟩
  | .hbm, ⟨33, _⟩ => ⟨S4x256x2048, .f32⟩
  | .hbm, ⟨34, _⟩ => ⟨S_, .f32⟩
  | .hbm, ⟨35, _⟩ => ⟨S4x256x2048, .f32⟩
  | .hbm, ⟨36, _⟩ => ⟨S4x256x2048, .f32⟩
  | .hbm, ⟨37, _⟩ => ⟨S4x256x2048, .f32⟩
  | .hbm, ⟨38, _⟩ => ⟨S_, .f32⟩
  | .hbm, ⟨39, _⟩ => ⟨S4x256x2048, .f32⟩
  | .hbm, ⟨40, _⟩ => ⟨S4x256x2048, .f32⟩
  | .hbm, ⟨41, _⟩ => ⟨S4x256x2048, .f32⟩
  | .hbm, ⟨42, _⟩ => ⟨S_, .f32⟩
  | .hbm, ⟨43, _⟩ => ⟨S4x256x2048, .f32⟩
  | .hbm, ⟨44, _⟩ => ⟨S4x256x2048, .f32⟩
  | .hbm, ⟨45, _⟩ => ⟨S_, .f32⟩
  | .hbm, ⟨46, _⟩ => ⟨S4x256x2048, .f32⟩
  | .hbm, ⟨47, _⟩ => ⟨S4x256x2048, .f32⟩
  | .hbm, ⟨48, _⟩ => ⟨S4x256x2048, .f32⟩
  | .hbm, ⟨49, _⟩ => ⟨S_, .f32⟩
  | .hbm, ⟨50, _⟩ => ⟨S4x256x2048, .f32⟩
  | .hbm, ⟨51, _⟩ => ⟨S4x256x2048, .f32⟩
  | .hbm, ⟨52, _⟩ => ⟨S4x256x2048, .f32⟩
  | .hbm, ⟨53, _⟩ => ⟨S_, .f32⟩
  | .hbm, ⟨54, _⟩ => ⟨S4x256x2048, .f32⟩
  | .hbm, ⟨55, _⟩ => ⟨S4x256x2048, .f32⟩
  | .hbm, ⟨56, _⟩ => ⟨S4x256x2048, .f32⟩
  | .hbm, ⟨57, _⟩ => ⟨S_, .f32⟩
  | .hbm, ⟨58, _⟩ => ⟨S4x256x2048, .f32⟩
  | .hbm, ⟨59, _⟩ => ⟨S4x256x2048, .f32⟩
  | .hbm, ⟨60, _⟩ => ⟨S4x256x2048, .i1⟩
  | .hbm, ⟨61, _⟩ => ⟨S4x256x2048, .f32⟩
  | .hbm, ⟨62, _⟩ => ⟨S4x256x2048, .i1⟩
  | .hbm, ⟨63, _⟩ => ⟨S4x256x2048, .f32⟩
  | .hbm, ⟨64, _⟩ => ⟨S4x256x2048, .i1⟩
  | .hbm, ⟨65, _⟩ => ⟨S4x256x2048, .f32⟩
  | .hbm, ⟨66, _⟩ => ⟨S4x256x2048, .i1⟩
  | .hbm, ⟨67, _⟩ => ⟨S4x256x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_0 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_call1_v0 : Ref sig .tc := ⟨.hbm, 60, rfl⟩
abbrev main_v39 : Ref sig .tc := ⟨.hbm, 61, rfl⟩
abbrev main_call2_v0 : Ref sig .tc := ⟨.hbm, 62, rfl⟩
abbrev main_v40 : Ref sig .tc := ⟨.hbm, 63, rfl⟩
abbrev main_call3_v0 : Ref sig .tc := ⟨.hbm, 64, rfl⟩
abbrev main_v41 : Ref sig .tc := ⟨.hbm, 65, rfl⟩
abbrev main_call4_v0 : Ref sig .tc := ⟨.hbm, 66, rfl⟩
abbrev main_v42 : Ref sig .tc := ⟨.hbm, 67, rfl⟩

abbrev nD : Nat := 1
abbrev τ : Topo := Topo.v7x

variable {F : FTy → Type} [FloatOps F]
-- ==== Kernel35.lean ====
abbrev S1 : Shape := ⟨1, ![1]⟩
abbrev S2x256x2048 : Shape := ⟨3, ![2, 256, 2048]⟩
abbrev S256x2048 : Shape := ⟨2, ![256, 2048]⟩
abbrev S4x256x2048 : Shape := ⟨3, ![4, 256, 2048]⟩
abbrev S1x128x2048 : Shape := ⟨3, ![1, 128, 2048]⟩
abbrev S128x2048 : Shape := ⟨2, ![128, 2048]⟩

abbrev nBuf : Space → Nat
  | .hbm => 13
  | .vmem => 18
  | .smem => 1
  | _ => 0

abbrev bufTy : (tb : Table) → Fin (tcTables nBuf tb) → BufTy
  | .hbm, ⟨0, _⟩ => ⟨S2x256x2048, .bf16⟩
  | .hbm, ⟨1, _⟩ => ⟨S256x2048, .bf16⟩
  | .hbm, ⟨2, _⟩ => ⟨S4x256x2048, .f32⟩
  | .hbm, ⟨3, _⟩ => ⟨S4x256x2048, .f32⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S4x256x2048, .f32⟩
  | .hbm, ⟨8, _⟩ => ⟨S4x256x2048, .f32⟩
  | .hbm, ⟨9, _⟩ => ⟨S4x256x2048, .f32⟩
  | .hbm, ⟨10, _⟩ => ⟨S4x256x2048, .f32⟩
  | .hbm, ⟨11, _⟩ => ⟨S4x256x2048, .f32⟩
  | .hbm, ⟨12, _⟩ => ⟨S4x256x2048, .f32⟩
  | .local _ .vmem, ⟨0, _⟩ => ⟨S1x128x2048, .bf16⟩
  | .local _ .vmem, ⟨1, _⟩ => ⟨S1x128x2048, .bf16⟩
  | .local _ .vmem, ⟨2, _⟩ => ⟨S128x2048, .bf16⟩
  | .local _ .vmem, ⟨3, _⟩ => ⟨S128x2048, .bf16⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .smem, ⟨0, _⟩ => ⟨S1, .i32⟩
  | _, _ => ⟨S2x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_10 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_12 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel35Ideal.lean ====
abbrev S1 : Shape := ⟨1, ![1]⟩
abbrev S2x256x2048 : Shape := ⟨3, ![2, 256, 2048]⟩
abbrev S256x2048 : Shape := ⟨2, ![256, 2048]⟩
abbrev S4x256x2048 : Shape := ⟨3, ![4, 256, 2048]⟩
abbrev S1x128x2048 : Shape := ⟨3, ![1, 128, 2048]⟩
abbrev S128x2048 : Shape := ⟨2, ![128, 2048]⟩

abbrev nBuf : Space → Nat
  | .hbm => 13
  | .vmem => 18
  | .smem => 1
  | _ => 0

abbrev bufTy : (tb : Table) → Fin (tcTables nBuf tb) → BufTy
  | .hbm, ⟨0, _⟩ => ⟨S2x256x2048, .bf16⟩
  | .hbm, ⟨1, _⟩ => ⟨S256x2048, .bf16⟩
  | .hbm, ⟨2, _⟩ => ⟨S4x256x2048, .f32⟩
  | .hbm, ⟨3, _⟩ => ⟨S4x256x2048, .f32⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S4x256x2048, .f32⟩
  | .hbm, ⟨8, _⟩ => ⟨S4x256x2048, .f32⟩
  | .hbm, ⟨9, _⟩ => ⟨S4x256x2048, .f32⟩
  | .hbm, ⟨10, _⟩ => ⟨S4x256x2048, .f32⟩
  | .hbm, ⟨11, _⟩ => ⟨S4x256x2048, .f32⟩
  | .hbm, ⟨12, _⟩ => ⟨S4x256x2048, .f32⟩
  | .local _ .vmem, ⟨0, _⟩ => ⟨S1x128x2048, .bf16⟩
  | .local _ .vmem, ⟨1, _⟩ => ⟨S1x128x2048, .bf16⟩
  | .local _ .vmem, ⟨2, _⟩ => ⟨S128x2048, .bf16⟩
  | .local _ .vmem, ⟨3, _⟩ => ⟨S128x2048, .bf16⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .smem, ⟨0, _⟩ => ⟨S1, .i32⟩
  | _, _ => ⟨S2x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_10 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_12 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference35Ideal.lean ====
abbrev S1 : Shape := ⟨1, ![1]⟩
abbrev S2x256x2048 : Shape := ⟨3, ![2, 256, 2048]⟩
abbrev S256x2048 : Shape := ⟨2, ![256, 2048]⟩
abbrev S4x256x2048 : Shape := ⟨3, ![4, 256, 2048]⟩
abbrev S_ : Shape := ⟨0, ![]⟩
abbrev S1x256x2048 : Shape := ⟨3, ![1, 256, 2048]⟩
abbrev S4 : Shape := ⟨1, ![4]⟩
abbrev S4x1x1 : Shape := ⟨3, ![4, 1, 1]⟩

abbrev nBuf : Space → Nat
  | .hbm => 68
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x256x2048, .bf16⟩
  | .hbm, ⟨2, _⟩ => ⟨S256x2048, .bf16⟩
  | .hbm, ⟨3, _⟩ => ⟨S4x256x2048, .f32⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S4x256x2048, .f32⟩
  | .hbm, ⟨8, _⟩ => ⟨S4x256x2048, .f32⟩
  | .hbm, ⟨9, _⟩ => ⟨S4x256x2048, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1x256x2048, .bf16⟩
  | .hbm, ⟨14, _⟩ => ⟨S256x2048, .bf16⟩
  | .hbm, ⟨15, _⟩ => ⟨S1x256x2048, .bf16⟩
  | .hbm, ⟨16, _⟩ => ⟨S256x2048, .bf16⟩
  | .hbm, ⟨17, _⟩ => ⟨S256x2048, .bf16⟩
  | .hbm, ⟨18, _⟩ => ⟨S256x2048, .f32⟩
  | .hbm, ⟨19, _⟩ => ⟨S256x2048, .f32⟩
  | .hbm, ⟨20, _⟩ => ⟨S256x2048, .f32⟩
  | .hbm, ⟨21, _⟩ => ⟨S4x256x2048, .f32⟩
  | .hbm, ⟨22, _⟩ => ⟨S4, .i32⟩
  | .hbm, ⟨23, _⟩ => ⟨S4x1x1, .i32⟩
  | .hbm, ⟨24, _⟩ => ⟨S_, .i32⟩
  | .hbm, ⟨25, _⟩ => ⟨S4x1x1, .i32⟩
  | .hbm, ⟨26, _⟩ => ⟨S4x1x1, .i1⟩
  | .hbm, ⟨27, _⟩ => ⟨S_, .f32⟩
  | .hbm, ⟨28, _⟩ => ⟨S4x256x2048, .f32⟩
  | .hbm, ⟨29, _⟩ => ⟨S4x256x2048, .f32⟩
  | .hbm, ⟨30, _⟩ => ⟨S_, .f32⟩
  | .hbm, ⟨31, _⟩ => ⟨S4x256x2048, .f32⟩
  | .hbm, ⟨32, _⟩ => ⟨S4x256x2048, .f32⟩
  | .hbm, ⟨33, _⟩ => ⟨S4x256x2048, .f32⟩
  | .hbm, ⟨34, _⟩ => ⟨S_, .f32⟩
  | .hbm, ⟨35, _⟩ => ⟨S4x256x2048, .f32⟩
  | .hbm, ⟨36, _⟩ => ⟨S4x256x2048, .f32⟩
  | .hbm, ⟨37, _⟩ => ⟨S4x256x2048, .f32⟩
  | .hbm, ⟨38, _⟩ => ⟨S_, .f32⟩
  | .hbm, ⟨39, _⟩ => ⟨S4x256x2048, .f32⟩
  | .hbm, ⟨40, _⟩ => ⟨S4x256x2048, .f32⟩
  | .hbm, ⟨41, _⟩ => ⟨S4x256x2048, .f32⟩
  | .hbm, ⟨42, _⟩ => ⟨S_, .f32⟩
  | .hbm, ⟨43, _⟩ => ⟨S4x256x2048, .f32⟩
  | .hbm, ⟨44, _⟩ => ⟨S4x256x2048, .f32⟩
  | .hbm, ⟨45, _⟩ => ⟨S_, .f32⟩
  | .hbm, ⟨46, _⟩ => ⟨S4x256x2048, .f32⟩
  | .hbm, ⟨47, _⟩ => ⟨S4x256x2048, .f32⟩
  | .hbm, ⟨48, _⟩ => ⟨S4x256x2048, .f32⟩
  | .hbm, ⟨49, _⟩ => ⟨S_, .f32⟩
  | .hbm, ⟨50, _⟩ => ⟨S4x256x2048, .f32⟩
  | .hbm, ⟨51, _⟩ => ⟨S4x256x2048, .f32⟩
  | .hbm, ⟨52, _⟩ => ⟨S4x256x2048, .f32⟩
  | .hbm, ⟨53, _⟩ => ⟨S_, .f32⟩
  | .hbm, ⟨54, _⟩ => ⟨S4x256x2048, .f32⟩
  | .hbm, ⟨55, _⟩ => ⟨S4x256x2048, .f32⟩
  | .hbm, ⟨56, _⟩ => ⟨S4x256x2048, .f32⟩
  | .hbm, ⟨57, _⟩ => ⟨S_, .f32⟩
  | .hbm, ⟨58, _⟩ => ⟨S4x256x2048, .f32⟩
  | .hbm, ⟨59, _⟩ => ⟨S4x256x2048, .f32⟩
  | .hbm, ⟨60, _⟩ => ⟨S4x256x2048, .i1⟩
  | .hbm, ⟨61, _⟩ => ⟨S4x256x2048, .f32⟩
  | .hbm, ⟨62, _⟩ => ⟨S4x256x2048, .i1⟩
  | .hbm, ⟨63, _⟩ => ⟨S4x256x2048, .f32⟩
  | .hbm, ⟨64, _⟩ => ⟨S4x256x2048, .i1⟩
  | .hbm, ⟨65, _⟩ => ⟨S4x256x2048, .f32⟩
  | .hbm, ⟨66, _⟩ => ⟨S4x256x2048, .i1⟩
  | .hbm, ⟨67, _⟩ => ⟨S4x256x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_0 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_call1_v0 : Ref sig .tc := ⟨.hbm, 60, rfl⟩
abbrev main_v39 : Ref sig .tc := ⟨.hbm, 61, rfl⟩
abbrev main_call2_v0 : Ref sig .tc := ⟨.hbm, 62, rfl⟩
abbrev main_v40 : Ref sig .tc := ⟨.hbm, 63, rfl⟩
abbrev main_call3_v0 : Ref sig .tc := ⟨.hbm, 64, rfl⟩
abbrev main_v41 : Ref sig .tc := ⟨.hbm, 65, rfl⟩
abbrev main_call4_v0 : Ref sig .tc := ⟨.hbm, 66, rfl⟩
abbrev main_v42 : Ref sig .tc := ⟨.hbm, 67, rfl⟩

abbrev nD : Nat := 1
abbrev τ : Topo := Topo.v7x

variable {F : FTy → Type} [FloatOps F]
-- ==== Kernel36.lean ====
abbrev S1 : Shape := ⟨1, ![1]⟩
abbrev S2x256x2048 : Shape := ⟨3, ![2, 256, 2048]⟩
abbrev S256x2048 : Shape := ⟨2, ![256, 2048]⟩
abbrev S4x256x2048 : Shape := ⟨3, ![4, 256, 2048]⟩
abbrev S1x128x2048 : Shape := ⟨3, ![1, 128, 2048]⟩
abbrev S128x2048 : Shape := ⟨2, ![128, 2048]⟩

abbrev nBuf : Space → Nat
  | .hbm => 13
  | .vmem => 18
  | .smem => 1
  | _ => 0

abbrev bufTy : (tb : Table) → Fin (tcTables nBuf tb) → BufTy
  | .hbm, ⟨0, _⟩ => ⟨S2x256x2048, .bf16⟩
  | .hbm, ⟨1, _⟩ => ⟨S256x2048, .bf16⟩
  | .hbm, ⟨2, _⟩ => ⟨S4x256x2048, .f32⟩
  | .hbm, ⟨3, _⟩ => ⟨S4x256x2048, .f32⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S4x256x2048, .f32⟩
  | .hbm, ⟨8, _⟩ => ⟨S4x256x2048, .f32⟩
  | .hbm, ⟨9, _⟩ => ⟨S4x256x2048, .f32⟩
  | .hbm, ⟨10, _⟩ => ⟨S4x256x2048, .f32⟩
  | .hbm, ⟨11, _⟩ => ⟨S4x256x2048, .f32⟩
  | .hbm, ⟨12, _⟩ => ⟨S4x256x2048, .f32⟩
  | .local _ .vmem, ⟨0, _⟩ => ⟨S1x128x2048, .bf16⟩
  | .local _ .vmem, ⟨1, _⟩ => ⟨S1x128x2048, .bf16⟩
  | .local _ .vmem, ⟨2, _⟩ => ⟨S128x2048, .bf16⟩
  | .local _ .vmem, ⟨3, _⟩ => ⟨S128x2048, .bf16⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .smem, ⟨0, _⟩ => ⟨S1, .i32⟩
  | _, _ => ⟨S2x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel36Ideal.lean ====
abbrev S1 : Shape := ⟨1, ![1]⟩
abbrev S2x256x2048 : Shape := ⟨3, ![2, 256, 2048]⟩
abbrev S256x2048 : Shape := ⟨2, ![256, 2048]⟩
abbrev S4x256x2048 : Shape := ⟨3, ![4, 256, 2048]⟩
abbrev S1x128x2048 : Shape := ⟨3, ![1, 128, 2048]⟩
abbrev S128x2048 : Shape := ⟨2, ![128, 2048]⟩

abbrev nBuf : Space → Nat
  | .hbm => 13
  | .vmem => 18
  | .smem => 1
  | _ => 0

abbrev bufTy : (tb : Table) → Fin (tcTables nBuf tb) → BufTy
  | .hbm, ⟨0, _⟩ => ⟨S2x256x2048, .bf16⟩
  | .hbm, ⟨1, _⟩ => ⟨S256x2048, .bf16⟩
  | .hbm, ⟨2, _⟩ => ⟨S4x256x2048, .f32⟩
  | .hbm, ⟨3, _⟩ => ⟨S4x256x2048, .f32⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S4x256x2048, .f32⟩
  | .hbm, ⟨8, _⟩ => ⟨S4x256x2048, .f32⟩
  | .hbm, ⟨9, _⟩ => ⟨S4x256x2048, .f32⟩
  | .hbm, ⟨10, _⟩ => ⟨S4x256x2048, .f32⟩
  | .hbm, ⟨11, _⟩ => ⟨S4x256x2048, .f32⟩
  | .hbm, ⟨12, _⟩ => ⟨S4x256x2048, .f32⟩
  | .local _ .vmem, ⟨0, _⟩ => ⟨S1x128x2048, .bf16⟩
  | .local _ .vmem, ⟨1, _⟩ => ⟨S1x128x2048, .bf16⟩
  | .local _ .vmem, ⟨2, _⟩ => ⟨S128x2048, .bf16⟩
  | .local _ .vmem, ⟨3, _⟩ => ⟨S128x2048, .bf16⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .smem, ⟨0, _⟩ => ⟨S1, .i32⟩
  | _, _ => ⟨S2x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference36Ideal.lean ====
abbrev S1 : Shape := ⟨1, ![1]⟩
abbrev S2x256x2048 : Shape := ⟨3, ![2, 256, 2048]⟩
abbrev S256x2048 : Shape := ⟨2, ![256, 2048]⟩
abbrev S4x256x2048 : Shape := ⟨3, ![4, 256, 2048]⟩
abbrev S_ : Shape := ⟨0, ![]⟩
abbrev S1x256x2048 : Shape := ⟨3, ![1, 256, 2048]⟩
abbrev S4 : Shape := ⟨1, ![4]⟩
abbrev S4x1x1 : Shape := ⟨3, ![4, 1, 1]⟩

abbrev nBuf : Space → Nat
  | .hbm => 68
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x256x2048, .bf16⟩
  | .hbm, ⟨2, _⟩ => ⟨S256x2048, .bf16⟩
  | .hbm, ⟨3, _⟩ => ⟨S4x256x2048, .f32⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S4x256x2048, .f32⟩
  | .hbm, ⟨8, _⟩ => ⟨S4x256x2048, .f32⟩
  | .hbm, ⟨9, _⟩ => ⟨S4x256x2048, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1x256x2048, .bf16⟩
  | .hbm, ⟨14, _⟩ => ⟨S256x2048, .bf16⟩
  | .hbm, ⟨15, _⟩ => ⟨S1x256x2048, .bf16⟩
  | .hbm, ⟨16, _⟩ => ⟨S256x2048, .bf16⟩
  | .hbm, ⟨17, _⟩ => ⟨S256x2048, .bf16⟩
  | .hbm, ⟨18, _⟩ => ⟨S256x2048, .f32⟩
  | .hbm, ⟨19, _⟩ => ⟨S256x2048, .f32⟩
  | .hbm, ⟨20, _⟩ => ⟨S256x2048, .f32⟩
  | .hbm, ⟨21, _⟩ => ⟨S4x256x2048, .f32⟩
  | .hbm, ⟨22, _⟩ => ⟨S4, .i32⟩
  | .hbm, ⟨23, _⟩ => ⟨S4x1x1, .i32⟩
  | .hbm, ⟨24, _⟩ => ⟨S_, .i32⟩
  | .hbm, ⟨25, _⟩ => ⟨S4x1x1, .i32⟩
  | .hbm, ⟨26, _⟩ => ⟨S4x1x1, .i1⟩
  | .hbm, ⟨27, _⟩ => ⟨S_, .f32⟩
  | .hbm, ⟨28, _⟩ => ⟨S4x256x2048, .f32⟩
  | .hbm, ⟨29, _⟩ => ⟨S4x256x2048, .f32⟩
  | .hbm, ⟨30, _⟩ => ⟨S_, .f32⟩
  | .hbm, ⟨31, _⟩ => ⟨S4x256x2048, .f32⟩
  | .hbm, ⟨32, _⟩ => ⟨S4x256x2048, .f32⟩
  | .hbm, ⟨33, _⟩ => ⟨S4x256x2048, .f32⟩
  | .hbm, ⟨34, _⟩ => ⟨S_, .f32⟩
  | .hbm, ⟨35, _⟩ => ⟨S4x256x2048, .f32⟩
  | .hbm, ⟨36, _⟩ => ⟨S4x256x2048, .f32⟩
  | .hbm, ⟨37, _⟩ => ⟨S4x256x2048, .f32⟩
  | .hbm, ⟨38, _⟩ => ⟨S_, .f32⟩
  | .hbm, ⟨39, _⟩ => ⟨S4x256x2048, .f32⟩
  | .hbm, ⟨40, _⟩ => ⟨S4x256x2048, .f32⟩
  | .hbm, ⟨41, _⟩ => ⟨S4x256x2048, .f32⟩
  | .hbm, ⟨42, _⟩ => ⟨S_, .f32⟩
  | .hbm, ⟨43, _⟩ => ⟨S4x256x2048, .f32⟩
  | .hbm, ⟨44, _⟩ => ⟨S4x256x2048, .f32⟩
  | .hbm, ⟨45, _⟩ => ⟨S_, .f32⟩
  | .hbm, ⟨46, _⟩ => ⟨S4x256x2048, .f32⟩
  | .hbm, ⟨47, _⟩ => ⟨S4x256x2048, .f32⟩
  | .hbm, ⟨48, _⟩ => ⟨S4x256x2048, .f32⟩
  | .hbm, ⟨49, _⟩ => ⟨S_, .f32⟩
  | .hbm, ⟨50, _⟩ => ⟨S4x256x2048, .f32⟩
  | .hbm, ⟨51, _⟩ => ⟨S4x256x2048, .f32⟩
  | .hbm, ⟨52, _⟩ => ⟨S4x256x2048, .f32⟩
  | .hbm, ⟨53, _⟩ => ⟨S_, .f32⟩
  | .hbm, ⟨54, _⟩ => ⟨S4x256x2048, .f32⟩
  | .hbm, ⟨55, _⟩ => ⟨S4x256x2048, .f32⟩
  | .hbm, ⟨56, _⟩ => ⟨S4x256x2048, .f32⟩
  | .hbm, ⟨57, _⟩ => ⟨S_, .f32⟩
  | .hbm, ⟨58, _⟩ => ⟨S4x256x2048, .f32⟩
  | .hbm, ⟨59, _⟩ => ⟨S4x256x2048, .f32⟩
  | .hbm, ⟨60, _⟩ => ⟨S4x256x2048, .i1⟩
  | .hbm, ⟨61, _⟩ => ⟨S4x256x2048, .f32⟩
  | .hbm, ⟨62, _⟩ => ⟨S4x256x2048, .i1⟩
  | .hbm, ⟨63, _⟩ => ⟨S4x256x2048, .f32⟩
  | .hbm, ⟨64, _⟩ => ⟨S4x256x2048, .i1⟩
  | .hbm, ⟨65, _⟩ => ⟨S4x256x2048, .f32⟩
  | .hbm, ⟨66, _⟩ => ⟨S4x256x2048, .i1⟩
  | .hbm, ⟨67, _⟩ => ⟨S4x256x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_0 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_call1_v0 : Ref sig .tc := ⟨.hbm, 60, rfl⟩
abbrev main_v39 : Ref sig .tc := ⟨.hbm, 61, rfl⟩
abbrev main_call2_v0 : Ref sig .tc := ⟨.hbm, 62, rfl⟩
abbrev main_v40 : Ref sig .tc := ⟨.hbm, 63, rfl⟩
abbrev main_call3_v0 : Ref sig .tc := ⟨.hbm, 64, rfl⟩
abbrev main_v41 : Ref sig .tc := ⟨.hbm, 65, rfl⟩
abbrev main_call4_v0 : Ref sig .tc := ⟨.hbm, 66, rfl⟩
abbrev main_v42 : Ref sig .tc := ⟨.hbm, 67, rfl⟩

abbrev nD : Nat := 1
abbrev τ : Topo := Topo.v7x

variable {F : FTy → Type} [FloatOps F]
-- ==== Kernel37.lean ====
abbrev S1 : Shape := ⟨1, ![1]⟩
abbrev S2x256x2048 : Shape := ⟨3, ![2, 256, 2048]⟩
abbrev S256x2048 : Shape := ⟨2, ![256, 2048]⟩
abbrev S4x256x2048 : Shape := ⟨3, ![4, 256, 2048]⟩
abbrev S1x128x2048 : Shape := ⟨3, ![1, 128, 2048]⟩
abbrev S128x2048 : Shape := ⟨2, ![128, 2048]⟩

abbrev nBuf : Space → Nat
  | .hbm => 13
  | .vmem => 18
  | .smem => 1
  | _ => 0

abbrev bufTy : (tb : Table) → Fin (tcTables nBuf tb) → BufTy
  | .hbm, ⟨0, _⟩ => ⟨S2x256x2048, .bf16⟩
  | .hbm, ⟨1, _⟩ => ⟨S256x2048, .bf16⟩
  | .hbm, ⟨2, _⟩ => ⟨S4x256x2048, .f32⟩
  | .hbm, ⟨3, _⟩ => ⟨S4x256x2048, .f32⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S4x256x2048, .f32⟩
  | .hbm, ⟨8, _⟩ => ⟨S4x256x2048, .f32⟩
  | .hbm, ⟨9, _⟩ => ⟨S4x256x2048, .f32⟩
  | .hbm, ⟨10, _⟩ => ⟨S4x256x2048, .f32⟩
  | .hbm, ⟨11, _⟩ => ⟨S4x256x2048, .f32⟩
  | .hbm, ⟨12, _⟩ => ⟨S4x256x2048, .f32⟩
  | .local _ .vmem, ⟨0, _⟩ => ⟨S1x128x2048, .bf16⟩
  | .local _ .vmem, ⟨1, _⟩ => ⟨S1x128x2048, .bf16⟩
  | .local _ .vmem, ⟨2, _⟩ => ⟨S128x2048, .bf16⟩
  | .local _ .vmem, ⟨3, _⟩ => ⟨S128x2048, .bf16⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .smem, ⟨0, _⟩ => ⟨S1, .i32⟩
  | _, _ => ⟨S2x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel37Ideal.lean ====
abbrev S1 : Shape := ⟨1, ![1]⟩
abbrev S2x256x2048 : Shape := ⟨3, ![2, 256, 2048]⟩
abbrev S256x2048 : Shape := ⟨2, ![256, 2048]⟩
abbrev S4x256x2048 : Shape := ⟨3, ![4, 256, 2048]⟩
abbrev S1x128x2048 : Shape := ⟨3, ![1, 128, 2048]⟩
abbrev S128x2048 : Shape := ⟨2, ![128, 2048]⟩

abbrev nBuf : Space → Nat
  | .hbm => 13
  | .vmem => 18
  | .smem => 1
  | _ => 0

abbrev bufTy : (tb : Table) → Fin (tcTables nBuf tb) → BufTy
  | .hbm, ⟨0, _⟩ => ⟨S2x256x2048, .bf16⟩
  | .hbm, ⟨1, _⟩ => ⟨S256x2048, .bf16⟩
  | .hbm, ⟨2, _⟩ => ⟨S4x256x2048, .f32⟩
  | .hbm, ⟨3, _⟩ => ⟨S4x256x2048, .f32⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S4x256x2048, .f32⟩
  | .hbm, ⟨8, _⟩ => ⟨S4x256x2048, .f32⟩
  | .hbm, ⟨9, _⟩ => ⟨S4x256x2048, .f32⟩
  | .hbm, ⟨10, _⟩ => ⟨S4x256x2048, .f32⟩
  | .hbm, ⟨11, _⟩ => ⟨S4x256x2048, .f32⟩
  | .hbm, ⟨12, _⟩ => ⟨S4x256x2048, .f32⟩
  | .local _ .vmem, ⟨0, _⟩ => ⟨S1x128x2048, .bf16⟩
  | .local _ .vmem, ⟨1, _⟩ => ⟨S1x128x2048, .bf16⟩
  | .local _ .vmem, ⟨2, _⟩ => ⟨S128x2048, .bf16⟩
  | .local _ .vmem, ⟨3, _⟩ => ⟨S128x2048, .bf16⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .smem, ⟨0, _⟩ => ⟨S1, .i32⟩
  | _, _ => ⟨S2x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference37Ideal.lean ====
abbrev S1 : Shape := ⟨1, ![1]⟩
abbrev S2x256x2048 : Shape := ⟨3, ![2, 256, 2048]⟩
abbrev S256x2048 : Shape := ⟨2, ![256, 2048]⟩
abbrev S4x256x2048 : Shape := ⟨3, ![4, 256, 2048]⟩
abbrev S_ : Shape := ⟨0, ![]⟩
abbrev S1x256x2048 : Shape := ⟨3, ![1, 256, 2048]⟩
abbrev S4 : Shape := ⟨1, ![4]⟩
abbrev S4x1x1 : Shape := ⟨3, ![4, 1, 1]⟩

abbrev nBuf : Space → Nat
  | .hbm => 68
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x256x2048, .bf16⟩
  | .hbm, ⟨2, _⟩ => ⟨S256x2048, .bf16⟩
  | .hbm, ⟨3, _⟩ => ⟨S4x256x2048, .f32⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S4x256x2048, .f32⟩
  | .hbm, ⟨8, _⟩ => ⟨S4x256x2048, .f32⟩
  | .hbm, ⟨9, _⟩ => ⟨S4x256x2048, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1x256x2048, .bf16⟩
  | .hbm, ⟨14, _⟩ => ⟨S256x2048, .bf16⟩
  | .hbm, ⟨15, _⟩ => ⟨S1x256x2048, .bf16⟩
  | .hbm, ⟨16, _⟩ => ⟨S256x2048, .bf16⟩
  | .hbm, ⟨17, _⟩ => ⟨S256x2048, .bf16⟩
  | .hbm, ⟨18, _⟩ => ⟨S256x2048, .f32⟩
  | .hbm, ⟨19, _⟩ => ⟨S256x2048, .f32⟩
  | .hbm, ⟨20, _⟩ => ⟨S256x2048, .f32⟩
  | .hbm, ⟨21, _⟩ => ⟨S4x256x2048, .f32⟩
  | .hbm, ⟨22, _⟩ => ⟨S4, .i32⟩
  | .hbm, ⟨23, _⟩ => ⟨S4x1x1, .i32⟩
  | .hbm, ⟨24, _⟩ => ⟨S_, .i32⟩
  | .hbm, ⟨25, _⟩ => ⟨S4x1x1, .i32⟩
  | .hbm, ⟨26, _⟩ => ⟨S4x1x1, .i1⟩
  | .hbm, ⟨27, _⟩ => ⟨S_, .f32⟩
  | .hbm, ⟨28, _⟩ => ⟨S4x256x2048, .f32⟩
  | .hbm, ⟨29, _⟩ => ⟨S4x256x2048, .f32⟩
  | .hbm, ⟨30, _⟩ => ⟨S_, .f32⟩
  | .hbm, ⟨31, _⟩ => ⟨S4x256x2048, .f32⟩
  | .hbm, ⟨32, _⟩ => ⟨S4x256x2048, .f32⟩
  | .hbm, ⟨33, _⟩ => ⟨S4x256x2048, .f32⟩
  | .hbm, ⟨34, _⟩ => ⟨S_, .f32⟩
  | .hbm, ⟨35, _⟩ => ⟨S4x256x2048, .f32⟩
  | .hbm, ⟨36, _⟩ => ⟨S4x256x2048, .f32⟩
  | .hbm, ⟨37, _⟩ => ⟨S4x256x2048, .f32⟩
  | .hbm, ⟨38, _⟩ => ⟨S_, .f32⟩
  | .hbm, ⟨39, _⟩ => ⟨S4x256x2048, .f32⟩
  | .hbm, ⟨40, _⟩ => ⟨S4x256x2048, .f32⟩
  | .hbm, ⟨41, _⟩ => ⟨S4x256x2048, .f32⟩
  | .hbm, ⟨42, _⟩ => ⟨S_, .f32⟩
  | .hbm, ⟨43, _⟩ => ⟨S4x256x2048, .f32⟩
  | .hbm, ⟨44, _⟩ => ⟨S4x256x2048, .f32⟩
  | .hbm, ⟨45, _⟩ => ⟨S_, .f32⟩
  | .hbm, ⟨46, _⟩ => ⟨S4x256x2048, .f32⟩
  | .hbm, ⟨47, _⟩ => ⟨S4x256x2048, .f32⟩
  | .hbm, ⟨48, _⟩ => ⟨S4x256x2048, .f32⟩
  | .hbm, ⟨49, _⟩ => ⟨S_, .f32⟩
  | .hbm, ⟨50, _⟩ => ⟨S4x256x2048, .f32⟩
  | .hbm, ⟨51, _⟩ => ⟨S4x256x2048, .f32⟩
  | .hbm, ⟨52, _⟩ => ⟨S4x256x2048, .f32⟩
  | .hbm, ⟨53, _⟩ => ⟨S_, .f32⟩
  | .hbm, ⟨54, _⟩ => ⟨S4x256x2048, .f32⟩
  | .hbm, ⟨55, _⟩ => ⟨S4x256x2048, .f32⟩
  | .hbm, ⟨56, _⟩ => ⟨S4x256x2048, .f32⟩
  | .hbm, ⟨57, _⟩ => ⟨S_, .f32⟩
  | .hbm, ⟨58, _⟩ => ⟨S4x256x2048, .f32⟩
  | .hbm, ⟨59, _⟩ => ⟨S4x256x2048, .f32⟩
  | .hbm, ⟨60, _⟩ => ⟨S4x256x2048, .i1⟩
  | .hbm, ⟨61, _⟩ => ⟨S4x256x2048, .f32⟩
  | .hbm, ⟨62, _⟩ => ⟨S4x256x2048, .i1⟩
  | .hbm, ⟨63, _⟩ => ⟨S4x256x2048, .f32⟩
  | .hbm, ⟨64, _⟩ => ⟨S4x256x2048, .i1⟩
  | .hbm, ⟨65, _⟩ => ⟨S4x256x2048, .f32⟩
  | .hbm, ⟨66, _⟩ => ⟨S4x256x2048, .i1⟩
  | .hbm, ⟨67, _⟩ => ⟨S4x256x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_0 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_call1_v0 : Ref sig .tc := ⟨.hbm, 60, rfl⟩
abbrev main_v39 : Ref sig .tc := ⟨.hbm, 61, rfl⟩
abbrev main_call2_v0 : Ref sig .tc := ⟨.hbm, 62, rfl⟩
abbrev main_v40 : Ref sig .tc := ⟨.hbm, 63, rfl⟩
abbrev main_call3_v0 : Ref sig .tc := ⟨.hbm, 64, rfl⟩
abbrev main_v41 : Ref sig .tc := ⟨.hbm, 65, rfl⟩
abbrev main_call4_v0 : Ref sig .tc := ⟨.hbm, 66, rfl⟩
abbrev main_v42 : Ref sig .tc := ⟨.hbm, 67, rfl⟩

abbrev nD : Nat := 1
abbrev τ : Topo := Topo.v7x

variable {F : FTy → Type} [FloatOps F]
-- ==== Kernel38.lean ====
abbrev S1 : Shape := ⟨1, ![1]⟩
abbrev S2x4x384 : Shape := ⟨3, ![2, 4, 384]⟩
abbrev S4x384 : Shape := ⟨2, ![4, 384]⟩
abbrev S4x4x384 : Shape := ⟨3, ![4, 4, 384]⟩
abbrev S1x4x384 : Shape := ⟨3, ![1, 4, 384]⟩

abbrev nBuf : Space → Nat
  | .hbm => 13
  | .vmem => 9
  | .smem => 1
  | _ => 0

abbrev bufTy : (tb : Table) → Fin (tcTables nBuf tb) → BufTy
  | .hbm, ⟨0, _⟩ => ⟨S2x4x384, .f32⟩
  | .hbm, ⟨1, _⟩ => ⟨S4x384, .f32⟩
  | .hbm, ⟨2, _⟩ => ⟨S4x4x384, .f32⟩
  | .hbm, ⟨3, _⟩ => ⟨S4x4x384, .f32⟩
  | .hbm, ⟨4, _⟩ => ⟨S4x4x384, .f32⟩
  | .hbm, ⟨5, _⟩ => ⟨S4x4x384, .f32⟩
  | .hbm, ⟨6, _⟩ => ⟨S4x4x384, .f32⟩
  | .hbm, ⟨7, _⟩ => ⟨S4x4x384, .f32⟩
  | .hbm, ⟨8, _⟩ => ⟨S4x4x384, .f32⟩
  | .hbm, ⟨9, _⟩ => ⟨S4x4x384, .f32⟩
  | .hbm, ⟨10, _⟩ => ⟨S4x4x384, .f32⟩
  | .hbm, ⟨11, _⟩ => ⟨S4x4x384, .f32⟩
  | .hbm, ⟨12, _⟩ => ⟨S4x4x384, .f32⟩
  | .local _ .vmem, ⟨0, _⟩ => ⟨S1x4x384, .f32⟩
  | .local _ .vmem, ⟨1, _⟩ => ⟨S4x384, .f32⟩
  | .local _ .vmem, ⟨2, _⟩ => ⟨S1x4x384, .f32⟩
  | .local _ .vmem, ⟨3, _⟩ => ⟨S1x4x384, .f32⟩
  | .local _ .vmem, ⟨4, _⟩ => ⟨S1x4x384, .f32⟩
  | .local _ .vmem, ⟨5, _⟩ => ⟨S1x4x384, .f32⟩
  | .local _ .vmem, ⟨6, _⟩ => ⟨S1x4x384, .f32⟩
  | .local _ .vmem, ⟨7, _⟩ => ⟨S1x4x384, .f32⟩
  | .local _ .vmem, ⟨8, _⟩ => ⟨S1x4x384, .f32⟩
  | .local _ .smem, ⟨0, _⟩ => ⟨S1, .i32⟩
  | _, _ => ⟨S2x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_12 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 1 → Memref sig .tc .vmem S1x4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x4x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x4x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Kernel38Ideal.lean ====
abbrev S1 : Shape := ⟨1, ![1]⟩
abbrev S2x4x384 : Shape := ⟨3, ![2, 4, 384]⟩
abbrev S4x384 : Shape := ⟨2, ![4, 384]⟩
abbrev S4x4x384 : Shape := ⟨3, ![4, 4, 384]⟩
abbrev S1x4x384 : Shape := ⟨3, ![1, 4, 384]⟩

abbrev nBuf : Space → Nat
  | .hbm => 13
  | .vmem => 9
  | .smem => 1
  | _ => 0

abbrev bufTy : (tb : Table) → Fin (tcTables nBuf tb) → BufTy
  | .hbm, ⟨0, _⟩ => ⟨S2x4x384, .f32⟩
  | .hbm, ⟨1, _⟩ => ⟨S4x384, .f32⟩
  | .hbm, ⟨2, _⟩ => ⟨S4x4x384, .f32⟩
  | .hbm, ⟨3, _⟩ => ⟨S4x4x384, .f32⟩
  | .hbm, ⟨4, _⟩ => ⟨S4x4x384, .f32⟩
  | .hbm, ⟨5, _⟩ => ⟨S4x4x384, .f32⟩
  | .hbm, ⟨6, _⟩ => ⟨S4x4x384, .f32⟩
  | .hbm, ⟨7, _⟩ => ⟨S4x4x384, .f32⟩
  | .hbm, ⟨8, _⟩ => ⟨S4x4x384, .f32⟩
  | .hbm, ⟨9, _⟩ => ⟨S4x4x384, .f32⟩
  | .hbm, ⟨10, _⟩ => ⟨S4x4x384, .f32⟩
  | .hbm, ⟨11, _⟩ => ⟨S4x4x384, .f32⟩
  | .hbm, ⟨12, _⟩ => ⟨S4x4x384, .f32⟩
  | .local _ .vmem, ⟨0, _⟩ => ⟨S1x4x384, .f32⟩
  | .local _ .vmem, ⟨1, _⟩ => ⟨S4x384, .f32⟩
  | .local _ .vmem, ⟨2, _⟩ => ⟨S1x4x384, .f32⟩
  | .local _ .vmem, ⟨3, _⟩ => ⟨S1x4x384, .f32⟩
  | .local _ .vmem, ⟨4, _⟩ => ⟨S1x4x384, .f32⟩
  | .local _ .vmem, ⟨5, _⟩ => ⟨S1x4x384, .f32⟩
  | .local _ .vmem, ⟨6, _⟩ => ⟨S1x4x384, .f32⟩
  | .local _ .vmem, ⟨7, _⟩ => ⟨S1x4x384, .f32⟩
  | .local _ .vmem, ⟨8, _⟩ => ⟨S1x4x384, .f32⟩
  | .local _ .smem, ⟨0, _⟩ => ⟨S1, .i32⟩
  | _, _ => ⟨S2x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_12 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 1 → Memref sig .tc .vmem S1x4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x4x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x4x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference38Ideal.lean ====
abbrev S1 : Shape := ⟨1, ![1]⟩
abbrev S2x4x384 : Shape := ⟨3, ![2, 4, 384]⟩
abbrev S4x384 : Shape := ⟨2, ![4, 384]⟩
abbrev S4x4x384 : Shape := ⟨3, ![4, 4, 384]⟩
abbrev S_ : Shape := ⟨0, ![]⟩
abbrev S1x4x384 : Shape := ⟨3, ![1, 4, 384]⟩
abbrev S4 : Shape := ⟨1, ![4]⟩
abbrev S4x1x1 : Shape := ⟨3, ![4, 1, 1]⟩

abbrev nBuf : Space → Nat
  | .hbm => 66
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x4x384, .f32⟩
  | .hbm, ⟨2, _⟩ => ⟨S4x384, .f32⟩
  | .hbm, ⟨3, _⟩ => ⟨S4x4x384, .f32⟩
  | .hbm, ⟨4, _⟩ => ⟨S4x4x384, .f32⟩
  | .hbm, ⟨5, _⟩ => ⟨S4x4x384, .f32⟩
  | .hbm, ⟨6, _⟩ => ⟨S4x4x384, .f32⟩
  | .hbm, ⟨7, _⟩ => ⟨S4x4x384, .f32⟩
  | .hbm, ⟨8, _⟩ => ⟨S4x4x384, .f32⟩
  | .hbm, ⟨9, _⟩ => ⟨S4x4x384, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1x4x384, .f32⟩
  | .hbm, ⟨14, _⟩ => ⟨S4x384, .f32⟩
  | .hbm, ⟨15, _⟩ => ⟨S1x4x384, .f32⟩
  | .hbm, ⟨16, _⟩ => ⟨S4x384, .f32⟩
  | .hbm, ⟨17, _⟩ => ⟨S4x384, .f32⟩
  | .hbm, ⟨18, _⟩ => ⟨S4x384, .f32⟩
  | .hbm, ⟨19, _⟩ => ⟨S4x4x384, .f32⟩
  | .hbm, ⟨20, _⟩ => ⟨S4, .i32⟩
  | .hbm, ⟨21, _⟩ => ⟨S4x1x1, .i32⟩
  | .hbm, ⟨22, _⟩ => ⟨S_, .i32⟩
  | .hbm, ⟨23, _⟩ => ⟨S4x1x1, .i32⟩
  | .hbm, ⟨24, _⟩ => ⟨S4x1x1, .i1⟩
  | .hbm, ⟨25, _⟩ => ⟨S_, .f32⟩
  | .hbm, ⟨26, _⟩ => ⟨S4x4x384, .f32⟩
  | .hbm, ⟨27, _⟩ => ⟨S4x4x384, .f32⟩
  | .hbm, ⟨28, _⟩ => ⟨S_, .f32⟩
  | .hbm, ⟨29, _⟩ => ⟨S4x4x384, .f32⟩
  | .hbm, ⟨30, _⟩ => ⟨S4x4x384, .f32⟩
  | .hbm, ⟨31, _⟩ => ⟨S4x4x384, .f32⟩
  | .hbm, ⟨32, _⟩ => ⟨S_, .f32⟩
  | .hbm, ⟨33, _⟩ => ⟨S4x4x384, .f32⟩
  | .hbm, ⟨34, _⟩ => ⟨S4x4x384, .f32⟩
  | .hbm, ⟨35, _⟩ => ⟨S4x4x384, .f32⟩
  | .hbm, ⟨36, _⟩ => ⟨S_, .f32⟩
  | .hbm, ⟨37, _⟩ => ⟨S4x4x384, .f32⟩
  | .hbm, ⟨38, _⟩ => ⟨S4x4x384, .f32⟩
  | .hbm, ⟨39, _⟩ => ⟨S4x4x384, .f32⟩
  | .hbm, ⟨40, _⟩ => ⟨S_, .f32⟩
  | .hbm, ⟨41, _⟩ => ⟨S4x4x384, .f32⟩
  | .hbm, ⟨42, _⟩ => ⟨S4x4x384, .f32⟩
  | .hbm, ⟨43, _⟩ => ⟨S_, .f32⟩
  | .hbm, ⟨44, _⟩ => ⟨S4x4x384, .f32⟩
  | .hbm, ⟨45, _⟩ => ⟨S4x4x384, .f32⟩
  | .hbm, ⟨46, _⟩ => ⟨S4x4x384, .f32⟩
  | .hbm, ⟨47, _⟩ => ⟨S_, .f32⟩
  | .hbm, ⟨48, _⟩ => ⟨S4x4x384, .f32⟩
  | .hbm, ⟨49, _⟩ => ⟨S4x4x384, .f32⟩
  | .hbm, ⟨50, _⟩ => ⟨S4x4x384, .f32⟩
  | .hbm, ⟨51, _⟩ => ⟨S_, .f32⟩
  | .hbm, ⟨52, _⟩ => ⟨S4x4x384, .f32⟩
  | .hbm, ⟨53, _⟩ => ⟨S4x4x384, .f32⟩
  | .hbm, ⟨54, _⟩ => ⟨S4x4x384, .f32⟩
  | .hbm, ⟨55, _⟩ => ⟨S_, .f32⟩
  | .hbm, ⟨56, _⟩ => ⟨S4x4x384, .f32⟩
  | .hbm, ⟨57, _⟩ => ⟨S4x4x384, .f32⟩
  | .hbm, ⟨58, _⟩ => ⟨S4x4x384, .i1⟩
  | .hbm, ⟨59, _⟩ => ⟨S4x4x384, .f32⟩
  | .hbm, ⟨60, _⟩ => ⟨S4x4x384, .i1⟩
  | .hbm, ⟨61, _⟩ => ⟨S4x4x384, .f32⟩
  | .hbm, ⟨62, _⟩ => ⟨S4x4x384, .i1⟩
  | .hbm, ⟨63, _⟩ => ⟨S4x4x384, .f32⟩
  | .hbm, ⟨64, _⟩ => ⟨S4x4x384, .i1⟩
  | .hbm, ⟨65, _⟩ => ⟨S4x4x384, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_call1_v0 : Ref sig .tc := ⟨.hbm, 58, rfl⟩
abbrev main_v37 : Ref sig .tc := ⟨.hbm, 59, rfl⟩
abbrev main_call2_v0 : Ref sig .tc := ⟨.hbm, 60, rfl⟩
abbrev main_v38 : Ref sig .tc := ⟨.hbm, 61, rfl⟩
abbrev main_call3_v0 : Ref sig .tc := ⟨.hbm, 62, rfl⟩
abbrev main_v39 : Ref sig .tc := ⟨.hbm, 63, rfl⟩
abbrev main_call4_v0 : Ref sig .tc := ⟨.hbm, 64, rfl⟩
abbrev main_v40 : Ref sig .tc := ⟨.hbm, 65, rfl⟩

abbrev nD : Nat := 1
abbrev τ : Topo := Topo.v7x

variable {F : FTy → Type} [FloatOps F]
-- ==== Kernel39.lean ====
abbrev S1 : Shape := ⟨1, ![1]⟩
abbrev S2x4x384 : Shape := ⟨3, ![2, 4, 384]⟩
abbrev S4x384 : Shape := ⟨2, ![4, 384]⟩
abbrev S4x4x384 : Shape := ⟨3, ![4, 4, 384]⟩
abbrev S1x4x384 : Shape := ⟨3, ![1, 4, 384]⟩

abbrev nBuf : Space → Nat
  | .hbm => 13
  | .vmem => 9
  | .smem => 1
  | _ => 0

abbrev bufTy : (tb : Table) → Fin (tcTables nBuf tb) → BufTy
  | .hbm, ⟨0, _⟩ => ⟨S2x4x384, .f32⟩
  | .hbm, ⟨1, _⟩ => ⟨S4x384, .f32⟩
  | .hbm, ⟨2, _⟩ => ⟨S4x4x384, .f32⟩
  | .hbm, ⟨3, _⟩ => ⟨S4x4x384, .f32⟩
  | .hbm, ⟨4, _⟩ => ⟨S4x4x384, .f32⟩
  | .hbm, ⟨5, _⟩ => ⟨S4x4x384, .f32⟩
  | .hbm, ⟨6, _⟩ => ⟨S4x4x384, .f32⟩
  | .hbm, ⟨7, _⟩ => ⟨S4x4x384, .f32⟩
  | .hbm, ⟨8, _⟩ => ⟨S4x4x384, .f32⟩
  | .hbm, ⟨9, _⟩ => ⟨S4x4x384, .f32⟩
  | .hbm, ⟨10, _⟩ => ⟨S4x4x384, .f32⟩
  | .hbm, ⟨11, _⟩ => ⟨S4x4x384, .f32⟩
  | .hbm, ⟨12, _⟩ => ⟨S4x4x384, .f32⟩
  | .local _ .vmem, ⟨0, _⟩ => ⟨S1x4x384, .f32⟩
  | .local _ .vmem, ⟨1, _⟩ => ⟨S4x384, .f32⟩
  | .local _ .vmem, ⟨2, _⟩ => ⟨S1x4x384, .f32⟩
  | .local _ .vmem, ⟨3, _⟩ => ⟨S1x4x384, .f32⟩
  | .local _ .vmem, ⟨4, _⟩ => ⟨S1x4x384, .f32⟩
  | .local _ .vmem, ⟨5, _⟩ => ⟨S1x4x384, .f32⟩
  | .local _ .vmem, ⟨6, _⟩ => ⟨S1x4x384, .f32⟩
  | .local _ .vmem, ⟨7, _⟩ => ⟨S1x4x384, .f32⟩
  | .local _ .vmem, ⟨8, _⟩ => ⟨S1x4x384, .f32⟩
  | .local _ .smem, ⟨0, _⟩ => ⟨S1, .i32⟩
  | _, _ => ⟨S2x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_10 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_12 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage0_0 : Fin 1 → Memref sig .tc .vmem S1x4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x4x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x4x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Kernel39Ideal.lean ====
abbrev S1 : Shape := ⟨1, ![1]⟩
abbrev S2x4x384 : Shape := ⟨3, ![2, 4, 384]⟩
abbrev S4x384 : Shape := ⟨2, ![4, 384]⟩
abbrev S4x4x384 : Shape := ⟨3, ![4, 4, 384]⟩
abbrev S1x4x384 : Shape := ⟨3, ![1, 4, 384]⟩

abbrev nBuf : Space → Nat
  | .hbm => 13
  | .vmem => 9
  | .smem => 1
  | _ => 0

abbrev bufTy : (tb : Table) → Fin (tcTables nBuf tb) → BufTy
  | .hbm, ⟨0, _⟩ => ⟨S2x4x384, .f32⟩
  | .hbm, ⟨1, _⟩ => ⟨S4x384, .f32⟩
  | .hbm, ⟨2, _⟩ => ⟨S4x4x384, .f32⟩
  | .hbm, ⟨3, _⟩ => ⟨S4x4x384, .f32⟩
  | .hbm, ⟨4, _⟩ => ⟨S4x4x384, .f32⟩
  | .hbm, ⟨5, _⟩ => ⟨S4x4x384, .f32⟩
  | .hbm, ⟨6, _⟩ => ⟨S4x4x384, .f32⟩
  | .hbm, ⟨7, _⟩ => ⟨S4x4x384, .f32⟩
  | .hbm, ⟨8, _⟩ => ⟨S4x4x384, .f32⟩
  | .hbm, ⟨9, _⟩ => ⟨S4x4x384, .f32⟩
  | .hbm, ⟨10, _⟩ => ⟨S4x4x384, .f32⟩
  | .hbm, ⟨11, _⟩ => ⟨S4x4x384, .f32⟩
  | .hbm, ⟨12, _⟩ => ⟨S4x4x384, .f32⟩
  | .local _ .vmem, ⟨0, _⟩ => ⟨S1x4x384, .f32⟩
  | .local _ .vmem, ⟨1, _⟩ => ⟨S4x384, .f32⟩
  | .local _ .vmem, ⟨2, _⟩ => ⟨S1x4x384, .f32⟩
  | .local _ .vmem, ⟨3, _⟩ => ⟨S1x4x384, .f32⟩
  | .local _ .vmem, ⟨4, _⟩ => ⟨S1x4x384, .f32⟩
  | .local _ .vmem, ⟨5, _⟩ => ⟨S1x4x384, .f32⟩
  | .local _ .vmem, ⟨6, _⟩ => ⟨S1x4x384, .f32⟩
  | .local _ .vmem, ⟨7, _⟩ => ⟨S1x4x384, .f32⟩
  | .local _ .vmem, ⟨8, _⟩ => ⟨S1x4x384, .f32⟩
  | .local _ .smem, ⟨0, _⟩ => ⟨S1, .i32⟩
  | _, _ => ⟨S2x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_10 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_12 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage0_0 : Fin 1 → Memref sig .tc .vmem S1x4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x4x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x4x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference39Ideal.lean ====
abbrev S1 : Shape := ⟨1, ![1]⟩
abbrev S2x4x384 : Shape := ⟨3, ![2, 4, 384]⟩
abbrev S4x384 : Shape := ⟨2, ![4, 384]⟩
abbrev S4x4x384 : Shape := ⟨3, ![4, 4, 384]⟩
abbrev S_ : Shape := ⟨0, ![]⟩
abbrev S1x4x384 : Shape := ⟨3, ![1, 4, 384]⟩
abbrev S4 : Shape := ⟨1, ![4]⟩
abbrev S4x1x1 : Shape := ⟨3, ![4, 1, 1]⟩

abbrev nBuf : Space → Nat
  | .hbm => 66
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x4x384, .f32⟩
  | .hbm, ⟨2, _⟩ => ⟨S4x384, .f32⟩
  | .hbm, ⟨3, _⟩ => ⟨S4x4x384, .f32⟩
  | .hbm, ⟨4, _⟩ => ⟨S4x4x384, .f32⟩
  | .hbm, ⟨5, _⟩ => ⟨S4x4x384, .f32⟩
  | .hbm, ⟨6, _⟩ => ⟨S4x4x384, .f32⟩
  | .hbm, ⟨7, _⟩ => ⟨S4x4x384, .f32⟩
  | .hbm, ⟨8, _⟩ => ⟨S4x4x384, .f32⟩
  | .hbm, ⟨9, _⟩ => ⟨S4x4x384, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1x4x384, .f32⟩
  | .hbm, ⟨14, _⟩ => ⟨S4x384, .f32⟩
  | .hbm, ⟨15, _⟩ => ⟨S1x4x384, .f32⟩
  | .hbm, ⟨16, _⟩ => ⟨S4x384, .f32⟩
  | .hbm, ⟨17, _⟩ => ⟨S4x384, .f32⟩
  | .hbm, ⟨18, _⟩ => ⟨S4x384, .f32⟩
  | .hbm, ⟨19, _⟩ => ⟨S4x4x384, .f32⟩
  | .hbm, ⟨20, _⟩ => ⟨S4, .i32⟩
  | .hbm, ⟨21, _⟩ => ⟨S4x1x1, .i32⟩
  | .hbm, ⟨22, _⟩ => ⟨S_, .i32⟩
  | .hbm, ⟨23, _⟩ => ⟨S4x1x1, .i32⟩
  | .hbm, ⟨24, _⟩ => ⟨S4x1x1, .i1⟩
  | .hbm, ⟨25, _⟩ => ⟨S_, .f32⟩
  | .hbm, ⟨26, _⟩ => ⟨S4x4x384, .f32⟩
  | .hbm, ⟨27, _⟩ => ⟨S4x4x384, .f32⟩
  | .hbm, ⟨28, _⟩ => ⟨S_, .f32⟩
  | .hbm, ⟨29, _⟩ => ⟨S4x4x384, .f32⟩
  | .hbm, ⟨30, _⟩ => ⟨S4x4x384, .f32⟩
  | .hbm, ⟨31, _⟩ => ⟨S4x4x384, .f32⟩
  | .hbm, ⟨32, _⟩ => ⟨S_, .f32⟩
  | .hbm, ⟨33, _⟩ => ⟨S4x4x384, .f32⟩
  | .hbm, ⟨34, _⟩ => ⟨S4x4x384, .f32⟩
  | .hbm, ⟨35, _⟩ => ⟨S4x4x384, .f32⟩
  | .hbm, ⟨36, _⟩ => ⟨S_, .f32⟩
  | .hbm, ⟨37, _⟩ => ⟨S4x4x384, .f32⟩
  | .hbm, ⟨38, _⟩ => ⟨S4x4x384, .f32⟩
  | .hbm, ⟨39, _⟩ => ⟨S4x4x384, .f32⟩
  | .hbm, ⟨40, _⟩ => ⟨S_, .f32⟩
  | .hbm, ⟨41, _⟩ => ⟨S4x4x384, .f32⟩
  | .hbm, ⟨42, _⟩ => ⟨S4x4x384, .f32⟩
  | .hbm, ⟨43, _⟩ => ⟨S_, .f32⟩
  | .hbm, ⟨44, _⟩ => ⟨S4x4x384, .f32⟩
  | .hbm, ⟨45, _⟩ => ⟨S4x4x384, .f32⟩
  | .hbm, ⟨46, _⟩ => ⟨S4x4x384, .f32⟩
  | .hbm, ⟨47, _⟩ => ⟨S_, .f32⟩
  | .hbm, ⟨48, _⟩ => ⟨S4x4x384, .f32⟩
  | .hbm, ⟨49, _⟩ => ⟨S4x4x384, .f32⟩
  | .hbm, ⟨50, _⟩ => ⟨S4x4x384, .f32⟩
  | .hbm, ⟨51, _⟩ => ⟨S_, .f32⟩
  | .hbm, ⟨52, _⟩ => ⟨S4x4x384, .f32⟩
  | .hbm, ⟨53, _⟩ => ⟨S4x4x384, .f32⟩
  | .hbm, ⟨54, _⟩ => ⟨S4x4x384, .f32⟩
  | .hbm, ⟨55, _⟩ => ⟨S_, .f32⟩
  | .hbm, ⟨56, _⟩ => ⟨S4x4x384, .f32⟩
  | .hbm, ⟨57, _⟩ => ⟨S4x4x384, .f32⟩
  | .hbm, ⟨58, _⟩ => ⟨S4x4x384, .i1⟩
  | .hbm, ⟨59, _⟩ => ⟨S4x4x384, .f32⟩
  | .hbm, ⟨60, _⟩ => ⟨S4x4x384, .i1⟩
  | .hbm, ⟨61, _⟩ => ⟨S4x4x384, .f32⟩
  | .hbm, ⟨62, _⟩ => ⟨S4x4x384, .i1⟩
  | .hbm, ⟨63, _⟩ => ⟨S4x4x384, .f32⟩
  | .hbm, ⟨64, _⟩ => ⟨S4x4x384, .i1⟩
  | .hbm, ⟨65, _⟩ => ⟨S4x4x384, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_call1_v0 : Ref sig .tc := ⟨.hbm, 58, rfl⟩
abbrev main_v37 : Ref sig .tc := ⟨.hbm, 59, rfl⟩
abbrev main_call2_v0 : Ref sig .tc := ⟨.hbm, 60, rfl⟩
abbrev main_v38 : Ref sig .tc := ⟨.hbm, 61, rfl⟩
abbrev main_call3_v0 : Ref sig .tc := ⟨.hbm, 62, rfl⟩
abbrev main_v39 : Ref sig .tc := ⟨.hbm, 63, rfl⟩
abbrev main_call4_v0 : Ref sig .tc := ⟨.hbm, 64, rfl⟩
abbrev main_v40 : Ref sig .tc := ⟨.hbm, 65, rfl⟩

abbrev nD : Nat := 1
abbrev τ : Topo := Topo.v7x

variable {F : FTy → Type} [FloatOps F]
-- ==== Kernel40.lean ====
abbrev S1 : Shape := ⟨1, ![1]⟩
abbrev S2x4x384 : Shape := ⟨3, ![2, 4, 384]⟩
abbrev S4x384 : Shape := ⟨2, ![4, 384]⟩
abbrev S4x4x384 : Shape := ⟨3, ![4, 4, 384]⟩
abbrev S1x4x384 : Shape := ⟨3, ![1, 4, 384]⟩

abbrev nBuf : Space → Nat
  | .hbm => 13
  | .vmem => 9
  | .smem => 1
  | _ => 0

abbrev bufTy : (tb : Table) → Fin (tcTables nBuf tb) → BufTy
  | .hbm, ⟨0, _⟩ => ⟨S2x4x384, .f32⟩
  | .hbm, ⟨1, _⟩ => ⟨S4x384, .f32⟩
  | .hbm, ⟨2, _⟩ => ⟨S4x4x384, .f32⟩
  | .hbm, ⟨3, _⟩ => ⟨S4x4x384, .f32⟩
  | .hbm, ⟨4, _⟩ => ⟨S4x4x384, .f32⟩
  | .hbm, ⟨5, _⟩ => ⟨S4x4x384, .f32⟩
  | .hbm, ⟨6, _⟩ => ⟨S4x4x384, .f32⟩
  | .hbm, ⟨7, _⟩ => ⟨S4x4x384, .f32⟩
  | .hbm, ⟨8, _⟩ => ⟨S4x4x384, .f32⟩
  | .hbm, ⟨9, _⟩ => ⟨S4x4x384, .f32⟩
  | .hbm, ⟨10, _⟩ => ⟨S4x4x384, .f32⟩
  | .hbm, ⟨11, _⟩ => ⟨S4x4x384, .f32⟩
  | .hbm, ⟨12, _⟩ => ⟨S4x4x384, .f32⟩
  | .local _ .vmem, ⟨0, _⟩ => ⟨S1x4x384, .f32⟩
  | .local _ .vmem, ⟨1, _⟩ => ⟨S4x384, .f32⟩
  | .local _ .vmem, ⟨2, _⟩ => ⟨S1x4x384, .f32⟩
  | .local _ .vmem, ⟨3, _⟩ => ⟨S1x4x384, .f32⟩
  | .local _ .vmem, ⟨4, _⟩ => ⟨S1x4x384, .f32⟩
  | .local _ .vmem, ⟨5, _⟩ => ⟨S1x4x384, .f32⟩
  | .local _ .vmem, ⟨6, _⟩ => ⟨S1x4x384, .f32⟩
  | .local _ .vmem, ⟨7, _⟩ => ⟨S1x4x384, .f32⟩
  | .local _ .vmem, ⟨8, _⟩ => ⟨S1x4x384, .f32⟩
  | .local _ .smem, ⟨0, _⟩ => ⟨S1, .i32⟩
  | _, _ => ⟨S2x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 1 → Memref sig .tc .vmem S1x4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x4x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x4x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Kernel40Ideal.lean ====
abbrev S1 : Shape := ⟨1, ![1]⟩
abbrev S2x4x384 : Shape := ⟨3, ![2, 4, 384]⟩
abbrev S4x384 : Shape := ⟨2, ![4, 384]⟩
abbrev S4x4x384 : Shape := ⟨3, ![4, 4, 384]⟩
abbrev S1x4x384 : Shape := ⟨3, ![1, 4, 384]⟩

abbrev nBuf : Space → Nat
  | .hbm => 13
  | .vmem => 9
  | .smem => 1
  | _ => 0

abbrev bufTy : (tb : Table) → Fin (tcTables nBuf tb) → BufTy
  | .hbm, ⟨0, _⟩ => ⟨S2x4x384, .f32⟩
  | .hbm, ⟨1, _⟩ => ⟨S4x384, .f32⟩
  | .hbm, ⟨2, _⟩ => ⟨S4x4x384, .f32⟩
  | .hbm, ⟨3, _⟩ => ⟨S4x4x384, .f32⟩
  | .hbm, ⟨4, _⟩ => ⟨S4x4x384, .f32⟩
  | .hbm, ⟨5, _⟩ => ⟨S4x4x384, .f32⟩
  | .hbm, ⟨6, _⟩ => ⟨S4x4x384, .f32⟩
  | .hbm, ⟨7, _⟩ => ⟨S4x4x384, .f32⟩
  | .hbm, ⟨8, _⟩ => ⟨S4x4x384, .f32⟩
  | .hbm, ⟨9, _⟩ => ⟨S4x4x384, .f32⟩
  | .hbm, ⟨10, _⟩ => ⟨S4x4x384, .f32⟩
  | .hbm, ⟨11, _⟩ => ⟨S4x4x384, .f32⟩
  | .hbm, ⟨12, _⟩ => ⟨S4x4x384, .f32⟩
  | .local _ .vmem, ⟨0, _⟩ => ⟨S1x4x384, .f32⟩
  | .local _ .vmem, ⟨1, _⟩ => ⟨S4x384, .f32⟩
  | .local _ .vmem, ⟨2, _⟩ => ⟨S1x4x384, .f32⟩
  | .local _ .vmem, ⟨3, _⟩ => ⟨S1x4x384, .f32⟩
  | .local _ .vmem, ⟨4, _⟩ => ⟨S1x4x384, .f32⟩
  | .local _ .vmem, ⟨5, _⟩ => ⟨S1x4x384, .f32⟩
  | .local _ .vmem, ⟨6, _⟩ => ⟨S1x4x384, .f32⟩
  | .local _ .vmem, ⟨7, _⟩ => ⟨S1x4x384, .f32⟩
  | .local _ .vmem, ⟨8, _⟩ => ⟨S1x4x384, .f32⟩
  | .local _ .smem, ⟨0, _⟩ => ⟨S1, .i32⟩
  | _, _ => ⟨S2x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 1 → Memref sig .tc .vmem S1x4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x4x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x4x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference40Ideal.lean ====
abbrev S1 : Shape := ⟨1, ![1]⟩
abbrev S2x4x384 : Shape := ⟨3, ![2, 4, 384]⟩
abbrev S4x384 : Shape := ⟨2, ![4, 384]⟩
abbrev S4x4x384 : Shape := ⟨3, ![4, 4, 384]⟩
abbrev S_ : Shape := ⟨0, ![]⟩
abbrev S1x4x384 : Shape := ⟨3, ![1, 4, 384]⟩
abbrev S4 : Shape := ⟨1, ![4]⟩
abbrev S4x1x1 : Shape := ⟨3, ![4, 1, 1]⟩

abbrev nBuf : Space → Nat
  | .hbm => 66
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x4x384, .f32⟩
  | .hbm, ⟨2, _⟩ => ⟨S4x384, .f32⟩
  | .hbm, ⟨3, _⟩ => ⟨S4x4x384, .f32⟩
  | .hbm, ⟨4, _⟩ => ⟨S4x4x384, .f32⟩
  | .hbm, ⟨5, _⟩ => ⟨S4x4x384, .f32⟩
  | .hbm, ⟨6, _⟩ => ⟨S4x4x384, .f32⟩
  | .hbm, ⟨7, _⟩ => ⟨S4x4x384, .f32⟩
  | .hbm, ⟨8, _⟩ => ⟨S4x4x384, .f32⟩
  | .hbm, ⟨9, _⟩ => ⟨S4x4x384, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1x4x384, .f32⟩
  | .hbm, ⟨14, _⟩ => ⟨S4x384, .f32⟩
  | .hbm, ⟨15, _⟩ => ⟨S1x4x384, .f32⟩
  | .hbm, ⟨16, _⟩ => ⟨S4x384, .f32⟩
  | .hbm, ⟨17, _⟩ => ⟨S4x384, .f32⟩
  | .hbm, ⟨18, _⟩ => ⟨S4x384, .f32⟩
  | .hbm, ⟨19, _⟩ => ⟨S4x4x384, .f32⟩
  | .hbm, ⟨20, _⟩ => ⟨S4, .i32⟩
  | .hbm, ⟨21, _⟩ => ⟨S4x1x1, .i32⟩
  | .hbm, ⟨22, _⟩ => ⟨S_, .i32⟩
  | .hbm, ⟨23, _⟩ => ⟨S4x1x1, .i32⟩
  | .hbm, ⟨24, _⟩ => ⟨S4x1x1, .i1⟩
  | .hbm, ⟨25, _⟩ => ⟨S_, .f32⟩
  | .hbm, ⟨26, _⟩ => ⟨S4x4x384, .f32⟩
  | .hbm, ⟨27, _⟩ => ⟨S4x4x384, .f32⟩
  | .hbm, ⟨28, _⟩ => ⟨S_, .f32⟩
  | .hbm, ⟨29, _⟩ => ⟨S4x4x384, .f32⟩
  | .hbm, ⟨30, _⟩ => ⟨S4x4x384, .f32⟩
  | .hbm, ⟨31, _⟩ => ⟨S4x4x384, .f32⟩
  | .hbm, ⟨32, _⟩ => ⟨S_, .f32⟩
  | .hbm, ⟨33, _⟩ => ⟨S4x4x384, .f32⟩
  | .hbm, ⟨34, _⟩ => ⟨S4x4x384, .f32⟩
  | .hbm, ⟨35, _⟩ => ⟨S4x4x384, .f32⟩
  | .hbm, ⟨36, _⟩ => ⟨S_, .f32⟩
  | .hbm, ⟨37, _⟩ => ⟨S4x4x384, .f32⟩
  | .hbm, ⟨38, _⟩ => ⟨S4x4x384, .f32⟩
  | .hbm, ⟨39, _⟩ => ⟨S4x4x384, .f32⟩
  | .hbm, ⟨40, _⟩ => ⟨S_, .f32⟩
  | .hbm, ⟨41, _⟩ => ⟨S4x4x384, .f32⟩
  | .hbm, ⟨42, _⟩ => ⟨S4x4x384, .f32⟩
  | .hbm, ⟨43, _⟩ => ⟨S_, .f32⟩
  | .hbm, ⟨44, _⟩ => ⟨S4x4x384, .f32⟩
  | .hbm, ⟨45, _⟩ => ⟨S4x4x384, .f32⟩
  | .hbm, ⟨46, _⟩ => ⟨S4x4x384, .f32⟩
  | .hbm, ⟨47, _⟩ => ⟨S_, .f32⟩
  | .hbm, ⟨48, _⟩ => ⟨S4x4x384, .f32⟩
  | .hbm, ⟨49, _⟩ => ⟨S4x4x384, .f32⟩
  | .hbm, ⟨50, _⟩ => ⟨S4x4x384, .f32⟩
  | .hbm, ⟨51, _⟩ => ⟨S_, .f32⟩
  | .hbm, ⟨52, _⟩ => ⟨S4x4x384, .f32⟩
  | .hbm, ⟨53, _⟩ => ⟨S4x4x384, .f32⟩
  | .hbm, ⟨54, _⟩ => ⟨S4x4x384, .f32⟩
  | .hbm, ⟨55, _⟩ => ⟨S_, .f32⟩
  | .hbm, ⟨56, _⟩ => ⟨S4x4x384, .f32⟩
  | .hbm, ⟨57, _⟩ => ⟨S4x4x384, .f32⟩
  | .hbm, ⟨58, _⟩ => ⟨S4x4x384, .i1⟩
  | .hbm, ⟨59, _⟩ => ⟨S4x4x384, .f32⟩
  | .hbm, ⟨60, _⟩ => ⟨S4x4x384, .i1⟩
  | .hbm, ⟨61, _⟩ => ⟨S4x4x384, .f32⟩
  | .hbm, ⟨62, _⟩ => ⟨S4x4x384, .i1⟩
  | .hbm, ⟨63, _⟩ => ⟨S4x4x384, .f32⟩
  | .hbm, ⟨64, _⟩ => ⟨S4x4x384, .i1⟩
  | .hbm, ⟨65, _⟩ => ⟨S4x4x384, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_call1_v0 : Ref sig .tc := ⟨.hbm, 58, rfl⟩
abbrev main_v37 : Ref sig .tc := ⟨.hbm, 59, rfl⟩
abbrev main_call2_v0 : Ref sig .tc := ⟨.hbm, 60, rfl⟩
abbrev main_v38 : Ref sig .tc := ⟨.hbm, 61, rfl⟩
abbrev main_call3_v0 : Ref sig .tc := ⟨.hbm, 62, rfl⟩
abbrev main_v39 : Ref sig .tc := ⟨.hbm, 63, rfl⟩
abbrev main_call4_v0 : Ref sig .tc := ⟨.hbm, 64, rfl⟩
abbrev main_v40 : Ref sig .tc := ⟨.hbm, 65, rfl⟩

abbrev nD : Nat := 1
abbrev τ : Topo := Topo.v7x

variable {F : FTy → Type} [FloatOps F]
-- ==== Kernel41.lean ====
abbrev S1 : Shape := ⟨1, ![1]⟩
abbrev S2x4x384 : Shape := ⟨3, ![2, 4, 384]⟩
abbrev S4x384 : Shape := ⟨2, ![4, 384]⟩
abbrev S4x4x384 : Shape := ⟨3, ![4, 4, 384]⟩
abbrev S1x4x384 : Shape := ⟨3, ![1, 4, 384]⟩

abbrev nBuf : Space → Nat
  | .hbm => 13
  | .vmem => 9
  | .smem => 1
  | _ => 0

abbrev bufTy : (tb : Table) → Fin (tcTables nBuf tb) → BufTy
  | .hbm, ⟨0, _⟩ => ⟨S2x4x384, .f32⟩
  | .hbm, ⟨1, _⟩ => ⟨S4x384, .f32⟩
  | .hbm, ⟨2, _⟩ => ⟨S4x4x384, .f32⟩
  | .hbm, ⟨3, _⟩ => ⟨S4x4x384, .f32⟩
  | .hbm, ⟨4, _⟩ => ⟨S4x4x384, .f32⟩
  | .hbm, ⟨5, _⟩ => ⟨S4x4x384, .f32⟩
  | .hbm, ⟨6, _⟩ => ⟨S4x4x384, .f32⟩
  | .hbm, ⟨7, _⟩ => ⟨S4x4x384, .f32⟩
  | .hbm, ⟨8, _⟩ => ⟨S4x4x384, .f32⟩
  | .hbm, ⟨9, _⟩ => ⟨S4x4x384, .f32⟩
  | .hbm, ⟨10, _⟩ => ⟨S4x4x384, .f32⟩
  | .hbm, ⟨11, _⟩ => ⟨S4x4x384, .f32⟩
  | .hbm, ⟨12, _⟩ => ⟨S4x4x384, .f32⟩
  | .local _ .vmem, ⟨0, _⟩ => ⟨S1x4x384, .f32⟩
  | .local _ .vmem, ⟨1, _⟩ => ⟨S4x384, .f32⟩
  | .local _ .vmem, ⟨2, _⟩ => ⟨S1x4x384, .f32⟩
  | .local _ .vmem, ⟨3, _⟩ => ⟨S1x4x384, .f32⟩
  | .local _ .vmem, ⟨4, _⟩ => ⟨S1x4x384, .f32⟩
  | .local _ .vmem, ⟨5, _⟩ => ⟨S1x4x384, .f32⟩
  | .local _ .vmem, ⟨6, _⟩ => ⟨S1x4x384, .f32⟩
  | .local _ .vmem, ⟨7, _⟩ => ⟨S1x4x384, .f32⟩
  | .local _ .vmem, ⟨8, _⟩ => ⟨S1x4x384, .f32⟩
  | .local _ .smem, ⟨0, _⟩ => ⟨S1, .i32⟩
  | _, _ => ⟨S2x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x4x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x4x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference41Ideal.lean ====
abbrev S1 : Shape := ⟨1, ![1]⟩
abbrev S2x4x384 : Shape := ⟨3, ![2, 4, 384]⟩
abbrev S4x384 : Shape := ⟨2, ![4, 384]⟩
abbrev S4x4x384 : Shape := ⟨3, ![4, 4, 384]⟩
abbrev S_ : Shape := ⟨0, ![]⟩
abbrev S1x4x384 : Shape := ⟨3, ![1, 4, 384]⟩
abbrev S4 : Shape := ⟨1, ![4]⟩
abbrev S4x1x1 : Shape := ⟨3, ![4, 1, 1]⟩

abbrev nBuf : Space → Nat
  | .hbm => 66
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x4x384, .f32⟩
  | .hbm, ⟨2, _⟩ => ⟨S4x384, .f32⟩
  | .hbm, ⟨3, _⟩ => ⟨S4x4x384, .f32⟩
  | .hbm, ⟨4, _⟩ => ⟨S4x4x384, .f32⟩
  | .hbm, ⟨5, _⟩ => ⟨S4x4x384, .f32⟩
  | .hbm, ⟨6, _⟩ => ⟨S4x4x384, .f32⟩
  | .hbm, ⟨7, _⟩ => ⟨S4x4x384, .f32⟩
  | .hbm, ⟨8, _⟩ => ⟨S4x4x384, .f32⟩
  | .hbm, ⟨9, _⟩ => ⟨S4x4x384, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1x4x384, .f32⟩
  | .hbm, ⟨14, _⟩ => ⟨S4x384, .f32⟩
  | .hbm, ⟨15, _⟩ => ⟨S1x4x384, .f32⟩
  | .hbm, ⟨16, _⟩ => ⟨S4x384, .f32⟩
  | .hbm, ⟨17, _⟩ => ⟨S4x384, .f32⟩
  | .hbm, ⟨18, _⟩ => ⟨S4x384, .f32⟩
  | .hbm, ⟨19, _⟩ => ⟨S4x4x384, .f32⟩
  | .hbm, ⟨20, _⟩ => ⟨S4, .i32⟩
  | .hbm, ⟨21, _⟩ => ⟨S4x1x1, .i32⟩
  | .hbm, ⟨22, _⟩ => ⟨S_, .i32⟩
  | .hbm, ⟨23, _⟩ => ⟨S4x1x1, .i32⟩
  | .hbm, ⟨24, _⟩ => ⟨S4x1x1, .i1⟩
  | .hbm, ⟨25, _⟩ => ⟨S_, .f32⟩
  | .hbm, ⟨26, _⟩ => ⟨S4x4x384, .f32⟩
  | .hbm, ⟨27, _⟩ => ⟨S4x4x384, .f32⟩
  | .hbm, ⟨28, _⟩ => ⟨S_, .f32⟩
  | .hbm, ⟨29, _⟩ => ⟨S4x4x384, .f32⟩
  | .hbm, ⟨30, _⟩ => ⟨S4x4x384, .f32⟩
  | .hbm, ⟨31, _⟩ => ⟨S4x4x384, .f32⟩
  | .hbm, ⟨32, _⟩ => ⟨S_, .f32⟩
  | .hbm, ⟨33, _⟩ => ⟨S4x4x384, .f32⟩
  | .hbm, ⟨34, _⟩ => ⟨S4x4x384, .f32⟩
  | .hbm, ⟨35, _⟩ => ⟨S4x4x384, .f32⟩
  | .hbm, ⟨36, _⟩ => ⟨S_, .f32⟩
  | .hbm, ⟨37, _⟩ => ⟨S4x4x384, .f32⟩
  | .hbm, ⟨38, _⟩ => ⟨S4x4x384, .f32⟩
  | .hbm, ⟨39, _⟩ => ⟨S4x4x384, .f32⟩
  | .hbm, ⟨40, _⟩ => ⟨S_, .f32⟩
  | .hbm, ⟨41, _⟩ => ⟨S4x4x384, .f32⟩
  | .hbm, ⟨42, _⟩ => ⟨S4x4x384, .f32⟩
  | .hbm, ⟨43, _⟩ => ⟨S_, .f32⟩
  | .hbm, ⟨44, _⟩ => ⟨S4x4x384, .f32⟩
  | .hbm, ⟨45, _⟩ => ⟨S4x4x384, .f32⟩
  | .hbm, ⟨46, _⟩ => ⟨S4x4x384, .f32⟩
  | .hbm, ⟨47, _⟩ => ⟨S_, .f32⟩
  | .hbm, ⟨48, _⟩ => ⟨S4x4x384, .f32⟩
  | .hbm, ⟨49, _⟩ => ⟨S4x4x384, .f32⟩
  | .hbm, ⟨50, _⟩ => ⟨S4x4x384, .f32⟩
  | .hbm, ⟨51, _⟩ => ⟨S_, .f32⟩
  | .hbm, ⟨52, _⟩ => ⟨S4x4x384, .f32⟩
  | .hbm, ⟨53, _⟩ => ⟨S4x4x384, .f32⟩
  | .hbm, ⟨54, _⟩ => ⟨S4x4x384, .f32⟩
  | .hbm, ⟨55, _⟩ => ⟨S_, .f32⟩
  | .hbm, ⟨56, _⟩ => ⟨S4x4x384, .f32⟩
  | .hbm, ⟨57, _⟩ => ⟨S4x4x384, .f32⟩
  | .hbm, ⟨58, _⟩ => ⟨S4x4x384, .i1⟩
  | .hbm, ⟨59, _⟩ => ⟨S4x4x384, .f32⟩
  | .hbm, ⟨60, _⟩ => ⟨S4x4x384, .i1⟩
  | .hbm, ⟨61, _⟩ => ⟨S4x4x384, .f32⟩
  | .hbm, ⟨62, _⟩ => ⟨S4x4x384, .i1⟩
  | .hbm, ⟨63, _⟩ => ⟨S4x4x384, .f32⟩
  | .hbm, ⟨64, _⟩ => ⟨S4x4x384, .i1⟩
  | .hbm, ⟨65, _⟩ => ⟨S4x4x384, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_call1_v0 : Ref sig .tc := ⟨.hbm, 58, rfl⟩
abbrev main_v37 : Ref sig .tc := ⟨.hbm, 59, rfl⟩
abbrev main_call2_v0 : Ref sig .tc := ⟨.hbm, 60, rfl⟩
abbrev main_v38 : Ref sig .tc := ⟨.hbm, 61, rfl⟩
abbrev main_call3_v0 : Ref sig .tc := ⟨.hbm, 62, rfl⟩
abbrev main_v39 : Ref sig .tc := ⟨.hbm, 63, rfl⟩
abbrev main_call4_v0 : Ref sig .tc := ⟨.hbm, 64, rfl⟩
abbrev main_v40 : Ref sig .tc := ⟨.hbm, 65, rfl⟩

abbrev nD : Nat := 1
abbrev τ : Topo := Topo.v7x

variable {F : FTy → Type} [FloatOps F]
-- ==== Kernel42.lean ====
abbrev S2048x1024 : Shape := ⟨2, ![2048, 1024]⟩
abbrev S8x1024x256 : Shape := ⟨3, ![8, 1024, 256]⟩
abbrev S2048x2048 : Shape := ⟨2, ![2048, 2048]⟩
abbrev S512x1024 : Shape := ⟨2, ![512, 1024]⟩
abbrev S1x1024x256 : Shape := ⟨3, ![1, 1024, 256]⟩
abbrev S512x256 : Shape := ⟨2, ![512, 256]⟩
abbrev S1024x256 : Shape := ⟨2, ![1024, 256]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S8x1024x256, .bf16⟩
  | .hbm, ⟨2, _⟩ => ⟨S2048x2048, .f32⟩
  | .local _ .vmem, ⟨0, _⟩ => ⟨S512x1024, .bf16⟩
  | .local _ .vmem, ⟨1, _⟩ => ⟨S512x1024, .bf16⟩
  | .local _ .vmem, ⟨2, _⟩ => ⟨S1x1024x256, .bf16⟩
  | .local _ .vmem, ⟨3, _⟩ => ⟨S1x1024x256, .bf16⟩
  | .local _ .vmem, ⟨4, _⟩ => ⟨S512x256, .f32⟩
  | .local _ .vmem, ⟨5, _⟩ => ⟨S512x256, .f32⟩
  | .local _ .vmem, ⟨6, _⟩ => ⟨S512x256, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def k0_cond3 (i : grid0.Coords) : BitVec 1 :=
  let arg2 : BitVec 32 := BitVec.ofNat 32 (i 2).val
  let c0_i32_7 : BitVec 32 := 0#32
  let v10 : BitVec 1 := Scalar.cmpi .eq arg2 c0_i32_7
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference42Ideal.lean ====
abbrev S2048x1024 : Shape := ⟨2, ![2048, 1024]⟩
abbrev S8x1024x256 : Shape := ⟨3, ![8, 1024, 256]⟩
abbrev S1024x8x256 : Shape := ⟨3, ![1024, 8, 256]⟩
abbrev S1024x2048 : Shape := ⟨2, ![1024, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S8x1024x256, .bf16⟩
  | .hbm, ⟨2, _⟩ => ⟨S2048x1024, .f32⟩
  | .hbm, ⟨3, _⟩ => ⟨S8x1024x256, .f32⟩
  | .hbm, ⟨4, _⟩ => ⟨S1024x8x256, .f32⟩
  | .hbm, ⟨5, _⟩ => ⟨S1024x2048, .f32⟩
  | .hbm, ⟨6, _⟩ => ⟨S2048x2048, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel43.lean ====
abbrev S2048x1024 : Shape := ⟨2, ![2048, 1024]⟩
abbrev S8x1024x256 : Shape := ⟨3, ![8, 1024, 256]⟩
abbrev S2048x2048 : Shape := ⟨2, ![2048, 2048]⟩
abbrev S2048x9216 : Shape := ⟨2, ![2048, 9216]⟩
abbrev S512x1024 : Shape := ⟨2, ![512, 1024]⟩
abbrev S1x1024x256 : Shape := ⟨3, ![1, 1024, 256]⟩
abbrev S512x256 : Shape := ⟨2, ![512, 256]⟩
abbrev S1024x256 : Shape := ⟨2, ![1024, 256]⟩

abbrev nBuf : Space → Nat
  | .hbm => 6
  | .vmem => 15
  | .smem => 0
  | _ => 0

abbrev bufTy : (tb : Table) → Fin (tcTables nBuf tb) → BufTy
  | .hbm, ⟨0, _⟩ => ⟨S2048x1024, .bf16⟩
  | .hbm, ⟨1, _⟩ => ⟨S8x1024x256, .bf16⟩
  | .hbm, ⟨2, _⟩ => ⟨S2048x2048, .f32⟩
  | .hbm, ⟨3, _⟩ => ⟨S2048x9216, .f32⟩
  | .hbm, ⟨4, _⟩ => ⟨S2048x2048, .f32⟩
  | .hbm, ⟨5, _⟩ => ⟨S2048x2048, .bf16⟩
  | .local _ .vmem, ⟨0, _⟩ => ⟨S512x1024, .bf16⟩
  | .local _ .vmem, ⟨1, _⟩ => ⟨S512x1024, .bf16⟩
  | .local _ .vmem, ⟨2, _⟩ => ⟨S1x1024x256, .bf16⟩
  | .local _ .vmem, ⟨3, _⟩ => ⟨S1x1024x256, .bf16⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .bf16⟩
  | .local _ .vmem, ⟨13, _⟩ => ⟨S512x256, .bf16⟩
  | .local _ .vmem, ⟨14, _⟩ => ⟨S512x256, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 8, 1], ![false, false, false]⟩

def k0_cond3 (i : grid0.Coords) : BitVec 1 :=
  let arg2 : BitVec 32 := BitVec.ofNat 32 (i 2).val
  let c0_i32_7 : BitVec 32 := 0#32
  let v10 : BitVec 1 := Scalar.cmpi .eq arg2 c0_i32_7
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi arg1 c20_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c28_i32 : BitVec 32 := 28#32
  let v0 : BitVec 32 := Scalar.addi arg1 c28_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference43Ideal.lean ====
abbrev S2048x1024 : Shape := ⟨2, ![2048, 1024]⟩
abbrev S8x1024x256 : Shape := ⟨3, ![8, 1024, 256]⟩
abbrev S2048x2048 : Shape := ⟨2, ![2048, 2048]⟩
abbrev S2048x9216 : Shape := ⟨2, ![2048, 9216]⟩
abbrev S1024x8x256 : Shape := ⟨3, ![1024, 8, 256]⟩
abbrev S1024x2048 : Shape := ⟨2, ![1024, 2048]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S8x1024x256, .bf16⟩
  | .hbm, ⟨2, _⟩ => ⟨S2048x2048, .f32⟩
  | .hbm, ⟨3, _⟩ => ⟨S2048x9216, .f32⟩
  | .hbm, ⟨4, _⟩ => ⟨S2048x1024, .f32⟩
  | .hbm, ⟨5, _⟩ => ⟨S8x1024x256, .f32⟩
  | .hbm, ⟨6, _⟩ => ⟨S1024x8x256, .f32⟩
  | .hbm, ⟨7, _⟩ => ⟨S1024x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel44.lean ====
abbrev S2048x2048 : Shape := ⟨2, ![2048, 2048]⟩
abbrev S2048x9216 : Shape := ⟨2, ![2048, 9216]⟩
abbrev S512x2048 : Shape := ⟨2, ![512, 2048]⟩
abbrev S512x512 : Shape := ⟨2, ![512, 512]⟩

abbrev nBuf : Space → Nat
  | .hbm => 9
  | .vmem => 21
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x9216, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S2048x2048, .bf16⟩
  | .hbm, ⟨7, _⟩ => ⟨S2048x2048, .bf16⟩
  | .hbm, ⟨8, _⟩ => ⟨S2048x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![4, 4, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi arg1 c10_i32
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c14_i32 : BitVec 32 := 14#32
  let v0 : BitVec 32 := Scalar.addi arg1 c14_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== Reference44Ideal.lean ====
abbrev S2048x2048 : Shape := ⟨2, ![2048, 2048]⟩
abbrev S2048x9216 : Shape := ⟨2, ![2048, 9216]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x9216, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .bf16⟩
  | .hbm, ⟨45, _⟩ => ⟨S2048x2048, .bf16⟩
  | .hbm, ⟨46, _⟩ => ⟨S2048x2048, .bf16⟩
  | .hbm, ⟨47, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Kernel45.lean ====
abbrev S2048x2048 : Shape := ⟨2, ![2048, 2048]⟩
abbrev S512x512 : Shape := ⟨2, ![512, 512]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S512x512, .bf16⟩
  | .local _ .vmem, ⟨1, _⟩ => ⟨S512x512, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference45Ideal.lean ====
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel46.lean ====
abbrev S2048x2048 : Shape := ⟨2, ![2048, 2048]⟩
abbrev S8x1024x256 : Shape := ⟨3, ![8, 1024, 256]⟩
abbrev S2048x1024 : Shape := ⟨2, ![2048, 1024]⟩
abbrev S512x256 : Shape := ⟨2, ![512, 256]⟩
abbrev S1x1024x256 : Shape := ⟨3, ![1, 1024, 256]⟩
abbrev S512x1024 : Shape := ⟨2, ![512, 1024]⟩
abbrev S1024x256 : Shape := ⟨2, ![1024, 256]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S8x1024x256, .bf16⟩
  | .hbm, ⟨2, _⟩ => ⟨S2048x1024, .f32⟩
  | .local _ .vmem, ⟨0, _⟩ => ⟨S512x256, .bf16⟩
  | .local _ .vmem, ⟨1, _⟩ => ⟨S512x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference46Ideal.lean ====
abbrev S2048x2048 : Shape := ⟨2, ![2048, 2048]⟩
abbrev S8x1024x256 : Shape := ⟨3, ![8, 1024, 256]⟩
abbrev S1024x8x256 : Shape := ⟨3, ![1024, 8, 256]⟩
abbrev S1024x2048 : Shape := ⟨2, ![1024, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x1024x256, .bf16⟩
  | .hbm, ⟨2, _⟩ => ⟨S8x1024x256, .f32⟩
  | .hbm, ⟨3, _⟩ => ⟨S1024x8x256, .f32⟩
  | .hbm, ⟨4, _⟩ => ⟨S1024x2048, .f32⟩
  | .hbm, ⟨5, _⟩ => ⟨S2048x2048, .f32⟩
  | .hbm, ⟨6, _⟩ => ⟨S2048x1024, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel47.lean ====
abbrev S2048x1024 : Shape := ⟨2, ![2048, 1024]⟩
abbrev S2048x2048 : Shape := ⟨2, ![2048, 2048]⟩
abbrev S8x1024x256 : Shape := ⟨3, ![8, 1024, 256]⟩
abbrev S512x512 : Shape := ⟨2, ![512, 512]⟩
abbrev S512x256 : Shape := ⟨2, ![512, 256]⟩
abbrev S1x512x256 : Shape := ⟨3, ![1, 512, 256]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S8x1024x256, .bf16⟩
  | .local _ .vmem, ⟨0, _⟩ => ⟨S512x512, .bf16⟩
  | .local _ .vmem, ⟨1, _⟩ => ⟨S512x512, .bf16⟩
  | .local _ .vmem, ⟨2, _⟩ => ⟨S512x256, .bf16⟩
  | .local _ .vmem, ⟨3, _⟩ => ⟨S512x256, .bf16⟩
  | .local _ .vmem, ⟨4, _⟩ => ⟨S1x512x256, .bf16⟩
  | .local _ .vmem, ⟨5, _⟩ => ⟨S1x512x256, .bf16⟩
  | .local _ .vmem, ⟨6, _⟩ => ⟨S512x256, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference47Ideal.lean ====
abbrev S2048x1024 : Shape := ⟨2, ![2048, 1024]⟩
abbrev S2048x2048 : Shape := ⟨2, ![2048, 2048]⟩
abbrev S1024x2048 : Shape := ⟨2, ![1024, 2048]⟩
abbrev S1024x8x256 : Shape := ⟨3, ![1024, 8, 256]⟩
abbrev S8x1024x256 : Shape := ⟨3, ![8, 1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S2048x1024, .f32⟩
  | .hbm, ⟨3, _⟩ => ⟨S2048x2048, .f32⟩
  | .hbm, ⟨4, _⟩ => ⟨S2048x1024, .f32⟩
  | .hbm, ⟨5, _⟩ => ⟨S1024x2048, .f32⟩
  | .hbm, ⟨6, _⟩ => ⟨S1024x8x256, .f32⟩
  | .hbm, ⟨7, _⟩ => ⟨S8x1024x256, .f32⟩
  | .hbm, ⟨8, _⟩ => ⟨S8x1024x256, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel48.lean ====
abbrev S2048x1024 : Shape := ⟨2, ![2048, 1024]⟩
abbrev S1024x1024 : Shape := ⟨2, ![1024, 1024]⟩
abbrev S1x1024 : Shape := ⟨2, ![1, 1024]⟩
abbrev S512x1024 : Shape := ⟨2, ![512, 1024]⟩
abbrev S1024x512 : Shape := ⟨2, ![1024, 512]⟩
abbrev S512x512 : Shape := ⟨2, ![512, 512]⟩
abbrev S1x512 : Shape := ⟨2, ![1, 512]⟩

abbrev nBuf : Space → Nat
  | .hbm => 6
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S1x1024, .f32⟩
  | .hbm, ⟨3, _⟩ => ⟨S2048x1024, .bf16⟩
  | .hbm, ⟨4, _⟩ => ⟨S2048x1024, .f32⟩
  | .hbm, ⟨5, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference48Ideal.lean ====
abbrev S2048x1024 : Shape := ⟨2, ![2048, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S1x1024, .f32⟩
  | .hbm, ⟨3, _⟩ => ⟨S1024x1024, .f32⟩
  | .hbm, ⟨4, _⟩ => ⟨S2048x1024, .f32⟩
  | .hbm, ⟨5, _⟩ => ⟨S1024, .f32⟩
  | .hbm, ⟨6, _⟩ => ⟨S1x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.Scan.Complex.lean ====
/- Pairs of extended reals that are the two parts of a complex number, and the recurrence
   `s_{t+1} = l s_t + x_t` over the complex numbers. -/
module

public import Idealize.ShloMosaic.PureOps.IdealRules
public import Mathlib.Data.Complex.Basic
public import Mathlib.Data.Complex.BigOperators
public import Mathlib.Algebra.BigOperators.Fin

@[expose] public section

noncomputable section

open scoped BigOperators ComplexConjugate

namespace Cert.S5

/-- The pair `(a, b)` of extended reals is the pair of parts of the complex number `z`. -/
def IsC (a b : EReal) (z : ℂ) : Prop := a = ((z.re : ℝ) : EReal) ∧ b = ((z.im : ℝ) : EReal)

namespace IsC

/-- Zero. -/
theorem zero : IsC 0 0 0 := by constructor <;> simp

/-- Sums. -/
theorem add {a b c d : EReal} {z w : ℂ} (h : IsC a b z) (k : IsC c d w) : IsC (a + c) (b + d) (z + w) := by
  obtain ⟨rfl, rfl⟩ := h; obtain ⟨rfl, rfl⟩ := k
  constructor <;> simp [Complex.add_re, Complex.add_im]

/-- Products, written as a program writes them. -/
theorem mul {a b c d : EReal} {z w : ℂ} (h : IsC a b z) (k : IsC c d w) :
    IsC (a * c - b * d) (a * d + b * c) (z * w) := by
  obtain ⟨rfl, rfl⟩ := h; obtain ⟨rfl, rfl⟩ := k
  constructor <;> simp [Complex.mul_re, Complex.mul_im]

/-- The product with a conjugate, written as a program writes it. -/
theorem mul_conj {a b c d : EReal} {z w : ℂ} (h : IsC a b z) (k : IsC c d w) :
    IsC (a * c + b * d) (b * c - a * d) (z * conj w) := by
  obtain ⟨rfl, rfl⟩ := h; obtain ⟨rfl, rfl⟩ := k
  constructor
  · simp [Complex.mul_re]
  · simp only [Complex.mul_im, Complex.conj_re, Complex.conj_im, ← EReal.coe_mul, ← EReal.coe_sub, EReal.coe_eq_coe_iff]
    ring

/-- The conjugate. -/
theorem conj_parts {a b : EReal} {z : ℂ} (h : IsC a b z) : IsC a (-b) (conj z) := by
  obtain ⟨rfl, rfl⟩ := h
  constructor <;> simp

/-- Both parts chosen by one condition. -/
theorem ite {p : Prop} [Decidable p] {a b c d : EReal} {z w : ℂ} (h : IsC a b z) (k : IsC c d w) :
    IsC (if p then a else c) (if p then b else d) (if p then z else w) := by
  split <;> assumption

/-- Finite sums. -/
theorem sum {ι : Type*} (s : Finset ι) {f g : ι → EReal} {z : ι → ℂ} (h : ∀ i ∈ s, IsC (f i) (g i) (z i)) :
    IsC (∑ i ∈ s, f i) (∑ i ∈ s, g i) (∑ i ∈ s, z i) := by
  classical
  induction s using Finset.induction_on with
  | empty => simpa using zero
  | insert a s ha ih =>
    rw [Finset.sum_insert ha, Finset.sum_insert ha, Finset.sum_insert ha]
    exact (h a (Finset.mem_insert_self a s)).add (ih fun i hi => h i (Finset.mem_insert_of_mem hi))

/-- A pair is the parts of one number only. -/
theorem eq_parts {a b a' b' : EReal} {z : ℂ} (h : IsC a b z) (k : IsC a' b' z) : a = a' ∧ b = b' :=
  ⟨h.1.trans k.1.symm, h.2.trans k.2.symm⟩

/-- Two finite extended reals are the parts of a number. -/
theorem of_finite {a b : EReal} (ha : a ≠ ⊤) (ha' : a ≠ ⊥) (hb : b ≠ ⊤) (hb' : b ≠ ⊥) :
    IsC a b ⟨a.toReal, b.toReal⟩ :=
  ⟨(EReal.coe_toReal ha ha').symm, (EReal.coe_toReal hb hb').symm⟩

end IsC

/-- The recurrence: `rec l p x 0 = p` and `rec l p x (t + 1) = l * rec l p x t + x t`. -/
def scan (l p : ℂ) (x : ℕ → ℂ) : ℕ → ℂ
  | 0 => p
  | t + 1 => l * scan l p x t + x t

/-- Its value at the start. -/
theorem scan_zero (l p : ℂ) (x : ℕ → ℂ) : scan l p x 0 = p := rfl

/-- Its step. -/
theorem scan_succ (l p : ℂ) (x : ℕ → ℂ) (t : ℕ) : scan l p x (t + 1) = l * scan l p x t + x t := rfl

/-- Started again from the value at `a`, it goes on as it was. -/
theorem scan_add (l p : ℂ) (x : ℕ → ℂ) (a t : ℕ) :
    scan l (scan l p x a) (fun j => x (a + j)) t = scan l p x (a + t) := by
  induction t with
  | zero => rfl
  | succ t ih => rw [scan_succ, ih, ← Nat.add_assoc, scan_succ]

/-- It reads only the inputs before `t`. -/
theorem scan_congr (l p : ℂ) {x y : ℕ → ℂ} (t : ℕ) (h : ∀ j < t, x j = y j) : scan l p x t = scan l p y t := by
  induction t with
  | zero => rfl
  | succ t ih => rw [scan_succ, scan_succ, ih fun j hj => h j (by omega), h t (by omega)]

/-- One doubling step of a tile of eight rows: to row `r` is added `m` times the row `k` above. -/
def tstep (m : ℂ) (k : ℕ) (x : ℕ → ℂ) (r : ℕ) : ℂ := x r + m * (if k ≤ r then x (r - k) else 0)

/-- Three doubling steps with the powers 1, 2 and 4 of `l`, and then the carried value times the power `r + 1`, are
    the recurrence on the tile's eight rows. -/
theorem tile_scan (l p : ℂ) (x : ℕ → ℂ) (r : ℕ) (hr : r < 8) :
    tstep (l ^ 4) 4 (tstep (l ^ 2) 2 (tstep l 1 x)) r + l ^ (r + 1) * p = scan l p x (r + 1) := by
  have h8 : r = 0 ∨ r = 1 ∨ r = 2 ∨ r = 3 ∨ r = 4 ∨ r = 5 ∨ r = 6 ∨ r = 7 := by omega
  rcases h8 with rfl | rfl | rfl | rfl | rfl | rfl | rfl | rfl <;> simp [tstep, scan] <;> ring

/-- The sum over eight times `n` positions, by their place in their group of eight. -/
theorem sum_groups (f : ℕ → ℂ) (n : ℕ) :
    ∑ r : Fin 8, ∑ m ∈ Finset.range n, f (8 * m + r.val) = ∑ t ∈ Finset.range (8 * n), f t := by
  induction n with
  | zero => simp
  | succ n ih =>
    rw [show 8 * (n + 1) = 8 * n + 1 + 1 + 1 + 1 + 1 + 1 + 1 + 1 by ring]
    simp only [Finset.sum_range_succ, Finset.sum_add_distrib]
    rw [ih]
    simp only [Fin.sum_univ_eight]
    simp [Nat.add_assoc, add_assoc]

end Cert.S5

end
-- ==== Proof.Scan.Finite.lean ====
/- What a precondition that compares magnitudes with infinity says of the numbers. -/
module

public import Idealize.ShloMosaic.Lib.KernelVsHost
public import Idealize.ShloMosaic.Lib.ValueIdx
public import Idealize.ShloMosaic.Lib.Pipeline.Value
public import proofs.«01_k».proof.Proof.Scan.Complex

@[expose] public section

noncomputable section

namespace Cert.S5

open Idealize.ShloMosaic
open Idealize.ShloMosaic.ValueIdx

/-- Neither infinity. -/
def IsFin (a : EReal) : Prop := a ≠ ⊤ ∧ a ≠ ⊥

/-- A number whose magnitude is below infinity is neither infinity. -/
theorem finite_of_abs_lt {s : Shape} (X : FVec Ideal s .f32) (h : (⟨0, ![]⟩ : Shape).BroadcastsInDim s ![]) (i : s.Idx)
    (hc : cmpf .olt (Host.absf X) (broadcastInDim s ![] h (constant (F := Ideal) (⟨0, ![]⟩ : Shape) .f32 0x7F800000#32)) i = 1#1) :
    IsFin (X i) := by
  have htop : Ideal.ofBits .f32 0x7F800000#32 = ⊤ := by simp [Ideal.ofBits, Ideal.ieee]
  have h1 : Ideal.cmp .olt (max (X i) (-(X i))) (Ideal.ofBits .f32 0x7F800000#32) = 1#1 := hc
  rw [htop] at h1
  have h2 : max (X i) (-(X i)) < (⊤ : EReal) := by
    by_contra h3
    simp [Ideal.cmp, h3] at h1
  constructor
  · intro e; rw [e] at h2; simp at h2
  · intro e; rw [e] at h2; simp at h2

/-- Both of two one-bit words are one when their conjunction is. -/
theorem and_eq_one {a b : BitVec 1} (h : IntOp.andi a b = 1#1) : a = 1#1 ∧ b = 1#1 := by
  revert h; revert a b; decide

/-- A one-row array broadcast over the rows, at an index. -/
theorem rowsBcast_apply {α : Type} {n w : ℕ} (X : (⟨2, ![1, w]⟩ : Shape).Idx → α) (h : (⟨2, ![1, w]⟩ : Shape).BroadcastsInDim ⟨2, ![n, w]⟩ ![0, 1])
    (r : Fin n) (c : Fin w) : broadcastInDim (⟨2, ![n, w]⟩ : Shape) ![0, 1] h X (ix2 r c) = X (ix2 0 c) := by
  refine broadcastInDim_apply ![0, 1] h X (ix2 r c) (ix2 0 c) ?_
  intro a
  fin_cases a
  · simp
  · have hc := c.isLt
    simp only [Fin.mk_one, Matrix.cons_val_one, Matrix.cons_val_fin_one]
    split
    · show c.val = 0; omega
    · rfl

end Cert.S5

end
-- ==== Proof.Scan.Tile.lean ====
/- The vector operations of a tile of eight rows, read at an index: shifted rows, and one doubling step of the scan
   inside the tile, downwards and upwards. -/
module

public import proofs.«01_k».proof.Proof.Scan.Complex
public import Idealize.ShloMosaic.Lib.KernelVsHost
public import Idealize.ShloMosaic.Lib.ValueIdx

@[expose] public section

noncomputable section

namespace Cert.S5

open Idealize.ShloMosaic Idealize.ShloMosaic.ValueIdx

/-- The shape of a tile: eight rows of `n` columns. -/
abbrev T8 (n : ℕ) : Shape := ⟨2, ![8, n]⟩

/-- The shape of one row of `n` columns. -/
abbrev T1 (n : ℕ) : Shape := ⟨2, ![1, n]⟩

/-- A row broadcast to a tile, at an index. -/
theorem rowBcast_apply {n : ℕ} (A : (T1 n).Idx → EReal) (h : (T1 n).Broadcasts (T8 n)) (r : Fin 8) (c : Fin n) :
    broadcastTo (T8 n) A h (ix2 r c) = A (ix2 0 c) := by
  refine broadcastTo_apply A h (ix2 r c) (ix2 0 c) ?_
  intro a
  fin_cases a
  · simp
  · have hc := c.isLt
    simp only [Fin.mk_one, Matrix.cons_val_one, Matrix.cons_val_fin_one]
    split
    · show c.val = 0; omega
    · rfl

/-- The row numbers of a tile, at an index. -/
theorem rowIota_apply {n : ℕ} (hi : (T8 n).Iotas .tc 32 [0]) (r : Fin 8) (c : Fin n) :
    iota .tc (T8 n) 32 [0] hi (ix2 r c) = BitVec.ofNat 32 r.val := by
  show BitVec.ofNat 32 (0 * 8 + r.val) = _
  rw [Nat.zero_mul, Nat.zero_add]

/-- The rows moved down by `k`, zero where none comes from, at an index. -/
theorem shiftDown_apply {n : ℕ} (k : ℕ) (hk : k < 8) (hi : (T8 n).Iotas .tc 32 [0]) (hr : (T8 n).Rotates 0 none)
    (X : (T8 n).Idx → EReal) (z : EReal) (r : Fin 8) (c : Fin n) :
    select (cmpi .sge (iota .tc (T8 n) 32 [0] hi) (broadcast (T8 n) (BitVec.ofNat 32 k)))
        (dynamicRotate 0 (BitVec.ofNat 32 k) none X hr) (broadcast (T8 n) z) (ix2 r c)
      = if k ≤ r.val then X (ix2 ⟨r.val - k, by omega⟩ c) else z := by
  have hrot : dynamicRotate 0 (BitVec.ofNat 32 k) none X hr (ix2 r c) = X (ix2 ⟨(r.val + 8 - k) % 8, by omega⟩ c) := by
    refine dynamicRotate_apply 0 _ X hr _ _ ?_
    intro b
    fin_cases b
    · have : k % 4294967296 % 8 = k := by omega
      simp [this]
    · simp
  have hc : cmpi .sge (iota .tc (T8 n) 32 [0] hi) (broadcast (T8 n) (BitVec.ofNat 32 k)) (ix2 r c)
      = if k ≤ r.val then 1#1 else 0#1 := by
    show IntOp.cmpi .sge (iota .tc (T8 n) 32 [0] hi (ix2 r c)) (BitVec.ofNat 32 k) = _
    rw [rowIota_apply]
    have := r.isLt
    interval_cases k <;> fin_cases r <;> rfl
  rw [select_apply, hc, hrot]
  split
  · rw [select_one]
    congr 2
    exact Fin.ext (by show (r.val + 8 - k) % 8 = r.val - k; omega)
  · rfl

/-- The rows moved up by `k`, zero where none comes from, at an index. -/
theorem shiftUp_apply {n : ℕ} (k : ℕ) (hk : k < 8) (hk0 : 0 < k) (hi : (T8 n).Iotas .tc 32 [0]) (hr : (T8 n).Rotates 0 none)
    (X : (T8 n).Idx → EReal) (z : EReal) (r : Fin 8) (c : Fin n) :
    select (cmpi .slt (iota .tc (T8 n) 32 [0] hi) (broadcast (T8 n) (BitVec.ofNat 32 (8 - k))))
        (dynamicRotate 0 (BitVec.ofNat 32 (8 - k)) none X hr) (broadcast (T8 n) z) (ix2 r c)
      = if h : r.val < 8 - k then X (ix2 ⟨r.val + k, by omega⟩ c) else z := by
  have hrot : dynamicRotate 0 (BitVec.ofNat 32 (8 - k)) none X hr (ix2 r c) = X (ix2 ⟨(r.val + k) % 8, by omega⟩ c) := by
    refine dynamicRotate_apply 0 _ X hr _ _ ?_
    intro b
    fin_cases b
    · have : (8 - k) % 4294967296 % 8 = 8 - k := by omega
      have h2 : r.val + 8 - (8 - k) = r.val + k := by omega
      simp [this, h2]
    · simp
  have hc : cmpi .slt (iota .tc (T8 n) 32 [0] hi) (broadcast (T8 n) (BitVec.ofNat 32 (8 - k))) (ix2 r c)
      = if r.val < 8 - k then 1#1 else 0#1 := by
    show IntOp.cmpi .slt (iota .tc (T8 n) 32 [0] hi (ix2 r c)) (BitVec.ofNat 32 (8 - k)) = _
    rw [rowIota_apply]
    have := r.isLt
    interval_cases k <;> fin_cases r <;> rfl
  rw [select_apply, hc, hrot]
  split
  · rw [select_one]
    congr 2
    exact Fin.ext (by show (r.val + k) % 8 = r.val + k; omega)
  · rfl

/-- The two parts of a tile are, column by column, the values `x` at the rows counted from the top. -/
def Down {n : ℕ} (X Y : FVec Ideal (T8 n) .f32) (x : Fin n → ℕ → ℂ) : Prop :=
  ∀ (r : Fin 8) (c : Fin n), IsC (X (ix2 r c)) (Y (ix2 r c)) (x c r.val)

/-- The same with the rows counted from the bottom. -/
def Up {n : ℕ} (X Y : FVec Ideal (T8 n) .f32) (x : Fin n → ℕ → ℂ) : Prop :=
  ∀ (r : Fin 8) (c : Fin n), IsC (X (ix2 r c)) (Y (ix2 r c)) (x c (7 - r.val))

/-- The two parts of a row are the values `m`. -/
def Row {n : ℕ} (A B : FVec Ideal (T1 n) .f32) (m : Fin n → ℂ) : Prop :=
  ∀ c : Fin n, IsC (A (ix2 0 c)) (B (ix2 0 c)) (m c)

/-- A row's product with a row, as the kernel writes it. -/
theorem Row.mul {n : ℕ} {A B C D : FVec Ideal (T1 n) .f32} {m m' : Fin n → ℂ} (h : Row A B m) (h' : Row C D m') :
    Row (subf (mulf A C) (mulf B D)) (addf (mulf A D) (mulf B C)) (fun c => m c * m' c) :=
  fun c => (h c).mul (h' c)

/-- One doubling step of a downward scan of a tile. -/
theorem Down.step {n : ℕ} {X Y : FVec Ideal (T8 n) .f32} {x : Fin n → ℕ → ℂ} (hX : Down X Y x)
    {A B : FVec Ideal (T1 n) .f32} {m : Fin n → ℂ} (hA : Row A B m) (k : ℕ) (hk : k < 8)
    (hi : (T8 n).Iotas .tc 32 [0]) (hr : (T8 n).Rotates 0 none) (hb : (T1 n).Broadcasts (T8 n)) (z : Ideal .f32) (hz : z = 0)
    {SX SY : FVec Ideal (T8 n) .f32}
    (hSX : SX = select (cmpi .sge (iota .tc (T8 n) 32 [0] hi) (broadcast (T8 n) (BitVec.ofNat 32 k)))
        (dynamicRotate 0 (BitVec.ofNat 32 k) none X hr) (broadcast (T8 n) z))
    (hSY : SY = select (cmpi .sge (iota .tc (T8 n) 32 [0] hi) (broadcast (T8 n) (BitVec.ofNat 32 k)))
        (dynamicRotate 0 (BitVec.ofNat 32 k) none Y hr) (broadcast (T8 n) z)) :
    Down (addf X (subf (mulf (broadcastTo (T8 n) A hb) SX) (mulf (broadcastTo (T8 n) B hb) SY)))
      (addf Y (addf (mulf (broadcastTo (T8 n) A hb) SY) (mulf (broadcastTo (T8 n) B hb) SX)))
      (fun c => tstep (m c) k (x c)) := by
  intro r c
  simp only [addf_apply, subf_apply, mulf_apply, rowBcast_apply]
  refine (hX r c).add ((hA c).mul ?_)
  rw [hSX, hSY, shiftDown_apply k hk, shiftDown_apply k hk, hz]
  split
  · exact hX _ c
  · exact IsC.zero

/-- One doubling step of an upward scan of a tile. -/
theorem Up.step {n : ℕ} {X Y : FVec Ideal (T8 n) .f32} {x : Fin n → ℕ → ℂ} (hX : Up X Y x)
    {A B : FVec Ideal (T1 n) .f32} {m : Fin n → ℂ} (hA : Row A B m) (k : ℕ) (hk : k < 8) (hk0 : 0 < k)
    (hi : (T8 n).Iotas .tc 32 [0]) (hr : (T8 n).Rotates 0 none) (hb : (T1 n).Broadcasts (T8 n)) (z : Ideal .f32) (hz : z = 0)
    {SX SY : FVec Ideal (T8 n) .f32}
    (hSX : SX = select (cmpi .slt (iota .tc (T8 n) 32 [0] hi) (broadcast (T8 n) (BitVec.ofNat 32 (8 - k))))
        (dynamicRotate 0 (BitVec.ofNat 32 (8 - k)) none X hr) (broadcast (T8 n) z))
    (hSY : SY = select (cmpi .slt (iota .tc (T8 n) 32 [0] hi) (broadcast (T8 n) (BitVec.ofNat 32 (8 - k))))
        (dynamicRotate 0 (BitVec.ofNat 32 (8 - k)) none Y hr) (broadcast (T8 n) z)) :
    Up (addf X (subf (mulf (broadcastTo (T8 n) A hb) SX) (mulf (broadcastTo (T8 n) B hb) SY)))
      (addf Y (addf (mulf (broadcastTo (T8 n) A hb) SY) (mulf (broadcastTo (T8 n) B hb) SX)))
      (fun c => tstep (m c) k (x c)) := by
  intro r c
  simp only [addf_apply, subf_apply, mulf_apply, rowBcast_apply]
  refine (hX r c).add ((hA c).mul ?_)
  rw [hSX, hSY, shiftUp_apply k hk hk0, shiftUp_apply k hk hk0, hz]
  by_cases h : r.val < 8 - k
  · rw [dif_pos h, dif_pos h, if_pos (by omega)]
    have := hX ⟨r.val + k, by omega⟩ c
    rwa [show 7 - (r.val + k) = 7 - r.val - k by omega] at this
  · rw [dif_neg h, dif_neg h, if_neg (by omega)]
    exact IsC.zero

/-- A tile to which a row's values times the rows `C`, `D` is added: the last step of a tile's scan. -/
theorem carry_isC {n : ℕ} {X Y C D : FVec Ideal (T8 n) .f32} {P Q : FVec Ideal (T1 n) .f32} (hb : (T1 n).Broadcasts (T8 n))
    (r : Fin 8) (c : Fin n) {x q p : ℂ} (hX : IsC (X (ix2 r c)) (Y (ix2 r c)) x) (hC : IsC (C (ix2 r c)) (D (ix2 r c)) q)
    (hP : IsC (P (ix2 0 c)) (Q (ix2 0 c)) p) :
    IsC (addf X (subf (mulf C (broadcastTo (T8 n) P hb)) (mulf D (broadcastTo (T8 n) Q hb))) (ix2 r c))
      (addf Y (addf (mulf C (broadcastTo (T8 n) Q hb)) (mulf D (broadcastTo (T8 n) P hb))) (ix2 r c)) (x + q * p) := by
  simp only [addf_apply, subf_apply, mulf_apply, rowBcast_apply]
  exact hX.add (hC.mul hP)

end Cert.S5

end
-- ==== Proof.Fwd.Tile.lean ====
/- The forward scan's kernel on one tile of eight rows: the powers of the decay, and what one trip of its loop computes. -/
module

public import proofs.«01_k».proof.Proof.Gen.Kernel2Ideal.Skeleton
public import proofs.«01_k».proof.Proof.Scan.Tile

@[expose] public section

set_option maxRecDepth 16384

noncomputable section

namespace Cert.S5.Fwd

open Idealize.ShloMosaic Idealize.ShloMosaic.ValueIdx Cert.Kernel2Ideal Cert.Kernel2Ideal.Gen

/-- The row numbers of a tile. -/
abbrev rows : IVec S8x512 32 := iota .tc S8x512 32 [0] iota_S8x512_d0_w32

section

variable {lr li : FVec Ideal S1x512 .f32} {l : Fin 512 → ℂ} (hl : Row lr li l)

include hl

/-- The second power. -/
theorem pow2 : Row (k0_pay21 lr li) (k0_pay22 lr li) (fun c => l c ^ 2) := by
  simp only [pow_two]; exact hl.mul hl
/-- The third power. -/
theorem pow3 : Row (k0_pay23 lr li) (k0_pay24 lr li) (fun c => l c ^ 3) := by
  simp only [pow_succ _ 2]; exact (pow2 hl).mul hl
/-- The fourth power. -/
theorem pow4 : Row (k0_pay25 lr li) (k0_pay26 lr li) (fun c => l c ^ 4) := by
  simp only [pow_succ _ 3]; exact (pow3 hl).mul hl
/-- The fifth power. -/
theorem pow5 : Row (k0_pay27 lr li) (k0_pay28 lr li) (fun c => l c ^ 5) := by
  simp only [pow_succ _ 4]; exact (pow4 hl).mul hl
/-- The sixth power. -/
theorem pow6 : Row (k0_pay29 lr li) (k0_pay30 lr li) (fun c => l c ^ 6) := by
  simp only [pow_succ _ 5]; exact (pow5 hl).mul hl
/-- The seventh power. -/
theorem pow7 : Row (k0_pay31 lr li) (k0_pay32 lr li) (fun c => l c ^ 7) := by
  simp only [pow_succ _ 6]; exact (pow6 hl).mul hl
/-- The eighth power. -/
theorem pow8 : Row (k0_pay33 lr li) (k0_pay34 lr li) (fun c => l c ^ 8) := by
  simp only [pow_succ _ 7]; exact (pow7 hl).mul hl

end

/-- The real parts of the powers of the decay, row `r` holding the power `r + 1`. -/
abbrev powR (lr li : FVec Ideal S1x512 .f32) : FVec Ideal S8x512 .f32 :=
  k0_pay38 (k0_pay21 lr li) (k0_pay23 lr li) (k0_pay25 lr li) (k0_pay27 lr li) (k0_pay29 lr li) rows (k0_pay36 lr)

/-- The imaginary parts of the first five powers. -/
abbrev powI (lr li : FVec Ideal S1x512 .f32) : FVec Ideal S8x512 .f32 :=
  k0_pay37 li (k0_pay22 lr li) (k0_pay24 lr li) (k0_pay26 lr li) (k0_pay28 lr li) rows (k0_pay35 (F := Ideal))

/-- A row written over a tile where the row number is `k`, at an index. -/
theorem putRow_apply (k : ℕ) (hk : k < 8) (A : FVec Ideal S1x512 .f32) (Z : FVec Ideal S8x512 .f32) (r : Fin 8) (c : Fin 512) :
    select (cmpi .eq rows (broadcast S8x512 (BitVec.ofNat 32 k)))
      (broadcastTo S8x512 (shapeCast S1x512 A shapeCasts_S1x512_S1x512) broadcasts_S1x512_S8x512) Z (ix2 r c)
      = if r.val = k then A (ix2 0 c) else Z (ix2 r c) := by
  have hc : cmpi .eq rows (broadcast S8x512 (BitVec.ofNat 32 k)) (ix2 r c) = if r.val = k then 1#1 else 0#1 := by
    show IntOp.cmpi .eq (iota .tc S8x512 32 [0] iota_S8x512_d0_w32 (ix2 r c)) (BitVec.ofNat 32 k) = _
    rw [show iota .tc S8x512 32 [0] iota_S8x512_d0_w32 (ix2 r c) = BitVec.ofNat 32 r.val from rowIota_apply _ r c]
    interval_cases k <;> fin_cases r <;> rfl
  rw [select_apply, hc, shapeCast_self]
  split
  · rw [select_one]; exact rowBcast_apply A _ r c
  · rfl

/-- The rows of powers, at an index. -/
theorem pow_isC {lr li : FVec Ideal S1x512 .f32} {l : Fin 512 → ℂ} (hl : Row lr li l) (r : Fin 8) (c : Fin 512) :
    IsC (k0_pay1 (F := Ideal) (k0_pay31 lr li) (k0_pay33 lr li) rows (powR lr li) (ix2 r c))
      (k0_pay2 (F := Ideal) (k0_pay30 lr li) (k0_pay32 lr li) (k0_pay34 lr li) rows (powI lr li) (ix2 r c)) (l c ^ (r.val + 1)) := by
  simp only [powR, powI, k0_pay1, k0_pay2, k0_pay36, k0_pay37, k0_pay38, putRow_apply 0, putRow_apply 1, putRow_apply 2,
    putRow_apply 3, putRow_apply 4, putRow_apply 5, putRow_apply 6, putRow_apply 7, Nat.lt_add_one, Nat.reduceLT]
  fin_cases r
  · simpa using hl c
  · simpa using pow2 hl c
  · simpa using pow3 hl c
  · simpa using pow4 hl c
  · simpa using pow5 hl c
  · simpa using pow6 hl c
  · simpa using pow7 hl c
  · simpa using pow8 hl c

/-- The first doubling step. -/
theorem step1 {lr li : FVec Ideal S1x512 .f32} {l : Fin 512 → ℂ} (hl : Row lr li l) {X Y : FVec Ideal S8x512 .f32}
    {x : Fin 512 → ℕ → ℂ} (hX : Down X Y x) :
    Down (k0_pay14 lr li rows X Y) (k0_pay15 lr li rows X Y) (fun c => tstep (l c) 1 (x c)) :=
  hX.step hl 1 (by omega) iota_S8x512_d0_w32 rotates_S8x512_d0 broadcasts_S1x512_S8x512 _ Ideal.ofBits_zero_f32 rfl rfl

/-- The second doubling step. -/
theorem step2 {lr li : FVec Ideal S1x512 .f32} {l : Fin 512 → ℂ} (hl : Row lr li l) {X Y : FVec Ideal S8x512 .f32}
    {x : Fin 512 → ℕ → ℂ} (hX : Down X Y x) :
    Down (k0_pay19 lr li (k0_pay21 lr li) (k0_pay22 lr li) rows X Y) (k0_pay20 lr li (k0_pay21 lr li) (k0_pay22 lr li) rows X Y)
      (fun c => tstep (l c ^ 2) 2 (tstep (l c) 1 (x c))) :=
  (step1 hl hX).step (pow2 hl) 2 (by omega) iota_S8x512_d0_w32 rotates_S8x512_d0 broadcasts_S1x512_S8x512 _
    Ideal.ofBits_zero_f32 rfl rfl

/-- One trip's tile: the recurrence from the carried values `p`, row `r` holding its value after `r + 1` inputs. -/
theorem trip_isC {lr li : FVec Ideal S1x512 .f32} {l : Fin 512 → ℂ} (hl : Row lr li l) {X Y : FVec Ideal S8x512 .f32}
    {x : Fin 512 → ℕ → ℂ} (hX : Down X Y x) {P Q : FVec Ideal S1x512 .f32} {p : Fin 512 → ℂ} (hP : Row P Q p) :
    Down
      (k0_pay7 (k0_pay25 lr li) (k0_pay26 lr li) (k0_pay30 lr li) (k0_pay31 lr li) (k0_pay32 lr li) (k0_pay33 lr li)
        (k0_pay34 lr li) rows (powI lr li) (powR lr li) P Q
        (k0_pay19 lr li (k0_pay21 lr li) (k0_pay22 lr li) rows X Y) (k0_pay20 lr li (k0_pay21 lr li) (k0_pay22 lr li) rows X Y))
      (k0_pay8 (k0_pay25 lr li) (k0_pay26 lr li) (k0_pay30 lr li) (k0_pay31 lr li) (k0_pay32 lr li) (k0_pay33 lr li)
        (k0_pay34 lr li) rows (powI lr li) (powR lr li) P Q
        (k0_pay19 lr li (k0_pay21 lr li) (k0_pay22 lr li) rows X Y) (k0_pay20 lr li (k0_pay21 lr li) (k0_pay22 lr li) rows X Y))
      (fun c r => scan (l c) (p c) (x c) (r + 1)) := by
  have h4 := (step2 hl hX).step (pow4 hl) 4 (by omega) iota_S8x512_d0_w32 rotates_S8x512_d0 broadcasts_S1x512_S8x512 _
    Ideal.ofBits_zero_f32 rfl rfl
  intro r c
  show IsC _ _ (scan (l c) (p c) (x c) (r.val + 1))
  rw [← tile_scan (l c) (p c) (x c) r.val r.isLt]
  exact carry_isC broadcasts_S1x512_S8x512 r c (h4 r c) (pow_isC hl r c) (hP c)

end Cert.S5.Fwd

end
-- ==== Proof.Fwd.Block.lean ====
/- The forward scan's kernel on one block of 512 columns: what its loop carries and stores. -/
module

public import proofs.«01_k».proof.Proof.Gen.Kernel2Ideal.Value
public import proofs.«01_k».proof.Proof.Fwd.Tile
public import Idealize.ShloMosaic.Lib.Pipeline.ValueKit

@[expose] public section

set_option maxRecDepth 16384

noncomputable section

namespace Cert.S5.Fwd

open Idealize.ShloMosaic hiding ix2
open Idealize.ShloMosaic.TcCoe Idealize.ShloMosaic.Tactic Idealize.ShloMosaic.ValueIdx
open Cert.Kernel2Ideal Cert.Kernel2Ideal.Gen

/-- Every piece of a list holds the values of one function of the block's index. -/
def Restricts {S : Shape} (G : S.Idx → Ideal .f32) (L : List (View.Piece (Elt Ideal) S .f32)) : Prop :=
  ∀ p ∈ L, ∀ x : p.1.shape.Idx, p.2 x = G (p.1.emb x)

/-- The tile of eight rows trip `k` reads. -/
abbrev tileAt (X : FVec Ideal S2048x512 .f32) (k : Fin k0_t1_loop.trips) : FVec Ideal S8x512 .f32 :=
  View.ld (Val := Elt Ideal) (e' := .f32) X (Rect.unit (s := S2048x512) (k0_off1 k) S8x512.size (k0_off1_inb k))

/-- There are 256 trips. -/
theorem trips_eq : k0_t1_loop.trips = 256 := by decide +kernel

/-- A tile's element is the block's. -/
theorem tileAt_apply (X : FVec Ideal S2048x512 .f32) (k : Fin k0_t1_loop.trips) (r : Fin 8) (c : Fin 512) :
    tileAt X k (ix2 r c) = X (ix2 ⟨8 * k.val + r.val, by have := lt_of_lt_of_eq k.isLt trips_eq; omega⟩ c) := by
  refine View.ld_unit_apply_of (Val := Elt Ideal) (e := .f32) X _ _ _ _ _ ?_
  intro a
  have h := k0_off1_eq k
  fin_cases a
  · show 8 * k.val + r.val = k0_off1 k 0 + r.val
    rw [h]; rfl
  · show c.val = k0_off1 k 1 + c.val
    rw [h]; exact (Nat.zero_add _).symm

/-- The place of a tile's element in the block. -/
theorem tileRect_emb (k : Fin k0_t1_loop.trips) (r : Fin 8) (c : Fin 512) :
    (Rect.unit (s := S2048x512) (k0_off1 k) S8x512.size (k0_off1_inb k)).emb (ix2 r c)
      = ix2 ⟨8 * k.val + r.val, by have := lt_of_lt_of_eq k.isLt trips_eq; omega⟩ c := by
  have h := k0_off1_eq k
  refine funext fun a => Fin.ext ((Rect.idx_unit_val _ _ _ _ a).trans ?_)
  fin_cases a
  · show k0_off1 k 0 + r.val = 8 * k.val + r.val
    rw [h]; rfl
  · show k0_off1 k 1 + c.val = c.val
    rw [h]; exact Nat.zero_add _

set_option backward.isDefEq.respectTransparency false in
/-- A tile's piece put in front of pieces that hold the values of one function. -/
theorem restricts_cons (k : Fin k0_t1_loop.trips) {G : S2048x512.Idx → Ideal .f32} {W : FVec Ideal S8x512 .f32}
    (h : ∀ (r : Fin 8) (c : Fin 512), W (ix2 r c) = G (ix2 ⟨8 * k.val + r.val, by have := lt_of_lt_of_eq k.isLt trips_eq; omega⟩ c))
    {L : List (View.Piece (Elt Ideal) S2048x512 .f32)} (hL : Restricts G L) :
    Restricts G ([⟨Rect.unit (s := S2048x512) (k0_off1 k) S8x512.size (k0_off1_inb k), W⟩] ++ L) := by
  intro p hp
  rcases List.mem_cons.mp hp with rfl | hp
  · intro (y : S8x512.Idx)
    obtain ⟨r, c, rfl⟩ : ∃ (r : Fin 8) (c : Fin 512), y = ix2 r c := ⟨y 0, y 1, ValueIdx.eq_ix2 y⟩
    exact (h r c).trans (congrArg G (tileRect_emb k r c).symm)
  · exact hL p hp

/-- What trip `k` stores through the first output and yields as the real part. -/
abbrev tripRe (lr li : FVec Ideal S1x512 .f32) (X Y : FVec Ideal S8x512 .f32) (P Q : FVec Ideal S1x512 .f32) :
    FVec Ideal S8x512 .f32 :=
  k0_pay7 (k0_pay25 lr li) (k0_pay26 lr li) (k0_pay30 lr li) (k0_pay31 lr li) (k0_pay32 lr li) (k0_pay33 lr li)
    (k0_pay34 lr li) rows (powI lr li) (powR lr li) P Q
    (k0_pay19 lr li (k0_pay21 lr li) (k0_pay22 lr li) rows X Y) (k0_pay20 lr li (k0_pay21 lr li) (k0_pay22 lr li) rows X Y)

/-- What trip `k` stores through the second output: the imaginary part. -/
abbrev tripIm (lr li : FVec Ideal S1x512 .f32) (X Y : FVec Ideal S8x512 .f32) (P Q : FVec Ideal S1x512 .f32) :
    FVec Ideal S8x512 .f32 :=
  k0_pay8 (k0_pay25 lr li) (k0_pay26 lr li) (k0_pay30 lr li) (k0_pay31 lr li) (k0_pay32 lr li) (k0_pay33 lr li)
    (k0_pay34 lr li) rows (powI lr li) (powR lr li) P Q
    (k0_pay19 lr li (k0_pay21 lr li) (k0_pay22 lr li) rows X Y) (k0_pay20 lr li (k0_pay21 lr li) (k0_pay22 lr li) rows X Y)

/-- The last row of a tile. -/
abbrev lastRow (X : FVec Ideal S8x512 .f32) : FVec Ideal S1x512 .f32 :=
  extractStridedSlice S1x512 ![7, 0] X slices_S8x512_o7_0_S1x512

/-- The last row of a tile, at its column. -/
theorem lastRow_row {X Y : FVec Ideal S8x512 .f32} {z : Fin 512 → ℕ → ℂ} (h : Down X Y z) :
    Row (lastRow X) (lastRow Y) (fun c => z c 7) := by
  intro c
  have h7 : ∀ X : FVec Ideal S8x512 .f32, lastRow X (ix2 0 c) = X (ix2 7 c) := fun X =>
    extractStridedSlice_apply ![7, 0] X slices_S8x512_o7_0_S1x512 (ix2 0 c) (ix2 7 c) (by intro a; fin_cases a <;> simp)
  rw [h7, h7]
  exact h 7 c

section Loop

variable (𝒱 : Variants) (c : Dev nD) (bd : Option 𝒱.V) (i : grid0.Coords)
  (arg1 : Memref sig .tc .vmem S2048x512 .f32) (harg1 : arg1.IsWhole) (arg2 : Memref sig .tc .vmem S2048x512 .f32) (harg2 : arg2.IsWhole)
  (arg3 : Memref sig .tc .vmem S1x512 .f32) (harg3 : arg3.IsWhole) (arg4 : Memref sig .tc .vmem S1x512 .f32) (harg4 : arg4.IsWhole)
  (arg5 : Memref sig .tc .vmem S2048x512 .f32) (harg5 : arg5.IsWhole) (arg6 : Memref sig .tc .vmem S2048x512 .f32) (harg6 : arg6.IsWhole)
  (x0 x1 : Vec Ideal S2048x512 .f32) (lr li : Vec Ideal S1x512 .f32)

/-- One trip, run at the block's values. -/
abbrev trip (k : Fin k0_t1_loop.trips) :=
  trip_k0_t1 (F := Ideal) 𝒱 c bd i arg1 harg1 arg2 harg2 arg3 harg3 arg4 harg4 arg5 harg5 arg6 harg6 lr li
    (k0_pay21 lr li) (k0_pay22 lr li) (k0_pay25 lr li) (k0_pay26 lr li) (k0_pay30 lr li) (k0_pay31 lr li) (k0_pay32 lr li)
    (k0_pay33 lr li) (k0_pay34 lr li) rows (powI lr li) (powR lr li) (harg1.unread x0) (harg2.unread x1) k

/-- The state before trip `k`: the carried row and the pieces stored so far. -/
abbrev st (k : ℕ) :=
  st_k0_t1 (F := Ideal) 𝒱 c bd i arg1 harg1 arg2 harg2 arg3 harg3 arg4 harg4 arg5 harg5 arg6 harg6 lr li
    (k0_pay21 lr li) (k0_pay22 lr li) (k0_pay25 lr li) (k0_pay26 lr li) (k0_pay30 lr li) (k0_pay31 lr li) (k0_pay32 lr li)
    (k0_pay33 lr li) (k0_pay34 lr li) rows (powI lr li) (powR lr li) (harg1.unread x0) (harg2.unread x1)
    (k0_pay3 (F := Ideal), k0_pay3 (F := Ideal)) k

set_option backward.isDefEq.respectTransparency false in
/-- A trip yields the last row of the tile it computes. -/
theorem trip_yield (k : Fin k0_t1_loop.trips) (acc : FVec Ideal S1x512 .f32 × FVec Ideal S1x512 .f32) :
    (trip 𝒱 c bd i arg1 harg1 arg2 harg2 arg3 harg3 arg4 harg4 arg5 harg5 arg6 harg6 x0 x1 lr li k).1 acc
      = (lastRow (tripRe lr li (tileAt x0 k) (tileAt x1 k) acc.1 acc.2), lastRow (tripIm lr li (tileAt x0 k) (tileAt x1 k) acc.1 acc.2)) := by
  unfold trip trip_k0_t1
  dsimp only
  sl_unfold_words
  simp only [View.readAt_eq_ld, Memref.IsWhole.read_unread]
  rfl

set_option backward.isDefEq.respectTransparency false in
/-- A trip's one piece of the first output. -/
theorem trip_pieces1 (k : Fin k0_t1_loop.trips) (acc : FVec Ideal S1x512 .f32 × FVec Ideal S1x512 .f32) :
    (trip 𝒱 c bd i arg1 harg1 arg2 harg2 arg3 harg3 arg4 harg4 arg5 harg5 arg6 harg6 x0 x1 lr li k).2.1 acc
      = [⟨Rect.unit (s := S2048x512) (k0_off1 k) S8x512.size (k0_off1_inb k), tripRe lr li (tileAt x0 k) (tileAt x1 k) acc.1 acc.2⟩] := by
  unfold trip trip_k0_t1
  dsimp only
  sl_unfold_words
  simp only [View.readAt_eq_ld, Memref.IsWhole.read_unread]
  rfl

set_option backward.isDefEq.respectTransparency false in
/-- A trip's one piece of the second output. -/
theorem trip_pieces2 (k : Fin k0_t1_loop.trips) (acc : FVec Ideal S1x512 .f32 × FVec Ideal S1x512 .f32) :
    (trip 𝒱 c bd i arg1 harg1 arg2 harg2 arg3 harg3 arg4 harg4 arg5 harg5 arg6 harg6 x0 x1 lr li k).2.2.1 acc
      = [⟨Rect.unit (s := S2048x512) (k0_off1 k) S8x512.size (k0_off1_inb k), tripIm lr li (tileAt x0 k) (tileAt x1 k) acc.1 acc.2⟩] := by
  unfold trip trip_k0_t1
  dsimp only
  sl_unfold_words
  simp only [View.readAt_eq_ld, Memref.IsWhole.read_unread]
  rfl

variable {l : Fin 512 → ℂ} {x : Fin 512 → ℕ → ℂ}

/-- The recurrence's real parts as a block: row `t` holds the value after `t + 1` inputs. -/
def outRe (l : Fin 512 → ℂ) (x : Fin 512 → ℕ → ℂ) (y : S2048x512.Idx) : Ideal .f32 :=
  (((scan (l (y 1)) 0 (x (y 1)) ((y 0).val + 1)).re : ℝ) : EReal)

/-- The recurrence's imaginary parts as a block. -/
def outIm (l : Fin 512 → ℂ) (x : Fin 512 → ℕ → ℂ) (y : S2048x512.Idx) : Ideal .f32 :=
  (((scan (l (y 1)) 0 (x (y 1)) ((y 0).val + 1)).im : ℝ) : EReal)

/-- The tile trip `k` reads holds the inputs from `8 k` on. -/
theorem tile_down (hx : ∀ (t : Fin 2048) (c : Fin 512), IsC (x0 (ix2 t c)) (x1 (ix2 t c)) (x c t.val)) (k : Fin k0_t1_loop.trips) :
    Down (tileAt x0 k) (tileAt x1 k) (fun c j => x c (8 * k.val + j)) := by
  intro r c
  rw [tileAt_apply, tileAt_apply]
  exact hx _ c

/-- One trip from the recurrence's value at `8 k` computes its next eight values. -/
theorem trip_down (hl : Row lr li l) (hx : ∀ (t : Fin 2048) (c : Fin 512), IsC (x0 (ix2 t c)) (x1 (ix2 t c)) (x c t.val))
    (k : Fin k0_t1_loop.trips) (P Q : FVec Ideal S1x512 .f32) (hP : Row P Q fun c => scan (l c) 0 (x c) (8 * k.val)) :
    Down (tripRe lr li (tileAt x0 k) (tileAt x1 k) P Q) (tripIm lr li (tileAt x0 k) (tileAt x1 k) P Q)
      (fun c r => scan (l c) 0 (x c) (8 * k.val + r + 1)) := by
  intro r c
  have h := trip_isC hl (tile_down x0 x1 hx k) hP r c
  simp only [scan_add] at h
  exact h

/-- THE LOOP: before trip `k` the carried row is the recurrence's value at `8 k`, and every piece stored so far holds the
    recurrence's values. -/
theorem st_inv (hl : Row lr li l) (hx : ∀ (t : Fin 2048) (c : Fin 512), IsC (x0 (ix2 t c)) (x1 (ix2 t c)) (x c t.val)) (k : ℕ)
    (hk : k ≤ k0_t1_loop.trips) :
    Row (st 𝒱 c bd i arg1 harg1 arg2 harg2 arg3 harg3 arg4 harg4 arg5 harg5 arg6 harg6 x0 x1 lr li k).1.1
        (st 𝒱 c bd i arg1 harg1 arg2 harg2 arg3 harg3 arg4 harg4 arg5 harg5 arg6 harg6 x0 x1 lr li k).1.2
        (fun c => scan (l c) 0 (x c) (8 * k))
      ∧ Restricts (outRe l x) (st 𝒱 c bd i arg1 harg1 arg2 harg2 arg3 harg3 arg4 harg4 arg5 harg5 arg6 harg6 x0 x1 lr li k).2.1
      ∧ Restricts (outIm l x) (st 𝒱 c bd i arg1 harg1 arg2 harg2 arg3 harg3 arg4 harg4 arg5 harg5 arg6 harg6 x0 x1 lr li k).2.2 := by
  induction k with
  | zero =>
    refine ⟨fun c => ?_, fun p hp => ?_, fun p hp => ?_⟩
    · show IsC (Ideal.ofBits .f32 0x00000000#32) (Ideal.ofBits .f32 0x00000000#32) 0
      rw [Ideal.ofBits_zero_f32]
      exact IsC.zero
    · exact absurd hp (List.not_mem_nil)
    · exact absurd hp (List.not_mem_nil)
  | succ k ih =>
    obtain ⟨h1, h2, h3⟩ := ih (by omega)
    have hs := st_k0_t1_succ (F := Ideal) 𝒱 c bd i arg1 harg1 arg2 harg2 arg3 harg3 arg4 harg4 arg5 harg5 arg6 harg6 lr li
      (k0_pay21 lr li) (k0_pay22 lr li) (k0_pay25 lr li) (k0_pay26 lr li) (k0_pay30 lr li) (k0_pay31 lr li) (k0_pay32 lr li)
      (k0_pay33 lr li) (k0_pay34 lr li) rows (powI lr li) (powR lr li) (harg1.unread x0) (harg2.unread x1)
      (k0_pay3 (F := Ideal), k0_pay3 (F := Ideal)) ⟨k, hk⟩
    have e1 := trip_yield 𝒱 c bd i arg1 harg1 arg2 harg2 arg3 harg3 arg4 harg4 arg5 harg5 arg6 harg6 x0 x1 lr li ⟨k, hk⟩
    have e2 := trip_pieces1 𝒱 c bd i arg1 harg1 arg2 harg2 arg3 harg3 arg4 harg4 arg5 harg5 arg6 harg6 x0 x1 lr li ⟨k, hk⟩
    have e3 := trip_pieces2 𝒱 c bd i arg1 harg1 arg2 harg2 arg3 harg3 arg4 harg4 arg5 harg5 arg6 harg6 x0 x1 lr li ⟨k, hk⟩
    unfold st
    rw [hs]
    unfold tripR_k0_t1 tripL_k0_t1
    dsimp only [trip] at e1 e2 e3 ⊢
    rw [e1, e2, e3]
    have hd := trip_down x0 x1 lr li hl hx ⟨k, hk⟩ _ _ h1
    refine ⟨fun c => ?_, fun p hp => ?_, fun p hp => ?_⟩
    · rw [show 8 * (k + 1) = 8 * k + 7 + 1 by ring]
      exact lastRow_row hd c
    · exact restricts_cons ⟨k, hk⟩ (fun r c => (hd r c).1) h2 p hp
    · exact restricts_cons ⟨k, hk⟩ (fun r c => (hd r c).2) h3 p hp

end Loop

end Cert.S5.Fwd

end
-- ==== Proof.Fwd.Out.lean ====
/- The forward scan's kernel on one block: the block it writes is the recurrence's. -/
module

public import proofs.«01_k».proof.Proof.Fwd.Block

@[expose] public section

set_option maxRecDepth 16384

noncomputable section

namespace Cert.S5.Fwd

open Idealize.ShloMosaic hiding ix2
open Idealize.ShloMosaic.TcCoe Idealize.ShloMosaic.Tactic Idealize.ShloMosaic.ValueIdx
open Cert.Kernel2Ideal Cert.Kernel2Ideal.Gen

variable (c : Dev nD) (i : grid0.Coords)
  (arg1 : Memref sig .tc .vmem S2048x512 .f32) (harg1 : arg1.IsWhole) (arg2 : Memref sig .tc .vmem S2048x512 .f32) (harg2 : arg2.IsWhole)
  (arg3 : Memref sig .tc .vmem S1x512 .f32) (harg3 : arg3.IsWhole) (arg4 : Memref sig .tc .vmem S1x512 .f32) (harg4 : arg4.IsWhole)
  (arg5 : Memref sig .tc .vmem S2048x512 .f32) (harg5 : arg5.IsWhole) (arg6 : Memref sig .tc .vmem S2048x512 .f32) (harg6 : arg6.IsWhole)
  (x0 x1 : Vec Ideal S2048x512 .f32) (lr li : Vec Ideal S1x512 .f32)

/-- A row loaded whole is the row. -/
theorem ld_row (X : Vec Ideal S1x512 .f32) :
    View.ld (Val := Elt Ideal) (e' := .f32) X (Rect.unit (s := S1x512) ![0, 0] S1x512.size inb_S1x512_S1x512_0_0) = X :=
  View.ld_unit_zero (by funext a; fin_cases a <;> rfl) _ X

/-- The pieces the body stores through the first output are the loop's. -/
theorem run_pieces1 :
    (kernelRun0_A (F := Ideal) c i arg1 harg1 arg2 harg2 arg3 harg3 arg4 harg4 arg5 harg5 arg6 harg6 x0 x1 lr li).1
      = (st Variants.none c none i arg1 harg1 arg2 harg2 arg3 harg3 arg4 harg4 arg5 harg5 arg6 harg6 x0 x1 lr li k0_t1_loop.trips).2.1 := by
  unfold kernelRun0_A
  dsimp only
  sl_unfold_words
  simp only [View.readAt_eq_ld, Memref.IsWhole.read_unread]
  erw [ld_row, ld_row]

/-- The pieces the body stores through the second output are the loop's. -/
theorem run_pieces2 :
    (kernelRun0_A (F := Ideal) c i arg1 harg1 arg2 harg2 arg3 harg3 arg4 harg4 arg5 harg5 arg6 harg6 x0 x1 lr li).2.1
      = (st Variants.none c none i arg1 harg1 arg2 harg2 arg3 harg3 arg4 harg4 arg5 harg5 arg6 harg6 x0 x1 lr li k0_t1_loop.trips).2.2 := by
  unfold kernelRun0_A
  dsimp only
  sl_unfold_words
  simp only [View.readAt_eq_ld, Memref.IsWhole.read_unread]
  erw [ld_row, ld_row]

variable {l : Fin 512 → ℂ} {x : Fin 512 → ℕ → ℂ}

/-- The first output's block is the recurrence's real part. -/
theorem out_re (hl : Row lr li l) (hx : ∀ (t : Fin 2048) (c : Fin 512), IsC (x0 (ix2 t c)) (x1 (ix2 t c)) (x c t.val)) :
    out0_A_4 (F := Ideal) c i arg1 harg1 arg2 harg2 arg3 harg3 arg4 harg4 arg5 harg5 arg6 harg6 x0 x1 lr li = outRe l x := by
  unfold out0_A_4
  rw [View.read_writes_junk_eq_canon]
  funext y
  refine View.canon_apply_of_pieces _ _ ?_ y (cover0_A_4 c i arg1 harg1 arg2 harg2 arg3 harg3 arg4 harg4 arg5 harg5 arg6 harg6 x0 x1 lr li y)
  rw [run_pieces1]
  exact (st_inv Variants.none c none i arg1 harg1 arg2 harg2 arg3 harg3 arg4 harg4 arg5 harg5 arg6 harg6 x0 x1 lr li hl hx _ le_rfl).2.1

/-- The second output's block is the recurrence's imaginary part. -/
theorem out_im (hl : Row lr li l) (hx : ∀ (t : Fin 2048) (c : Fin 512), IsC (x0 (ix2 t c)) (x1 (ix2 t c)) (x c t.val)) :
    out0_A_5 (F := Ideal) c i arg1 harg1 arg2 harg2 arg3 harg3 arg4 harg4 arg5 harg5 arg6 harg6 x0 x1 lr li = outIm l x := by
  unfold out0_A_5
  rw [View.read_writes_junk_eq_canon]
  funext y
  refine View.canon_apply_of_pieces _ _ ?_ y (cover0_A_5 c i arg1 harg1 arg2 harg2 arg3 harg3 arg4 harg4 arg5 harg5 arg6 harg6 x0 x1 lr li y)
  rw [run_pieces2]
  exact (st_inv Variants.none c none i arg1 harg1 arg2 harg2 arg3 harg3 arg4 harg4 arg5 harg5 arg6 harg6 x0 x1 lr li hl hx _ le_rfl).2.2

end Cert.S5.Fwd

end
-- ==== Proof.Fwd.Array.lean ====
/- The forward scan's kernel over the grid: each result array is the recurrence of its own column. -/
module

public import proofs.«01_k».proof.Proof.Fwd.Out

@[expose] public section

set_option maxRecDepth 16384

noncomputable section

namespace Cert.S5.Fwd

open Idealize.ShloMosaic hiding ix2
open Idealize.ShloMosaic.TcCoe Idealize.ShloMosaic.Tactic Idealize.ShloMosaic.ValueIdx
open Cert.Kernel2Ideal Cert.Kernel2Ideal.Gen

variable (m : (ℓ : Loc nD τ sig) → Buf (Elt Ideal) ℓ) (c : Dev nD)

/-- Every window's block at a grid point starts at row 0 and at the point's column block. -/
theorem index_eq : ∀ t : Fin cfg0.N, win0_0.index t = ![0, t.val] ∧ win0_1.index t = ![0, t.val] ∧ win0_2.index t = ![0, t.val]
    ∧ win0_3.index t = ![0, t.val] ∧ win0_4.index t = ![0, t.val] ∧ win0_5.index t = ![0, t.val] :=
  (by decide +kernel : ∀ t : Fin grid0.N, _)

/-- The array's column that column `j` of block `t` is. -/
def colOf (t : Fin cfg0.N) (j : Fin 512) : Fin 4096 :=
  ⟨t.val * 512 + j.val, by have h : t.val < 8 := t.isLt; have := j.isLt; omega⟩

/-- Block `t` of the first argument, at an index. -/
theorem iblk0 (t : Fin cfg0.N) (r : Fin 2048) (j : Fin 512) :
    iblk m c 0 t (ix2 r j) = m ((c : Thread nD τ).loc main_arg0) (ix2 r (colOf t j)) := by
  blk_simp [iblk]
  rw [V_main_arg0]
  congr 1
  blk_ext [(index_eq t).1, colOf]

/-- Block `t` of the second argument, at an index. -/
theorem iblk1 (t : Fin cfg0.N) (r : Fin 2048) (j : Fin 512) :
    iblk m c 1 t (ix2 r j) = m ((c : Thread nD τ).loc main_arg1) (ix2 r (colOf t j)) := by
  blk_simp [iblk]
  rw [V_main_arg1]
  congr 1
  blk_ext [(index_eq t).2.1, colOf]

/-- Block `t` of the third argument, at an index. -/
theorem iblk2 (t : Fin cfg0.N) (r : Fin 1) (j : Fin 512) :
    iblk m c 2 t (ix2 r j) = m ((c : Thread nD τ).loc main_arg2) (ix2 r (colOf t j)) := by
  blk_simp [iblk]
  rw [V_main_arg2]
  congr 1
  blk_ext [(index_eq t).2.2.1, colOf]

/-- Block `t` of the fourth argument, at an index. -/
theorem iblk3 (t : Fin cfg0.N) (r : Fin 1) (j : Fin 512) :
    iblk m c 3 t (ix2 r j) = m ((c : Thread nD τ).loc main_arg3) (ix2 r (colOf t j)) := by
  blk_simp [iblk]
  rw [V_main_arg3]
  congr 1
  blk_ext [(index_eq t).2.2.2.1, colOf]

/-- The state the recurrence reaches at row `y 0` of column `y 1`. -/
def state (l : Fin 4096 → ℂ) (x : Fin 4096 → ℕ → ℂ) (y : S2048x4096.Idx) : ℂ := scan (l (y 1)) 0 (x (y 1)) ((y 0).val + 1)

variable {l : Fin 4096 → ℂ} {x : Fin 4096 → ℕ → ℂ}
  (hl : ∀ j : Fin 4096, IsC (m ((c : Thread nD τ).loc main_arg2) (ix2 (0 : Fin 1) j)) (m ((c : Thread nD τ).loc main_arg3) (ix2 (0 : Fin 1) j)) (l j))
  (hx : ∀ (r : Fin 2048) (j : Fin 4096), IsC (m ((c : Thread nD τ).loc main_arg0) (ix2 r j)) (m ((c : Thread nD τ).loc main_arg1) (ix2 r j)) (x j r.val))
include hl hx

/-- The first result array: the real parts of the states. -/
theorem array_re : (dats m 0 c).arrAt 4 cfg0.N = fun y => ((state l x y).re : EReal) := by
  refine (dats m 0 c).arrAt_eq_of_covers 4 _ (by decide +kernel) fun t _ y => ?_
  blk_simp
  rw [after0_4]
  have h := out_re c (grid0.coords t) (ms0_0 t) (hs0_0 t) (ms0_1 t) (hs0_1 t) (ms0_2 t) (hs0_2 t) (ms0_3 t) (hs0_3 t) (ms0_4 t) (hs0_4 t) (ms0_5 t) (hs0_5 t)
    (iblk m c 0 t) (iblk m c 1 t) (iblk m c 2 t) (iblk m c 3 t) (l := fun j => l (colOf t j)) (x := fun j => x (colOf t j))
    (fun j => by rw [iblk2, iblk3]; exact hl _) (fun r j => by rw [iblk0, iblk1]; exact hx _ _)
  refine (congrFun h y).trans ?_
  have e : ((cfg0.win 4).blk t).view.emb y = (ix2 (y 0) (colOf t (y 1)) : S2048x4096.Idx) := by
    blk_ext [(index_eq t).2.2.2.2.1, colOf]
  rw [e]
  rfl

/-- The second result array: the imaginary parts of the states. -/
theorem array_im : (dats m 0 c).arrAt 5 cfg0.N = fun y => ((state l x y).im : EReal) := by
  refine (dats m 0 c).arrAt_eq_of_covers 5 _ (by decide +kernel) fun t _ y => ?_
  blk_simp
  rw [after0_5]
  have h := out_im c (grid0.coords t) (ms0_0 t) (hs0_0 t) (ms0_1 t) (hs0_1 t) (ms0_2 t) (hs0_2 t) (ms0_3 t) (hs0_3 t) (ms0_4 t) (hs0_4 t) (ms0_5 t) (hs0_5 t)
    (iblk m c 0 t) (iblk m c 1 t) (iblk m c 2 t) (iblk m c 3 t) (l := fun j => l (colOf t j)) (x := fun j => x (colOf t j))
    (fun j => by rw [iblk2, iblk3]; exact hl _) (fun r j => by rw [iblk0, iblk1]; exact hx _ _)
  refine (congrFun h y).trans ?_
  have e : ((cfg0.win 5).blk t).view.emb y = (ix2 (y 0) (colOf t (y 1)) : S2048x4096.Idx) := by
    blk_ext [(index_eq t).2.2.2.2.2, colOf]
  rw [e]
  rfl

end Cert.S5.Fwd

end
-- ==== Proof.Scan.HostRow.lean ====
/- One row of an array read or written at the position of a host loop's counter, at an index. -/
module

public import Idealize.ShloMosaic.Lib.KernelVsHost
public import Idealize.ShloMosaic.Lib.ValueIdx
public import Idealize.ShloMosaic.Lib.Pointwise.ShapeOpsCore

@[expose] public section

noncomputable section

namespace Cert.S5

open Idealize.ShloMosaic hiding ix1 ix2
open Idealize.ShloMosaic.ValueIdx

variable {α : Type} {n w : ℕ}

/-- The one row of a one-row array as a vector, at an index. -/
theorem headRow_apply (X : (⟨2, ![1, w]⟩ : Shape).Idx → α) (h : (⟨2, ![1, w]⟩ : Shape).ShapeCasts ⟨1, ![w]⟩) (c : Fin w) :
    shapeCast (⟨1, ![w]⟩ : Shape) X h (ix1 c) = X (ix2 0 c) := by
  refine shapeCast_apply X h (ix1 c) (ix2 0 c) ?_
  rw [Shape.rowMajor_val_two, Shape.rowMajor_val_one]; show 0 * w + c.val = c.val; omega

/-- A vector as a one-row array, at an index. -/
theorem asRow_apply (v : (⟨1, ![w]⟩ : Shape).Idx → α) (h : (⟨1, ![w]⟩ : Shape).BroadcastsInDim ⟨2, ![1, w]⟩ ![1]) (r : Fin 1) (c : Fin w) :
    broadcastInDim (⟨2, ![1, w]⟩ : Shape) ![1] h v (ix2 r c) = v (ix1 c) := by
  refine broadcastInDim_apply ![1] h v (ix2 r c) (ix1 c) ?_
  intro a
  fin_cases a
  have hc := c.isLt
  simp only [Fin.zero_eta, Matrix.cons_val_fin_one]
  split
  · show c.val = 0; omega
  · rfl

/-- Row `k` cut out of an array, at an index. -/
theorem takeRow_apply (X : (⟨2, ![n, w]⟩ : Shape).Idx → α) (start : Fin 2 → ℤ) (k : Fin n) (h0 : start 0 = k.val) (h1 : start 1 = 0)
    (h : (⟨2, ![n, w]⟩ : Shape).Slices (fun _ => 0) ⟨2, ![1, w]⟩) (r : Fin 1) (c : Fin w) :
    Host.dynamicSlice (⟨2, ![1, w]⟩ : Shape) X start h (ix2 r c) = X (ix2 k c) := by
  rw [Host.dynamicSlice_apply]
  have hk := k.isLt
  congr 1
  funext a
  apply Fin.ext
  fin_cases a
  · show Host.clampedStart (⟨2, ![n, w]⟩ : Shape) ⟨2, ![1, w]⟩ h.1 start 0 + r.val = k.val
    rw [Host.clampedStart_of_le h.1 start 0 k.val h0 (show k.val + 1 ≤ n by omega)]
    omega
  · show Host.clampedStart (⟨2, ![n, w]⟩ : Shape) ⟨2, ![1, w]⟩ h.1 start 1 + c.val = c.val
    rw [Host.clampedStart_of_le h.1 start 1 0 h1 (show 0 + w ≤ w by omega)]
    omega

/-- Row `k` of an array replaced, at an index. -/
theorem setRow_apply (X : (⟨2, ![n, w]⟩ : Shape).Idx → α) (U : (⟨2, ![1, w]⟩ : Shape).Idx → α) (start : Fin 2 → ℤ) (k : Fin n)
    (h0 : start 0 = k.val) (h1 : start 1 = 0) (h : (⟨2, ![n, w]⟩ : Shape).Slices (fun _ => 0) ⟨2, ![1, w]⟩) (r : Fin n) (c : Fin w) :
    Host.dynamicUpdateSlice X U start h (ix2 r c) = if r = k then U (ix2 0 c) else X (ix2 r c) := by
  have hk := k.isLt
  have e0 : Host.clampedStart (⟨2, ![n, w]⟩ : Shape) ⟨2, ![1, w]⟩ h.1 start 0 = k.val :=
    Host.clampedStart_of_le h.1 start 0 k.val h0 (show k.val + 1 ≤ n by omega)
  have e1 : Host.clampedStart (⟨2, ![n, w]⟩ : Shape) ⟨2, ![1, w]⟩ h.1 start 1 = 0 :=
    Host.clampedStart_of_le h.1 start 1 0 h1 (show 0 + w ≤ w by omega)
  rw [Host.dynamicUpdateSlice_apply]
  by_cases hr : r = k
  · subst hr
    rw [if_pos rfl, dif_pos]
    · congr 1
      funext a
      apply Fin.ext
      fin_cases a
      · show r.val - Host.clampedStart (⟨2, ![n, w]⟩ : Shape) ⟨2, ![1, w]⟩ h.1 start 0 = 0
        omega
      · show c.val - Host.clampedStart (⟨2, ![n, w]⟩ : Shape) ⟨2, ![1, w]⟩ h.1 start 1 = c.val
        omega
    · intro a
      fin_cases a
      · show Host.clampedStart (⟨2, ![n, w]⟩ : Shape) ⟨2, ![1, w]⟩ h.1 start 0 ≤ r.val ∧ r.val < Host.clampedStart (⟨2, ![n, w]⟩ : Shape) ⟨2, ![1, w]⟩ h.1 start 0 + 1
        omega
      · show Host.clampedStart (⟨2, ![n, w]⟩ : Shape) ⟨2, ![1, w]⟩ h.1 start 1 ≤ c.val ∧ c.val < Host.clampedStart (⟨2, ![n, w]⟩ : Shape) ⟨2, ![1, w]⟩ h.1 start 1 + w
        have := c.isLt
        omega
  · rw [if_neg hr, dif_neg]
    intro hin
    have h2 : Host.clampedStart (⟨2, ![n, w]⟩ : Shape) ⟨2, ![1, w]⟩ h.1 start 0 ≤ r.val ∧ r.val < Host.clampedStart (⟨2, ![n, w]⟩ : Shape) ⟨2, ![1, w]⟩ h.1 start 0 + 1 := hin 0
    exact hr (Fin.ext (by omega))

end Cert.S5

end
-- ==== Proof.Fwd.Reference.lean ====
/- The forward scan's reference: a host loop over the 2048 rows, each trip one step of the recurrence. -/
module

public import proofs.«01_k».proof.Proof.Gen.Reference2Ideal.Run
public import proofs.«01_k».proof.Proof.Scan.Complex
public import proofs.«01_k».proof.Proof.Scan.HostRow

@[expose] public section

set_option maxRecDepth 65536

noncomputable section

namespace Cert.S5.Fwd.Ref

open Idealize.ShloMosaic hiding ix1 ix2
open Idealize.ShloMosaic.TcCoe Idealize.ShloMosaic.ValueIdx
open Idealize.ShloMosaic.StableHlo Idealize.ShloMosaic.Tactic
open Cert.Reference2Ideal Cert.Reference2Ideal.Gen Cert.Reference2Ideal.Value

/-- What holds before trip `k`: the inputs are the arguments `a`, `b`, `lr`, `li`, the counter is `k`, the carried state is the
    recurrence's after `k` rows, and so are the rows already written. -/
structure Inv (a b : S2048x4096.Idx → EReal) (lr li : S1x4096.Idx → EReal) (l : Fin 4096 → ℂ) (x : Fin 4096 → ℕ → ℂ)
    (V : Valuation τ sig (Elt Ideal)) (k : ℕ) : Prop where
  in0 : V (Proc.devRef .tc main_v3_0) = a
  in1 : V (Proc.devRef .tc main_v3_1) = b
  in2 : V (Proc.devRef .tc main_v3_2) = lr
  in3 : V (Proc.devRef .tc main_v3_3) = li
  ctr : V (Proc.devRef .tc main_v3_4) = fun _ => BitVec.ofNat 32 k
  state : ∀ c : Fin 4096, IsC (V (Proc.devRef .tc main_v3_5) (ix1 c)) (V (Proc.devRef .tc main_v3_6) (ix1 c)) (scan (l c) 0 (x c) k)
  rows : ∀ (r : Fin 2048) (c : Fin 4096), r.val < k →
    IsC (V (Proc.devRef .tc main_v3_7) (ix2 r c)) (V (Proc.devRef .tc main_v3_8) (ix2 r c)) (scan (l c) 0 (x c) (r.val + 1))

variable {a b : S2048x4096.Idx → EReal} {lr li : S1x4096.Idx → EReal} {l : Fin 4096 → ℂ} {x : Fin 4096 → ℕ → ℂ}
  (hl : ∀ c : Fin 4096, IsC (lr (ix2 0 c)) (li (ix2 0 c)) (l c))
  (hx : ∀ (r : Fin 2048) (c : Fin 4096), IsC (a (ix2 r c)) (b (ix2 r c)) (x c r.val))

/-- The counter as a position. -/
theorem pos_toInt (k : ℕ) (hk : k < 2048) : (BitVec.ofNat 32 k).toInt = k := by
  rw [BitVec.toInt_eq_toNat_of_lt] <;> simp <;> omega

include hl hx in
/-- One trip's new state. -/
theorem next {V : Valuation τ sig (Elt Ideal)} {k : ℕ} (hk : k < 2048) (h : Inv a b lr li l x V k) (c : Fin 4096) :
    IsC (res_main_while0b_v11 V (ix1 c)) (res_main_while0b_v17 V (ix1 c)) (scan (l c) 0 (x c) (k + 1)) := by
  have hs := h.state c
  have hin := hx ⟨k, hk⟩ c
  have hc0 : ((V (Proc.devRef .tc main_v3_4) : S_.Idx → BitVec 32) (Shape.Idx.first h_S_)).toInt = k := by
    rw [h.ctr]; exact pos_toInt k hk
  have key := ((hl c).mul hs).add hin
  rw [scan_succ]
  unfold res_main_while0b_v11 res_main_while0b_v17
  rw [h.in0, h.in1, h.in2, h.in3]
  simp only [addf_apply, mulf_apply, subf_apply]
  rw [headRow_apply, headRow_apply, headRow_apply, headRow_apply,
    takeRow_apply a _ ⟨k, hk⟩ hc0 rfl, takeRow_apply b _ ⟨k, hk⟩ hc0 rfl]
  exact key

include hl hx in
/-- One trip. -/
theorem step {V : Valuation τ sig (Elt Ideal)} {k : ℕ} (hk : k < 2048) (h : Inv a b lr li l x V k) :
    Inv a b lr li l x (STEP V) (k + 1) := by
  have hc0 : ((V (Proc.devRef .tc main_v3_4) : S_.Idx → BitVec 32) (Shape.Idx.first h_S_)).toInt = k := by
    rw [h.ctr]; exact pos_toInt k hk
  refine ⟨(STEP_main_v3_0 V).trans h.in0, (STEP_main_v3_1 V).trans h.in1, (STEP_main_v3_2 V).trans h.in2, (STEP_main_v3_3 V).trans h.in3, ?_, ?_, ?_⟩
  · rw [STEP_main_v3_4]
    unfold step_main_v3_4
    rw [h.ctr]
    funext i
    exact (BitVec.ofNat_add k 1).symm
  · intro c
    rw [STEP_main_v3_5, STEP_main_v3_6]
    exact next hl hx hk h c
  · intro r c hr
    rw [STEP_main_v3_7, STEP_main_v3_8]
    unfold step_main_v3_7 step_main_v3_8
    simp only [id]
    rw [setRow_apply _ _ _ ⟨k, hk⟩ hc0 rfl, setRow_apply _ _ _ ⟨k, hk⟩ hc0 rfl, asRow_apply, asRow_apply]
    by_cases e : r = ⟨k, hk⟩
    · rw [if_pos e, if_pos e]
      subst e
      exact next hl hx hk h c
    · rw [if_neg e, if_neg e]
      refine h.rows r c ?_
      have : r.val ≠ k := fun h' => e (Fin.ext h')
      omega

include hl hx in
/-- The loop. -/
theorem loop {V : Valuation τ sig (Elt Ideal)} (h : Inv a b lr li l x V 0) : ∀ k, k ≤ 2048 → Inv a b lr li l x (STEP^[k] V) k
  | 0, _ => h
  | k + 1, hk => by
    rw [Function.iterate_succ_apply']
    exact step hl hx (by omega) (loop h k (by omega))

variable (m : (ℓ : Loc nD τ sig) → Buf (Elt Ideal) ℓ) (d : Dev nD)

set_option maxHeartbeats 400000 in
/-- Before the first trip. -/
theorem entry : Inv (m ((d.tc : Thread nD τ).loc main_arg0)) (m ((d.tc : Thread nD τ).loc main_arg1)) (m ((d.tc : Thread nD τ).loc main_arg2))
    (m ((d.tc : Thread nD τ).loc main_arg3)) l x (entryContents preI m d) 0 := by
  refine ⟨?_, ?_, ?_, ?_, ctr_entry m d, ?_, fun r c h => absurd h (Nat.not_lt_zero _)⟩
  · simp only [entryContents, afterL_cons, afterL_nil]; after_reads_simp; rfl
  · simp only [entryContents, afterL_cons, afterL_nil]; after_reads_simp; rfl
  · simp only [entryContents, afterL_cons, afterL_nil]; after_reads_simp; rfl
  · simp only [entryContents, afterL_cons, afterL_nil]; after_reads_simp; rfl
  · intro c
    have e5 : entryContents preI m d (Proc.devRef .tc main_v3_5) (ix1 c) = (0 : EReal) := by
      simp only [entryContents, afterL_cons, afterL_nil]; after_reads_simp; exact Ideal.ofBits_zero_f32
    have e6 : entryContents preI m d (Proc.devRef .tc main_v3_6) (ix1 c) = (0 : EReal) := by
      simp only [entryContents, afterL_cons, afterL_nil]; after_reads_simp; exact Ideal.ofBits_zero_f32
    rw [e5, e6, scan_zero]
    exact IsC.zero

end Cert.S5.Fwd.Ref

end
-- ==== Proof.Fwd.Equation.lean ====
/- The forward scan: the kernel's two results are the reference's. -/
module

public import proofs.«01_k».proof.Defs
public import proofs.«01_k».proof.Proof.Gen.Pre_finite2
public import proofs.«01_k».proof.Proof.Scan.Finite
public import proofs.«01_k».proof.Proof.Fwd.Array
public import proofs.«01_k».proof.Proof.Fwd.Reference

@[expose] public section

set_option maxRecDepth 16384

noncomputable section

namespace Cert.S5.Fwd

open Idealize.ShloMosaic hiding ix1 ix2
open Idealize.ShloMosaic.TcCoe Idealize.ShloMosaic.ValueIdx

/-- What the precondition says: every argument is finite. -/
theorem finite_args (a b : FVec Ideal Cert.Pre_finite2.S2048x4096 .f32) (lr li : FVec Ideal Cert.Pre_finite2.S1x4096 .f32)
    (h : Cert.Pre_finite2.fn (F := Ideal) a b lr li = fun _ => 1#1) :
    (∀ (r : Fin 2048) (c : Fin 4096), IsFin (a (ix2 r c)) ∧ IsFin (b (ix2 r c)))
      ∧ ∀ c : Fin 4096, IsFin (lr (ix2 0 c)) ∧ IsFin (li (ix2 0 c)) := by
  have key : ∀ (r : Fin 2048) (c : Fin 4096), ((IsFin (a (ix2 r c)) ∧ IsFin (b (ix2 r c))) ∧ IsFin (lr (ix2 0 c))) ∧ IsFin (li (ix2 0 c)) := by
    intro r c
    have h0 := congrFun h (ix2 r c)
    unfold Cert.Pre_finite2.fn at h0
    obtain ⟨h1, hli⟩ := and_eq_one h0
    obtain ⟨h2, hlr⟩ := and_eq_one h1
    obtain ⟨ha, hb⟩ := and_eq_one h2
    rw [rowsBcast_apply] at hli hlr
    exact ⟨⟨⟨finite_of_abs_lt _ _ _ ha, finite_of_abs_lt _ _ _ hb⟩, finite_of_abs_lt _ _ _ hlr⟩, finite_of_abs_lt _ _ _ hli⟩
  exact ⟨fun r c => (key r c).1.1, fun c => ⟨(key 0 c).1.2, (key 0 c).2⟩⟩

/-- The number two finite parts make. -/
def num (a b : EReal) : ℂ := ⟨a.toReal, b.toReal⟩

theorem isC_num {a b : EReal} (ha : IsFin a) (hb : IsFin b) : IsC a b (num a b) := IsC.of_finite ha.1 ha.2 hb.1 hb.2

/-- The column of numbers two arrays make. -/
def col (a b : Cert.Kernel2Ideal.S2048x4096.Idx → EReal) (c : Fin 4096) (t : ℕ) : ℂ :=
  if h : t < 2048 then num (a (ix2 ⟨t, h⟩ c)) (b (ix2 ⟨t, h⟩ c)) else 0

/-- The forward scan's algebraic claim. -/
theorem algebraic : Cert.algebraic_Kernel2Ideal_Reference2Ideal := by
  intro m g m' g' hPre hArgs
  let l (d : Dev Cert.Kernel2Ideal.nD) (c : Fin 4096) : ℂ :=
    num (m ((d.tc : Thread Cert.Kernel2Ideal.nD Cert.Kernel2Ideal.τ).loc Cert.Kernel2Ideal.main_arg2) (ix2 0 c))
      (m ((d.tc : Thread Cert.Kernel2Ideal.nD Cert.Kernel2Ideal.τ).loc Cert.Kernel2Ideal.main_arg3) (ix2 0 c))
  let x (d : Dev Cert.Kernel2Ideal.nD) : Fin 4096 → ℕ → ℂ :=
    col (m ((d.tc : Thread Cert.Kernel2Ideal.nD Cert.Kernel2Ideal.τ).loc Cert.Kernel2Ideal.main_arg0))
      (m ((d.tc : Thread Cert.Kernel2Ideal.nD Cert.Kernel2Ideal.τ).loc Cert.Kernel2Ideal.main_arg1))
  have hl : ∀ (d : Dev Cert.Kernel2Ideal.nD) (c : Fin 4096), IsC (m ((d.tc : Thread Cert.Kernel2Ideal.nD Cert.Kernel2Ideal.τ).loc Cert.Kernel2Ideal.main_arg2) (ix2 0 c))
      (m ((d.tc : Thread Cert.Kernel2Ideal.nD Cert.Kernel2Ideal.τ).loc Cert.Kernel2Ideal.main_arg3) (ix2 0 c)) (l d c) := fun d c =>
    isC_num ((finite_args _ _ _ _ (hPre d)).2 c).1 ((finite_args _ _ _ _ (hPre d)).2 c).2
  have hx : ∀ (d : Dev Cert.Kernel2Ideal.nD) (r : Fin 2048) (c : Fin 4096), IsC (m ((d.tc : Thread Cert.Kernel2Ideal.nD Cert.Kernel2Ideal.τ).loc Cert.Kernel2Ideal.main_arg0) (ix2 r c))
      (m ((d.tc : Thread Cert.Kernel2Ideal.nD Cert.Kernel2Ideal.τ).loc Cert.Kernel2Ideal.main_arg1) (ix2 r c)) (x d c r.val) := fun d r c => by
    show IsC _ _ (col _ _ c r.val)
    unfold col
    rw [dif_pos r.isLt]
    exact isC_num ((finite_args _ _ _ _ (hPre d)).1 r c).1 ((finite_args _ _ _ _ (hPre d)).1 r c).2
  refine ⟨fun d y => ((state (l d) (x d) y).re : EReal), fun d y => ((state (l d) (x d) y).im : EReal), ?_, ?_⟩
  · refine (θ_run _ _ _).mono (fun r h d => ?_) (Cert.Kernel2Ideal.Value.run_blocks m g)
    obtain ⟨h0, h1, h2⟩ := h d
    exact ⟨h0.trans (array_re m d (hl d) (hx d)), h1.trans (array_im m d (hl d) (hx d)), h2⟩
  · refine (θ_run _ _ _).mono (fun r h d => ?_) (Cert.Reference2Ideal.Value.run m' g')
    obtain ⟨h0, h1, h2⟩ := h d
    obtain ⟨a0, a1, a2, a3⟩ := hArgs d
    have inv := Ref.loop (l := l d) (x := x d) (fun c => by rw [a2, a3]; exact hl d c) (fun r c => by rw [a0, a1]; exact hx d r c)
      (Ref.entry (l := l d) (x := x d) m' d) 2048 le_rfl
    refine ⟨h0.trans ?_, h1.trans ?_, h2⟩
    · funext y
      obtain ⟨r, c, rfl⟩ : ∃ (r : Fin 2048) (c : Fin 4096), y = ix2 r c := ⟨y 0, y 1, ValueIdx.eq_ix2 y⟩
      exact (inv.rows r c r.isLt).1
    · funext y
      obtain ⟨r, c, rfl⟩ : ∃ (r : Fin 2048) (c : Fin 4096), y = ix2 r c := ⟨y 0, y 1, ValueIdx.eq_ix2 y⟩
      exact (inv.rows r c r.isLt).2

end Cert.S5.Fwd

end
-- ==== Proof.Scan.Adjoint.lean ====
/- The adjoint of the recurrence: the gradient that runs back through time, and the decay's gradient. -/
module

public import proofs.«01_k».proof.Proof.Scan.Complex

@[expose] public section

noncomputable section

open scoped BigOperators ComplexConjugate

namespace Cert.S5

/-- The gradient at time `t` of a recurrence of 2048 steps with decay `l`, from the gradients `d` of its states: the recurrence with
    the conjugate decay, run over `d` from the last time back to `t`. -/
def adj (l : ℂ) (d : ℕ → ℂ) (t : ℕ) : ℂ := scan (conj l) 0 (fun j => d (2047 - j)) (2048 - t)

/-- The state before time `t`: zero at the start. -/
def before (s : ℕ → ℂ) (t : ℕ) : ℂ := if t = 0 then 0 else s (t - 1)

/-- Its values after the start. -/
theorem before_succ (s : ℕ → ℂ) (t : ℕ) : before s (t + 1) = s t := rfl

/-- What time `t` contributes to the decay's gradient. -/
def term (l : ℂ) (d s : ℕ → ℂ) (t : ℕ) : ℂ := adj l d t * conj (before s t)

/-- The contributions summed by their row in a tile of eight, the tiles taken from the last to the first, are summed over time. -/
theorem sum_term (f : ℕ → ℂ) :
    ∑ r : Fin 8, ∑ j ∈ Finset.range 256, f (8 * (255 - j) + r.val) = ∑ t ∈ Finset.range 2048, f t := by
  have h := sum_groups f 256
  rw [show 8 * 256 = 2048 by norm_num] at h
  rw [← h]
  refine Finset.sum_congr rfl fun r _ => ?_
  exact Finset.sum_range_reflect (fun m => f (8 * m + r.val)) 256

/-- The contributions summed from the last time to the first. -/
theorem sum_back (f : ℕ → ℂ) : ∑ j ∈ Finset.range 2048, f (2047 - j) = ∑ t ∈ Finset.range 2048, f t :=
  Finset.sum_range_reflect f 2048

end Cert.S5

end
-- ==== Proof.Bwd.Tile.lean ====
/- The backward scan's kernel on one tile of eight rows: the powers of the decay's conjugate, what one trip of its loop
   computes, and the products it adds to the decay's gradient. -/
module

public import proofs.«01_k».proof.Proof.Gen.KernelIdeal.Skeleton
public import proofs.«01_k».proof.Proof.Scan.Tile

@[expose] public section

set_option maxRecDepth 16384

noncomputable section

open scoped BigOperators ComplexConjugate

namespace Cert.S5.Bwd

open Idealize.ShloMosaic Idealize.ShloMosaic.ValueIdx Cert.KernelIdeal Cert.KernelIdeal.Gen

/-- The row numbers of a tile. -/
abbrev rows : IVec S8x256 32 := iota .tc S8x256 32 [0] iota_S8x256_d0_w32

section

variable {lr li : FVec Ideal S1x256 .f32} {l : Fin 256 → ℂ} (hl : Row lr li l)

include hl

/-- The conjugate of the decay. -/
theorem pow1 : Row lr (k0_pay20 li) (fun c => conj (l c)) := by
  intro c
  have h := (hl c).conj_parts
  refine ⟨h.1, ?_⟩
  rw [← h.2]
  show Ideal.ofBits .f32 0x00000000#32 - li (ix2 0 c) = _
  rw [Ideal.ofBits_zero_f32, zero_sub]
/-- Its second power. -/
theorem pow2 : Row (k0_pay21 lr li) (k0_pay22 lr li) (fun c => conj (l c) ^ 2) := by
  simp only [pow_two]; exact (pow1 hl).mul (pow1 hl)
/-- Its third power. -/
theorem pow3 : Row (k0_pay23 lr li) (k0_pay24 lr li) (fun c => conj (l c) ^ 3) := by
  simp only [pow_succ _ 2]; exact (pow2 hl).mul (pow1 hl)
/-- Its fourth power. -/
theorem pow4 : Row (k0_pay25 lr li) (k0_pay26 lr li) (fun c => conj (l c) ^ 4) := by
  simp only [pow_succ _ 3]; exact (pow3 hl).mul (pow1 hl)
/-- Its fifth power. -/
theorem pow5 : Row (k0_pay27 lr li) (k0_pay28 lr li) (fun c => conj (l c) ^ 5) := by
  simp only [pow_succ _ 4]; exact (pow4 hl).mul (pow1 hl)
/-- Its sixth power. -/
theorem pow6 : Row (k0_pay29 lr li) (k0_pay30 lr li) (fun c => conj (l c) ^ 6) := by
  simp only [pow_succ _ 5]; exact (pow5 hl).mul (pow1 hl)
/-- Its seventh power. -/
theorem pow7 : Row (k0_pay31 lr li) (k0_pay32 lr li) (fun c => conj (l c) ^ 7) := by
  simp only [pow_succ _ 6]; exact (pow6 hl).mul (pow1 hl)
/-- Its eighth power. -/
theorem pow8 : Row (k0_pay33 lr li) (k0_pay34 lr li) (fun c => conj (l c) ^ 8) := by
  simp only [pow_succ _ 7]; exact (pow7 hl).mul (pow1 hl)

end

/-- The real parts of the upper five rows of powers. -/
abbrev topR (lr li : FVec Ideal S1x256 .f32) : FVec Ideal S8x256 .f32 :=
  k0_pay38 (k0_pay25 lr li) (k0_pay27 lr li) (k0_pay29 lr li) (k0_pay31 lr li) (k0_pay33 lr li) rows (k0_pay35 (F := Ideal)) k0_pay37

/-- The imaginary parts of the upper five rows of powers. -/
abbrev topI (lr li : FVec Ideal S1x256 .f32) : FVec Ideal S8x256 .f32 :=
  k0_pay39 (k0_pay26 lr li) (k0_pay28 lr li) (k0_pay30 lr li) (k0_pay32 lr li) (k0_pay34 lr li) rows (k0_pay36 (F := Ideal))

/-- The real parts of the powers, row `r` holding the power `8 - r`. -/
abbrev powR (lr li : FVec Ideal S1x256 .f32) : FVec Ideal S8x256 .f32 :=
  k0_pay41 lr (k0_pay21 lr li) (k0_pay23 lr li) rows (topR lr li) (k0_pay40 rows)

/-- The imaginary parts of the powers. -/
abbrev powI (lr li : FVec Ideal S1x256 .f32) : FVec Ideal S8x256 .f32 :=
  k0_pay42 (k0_pay20 li) (k0_pay22 lr li) (k0_pay24 lr li) rows (topI lr li)

/-- A choice by the row number, at an index. -/
theorem chooseRow_apply (k : ℕ) (hk : k < 8) (A : FVec Ideal S1x256 .f32) (Z : FVec Ideal S8x256 .f32) (r : Fin 8) (c : Fin 256) :
    select (cmpi .eq rows (broadcast S8x256 (BitVec.ofNat 32 k)))
      (broadcastTo S8x256 (shapeCast S1x256 A shapeCasts_S1x256_S1x256) broadcasts_S1x256_S8x256) Z (ix2 r c)
      = if r.val = k then A (ix2 0 c) else Z (ix2 r c) := by
  have hc : cmpi .eq rows (broadcast S8x256 (BitVec.ofNat 32 k)) (ix2 r c) = if r.val = k then 1#1 else 0#1 := by
    show IntOp.cmpi .eq (iota .tc S8x256 32 [0] iota_S8x256_d0_w32 (ix2 r c)) (BitVec.ofNat 32 k) = _
    rw [show iota .tc S8x256 32 [0] iota_S8x256_d0_w32 (ix2 r c) = BitVec.ofNat 32 r.val from rowIota_apply _ r c]
    interval_cases k <;> fin_cases r <;> rfl
  rw [select_apply, hc, shapeCast_self]
  split
  · rw [select_one]; exact rowBcast_apply A _ r c
  · rfl

/-- The rows of powers, at an index. -/
theorem pow_isC {lr li : FVec Ideal S1x256 .f32} {l : Fin 256 → ℂ} (hl : Row lr li l) (r : Fin 8) (c : Fin 256) :
    IsC (powR lr li (ix2 r c)) (powI lr li (ix2 r c)) (conj (l c) ^ (7 - r.val + 1)) := by
  simp only [powR, powI, topR, topI, k0_pay37, k0_pay38, k0_pay39, k0_pay40, k0_pay41, k0_pay42, chooseRow_apply 0, chooseRow_apply 1,
    chooseRow_apply 2, chooseRow_apply 3, chooseRow_apply 4, chooseRow_apply 5, chooseRow_apply 6, chooseRow_apply 7, Nat.lt_add_one,
    Nat.reduceLT]
  fin_cases r
  · simpa using pow8 hl c
  · simpa using pow7 hl c
  · simpa using pow6 hl c
  · simpa using pow5 hl c
  · simpa using pow4 hl c
  · simpa using pow3 hl c
  · simpa using pow2 hl c
  · simpa using pow1 hl c

/-- The real part of a trip's tile, from the two parts of the incoming gradient's tile and of the carried row. -/
abbrev tripRe (lr li : FVec Ideal S1x256 .f32) (X Y : FVec Ideal S8x256 .f32) (P Q : FVec Ideal S1x256 .f32) : FVec Ideal S8x256 .f32 :=
  k0_pay18 (k0_pay21 lr li) (k0_pay22 lr li) (k0_pay25 lr li) (k0_pay26 lr li) rows (powR lr li) (powI lr li) P Q
    (k0_pay7 lr (k0_pay20 li) rows X Y) (k0_pay8 lr (k0_pay20 li) rows X Y) (k0_pay9 rows)
    (k0_pay10 lr (k0_pay20 li) rows X Y) (k0_pay11 lr (k0_pay20 li) rows X Y)

/-- The imaginary part of a trip's tile. -/
abbrev tripIm (lr li : FVec Ideal S1x256 .f32) (X Y : FVec Ideal S8x256 .f32) (P Q : FVec Ideal S1x256 .f32) : FVec Ideal S8x256 .f32 :=
  k0_pay19 (k0_pay21 lr li) (k0_pay22 lr li) (k0_pay25 lr li) (k0_pay26 lr li) rows (powR lr li) (powI lr li) P Q
    (k0_pay7 lr (k0_pay20 li) rows X Y) (k0_pay8 lr (k0_pay20 li) rows X Y) (k0_pay9 rows)
    (k0_pay10 lr (k0_pay20 li) rows X Y) (k0_pay11 lr (k0_pay20 li) rows X Y)

/-- One trip's tile: the recurrence with the conjugate decay, run upwards from the carried values `p`. -/
theorem trip_isC {lr li : FVec Ideal S1x256 .f32} {l : Fin 256 → ℂ} (hl : Row lr li l) {X Y : FVec Ideal S8x256 .f32}
    {x : Fin 256 → ℕ → ℂ} (hX : Up X Y x) {P Q : FVec Ideal S1x256 .f32} {p : Fin 256 → ℂ} (hP : Row P Q p) :
    Up (tripRe lr li X Y P Q) (tripIm lr li X Y P Q) (fun c r => scan (conj (l c)) (p c) (x c) (r + 1)) := by
  have h1 : Up (k0_pay7 lr (k0_pay20 li) rows X Y) (k0_pay8 lr (k0_pay20 li) rows X Y) _ :=
    hX.step (pow1 hl) 1 (by omega) (by omega) iota_S8x256_d0_w32 rotates_S8x256_d0 broadcasts_S1x256_S8x256 _ Ideal.ofBits_zero_f32 rfl rfl
  have h2 := h1.step (pow2 hl) 2 (by omega) (by omega) iota_S8x256_d0_w32 rotates_S8x256_d0 broadcasts_S1x256_S8x256 _
    Ideal.ofBits_zero_f32 rfl rfl
  have h4 := h2.step (pow4 hl) 4 (by omega) (by omega) iota_S8x256_d0_w32 rotates_S8x256_d0 broadcasts_S1x256_S8x256 _
    Ideal.ofBits_zero_f32 rfl rfl
  intro r c
  show IsC _ _ (scan (conj (l c)) (p c) (x c) (7 - r.val + 1))
  rw [← tile_scan (conj (l c)) (p c) (x c) (7 - r.val) (by omega)]
  exact carry_isC broadcasts_S1x256_S8x256 r c (h4 r c) (pow_isC hl r c) (hP c)

/-- The first row of a tile. -/
theorem firstRow_row {X Y : FVec Ideal S8x256 .f32} {z : Fin 256 → ℕ → ℂ} (h : Up X Y z) :
    Row (k0_pay47 X) (k0_pay48 Y) (fun c => z c 7) := by
  intro c
  have h0 : ∀ X : FVec Ideal S8x256 .f32,
      extractStridedSlice S1x256 ![0, 0] X slices_S8x256_o0_0_S1x256 (ix2 0 c) = X (ix2 0 c) := fun X =>
    extractStridedSlice_apply ![0, 0] X slices_S8x256_o0_0_S1x256 (ix2 0 c) (ix2 0 c) (by intro a; fin_cases a <;> simp)
  show IsC (extractStridedSlice S1x256 ![0, 0] X slices_S8x256_o0_0_S1x256 (ix2 0 c))
    (extractStridedSlice S1x256 ![0, 0] Y slices_S8x256_o0_0_S1x256 (ix2 0 c)) _
  rw [h0, h0]
  exact h 0 c

/-- The last row of a tile. -/
theorem lastRow_row {X Y : FVec Ideal S8x256 .f32} {z : Fin 256 → ℕ → ℂ} (h : Down X Y z) :
    Row (k0_pay2 X) (k0_pay3 Y) (fun c => z c 7) := by
  intro c
  have h7 : ∀ X : FVec Ideal S8x256 .f32,
      extractStridedSlice S1x256 ![7, 0] X slices_S8x256_o7_0_S1x256 (ix2 0 c) = X (ix2 7 c) := fun X =>
    extractStridedSlice_apply ![7, 0] X slices_S8x256_o7_0_S1x256 (ix2 0 c) (ix2 7 c) (by intro a; fin_cases a <;> simp)
  show IsC (extractStridedSlice S1x256 ![7, 0] X slices_S8x256_o7_0_S1x256 (ix2 0 c))
    (extractStridedSlice S1x256 ![7, 0] Y slices_S8x256_o7_0_S1x256 (ix2 0 c)) _
  rw [h7, h7]
  exact h 7 c

/-- A tile moved down by one row with a row put in front, at an index. -/
theorem prev_apply (A : FVec Ideal S1x256 .f32) (S : FVec Ideal S8x256 .f32) (r : Fin 8) (c : Fin 256) :
    k0_pay45 rows A S (ix2 r c) = if h : r.val = 0 then A (ix2 0 c) else S (ix2 ⟨r.val - 1, by omega⟩ c) := by
  show select (cmpi .eq rows (broadcast S8x256 (BitVec.ofNat 32 0)))
      (broadcastTo S8x256 (shapeCast S1x256 A shapeCasts_S1x256_S1x256) broadcasts_S1x256_S8x256)
      (dynamicRotate 0 1#32 none S rotates_S8x256_d0) (ix2 r c) = _
  rw [chooseRow_apply 0 (by omega)]
  by_cases h : r.val = 0
  · rw [if_pos h, dif_pos h]
  · rw [if_neg h, dif_neg h]
    refine dynamicRotate_apply 0 _ S _ _ _ ?_
    intro b
    fin_cases b
    · have := r.isLt
      show r.val - 1 = (r.val + 8 - 1) % 8
      omega
    · simp

/-- The states one step earlier: a tile of states moved down by one row, the state before the tile put in front. -/
theorem prev_down {A B : FVec Ideal S1x256 .f32} {S T : FVec Ideal S8x256 .f32} {z q : Fin 256 → ℕ → ℂ} (hS : Down S T z)
    (hA : Row A B fun c => q c 0) (hq : ∀ c r, q c (r + 1) = z c r) :
    Down (k0_pay45 rows A S) (k0_pay46 rows B T) q := by
  intro r c
  rw [show k0_pay46 rows B T = k0_pay45 rows B T from rfl, prev_apply, prev_apply]
  by_cases h : r.val = 0
  · rw [dif_pos h, dif_pos h, h]; exact hA c
  · rw [dif_neg h, dif_neg h]
    have := hS ⟨r.val - 1, by omega⟩ c
    rwa [← hq, show r.val - 1 + 1 = r.val by omega] at this

/-- The products a trip adds, row by row, to the decay's gradient. -/
theorem grad_isC {A B : FVec Ideal S1x256 .f32} {S T X Y G H : FVec Ideal S8x256 .f32} {a q g : Fin 8 → Fin 256 → ℂ}
    (hX : ∀ r c, IsC (X (ix2 r c)) (Y (ix2 r c)) (a r c))
    (hQ : ∀ r c, IsC (k0_pay45 rows A S (ix2 r c)) (k0_pay46 rows B T (ix2 r c)) (q r c))
    (hG : ∀ r c, IsC (G (ix2 r c)) (H (ix2 r c)) (g r c)) (r : Fin 8) (c : Fin 256) :
    IsC (k0_pay49 rows G A B X Y S T (ix2 r c)) (k0_pay50 rows H A B X Y S T (ix2 r c)) (g r c + a r c * conj (q r c)) :=
  (hG r c).add ((hX r c).mul_conj (hQ r c))

/-- The sum of a tile's rows, at a column. -/
theorem rowSum_apply (G : FVec Ideal S8x256 .f32) (c : Fin 256) :
    shapeCast S1x256 (multiReduction .add [0] S256 G 0x00000000#32 reduces_S8x256_S256 (.inl rfl) rfl) shapeCasts_S256_S1x256 (ix2 0 c)
      = ∑ r : Fin 8, G (ix2 r c) := by
  refine (shapeCast_apply _ _ (ix2 0 c) (ix1 c) (by rw [Shape.rowMajor_val_two, Shape.rowMajor_val_one]; show c.val = 0 * 256 + c.val; omega)).trans ?_
  refine (Ideal.multiReduction_add_single G _ reduces_S8x256_S256 _ rfl (ix1 c)).trans ?_
  refine Finset.sum_congr rfl fun r _ => congrArg G ?_
  funext a
  fin_cases a <;> rfl

end Cert.S5.Bwd

end
-- ==== Proof.Bwd.Block.lean ====
/- The backward scan's kernel on one block of 256 columns: what its loop carries and stores. -/
module

public import proofs.«01_k».proof.Proof.Gen.KernelIdeal.Value
public import proofs.«01_k».proof.Proof.Bwd.Tile
public import Idealize.ShloMosaic.Lib.Pipeline.ValueKit

@[expose] public section

set_option maxRecDepth 16384

noncomputable section

open scoped BigOperators ComplexConjugate

namespace Cert.S5.Bwd

open Idealize.ShloMosaic hiding ix1 ix2
open Idealize.ShloMosaic.TcCoe Idealize.ShloMosaic.Tactic Idealize.ShloMosaic.ValueIdx
open Cert.KernelIdeal Cert.KernelIdeal.Gen

/-- Every piece of a list holds the values of one function of the block's index. -/
def Restricts {S : Shape} (G : S.Idx → Ideal .f32) (L : List (View.Piece (Elt Ideal) S .f32)) : Prop :=
  ∀ p ∈ L, ∀ x : p.1.shape.Idx, p.2 x = G (p.1.emb x)

/-- The tile of eight rows from row `o` on. -/
abbrev tileFrom (X : FVec Ideal S2048x256 .f32) (off : Fin 2 → ℕ) (h : ∀ a, off a + S8x256.size a ≤ S2048x256.size a) :
    FVec Ideal S8x256 .f32 :=
  View.ld (Val := Elt Ideal) (e' := .f32) X (Rect.unit (s := S2048x256) off S8x256.size h)

/-- There are 255 trips. -/
theorem trips_eq : k0_t1_loop.trips = 255 := by decide +kernel

/-- A tile's element is the block's. -/
theorem tileFrom_apply (X : FVec Ideal S2048x256 .f32) (off : Fin 2 → ℕ) (h : ∀ a, off a + S8x256.size a ≤ S2048x256.size a) (o : ℕ)
    (ho : off = ![o, 0]) (r : Fin 8) (c : Fin 256) (ho' : o + r.val < 2048) :
    tileFrom X off h (ix2 r c) = X (ix2 ⟨o + r.val, ho'⟩ c) := by
  subst ho
  refine View.ld_unit_apply_of (Val := Elt Ideal) (e := .f32) X _ _ _ _ _ ?_
  intro a
  fin_cases a
  · rfl
  · exact (Nat.zero_add _).symm

/-- The place of a tile's element in the block. -/
theorem tileRect_emb (off : Fin 2 → ℕ) (h : ∀ a, off a + S8x256.size a ≤ S2048x256.size a) (o : ℕ)
    (ho : off = ![o, 0]) (r : Fin 8) (c : Fin 256) (ho' : o + r.val < 2048) :
    (Rect.unit (s := S2048x256) off S8x256.size h).emb (ix2 r c) = ix2 ⟨o + r.val, ho'⟩ c := by
  subst ho
  refine funext fun a => Fin.ext ((Rect.idx_unit_val _ _ _ _ a).trans ?_)
  fin_cases a
  · rfl
  · exact Nat.zero_add _

set_option backward.isDefEq.respectTransparency false in
/-- A tile's piece put in front of pieces that hold the values of one function. -/
theorem restricts_cons (off : Fin 2 → ℕ) (h : ∀ a, off a + S8x256.size a ≤ S2048x256.size a) (o : ℕ) (ho : off = ![o, 0])
    (ho' : o + 8 ≤ 2048) {G : S2048x256.Idx → Ideal .f32} {W : FVec Ideal S8x256 .f32}
    (hW : ∀ (r : Fin 8) (c : Fin 256), W (ix2 r c) = G (ix2 ⟨o + r.val, by omega⟩ c))
    {L : List (View.Piece (Elt Ideal) S2048x256 .f32)} (hL : Restricts G L) :
    Restricts G ([⟨Rect.unit (s := S2048x256) off S8x256.size h, W⟩] ++ L) := by
  intro p hp
  rcases List.mem_cons.mp hp with rfl | hp
  · intro (y : S8x256.Idx)
    obtain ⟨r, c, rfl⟩ : ∃ (r : Fin 8) (c : Fin 256), y = ix2 r c := ⟨y 0, y 1, ValueIdx.eq_ix2 y⟩
    exact (hW r c).trans (congrArg G (tileRect_emb off h o ho r c (by omega)).symm)
  · exact hL p hp

/-- The tile trip `k` works on. -/
abbrev tileAt (X : FVec Ideal S2048x256 .f32) (k : Fin k0_t1_loop.trips) : FVec Ideal S8x256 .f32 :=
  tileFrom X (k0_off1 k 255#32) (k0_off1_inb k 1)

/-- The tile before it in time. -/
abbrev tileBefore (X : FVec Ideal S2048x256 .f32) (k : Fin k0_t1_loop.trips) : FVec Ideal S8x256 .f32 :=
  tileFrom X (k0_off1 k 254#32) (k0_off1_inb k 0)

/-- Where the tile of trip `k` begins. -/
theorem off_at (k : Fin k0_t1_loop.trips) : k0_off1 k 255#32 = ![8 * (255 - k.val), 0] := by
  have h := k0_off1_eq k 1
  have hk := lt_of_lt_of_eq k.isLt trips_eq
  refine h.trans ?_
  rw [show 8 * (1 : Fin 2).val + 2032 - 8 * k.val = 8 * (255 - k.val) by show 8 * 1 + 2032 - 8 * k.val = _; omega]

/-- Where the tile before it begins. -/
theorem off_before (k : Fin k0_t1_loop.trips) : k0_off1 k 254#32 = ![8 * (254 - k.val), 0] := by
  have h := k0_off1_eq k 0
  have hk := lt_of_lt_of_eq k.isLt trips_eq
  refine h.trans ?_
  rw [show 8 * (0 : Fin 2).val + 2032 - 8 * k.val = 8 * (254 - k.val) by show 8 * 0 + 2032 - 8 * k.val = _; omega]

/-- The values carried through the loop. -/
abbrev Acc := FVec Ideal S1x256 .f32 × FVec Ideal S1x256 .f32 × FVec Ideal S8x256 .f32 × FVec Ideal S8x256 .f32

section Loop

variable (𝒱 : Variants) (c : Dev nD) (bd : Option 𝒱.V) (i : grid0.Coords)
  (arg1 : Memref sig .tc .vmem S2048x256 .f32) (harg1 : arg1.IsWhole) (arg2 : Memref sig .tc .vmem S2048x256 .f32) (harg2 : arg2.IsWhole)
  (arg3 : Memref sig .tc .vmem S2048x256 .f32) (harg3 : arg3.IsWhole) (arg4 : Memref sig .tc .vmem S2048x256 .f32) (harg4 : arg4.IsWhole)
  (arg5 : Memref sig .tc .vmem S1x256 .f32) (harg5 : arg5.IsWhole) (arg6 : Memref sig .tc .vmem S1x256 .f32) (harg6 : arg6.IsWhole)
  (arg7 : Memref sig .tc .vmem S2048x256 .f32) (harg7 : arg7.IsWhole) (arg8 : Memref sig .tc .vmem S2048x256 .f32) (harg8 : arg8.IsWhole)
  (arg9 : Memref sig .tc .vmem S1x256 .f32) (harg9 : arg9.IsWhole) (arg10 : Memref sig .tc .vmem S1x256 .f32) (harg10 : arg10.IsWhole)
  (x0 x1 x2 x3 : Vec Ideal S2048x256 .f32) (lr li : Vec Ideal S1x256 .f32)

/-- One trip, run at the block's values. -/
abbrev trip (k : Fin k0_t1_loop.trips) :=
  trip_k0_t1 (F := Ideal) 𝒱 c bd i arg1 harg1 arg2 harg2 arg3 harg3 arg4 harg4 arg5 harg5 arg6 harg6 arg7 harg7 arg8 harg8 arg9 harg9
    arg10 harg10 lr (k0_pay20 li) (k0_pay21 lr li) (k0_pay22 lr li) (k0_pay23 lr li) (k0_pay24 lr li) (k0_pay25 lr li) (k0_pay26 lr li)
    rows (topR lr li) (topI lr li) (k0_pay40 rows) (harg1.unread x0) (harg2.unread x1) (harg3.unread x2) (harg4.unread x3) k

/-- The state before trip `k`: the carried values and the pieces stored so far. -/
abbrev st (k : ℕ) :=
  st_k0_t1 (F := Ideal) 𝒱 c bd i arg1 harg1 arg2 harg2 arg3 harg3 arg4 harg4 arg5 harg5 arg6 harg6 arg7 harg7 arg8 harg8 arg9 harg9
    arg10 harg10 lr (k0_pay20 li) (k0_pay21 lr li) (k0_pay22 lr li) (k0_pay23 lr li) (k0_pay24 lr li) (k0_pay25 lr li) (k0_pay26 lr li)
    rows (topR lr li) (topI lr li) (k0_pay40 rows) (harg1.unread x0) (harg2.unread x1) (harg3.unread x2) (harg4.unread x3)
    (k0_pay43 (F := Ideal), k0_pay43 (F := Ideal), k0_pay44 (F := Ideal), k0_pay44 (F := Ideal)) k

/-- The real part of the tile of trip `k`. -/
abbrev reAt (k : Fin k0_t1_loop.trips) (acc : Acc) : FVec Ideal S8x256 .f32 :=
  tripRe lr li (tileAt x0 k) (tileAt x1 k) acc.1 acc.2.1

/-- The imaginary part of the tile of trip `k`. -/
abbrev imAt (k : Fin k0_t1_loop.trips) (acc : Acc) : FVec Ideal S8x256 .f32 :=
  tripIm lr li (tileAt x0 k) (tileAt x1 k) acc.1 acc.2.1

set_option backward.isDefEq.respectTransparency false in
/-- A trip yields the first row of the tile it computes and the products added to the carried sums. -/
theorem trip_yield (k : Fin k0_t1_loop.trips) (acc : Acc) :
    (trip 𝒱 c bd i arg1 harg1 arg2 harg2 arg3 harg3 arg4 harg4 arg5 harg5 arg6 harg6 arg7 harg7 arg8 harg8 arg9 harg9 arg10 harg10
        x0 x1 x2 x3 lr li k).1 acc
      = (k0_pay47 (reAt x0 x1 lr li k acc), k0_pay48 (imAt x0 x1 lr li k acc),
          k0_pay49 rows acc.2.2.1 (k0_pay2 (tileBefore x2 k)) (k0_pay3 (tileBefore x3 k)) (reAt x0 x1 lr li k acc) (imAt x0 x1 lr li k acc)
            (tileAt x2 k) (tileAt x3 k),
          k0_pay50 rows acc.2.2.2 (k0_pay2 (tileBefore x2 k)) (k0_pay3 (tileBefore x3 k)) (reAt x0 x1 lr li k acc) (imAt x0 x1 lr li k acc)
            (tileAt x2 k) (tileAt x3 k)) := by
  unfold trip trip_k0_t1
  dsimp only
  sl_unfold_words
  simp only [View.readAt_eq_ld, Memref.IsWhole.read_unread]
  rfl

set_option backward.isDefEq.respectTransparency false in
/-- A trip's one piece of the first output. -/
theorem trip_pieces1 (k : Fin k0_t1_loop.trips) (acc : Acc) :
    (trip 𝒱 c bd i arg1 harg1 arg2 harg2 arg3 harg3 arg4 harg4 arg5 harg5 arg6 harg6 arg7 harg7 arg8 harg8 arg9 harg9 arg10 harg10
        x0 x1 x2 x3 lr li k).2.1 acc
      = [⟨Rect.unit (s := S2048x256) (k0_off1 k 255#32) S8x256.size (k0_off1_inb k 1), reAt x0 x1 lr li k acc⟩] := by
  unfold trip trip_k0_t1
  dsimp only
  sl_unfold_words
  simp only [View.readAt_eq_ld, Memref.IsWhole.read_unread]
  rfl

set_option backward.isDefEq.respectTransparency false in
/-- A trip's one piece of the second output. -/
theorem trip_pieces2 (k : Fin k0_t1_loop.trips) (acc : Acc) :
    (trip 𝒱 c bd i arg1 harg1 arg2 harg2 arg3 harg3 arg4 harg4 arg5 harg5 arg6 harg6 arg7 harg7 arg8 harg8 arg9 harg9 arg10 harg10
        x0 x1 x2 x3 lr li k).2.2.1 acc
      = [⟨Rect.unit (s := S2048x256) (k0_off1 k 255#32) S8x256.size (k0_off1_inb k 1), imAt x0 x1 lr li k acc⟩] := by
  unfold trip trip_k0_t1
  dsimp only
  sl_unfold_words
  simp only [View.readAt_eq_ld, Memref.IsWhole.read_unread]
  rfl

end Loop

end Cert.S5.Bwd

end
-- ==== Proof.Bwd.Loop.lean ====
/- The backward scan's kernel on one block of 256 columns: the invariant of its loop. -/
module

public import proofs.«01_k».proof.Proof.Scan.Adjoint
public import proofs.«01_k».proof.Proof.Bwd.Block

@[expose] public section

set_option maxRecDepth 16384

noncomputable section

open scoped BigOperators ComplexConjugate

namespace Cert.S5.Bwd

open Idealize.ShloMosaic hiding ix1 ix2
open Idealize.ShloMosaic.TcCoe Idealize.ShloMosaic.Tactic Idealize.ShloMosaic.ValueIdx
open Cert.KernelIdeal Cert.KernelIdeal.Gen

/-- The gradient's real parts as a block: row `t` holds time `t`. -/
def outRe (l : Fin 256 → ℂ) (d : Fin 256 → ℕ → ℂ) (y : S2048x256.Idx) : Ideal .f32 :=
  (((adj (l (y 1)) (d (y 1)) (y 0).val).re : ℝ) : EReal)

/-- The gradient's imaginary parts as a block. -/
def outIm (l : Fin 256 → ℂ) (d : Fin 256 → ℕ → ℂ) (y : S2048x256.Idx) : Ideal .f32 :=
  (((adj (l (y 1)) (d (y 1)) (y 0).val).im : ℝ) : EReal)

section Tile

variable {x0 x1 x2 x3 : Vec Ideal S2048x256 .f32} {lr li : Vec Ideal S1x256 .f32} {l : Fin 256 → ℂ} {d s : Fin 256 → ℕ → ℂ}

/-- A tile of incoming gradients, read from its last row up. -/
theorem tile_up (hx : ∀ (t : Fin 2048) (c : Fin 256), IsC (x0 (ix2 t c)) (x1 (ix2 t c)) (d c t.val)) (k : ℕ) (hk : k ≤ 255)
    (off : Fin 2 → ℕ) (h : ∀ a, off a + S8x256.size a ≤ S2048x256.size a) (ho : off = ![8 * (255 - k), 0]) :
    Up (tileFrom x0 off h) (tileFrom x1 off h) (fun c j => d c (2047 - (8 * k + j))) := by
  intro r c
  rw [tileFrom_apply x0 off h _ ho r c (by omega), tileFrom_apply x1 off h _ ho r c (by omega)]
  have := hx ⟨8 * (255 - k) + r.val, by omega⟩ c
  rwa [show (⟨8 * (255 - k) + r.val, by omega⟩ : Fin 2048).val = 2047 - (8 * k + (7 - r.val)) by
    show 8 * (255 - k) + r.val = _; omega] at this

/-- A tile of states. -/
theorem tile_down (hx : ∀ (t : Fin 2048) (c : Fin 256), IsC (x2 (ix2 t c)) (x3 (ix2 t c)) (s c t.val)) (m : ℕ) (hm : m ≤ 255)
    (off : Fin 2 → ℕ) (h : ∀ a, off a + S8x256.size a ≤ S2048x256.size a) (ho : off = ![8 * m, 0]) :
    Down (tileFrom x2 off h) (tileFrom x3 off h) (fun c j => s c (8 * m + j)) := by
  intro r c
  rw [tileFrom_apply x2 off h _ ho r c (by omega), tileFrom_apply x3 off h _ ho r c (by omega)]
  exact hx _ c

/-- One trip's tile, at an index: the gradient at that row's time. -/
theorem trip_adj (hl : Row lr li l) (k : ℕ) (hk : k ≤ 255) {X Y : FVec Ideal S8x256 .f32}
    (hX : Up X Y (fun c j => d c (2047 - (8 * k + j)))) (P Q : FVec Ideal S1x256 .f32)
    (hP : Row P Q fun c => scan (conj (l c)) 0 (fun j => d c (2047 - j)) (8 * k)) (r : Fin 8) (c : Fin 256) :
    IsC (tripRe lr li X Y P Q (ix2 r c)) (tripIm lr li X Y P Q (ix2 r c)) (adj (l c) (d c) (8 * (255 - k) + r.val)) := by
  have h : IsC _ _ (scan (conj (l c)) (scan (conj (l c)) 0 (fun j => d c (2047 - j)) (8 * k)) (fun j => d c (2047 - (8 * k + j)))
    (7 - r.val + 1)) := trip_isC hl hX hP r c
  rw [scan_add (conj (l c)) 0 (fun j => d c (2047 - j)), show 8 * k + (7 - r.val + 1) = 2048 - (8 * (255 - k) + r.val) by omega] at h
  exact h

/-- The first row of that tile: the recurrence's value after the tile. -/
theorem trip_row (hl : Row lr li l) (k : ℕ) {X Y : FVec Ideal S8x256 .f32}
    (hX : Up X Y (fun c j => d c (2047 - (8 * k + j)))) (P Q : FVec Ideal S1x256 .f32)
    (hP : Row P Q fun c => scan (conj (l c)) 0 (fun j => d c (2047 - j)) (8 * k)) :
    Row (k0_pay47 (tripRe lr li X Y P Q)) (k0_pay48 (tripIm lr li X Y P Q))
      (fun c => scan (conj (l c)) 0 (fun j => d c (2047 - j)) (8 * (k + 1))) := by
  intro c
  have h : IsC _ _ (scan (conj (l c)) (scan (conj (l c)) 0 (fun j => d c (2047 - j)) (8 * k)) (fun j => d c (2047 - (8 * k + j)))
    (7 + 1)) := firstRow_row (trip_isC hl hX hP) c
  rw [scan_add (conj (l c)) 0 (fun j => d c (2047 - j)), show 8 * k + (7 + 1) = 8 * (k + 1) by ring] at h
  exact h

end Tile

section Loop

variable (𝒱 : Variants) (c : Dev nD) (bd : Option 𝒱.V) (i : grid0.Coords)
  (arg1 : Memref sig .tc .vmem S2048x256 .f32) (harg1 : arg1.IsWhole) (arg2 : Memref sig .tc .vmem S2048x256 .f32) (harg2 : arg2.IsWhole)
  (arg3 : Memref sig .tc .vmem S2048x256 .f32) (harg3 : arg3.IsWhole) (arg4 : Memref sig .tc .vmem S2048x256 .f32) (harg4 : arg4.IsWhole)
  (arg5 : Memref sig .tc .vmem S1x256 .f32) (harg5 : arg5.IsWhole) (arg6 : Memref sig .tc .vmem S1x256 .f32) (harg6 : arg6.IsWhole)
  (arg7 : Memref sig .tc .vmem S2048x256 .f32) (harg7 : arg7.IsWhole) (arg8 : Memref sig .tc .vmem S2048x256 .f32) (harg8 : arg8.IsWhole)
  (arg9 : Memref sig .tc .vmem S1x256 .f32) (harg9 : arg9.IsWhole) (arg10 : Memref sig .tc .vmem S1x256 .f32) (harg10 : arg10.IsWhole)
  (x0 x1 x2 x3 : Vec Ideal S2048x256 .f32) (lr li : Vec Ideal S1x256 .f32)

/-- What holds before trip `k`: the carried row is the recurrence's value after `8 k` steps back, row `r` of the carried sums holds the
    contributions of the times with that row in the tiles passed, and every piece stored so far holds the gradient. -/
structure Inv (l : Fin 256 → ℂ) (d s : Fin 256 → ℕ → ℂ) (k : ℕ)
    (S : Acc × List (View.Piece (Elt Ideal) S2048x256 .f32) × List (View.Piece (Elt Ideal) S2048x256 .f32)) : Prop where
  carried : Row S.1.1 S.1.2.1 (fun c => scan (conj (l c)) 0 (fun j => d c (2047 - j)) (8 * k))
  sums : ∀ (r : Fin 8) (c : Fin 256), IsC (S.1.2.2.1 (ix2 r c)) (S.1.2.2.2 (ix2 r c))
    (∑ j ∈ Finset.range k, term (l c) (d c) (s c) (8 * (255 - j) + r.val))
  real : Restricts (outRe l d) S.2.1
  imag : Restricts (outIm l d) S.2.2

variable {l : Fin 256 → ℂ} {d s : Fin 256 → ℕ → ℂ}

/-- THE LOOP keeps its invariant. -/
theorem st_inv (hl : Row lr li l) (hd : ∀ (t : Fin 2048) (c : Fin 256), IsC (x0 (ix2 t c)) (x1 (ix2 t c)) (d c t.val))
    (hs : ∀ (t : Fin 2048) (c : Fin 256), IsC (x2 (ix2 t c)) (x3 (ix2 t c)) (s c t.val)) (k : ℕ) (hk : k ≤ k0_t1_loop.trips) :
    Inv l d s k (st 𝒱 c bd i arg1 harg1 arg2 harg2 arg3 harg3 arg4 harg4 arg5 harg5 arg6 harg6 arg7 harg7 arg8 harg8 arg9 harg9
      arg10 harg10 x0 x1 x2 x3 lr li k) := by
  induction k with
  | zero =>
    refine ⟨fun c => ?_, fun r c => ?_, fun p hp => absurd hp List.not_mem_nil, fun p hp => absurd hp List.not_mem_nil⟩
    · show IsC (Ideal.ofBits .f32 0x00000000#32) (Ideal.ofBits .f32 0x00000000#32) 0
      rw [Ideal.ofBits_zero_f32]
      exact IsC.zero
    · rw [Finset.range_zero, Finset.sum_empty]
      show IsC (Ideal.ofBits .f32 0x00000000#32) (Ideal.ofBits .f32 0x00000000#32) 0
      rw [Ideal.ofBits_zero_f32]
      exact IsC.zero
  | succ k ih =>
    have ih := ih (by omega)
    have hk5 : k < 255 := lt_of_lt_of_eq hk trips_eq
    have hst := st_k0_t1_succ (F := Ideal) 𝒱 c bd i arg1 harg1 arg2 harg2 arg3 harg3 arg4 harg4 arg5 harg5 arg6 harg6 arg7 harg7 arg8 harg8
      arg9 harg9 arg10 harg10 lr (k0_pay20 li) (k0_pay21 lr li) (k0_pay22 lr li) (k0_pay23 lr li) (k0_pay24 lr li) (k0_pay25 lr li)
      (k0_pay26 lr li) rows (topR lr li) (topI lr li) (k0_pay40 rows) (harg1.unread x0) (harg2.unread x1) (harg3.unread x2) (harg4.unread x3)
      (k0_pay43 (F := Ideal), k0_pay43 (F := Ideal), k0_pay44 (F := Ideal), k0_pay44 (F := Ideal)) ⟨k, hk⟩
    have e1 := trip_yield 𝒱 c bd i arg1 harg1 arg2 harg2 arg3 harg3 arg4 harg4 arg5 harg5 arg6 harg6 arg7 harg7 arg8 harg8 arg9 harg9
      arg10 harg10 x0 x1 x2 x3 lr li ⟨k, hk⟩
    have e2 := trip_pieces1 𝒱 c bd i arg1 harg1 arg2 harg2 arg3 harg3 arg4 harg4 arg5 harg5 arg6 harg6 arg7 harg7 arg8 harg8 arg9 harg9
      arg10 harg10 x0 x1 x2 x3 lr li ⟨k, hk⟩
    have e3 := trip_pieces2 𝒱 c bd i arg1 harg1 arg2 harg2 arg3 harg3 arg4 harg4 arg5 harg5 arg6 harg6 arg7 harg7 arg8 harg8 arg9 harg9
      arg10 harg10 x0 x1 x2 x3 lr li ⟨k, hk⟩
    unfold st at ih ⊢
    rw [hst]
    unfold tripR_k0_t1 tripL_k0_t1
    dsimp only [trip] at e1 e2 e3 ⊢
    rw [e1, e2, e3]
    have hX := tile_up hd k (by omega) _ (k0_off1_inb ⟨k, hk⟩ 1) (off_at ⟨k, hk⟩)
    have ha := trip_adj hl k (by omega) hX _ _ ih.carried
    have hS := tile_down hs (255 - k) (by omega) _ (k0_off1_inb ⟨k, hk⟩ 1) (off_at ⟨k, hk⟩)
    have hB := lastRow_row (tile_down hs (254 - k) (by omega) _ (k0_off1_inb ⟨k, hk⟩ 0) (off_before ⟨k, hk⟩))
    have hQ := prev_down (q := fun c r => before (s c) (8 * (255 - k) + r)) hS
      (fun c => by
        have := hB c
        rwa [show (fun c => s c (8 * (254 - k) + 7)) c = before (s c) (8 * (255 - k) + 0) by
          show s c (8 * (254 - k) + 7) = _
          rw [show 8 * (255 - k) + 0 = 8 * (254 - k) + 7 + 1 by omega, before_succ]] at this)
      (fun c r => before_succ _ _)
    refine ⟨trip_row hl k hX _ _ ih.carried, fun r c => ?_, fun p hp => ?_, fun p hp => ?_⟩
    · rw [Finset.sum_range_succ]
      exact grad_isC ha hQ ih.sums r c
    · exact restricts_cons _ (k0_off1_inb ⟨k, hk⟩ 1) _ (off_at ⟨k, hk⟩) (by show 8 * (255 - k) + 8 ≤ 2048; omega) (fun r c => (ha r c).1) ih.real p hp
    · exact restricts_cons _ (k0_off1_inb ⟨k, hk⟩ 1) _ (off_at ⟨k, hk⟩) (by show 8 * (255 - k) + 8 ≤ 2048; omega) (fun r c => (ha r c).2) ih.imag p hp

end Loop

end Cert.S5.Bwd

end
-- ==== Proof.Bwd.Out.lean ====
/- The backward scan's kernel on one block: the blocks it writes are the gradient and the decay's gradient. -/
module

public import proofs.«01_k».proof.Proof.Bwd.Loop

@[expose] public section

set_option maxRecDepth 16384

noncomputable section

open scoped BigOperators ComplexConjugate

namespace Cert.S5.Bwd

open Idealize.ShloMosaic hiding ix1 ix2
open Idealize.ShloMosaic.TcCoe Idealize.ShloMosaic.Tactic Idealize.ShloMosaic.ValueIdx
open Cert.KernelIdeal Cert.KernelIdeal.Gen

variable (c : Dev nD) (i : grid0.Coords)
  (arg1 : Memref sig .tc .vmem S2048x256 .f32) (harg1 : arg1.IsWhole) (arg2 : Memref sig .tc .vmem S2048x256 .f32) (harg2 : arg2.IsWhole)
  (arg3 : Memref sig .tc .vmem S2048x256 .f32) (harg3 : arg3.IsWhole) (arg4 : Memref sig .tc .vmem S2048x256 .f32) (harg4 : arg4.IsWhole)
  (arg5 : Memref sig .tc .vmem S1x256 .f32) (harg5 : arg5.IsWhole) (arg6 : Memref sig .tc .vmem S1x256 .f32) (harg6 : arg6.IsWhole)
  (arg7 : Memref sig .tc .vmem S2048x256 .f32) (harg7 : arg7.IsWhole) (arg8 : Memref sig .tc .vmem S2048x256 .f32) (harg8 : arg8.IsWhole)
  (arg9 : Memref sig .tc .vmem S1x256 .f32) (harg9 : arg9.IsWhole) (arg10 : Memref sig .tc .vmem S1x256 .f32) (harg10 : arg10.IsWhole)
  (x0 x1 x2 x3 : Vec Ideal S2048x256 .f32) (lr li : Vec Ideal S1x256 .f32)

/-- A row loaded whole is the row. -/
theorem ld_row (X : Vec Ideal S1x256 .f32) :
    View.ld (Val := Elt Ideal) (e' := .f32) X (Rect.unit (s := S1x256) ![0, 0] S1x256.size inb_S1x256_S1x256_0_0) = X :=
  View.ld_unit_zero (by funext a; fin_cases a <;> rfl) _ X

/-- The state after the loop. -/
abbrev last := st Variants.none c none i arg1 harg1 arg2 harg2 arg3 harg3 arg4 harg4 arg5 harg5 arg6 harg6 arg7 harg7 arg8 harg8
  arg9 harg9 arg10 harg10 x0 x1 x2 x3 lr li k0_t1_loop.trips

/-- The first tile of a block. -/
abbrev tile0 (X : FVec Ideal S2048x256 .f32) : FVec Ideal S8x256 .f32 := tileFrom X ![0, 0] inb_S2048x256_S8x256_0_0

/-- The real part of the first tile's gradient, from the values carried out of the loop. -/
abbrev re0 (acc : Acc) : FVec Ideal S8x256 .f32 := tripRe lr li (tile0 x0) (tile0 x1) acc.1 acc.2.1

/-- The imaginary part of the first tile's gradient. -/
abbrev im0 (acc : Acc) : FVec Ideal S8x256 .f32 := tripIm lr li (tile0 x0) (tile0 x1) acc.1 acc.2.1

/-- The real parts of the sums of all tiles, row by row. -/
abbrev sumRe (acc : Acc) : FVec Ideal S8x256 .f32 :=
  k0_pay49 rows acc.2.2.1 (k0_pay43 (F := Ideal)) (k0_pay43 (F := Ideal)) (re0 x0 x1 lr li acc) (im0 x0 x1 lr li acc) (tile0 x2) (tile0 x3)

/-- The imaginary parts of the sums of all tiles, row by row. -/
abbrev sumIm (acc : Acc) : FVec Ideal S8x256 .f32 :=
  k0_pay50 rows acc.2.2.2 (k0_pay43 (F := Ideal)) (k0_pay43 (F := Ideal)) (re0 x0 x1 lr li acc) (im0 x0 x1 lr li acc) (tile0 x2) (tile0 x3)

/-- A tile's rows summed. -/
abbrev rowSum (G : FVec Ideal S8x256 .f32) : FVec Ideal S1x256 .f32 :=
  shapeCast S1x256 (multiReduction .add [0] S256 G 0x00000000#32 reduces_S8x256_S256 (.inl rfl) rfl) shapeCasts_S256_S1x256

set_option backward.isDefEq.respectTransparency false in
/-- The pieces stored through the first output: the first tile's and the loop's. -/
theorem run_pieces1 :
    (kernelRun0_A (F := Ideal) c i arg1 harg1 arg2 harg2 arg3 harg3 arg4 harg4 arg5 harg5 arg6 harg6 arg7 harg7 arg8 harg8
        arg9 harg9 arg10 harg10 x0 x1 x2 x3 lr li).1
      = [⟨Rect.unit (s := S2048x256) ![0, 0] S8x256.size inb_S2048x256_S8x256_0_0,
          re0 x0 x1 lr li (last c i arg1 harg1 arg2 harg2 arg3 harg3 arg4 harg4 arg5 harg5 arg6 harg6 arg7 harg7 arg8 harg8
            arg9 harg9 arg10 harg10 x0 x1 x2 x3 lr li).1⟩]
        ++ (last c i arg1 harg1 arg2 harg2 arg3 harg3 arg4 harg4 arg5 harg5 arg6 harg6 arg7 harg7 arg8 harg8
            arg9 harg9 arg10 harg10 x0 x1 x2 x3 lr li).2.1 := by
  unfold kernelRun0_A
  dsimp only
  sl_unfold_words
  simp only [View.readAt_eq_ld, Memref.IsWhole.read_unread]
  erw [ld_row, ld_row]
  rfl

set_option backward.isDefEq.respectTransparency false in
/-- The pieces stored through the second output: the first tile's and the loop's. -/
theorem run_pieces2 :
    (kernelRun0_A (F := Ideal) c i arg1 harg1 arg2 harg2 arg3 harg3 arg4 harg4 arg5 harg5 arg6 harg6 arg7 harg7 arg8 harg8
        arg9 harg9 arg10 harg10 x0 x1 x2 x3 lr li).2.1
      = [⟨Rect.unit (s := S2048x256) ![0, 0] S8x256.size inb_S2048x256_S8x256_0_0,
          im0 x0 x1 lr li (last c i arg1 harg1 arg2 harg2 arg3 harg3 arg4 harg4 arg5 harg5 arg6 harg6 arg7 harg7 arg8 harg8
            arg9 harg9 arg10 harg10 x0 x1 x2 x3 lr li).1⟩]
        ++ (last c i arg1 harg1 arg2 harg2 arg3 harg3 arg4 harg4 arg5 harg5 arg6 harg6 arg7 harg7 arg8 harg8
            arg9 harg9 arg10 harg10 x0 x1 x2 x3 lr li).2.2 := by
  unfold kernelRun0_A
  dsimp only
  sl_unfold_words
  simp only [View.readAt_eq_ld, Memref.IsWhole.read_unread]
  erw [ld_row, ld_row]
  rfl

set_option backward.isDefEq.respectTransparency false in
/-- The one piece stored through the third output: the sums' rows added up. -/
theorem run_pieces3 :
    (kernelRun0_A (F := Ideal) c i arg1 harg1 arg2 harg2 arg3 harg3 arg4 harg4 arg5 harg5 arg6 harg6 arg7 harg7 arg8 harg8
        arg9 harg9 arg10 harg10 x0 x1 x2 x3 lr li).2.2.1
      = [⟨Rect.unit (s := S1x256) ![0, 0] S1x256.size inb_S1x256_S1x256_0_0,
          rowSum (sumRe x0 x1 x2 x3 lr li (last c i arg1 harg1 arg2 harg2 arg3 harg3 arg4 harg4 arg5 harg5 arg6 harg6 arg7 harg7 arg8 harg8
            arg9 harg9 arg10 harg10 x0 x1 x2 x3 lr li).1)⟩] := by
  unfold kernelRun0_A
  dsimp only
  sl_unfold_words
  simp only [View.readAt_eq_ld, Memref.IsWhole.read_unread]
  erw [ld_row, ld_row]
  rfl

set_option backward.isDefEq.respectTransparency false in
/-- The one piece stored through the fourth output. -/
theorem run_pieces4 :
    (kernelRun0_A (F := Ideal) c i arg1 harg1 arg2 harg2 arg3 harg3 arg4 harg4 arg5 harg5 arg6 harg6 arg7 harg7 arg8 harg8
        arg9 harg9 arg10 harg10 x0 x1 x2 x3 lr li).2.2.2.1
      = [⟨Rect.unit (s := S1x256) ![0, 0] S1x256.size inb_S1x256_S1x256_0_0,
          rowSum (sumIm x0 x1 x2 x3 lr li (last c i arg1 harg1 arg2 harg2 arg3 harg3 arg4 harg4 arg5 harg5 arg6 harg6 arg7 harg7 arg8 harg8
            arg9 harg9 arg10 harg10 x0 x1 x2 x3 lr li).1)⟩] := by
  unfold kernelRun0_A
  dsimp only
  sl_unfold_words
  simp only [View.readAt_eq_ld, Memref.IsWhole.read_unread]
  erw [ld_row, ld_row]
  rfl

/-- The place in a row of its own elements. -/
theorem rowRect_emb (j : Fin 256) :
    (Rect.unit (s := S1x256) ![0, 0] S1x256.size inb_S1x256_S1x256_0_0).emb (ix2 0 j) = ix2 0 j := by
  refine funext fun a => Fin.ext ((Rect.idx_unit_val _ _ _ _ a).trans ?_)
  fin_cases a
  · rfl
  · exact Nat.zero_add _

/-- The decay's gradient's real parts as a row. -/
def gradRe (l : Fin 256 → ℂ) (d s : Fin 256 → ℕ → ℂ) (y : S1x256.Idx) : Ideal .f32 :=
  (((∑ t ∈ Finset.range 2048, term (l (y 1)) (d (y 1)) (s (y 1)) t).re : ℝ) : EReal)

/-- The decay's gradient's imaginary parts as a row. -/
def gradIm (l : Fin 256 → ℂ) (d s : Fin 256 → ℕ → ℂ) (y : S1x256.Idx) : Ideal .f32 :=
  (((∑ t ∈ Finset.range 2048, term (l (y 1)) (d (y 1)) (s (y 1)) t).im : ℝ) : EReal)

section

variable {l : Fin 256 → ℂ} {d s : Fin 256 → ℕ → ℂ} (hl : Row lr li l)
  (hd : ∀ (t : Fin 2048) (c : Fin 256), IsC (x0 (ix2 t c)) (x1 (ix2 t c)) (d c t.val))
  (hs : ∀ (t : Fin 2048) (c : Fin 256), IsC (x2 (ix2 t c)) (x3 (ix2 t c)) (s c t.val))

include hl hd

/-- The first tile's gradient, at an index. -/
theorem tile0_adj {acc : Acc} (hP : Row acc.1 acc.2.1 fun c => scan (conj (l c)) 0 (fun j => d c (2047 - j)) (8 * 255)) (r : Fin 8) (c : Fin 256) :
    IsC (re0 x0 x1 lr li acc (ix2 r c)) (im0 x0 x1 lr li acc (ix2 r c)) (adj (l c) (d c) (8 * (255 - 255) + r.val)) :=
  trip_adj hl 255 le_rfl (tile_up hd 255 le_rfl _ inb_S2048x256_S8x256_0_0 rfl) _ _ hP r c

include hs

/-- The rows' sums after the first tile, added up: the decay's gradient. -/
theorem sum_isC {L : List (View.Piece (Elt Ideal) S2048x256 .f32) × List (View.Piece (Elt Ideal) S2048x256 .f32)} {acc : Acc}
    (h : Inv l d s 255 (acc, L)) (c : Fin 256) :
    IsC (rowSum (sumRe x0 x1 x2 x3 lr li acc) (ix2 0 c)) (rowSum (sumIm x0 x1 x2 x3 lr li acc) (ix2 0 c))
      (∑ t ∈ Finset.range 2048, term (l c) (d c) (s c) t) := by
  have hQ := prev_down (A := k0_pay43 (F := Ideal)) (B := k0_pay43 (F := Ideal)) (q := fun c r => before (s c) (8 * (255 - 255) + r))
    (tile_down hs 0 (by omega) _ inb_S2048x256_S8x256_0_0 rfl)
    (fun c => by
      show IsC (Ideal.ofBits .f32 0x00000000#32) (Ideal.ofBits .f32 0x00000000#32) 0
      rw [Ideal.ofBits_zero_f32]; exact IsC.zero)
    (fun c r => by
      show before (s c) (8 * (255 - 255) + r + 1) = s c (8 * 0 + r)
      rw [before_succ])
  have hg := grad_isC (tile0_adj x0 x1 lr li hl hd h.carried) hQ h.sums
  have key : IsC (∑ r : Fin 8, sumRe x0 x1 x2 x3 lr li acc (ix2 r c)) (∑ r : Fin 8, sumIm x0 x1 x2 x3 lr li acc (ix2 r c))
      (∑ t ∈ Finset.range 2048, term (l c) (d c) (s c) t) := by
    rw [← sum_term]
    refine IsC.sum _ fun r _ => ?_
    rw [Finset.sum_range_succ]
    exact hg r c
  exact ⟨(rowSum_apply _ c).trans key.1, (rowSum_apply _ c).trans key.2⟩

/-- What holds after the loop. -/
theorem last_inv : Inv l d s 255 (last c i arg1 harg1 arg2 harg2 arg3 harg3 arg4 harg4 arg5 harg5 arg6 harg6 arg7 harg7 arg8 harg8
    arg9 harg9 arg10 harg10 x0 x1 x2 x3 lr li) := by
  have h := st_inv Variants.none c none i arg1 harg1 arg2 harg2 arg3 harg3 arg4 harg4 arg5 harg5 arg6 harg6 arg7 harg7 arg8 harg8
    arg9 harg9 arg10 harg10 x0 x1 x2 x3 lr li hl hd hs _ le_rfl
  have key : ∀ n : ℕ, n = 255 → Inv l d s n (last c i arg1 harg1 arg2 harg2 arg3 harg3 arg4 harg4 arg5 harg5 arg6 harg6 arg7 harg7
      arg8 harg8 arg9 harg9 arg10 harg10 x0 x1 x2 x3 lr li) → Inv l d s 255 (last c i arg1 harg1 arg2 harg2 arg3 harg3 arg4 harg4 arg5 harg5
      arg6 harg6 arg7 harg7 arg8 harg8 arg9 harg9 arg10 harg10 x0 x1 x2 x3 lr li) := fun n hn h => hn ▸ h
  exact key _ trips_eq h

/-- The first output's block is the gradient's real part. -/
theorem out_re : out0_A_6 (F := Ideal) c i arg1 harg1 arg2 harg2 arg3 harg3 arg4 harg4 arg5 harg5 arg6 harg6 arg7 harg7 arg8 harg8
      arg9 harg9 arg10 harg10 x0 x1 x2 x3 lr li = outRe l d := by
  unfold out0_A_6
  rw [View.read_writes_junk_eq_canon]
  funext y
  refine View.canon_apply_of_pieces _ _ ?_ y (cover0_A_6 c i arg1 harg1 arg2 harg2 arg3 harg3 arg4 harg4 arg5 harg5 arg6 harg6 arg7 harg7 arg8 harg8
      arg9 harg9 arg10 harg10 x0 x1 x2 x3 lr li y)
  rw [run_pieces1]
  have h := last_inv c i arg1 harg1 arg2 harg2 arg3 harg3 arg4 harg4 arg5 harg5 arg6 harg6 arg7 harg7 arg8 harg8
      arg9 harg9 arg10 harg10 x0 x1 x2 x3 lr li hl hd hs
  exact restricts_cons _ inb_S2048x256_S8x256_0_0 0 rfl (by omega)
    (fun r c => by
      have e := (tile0_adj x0 x1 lr li hl hd h.carried r c).1
      rwa [show 8 * (255 - 255) + r.val = 0 + r.val by omega] at e) h.real

/-- The second output's block is the gradient's imaginary part. -/
theorem out_im : out0_A_7 (F := Ideal) c i arg1 harg1 arg2 harg2 arg3 harg3 arg4 harg4 arg5 harg5 arg6 harg6 arg7 harg7 arg8 harg8
      arg9 harg9 arg10 harg10 x0 x1 x2 x3 lr li = outIm l d := by
  unfold out0_A_7
  rw [View.read_writes_junk_eq_canon]
  funext y
  refine View.canon_apply_of_pieces _ _ ?_ y (cover0_A_7 c i arg1 harg1 arg2 harg2 arg3 harg3 arg4 harg4 arg5 harg5 arg6 harg6 arg7 harg7 arg8 harg8
      arg9 harg9 arg10 harg10 x0 x1 x2 x3 lr li y)
  rw [run_pieces2]
  have h := last_inv c i arg1 harg1 arg2 harg2 arg3 harg3 arg4 harg4 arg5 harg5 arg6 harg6 arg7 harg7 arg8 harg8
      arg9 harg9 arg10 harg10 x0 x1 x2 x3 lr li hl hd hs
  exact restricts_cons _ inb_S2048x256_S8x256_0_0 0 rfl (by omega)
    (fun r c => by
      have e := (tile0_adj x0 x1 lr li hl hd h.carried r c).2
      rwa [show 8 * (255 - 255) + r.val = 0 + r.val by omega] at e) h.imag

/-- The third output's row is the decay's gradient's real part. -/
theorem grad_re : out0_A_8 (F := Ideal) c i arg1 harg1 arg2 harg2 arg3 harg3 arg4 harg4 arg5 harg5 arg6 harg6 arg7 harg7 arg8 harg8
      arg9 harg9 arg10 harg10 x0 x1 x2 x3 lr li = gradRe l d s := by
  unfold out0_A_8
  rw [View.read_writes_junk_eq_canon]
  funext y
  refine View.canon_apply_of_pieces _ _ ?_ y (cover0_A_8 c i arg1 harg1 arg2 harg2 arg3 harg3 arg4 harg4 arg5 harg5 arg6 harg6 arg7 harg7 arg8 harg8
      arg9 harg9 arg10 harg10 x0 x1 x2 x3 lr li y)
  rw [run_pieces3]
  intro p hp
  obtain rfl := List.mem_singleton.mp hp
  intro (z : S1x256.Idx)
  obtain ⟨r, j, rfl⟩ : ∃ (r : Fin 1) (j : Fin 256), z = ix2 r j := ⟨z 0, z 1, ValueIdx.eq_ix2 z⟩
  obtain rfl : r = 0 := Subsingleton.elim _ _
  refine ((sum_isC x0 x1 x2 x3 lr li hl hd hs (last_inv c i arg1 harg1 arg2 harg2 arg3 harg3 arg4 harg4 arg5 harg5 arg6 harg6 arg7 harg7 arg8 harg8
      arg9 harg9 arg10 harg10 x0 x1 x2 x3 lr li hl hd hs) j).1).trans ?_
  refine congrArg (gradRe l d s) (rowRect_emb j).symm

/-- The fourth output's row is the decay's gradient's imaginary part. -/
theorem grad_im : out0_A_9 (F := Ideal) c i arg1 harg1 arg2 harg2 arg3 harg3 arg4 harg4 arg5 harg5 arg6 harg6 arg7 harg7 arg8 harg8
      arg9 harg9 arg10 harg10 x0 x1 x2 x3 lr li = gradIm l d s := by
  unfold out0_A_9
  rw [View.read_writes_junk_eq_canon]
  funext y
  refine View.canon_apply_of_pieces _ _ ?_ y (cover0_A_9 c i arg1 harg1 arg2 harg2 arg3 harg3 arg4 harg4 arg5 harg5 arg6 harg6 arg7 harg7 arg8 harg8
      arg9 harg9 arg10 harg10 x0 x1 x2 x3 lr li y)
  rw [run_pieces4]
  intro p hp
  obtain rfl := List.mem_singleton.mp hp
  intro (z : S1x256.Idx)
  obtain ⟨r, j, rfl⟩ : ∃ (r : Fin 1) (j : Fin 256), z = ix2 r j := ⟨z 0, z 1, ValueIdx.eq_ix2 z⟩
  obtain rfl : r = 0 := Subsingleton.elim _ _
  refine ((sum_isC x0 x1 x2 x3 lr li hl hd hs (last_inv c i arg1 harg1 arg2 harg2 arg3 harg3 arg4 harg4 arg5 harg5 arg6 harg6 arg7 harg7 arg8 harg8
      arg9 harg9 arg10 harg10 x0 x1 x2 x3 lr li hl hd hs) j).2).trans ?_
  refine congrArg (gradIm l d s) (rowRect_emb j).symm

end

end Cert.S5.Bwd

end
-- ==== Proof.Bwd.Array.lean ====
/- The backward scan's kernel over the grid: each result array is the gradient of its own column. -/
module

public import proofs.«01_k».proof.Proof.Bwd.Out

@[expose] public section

set_option maxRecDepth 16384

noncomputable section

open scoped BigOperators ComplexConjugate

namespace Cert.S5.Bwd

open Idealize.ShloMosaic hiding ix1 ix2
open Idealize.ShloMosaic.TcCoe Idealize.ShloMosaic.Tactic Idealize.ShloMosaic.ValueIdx
open Cert.KernelIdeal Cert.KernelIdeal.Gen

variable (m : (ℓ : Loc nD τ sig) → Buf (Elt Ideal) ℓ) (c : Dev nD)

/-- Every window's block at a grid point starts at row 0 and at the point's column block. -/
theorem index_eq : ∀ t : Fin cfg0.N, win0_0.index t = ![0, t.val]
    ∧ win0_1.index t = ![0, t.val]
    ∧ win0_2.index t = ![0, t.val]
    ∧ win0_3.index t = ![0, t.val]
    ∧ win0_4.index t = ![0, t.val]
    ∧ win0_5.index t = ![0, t.val]
    ∧ win0_6.index t = ![0, t.val]
    ∧ win0_7.index t = ![0, t.val]
    ∧ win0_8.index t = ![0, t.val]
    ∧ win0_9.index t = ![0, t.val] :=
  (by decide +kernel : ∀ t : Fin grid0.N, _)

/-- The array's column that column `j` of block `t` is. -/
def colOf (t : Fin cfg0.N) (j : Fin 256) : Fin 4096 :=
  ⟨t.val * 256 + j.val, by have h : t.val < 16 := t.isLt; have := j.isLt; omega⟩

/-- Block `t` behind window 0, at an index. -/
theorem iblk0 (t : Fin cfg0.N) (r : Fin 2048) (j : Fin 256) :
    iblk m c 0 t (ix2 r j) = m ((c : Thread nD τ).loc main_arg4) (ix2 r (colOf t j)) := by
  blk_simp [iblk]
  rw [V_main_arg4]
  congr 1
  blk_ext [(index_eq t).1, colOf]

/-- Block `t` behind window 1, at an index. -/
theorem iblk1 (t : Fin cfg0.N) (r : Fin 2048) (j : Fin 256) :
    iblk m c 1 t (ix2 r j) = m ((c : Thread nD τ).loc main_arg5) (ix2 r (colOf t j)) := by
  blk_simp [iblk]
  rw [V_main_arg5]
  congr 1
  blk_ext [(index_eq t).2.1, colOf]

/-- Block `t` behind window 2, at an index. -/
theorem iblk2 (t : Fin cfg0.N) (r : Fin 2048) (j : Fin 256) :
    iblk m c 2 t (ix2 r j) = m ((c : Thread nD τ).loc main_arg0) (ix2 r (colOf t j)) := by
  blk_simp [iblk]
  rw [V_main_arg0]
  congr 1
  blk_ext [(index_eq t).2.2.1, colOf]

/-- Block `t` behind window 3, at an index. -/
theorem iblk3 (t : Fin cfg0.N) (r : Fin 2048) (j : Fin 256) :
    iblk m c 3 t (ix2 r j) = m ((c : Thread nD τ).loc main_arg1) (ix2 r (colOf t j)) := by
  blk_simp [iblk]
  rw [V_main_arg1]
  congr 1
  blk_ext [(index_eq t).2.2.2.1, colOf]

/-- Block `t` behind window 4, at an index. -/
theorem iblk4 (t : Fin cfg0.N) (r : Fin 1) (j : Fin 256) :
    iblk m c 4 t (ix2 r j) = m ((c : Thread nD τ).loc main_arg2) (ix2 r (colOf t j)) := by
  blk_simp [iblk]
  rw [V_main_arg2]
  congr 1
  blk_ext [(index_eq t).2.2.2.2.1, colOf]

/-- Block `t` behind window 5, at an index. -/
theorem iblk5 (t : Fin cfg0.N) (r : Fin 1) (j : Fin 256) :
    iblk m c 5 t (ix2 r j) = m ((c : Thread nD τ).loc main_arg3) (ix2 r (colOf t j)) := by
  blk_simp [iblk]
  rw [V_main_arg3]
  congr 1
  blk_ext [(index_eq t).2.2.2.2.2.1, colOf]

/-- The gradient at row `y 0` of column `y 1`. -/
def grad (l : Fin 4096 → ℂ) (d : Fin 4096 → ℕ → ℂ) (y : S2048x4096.Idx) : ℂ := adj (l (y 1)) (d (y 1)) (y 0).val

/-- The decay's gradient at column `y 1`. -/
def decay (l : Fin 4096 → ℂ) (d s : Fin 4096 → ℕ → ℂ) (y : S1x4096.Idx) : ℂ :=
  ∑ t ∈ Finset.range 2048, term (l (y 1)) (d (y 1)) (s (y 1)) t

variable {l : Fin 4096 → ℂ} {d s : Fin 4096 → ℕ → ℂ}
  (hl : ∀ j : Fin 4096, IsC (m ((c : Thread nD τ).loc main_arg2) (ix2 (0 : Fin 1) j)) (m ((c : Thread nD τ).loc main_arg3) (ix2 (0 : Fin 1) j)) (l j))
  (hd : ∀ (r : Fin 2048) (j : Fin 4096), IsC (m ((c : Thread nD τ).loc main_arg4) (ix2 r j)) (m ((c : Thread nD τ).loc main_arg5) (ix2 r j)) (d j r.val))
  (hs : ∀ (r : Fin 2048) (j : Fin 4096), IsC (m ((c : Thread nD τ).loc main_arg0) (ix2 r j)) (m ((c : Thread nD τ).loc main_arg1) (ix2 r j)) (s j r.val))
include hl hd hs

set_option maxHeartbeats 2000000 in
/-- The first result array: the real parts of the gradients. -/
theorem array_re : (dats m 0 c).arrAt 6 cfg0.N = fun y => ((grad l d y).re : EReal) := by
  refine (dats m 0 c).arrAt_eq_of_covers 6 _ (by decide +kernel) fun t _ y => ?_
  blk_simp
  rw [after0_6]
  have h := out_re c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
    (iblk m c 0 t) (iblk m c 1 t) (iblk m c 2 t) (iblk m c 3 t) (iblk m c 4 t) (iblk m c 5 t)
    (l := fun j => l (colOf t j)) (d := fun j => d (colOf t j)) (s := fun j => s (colOf t j))
    (fun j => by rw [iblk4, iblk5]; exact hl _) (fun r j => by rw [iblk0, iblk1]; exact hd _ _) (fun r j => by rw [iblk2, iblk3]; exact hs _ _)
  refine (congrFun h y).trans ?_
  have e : ((cfg0.win 6).blk t).view.emb y = (ix2 (y 0) (colOf t (y 1)) : S2048x4096.Idx) := by
    blk_ext [(index_eq t).2.2.2.2.2.2.1, colOf]
  rw [e]
  rfl

set_option maxHeartbeats 2000000 in
/-- The second result array: the imaginary parts of the gradients. -/
theorem array_im : (dats m 0 c).arrAt 7 cfg0.N = fun y => ((grad l d y).im : EReal) := by
  refine (dats m 0 c).arrAt_eq_of_covers 7 _ (by decide +kernel) fun t _ y => ?_
  blk_simp
  rw [after0_7]
  have h := out_im c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
    (iblk m c 0 t) (iblk m c 1 t) (iblk m c 2 t) (iblk m c 3 t) (iblk m c 4 t) (iblk m c 5 t)
    (l := fun j => l (colOf t j)) (d := fun j => d (colOf t j)) (s := fun j => s (colOf t j))
    (fun j => by rw [iblk4, iblk5]; exact hl _) (fun r j => by rw [iblk0, iblk1]; exact hd _ _) (fun r j => by rw [iblk2, iblk3]; exact hs _ _)
  refine (congrFun h y).trans ?_
  have e : ((cfg0.win 7).blk t).view.emb y = (ix2 (y 0) (colOf t (y 1)) : S2048x4096.Idx) := by
    blk_ext [(index_eq t).2.2.2.2.2.2.2.1, colOf]
  rw [e]
  rfl

set_option maxHeartbeats 2000000 in
/-- The third result array: the real parts of the decay's gradient. -/
theorem decay_re : (dats m 0 c).arrAt 8 cfg0.N = fun y => ((decay l d s y).re : EReal) := by
  refine (dats m 0 c).arrAt_eq_of_covers 8 _ (by decide +kernel) fun t _ y => ?_
  blk_simp
  rw [after0_8]
  have h := grad_re c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
    (iblk m c 0 t) (iblk m c 1 t) (iblk m c 2 t) (iblk m c 3 t) (iblk m c 4 t) (iblk m c 5 t)
    (l := fun j => l (colOf t j)) (d := fun j => d (colOf t j)) (s := fun j => s (colOf t j))
    (fun j => by rw [iblk4, iblk5]; exact hl _) (fun r j => by rw [iblk0, iblk1]; exact hd _ _) (fun r j => by rw [iblk2, iblk3]; exact hs _ _)
  refine (congrFun h y).trans ?_
  have e : ((cfg0.win 8).blk t).view.emb y = (ix2 (y 0) (colOf t (y 1)) : S1x4096.Idx) := by
    blk_ext [(index_eq t).2.2.2.2.2.2.2.2.1, colOf]
  rw [e]
  rfl

set_option maxHeartbeats 2000000 in
/-- The fourth result array: the imaginary parts of the decay's gradient. -/
theorem decay_im : (dats m 0 c).arrAt 9 cfg0.N = fun y => ((decay l d s y).im : EReal) := by
  refine (dats m 0 c).arrAt_eq_of_covers 9 _ (by decide +kernel) fun t _ y => ?_
  blk_simp
  rw [after0_9]
  have h := grad_im c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
    (iblk m c 0 t) (iblk m c 1 t) (iblk m c 2 t) (iblk m c 3 t) (iblk m c 4 t) (iblk m c 5 t)
    (l := fun j => l (colOf t j)) (d := fun j => d (colOf t j)) (s := fun j => s (colOf t j))
    (fun j => by rw [iblk4, iblk5]; exact hl _) (fun r j => by rw [iblk0, iblk1]; exact hd _ _) (fun r j => by rw [iblk2, iblk3]; exact hs _ _)
  refine (congrFun h y).trans ?_
  have e : ((cfg0.win 9).blk t).view.emb y = (ix2 (y 0) (colOf t (y 1)) : S1x4096.Idx) := by
    blk_ext [(index_eq t).2.2.2.2.2.2.2.2.2, colOf]
  rw [e]
  rfl

end Cert.S5.Bwd

end
-- ==== Proof.Bwd.Reference.lean ====
/- The backward scan's reference: a host loop over the 2048 rows from the last to the first. -/
module

public import proofs.«01_k».proof.Proof.Gen.ReferenceIdeal.Run
public import proofs.«01_k».proof.Proof.Scan.Adjoint
public import proofs.«01_k».proof.Proof.Scan.HostRow

@[expose] public section

set_option maxRecDepth 65536

noncomputable section

open scoped BigOperators ComplexConjugate

namespace Cert.S5.Bwd.Ref

open Idealize.ShloMosaic hiding ix1 ix2
open Idealize.ShloMosaic.TcCoe Idealize.ShloMosaic.ValueIdx
open Idealize.ShloMosaic.StableHlo Idealize.ShloMosaic.Tactic
open Cert.ReferenceIdeal Cert.ReferenceIdeal.Gen Cert.ReferenceIdeal.Value

/-- What holds before trip `k`: the inputs are the incoming gradients `d`, the states one step earlier and the decay; the counter is
    `k`; the carried value is the conjugate decay times the recurrence's after `k` steps back; the carried sums hold the contributions of
    the times passed; and the rows already written hold the gradient. -/
structure Inv (a b : S2048x4096.Idx → EReal) (p q : S2048x4096.Idx → EReal) (lr li : S4096.Idx → EReal)
    (l : Fin 4096 → ℂ) (d s : Fin 4096 → ℕ → ℂ) (V : Valuation τ sig (Elt Ideal)) (k : ℕ) : Prop where
  in0 : V (Proc.devRef .tc main_v13_0) = a
  in1 : V (Proc.devRef .tc main_v13_1) = b
  in2 : V (Proc.devRef .tc main_v13_2) = p
  in3 : V (Proc.devRef .tc main_v13_3) = q
  in4 : V (Proc.devRef .tc main_v13_4) = lr
  in5 : V (Proc.devRef .tc main_v13_5) = li
  ctr : V (Proc.devRef .tc main_v13_6) = fun _ => BitVec.ofNat 32 k
  sums : ∀ c : Fin 4096, IsC (V (Proc.devRef .tc main_v13_7) (ix2 0 c)) (V (Proc.devRef .tc main_v13_8) (ix2 0 c))
    (∑ j ∈ Finset.range k, term (l c) (d c) (s c) (2047 - j))
  carried : ∀ c : Fin 4096, IsC (V (Proc.devRef .tc main_v13_9) (ix1 c)) (V (Proc.devRef .tc main_v13_10) (ix1 c))
    (conj (l c) * scan (conj (l c)) 0 (fun j => d c (2047 - j)) k)
  rows : ∀ (r : Fin 2048) (c : Fin 4096), 2047 - r.val < k →
    IsC (V (Proc.devRef .tc main_v13_11) (ix2 r c)) (V (Proc.devRef .tc main_v13_12) (ix2 r c)) (adj (l c) (d c) r.val)

variable {a b p q : S2048x4096.Idx → EReal} {lr li : S4096.Idx → EReal} {l : Fin 4096 → ℂ} {d s : Fin 4096 → ℕ → ℂ}
  (hl : ∀ c : Fin 4096, IsC (lr (ix1 c)) (li (ix1 c)) (l c))
  (hd : ∀ (r : Fin 2048) (c : Fin 4096), IsC (a (ix2 r c)) (b (ix2 r c)) (d c r.val))
  (hs : ∀ (r : Fin 2048) (c : Fin 4096), IsC (p (ix2 r c)) (q (ix2 r c)) (before (s c) r.val))

/-- The position as the program computes it from the counter. -/
theorem pos_toInt {V : Valuation τ sig (Elt Ideal)} {k : ℕ} {t : Fin 2048} (ht : t.val + k = 2047) (h : Inv a b p q lr li l d s V k) :
    ((res_main_while0b_v15 V : S_.Idx → BitVec 32) (Shape.Idx.first h_S_)).toInt = t.val := by
  unfold res_main_while0b_v15
  rw [h.ctr]
  show (2048#32 - BitVec.ofNat 32 k - 1#32).toInt = (t.val : ℤ)
  have e : 2048#32 - BitVec.ofNat 32 k - 1#32 = BitVec.ofNat 32 t.val := by
    apply BitVec.eq_of_toNat_eq
    simp only [BitVec.toNat_sub, BitVec.toNat_ofNat]
    omega
  rw [e, BitVec.toInt_eq_toNat_of_lt] <;> simp <;> omega

include hd in
/-- The gradient a trip computes. -/
theorem value {V : Valuation τ sig (Elt Ideal)} {k : ℕ} {t : Fin 2048} (ht : t.val + k = 2047) (h : Inv a b p q lr li l d s V k) (c : Fin 4096) :
    IsC (res_main_while0b_v20 V (ix1 c)) (res_main_while0b_v21 V (ix1 c)) (scan (conj (l c)) 0 (fun j => d c (2047 - j)) (k + 1)) := by
  have hp := pos_toInt ht h
  unfold res_main_while0b_v20 res_main_while0b_v21
  generalize res_main_while0b_v15 V = w at hp ⊢
  rw [h.in0, h.in1, addf_apply, addf_apply]
  rw [headRow_apply, headRow_apply, takeRow_apply a _ t hp rfl, takeRow_apply b _ t hp rfl]
  have := (h.carried c).add (hd t c)
  rw [show t.val = 2047 - k by omega] at this
  exact this

/-- That is the gradient at the trip's position. -/
theorem adj_pos {k : ℕ} {t : Fin 2048} (ht : t.val + k = 2047) (c : Fin 4096) :
    adj (l c) (d c) t.val = scan (conj (l c)) 0 (fun j => d c (2047 - j)) (k + 1) := by
  unfold adj
  rw [show 2048 - t.val = k + 1 by omega]

include hs in
/-- The state before the trip's position. -/
theorem prev {V : Valuation τ sig (Elt Ideal)} {k : ℕ} {t : Fin 2048} (ht : t.val + k = 2047) (h : Inv a b p q lr li l d s V k) (c : Fin 4096) :
    IsC (res_main_while0b_v18 V (ix1 c)) (res_main_while0b_v19 V (ix1 c)) (before (s c) t.val) := by
  have hp := pos_toInt ht h
  unfold res_main_while0b_v18 res_main_while0b_v19
  generalize res_main_while0b_v15 V = w at hp ⊢
  rw [h.in2, h.in3, headRow_apply, headRow_apply, takeRow_apply p _ t hp rfl, takeRow_apply q _ t hp rfl]
  exact hs t c

/-- The product with a conjugate in the order of the program's sums. -/
theorem conj_sum {x y u v e f : EReal} {z w t : ℂ} (hz : IsC x y z) (hw : IsC u v w) (ht : IsC e f t) :
    IsC (e + y * v + x * u) (f + y * u + (-x) * v) (t + z * conj w) := by
  have h := ht.add (hz.mul_conj hw)
  have e1 : e + y * v + x * u = e + (x * u + y * v) := by rw [add_assoc, add_comm (y * v)]
  have e2 : f + y * u + (-x) * v = f + (y * u - x * v) := by rw [add_assoc, EReal.neg_mul, sub_eq_add_neg]
  rw [e1, e2]
  exact h

/-- The product with the conjugate decay in the order of the program's sums. -/
theorem conj_carry {x y u v : EReal} {z w : ℂ} (hz : IsC x y z) (hw : IsC u v w) :
    IsC (v * y + u * x) (u * y + v * (-x)) (conj w * z) := by
  have h := hz.mul_conj hw
  have e1 : v * y + u * x = x * u + y * v := by rw [add_comm, mul_comm u, mul_comm v]
  have e2 : u * y + v * (-x) = y * u - x * v := by rw [mul_neg, sub_eq_add_neg, mul_comm u, mul_comm v]
  rw [e1, e2, mul_comm (conj w)]
  exact h

set_option maxHeartbeats 1000000 in
include hl hd hs in
/-- One trip. -/
theorem step {V : Valuation τ sig (Elt Ideal)} {k : ℕ} {t : Fin 2048} (ht : t.val + k = 2047) (h : Inv a b p q lr li l d s V k) :
    Inv a b p q lr li l d s (STEP V) (k + 1) := by
  have hp := pos_toInt ht h
  refine ⟨(STEP_main_v13_0 V).trans h.in0, (STEP_main_v13_1 V).trans h.in1, (STEP_main_v13_2 V).trans h.in2, (STEP_main_v13_3 V).trans h.in3,
    (STEP_main_v13_4 V).trans h.in4, (STEP_main_v13_5 V).trans h.in5, ?_, ?_, ?_, ?_⟩
  · rw [STEP_main_v13_6]
    unfold step_main_v13_6
    rw [h.ctr]
    funext i
    exact (BitVec.ofNat_add k 1).symm
  · intro c
    rw [STEP_main_v13_7, STEP_main_v13_8, Finset.sum_range_succ]
    unfold step_main_v13_7 step_main_v13_8
    simp only [id, addf_apply]
    rw [asRow_apply, asRow_apply, asRow_apply, asRow_apply]
    have hv := value hd ht h c
    rw [← adj_pos ht c] at hv
    rw [show 2047 - k = t.val by omega]
    exact conj_sum hv (prev hs ht h c) (h.sums c)
  · intro c
    rw [STEP_main_v13_9, STEP_main_v13_10]
    unfold step_main_v13_9 step_main_v13_10
    rw [h.in4, h.in5]
    exact conj_carry (value hd ht h c) (hl c)
  · intro r c hr
    rw [STEP_main_v13_11, STEP_main_v13_12]
    unfold step_main_v13_11 step_main_v13_12
    generalize res_main_while0b_v15 V = w at hp ⊢
    simp only [id]
    rw [setRow_apply _ _ _ t hp rfl, setRow_apply _ _ _ t hp rfl, asRow_apply, asRow_apply]
    by_cases e : r = t
    · rw [if_pos e, if_pos e]
      subst e
      rw [adj_pos ht c]
      exact value hd ht h c
    · rw [if_neg e, if_neg e]
      refine h.rows r c ?_
      have : r.val ≠ t.val := fun h' => e (Fin.ext h')
      omega

include hl hd hs in
/-- The loop. -/
theorem loop {V : Valuation τ sig (Elt Ideal)} (h : Inv a b p q lr li l d s V 0) : ∀ k, k ≤ 2048 → Inv a b p q lr li l d s (STEP^[k] V) k
  | 0, _ => h
  | k + 1, hk => by
    rw [Function.iterate_succ_apply']
    exact step (t := ⟨2047 - k, by omega⟩) hl hd hs (by simp only; omega) (loop h k (by omega))

/-- An array moved one row down, a row of the padding value on top and the last row gone, at an index. -/
theorem shifted_apply {α : Type} (X : S2048x4096.Idx → α) (v : S_.Idx → α) (hp : S2048x4096.Pads ![1, 0] ![0, 0] ![0, 0] S2049x4096) (hu : 0 < S_.numel)
    (hs : S2049x4096.Slices ![0, 0] S2048x4096) (r : Fin 2048) (c : Fin 4096) :
    extractStridedSlice S2048x4096 ![0, 0] (pad S2049x4096 ![1, 0] ![0, 0] ![0, 0] X v hp hu) hs (ix2 r c)
      = if h : r.val = 0 then v (Shape.Idx.first hu) else X (ix2 ⟨r.val - 1, by omega⟩ c) := by
  refine (extractStridedSlice_apply _ _ hs (ix2 r c) (ix2 (⟨r.val, by omega⟩ : Fin 2049) c) (by
    intro a
    fin_cases a
    · show r.val = 0 + r.val; omega
    · show c.val = 0 + c.val; omega)).trans ?_
  by_cases h : r.val = 0
  · rw [dif_pos h]
    refine pad_apply_of_not_inside _ _ _ X v hp hu _ (0 : Fin 2) fun hin => ?_
    have e : 1 ≤ r.val := hin.1
    omega
  · rw [dif_neg h]
    refine pad_apply_of_inside _ _ _ X v hp hu _ (ix2 (⟨r.val - 1, by omega⟩ : Fin 2048) c) fun a => ?_
    fin_cases a
    · show r.val = 1 + (r.val - 1) * (0 + 1); omega
    · show c.val = 0 + c.val * (0 + 1); omega

/-- The states moved one row down are the states one step earlier. -/
theorem shifted_isC {X Y : S2048x4096.Idx → EReal} {s : Fin 4096 → ℕ → ℂ} (v w : S_.Idx → EReal) (hv : v = fun _ => 0) (hw : w = fun _ => 0)
    (hX : ∀ (r : Fin 2048) (c : Fin 4096), IsC (X (ix2 r c)) (Y (ix2 r c)) (s c r.val))
    (hp : S2048x4096.Pads ![1, 0] ![0, 0] ![0, 0] S2049x4096) (hu : 0 < S_.numel) (hs : S2049x4096.Slices ![0, 0] S2048x4096) (r : Fin 2048) (c : Fin 4096) :
    IsC (extractStridedSlice S2048x4096 ![0, 0] (pad S2049x4096 ![1, 0] ![0, 0] ![0, 0] X v hp hu) hs (ix2 r c))
      (extractStridedSlice S2048x4096 ![0, 0] (pad S2049x4096 ![1, 0] ![0, 0] ![0, 0] Y w hp hu) hs (ix2 r c)) (before (s c) r.val) := by
  rw [shifted_apply, shifted_apply]
  unfold before
  by_cases h : r.val = 0
  · rw [dif_pos h, dif_pos h, if_pos h, hv, hw]
    exact IsC.zero
  · rw [dif_neg h, dif_neg h, if_neg h]
    exact hX ⟨r.val - 1, by omega⟩ c

variable (m : (ℓ : Loc nD τ sig) → Buf (Elt Ideal) ℓ) (g : Dev nD)

/-- The states one step earlier, real parts, as the program makes them. -/
abbrev prevR : S2048x4096.Idx → EReal :=
  extractStridedSlice S2048x4096 ![0, 0] (pad S2049x4096 ![1, 0] ![0, 0] ![0, 0] (m ((g.tc : Thread nD τ).loc main_arg0))
    (sitofp .f32 (constantI S_ 32 0#32) : FVec Ideal S_ .f32) pads_S2048x4096_S2049x4096_100_000 h_S_) slices_S2049x4096_S2048x4096_0_0

/-- The states one step earlier, imaginary parts, as the program makes them. -/
abbrev prevI : S2048x4096.Idx → EReal :=
  extractStridedSlice S2048x4096 ![0, 0] (pad S2049x4096 ![1, 0] ![0, 0] ![0, 0] (m ((g.tc : Thread nD τ).loc main_arg1))
    (sitofp .f32 (constantI S_ 32 0#32) : FVec Ideal S_ .f32) pads_S2048x4096_S2049x4096_100_000 h_S_) slices_S2049x4096_S2048x4096_0_0

/-- They are the numbers before. -/
theorem prev_isC (hX : ∀ (r : Fin 2048) (c : Fin 4096), IsC (m ((g.tc : Thread nD τ).loc main_arg0) (ix2 r c)) (m ((g.tc : Thread nD τ).loc main_arg1) (ix2 r c)) (s c r.val))
    (r : Fin 2048) (c : Fin 4096) : IsC (prevR m g (ix2 r c)) (prevI m g (ix2 r c)) (before (s c) r.val) :=
  shifted_isC (sitofp .f32 (constantI S_ 32 0#32) : FVec Ideal S_ .f32) (sitofp .f32 (constantI S_ 32 0#32) : FVec Ideal S_ .f32) (funext fun _ => sitofp_zero (φ := .f32)) (funext fun _ => sitofp_zero (φ := .f32)) hX _ _ _ r c

set_option maxHeartbeats 1000000 in
/-- What holds before the first trip. -/
theorem entry : Inv (m ((g.tc : Thread nD τ).loc main_arg4)) (m ((g.tc : Thread nD τ).loc main_arg5)) (prevR m g) (prevI m g)
    (shapeCast S4096 (m ((g.tc : Thread nD τ).loc main_arg2)) shapeCasts_S1x4096_S4096)
    (shapeCast S4096 (m ((g.tc : Thread nD τ).loc main_arg3)) shapeCasts_S1x4096_S4096) l d s (entryContents preI m g) 0 := by
  refine ⟨?_, ?_, ?_, ?_, ?_, ?_, ctr_entry m g, ?_, ?_, fun r c h => absurd h (Nat.not_lt_zero _)⟩
  · simp only [entryContents, afterL_cons, afterL_nil]; after_reads_simp; rfl
  · simp only [entryContents, afterL_cons, afterL_nil]; after_reads_simp; rfl
  · simp only [entryContents, afterL_cons, afterL_nil]; after_reads_simp; rfl
  · simp only [entryContents, afterL_cons, afterL_nil]; after_reads_simp; rfl
  · simp only [entryContents, afterL_cons, afterL_nil]; after_reads_simp; rfl
  · simp only [entryContents, afterL_cons, afterL_nil]; after_reads_simp; rfl
  · intro c
    have e7 : entryContents preI m g (Proc.devRef .tc main_v13_7) (ix2 0 c) = (0 : EReal) := by
      simp only [entryContents, afterL_cons, afterL_nil]; after_reads_simp; exact Ideal.ofBits_zero_f32
    have e8 : entryContents preI m g (Proc.devRef .tc main_v13_8) (ix2 0 c) = (0 : EReal) := by
      simp only [entryContents, afterL_cons, afterL_nil]; after_reads_simp; exact Ideal.ofBits_zero_f32
    rw [e7, e8, Finset.sum_range_zero]
    exact IsC.zero
  · intro c
    have e9 : entryContents preI m g (Proc.devRef .tc main_v13_9) (ix1 c) = (0 : EReal) := by
      simp only [entryContents, afterL_cons, afterL_nil]; after_reads_simp; exact Ideal.ofBits_zero_f32
    have e10 : entryContents preI m g (Proc.devRef .tc main_v13_10) (ix1 c) = (0 : EReal) := by
      simp only [entryContents, afterL_cons, afterL_nil]; after_reads_simp; exact Ideal.ofBits_zero_f32
    rw [e9, e10, scan_zero, mul_zero]
    exact IsC.zero

end Cert.S5.Bwd.Ref

end
-- ==== Proof.Bwd.Equation.lean ====
/- The backward scan: the kernel's four results are the reference's. -/
module

public import proofs.«01_k».proof.Defs
public import proofs.«01_k».proof.Proof.Gen.Pre_finite
public import proofs.«01_k».proof.Proof.Fwd.Equation
public import proofs.«01_k».proof.Proof.Bwd.Array
public import proofs.«01_k».proof.Proof.Bwd.Reference

@[expose] public section

set_option maxRecDepth 16384

noncomputable section

namespace Cert.S5.Bwd

open Idealize.ShloMosaic hiding ix1 ix2
open Idealize.ShloMosaic.TcCoe Idealize.ShloMosaic.ValueIdx
open Cert.S5.Fwd (num isC_num col)

/-- What the precondition says: every argument is finite. -/
theorem finite_args (p q : FVec Ideal Cert.Pre_finite.S2048x4096 .f32) (lr li : FVec Ideal Cert.Pre_finite.S1x4096 .f32)
    (a b : FVec Ideal Cert.Pre_finite.S2048x4096 .f32) (h : Cert.Pre_finite.fn (F := Ideal) p q lr li a b = fun _ => 1#1) :
    (∀ (r : Fin 2048) (c : Fin 4096), (IsFin (p (ix2 r c)) ∧ IsFin (q (ix2 r c))) ∧ IsFin (a (ix2 r c)) ∧ IsFin (b (ix2 r c)))
      ∧ ∀ c : Fin 4096, IsFin (lr (ix2 0 c)) ∧ IsFin (li (ix2 0 c)) := by
  have key : ∀ (r : Fin 2048) (c : Fin 4096), ((IsFin (p (ix2 r c)) ∧ IsFin (q (ix2 r c))) ∧ IsFin (a (ix2 r c)) ∧ IsFin (b (ix2 r c)))
      ∧ IsFin (lr (ix2 0 c)) ∧ IsFin (li (ix2 0 c)) := by
    intro r c
    have h0 := congrFun h (ix2 r c)
    unfold Cert.Pre_finite.fn at h0
    unfold Cert.Pre_finite.fn_part1 at h0
    obtain ⟨h1, hb⟩ := and_eq_one h0
    obtain ⟨h2, ha⟩ := and_eq_one h1
    obtain ⟨h3, hli⟩ := and_eq_one h2
    obtain ⟨h4, hlr⟩ := and_eq_one h3
    obtain ⟨hp, hq⟩ := and_eq_one h4
    rw [rowsBcast_apply] at hli hlr
    exact ⟨⟨⟨finite_of_abs_lt _ _ _ hp, finite_of_abs_lt _ _ _ hq⟩, finite_of_abs_lt _ _ _ ha, finite_of_abs_lt _ _ _ hb⟩,
      finite_of_abs_lt _ _ _ hlr, finite_of_abs_lt _ _ _ hli⟩
  exact ⟨fun r c => (key r c).1, fun c => (key 0 c).2⟩

/-- A column of two finite arrays holds its numbers. -/
theorem isC_col {a b : Cert.KernelIdeal.S2048x4096.Idx → EReal} (h : ∀ (r : Fin 2048) (c : Fin 4096), IsFin (a (ix2 r c)) ∧ IsFin (b (ix2 r c)))
    (r : Fin 2048) (c : Fin 4096) : IsC (a (ix2 r c)) (b (ix2 r c)) (col a b c r.val) := by
  unfold col
  rw [dif_pos r.isLt]
  exact isC_num (h r c).1 (h r c).2

/-- The backward scan's algebraic claim. -/
theorem algebraic : Cert.algebraic_KernelIdeal_ReferenceIdeal := by
  intro m g m' g' hPre hArgs
  let l (e : Dev Cert.KernelIdeal.nD) (c : Fin 4096) : ℂ :=
    num (m ((e.tc : Thread Cert.KernelIdeal.nD Cert.KernelIdeal.τ).loc Cert.KernelIdeal.main_arg2) (ix2 0 c))
      (m ((e.tc : Thread Cert.KernelIdeal.nD Cert.KernelIdeal.τ).loc Cert.KernelIdeal.main_arg3) (ix2 0 c))
  let s (e : Dev Cert.KernelIdeal.nD) : Fin 4096 → ℕ → ℂ :=
    col (m ((e.tc : Thread Cert.KernelIdeal.nD Cert.KernelIdeal.τ).loc Cert.KernelIdeal.main_arg0))
      (m ((e.tc : Thread Cert.KernelIdeal.nD Cert.KernelIdeal.τ).loc Cert.KernelIdeal.main_arg1))
  let d (e : Dev Cert.KernelIdeal.nD) : Fin 4096 → ℕ → ℂ :=
    col (m ((e.tc : Thread Cert.KernelIdeal.nD Cert.KernelIdeal.τ).loc Cert.KernelIdeal.main_arg4))
      (m ((e.tc : Thread Cert.KernelIdeal.nD Cert.KernelIdeal.τ).loc Cert.KernelIdeal.main_arg5))
  have hl : ∀ (e : Dev Cert.KernelIdeal.nD) (c : Fin 4096), IsC (m ((e.tc : Thread Cert.KernelIdeal.nD Cert.KernelIdeal.τ).loc Cert.KernelIdeal.main_arg2) (ix2 0 c))
      (m ((e.tc : Thread Cert.KernelIdeal.nD Cert.KernelIdeal.τ).loc Cert.KernelIdeal.main_arg3) (ix2 0 c)) (l e c) := fun e c =>
    isC_num ((finite_args _ _ _ _ _ _ (hPre e)).2 c).1 ((finite_args _ _ _ _ _ _ (hPre e)).2 c).2
  have hs : ∀ (e : Dev Cert.KernelIdeal.nD) (r : Fin 2048) (c : Fin 4096), IsC (m ((e.tc : Thread Cert.KernelIdeal.nD Cert.KernelIdeal.τ).loc Cert.KernelIdeal.main_arg0) (ix2 r c))
      (m ((e.tc : Thread Cert.KernelIdeal.nD Cert.KernelIdeal.τ).loc Cert.KernelIdeal.main_arg1) (ix2 r c)) (s e c r.val) := fun e r c =>
    isC_col (fun r c => ((finite_args _ _ _ _ _ _ (hPre e)).1 r c).1) r c
  have hd : ∀ (e : Dev Cert.KernelIdeal.nD) (r : Fin 2048) (c : Fin 4096), IsC (m ((e.tc : Thread Cert.KernelIdeal.nD Cert.KernelIdeal.τ).loc Cert.KernelIdeal.main_arg4) (ix2 r c))
      (m ((e.tc : Thread Cert.KernelIdeal.nD Cert.KernelIdeal.τ).loc Cert.KernelIdeal.main_arg5) (ix2 r c)) (d e c r.val) := fun e r c =>
    isC_col (fun r c => ((finite_args _ _ _ _ _ _ (hPre e)).1 r c).2) r c
  refine ⟨fun e y => ((grad (l e) (d e) y).re : EReal), fun e y => ((grad (l e) (d e) y).im : EReal),
    fun e y => ((decay (l e) (d e) (s e) y).re : EReal), fun e y => ((decay (l e) (d e) (s e) y).im : EReal), ?_, ?_⟩
  · refine (θ_run _ _ _).mono (fun r h e => ?_) (Cert.KernelIdeal.Value.run_blocks m g)
    obtain ⟨h0, h1, h2, h3, h4⟩ := h e
    exact ⟨h0.trans (array_re m e (hl e) (hd e) (hs e)), h1.trans (array_im m e (hl e) (hd e) (hs e)),
      h2.trans (decay_re m e (hl e) (hd e) (hs e)), h3.trans (decay_im m e (hl e) (hd e) (hs e)), h4⟩
  · refine (θ_run _ _ _).mono (fun r h e => ?_) (Cert.ReferenceIdeal.Value.run m' g')
    obtain ⟨h0, h1, h2, h3, h4⟩ := h e
    obtain ⟨a0, a1, a2, a3, a4, a5⟩ := hArgs e
    have inv := Ref.loop (l := l e) (d := d e) (s := s e)
      (fun c => by rw [headRow_apply, headRow_apply, a2, a3]; exact hl e c) (fun r c => by rw [a4, a5]; exact hd e r c)
      (Ref.prev_isC m' e (fun r c => by rw [a0, a1]; exact hs e r c))
      (Ref.entry (l := l e) (d := d e) (s := s e) m' e) 2048 le_rfl
    refine ⟨h0.trans ?_, h1.trans ?_, h2.trans ?_, h3.trans ?_, h4⟩
    · funext y
      obtain ⟨r, c, rfl⟩ : ∃ (r : Fin 2048) (c : Fin 4096), y = ix2 r c := ⟨y 0, y 1, ValueIdx.eq_ix2 y⟩
      exact (inv.rows r c (by omega)).1
    · funext y
      obtain ⟨r, c, rfl⟩ : ∃ (r : Fin 2048) (c : Fin 4096), y = ix2 r c := ⟨y 0, y 1, ValueIdx.eq_ix2 y⟩
      exact (inv.rows r c (by omega)).2
    · funext y
      obtain ⟨c, rfl⟩ : ∃ c : Fin 4096, y = ix2 (0 : Fin 1) c := ⟨y 1, (ValueIdx.eq_ix2 y).trans (congrArg (fun z => ix2 z (y 1)) (Subsingleton.elim (α := Fin 1) _ _))⟩
      have k := (inv.sums c).1
      rw [sum_back (fun t => term (l e c) (d e c) (s e c) t)] at k
      exact k
    · funext y
      obtain ⟨c, rfl⟩ : ∃ c : Fin 4096, y = ix2 (0 : Fin 1) c := ⟨y 1, (ValueIdx.eq_ix2 y).trans (congrArg (fun z => ix2 z (y 1)) (Subsingleton.elim (α := Fin 1) _ _))⟩
      have k := (inv.sums c).2
      rw [sum_back (fun t => term (l e c) (d e c) (s e c) t)] at k
      exact k

end Cert.S5.Bwd

end
-- ==== Proof.Ffn.Dh.lean ====
/- The gradients of the gate and of the up product: the kernel's result is the reference's. -/
module
public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.ReadBack
public import Idealize.ShloMosaic.Lib.Pointwise

@[expose] public section
set_option maxRecDepth 16384

noncomputable section
namespace Cert.Ffn.Dh
open Idealize.ShloMosaic
open Idealize.ShloMosaic.TcCoe Idealize.ShloMosaic.Tactic
open Cert.Kernel3Ideal Cert.Kernel3Ideal.Gen

/-- A block of the hidden values' gradient: a row of the output's gradient against a row of the down weights. -/
def part (g : S1024x2048.Idx → EReal) (w : S512x2048.Idx → EReal) (i : Fin 1024) (j : Fin 512) : EReal :=
  ∑ k : Fin 2048, g (ix2 i k) * w (ix2 j k)

/-- The gate's gradient from the hidden value's gradient `d`, the gate `a` and the up product `b`. -/
def gateGrad (d a b : EReal) : EReal :=
  d * b * Ideal.logistic a + a * (d * b) * (Ideal.logistic a * (1 - Ideal.logistic a))

/-- The up product's gradient from the hidden value's gradient `d` and the gate `a`. -/
def upGrad (d a : EReal) : EReal := a * Ideal.logistic a * d

/-- Which of the two gradients: the gate's first, the up product's second. -/
def grad (s : Fin 2) (d a b : EReal) : EReal := if s.val = 0 then gateGrad d a b else upGrad d a

/-- The block stored first is the gate's gradient. -/
theorem gate_apply (g : Vec Ideal S1024x2048 .bf16) (w : Vec Ideal S512x2048 .bf16) (a b : Vec Ideal S1024x512 .bf16)
    (y : S1x1024x512.Idx) :
    k0_pay6 (F := Ideal) (k0_pay2 g w) a b y
      = gateGrad (part g w (y 1) (y 2)) (a (ix2 (y 1) (y 2))) (b (ix2 (y 1) (y 2))) := by
  unfold part gateGrad
  pointwise [k0_pay6, k0_pay5, k0_pay4, k0_pay2, k0_pay1]

/-- The block stored second is the up product's gradient. -/
theorem up_apply (g : Vec Ideal S1024x2048 .bf16) (w : Vec Ideal S512x2048 .bf16) (a : Vec Ideal S1024x512 .bf16)
    (y : S1x1024x512.Idx) :
    k0_pay7 (F := Ideal) (k0_pay2 g w) a y = upGrad (part g w (y 1) (y 2)) (a (ix2 (y 1) (y 2))) := by
  unfold part upGrad
  pointwise [k0_pay7, k0_pay5, k0_pay4, k0_pay2, k0_pay1]

variable (m : (ℓ : Loc nD τ sig) → Buf (Elt Ideal) ℓ) (c : Dev nD)

/-- Which blocks point `t` reads and writes: block `t / 11` of the rows, block `t % 11` of the hidden columns. -/
theorem index_eq : ∀ t : Fin cfg0.N, win0_0.index t = ![t.val / 11, 0] ∧ win0_1.index t = ![t.val % 11, 0]
    ∧ win0_2.index t = ![t.val / 11, t.val % 11] ∧ win0_3.index t = ![t.val / 11, t.val % 11]
    ∧ win0_4.index t = ![0, t.val / 11, t.val % 11] := (by decide +kernel : ∀ t : Fin grid0.N, _)

/-- The block of the two gradients at point `t`. -/
def both (t : Fin cfg0.N) : Vec Ideal S2x1024x512 .bf16 := fun y =>
  grad (y 0) (part (iblk m c 0 t) (iblk m c 1 t) (y 1) (y 2)) (iblk m c 2 t (ix2 (y 1) (y 2)))
    (iblk m c 3 t (ix2 (y 1) (y 2)))

/-- Its first half is the gate's gradient. -/
theorem both_gate (t : Fin cfg0.N) (x : S1x1024x512.Idx) (y : S2x1024x512.Idx) (h0 : (y 0).val = 0)
    (h1 : (y 1).val = (x 1).val) (h2 : (y 2).val = (x 2).val) :
    gateGrad (part (iblk m c 0 t) (iblk m c 1 t) (x 1) (x 2)) (iblk m c 2 t (ix2 (x 1) (x 2)))
      (iblk m c 3 t (ix2 (x 1) (x 2))) = both m c t y := by
  unfold both grad
  rw [if_pos h0, show y 1 = x 1 from Fin.ext h1, show y 2 = x 2 from Fin.ext h2]

/-- Its second half is the up product's gradient. -/
theorem both_up (t : Fin cfg0.N) (x : S1x1024x512.Idx) (y : S2x1024x512.Idx) (h0 : (y 0).val = 1)
    (h1 : (y 1).val = (x 1).val) (h2 : (y 2).val = (x 2).val) :
    upGrad (part (iblk m c 0 t) (iblk m c 1 t) (x 1) (x 2)) (iblk m c 2 t (ix2 (x 1) (x 2))) = both m c t y := by
  unfold both grad
  rw [if_neg (by omega), show y 1 = x 1 from Fin.ext h1, show y 2 = x 2 from Fin.ext h2]

/-- What the body leaves at point `t` is that block. -/
theorem out_eq (t : Fin cfg0.N) (y : S2x1024x512.Idx) : outsAt0 m c t y = both m c t y := by
  unfold outsAt0
  frame_out
  refine View.canon_apply_of_pieces (both m c t) _ ?_ y ?_
  swap
  · exact View.cover_of_tiledL (s := S2x1024x512) _ S1x1024x512.size (by sl_kernel_rfl) y
  intro p hp
  rcases List.mem_cons.mp hp with rfl | hp
  · intro x
    refine (up_apply _ _ _ x).trans (both_up m c t x _ ?_ ?_ ?_) <;> dsimp only <;> blk_simp
  rcases List.mem_cons.mp hp with rfl | hp
  · intro x
    refine (gate_apply _ _ _ _ x).trans (both_gate m c t x _ ?_ ?_ ?_) <;> dsimp only <;> blk_simp
  · simp at hp

/-- The gradients of the gate and of the up product, side by side. -/
def total (g : S2048x2048.Idx → EReal) (w : S5632x2048.Idx → EReal) (a b : S2048x5632.Idx → EReal)
    (y : S2x2048x5632.Idx) : EReal :=
  grad (y 0) (∑ k : Fin 2048, g (ix2 (y 1) k) * w (ix2 (y 2) k)) (a (ix2 (y 1) (y 2))) (b (ix2 (y 1) (y 2)))

/-- Equal parts give equal gradients. -/
theorem grad_congr {s s' : Fin 2} {d d' a a' b b' : EReal} (hs : s.val = s'.val) (hd : d = d') (ha : a = a')
    (hb : b = b') : grad s d a b = grad s' d' a' b' := by
  rw [Fin.ext hs, hd, ha, hb]

/-- The array the grid leaves holds both gradients. -/
theorem array_eq : (dats m 0 c).arrAt 4 cfg0.N
    = total (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]
  refine (out_eq m c t y).trans ?_
  unfold both total part
  refine grad_congr ?_ (Fin.sum_fin_congr fun k => ?_) ?_ ?_
  · blk_simp [(index_eq t).2.2.2.2]
  · congr 1
    · blk_simp [iblk]; rw [V_main_arg0]; congr 1; blk_ext [(index_eq t).1, (index_eq t).2.2.2.2]
    · blk_simp [iblk]; rw [V_main_arg1]; congr 1; blk_ext [(index_eq t).2.1, (index_eq t).2.2.2.2]
  · blk_simp [iblk]; rw [V_main_arg2]; congr 1; blk_ext [(index_eq t).2.2.1, (index_eq t).2.2.2.2]
  · blk_simp [iblk]; rw [V_main_arg3]; congr 1; blk_ext [(index_eq t).2.2.2.1, (index_eq t).2.2.2.2]

/-- The kernel and the reference, started on the same arguments, end with the same gradients. -/
theorem algebraic : Cert.algebraic_Kernel3Ideal_Reference3Ideal := by
  intro m g m' g' _ hArgs
  refine ⟨fun d => total (m ((d.tc : Thread nD τ).loc main_arg0)) (m ((d.tc : Thread nD τ).loc main_arg1))
    (m ((d.tc : Thread nD τ).loc main_arg2)) (m ((d.tc : Thread nD τ).loc main_arg3)), ?_, ?_⟩
  · refine (θ_run _ _ _).mono (fun r h d => ?_) (Cert.Kernel3Ideal.Value.run_blocks m g)
    obtain ⟨h0, h1⟩ := h d
    exact ⟨h0.trans (array_eq m d), h1⟩
  · refine (θ_run _ _ _).mono (fun r h d => ?_) (Cert.Reference3Ideal.Value.run m' g')
    obtain ⟨h0, h1⟩ := h d
    obtain ⟨a0, a1, a2, a3⟩ := hArgs d
    refine ⟨h0.trans ?_, h1⟩
    clear h0 h1 h
    rw [a0, a1, a2, a3]
    funext y
    unfold total grad gateGrad upGrad Ideal.logistic
    pointwise
    by_cases h : (y 0).val < 1
    · rw [dif_pos h, if_pos (by omega)]
    · rw [dif_neg h, if_neg (by omega)]

end Cert.Ffn.Dh
end
-- ==== Proof.Ffn.DwDown.lean ====
/- The gradient of the down weights: the kernel's result is the reference's. -/
module
public import proofs.«01_k».proof.Defs
public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack
public import Idealize.ShloMosaic.Lib.Pointwise

@[expose] public section
set_option maxRecDepth 16384

noncomputable section
namespace Cert.Ffn.DwDown
open Idealize.ShloMosaic
open Idealize.ShloMosaic.TcCoe Idealize.ShloMosaic.Tactic
open Cert.Kernel4Ideal Cert.Kernel4Ideal.Gen

/-- One block's products summed over its tokens. -/
def part (h : S512x512.Idx → EReal) (g : S512x2048.Idx → EReal) (y : S512x2048.Idx) : EReal :=
  ∑ k : Fin 512, h (ix2 k (y 0)) * g (ix2 k (y 1))

/-- The first block of tokens starts the sum. -/
theorem first_apply (x : Vec Ideal S512x512 .bf16) (w : Vec Ideal S512x2048 .bf16) (y : S512x2048.Idx) :
    k0_pay2 (F := Ideal) x w y = part x w y := by
  unfold part
  pointwise [k0_pay2, k0_pay1]

/-- Every later block of tokens adds to it. -/
theorem next_apply (x : Vec Ideal S512x512 .bf16) (w : Vec Ideal S512x2048 .bf16) (a : Vec Ideal S512x2048 .f32) (y : S512x2048.Idx) :
    k0_pay3 (F := Ideal) x w a y = a y + part x w y := by
  unfold part
  pointwise [k0_pay3, k0_pay1]

/-- What is stored is the sum: the cast changes nothing over the extended reals. -/
theorem last_apply (a : Vec Ideal S512x2048 .f32) (y : S512x2048.Idx) : k0_pay4 (F := Ideal) a y = a y := by
  pointwise [k0_pay4]

variable (m : (ℓ : Loc nD τ sig) → Buf (Elt Ideal) ℓ) (c : Dev nD)

/-- Which blocks point `t` reads and writes: block `t % 4` of the tokens, block `t / 4` of the hidden columns. -/
theorem index_eq : ∀ t : Fin cfg0.N, win0_0.index t = ![t.val % 4, t.val / 4] ∧ win0_1.index t = ![t.val % 4, 0]
    ∧ win0_2.index t = ![t.val / 4, 0] := (by decide +kernel : ∀ t : Fin grid0.N, _)

/-- The blocks' products at point `t`. -/
def term (t : Fin cfg0.N) (y : S512x2048.Idx) : EReal := part (iblk m c 0 t) (iblk m c 1 t) y

/-- At the last point of a round of four the sum held is the sum of the round's four terms. -/
theorem held_eq (t : Fin cfg0.N) (hr : t.val % 4 = 4 - 1) (y : S512x2048.Idx) :
    (outsAt0 m c t.val t.isLt).2 y
      = ∑ s : Fin 4, term m c ⟨4 * (t.val / 4) + s.val, Pipeline.run_point_lt_of_flush t hr s⟩ y := by
  have key := Pipeline.eq_sum_fin_of_reset_step_apply_of_flush (fun n h => (outsAt0 m c n h).2) 4 (fun _ => 0)
    (term m c) (fun t h0 i => ?_) (fun t h0 i => ?_) t hr y
  · rw [key, zero_add]
  · rw [outsAt0_A m c t h0 (by omega) (by omega), zero_add]
    frame_out
    exact first_apply _ _ i
  · by_cases h2 : t.val % 4 = 3
    · rw [outsAt0_C m c t h0 (by omega) h2]
      frame_out
      exact (next_apply _ _ _ i).trans (by rw [read_unread_whole]; rfl)
    · rw [outsAt0_B m c t h0 (by omega) h2]
      frame_out
      exact (next_apply _ _ _ i).trans (by rw [read_unread_whole]; rfl)

/-- What is stored at the last point of a round is the sum held there. -/
theorem stored_eq (t : Fin cfg0.N) (hr : t.val % 4 = 4 - 1) (y : S512x2048.Idx) :
    (outsAt0 m c t.val t.isLt).1 y = (outsAt0 m c t.val t.isLt).2 y := by
  rw [outsAt0_C m c t (by omega) (by omega) hr]
  frame_out
  exact last_apply _ y

/-- The gradient of the weights: over all tokens, the hidden values against the gradient of the layer's output. -/
def product (h : S2048x5632.Idx → EReal) (g : S2048x2048.Idx → EReal) (y : S5632x2048.Idx) : EReal :=
  ∑ k : Fin 2048, h (ix2 k (y 0)) * g (ix2 k (y 1))

/-- The array the grid leaves is the product. -/
theorem array_eq : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  have hr : t.val % 4 = 4 - 1 := (flush0_2 t).mp hf
  blk_simp
  rw [after0_2, stored_eq m c t hr, held_eq m c t hr]
  unfold term part product
  refine Fin.sum_mul_add_congr fun s k hl => ?_
  congr 1
  · blk_simp [iblk]; rw [V_main_arg0]; congr 1; blk_ext [(index_eq _).1, (index_eq _).2.2]
  · blk_simp [iblk]; rw [V_main_arg1]; congr 1; blk_ext [(index_eq _).2.1, (index_eq _).2.2]

/-- The kernel and the reference, started on the same arguments, end with the same gradient. -/
theorem algebraic : Cert.algebraic_Kernel4Ideal_Reference4Ideal := by
  intro m g m' g' _ hArgs
  refine ⟨fun d => product (m ((d.tc : Thread nD τ).loc main_arg0)) (m ((d.tc : Thread nD τ).loc main_arg1)), ?_, ?_⟩
  · refine (θ_run _ _ _).mono (fun r h d => ?_) (Cert.Kernel4Ideal.Value.run_blocks m g)
    obtain ⟨h0, h1⟩ := h d
    exact ⟨h0.trans (array_eq m d), h1⟩
  · refine (θ_run _ _ _).mono (fun r h d => ?_) (Cert.Reference4Ideal.Value.run m' g')
    obtain ⟨h0, h1⟩ := h d
    obtain ⟨a0, a1⟩ := hArgs d
    refine ⟨h0.trans ?_, h1⟩
    rw [a0, a1]
    funext y
    unfold product
    pointwise
    exact Finset.sum_congr rfl fun k _ => mul_comm _ _

end Cert.Ffn.DwDown
end
-- ==== Proof.Ffn.Dx.lean ====
/- The gradient of the feed-forward layer's input: the kernel's result is the reference's. -/
module
public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ReadBack
public import Idealize.ShloMosaic.Lib.Pointwise

@[expose] public section
set_option maxRecDepth 16384

noncomputable section
namespace Cert.Ffn.Dx
open Idealize.ShloMosaic
open Idealize.ShloMosaic.TcCoe Idealize.ShloMosaic.Tactic
open Cert.Kernel5Ideal Cert.Kernel5Ideal.Gen

/-- One slot's products summed over its columns. -/
def part (g w : S1x1024x1408.Idx → EReal) (y : S1024x1024.Idx) : EReal :=
  ∑ k : Fin 1408, g (ix3 0 (y 0) k) * w (ix3 0 (y 1) k)

/-- The first slot starts the sum. -/
theorem first_apply (g w : Vec Ideal S1x1024x1408 .bf16) (y : S1024x1024.Idx) :
    k0_pay2 (F := Ideal) g w y = part g w y := by
  unfold part
  pointwise [k0_pay2, k0_pay1]

/-- Every later slot adds to it. -/
theorem next_apply (g w : Vec Ideal S1x1024x1408 .bf16) (a : Vec Ideal S1024x1024 .f32) (y : S1024x1024.Idx) :
    k0_pay3 (F := Ideal) g w a y = a y + part g w y := by
  unfold part
  pointwise [k0_pay3, k0_pay1]

/-- The scale of the residual branch's gradient. -/
def alpha : EReal := Scalar.ofBits (F := Ideal) .f32 0x3FD744FD#32

/-- What is stored: the scaled gradient of the residual branch and the sum held. -/
theorem last_apply (a z : Vec Ideal S1024x1024 .f32) (y : S1024x1024.Idx) :
    k0_pay4 (F := Ideal) a z y = alpha * z y + a y := by
  unfold alpha
  pointwise [k0_pay4]

variable (m : (ℓ : Loc nD τ sig) → Buf (Elt Ideal) ℓ) (c : Dev nD)

/-- Which blocks point `t` reads and writes: slot `t % 8` of the eight slots of columns summed over (the first
    four the gate's, the last four the up product's), block `t / 16` of the rows and block `t / 8 % 2` of the
    columns of the result. -/
theorem index_eq : ∀ t : Fin cfg0.N, win0_0.index t = ![t.val % 8 / 4, t.val / 16, t.val % 8 % 4]
    ∧ win0_1.index t = ![t.val % 8, t.val / 8 % 2, 0]
    ∧ win0_2.index t = ![t.val / 16, t.val / 8 % 2]
    ∧ win0_3.index t = ![t.val / 16, t.val / 8 % 2] := (by decide +kernel : ∀ t : Fin grid0.N, _)

/-- The blocks' products at point `t`. -/
def term (t : Fin cfg0.N) (y : S1024x1024.Idx) : EReal := part (iblk m c 0 t) (iblk m c 1 t) y

/-- At the last point of a round of eight the sum held is the sum of the round's eight terms. -/
theorem held_eq (t : Fin cfg0.N) (hr : t.val % 8 = 8 - 1) (y : S1024x1024.Idx) :
    (outsAt0 m c t.val t.isLt).2 y
      = ∑ s : Fin 8, term m c ⟨8 * (t.val / 8) + s.val, Pipeline.run_point_lt_of_flush t hr s⟩ y := by
  have key := Pipeline.eq_sum_fin_of_reset_step_apply_of_flush (fun n h => (outsAt0 m c n h).2) 8 (fun _ => 0)
    (term m c) (fun t h0 i => ?_) (fun t h0 i => ?_) t hr y
  · rw [key, zero_add]
  · rw [outsAt0_A m c t h0 (by omega) (by omega), zero_add]
    frame_out
    exact first_apply _ _ i
  · by_cases h2 : t.val % 8 = 7
    · rw [outsAt0_C m c t h0 (by omega) h2]
      frame_out
      exact (next_apply _ _ _ i).trans (by rw [read_unread_whole]; rfl)
    · rw [outsAt0_B m c t h0 (by omega) h2]
      frame_out
      exact (next_apply _ _ _ i).trans (by rw [read_unread_whole]; rfl)

/-- What is stored at the last point of a round: the sum held there beside the residual branch's gradient. -/
theorem stored_eq (t : Fin cfg0.N) (hr : t.val % 8 = 8 - 1) (y : S1024x1024.Idx) :
    (outsAt0 m c t.val t.isLt).1 y = alpha * iblk m c 2 t y + (outsAt0 m c t.val t.isLt).2 y := by
  rw [outsAt0_C m c t (by omega) (by omega) hr]
  frame_out
  exact last_apply _ _ y

/-- Row `i`, column `l` of the gate's and the up product's gradients laid side by side. -/
def side (g : S2x2048x5632.Idx → EReal) (i : Fin 2048) (l : Fin 11264) : EReal :=
  if h : l.val < 5632 then g (ix3 0 i ⟨l.val, h⟩) else g (ix3 1 i ⟨l.val - 5632, by omega⟩)

/-- Row `j`, column `l` of the weights, whose columns lie in eight slots of 1408. -/
def weight (w : S8x2048x1408.Idx → EReal) (j : Fin 2048) (l : Fin 11264) : EReal :=
  w (ix3 ⟨l.val / 1408, by omega⟩ j ⟨l.val % 1408, by omega⟩)

/-- The gradient of the layer's input: the residual branch's, and the gradients of the gate and of the up product
    against the weights. -/
def total (g : S2x2048x5632.Idx → EReal) (w : S8x2048x1408.Idx → EReal) (z : S2048x2048.Idx → EReal)
    (y : S2048x2048.Idx) : EReal :=
  alpha * z y + ∑ l : Fin 11264, side g (y 0) l * weight w (y 1) l

/-- A column of slot `s`, found in the half of the gradients it belongs to. -/
theorem side_slot (g : S2x2048x5632.Idx → EReal) (i : Fin 2048) (l : Fin 11264) (a : Fin 2) (b : Fin 5632)
    (h : l.val = a.val * 5632 + b.val) : side g i l = g (ix3 a i b) := by
  unfold side
  obtain ⟨a, ha⟩ := a
  dsimp only at h
  interval_cases a
  · rw [dif_pos (by omega)]
    refine congrArg (fun b => g (ix3 0 i b)) (Fin.ext ?_)
    dsimp only
    omega
  · rw [dif_neg (by omega)]
    refine congrArg (fun b => g (ix3 1 i b)) (Fin.ext ?_)
    dsimp only
    omega

/-- The array the grid leaves is that gradient. -/
theorem array_eq : (dats m 0 c).arrAt 3 cfg0.N
    = total (m ((c : Thread nD τ).loc main_arg0)) (m ((c : Thread nD τ).loc main_arg1))
        (m ((c : Thread nD τ).loc main_arg2)) := by
  refine (dats m 0 c).arrAt_eq_of_covers 3 _ (by decide +kernel) fun t hf y => ?_
  have hr : t.val % 8 = 8 - 1 := (flush0_3 t).mp hf
  blk_simp
  rw [after0_3, stored_eq m c t hr, held_eq m c t hr]
  unfold term part total
  refine congrArg₂ _ (congrArg _ ?_) (Fin.sum_mul_add_congr fun s k hl => ?_)
  · blk_simp [iblk]; rw [V_main_arg2]; congr 1; blk_ext [(index_eq t).2.2.1, (index_eq t).2.2.2]
  have hs := s.isLt
  have hk := k.isLt
  refine congrArg₂ _ (Eq.trans ?_ (side_slot _ _ _ ⟨s.val / 4, by omega⟩ ⟨s.val % 4 * 1408 + k.val, by omega⟩
    (by dsimp only; omega)).symm) ?_
  · blk_simp [iblk]; rw [V_main_arg0]; congr 1; blk_ext [(index_eq _).1, (index_eq _).2.2.2]
  · unfold weight
    blk_simp [iblk]; rw [V_main_arg1]; congr 1; blk_ext [(index_eq _).2.1, (index_eq _).2.2.2]

/-- The kernel and the reference, started on the same arguments, end with the same gradient. -/
theorem algebraic : Cert.algebraic_Kernel5Ideal_Reference5Ideal := by
  intro m g m' g' _ hArgs
  refine ⟨fun d => total (m ((d.tc : Thread nD τ).loc main_arg0)) (m ((d.tc : Thread nD τ).loc main_arg1))
    (m ((d.tc : Thread nD τ).loc main_arg2)), ?_, ?_⟩
  · refine (θ_run _ _ _).mono (fun r h d => ?_) (Cert.Kernel5Ideal.Value.run_blocks m g)
    obtain ⟨h0, h1⟩ := h d
    exact ⟨h0.trans (array_eq m d), h1⟩
  · refine (θ_run _ _ _).mono (fun r h d => ?_) (Cert.Reference5Ideal.Value.run m' g')
    obtain ⟨h0, h1⟩ := h d
    obtain ⟨a0, a1, a2⟩ := hArgs d
    refine ⟨h0.trans ?_, h1⟩
    rw [a0, a1, a2]
    funext y
    unfold total alpha side weight
    pointwise
    rw [add_comm]

end Cert.Ffn.Dx
end
-- ==== Proof.Ffn.DwGu.lean ====
/- The gradient of the gate and up weights: the kernel's result is the reference's. -/
module
public import proofs.«01_k».proof.Defs
public import proofs.«01_k».proof.Proof.Gen.Kernel6Ideal.Value
public import proofs.«01_k».proof.Proof.Gen.Reference6Ideal.Run
public import Idealize.ShloMosaic.Lib.Pipeline.ValueKit
public import Idealize.ShloMosaic.Lib.Pointwise

@[expose] public section
set_option maxRecDepth 16384

noncomputable section
namespace Cert.Ffn.DwGu
open Idealize.ShloMosaic
open Idealize.ShloMosaic.TcCoe Idealize.ShloMosaic.Tactic
open Cert.Kernel6Ideal Cert.Kernel6Ideal.Gen

/-- A block of the product, entry by entry: a row of the first block against a column of the second. The cast of
    the stored block changes nothing over the extended reals. -/
theorem pay_apply (x : Vec Ideal S512x2048 .bf16) (w : Vec Ideal S1x2048x1408 .bf16) (y : S1x512x1408.Idx) :
    k0_pay4 (F := Ideal) (k0_pay2 x w) y = ∑ k : Fin 2048, x (ix2 (y 1) k) * w (ix3 0 k (y 2)) := by
  pointwise [k0_pay4, k0_pay2, k0_pay1]

variable (m : (ℓ : Loc nD τ sig) → Buf (Elt Ideal) ℓ) (c : Dev nD)

/-- Which blocks point `t` reads and writes: rows `t / 8`, slot `t % 8` of the eight slots of columns, of which
    the first four are the gate's and the last four the up product's. -/
theorem index_eq : ∀ t : Fin cfg0.N, win0_0.index t = ![t.val / 8, 0]
    ∧ win0_1.index t = ![t.val % 8 / 4, 0, t.val % 8 % 4]
    ∧ win0_2.index t = ![t.val % 8, t.val / 8, 0] := (by decide +kernel : ∀ t : Fin grid0.N, _)

/-- The layer's input as the grid reads it: transposed on the host. -/
theorem V_x (y : S2048x2048.Idx) : V m c main_v0 y = m ((c : Thread nD τ).loc main_arg0) (ix2 (y 1) (y 0)) := by
  have h : V m c main_v0 = transpose S2048x2048 [1, 0] (m ((c : Thread nD τ).loc main_arg0)) transposes_S2048x2048_S2048x2048_1_0 := by
    unfold_abbrev_sides
    after_results
  rw [h]
  pointwise

/-- The half of the gradients slot `s` of the columns lies in: the gate's or the up product's. -/
def half (s : Fin 8) : Fin 2 := ⟨s.val / 4, by omega⟩

/-- The column of that half that is column `j` of slot `s`. -/
def col (s : Fin 8) (j : Fin 1408) : Fin 5632 := ⟨s.val % 4 * 1408 + j.val, by omega⟩

/-- The gradient of the weights: over all tokens, the layer's input against the gradient of the gate or of the
    up product. -/
def product (x : S2048x2048.Idx → EReal) (g : S2x2048x5632.Idx → EReal) (y : S8x2048x1408.Idx) : EReal :=
  ∑ k : Fin 2048, x (ix2 k (y 1)) * g (ix3 (half (y 0)) k (col (y 0) (y 2)))

/-- The array the grid leaves is the product. -/
theorem array_eq : (dats m 0 c).arrAt 2 cfg0.N
    = product (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  refine (pay_apply _ _ y).trans (Fin.sum_fin_congr fun k => ?_)
  congr 1
  · blk_simp [iblk]; rw [V_x]; congr 1; blk_ext [(index_eq t).1, (index_eq t).2.2]
  · blk_simp [iblk]; rw [V_main_arg1]; congr 1; blk_ext [(index_eq t).2.1, (index_eq t).2.2, half, col]

/-- The kernel and the reference, started on the same arguments, end with the same gradient. -/
theorem algebraic : Cert.algebraic_Kernel6Ideal_Reference6Ideal := by
  intro m g m' g' _ hArgs
  refine ⟨fun d => product (m ((d.tc : Thread nD τ).loc main_arg0)) (m ((d.tc : Thread nD τ).loc main_arg1)), ?_, ?_⟩
  · refine (θ_run _ _ _).mono (fun r h d => ?_) (Cert.Kernel6Ideal.Value.run_blocks m g)
    obtain ⟨h0, h1⟩ := h d
    exact ⟨h0.trans (array_eq m d), h1⟩
  · refine (θ_run _ _ _).mono (fun r h d => ?_) (Cert.Reference6Ideal.Value.run m' g')
    obtain ⟨h0, h1⟩ := h d
    obtain ⟨a0, a1⟩ := hArgs d
    refine ⟨h0.trans ?_, h1⟩
    rw [a0, a1]
    funext y
    unfold product
    pointwise
    refine Finset.sum_congr rfl fun k _ => ?_
    rw [mul_comm]
    congr 1
    have h0 : (y 0).val < 8 := (y 0).isLt
    have h2 : (y 2).val < 1408 := (y 2).isLt
    split
    · congr 1
      refine congrArg₂ (fun a b => ix3 a k b) (Fin.ext ?_) (Fin.ext ?_) <;> simp only [half, col, Fin.val_zero, Fin.val_one, Fin.coe_ofNat_eq_mod] <;> omega
    · congr 1
      refine congrArg₂ (fun a b => ix3 a k b) (Fin.ext ?_) (Fin.ext ?_) <;> simp only [half, col, Fin.val_zero, Fin.val_one, Fin.coe_ofNat_eq_mod] <;> omega

end Cert.Ffn.DwGu
end
-- ==== Proof.Ffn.Up.lean ====
/- The gate, the up product and the hidden values of the feed-forward layer: the kernel's results are the
   reference's. -/
module
public import proofs.«01_k».proof.Defs
public import proofs.«01_k».proof.Proof.Gen.Kernel7Ideal.Value
public import proofs.«01_k».proof.Proof.Gen.Reference7Ideal.Run
public import Idealize.ShloMosaic.Lib.Pipeline.ValueKit
public import Idealize.ShloMosaic.Lib.Pointwise

@[expose] public section
set_option maxRecDepth 16384

noncomputable section
namespace Cert.Ffn.Up
open Idealize.ShloMosaic
open Idealize.ShloMosaic.TcCoe Idealize.ShloMosaic.Tactic
open Cert.Kernel7Ideal Cert.Kernel7Ideal.Gen

/-- A block of a product, entry by entry: a row of the input's block against a column of the weights' slot. -/
def part (x : S256x2048.Idx → EReal) (w : S1x2048x1408.Idx → EReal) (y : S256x1408.Idx) : EReal :=
  ∑ k : Fin 2048, x (ix2 (y 0) k) * w (ix3 0 k (y 1))

/-- A gated value: the gate times its logistic, times the up product. -/
def gated (a b : EReal) : EReal := a * Ideal.logistic a * b

/-- The block stored as the gate is the product with the gate's slot. -/
theorem gate_apply (x : Vec Ideal S256x2048 .bf16) (w : Vec Ideal S1x2048x1408 .bf16) (y : S256x1408.Idx) :
    k0_pay3 (F := Ideal) x w y = part x w y := by
  unfold part
  pointwise [k0_pay3, k0_pay1]

/-- The block stored as the up product is the product with the up slot. -/
theorem up_apply (x : Vec Ideal S256x2048 .bf16) (w : Vec Ideal S1x2048x1408 .bf16) (y : S256x1408.Idx) :
    k0_pay4 (F := Ideal) x w y = part x w y := by
  unfold part
  pointwise [k0_pay4, k0_pay2]

/-- The block stored as the hidden values gates the one by the other. -/
theorem hidden_apply (x : Vec Ideal S256x2048 .bf16) (v w : Vec Ideal S1x2048x1408 .bf16) (y : S256x1408.Idx) :
    k0_pay5 (F := Ideal) x v w y = gated (part x v y) (part x w y) := by
  unfold part gated
  pointwise [k0_pay5, k0_pay2, k0_pay1]

variable (m : (ℓ : Loc nD τ sig) → Buf (Elt Ideal) ℓ) (c : Dev nD)

/-- Which blocks point `t` reads and writes: block `t % 8` of the rows and slot `t / 8` of the four slots of
    columns. The gate's weights are the first four slots, the up product's the last four. -/
theorem index_eq : ∀ t : Fin cfg0.N, win0_0.index t = ![t.val % 8, 0]
    ∧ win0_1.index t = ![t.val / 8, 0, 0] ∧ win0_2.index t = ![t.val / 8 + 4, 0, 0]
    ∧ win0_3.index t = ![t.val % 8, t.val / 8] ∧ win0_4.index t = ![t.val % 8, t.val / 8]
    ∧ win0_5.index t = ![t.val % 8, t.val / 8] := (by decide +kernel : ∀ t : Fin grid0.N, _)

/-- A column of the gate, by its slot. -/
def gate (x : S2048x2048.Idx → EReal) (w : S8x2048x1408.Idx → EReal) (y : S2048x5632.Idx) : EReal :=
  ∑ k : Fin 2048, x (ix2 (y 0) k)
    * w (ix3 ⟨(y 1).val / 1408, by have : (y 1).val < 5632 := (y 1).isLt; omega⟩ k ⟨(y 1).val % 1408, by omega⟩)

/-- A column of the up product, by its slot: the columns follow the gate's 5632. -/
def up (x : S2048x2048.Idx → EReal) (w : S8x2048x1408.Idx → EReal) (y : S2048x5632.Idx) : EReal :=
  ∑ k : Fin 2048, x (ix2 (y 0) k)
    * w (ix3 ⟨(5632 + (y 1).val) / 1408, by have : (y 1).val < 5632 := (y 1).isLt; omega⟩ k
      ⟨(5632 + (y 1).val) % 1408, by omega⟩)

/-- The hidden values: the gate gating the up product. -/
def hidden (x : S2048x2048.Idx → EReal) (w : S8x2048x1408.Idx → EReal) (y : S2048x5632.Idx) : EReal :=
  gated (gate x w y) (up x w y)

/-- The product with the gate's slot at point `t`, as an entry of the whole gate. -/
theorem gate_part (t : Fin cfg0.N) (y : S256x1408.Idx) (Y : S2048x5632.Idx)
    (h0 : (Y 0).val = t.val % 8 * 256 + (y 0).val) (h1 : (Y 1).val = t.val / 8 * 1408 + (y 1).val) :
    part (iblk m c 0 t) (iblk m c 1 t) y
      = gate (m ((c : Thread nD τ).loc main_arg0)) (m ((c : Thread nD τ).loc main_arg1)) Y := by
  have hy : (y 1).val < 1408 := (y 1).isLt
  unfold part gate
  refine Fin.sum_fin_congr fun k => ?_
  congr 1
  · blk_simp [iblk]; rw [V_main_arg0]; congr 1; blk_ext [(index_eq t).1]
  · blk_simp [iblk]; rw [V_main_arg1]; congr 1; blk_ext [(index_eq t).2.1]

/-- The product with the up slot at point `t`, as an entry of the whole up product. -/
theorem up_part (t : Fin cfg0.N) (y : S256x1408.Idx) (Y : S2048x5632.Idx)
    (h0 : (Y 0).val = t.val % 8 * 256 + (y 0).val) (h1 : (Y 1).val = t.val / 8 * 1408 + (y 1).val) :
    part (iblk m c 0 t) (iblk m c 2 t) y
      = up (m ((c : Thread nD τ).loc main_arg0)) (m ((c : Thread nD τ).loc main_arg1)) Y := by
  have hy : (y 1).val < 1408 := (y 1).isLt
  unfold part up
  refine Fin.sum_fin_congr fun k => ?_
  congr 1
  · blk_simp [iblk]; rw [V_main_arg0]; congr 1; blk_ext [(index_eq t).1]
  · blk_simp [iblk]; rw [V_main_arg1]; congr 1; blk_ext [(index_eq t).2.2.1]

/-- The first array the grid leaves is the gate. -/
theorem gate_eq : (dats m 0 c).arrAt 3 cfg0.N
    = gate (m ((c : Thread nD τ).loc main_arg0)) (m ((c : Thread nD τ).loc main_arg1)) := by
  refine (dats m 0 c).arrAt_eq_of_covers 3 _ (by decide +kernel) fun t _ y => ?_
  blk_simp
  rw [after0_3]
  frame_out
  refine (gate_apply _ _ y).trans (gate_part m c t y _ ?_ ?_) <;> blk_simp [(index_eq t).2.2.2.1]

/-- The second is the up product. -/
theorem up_eq : (dats m 0 c).arrAt 4 cfg0.N
    = up (m ((c : Thread nD τ).loc main_arg0)) (m ((c : Thread nD τ).loc main_arg1)) := by
  refine (dats m 0 c).arrAt_eq_of_covers 4 _ (by decide +kernel) fun t _ y => ?_
  blk_simp
  rw [after0_4]
  frame_out
  refine (up_apply _ _ y).trans (up_part m c t y _ ?_ ?_) <;> blk_simp [(index_eq t).2.2.2.2.1]

/-- The third is the hidden values. -/
theorem hidden_eq : (dats m 0 c).arrAt 5 cfg0.N
    = hidden (m ((c : Thread nD τ).loc main_arg0)) (m ((c : Thread nD τ).loc main_arg1)) := by
  refine (dats m 0 c).arrAt_eq_of_covers 5 _ (by decide +kernel) fun t _ y => ?_
  blk_simp
  rw [after0_5]
  frame_out
  refine (hidden_apply _ _ _ y).trans (congrArg₂ gated (gate_part m c t y _ ?_ ?_) (up_part m c t y _ ?_ ?_))
    <;> blk_simp [(index_eq t).2.2.2.2.2]

/-- The kernel and the reference, started on the same arguments, end with the same three arrays. -/
theorem algebraic : Cert.algebraic_Kernel7Ideal_Reference7Ideal := by
  intro m g m' g' _ hArgs
  refine ⟨fun d => gate (m ((d.tc : Thread nD τ).loc main_arg0)) (m ((d.tc : Thread nD τ).loc main_arg1)),
    fun d => up (m ((d.tc : Thread nD τ).loc main_arg0)) (m ((d.tc : Thread nD τ).loc main_arg1)),
    fun d => hidden (m ((d.tc : Thread nD τ).loc main_arg0)) (m ((d.tc : Thread nD τ).loc main_arg1)), ?_, ?_⟩
  · refine (θ_run _ _ _).mono (fun r h d => ?_) (Cert.Kernel7Ideal.Value.run_blocks m g)
    obtain ⟨h0, h1, h2, h3⟩ := h d
    exact ⟨h0.trans (gate_eq m d), h1.trans (up_eq m d), h2.trans (hidden_eq m d), h3⟩
  · refine (θ_run _ _ _).mono (fun r h d => ?_) (Cert.Reference7Ideal.Value.run m' g')
    obtain ⟨h0, h1, h2, h3⟩ := h d
    obtain ⟨a0, a1⟩ := hArgs d
    refine ⟨h0.trans ?_, h1.trans ?_, h2.trans ?_, h3⟩
    all_goals
      clear h0 h1 h2 h3 h
      rw [a0, a1]
      funext y
    · unfold gate
      pointwise
    · unfold up
      pointwise
    · unfold hidden gated gate up Ideal.logistic
      pointwise

end Cert.Ffn.Up
end
-- ==== Proof.Ffn.Down.lean ====
/- The product with the down weights, the residual sum and its normalisation: the kernel's results are the
   reference's. -/
module
public import proofs.«01_k».proof.Defs
public import proofs.«01_k».proof.Proof.Gen.Kernel8Ideal.Value
public import proofs.«01_k».proof.Proof.Gen.Reference8Ideal.Run
public import Idealize.ShloMosaic.Lib.Pipeline.ValueKit
public import Idealize.ShloMosaic.Lib.Pipeline.ReadBack
public import Idealize.ShloMosaic.Lib.Pointwise

@[expose] public section
set_option maxRecDepth 16384

noncomputable section
namespace Cert.Ffn.Down
open Idealize.ShloMosaic
open Idealize.ShloMosaic.TcCoe Idealize.ShloMosaic.Tactic
open Cert.Kernel8Ideal Cert.Kernel8Ideal.Gen

/-- One block's products summed over its hidden columns. -/
def part (h : S512x512.Idx → EReal) (w : S512x2048.Idx → EReal) (y : S512x2048.Idx) : EReal :=
  ∑ k : Fin 512, h (ix2 (y 0) k) * w (ix2 k (y 1))

/-- The first block of hidden columns starts the sum. -/
theorem first_apply (h : Vec Ideal S512x512 .bf16) (w : Vec Ideal S512x2048 .bf16) (y : S512x2048.Idx) :
    k0_pay2 (F := Ideal) h w y = part h w y := by
  unfold part
  pointwise [k0_pay2, k0_pay1]

/-- Every later block of hidden columns adds to it. -/
theorem next_apply (h : Vec Ideal S512x512 .bf16) (w : Vec Ideal S512x2048 .bf16) (a : Vec Ideal S512x2048 .f32) (y : S512x2048.Idx) :
    k0_pay3 (F := Ideal) h w a y = a y + part h w y := by
  unfold part
  pointwise [k0_pay3, k0_pay1]

/-- Entry `j` of a row of the residual sum: the scaled residual branch `x` and half the product `a`. -/
def res (a x : Fin 2048 → EReal) (j : Fin 2048) : EReal :=
  Ideal.ofBits .f32 0x3FD744FD#32 * x j + Ideal.ofBits .f32 0x3F000000#32 * a j

/-- The mean of a row of 2048 entries. -/
def mean (s : Fin 2048 → EReal) : EReal := Ideal.div (∑ j, s j) (Ideal.ofBits .f32 0x45000000#32)

/-- The residual sum with its row's mean taken off. -/
def centred (a x : Fin 2048 → EReal) (j : Fin 2048) : EReal := res a x j - mean (res a x)

/-- The reciprocal of the row's standard deviation. -/
def rstd (a x : Fin 2048 → EReal) : EReal :=
  Ideal.rsqrt (mean (fun j => centred a x j * centred a x j) + Ideal.ofBits .f32 0x3727C5AC#32)

/-- The normalised residual sum. -/
def xhat (a x : Fin 2048 → EReal) (j : Fin 2048) : EReal := centred a x j * rstd a x

/-- The layer's output: scaled by `g` and shifted by `b`. -/
def normed (a x : Fin 2048 → EReal) (g b : EReal) (j : Fin 2048) : EReal := xhat a x j * g + b

/-- The kernel's residual sum with the mean taken off. -/
theorem centred_apply (a x : Vec Ideal S512x2048 .f32) (i : Fin 512) (j : Fin 2048) :
    k0_pay4 (F := Ideal) a x (ix2 i j) = centred (fun j => a (ix2 i j)) (fun j => x (ix2 i j)) j := by
  unfold centred mean res
  pointwise [k0_pay4]

/-- The kernel's reciprocal standard deviation. -/
theorem rstd_apply (a x : Vec Ideal S512x2048 .f32) (i : Fin 512) (l : Fin 1) :
    k0_pay5 (F := Ideal) a x (ix2 i l) = rstd (fun j => a (ix2 i j)) (fun j => x (ix2 i j)) := by
  unfold rstd mean
  pointwise [k0_pay5]
  simp only [centred_apply]

/-- The kernel's normalised residual sum. -/
theorem xhat_apply (a x : Vec Ideal S512x2048 .f32) (i : Fin 512) (j : Fin 2048) :
    k0_pay6 (F := Ideal) a x (ix2 i j) = xhat (fun j => a (ix2 i j)) (fun j => x (ix2 i j)) j := by
  unfold xhat
  pointwise [k0_pay6]
  simp only [centred_apply, rstd_apply]

/-- The kernel's output. -/
theorem normed_apply (a x : Vec Ideal S512x2048 .f32) (g b : Vec Ideal S1x2048 .f32) (i : Fin 512) (j : Fin 2048) :
    k0_pay7 (F := Ideal) a x g b (ix2 i j)
      = normed (fun j => a (ix2 i j)) (fun j => x (ix2 i j)) (g (ix2 0 j)) (b (ix2 0 j)) j := by
  unfold normed
  pointwise [k0_pay7]
  simp only [xhat_apply]

/-- The output stored a second time, cast: over the extended reals the same. -/
theorem cast_apply (a x : Vec Ideal S512x2048 .f32) (g b : Vec Ideal S1x2048 .f32) (y : S512x2048.Idx) :
    k0_pay8 (F := Ideal) a x g b y = k0_pay7 (F := Ideal) a x g b y := by
  pointwise [k0_pay8]

variable (m : (ℓ : Loc nD τ sig) → Buf (Elt Ideal) ℓ) (c : Dev nD)

/-- Which blocks point `t` reads and writes: block `t / 11` of the rows, block `t % 11` of the hidden columns. -/
theorem index_eq : ∀ t : Fin cfg0.N, win0_0.index t = ![t.val / 11, t.val % 11] ∧ win0_1.index t = ![t.val % 11, 0]
    ∧ win0_2.index t = ![t.val / 11, 0] ∧ win0_3.index t = ![0, 0] ∧ win0_4.index t = ![0, 0]
    ∧ win0_5.index t = ![t.val / 11, 0] ∧ win0_6.index t = ![t.val / 11, 0] ∧ win0_7.index t = ![t.val / 11, 0]
    ∧ win0_8.index t = ![t.val / 11, 0] := (by decide +kernel : ∀ t : Fin grid0.N, _)

/-- The blocks' products at point `t`. -/
def term (t : Fin cfg0.N) (y : S512x2048.Idx) : EReal := part (iblk m c 0 t) (iblk m c 1 t) y

/-- The sum held after point `t`. -/
def held (t : Fin cfg0.N) : Vec Ideal S512x2048 .f32 := (outsAt0 m c t.val t.isLt).2.2.2.2

/-- At the last point of a round of eleven the sum held is the sum of the round's eleven terms. -/
theorem held_eq (t : Fin cfg0.N) (hr : t.val % 11 = 11 - 1) (y : S512x2048.Idx) :
    held m c t y = ∑ s : Fin 11, term m c ⟨11 * (t.val / 11) + s.val, Pipeline.run_point_lt_of_flush t hr s⟩ y := by
  unfold held
  have key := Pipeline.eq_sum_fin_of_reset_step_apply_of_flush (fun n h => (outsAt0 m c n h).2.2.2.2) 11 (fun _ => 0)
    (term m c) (fun t h0 i => ?_) (fun t h0 i => ?_) t hr y
  · rw [key, zero_add]
  · rw [outsAt0_A m c t h0 (by omega) (by omega), zero_add]
    frame_out
    exact first_apply _ _ i
  · by_cases h2 : t.val % 11 = 10
    · rw [outsAt0_C m c t h0 (by omega) h2]
      frame_out
      exact (next_apply _ _ _ i).trans (by rw [read_unread_whole]; rfl)
    · rw [outsAt0_B m c t h0 (by omega) h2]
      frame_out
      exact (next_apply _ _ _ i).trans (by rw [read_unread_whole]; rfl)

/-- What is stored at the last point of a round, from the sum held there: the output, -/
theorem stored_y (t : Fin cfg0.N) (hr : t.val % 11 = 11 - 1) :
    (outsAt0 m c t.val t.isLt).1 = k0_pay7 (held m c t) (iblk m c 2 t) (iblk m c 3 t) (iblk m c 4 t) := by
  unfold held
  rw [outsAt0_C m c t (by omega) (by omega) hr]
  frame_out

/-- the output cast, -/
theorem stored_yb (t : Fin cfg0.N) (hr : t.val % 11 = 11 - 1) :
    (outsAt0 m c t.val t.isLt).2.1 = k0_pay8 (held m c t) (iblk m c 2 t) (iblk m c 3 t) (iblk m c 4 t) := by
  unfold held
  rw [outsAt0_C m c t (by omega) (by omega) hr]
  frame_out

/-- the normalised residual sum, -/
theorem stored_xhat (t : Fin cfg0.N) (hr : t.val % 11 = 11 - 1) :
    (outsAt0 m c t.val t.isLt).2.2.1 = k0_pay6 (held m c t) (iblk m c 2 t) := by
  unfold held
  rw [outsAt0_C m c t (by omega) (by omega) hr]
  frame_out

/-- and the reciprocal standard deviation. -/
theorem stored_rstd (t : Fin cfg0.N) (hr : t.val % 11 = 11 - 1) :
    (outsAt0 m c t.val t.isLt).2.2.2.1 = k0_pay5 (held m c t) (iblk m c 2 t) := by
  unfold held
  rw [outsAt0_C m c t (by omega) (by omega) hr]
  frame_out

/-- Row `i` of the product of the hidden values with the down weights. -/
def row (h : S2048x5632.Idx → EReal) (w : S5632x2048.Idx → EReal) (i : Fin 2048) (j : Fin 2048) : EReal :=
  ∑ k : Fin 5632, h (ix2 i k) * w (ix2 k j)

/-- Row `i` of the sum held at a round's last point is a row of the product. -/
theorem held_row (t : Fin cfg0.N) (hr : t.val % 11 = 11 - 1) (i : Fin 512) (I : Fin 2048)
    (hI : I.val = t.val / 11 * 512 + i.val) : (fun j => held m c t (ix2 i j))
      = row (m ((c : Thread nD τ).loc main_arg0)) (m ((c : Thread nD τ).loc main_arg1)) I := by
  funext j
  rw [held_eq m c t hr]
  unfold term part row
  refine Fin.sum_mul_add_congr fun s k hl => ?_
  congr 1
  · blk_simp [iblk]; rw [V_main_arg0]; congr 1; blk_ext [(index_eq _).1]
  · blk_simp [iblk]; rw [V_main_arg1]; congr 1; blk_ext [(index_eq _).2.1]

/-- Row `i` of the residual branch's block is a row of the branch. -/
theorem branch_row (t : Fin cfg0.N) (i : Fin 512) (I : Fin 2048) (hI : I.val = t.val / 11 * 512 + i.val) :
    (fun j => iblk m c 2 t (ix2 i j)) = fun j : Fin 2048 => m ((c : Thread nD τ).loc main_arg2) (ix2 I j) := by
  funext j
  blk_simp [iblk]; rw [V_main_arg2]; congr 1; blk_ext [(index_eq _).2.2.1]

/-- The four results, from the hidden values, the down weights, the residual branch, the scale and the shift: the
    normalised residual sum, -/
def outXhat (h : S2048x5632.Idx → EReal) (w : S5632x2048.Idx → EReal) (x : S2048x2048.Idx → EReal)
    (y : S2048x2048.Idx) : EReal :=
  xhat (row h w (y 0)) (fun j => x (ix2 (y 0) j)) (y 1)

/-- the reciprocal standard deviation, -/
def outRstd (h : S2048x5632.Idx → EReal) (w : S5632x2048.Idx → EReal) (x : S2048x2048.Idx → EReal)
    (y : S2048x1.Idx) : EReal :=
  rstd (row h w (y 0)) (fun j => x (ix2 (y 0) j))

/-- and the output, stored twice. -/
def outY (h : S2048x5632.Idx → EReal) (w : S5632x2048.Idx → EReal) (x : S2048x2048.Idx → EReal)
    (g b : S1x2048.Idx → EReal) (y : S2048x2048.Idx) : EReal :=
  normed (row h w (y 0)) (fun j => x (ix2 (y 0) j)) (g (ix2 0 (y 1))) (b (ix2 0 (y 1))) (y 1)

/-- An entry of the output's block is an entry of the output. -/
theorem y_block (t : Fin cfg0.N) (hr : t.val % 11 = 11 - 1) (y : S512x2048.Idx) (Y : S2048x2048.Idx)
    (h0 : (Y 0).val = t.val / 11 * 512 + (y 0).val) (h1 : (Y 1).val = (y 1).val) :
    k0_pay7 (F := Ideal) (held m c t) (iblk m c 2 t) (iblk m c 3 t) (iblk m c 4 t) y
      = outY (m ((c : Thread nD τ).loc main_arg0)) (m ((c : Thread nD τ).loc main_arg1))
          (m ((c : Thread nD τ).loc main_arg2)) (m ((c : Thread nD τ).loc main_arg3))
          (m ((c : Thread nD τ).loc main_arg4)) Y := by
  rw [eq_ix2 y]
  refine (normed_apply _ _ _ _ _ _).trans ?_
  rw [held_row m c t hr (y 0) (Y 0) h0, branch_row m c t (y 0) (Y 0) h0]
  unfold outY
  rw [show Y 1 = y 1 from Fin.ext h1]
  congr 1
  · blk_simp [iblk]; rw [V_main_arg3]; congr 1; blk_ext [(index_eq t).2.2.2.1]
  · blk_simp [iblk]; rw [V_main_arg4]; congr 1; blk_ext [(index_eq t).2.2.2.2.1]

/-- An entry of the normalised residual sum's block is an entry of the normalised residual sum. -/
theorem xhat_block (t : Fin cfg0.N) (hr : t.val % 11 = 11 - 1) (y : S512x2048.Idx) (Y : S2048x2048.Idx)
    (h0 : (Y 0).val = t.val / 11 * 512 + (y 0).val) (h1 : (Y 1).val = (y 1).val) :
    k0_pay6 (F := Ideal) (held m c t) (iblk m c 2 t) y
      = outXhat (m ((c : Thread nD τ).loc main_arg0)) (m ((c : Thread nD τ).loc main_arg1))
          (m ((c : Thread nD τ).loc main_arg2)) Y := by
  rw [eq_ix2 y]
  refine (xhat_apply _ _ _ _).trans ?_
  rw [held_row m c t hr (y 0) (Y 0) h0, branch_row m c t (y 0) (Y 0) h0]
  unfold outXhat
  rw [show Y 1 = y 1 from Fin.ext h1]

/-- An entry of the reciprocal standard deviation's block is an entry of the reciprocal standard deviation. -/
theorem rstd_block (t : Fin cfg0.N) (hr : t.val % 11 = 11 - 1) (y : S512x1.Idx) (Y : S2048x1.Idx)
    (h0 : (Y 0).val = t.val / 11 * 512 + (y 0).val) :
    k0_pay5 (F := Ideal) (held m c t) (iblk m c 2 t) y
      = outRstd (m ((c : Thread nD τ).loc main_arg0)) (m ((c : Thread nD τ).loc main_arg1))
          (m ((c : Thread nD τ).loc main_arg2)) Y := by
  rw [eq_ix2 y]
  refine (rstd_apply _ _ _ _).trans ?_
  rw [held_row m c t hr (y 0) (Y 0) h0, branch_row m c t (y 0) (Y 0) h0]
  unfold outRstd
  rfl

/-- The first array the grid leaves is the output. -/
theorem y_eq : (dats m 0 c).arrAt 5 cfg0.N
    = outY (m ((c : Thread nD τ).loc main_arg0)) (m ((c : Thread nD τ).loc main_arg1))
        (m ((c : Thread nD τ).loc main_arg2)) (m ((c : Thread nD τ).loc main_arg3))
        (m ((c : Thread nD τ).loc main_arg4)) := by
  refine (dats m 0 c).arrAt_eq_of_covers 5 _ (by decide +kernel) fun t hf y => ?_
  have hr : t.val % 11 = 11 - 1 := (flush0_5 t).mp hf
  blk_simp
  rw [after0_5, stored_y m c t hr]
  refine y_block m c t hr y _ ?_ ?_ <;> blk_simp [(index_eq t).2.2.2.2.2.1]

/-- The second is the output again. -/
theorem yb_eq : (dats m 0 c).arrAt 6 cfg0.N
    = outY (m ((c : Thread nD τ).loc main_arg0)) (m ((c : Thread nD τ).loc main_arg1))
        (m ((c : Thread nD τ).loc main_arg2)) (m ((c : Thread nD τ).loc main_arg3))
        (m ((c : Thread nD τ).loc main_arg4)) := by
  refine (dats m 0 c).arrAt_eq_of_covers 6 _ (by decide +kernel) fun t hf y => ?_
  have hr : t.val % 11 = 11 - 1 := (flush0_6 t).mp hf
  blk_simp
  rw [after0_6, stored_yb m c t hr]
  refine (cast_apply _ _ _ _ y).trans (y_block m c t hr y _ ?_ ?_) <;> blk_simp [(index_eq t).2.2.2.2.2.2.1]

/-- The third is the normalised residual sum. -/
theorem xhat_eq : (dats m 0 c).arrAt 7 cfg0.N
    = outXhat (m ((c : Thread nD τ).loc main_arg0)) (m ((c : Thread nD τ).loc main_arg1))
        (m ((c : Thread nD τ).loc main_arg2)) := by
  refine (dats m 0 c).arrAt_eq_of_covers 7 _ (by decide +kernel) fun t hf y => ?_
  have hr : t.val % 11 = 11 - 1 := (flush0_7 t).mp hf
  blk_simp
  rw [after0_7, stored_xhat m c t hr]
  refine xhat_block m c t hr y _ ?_ ?_ <;> blk_simp [(index_eq t).2.2.2.2.2.2.2.1]

/-- The fourth is the reciprocal standard deviation. -/
theorem rstd_eq : (dats m 0 c).arrAt 8 cfg0.N
    = outRstd (m ((c : Thread nD τ).loc main_arg0)) (m ((c : Thread nD τ).loc main_arg1))
        (m ((c : Thread nD τ).loc main_arg2)) := by
  refine (dats m 0 c).arrAt_eq_of_covers 8 _ (by decide +kernel) fun t hf y => ?_
  have hr : t.val % 11 = 11 - 1 := (flush0_8 t).mp hf
  blk_simp
  rw [after0_8, stored_rstd m c t hr]
  refine rstd_block m c t hr y _ ?_ <;> blk_simp [(index_eq t).2.2.2.2.2.2.2.2]

/-- The kernel and the reference, started on the same arguments, end with the same four arrays. -/
theorem algebraic : Cert.algebraic_Kernel8Ideal_Reference8Ideal := by
  intro m g m' g' _ hArgs
  refine ⟨fun d => outY (m ((d.tc : Thread nD τ).loc main_arg0)) (m ((d.tc : Thread nD τ).loc main_arg1))
      (m ((d.tc : Thread nD τ).loc main_arg2)) (m ((d.tc : Thread nD τ).loc main_arg3))
      (m ((d.tc : Thread nD τ).loc main_arg4)),
    fun d => outY (m ((d.tc : Thread nD τ).loc main_arg0)) (m ((d.tc : Thread nD τ).loc main_arg1))
      (m ((d.tc : Thread nD τ).loc main_arg2)) (m ((d.tc : Thread nD τ).loc main_arg3))
      (m ((d.tc : Thread nD τ).loc main_arg4)),
    fun d => outXhat (m ((d.tc : Thread nD τ).loc main_arg0)) (m ((d.tc : Thread nD τ).loc main_arg1))
      (m ((d.tc : Thread nD τ).loc main_arg2)),
    fun d => outRstd (m ((d.tc : Thread nD τ).loc main_arg0)) (m ((d.tc : Thread nD τ).loc main_arg1))
      (m ((d.tc : Thread nD τ).loc main_arg2)), ?_, ?_⟩
  · refine (θ_run _ _ _).mono (fun r h d => ?_) (Cert.Kernel8Ideal.Value.run_blocks m g)
    obtain ⟨h0, h1, h2, h3, h4⟩ := h d
    exact ⟨h0.trans (y_eq m d), h1.trans (yb_eq m d), h2.trans (xhat_eq m d), h3.trans (rstd_eq m d), h4⟩
  · refine (θ_run _ _ _).mono (fun r h d => ?_) (Cert.Reference8Ideal.Value.run m' g')
    obtain ⟨h0, h1, h2, h3, h4⟩ := h d
    obtain ⟨a0, a1, a2, a3, a4⟩ := hArgs d
    refine ⟨h0.trans ?_, h1.trans ?_, h2.trans ?_, h3.trans ?_, h4⟩
    all_goals clear h0 h1 h2 h3 h4 h
    · unfold Cert.Reference8Ideal.Value.res_main_v29
      rw [a0, a1, a2, a3, a4]
      funext y
      unfold outY normed xhat rstd centred mean res row
      pointwise
    · unfold Cert.Reference8Ideal.Value.res_main_v30
      rw [a0, a1, a2, a3, a4]
      funext y
      unfold outY normed xhat rstd centred mean res row
      pointwise
    · rw [a0, a1, a2]
      funext y
      unfold outXhat xhat rstd centred mean res row
      pointwise
    · rw [a0, a1, a2]
      funext y
      unfold outRstd rstd centred mean res row
      pointwise

end Cert.Ffn.Down
end
-- ==== Proof.Mix.In.lean ====
/- The product into the mixing layer: the kernel's result is the reference's. -/
module

public import proofs.«01_k».proof.Defs
public import proofs.«01_k».proof.Proof.Gen.Kernel9Ideal.Value
public import proofs.«01_k».proof.Proof.Gen.Reference9Ideal.Run
public import Idealize.ShloMosaic.Lib.Pipeline.ValueKit
public import Idealize.ShloMosaic.Lib.Pointwise

@[expose] public section

set_option maxRecDepth 16384

noncomputable section

namespace Cert.Mix.In

open Idealize.ShloMosaic
open Idealize.ShloMosaic.TcCoe Idealize.ShloMosaic.Tactic
open Cert.Kernel9Ideal Cert.Kernel9Ideal.Gen

/-- The product of a block of rows with a block of columns, at an element. -/
theorem pay_apply (x : Vec Ideal S512x2048 .bf16) (w : Vec Ideal S2048x1024 .bf16) (y : S512x1024.Idx) :
    k0_pay2 (F := Ideal) x w y = ∑ k : Fin 2048, x (ix2 (y 0) k) * w (ix2 k (y 1)) := by
  pointwise [k0_pay2, k0_pay1]

variable (m : (ℓ : Loc nD τ sig) → Buf (Elt Ideal) ℓ) (c : Dev nD)

/-- Where the blocks of a grid point start: rows by the point's first coordinate, columns by its second. -/
theorem index_eq : ∀ t : Fin cfg0.N, win0_0.index t = ![t.val / 9, 0] ∧ win0_1.index t = ![0, t.val % 9]
    ∧ win0_2.index t = ![t.val / 9, t.val % 9] :=
  (by decide +kernel : ∀ t : Fin grid0.N, _)

/-- The product of two whole arrays. -/
def product (x : S2048x2048.Idx → EReal) (w : S2048x9216.Idx → EReal) (y : S2048x9216.Idx) : EReal :=
  ∑ k : Fin 2048, x (ix2 (y 0) k) * w (ix2 k (y 1))

/-- The result array is the product of the two arguments. -/
theorem array_eq : (dats m 0 c).arrAt 2 cfg0.N
    = product (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  refine (pay_apply _ _ y).trans (Fin.sum_fin_congr fun k => ?_)
  congr 1
  · blk_simp [iblk]
    rw [V_main_arg0]
    congr 1
    blk_ext [(index_eq t).1, (index_eq t).2.2]
  · blk_simp [iblk]
    rw [V_main_arg1]
    congr 1
    blk_ext [(index_eq t).2.1, (index_eq t).2.2]

/-- The reference's product is the same. -/
theorem ref_eq (x : FVec Ideal Cert.Reference9Ideal.S2048x2048 .bf16) (w : FVec Ideal Cert.Reference9Ideal.S2048x9216 .bf16) :
    Host.dotGeneral (F := Ideal) Cert.Reference9Ideal.dot_S2048x2048_S2048x9216_S2048x9216_1_0_0_1_n_n none
      (extf .f32 x Cert.Reference9Ideal.Facts₀.bitsLt_bf16_f32) (extf .f32 w Cert.Reference9Ideal.Facts₀.bitsLt_bf16_f32) = product x w := by
  funext y
  unfold product
  pointwise

/-- The claim: the kernel's result is the reference's. -/
theorem algebraic : Cert.algebraic_Kernel9Ideal_Reference9Ideal := by
  intro m g m' g' _ hArgs
  refine ⟨fun d => product (m ((d.tc : Thread nD τ).loc main_arg0)) (m ((d.tc : Thread nD τ).loc main_arg1)), ?_, ?_⟩
  · refine (θ_run _ _ _).mono (fun r h d => ?_) (Cert.Kernel9Ideal.Value.run_blocks m g)
    obtain ⟨h0, h1⟩ := h d
    exact ⟨h0.trans (array_eq m d), h1⟩
  · refine (θ_run _ _ _).mono (fun r h d => ?_) (Cert.Reference9Ideal.Value.run m' g')
    obtain ⟨h0, h1⟩ := h d
    obtain ⟨a0, a1⟩ := hArgs d
    refine ⟨h0.trans ?_, h1⟩
    rw [a0, a1]
    exact ref_eq _ _

end Cert.Mix.In

end
-- ==== Proof.Mix.Dx.lean ====
/- The gradient of the mixing layer's input: the kernel's result is the reference's. -/
module
public import proofs.«01_k».proof.Defs
public import proofs.«01_k».proof.Proof.Gen.Kernel10Ideal.Value
public import proofs.«01_k».proof.Proof.Gen.Reference10Ideal.Run
public import Idealize.ShloMosaic.Lib.Pipeline.ValueKit
public import Idealize.ShloMosaic.Lib.Pipeline.ReadBack
public import Idealize.ShloMosaic.Lib.Pointwise

@[expose] public section
set_option maxRecDepth 16384

noncomputable section
namespace Cert.Mix.Dx
open Idealize.ShloMosaic
open Idealize.ShloMosaic.TcCoe Idealize.ShloMosaic.Tactic
open Cert.Kernel10Ideal Cert.Kernel10Ideal.Gen

/-- One block's products summed over its columns. -/
def part (g : S512x2304.Idx → EReal) (w : S1024x2304.Idx → EReal) (y : S512x1024.Idx) : EReal :=
  ∑ k : Fin 2304, g (ix2 (y 0) k) * w (ix2 (y 1) k)

/-- The first block of columns starts the sum. -/
theorem first_apply (g : Vec Ideal S512x2304 .bf16) (w : Vec Ideal S1024x2304 .bf16) (y : S512x1024.Idx) :
    k0_pay2 (F := Ideal) g w y = part g w y := by
  unfold part
  pointwise [k0_pay2, k0_pay1]

/-- Every later block of columns adds to it. -/
theorem next_apply (g : Vec Ideal S512x2304 .bf16) (w : Vec Ideal S1024x2304 .bf16) (a : Vec Ideal S512x1024 .f32) (y : S512x1024.Idx) :
    k0_pay3 (F := Ideal) g w a y = a y + part g w y := by
  unfold part
  pointwise [k0_pay3, k0_pay1]

/-- The scale of the residual branch's gradient. -/
def alpha : EReal := Scalar.ofBits (F := Ideal) .f32 0x3FD744FD#32

/-- What is stored: the scaled gradient of the branch, the other branch's gradient and the sum held. -/
theorem last_apply (a z b : Vec Ideal S512x1024 .f32) (y : S512x1024.Idx) :
    k0_pay4 (F := Ideal) a z b y = alpha * z y + b y + a y := by
  unfold alpha
  pointwise [k0_pay4]

variable (m : (ℓ : Loc nD τ sig) → Buf (Elt Ideal) ℓ) (c : Dev nD)

/-- Which blocks point `t` reads and writes: block `t % 4` of the columns summed over, block `t / 8` of the rows
    and block `t / 4 % 2` of the columns of the result. -/
theorem index_eq : ∀ t : Fin cfg0.N, win0_0.index t = ![t.val / 8, t.val % 4] ∧ win0_1.index t = ![t.val / 4 % 2, t.val % 4]
    ∧ win0_2.index t = ![t.val / 8, t.val / 4 % 2] ∧ win0_3.index t = ![t.val / 8, t.val / 4 % 2]
    ∧ win0_4.index t = ![t.val / 8, t.val / 4 % 2] := (by decide +kernel : ∀ t : Fin grid0.N, _)

/-- The blocks' products at point `t`. -/
def term (t : Fin cfg0.N) (y : S512x1024.Idx) : EReal := part (iblk m c 0 t) (iblk m c 1 t) y

/-- At the last point of a round of four the sum held is the sum of the round's four terms. -/
theorem held_eq (t : Fin cfg0.N) (hr : t.val % 4 = 4 - 1) (y : S512x1024.Idx) :
    (outsAt0 m c t.val t.isLt).2 y
      = ∑ s : Fin 4, term m c ⟨4 * (t.val / 4) + s.val, Pipeline.run_point_lt_of_flush t hr s⟩ y := by
  have key := Pipeline.eq_sum_fin_of_reset_step_apply_of_flush (fun n h => (outsAt0 m c n h).2) 4 (fun _ => 0)
    (term m c) (fun t h0 i => ?_) (fun t h0 i => ?_) t hr y
  · rw [key, zero_add]
  · rw [outsAt0_A m c t h0 (by omega) (by omega), zero_add]
    frame_out
    exact first_apply _ _ i
  · by_cases h2 : t.val % 4 = 3
    · rw [outsAt0_C m c t h0 (by omega) h2]
      frame_out
      exact (next_apply _ _ _ i).trans (by rw [read_unread_whole]; rfl)
    · rw [outsAt0_B m c t h0 (by omega) h2]
      frame_out
      exact (next_apply _ _ _ i).trans (by rw [read_unread_whole]; rfl)

/-- What is stored at the last point of a round: the sum held there beside the two other gradients. -/
theorem stored_eq (t : Fin cfg0.N) (hr : t.val % 4 = 4 - 1) (y : S512x1024.Idx) :
    (outsAt0 m c t.val t.isLt).1 y = alpha * iblk m c 2 t y + iblk m c 3 t y + (outsAt0 m c t.val t.isLt).2 y := by
  rw [outsAt0_C m c t (by omega) (by omega) hr]
  frame_out
  exact last_apply _ _ _ y

/-- The gradient of the layer's input: the two other branches' gradients, and the gradient of the layer's output
    against the weights. -/
def total (g w : S2048x9216.Idx → EReal) (z b : S2048x2048.Idx → EReal) (y : S2048x2048.Idx) : EReal :=
  alpha * z y + b y + ∑ k : Fin 9216, g (ix2 (y 0) k) * w (ix2 (y 1) k)

/-- The array the grid leaves is that gradient. -/
theorem array_eq : (dats m 0 c).arrAt 4 cfg0.N
    = total (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  have hr : t.val % 4 = 4 - 1 := (flush0_4 t).mp hf
  blk_simp
  rw [after0_4, stored_eq m c t hr, held_eq m c t hr]
  unfold term part total
  refine congrArg₂ _ (congrArg₂ _ (congrArg _ ?_) ?_) (Fin.sum_mul_add_congr fun s k hl => ?_)
  · blk_simp [iblk]; rw [V_main_arg2]; congr 1; blk_ext [(index_eq t).2.2.1, (index_eq t).2.2.2.2]
  · blk_simp [iblk]; rw [V_main_arg3]; congr 1; blk_ext [(index_eq t).2.2.2.1, (index_eq t).2.2.2.2]
  congr 1
  · blk_simp [iblk]; rw [V_main_arg0]; congr 1; blk_ext [(index_eq _).1, (index_eq _).2.2.2.2]
  · blk_simp [iblk]; rw [V_main_arg1]; congr 1; blk_ext [(index_eq _).2.1, (index_eq _).2.2.2.2]

/-- The kernel and the reference, started on the same arguments, end with the same gradient. -/
theorem algebraic : Cert.algebraic_Kernel10Ideal_Reference10Ideal := by
  intro m g m' g' _ hArgs
  refine ⟨fun d => total (m ((d.tc : Thread nD τ).loc main_arg0)) (m ((d.tc : Thread nD τ).loc main_arg1))
    (m ((d.tc : Thread nD τ).loc main_arg2)) (m ((d.tc : Thread nD τ).loc main_arg3)), ?_, ?_⟩
  · refine (θ_run _ _ _).mono (fun r h d => ?_) (Cert.Kernel10Ideal.Value.run_blocks m g)
    obtain ⟨h0, h1⟩ := h d
    exact ⟨h0.trans (array_eq m d), h1⟩
  · refine (θ_run _ _ _).mono (fun r h d => ?_) (Cert.Reference10Ideal.Value.run m' g')
    obtain ⟨h0, h1⟩ := h d
    obtain ⟨a0, a1, a2, a3⟩ := hArgs d
    refine ⟨h0.trans ?_, h1⟩
    rw [a0, a1, a2, a3]
    funext y
    unfold total alpha
    pointwise
    rw [add_comm, ← add_assoc]

end Cert.Mix.Dx
end
-- ==== Proof.Mix.Dw.lean ====
/- The gradient of the mixing layer's weights: the kernel's result is the reference's. -/
module
public import proofs.«01_k».proof.Defs
public import proofs.«01_k».proof.Proof.Gen.Kernel11Ideal.Value
public import proofs.«01_k».proof.Proof.Gen.Reference11Ideal.Run
public import Idealize.ShloMosaic.Lib.Pipeline.ValueKit
public import Idealize.ShloMosaic.Lib.Pointwise

@[expose] public section
set_option maxRecDepth 16384

noncomputable section
namespace Cert.Mix.Dw
open Idealize.ShloMosaic
open Idealize.ShloMosaic.TcCoe Idealize.ShloMosaic.Tactic
open Cert.Kernel11Ideal Cert.Kernel11Ideal.Gen

/-- A block of the product, entry by entry: a row of the first block against a column of the second. The cast of
    the stored block changes nothing over the extended reals. -/
theorem pay_apply (x : Vec Ideal S512x2048 .bf16) (w : Vec Ideal S2048x1024 .bf16) (y : S512x1024.Idx) :
    k0_pay4 (F := Ideal) (k0_pay2 x w) y = ∑ k : Fin 2048, x (ix2 (y 0) k) * w (ix2 k (y 1)) := by
  pointwise [k0_pay4, k0_pay2, k0_pay1]

variable (m : (ℓ : Loc nD τ sig) → Buf (Elt Ideal) ℓ) (c : Dev nD)

/-- Which blocks point `t` reads and writes: rows `t / 9`, columns `t % 9`. -/
theorem index_eq : ∀ t : Fin cfg0.N, win0_0.index t = ![t.val / 9, 0] ∧ win0_1.index t = ![0, t.val % 9]
    ∧ win0_2.index t = ![t.val / 9, t.val % 9] := (by decide +kernel : ∀ t : Fin grid0.N, _)

/-- The layer's input as the grid reads it: transposed on the host. -/
theorem V_x (y : S2048x2048.Idx) : V m c main_v0 y = m ((c : Thread nD τ).loc main_arg0) (ix2 (y 1) (y 0)) := by
  have h : V m c main_v0 = transpose S2048x2048 [1, 0] (m ((c : Thread nD τ).loc main_arg0)) transposes_S2048x2048_S2048x2048_1_0 := by
    unfold_abbrev_sides
    after_results
  rw [h]
  pointwise

/-- The gradient of the weights: over all tokens, the layer's input against the gradient of its output. -/
def product (x : S2048x2048.Idx → EReal) (w : S2048x9216.Idx → EReal) (y : S2048x9216.Idx) : EReal :=
  ∑ k : Fin 2048, x (ix2 k (y 0)) * w (ix2 k (y 1))

/-- The array the grid leaves is the product. -/
theorem array_eq : (dats m 0 c).arrAt 2 cfg0.N
    = product (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  refine (pay_apply _ _ y).trans (Fin.sum_fin_congr fun k => ?_)
  congr 1
  · blk_simp [iblk]; rw [V_x]; congr 1; blk_ext [(index_eq t).1, (index_eq t).2.2]
  · blk_simp [iblk]; rw [V_main_arg1]; congr 1; blk_ext [(index_eq t).2.1, (index_eq t).2.2]

/-- The kernel and the reference, started on the same arguments, end with the same gradient. -/
theorem algebraic : Cert.algebraic_Kernel11Ideal_Reference11Ideal := by
  intro m g m' g' _ hArgs
  refine ⟨fun d => product (m ((d.tc : Thread nD τ).loc main_arg0)) (m ((d.tc : Thread nD τ).loc main_arg1)), ?_, ?_⟩
  · refine (θ_run _ _ _).mono (fun r h d => ?_) (Cert.Kernel11Ideal.Value.run_blocks m g)
    obtain ⟨h0, h1⟩ := h d
    exact ⟨h0.trans (array_eq m d), h1⟩
  · refine (θ_run _ _ _).mono (fun r h d => ?_) (Cert.Reference11Ideal.Value.run m' g')
    obtain ⟨h0, h1⟩ := h d
    obtain ⟨a0, a1⟩ := hArgs d
    refine ⟨h0.trans ?_, h1⟩
    rw [a0, a1]
    funext y
    unfold product
    pointwise
    exact Finset.sum_congr rfl fun k _ => mul_comm _ _

end Cert.Mix.Dw
end
-- ==== Proof.Mix.Ssm.lean ====
/- A branch's projection: the kernel's result is the reference's. -/
module
public import proofs.«01_k».proof.Defs
public import proofs.«01_k».proof.Proof.Gen.Kernel42Ideal.Value
public import proofs.«01_k».proof.Proof.Gen.Reference42Ideal.Run
public import Idealize.ShloMosaic.Lib.Pipeline.ValueKit
public import Idealize.ShloMosaic.Lib.Pointwise

@[expose] public section
set_option maxRecDepth 16384

noncomputable section
namespace Cert.Mix.Ssm
open Idealize.ShloMosaic
open Idealize.ShloMosaic.TcCoe Idealize.ShloMosaic.Tactic
open Cert.Kernel42Ideal Cert.Kernel42Ideal.Gen

/-- The product of a block of rows with a slot of the weights, entry by entry. -/
theorem pay_apply (x : Vec Ideal S512x1024 .bf16) (w : Vec Ideal S1x1024x256 .bf16) (y : S512x256.Idx) :
    k0_pay2 (F := Ideal) x w y = ∑ k : Fin 1024, x (ix2 (y 0) k) * w (ix3 0 k (y 1)) := by
  pointwise [k0_pay2, k0_pay1]

variable (m : (ℓ : Loc nD τ sig) → Buf (Elt Ideal) ℓ) (c : Dev nD)

/-- Which blocks point `t` reads and writes: block `t / 8` of the rows, slot `t % 8` of the columns. -/
theorem index_eq : ∀ t : Fin cfg0.N, win0_0.index t = ![t.val / 8, 0] ∧ win0_1.index t = ![t.val % 8, 0, 0]
    ∧ win0_2.index t = ![t.val / 8, t.val % 8] := (by decide +kernel : ∀ t : Fin grid0.N, _)

/-- The product of the rows with the weights, whose columns lie in eight slots of 256. -/
def product (x : S2048x1024.Idx → EReal) (w : S8x1024x256.Idx → EReal) (y : S2048x2048.Idx) : EReal :=
  ∑ k : Fin 1024, x (ix2 (y 0) k)
    * w (ix3 ⟨(y 1).val / 256, by have : (y 1).val < 2048 := (y 1).isLt; omega⟩ k ⟨(y 1).val % 256, by omega⟩)

/-- The array the grid leaves is the product. -/
theorem array_eq : (dats m 0 c).arrAt 2 cfg0.N = product (m ((c : Thread nD τ).loc main_arg0)) (m ((c : Thread nD τ).loc main_arg1)) := by
  refine (dats m 0 c).arrAt_eq_of_covers 2 _ (by decide +kernel) fun t _ y => ?_
  have hy : (y 1).val < 256 := (y 1).isLt
  blk_simp
  rw [after0_2]
  unfold outsAt0
  frame_out
  refine (pay_apply _ _ y).trans (Fin.sum_fin_congr fun k => ?_)
  congr 1
  · blk_simp [iblk]; rw [V_main_arg0]; congr 1; blk_ext [(index_eq t).1, (index_eq t).2.2]
  · blk_simp [iblk]; rw [V_main_arg1]; congr 1; blk_ext [(index_eq t).2.1, (index_eq t).2.2]

/-- The kernel and the reference, started on the same arguments, end with the same result. -/
theorem algebraic : Cert.algebraic_Kernel42Ideal_Reference42Ideal := by
  intro m g m' g' _ hArgs
  refine ⟨fun d => product (m ((d.tc : Thread nD τ).loc main_arg0)) (m ((d.tc : Thread nD τ).loc main_arg1)), ?_, ?_⟩
  · refine (θ_run _ _ _).mono (fun r h d => ?_) (Cert.Kernel42Ideal.Value.run_blocks m g)
    obtain ⟨h0, h1⟩ := h d
    exact ⟨h0.trans (array_eq m d), h1⟩
  · refine (θ_run _ _ _).mono (fun r h d => ?_) (Cert.Reference42Ideal.Value.run m' g')
    obtain ⟨h0, h1⟩ := h d
    obtain ⟨a0, a1⟩ := hArgs d
    refine ⟨h0.trans ?_, h1⟩
    rw [a0, a1]
    funext y
    unfold product
    pointwise

end Cert.Mix.Ssm
end
-- ==== Proof.Mix.Merge.lean ====
/- The second branch's projection and the merge of the branches: the kernel's results are the reference's. -/
module
public import proofs.«01_k».proof.Defs
public import proofs.«01_k».proof.Proof.Gen.Kernel43Ideal.Value
public import proofs.«01_k».proof.Proof.Gen.Reference43Ideal.Run
public import Idealize.ShloMosaic.Lib.Pipeline.ValueKit
public import Idealize.ShloMosaic.Lib.Pointwise

@[expose] public section
set_option maxRecDepth 16384

noncomputable section
namespace Cert.Mix.Merge
open Idealize.ShloMosaic
open Idealize.ShloMosaic.TcCoe Idealize.ShloMosaic.Tactic
open Cert.Kernel43Ideal Cert.Kernel43Ideal.Gen

/-- A block of the product: a row of the branch's output against a column of the weights' slot. -/
def part (x : S512x1024.Idx → EReal) (w : S1x1024x256.Idx → EReal) (y : S512x256.Idx) : EReal :=
  ∑ k : Fin 1024, x (ix2 (y 0) k) * w (ix3 0 k (y 1))

/-- The merge of two branches `a` and `b` by their gates `g` and `h`. -/
def merged (g h a b : EReal) : EReal := Ideal.logistic g * a + Ideal.logistic h * b

/-- The block stored first is the product. -/
theorem part_apply (x : Vec Ideal S512x1024 .bf16) (w : Vec Ideal S1x1024x256 .bf16) (y : S512x256.Idx) :
    k0_pay2 (F := Ideal) x w y = part x w y := by
  unfold part
  pointwise [k0_pay2, k0_pay1]

/-- The block stored second is the merge of the first branch and the product. -/
theorem merged_apply (x : Vec Ideal S512x1024 .bf16) (w : Vec Ideal S1x1024x256 .bf16) (g h a : Vec Ideal S512x256 .f32)
    (y : S512x256.Idx) : k0_pay4 (F := Ideal) (k0_pay2 x w) g h a y = merged (g y) (h y) (a y) (part x w y) := by
  unfold part merged
  pointwise [k0_pay4, k0_pay2, k0_pay1]

variable (m : (ℓ : Loc nD τ sig) → Buf (Elt Ideal) ℓ) (c : Dev nD)

/-- Which blocks point `t` reads and writes: block `t / 8` of the rows, slot `t % 8` of the columns; the gates' slots
    are the twentieth and the twenty-eighth of the input projection and those that follow. -/
theorem index_eq : ∀ t : Fin cfg0.N, win0_0.index t = ![t.val / 8, 0] ∧ win0_1.index t = ![t.val % 8, 0, 0]
    ∧ win0_2.index t = ![t.val / 8, t.val % 8] ∧ win0_3.index t = ![t.val / 8, t.val % 8 + 20]
    ∧ win0_4.index t = ![t.val / 8, t.val % 8 + 28] ∧ win0_5.index t = ![t.val / 8, t.val % 8]
    ∧ win0_6.index t = ![t.val / 8, t.val % 8] := (by decide +kernel : ∀ t : Fin grid0.N, _)

/-- The product of the branch's output with the weights, whose columns lie in eight slots of 256. -/
def product (x : S2048x1024.Idx → EReal) (w : S8x1024x256.Idx → EReal) (y : S2048x2048.Idx) : EReal :=
  ∑ k : Fin 1024, x (ix2 (y 0) k)
    * w (ix3 ⟨(y 1).val / 256, by have : (y 1).val < 2048 := (y 1).isLt; omega⟩ k ⟨(y 1).val % 256, by omega⟩)

/-- The merge, the gates taken from columns 5120 and 7168 of the input projection on. -/
def total (x : S2048x1024.Idx → EReal) (w : S8x1024x256.Idx → EReal) (a : S2048x2048.Idx → EReal)
    (p : S2048x9216.Idx → EReal) (y : S2048x2048.Idx) : EReal :=
  have h : (y 1).val < 2048 := (y 1).isLt
  merged (p (ix2 (y 0) ⟨5120 + (y 1).val, by omega⟩)) (p (ix2 (y 0) ⟨7168 + (y 1).val, by omega⟩)) (a y) (product x w y)

/-- The product at point `t`, as an entry of the whole product. -/
theorem product_part (t : Fin cfg0.N) (y : S512x256.Idx) (Y : S2048x2048.Idx)
    (h0 : (Y 0).val = t.val / 8 * 512 + (y 0).val) (h1 : (Y 1).val = t.val % 8 * 256 + (y 1).val) :
    part (iblk m c 0 t) (iblk m c 1 t) y = product (m ((c : Thread nD τ).loc main_arg0)) (m ((c : Thread nD τ).loc main_arg1)) Y := by
  have hy : (y 1).val < 256 := (y 1).isLt
  unfold part product
  refine Fin.sum_fin_congr fun k => ?_
  congr 1
  · blk_simp [iblk]; rw [V_main_arg0]; congr 1; blk_ext [(index_eq t).1]
  · blk_simp [iblk]; rw [V_main_arg1]; congr 1; blk_ext [(index_eq t).2.1]

/-- The first array the grid leaves is the product. -/
theorem product_eq : (dats m 0 c).arrAt 5 cfg0.N = product (m ((c : Thread nD τ).loc main_arg0)) (m ((c : Thread nD τ).loc main_arg1)) := by
  refine (dats m 0 c).arrAt_eq_of_covers 5 _ (by decide +kernel) fun t _ y => ?_
  blk_simp
  rw [after0_5]
  unfold outsAt0
  frame_out
  refine (part_apply _ _ y).trans (product_part m c t y _ ?_ ?_) <;> blk_simp [(index_eq t).2.2.2.2.2.1]

/-- The second is the merge. -/
theorem merged_eq : (dats m 0 c).arrAt 6 cfg0.N = total (m ((c : Thread nD τ).loc main_arg0)) (m ((c : Thread nD τ).loc main_arg1))
    (m ((c : Thread nD τ).loc main_arg2)) (m ((c : Thread nD τ).loc main_arg3)) := by
  refine (dats m 0 c).arrAt_eq_of_covers 6 _ (by decide +kernel) fun t _ y => ?_
  blk_simp
  rw [after0_6]
  unfold outsAt0
  frame_out
  refine (merged_apply _ _ _ _ _ y).trans ?_
  unfold total
  dsimp only
  congr 1
  · blk_simp [iblk]; rw [V_main_arg3]; congr 1; blk_ext [(index_eq t).2.2.2.1, (index_eq t).2.2.2.2.2.2]
  · blk_simp [iblk]; rw [V_main_arg3]; congr 1; blk_ext [(index_eq t).2.2.2.2.1, (index_eq t).2.2.2.2.2.2]
  · refine product_part m c t y _ ?_ ?_ <;> blk_simp [(index_eq t).2.2.2.2.2.2]

/-- The kernel and the reference, started on the same arguments, end with the same result. -/
theorem algebraic : Cert.algebraic_Kernel43Ideal_Reference43Ideal := by
  intro m g m' g' _ hArgs
  refine ⟨fun d => product (m ((d.tc : Thread nD τ).loc main_arg0)) (m ((d.tc : Thread nD τ).loc main_arg1)),
    fun d => total (m ((d.tc : Thread nD τ).loc main_arg0)) (m ((d.tc : Thread nD τ).loc main_arg1)) (m ((d.tc : Thread nD τ).loc main_arg2)) (m ((d.tc : Thread nD τ).loc main_arg3)), ?_, ?_⟩
  · refine (θ_run _ _ _).mono (fun r h d => ?_) (Cert.Kernel43Ideal.Value.run_blocks m g)
    obtain ⟨h0, h1, h2⟩ := h d
    exact ⟨h0.trans (product_eq m d), h1.trans (merged_eq m d), h2⟩
  · refine (θ_run _ _ _).mono (fun r h d => ?_) (Cert.Reference43Ideal.Value.run m' g')
    obtain ⟨h0, h1, h2⟩ := h d
    obtain ⟨a0, a1, a2, a3⟩ := hArgs d
    refine ⟨h0.trans ?_, h1.trans ?_, h2⟩
    all_goals
      clear h0 h1 h2 h
      rw [a0, a1]
    · funext y
      unfold product
      pointwise
    · rw [a2, a3]
      funext y
      unfold total merged product Ideal.logistic
      pointwise

end Cert.Mix.Merge
end
-- ==== Proof.Mix.DMerge.lean ====
/- The gradients of the merge of the branches: the kernel's results are the reference's. -/
module
public import proofs.«01_k».proof.Defs
public import proofs.«01_k».proof.Proof.Gen.Kernel44Ideal.Value
public import proofs.«01_k».proof.Proof.Gen.Reference44Ideal.Run
public import Idealize.ShloMosaic.Lib.Pipeline.ValueKit
public import Idealize.ShloMosaic.Lib.Pointwise

@[expose] public section
set_option maxRecDepth 16384

noncomputable section
namespace Cert.Mix.DMerge
open Idealize.ShloMosaic
open Idealize.ShloMosaic.TcCoe Idealize.ShloMosaic.Tactic
open Cert.Kernel44Ideal Cert.Kernel44Ideal.Gen

/-- A block of the merge's gradient: a row of the output's gradient against a row of the output weights. -/
def part (g w : S512x2048.Idx → EReal) (y : S512x512.Idx) : EReal := ∑ k : Fin 2048, g (ix2 (y 0) k) * w (ix2 (y 1) k)

/-- A branch's gradient from the merge's gradient `d` and the branch's gate `g`. -/
def branchGrad (d g : EReal) : EReal := Ideal.logistic g * d

/-- A gate's gradient from the merge's gradient `d`, the gate `g` and its branch `a`. -/
def gateGrad (d g a : EReal) : EReal := d * a * (Ideal.logistic g * (1 - Ideal.logistic g))

/-- The blocks stored first and second are the branches' gradients. -/
theorem branch_apply (x w : Vec Ideal S512x2048 .bf16) (g : Vec Ideal S512x512 .f32) (y : S512x512.Idx) :
    k0_pay8 (F := Ideal) (k0_pay2 x w) g y = branchGrad (part x w y) (g y)
      ∧ k0_pay9 (F := Ideal) (k0_pay2 x w) g y = branchGrad (part x w y) (g y) := by
  unfold part branchGrad
  constructor <;> pointwise [k0_pay9, k0_pay8, k0_pay7, k0_pay6, k0_pay5, k0_pay4, k0_pay2, k0_pay1]

/-- The blocks stored third and fourth are the gates' gradients. -/
theorem gate_apply (x w : Vec Ideal S512x2048 .bf16) (g a : Vec Ideal S512x512 .f32) (y : S512x512.Idx) :
    k0_pay10 (F := Ideal) (k0_pay2 x w) g a y = gateGrad (part x w y) (g y) (a y)
      ∧ k0_pay11 (F := Ideal) (k0_pay2 x w) g a y = gateGrad (part x w y) (g y) (a y) := by
  unfold part gateGrad
  constructor <;> pointwise [k0_pay11, k0_pay10, k0_pay7, k0_pay6, k0_pay5, k0_pay4, k0_pay2, k0_pay1]

variable (m : (ℓ : Loc nD τ sig) → Buf (Elt Ideal) ℓ) (c : Dev nD)

/-- Which blocks point `t` reads and writes: block `t / 4` of the rows, block `t % 4` of the columns; the gates' blocks
    are the tenth and the fourteenth of the input projection and those that follow. -/
theorem index_eq : ∀ t : Fin cfg0.N, (win0_0.index t = ![t.val / 4, 0] ∧ win0_1.index t = ![t.val % 4, 0]
    ∧ win0_2.index t = ![t.val / 4, t.val % 4 + 10] ∧ win0_3.index t = ![t.val / 4, t.val % 4 + 14]
    ∧ win0_4.index t = ![t.val / 4, t.val % 4] ∧ win0_5.index t = ![t.val / 4, t.val % 4])
    ∧ win0_6.index t = ![t.val / 4, t.val % 4] ∧ win0_7.index t = ![t.val / 4, t.val % 4]
    ∧ win0_8.index t = ![t.val / 4, t.val % 4] ∧ win0_9.index t = ![t.val / 4, t.val % 4] :=
  (by decide +kernel : ∀ t : Fin grid0.N, _)

/-- The gradient of the merge. -/
def total (g w : S2048x2048.Idx → EReal) (y : S2048x2048.Idx) : EReal :=
  ∑ k : Fin 2048, g (ix2 (y 0) k) * w (ix2 (y 1) k)

/-- The gates' columns of the input projection: the first branch's from 5120 on, the second's from 7168 on. -/
def gate (s : Fin 2) (p : S2048x9216.Idx → EReal) (y : S2048x2048.Idx) : EReal :=
  p (ix2 (y 0) ⟨5120 + s.val * 2048 + (y 1).val, by have : (y 1).val < 2048 := (y 1).isLt; omega⟩)

/-- The gradient of branch `s`. -/
def branches (s : Fin 2) (g w : S2048x2048.Idx → EReal) (p : S2048x9216.Idx → EReal) (y : S2048x2048.Idx) : EReal :=
  branchGrad (total g w y) (gate s p y)

/-- The gradient of the gate of branch `s`. -/
def gates (s : Fin 2) (g w : S2048x2048.Idx → EReal) (p : S2048x9216.Idx → EReal) (a : S2048x2048.Idx → EReal)
    (y : S2048x2048.Idx) : EReal :=
  gateGrad (total g w y) (gate s p y) (a y)

/-- What the blocks read at point `t` hold of the whole arrays, at the place that the point writes. -/
theorem parts (t : Fin cfg0.N) (y : S512x512.Idx) (Y : S2048x2048.Idx)
    (h0 : (Y 0).val = t.val / 4 * 512 + (y 0).val) (h1 : (Y 1).val = t.val % 4 * 512 + (y 1).val) :
    part (iblk m c 0 t) (iblk m c 1 t) y = total (m ((c : Thread nD τ).loc main_arg0)) (m ((c : Thread nD τ).loc main_arg1)) Y
    ∧ iblk m c 2 t y = gate 0 (m ((c : Thread nD τ).loc main_arg2)) Y ∧ iblk m c 3 t y = gate 1 (m ((c : Thread nD τ).loc main_arg2)) Y
    ∧ iblk m c 4 t y = m ((c : Thread nD τ).loc main_arg3) Y ∧ iblk m c 5 t y = m ((c : Thread nD τ).loc main_arg4) Y := by
  unfold part total gate
  refine ⟨Fin.sum_fin_congr fun k => congrArg₂ _ ?_ ?_, ?_, ?_, ?_, ?_⟩
  · blk_simp [iblk]; rw [V_main_arg0]; congr 1; blk_ext [(index_eq t).1.1]
  · blk_simp [iblk]; rw [V_main_arg1]; congr 1; blk_ext [(index_eq t).1.2.1]
  · blk_simp [iblk]; rw [V_main_arg2]; congr 1; blk_ext [(index_eq t).1.2.2.1]
  · blk_simp [iblk]; rw [V_main_arg2]; congr 1; blk_ext [(index_eq t).1.2.2.2.1]
  · blk_simp [iblk]; rw [V_main_arg3]; congr 1; blk_ext [(index_eq t).1.2.2.2.2.1]
  · blk_simp [iblk]; rw [V_main_arg4]; congr 1; blk_ext [(index_eq t).1.2.2.2.2.2]

/-- The first array the grid leaves is the first branch's gradient. -/
theorem branch0_eq : (dats m 0 c).arrAt 6 cfg0.N = branches 0 (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  unfold outsAt0
  frame_out
  refine (branch_apply _ _ _ y).1.trans (congrArg₂ _ (parts m c t y _ ?_ ?_).1 (parts m c t y _ ?_ ?_).2.1)
  all_goals blk_simp [(index_eq t).2.1]

/-- The second is the second branch's gradient. -/
theorem branch1_eq : (dats m 0 c).arrAt 7 cfg0.N = branches 1 (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  unfold outsAt0
  frame_out
  refine (branch_apply _ _ _ y).2.trans (congrArg₂ _ (parts m c t y _ ?_ ?_).1
    (parts m c t y _ ?_ ?_).2.2.1)
  all_goals blk_simp [(index_eq t).2.2.1]

/-- The third is the gradient of the first branch's gate. -/
theorem gate0_eq : (dats m 0 c).arrAt 8 cfg0.N = gates 0 (m ((c : Thread nD τ).loc main_arg0)) (m ((c : Thread nD τ).loc main_arg1))
    (m ((c : Thread nD τ).loc main_arg2)) (m ((c : Thread nD τ).loc main_arg3)) := by
  refine (dats m 0 c).arrAt_eq_of_covers 8 _ (by decide +kernel) fun t _ y => ?_
  blk_simp
  rw [after0_8]
  unfold outsAt0
  frame_out
  refine (gate_apply _ _ _ _ y).1.trans (congr (congrArg₂ _ (parts m c t y _ ?_ ?_).1
    (parts m c t y _ ?_ ?_).2.1) (parts m c t y _ ?_ ?_).2.2.2.1)
  all_goals blk_simp [(index_eq t).2.2.2.1]

/-- The fourth is the gradient of the second's. -/
theorem gate1_eq : (dats m 0 c).arrAt 9 cfg0.N = gates 1 (m ((c : Thread nD τ).loc main_arg0)) (m ((c : Thread nD τ).loc main_arg1))
    (m ((c : Thread nD τ).loc main_arg2)) (m ((c : Thread nD τ).loc main_arg4)) := by
  refine (dats m 0 c).arrAt_eq_of_covers 9 _ (by decide +kernel) fun t _ y => ?_
  blk_simp
  rw [after0_9]
  unfold outsAt0
  frame_out
  refine (gate_apply _ _ _ _ y).2.trans (congr (congrArg₂ _ (parts m c t y _ ?_ ?_).1
    (parts m c t y _ ?_ ?_).2.2.1) (parts m c t y _ ?_ ?_).2.2.2.2)
  all_goals blk_simp [(index_eq t).2.2.2.2]

/-- The kernel and the reference, started on the same arguments, end with the same result. -/
theorem algebraic : Cert.algebraic_Kernel44Ideal_Reference44Ideal := by
  intro m g m' g' _ hArgs
  refine ⟨fun d => branches 0 (m ((d.tc : Thread nD τ).loc main_arg0)) (m ((d.tc : Thread nD τ).loc main_arg1)) (m ((d.tc : Thread nD τ).loc main_arg2)),
    fun d => branches 1 (m ((d.tc : Thread nD τ).loc main_arg0)) (m ((d.tc : Thread nD τ).loc main_arg1)) (m ((d.tc : Thread nD τ).loc main_arg2)),
    fun d => gates 0 (m ((d.tc : Thread nD τ).loc main_arg0)) (m ((d.tc : Thread nD τ).loc main_arg1))
      (m ((d.tc : Thread nD τ).loc main_arg2)) (m ((d.tc : Thread nD τ).loc main_arg3)),
    fun d => gates 1 (m ((d.tc : Thread nD τ).loc main_arg0)) (m ((d.tc : Thread nD τ).loc main_arg1))
      (m ((d.tc : Thread nD τ).loc main_arg2)) (m ((d.tc : Thread nD τ).loc main_arg4)), ?_, ?_⟩
  · refine (θ_run _ _ _).mono (fun r h d => ?_) (Cert.Kernel44Ideal.Value.run_blocks m g)
    obtain ⟨h0, h1, h2, h3, h4⟩ := h d
    exact ⟨h0.trans (branch0_eq m d), h1.trans (branch1_eq m d), h2.trans (gate0_eq m d), h3.trans (gate1_eq m d), h4⟩
  · refine (θ_run _ _ _).mono (fun r h d => ?_) (Cert.Reference44Ideal.Value.run m' g')
    obtain ⟨h0, h1, h2, h3, h4⟩ := h d
    obtain ⟨a0, a1, a2, a3, a4⟩ := hArgs d
    refine ⟨h0.trans ?_, h1.trans ?_, h2.trans ?_, h3.trans ?_, h4⟩
    all_goals
      clear h0 h1 h2 h3 h4 h
      rw [a0, a1, a2]
      first | rw [a3] | rw [a4] | skip
      funext y
      try unfold branches branchGrad
      try unfold gates gateGrad
      unfold total gate Ideal.logistic
      pointwise

end Cert.Mix.DMerge
end
-- ==== Proof.Mix.DwOut.lean ====
/- The gradient of the output weights: the kernel's result is the reference's. -/
module
public import proofs.«01_k».proof.Defs
public import proofs.«01_k».proof.Proof.Gen.Kernel45Ideal.Value
public import proofs.«01_k».proof.Proof.Gen.Reference45Ideal.Run
public import Idealize.ShloMosaic.Lib.Pipeline.ValueKit
public import Idealize.ShloMosaic.Lib.Pipeline.ReadBack
public import Idealize.ShloMosaic.Lib.Pointwise

@[expose] public section
set_option maxRecDepth 16384

noncomputable section
namespace Cert.Mix.DwOut
open Idealize.ShloMosaic
open Idealize.ShloMosaic.TcCoe Idealize.ShloMosaic.Tactic
open Cert.Kernel45Ideal Cert.Kernel45Ideal.Gen

/-- One block's products summed over its tokens. -/
def part (h : S512x512.Idx → EReal) (g : S512x2048.Idx → EReal) (y : S512x2048.Idx) : EReal :=
  ∑ k : Fin 512, h (ix2 k (y 0)) * g (ix2 k (y 1))

/-- The first block of tokens starts the sum. -/
theorem first_apply (x : Vec Ideal S512x512 .bf16) (w : Vec Ideal S512x2048 .bf16) (y : S512x2048.Idx) :
    k0_pay2 (F := Ideal) x w y = part x w y := by
  unfold part
  pointwise [k0_pay2, k0_pay1]

/-- Every later block of tokens adds to it. -/
theorem next_apply (x : Vec Ideal S512x512 .bf16) (w : Vec Ideal S512x2048 .bf16) (a : Vec Ideal S512x2048 .f32)
    (y : S512x2048.Idx) : k0_pay3 (F := Ideal) x w a y = a y + part x w y := by
  unfold part
  pointwise [k0_pay3, k0_pay1]

/-- What is stored is the sum: the cast changes nothing over the extended reals. -/
theorem last_apply (a : Vec Ideal S512x2048 .f32) (y : S512x2048.Idx) : k0_pay4 (F := Ideal) a y = a y := by
  pointwise [k0_pay4]

variable (m : (ℓ : Loc nD τ sig) → Buf (Elt Ideal) ℓ) (c : Dev nD)

/-- Which blocks point `t` reads and writes: block `t % 4` of the tokens, block `t / 4` of the merged columns. -/
theorem index_eq : ∀ t : Fin cfg0.N, win0_0.index t = ![t.val % 4, t.val / 4] ∧ win0_1.index t = ![t.val % 4, 0]
    ∧ win0_2.index t = ![t.val / 4, 0] := (by decide +kernel : ∀ t : Fin grid0.N, _)

/-- The blocks' products at point `t`. -/
def term (t : Fin cfg0.N) (y : S512x2048.Idx) : EReal := part (iblk m c 0 t) (iblk m c 1 t) y

/-- At the last point of a round of four the sum held is the sum of the round's four terms. -/
theorem held_eq (t : Fin cfg0.N) (hr : t.val % 4 = 4 - 1) (y : S512x2048.Idx) :
    (outsAt0 m c t.val t.isLt).2 y
      = ∑ s : Fin 4, term m c ⟨4 * (t.val / 4) + s.val, Pipeline.run_point_lt_of_flush t hr s⟩ y := by
  have key := Pipeline.eq_sum_fin_of_reset_step_apply_of_flush (fun n h => (outsAt0 m c n h).2) 4 (fun _ => 0)
    (term m c) (fun t h0 i => ?_) (fun t h0 i => ?_) t hr y
  · rw [key, zero_add]
  · rw [outsAt0_A m c t h0 (by omega) (by omega), zero_add]
    frame_out
    exact first_apply _ _ i
  · by_cases h2 : t.val % 4 = 3
    · rw [outsAt0_C m c t h0 (by omega) h2]
      frame_out
      exact (next_apply _ _ _ i).trans (by rw [read_unread_whole]; rfl)
    · rw [outsAt0_B m c t h0 (by omega) h2]
      frame_out
      exact (next_apply _ _ _ i).trans (by rw [read_unread_whole]; rfl)

/-- What is stored at the last point of a round is the sum held there. -/
theorem stored_eq (t : Fin cfg0.N) (hr : t.val % 4 = 4 - 1) (y : S512x2048.Idx) :
    (outsAt0 m c t.val t.isLt).1 y = (outsAt0 m c t.val t.isLt).2 y := by
  rw [outsAt0_C m c t (by omega) (by omega) hr]
  frame_out
  exact last_apply _ y

/-- The gradient of the weights: over all tokens, the merged branches against the gradient of the mixers' output. -/
def product (h : S2048x2048.Idx → EReal) (g : S2048x2048.Idx → EReal) (y : S2048x2048.Idx) : EReal :=
  ∑ k : Fin 2048, h (ix2 k (y 0)) * g (ix2 k (y 1))

/-- The array the grid leaves is the product. -/
theorem array_eq : (dats m 0 c).arrAt 2 cfg0.N = product (m ((c : Thread nD τ).loc main_arg0)) (m ((c : Thread nD τ).loc main_arg1)) := by
  refine (dats m 0 c).arrAt_eq_of_covers 2 _ (by decide +kernel) fun t hf y => ?_
  have hr : t.val % 4 = 4 - 1 := (flush0_2 t).mp hf
  blk_simp
  rw [after0_2, stored_eq m c t hr, held_eq m c t hr]
  unfold term part product
  refine Fin.sum_mul_add_congr fun s k hl => ?_
  congr 1
  · blk_simp [iblk]; rw [V_main_arg0]; congr 1; blk_ext [(index_eq _).1, (index_eq _).2.2]
  · blk_simp [iblk]; rw [V_main_arg1]; congr 1; blk_ext [(index_eq _).2.1, (index_eq _).2.2]

/-- The kernel and the reference, started on the same arguments, end with the same result. -/
theorem algebraic : Cert.algebraic_Kernel45Ideal_Reference45Ideal := by
  intro m g m' g' _ hArgs
  refine ⟨fun d => product (m ((d.tc : Thread nD τ).loc main_arg0)) (m ((d.tc : Thread nD τ).loc main_arg1)), ?_, ?_⟩
  · refine (θ_run _ _ _).mono (fun r h d => ?_) (Cert.Kernel45Ideal.Value.run_blocks m g)
    obtain ⟨h0, h1⟩ := h d
    exact ⟨h0.trans (array_eq m d), h1⟩
  · refine (θ_run _ _ _).mono (fun r h d => ?_) (Cert.Reference45Ideal.Value.run m' g')
    obtain ⟨h0, h1⟩ := h d
    obtain ⟨a0, a1⟩ := hArgs d
    refine ⟨h0.trans ?_, h1⟩
    rw [a0, a1]
    funext y
    unfold product
    pointwise
    exact Finset.sum_congr rfl fun k _ => mul_comm _ _

end Cert.Mix.DwOut
end
-- ==== Proof.Mix.DBranch.lean ====
/- The gradient of a branch's output: the kernel's result is the reference's. -/
module
public import proofs.«01_k».proof.Defs
public import proofs.«01_k».proof.Proof.Gen.Kernel46Ideal.Value
public import proofs.«01_k».proof.Proof.Gen.Reference46Ideal.Run
public import Idealize.ShloMosaic.Lib.Pipeline.ValueKit
public import Idealize.ShloMosaic.Lib.Pipeline.ReadBack
public import Idealize.ShloMosaic.Lib.Pointwise

@[expose] public section
set_option maxRecDepth 16384

noncomputable section
namespace Cert.Mix.DBranch
open Idealize.ShloMosaic
open Idealize.ShloMosaic.TcCoe Idealize.ShloMosaic.Tactic
open Cert.Kernel46Ideal Cert.Kernel46Ideal.Gen

/-- One slot's products summed over its columns. -/
def part (g : S512x256.Idx → EReal) (w : S1x1024x256.Idx → EReal) (y : S512x1024.Idx) : EReal :=
  ∑ k : Fin 256, g (ix2 (y 0) k) * w (ix3 0 (y 1) k)

/-- The first slot starts the sum. -/
theorem first_apply (g : Vec Ideal S512x256 .bf16) (w : Vec Ideal S1x1024x256 .bf16) (y : S512x1024.Idx) :
    k0_pay2 (F := Ideal) g w y = part g w y := by
  unfold part
  pointwise [k0_pay2, k0_pay1]

/-- Every later slot adds to it. -/
theorem next_apply (g : Vec Ideal S512x256 .bf16) (w : Vec Ideal S1x1024x256 .bf16) (a : Vec Ideal S512x1024 .f32)
    (y : S512x1024.Idx) : k0_pay3 (F := Ideal) g w a y = a y + part g w y := by
  unfold part
  pointwise [k0_pay3, k0_pay1]

variable (m : (ℓ : Loc nD τ sig) → Buf (Elt Ideal) ℓ) (c : Dev nD)

/-- Which blocks point `t` reads and writes: slot `t % 8` of the columns summed over, block `t / 8` of the rows. -/
theorem index_eq : ∀ t : Fin cfg0.N, win0_0.index t = ![t.val / 8, t.val % 8] ∧ win0_1.index t = ![t.val % 8, 0, 0]
    ∧ win0_2.index t = ![t.val / 8, 0] := (by decide +kernel : ∀ t : Fin grid0.N, _)

/-- The slots' products at point `t`. -/
def term (t : Fin cfg0.N) (y : S512x1024.Idx) : EReal := part (iblk m c 0 t) (iblk m c 1 t) y

/-- At the last point of a round of eight the sum held is the sum of the round's eight terms. -/
theorem held_eq (t : Fin cfg0.N) (hr : t.val % 8 = 8 - 1) (y : S512x1024.Idx) :
    (outsAt0 m c t.val t.isLt).2 y
      = ∑ s : Fin 8, term m c ⟨8 * (t.val / 8) + s.val, Pipeline.run_point_lt_of_flush t hr s⟩ y := by
  have key := Pipeline.eq_sum_fin_of_reset_step_apply_of_flush (fun n h => (outsAt0 m c n h).2) 8 (fun _ => 0)
    (term m c) (fun t h0 i => ?_) (fun t h0 i => ?_) t hr y
  · rw [key, zero_add]
  · rw [outsAt0_A m c t h0 (by omega) (by omega), zero_add]
    frame_out
    exact first_apply _ _ i
  · by_cases h2 : t.val % 8 = 7
    · rw [outsAt0_C m c t h0 (by omega) h2]
      frame_out
      exact (next_apply _ _ _ i).trans (by rw [read_unread_whole]; rfl)
    · rw [outsAt0_B m c t h0 (by omega) h2]
      frame_out
      exact (next_apply _ _ _ i).trans (by rw [read_unread_whole]; rfl)

/-- What is stored at the last point of a round is the sum held there. -/
theorem stored_eq (t : Fin cfg0.N) (hr : t.val % 8 = 8 - 1) (y : S512x1024.Idx) :
    (outsAt0 m c t.val t.isLt).1 y = (outsAt0 m c t.val t.isLt).2 y := by
  rw [outsAt0_C m c t (by omega) (by omega) hr]
  frame_out

/-- The gradient: the merge's gradient against the weights, whose columns lie in eight slots of 256. -/
def total (g : S2048x2048.Idx → EReal) (w : S8x1024x256.Idx → EReal) (y : S2048x1024.Idx) : EReal :=
  ∑ l : Fin 2048, g (ix2 (y 0) l) * w (ix3 ⟨l.val / 256, by omega⟩ (y 1) ⟨l.val % 256, by omega⟩)

/-- The array the grid leaves is that gradient. -/
theorem array_eq : (dats m 0 c).arrAt 2 cfg0.N = total (m ((c : Thread nD τ).loc main_arg0)) (m ((c : Thread nD τ).loc main_arg1)) := by
  refine (dats m 0 c).arrAt_eq_of_covers 2 _ (by decide +kernel) fun t hf y => ?_
  have hr : t.val % 8 = 8 - 1 := (flush0_2 t).mp hf
  blk_simp
  rw [after0_2, stored_eq m c t hr, held_eq m c t hr]
  unfold term part total
  refine Fin.sum_mul_add_congr fun s k hl => ?_
  have hs := s.isLt
  have hk := k.isLt
  congr 1
  · blk_simp [iblk]; rw [V_main_arg0]; congr 1; blk_ext [(index_eq _).1, (index_eq _).2.2]
  · blk_simp [iblk]; rw [V_main_arg1]; congr 1; blk_ext [(index_eq _).2.1, (index_eq _).2.2]

/-- The kernel and the reference, started on the same arguments, end with the same result. -/
theorem algebraic : Cert.algebraic_Kernel46Ideal_Reference46Ideal := by
  intro m g m' g' _ hArgs
  refine ⟨fun d => total (m ((d.tc : Thread nD τ).loc main_arg0)) (m ((d.tc : Thread nD τ).loc main_arg1)), ?_, ?_⟩
  · refine (θ_run _ _ _).mono (fun r h d => ?_) (Cert.Kernel46Ideal.Value.run_blocks m g)
    obtain ⟨h0, h1⟩ := h d
    exact ⟨h0.trans (array_eq m d), h1⟩
  · refine (θ_run _ _ _).mono (fun r h d => ?_) (Cert.Reference46Ideal.Value.run m' g')
    obtain ⟨h0, h1⟩ := h d
    obtain ⟨a0, a1⟩ := hArgs d
    refine ⟨h0.trans ?_, h1⟩
    rw [a0, a1]
    funext y
    unfold total
    pointwise

end Cert.Mix.DBranch
end
-- ==== Proof.Mix.DwBranch.lean ====
/- The gradient of a branch's weights: the kernel's result is the reference's. -/
module
public import proofs.«01_k».proof.Defs
public import proofs.«01_k».proof.Proof.Gen.Kernel47Ideal.Value
public import proofs.«01_k».proof.Proof.Gen.Reference47Ideal.Run
public import Idealize.ShloMosaic.Lib.Pipeline.ValueKit
public import Idealize.ShloMosaic.Lib.Pipeline.ReadBack
public import Idealize.ShloMosaic.Lib.Pointwise

@[expose] public section
set_option maxRecDepth 16384

noncomputable section
namespace Cert.Mix.DwBranch
open Idealize.ShloMosaic
open Idealize.ShloMosaic.TcCoe Idealize.ShloMosaic.Tactic
open Cert.Kernel47Ideal Cert.Kernel47Ideal.Gen

/-- One block's products summed over its tokens. -/
def part (h : S512x512.Idx → EReal) (g : S512x256.Idx → EReal) (y : S512x256.Idx) : EReal :=
  ∑ k : Fin 512, h (ix2 k (y 0)) * g (ix2 k (y 1))

/-- The first block of tokens starts the sum. -/
theorem first_apply (x : Vec Ideal S512x512 .bf16) (w : Vec Ideal S512x256 .bf16) (y : S512x256.Idx) :
    k0_pay2 (F := Ideal) x w y = part x w y := by
  unfold part
  pointwise [k0_pay2, k0_pay1]

/-- Every later block of tokens adds to it. -/
theorem next_apply (x : Vec Ideal S512x512 .bf16) (w : Vec Ideal S512x256 .bf16) (a : Vec Ideal S512x256 .f32)
    (y : S512x256.Idx) : k0_pay3 (F := Ideal) x w a y = a y + part x w y := by
  unfold part
  pointwise [k0_pay3, k0_pay1]

/-- What is stored is the sum, as one slot: the cast changes nothing over the extended reals. -/
theorem last_apply (a : Vec Ideal S512x256 .f32) (y : S1x512x256.Idx) : k0_pay4 (F := Ideal) a y = a (ix2 (y 1) (y 2)) := by
  pointwise [k0_pay4]

variable (m : (ℓ : Loc nD τ sig) → Buf (Elt Ideal) ℓ) (c : Dev nD)

/-- Which blocks point `t` reads and writes: block `t % 4` of the tokens, block `t / 32` of the branch's columns, slot
    `t / 4 % 8` of the weights' columns. -/
theorem index_eq : ∀ t : Fin cfg0.N, win0_0.index t = ![t.val % 4, t.val / 32] ∧ win0_1.index t = ![t.val % 4, t.val / 4 % 8]
    ∧ win0_2.index t = ![t.val / 4 % 8, t.val / 32, 0] := (by decide +kernel : ∀ t : Fin grid0.N, _)

/-- The blocks' products at point `t`. -/
def term (t : Fin cfg0.N) (y : S512x256.Idx) : EReal := part (iblk m c 0 t) (iblk m c 1 t) y

/-- At the last point of a round of four the sum held is the sum of the round's four terms. -/
theorem held_eq (t : Fin cfg0.N) (hr : t.val % 4 = 4 - 1) (y : S512x256.Idx) :
    (outsAt0 m c t.val t.isLt).2 y
      = ∑ s : Fin 4, term m c ⟨4 * (t.val / 4) + s.val, Pipeline.run_point_lt_of_flush t hr s⟩ y := by
  have key := Pipeline.eq_sum_fin_of_reset_step_apply_of_flush (fun n h => (outsAt0 m c n h).2) 4 (fun _ => 0)
    (term m c) (fun t h0 i => ?_) (fun t h0 i => ?_) t hr y
  · rw [key, zero_add]
  · rw [outsAt0_A m c t h0 (by omega) (by omega), zero_add]
    frame_out
    exact first_apply _ _ i
  · by_cases h2 : t.val % 4 = 3
    · rw [outsAt0_C m c t h0 (by omega) h2]
      frame_out
      exact (next_apply _ _ _ i).trans (by rw [read_unread_whole]; rfl)
    · rw [outsAt0_B m c t h0 (by omega) h2]
      frame_out
      exact (next_apply _ _ _ i).trans (by rw [read_unread_whole]; rfl)

/-- What is stored at the last point of a round is the sum held there. -/
theorem stored_eq (t : Fin cfg0.N) (hr : t.val % 4 = 4 - 1) (y : S1x512x256.Idx) :
    (outsAt0 m c t.val t.isLt).1 y = (outsAt0 m c t.val t.isLt).2 (ix2 (y 1) (y 2)) := by
  rw [outsAt0_C m c t (by omega) (by omega) hr]
  frame_out
  exact last_apply _ y

/-- The gradient of the weights: over all tokens, the branch's output against the gradient of its projection, the columns in
    eight slots of 256. -/
def product (h : S2048x1024.Idx → EReal) (g : S2048x2048.Idx → EReal) (y : S8x1024x256.Idx) : EReal :=
  ∑ k : Fin 2048, h (ix2 k (y 1)) * g (ix2 k ⟨(y 0).val * 256 + (y 2).val, by
    have h0 : (y 0).val < 8 := (y 0).isLt
    have h2 : (y 2).val < 256 := (y 2).isLt
    omega⟩)

/-- The array the grid leaves is the product. -/
theorem array_eq : (dats m 0 c).arrAt 2 cfg0.N = product (m ((c : Thread nD τ).loc main_arg0)) (m ((c : Thread nD τ).loc main_arg1)) := by
  refine (dats m 0 c).arrAt_eq_of_covers 2 _ (by decide +kernel) fun t hf y => ?_
  have hr : t.val % 4 = 4 - 1 := (flush0_2 t).mp hf
  blk_simp
  rw [after0_2, stored_eq m c t hr, held_eq m c t hr]
  unfold term part product
  refine Fin.sum_mul_add_congr fun s k hl => ?_
  congr 1
  · blk_simp [iblk]; rw [V_main_arg0]; congr 1; blk_ext [(index_eq _).1, (index_eq _).2.2]
  · blk_simp [iblk]; rw [V_main_arg1]; congr 1; blk_ext [(index_eq _).2.1, (index_eq _).2.2]

/-- The kernel and the reference, started on the same arguments, end with the same result. -/
theorem algebraic : Cert.algebraic_Kernel47Ideal_Reference47Ideal := by
  intro m g m' g' _ hArgs
  refine ⟨fun d => product (m ((d.tc : Thread nD τ).loc main_arg0)) (m ((d.tc : Thread nD τ).loc main_arg1)), ?_, ?_⟩
  · refine (θ_run _ _ _).mono (fun r h d => ?_) (Cert.Kernel47Ideal.Value.run_blocks m g)
    obtain ⟨h0, h1⟩ := h d
    exact ⟨h0.trans (array_eq m d), h1⟩
  · refine (θ_run _ _ _).mono (fun r h d => ?_) (Cert.Reference47Ideal.Value.run m' g')
    obtain ⟨h0, h1⟩ := h d
    obtain ⟨a0, a1⟩ := hArgs d
    refine ⟨h0.trans ?_, h1⟩
    rw [a0, a1]
    funext y
    unfold product
    pointwise
    exact Finset.sum_congr rfl fun k _ => mul_comm _ _

end Cert.Mix.DwBranch
end
-- ==== Proof.Mix.Glu.lean ====
/- The gate of the S5 branch: the kernel's results are the reference's. -/
module
public import proofs.«01_k».proof.Defs
public import proofs.«01_k».proof.Proof.Gen.Kernel48Ideal.Value
public import proofs.«01_k».proof.Proof.Gen.Reference48Ideal.Run
public import Idealize.ShloMosaic.Lib.Pipeline.ValueKit
public import Idealize.ShloMosaic.Lib.Pointwise

@[expose] public section
set_option maxRecDepth 16384

noncomputable section
namespace Cert.Mix.Glu
open Idealize.ShloMosaic
open Idealize.ShloMosaic.TcCoe Idealize.ShloMosaic.Tactic
open Cert.Kernel48Ideal Cert.Kernel48Ideal.Gen

/-- A block of the gate's logits: a row against a column of the weights, and the bias. -/
def part (x : S512x1024.Idx → EReal) (w : S1024x512.Idx → EReal) (b : S1x512.Idx → EReal) (y : S512x512.Idx) : EReal :=
  (∑ k : Fin 1024, x (ix2 (y 0) k) * w (ix2 k (y 1))) + b (ix2 0 (y 1))

/-- The block stored first is the logits. -/
theorem logits_apply (x : Vec Ideal S512x1024 .bf16) (w : Vec Ideal S1024x512 .bf16) (b : Vec Ideal S1x512 .f32)
    (y : S512x512.Idx) : k0_pay4 (F := Ideal) (k0_pay2 x w) b y = part x w b y := by
  unfold part
  pointwise [k0_pay4, k0_pay2, k0_pay1]

/-- The block stored second is the values times the logistic of the logits. -/
theorem gated_apply (x : Vec Ideal S512x1024 .bf16) (w : Vec Ideal S1024x512 .bf16) (b : Vec Ideal S1x512 .f32)
    (a : Vec Ideal S512x512 .f32) (y : S512x512.Idx) :
    k0_pay5 (F := Ideal) (k0_pay2 x w) b a y = a y * Ideal.logistic (part x w b y) := by
  unfold part
  pointwise [k0_pay5, k0_pay4, k0_pay2, k0_pay1]

variable (m : (ℓ : Loc nD τ sig) → Buf (Elt Ideal) ℓ) (c : Dev nD)

/-- Which blocks point `t` reads and writes: block `t / 2` of the rows, block `t % 2` of the columns. -/
theorem index_eq : ∀ t : Fin cfg0.N, win0_0.index t = ![t.val / 2, 0] ∧ win0_1.index t = ![0, t.val % 2]
    ∧ win0_2.index t = ![t.val / 2, t.val % 2] ∧ win0_3.index t = ![0, t.val % 2]
    ∧ win0_4.index t = ![t.val / 2, t.val % 2] ∧ win0_5.index t = ![t.val / 2, t.val % 2] :=
  (by decide +kernel : ∀ t : Fin grid0.N, _)

/-- The product's operand is the argument: the cast before it changes nothing over the extended reals. -/
theorem V_y (y : S2048x1024.Idx) : V m c main_v0 y = m ((c : Thread nD τ).loc main_arg0) y := by
  have h : V m c main_v0 = truncf (F := Ideal) .bf16 (m ((c : Thread nD τ).loc main_arg0) : FVec Ideal S2048x1024 .f32) bitsLt_bf16_f32 := by
    unfold_abbrev_sides
    after_results
  rw [h]
  pointwise

/-- The logits. -/
def logits (x : S2048x1024.Idx → EReal) (w : S1024x1024.Idx → EReal) (b : S1x1024.Idx → EReal) (y : S2048x1024.Idx) : EReal :=
  (∑ k : Fin 1024, x (ix2 (y 0) k) * w (ix2 k (y 1))) + b (ix2 0 (y 1))

/-- The gated values. -/
def gated (x : S2048x1024.Idx → EReal) (w : S1024x1024.Idx → EReal) (b : S1x1024.Idx → EReal) (y : S2048x1024.Idx) : EReal :=
  x y * Ideal.logistic (logits x w b y)

/-- The logits at point `t`, as an entry of all of them. -/
theorem logits_part (t : Fin cfg0.N) (y : S512x512.Idx) (Y : S2048x1024.Idx)
    (h0 : (Y 0).val = t.val / 2 * 512 + (y 0).val) (h1 : (Y 1).val = t.val % 2 * 512 + (y 1).val) :
    part (iblk m c 0 t) (iblk m c 1 t) (iblk m c 3 t) y = logits (m ((c : Thread nD τ).loc main_arg0)) (m ((c : Thread nD τ).loc main_arg1)) (m ((c : Thread nD τ).loc main_arg2)) Y := by
  unfold part logits
  refine congrArg₂ _ (Fin.sum_fin_congr fun k => congrArg₂ _ ?_ ?_) ?_
  · blk_simp [iblk]; rw [V_y]; congr 1; blk_ext [(index_eq t).1]
  · blk_simp [iblk]; rw [V_main_arg1]; congr 1; blk_ext [(index_eq t).2.1]
  · blk_simp [iblk]; rw [V_main_arg2]; congr 1; blk_ext [(index_eq t).2.2.2.1]

/-- The first array the grid leaves is the logits. -/
theorem logits_eq : (dats m 0 c).arrAt 4 cfg0.N = logits (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  unfold outsAt0
  frame_out
  refine (logits_apply _ _ _ y).trans (logits_part m c t y _ ?_ ?_)
  all_goals blk_simp [(index_eq t).2.2.2.2.1]

/-- The second is the gated values. -/
theorem gated_eq : (dats m 0 c).arrAt 5 cfg0.N = gated (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  unfold outsAt0
  frame_out
  refine (gated_apply _ _ _ _ y).trans (congrArg₂ _ ?_ (congrArg _ (logits_part m c t y _ ?_ ?_)))
  · blk_simp [iblk]; rw [V_main_arg0]; congr 1; blk_ext [(index_eq t).2.2.1, (index_eq t).2.2.2.2.2]
  all_goals blk_simp [(index_eq t).2.2.2.2.2]

/-- The kernel and the reference, started on the same arguments, end with the same result. -/
theorem algebraic : Cert.algebraic_Kernel48Ideal_Reference48Ideal := by
  intro m g m' g' _ hArgs
  refine ⟨fun d => logits (m ((d.tc : Thread nD τ).loc main_arg0)) (m ((d.tc : Thread nD τ).loc main_arg1)) (m ((d.tc : Thread nD τ).loc main_arg2)),
    fun d => gated (m ((d.tc : Thread nD τ).loc main_arg0)) (m ((d.tc : Thread nD τ).loc main_arg1)) (m ((d.tc : Thread nD τ).loc main_arg2)), ?_, ?_⟩
  · refine (θ_run _ _ _).mono (fun r h d => ?_) (Cert.Kernel48Ideal.Value.run_blocks m g)
    obtain ⟨h0, h1, h2⟩ := h d
    exact ⟨h0.trans (logits_eq m d), h1.trans (gated_eq m d), h2⟩
  · refine (θ_run _ _ _).mono (fun r h d => ?_) (Cert.Reference48Ideal.Value.run m' g')
    obtain ⟨h0, h1, h2⟩ := h d
    obtain ⟨a0, a1, a2⟩ := hArgs d
    refine ⟨h0.trans ?_, h1.trans ?_, h2⟩
    all_goals
      clear h0 h1 h2 h
      rw [a0, a1, a2]
      funext y
      try unfold gated Ideal.logistic
      unfold logits
      pointwise

end Cert.Mix.Glu
end
-- ==== Proof.Opt.Loss.lean ====
/- The loss head: the kernel's loss and its gradient are the reference's. -/
module
public import proofs.«01_k».proof.Defs
public import proofs.«01_k».proof.Proof.Gen.Kernel12Ideal.Value
public import proofs.«01_k».proof.Proof.Gen.Reference12Ideal.Run
public import Idealize.ShloMosaic.Lib.Pipeline.ValueKit
public import Idealize.ShloMosaic.Lib.Pointwise
public import Idealize.ShloMosaic.Lib.IdealHost

@[expose] public section
set_option maxRecDepth 16384

noncomputable section
namespace Cert.Opt.Loss
open Idealize.ShloMosaic
open Idealize.ShloMosaic.TcCoe Idealize.ShloMosaic.Tactic
open Cert.Kernel12Ideal Cert.Kernel12Ideal.Gen

/-- One half. -/
abbrev half : EReal := Scalar.ofBits (F := Ideal) .f32 0x3F000000#32

/-- One over the width, as the kernel multiplies by it. -/
abbrev part : EReal := Scalar.ofBits (F := Ideal) .f32 0x3A000000#32

/-- The word of one half is the real one half. -/
theorem half_eq : half = ((1 / 2 : ℝ) : EReal) := by
  show Ideal.ofBits .f32 0x3F000000#32 = _
  simp [Ideal.ofBits, Ideal.ieee, -EReal.coe_mul]; norm_num

/-- The kernel's constant is the real 1/2048. -/
theorem part_eq : part = ((1 / 2048 : ℝ) : EReal) := by
  show Ideal.ofBits .f32 0x3A000000#32 = _
  simp [Ideal.ofBits, Ideal.ieee, -EReal.coe_mul]; norm_num

/-- The width, as the reference divides by it, is the real 2048. -/
theorem width_eq : Ideal.ofBits .f32 0x45000000#32 = ((2048 : ℝ) : EReal) := by
  simp [Ideal.ofBits, Ideal.ieee, -EReal.coe_mul]; norm_num

/-- Dividing by the width is multiplying by the kernel's constant. -/
theorem div_width (x : EReal) : Ideal.div x (Ideal.ofBits .f32 0x45000000#32) = x * part := by
  rw [width_eq, part_eq]
  unfold Ideal.div
  rw [if_neg (by norm_num)]
  congr 1
  rw [← EReal.coe_inv]
  norm_num

/-- The two that the square's derivative brings. -/
theorem two_eq : Ideal.ofBits .f32 0x40000000#32 = ((2 : ℝ) : EReal) := by
  simp [Ideal.ofBits, Ideal.ieee, -EReal.coe_mul]; norm_num

/-- A half times a part of the width times the two is the part. -/
theorem slope (x : EReal) : half * part * (Ideal.ofBits .f32 0x40000000#32 * x) = x * part := by
  rw [half_eq, part_eq, two_eq, ← mul_assoc, ← EReal.coe_mul, ← EReal.coe_mul, mul_comm]
  norm_num

/-- One half of a sum is the sum of the halves, infinite terms too: the half is finite and not negative. -/
theorem half_sum {n : ℕ} (f : Fin n → EReal) : half * ∑ s, f s = ∑ s, half * f s := by
  rw [half_eq]
  induction n with
  | zero => simp
  | succ n ih =>
    rw [Fin.sum_univ_succ, Fin.sum_univ_succ, ← ih]
    exact EReal.left_distrib_of_nonneg_of_ne_top (EReal.coe_nonneg.mpr (by norm_num)) (EReal.coe_ne_top _) _ _

/-- The mean square of a row's error. -/
def row (y t : S2048x2048.Idx → EReal) (r : Fin 2048) : EReal :=
  (∑ k : Fin 2048, (y (ix2 r k) - t (ix2 r k)) * (y (ix2 r k) - t (ix2 r k))) * part

/-- The loss: half the sum of the rows' mean squares. -/
def loss (y t : S2048x2048.Idx → EReal) : S1x1.Idx → EReal := fun _ => half * ∑ r : Fin 2048, row y t r

/-- The gradient of the loss. -/
def slopes (y t : S2048x2048.Idx → EReal) : S2048x2048.Idx → EReal := fun z => (y z - t z) * part

/-- A block's part of the loss. -/
def block (y t : Vec Ideal S256x2048 .f32) : EReal :=
  half * ∑ r : Fin 256, (∑ k : Fin 2048, (y (ix2 r k) - t (ix2 r k)) * (y (ix2 r k) - t (ix2 r k))) * part

/-- What the kernel computes as a block's part of the loss. -/
theorem block_apply (x0 x1 : Vec Ideal S256x2048 .f32) (z : S1x1.Idx) : k0_pay3 (F := Ideal) x0 x1 z = block x0 x1 := by
  unfold block
  pointwise [k0_pay3, k0_pay1]

/-- What it adds to the part held. -/
theorem next_apply (x0 x1 : Vec Ideal S256x2048 .f32) (x : Vec Ideal S1x1 .f32) (z : S1x1.Idx) :
    k0_pay4 (F := Ideal) x0 x1 x z = x z + block x0 x1 := by
  rw [← block_apply x0 x1 z]
  pointwise [k0_pay4]

/-- What it stores as a block of the gradient. -/
theorem slope_apply (x0 x1 : Vec Ideal S256x2048 .f32) (z : S256x2048.Idx) :
    k0_pay2 (F := Ideal) x0 x1 z = (x0 z - x1 z) * part := by
  pointwise [k0_pay2, k0_pay1]

variable (m : (ℓ : Loc nD τ sig) → Buf (Elt Ideal) ℓ) (c : Dev nD)

/-- Point `t` reads and writes block `t` of the rows; the loss is one entry. -/
theorem index_eq : ∀ t : Fin cfg0.N, win0_0.index t = ![t.val, 0] ∧ win0_1.index t = ![t.val, 0]
    ∧ win0_2.index t = ![t.val, 0] ∧ win0_3.index t = ![0, 0] := (by decide +kernel : ∀ t : Fin grid0.N, _)

/-- The part of the loss at point `t`. -/
def term (t : Fin cfg0.N) (_ : S1x1.Idx) : EReal := block (iblk m c 0 t) (iblk m c 1 t)

/-- At the last point the loss held is the sum of the eight parts. -/
theorem held_eq (t : Fin cfg0.N) (hr : t.val % 8 = 8 - 1) (z : S1x1.Idx) :
    (outsAt0 m c t.val t.isLt).2 z
      = ∑ s : Fin 8, term m c ⟨8 * (t.val / 8) + s.val, Pipeline.run_point_lt_of_flush t hr s⟩ z := by
  have key := Pipeline.eq_sum_fin_of_reset_step_apply_of_flush (fun n h => (outsAt0 m c n h).2) 8 (fun _ => 0)
    (term m c) (fun t h0 i => ?_) (fun t h0 i => ?_) t hr z
  · rw [key, zero_add]
  · have hN : t.val < 8 := lt_of_lt_of_eq t.isLt N_0
    rw [outsAt0_A m c t h0 (by omega), zero_add]
    frame_out
    exact block_apply _ _ i
  · rw [outsAt0_B m c t h0 (by omega)]
    frame_out
    exact (next_apply _ _ _ i).trans rfl

/-- The one-entry array the grid leaves is the loss. -/
theorem loss_eq : (dats m 0 c).arrAt 3 cfg0.N
    = loss (m ((c : Thread nD τ).loc main_arg0)) (m ((c : Thread nD τ).loc main_arg1)) := by
  refine (dats m 0 c).arrAt_eq_of_covers 3 _ (by decide +kernel) fun t hf y => ?_
  have hr : t.val % 8 = 8 - 1 := (flush0_3 t).mp hf
  blk_simp
  rw [after0_3, held_eq m c t hr]
  unfold term block loss
  rw [← half_sum]
  congr 1
  refine Fin.sum_mul_add_congr fun s r hl => ?_
  unfold row
  congr 1
  refine Finset.sum_congr rfl fun k _ => ?_
  congr 2
  · blk_simp [iblk]; rw [V_main_arg0]; congr 1; blk_ext [(index_eq _).1]
  · blk_simp [iblk]; rw [V_main_arg1]; congr 1; blk_ext [(index_eq _).2.1]
  · blk_simp [iblk]; rw [V_main_arg0]; congr 1; blk_ext [(index_eq _).1]
  · blk_simp [iblk]; rw [V_main_arg1]; congr 1; blk_ext [(index_eq _).2.1]

/-- The array the grid leaves beside it is the gradient. -/
theorem slopes_eq : (dats m 0 c).arrAt 2 cfg0.N
    = slopes (m ((c : Thread nD τ).loc main_arg0)) (m ((c : Thread nD τ).loc main_arg1)) := by
  refine (dats m 0 c).arrAt_eq_of_covers 2 _ (by decide +kernel) fun t _ y => ?_
  have hN : t.val < 8 := lt_of_lt_of_eq t.isLt N_0
  have hx : (outsAt0 m c t.val t.isLt).1 y = k0_pay2 (F := Ideal) (iblk m c 0 t) (iblk m c 1 t) y := by
    by_cases h0 : t.val % 8 = 0
    · rw [outsAt0_A m c t h0 (by omega)]
      frame_out
    · rw [outsAt0_B m c t h0 (by omega)]
      frame_out
  blk_simp
  rw [after0_2, hx, slope_apply]
  unfold slopes
  congr 2

/-- The kernel and the reference, started on the same arguments, end with the same loss and the same gradient. -/
theorem algebraic : Cert.algebraic_Kernel12Ideal_Reference12Ideal := by
  intro m g m' g' _ hArgs
  refine ⟨fun d => slopes (m ((d.tc : Thread nD τ).loc main_arg0)) (m ((d.tc : Thread nD τ).loc main_arg1)),
    fun d => loss (m ((d.tc : Thread nD τ).loc main_arg0)) (m ((d.tc : Thread nD τ).loc main_arg1)), ?_, ?_⟩
  · refine (θ_run _ _ _).mono (fun r h d => ?_) (Cert.Kernel12Ideal.Value.run_blocks m g)
    obtain ⟨h0, h1, h2⟩ := h d
    exact ⟨h0.trans (slopes_eq m d), h1.trans (loss_eq m d), h2⟩
  · refine (θ_run _ _ _).mono (fun r h d => ?_) (Cert.Reference12Ideal.Value.run m' g')
    obtain ⟨h0, h1, h2⟩ := h d
    obtain ⟨a0, a1⟩ := hArgs d
    refine ⟨h0.trans ?_, h1.trans ?_, h2⟩
    all_goals
      clear h0 h1 h2 h
      rw [a0, a1]
      funext y
    · unfold slopes
      pointwise
      rw [div_width]
      exact slope _
    · unfold loss row
      pointwise
      simp only [div_width]
      rfl

end Cert.Opt.Loss
end
-- ==== Proof.Opt.Adam.lean ====
/- The optimiser's arithmetic on one entry: what both its kernels and their references compute. -/
module
public import Idealize.ShloMosaic.Lib.Pipeline.ValueKit
public import Idealize.ShloMosaic.Lib.Pointwise

@[expose] public section

noncomputable section
namespace Cert.Opt
open Idealize.ShloMosaic

/-- A constant of the optimiser, by its float word. -/
abbrev word (b : BitVec 32) : EReal := Scalar.ofBits (F := Ideal) .f32 b

/-- The new first moment: 0.9 of the old one and 0.1 of the gradient. -/
def first (g m : EReal) : EReal := word 0x3F666666#32 * m + word 0x3DCCCCCD#32 * g

/-- The new second moment: 0.999 of the old one and 0.001 of the gradient's square. -/
def second (g v : EReal) : EReal := word 0x3F7FBE77#32 * v + word 0x3A83126F#32 * (g * g)

/-- The step: the corrected first moment over the root of the corrected second one, with the decay of the weight. -/
def step (g w m v : EReal) : EReal :=
  word 0xBA83126F#32 * (Ideal.div (Ideal.div (first g m) (word 0x3F26BD02#32))
    (Ideal.sqrt (Ideal.div (second g v) (word 0x3C231ACC#32)) + word 0x322BCC77#32) + word 0x3C23D70A#32 * w)

/-- A word that is neither below 0 nor from 2 on, read signed, is 0 or 1. -/
theorem zero_or_one (x : BitVec 32)
    (h : (IntOp.andi (IntOp.cmpi .sge x 0#32) (IntOp.cmpi .slt x 2#32) : BitVec 1) = 1#1) : x = 0#32 ∨ x = 1#32 := by
  have both : (0#32).sle x = true ∧ x.slt 2#32 = true := by
    unfold IntOp.andi IntOp.cmpi at h
    dsimp only at h
    revert h
    cases (0#32).sle x <;> cases x.slt 2#32 <;> decide
  have low : (0 : Int) ≤ x.toInt := BitVec.sle_iff_toInt_le.mp both.1
  have high : x.toInt < 2 := BitVec.slt_iff_toInt_lt.mp both.2
  rcases (by omega : x.toInt = 0 ∨ x.toInt = 1) with e | e
  · exact .inl (BitVec.eq_of_toInt_eq e)
  · exact .inr (BitVec.eq_of_toInt_eq e)

/-- A choice by the equality of two words. -/
theorem pick (a b : BitVec 32) (x y : EReal) : Scalar.select (IntOp.cmpi .eq a b) x y = if a = b then x else y := by
  by_cases h : a = b
  · rw [if_pos h, show IntOp.cmpi .eq a b = 1#1 by rw [h]; exact congrArg BitVec.ofBool (beq_self_eq_true b)]
    rfl
  · rw [if_neg h, show IntOp.cmpi .eq a b = 0#1 from congrArg BitVec.ofBool (beq_eq_false_iff_ne.mpr h)]
    rfl

/-- A choice by a layer's number, written as a word. -/
theorem pick_layer (n l : Nat) (hn : n < 4) (hl : l < 4) (x y : EReal) :
    Scalar.select (IntOp.cmpi .eq (BitVec.ofNat 32 n) (BitVec.ofNat 32 l)) x y = if n = l then x else y := by
  rw [pick]
  refine if_congr ⟨fun e => ?_, fun e => by rw [e]⟩ rfl rfl
  have e := congrArg BitVec.toNat e
  rw [BitVec.toNat_ofNat, BitVec.toNat_ofNat] at e
  omega

end Cert.Opt
end
-- ==== Proof.Opt.Small.lean ====
/- The optimiser's step of the small weights, packed into one array: the kernel's results are the reference's. -/
module
public import proofs.«01_k».proof.Defs
public import proofs.«01_k».proof.Proof.Gen.Kernel13Ideal.Value
public import proofs.«01_k».proof.Proof.Gen.Reference13Ideal.Run
public import proofs.«01_k».proof.Proof.Opt.Adam

@[expose] public section
set_option maxRecDepth 16384

noncomputable section
namespace Cert.Opt.Small
open Idealize.ShloMosaic
open Idealize.ShloMosaic.TcCoe Idealize.ShloMosaic.Tactic
open Cert.Kernel13Ideal Cert.Kernel13Ideal.Gen

/-- The gradient of an entry: the sum of the eight devices' parts. -/
def total (a : S8x9216x128.Idx → EReal) (y : S9216x128.Idx) : EReal := ∑ s : Fin 8, a (ix3 s (y 0) (y 1))

/-- The sum of eight blocks at an entry. -/
def block (a : Vec Ideal S8x512x128 .f32) (y : S512x128.Idx) : EReal := ∑ s : Fin 8, a (ix3 s (y 0) (y 1))

variable (m : (ℓ : Loc nD τ sig) → Buf (Elt Ideal) ℓ) (c : Dev nD)

/-- Point `t` reads and writes block `t` of the rows. -/
theorem index_eq : ∀ t : Fin cfg0.N, win0_0.index t = ![0, t.val, 0]
    ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0]
    ∧ win0_7.index t = ![t.val, 0] := (by decide +kernel : ∀ t : Fin grid0.N, _)

/-- What the kernel sums at a point is the sum of the eight devices' blocks. -/
theorem total_apply (x0 : Vec Ideal S8x512x128 .f32) (x1 x2 x3 : Vec Ideal S512x128 .f32) (y : S512x128.Idx) :
    k0_pay6 (F := Ideal) x0 x1 x2 x3 y = block x0 y := by
  unfold block
  rw [Fin.sum_univ_eight]
  pointwise [k0_pay6, k0_pay4]

/-- What it stores as the first moment. -/
theorem first_apply (g : FVec Ideal S512x128 .f32) (x0 : Vec Ideal S8x512x128 .f32) (x1 x2 x3 : Vec Ideal S512x128 .f32)
    (y : S512x128.Idx) : k0_pay1 (F := Ideal) g (k0_pay7 x0 x1 x2 x3) y = first (g y) (x2 y) := by
  unfold first
  pointwise [k0_pay7, k0_pay1, k0_pay5]

/-- What it stores as the second moment. -/
theorem second_apply (g : FVec Ideal S512x128 .f32) (x : Vec Ideal S512x128 .f32) (y : S512x128.Idx) :
    k0_pay2 (F := Ideal) g x y = second (g y) (x y) := by
  unfold second
  pointwise [k0_pay2]

/-- What it stores as the step. -/
theorem step_apply (g : FVec Ideal S512x128 .f32) (x0 : Vec Ideal S8x512x128 .f32) (x1 x2 x3 : Vec Ideal S512x128 .f32)
    (y : S512x128.Idx) :
    k0_pay3 (F := Ideal) g x1 x3 (k0_pay7 x0 x1 x2 x3) y = step (g y) (x1 y) (x2 y) (x3 y) := by
  unfold step
  rw [← first_apply g x0 x1 x2 x3 y, ← second_apply]
  pointwise [k0_pay3]

/-- The gradient the kernel sums at an entry of a block is the sum at that entry's row of the packed array. -/
theorem total_part (t : Fin cfg0.N) (y : S512x128.Idx) (z : S9216x128.Idx)
    (h0 : (z 0).val = t.val * 512 + (y 0).val) (h1 : (z 1).val = (y 1).val) :
    block (iblk m c 0 t) y = total (m ((c : Thread nD τ).loc main_arg0)) z := by
  unfold block total
  refine Finset.sum_congr rfl fun s _ => ?_
  blk_simp [iblk]
  rw [V_main_arg0]
  congr 1
  blk_ext [(index_eq t).1, h0, h1]

/-- A block of the weights holds its rows of the packed array. -/
theorem weight_part (t : Fin cfg0.N) (y : S512x128.Idx) (z : S9216x128.Idx)
    (h0 : (z 0).val = t.val * 512 + (y 0).val) (h1 : (z 1).val = (y 1).val) :
    iblk m c 1 t y = m ((c : Thread nD τ).loc main_arg1) z := by
  blk_simp [iblk]
  rw [V_main_arg1]
  congr 1
  blk_ext [(index_eq t).2.1, h0, h1]

/-- A block of the first moments does. -/
theorem first_part (t : Fin cfg0.N) (y : S512x128.Idx) (z : S9216x128.Idx)
    (h0 : (z 0).val = t.val * 512 + (y 0).val) (h1 : (z 1).val = (y 1).val) :
    iblk m c 2 t y = m ((c : Thread nD τ).loc main_arg2) z := by
  blk_simp [iblk]
  rw [V_main_arg2]
  congr 1
  blk_ext [(index_eq t).2.2.1, h0, h1]

/-- A block of the second moments does. -/
theorem second_part (t : Fin cfg0.N) (y : S512x128.Idx) (z : S9216x128.Idx)
    (h0 : (z 0).val = t.val * 512 + (y 0).val) (h1 : (z 1).val = (y 1).val) :
    iblk m c 3 t y = m ((c : Thread nD τ).loc main_arg3) z := by
  blk_simp [iblk]
  rw [V_main_arg3]
  congr 1
  blk_ext [(index_eq t).2.2.2.1, h0, h1]

/-- The gradients at the end. -/
abbrev totals : S9216x128.Idx → EReal := total (m ((c : Thread nD τ).loc main_arg0))

/-- The first moments at the end. -/
def firsts : S9216x128.Idx → EReal := fun z => first (totals m c z) (m ((c : Thread nD τ).loc main_arg2) z)

/-- The second moments at the end. -/
def seconds : S9216x128.Idx → EReal := fun z => second (totals m c z) (m ((c : Thread nD τ).loc main_arg3) z)

/-- The steps at the end. -/
def steps : S9216x128.Idx → EReal := fun z => step (totals m c z) (m ((c : Thread nD τ).loc main_arg1) z)
  (m ((c : Thread nD τ).loc main_arg2) z) (m ((c : Thread nD τ).loc main_arg3) z)

/-- The first result is the gradients. -/
theorem totals_eq : (dats m 0 c).arrAt 4 cfg0.N = totals m c := by
  refine (dats m 0 c).arrAt_eq_of_covers 4 _ (by decide +kernel) fun t _ y => ?_
  blk_simp
  rw [after0_4]
  frame_out
  refine (total_apply _ _ _ _ y).trans (total_part m c t y _ ?_ ?_) <;> blk_simp [(index_eq t).2.2.2.2.1]

/-- The second is the steps. -/
theorem steps_eq : (dats m 0 c).arrAt 5 cfg0.N = steps m c := by
  refine (dats m 0 c).arrAt_eq_of_covers 5 _ (by decide +kernel) fun t _ y => ?_
  blk_simp
  rw [after0_5]
  frame_out
  refine (step_apply _ _ _ _ _ y).trans ?_
  unfold steps totals
  rw [total_apply]
  rw [total_part m c t y _ ?_ ?_, weight_part m c t y _ ?_ ?_, first_part m c t y _ ?_ ?_, second_part m c t y _ ?_ ?_]
    <;> blk_simp [(index_eq t).2.2.2.2.2.1]

/-- The third is the first moments. -/
theorem firsts_eq : (dats m 0 c).arrAt 6 cfg0.N = firsts m c := by
  refine (dats m 0 c).arrAt_eq_of_covers 6 _ (by decide +kernel) fun t _ y => ?_
  blk_simp
  rw [after0_6]
  frame_out
  refine (first_apply _ _ _ _ _ y).trans ?_
  unfold firsts totals
  rw [total_apply]
  rw [total_part m c t y _ ?_ ?_, first_part m c t y _ ?_ ?_] <;> blk_simp [(index_eq t).2.2.2.2.2.2.1]

/-- The fourth is the second moments. -/
theorem seconds_eq : (dats m 0 c).arrAt 7 cfg0.N = seconds m c := by
  refine (dats m 0 c).arrAt_eq_of_covers 7 _ (by decide +kernel) fun t _ y => ?_
  blk_simp
  rw [after0_7]
  frame_out
  refine (second_apply _ _ y).trans ?_
  unfold seconds totals
  rw [total_apply]
  rw [total_part m c t y _ ?_ ?_, second_part m c t y _ ?_ ?_] <;> blk_simp [(index_eq t).2.2.2.2.2.2.2]

/-- The kernel and the reference, started on the same arguments, end with the same four arrays. -/
theorem algebraic : Cert.algebraic_Kernel13Ideal_Reference13Ideal := by
  intro m g m' g' _ hArgs
  refine ⟨fun d => totals m d, fun d => steps m d, fun d => firsts m d, fun d => seconds m d, ?_, ?_⟩
  · refine (θ_run _ _ _).mono (fun r h d => ?_) (Cert.Kernel13Ideal.Value.run_blocks m g)
    obtain ⟨h0, h1, h2, h3, h4⟩ := h d
    exact ⟨h0.trans (totals_eq m d), h1.trans (steps_eq m d), h2.trans (firsts_eq m d), h3.trans (seconds_eq m d), h4⟩
  · refine (θ_run _ _ _).mono (fun r h d => ?_) (Cert.Reference13Ideal.Value.run m' g')
    obtain ⟨h0, h1, h2, h3, h4⟩ := h d
    obtain ⟨a0, a1, a2, a3⟩ := hArgs d
    refine ⟨h0.trans ?_, h1.trans ?_, h2.trans ?_, h3.trans ?_, h4⟩
    all_goals
      clear h0 h1 h2 h3 h4 h
      funext y
    · rw [a0]
      unfold totals total
      pointwise
    · rw [a0, a1, a2, a3]
      unfold steps step first second totals total
      pointwise
    · rw [a0, a2]
      unfold firsts first totals total
      pointwise
    · rw [a0, a3]
      unfold seconds second totals total
      pointwise

end Cert.Opt.Small
end
-- ==== Proof.Opt.Layer.lean ====
/- The optimiser's step of one layer of a big weight: what its results are, and where the blocks it reads and writes lie. -/
module
public import proofs.«01_k».proof.Proof.Opt.Adam
public import Idealize.ShloMosaic.Lib.Pipeline.ValueKit
public import Idealize.ShloMosaic.Lib.Pointwise

@[expose] public section

noncomputable section
namespace Cert.Opt
open Idealize.ShloMosaic

/-- Four layers of a weight. -/
abbrev Whole (R C : Nat) : Shape := ⟨3, ![4, R, C]⟩

/-- A block of one layer's rows. -/
abbrev Rows (B C : Nat) : Shape := ⟨3, ![1, B, C]⟩

/-- Rows of a matrix. -/
abbrev Flat (B C : Nat) : Shape := ⟨2, ![B, C]⟩

/-- The two halves of a layer's gradient. -/
abbrev Halves (R C : Nat) : Shape := ⟨3, ![2, R, C]⟩

variable {B C R : Nat}

/-- Two blocks of a layer's gradient added. -/
def add (x0 : (Rows B C).Idx → EReal) (x1 : (Flat B C).Idx → EReal) (y : (Rows B C).Idx) : EReal := x0 y + x1 (ix2 (y 1) (y 2))

/-- An entry of the device's own half of a layer's gradient, chosen by its coordinate. -/
def own (me : BitVec 32) (g : (Halves R C).Idx → EReal) (z : (Whole R C).Idx) : EReal :=
  if me = 0#32 then g (ix3 (0 : Fin 2) (z 1) (z 2)) else g (ix3 (1 : Fin 2) (z 1) (z 2))

/-- An entry of the layer's whole gradient: the device's own half and the received one. -/
def total (me : BitVec 32) (g : (Halves R C).Idx → EReal) (r : (Flat R C).Idx → EReal) (z : (Whole R C).Idx) : EReal :=
  own me g z + r (ix2 (z 1) (z 2))

/-- A result at the end: layer `l`'s entries are the given ones, the others the accumulator's. -/
def layer (l : Nat) (new acc : (Whole R C).Idx → EReal) (z : (Whole R C).Idx) : EReal := if (z 0).val = l then new z else acc z

/-- The steps at the end. -/
def steps (l : Nat) (g w m v acc : (Whole R C).Idx → EReal) : (Whole R C).Idx → EReal :=
  layer l (fun z => step (g z) (w z) (m z) (v z)) acc

/-- The first moments at the end. -/
def firsts (l : Nat) (g m acc : (Whole R C).Idx → EReal) : (Whole R C).Idx → EReal := layer l (fun z => first (g z) (m z)) acc

/-- The second moments at the end. -/
def seconds (l : Nat) (g v acc : (Whole R C).Idx → EReal) : (Whole R C).Idx → EReal := layer l (fun z => second (g z) (v z)) acc

/-- The one index of a table of one word. -/
theorem only_index (x : (⟨1, ![1]⟩ : Shape).Idx) : x = ix1 0 :=
  funext fun | ⟨0, _⟩ => Subsingleton.elim (α := Fin 1) _ _

/-- An entry at a block's place in an array lies in the block's layer and rows. -/
theorem place {l t : Nat} {i : Fin 3 → Nat} (hi : i = ![l, t, 0]) (y : (Rows B C).Idx) (z : Fin 3 → Nat)
    (h : ∀ a : Fin 3, z a = i a * (Rows B C).size a + (y a).val) : z 0 = l ∧ z 1 = t * B + (y 1).val ∧ z 2 = (y 2).val := by
  subst hi
  have zero : (y 0).val = 0 := Nat.lt_one_iff.mp (y 0).isLt
  exact ⟨(h 0).trans ((congrArg (l * 1 + ·) zero).trans (Nat.mul_one l)), h 1,
    (h 2).trans ((congrArg (· + (y 2).val) (Nat.zero_mul C)).trans (Nat.zero_add _))⟩

/-- A block read from an array of four layers holds its rows of its layer. -/
theorem read_rows {l t : Nat} {i : Fin 3 → Nat} (hi : i = ![l, t, 0]) (A : (Whole R C).Idx → EReal) (y : (Rows B C).Idx)
    (e : (Whole R C).Idx) (he : ∀ a : Fin 3, (e a).val = i a * (Rows B C).size a + (y a).val) (z : (Whole R C).Idx)
    (h0 : (z 0).val = l) (h1 : (z 1).val = t * B + (y 1).val) (h2 : (z 2).val = (y 2).val) : A e = A z := by
  obtain ⟨e0, e1, e2⟩ := place hi y (fun a => (e a).val) he
  refine congrArg A (funext fun a => Fin.ext ?_)
  match a with
  | ⟨0, _⟩ => exact e0.trans h0.symm
  | ⟨1, _⟩ => exact e1.trans h1.symm
  | ⟨2, _⟩ => exact e2.trans h2.symm

/-- A block read from the received half holds its rows of it. -/
theorem read_flat {t : Nat} {i : Fin 2 → Nat} (hi : i = ![t, 0]) (A : (Flat R C).Idx → EReal) (y : (Rows B C).Idx)
    (e : (Flat R C).Idx) (he : ∀ a : Fin 2, (e a).val = i a * (Flat B C).size a + ((ix2 (y 1) (y 2) : (Flat B C).Idx) a).val)
    (z : (Whole R C).Idx) (h1 : (z 1).val = t * B + (y 1).val) (h2 : (z 2).val = (y 2).val) : A e = A (ix2 (z 1) (z 2)) := by
  subst hi
  refine congrArg A (funext fun a => Fin.ext ?_)
  match a with
  | ⟨0, _⟩ => exact (he 0).trans h1.symm
  | ⟨1, _⟩ => exact (he 1).trans ((congrArg (· + (y 2).val) (Nat.zero_mul C)).trans ((Nat.zero_add _).trans h2.symm))

/-- A block read from the halves at the device's coordinate holds its rows of the device's own half. -/
theorem read_own {me : BitVec 32} (hme : me = 0#32 ∨ me = 1#32) {t : Nat} {i : Fin 3 → Nat} (hi : i = ![me.toNat, t, 0])
    (A : (Halves R C).Idx → EReal) (y : (Rows B C).Idx) (e : (Halves R C).Idx)
    (he : ∀ a : Fin 3, (e a).val = i a * (Rows B C).size a + (y a).val) (z : (Whole R C).Idx)
    (h1 : (z 1).val = t * B + (y 1).val) (h2 : (z 2).val = (y 2).val) : A e = own me A z := by
  obtain ⟨e0, e1, e2⟩ := place hi y (fun a => (e a).val) he
  have at_ (k : Fin 2) (hk : me.toNat = k.val) : A e = A (ix3 k (z 1) (z 2)) := by
    refine congrArg A (funext fun a => Fin.ext ?_)
    match a with
    | ⟨0, _⟩ => exact e0.trans hk
    | ⟨1, _⟩ => exact e1.trans h1.symm
    | ⟨2, _⟩ => exact e2.trans h2.symm
  unfold own
  rcases hme with rfl | rfl
  · exact (at_ 0 rfl).trans (if_pos rfl).symm
  · exact (at_ 1 rfl).trans (if_neg (by decide)).symm

/-- Blocks of one point, which hold its rows: the two of the gradient `g` add up to it, the others are those of the weights and moments. -/
structure Held (l t : Nat) (g w m v : (Whole R C).Idx → EReal) (x0 : (Rows B C).Idx → EReal) (x1 : (Flat B C).Idx → EReal)
    (x2 x3 x4 : (Rows B C).Idx → EReal) : Prop where
  sum : ∀ y z, (z 1).val = t * B + (y 1).val → (z 2).val = (y 2).val → add x0 x1 y = g z
  weight : ∀ y z, (z 0).val = l → (z 1).val = t * B + (y 1).val → (z 2).val = (y 2).val → x2 y = w z
  first : ∀ y z, (z 0).val = l → (z 1).val = t * B + (y 1).val → (z 2).val = (y 2).val → x3 y = m z
  second : ∀ y z, (z 0).val = l → (z 1).val = t * B + (y 1).val → (z 2).val = (y 2).val → x4 y = v z

section
variable {l t : Nat} {g w m v acc : (Whole R C).Idx → EReal} {x0 : (Rows B C).Idx → EReal} {x1 : (Flat B C).Idx → EReal}
  {x2 x3 x4 : (Rows B C).Idx → EReal} (H : Held l t g w m v x0 x1 x2 x3 x4) {i : Fin 3 → Nat} (hi : i = ![l, t, 0])
  (y : (Rows B C).Idx) (z : (Whole R C).Idx) (hz : ∀ a : Fin 3, (z a).val = i a * (Rows B C).size a + (y a).val)
include H hi hz

/-- The gradient such blocks give, where it is written, is the result's. -/
theorem Held.new_grad : add x0 x1 y = layer l g acc z := by
  obtain ⟨h0, h1, h2⟩ := place hi y (fun a => (z a).val) hz
  exact (H.sum y z h1 h2).trans (if_pos h0).symm

/-- So is the step. -/
theorem Held.new_step : step (add x0 x1 y) (x2 y) (x3 y) (x4 y) = steps l g w m v acc z := by
  obtain ⟨h0, h1, h2⟩ := place hi y (fun a => (z a).val) hz
  rw [H.sum y z h1 h2, H.weight y z h0 h1 h2, H.first y z h0 h1 h2, H.second y z h0 h1 h2]
  exact (if_pos h0).symm

/-- So is the first moment. -/
theorem Held.new_first : Cert.Opt.first (add x0 x1 y) (x3 y) = firsts l g m acc z := by
  obtain ⟨h0, h1, h2⟩ := place hi y (fun a => (z a).val) hz
  rw [H.sum y z h1 h2, H.first y z h0 h1 h2]
  exact (if_pos h0).symm

/-- So is the second moment. -/
theorem Held.new_second : Cert.Opt.second (add x0 x1 y) (x4 y) = seconds l g v acc z := by
  obtain ⟨h0, h1, h2⟩ := place hi y (fun a => (z a).val) hz
  rw [H.sum y z h1 h2, H.second y z h0 h1 h2]
  exact (if_pos h0).symm

end

/-- Every block of layer `l` is some point's. -/
theorem reach {N l : Nat} {ix : Fin N → Fin 3 → Nat} (hix : ∀ t, ix t = ![l, t.val, 0]) {n : Fin 3 → Nat} (hn : ∀ a, n a = ![4, N, 1] a)
    (β : ∀ a, Fin (n a)) (h : (β 0).val = l) : ∃ t : Fin N, ∀ a, ix t a = (β a).val := by
  have lt : (β 1).val < N := (β 1).isLt.trans_eq (hn 1)
  have z : (β 2).val = 0 := Nat.lt_one_iff.mp ((β 2).isLt.trans_eq (hn 2))
  refine ⟨⟨(β 1).val, lt⟩, fun a => ?_⟩
  rw [hix]
  match a with
  | ⟨0, _⟩ => exact h.symm
  | ⟨1, _⟩ => rfl
  | ⟨2, _⟩ => exact z.symm

end Cert.Opt
end
-- ==== Proof.Opt.Gu.lean ====
/- The optimiser's step of the feed-forward blocks' gate and up weights, layer by layer: the kernel's results are the reference's. -/
module
public import proofs.«01_k».proof.Defs
public import proofs.«01_k».proof.Proof.Opt.Layer
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Reference15Ideal.Run
public import proofs.«01_k».proof.Proof.Gen.Kernel16.Frame
public import proofs.«01_k».proof.Proof.Gen.Kernel16Ideal.Frame
public import proofs.«01_k».proof.Proof.Gen.Reference16Ideal.Run
public import proofs.«01_k».proof.Proof.Gen.Kernel17.Frame
public import proofs.«01_k».proof.Proof.Gen.Kernel17Ideal.Frame
public import proofs.«01_k».proof.Proof.Gen.Reference17Ideal.Run
public import proofs.«01_k».proof.Proof.Gen.Pre_pair

@[expose] public section
set_option maxRecDepth 16384

noncomputable section
namespace Cert.Opt.Gu
open Idealize.ShloMosaic
open Idealize.ShloMosaic.TcCoe Idealize.ShloMosaic.Tactic

/-! What the four layers' programs share: their tables, their arithmetic and their blocks are the same. -/

section
open Cert.Kernel14

set_option backward.proofsInPublic true in
/-- A table that holds 0 or 1 puts the first operand's block inside its array, in the rounded program. -/
theorem ok_bits (pf : pre0.Contents (Elt Bits)) (h : pf 0 (ix1 0) = 0#32 ∨ pf 0 (ix1 0) = 1#32) : ok0 (F := Bits) pf := by
  have e : pf = fun | ⟨0, _⟩ => fun _ => pf 0 (ix1 0) | ⟨_ + 1, h⟩ => absurd h (by simp) :=
    funext fun | ⟨0, _⟩ => funext fun x => congrArg (pf 0) (only_index x)
  rw [e]
  rcases h with h | h <;> rw [h] <;> decide +kernel

end

section
open Cert.Kernel14Ideal Cert.Kernel14Ideal.Gen

set_option backward.proofsInPublic true in
/-- A table that holds 0 or 1 puts the first operand's block inside its array. -/
theorem ok (pf : pre0.Contents (Elt Ideal)) (h : pf 0 (ix1 0) = 0#32 ∨ pf 0 (ix1 0) = 1#32) : ok0 (F := Ideal) pf := by
  have e : pf = fun | ⟨0, _⟩ => fun _ => pf 0 (ix1 0) | ⟨_ + 1, h⟩ => absurd h (by simp) :=
    funext fun | ⟨0, _⟩ => funext fun x => congrArg (pf 0) (only_index x)
  rw [e]
  rcases h with h | h <;> rw [h] <;> decide +kernel

/-- The one grid coordinate of a point, as a word, is the point's number. -/
theorem coord : ∀ t : Fin grid0.N, (BitVec.ofNat 32 (grid0.coords t 0).val).toNat = t.val := by decide +kernel

/-- The blocks of a result: four layers of the grid's points. -/
theorem blocks : ∀ a : Fin 3, ((Whole 2048 1408).size a + (Rows 128 1408).size a - 1) / (Rows 128 1408).size a = ![4, grid0.N, 1] a := by decide

/-- A block is not empty. -/
theorem filled : ∀ a : Fin 3, 0 < (Rows 128 1408).size a := by decide

section
variable (x0 : Vec Ideal (Rows 128 1408) .bf16) (x1 : Vec Ideal (Flat 128 1408) .bf16) (x2 x3 x4 : Vec Ideal (Rows 128 1408) .f32) (y : (Rows 128 1408).Idx)

/-- What the kernel stores as the gradient: its own half plus the received one. -/
theorem grad_apply : k0_pay1 (F := Ideal) (k0_pay5 x0 x1) y = add x0 x1 y := by
  unfold add
  pointwise [k0_pay1, k0_pay5]

/-- What it stores as the first moment. -/
theorem first_apply : k0_pay3 (F := Ideal) (k0_pay6 x0 x1 x3) y = first (add x0 x1 y) (x3 y) := by
  unfold first add
  pointwise [k0_pay3, k0_pay6, k0_pay5]

/-- What it stores as the second moment. -/
theorem second_apply : k0_pay4 (F := Ideal) (k0_pay7 x0 x1 x4) y = second (add x0 x1 y) (x4 y) := by
  unfold second add
  pointwise [k0_pay4, k0_pay7, k0_pay5]

/-- What it stores as the step. -/
theorem step_apply : k0_pay2 (F := Ideal) (k0_pay8 x0 x1 x2 x3 x4) y = step (add x0 x1 y) (x2 y) (x3 y) (x4 y) := by
  unfold step first second add
  pointwise [k0_pay2, k0_pay8, k0_pay6, k0_pay7, k0_pay5]

end

end

/-! The last layer's program. -/

namespace L3
open Cert.Kernel14Ideal Cert.Kernel14Ideal.Gen

/-- The precondition puts the blocks inside their arrays, in the rounded program. -/
theorem inside_bits (m : (ℓ : Loc Cert.Kernel14.nD Cert.Kernel14.τ Cert.Kernel14.sig) → Buf (Elt Bits) ℓ) (h : Cert.Pre_Kernel14 m) :
    Cert.Kernel14.Gen.Ok (F := Bits) m :=
  ok_bits _ (zero_or_one _ (congrFun (h 0) (ix1 0)))

variable (m : (ℓ : Loc nD τ sig) → Buf (Elt Ideal) ℓ) (c : Dev nD)

/-- The device's coordinate. -/
def mine : BitVec 32 := m ((c : Thread nD τ).loc main_arg0) (ix1 0)

/-- The precondition leaves it two values. -/
theorem mine_eq (h : Cert.Pre_Kernel14Ideal m) : mine m c = 0#32 ∨ mine m c = 1#32 := zero_or_one _ (congrFun (h c) (ix1 0))

/-- The precondition puts the blocks inside their arrays. -/
theorem inside (h : Cert.Pre_Kernel14Ideal m) : Gen.Ok (F := Ideal) m := ok _ (mine_eq m 0 h)

/-- Point `t` reads and writes block `t` of the layer's rows, whatever the table holds. -/
theorem index : ∀ t : Fin grid0.N, (cc0_transform_9 (grid0.coords t) = ![3, t.val, 0] ∧ cc0_transform_10 (grid0.coords t) = ![3, t.val, 0]
    ∧ cc0_transform_11 (grid0.coords t) = ![3, t.val, 0] ∧ cc0_transform_12 (grid0.coords t) = ![3, t.val, 0])
    ∧ cc0_transform_1 (grid0.coords t) = ![t.val, 0] ∧ cc0_transform_2 (grid0.coords t) = ![3, t.val, 0]
    ∧ cc0_transform_3 (grid0.coords t) = ![3, t.val, 0] ∧ cc0_transform_4 (grid0.coords t) = ![3, t.val, 0] := by decide +kernel

variable (hO : Gen.Ok (F := Ideal) m)

/-- It reads block `t` of the device's own half of the gradient. -/
theorem own_index (t : Fin grid0.N) : ((cfgM m hO).win 0).index t = ![(mine m c).toNat, t.val, 0] := by
  obtain rfl : c = 0 := Subsingleton.elim _ _
  have e : ((cfgM m hO).win 0).index t = ![(mine m 0).toNat, (BitVec.ofNat 32 (grid0.coords t 0).val).toNat, (0#32).toNat] :=
    congrArg (fun x : BitVec 32 => ![x.toNat, (BitVec.ofNat 32 (grid0.coords t 0).val).toNat, (0#32).toNat])
      ((congrFun (V_main_arg0 m 0) _).trans (congrArg (m ((0 : Dev nD), main_arg0)) (only_index _)))
  exact e.trans (congrArg (fun n : Nat => ![(mine m 0).toNat, n, 0]) (coord t))

/-- The gradient: the device's own half and the received one. -/
abbrev grad : (Whole 2048 1408).Idx → EReal :=
  total (mine m c) (m ((c : Thread nD τ).loc main_arg1)) (m ((c : Thread nD τ).loc main_arg2))

/-- A point's blocks hold its rows. -/
theorem held (h : Cert.Pre_Kernel14Ideal m) (t : Fin grid0.N) : Held (B := 128) 3 t.val (grad m c) (m ((c : Thread nD τ).loc main_arg3))
    (m ((c : Thread nD τ).loc main_arg4)) (m ((c : Thread nD τ).loc main_arg5)) (iblk m hO c 0 t) (iblk m hO c 1 t) (iblk m hO c 2 t)
    (iblk m hO c 3 t) (iblk m hO c 4 t) where
  sum y z h1 h2 := congrArg₂ (fun a b : EReal => a + b)
    ((congrFun (V_main_arg1 m c) _).trans (read_own (mine_eq m c h) (own_index m c hO t) _ y _ (((cfgM m hO).win 0).rect_emb_val t y) z h1 h2))
    ((congrFun (V_main_arg2 m c) _).trans (read_flat (index t).2.1 _ y _ (((cfgM m hO).win 1).rect_emb_val t (ix2 (y 1) (y 2))) z h1 h2))
  weight y z h0 h1 h2 := (congrFun (V_main_arg3 m c) _).trans
    (read_rows (index t).2.2.1 _ y _ (((cfgM m hO).win 2).rect_emb_val t y) z h0 h1 h2)
  first y z h0 h1 h2 := (congrFun (V_main_arg4 m c) _).trans
    (read_rows (index t).2.2.2.1 _ y _ (((cfgM m hO).win 3).rect_emb_val t y) z h0 h1 h2)
  second y z h0 h1 h2 := (congrFun (V_main_arg5 m c) _).trans
    (read_rows (index t).2.2.2.2 _ y _ (((cfgM m hO).win 4).rect_emb_val t y) z h0 h1 h2)

/-- The results find their arguments' contents. -/
theorem kept : V m c main_v0_0 = m ((c : Thread nD τ).loc main_arg6) ∧ V m c main_v0_1 = m ((c : Thread nD τ).loc main_arg7)
    ∧ V m c main_v0_2 = m ((c : Thread nD τ).loc main_arg8) ∧ V m c main_v0_3 = m ((c : Thread nD τ).loc main_arg9) := by
  refine ⟨?_, ?_, ?_, ?_⟩
  all_goals
    unfold V hostOps0
    after_results
    rfl

/-- What point `t` writes of the gradients. -/
theorem out_grad (t : Fin grid0.N) : (outsAt0 m hO c t).1 = k0_pay1 (F := Ideal) (k0_pay5 (iblk m hO c 0 t) (iblk m hO c 1 t)) := by
  frame_out
  exact congrArg (k0_pay1 (F := Ideal)) (congrArg₂ k0_pay5 ((hs0_0 m hO t).read_unread _) ((hs0_1 m hO t).read_unread _))

/-- What it writes of the steps. -/
theorem out_step (t : Fin grid0.N) : (outsAt0 m hO c t).2.1 = k0_pay2 (F := Ideal)
    (k0_pay8 (iblk m hO c 0 t) (iblk m hO c 1 t) (iblk m hO c 2 t) (iblk m hO c 3 t) (iblk m hO c 4 t)) := by
  frame_out
  exact congrArg (k0_pay2 (F := Ideal)) (congr (congr (congr (congrArg₂ k0_pay8 ((hs0_0 m hO t).read_unread _)
    ((hs0_1 m hO t).read_unread _)) ((hs0_2 m hO t).read_unread _)) ((hs0_3 m hO t).read_unread _)) ((hs0_4 m hO t).read_unread _))

/-- What it writes of the first moments. -/
theorem out_first (t : Fin grid0.N) : (outsAt0 m hO c t).2.2.1 = k0_pay3 (F := Ideal)
    (k0_pay6 (iblk m hO c 0 t) (iblk m hO c 1 t) (iblk m hO c 3 t)) := by
  frame_out
  exact congrArg (k0_pay3 (F := Ideal)) (congr (congrArg₂ k0_pay6 ((hs0_0 m hO t).read_unread _)
    ((hs0_1 m hO t).read_unread _)) ((hs0_3 m hO t).read_unread _))

/-- What it writes of the second moments. -/
theorem out_second (t : Fin grid0.N) : (outsAt0 m hO c t).2.2.2 = k0_pay4 (F := Ideal)
    (k0_pay7 (iblk m hO c 0 t) (iblk m hO c 1 t) (iblk m hO c 4 t)) := by
  frame_out
  exact congrArg (k0_pay4 (F := Ideal)) (congr (congrArg₂ k0_pay7 ((hs0_0 m hO t).read_unread _)
    ((hs0_1 m hO t).read_unread _)) ((hs0_4 m hO t).read_unread _))

/-- The gradients at the end. -/
abbrev newGrad : (Whole 2048 1408).Idx → EReal := layer 3 (grad m c) (m ((c : Thread nD τ).loc main_arg6))

/-- The first result is they. -/
theorem newGrad_eq (h : Cert.Pre_Kernel14Ideal m) : (dats m hO 0 c).arrAt 5 (cfgM m hO).N = newGrad m c :=
  (dats m hO 0 c).arrAt_eq_of_coversWhere_of_agree 5 _ (fun β => β (0 : Fin 3) = 3)
    ⟨filled, fun t _ => ⟨congrFun (index t).1.1 (0 : Fin 3), fun _ => .inl rfl⟩,
      fun β e => (reach (fun t => (index t).1.1) blocks β e).imp fun _ e => ⟨e, flush0_5 _ _⟩⟩
    (fun t _ y => (congrFun ((after0_5 m hO c t).trans (out_grad m c hO t)) y).trans ((grad_apply _ _ y).trans
      ((held m c hO h t).new_grad (index t).1.1 y _ (((cfgM m hO).win 5).rect_emb_val t y))))
    (fun _ hj => (congrFun (kept m c).1 _).trans (if_neg fun e => hj ((Nat.div_one _).trans e)).symm)

/-- The steps at the end. -/
abbrev newStep : (Whole 2048 1408).Idx → EReal := steps 3 (grad m c) (m ((c : Thread nD τ).loc main_arg3)) (m ((c : Thread nD τ).loc main_arg4))
  (m ((c : Thread nD τ).loc main_arg5)) (m ((c : Thread nD τ).loc main_arg7))

/-- The second result is they. -/
theorem newStep_eq (h : Cert.Pre_Kernel14Ideal m) : (dats m hO 0 c).arrAt 6 (cfgM m hO).N = newStep m c :=
  (dats m hO 0 c).arrAt_eq_of_coversWhere_of_agree 6 _ (fun β => β (0 : Fin 3) = 3)
    ⟨filled, fun t _ => ⟨congrFun (index t).1.2.1 (0 : Fin 3), fun _ => .inl rfl⟩,
      fun β e => (reach (fun t => (index t).1.2.1) blocks β e).imp fun _ e => ⟨e, flush0_6 _ _⟩⟩
    (fun t _ y => (congrFun ((after0_6 m hO c t).trans (out_step m c hO t)) y).trans ((step_apply _ _ _ _ _ y).trans
      ((held m c hO h t).new_step (index t).1.2.1 y _ (((cfgM m hO).win 6).rect_emb_val t y))))
    (fun _ hj => (congrFun (kept m c).2.1 _).trans (if_neg fun e => hj ((Nat.div_one _).trans e)).symm)

/-- The first moments at the end. -/
abbrev newFirst : (Whole 2048 1408).Idx → EReal := firsts 3 (grad m c) (m ((c : Thread nD τ).loc main_arg4)) (m ((c : Thread nD τ).loc main_arg8))

/-- The third result is they. -/
theorem newFirst_eq (h : Cert.Pre_Kernel14Ideal m) : (dats m hO 0 c).arrAt 7 (cfgM m hO).N = newFirst m c :=
  (dats m hO 0 c).arrAt_eq_of_coversWhere_of_agree 7 _ (fun β => β (0 : Fin 3) = 3)
    ⟨filled, fun t _ => ⟨congrFun (index t).1.2.2.1 (0 : Fin 3), fun _ => .inl rfl⟩,
      fun β e => (reach (fun t => (index t).1.2.2.1) blocks β e).imp fun _ e => ⟨e, flush0_7 _ _⟩⟩
    (fun t _ y => (congrFun ((after0_7 m hO c t).trans (out_first m c hO t)) y).trans ((first_apply _ _ _ y).trans
      ((held m c hO h t).new_first (index t).1.2.2.1 y _ (((cfgM m hO).win 7).rect_emb_val t y))))
    (fun _ hj => (congrFun (kept m c).2.2.1 _).trans (if_neg fun e => hj ((Nat.div_one _).trans e)).symm)

/-- The second moments at the end. -/
abbrev newSecond : (Whole 2048 1408).Idx → EReal := seconds 3 (grad m c) (m ((c : Thread nD τ).loc main_arg5)) (m ((c : Thread nD τ).loc main_arg9))

/-- The fourth result is they. -/
theorem newSecond_eq (h : Cert.Pre_Kernel14Ideal m) : (dats m hO 0 c).arrAt 8 (cfgM m hO).N = newSecond m c :=
  (dats m hO 0 c).arrAt_eq_of_coversWhere_of_agree 8 _ (fun β => β (0 : Fin 3) = 3)
    ⟨filled, fun t _ => ⟨congrFun (index t).1.2.2.2 (0 : Fin 3), fun _ => .inl rfl⟩,
      fun β e => (reach (fun t => (index t).1.2.2.2) blocks β e).imp fun _ e => ⟨e, flush0_8 _ _⟩⟩
    (fun t _ y => (congrFun ((after0_8 m hO c t).trans (out_second m c hO t)) y).trans ((second_apply _ _ _ y).trans
      ((held m c hO h t).new_second (index t).1.2.2.2 y _ (((cfgM m hO).win 8).rect_emb_val t y))))
    (fun _ hj => (congrFun (kept m c).2.2.2 _).trans (if_neg fun e => hj ((Nat.div_one _).trans e)).symm)

/-- The kernel and the reference end with the same four arrays. -/
theorem algebraic : Cert.algebraic_Kernel14Ideal_Reference14Ideal := by
  intro m g m' g' h hArgs
  have hO := inside m h
  refine ⟨fun d => newGrad m d, fun d => newStep m d, fun d => newFirst m d, fun d => newSecond m d, ?_, ?_⟩
  · refine (θ_run _ _ _).mono (fun r p d => ?_) (θ_run_and (run_main m g hO) (unchanged m g hO))
    exact ⟨((p.1 d).1 5).trans (newGrad_eq m d hO h), ((p.1 d).1 6).trans (newStep_eq m d hO h),
      ((p.1 d).1 7).trans (newFirst_eq m d hO h), ((p.1 d).1 8).trans (newSecond_eq m d hO h), p.2 d⟩
  · refine (θ_run _ _ _).mono (fun r p d => ?_) (Cert.Reference14Ideal.Value.run m' g')
    obtain ⟨r0, r1, r2, r3, kept⟩ := p d
    obtain ⟨a0, a1, a2, a3, a4, a5, a6, a7, a8, a9⟩ := hArgs d
    refine ⟨r0.trans ?_, r1.trans ?_, r2.trans ?_, r3.trans ?_, kept⟩
    all_goals
      clear r0 r1 r2 r3 kept p
      funext y
      simp only [a0, a1, a2, a3, a4, a5, a6, a7, a8, a9, newGrad, newStep, newFirst, newSecond, steps, firsts, seconds, layer, step, first,
        second, total, own, mine]
      pointwise
      rw [pick_layer _ 3 (y 0).isLt (by decide), pick]
    all_goals rfl

end L3

/-! The third layer's program. -/

namespace L2
open Cert.Kernel15Ideal Cert.Kernel15Ideal.Gen

/-- The precondition puts the blocks inside their arrays, in the rounded program. -/
theorem inside_bits (m : (ℓ : Loc Cert.Kernel15.nD Cert.Kernel15.τ Cert.Kernel15.sig) → Buf (Elt Bits) ℓ) (h : Cert.Pre_Kernel15 m) :
    Cert.Kernel15.Gen.Ok (F := Bits) m :=
  ok_bits _ (zero_or_one _ (congrFun (h 0) (ix1 0)))

variable (m : (ℓ : Loc nD τ sig) → Buf (Elt Ideal) ℓ) (c : Dev nD)

/-- The device's coordinate. -/
def mine : BitVec 32 := m ((c : Thread nD τ).loc main_arg0) (ix1 0)

/-- The precondition leaves it two values. -/
theorem mine_eq (h : Cert.Pre_Kernel15Ideal m) : mine m c = 0#32 ∨ mine m c = 1#32 := zero_or_one _ (congrFun (h c) (ix1 0))

/-- The precondition puts the blocks inside their arrays. -/
theorem inside (h : Cert.Pre_Kernel15Ideal m) : Gen.Ok (F := Ideal) m := ok _ (mine_eq m 0 h)

/-- Point `t` reads and writes block `t` of the layer's rows, whatever the table holds. -/
theorem index : ∀ t : Fin grid0.N, (cc0_transform_9 (grid0.coords t) = ![2, t.val, 0] ∧ cc0_transform_10 (grid0.coords t) = ![2, t.val, 0]
    ∧ cc0_transform_11 (grid0.coords t) = ![2, t.val, 0] ∧ cc0_transform_12 (grid0.coords t) = ![2, t.val, 0])
    ∧ cc0_transform_1 (grid0.coords t) = ![t.val, 0] ∧ cc0_transform_2 (grid0.coords t) = ![2, t.val, 0]
    ∧ cc0_transform_3 (grid0.coords t) = ![2, t.val, 0] ∧ cc0_transform_4 (grid0.coords t) = ![2, t.val, 0] := by decide +kernel

variable (hO : Gen.Ok (F := Ideal) m)

/-- It reads block `t` of the device's own half of the gradient. -/
theorem own_index (t : Fin grid0.N) : ((cfgM m hO).win 0).index t = ![(mine m c).toNat, t.val, 0] := by
  obtain rfl : c = 0 := Subsingleton.elim _ _
  have e : ((cfgM m hO).win 0).index t = ![(mine m 0).toNat, (BitVec.ofNat 32 (grid0.coords t 0).val).toNat, (0#32).toNat] :=
    congrArg (fun x : BitVec 32 => ![x.toNat, (BitVec.ofNat 32 (grid0.coords t 0).val).toNat, (0#32).toNat])
      ((congrFun (V_main_arg0 m 0) _).trans (congrArg (m ((0 : Dev nD), main_arg0)) (only_index _)))
  exact e.trans (congrArg (fun n : Nat => ![(mine m 0).toNat, n, 0]) (coord t))

/-- The gradient: the device's own half and the received one. -/
abbrev grad : (Whole 2048 1408).Idx → EReal :=
  total (mine m c) (m ((c : Thread nD τ).loc main_arg1)) (m ((c : Thread nD τ).loc main_arg2))

/-- A point's blocks hold its rows. -/
theorem held (h : Cert.Pre_Kernel15Ideal m) (t : Fin grid0.N) : Held (B := 128) 2 t.val (grad m c) (m ((c : Thread nD τ).loc main_arg3))
    (m ((c : Thread nD τ).loc main_arg4)) (m ((c : Thread nD τ).loc main_arg5)) (iblk m hO c 0 t) (iblk m hO c 1 t) (iblk m hO c 2 t)
    (iblk m hO c 3 t) (iblk m hO c 4 t) where
  sum y z h1 h2 := congrArg₂ (fun a b : EReal => a + b)
    ((congrFun (V_main_arg1 m c) _).trans (read_own (mine_eq m c h) (own_index m c hO t) _ y _ (((cfgM m hO).win 0).rect_emb_val t y) z h1 h2))
    ((congrFun (V_main_arg2 m c) _).trans (read_flat (index t).2.1 _ y _ (((cfgM m hO).win 1).rect_emb_val t (ix2 (y 1) (y 2))) z h1 h2))
  weight y z h0 h1 h2 := (congrFun (V_main_arg3 m c) _).trans
    (read_rows (index t).2.2.1 _ y _ (((cfgM m hO).win 2).rect_emb_val t y) z h0 h1 h2)
  first y z h0 h1 h2 := (congrFun (V_main_arg4 m c) _).trans
    (read_rows (index t).2.2.2.1 _ y _ (((cfgM m hO).win 3).rect_emb_val t y) z h0 h1 h2)
  second y z h0 h1 h2 := (congrFun (V_main_arg5 m c) _).trans
    (read_rows (index t).2.2.2.2 _ y _ (((cfgM m hO).win 4).rect_emb_val t y) z h0 h1 h2)

/-- The results find their arguments' contents. -/
theorem kept : V m c main_v0_0 = m ((c : Thread nD τ).loc main_arg6) ∧ V m c main_v0_1 = m ((c : Thread nD τ).loc main_arg7)
    ∧ V m c main_v0_2 = m ((c : Thread nD τ).loc main_arg8) ∧ V m c main_v0_3 = m ((c : Thread nD τ).loc main_arg9) := by
  refine ⟨?_, ?_, ?_, ?_⟩
  all_goals
    unfold V hostOps0
    after_results
    rfl

/-- What point `t` writes of the gradients. -/
theorem out_grad (t : Fin grid0.N) : (outsAt0 m hO c t).1 = k0_pay1 (F := Ideal) (k0_pay5 (iblk m hO c 0 t) (iblk m hO c 1 t)) := by
  frame_out
  exact congrArg (k0_pay1 (F := Ideal)) (congrArg₂ k0_pay5 ((hs0_0 m hO t).read_unread _) ((hs0_1 m hO t).read_unread _))

/-- What it writes of the steps. -/
theorem out_step (t : Fin grid0.N) : (outsAt0 m hO c t).2.1 = k0_pay2 (F := Ideal)
    (k0_pay8 (iblk m hO c 0 t) (iblk m hO c 1 t) (iblk m hO c 2 t) (iblk m hO c 3 t) (iblk m hO c 4 t)) := by
  frame_out
  exact congrArg (k0_pay2 (F := Ideal)) (congr (congr (congr (congrArg₂ k0_pay8 ((hs0_0 m hO t).read_unread _)
    ((hs0_1 m hO t).read_unread _)) ((hs0_2 m hO t).read_unread _)) ((hs0_3 m hO t).read_unread _)) ((hs0_4 m hO t).read_unread _))

/-- What it writes of the first moments. -/
theorem out_first (t : Fin grid0.N) : (outsAt0 m hO c t).2.2.1 = k0_pay3 (F := Ideal)
    (k0_pay6 (iblk m hO c 0 t) (iblk m hO c 1 t) (iblk m hO c 3 t)) := by
  frame_out
  exact congrArg (k0_pay3 (F := Ideal)) (congr (congrArg₂ k0_pay6 ((hs0_0 m hO t).read_unread _)
    ((hs0_1 m hO t).read_unread _)) ((hs0_3 m hO t).read_unread _))

/-- What it writes of the second moments. -/
theorem out_second (t : Fin grid0.N) : (outsAt0 m hO c t).2.2.2 = k0_pay4 (F := Ideal)
    (k0_pay7 (iblk m hO c 0 t) (iblk m hO c 1 t) (iblk m hO c 4 t)) := by
  frame_out
  exact congrArg (k0_pay4 (F := Ideal)) (congr (congrArg₂ k0_pay7 ((hs0_0 m hO t).read_unread _)
    ((hs0_1 m hO t).read_unread _)) ((hs0_4 m hO t).read_unread _))

/-- The gradients at the end. -/
abbrev newGrad : (Whole 2048 1408).Idx → EReal := layer 2 (grad m c) (m ((c : Thread nD τ).loc main_arg6))

/-- The first result is they. -/
theorem newGrad_eq (h : Cert.Pre_Kernel15Ideal m) : (dats m hO 0 c).arrAt 5 (cfgM m hO).N = newGrad m c :=
  (dats m hO 0 c).arrAt_eq_of_coversWhere_of_agree 5 _ (fun β => β (0 : Fin 3) = 2)
    ⟨filled, fun t _ => ⟨congrFun (index t).1.1 (0 : Fin 3), fun _ => .inl rfl⟩,
      fun β e => (reach (fun t => (index t).1.1) blocks β e).imp fun _ e => ⟨e, flush0_5 _ _⟩⟩
    (fun t _ y => (congrFun ((after0_5 m hO c t).trans (out_grad m c hO t)) y).trans ((grad_apply _ _ y).trans
      ((held m c hO h t).new_grad (index t).1.1 y _ (((cfgM m hO).win 5).rect_emb_val t y))))
    (fun _ hj => (congrFun (kept m c).1 _).trans (if_neg fun e => hj ((Nat.div_one _).trans e)).symm)

/-- The steps at the end. -/
abbrev newStep : (Whole 2048 1408).Idx → EReal := steps 2 (grad m c) (m ((c : Thread nD τ).loc main_arg3)) (m ((c : Thread nD τ).loc main_arg4))
  (m ((c : Thread nD τ).loc main_arg5)) (m ((c : Thread nD τ).loc main_arg7))

/-- The second result is they. -/
theorem newStep_eq (h : Cert.Pre_Kernel15Ideal m) : (dats m hO 0 c).arrAt 6 (cfgM m hO).N = newStep m c :=
  (dats m hO 0 c).arrAt_eq_of_coversWhere_of_agree 6 _ (fun β => β (0 : Fin 3) = 2)
    ⟨filled, fun t _ => ⟨congrFun (index t).1.2.1 (0 : Fin 3), fun _ => .inl rfl⟩,
      fun β e => (reach (fun t => (index t).1.2.1) blocks β e).imp fun _ e => ⟨e, flush0_6 _ _⟩⟩
    (fun t _ y => (congrFun ((after0_6 m hO c t).trans (out_step m c hO t)) y).trans ((step_apply _ _ _ _ _ y).trans
      ((held m c hO h t).new_step (index t).1.2.1 y _ (((cfgM m hO).win 6).rect_emb_val t y))))
    (fun _ hj => (congrFun (kept m c).2.1 _).trans (if_neg fun e => hj ((Nat.div_one _).trans e)).symm)

/-- The first moments at the end. -/
abbrev newFirst : (Whole 2048 1408).Idx → EReal := firsts 2 (grad m c) (m ((c : Thread nD τ).loc main_arg4)) (m ((c : Thread nD τ).loc main_arg8))

/-- The third result is they. -/
theorem newFirst_eq (h : Cert.Pre_Kernel15Ideal m) : (dats m hO 0 c).arrAt 7 (cfgM m hO).N = newFirst m c :=
  (dats m hO 0 c).arrAt_eq_of_coversWhere_of_agree 7 _ (fun β => β (0 : Fin 3) = 2)
    ⟨filled, fun t _ => ⟨congrFun (index t).1.2.2.1 (0 : Fin 3), fun _ => .inl rfl⟩,
      fun β e => (reach (fun t => (index t).1.2.2.1) blocks β e).imp fun _ e => ⟨e, flush0_7 _ _⟩⟩
    (fun t _ y => (congrFun ((after0_7 m hO c t).trans (out_first m c hO t)) y).trans ((first_apply _ _ _ y).trans
      ((held m c hO h t).new_first (index t).1.2.2.1 y _ (((cfgM m hO).win 7).rect_emb_val t y))))
    (fun _ hj => (congrFun (kept m c).2.2.1 _).trans (if_neg fun e => hj ((Nat.div_one _).trans e)).symm)

/-- The second moments at the end. -/
abbrev newSecond : (Whole 2048 1408).Idx → EReal := seconds 2 (grad m c) (m ((c : Thread nD τ).loc main_arg5)) (m ((c : Thread nD τ).loc main_arg9))

/-- The fourth result is they. -/
theorem newSecond_eq (h : Cert.Pre_Kernel15Ideal m) : (dats m hO 0 c).arrAt 8 (cfgM m hO).N = newSecond m c :=
  (dats m hO 0 c).arrAt_eq_of_coversWhere_of_agree 8 _ (fun β => β (0 : Fin 3) = 2)
    ⟨filled, fun t _ => ⟨congrFun (index t).1.2.2.2 (0 : Fin 3), fun _ => .inl rfl⟩,
      fun β e => (reach (fun t => (index t).1.2.2.2) blocks β e).imp fun _ e => ⟨e, flush0_8 _ _⟩⟩
    (fun t _ y => (congrFun ((after0_8 m hO c t).trans (out_second m c hO t)) y).trans ((second_apply _ _ _ y).trans
      ((held m c hO h t).new_second (index t).1.2.2.2 y _ (((cfgM m hO).win 8).rect_emb_val t y))))
    (fun _ hj => (congrFun (kept m c).2.2.2 _).trans (if_neg fun e => hj ((Nat.div_one _).trans e)).symm)

/-- The kernel and the reference end with the same four arrays. -/
theorem algebraic : Cert.algebraic_Kernel15Ideal_Reference15Ideal := by
  intro m g m' g' h hArgs
  have hO := inside m h
  refine ⟨fun d => newGrad m d, fun d => newStep m d, fun d => newFirst m d, fun d => newSecond m d, ?_, ?_⟩
  · refine (θ_run _ _ _).mono (fun r p d => ?_) (θ_run_and (run_main m g hO) (unchanged m g hO))
    exact ⟨((p.1 d).1 5).trans (newGrad_eq m d hO h), ((p.1 d).1 6).trans (newStep_eq m d hO h),
      ((p.1 d).1 7).trans (newFirst_eq m d hO h), ((p.1 d).1 8).trans (newSecond_eq m d hO h), p.2 d⟩
  · refine (θ_run _ _ _).mono (fun r p d => ?_) (Cert.Reference15Ideal.Value.run m' g')
    obtain ⟨r0, r1, r2, r3, kept⟩ := p d
    obtain ⟨a0, a1, a2, a3, a4, a5, a6, a7, a8, a9⟩ := hArgs d
    refine ⟨r0.trans ?_, r1.trans ?_, r2.trans ?_, r3.trans ?_, kept⟩
    all_goals
      clear r0 r1 r2 r3 kept p
      funext y
      simp only [a0, a1, a2, a3, a4, a5, a6, a7, a8, a9, newGrad, newStep, newFirst, newSecond, steps, firsts, seconds, layer, step, first,
        second, total, own, mine]
      pointwise
      rw [pick_layer _ 2 (y 0).isLt (by decide), pick]
    all_goals rfl

end L2

/-! The second layer's program. -/

namespace L1
open Cert.Kernel16Ideal Cert.Kernel16Ideal.Gen

/-- The precondition puts the blocks inside their arrays, in the rounded program. -/
theorem inside_bits (m : (ℓ : Loc Cert.Kernel16.nD Cert.Kernel16.τ Cert.Kernel16.sig) → Buf (Elt Bits) ℓ) (h : Cert.Pre_Kernel16 m) :
    Cert.Kernel16.Gen.Ok (F := Bits) m :=
  ok_bits _ (zero_or_one _ (congrFun (h 0) (ix1 0)))

variable (m : (ℓ : Loc nD τ sig) → Buf (Elt Ideal) ℓ) (c : Dev nD)

/-- The device's coordinate. -/
def mine : BitVec 32 := m ((c : Thread nD τ).loc main_arg0) (ix1 0)

/-- The precondition leaves it two values. -/
theorem mine_eq (h : Cert.Pre_Kernel16Ideal m) : mine m c = 0#32 ∨ mine m c = 1#32 := zero_or_one _ (congrFun (h c) (ix1 0))

/-- The precondition puts the blocks inside their arrays. -/
theorem inside (h : Cert.Pre_Kernel16Ideal m) : Gen.Ok (F := Ideal) m := ok _ (mine_eq m 0 h)

/-- Point `t` reads and writes block `t` of the layer's rows, whatever the table holds. -/
theorem index : ∀ t : Fin grid0.N, (cc0_transform_9 (grid0.coords t) = ![1, t.val, 0] ∧ cc0_transform_10 (grid0.coords t) = ![1, t.val, 0]
    ∧ cc0_transform_11 (grid0.coords t) = ![1, t.val, 0] ∧ cc0_transform_12 (grid0.coords t) = ![1, t.val, 0])
    ∧ cc0_transform_1 (grid0.coords t) = ![t.val, 0] ∧ cc0_transform_2 (grid0.coords t) = ![1, t.val, 0]
    ∧ cc0_transform_3 (grid0.coords t) = ![1, t.val, 0] ∧ cc0_transform_4 (grid0.coords t) = ![1, t.val, 0] := by decide +kernel

variable (hO : Gen.Ok (F := Ideal) m)

/-- It reads block `t` of the device's own half of the gradient. -/
theorem own_index (t : Fin grid0.N) : ((cfgM m hO).win 0).index t = ![(mine m c).toNat, t.val, 0] := by
  obtain rfl : c = 0 := Subsingleton.elim _ _
  have e : ((cfgM m hO).win 0).index t = ![(mine m 0).toNat, (BitVec.ofNat 32 (grid0.coords t 0).val).toNat, (0#32).toNat] :=
    congrArg (fun x : BitVec 32 => ![x.toNat, (BitVec.ofNat 32 (grid0.coords t 0).val).toNat, (0#32).toNat])
      ((congrFun (V_main_arg0 m 0) _).trans (congrArg (m ((0 : Dev nD), main_arg0)) (only_index _)))
  exact e.trans (congrArg (fun n : Nat => ![(mine m 0).toNat, n, 0]) (coord t))

/-- The gradient: the device's own half and the received one. -/
abbrev grad : (Whole 2048 1408).Idx → EReal :=
  total (mine m c) (m ((c : Thread nD τ).loc main_arg1)) (m ((c : Thread nD τ).loc main_arg2))

/-- A point's blocks hold its rows. -/
theorem held (h : Cert.Pre_Kernel16Ideal m) (t : Fin grid0.N) : Held (B := 128) 1 t.val (grad m c) (m ((c : Thread nD τ).loc main_arg3))
    (m ((c : Thread nD τ).loc main_arg4)) (m ((c : Thread nD τ).loc main_arg5)) (iblk m hO c 0 t) (iblk m hO c 1 t) (iblk m hO c 2 t)
    (iblk m hO c 3 t) (iblk m hO c 4 t) where
  sum y z h1 h2 := congrArg₂ (fun a b : EReal => a + b)
    ((congrFun (V_main_arg1 m c) _).trans (read_own (mine_eq m c h) (own_index m c hO t) _ y _ (((cfgM m hO).win 0).rect_emb_val t y) z h1 h2))
    ((congrFun (V_main_arg2 m c) _).trans (read_flat (index t).2.1 _ y _ (((cfgM m hO).win 1).rect_emb_val t (ix2 (y 1) (y 2))) z h1 h2))
  weight y z h0 h1 h2 := (congrFun (V_main_arg3 m c) _).trans
    (read_rows (index t).2.2.1 _ y _ (((cfgM m hO).win 2).rect_emb_val t y) z h0 h1 h2)
  first y z h0 h1 h2 := (congrFun (V_main_arg4 m c) _).trans
    (read_rows (index t).2.2.2.1 _ y _ (((cfgM m hO).win 3).rect_emb_val t y) z h0 h1 h2)
  second y z h0 h1 h2 := (congrFun (V_main_arg5 m c) _).trans
    (read_rows (index t).2.2.2.2 _ y _ (((cfgM m hO).win 4).rect_emb_val t y) z h0 h1 h2)

/-- The results find their arguments' contents. -/
theorem kept : V m c main_v0_0 = m ((c : Thread nD τ).loc main_arg6) ∧ V m c main_v0_1 = m ((c : Thread nD τ).loc main_arg7)
    ∧ V m c main_v0_2 = m ((c : Thread nD τ).loc main_arg8) ∧ V m c main_v0_3 = m ((c : Thread nD τ).loc main_arg9) := by
  refine ⟨?_, ?_, ?_, ?_⟩
  all_goals
    unfold V hostOps0
    after_results
    rfl

/-- What point `t` writes of the gradients. -/
theorem out_grad (t : Fin grid0.N) : (outsAt0 m hO c t).1 = k0_pay1 (F := Ideal) (k0_pay5 (iblk m hO c 0 t) (iblk m hO c 1 t)) := by
  frame_out
  exact congrArg (k0_pay1 (F := Ideal)) (congrArg₂ k0_pay5 ((hs0_0 m hO t).read_unread _) ((hs0_1 m hO t).read_unread _))

/-- What it writes of the steps. -/
theorem out_step (t : Fin grid0.N) : (outsAt0 m hO c t).2.1 = k0_pay2 (F := Ideal)
    (k0_pay8 (iblk m hO c 0 t) (iblk m hO c 1 t) (iblk m hO c 2 t) (iblk m hO c 3 t) (iblk m hO c 4 t)) := by
  frame_out
  exact congrArg (k0_pay2 (F := Ideal)) (congr (congr (congr (congrArg₂ k0_pay8 ((hs0_0 m hO t).read_unread _)
    ((hs0_1 m hO t).read_unread _)) ((hs0_2 m hO t).read_unread _)) ((hs0_3 m hO t).read_unread _)) ((hs0_4 m hO t).read_unread _))

/-- What it writes of the first moments. -/
theorem out_first (t : Fin grid0.N) : (outsAt0 m hO c t).2.2.1 = k0_pay3 (F := Ideal)
    (k0_pay6 (iblk m hO c 0 t) (iblk m hO c 1 t) (iblk m hO c 3 t)) := by
  frame_out
  exact congrArg (k0_pay3 (F := Ideal)) (congr (congrArg₂ k0_pay6 ((hs0_0 m hO t).read_unread _)
    ((hs0_1 m hO t).read_unread _)) ((hs0_3 m hO t).read_unread _))

/-- What it writes of the second moments. -/
theorem out_second (t : Fin grid0.N) : (outsAt0 m hO c t).2.2.2 = k0_pay4 (F := Ideal)
    (k0_pay7 (iblk m hO c 0 t) (iblk m hO c 1 t) (iblk m hO c 4 t)) := by
  frame_out
  exact congrArg (k0_pay4 (F := Ideal)) (congr (congrArg₂ k0_pay7 ((hs0_0 m hO t).read_unread _)
    ((hs0_1 m hO t).read_unread _)) ((hs0_4 m hO t).read_unread _))

/-- The gradients at the end. -/
abbrev newGrad : (Whole 2048 1408).Idx → EReal := layer 1 (grad m c) (m ((c : Thread nD τ).loc main_arg6))

/-- The first result is they. -/
theorem newGrad_eq (h : Cert.Pre_Kernel16Ideal m) : (dats m hO 0 c).arrAt 5 (cfgM m hO).N = newGrad m c :=
  (dats m hO 0 c).arrAt_eq_of_coversWhere_of_agree 5 _ (fun β => β (0 : Fin 3) = 1)
    ⟨filled, fun t _ => ⟨congrFun (index t).1.1 (0 : Fin 3), fun _ => .inl rfl⟩,
      fun β e => (reach (fun t => (index t).1.1) blocks β e).imp fun _ e => ⟨e, flush0_5 _ _⟩⟩
    (fun t _ y => (congrFun ((after0_5 m hO c t).trans (out_grad m c hO t)) y).trans ((grad_apply _ _ y).trans
      ((held m c hO h t).new_grad (index t).1.1 y _ (((cfgM m hO).win 5).rect_emb_val t y))))
    (fun _ hj => (congrFun (kept m c).1 _).trans (if_neg fun e => hj ((Nat.div_one _).trans e)).symm)

/-- The steps at the end. -/
abbrev newStep : (Whole 2048 1408).Idx → EReal := steps 1 (grad m c) (m ((c : Thread nD τ).loc main_arg3)) (m ((c : Thread nD τ).loc main_arg4))
  (m ((c : Thread nD τ).loc main_arg5)) (m ((c : Thread nD τ).loc main_arg7))

/-- The second result is they. -/
theorem newStep_eq (h : Cert.Pre_Kernel16Ideal m) : (dats m hO 0 c).arrAt 6 (cfgM m hO).N = newStep m c :=
  (dats m hO 0 c).arrAt_eq_of_coversWhere_of_agree 6 _ (fun β => β (0 : Fin 3) = 1)
    ⟨filled, fun t _ => ⟨congrFun (index t).1.2.1 (0 : Fin 3), fun _ => .inl rfl⟩,
      fun β e => (reach (fun t => (index t).1.2.1) blocks β e).imp fun _ e => ⟨e, flush0_6 _ _⟩⟩
    (fun t _ y => (congrFun ((after0_6 m hO c t).trans (out_step m c hO t)) y).trans ((step_apply _ _ _ _ _ y).trans
      ((held m c hO h t).new_step (index t).1.2.1 y _ (((cfgM m hO).win 6).rect_emb_val t y))))
    (fun _ hj => (congrFun (kept m c).2.1 _).trans (if_neg fun e => hj ((Nat.div_one _).trans e)).symm)

/-- The first moments at the end. -/
abbrev newFirst : (Whole 2048 1408).Idx → EReal := firsts 1 (grad m c) (m ((c : Thread nD τ).loc main_arg4)) (m ((c : Thread nD τ).loc main_arg8))

/-- The third result is they. -/
theorem newFirst_eq (h : Cert.Pre_Kernel16Ideal m) : (dats m hO 0 c).arrAt 7 (cfgM m hO).N = newFirst m c :=
  (dats m hO 0 c).arrAt_eq_of_coversWhere_of_agree 7 _ (fun β => β (0 : Fin 3) = 1)
    ⟨filled, fun t _ => ⟨congrFun (index t).1.2.2.1 (0 : Fin 3), fun _ => .inl rfl⟩,
      fun β e => (reach (fun t => (index t).1.2.2.1) blocks β e).imp fun _ e => ⟨e, flush0_7 _ _⟩⟩
    (fun t _ y => (congrFun ((after0_7 m hO c t).trans (out_first m c hO t)) y).trans ((first_apply _ _ _ y).trans
      ((held m c hO h t).new_first (index t).1.2.2.1 y _ (((cfgM m hO).win 7).rect_emb_val t y))))
    (fun _ hj => (congrFun (kept m c).2.2.1 _).trans (if_neg fun e => hj ((Nat.div_one _).trans e)).symm)

/-- The second moments at the end. -/
abbrev newSecond : (Whole 2048 1408).Idx → EReal := seconds 1 (grad m c) (m ((c : Thread nD τ).loc main_arg5)) (m ((c : Thread nD τ).loc main_arg9))

/-- The fourth result is they. -/
theorem newSecond_eq (h : Cert.Pre_Kernel16Ideal m) : (dats m hO 0 c).arrAt 8 (cfgM m hO).N = newSecond m c :=
  (dats m hO 0 c).arrAt_eq_of_coversWhere_of_agree 8 _ (fun β => β (0 : Fin 3) = 1)
    ⟨filled, fun t _ => ⟨congrFun (index t).1.2.2.2 (0 : Fin 3), fun _ => .inl rfl⟩,
      fun β e => (reach (fun t => (index t).1.2.2.2) blocks β e).imp fun _ e => ⟨e, flush0_8 _ _⟩⟩
    (fun t _ y => (congrFun ((after0_8 m hO c t).trans (out_second m c hO t)) y).trans ((second_apply _ _ _ y).trans
      ((held m c hO h t).new_second (index t).1.2.2.2 y _ (((cfgM m hO).win 8).rect_emb_val t y))))
    (fun _ hj => (congrFun (kept m c).2.2.2 _).trans (if_neg fun e => hj ((Nat.div_one _).trans e)).symm)

/-- The kernel and the reference end with the same four arrays. -/
theorem algebraic : Cert.algebraic_Kernel16Ideal_Reference16Ideal := by
  intro m g m' g' h hArgs
  have hO := inside m h
  refine ⟨fun d => newGrad m d, fun d => newStep m d, fun d => newFirst m d, fun d => newSecond m d, ?_, ?_⟩
  · refine (θ_run _ _ _).mono (fun r p d => ?_) (θ_run_and (run_main m g hO) (unchanged m g hO))
    exact ⟨((p.1 d).1 5).trans (newGrad_eq m d hO h), ((p.1 d).1 6).trans (newStep_eq m d hO h),
      ((p.1 d).1 7).trans (newFirst_eq m d hO h), ((p.1 d).1 8).trans (newSecond_eq m d hO h), p.2 d⟩
  · refine (θ_run _ _ _).mono (fun r p d => ?_) (Cert.Reference16Ideal.Value.run m' g')
    obtain ⟨r0, r1, r2, r3, kept⟩ := p d
    obtain ⟨a0, a1, a2, a3, a4, a5, a6, a7, a8, a9⟩ := hArgs d
    refine ⟨r0.trans ?_, r1.trans ?_, r2.trans ?_, r3.trans ?_, kept⟩
    all_goals
      clear r0 r1 r2 r3 kept p
      funext y
      simp only [a0, a1, a2, a3, a4, a5, a6, a7, a8, a9, newGrad, newStep, newFirst, newSecond, steps, firsts, seconds, layer, step, first,
        second, total, own, mine]
      pointwise
      rw [pick_layer _ 1 (y 0).isLt (by decide), pick]
    all_goals rfl

end L1

/-! The first layer's program. -/

namespace L0
open Cert.Kernel17Ideal Cert.Kernel17Ideal.Gen

/-- The precondition puts the blocks inside their arrays, in the rounded program. -/
theorem inside_bits (m : (ℓ : Loc Cert.Kernel17.nD Cert.Kernel17.τ Cert.Kernel17.sig) → Buf (Elt Bits) ℓ) (h : Cert.Pre_Kernel17 m) :
    Cert.Kernel17.Gen.Ok (F := Bits) m :=
  ok_bits _ (zero_or_one _ (congrFun (h 0) (ix1 0)))

variable (m : (ℓ : Loc nD τ sig) → Buf (Elt Ideal) ℓ) (c : Dev nD)

/-- The device's coordinate. -/
def mine : BitVec 32 := m ((c : Thread nD τ).loc main_arg0) (ix1 0)

/-- The precondition leaves it two values. -/
theorem mine_eq (h : Cert.Pre_Kernel17Ideal m) : mine m c = 0#32 ∨ mine m c = 1#32 := zero_or_one _ (congrFun (h c) (ix1 0))

/-- The precondition puts the blocks inside their arrays. -/
theorem inside (h : Cert.Pre_Kernel17Ideal m) : Gen.Ok (F := Ideal) m := ok _ (mine_eq m 0 h)

/-- Point `t` reads and writes block `t` of the layer's rows, whatever the table holds. -/
theorem index : ∀ t : Fin grid0.N, (cc0_transform_9 (grid0.coords t) = ![0, t.val, 0] ∧ cc0_transform_10 (grid0.coords t) = ![0, t.val, 0]
    ∧ cc0_transform_11 (grid0.coords t) = ![0, t.val, 0] ∧ cc0_transform_12 (grid0.coords t) = ![0, t.val, 0])
    ∧ cc0_transform_1 (grid0.coords t) = ![t.val, 0] ∧ cc0_transform_2 (grid0.coords t) = ![0, t.val, 0]
    ∧ cc0_transform_3 (grid0.coords t) = ![0, t.val, 0] ∧ cc0_transform_4 (grid0.coords t) = ![0, t.val, 0] := by decide +kernel

variable (hO : Gen.Ok (F := Ideal) m)

/-- It reads block `t` of the device's own half of the gradient. -/
theorem own_index (t : Fin grid0.N) : ((cfgM m hO).win 0).index t = ![(mine m c).toNat, t.val, 0] := by
  obtain rfl : c = 0 := Subsingleton.elim _ _
  have e : ((cfgM m hO).win 0).index t = ![(mine m 0).toNat, (BitVec.ofNat 32 (grid0.coords t 0).val).toNat, (0#32).toNat] :=
    congrArg (fun x : BitVec 32 => ![x.toNat, (BitVec.ofNat 32 (grid0.coords t 0).val).toNat, (0#32).toNat])
      ((congrFun (V_main_arg0 m 0) _).trans (congrArg (m ((0 : Dev nD), main_arg0)) (only_index _)))
  exact e.trans (congrArg (fun n : Nat => ![(mine m 0).toNat, n, 0]) (coord t))

/-- The gradient: the device's own half and the received one. -/
abbrev grad : (Whole 2048 1408).Idx → EReal :=
  total (mine m c) (m ((c : Thread nD τ).loc main_arg1)) (m ((c : Thread nD τ).loc main_arg2))

/-- A point's blocks hold its rows. -/
theorem held (h : Cert.Pre_Kernel17Ideal m) (t : Fin grid0.N) : Held (B := 128) 0 t.val (grad m c) (m ((c : Thread nD τ).loc main_arg3))
    (m ((c : Thread nD τ).loc main_arg4)) (m ((c : Thread nD τ).loc main_arg5)) (iblk m hO c 0 t) (iblk m hO c 1 t) (iblk m hO c 2 t)
    (iblk m hO c 3 t) (iblk m hO c 4 t) where
  sum y z h1 h2 := congrArg₂ (fun a b : EReal => a + b)
    ((congrFun (V_main_arg1 m c) _).trans (read_own (mine_eq m c h) (own_index m c hO t) _ y _ (((cfgM m hO).win 0).rect_emb_val t y) z h1 h2))
    ((congrFun (V_main_arg2 m c) _).trans (read_flat (index t).2.1 _ y _ (((cfgM m hO).win 1).rect_emb_val t (ix2 (y 1) (y 2))) z h1 h2))
  weight y z h0 h1 h2 := (congrFun (V_main_arg3 m c) _).trans
    (read_rows (index t).2.2.1 _ y _ (((cfgM m hO).win 2).rect_emb_val t y) z h0 h1 h2)
  first y z h0 h1 h2 := (congrFun (V_main_arg4 m c) _).trans
    (read_rows (index t).2.2.2.1 _ y _ (((cfgM m hO).win 3).rect_emb_val t y) z h0 h1 h2)
  second y z h0 h1 h2 := (congrFun (V_main_arg5 m c) _).trans
    (read_rows (index t).2.2.2.2 _ y _ (((cfgM m hO).win 4).rect_emb_val t y) z h0 h1 h2)

/-- The results find their arguments' contents. -/
theorem kept : V m c main_v0_0 = m ((c : Thread nD τ).loc main_arg6) ∧ V m c main_v0_1 = m ((c : Thread nD τ).loc main_arg7)
    ∧ V m c main_v0_2 = m ((c : Thread nD τ).loc main_arg8) ∧ V m c main_v0_3 = m ((c : Thread nD τ).loc main_arg9) := by
  refine ⟨?_, ?_, ?_, ?_⟩
  all_goals
    unfold V hostOps0
    after_results
    rfl

/-- What point `t` writes of the gradients. -/
theorem out_grad (t : Fin grid0.N) : (outsAt0 m hO c t).1 = k0_pay1 (F := Ideal) (k0_pay5 (iblk m hO c 0 t) (iblk m hO c 1 t)) := by
  frame_out
  exact congrArg (k0_pay1 (F := Ideal)) (congrArg₂ k0_pay5 ((hs0_0 m hO t).read_unread _) ((hs0_1 m hO t).read_unread _))

/-- What it writes of the steps. -/
theorem out_step (t : Fin grid0.N) : (outsAt0 m hO c t).2.1 = k0_pay2 (F := Ideal)
    (k0_pay8 (iblk m hO c 0 t) (iblk m hO c 1 t) (iblk m hO c 2 t) (iblk m hO c 3 t) (iblk m hO c 4 t)) := by
  frame_out
  exact congrArg (k0_pay2 (F := Ideal)) (congr (congr (congr (congrArg₂ k0_pay8 ((hs0_0 m hO t).read_unread _)
    ((hs0_1 m hO t).read_unread _)) ((hs0_2 m hO t).read_unread _)) ((hs0_3 m hO t).read_unread _)) ((hs0_4 m hO t).read_unread _))

/-- What it writes of the first moments. -/
theorem out_first (t : Fin grid0.N) : (outsAt0 m hO c t).2.2.1 = k0_pay3 (F := Ideal)
    (k0_pay6 (iblk m hO c 0 t) (iblk m hO c 1 t) (iblk m hO c 3 t)) := by
  frame_out
  exact congrArg (k0_pay3 (F := Ideal)) (congr (congrArg₂ k0_pay6 ((hs0_0 m hO t).read_unread _)
    ((hs0_1 m hO t).read_unread _)) ((hs0_3 m hO t).read_unread _))

/-- What it writes of the second moments. -/
theorem out_second (t : Fin grid0.N) : (outsAt0 m hO c t).2.2.2 = k0_pay4 (F := Ideal)
    (k0_pay7 (iblk m hO c 0 t) (iblk m hO c 1 t) (iblk m hO c 4 t)) := by
  frame_out
  exact congrArg (k0_pay4 (F := Ideal)) (congr (congrArg₂ k0_pay7 ((hs0_0 m hO t).read_unread _)
    ((hs0_1 m hO t).read_unread _)) ((hs0_4 m hO t).read_unread _))

/-- The gradients at the end. -/
abbrev newGrad : (Whole 2048 1408).Idx → EReal := layer 0 (grad m c) (m ((c : Thread nD τ).loc main_arg6))

/-- The first result is they. -/
theorem newGrad_eq (h : Cert.Pre_Kernel17Ideal m) : (dats m hO 0 c).arrAt 5 (cfgM m hO).N = newGrad m c :=
  (dats m hO 0 c).arrAt_eq_of_coversWhere_of_agree 5 _ (fun β => β (0 : Fin 3) = 0)
    ⟨filled, fun t _ => ⟨congrFun (index t).1.1 (0 : Fin 3), fun _ => .inl rfl⟩,
      fun β e => (reach (fun t => (index t).1.1) blocks β e).imp fun _ e => ⟨e, flush0_5 _ _⟩⟩
    (fun t _ y => (congrFun ((after0_5 m hO c t).trans (out_grad m c hO t)) y).trans ((grad_apply _ _ y).trans
      ((held m c hO h t).new_grad (index t).1.1 y _ (((cfgM m hO).win 5).rect_emb_val t y))))
    (fun _ hj => (congrFun (kept m c).1 _).trans (if_neg fun e => hj ((Nat.div_one _).trans e)).symm)

/-- The steps at the end. -/
abbrev newStep : (Whole 2048 1408).Idx → EReal := steps 0 (grad m c) (m ((c : Thread nD τ).loc main_arg3)) (m ((c : Thread nD τ).loc main_arg4))
  (m ((c : Thread nD τ).loc main_arg5)) (m ((c : Thread nD τ).loc main_arg7))

/-- The second result is they. -/
theorem newStep_eq (h : Cert.Pre_Kernel17Ideal m) : (dats m hO 0 c).arrAt 6 (cfgM m hO).N = newStep m c :=
  (dats m hO 0 c).arrAt_eq_of_coversWhere_of_agree 6 _ (fun β => β (0 : Fin 3) = 0)
    ⟨filled, fun t _ => ⟨congrFun (index t).1.2.1 (0 : Fin 3), fun _ => .inl rfl⟩,
      fun β e => (reach (fun t => (index t).1.2.1) blocks β e).imp fun _ e => ⟨e, flush0_6 _ _⟩⟩
    (fun t _ y => (congrFun ((after0_6 m hO c t).trans (out_step m c hO t)) y).trans ((step_apply _ _ _ _ _ y).trans
      ((held m c hO h t).new_step (index t).1.2.1 y _ (((cfgM m hO).win 6).rect_emb_val t y))))
    (fun _ hj => (congrFun (kept m c).2.1 _).trans (if_neg fun e => hj ((Nat.div_one _).trans e)).symm)

/-- The first moments at the end. -/
abbrev newFirst : (Whole 2048 1408).Idx → EReal := firsts 0 (grad m c) (m ((c : Thread nD τ).loc main_arg4)) (m ((c : Thread nD τ).loc main_arg8))

/-- The third result is they. -/
theorem newFirst_eq (h : Cert.Pre_Kernel17Ideal m) : (dats m hO 0 c).arrAt 7 (cfgM m hO).N = newFirst m c :=
  (dats m hO 0 c).arrAt_eq_of_coversWhere_of_agree 7 _ (fun β => β (0 : Fin 3) = 0)
    ⟨filled, fun t _ => ⟨congrFun (index t).1.2.2.1 (0 : Fin 3), fun _ => .inl rfl⟩,
      fun β e => (reach (fun t => (index t).1.2.2.1) blocks β e).imp fun _ e => ⟨e, flush0_7 _ _⟩⟩
    (fun t _ y => (congrFun ((after0_7 m hO c t).trans (out_first m c hO t)) y).trans ((first_apply _ _ _ y).trans
      ((held m c hO h t).new_first (index t).1.2.2.1 y _ (((cfgM m hO).win 7).rect_emb_val t y))))
    (fun _ hj => (congrFun (kept m c).2.2.1 _).trans (if_neg fun e => hj ((Nat.div_one _).trans e)).symm)

/-- The second moments at the end. -/
abbrev newSecond : (Whole 2048 1408).Idx → EReal := seconds 0 (grad m c) (m ((c : Thread nD τ).loc main_arg5)) (m ((c : Thread nD τ).loc main_arg9))

/-- The fourth result is they. -/
theorem newSecond_eq (h : Cert.Pre_Kernel17Ideal m) : (dats m hO 0 c).arrAt 8 (cfgM m hO).N = newSecond m c :=
  (dats m hO 0 c).arrAt_eq_of_coversWhere_of_agree 8 _ (fun β => β (0 : Fin 3) = 0)
    ⟨filled, fun t _ => ⟨congrFun (index t).1.2.2.2 (0 : Fin 3), fun _ => .inl rfl⟩,
      fun β e => (reach (fun t => (index t).1.2.2.2) blocks β e).imp fun _ e => ⟨e, flush0_8 _ _⟩⟩
    (fun t _ y => (congrFun ((after0_8 m hO c t).trans (out_second m c hO t)) y).trans ((second_apply _ _ _ y).trans
      ((held m c hO h t).new_second (index t).1.2.2.2 y _ (((cfgM m hO).win 8).rect_emb_val t y))))
    (fun _ hj => (congrFun (kept m c).2.2.2 _).trans (if_neg fun e => hj ((Nat.div_one _).trans e)).symm)

/-- The kernel and the reference end with the same four arrays. -/
theorem algebraic : Cert.algebraic_Kernel17Ideal_Reference17Ideal := by
  intro m g m' g' h hArgs
  have hO := inside m h
  refine ⟨fun d => newGrad m d, fun d => newStep m d, fun d => newFirst m d, fun d => newSecond m d, ?_, ?_⟩
  · refine (θ_run _ _ _).mono (fun r p d => ?_) (θ_run_and (run_main m g hO) (unchanged m g hO))
    exact ⟨((p.1 d).1 5).trans (newGrad_eq m d hO h), ((p.1 d).1 6).trans (newStep_eq m d hO h),
      ((p.1 d).1 7).trans (newFirst_eq m d hO h), ((p.1 d).1 8).trans (newSecond_eq m d hO h), p.2 d⟩
  · refine (θ_run _ _ _).mono (fun r p d => ?_) (Cert.Reference17Ideal.Value.run m' g')
    obtain ⟨r0, r1, r2, r3, kept⟩ := p d
    obtain ⟨a0, a1, a2, a3, a4, a5, a6, a7, a8, a9⟩ := hArgs d
    refine ⟨r0.trans ?_, r1.trans ?_, r2.trans ?_, r3.trans ?_, kept⟩
    all_goals
      clear r0 r1 r2 r3 kept p
      funext y
      simp only [a0, a1, a2, a3, a4, a5, a6, a7, a8, a9, newGrad, newStep, newFirst, newSecond, steps, firsts, seconds, layer, step, first,
        second, total, own, mine]
      pointwise
      rw [pick_layer _ 0 (y 0).isLt (by decide), pick]
    all_goals rfl

end L0

end Cert.Opt.Gu
end
-- ==== Proof.Opt.Down.lean ====
/- The optimiser's step of the feed-forward blocks' down weights, layer by layer: the kernel's results are the reference's. -/
module
public import proofs.«01_k».proof.Defs
public import proofs.«01_k».proof.Proof.Opt.Layer
public import proofs.«01_k».proof.Proof.Gen.Kernel18.Frame
public import proofs.«01_k».proof.Proof.Gen.Kernel18Ideal.Frame
public import proofs.«01_k».proof.Proof.Gen.Reference18Ideal.Run
public import proofs.«01_k».proof.Proof.Gen.Kernel19.Frame
public import proofs.«01_k».proof.Proof.Gen.Kernel19Ideal.Frame
public import proofs.«01_k».proof.Proof.Gen.Reference19Ideal.Run
public import proofs.«01_k».proof.Proof.Gen.Kernel20.Frame
public import proofs.«01_k».proof.Proof.Gen.Kernel20Ideal.Frame
public import proofs.«01_k».proof.Proof.Gen.Reference20Ideal.Run
public import proofs.«01_k».proof.Proof.Gen.Kernel21.Frame
public import proofs.«01_k».proof.Proof.Gen.Kernel21Ideal.Frame
public import proofs.«01_k».proof.Proof.Gen.Reference21Ideal.Run
public import proofs.«01_k».proof.Proof.Gen.Pre_pair2

@[expose] public section
set_option maxRecDepth 16384

noncomputable section
namespace Cert.Opt.Down
open Idealize.ShloMosaic
open Idealize.ShloMosaic.TcCoe Idealize.ShloMosaic.Tactic

/-! What the four layers' programs share: their tables, their arithmetic and their blocks are the same. -/

section
open Cert.Kernel18

set_option backward.proofsInPublic true in
/-- A table that holds 0 or 1 puts the first operand's block inside its array, in the rounded program. -/
theorem ok_bits (pf : pre0.Contents (Elt Bits)) (h : pf 0 (ix1 0) = 0#32 ∨ pf 0 (ix1 0) = 1#32) : ok0 (F := Bits) pf := by
  have e : pf = fun | ⟨0, _⟩ => fun _ => pf 0 (ix1 0) | ⟨_ + 1, h⟩ => absurd h (by simp) :=
    funext fun | ⟨0, _⟩ => funext fun x => congrArg (pf 0) (only_index x)
  rw [e]
  rcases h with h | h <;> rw [h] <;> decide +kernel

end

section
open Cert.Kernel18Ideal Cert.Kernel18Ideal.Gen

set_option backward.proofsInPublic true in
/-- A table that holds 0 or 1 puts the first operand's block inside its array. -/
theorem ok (pf : pre0.Contents (Elt Ideal)) (h : pf 0 (ix1 0) = 0#32 ∨ pf 0 (ix1 0) = 1#32) : ok0 (F := Ideal) pf := by
  have e : pf = fun | ⟨0, _⟩ => fun _ => pf 0 (ix1 0) | ⟨_ + 1, h⟩ => absurd h (by simp) :=
    funext fun | ⟨0, _⟩ => funext fun x => congrArg (pf 0) (only_index x)
  rw [e]
  rcases h with h | h <;> rw [h] <;> decide +kernel

/-- The one grid coordinate of a point, as a word, is the point's number. -/
theorem coord : ∀ t : Fin grid0.N, (BitVec.ofNat 32 (grid0.coords t 0).val).toNat = t.val := by decide +kernel

/-- The blocks of a result: four layers of the grid's points. -/
theorem blocks : ∀ a : Fin 3, ((Whole 704 2048).size a + (Rows 64 2048).size a - 1) / (Rows 64 2048).size a = ![4, grid0.N, 1] a := by decide

/-- A block is not empty. -/
theorem filled : ∀ a : Fin 3, 0 < (Rows 64 2048).size a := by decide

section
variable (x0 : Vec Ideal (Rows 64 2048) .bf16) (x1 : Vec Ideal (Flat 64 2048) .bf16) (x2 x3 x4 : Vec Ideal (Rows 64 2048) .f32) (y : (Rows 64 2048).Idx)

/-- What the kernel stores as the gradient: its own half plus the received one. -/
theorem grad_apply : k0_pay1 (F := Ideal) (k0_pay5 x0 x1) y = add x0 x1 y := by
  unfold add
  pointwise [k0_pay1, k0_pay5]

/-- What it stores as the first moment. -/
theorem first_apply : k0_pay3 (F := Ideal) (k0_pay6 x0 x1 x3) y = first (add x0 x1 y) (x3 y) := by
  unfold first add
  pointwise [k0_pay3, k0_pay6, k0_pay5]

/-- What it stores as the second moment. -/
theorem second_apply : k0_pay4 (F := Ideal) (k0_pay7 x0 x1 x4) y = second (add x0 x1 y) (x4 y) := by
  unfold second add
  pointwise [k0_pay4, k0_pay7, k0_pay5]

/-- What it stores as the step. -/
theorem step_apply : k0_pay2 (F := Ideal) (k0_pay8 x0 x1 x2 x3 x4) y = step (add x0 x1 y) (x2 y) (x3 y) (x4 y) := by
  unfold step first second add
  pointwise [k0_pay2, k0_pay8, k0_pay6, k0_pay7, k0_pay5]

end

end

/-! The last layer's program. -/

namespace L3
open Cert.Kernel18Ideal Cert.Kernel18Ideal.Gen

/-- The precondition puts the blocks inside their arrays, in the rounded program. -/
theorem inside_bits (m : (ℓ : Loc Cert.Kernel18.nD Cert.Kernel18.τ Cert.Kernel18.sig) → Buf (Elt Bits) ℓ) (h : Cert.Pre_Kernel18 m) :
    Cert.Kernel18.Gen.Ok (F := Bits) m :=
  ok_bits _ (zero_or_one _ (congrFun (h 0) (ix1 0)))

variable (m : (ℓ : Loc nD τ sig) → Buf (Elt Ideal) ℓ) (c : Dev nD)

/-- The device's coordinate. -/
def mine : BitVec 32 := m ((c : Thread nD τ).loc main_arg0) (ix1 0)

/-- The precondition leaves it two values. -/
theorem mine_eq (h : Cert.Pre_Kernel18Ideal m) : mine m c = 0#32 ∨ mine m c = 1#32 := zero_or_one _ (congrFun (h c) (ix1 0))

/-- The precondition puts the blocks inside their arrays. -/
theorem inside (h : Cert.Pre_Kernel18Ideal m) : Gen.Ok (F := Ideal) m := ok _ (mine_eq m 0 h)

/-- Point `t` reads and writes block `t` of the layer's rows, whatever the table holds. -/
theorem index : ∀ t : Fin grid0.N, (cc0_transform_9 (grid0.coords t) = ![3, t.val, 0] ∧ cc0_transform_10 (grid0.coords t) = ![3, t.val, 0]
    ∧ cc0_transform_11 (grid0.coords t) = ![3, t.val, 0] ∧ cc0_transform_12 (grid0.coords t) = ![3, t.val, 0])
    ∧ cc0_transform_1 (grid0.coords t) = ![t.val, 0] ∧ cc0_transform_2 (grid0.coords t) = ![3, t.val, 0]
    ∧ cc0_transform_3 (grid0.coords t) = ![3, t.val, 0] ∧ cc0_transform_4 (grid0.coords t) = ![3, t.val, 0] := by decide +kernel

variable (hO : Gen.Ok (F := Ideal) m)

/-- It reads block `t` of the device's own half of the gradient. -/
theorem own_index (t : Fin grid0.N) : ((cfgM m hO).win 0).index t = ![(mine m c).toNat, t.val, 0] := by
  obtain rfl : c = 0 := Subsingleton.elim _ _
  have e : ((cfgM m hO).win 0).index t = ![(mine m 0).toNat, (BitVec.ofNat 32 (grid0.coords t 0).val).toNat, (0#32).toNat] :=
    congrArg (fun x : BitVec 32 => ![x.toNat, (BitVec.ofNat 32 (grid0.coords t 0).val).toNat, (0#32).toNat])
      ((congrFun (V_main_arg0 m 0) _).trans (congrArg (m ((0 : Dev nD), main_arg0)) (only_index _)))
  exact e.trans (congrArg (fun n : Nat => ![(mine m 0).toNat, n, 0]) (coord t))

/-- The gradient: the device's own half and the received one. -/
abbrev grad : (Whole 704 2048).Idx → EReal :=
  total (mine m c) (m ((c : Thread nD τ).loc main_arg1)) (m ((c : Thread nD τ).loc main_arg2))

/-- A point's blocks hold its rows. -/
theorem held (h : Cert.Pre_Kernel18Ideal m) (t : Fin grid0.N) : Held (B := 64) 3 t.val (grad m c) (m ((c : Thread nD τ).loc main_arg3))
    (m ((c : Thread nD τ).loc main_arg4)) (m ((c : Thread nD τ).loc main_arg5)) (iblk m hO c 0 t) (iblk m hO c 1 t) (iblk m hO c 2 t)
    (iblk m hO c 3 t) (iblk m hO c 4 t) where
  sum y z h1 h2 := congrArg₂ (fun a b : EReal => a + b)
    ((congrFun (V_main_arg1 m c) _).trans (read_own (mine_eq m c h) (own_index m c hO t) _ y _ (((cfgM m hO).win 0).rect_emb_val t y) z h1 h2))
    ((congrFun (V_main_arg2 m c) _).trans (read_flat (index t).2.1 _ y _ (((cfgM m hO).win 1).rect_emb_val t (ix2 (y 1) (y 2))) z h1 h2))
  weight y z h0 h1 h2 := (congrFun (V_main_arg3 m c) _).trans
    (read_rows (index t).2.2.1 _ y _ (((cfgM m hO).win 2).rect_emb_val t y) z h0 h1 h2)
  first y z h0 h1 h2 := (congrFun (V_main_arg4 m c) _).trans
    (read_rows (index t).2.2.2.1 _ y _ (((cfgM m hO).win 3).rect_emb_val t y) z h0 h1 h2)
  second y z h0 h1 h2 := (congrFun (V_main_arg5 m c) _).trans
    (read_rows (index t).2.2.2.2 _ y _ (((cfgM m hO).win 4).rect_emb_val t y) z h0 h1 h2)

/-- The results find their arguments' contents. -/
theorem kept : V m c main_v0_0 = m ((c : Thread nD τ).loc main_arg6) ∧ V m c main_v0_1 = m ((c : Thread nD τ).loc main_arg7)
    ∧ V m c main_v0_2 = m ((c : Thread nD τ).loc main_arg8) ∧ V m c main_v0_3 = m ((c : Thread nD τ).loc main_arg9) := by
  refine ⟨?_, ?_, ?_, ?_⟩
  all_goals
    unfold V hostOps0
    after_results
    rfl

/-- What point `t` writes of the gradients. -/
theorem out_grad (t : Fin grid0.N) : (outsAt0 m hO c t).1 = k0_pay1 (F := Ideal) (k0_pay5 (iblk m hO c 0 t) (iblk m hO c 1 t)) := by
  frame_out
  exact congrArg (k0_pay1 (F := Ideal)) (congrArg₂ k0_pay5 ((hs0_0 m hO t).read_unread _) ((hs0_1 m hO t).read_unread _))

/-- What it writes of the steps. -/
theorem out_step (t : Fin grid0.N) : (outsAt0 m hO c t).2.1 = k0_pay2 (F := Ideal)
    (k0_pay8 (iblk m hO c 0 t) (iblk m hO c 1 t) (iblk m hO c 2 t) (iblk m hO c 3 t) (iblk m hO c 4 t)) := by
  frame_out
  exact congrArg (k0_pay2 (F := Ideal)) (congr (congr (congr (congrArg₂ k0_pay8 ((hs0_0 m hO t).read_unread _)
    ((hs0_1 m hO t).read_unread _)) ((hs0_2 m hO t).read_unread _)) ((hs0_3 m hO t).read_unread _)) ((hs0_4 m hO t).read_unread _))

/-- What it writes of the first moments. -/
theorem out_first (t : Fin grid0.N) : (outsAt0 m hO c t).2.2.1 = k0_pay3 (F := Ideal)
    (k0_pay6 (iblk m hO c 0 t) (iblk m hO c 1 t) (iblk m hO c 3 t)) := by
  frame_out
  exact congrArg (k0_pay3 (F := Ideal)) (congr (congrArg₂ k0_pay6 ((hs0_0 m hO t).read_unread _)
    ((hs0_1 m hO t).read_unread _)) ((hs0_3 m hO t).read_unread _))

/-- What it writes of the second moments. -/
theorem out_second (t : Fin grid0.N) : (outsAt0 m hO c t).2.2.2 = k0_pay4 (F := Ideal)
    (k0_pay7 (iblk m hO c 0 t) (iblk m hO c 1 t) (iblk m hO c 4 t)) := by
  frame_out
  exact congrArg (k0_pay4 (F := Ideal)) (congr (congrArg₂ k0_pay7 ((hs0_0 m hO t).read_unread _)
    ((hs0_1 m hO t).read_unread _)) ((hs0_4 m hO t).read_unread _))

/-- The gradients at the end. -/
abbrev newGrad : (Whole 704 2048).Idx → EReal := layer 3 (grad m c) (m ((c : Thread nD τ).loc main_arg6))

/-- The first result is they. -/
theorem newGrad_eq (h : Cert.Pre_Kernel18Ideal m) : (dats m hO 0 c).arrAt 5 (cfgM m hO).N = newGrad m c :=
  (dats m hO 0 c).arrAt_eq_of_coversWhere_of_agree 5 _ (fun β => β (0 : Fin 3) = 3)
    ⟨filled, fun t _ => ⟨congrFun (index t).1.1 (0 : Fin 3), fun _ => .inl rfl⟩,
      fun β e => (reach (fun t => (index t).1.1) blocks β e).imp fun _ e => ⟨e, flush0_5 _ _⟩⟩
    (fun t _ y => (congrFun ((after0_5 m hO c t).trans (out_grad m c hO t)) y).trans ((grad_apply _ _ y).trans
      ((held m c hO h t).new_grad (index t).1.1 y _ (((cfgM m hO).win 5).rect_emb_val t y))))
    (fun _ hj => (congrFun (kept m c).1 _).trans (if_neg fun e => hj ((Nat.div_one _).trans e)).symm)

/-- The steps at the end. -/
abbrev newStep : (Whole 704 2048).Idx → EReal := steps 3 (grad m c) (m ((c : Thread nD τ).loc main_arg3)) (m ((c : Thread nD τ).loc main_arg4))
  (m ((c : Thread nD τ).loc main_arg5)) (m ((c : Thread nD τ).loc main_arg7))

/-- The second result is they. -/
theorem newStep_eq (h : Cert.Pre_Kernel18Ideal m) : (dats m hO 0 c).arrAt 6 (cfgM m hO).N = newStep m c :=
  (dats m hO 0 c).arrAt_eq_of_coversWhere_of_agree 6 _ (fun β => β (0 : Fin 3) = 3)
    ⟨filled, fun t _ => ⟨congrFun (index t).1.2.1 (0 : Fin 3), fun _ => .inl rfl⟩,
      fun β e => (reach (fun t => (index t).1.2.1) blocks β e).imp fun _ e => ⟨e, flush0_6 _ _⟩⟩
    (fun t _ y => (congrFun ((after0_6 m hO c t).trans (out_step m c hO t)) y).trans ((step_apply _ _ _ _ _ y).trans
      ((held m c hO h t).new_step (index t).1.2.1 y _ (((cfgM m hO).win 6).rect_emb_val t y))))
    (fun _ hj => (congrFun (kept m c).2.1 _).trans (if_neg fun e => hj ((Nat.div_one _).trans e)).symm)

/-- The first moments at the end. -/
abbrev newFirst : (Whole 704 2048).Idx → EReal := firsts 3 (grad m c) (m ((c : Thread nD τ).loc main_arg4)) (m ((c : Thread nD τ).loc main_arg8))

/-- The third result is they. -/
theorem newFirst_eq (h : Cert.Pre_Kernel18Ideal m) : (dats m hO 0 c).arrAt 7 (cfgM m hO).N = newFirst m c :=
  (dats m hO 0 c).arrAt_eq_of_coversWhere_of_agree 7 _ (fun β => β (0 : Fin 3) = 3)
    ⟨filled, fun t _ => ⟨congrFun (index t).1.2.2.1 (0 : Fin 3), fun _ => .inl rfl⟩,
      fun β e => (reach (fun t => (index t).1.2.2.1) blocks β e).imp fun _ e => ⟨e, flush0_7 _ _⟩⟩
    (fun t _ y => (congrFun ((after0_7 m hO c t).trans (out_first m c hO t)) y).trans ((first_apply _ _ _ y).trans
      ((held m c hO h t).new_first (index t).1.2.2.1 y _ (((cfgM m hO).win 7).rect_emb_val t y))))
    (fun _ hj => (congrFun (kept m c).2.2.1 _).trans (if_neg fun e => hj ((Nat.div_one _).trans e)).symm)

/-- The second moments at the end. -/
abbrev newSecond : (Whole 704 2048).Idx → EReal := seconds 3 (grad m c) (m ((c : Thread nD τ).loc main_arg5)) (m ((c : Thread nD τ).loc main_arg9))

/-- The fourth result is they. -/
theorem newSecond_eq (h : Cert.Pre_Kernel18Ideal m) : (dats m hO 0 c).arrAt 8 (cfgM m hO).N = newSecond m c :=
  (dats m hO 0 c).arrAt_eq_of_coversWhere_of_agree 8 _ (fun β => β (0 : Fin 3) = 3)
    ⟨filled, fun t _ => ⟨congrFun (index t).1.2.2.2 (0 : Fin 3), fun _ => .inl rfl⟩,
      fun β e => (reach (fun t => (index t).1.2.2.2) blocks β e).imp fun _ e => ⟨e, flush0_8 _ _⟩⟩
    (fun t _ y => (congrFun ((after0_8 m hO c t).trans (out_second m c hO t)) y).trans ((second_apply _ _ _ y).trans
      ((held m c hO h t).new_second (index t).1.2.2.2 y _ (((cfgM m hO).win 8).rect_emb_val t y))))
    (fun _ hj => (congrFun (kept m c).2.2.2 _).trans (if_neg fun e => hj ((Nat.div_one _).trans e)).symm)

/-- The kernel and the reference end with the same four arrays. -/
theorem algebraic : Cert.algebraic_Kernel18Ideal_Reference18Ideal := by
  intro m g m' g' h hArgs
  have hO := inside m h
  refine ⟨fun d => newGrad m d, fun d => newStep m d, fun d => newFirst m d, fun d => newSecond m d, ?_, ?_⟩
  · refine (θ_run _ _ _).mono (fun r p d => ?_) (θ_run_and (run_main m g hO) (unchanged m g hO))
    exact ⟨((p.1 d).1 5).trans (newGrad_eq m d hO h), ((p.1 d).1 6).trans (newStep_eq m d hO h),
      ((p.1 d).1 7).trans (newFirst_eq m d hO h), ((p.1 d).1 8).trans (newSecond_eq m d hO h), p.2 d⟩
  · refine (θ_run _ _ _).mono (fun r p d => ?_) (Cert.Reference18Ideal.Value.run m' g')
    obtain ⟨r0, r1, r2, r3, kept⟩ := p d
    obtain ⟨a0, a1, a2, a3, a4, a5, a6, a7, a8, a9⟩ := hArgs d
    refine ⟨r0.trans ?_, r1.trans ?_, r2.trans ?_, r3.trans ?_, kept⟩
    all_goals
      clear r0 r1 r2 r3 kept p
      funext y
      simp only [a0, a1, a2, a3, a4, a5, a6, a7, a8, a9, newGrad, newStep, newFirst, newSecond, steps, firsts, seconds, layer, step, first,
        second, total, own, mine]
      pointwise
      rw [pick_layer _ 3 (y 0).isLt (by decide), pick]
    all_goals rfl

end L3

/-! The third layer's program. -/

namespace L2
open Cert.Kernel19Ideal Cert.Kernel19Ideal.Gen

/-- The precondition puts the blocks inside their arrays, in the rounded program. -/
theorem inside_bits (m : (ℓ : Loc Cert.Kernel19.nD Cert.Kernel19.τ Cert.Kernel19.sig) → Buf (Elt Bits) ℓ) (h : Cert.Pre_Kernel19 m) :
    Cert.Kernel19.Gen.Ok (F := Bits) m :=
  ok_bits _ (zero_or_one _ (congrFun (h 0) (ix1 0)))

variable (m : (ℓ : Loc nD τ sig) → Buf (Elt Ideal) ℓ) (c : Dev nD)

/-- The device's coordinate. -/
def mine : BitVec 32 := m ((c : Thread nD τ).loc main_arg0) (ix1 0)

/-- The precondition leaves it two values. -/
theorem mine_eq (h : Cert.Pre_Kernel19Ideal m) : mine m c = 0#32 ∨ mine m c = 1#32 := zero_or_one _ (congrFun (h c) (ix1 0))

/-- The precondition puts the blocks inside their arrays. -/
theorem inside (h : Cert.Pre_Kernel19Ideal m) : Gen.Ok (F := Ideal) m := ok _ (mine_eq m 0 h)

/-- Point `t` reads and writes block `t` of the layer's rows, whatever the table holds. -/
theorem index : ∀ t : Fin grid0.N, (cc0_transform_9 (grid0.coords t) = ![2, t.val, 0] ∧ cc0_transform_10 (grid0.coords t) = ![2, t.val, 0]
    ∧ cc0_transform_11 (grid0.coords t) = ![2, t.val, 0] ∧ cc0_transform_12 (grid0.coords t) = ![2, t.val, 0])
    ∧ cc0_transform_1 (grid0.coords t) = ![t.val, 0] ∧ cc0_transform_2 (grid0.coords t) = ![2, t.val, 0]
    ∧ cc0_transform_3 (grid0.coords t) = ![2, t.val, 0] ∧ cc0_transform_4 (grid0.coords t) = ![2, t.val, 0] := by decide +kernel

variable (hO : Gen.Ok (F := Ideal) m)

/-- It reads block `t` of the device's own half of the gradient. -/
theorem own_index (t : Fin grid0.N) : ((cfgM m hO).win 0).index t = ![(mine m c).toNat, t.val, 0] := by
  obtain rfl : c = 0 := Subsingleton.elim _ _
  have e : ((cfgM m hO).win 0).index t = ![(mine m 0).toNat, (BitVec.ofNat 32 (grid0.coords t 0).val).toNat, (0#32).toNat] :=
    congrArg (fun x : BitVec 32 => ![x.toNat, (BitVec.ofNat 32 (grid0.coords t 0).val).toNat, (0#32).toNat])
      ((congrFun (V_main_arg0 m 0) _).trans (congrArg (m ((0 : Dev nD), main_arg0)) (only_index _)))
  exact e.trans (congrArg (fun n : Nat => ![(mine m 0).toNat, n, 0]) (coord t))

/-- The gradient: the device's own half and the received one. -/
abbrev grad : (Whole 704 2048).Idx → EReal :=
  total (mine m c) (m ((c : Thread nD τ).loc main_arg1)) (m ((c : Thread nD τ).loc main_arg2))

/-- A point's blocks hold its rows. -/
theorem held (h : Cert.Pre_Kernel19Ideal m) (t : Fin grid0.N) : Held (B := 64) 2 t.val (grad m c) (m ((c : Thread nD τ).loc main_arg3))
    (m ((c : Thread nD τ).loc main_arg4)) (m ((c : Thread nD τ).loc main_arg5)) (iblk m hO c 0 t) (iblk m hO c 1 t) (iblk m hO c 2 t)
    (iblk m hO c 3 t) (iblk m hO c 4 t) where
  sum y z h1 h2 := congrArg₂ (fun a b : EReal => a + b)
    ((congrFun (V_main_arg1 m c) _).trans (read_own (mine_eq m c h) (own_index m c hO t) _ y _ (((cfgM m hO).win 0).rect_emb_val t y) z h1 h2))
    ((congrFun (V_main_arg2 m c) _).trans (read_flat (index t).2.1 _ y _ (((cfgM m hO).win 1).rect_emb_val t (ix2 (y 1) (y 2))) z h1 h2))
  weight y z h0 h1 h2 := (congrFun (V_main_arg3 m c) _).trans
    (read_rows (index t).2.2.1 _ y _ (((cfgM m hO).win 2).rect_emb_val t y) z h0 h1 h2)
  first y z h0 h1 h2 := (congrFun (V_main_arg4 m c) _).trans
    (read_rows (index t).2.2.2.1 _ y _ (((cfgM m hO).win 3).rect_emb_val t y) z h0 h1 h2)
  second y z h0 h1 h2 := (congrFun (V_main_arg5 m c) _).trans
    (read_rows (index t).2.2.2.2 _ y _ (((cfgM m hO).win 4).rect_emb_val t y) z h0 h1 h2)

/-- The results find their arguments' contents. -/
theorem kept : V m c main_v0_0 = m ((c : Thread nD τ).loc main_arg6) ∧ V m c main_v0_1 = m ((c : Thread nD τ).loc main_arg7)
    ∧ V m c main_v0_2 = m ((c : Thread nD τ).loc main_arg8) ∧ V m c main_v0_3 = m ((c : Thread nD τ).loc main_arg9) := by
  refine ⟨?_, ?_, ?_, ?_⟩
  all_goals
    unfold V hostOps0
    after_results
    rfl

/-- What point `t` writes of the gradients. -/
theorem out_grad (t : Fin grid0.N) : (outsAt0 m hO c t).1 = k0_pay1 (F := Ideal) (k0_pay5 (iblk m hO c 0 t) (iblk m hO c 1 t)) := by
  frame_out
  exact congrArg (k0_pay1 (F := Ideal)) (congrArg₂ k0_pay5 ((hs0_0 m hO t).read_unread _) ((hs0_1 m hO t).read_unread _))

/-- What it writes of the steps. -/
theorem out_step (t : Fin grid0.N) : (outsAt0 m hO c t).2.1 = k0_pay2 (F := Ideal)
    (k0_pay8 (iblk m hO c 0 t) (iblk m hO c 1 t) (iblk m hO c 2 t) (iblk m hO c 3 t) (iblk m hO c 4 t)) := by
  frame_out
  exact congrArg (k0_pay2 (F := Ideal)) (congr (congr (congr (congrArg₂ k0_pay8 ((hs0_0 m hO t).read_unread _)
    ((hs0_1 m hO t).read_unread _)) ((hs0_2 m hO t).read_unread _)) ((hs0_3 m hO t).read_unread _)) ((hs0_4 m hO t).read_unread _))

/-- What it writes of the first moments. -/
theorem out_first (t : Fin grid0.N) : (outsAt0 m hO c t).2.2.1 = k0_pay3 (F := Ideal)
    (k0_pay6 (iblk m hO c 0 t) (iblk m hO c 1 t) (iblk m hO c 3 t)) := by
  frame_out
  exact congrArg (k0_pay3 (F := Ideal)) (congr (congrArg₂ k0_pay6 ((hs0_0 m hO t).read_unread _)
    ((hs0_1 m hO t).read_unread _)) ((hs0_3 m hO t).read_unread _))

/-- What it writes of the second moments. -/
theorem out_second (t : Fin grid0.N) : (outsAt0 m hO c t).2.2.2 = k0_pay4 (F := Ideal)
    (k0_pay7 (iblk m hO c 0 t) (iblk m hO c 1 t) (iblk m hO c 4 t)) := by
  frame_out
  exact congrArg (k0_pay4 (F := Ideal)) (congr (congrArg₂ k0_pay7 ((hs0_0 m hO t).read_unread _)
    ((hs0_1 m hO t).read_unread _)) ((hs0_4 m hO t).read_unread _))

/-- The gradients at the end. -/
abbrev newGrad : (Whole 704 2048).Idx → EReal := layer 2 (grad m c) (m ((c : Thread nD τ).loc main_arg6))

/-- The first result is they. -/
theorem newGrad_eq (h : Cert.Pre_Kernel19Ideal m) : (dats m hO 0 c).arrAt 5 (cfgM m hO).N = newGrad m c :=
  (dats m hO 0 c).arrAt_eq_of_coversWhere_of_agree 5 _ (fun β => β (0 : Fin 3) = 2)
    ⟨filled, fun t _ => ⟨congrFun (index t).1.1 (0 : Fin 3), fun _ => .inl rfl⟩,
      fun β e => (reach (fun t => (index t).1.1) blocks β e).imp fun _ e => ⟨e, flush0_5 _ _⟩⟩
    (fun t _ y => (congrFun ((after0_5 m hO c t).trans (out_grad m c hO t)) y).trans ((grad_apply _ _ y).trans
      ((held m c hO h t).new_grad (index t).1.1 y _ (((cfgM m hO).win 5).rect_emb_val t y))))
    (fun _ hj => (congrFun (kept m c).1 _).trans (if_neg fun e => hj ((Nat.div_one _).trans e)).symm)

/-- The steps at the end. -/
abbrev newStep : (Whole 704 2048).Idx → EReal := steps 2 (grad m c) (m ((c : Thread nD τ).loc main_arg3)) (m ((c : Thread nD τ).loc main_arg4))
  (m ((c : Thread nD τ).loc main_arg5)) (m ((c : Thread nD τ).loc main_arg7))

/-- The second result is they. -/
theorem newStep_eq (h : Cert.Pre_Kernel19Ideal m) : (dats m hO 0 c).arrAt 6 (cfgM m hO).N = newStep m c :=
  (dats m hO 0 c).arrAt_eq_of_coversWhere_of_agree 6 _ (fun β => β (0 : Fin 3) = 2)
    ⟨filled, fun t _ => ⟨congrFun (index t).1.2.1 (0 : Fin 3), fun _ => .inl rfl⟩,
      fun β e => (reach (fun t => (index t).1.2.1) blocks β e).imp fun _ e => ⟨e, flush0_6 _ _⟩⟩
    (fun t _ y => (congrFun ((after0_6 m hO c t).trans (out_step m c hO t)) y).trans ((step_apply _ _ _ _ _ y).trans
      ((held m c hO h t).new_step (index t).1.2.1 y _ (((cfgM m hO).win 6).rect_emb_val t y))))
    (fun _ hj => (congrFun (kept m c).2.1 _).trans (if_neg fun e => hj ((Nat.div_one _).trans e)).symm)

/-- The first moments at the end. -/
abbrev newFirst : (Whole 704 2048).Idx → EReal := firsts 2 (grad m c) (m ((c : Thread nD τ).loc main_arg4)) (m ((c : Thread nD τ).loc main_arg8))

/-- The third result is they. -/
theorem newFirst_eq (h : Cert.Pre_Kernel19Ideal m) : (dats m hO 0 c).arrAt 7 (cfgM m hO).N = newFirst m c :=
  (dats m hO 0 c).arrAt_eq_of_coversWhere_of_agree 7 _ (fun β => β (0 : Fin 3) = 2)
    ⟨filled, fun t _ => ⟨congrFun (index t).1.2.2.1 (0 : Fin 3), fun _ => .inl rfl⟩,
      fun β e => (reach (fun t => (index t).1.2.2.1) blocks β e).imp fun _ e => ⟨e, flush0_7 _ _⟩⟩
    (fun t _ y => (congrFun ((after0_7 m hO c t).trans (out_first m c hO t)) y).trans ((first_apply _ _ _ y).trans
      ((held m c hO h t).new_first (index t).1.2.2.1 y _ (((cfgM m hO).win 7).rect_emb_val t y))))
    (fun _ hj => (congrFun (kept m c).2.2.1 _).trans (if_neg fun e => hj ((Nat.div_one _).trans e)).symm)

/-- The second moments at the end. -/
abbrev newSecond : (Whole 704 2048).Idx → EReal := seconds 2 (grad m c) (m ((c : Thread nD τ).loc main_arg5)) (m ((c : Thread nD τ).loc main_arg9))

/-- The fourth result is they. -/
theorem newSecond_eq (h : Cert.Pre_Kernel19Ideal m) : (dats m hO 0 c).arrAt 8 (cfgM m hO).N = newSecond m c :=
  (dats m hO 0 c).arrAt_eq_of_coversWhere_of_agree 8 _ (fun β => β (0 : Fin 3) = 2)
    ⟨filled, fun t _ => ⟨congrFun (index t).1.2.2.2 (0 : Fin 3), fun _ => .inl rfl⟩,
      fun β e => (reach (fun t => (index t).1.2.2.2) blocks β e).imp fun _ e => ⟨e, flush0_8 _ _⟩⟩
    (fun t _ y => (congrFun ((after0_8 m hO c t).trans (out_second m c hO t)) y).trans ((second_apply _ _ _ y).trans
      ((held m c hO h t).new_second (index t).1.2.2.2 y _ (((cfgM m hO).win 8).rect_emb_val t y))))
    (fun _ hj => (congrFun (kept m c).2.2.2 _).trans (if_neg fun e => hj ((Nat.div_one _).trans e)).symm)

/-- The kernel and the reference end with the same four arrays. -/
theorem algebraic : Cert.algebraic_Kernel19Ideal_Reference19Ideal := by
  intro m g m' g' h hArgs
  have hO := inside m h
  refine ⟨fun d => newGrad m d, fun d => newStep m d, fun d => newFirst m d, fun d => newSecond m d, ?_, ?_⟩
  · refine (θ_run _ _ _).mono (fun r p d => ?_) (θ_run_and (run_main m g hO) (unchanged m g hO))
    exact ⟨((p.1 d).1 5).trans (newGrad_eq m d hO h), ((p.1 d).1 6).trans (newStep_eq m d hO h),
      ((p.1 d).1 7).trans (newFirst_eq m d hO h), ((p.1 d).1 8).trans (newSecond_eq m d hO h), p.2 d⟩
  · refine (θ_run _ _ _).mono (fun r p d => ?_) (Cert.Reference19Ideal.Value.run m' g')
    obtain ⟨r0, r1, r2, r3, kept⟩ := p d
    obtain ⟨a0, a1, a2, a3, a4, a5, a6, a7, a8, a9⟩ := hArgs d
    refine ⟨r0.trans ?_, r1.trans ?_, r2.trans ?_, r3.trans ?_, kept⟩
    all_goals
      clear r0 r1 r2 r3 kept p
      funext y
      simp only [a0, a1, a2, a3, a4, a5, a6, a7, a8, a9, newGrad, newStep, newFirst, newSecond, steps, firsts, seconds, layer, step, first,
        second, total, own, mine]
      pointwise
      rw [pick_layer _ 2 (y 0).isLt (by decide), pick]
    all_goals rfl

end L2

/-! The second layer's program. -/

namespace L1
open Cert.Kernel20Ideal Cert.Kernel20Ideal.Gen

/-- The precondition puts the blocks inside their arrays, in the rounded program. -/
theorem inside_bits (m : (ℓ : Loc Cert.Kernel20.nD Cert.Kernel20.τ Cert.Kernel20.sig) → Buf (Elt Bits) ℓ) (h : Cert.Pre_Kernel20 m) :
    Cert.Kernel20.Gen.Ok (F := Bits) m :=
  ok_bits _ (zero_or_one _ (congrFun (h 0) (ix1 0)))

variable (m : (ℓ : Loc nD τ sig) → Buf (Elt Ideal) ℓ) (c : Dev nD)

/-- The device's coordinate. -/
def mine : BitVec 32 := m ((c : Thread nD τ).loc main_arg0) (ix1 0)

/-- The precondition leaves it two values. -/
theorem mine_eq (h : Cert.Pre_Kernel20Ideal m) : mine m c = 0#32 ∨ mine m c = 1#32 := zero_or_one _ (congrFun (h c) (ix1 0))

/-- The precondition puts the blocks inside their arrays. -/
theorem inside (h : Cert.Pre_Kernel20Ideal m) : Gen.Ok (F := Ideal) m := ok _ (mine_eq m 0 h)

/-- Point `t` reads and writes block `t` of the layer's rows, whatever the table holds. -/
theorem index : ∀ t : Fin grid0.N, (cc0_transform_9 (grid0.coords t) = ![1, t.val, 0] ∧ cc0_transform_10 (grid0.coords t) = ![1, t.val, 0]
    ∧ cc0_transform_11 (grid0.coords t) = ![1, t.val, 0] ∧ cc0_transform_12 (grid0.coords t) = ![1, t.val, 0])
    ∧ cc0_transform_1 (grid0.coords t) = ![t.val, 0] ∧ cc0_transform_2 (grid0.coords t) = ![1, t.val, 0]
    ∧ cc0_transform_3 (grid0.coords t) = ![1, t.val, 0] ∧ cc0_transform_4 (grid0.coords t) = ![1, t.val, 0] := by decide +kernel

variable (hO : Gen.Ok (F := Ideal) m)

/-- It reads block `t` of the device's own half of the gradient. -/
theorem own_index (t : Fin grid0.N) : ((cfgM m hO).win 0).index t = ![(mine m c).toNat, t.val, 0] := by
  obtain rfl : c = 0 := Subsingleton.elim _ _
  have e : ((cfgM m hO).win 0).index t = ![(mine m 0).toNat, (BitVec.ofNat 32 (grid0.coords t 0).val).toNat, (0#32).toNat] :=
    congrArg (fun x : BitVec 32 => ![x.toNat, (BitVec.ofNat 32 (grid0.coords t 0).val).toNat, (0#32).toNat])
      ((congrFun (V_main_arg0 m 0) _).trans (congrArg (m ((0 : Dev nD), main_arg0)) (only_index _)))
  exact e.trans (congrArg (fun n : Nat => ![(mine m 0).toNat, n, 0]) (coord t))

/-- The gradient: the device's own half and the received one. -/
abbrev grad : (Whole 704 2048).Idx → EReal :=
  total (mine m c) (m ((c : Thread nD τ).loc main_arg1)) (m ((c : Thread nD τ).loc main_arg2))

/-- A point's blocks hold its rows. -/
theorem held (h : Cert.Pre_Kernel20Ideal m) (t : Fin grid0.N) : Held (B := 64) 1 t.val (grad m c) (m ((c : Thread nD τ).loc main_arg3))
    (m ((c : Thread nD τ).loc main_arg4)) (m ((c : Thread nD τ).loc main_arg5)) (iblk m hO c 0 t) (iblk m hO c 1 t) (iblk m hO c 2 t)
    (iblk m hO c 3 t) (iblk m hO c 4 t) where
  sum y z h1 h2 := congrArg₂ (fun a b : EReal => a + b)
    ((congrFun (V_main_arg1 m c) _).trans (read_own (mine_eq m c h) (own_index m c hO t) _ y _ (((cfgM m hO).win 0).rect_emb_val t y) z h1 h2))
    ((congrFun (V_main_arg2 m c) _).trans (read_flat (index t).2.1 _ y _ (((cfgM m hO).win 1).rect_emb_val t (ix2 (y 1) (y 2))) z h1 h2))
  weight y z h0 h1 h2 := (congrFun (V_main_arg3 m c) _).trans
    (read_rows (index t).2.2.1 _ y _ (((cfgM m hO).win 2).rect_emb_val t y) z h0 h1 h2)
  first y z h0 h1 h2 := (congrFun (V_main_arg4 m c) _).trans
    (read_rows (index t).2.2.2.1 _ y _ (((cfgM m hO).win 3).rect_emb_val t y) z h0 h1 h2)
  second y z h0 h1 h2 := (congrFun (V_main_arg5 m c) _).trans
    (read_rows (index t).2.2.2.2 _ y _ (((cfgM m hO).win 4).rect_emb_val t y) z h0 h1 h2)

/-- The results find their arguments' contents. -/
theorem kept : V m c main_v0_0 = m ((c : Thread nD τ).loc main_arg6) ∧ V m c main_v0_1 = m ((c : Thread nD τ).loc main_arg7)
    ∧ V m c main_v0_2 = m ((c : Thread nD τ).loc main_arg8) ∧ V m c main_v0_3 = m ((c : Thread nD τ).loc main_arg9) := by
  refine ⟨?_, ?_, ?_, ?_⟩
  all_goals
    unfold V hostOps0
    after_results
    rfl

/-- What point `t` writes of the gradients. -/
theorem out_grad (t : Fin grid0.N) : (outsAt0 m hO c t).1 = k0_pay1 (F := Ideal) (k0_pay5 (iblk m hO c 0 t) (iblk m hO c 1 t)) := by
  frame_out
  exact congrArg (k0_pay1 (F := Ideal)) (congrArg₂ k0_pay5 ((hs0_0 m hO t).read_unread _) ((hs0_1 m hO t).read_unread _))

/-- What it writes of the steps. -/
theorem out_step (t : Fin grid0.N) : (outsAt0 m hO c t).2.1 = k0_pay2 (F := Ideal)
    (k0_pay8 (iblk m hO c 0 t) (iblk m hO c 1 t) (iblk m hO c 2 t) (iblk m hO c 3 t) (iblk m hO c 4 t)) := by
  frame_out
  exact congrArg (k0_pay2 (F := Ideal)) (congr (congr (congr (congrArg₂ k0_pay8 ((hs0_0 m hO t).read_unread _)
    ((hs0_1 m hO t).read_unread _)) ((hs0_2 m hO t).read_unread _)) ((hs0_3 m hO t).read_unread _)) ((hs0_4 m hO t).read_unread _))

/-- What it writes of the first moments. -/
theorem out_first (t : Fin grid0.N) : (outsAt0 m hO c t).2.2.1 = k0_pay3 (F := Ideal)
    (k0_pay6 (iblk m hO c 0 t) (iblk m hO c 1 t) (iblk m hO c 3 t)) := by
  frame_out
  exact congrArg (k0_pay3 (F := Ideal)) (congr (congrArg₂ k0_pay6 ((hs0_0 m hO t).read_unread _)
    ((hs0_1 m hO t).read_unread _)) ((hs0_3 m hO t).read_unread _))

/-- What it writes of the second moments. -/
theorem out_second (t : Fin grid0.N) : (outsAt0 m hO c t).2.2.2 = k0_pay4 (F := Ideal)
    (k0_pay7 (iblk m hO c 0 t) (iblk m hO c 1 t) (iblk m hO c 4 t)) := by
  frame_out
  exact congrArg (k0_pay4 (F := Ideal)) (congr (congrArg₂ k0_pay7 ((hs0_0 m hO t).read_unread _)
    ((hs0_1 m hO t).read_unread _)) ((hs0_4 m hO t).read_unread _))

/-- The gradients at the end. -/
abbrev newGrad : (Whole 704 2048).Idx → EReal := layer 1 (grad m c) (m ((c : Thread nD τ).loc main_arg6))

/-- The first result is they. -/
theorem newGrad_eq (h : Cert.Pre_Kernel20Ideal m) : (dats m hO 0 c).arrAt 5 (cfgM m hO).N = newGrad m c :=
  (dats m hO 0 c).arrAt_eq_of_coversWhere_of_agree 5 _ (fun β => β (0 : Fin 3) = 1)
    ⟨filled, fun t _ => ⟨congrFun (index t).1.1 (0 : Fin 3), fun _ => .inl rfl⟩,
      fun β e => (reach (fun t => (index t).1.1) blocks β e).imp fun _ e => ⟨e, flush0_5 _ _⟩⟩
    (fun t _ y => (congrFun ((after0_5 m hO c t).trans (out_grad m c hO t)) y).trans ((grad_apply _ _ y).trans
      ((held m c hO h t).new_grad (index t).1.1 y _ (((cfgM m hO).win 5).rect_emb_val t y))))
    (fun _ hj => (congrFun (kept m c).1 _).trans (if_neg fun e => hj ((Nat.div_one _).trans e)).symm)

/-- The steps at the end. -/
abbrev newStep : (Whole 704 2048).Idx → EReal := steps 1 (grad m c) (m ((c : Thread nD τ).loc main_arg3)) (m ((c : Thread nD τ).loc main_arg4))
  (m ((c : Thread nD τ).loc main_arg5)) (m ((c : Thread nD τ).loc main_arg7))

/-- The second result is they. -/
theorem newStep_eq (h : Cert.Pre_Kernel20Ideal m) : (dats m hO 0 c).arrAt 6 (cfgM m hO).N = newStep m c :=
  (dats m hO 0 c).arrAt_eq_of_coversWhere_of_agree 6 _ (fun β => β (0 : Fin 3) = 1)
    ⟨filled, fun t _ => ⟨congrFun (index t).1.2.1 (0 : Fin 3), fun _ => .inl rfl⟩,
      fun β e => (reach (fun t => (index t).1.2.1) blocks β e).imp fun _ e => ⟨e, flush0_6 _ _⟩⟩
    (fun t _ y => (congrFun ((after0_6 m hO c t).trans (out_step m c hO t)) y).trans ((step_apply _ _ _ _ _ y).trans
      ((held m c hO h t).new_step (index t).1.2.1 y _ (((cfgM m hO).win 6).rect_emb_val t y))))
    (fun _ hj => (congrFun (kept m c).2.1 _).trans (if_neg fun e => hj ((Nat.div_one _).trans e)).symm)

/-- The first moments at the end. -/
abbrev newFirst : (Whole 704 2048).Idx → EReal := firsts 1 (grad m c) (m ((c : Thread nD τ).loc main_arg4)) (m ((c : Thread nD τ).loc main_arg8))

/-- The third result is they. -/
theorem newFirst_eq (h : Cert.Pre_Kernel20Ideal m) : (dats m hO 0 c).arrAt 7 (cfgM m hO).N = newFirst m c :=
  (dats m hO 0 c).arrAt_eq_of_coversWhere_of_agree 7 _ (fun β => β (0 : Fin 3) = 1)
    ⟨filled, fun t _ => ⟨congrFun (index t).1.2.2.1 (0 : Fin 3), fun _ => .inl rfl⟩,
      fun β e => (reach (fun t => (index t).1.2.2.1) blocks β e).imp fun _ e => ⟨e, flush0_7 _ _⟩⟩
    (fun t _ y => (congrFun ((after0_7 m hO c t).trans (out_first m c hO t)) y).trans ((first_apply _ _ _ y).trans
      ((held m c hO h t).new_first (index t).1.2.2.1 y _ (((cfgM m hO).win 7).rect_emb_val t y))))
    (fun _ hj => (congrFun (kept m c).2.2.1 _).trans (if_neg fun e => hj ((Nat.div_one _).trans e)).symm)

/-- The second moments at the end. -/
abbrev newSecond : (Whole 704 2048).Idx → EReal := seconds 1 (grad m c) (m ((c : Thread nD τ).loc main_arg5)) (m ((c : Thread nD τ).loc main_arg9))

/-- The fourth result is they. -/
theorem newSecond_eq (h : Cert.Pre_Kernel20Ideal m) : (dats m hO 0 c).arrAt 8 (cfgM m hO).N = newSecond m c :=
  (dats m hO 0 c).arrAt_eq_of_coversWhere_of_agree 8 _ (fun β => β (0 : Fin 3) = 1)
    ⟨filled, fun t _ => ⟨congrFun (index t).1.2.2.2 (0 : Fin 3), fun _ => .inl rfl⟩,
      fun β e => (reach (fun t => (index t).1.2.2.2) blocks β e).imp fun _ e => ⟨e, flush0_8 _ _⟩⟩
    (fun t _ y => (congrFun ((after0_8 m hO c t).trans (out_second m c hO t)) y).trans ((second_apply _ _ _ y).trans
      ((held m c hO h t).new_second (index t).1.2.2.2 y _ (((cfgM m hO).win 8).rect_emb_val t y))))
    (fun _ hj => (congrFun (kept m c).2.2.2 _).trans (if_neg fun e => hj ((Nat.div_one _).trans e)).symm)

/-- The kernel and the reference end with the same four arrays. -/
theorem algebraic : Cert.algebraic_Kernel20Ideal_Reference20Ideal := by
  intro m g m' g' h hArgs
  have hO := inside m h
  refine ⟨fun d => newGrad m d, fun d => newStep m d, fun d => newFirst m d, fun d => newSecond m d, ?_, ?_⟩
  · refine (θ_run _ _ _).mono (fun r p d => ?_) (θ_run_and (run_main m g hO) (unchanged m g hO))
    exact ⟨((p.1 d).1 5).trans (newGrad_eq m d hO h), ((p.1 d).1 6).trans (newStep_eq m d hO h),
      ((p.1 d).1 7).trans (newFirst_eq m d hO h), ((p.1 d).1 8).trans (newSecond_eq m d hO h), p.2 d⟩
  · refine (θ_run _ _ _).mono (fun r p d => ?_) (Cert.Reference20Ideal.Value.run m' g')
    obtain ⟨r0, r1, r2, r3, kept⟩ := p d
    obtain ⟨a0, a1, a2, a3, a4, a5, a6, a7, a8, a9⟩ := hArgs d
    refine ⟨r0.trans ?_, r1.trans ?_, r2.trans ?_, r3.trans ?_, kept⟩
    all_goals
      clear r0 r1 r2 r3 kept p
      funext y
      simp only [a0, a1, a2, a3, a4, a5, a6, a7, a8, a9, newGrad, newStep, newFirst, newSecond, steps, firsts, seconds, layer, step, first,
        second, total, own, mine]
      pointwise
      rw [pick_layer _ 1 (y 0).isLt (by decide), pick]
    all_goals rfl

end L1

/-! The first layer's program. -/

namespace L0
open Cert.Kernel21Ideal Cert.Kernel21Ideal.Gen

/-- The precondition puts the blocks inside their arrays, in the rounded program. -/
theorem inside_bits (m : (ℓ : Loc Cert.Kernel21.nD Cert.Kernel21.τ Cert.Kernel21.sig) → Buf (Elt Bits) ℓ) (h : Cert.Pre_Kernel21 m) :
    Cert.Kernel21.Gen.Ok (F := Bits) m :=
  ok_bits _ (zero_or_one _ (congrFun (h 0) (ix1 0)))

variable (m : (ℓ : Loc nD τ sig) → Buf (Elt Ideal) ℓ) (c : Dev nD)

/-- The device's coordinate. -/
def mine : BitVec 32 := m ((c : Thread nD τ).loc main_arg0) (ix1 0)

/-- The precondition leaves it two values. -/
theorem mine_eq (h : Cert.Pre_Kernel21Ideal m) : mine m c = 0#32 ∨ mine m c = 1#32 := zero_or_one _ (congrFun (h c) (ix1 0))

/-- The precondition puts the blocks inside their arrays. -/
theorem inside (h : Cert.Pre_Kernel21Ideal m) : Gen.Ok (F := Ideal) m := ok _ (mine_eq m 0 h)

/-- Point `t` reads and writes block `t` of the layer's rows, whatever the table holds. -/
theorem index : ∀ t : Fin grid0.N, (cc0_transform_9 (grid0.coords t) = ![0, t.val, 0] ∧ cc0_transform_10 (grid0.coords t) = ![0, t.val, 0]
    ∧ cc0_transform_11 (grid0.coords t) = ![0, t.val, 0] ∧ cc0_transform_12 (grid0.coords t) = ![0, t.val, 0])
    ∧ cc0_transform_1 (grid0.coords t) = ![t.val, 0] ∧ cc0_transform_2 (grid0.coords t) = ![0, t.val, 0]
    ∧ cc0_transform_3 (grid0.coords t) = ![0, t.val, 0] ∧ cc0_transform_4 (grid0.coords t) = ![0, t.val, 0] := by decide +kernel

variable (hO : Gen.Ok (F := Ideal) m)

/-- It reads block `t` of the device's own half of the gradient. -/
theorem own_index (t : Fin grid0.N) : ((cfgM m hO).win 0).index t = ![(mine m c).toNat, t.val, 0] := by
  obtain rfl : c = 0 := Subsingleton.elim _ _
  have e : ((cfgM m hO).win 0).index t = ![(mine m 0).toNat, (BitVec.ofNat 32 (grid0.coords t 0).val).toNat, (0#32).toNat] :=
    congrArg (fun x : BitVec 32 => ![x.toNat, (BitVec.ofNat 32 (grid0.coords t 0).val).toNat, (0#32).toNat])
      ((congrFun (V_main_arg0 m 0) _).trans (congrArg (m ((0 : Dev nD), main_arg0)) (only_index _)))
  exact e.trans (congrArg (fun n : Nat => ![(mine m 0).toNat, n, 0]) (coord t))

/-- The gradient: the device's own half and the received one. -/
abbrev grad : (Whole 704 2048).Idx → EReal :=
  total (mine m c) (m ((c : Thread nD τ).loc main_arg1)) (m ((c : Thread nD τ).loc main_arg2))

/-- A point's blocks hold its rows. -/
theorem held (h : Cert.Pre_Kernel21Ideal m) (t : Fin grid0.N) : Held (B := 64) 0 t.val (grad m c) (m ((c : Thread nD τ).loc main_arg3))
    (m ((c : Thread nD τ).loc main_arg4)) (m ((c : Thread nD τ).loc main_arg5)) (iblk m hO c 0 t) (iblk m hO c 1 t) (iblk m hO c 2 t)
    (iblk m hO c 3 t) (iblk m hO c 4 t) where
  sum y z h1 h2 := congrArg₂ (fun a b : EReal => a + b)
    ((congrFun (V_main_arg1 m c) _).trans (read_own (mine_eq m c h) (own_index m c hO t) _ y _ (((cfgM m hO).win 0).rect_emb_val t y) z h1 h2))
    ((congrFun (V_main_arg2 m c) _).trans (read_flat (index t).2.1 _ y _ (((cfgM m hO).win 1).rect_emb_val t (ix2 (y 1) (y 2))) z h1 h2))
  weight y z h0 h1 h2 := (congrFun (V_main_arg3 m c) _).trans
    (read_rows (index t).2.2.1 _ y _ (((cfgM m hO).win 2).rect_emb_val t y) z h0 h1 h2)
  first y z h0 h1 h2 := (congrFun (V_main_arg4 m c) _).trans
    (read_rows (index t).2.2.2.1 _ y _ (((cfgM m hO).win 3).rect_emb_val t y) z h0 h1 h2)
  second y z h0 h1 h2 := (congrFun (V_main_arg5 m c) _).trans
    (read_rows (index t).2.2.2.2 _ y _ (((cfgM m hO).win 4).rect_emb_val t y) z h0 h1 h2)

/-- The results find their arguments' contents. -/
theorem kept : V m c main_v0_0 = m ((c : Thread nD τ).loc main_arg6) ∧ V m c main_v0_1 = m ((c : Thread nD τ).loc main_arg7)
    ∧ V m c main_v0_2 = m ((c : Thread nD τ).loc main_arg8) ∧ V m c main_v0_3 = m ((c : Thread nD τ).loc main_arg9) := by
  refine ⟨?_, ?_, ?_, ?_⟩
  all_goals
    unfold V hostOps0
    after_results
    rfl

/-- What point `t` writes of the gradients. -/
theorem out_grad (t : Fin grid0.N) : (outsAt0 m hO c t).1 = k0_pay1 (F := Ideal) (k0_pay5 (iblk m hO c 0 t) (iblk m hO c 1 t)) := by
  frame_out
  exact congrArg (k0_pay1 (F := Ideal)) (congrArg₂ k0_pay5 ((hs0_0 m hO t).read_unread _) ((hs0_1 m hO t).read_unread _))

/-- What it writes of the steps. -/
theorem out_step (t : Fin grid0.N) : (outsAt0 m hO c t).2.1 = k0_pay2 (F := Ideal)
    (k0_pay8 (iblk m hO c 0 t) (iblk m hO c 1 t) (iblk m hO c 2 t) (iblk m hO c 3 t) (iblk m hO c 4 t)) := by
  frame_out
  exact congrArg (k0_pay2 (F := Ideal)) (congr (congr (congr (congrArg₂ k0_pay8 ((hs0_0 m hO t).read_unread _)
    ((hs0_1 m hO t).read_unread _)) ((hs0_2 m hO t).read_unread _)) ((hs0_3 m hO t).read_unread _)) ((hs0_4 m hO t).read_unread _))

/-- What it writes of the first moments. -/
theorem out_first (t : Fin grid0.N) : (outsAt0 m hO c t).2.2.1 = k0_pay3 (F := Ideal)
    (k0_pay6 (iblk m hO c 0 t) (iblk m hO c 1 t) (iblk m hO c 3 t)) := by
  frame_out
  exact congrArg (k0_pay3 (F := Ideal)) (congr (congrArg₂ k0_pay6 ((hs0_0 m hO t).read_unread _)
    ((hs0_1 m hO t).read_unread _)) ((hs0_3 m hO t).read_unread _))

/-- What it writes of the second moments. -/
theorem out_second (t : Fin grid0.N) : (outsAt0 m hO c t).2.2.2 = k0_pay4 (F := Ideal)
    (k0_pay7 (iblk m hO c 0 t) (iblk m hO c 1 t) (iblk m hO c 4 t)) := by
  frame_out
  exact congrArg (k0_pay4 (F := Ideal)) (congr (congrArg₂ k0_pay7 ((hs0_0 m hO t).read_unread _)
    ((hs0_1 m hO t).read_unread _)) ((hs0_4 m hO t).read_unread _))

/-- The gradients at the end. -/
abbrev newGrad : (Whole 704 2048).Idx → EReal := layer 0 (grad m c) (m ((c : Thread nD τ).loc main_arg6))

/-- The first result is they. -/
theorem newGrad_eq (h : Cert.Pre_Kernel21Ideal m) : (dats m hO 0 c).arrAt 5 (cfgM m hO).N = newGrad m c :=
  (dats m hO 0 c).arrAt_eq_of_coversWhere_of_agree 5 _ (fun β => β (0 : Fin 3) = 0)
    ⟨filled, fun t _ => ⟨congrFun (index t).1.1 (0 : Fin 3), fun _ => .inl rfl⟩,
      fun β e => (reach (fun t => (index t).1.1) blocks β e).imp fun _ e => ⟨e, flush0_5 _ _⟩⟩
    (fun t _ y => (congrFun ((after0_5 m hO c t).trans (out_grad m c hO t)) y).trans ((grad_apply _ _ y).trans
      ((held m c hO h t).new_grad (index t).1.1 y _ (((cfgM m hO).win 5).rect_emb_val t y))))
    (fun _ hj => (congrFun (kept m c).1 _).trans (if_neg fun e => hj ((Nat.div_one _).trans e)).symm)

/-- The steps at the end. -/
abbrev newStep : (Whole 704 2048).Idx → EReal := steps 0 (grad m c) (m ((c : Thread nD τ).loc main_arg3)) (m ((c : Thread nD τ).loc main_arg4))
  (m ((c : Thread nD τ).loc main_arg5)) (m ((c : Thread nD τ).loc main_arg7))

/-- The second result is they. -/
theorem newStep_eq (h : Cert.Pre_Kernel21Ideal m) : (dats m hO 0 c).arrAt 6 (cfgM m hO).N = newStep m c :=
  (dats m hO 0 c).arrAt_eq_of_coversWhere_of_agree 6 _ (fun β => β (0 : Fin 3) = 0)
    ⟨filled, fun t _ => ⟨congrFun (index t).1.2.1 (0 : Fin 3), fun _ => .inl rfl⟩,
      fun β e => (reach (fun t => (index t).1.2.1) blocks β e).imp fun _ e => ⟨e, flush0_6 _ _⟩⟩
    (fun t _ y => (congrFun ((after0_6 m hO c t).trans (out_step m c hO t)) y).trans ((step_apply _ _ _ _ _ y).trans
      ((held m c hO h t).new_step (index t).1.2.1 y _ (((cfgM m hO).win 6).rect_emb_val t y))))
    (fun _ hj => (congrFun (kept m c).2.1 _).trans (if_neg fun e => hj ((Nat.div_one _).trans e)).symm)

/-- The first moments at the end. -/
abbrev newFirst : (Whole 704 2048).Idx → EReal := firsts 0 (grad m c) (m ((c : Thread nD τ).loc main_arg4)) (m ((c : Thread nD τ).loc main_arg8))

/-- The third result is they. -/
theorem newFirst_eq (h : Cert.Pre_Kernel21Ideal m) : (dats m hO 0 c).arrAt 7 (cfgM m hO).N = newFirst m c :=
  (dats m hO 0 c).arrAt_eq_of_coversWhere_of_agree 7 _ (fun β => β (0 : Fin 3) = 0)
    ⟨filled, fun t _ => ⟨congrFun (index t).1.2.2.1 (0 : Fin 3), fun _ => .inl rfl⟩,
      fun β e => (reach (fun t => (index t).1.2.2.1) blocks β e).imp fun _ e => ⟨e, flush0_7 _ _⟩⟩
    (fun t _ y => (congrFun ((after0_7 m hO c t).trans (out_first m c hO t)) y).trans ((first_apply _ _ _ y).trans
      ((held m c hO h t).new_first (index t).1.2.2.1 y _ (((cfgM m hO).win 7).rect_emb_val t y))))
    (fun _ hj => (congrFun (kept m c).2.2.1 _).trans (if_neg fun e => hj ((Nat.div_one _).trans e)).symm)

/-- The second moments at the end. -/
abbrev newSecond : (Whole 704 2048).Idx → EReal := seconds 0 (grad m c) (m ((c : Thread nD τ).loc main_arg5)) (m ((c : Thread nD τ).loc main_arg9))

/-- The fourth result is they. -/
theorem newSecond_eq (h : Cert.Pre_Kernel21Ideal m) : (dats m hO 0 c).arrAt 8 (cfgM m hO).N = newSecond m c :=
  (dats m hO 0 c).arrAt_eq_of_coversWhere_of_agree 8 _ (fun β => β (0 : Fin 3) = 0)
    ⟨filled, fun t _ => ⟨congrFun (index t).1.2.2.2 (0 : Fin 3), fun _ => .inl rfl⟩,
      fun β e => (reach (fun t => (index t).1.2.2.2) blocks β e).imp fun _ e => ⟨e, flush0_8 _ _⟩⟩
    (fun t _ y => (congrFun ((after0_8 m hO c t).trans (out_second m c hO t)) y).trans ((second_apply _ _ _ y).trans
      ((held m c hO h t).new_second (index t).1.2.2.2 y _ (((cfgM m hO).win 8).rect_emb_val t y))))
    (fun _ hj => (congrFun (kept m c).2.2.2 _).trans (if_neg fun e => hj ((Nat.div_one _).trans e)).symm)

/-- The kernel and the reference end with the same four arrays. -/
theorem algebraic : Cert.algebraic_Kernel21Ideal_Reference21Ideal := by
  intro m g m' g' h hArgs
  have hO := inside m h
  refine ⟨fun d => newGrad m d, fun d => newStep m d, fun d => newFirst m d, fun d => newSecond m d, ?_, ?_⟩
  · refine (θ_run _ _ _).mono (fun r p d => ?_) (θ_run_and (run_main m g hO) (unchanged m g hO))
    exact ⟨((p.1 d).1 5).trans (newGrad_eq m d hO h), ((p.1 d).1 6).trans (newStep_eq m d hO h),
      ((p.1 d).1 7).trans (newFirst_eq m d hO h), ((p.1 d).1 8).trans (newSecond_eq m d hO h), p.2 d⟩
  · refine (θ_run _ _ _).mono (fun r p d => ?_) (Cert.Reference21Ideal.Value.run m' g')
    obtain ⟨r0, r1, r2, r3, kept⟩ := p d
    obtain ⟨a0, a1, a2, a3, a4, a5, a6, a7, a8, a9⟩ := hArgs d
    refine ⟨r0.trans ?_, r1.trans ?_, r2.trans ?_, r3.trans ?_, kept⟩
    all_goals
      clear r0 r1 r2 r3 kept p
      funext y
      simp only [a0, a1, a2, a3, a4, a5, a6, a7, a8, a9, newGrad, newStep, newFirst, newSecond, steps, firsts, seconds, layer, step, first,
        second, total, own, mine]
      pointwise
      rw [pick_layer _ 0 (y 0).isLt (by decide), pick]
    all_goals rfl

end L0

end Cert.Opt.Down
end
-- ==== Proof.Opt.Br.lean ====
/- The optimiser's step of the branches' output weights, layer by layer: the kernel's results are the reference's. -/
module
public import proofs.«01_k».proof.Defs
public import proofs.«01_k».proof.Proof.Opt.Layer
public import proofs.«01_k».proof.Proof.Gen.Kernel22.Frame
public import proofs.«01_k».proof.Proof.Gen.Kernel22Ideal.Frame
public import proofs.«01_k».proof.Proof.Gen.Reference22Ideal.Run
public import proofs.«01_k».proof.Proof.Gen.Kernel23.Frame
public import proofs.«01_k».proof.Proof.Gen.Kernel23Ideal.Frame
public import proofs.«01_k».proof.Proof.Gen.Reference23Ideal.Run
public import proofs.«01_k».proof.Proof.Gen.Kernel24.Frame
public import proofs.«01_k».proof.Proof.Gen.Kernel24Ideal.Frame
public import proofs.«01_k».proof.Proof.Gen.Reference24Ideal.Run
public import proofs.«01_k».proof.Proof.Gen.Kernel25.Frame
public import proofs.«01_k».proof.Proof.Gen.Kernel25Ideal.Frame
public import proofs.«01_k».proof.Proof.Gen.Reference25Ideal.Run
public import proofs.«01_k».proof.Proof.Gen.Pre_pair3

@[expose] public section
set_option maxRecDepth 16384

noncomputable section
namespace Cert.Opt.Br
open Idealize.ShloMosaic
open Idealize.ShloMosaic.TcCoe Idealize.ShloMosaic.Tactic

/-! What the four layers' programs share: their tables, their arithmetic and their blocks are the same. -/

section
open Cert.Kernel22

set_option backward.proofsInPublic true in
/-- A table that holds 0 or 1 puts the first operand's block inside its array, in the rounded program. -/
theorem ok_bits (pf : pre0.Contents (Elt Bits)) (h : pf 0 (ix1 0) = 0#32 ∨ pf 0 (ix1 0) = 1#32) : ok0 (F := Bits) pf := by
  have e : pf = fun | ⟨0, _⟩ => fun _ => pf 0 (ix1 0) | ⟨_ + 1, h⟩ => absurd h (by simp) :=
    funext fun | ⟨0, _⟩ => funext fun x => congrArg (pf 0) (only_index x)
  rw [e]
  rcases h with h | h <;> rw [h] <;> decide +kernel

end

section
open Cert.Kernel22Ideal Cert.Kernel22Ideal.Gen

set_option backward.proofsInPublic true in
/-- A table that holds 0 or 1 puts the first operand's block inside its array. -/
theorem ok (pf : pre0.Contents (Elt Ideal)) (h : pf 0 (ix1 0) = 0#32 ∨ pf 0 (ix1 0) = 1#32) : ok0 (F := Ideal) pf := by
  have e : pf = fun | ⟨0, _⟩ => fun _ => pf 0 (ix1 0) | ⟨_ + 1, h⟩ => absurd h (by simp) :=
    funext fun | ⟨0, _⟩ => funext fun x => congrArg (pf 0) (only_index x)
  rw [e]
  rcases h with h | h <;> rw [h] <;> decide +kernel

/-- The one grid coordinate of a point, as a word, is the point's number. -/
theorem coord : ∀ t : Fin grid0.N, (BitVec.ofNat 32 (grid0.coords t 0).val).toNat = t.val := by decide +kernel

/-- The blocks of a result: four layers of the grid's points. -/
theorem blocks : ∀ a : Fin 3, ((Whole 1024 256).size a + (Rows 1024 256).size a - 1) / (Rows 1024 256).size a = ![4, grid0.N, 1] a := by decide

/-- A block is not empty. -/
theorem filled : ∀ a : Fin 3, 0 < (Rows 1024 256).size a := by decide

section
variable (x0 : Vec Ideal (Rows 1024 256) .bf16) (x1 : Vec Ideal (Flat 1024 256) .bf16) (x2 x3 x4 : Vec Ideal (Rows 1024 256) .f32) (y : (Rows 1024 256).Idx)

/-- What the kernel stores as the gradient: its own half plus the received one. -/
theorem grad_apply : k0_pay1 (F := Ideal) (k0_pay5 x0 x1) y = add x0 x1 y := by
  unfold add
  pointwise [k0_pay1, k0_pay5]

/-- What it stores as the first moment. -/
theorem first_apply : k0_pay3 (F := Ideal) (k0_pay6 x0 x1 x3) y = first (add x0 x1 y) (x3 y) := by
  unfold first add
  pointwise [k0_pay3, k0_pay6, k0_pay5]

/-- What it stores as the second moment. -/
theorem second_apply : k0_pay4 (F := Ideal) (k0_pay7 x0 x1 x4) y = second (add x0 x1 y) (x4 y) := by
  unfold second add
  pointwise [k0_pay4, k0_pay7, k0_pay5]

/-- What it stores as the step. -/
theorem step_apply : k0_pay2 (F := Ideal) (k0_pay8 x0 x1 x2 x3 x4) y = step (add x0 x1 y) (x2 y) (x3 y) (x4 y) := by
  unfold step first second add
  pointwise [k0_pay2, k0_pay8, k0_pay6, k0_pay7, k0_pay5]

end

end

/-! The last layer's program. -/

namespace L3
open Cert.Kernel22Ideal Cert.Kernel22Ideal.Gen

/-- The precondition puts the blocks inside their arrays, in the rounded program. -/
theorem inside_bits (m : (ℓ : Loc Cert.Kernel22.nD Cert.Kernel22.τ Cert.Kernel22.sig) → Buf (Elt Bits) ℓ) (h : Cert.Pre_Kernel22 m) :
    Cert.Kernel22.Gen.Ok (F := Bits) m :=
  ok_bits _ (zero_or_one _ (congrFun (h 0) (ix1 0)))

variable (m : (ℓ : Loc nD τ sig) → Buf (Elt Ideal) ℓ) (c : Dev nD)

/-- The device's coordinate. -/
def mine : BitVec 32 := m ((c : Thread nD τ).loc main_arg0) (ix1 0)

/-- The precondition leaves it two values. -/
theorem mine_eq (h : Cert.Pre_Kernel22Ideal m) : mine m c = 0#32 ∨ mine m c = 1#32 := zero_or_one _ (congrFun (h c) (ix1 0))

/-- The precondition puts the blocks inside their arrays. -/
theorem inside (h : Cert.Pre_Kernel22Ideal m) : Gen.Ok (F := Ideal) m := ok _ (mine_eq m 0 h)

/-- Point `t` reads and writes block `t` of the layer's rows, whatever the table holds. -/
theorem index : ∀ t : Fin grid0.N, (cc0_transform_9 (grid0.coords t) = ![3, t.val, 0] ∧ cc0_transform_10 (grid0.coords t) = ![3, t.val, 0]
    ∧ cc0_transform_11 (grid0.coords t) = ![3, t.val, 0] ∧ cc0_transform_12 (grid0.coords t) = ![3, t.val, 0])
    ∧ cc0_transform_1 (grid0.coords t) = ![t.val, 0] ∧ cc0_transform_2 (grid0.coords t) = ![3, t.val, 0]
    ∧ cc0_transform_3 (grid0.coords t) = ![3, t.val, 0] ∧ cc0_transform_4 (grid0.coords t) = ![3, t.val, 0] := by decide +kernel

variable (hO : Gen.Ok (F := Ideal) m)

/-- It reads block `t` of the device's own half of the gradient. -/
theorem own_index (t : Fin grid0.N) : ((cfgM m hO).win 0).index t = ![(mine m c).toNat, t.val, 0] := by
  obtain rfl : c = 0 := Subsingleton.elim _ _
  have e : ((cfgM m hO).win 0).index t = ![(mine m 0).toNat, (BitVec.ofNat 32 (grid0.coords t 0).val).toNat, (0#32).toNat] :=
    congrArg (fun x : BitVec 32 => ![x.toNat, (BitVec.ofNat 32 (grid0.coords t 0).val).toNat, (0#32).toNat])
      ((congrFun (V_main_arg0 m 0) _).trans (congrArg (m ((0 : Dev nD), main_arg0)) (only_index _)))
  exact e.trans (congrArg (fun n : Nat => ![(mine m 0).toNat, n, 0]) (coord t))

/-- The gradient: the device's own half and the received one. -/
abbrev grad : (Whole 1024 256).Idx → EReal :=
  total (mine m c) (m ((c : Thread nD τ).loc main_arg1)) (m ((c : Thread nD τ).loc main_arg2))

/-- A point's blocks hold its rows. -/
theorem held (h : Cert.Pre_Kernel22Ideal m) (t : Fin grid0.N) : Held (B := 1024) 3 t.val (grad m c) (m ((c : Thread nD τ).loc main_arg3))
    (m ((c : Thread nD τ).loc main_arg4)) (m ((c : Thread nD τ).loc main_arg5)) (iblk m hO c 0 t) (iblk m hO c 1 t) (iblk m hO c 2 t)
    (iblk m hO c 3 t) (iblk m hO c 4 t) where
  sum y z h1 h2 := congrArg₂ (fun a b : EReal => a + b)
    ((congrFun (V_main_arg1 m c) _).trans (read_own (mine_eq m c h) (own_index m c hO t) _ y _ (((cfgM m hO).win 0).rect_emb_val t y) z h1 h2))
    ((congrFun (V_main_arg2 m c) _).trans (read_flat (index t).2.1 _ y _ (((cfgM m hO).win 1).rect_emb_val t (ix2 (y 1) (y 2))) z h1 h2))
  weight y z h0 h1 h2 := (congrFun (V_main_arg3 m c) _).trans
    (read_rows (index t).2.2.1 _ y _ (((cfgM m hO).win 2).rect_emb_val t y) z h0 h1 h2)
  first y z h0 h1 h2 := (congrFun (V_main_arg4 m c) _).trans
    (read_rows (index t).2.2.2.1 _ y _ (((cfgM m hO).win 3).rect_emb_val t y) z h0 h1 h2)
  second y z h0 h1 h2 := (congrFun (V_main_arg5 m c) _).trans
    (read_rows (index t).2.2.2.2 _ y _ (((cfgM m hO).win 4).rect_emb_val t y) z h0 h1 h2)

/-- The results find their arguments' contents. -/
theorem kept : V m c main_v0_0 = m ((c : Thread nD τ).loc main_arg6) ∧ V m c main_v0_1 = m ((c : Thread nD τ).loc main_arg7)
    ∧ V m c main_v0_2 = m ((c : Thread nD τ).loc main_arg8) ∧ V m c main_v0_3 = m ((c : Thread nD τ).loc main_arg9) := by
  refine ⟨?_, ?_, ?_, ?_⟩
  all_goals
    unfold V hostOps0
    after_results
    rfl

/-- What point `t` writes of the gradients. -/
theorem out_grad (t : Fin grid0.N) : (outsAt0 m hO c t).1 = k0_pay1 (F := Ideal) (k0_pay5 (iblk m hO c 0 t) (iblk m hO c 1 t)) := by
  frame_out
  exact congrArg (k0_pay1 (F := Ideal)) (congrArg₂ k0_pay5 ((hs0_0 m hO t).read_unread _) ((hs0_1 m hO t).read_unread _))

/-- What it writes of the steps. -/
theorem out_step (t : Fin grid0.N) : (outsAt0 m hO c t).2.1 = k0_pay2 (F := Ideal)
    (k0_pay8 (iblk m hO c 0 t) (iblk m hO c 1 t) (iblk m hO c 2 t) (iblk m hO c 3 t) (iblk m hO c 4 t)) := by
  frame_out
  exact congrArg (k0_pay2 (F := Ideal)) (congr (congr (congr (congrArg₂ k0_pay8 ((hs0_0 m hO t).read_unread _)
    ((hs0_1 m hO t).read_unread _)) ((hs0_2 m hO t).read_unread _)) ((hs0_3 m hO t).read_unread _)) ((hs0_4 m hO t).read_unread _))

/-- What it writes of the first moments. -/
theorem out_first (t : Fin grid0.N) : (outsAt0 m hO c t).2.2.1 = k0_pay3 (F := Ideal)
    (k0_pay6 (iblk m hO c 0 t) (iblk m hO c 1 t) (iblk m hO c 3 t)) := by
  frame_out
  exact congrArg (k0_pay3 (F := Ideal)) (congr (congrArg₂ k0_pay6 ((hs0_0 m hO t).read_unread _)
    ((hs0_1 m hO t).read_unread _)) ((hs0_3 m hO t).read_unread _))

/-- What it writes of the second moments. -/
theorem out_second (t : Fin grid0.N) : (outsAt0 m hO c t).2.2.2 = k0_pay4 (F := Ideal)
    (k0_pay7 (iblk m hO c 0 t) (iblk m hO c 1 t) (iblk m hO c 4 t)) := by
  frame_out
  exact congrArg (k0_pay4 (F := Ideal)) (congr (congrArg₂ k0_pay7 ((hs0_0 m hO t).read_unread _)
    ((hs0_1 m hO t).read_unread _)) ((hs0_4 m hO t).read_unread _))

/-- The gradients at the end. -/
abbrev newGrad : (Whole 1024 256).Idx → EReal := layer 3 (grad m c) (m ((c : Thread nD τ).loc main_arg6))

/-- The first result is they. -/
theorem newGrad_eq (h : Cert.Pre_Kernel22Ideal m) : (dats m hO 0 c).arrAt 5 (cfgM m hO).N = newGrad m c :=
  (dats m hO 0 c).arrAt_eq_of_coversWhere_of_agree 5 _ (fun β => β (0 : Fin 3) = 3)
    ⟨filled, fun t _ => ⟨congrFun (index t).1.1 (0 : Fin 3), fun _ => .inl rfl⟩,
      fun β e => (reach (fun t => (index t).1.1) blocks β e).imp fun _ e => ⟨e, flush0_5 _ _⟩⟩
    (fun t _ y => (congrFun ((after0_5 m hO c t).trans (out_grad m c hO t)) y).trans ((grad_apply _ _ y).trans
      ((held m c hO h t).new_grad (index t).1.1 y _ (((cfgM m hO).win 5).rect_emb_val t y))))
    (fun _ hj => (congrFun (kept m c).1 _).trans (if_neg fun e => hj ((Nat.div_one _).trans e)).symm)

/-- The steps at the end. -/
abbrev newStep : (Whole 1024 256).Idx → EReal := steps 3 (grad m c) (m ((c : Thread nD τ).loc main_arg3)) (m ((c : Thread nD τ).loc main_arg4))
  (m ((c : Thread nD τ).loc main_arg5)) (m ((c : Thread nD τ).loc main_arg7))

/-- The second result is they. -/
theorem newStep_eq (h : Cert.Pre_Kernel22Ideal m) : (dats m hO 0 c).arrAt 6 (cfgM m hO).N = newStep m c :=
  (dats m hO 0 c).arrAt_eq_of_coversWhere_of_agree 6 _ (fun β => β (0 : Fin 3) = 3)
    ⟨filled, fun t _ => ⟨congrFun (index t).1.2.1 (0 : Fin 3), fun _ => .inl rfl⟩,
      fun β e => (reach (fun t => (index t).1.2.1) blocks β e).imp fun _ e => ⟨e, flush0_6 _ _⟩⟩
    (fun t _ y => (congrFun ((after0_6 m hO c t).trans (out_step m c hO t)) y).trans ((step_apply _ _ _ _ _ y).trans
      ((held m c hO h t).new_step (index t).1.2.1 y _ (((cfgM m hO).win 6).rect_emb_val t y))))
    (fun _ hj => (congrFun (kept m c).2.1 _).trans (if_neg fun e => hj ((Nat.div_one _).trans e)).symm)

/-- The first moments at the end. -/
abbrev newFirst : (Whole 1024 256).Idx → EReal := firsts 3 (grad m c) (m ((c : Thread nD τ).loc main_arg4)) (m ((c : Thread nD τ).loc main_arg8))

/-- The third result is they. -/
theorem newFirst_eq (h : Cert.Pre_Kernel22Ideal m) : (dats m hO 0 c).arrAt 7 (cfgM m hO).N = newFirst m c :=
  (dats m hO 0 c).arrAt_eq_of_coversWhere_of_agree 7 _ (fun β => β (0 : Fin 3) = 3)
    ⟨filled, fun t _ => ⟨congrFun (index t).1.2.2.1 (0 : Fin 3), fun _ => .inl rfl⟩,
      fun β e => (reach (fun t => (index t).1.2.2.1) blocks β e).imp fun _ e => ⟨e, flush0_7 _ _⟩⟩
    (fun t _ y => (congrFun ((after0_7 m hO c t).trans (out_first m c hO t)) y).trans ((first_apply _ _ _ y).trans
      ((held m c hO h t).new_first (index t).1.2.2.1 y _ (((cfgM m hO).win 7).rect_emb_val t y))))
    (fun _ hj => (congrFun (kept m c).2.2.1 _).trans (if_neg fun e => hj ((Nat.div_one _).trans e)).symm)

/-- The second moments at the end. -/
abbrev newSecond : (Whole 1024 256).Idx → EReal := seconds 3 (grad m c) (m ((c : Thread nD τ).loc main_arg5)) (m ((c : Thread nD τ).loc main_arg9))

/-- The fourth result is they. -/
theorem newSecond_eq (h : Cert.Pre_Kernel22Ideal m) : (dats m hO 0 c).arrAt 8 (cfgM m hO).N = newSecond m c :=
  (dats m hO 0 c).arrAt_eq_of_coversWhere_of_agree 8 _ (fun β => β (0 : Fin 3) = 3)
    ⟨filled, fun t _ => ⟨congrFun (index t).1.2.2.2 (0 : Fin 3), fun _ => .inl rfl⟩,
      fun β e => (reach (fun t => (index t).1.2.2.2) blocks β e).imp fun _ e => ⟨e, flush0_8 _ _⟩⟩
    (fun t _ y => (congrFun ((after0_8 m hO c t).trans (out_second m c hO t)) y).trans ((second_apply _ _ _ y).trans
      ((held m c hO h t).new_second (index t).1.2.2.2 y _ (((cfgM m hO).win 8).rect_emb_val t y))))
    (fun _ hj => (congrFun (kept m c).2.2.2 _).trans (if_neg fun e => hj ((Nat.div_one _).trans e)).symm)

/-- The kernel and the reference end with the same four arrays. -/
theorem algebraic : Cert.algebraic_Kernel22Ideal_Reference22Ideal := by
  intro m g m' g' h hArgs
  have hO := inside m h
  refine ⟨fun d => newGrad m d, fun d => newStep m d, fun d => newFirst m d, fun d => newSecond m d, ?_, ?_⟩
  · refine (θ_run _ _ _).mono (fun r p d => ?_) (θ_run_and (run_main m g hO) (unchanged m g hO))
    exact ⟨((p.1 d).1 5).trans (newGrad_eq m d hO h), ((p.1 d).1 6).trans (newStep_eq m d hO h),
      ((p.1 d).1 7).trans (newFirst_eq m d hO h), ((p.1 d).1 8).trans (newSecond_eq m d hO h), p.2 d⟩
  · refine (θ_run _ _ _).mono (fun r p d => ?_) (Cert.Reference22Ideal.Value.run m' g')
    obtain ⟨r0, r1, r2, r3, kept⟩ := p d
    obtain ⟨a0, a1, a2, a3, a4, a5, a6, a7, a8, a9⟩ := hArgs d
    refine ⟨r0.trans ?_, r1.trans ?_, r2.trans ?_, r3.trans ?_, kept⟩
    all_goals
      clear r0 r1 r2 r3 kept p
      funext y
      simp only [a0, a1, a2, a3, a4, a5, a6, a7, a8, a9, newGrad, newStep, newFirst, newSecond, steps, firsts, seconds, layer, step, first,
        second, total, own, mine]
      pointwise
      rw [pick_layer _ 3 (y 0).isLt (by decide), pick]
    all_goals rfl

end L3

/-! The third layer's program. -/

namespace L2
open Cert.Kernel23Ideal Cert.Kernel23Ideal.Gen

/-- The precondition puts the blocks inside their arrays, in the rounded program. -/
theorem inside_bits (m : (ℓ : Loc Cert.Kernel23.nD Cert.Kernel23.τ Cert.Kernel23.sig) → Buf (Elt Bits) ℓ) (h : Cert.Pre_Kernel23 m) :
    Cert.Kernel23.Gen.Ok (F := Bits) m :=
  ok_bits _ (zero_or_one _ (congrFun (h 0) (ix1 0)))

variable (m : (ℓ : Loc nD τ sig) → Buf (Elt Ideal) ℓ) (c : Dev nD)

/-- The device's coordinate. -/
def mine : BitVec 32 := m ((c : Thread nD τ).loc main_arg0) (ix1 0)

/-- The precondition leaves it two values. -/
theorem mine_eq (h : Cert.Pre_Kernel23Ideal m) : mine m c = 0#32 ∨ mine m c = 1#32 := zero_or_one _ (congrFun (h c) (ix1 0))

/-- The precondition puts the blocks inside their arrays. -/
theorem inside (h : Cert.Pre_Kernel23Ideal m) : Gen.Ok (F := Ideal) m := ok _ (mine_eq m 0 h)

/-- Point `t` reads and writes block `t` of the layer's rows, whatever the table holds. -/
theorem index : ∀ t : Fin grid0.N, (cc0_transform_9 (grid0.coords t) = ![2, t.val, 0] ∧ cc0_transform_10 (grid0.coords t) = ![2, t.val, 0]
    ∧ cc0_transform_11 (grid0.coords t) = ![2, t.val, 0] ∧ cc0_transform_12 (grid0.coords t) = ![2, t.val, 0])
    ∧ cc0_transform_1 (grid0.coords t) = ![t.val, 0] ∧ cc0_transform_2 (grid0.coords t) = ![2, t.val, 0]
    ∧ cc0_transform_3 (grid0.coords t) = ![2, t.val, 0] ∧ cc0_transform_4 (grid0.coords t) = ![2, t.val, 0] := by decide +kernel

variable (hO : Gen.Ok (F := Ideal) m)

/-- It reads block `t` of the device's own half of the gradient. -/
theorem own_index (t : Fin grid0.N) : ((cfgM m hO).win 0).index t = ![(mine m c).toNat, t.val, 0] := by
  obtain rfl : c = 0 := Subsingleton.elim _ _
  have e : ((cfgM m hO).win 0).index t = ![(mine m 0).toNat, (BitVec.ofNat 32 (grid0.coords t 0).val).toNat, (0#32).toNat] :=
    congrArg (fun x : BitVec 32 => ![x.toNat, (BitVec.ofNat 32 (grid0.coords t 0).val).toNat, (0#32).toNat])
      ((congrFun (V_main_arg0 m 0) _).trans (congrArg (m ((0 : Dev nD), main_arg0)) (only_index _)))
  exact e.trans (congrArg (fun n : Nat => ![(mine m 0).toNat, n, 0]) (coord t))

/-- The gradient: the device's own half and the received one. -/
abbrev grad : (Whole 1024 256).Idx → EReal :=
  total (mine m c) (m ((c : Thread nD τ).loc main_arg1)) (m ((c : Thread nD τ).loc main_arg2))

/-- A point's blocks hold its rows. -/
theorem held (h : Cert.Pre_Kernel23Ideal m) (t : Fin grid0.N) : Held (B := 1024) 2 t.val (grad m c) (m ((c : Thread nD τ).loc main_arg3))
    (m ((c : Thread nD τ).loc main_arg4)) (m ((c : Thread nD τ).loc main_arg5)) (iblk m hO c 0 t) (iblk m hO c 1 t) (iblk m hO c 2 t)
    (iblk m hO c 3 t) (iblk m hO c 4 t) where
  sum y z h1 h2 := congrArg₂ (fun a b : EReal => a + b)
    ((congrFun (V_main_arg1 m c) _).trans (read_own (mine_eq m c h) (own_index m c hO t) _ y _ (((cfgM m hO).win 0).rect_emb_val t y) z h1 h2))
    ((congrFun (V_main_arg2 m c) _).trans (read_flat (index t).2.1 _ y _ (((cfgM m hO).win 1).rect_emb_val t (ix2 (y 1) (y 2))) z h1 h2))
  weight y z h0 h1 h2 := (congrFun (V_main_arg3 m c) _).trans
    (read_rows (index t).2.2.1 _ y _ (((cfgM m hO).win 2).rect_emb_val t y) z h0 h1 h2)
  first y z h0 h1 h2 := (congrFun (V_main_arg4 m c) _).trans
    (read_rows (index t).2.2.2.1 _ y _ (((cfgM m hO).win 3).rect_emb_val t y) z h0 h1 h2)
  second y z h0 h1 h2 := (congrFun (V_main_arg5 m c) _).trans
    (read_rows (index t).2.2.2.2 _ y _ (((cfgM m hO).win 4).rect_emb_val t y) z h0 h1 h2)

/-- The results find their arguments' contents. -/
theorem kept : V m c main_v0_0 = m ((c : Thread nD τ).loc main_arg6) ∧ V m c main_v0_1 = m ((c : Thread nD τ).loc main_arg7)
    ∧ V m c main_v0_2 = m ((c : Thread nD τ).loc main_arg8) ∧ V m c main_v0_3 = m ((c : Thread nD τ).loc main_arg9) := by
  refine ⟨?_, ?_, ?_, ?_⟩
  all_goals
    unfold V hostOps0
    after_results
    rfl

/-- What point `t` writes of the gradients. -/
theorem out_grad (t : Fin grid0.N) : (outsAt0 m hO c t).1 = k0_pay1 (F := Ideal) (k0_pay5 (iblk m hO c 0 t) (iblk m hO c 1 t)) := by
  frame_out
  exact congrArg (k0_pay1 (F := Ideal)) (congrArg₂ k0_pay5 ((hs0_0 m hO t).read_unread _) ((hs0_1 m hO t).read_unread _))

/-- What it writes of the steps. -/
theorem out_step (t : Fin grid0.N) : (outsAt0 m hO c t).2.1 = k0_pay2 (F := Ideal)
    (k0_pay8 (iblk m hO c 0 t) (iblk m hO c 1 t) (iblk m hO c 2 t) (iblk m hO c 3 t) (iblk m hO c 4 t)) := by
  frame_out
  exact congrArg (k0_pay2 (F := Ideal)) (congr (congr (congr (congrArg₂ k0_pay8 ((hs0_0 m hO t).read_unread _)
    ((hs0_1 m hO t).read_unread _)) ((hs0_2 m hO t).read_unread _)) ((hs0_3 m hO t).read_unread _)) ((hs0_4 m hO t).read_unread _))

/-- What it writes of the first moments. -/
theorem out_first (t : Fin grid0.N) : (outsAt0 m hO c t).2.2.1 = k0_pay3 (F := Ideal)
    (k0_pay6 (iblk m hO c 0 t) (iblk m hO c 1 t) (iblk m hO c 3 t)) := by
  frame_out
  exact congrArg (k0_pay3 (F := Ideal)) (congr (congrArg₂ k0_pay6 ((hs0_0 m hO t).read_unread _)
    ((hs0_1 m hO t).read_unread _)) ((hs0_3 m hO t).read_unread _))

/-- What it writes of the second moments. -/
theorem out_second (t : Fin grid0.N) : (outsAt0 m hO c t).2.2.2 = k0_pay4 (F := Ideal)
    (k0_pay7 (iblk m hO c 0 t) (iblk m hO c 1 t) (iblk m hO c 4 t)) := by
  frame_out
  exact congrArg (k0_pay4 (F := Ideal)) (congr (congrArg₂ k0_pay7 ((hs0_0 m hO t).read_unread _)
    ((hs0_1 m hO t).read_unread _)) ((hs0_4 m hO t).read_unread _))

/-- The gradients at the end. -/
abbrev newGrad : (Whole 1024 256).Idx → EReal := layer 2 (grad m c) (m ((c : Thread nD τ).loc main_arg6))

/-- The first result is they. -/
theorem newGrad_eq (h : Cert.Pre_Kernel23Ideal m) : (dats m hO 0 c).arrAt 5 (cfgM m hO).N = newGrad m c :=
  (dats m hO 0 c).arrAt_eq_of_coversWhere_of_agree 5 _ (fun β => β (0 : Fin 3) = 2)
    ⟨filled, fun t _ => ⟨congrFun (index t).1.1 (0 : Fin 3), fun _ => .inl rfl⟩,
      fun β e => (reach (fun t => (index t).1.1) blocks β e).imp fun _ e => ⟨e, flush0_5 _ _⟩⟩
    (fun t _ y => (congrFun ((after0_5 m hO c t).trans (out_grad m c hO t)) y).trans ((grad_apply _ _ y).trans
      ((held m c hO h t).new_grad (index t).1.1 y _ (((cfgM m hO).win 5).rect_emb_val t y))))
    (fun _ hj => (congrFun (kept m c).1 _).trans (if_neg fun e => hj ((Nat.div_one _).trans e)).symm)

/-- The steps at the end. -/
abbrev newStep : (Whole 1024 256).Idx → EReal := steps 2 (grad m c) (m ((c : Thread nD τ).loc main_arg3)) (m ((c : Thread nD τ).loc main_arg4))
  (m ((c : Thread nD τ).loc main_arg5)) (m ((c : Thread nD τ).loc main_arg7))

/-- The second result is they. -/
theorem newStep_eq (h : Cert.Pre_Kernel23Ideal m) : (dats m hO 0 c).arrAt 6 (cfgM m hO).N = newStep m c :=
  (dats m hO 0 c).arrAt_eq_of_coversWhere_of_agree 6 _ (fun β => β (0 : Fin 3) = 2)
    ⟨filled, fun t _ => ⟨congrFun (index t).1.2.1 (0 : Fin 3), fun _ => .inl rfl⟩,
      fun β e => (reach (fun t => (index t).1.2.1) blocks β e).imp fun _ e => ⟨e, flush0_6 _ _⟩⟩
    (fun t _ y => (congrFun ((after0_6 m hO c t).trans (out_step m c hO t)) y).trans ((step_apply _ _ _ _ _ y).trans
      ((held m c hO h t).new_step (index t).1.2.1 y _ (((cfgM m hO).win 6).rect_emb_val t y))))
    (fun _ hj => (congrFun (kept m c).2.1 _).trans (if_neg fun e => hj ((Nat.div_one _).trans e)).symm)

/-- The first moments at the end. -/
abbrev newFirst : (Whole 1024 256).Idx → EReal := firsts 2 (grad m c) (m ((c : Thread nD τ).loc main_arg4)) (m ((c : Thread nD τ).loc main_arg8))

/-- The third result is they. -/
theorem newFirst_eq (h : Cert.Pre_Kernel23Ideal m) : (dats m hO 0 c).arrAt 7 (cfgM m hO).N = newFirst m c :=
  (dats m hO 0 c).arrAt_eq_of_coversWhere_of_agree 7 _ (fun β => β (0 : Fin 3) = 2)
    ⟨filled, fun t _ => ⟨congrFun (index t).1.2.2.1 (0 : Fin 3), fun _ => .inl rfl⟩,
      fun β e => (reach (fun t => (index t).1.2.2.1) blocks β e).imp fun _ e => ⟨e, flush0_7 _ _⟩⟩
    (fun t _ y => (congrFun ((after0_7 m hO c t).trans (out_first m c hO t)) y).trans ((first_apply _ _ _ y).trans
      ((held m c hO h t).new_first (index t).1.2.2.1 y _ (((cfgM m hO).win 7).rect_emb_val t y))))
    (fun _ hj => (congrFun (kept m c).2.2.1 _).trans (if_neg fun e => hj ((Nat.div_one _).trans e)).symm)

/-- The second moments at the end. -/
abbrev newSecond : (Whole 1024 256).Idx → EReal := seconds 2 (grad m c) (m ((c : Thread nD τ).loc main_arg5)) (m ((c : Thread nD τ).loc main_arg9))

/-- The fourth result is they. -/
theorem newSecond_eq (h : Cert.Pre_Kernel23Ideal m) : (dats m hO 0 c).arrAt 8 (cfgM m hO).N = newSecond m c :=
  (dats m hO 0 c).arrAt_eq_of_coversWhere_of_agree 8 _ (fun β => β (0 : Fin 3) = 2)
    ⟨filled, fun t _ => ⟨congrFun (index t).1.2.2.2 (0 : Fin 3), fun _ => .inl rfl⟩,
      fun β e => (reach (fun t => (index t).1.2.2.2) blocks β e).imp fun _ e => ⟨e, flush0_8 _ _⟩⟩
    (fun t _ y => (congrFun ((after0_8 m hO c t).trans (out_second m c hO t)) y).trans ((second_apply _ _ _ y).trans
      ((held m c hO h t).new_second (index t).1.2.2.2 y _ (((cfgM m hO).win 8).rect_emb_val t y))))
    (fun _ hj => (congrFun (kept m c).2.2.2 _).trans (if_neg fun e => hj ((Nat.div_one _).trans e)).symm)

/-- The kernel and the reference end with the same four arrays. -/
theorem algebraic : Cert.algebraic_Kernel23Ideal_Reference23Ideal := by
  intro m g m' g' h hArgs
  have hO := inside m h
  refine ⟨fun d => newGrad m d, fun d => newStep m d, fun d => newFirst m d, fun d => newSecond m d, ?_, ?_⟩
  · refine (θ_run _ _ _).mono (fun r p d => ?_) (θ_run_and (run_main m g hO) (unchanged m g hO))
    exact ⟨((p.1 d).1 5).trans (newGrad_eq m d hO h), ((p.1 d).1 6).trans (newStep_eq m d hO h),
      ((p.1 d).1 7).trans (newFirst_eq m d hO h), ((p.1 d).1 8).trans (newSecond_eq m d hO h), p.2 d⟩
  · refine (θ_run _ _ _).mono (fun r p d => ?_) (Cert.Reference23Ideal.Value.run m' g')
    obtain ⟨r0, r1, r2, r3, kept⟩ := p d
    obtain ⟨a0, a1, a2, a3, a4, a5, a6, a7, a8, a9⟩ := hArgs d
    refine ⟨r0.trans ?_, r1.trans ?_, r2.trans ?_, r3.trans ?_, kept⟩
    all_goals
      clear r0 r1 r2 r3 kept p
      funext y
      simp only [a0, a1, a2, a3, a4, a5, a6, a7, a8, a9, newGrad, newStep, newFirst, newSecond, steps, firsts, seconds, layer, step, first,
        second, total, own, mine]
      pointwise
      rw [pick_layer _ 2 (y 0).isLt (by decide), pick]
    all_goals rfl

end L2

/-! The second layer's program. -/

namespace L1
open Cert.Kernel24Ideal Cert.Kernel24Ideal.Gen

/-- The precondition puts the blocks inside their arrays, in the rounded program. -/
theorem inside_bits (m : (ℓ : Loc Cert.Kernel24.nD Cert.Kernel24.τ Cert.Kernel24.sig) → Buf (Elt Bits) ℓ) (h : Cert.Pre_Kernel24 m) :
    Cert.Kernel24.Gen.Ok (F := Bits) m :=
  ok_bits _ (zero_or_one _ (congrFun (h 0) (ix1 0)))

variable (m : (ℓ : Loc nD τ sig) → Buf (Elt Ideal) ℓ) (c : Dev nD)

/-- The device's coordinate. -/
def mine : BitVec 32 := m ((c : Thread nD τ).loc main_arg0) (ix1 0)

/-- The precondition leaves it two values. -/
theorem mine_eq (h : Cert.Pre_Kernel24Ideal m) : mine m c = 0#32 ∨ mine m c = 1#32 := zero_or_one _ (congrFun (h c) (ix1 0))

/-- The precondition puts the blocks inside their arrays. -/
theorem inside (h : Cert.Pre_Kernel24Ideal m) : Gen.Ok (F := Ideal) m := ok _ (mine_eq m 0 h)

/-- Point `t` reads and writes block `t` of the layer's rows, whatever the table holds. -/
theorem index : ∀ t : Fin grid0.N, (cc0_transform_9 (grid0.coords t) = ![1, t.val, 0] ∧ cc0_transform_10 (grid0.coords t) = ![1, t.val, 0]
    ∧ cc0_transform_11 (grid0.coords t) = ![1, t.val, 0] ∧ cc0_transform_12 (grid0.coords t) = ![1, t.val, 0])
    ∧ cc0_transform_1 (grid0.coords t) = ![t.val, 0] ∧ cc0_transform_2 (grid0.coords t) = ![1, t.val, 0]
    ∧ cc0_transform_3 (grid0.coords t) = ![1, t.val, 0] ∧ cc0_transform_4 (grid0.coords t) = ![1, t.val, 0] := by decide +kernel

variable (hO : Gen.Ok (F := Ideal) m)

/-- It reads block `t` of the device's own half of the gradient. -/
theorem own_index (t : Fin grid0.N) : ((cfgM m hO).win 0).index t = ![(mine m c).toNat, t.val, 0] := by
  obtain rfl : c = 0 := Subsingleton.elim _ _
  have e : ((cfgM m hO).win 0).index t = ![(mine m 0).toNat, (BitVec.ofNat 32 (grid0.coords t 0).val).toNat, (0#32).toNat] :=
    congrArg (fun x : BitVec 32 => ![x.toNat, (BitVec.ofNat 32 (grid0.coords t 0).val).toNat, (0#32).toNat])
      ((congrFun (V_main_arg0 m 0) _).trans (congrArg (m ((0 : Dev nD), main_arg0)) (only_index _)))
  exact e.trans (congrArg (fun n : Nat => ![(mine m 0).toNat, n, 0]) (coord t))

/-- The gradient: the device's own half and the received one. -/
abbrev grad : (Whole 1024 256).Idx → EReal :=
  total (mine m c) (m ((c : Thread nD τ).loc main_arg1)) (m ((c : Thread nD τ).loc main_arg2))

/-- A point's blocks hold its rows. -/
theorem held (h : Cert.Pre_Kernel24Ideal m) (t : Fin grid0.N) : Held (B := 1024) 1 t.val (grad m c) (m ((c : Thread nD τ).loc main_arg3))
    (m ((c : Thread nD τ).loc main_arg4)) (m ((c : Thread nD τ).loc main_arg5)) (iblk m hO c 0 t) (iblk m hO c 1 t) (iblk m hO c 2 t)
    (iblk m hO c 3 t) (iblk m hO c 4 t) where
  sum y z h1 h2 := congrArg₂ (fun a b : EReal => a + b)
    ((congrFun (V_main_arg1 m c) _).trans (read_own (mine_eq m c h) (own_index m c hO t) _ y _ (((cfgM m hO).win 0).rect_emb_val t y) z h1 h2))
    ((congrFun (V_main_arg2 m c) _).trans (read_flat (index t).2.1 _ y _ (((cfgM m hO).win 1).rect_emb_val t (ix2 (y 1) (y 2))) z h1 h2))
  weight y z h0 h1 h2 := (congrFun (V_main_arg3 m c) _).trans
    (read_rows (index t).2.2.1 _ y _ (((cfgM m hO).win 2).rect_emb_val t y) z h0 h1 h2)
  first y z h0 h1 h2 := (congrFun (V_main_arg4 m c) _).trans
    (read_rows (index t).2.2.2.1 _ y _ (((cfgM m hO).win 3).rect_emb_val t y) z h0 h1 h2)
  second y z h0 h1 h2 := (congrFun (V_main_arg5 m c) _).trans
    (read_rows (index t).2.2.2.2 _ y _ (((cfgM m hO).win 4).rect_emb_val t y) z h0 h1 h2)

/-- The results find their arguments' contents. -/
theorem kept : V m c main_v0_0 = m ((c : Thread nD τ).loc main_arg6) ∧ V m c main_v0_1 = m ((c : Thread nD τ).loc main_arg7)
    ∧ V m c main_v0_2 = m ((c : Thread nD τ).loc main_arg8) ∧ V m c main_v0_3 = m ((c : Thread nD τ).loc main_arg9) := by
  refine ⟨?_, ?_, ?_, ?_⟩
  all_goals
    unfold V hostOps0
    after_results
    rfl

/-- What point `t` writes of the gradients. -/
theorem out_grad (t : Fin grid0.N) : (outsAt0 m hO c t).1 = k0_pay1 (F := Ideal) (k0_pay5 (iblk m hO c 0 t) (iblk m hO c 1 t)) := by
  frame_out
  exact congrArg (k0_pay1 (F := Ideal)) (congrArg₂ k0_pay5 ((hs0_0 m hO t).read_unread _) ((hs0_1 m hO t).read_unread _))

/-- What it writes of the steps. -/
theorem out_step (t : Fin grid0.N) : (outsAt0 m hO c t).2.1 = k0_pay2 (F := Ideal)
    (k0_pay8 (iblk m hO c 0 t) (iblk m hO c 1 t) (iblk m hO c 2 t) (iblk m hO c 3 t) (iblk m hO c 4 t)) := by
  frame_out
  exact congrArg (k0_pay2 (F := Ideal)) (congr (congr (congr (congrArg₂ k0_pay8 ((hs0_0 m hO t).read_unread _)
    ((hs0_1 m hO t).read_unread _)) ((hs0_2 m hO t).read_unread _)) ((hs0_3 m hO t).read_unread _)) ((hs0_4 m hO t).read_unread _))

/-- What it writes of the first moments. -/
theorem out_first (t : Fin grid0.N) : (outsAt0 m hO c t).2.2.1 = k0_pay3 (F := Ideal)
    (k0_pay6 (iblk m hO c 0 t) (iblk m hO c 1 t) (iblk m hO c 3 t)) := by
  frame_out
  exact congrArg (k0_pay3 (F := Ideal)) (congr (congrArg₂ k0_pay6 ((hs0_0 m hO t).read_unread _)
    ((hs0_1 m hO t).read_unread _)) ((hs0_3 m hO t).read_unread _))

/-- What it writes of the second moments. -/
theorem out_second (t : Fin grid0.N) : (outsAt0 m hO c t).2.2.2 = k0_pay4 (F := Ideal)
    (k0_pay7 (iblk m hO c 0 t) (iblk m hO c 1 t) (iblk m hO c 4 t)) := by
  frame_out
  exact congrArg (k0_pay4 (F := Ideal)) (congr (congrArg₂ k0_pay7 ((hs0_0 m hO t).read_unread _)
    ((hs0_1 m hO t).read_unread _)) ((hs0_4 m hO t).read_unread _))

/-- The gradients at the end. -/
abbrev newGrad : (Whole 1024 256).Idx → EReal := layer 1 (grad m c) (m ((c : Thread nD τ).loc main_arg6))

/-- The first result is they. -/
theorem newGrad_eq (h : Cert.Pre_Kernel24Ideal m) : (dats m hO 0 c).arrAt 5 (cfgM m hO).N = newGrad m c :=
  (dats m hO 0 c).arrAt_eq_of_coversWhere_of_agree 5 _ (fun β => β (0 : Fin 3) = 1)
    ⟨filled, fun t _ => ⟨congrFun (index t).1.1 (0 : Fin 3), fun _ => .inl rfl⟩,
      fun β e => (reach (fun t => (index t).1.1) blocks β e).imp fun _ e => ⟨e, flush0_5 _ _⟩⟩
    (fun t _ y => (congrFun ((after0_5 m hO c t).trans (out_grad m c hO t)) y).trans ((grad_apply _ _ y).trans
      ((held m c hO h t).new_grad (index t).1.1 y _ (((cfgM m hO).win 5).rect_emb_val t y))))
    (fun _ hj => (congrFun (kept m c).1 _).trans (if_neg fun e => hj ((Nat.div_one _).trans e)).symm)

/-- The steps at the end. -/
abbrev newStep : (Whole 1024 256).Idx → EReal := steps 1 (grad m c) (m ((c : Thread nD τ).loc main_arg3)) (m ((c : Thread nD τ).loc main_arg4))
  (m ((c : Thread nD τ).loc main_arg5)) (m ((c : Thread nD τ).loc main_arg7))

/-- The second result is they. -/
theorem newStep_eq (h : Cert.Pre_Kernel24Ideal m) : (dats m hO 0 c).arrAt 6 (cfgM m hO).N = newStep m c :=
  (dats m hO 0 c).arrAt_eq_of_coversWhere_of_agree 6 _ (fun β => β (0 : Fin 3) = 1)
    ⟨filled, fun t _ => ⟨congrFun (index t).1.2.1 (0 : Fin 3), fun _ => .inl rfl⟩,
      fun β e => (reach (fun t => (index t).1.2.1) blocks β e).imp fun _ e => ⟨e, flush0_6 _ _⟩⟩
    (fun t _ y => (congrFun ((after0_6 m hO c t).trans (out_step m c hO t)) y).trans ((step_apply _ _ _ _ _ y).trans
      ((held m c hO h t).new_step (index t).1.2.1 y _ (((cfgM m hO).win 6).rect_emb_val t y))))
    (fun _ hj => (congrFun (kept m c).2.1 _).trans (if_neg fun e => hj ((Nat.div_one _).trans e)).symm)

/-- The first moments at the end. -/
abbrev newFirst : (Whole 1024 256).Idx → EReal := firsts 1 (grad m c) (m ((c : Thread nD τ).loc main_arg4)) (m ((c : Thread nD τ).loc main_arg8))

/-- The third result is they. -/
theorem newFirst_eq (h : Cert.Pre_Kernel24Ideal m) : (dats m hO 0 c).arrAt 7 (cfgM m hO).N = newFirst m c :=
  (dats m hO 0 c).arrAt_eq_of_coversWhere_of_agree 7 _ (fun β => β (0 : Fin 3) = 1)
    ⟨filled, fun t _ => ⟨congrFun (index t).1.2.2.1 (0 : Fin 3), fun _ => .inl rfl⟩,
      fun β e => (reach (fun t => (index t).1.2.2.1) blocks β e).imp fun _ e => ⟨e, flush0_7 _ _⟩⟩
    (fun t _ y => (congrFun ((after0_7 m hO c t).trans (out_first m c hO t)) y).trans ((first_apply _ _ _ y).trans
      ((held m c hO h t).new_first (index t).1.2.2.1 y _ (((cfgM m hO).win 7).rect_emb_val t y))))
    (fun _ hj => (congrFun (kept m c).2.2.1 _).trans (if_neg fun e => hj ((Nat.div_one _).trans e)).symm)

/-- The second moments at the end. -/
abbrev newSecond : (Whole 1024 256).Idx → EReal := seconds 1 (grad m c) (m ((c : Thread nD τ).loc main_arg5)) (m ((c : Thread nD τ).loc main_arg9))

/-- The fourth result is they. -/
theorem newSecond_eq (h : Cert.Pre_Kernel24Ideal m) : (dats m hO 0 c).arrAt 8 (cfgM m hO).N = newSecond m c :=
  (dats m hO 0 c).arrAt_eq_of_coversWhere_of_agree 8 _ (fun β => β (0 : Fin 3) = 1)
    ⟨filled, fun t _ => ⟨congrFun (index t).1.2.2.2 (0 : Fin 3), fun _ => .inl rfl⟩,
      fun β e => (reach (fun t => (index t).1.2.2.2) blocks β e).imp fun _ e => ⟨e, flush0_8 _ _⟩⟩
    (fun t _ y => (congrFun ((after0_8 m hO c t).trans (out_second m c hO t)) y).trans ((second_apply _ _ _ y).trans
      ((held m c hO h t).new_second (index t).1.2.2.2 y _ (((cfgM m hO).win 8).rect_emb_val t y))))
    (fun _ hj => (congrFun (kept m c).2.2.2 _).trans (if_neg fun e => hj ((Nat.div_one _).trans e)).symm)

/-- The kernel and the reference end with the same four arrays. -/
theorem algebraic : Cert.algebraic_Kernel24Ideal_Reference24Ideal := by
  intro m g m' g' h hArgs
  have hO := inside m h
  refine ⟨fun d => newGrad m d, fun d => newStep m d, fun d => newFirst m d, fun d => newSecond m d, ?_, ?_⟩
  · refine (θ_run _ _ _).mono (fun r p d => ?_) (θ_run_and (run_main m g hO) (unchanged m g hO))
    exact ⟨((p.1 d).1 5).trans (newGrad_eq m d hO h), ((p.1 d).1 6).trans (newStep_eq m d hO h),
      ((p.1 d).1 7).trans (newFirst_eq m d hO h), ((p.1 d).1 8).trans (newSecond_eq m d hO h), p.2 d⟩
  · refine (θ_run _ _ _).mono (fun r p d => ?_) (Cert.Reference24Ideal.Value.run m' g')
    obtain ⟨r0, r1, r2, r3, kept⟩ := p d
    obtain ⟨a0, a1, a2, a3, a4, a5, a6, a7, a8, a9⟩ := hArgs d
    refine ⟨r0.trans ?_, r1.trans ?_, r2.trans ?_, r3.trans ?_, kept⟩
    all_goals
      clear r0 r1 r2 r3 kept p
      funext y
      simp only [a0, a1, a2, a3, a4, a5, a6, a7, a8, a9, newGrad, newStep, newFirst, newSecond, steps, firsts, seconds, layer, step, first,
        second, total, own, mine]
      pointwise
      rw [pick_layer _ 1 (y 0).isLt (by decide), pick]
    all_goals rfl

end L1

/-! The first layer's program. -/

namespace L0
open Cert.Kernel25Ideal Cert.Kernel25Ideal.Gen

/-- The precondition puts the blocks inside their arrays, in the rounded program. -/
theorem inside_bits (m : (ℓ : Loc Cert.Kernel25.nD Cert.Kernel25.τ Cert.Kernel25.sig) → Buf (Elt Bits) ℓ) (h : Cert.Pre_Kernel25 m) :
    Cert.Kernel25.Gen.Ok (F := Bits) m :=
  ok_bits _ (zero_or_one _ (congrFun (h 0) (ix1 0)))

variable (m : (ℓ : Loc nD τ sig) → Buf (Elt Ideal) ℓ) (c : Dev nD)

/-- The device's coordinate. -/
def mine : BitVec 32 := m ((c : Thread nD τ).loc main_arg0) (ix1 0)

/-- The precondition leaves it two values. -/
theorem mine_eq (h : Cert.Pre_Kernel25Ideal m) : mine m c = 0#32 ∨ mine m c = 1#32 := zero_or_one _ (congrFun (h c) (ix1 0))

/-- The precondition puts the blocks inside their arrays. -/
theorem inside (h : Cert.Pre_Kernel25Ideal m) : Gen.Ok (F := Ideal) m := ok _ (mine_eq m 0 h)

/-- Point `t` reads and writes block `t` of the layer's rows, whatever the table holds. -/
theorem index : ∀ t : Fin grid0.N, (cc0_transform_9 (grid0.coords t) = ![0, t.val, 0] ∧ cc0_transform_10 (grid0.coords t) = ![0, t.val, 0]
    ∧ cc0_transform_11 (grid0.coords t) = ![0, t.val, 0] ∧ cc0_transform_12 (grid0.coords t) = ![0, t.val, 0])
    ∧ cc0_transform_1 (grid0.coords t) = ![t.val, 0] ∧ cc0_transform_2 (grid0.coords t) = ![0, t.val, 0]
    ∧ cc0_transform_3 (grid0.coords t) = ![0, t.val, 0] ∧ cc0_transform_4 (grid0.coords t) = ![0, t.val, 0] := by decide +kernel

variable (hO : Gen.Ok (F := Ideal) m)

/-- It reads block `t` of the device's own half of the gradient. -/
theorem own_index (t : Fin grid0.N) : ((cfgM m hO).win 0).index t = ![(mine m c).toNat, t.val, 0] := by
  obtain rfl : c = 0 := Subsingleton.elim _ _
  have e : ((cfgM m hO).win 0).index t = ![(mine m 0).toNat, (BitVec.ofNat 32 (grid0.coords t 0).val).toNat, (0#32).toNat] :=
    congrArg (fun x : BitVec 32 => ![x.toNat, (BitVec.ofNat 32 (grid0.coords t 0).val).toNat, (0#32).toNat])
      ((congrFun (V_main_arg0 m 0) _).trans (congrArg (m ((0 : Dev nD), main_arg0)) (only_index _)))
  exact e.trans (congrArg (fun n : Nat => ![(mine m 0).toNat, n, 0]) (coord t))

/-- The gradient: the device's own half and the received one. -/
abbrev grad : (Whole 1024 256).Idx → EReal :=
  total (mine m c) (m ((c : Thread nD τ).loc main_arg1)) (m ((c : Thread nD τ).loc main_arg2))

/-- A point's blocks hold its rows. -/
theorem held (h : Cert.Pre_Kernel25Ideal m) (t : Fin grid0.N) : Held (B := 1024) 0 t.val (grad m c) (m ((c : Thread nD τ).loc main_arg3))
    (m ((c : Thread nD τ).loc main_arg4)) (m ((c : Thread nD τ).loc main_arg5)) (iblk m hO c 0 t) (iblk m hO c 1 t) (iblk m hO c 2 t)
    (iblk m hO c 3 t) (iblk m hO c 4 t) where
  sum y z h1 h2 := congrArg₂ (fun a b : EReal => a + b)
    ((congrFun (V_main_arg1 m c) _).trans (read_own (mine_eq m c h) (own_index m c hO t) _ y _ (((cfgM m hO).win 0).rect_emb_val t y) z h1 h2))
    ((congrFun (V_main_arg2 m c) _).trans (read_flat (index t).2.1 _ y _ (((cfgM m hO).win 1).rect_emb_val t (ix2 (y 1) (y 2))) z h1 h2))
  weight y z h0 h1 h2 := (congrFun (V_main_arg3 m c) _).trans
    (read_rows (index t).2.2.1 _ y _ (((cfgM m hO).win 2).rect_emb_val t y) z h0 h1 h2)
  first y z h0 h1 h2 := (congrFun (V_main_arg4 m c) _).trans
    (read_rows (index t).2.2.2.1 _ y _ (((cfgM m hO).win 3).rect_emb_val t y) z h0 h1 h2)
  second y z h0 h1 h2 := (congrFun (V_main_arg5 m c) _).trans
    (read_rows (index t).2.2.2.2 _ y _ (((cfgM m hO).win 4).rect_emb_val t y) z h0 h1 h2)

/-- The results find their arguments' contents. -/
theorem kept : V m c main_v0_0 = m ((c : Thread nD τ).loc main_arg6) ∧ V m c main_v0_1 = m ((c : Thread nD τ).loc main_arg7)
    ∧ V m c main_v0_2 = m ((c : Thread nD τ).loc main_arg8) ∧ V m c main_v0_3 = m ((c : Thread nD τ).loc main_arg9) := by
  refine ⟨?_, ?_, ?_, ?_⟩
  all_goals
    unfold V hostOps0
    after_results
    rfl

/-- What point `t` writes of the gradients. -/
theorem out_grad (t : Fin grid0.N) : (outsAt0 m hO c t).1 = k0_pay1 (F := Ideal) (k0_pay5 (iblk m hO c 0 t) (iblk m hO c 1 t)) := by
  frame_out
  exact congrArg (k0_pay1 (F := Ideal)) (congrArg₂ k0_pay5 ((hs0_0 m hO t).read_unread _) ((hs0_1 m hO t).read_unread _))

/-- What it writes of the steps. -/
theorem out_step (t : Fin grid0.N) : (outsAt0 m hO c t).2.1 = k0_pay2 (F := Ideal)
    (k0_pay8 (iblk m hO c 0 t) (iblk m hO c 1 t) (iblk m hO c 2 t) (iblk m hO c 3 t) (iblk m hO c 4 t)) := by
  frame_out
  exact congrArg (k0_pay2 (F := Ideal)) (congr (congr (congr (congrArg₂ k0_pay8 ((hs0_0 m hO t).read_unread _)
    ((hs0_1 m hO t).read_unread _)) ((hs0_2 m hO t).read_unread _)) ((hs0_3 m hO t).read_unread _)) ((hs0_4 m hO t).read_unread _))

/-- What it writes of the first moments. -/
theorem out_first (t : Fin grid0.N) : (outsAt0 m hO c t).2.2.1 = k0_pay3 (F := Ideal)
    (k0_pay6 (iblk m hO c 0 t) (iblk m hO c 1 t) (iblk m hO c 3 t)) := by
  frame_out
  exact congrArg (k0_pay3 (F := Ideal)) (congr (congrArg₂ k0_pay6 ((hs0_0 m hO t).read_unread _)
    ((hs0_1 m hO t).read_unread _)) ((hs0_3 m hO t).read_unread _))

/-- What it writes of the second moments. -/
theorem out_second (t : Fin grid0.N) : (outsAt0 m hO c t).2.2.2 = k0_pay4 (F := Ideal)
    (k0_pay7 (iblk m hO c 0 t) (iblk m hO c 1 t) (iblk m hO c 4 t)) := by
  frame_out
  exact congrArg (k0_pay4 (F := Ideal)) (congr (congrArg₂ k0_pay7 ((hs0_0 m hO t).read_unread _)
    ((hs0_1 m hO t).read_unread _)) ((hs0_4 m hO t).read_unread _))

/-- The gradients at the end. -/
abbrev newGrad : (Whole 1024 256).Idx → EReal := layer 0 (grad m c) (m ((c : Thread nD τ).loc main_arg6))

/-- The first result is they. -/
theorem newGrad_eq (h : Cert.Pre_Kernel25Ideal m) : (dats m hO 0 c).arrAt 5 (cfgM m hO).N = newGrad m c :=
  (dats m hO 0 c).arrAt_eq_of_coversWhere_of_agree 5 _ (fun β => β (0 : Fin 3) = 0)
    ⟨filled, fun t _ => ⟨congrFun (index t).1.1 (0 : Fin 3), fun _ => .inl rfl⟩,
      fun β e => (reach (fun t => (index t).1.1) blocks β e).imp fun _ e => ⟨e, flush0_5 _ _⟩⟩
    (fun t _ y => (congrFun ((after0_5 m hO c t).trans (out_grad m c hO t)) y).trans ((grad_apply _ _ y).trans
      ((held m c hO h t).new_grad (index t).1.1 y _ (((cfgM m hO).win 5).rect_emb_val t y))))
    (fun _ hj => (congrFun (kept m c).1 _).trans (if_neg fun e => hj ((Nat.div_one _).trans e)).symm)

/-- The steps at the end. -/
abbrev newStep : (Whole 1024 256).Idx → EReal := steps 0 (grad m c) (m ((c : Thread nD τ).loc main_arg3)) (m ((c : Thread nD τ).loc main_arg4))
  (m ((c : Thread nD τ).loc main_arg5)) (m ((c : Thread nD τ).loc main_arg7))

/-- The second result is they. -/
theorem newStep_eq (h : Cert.Pre_Kernel25Ideal m) : (dats m hO 0 c).arrAt 6 (cfgM m hO).N = newStep m c :=
  (dats m hO 0 c).arrAt_eq_of_coversWhere_of_agree 6 _ (fun β => β (0 : Fin 3) = 0)
    ⟨filled, fun t _ => ⟨congrFun (index t).1.2.1 (0 : Fin 3), fun _ => .inl rfl⟩,
      fun β e => (reach (fun t => (index t).1.2.1) blocks β e).imp fun _ e => ⟨e, flush0_6 _ _⟩⟩
    (fun t _ y => (congrFun ((after0_6 m hO c t).trans (out_step m c hO t)) y).trans ((step_apply _ _ _ _ _ y).trans
      ((held m c hO h t).new_step (index t).1.2.1 y _ (((cfgM m hO).win 6).rect_emb_val t y))))
    (fun _ hj => (congrFun (kept m c).2.1 _).trans (if_neg fun e => hj ((Nat.div_one _).trans e)).symm)

/-- The first moments at the end. -/
abbrev newFirst : (Whole 1024 256).Idx → EReal := firsts 0 (grad m c) (m ((c : Thread nD τ).loc main_arg4)) (m ((c : Thread nD τ).loc main_arg8))

/-- The third result is they. -/
theorem newFirst_eq (h : Cert.Pre_Kernel25Ideal m) : (dats m hO 0 c).arrAt 7 (cfgM m hO).N = newFirst m c :=
  (dats m hO 0 c).arrAt_eq_of_coversWhere_of_agree 7 _ (fun β => β (0 : Fin 3) = 0)
    ⟨filled, fun t _ => ⟨congrFun (index t).1.2.2.1 (0 : Fin 3), fun _ => .inl rfl⟩,
      fun β e => (reach (fun t => (index t).1.2.2.1) blocks β e).imp fun _ e => ⟨e, flush0_7 _ _⟩⟩
    (fun t _ y => (congrFun ((after0_7 m hO c t).trans (out_first m c hO t)) y).trans ((first_apply _ _ _ y).trans
      ((held m c hO h t).new_first (index t).1.2.2.1 y _ (((cfgM m hO).win 7).rect_emb_val t y))))
    (fun _ hj => (congrFun (kept m c).2.2.1 _).trans (if_neg fun e => hj ((Nat.div_one _).trans e)).symm)

/-- The second moments at the end. -/
abbrev newSecond : (Whole 1024 256).Idx → EReal := seconds 0 (grad m c) (m ((c : Thread nD τ).loc main_arg5)) (m ((c : Thread nD τ).loc main_arg9))

/-- The fourth result is they. -/
theorem newSecond_eq (h : Cert.Pre_Kernel25Ideal m) : (dats m hO 0 c).arrAt 8 (cfgM m hO).N = newSecond m c :=
  (dats m hO 0 c).arrAt_eq_of_coversWhere_of_agree 8 _ (fun β => β (0 : Fin 3) = 0)
    ⟨filled, fun t _ => ⟨congrFun (index t).1.2.2.2 (0 : Fin 3), fun _ => .inl rfl⟩,
      fun β e => (reach (fun t => (index t).1.2.2.2) blocks β e).imp fun _ e => ⟨e, flush0_8 _ _⟩⟩
    (fun t _ y => (congrFun ((after0_8 m hO c t).trans (out_second m c hO t)) y).trans ((second_apply _ _ _ y).trans
      ((held m c hO h t).new_second (index t).1.2.2.2 y _ (((cfgM m hO).win 8).rect_emb_val t y))))
    (fun _ hj => (congrFun (kept m c).2.2.2 _).trans (if_neg fun e => hj ((Nat.div_one _).trans e)).symm)

/-- The kernel and the reference end with the same four arrays. -/
theorem algebraic : Cert.algebraic_Kernel25Ideal_Reference25Ideal := by
  intro m g m' g' h hArgs
  have hO := inside m h
  refine ⟨fun d => newGrad m d, fun d => newStep m d, fun d => newFirst m d, fun d => newSecond m d, ?_, ?_⟩
  · refine (θ_run _ _ _).mono (fun r p d => ?_) (θ_run_and (run_main m g hO) (unchanged m g hO))
    exact ⟨((p.1 d).1 5).trans (newGrad_eq m d hO h), ((p.1 d).1 6).trans (newStep_eq m d hO h),
      ((p.1 d).1 7).trans (newFirst_eq m d hO h), ((p.1 d).1 8).trans (newSecond_eq m d hO h), p.2 d⟩
  · refine (θ_run _ _ _).mono (fun r p d => ?_) (Cert.Reference25Ideal.Value.run m' g')
    obtain ⟨r0, r1, r2, r3, kept⟩ := p d
    obtain ⟨a0, a1, a2, a3, a4, a5, a6, a7, a8, a9⟩ := hArgs d
    refine ⟨r0.trans ?_, r1.trans ?_, r2.trans ?_, r3.trans ?_, kept⟩
    all_goals
      clear r0 r1 r2 r3 kept p
      funext y
      simp only [a0, a1, a2, a3, a4, a5, a6, a7, a8, a9, newGrad, newStep, newFirst, newSecond, steps, firsts, seconds, layer, step, first,
        second, total, own, mine]
      pointwise
      rw [pick_layer _ 0 (y 0).isLt (by decide), pick]
    all_goals rfl

end L0

end Cert.Opt.Br
end
-- ==== Proof.Opt.Win.lean ====
/- The optimiser's step of the mixers' input weights, layer by layer: the kernel's results are the reference's. -/
module
public import proofs.«01_k».proof.Defs
public import proofs.«01_k».proof.Proof.Opt.Layer
public import proofs.«01_k».proof.Proof.Gen.Kernel26.Frame
public import proofs.«01_k».proof.Proof.Gen.Kernel26Ideal.Frame
public import proofs.«01_k».proof.Proof.Gen.Reference26Ideal.Run
public import proofs.«01_k».proof.Proof.Gen.Kernel27.Frame
public import proofs.«01_k».proof.Proof.Gen.Kernel27Ideal.Frame
public import proofs.«01_k».proof.Proof.Gen.Reference27Ideal.Run
public import proofs.«01_k».proof.Proof.Gen.Kernel28.Frame
public import proofs.«01_k».proof.Proof.Gen.Kernel28Ideal.Frame
public import proofs.«01_k».proof.Proof.Gen.Reference28Ideal.Run
public import proofs.«01_k».proof.Proof.Gen.Kernel29.Frame
public import proofs.«01_k».proof.Proof.Gen.Kernel29Ideal.Frame
public import proofs.«01_k».proof.Proof.Gen.Reference29Ideal.Run
public import proofs.«01_k».proof.Proof.Gen.Pre_pair4

@[expose] public section
set_option maxRecDepth 16384

noncomputable section
namespace Cert.Opt.Win
open Idealize.ShloMosaic
open Idealize.ShloMosaic.TcCoe Idealize.ShloMosaic.Tactic

/-! What the four layers' programs share: their tables, their arithmetic and their blocks are the same. -/

section
open Cert.Kernel26

set_option backward.proofsInPublic true in
/-- A table that holds 0 or 1 puts the first operand's block inside its array, in the rounded program. -/
theorem ok_bits (pf : pre0.Contents (Elt Bits)) (h : pf 0 (ix1 0) = 0#32 ∨ pf 0 (ix1 0) = 1#32) : ok0 (F := Bits) pf := by
  have e : pf = fun | ⟨0, _⟩ => fun _ => pf 0 (ix1 0) | ⟨_ + 1, h⟩ => absurd h (by simp) :=
    funext fun | ⟨0, _⟩ => funext fun x => congrArg (pf 0) (only_index x)
  rw [e]
  rcases h with h | h <;> rw [h] <;> decide +kernel

end

section
open Cert.Kernel26Ideal Cert.Kernel26Ideal.Gen

set_option backward.proofsInPublic true in
/-- A table that holds 0 or 1 puts the first operand's block inside its array. -/
theorem ok (pf : pre0.Contents (Elt Ideal)) (h : pf 0 (ix1 0) = 0#32 ∨ pf 0 (ix1 0) = 1#32) : ok0 (F := Ideal) pf := by
  have e : pf = fun | ⟨0, _⟩ => fun _ => pf 0 (ix1 0) | ⟨_ + 1, h⟩ => absurd h (by simp) :=
    funext fun | ⟨0, _⟩ => funext fun x => congrArg (pf 0) (only_index x)
  rw [e]
  rcases h with h | h <;> rw [h] <;> decide +kernel

/-- The one grid coordinate of a point, as a word, is the point's number. -/
theorem coord : ∀ t : Fin grid0.N, (BitVec.ofNat 32 (grid0.coords t 0).val).toNat = t.val := by decide +kernel

/-- The blocks of a result: four layers of the grid's points. -/
theorem blocks : ∀ a : Fin 3, ((Whole 2048 1152).size a + (Rows 128 1152).size a - 1) / (Rows 128 1152).size a = ![4, grid0.N, 1] a := by decide

/-- A block is not empty. -/
theorem filled : ∀ a : Fin 3, 0 < (Rows 128 1152).size a := by decide

section
variable (x0 : Vec Ideal (Rows 128 1152) .bf16) (x1 : Vec Ideal (Flat 128 1152) .bf16) (x2 x3 x4 : Vec Ideal (Rows 128 1152) .f32) (y : (Rows 128 1152).Idx)

/-- What the kernel stores as the gradient: its own half plus the received one. -/
theorem grad_apply : k0_pay1 (F := Ideal) (k0_pay5 x0 x1) y = add x0 x1 y := by
  unfold add
  pointwise [k0_pay1, k0_pay5]

/-- What it stores as the first moment. -/
theorem first_apply : k0_pay3 (F := Ideal) (k0_pay6 x0 x1 x3) y = first (add x0 x1 y) (x3 y) := by
  unfold first add
  pointwise [k0_pay3, k0_pay6, k0_pay5]

/-- What it stores as the second moment. -/
theorem second_apply : k0_pay4 (F := Ideal) (k0_pay7 x0 x1 x4) y = second (add x0 x1 y) (x4 y) := by
  unfold second add
  pointwise [k0_pay4, k0_pay7, k0_pay5]

/-- What it stores as the step. -/
theorem step_apply : k0_pay2 (F := Ideal) (k0_pay8 x0 x1 x2 x3 x4) y = step (add x0 x1 y) (x2 y) (x3 y) (x4 y) := by
  unfold step first second add
  pointwise [k0_pay2, k0_pay8, k0_pay6, k0_pay7, k0_pay5]

end

end

/-! The last layer's program. -/

namespace L3
open Cert.Kernel26Ideal Cert.Kernel26Ideal.Gen

/-- The precondition puts the blocks inside their arrays, in the rounded program. -/
theorem inside_bits (m : (ℓ : Loc Cert.Kernel26.nD Cert.Kernel26.τ Cert.Kernel26.sig) → Buf (Elt Bits) ℓ) (h : Cert.Pre_Kernel26 m) :
    Cert.Kernel26.Gen.Ok (F := Bits) m :=
  ok_bits _ (zero_or_one _ (congrFun (h 0) (ix1 0)))

variable (m : (ℓ : Loc nD τ sig) → Buf (Elt Ideal) ℓ) (c : Dev nD)

/-- The device's coordinate. -/
def mine : BitVec 32 := m ((c : Thread nD τ).loc main_arg0) (ix1 0)

/-- The precondition leaves it two values. -/
theorem mine_eq (h : Cert.Pre_Kernel26Ideal m) : mine m c = 0#32 ∨ mine m c = 1#32 := zero_or_one _ (congrFun (h c) (ix1 0))

/-- The precondition puts the blocks inside their arrays. -/
theorem inside (h : Cert.Pre_Kernel26Ideal m) : Gen.Ok (F := Ideal) m := ok _ (mine_eq m 0 h)

/-- Point `t` reads and writes block `t` of the layer's rows, whatever the table holds. -/
theorem index : ∀ t : Fin grid0.N, (cc0_transform_9 (grid0.coords t) = ![3, t.val, 0] ∧ cc0_transform_10 (grid0.coords t) = ![3, t.val, 0]
    ∧ cc0_transform_11 (grid0.coords t) = ![3, t.val, 0] ∧ cc0_transform_12 (grid0.coords t) = ![3, t.val, 0])
    ∧ cc0_transform_1 (grid0.coords t) = ![t.val, 0] ∧ cc0_transform_2 (grid0.coords t) = ![3, t.val, 0]
    ∧ cc0_transform_3 (grid0.coords t) = ![3, t.val, 0] ∧ cc0_transform_4 (grid0.coords t) = ![3, t.val, 0] := by decide +kernel

variable (hO : Gen.Ok (F := Ideal) m)

/-- It reads block `t` of the device's own half of the gradient. -/
theorem own_index (t : Fin grid0.N) : ((cfgM m hO).win 0).index t = ![(mine m c).toNat, t.val, 0] := by
  obtain rfl : c = 0 := Subsingleton.elim _ _
  have e : ((cfgM m hO).win 0).index t = ![(mine m 0).toNat, (BitVec.ofNat 32 (grid0.coords t 0).val).toNat, (0#32).toNat] :=
    congrArg (fun x : BitVec 32 => ![x.toNat, (BitVec.ofNat 32 (grid0.coords t 0).val).toNat, (0#32).toNat])
      ((congrFun (V_main_arg0 m 0) _).trans (congrArg (m ((0 : Dev nD), main_arg0)) (only_index _)))
  exact e.trans (congrArg (fun n : Nat => ![(mine m 0).toNat, n, 0]) (coord t))

/-- The gradient: the device's own half and the received one. -/
abbrev grad : (Whole 2048 1152).Idx → EReal :=
  total (mine m c) (m ((c : Thread nD τ).loc main_arg1)) (m ((c : Thread nD τ).loc main_arg2))

/-- A point's blocks hold its rows. -/
theorem held (h : Cert.Pre_Kernel26Ideal m) (t : Fin grid0.N) : Held (B := 128) 3 t.val (grad m c) (m ((c : Thread nD τ).loc main_arg3))
    (m ((c : Thread nD τ).loc main_arg4)) (m ((c : Thread nD τ).loc main_arg5)) (iblk m hO c 0 t) (iblk m hO c 1 t) (iblk m hO c 2 t)
    (iblk m hO c 3 t) (iblk m hO c 4 t) where
  sum y z h1 h2 := congrArg₂ (fun a b : EReal => a + b)
    ((congrFun (V_main_arg1 m c) _).trans (read_own (mine_eq m c h) (own_index m c hO t) _ y _ (((cfgM m hO).win 0).rect_emb_val t y) z h1 h2))
    ((congrFun (V_main_arg2 m c) _).trans (read_flat (index t).2.1 _ y _ (((cfgM m hO).win 1).rect_emb_val t (ix2 (y 1) (y 2))) z h1 h2))
  weight y z h0 h1 h2 := (congrFun (V_main_arg3 m c) _).trans
    (read_rows (index t).2.2.1 _ y _ (((cfgM m hO).win 2).rect_emb_val t y) z h0 h1 h2)
  first y z h0 h1 h2 := (congrFun (V_main_arg4 m c) _).trans
    (read_rows (index t).2.2.2.1 _ y _ (((cfgM m hO).win 3).rect_emb_val t y) z h0 h1 h2)
  second y z h0 h1 h2 := (congrFun (V_main_arg5 m c) _).trans
    (read_rows (index t).2.2.2.2 _ y _ (((cfgM m hO).win 4).rect_emb_val t y) z h0 h1 h2)

/-- The results find their arguments' contents. -/
theorem kept : V m c main_v0_0 = m ((c : Thread nD τ).loc main_arg6) ∧ V m c main_v0_1 = m ((c : Thread nD τ).loc main_arg7)
    ∧ V m c main_v0_2 = m ((c : Thread nD τ).loc main_arg8) ∧ V m c main_v0_3 = m ((c : Thread nD τ).loc main_arg9) := by
  refine ⟨?_, ?_, ?_, ?_⟩
  all_goals
    unfold V hostOps0
    after_results
    rfl

/-- What point `t` writes of the gradients. -/
theorem out_grad (t : Fin grid0.N) : (outsAt0 m hO c t).1 = k0_pay1 (F := Ideal) (k0_pay5 (iblk m hO c 0 t) (iblk m hO c 1 t)) := by
  frame_out
  exact congrArg (k0_pay1 (F := Ideal)) (congrArg₂ k0_pay5 ((hs0_0 m hO t).read_unread _) ((hs0_1 m hO t).read_unread _))

/-- What it writes of the steps. -/
theorem out_step (t : Fin grid0.N) : (outsAt0 m hO c t).2.1 = k0_pay2 (F := Ideal)
    (k0_pay8 (iblk m hO c 0 t) (iblk m hO c 1 t) (iblk m hO c 2 t) (iblk m hO c 3 t) (iblk m hO c 4 t)) := by
  frame_out
  exact congrArg (k0_pay2 (F := Ideal)) (congr (congr (congr (congrArg₂ k0_pay8 ((hs0_0 m hO t).read_unread _)
    ((hs0_1 m hO t).read_unread _)) ((hs0_2 m hO t).read_unread _)) ((hs0_3 m hO t).read_unread _)) ((hs0_4 m hO t).read_unread _))

/-- What it writes of the first moments. -/
theorem out_first (t : Fin grid0.N) : (outsAt0 m hO c t).2.2.1 = k0_pay3 (F := Ideal)
    (k0_pay6 (iblk m hO c 0 t) (iblk m hO c 1 t) (iblk m hO c 3 t)) := by
  frame_out
  exact congrArg (k0_pay3 (F := Ideal)) (congr (congrArg₂ k0_pay6 ((hs0_0 m hO t).read_unread _)
    ((hs0_1 m hO t).read_unread _)) ((hs0_3 m hO t).read_unread _))

/-- What it writes of the second moments. -/
theorem out_second (t : Fin grid0.N) : (outsAt0 m hO c t).2.2.2 = k0_pay4 (F := Ideal)
    (k0_pay7 (iblk m hO c 0 t) (iblk m hO c 1 t) (iblk m hO c 4 t)) := by
  frame_out
  exact congrArg (k0_pay4 (F := Ideal)) (congr (congrArg₂ k0_pay7 ((hs0_0 m hO t).read_unread _)
    ((hs0_1 m hO t).read_unread _)) ((hs0_4 m hO t).read_unread _))

/-- The gradients at the end. -/
abbrev newGrad : (Whole 2048 1152).Idx → EReal := layer 3 (grad m c) (m ((c : Thread nD τ).loc main_arg6))

/-- The first result is they. -/
theorem newGrad_eq (h : Cert.Pre_Kernel26Ideal m) : (dats m hO 0 c).arrAt 5 (cfgM m hO).N = newGrad m c :=
  (dats m hO 0 c).arrAt_eq_of_coversWhere_of_agree 5 _ (fun β => β (0 : Fin 3) = 3)
    ⟨filled, fun t _ => ⟨congrFun (index t).1.1 (0 : Fin 3), fun _ => .inl rfl⟩,
      fun β e => (reach (fun t => (index t).1.1) blocks β e).imp fun _ e => ⟨e, flush0_5 _ _⟩⟩
    (fun t _ y => (congrFun ((after0_5 m hO c t).trans (out_grad m c hO t)) y).trans ((grad_apply _ _ y).trans
      ((held m c hO h t).new_grad (index t).1.1 y _ (((cfgM m hO).win 5).rect_emb_val t y))))
    (fun _ hj => (congrFun (kept m c).1 _).trans (if_neg fun e => hj ((Nat.div_one _).trans e)).symm)

/-- The steps at the end. -/
abbrev newStep : (Whole 2048 1152).Idx → EReal := steps 3 (grad m c) (m ((c : Thread nD τ).loc main_arg3)) (m ((c : Thread nD τ).loc main_arg4))
  (m ((c : Thread nD τ).loc main_arg5)) (m ((c : Thread nD τ).loc main_arg7))

/-- The second result is they. -/
theorem newStep_eq (h : Cert.Pre_Kernel26Ideal m) : (dats m hO 0 c).arrAt 6 (cfgM m hO).N = newStep m c :=
  (dats m hO 0 c).arrAt_eq_of_coversWhere_of_agree 6 _ (fun β => β (0 : Fin 3) = 3)
    ⟨filled, fun t _ => ⟨congrFun (index t).1.2.1 (0 : Fin 3), fun _ => .inl rfl⟩,
      fun β e => (reach (fun t => (index t).1.2.1) blocks β e).imp fun _ e => ⟨e, flush0_6 _ _⟩⟩
    (fun t _ y => (congrFun ((after0_6 m hO c t).trans (out_step m c hO t)) y).trans ((step_apply _ _ _ _ _ y).trans
      ((held m c hO h t).new_step (index t).1.2.1 y _ (((cfgM m hO).win 6).rect_emb_val t y))))
    (fun _ hj => (congrFun (kept m c).2.1 _).trans (if_neg fun e => hj ((Nat.div_one _).trans e)).symm)

/-- The first moments at the end. -/
abbrev newFirst : (Whole 2048 1152).Idx → EReal := firsts 3 (grad m c) (m ((c : Thread nD τ).loc main_arg4)) (m ((c : Thread nD τ).loc main_arg8))

/-- The third result is they. -/
theorem newFirst_eq (h : Cert.Pre_Kernel26Ideal m) : (dats m hO 0 c).arrAt 7 (cfgM m hO).N = newFirst m c :=
  (dats m hO 0 c).arrAt_eq_of_coversWhere_of_agree 7 _ (fun β => β (0 : Fin 3) = 3)
    ⟨filled, fun t _ => ⟨congrFun (index t).1.2.2.1 (0 : Fin 3), fun _ => .inl rfl⟩,
      fun β e => (reach (fun t => (index t).1.2.2.1) blocks β e).imp fun _ e => ⟨e, flush0_7 _ _⟩⟩
    (fun t _ y => (congrFun ((after0_7 m hO c t).trans (out_first m c hO t)) y).trans ((first_apply _ _ _ y).trans
      ((held m c hO h t).new_first (index t).1.2.2.1 y _ (((cfgM m hO).win 7).rect_emb_val t y))))
    (fun _ hj => (congrFun (kept m c).2.2.1 _).trans (if_neg fun e => hj ((Nat.div_one _).trans e)).symm)

/-- The second moments at the end. -/
abbrev newSecond : (Whole 2048 1152).Idx → EReal := seconds 3 (grad m c) (m ((c : Thread nD τ).loc main_arg5)) (m ((c : Thread nD τ).loc main_arg9))

/-- The fourth result is they. -/
theorem newSecond_eq (h : Cert.Pre_Kernel26Ideal m) : (dats m hO 0 c).arrAt 8 (cfgM m hO).N = newSecond m c :=
  (dats m hO 0 c).arrAt_eq_of_coversWhere_of_agree 8 _ (fun β => β (0 : Fin 3) = 3)
    ⟨filled, fun t _ => ⟨congrFun (index t).1.2.2.2 (0 : Fin 3), fun _ => .inl rfl⟩,
      fun β e => (reach (fun t => (index t).1.2.2.2) blocks β e).imp fun _ e => ⟨e, flush0_8 _ _⟩⟩
    (fun t _ y => (congrFun ((after0_8 m hO c t).trans (out_second m c hO t)) y).trans ((second_apply _ _ _ y).trans
      ((held m c hO h t).new_second (index t).1.2.2.2 y _ (((cfgM m hO).win 8).rect_emb_val t y))))
    (fun _ hj => (congrFun (kept m c).2.2.2 _).trans (if_neg fun e => hj ((Nat.div_one _).trans e)).symm)

/-- The kernel and the reference end with the same four arrays. -/
theorem algebraic : Cert.algebraic_Kernel26Ideal_Reference26Ideal := by
  intro m g m' g' h hArgs
  have hO := inside m h
  refine ⟨fun d => newGrad m d, fun d => newStep m d, fun d => newFirst m d, fun d => newSecond m d, ?_, ?_⟩
  · refine (θ_run _ _ _).mono (fun r p d => ?_) (θ_run_and (run_main m g hO) (unchanged m g hO))
    exact ⟨((p.1 d).1 5).trans (newGrad_eq m d hO h), ((p.1 d).1 6).trans (newStep_eq m d hO h),
      ((p.1 d).1 7).trans (newFirst_eq m d hO h), ((p.1 d).1 8).trans (newSecond_eq m d hO h), p.2 d⟩
  · refine (θ_run _ _ _).mono (fun r p d => ?_) (Cert.Reference26Ideal.Value.run m' g')
    obtain ⟨r0, r1, r2, r3, kept⟩ := p d
    obtain ⟨a0, a1, a2, a3, a4, a5, a6, a7, a8, a9⟩ := hArgs d
    refine ⟨r0.trans ?_, r1.trans ?_, r2.trans ?_, r3.trans ?_, kept⟩
    all_goals
      clear r0 r1 r2 r3 kept p
      funext y
      simp only [a0, a1, a2, a3, a4, a5, a6, a7, a8, a9, newGrad, newStep, newFirst, newSecond, steps, firsts, seconds, layer, step, first,
        second, total, own, mine]
      pointwise
      rw [pick_layer _ 3 (y 0).isLt (by decide), pick]
    all_goals rfl

end L3

/-! The third layer's program. -/

namespace L2
open Cert.Kernel27Ideal Cert.Kernel27Ideal.Gen

/-- The precondition puts the blocks inside their arrays, in the rounded program. -/
theorem inside_bits (m : (ℓ : Loc Cert.Kernel27.nD Cert.Kernel27.τ Cert.Kernel27.sig) → Buf (Elt Bits) ℓ) (h : Cert.Pre_Kernel27 m) :
    Cert.Kernel27.Gen.Ok (F := Bits) m :=
  ok_bits _ (zero_or_one _ (congrFun (h 0) (ix1 0)))

variable (m : (ℓ : Loc nD τ sig) → Buf (Elt Ideal) ℓ) (c : Dev nD)

/-- The device's coordinate. -/
def mine : BitVec 32 := m ((c : Thread nD τ).loc main_arg0) (ix1 0)

/-- The precondition leaves it two values. -/
theorem mine_eq (h : Cert.Pre_Kernel27Ideal m) : mine m c = 0#32 ∨ mine m c = 1#32 := zero_or_one _ (congrFun (h c) (ix1 0))

/-- The precondition puts the blocks inside their arrays. -/
theorem inside (h : Cert.Pre_Kernel27Ideal m) : Gen.Ok (F := Ideal) m := ok _ (mine_eq m 0 h)

/-- Point `t` reads and writes block `t` of the layer's rows, whatever the table holds. -/
theorem index : ∀ t : Fin grid0.N, (cc0_transform_9 (grid0.coords t) = ![2, t.val, 0] ∧ cc0_transform_10 (grid0.coords t) = ![2, t.val, 0]
    ∧ cc0_transform_11 (grid0.coords t) = ![2, t.val, 0] ∧ cc0_transform_12 (grid0.coords t) = ![2, t.val, 0])
    ∧ cc0_transform_1 (grid0.coords t) = ![t.val, 0] ∧ cc0_transform_2 (grid0.coords t) = ![2, t.val, 0]
    ∧ cc0_transform_3 (grid0.coords t) = ![2, t.val, 0] ∧ cc0_transform_4 (grid0.coords t) = ![2, t.val, 0] := by decide +kernel

variable (hO : Gen.Ok (F := Ideal) m)

/-- It reads block `t` of the device's own half of the gradient. -/
theorem own_index (t : Fin grid0.N) : ((cfgM m hO).win 0).index t = ![(mine m c).toNat, t.val, 0] := by
  obtain rfl : c = 0 := Subsingleton.elim _ _
  have e : ((cfgM m hO).win 0).index t = ![(mine m 0).toNat, (BitVec.ofNat 32 (grid0.coords t 0).val).toNat, (0#32).toNat] :=
    congrArg (fun x : BitVec 32 => ![x.toNat, (BitVec.ofNat 32 (grid0.coords t 0).val).toNat, (0#32).toNat])
      ((congrFun (V_main_arg0 m 0) _).trans (congrArg (m ((0 : Dev nD), main_arg0)) (only_index _)))
  exact e.trans (congrArg (fun n : Nat => ![(mine m 0).toNat, n, 0]) (coord t))

/-- The gradient: the device's own half and the received one. -/
abbrev grad : (Whole 2048 1152).Idx → EReal :=
  total (mine m c) (m ((c : Thread nD τ).loc main_arg1)) (m ((c : Thread nD τ).loc main_arg2))

/-- A point's blocks hold its rows. -/
theorem held (h : Cert.Pre_Kernel27Ideal m) (t : Fin grid0.N) : Held (B := 128) 2 t.val (grad m c) (m ((c : Thread nD τ).loc main_arg3))
    (m ((c : Thread nD τ).loc main_arg4)) (m ((c : Thread nD τ).loc main_arg5)) (iblk m hO c 0 t) (iblk m hO c 1 t) (iblk m hO c 2 t)
    (iblk m hO c 3 t) (iblk m hO c 4 t) where
  sum y z h1 h2 := congrArg₂ (fun a b : EReal => a + b)
    ((congrFun (V_main_arg1 m c) _).trans (read_own (mine_eq m c h) (own_index m c hO t) _ y _ (((cfgM m hO).win 0).rect_emb_val t y) z h1 h2))
    ((congrFun (V_main_arg2 m c) _).trans (read_flat (index t).2.1 _ y _ (((cfgM m hO).win 1).rect_emb_val t (ix2 (y 1) (y 2))) z h1 h2))
  weight y z h0 h1 h2 := (congrFun (V_main_arg3 m c) _).trans
    (read_rows (index t).2.2.1 _ y _ (((cfgM m hO).win 2).rect_emb_val t y) z h0 h1 h2)
  first y z h0 h1 h2 := (congrFun (V_main_arg4 m c) _).trans
    (read_rows (index t).2.2.2.1 _ y _ (((cfgM m hO).win 3).rect_emb_val t y) z h0 h1 h2)
  second y z h0 h1 h2 := (congrFun (V_main_arg5 m c) _).trans
    (read_rows (index t).2.2.2.2 _ y _ (((cfgM m hO).win 4).rect_emb_val t y) z h0 h1 h2)

/-- The results find their arguments' contents. -/
theorem kept : V m c main_v0_0 = m ((c : Thread nD τ).loc main_arg6) ∧ V m c main_v0_1 = m ((c : Thread nD τ).loc main_arg7)
    ∧ V m c main_v0_2 = m ((c : Thread nD τ).loc main_arg8) ∧ V m c main_v0_3 = m ((c : Thread nD τ).loc main_arg9) := by
  refine ⟨?_, ?_, ?_, ?_⟩
  all_goals
    unfold V hostOps0
    after_results
    rfl

/-- What point `t` writes of the gradients. -/
theorem out_grad (t : Fin grid0.N) : (outsAt0 m hO c t).1 = k0_pay1 (F := Ideal) (k0_pay5 (iblk m hO c 0 t) (iblk m hO c 1 t)) := by
  frame_out
  exact congrArg (k0_pay1 (F := Ideal)) (congrArg₂ k0_pay5 ((hs0_0 m hO t).read_unread _) ((hs0_1 m hO t).read_unread _))

/-- What it writes of the steps. -/
theorem out_step (t : Fin grid0.N) : (outsAt0 m hO c t).2.1 = k0_pay2 (F := Ideal)
    (k0_pay8 (iblk m hO c 0 t) (iblk m hO c 1 t) (iblk m hO c 2 t) (iblk m hO c 3 t) (iblk m hO c 4 t)) := by
  frame_out
  exact congrArg (k0_pay2 (F := Ideal)) (congr (congr (congr (congrArg₂ k0_pay8 ((hs0_0 m hO t).read_unread _)
    ((hs0_1 m hO t).read_unread _)) ((hs0_2 m hO t).read_unread _)) ((hs0_3 m hO t).read_unread _)) ((hs0_4 m hO t).read_unread _))

/-- What it writes of the first moments. -/
theorem out_first (t : Fin grid0.N) : (outsAt0 m hO c t).2.2.1 = k0_pay3 (F := Ideal)
    (k0_pay6 (iblk m hO c 0 t) (iblk m hO c 1 t) (iblk m hO c 3 t)) := by
  frame_out
  exact congrArg (k0_pay3 (F := Ideal)) (congr (congrArg₂ k0_pay6 ((hs0_0 m hO t).read_unread _)
    ((hs0_1 m hO t).read_unread _)) ((hs0_3 m hO t).read_unread _))

/-- What it writes of the second moments. -/
theorem out_second (t : Fin grid0.N) : (outsAt0 m hO c t).2.2.2 = k0_pay4 (F := Ideal)
    (k0_pay7 (iblk m hO c 0 t) (iblk m hO c 1 t) (iblk m hO c 4 t)) := by
  frame_out
  exact congrArg (k0_pay4 (F := Ideal)) (congr (congrArg₂ k0_pay7 ((hs0_0 m hO t).read_unread _)
    ((hs0_1 m hO t).read_unread _)) ((hs0_4 m hO t).read_unread _))

/-- The gradients at the end. -/
abbrev newGrad : (Whole 2048 1152).Idx → EReal := layer 2 (grad m c) (m ((c : Thread nD τ).loc main_arg6))

/-- The first result is they. -/
theorem newGrad_eq (h : Cert.Pre_Kernel27Ideal m) : (dats m hO 0 c).arrAt 5 (cfgM m hO).N = newGrad m c :=
  (dats m hO 0 c).arrAt_eq_of_coversWhere_of_agree 5 _ (fun β => β (0 : Fin 3) = 2)
    ⟨filled, fun t _ => ⟨congrFun (index t).1.1 (0 : Fin 3), fun _ => .inl rfl⟩,
      fun β e => (reach (fun t => (index t).1.1) blocks β e).imp fun _ e => ⟨e, flush0_5 _ _⟩⟩
    (fun t _ y => (congrFun ((after0_5 m hO c t).trans (out_grad m c hO t)) y).trans ((grad_apply _ _ y).trans
      ((held m c hO h t).new_grad (index t).1.1 y _ (((cfgM m hO).win 5).rect_emb_val t y))))
    (fun _ hj => (congrFun (kept m c).1 _).trans (if_neg fun e => hj ((Nat.div_one _).trans e)).symm)

/-- The steps at the end. -/
abbrev newStep : (Whole 2048 1152).Idx → EReal := steps 2 (grad m c) (m ((c : Thread nD τ).loc main_arg3)) (m ((c : Thread nD τ).loc main_arg4))
  (m ((c : Thread nD τ).loc main_arg5)) (m ((c : Thread nD τ).loc main_arg7))

/-- The second result is they. -/
theorem newStep_eq (h : Cert.Pre_Kernel27Ideal m) : (dats m hO 0 c).arrAt 6 (cfgM m hO).N = newStep m c :=
  (dats m hO 0 c).arrAt_eq_of_coversWhere_of_agree 6 _ (fun β => β (0 : Fin 3) = 2)
    ⟨filled, fun t _ => ⟨congrFun (index t).1.2.1 (0 : Fin 3), fun _ => .inl rfl⟩,
      fun β e => (reach (fun t => (index t).1.2.1) blocks β e).imp fun _ e => ⟨e, flush0_6 _ _⟩⟩
    (fun t _ y => (congrFun ((after0_6 m hO c t).trans (out_step m c hO t)) y).trans ((step_apply _ _ _ _ _ y).trans
      ((held m c hO h t).new_step (index t).1.2.1 y _ (((cfgM m hO).win 6).rect_emb_val t y))))
    (fun _ hj => (congrFun (kept m c).2.1 _).trans (if_neg fun e => hj ((Nat.div_one _).trans e)).symm)

/-- The first moments at the end. -/
abbrev newFirst : (Whole 2048 1152).Idx → EReal := firsts 2 (grad m c) (m ((c : Thread nD τ).loc main_arg4)) (m ((c : Thread nD τ).loc main_arg8))

/-- The third result is they. -/
theorem newFirst_eq (h : Cert.Pre_Kernel27Ideal m) : (dats m hO 0 c).arrAt 7 (cfgM m hO).N = newFirst m c :=
  (dats m hO 0 c).arrAt_eq_of_coversWhere_of_agree 7 _ (fun β => β (0 : Fin 3) = 2)
    ⟨filled, fun t _ => ⟨congrFun (index t).1.2.2.1 (0 : Fin 3), fun _ => .inl rfl⟩,
      fun β e => (reach (fun t => (index t).1.2.2.1) blocks β e).imp fun _ e => ⟨e, flush0_7 _ _⟩⟩
    (fun t _ y => (congrFun ((after0_7 m hO c t).trans (out_first m c hO t)) y).trans ((first_apply _ _ _ y).trans
      ((held m c hO h t).new_first (index t).1.2.2.1 y _ (((cfgM m hO).win 7).rect_emb_val t y))))
    (fun _ hj => (congrFun (kept m c).2.2.1 _).trans (if_neg fun e => hj ((Nat.div_one _).trans e)).symm)

/-- The second moments at the end. -/
abbrev newSecond : (Whole 2048 1152).Idx → EReal := seconds 2 (grad m c) (m ((c : Thread nD τ).loc main_arg5)) (m ((c : Thread nD τ).loc main_arg9))

/-- The fourth result is they. -/
theorem newSecond_eq (h : Cert.Pre_Kernel27Ideal m) : (dats m hO 0 c).arrAt 8 (cfgM m hO).N = newSecond m c :=
  (dats m hO 0 c).arrAt_eq_of_coversWhere_of_agree 8 _ (fun β => β (0 : Fin 3) = 2)
    ⟨filled, fun t _ => ⟨congrFun (index t).1.2.2.2 (0 : Fin 3), fun _ => .inl rfl⟩,
      fun β e => (reach (fun t => (index t).1.2.2.2) blocks β e).imp fun _ e => ⟨e, flush0_8 _ _⟩⟩
    (fun t _ y => (congrFun ((after0_8 m hO c t).trans (out_second m c hO t)) y).trans ((second_apply _ _ _ y).trans
      ((held m c hO h t).new_second (index t).1.2.2.2 y _ (((cfgM m hO).win 8).rect_emb_val t y))))
    (fun _ hj => (congrFun (kept m c).2.2.2 _).trans (if_neg fun e => hj ((Nat.div_one _).trans e)).symm)

/-- The kernel and the reference end with the same four arrays. -/
theorem algebraic : Cert.algebraic_Kernel27Ideal_Reference27Ideal := by
  intro m g m' g' h hArgs
  have hO := inside m h
  refine ⟨fun d => newGrad m d, fun d => newStep m d, fun d => newFirst m d, fun d => newSecond m d, ?_, ?_⟩
  · refine (θ_run _ _ _).mono (fun r p d => ?_) (θ_run_and (run_main m g hO) (unchanged m g hO))
    exact ⟨((p.1 d).1 5).trans (newGrad_eq m d hO h), ((p.1 d).1 6).trans (newStep_eq m d hO h),
      ((p.1 d).1 7).trans (newFirst_eq m d hO h), ((p.1 d).1 8).trans (newSecond_eq m d hO h), p.2 d⟩
  · refine (θ_run _ _ _).mono (fun r p d => ?_) (Cert.Reference27Ideal.Value.run m' g')
    obtain ⟨r0, r1, r2, r3, kept⟩ := p d
    obtain ⟨a0, a1, a2, a3, a4, a5, a6, a7, a8, a9⟩ := hArgs d
    refine ⟨r0.trans ?_, r1.trans ?_, r2.trans ?_, r3.trans ?_, kept⟩
    all_goals
      clear r0 r1 r2 r3 kept p
      funext y
      simp only [a0, a1, a2, a3, a4, a5, a6, a7, a8, a9, newGrad, newStep, newFirst, newSecond, steps, firsts, seconds, layer, step, first,
        second, total, own, mine]
      pointwise
      rw [pick_layer _ 2 (y 0).isLt (by decide), pick]
    all_goals rfl

end L2

/-! The second layer's program. -/

namespace L1
open Cert.Kernel28Ideal Cert.Kernel28Ideal.Gen

/-- The precondition puts the blocks inside their arrays, in the rounded program. -/
theorem inside_bits (m : (ℓ : Loc Cert.Kernel28.nD Cert.Kernel28.τ Cert.Kernel28.sig) → Buf (Elt Bits) ℓ) (h : Cert.Pre_Kernel28 m) :
    Cert.Kernel28.Gen.Ok (F := Bits) m :=
  ok_bits _ (zero_or_one _ (congrFun (h 0) (ix1 0)))

variable (m : (ℓ : Loc nD τ sig) → Buf (Elt Ideal) ℓ) (c : Dev nD)

/-- The device's coordinate. -/
def mine : BitVec 32 := m ((c : Thread nD τ).loc main_arg0) (ix1 0)

/-- The precondition leaves it two values. -/
theorem mine_eq (h : Cert.Pre_Kernel28Ideal m) : mine m c = 0#32 ∨ mine m c = 1#32 := zero_or_one _ (congrFun (h c) (ix1 0))

/-- The precondition puts the blocks inside their arrays. -/
theorem inside (h : Cert.Pre_Kernel28Ideal m) : Gen.Ok (F := Ideal) m := ok _ (mine_eq m 0 h)

/-- Point `t` reads and writes block `t` of the layer's rows, whatever the table holds. -/
theorem index : ∀ t : Fin grid0.N, (cc0_transform_9 (grid0.coords t) = ![1, t.val, 0] ∧ cc0_transform_10 (grid0.coords t) = ![1, t.val, 0]
    ∧ cc0_transform_11 (grid0.coords t) = ![1, t.val, 0] ∧ cc0_transform_12 (grid0.coords t) = ![1, t.val, 0])
    ∧ cc0_transform_1 (grid0.coords t) = ![t.val, 0] ∧ cc0_transform_2 (grid0.coords t) = ![1, t.val, 0]
    ∧ cc0_transform_3 (grid0.coords t) = ![1, t.val, 0] ∧ cc0_transform_4 (grid0.coords t) = ![1, t.val, 0] := by decide +kernel

variable (hO : Gen.Ok (F := Ideal) m)

/-- It reads block `t` of the device's own half of the gradient. -/
theorem own_index (t : Fin grid0.N) : ((cfgM m hO).win 0).index t = ![(mine m c).toNat, t.val, 0] := by
  obtain rfl : c = 0 := Subsingleton.elim _ _
  have e : ((cfgM m hO).win 0).index t = ![(mine m 0).toNat, (BitVec.ofNat 32 (grid0.coords t 0).val).toNat, (0#32).toNat] :=
    congrArg (fun x : BitVec 32 => ![x.toNat, (BitVec.ofNat 32 (grid0.coords t 0).val).toNat, (0#32).toNat])
      ((congrFun (V_main_arg0 m 0) _).trans (congrArg (m ((0 : Dev nD), main_arg0)) (only_index _)))
  exact e.trans (congrArg (fun n : Nat => ![(mine m 0).toNat, n, 0]) (coord t))

/-- The gradient: the device's own half and the received one. -/
abbrev grad : (Whole 2048 1152).Idx → EReal :=
  total (mine m c) (m ((c : Thread nD τ).loc main_arg1)) (m ((c : Thread nD τ).loc main_arg2))

/-- A point's blocks hold its rows. -/
theorem held (h : Cert.Pre_Kernel28Ideal m) (t : Fin grid0.N) : Held (B := 128) 1 t.val (grad m c) (m ((c : Thread nD τ).loc main_arg3))
    (m ((c : Thread nD τ).loc main_arg4)) (m ((c : Thread nD τ).loc main_arg5)) (iblk m hO c 0 t) (iblk m hO c 1 t) (iblk m hO c 2 t)
    (iblk m hO c 3 t) (iblk m hO c 4 t) where
  sum y z h1 h2 := congrArg₂ (fun a b : EReal => a + b)
    ((congrFun (V_main_arg1 m c) _).trans (read_own (mine_eq m c h) (own_index m c hO t) _ y _ (((cfgM m hO).win 0).rect_emb_val t y) z h1 h2))
    ((congrFun (V_main_arg2 m c) _).trans (read_flat (index t).2.1 _ y _ (((cfgM m hO).win 1).rect_emb_val t (ix2 (y 1) (y 2))) z h1 h2))
  weight y z h0 h1 h2 := (congrFun (V_main_arg3 m c) _).trans
    (read_rows (index t).2.2.1 _ y _ (((cfgM m hO).win 2).rect_emb_val t y) z h0 h1 h2)
  first y z h0 h1 h2 := (congrFun (V_main_arg4 m c) _).trans
    (read_rows (index t).2.2.2.1 _ y _ (((cfgM m hO).win 3).rect_emb_val t y) z h0 h1 h2)
  second y z h0 h1 h2 := (congrFun (V_main_arg5 m c) _).trans
    (read_rows (index t).2.2.2.2 _ y _ (((cfgM m hO).win 4).rect_emb_val t y) z h0 h1 h2)

/-- The results find their arguments' contents. -/
theorem kept : V m c main_v0_0 = m ((c : Thread nD τ).loc main_arg6) ∧ V m c main_v0_1 = m ((c : Thread nD τ).loc main_arg7)
    ∧ V m c main_v0_2 = m ((c : Thread nD τ).loc main_arg8) ∧ V m c main_v0_3 = m ((c : Thread nD τ).loc main_arg9) := by
  refine ⟨?_, ?_, ?_, ?_⟩
  all_goals
    unfold V hostOps0
    after_results
    rfl

/-- What point `t` writes of the gradients. -/
theorem out_grad (t : Fin grid0.N) : (outsAt0 m hO c t).1 = k0_pay1 (F := Ideal) (k0_pay5 (iblk m hO c 0 t) (iblk m hO c 1 t)) := by
  frame_out
  exact congrArg (k0_pay1 (F := Ideal)) (congrArg₂ k0_pay5 ((hs0_0 m hO t).read_unread _) ((hs0_1 m hO t).read_unread _))

/-- What it writes of the steps. -/
theorem out_step (t : Fin grid0.N) : (outsAt0 m hO c t).2.1 = k0_pay2 (F := Ideal)
    (k0_pay8 (iblk m hO c 0 t) (iblk m hO c 1 t) (iblk m hO c 2 t) (iblk m hO c 3 t) (iblk m hO c 4 t)) := by
  frame_out
  exact congrArg (k0_pay2 (F := Ideal)) (congr (congr (congr (congrArg₂ k0_pay8 ((hs0_0 m hO t).read_unread _)
    ((hs0_1 m hO t).read_unread _)) ((hs0_2 m hO t).read_unread _)) ((hs0_3 m hO t).read_unread _)) ((hs0_4 m hO t).read_unread _))

/-- What it writes of the first moments. -/
theorem out_first (t : Fin grid0.N) : (outsAt0 m hO c t).2.2.1 = k0_pay3 (F := Ideal)
    (k0_pay6 (iblk m hO c 0 t) (iblk m hO c 1 t) (iblk m hO c 3 t)) := by
  frame_out
  exact congrArg (k0_pay3 (F := Ideal)) (congr (congrArg₂ k0_pay6 ((hs0_0 m hO t).read_unread _)
    ((hs0_1 m hO t).read_unread _)) ((hs0_3 m hO t).read_unread _))

/-- What it writes of the second moments. -/
theorem out_second (t : Fin grid0.N) : (outsAt0 m hO c t).2.2.2 = k0_pay4 (F := Ideal)
    (k0_pay7 (iblk m hO c 0 t) (iblk m hO c 1 t) (iblk m hO c 4 t)) := by
  frame_out
  exact congrArg (k0_pay4 (F := Ideal)) (congr (congrArg₂ k0_pay7 ((hs0_0 m hO t).read_unread _)
    ((hs0_1 m hO t).read_unread _)) ((hs0_4 m hO t).read_unread _))

/-- The gradients at the end. -/
abbrev newGrad : (Whole 2048 1152).Idx → EReal := layer 1 (grad m c) (m ((c : Thread nD τ).loc main_arg6))

/-- The first result is they. -/
theorem newGrad_eq (h : Cert.Pre_Kernel28Ideal m) : (dats m hO 0 c).arrAt 5 (cfgM m hO).N = newGrad m c :=
  (dats m hO 0 c).arrAt_eq_of_coversWhere_of_agree 5 _ (fun β => β (0 : Fin 3) = 1)
    ⟨filled, fun t _ => ⟨congrFun (index t).1.1 (0 : Fin 3), fun _ => .inl rfl⟩,
      fun β e => (reach (fun t => (index t).1.1) blocks β e).imp fun _ e => ⟨e, flush0_5 _ _⟩⟩
    (fun t _ y => (congrFun ((after0_5 m hO c t).trans (out_grad m c hO t)) y).trans ((grad_apply _ _ y).trans
      ((held m c hO h t).new_grad (index t).1.1 y _ (((cfgM m hO).win 5).rect_emb_val t y))))
    (fun _ hj => (congrFun (kept m c).1 _).trans (if_neg fun e => hj ((Nat.div_one _).trans e)).symm)

/-- The steps at the end. -/
abbrev newStep : (Whole 2048 1152).Idx → EReal := steps 1 (grad m c) (m ((c : Thread nD τ).loc main_arg3)) (m ((c : Thread nD τ).loc main_arg4))
  (m ((c : Thread nD τ).loc main_arg5)) (m ((c : Thread nD τ).loc main_arg7))

/-- The second result is they. -/
theorem newStep_eq (h : Cert.Pre_Kernel28Ideal m) : (dats m hO 0 c).arrAt 6 (cfgM m hO).N = newStep m c :=
  (dats m hO 0 c).arrAt_eq_of_coversWhere_of_agree 6 _ (fun β => β (0 : Fin 3) = 1)
    ⟨filled, fun t _ => ⟨congrFun (index t).1.2.1 (0 : Fin 3), fun _ => .inl rfl⟩,
      fun β e => (reach (fun t => (index t).1.2.1) blocks β e).imp fun _ e => ⟨e, flush0_6 _ _⟩⟩
    (fun t _ y => (congrFun ((after0_6 m hO c t).trans (out_step m c hO t)) y).trans ((step_apply _ _ _ _ _ y).trans
      ((held m c hO h t).new_step (index t).1.2.1 y _ (((cfgM m hO).win 6).rect_emb_val t y))))
    (fun _ hj => (congrFun (kept m c).2.1 _).trans (if_neg fun e => hj ((Nat.div_one _).trans e)).symm)

/-- The first moments at the end. -/
abbrev newFirst : (Whole 2048 1152).Idx → EReal := firsts 1 (grad m c) (m ((c : Thread nD τ).loc main_arg4)) (m ((c : Thread nD τ).loc main_arg8))

/-- The third result is they. -/
theorem newFirst_eq (h : Cert.Pre_Kernel28Ideal m) : (dats m hO 0 c).arrAt 7 (cfgM m hO).N = newFirst m c :=
  (dats m hO 0 c).arrAt_eq_of_coversWhere_of_agree 7 _ (fun β => β (0 : Fin 3) = 1)
    ⟨filled, fun t _ => ⟨congrFun (index t).1.2.2.1 (0 : Fin 3), fun _ => .inl rfl⟩,
      fun β e => (reach (fun t => (index t).1.2.2.1) blocks β e).imp fun _ e => ⟨e, flush0_7 _ _⟩⟩
    (fun t _ y => (congrFun ((after0_7 m hO c t).trans (out_first m c hO t)) y).trans ((first_apply _ _ _ y).trans
      ((held m c hO h t).new_first (index t).1.2.2.1 y _ (((cfgM m hO).win 7).rect_emb_val t y))))
    (fun _ hj => (congrFun (kept m c).2.2.1 _).trans (if_neg fun e => hj ((Nat.div_one _).trans e)).symm)

/-- The second moments at the end. -/
abbrev newSecond : (Whole 2048 1152).Idx → EReal := seconds 1 (grad m c) (m ((c : Thread nD τ).loc main_arg5)) (m ((c : Thread nD τ).loc main_arg9))

/-- The fourth result is they. -/
theorem newSecond_eq (h : Cert.Pre_Kernel28Ideal m) : (dats m hO 0 c).arrAt 8 (cfgM m hO).N = newSecond m c :=
  (dats m hO 0 c).arrAt_eq_of_coversWhere_of_agree 8 _ (fun β => β (0 : Fin 3) = 1)
    ⟨filled, fun t _ => ⟨congrFun (index t).1.2.2.2 (0 : Fin 3), fun _ => .inl rfl⟩,
      fun β e => (reach (fun t => (index t).1.2.2.2) blocks β e).imp fun _ e => ⟨e, flush0_8 _ _⟩⟩
    (fun t _ y => (congrFun ((after0_8 m hO c t).trans (out_second m c hO t)) y).trans ((second_apply _ _ _ y).trans
      ((held m c hO h t).new_second (index t).1.2.2.2 y _ (((cfgM m hO).win 8).rect_emb_val t y))))
    (fun _ hj => (congrFun (kept m c).2.2.2 _).trans (if_neg fun e => hj ((Nat.div_one _).trans e)).symm)

/-- The kernel and the reference end with the same four arrays. -/
theorem algebraic : Cert.algebraic_Kernel28Ideal_Reference28Ideal := by
  intro m g m' g' h hArgs
  have hO := inside m h
  refine ⟨fun d => newGrad m d, fun d => newStep m d, fun d => newFirst m d, fun d => newSecond m d, ?_, ?_⟩
  · refine (θ_run _ _ _).mono (fun r p d => ?_) (θ_run_and (run_main m g hO) (unchanged m g hO))
    exact ⟨((p.1 d).1 5).trans (newGrad_eq m d hO h), ((p.1 d).1 6).trans (newStep_eq m d hO h),
      ((p.1 d).1 7).trans (newFirst_eq m d hO h), ((p.1 d).1 8).trans (newSecond_eq m d hO h), p.2 d⟩
  · refine (θ_run _ _ _).mono (fun r p d => ?_) (Cert.Reference28Ideal.Value.run m' g')
    obtain ⟨r0, r1, r2, r3, kept⟩ := p d
    obtain ⟨a0, a1, a2, a3, a4, a5, a6, a7, a8, a9⟩ := hArgs d
    refine ⟨r0.trans ?_, r1.trans ?_, r2.trans ?_, r3.trans ?_, kept⟩
    all_goals
      clear r0 r1 r2 r3 kept p
      funext y
      simp only [a0, a1, a2, a3, a4, a5, a6, a7, a8, a9, newGrad, newStep, newFirst, newSecond, steps, firsts, seconds, layer, step, first,
        second, total, own, mine]
      pointwise
      rw [pick_layer _ 1 (y 0).isLt (by decide), pick]
    all_goals rfl

end L1

/-! The first layer's program. -/

namespace L0
open Cert.Kernel29Ideal Cert.Kernel29Ideal.Gen

/-- The precondition puts the blocks inside their arrays, in the rounded program. -/
theorem inside_bits (m : (ℓ : Loc Cert.Kernel29.nD Cert.Kernel29.τ Cert.Kernel29.sig) → Buf (Elt Bits) ℓ) (h : Cert.Pre_Kernel29 m) :
    Cert.Kernel29.Gen.Ok (F := Bits) m :=
  ok_bits _ (zero_or_one _ (congrFun (h 0) (ix1 0)))

variable (m : (ℓ : Loc nD τ sig) → Buf (Elt Ideal) ℓ) (c : Dev nD)

/-- The device's coordinate. -/
def mine : BitVec 32 := m ((c : Thread nD τ).loc main_arg0) (ix1 0)

/-- The precondition leaves it two values. -/
theorem mine_eq (h : Cert.Pre_Kernel29Ideal m) : mine m c = 0#32 ∨ mine m c = 1#32 := zero_or_one _ (congrFun (h c) (ix1 0))

/-- The precondition puts the blocks inside their arrays. -/
theorem inside (h : Cert.Pre_Kernel29Ideal m) : Gen.Ok (F := Ideal) m := ok _ (mine_eq m 0 h)

/-- Point `t` reads and writes block `t` of the layer's rows, whatever the table holds. -/
theorem index : ∀ t : Fin grid0.N, (cc0_transform_9 (grid0.coords t) = ![0, t.val, 0] ∧ cc0_transform_10 (grid0.coords t) = ![0, t.val, 0]
    ∧ cc0_transform_11 (grid0.coords t) = ![0, t.val, 0] ∧ cc0_transform_12 (grid0.coords t) = ![0, t.val, 0])
    ∧ cc0_transform_1 (grid0.coords t) = ![t.val, 0] ∧ cc0_transform_2 (grid0.coords t) = ![0, t.val, 0]
    ∧ cc0_transform_3 (grid0.coords t) = ![0, t.val, 0] ∧ cc0_transform_4 (grid0.coords t) = ![0, t.val, 0] := by decide +kernel

variable (hO : Gen.Ok (F := Ideal) m)

/-- It reads block `t` of the device's own half of the gradient. -/
theorem own_index (t : Fin grid0.N) : ((cfgM m hO).win 0).index t = ![(mine m c).toNat, t.val, 0] := by
  obtain rfl : c = 0 := Subsingleton.elim _ _
  have e : ((cfgM m hO).win 0).index t = ![(mine m 0).toNat, (BitVec.ofNat 32 (grid0.coords t 0).val).toNat, (0#32).toNat] :=
    congrArg (fun x : BitVec 32 => ![x.toNat, (BitVec.ofNat 32 (grid0.coords t 0).val).toNat, (0#32).toNat])
      ((congrFun (V_main_arg0 m 0) _).trans (congrArg (m ((0 : Dev nD), main_arg0)) (only_index _)))
  exact e.trans (congrArg (fun n : Nat => ![(mine m 0).toNat, n, 0]) (coord t))

/-- The gradient: the device's own half and the received one. -/
abbrev grad : (Whole 2048 1152).Idx → EReal :=
  total (mine m c) (m ((c : Thread nD τ).loc main_arg1)) (m ((c : Thread nD τ).loc main_arg2))

/-- A point's blocks hold its rows. -/
theorem held (h : Cert.Pre_Kernel29Ideal m) (t : Fin grid0.N) : Held (B := 128) 0 t.val (grad m c) (m ((c : Thread nD τ).loc main_arg3))
    (m ((c : Thread nD τ).loc main_arg4)) (m ((c : Thread nD τ).loc main_arg5)) (iblk m hO c 0 t) (iblk m hO c 1 t) (iblk m hO c 2 t)
    (iblk m hO c 3 t) (iblk m hO c 4 t) where
  sum y z h1 h2 := congrArg₂ (fun a b : EReal => a + b)
    ((congrFun (V_main_arg1 m c) _).trans (read_own (mine_eq m c h) (own_index m c hO t) _ y _ (((cfgM m hO).win 0).rect_emb_val t y) z h1 h2))
    ((congrFun (V_main_arg2 m c) _).trans (read_flat (index t).2.1 _ y _ (((cfgM m hO).win 1).rect_emb_val t (ix2 (y 1) (y 2))) z h1 h2))
  weight y z h0 h1 h2 := (congrFun (V_main_arg3 m c) _).trans
    (read_rows (index t).2.2.1 _ y _ (((cfgM m hO).win 2).rect_emb_val t y) z h0 h1 h2)
  first y z h0 h1 h2 := (congrFun (V_main_arg4 m c) _).trans
    (read_rows (index t).2.2.2.1 _ y _ (((cfgM m hO).win 3).rect_emb_val t y) z h0 h1 h2)
  second y z h0 h1 h2 := (congrFun (V_main_arg5 m c) _).trans
    (read_rows (index t).2.2.2.2 _ y _ (((cfgM m hO).win 4).rect_emb_val t y) z h0 h1 h2)

/-- The results find their arguments' contents. -/
theorem kept : V m c main_v0_0 = m ((c : Thread nD τ).loc main_arg6) ∧ V m c main_v0_1 = m ((c : Thread nD τ).loc main_arg7)
    ∧ V m c main_v0_2 = m ((c : Thread nD τ).loc main_arg8) ∧ V m c main_v0_3 = m ((c : Thread nD τ).loc main_arg9) := by
  refine ⟨?_, ?_, ?_, ?_⟩
  all_goals
    unfold V hostOps0
    after_results
    rfl

/-- What point `t` writes of the gradients. -/
theorem out_grad (t : Fin grid0.N) : (outsAt0 m hO c t).1 = k0_pay1 (F := Ideal) (k0_pay5 (iblk m hO c 0 t) (iblk m hO c 1 t)) := by
  frame_out
  exact congrArg (k0_pay1 (F := Ideal)) (congrArg₂ k0_pay5 ((hs0_0 m hO t).read_unread _) ((hs0_1 m hO t).read_unread _))

/-- What it writes of the steps. -/
theorem out_step (t : Fin grid0.N) : (outsAt0 m hO c t).2.1 = k0_pay2 (F := Ideal)
    (k0_pay8 (iblk m hO c 0 t) (iblk m hO c 1 t) (iblk m hO c 2 t) (iblk m hO c 3 t) (iblk m hO c 4 t)) := by
  frame_out
  exact congrArg (k0_pay2 (F := Ideal)) (congr (congr (congr (congrArg₂ k0_pay8 ((hs0_0 m hO t).read_unread _)
    ((hs0_1 m hO t).read_unread _)) ((hs0_2 m hO t).read_unread _)) ((hs0_3 m hO t).read_unread _)) ((hs0_4 m hO t).read_unread _))

/-- What it writes of the first moments. -/
theorem out_first (t : Fin grid0.N) : (outsAt0 m hO c t).2.2.1 = k0_pay3 (F := Ideal)
    (k0_pay6 (iblk m hO c 0 t) (iblk m hO c 1 t) (iblk m hO c 3 t)) := by
  frame_out
  exact congrArg (k0_pay3 (F := Ideal)) (congr (congrArg₂ k0_pay6 ((hs0_0 m hO t).read_unread _)
    ((hs0_1 m hO t).read_unread _)) ((hs0_3 m hO t).read_unread _))

/-- What it writes of the second moments. -/
theorem out_second (t : Fin grid0.N) : (outsAt0 m hO c t).2.2.2 = k0_pay4 (F := Ideal)
    (k0_pay7 (iblk m hO c 0 t) (iblk m hO c 1 t) (iblk m hO c 4 t)) := by
  frame_out
  exact congrArg (k0_pay4 (F := Ideal)) (congr (congrArg₂ k0_pay7 ((hs0_0 m hO t).read_unread _)
    ((hs0_1 m hO t).read_unread _)) ((hs0_4 m hO t).read_unread _))

/-- The gradients at the end. -/
abbrev newGrad : (Whole 2048 1152).Idx → EReal := layer 0 (grad m c) (m ((c : Thread nD τ).loc main_arg6))

/-- The first result is they. -/
theorem newGrad_eq (h : Cert.Pre_Kernel29Ideal m) : (dats m hO 0 c).arrAt 5 (cfgM m hO).N = newGrad m c :=
  (dats m hO 0 c).arrAt_eq_of_coversWhere_of_agree 5 _ (fun β => β (0 : Fin 3) = 0)
    ⟨filled, fun t _ => ⟨congrFun (index t).1.1 (0 : Fin 3), fun _ => .inl rfl⟩,
      fun β e => (reach (fun t => (index t).1.1) blocks β e).imp fun _ e => ⟨e, flush0_5 _ _⟩⟩
    (fun t _ y => (congrFun ((after0_5 m hO c t).trans (out_grad m c hO t)) y).trans ((grad_apply _ _ y).trans
      ((held m c hO h t).new_grad (index t).1.1 y _ (((cfgM m hO).win 5).rect_emb_val t y))))
    (fun _ hj => (congrFun (kept m c).1 _).trans (if_neg fun e => hj ((Nat.div_one _).trans e)).symm)

/-- The steps at the end. -/
abbrev newStep : (Whole 2048 1152).Idx → EReal := steps 0 (grad m c) (m ((c : Thread nD τ).loc main_arg3)) (m ((c : Thread nD τ).loc main_arg4))
  (m ((c : Thread nD τ).loc main_arg5)) (m ((c : Thread nD τ).loc main_arg7))

/-- The second result is they. -/
theorem newStep_eq (h : Cert.Pre_Kernel29Ideal m) : (dats m hO 0 c).arrAt 6 (cfgM m hO).N = newStep m c :=
  (dats m hO 0 c).arrAt_eq_of_coversWhere_of_agree 6 _ (fun β => β (0 : Fin 3) = 0)
    ⟨filled, fun t _ => ⟨congrFun (index t).1.2.1 (0 : Fin 3), fun _ => .inl rfl⟩,
      fun β e => (reach (fun t => (index t).1.2.1) blocks β e).imp fun _ e => ⟨e, flush0_6 _ _⟩⟩
    (fun t _ y => (congrFun ((after0_6 m hO c t).trans (out_step m c hO t)) y).trans ((step_apply _ _ _ _ _ y).trans
      ((held m c hO h t).new_step (index t).1.2.1 y _ (((cfgM m hO).win 6).rect_emb_val t y))))
    (fun _ hj => (congrFun (kept m c).2.1 _).trans (if_neg fun e => hj ((Nat.div_one _).trans e)).symm)

/-- The first moments at the end. -/
abbrev newFirst : (Whole 2048 1152).Idx → EReal := firsts 0 (grad m c) (m ((c : Thread nD τ).loc main_arg4)) (m ((c : Thread nD τ).loc main_arg8))

/-- The third result is they. -/
theorem newFirst_eq (h : Cert.Pre_Kernel29Ideal m) : (dats m hO 0 c).arrAt 7 (cfgM m hO).N = newFirst m c :=
  (dats m hO 0 c).arrAt_eq_of_coversWhere_of_agree 7 _ (fun β => β (0 : Fin 3) = 0)
    ⟨filled, fun t _ => ⟨congrFun (index t).1.2.2.1 (0 : Fin 3), fun _ => .inl rfl⟩,
      fun β e => (reach (fun t => (index t).1.2.2.1) blocks β e).imp fun _ e => ⟨e, flush0_7 _ _⟩⟩
    (fun t _ y => (congrFun ((after0_7 m hO c t).trans (out_first m c hO t)) y).trans ((first_apply _ _ _ y).trans
      ((held m c hO h t).new_first (index t).1.2.2.1 y _ (((cfgM m hO).win 7).rect_emb_val t y))))
    (fun _ hj => (congrFun (kept m c).2.2.1 _).trans (if_neg fun e => hj ((Nat.div_one _).trans e)).symm)

/-- The second moments at the end. -/
abbrev newSecond : (Whole 2048 1152).Idx → EReal := seconds 0 (grad m c) (m ((c : Thread nD τ).loc main_arg5)) (m ((c : Thread nD τ).loc main_arg9))

/-- The fourth result is they. -/
theorem newSecond_eq (h : Cert.Pre_Kernel29Ideal m) : (dats m hO 0 c).arrAt 8 (cfgM m hO).N = newSecond m c :=
  (dats m hO 0 c).arrAt_eq_of_coversWhere_of_agree 8 _ (fun β => β (0 : Fin 3) = 0)
    ⟨filled, fun t _ => ⟨congrFun (index t).1.2.2.2 (0 : Fin 3), fun _ => .inl rfl⟩,
      fun β e => (reach (fun t => (index t).1.2.2.2) blocks β e).imp fun _ e => ⟨e, flush0_8 _ _⟩⟩
    (fun t _ y => (congrFun ((after0_8 m hO c t).trans (out_second m c hO t)) y).trans ((second_apply _ _ _ y).trans
      ((held m c hO h t).new_second (index t).1.2.2.2 y _ (((cfgM m hO).win 8).rect_emb_val t y))))
    (fun _ hj => (congrFun (kept m c).2.2.2 _).trans (if_neg fun e => hj ((Nat.div_one _).trans e)).symm)

/-- The kernel and the reference end with the same four arrays. -/
theorem algebraic : Cert.algebraic_Kernel29Ideal_Reference29Ideal := by
  intro m g m' g' h hArgs
  have hO := inside m h
  refine ⟨fun d => newGrad m d, fun d => newStep m d, fun d => newFirst m d, fun d => newSecond m d, ?_, ?_⟩
  · refine (θ_run _ _ _).mono (fun r p d => ?_) (θ_run_and (run_main m g hO) (unchanged m g hO))
    exact ⟨((p.1 d).1 5).trans (newGrad_eq m d hO h), ((p.1 d).1 6).trans (newStep_eq m d hO h),
      ((p.1 d).1 7).trans (newFirst_eq m d hO h), ((p.1 d).1 8).trans (newSecond_eq m d hO h), p.2 d⟩
  · refine (θ_run _ _ _).mono (fun r p d => ?_) (Cert.Reference29Ideal.Value.run m' g')
    obtain ⟨r0, r1, r2, r3, kept⟩ := p d
    obtain ⟨a0, a1, a2, a3, a4, a5, a6, a7, a8, a9⟩ := hArgs d
    refine ⟨r0.trans ?_, r1.trans ?_, r2.trans ?_, r3.trans ?_, kept⟩
    all_goals
      clear r0 r1 r2 r3 kept p
      funext y
      simp only [a0, a1, a2, a3, a4, a5, a6, a7, a8, a9, newGrad, newStep, newFirst, newSecond, steps, firsts, seconds, layer, step, first,
        second, total, own, mine]
      pointwise
      rw [pick_layer _ 0 (y 0).isLt (by decide), pick]
    all_goals rfl

end L0

end Cert.Opt.Win
end
-- ==== Proof.Opt.Glu.lean ====
/- The optimiser's step of the gate's weights, layer by layer: the kernel's results are the reference's. -/
module
public import proofs.«01_k».proof.Defs
public import proofs.«01_k».proof.Proof.Opt.Layer
public import proofs.«01_k».proof.Proof.Gen.Kernel30.Frame
public import proofs.«01_k».proof.Proof.Gen.Kernel30Ideal.Frame
public import proofs.«01_k».proof.Proof.Gen.Reference30Ideal.Run
public import proofs.«01_k».proof.Proof.Gen.Kernel31.Frame
public import proofs.«01_k».proof.Proof.Gen.Kernel31Ideal.Frame
public import proofs.«01_k».proof.Proof.Gen.Reference31Ideal.Run
public import proofs.«01_k».proof.Proof.Gen.Kernel32.Frame
public import proofs.«01_k».proof.Proof.Gen.Kernel32Ideal.Frame
public import proofs.«01_k».proof.Proof.Gen.Reference32Ideal.Run
public import proofs.«01_k».proof.Proof.Gen.Kernel33.Frame
public import proofs.«01_k».proof.Proof.Gen.Kernel33Ideal.Frame
public import proofs.«01_k».proof.Proof.Gen.Reference33Ideal.Run
public import proofs.«01_k».proof.Proof.Gen.Pre_pair5

@[expose] public section
set_option maxRecDepth 16384

noncomputable section
namespace Cert.Opt.Glu
open Idealize.ShloMosaic
open Idealize.ShloMosaic.TcCoe Idealize.ShloMosaic.Tactic

/-! What the four layers' programs share: their tables, their arithmetic and their blocks are the same. -/

section
open Cert.Kernel30

set_option backward.proofsInPublic true in
/-- A table that holds 0 or 1 puts the first operand's block inside its array, in the rounded program. -/
theorem ok_bits (pf : pre0.Contents (Elt Bits)) (h : pf 0 (ix1 0) = 0#32 ∨ pf 0 (ix1 0) = 1#32) : ok0 (F := Bits) pf := by
  have e : pf = fun | ⟨0, _⟩ => fun _ => pf 0 (ix1 0) | ⟨_ + 1, h⟩ => absurd h (by simp) :=
    funext fun | ⟨0, _⟩ => funext fun x => congrArg (pf 0) (only_index x)
  rw [e]
  rcases h with h | h <;> rw [h] <;> decide +kernel

end

section
open Cert.Kernel30Ideal Cert.Kernel30Ideal.Gen

set_option backward.proofsInPublic true in
/-- A table that holds 0 or 1 puts the first operand's block inside its array. -/
theorem ok (pf : pre0.Contents (Elt Ideal)) (h : pf 0 (ix1 0) = 0#32 ∨ pf 0 (ix1 0) = 1#32) : ok0 (F := Ideal) pf := by
  have e : pf = fun | ⟨0, _⟩ => fun _ => pf 0 (ix1 0) | ⟨_ + 1, h⟩ => absurd h (by simp) :=
    funext fun | ⟨0, _⟩ => funext fun x => congrArg (pf 0) (only_index x)
  rw [e]
  rcases h with h | h <;> rw [h] <;> decide +kernel

/-- The one grid coordinate of a point, as a word, is the point's number. -/
theorem coord : ∀ t : Fin grid0.N, (BitVec.ofNat 32 (grid0.coords t 0).val).toNat = t.val := by decide +kernel

/-- The blocks of a result: four layers of the grid's points. -/
theorem blocks : ∀ a : Fin 3, ((Whole 128 1024).size a + (Rows 128 1024).size a - 1) / (Rows 128 1024).size a = ![4, grid0.N, 1] a := by decide

/-- A block is not empty. -/
theorem filled : ∀ a : Fin 3, 0 < (Rows 128 1024).size a := by decide

section
variable (x0 : Vec Ideal (Rows 128 1024) .bf16) (x1 : Vec Ideal (Flat 128 1024) .bf16) (x2 x3 x4 : Vec Ideal (Rows 128 1024) .f32) (y : (Rows 128 1024).Idx)

/-- What the kernel stores as the gradient: its own half plus the received one. -/
theorem grad_apply : k0_pay1 (F := Ideal) (k0_pay5 x0 x1) y = add x0 x1 y := by
  unfold add
  pointwise [k0_pay1, k0_pay5]

/-- What it stores as the first moment. -/
theorem first_apply : k0_pay3 (F := Ideal) (k0_pay6 x0 x1 x3) y = first (add x0 x1 y) (x3 y) := by
  unfold first add
  pointwise [k0_pay3, k0_pay6, k0_pay5]

/-- What it stores as the second moment. -/
theorem second_apply : k0_pay4 (F := Ideal) (k0_pay7 x0 x1 x4) y = second (add x0 x1 y) (x4 y) := by
  unfold second add
  pointwise [k0_pay4, k0_pay7, k0_pay5]

/-- What it stores as the step. -/
theorem step_apply : k0_pay2 (F := Ideal) (k0_pay8 x0 x1 x2 x3 x4) y = step (add x0 x1 y) (x2 y) (x3 y) (x4 y) := by
  unfold step first second add
  pointwise [k0_pay2, k0_pay8, k0_pay6, k0_pay7, k0_pay5]

end

end

/-! The last layer's program. -/

namespace L3
open Cert.Kernel30Ideal Cert.Kernel30Ideal.Gen

/-- The precondition puts the blocks inside their arrays, in the rounded program. -/
theorem inside_bits (m : (ℓ : Loc Cert.Kernel30.nD Cert.Kernel30.τ Cert.Kernel30.sig) → Buf (Elt Bits) ℓ) (h : Cert.Pre_Kernel30 m) :
    Cert.Kernel30.Gen.Ok (F := Bits) m :=
  ok_bits _ (zero_or_one _ (congrFun (h 0) (ix1 0)))

variable (m : (ℓ : Loc nD τ sig) → Buf (Elt Ideal) ℓ) (c : Dev nD)

/-- The device's coordinate. -/
def mine : BitVec 32 := m ((c : Thread nD τ).loc main_arg0) (ix1 0)

/-- The precondition leaves it two values. -/
theorem mine_eq (h : Cert.Pre_Kernel30Ideal m) : mine m c = 0#32 ∨ mine m c = 1#32 := zero_or_one _ (congrFun (h c) (ix1 0))

/-- The precondition puts the blocks inside their arrays. -/
theorem inside (h : Cert.Pre_Kernel30Ideal m) : Gen.Ok (F := Ideal) m := ok _ (mine_eq m 0 h)

/-- Point `t` reads and writes block `t` of the layer's rows, whatever the table holds. -/
theorem index : ∀ t : Fin grid0.N, (cc0_transform_9 (grid0.coords t) = ![3, t.val, 0] ∧ cc0_transform_10 (grid0.coords t) = ![3, t.val, 0]
    ∧ cc0_transform_11 (grid0.coords t) = ![3, t.val, 0] ∧ cc0_transform_12 (grid0.coords t) = ![3, t.val, 0])
    ∧ cc0_transform_1 (grid0.coords t) = ![t.val, 0] ∧ cc0_transform_2 (grid0.coords t) = ![3, t.val, 0]
    ∧ cc0_transform_3 (grid0.coords t) = ![3, t.val, 0] ∧ cc0_transform_4 (grid0.coords t) = ![3, t.val, 0] := by decide +kernel

variable (hO : Gen.Ok (F := Ideal) m)

/-- It reads block `t` of the device's own half of the gradient. -/
theorem own_index (t : Fin grid0.N) : ((cfgM m hO).win 0).index t = ![(mine m c).toNat, t.val, 0] := by
  obtain rfl : c = 0 := Subsingleton.elim _ _
  have e : ((cfgM m hO).win 0).index t = ![(mine m 0).toNat, (BitVec.ofNat 32 (grid0.coords t 0).val).toNat, (0#32).toNat] :=
    congrArg (fun x : BitVec 32 => ![x.toNat, (BitVec.ofNat 32 (grid0.coords t 0).val).toNat, (0#32).toNat])
      ((congrFun (V_main_arg0 m 0) _).trans (congrArg (m ((0 : Dev nD), main_arg0)) (only_index _)))
  exact e.trans (congrArg (fun n : Nat => ![(mine m 0).toNat, n, 0]) (coord t))

/-- The gradient: the device's own half and the received one. -/
abbrev grad : (Whole 128 1024).Idx → EReal :=
  total (mine m c) (m ((c : Thread nD τ).loc main_arg1)) (m ((c : Thread nD τ).loc main_arg2))

/-- A point's blocks hold its rows. -/
theorem held (h : Cert.Pre_Kernel30Ideal m) (t : Fin grid0.N) : Held (B := 128) 3 t.val (grad m c) (m ((c : Thread nD τ).loc main_arg3))
    (m ((c : Thread nD τ).loc main_arg4)) (m ((c : Thread nD τ).loc main_arg5)) (iblk m hO c 0 t) (iblk m hO c 1 t) (iblk m hO c 2 t)
    (iblk m hO c 3 t) (iblk m hO c 4 t) where
  sum y z h1 h2 := congrArg₂ (fun a b : EReal => a + b)
    ((congrFun (V_main_arg1 m c) _).trans (read_own (mine_eq m c h) (own_index m c hO t) _ y _ (((cfgM m hO).win 0).rect_emb_val t y) z h1 h2))
    ((congrFun (V_main_arg2 m c) _).trans (read_flat (index t).2.1 _ y _ (((cfgM m hO).win 1).rect_emb_val t (ix2 (y 1) (y 2))) z h1 h2))
  weight y z h0 h1 h2 := (congrFun (V_main_arg3 m c) _).trans
    (read_rows (index t).2.2.1 _ y _ (((cfgM m hO).win 2).rect_emb_val t y) z h0 h1 h2)
  first y z h0 h1 h2 := (congrFun (V_main_arg4 m c) _).trans
    (read_rows (index t).2.2.2.1 _ y _ (((cfgM m hO).win 3).rect_emb_val t y) z h0 h1 h2)
  second y z h0 h1 h2 := (congrFun (V_main_arg5 m c) _).trans
    (read_rows (index t).2.2.2.2 _ y _ (((cfgM m hO).win 4).rect_emb_val t y) z h0 h1 h2)

/-- The results find their arguments' contents. -/
theorem kept : V m c main_v0_0 = m ((c : Thread nD τ).loc main_arg6) ∧ V m c main_v0_1 = m ((c : Thread nD τ).loc main_arg7)
    ∧ V m c main_v0_2 = m ((c : Thread nD τ).loc main_arg8) ∧ V m c main_v0_3 = m ((c : Thread nD τ).loc main_arg9) := by
  refine ⟨?_, ?_, ?_, ?_⟩
  all_goals
    unfold V hostOps0
    after_results
    rfl

/-- What point `t` writes of the gradients. -/
theorem out_grad (t : Fin grid0.N) : (outsAt0 m hO c t).1 = k0_pay1 (F := Ideal) (k0_pay5 (iblk m hO c 0 t) (iblk m hO c 1 t)) := by
  frame_out
  exact congrArg (k0_pay1 (F := Ideal)) (congrArg₂ k0_pay5 ((hs0_0 m hO t).read_unread _) ((hs0_1 m hO t).read_unread _))

/-- What it writes of the steps. -/
theorem out_step (t : Fin grid0.N) : (outsAt0 m hO c t).2.1 = k0_pay2 (F := Ideal)
    (k0_pay8 (iblk m hO c 0 t) (iblk m hO c 1 t) (iblk m hO c 2 t) (iblk m hO c 3 t) (iblk m hO c 4 t)) := by
  frame_out
  exact congrArg (k0_pay2 (F := Ideal)) (congr (congr (congr (congrArg₂ k0_pay8 ((hs0_0 m hO t).read_unread _)
    ((hs0_1 m hO t).read_unread _)) ((hs0_2 m hO t).read_unread _)) ((hs0_3 m hO t).read_unread _)) ((hs0_4 m hO t).read_unread _))

/-- What it writes of the first moments. -/
theorem out_first (t : Fin grid0.N) : (outsAt0 m hO c t).2.2.1 = k0_pay3 (F := Ideal)
    (k0_pay6 (iblk m hO c 0 t) (iblk m hO c 1 t) (iblk m hO c 3 t)) := by
  frame_out
  exact congrArg (k0_pay3 (F := Ideal)) (congr (congrArg₂ k0_pay6 ((hs0_0 m hO t).read_unread _)
    ((hs0_1 m hO t).read_unread _)) ((hs0_3 m hO t).read_unread _))

/-- What it writes of the second moments. -/
theorem out_second (t : Fin grid0.N) : (outsAt0 m hO c t).2.2.2 = k0_pay4 (F := Ideal)
    (k0_pay7 (iblk m hO c 0 t) (iblk m hO c 1 t) (iblk m hO c 4 t)) := by
  frame_out
  exact congrArg (k0_pay4 (F := Ideal)) (congr (congrArg₂ k0_pay7 ((hs0_0 m hO t).read_unread _)
    ((hs0_1 m hO t).read_unread _)) ((hs0_4 m hO t).read_unread _))

/-- The gradients at the end. -/
abbrev newGrad : (Whole 128 1024).Idx → EReal := layer 3 (grad m c) (m ((c : Thread nD τ).loc main_arg6))

/-- The first result is they. -/
theorem newGrad_eq (h : Cert.Pre_Kernel30Ideal m) : (dats m hO 0 c).arrAt 5 (cfgM m hO).N = newGrad m c :=
  (dats m hO 0 c).arrAt_eq_of_coversWhere_of_agree 5 _ (fun β => β (0 : Fin 3) = 3)
    ⟨filled, fun t _ => ⟨congrFun (index t).1.1 (0 : Fin 3), fun _ => .inl rfl⟩,
      fun β e => (reach (fun t => (index t).1.1) blocks β e).imp fun _ e => ⟨e, flush0_5 _ _⟩⟩
    (fun t _ y => (congrFun ((after0_5 m hO c t).trans (out_grad m c hO t)) y).trans ((grad_apply _ _ y).trans
      ((held m c hO h t).new_grad (index t).1.1 y _ (((cfgM m hO).win 5).rect_emb_val t y))))
    (fun _ hj => (congrFun (kept m c).1 _).trans (if_neg fun e => hj ((Nat.div_one _).trans e)).symm)

/-- The steps at the end. -/
abbrev newStep : (Whole 128 1024).Idx → EReal := steps 3 (grad m c) (m ((c : Thread nD τ).loc main_arg3)) (m ((c : Thread nD τ).loc main_arg4))
  (m ((c : Thread nD τ).loc main_arg5)) (m ((c : Thread nD τ).loc main_arg7))

/-- The second result is they. -/
theorem newStep_eq (h : Cert.Pre_Kernel30Ideal m) : (dats m hO 0 c).arrAt 6 (cfgM m hO).N = newStep m c :=
  (dats m hO 0 c).arrAt_eq_of_coversWhere_of_agree 6 _ (fun β => β (0 : Fin 3) = 3)
    ⟨filled, fun t _ => ⟨congrFun (index t).1.2.1 (0 : Fin 3), fun _ => .inl rfl⟩,
      fun β e => (reach (fun t => (index t).1.2.1) blocks β e).imp fun _ e => ⟨e, flush0_6 _ _⟩⟩
    (fun t _ y => (congrFun ((after0_6 m hO c t).trans (out_step m c hO t)) y).trans ((step_apply _ _ _ _ _ y).trans
      ((held m c hO h t).new_step (index t).1.2.1 y _ (((cfgM m hO).win 6).rect_emb_val t y))))
    (fun _ hj => (congrFun (kept m c).2.1 _).trans (if_neg fun e => hj ((Nat.div_one _).trans e)).symm)

/-- The first moments at the end. -/
abbrev newFirst : (Whole 128 1024).Idx → EReal := firsts 3 (grad m c) (m ((c : Thread nD τ).loc main_arg4)) (m ((c : Thread nD τ).loc main_arg8))

/-- The third result is they. -/
theorem newFirst_eq (h : Cert.Pre_Kernel30Ideal m) : (dats m hO 0 c).arrAt 7 (cfgM m hO).N = newFirst m c :=
  (dats m hO 0 c).arrAt_eq_of_coversWhere_of_agree 7 _ (fun β => β (0 : Fin 3) = 3)
    ⟨filled, fun t _ => ⟨congrFun (index t).1.2.2.1 (0 : Fin 3), fun _ => .inl rfl⟩,
      fun β e => (reach (fun t => (index t).1.2.2.1) blocks β e).imp fun _ e => ⟨e, flush0_7 _ _⟩⟩
    (fun t _ y => (congrFun ((after0_7 m hO c t).trans (out_first m c hO t)) y).trans ((first_apply _ _ _ y).trans
      ((held m c hO h t).new_first (index t).1.2.2.1 y _ (((cfgM m hO).win 7).rect_emb_val t y))))
    (fun _ hj => (congrFun (kept m c).2.2.1 _).trans (if_neg fun e => hj ((Nat.div_one _).trans e)).symm)

/-- The second moments at the end. -/
abbrev newSecond : (Whole 128 1024).Idx → EReal := seconds 3 (grad m c) (m ((c : Thread nD τ).loc main_arg5)) (m ((c : Thread nD τ).loc main_arg9))

/-- The fourth result is they. -/
theorem newSecond_eq (h : Cert.Pre_Kernel30Ideal m) : (dats m hO 0 c).arrAt 8 (cfgM m hO).N = newSecond m c :=
  (dats m hO 0 c).arrAt_eq_of_coversWhere_of_agree 8 _ (fun β => β (0 : Fin 3) = 3)
    ⟨filled, fun t _ => ⟨congrFun (index t).1.2.2.2 (0 : Fin 3), fun _ => .inl rfl⟩,
      fun β e => (reach (fun t => (index t).1.2.2.2) blocks β e).imp fun _ e => ⟨e, flush0_8 _ _⟩⟩
    (fun t _ y => (congrFun ((after0_8 m hO c t).trans (out_second m c hO t)) y).trans ((second_apply _ _ _ y).trans
      ((held m c hO h t).new_second (index t).1.2.2.2 y _ (((cfgM m hO).win 8).rect_emb_val t y))))
    (fun _ hj => (congrFun (kept m c).2.2.2 _).trans (if_neg fun e => hj ((Nat.div_one _).trans e)).symm)

/-- The kernel and the reference end with the same four arrays. -/
theorem algebraic : Cert.algebraic_Kernel30Ideal_Reference30Ideal := by
  intro m g m' g' h hArgs
  have hO := inside m h
  refine ⟨fun d => newGrad m d, fun d => newStep m d, fun d => newFirst m d, fun d => newSecond m d, ?_, ?_⟩
  · refine (θ_run _ _ _).mono (fun r p d => ?_) (θ_run_and (run_main m g hO) (unchanged m g hO))
    exact ⟨((p.1 d).1 5).trans (newGrad_eq m d hO h), ((p.1 d).1 6).trans (newStep_eq m d hO h),
      ((p.1 d).1 7).trans (newFirst_eq m d hO h), ((p.1 d).1 8).trans (newSecond_eq m d hO h), p.2 d⟩
  · refine (θ_run _ _ _).mono (fun r p d => ?_) (Cert.Reference30Ideal.Value.run m' g')
    obtain ⟨r0, r1, r2, r3, kept⟩ := p d
    obtain ⟨a0, a1, a2, a3, a4, a5, a6, a7, a8, a9⟩ := hArgs d
    refine ⟨r0.trans ?_, r1.trans ?_, r2.trans ?_, r3.trans ?_, kept⟩
    all_goals
      clear r0 r1 r2 r3 kept p
      funext y
      simp only [a0, a1, a2, a3, a4, a5, a6, a7, a8, a9, newGrad, newStep, newFirst, newSecond, steps, firsts, seconds, layer, step, first,
        second, total, own, mine]
      pointwise
      rw [pick_layer _ 3 (y 0).isLt (by decide), pick]
    all_goals rfl

end L3

/-! The third layer's program. -/

namespace L2
open Cert.Kernel31Ideal Cert.Kernel31Ideal.Gen

/-- The precondition puts the blocks inside their arrays, in the rounded program. -/
theorem inside_bits (m : (ℓ : Loc Cert.Kernel31.nD Cert.Kernel31.τ Cert.Kernel31.sig) → Buf (Elt Bits) ℓ) (h : Cert.Pre_Kernel31 m) :
    Cert.Kernel31.Gen.Ok (F := Bits) m :=
  ok_bits _ (zero_or_one _ (congrFun (h 0) (ix1 0)))

variable (m : (ℓ : Loc nD τ sig) → Buf (Elt Ideal) ℓ) (c : Dev nD)

/-- The device's coordinate. -/
def mine : BitVec 32 := m ((c : Thread nD τ).loc main_arg0) (ix1 0)

/-- The precondition leaves it two values. -/
theorem mine_eq (h : Cert.Pre_Kernel31Ideal m) : mine m c = 0#32 ∨ mine m c = 1#32 := zero_or_one _ (congrFun (h c) (ix1 0))

/-- The precondition puts the blocks inside their arrays. -/
theorem inside (h : Cert.Pre_Kernel31Ideal m) : Gen.Ok (F := Ideal) m := ok _ (mine_eq m 0 h)

/-- Point `t` reads and writes block `t` of the layer's rows, whatever the table holds. -/
theorem index : ∀ t : Fin grid0.N, (cc0_transform_9 (grid0.coords t) = ![2, t.val, 0] ∧ cc0_transform_10 (grid0.coords t) = ![2, t.val, 0]
    ∧ cc0_transform_11 (grid0.coords t) = ![2, t.val, 0] ∧ cc0_transform_12 (grid0.coords t) = ![2, t.val, 0])
    ∧ cc0_transform_1 (grid0.coords t) = ![t.val, 0] ∧ cc0_transform_2 (grid0.coords t) = ![2, t.val, 0]
    ∧ cc0_transform_3 (grid0.coords t) = ![2, t.val, 0] ∧ cc0_transform_4 (grid0.coords t) = ![2, t.val, 0] := by decide +kernel

variable (hO : Gen.Ok (F := Ideal) m)

/-- It reads block `t` of the device's own half of the gradient. -/
theorem own_index (t : Fin grid0.N) : ((cfgM m hO).win 0).index t = ![(mine m c).toNat, t.val, 0] := by
  obtain rfl : c = 0 := Subsingleton.elim _ _
  have e : ((cfgM m hO).win 0).index t = ![(mine m 0).toNat, (BitVec.ofNat 32 (grid0.coords t 0).val).toNat, (0#32).toNat] :=
    congrArg (fun x : BitVec 32 => ![x.toNat, (BitVec.ofNat 32 (grid0.coords t 0).val).toNat, (0#32).toNat])
      ((congrFun (V_main_arg0 m 0) _).trans (congrArg (m ((0 : Dev nD), main_arg0)) (only_index _)))
  exact e.trans (congrArg (fun n : Nat => ![(mine m 0).toNat, n, 0]) (coord t))

/-- The gradient: the device's own half and the received one. -/
abbrev grad : (Whole 128 1024).Idx → EReal :=
  total (mine m c) (m ((c : Thread nD τ).loc main_arg1)) (m ((c : Thread nD τ).loc main_arg2))

/-- A point's blocks hold its rows. -/
theorem held (h : Cert.Pre_Kernel31Ideal m) (t : Fin grid0.N) : Held (B := 128) 2 t.val (grad m c) (m ((c : Thread nD τ).loc main_arg3))
    (m ((c : Thread nD τ).loc main_arg4)) (m ((c : Thread nD τ).loc main_arg5)) (iblk m hO c 0 t) (iblk m hO c 1 t) (iblk m hO c 2 t)
    (iblk m hO c 3 t) (iblk m hO c 4 t) where
  sum y z h1 h2 := congrArg₂ (fun a b : EReal => a + b)
    ((congrFun (V_main_arg1 m c) _).trans (read_own (mine_eq m c h) (own_index m c hO t) _ y _ (((cfgM m hO).win 0).rect_emb_val t y) z h1 h2))
    ((congrFun (V_main_arg2 m c) _).trans (read_flat (index t).2.1 _ y _ (((cfgM m hO).win 1).rect_emb_val t (ix2 (y 1) (y 2))) z h1 h2))
  weight y z h0 h1 h2 := (congrFun (V_main_arg3 m c) _).trans
    (read_rows (index t).2.2.1 _ y _ (((cfgM m hO).win 2).rect_emb_val t y) z h0 h1 h2)
  first y z h0 h1 h2 := (congrFun (V_main_arg4 m c) _).trans
    (read_rows (index t).2.2.2.1 _ y _ (((cfgM m hO).win 3).rect_emb_val t y) z h0 h1 h2)
  second y z h0 h1 h2 := (congrFun (V_main_arg5 m c) _).trans
    (read_rows (index t).2.2.2.2 _ y _ (((cfgM m hO).win 4).rect_emb_val t y) z h0 h1 h2)

/-- The results find their arguments' contents. -/
theorem kept : V m c main_v0_0 = m ((c : Thread nD τ).loc main_arg6) ∧ V m c main_v0_1 = m ((c : Thread nD τ).loc main_arg7)
    ∧ V m c main_v0_2 = m ((c : Thread nD τ).loc main_arg8) ∧ V m c main_v0_3 = m ((c : Thread nD τ).loc main_arg9) := by
  refine ⟨?_, ?_, ?_, ?_⟩
  all_goals
    unfold V hostOps0
    after_results
    rfl

/-- What point `t` writes of the gradients. -/
theorem out_grad (t : Fin grid0.N) : (outsAt0 m hO c t).1 = k0_pay1 (F := Ideal) (k0_pay5 (iblk m hO c 0 t) (iblk m hO c 1 t)) := by
  frame_out
  exact congrArg (k0_pay1 (F := Ideal)) (congrArg₂ k0_pay5 ((hs0_0 m hO t).read_unread _) ((hs0_1 m hO t).read_unread _))

/-- What it writes of the steps. -/
theorem out_step (t : Fin grid0.N) : (outsAt0 m hO c t).2.1 = k0_pay2 (F := Ideal)
    (k0_pay8 (iblk m hO c 0 t) (iblk m hO c 1 t) (iblk m hO c 2 t) (iblk m hO c 3 t) (iblk m hO c 4 t)) := by
  frame_out
  exact congrArg (k0_pay2 (F := Ideal)) (congr (congr (congr (congrArg₂ k0_pay8 ((hs0_0 m hO t).read_unread _)
    ((hs0_1 m hO t).read_unread _)) ((hs0_2 m hO t).read_unread _)) ((hs0_3 m hO t).read_unread _)) ((hs0_4 m hO t).read_unread _))

/-- What it writes of the first moments. -/
theorem out_first (t : Fin grid0.N) : (outsAt0 m hO c t).2.2.1 = k0_pay3 (F := Ideal)
    (k0_pay6 (iblk m hO c 0 t) (iblk m hO c 1 t) (iblk m hO c 3 t)) := by
  frame_out
  exact congrArg (k0_pay3 (F := Ideal)) (congr (congrArg₂ k0_pay6 ((hs0_0 m hO t).read_unread _)
    ((hs0_1 m hO t).read_unread _)) ((hs0_3 m hO t).read_unread _))

/-- What it writes of the second moments. -/
theorem out_second (t : Fin grid0.N) : (outsAt0 m hO c t).2.2.2 = k0_pay4 (F := Ideal)
    (k0_pay7 (iblk m hO c 0 t) (iblk m hO c 1 t) (iblk m hO c 4 t)) := by
  frame_out
  exact congrArg (k0_pay4 (F := Ideal)) (congr (congrArg₂ k0_pay7 ((hs0_0 m hO t).read_unread _)
    ((hs0_1 m hO t).read_unread _)) ((hs0_4 m hO t).read_unread _))

/-- The gradients at the end. -/
abbrev newGrad : (Whole 128 1024).Idx → EReal := layer 2 (grad m c) (m ((c : Thread nD τ).loc main_arg6))

/-- The first result is they. -/
theorem newGrad_eq (h : Cert.Pre_Kernel31Ideal m) : (dats m hO 0 c).arrAt 5 (cfgM m hO).N = newGrad m c :=
  (dats m hO 0 c).arrAt_eq_of_coversWhere_of_agree 5 _ (fun β => β (0 : Fin 3) = 2)
    ⟨filled, fun t _ => ⟨congrFun (index t).1.1 (0 : Fin 3), fun _ => .inl rfl⟩,
      fun β e => (reach (fun t => (index t).1.1) blocks β e).imp fun _ e => ⟨e, flush0_5 _ _⟩⟩
    (fun t _ y => (congrFun ((after0_5 m hO c t).trans (out_grad m c hO t)) y).trans ((grad_apply _ _ y).trans
      ((held m c hO h t).new_grad (index t).1.1 y _ (((cfgM m hO).win 5).rect_emb_val t y))))
    (fun _ hj => (congrFun (kept m c).1 _).trans (if_neg fun e => hj ((Nat.div_one _).trans e)).symm)

/-- The steps at the end. -/
abbrev newStep : (Whole 128 1024).Idx → EReal := steps 2 (grad m c) (m ((c : Thread nD τ).loc main_arg3)) (m ((c : Thread nD τ).loc main_arg4))
  (m ((c : Thread nD τ).loc main_arg5)) (m ((c : Thread nD τ).loc main_arg7))

/-- The second result is they. -/
theorem newStep_eq (h : Cert.Pre_Kernel31Ideal m) : (dats m hO 0 c).arrAt 6 (cfgM m hO).N = newStep m c :=
  (dats m hO 0 c).arrAt_eq_of_coversWhere_of_agree 6 _ (fun β => β (0 : Fin 3) = 2)
    ⟨filled, fun t _ => ⟨congrFun (index t).1.2.1 (0 : Fin 3), fun _ => .inl rfl⟩,
      fun β e => (reach (fun t => (index t).1.2.1) blocks β e).imp fun _ e => ⟨e, flush0_6 _ _⟩⟩
    (fun t _ y => (congrFun ((after0_6 m hO c t).trans (out_step m c hO t)) y).trans ((step_apply _ _ _ _ _ y).trans
      ((held m c hO h t).new_step (index t).1.2.1 y _ (((cfgM m hO).win 6).rect_emb_val t y))))
    (fun _ hj => (congrFun (kept m c).2.1 _).trans (if_neg fun e => hj ((Nat.div_one _).trans e)).symm)

/-- The first moments at the end. -/
abbrev newFirst : (Whole 128 1024).Idx → EReal := firsts 2 (grad m c) (m ((c : Thread nD τ).loc main_arg4)) (m ((c : Thread nD τ).loc main_arg8))

/-- The third result is they. -/
theorem newFirst_eq (h : Cert.Pre_Kernel31Ideal m) : (dats m hO 0 c).arrAt 7 (cfgM m hO).N = newFirst m c :=
  (dats m hO 0 c).arrAt_eq_of_coversWhere_of_agree 7 _ (fun β => β (0 : Fin 3) = 2)
    ⟨filled, fun t _ => ⟨congrFun (index t).1.2.2.1 (0 : Fin 3), fun _ => .inl rfl⟩,
      fun β e => (reach (fun t => (index t).1.2.2.1) blocks β e).imp fun _ e => ⟨e, flush0_7 _ _⟩⟩
    (fun t _ y => (congrFun ((after0_7 m hO c t).trans (out_first m c hO t)) y).trans ((first_apply _ _ _ y).trans
      ((held m c hO h t).new_first (index t).1.2.2.1 y _ (((cfgM m hO).win 7).rect_emb_val t y))))
    (fun _ hj => (congrFun (kept m c).2.2.1 _).trans (if_neg fun e => hj ((Nat.div_one _).trans e)).symm)

/-- The second moments at the end. -/
abbrev newSecond : (Whole 128 1024).Idx → EReal := seconds 2 (grad m c) (m ((c : Thread nD τ).loc main_arg5)) (m ((c : Thread nD τ).loc main_arg9))

/-- The fourth result is they. -/
theorem newSecond_eq (h : Cert.Pre_Kernel31Ideal m) : (dats m hO 0 c).arrAt 8 (cfgM m hO).N = newSecond m c :=
  (dats m hO 0 c).arrAt_eq_of_coversWhere_of_agree 8 _ (fun β => β (0 : Fin 3) = 2)
    ⟨filled, fun t _ => ⟨congrFun (index t).1.2.2.2 (0 : Fin 3), fun _ => .inl rfl⟩,
      fun β e => (reach (fun t => (index t).1.2.2.2) blocks β e).imp fun _ e => ⟨e, flush0_8 _ _⟩⟩
    (fun t _ y => (congrFun ((after0_8 m hO c t).trans (out_second m c hO t)) y).trans ((second_apply _ _ _ y).trans
      ((held m c hO h t).new_second (index t).1.2.2.2 y _ (((cfgM m hO).win 8).rect_emb_val t y))))
    (fun _ hj => (congrFun (kept m c).2.2.2 _).trans (if_neg fun e => hj ((Nat.div_one _).trans e)).symm)

/-- The kernel and the reference end with the same four arrays. -/
theorem algebraic : Cert.algebraic_Kernel31Ideal_Reference31Ideal := by
  intro m g m' g' h hArgs
  have hO := inside m h
  refine ⟨fun d => newGrad m d, fun d => newStep m d, fun d => newFirst m d, fun d => newSecond m d, ?_, ?_⟩
  · refine (θ_run _ _ _).mono (fun r p d => ?_) (θ_run_and (run_main m g hO) (unchanged m g hO))
    exact ⟨((p.1 d).1 5).trans (newGrad_eq m d hO h), ((p.1 d).1 6).trans (newStep_eq m d hO h),
      ((p.1 d).1 7).trans (newFirst_eq m d hO h), ((p.1 d).1 8).trans (newSecond_eq m d hO h), p.2 d⟩
  · refine (θ_run _ _ _).mono (fun r p d => ?_) (Cert.Reference31Ideal.Value.run m' g')
    obtain ⟨r0, r1, r2, r3, kept⟩ := p d
    obtain ⟨a0, a1, a2, a3, a4, a5, a6, a7, a8, a9⟩ := hArgs d
    refine ⟨r0.trans ?_, r1.trans ?_, r2.trans ?_, r3.trans ?_, kept⟩
    all_goals
      clear r0 r1 r2 r3 kept p
      funext y
      simp only [a0, a1, a2, a3, a4, a5, a6, a7, a8, a9, newGrad, newStep, newFirst, newSecond, steps, firsts, seconds, layer, step, first,
        second, total, own, mine]
      pointwise
      rw [pick_layer _ 2 (y 0).isLt (by decide), pick]
    all_goals rfl

end L2

/-! The second layer's program. -/

namespace L1
open Cert.Kernel32Ideal Cert.Kernel32Ideal.Gen

/-- The precondition puts the blocks inside their arrays, in the rounded program. -/
theorem inside_bits (m : (ℓ : Loc Cert.Kernel32.nD Cert.Kernel32.τ Cert.Kernel32.sig) → Buf (Elt Bits) ℓ) (h : Cert.Pre_Kernel32 m) :
    Cert.Kernel32.Gen.Ok (F := Bits) m :=
  ok_bits _ (zero_or_one _ (congrFun (h 0) (ix1 0)))

variable (m : (ℓ : Loc nD τ sig) → Buf (Elt Ideal) ℓ) (c : Dev nD)

/-- The device's coordinate. -/
def mine : BitVec 32 := m ((c : Thread nD τ).loc main_arg0) (ix1 0)

/-- The precondition leaves it two values. -/
theorem mine_eq (h : Cert.Pre_Kernel32Ideal m) : mine m c = 0#32 ∨ mine m c = 1#32 := zero_or_one _ (congrFun (h c) (ix1 0))

/-- The precondition puts the blocks inside their arrays. -/
theorem inside (h : Cert.Pre_Kernel32Ideal m) : Gen.Ok (F := Ideal) m := ok _ (mine_eq m 0 h)

/-- Point `t` reads and writes block `t` of the layer's rows, whatever the table holds. -/
theorem index : ∀ t : Fin grid0.N, (cc0_transform_9 (grid0.coords t) = ![1, t.val, 0] ∧ cc0_transform_10 (grid0.coords t) = ![1, t.val, 0]
    ∧ cc0_transform_11 (grid0.coords t) = ![1, t.val, 0] ∧ cc0_transform_12 (grid0.coords t) = ![1, t.val, 0])
    ∧ cc0_transform_1 (grid0.coords t) = ![t.val, 0] ∧ cc0_transform_2 (grid0.coords t) = ![1, t.val, 0]
    ∧ cc0_transform_3 (grid0.coords t) = ![1, t.val, 0] ∧ cc0_transform_4 (grid0.coords t) = ![1, t.val, 0] := by decide +kernel

variable (hO : Gen.Ok (F := Ideal) m)

/-- It reads block `t` of the device's own half of the gradient. -/
theorem own_index (t : Fin grid0.N) : ((cfgM m hO).win 0).index t = ![(mine m c).toNat, t.val, 0] := by
  obtain rfl : c = 0 := Subsingleton.elim _ _
  have e : ((cfgM m hO).win 0).index t = ![(mine m 0).toNat, (BitVec.ofNat 32 (grid0.coords t 0).val).toNat, (0#32).toNat] :=
    congrArg (fun x : BitVec 32 => ![x.toNat, (BitVec.ofNat 32 (grid0.coords t 0).val).toNat, (0#32).toNat])
      ((congrFun (V_main_arg0 m 0) _).trans (congrArg (m ((0 : Dev nD), main_arg0)) (only_index _)))
  exact e.trans (congrArg (fun n : Nat => ![(mine m 0).toNat, n, 0]) (coord t))

/-- The gradient: the device's own half and the received one. -/
abbrev grad : (Whole 128 1024).Idx → EReal :=
  total (mine m c) (m ((c : Thread nD τ).loc main_arg1)) (m ((c : Thread nD τ).loc main_arg2))

/-- A point's blocks hold its rows. -/
theorem held (h : Cert.Pre_Kernel32Ideal m) (t : Fin grid0.N) : Held (B := 128) 1 t.val (grad m c) (m ((c : Thread nD τ).loc main_arg3))
    (m ((c : Thread nD τ).loc main_arg4)) (m ((c : Thread nD τ).loc main_arg5)) (iblk m hO c 0 t) (iblk m hO c 1 t) (iblk m hO c 2 t)
    (iblk m hO c 3 t) (iblk m hO c 4 t) where
  sum y z h1 h2 := congrArg₂ (fun a b : EReal => a + b)
    ((congrFun (V_main_arg1 m c) _).trans (read_own (mine_eq m c h) (own_index m c hO t) _ y _ (((cfgM m hO).win 0).rect_emb_val t y) z h1 h2))
    ((congrFun (V_main_arg2 m c) _).trans (read_flat (index t).2.1 _ y _ (((cfgM m hO).win 1).rect_emb_val t (ix2 (y 1) (y 2))) z h1 h2))
  weight y z h0 h1 h2 := (congrFun (V_main_arg3 m c) _).trans
    (read_rows (index t).2.2.1 _ y _ (((cfgM m hO).win 2).rect_emb_val t y) z h0 h1 h2)
  first y z h0 h1 h2 := (congrFun (V_main_arg4 m c) _).trans
    (read_rows (index t).2.2.2.1 _ y _ (((cfgM m hO).win 3).rect_emb_val t y) z h0 h1 h2)
  second y z h0 h1 h2 := (congrFun (V_main_arg5 m c) _).trans
    (read_rows (index t).2.2.2.2 _ y _ (((cfgM m hO).win 4).rect_emb_val t y) z h0 h1 h2)

/-- The results find their arguments' contents. -/
theorem kept : V m c main_v0_0 = m ((c : Thread nD τ).loc main_arg6) ∧ V m c main_v0_1 = m ((c : Thread nD τ).loc main_arg7)
    ∧ V m c main_v0_2 = m ((c : Thread nD τ).loc main_arg8) ∧ V m c main_v0_3 = m ((c : Thread nD τ).loc main_arg9) := by
  refine ⟨?_, ?_, ?_, ?_⟩
  all_goals
    unfold V hostOps0
    after_results
    rfl

/-- What point `t` writes of the gradients. -/
theorem out_grad (t : Fin grid0.N) : (outsAt0 m hO c t).1 = k0_pay1 (F := Ideal) (k0_pay5 (iblk m hO c 0 t) (iblk m hO c 1 t)) := by
  frame_out
  exact congrArg (k0_pay1 (F := Ideal)) (congrArg₂ k0_pay5 ((hs0_0 m hO t).read_unread _) ((hs0_1 m hO t).read_unread _))

/-- What it writes of the steps. -/
theorem out_step (t : Fin grid0.N) : (outsAt0 m hO c t).2.1 = k0_pay2 (F := Ideal)
    (k0_pay8 (iblk m hO c 0 t) (iblk m hO c 1 t) (iblk m hO c 2 t) (iblk m hO c 3 t) (iblk m hO c 4 t)) := by
  frame_out
  exact congrArg (k0_pay2 (F := Ideal)) (congr (congr (congr (congrArg₂ k0_pay8 ((hs0_0 m hO t).read_unread _)
    ((hs0_1 m hO t).read_unread _)) ((hs0_2 m hO t).read_unread _)) ((hs0_3 m hO t).read_unread _)) ((hs0_4 m hO t).read_unread _))

/-- What it writes of the first moments. -/
theorem out_first (t : Fin grid0.N) : (outsAt0 m hO c t).2.2.1 = k0_pay3 (F := Ideal)
    (k0_pay6 (iblk m hO c 0 t) (iblk m hO c 1 t) (iblk m hO c 3 t)) := by
  frame_out
  exact congrArg (k0_pay3 (F := Ideal)) (congr (congrArg₂ k0_pay6 ((hs0_0 m hO t).read_unread _)
    ((hs0_1 m hO t).read_unread _)) ((hs0_3 m hO t).read_unread _))

/-- What it writes of the second moments. -/
theorem out_second (t : Fin grid0.N) : (outsAt0 m hO c t).2.2.2 = k0_pay4 (F := Ideal)
    (k0_pay7 (iblk m hO c 0 t) (iblk m hO c 1 t) (iblk m hO c 4 t)) := by
  frame_out
  exact congrArg (k0_pay4 (F := Ideal)) (congr (congrArg₂ k0_pay7 ((hs0_0 m hO t).read_unread _)
    ((hs0_1 m hO t).read_unread _)) ((hs0_4 m hO t).read_unread _))

/-- The gradients at the end. -/
abbrev newGrad : (Whole 128 1024).Idx → EReal := layer 1 (grad m c) (m ((c : Thread nD τ).loc main_arg6))

/-- The first result is they. -/
theorem newGrad_eq (h : Cert.Pre_Kernel32Ideal m) : (dats m hO 0 c).arrAt 5 (cfgM m hO).N = newGrad m c :=
  (dats m hO 0 c).arrAt_eq_of_coversWhere_of_agree 5 _ (fun β => β (0 : Fin 3) = 1)
    ⟨filled, fun t _ => ⟨congrFun (index t).1.1 (0 : Fin 3), fun _ => .inl rfl⟩,
      fun β e => (reach (fun t => (index t).1.1) blocks β e).imp fun _ e => ⟨e, flush0_5 _ _⟩⟩
    (fun t _ y => (congrFun ((after0_5 m hO c t).trans (out_grad m c hO t)) y).trans ((grad_apply _ _ y).trans
      ((held m c hO h t).new_grad (index t).1.1 y _ (((cfgM m hO).win 5).rect_emb_val t y))))
    (fun _ hj => (congrFun (kept m c).1 _).trans (if_neg fun e => hj ((Nat.div_one _).trans e)).symm)

/-- The steps at the end. -/
abbrev newStep : (Whole 128 1024).Idx → EReal := steps 1 (grad m c) (m ((c : Thread nD τ).loc main_arg3)) (m ((c : Thread nD τ).loc main_arg4))
  (m ((c : Thread nD τ).loc main_arg5)) (m ((c : Thread nD τ).loc main_arg7))

/-- The second result is they. -/
theorem newStep_eq (h : Cert.Pre_Kernel32Ideal m) : (dats m hO 0 c).arrAt 6 (cfgM m hO).N = newStep m c :=
  (dats m hO 0 c).arrAt_eq_of_coversWhere_of_agree 6 _ (fun β => β (0 : Fin 3) = 1)
    ⟨filled, fun t _ => ⟨congrFun (index t).1.2.1 (0 : Fin 3), fun _ => .inl rfl⟩,
      fun β e => (reach (fun t => (index t).1.2.1) blocks β e).imp fun _ e => ⟨e, flush0_6 _ _⟩⟩
    (fun t _ y => (congrFun ((after0_6 m hO c t).trans (out_step m c hO t)) y).trans ((step_apply _ _ _ _ _ y).trans
      ((held m c hO h t).new_step (index t).1.2.1 y _ (((cfgM m hO).win 6).rect_emb_val t y))))
    (fun _ hj => (congrFun (kept m c).2.1 _).trans (if_neg fun e => hj ((Nat.div_one _).trans e)).symm)

/-- The first moments at the end. -/
abbrev newFirst : (Whole 128 1024).Idx → EReal := firsts 1 (grad m c) (m ((c : Thread nD τ).loc main_arg4)) (m ((c : Thread nD τ).loc main_arg8))

/-- The third result is they. -/
theorem newFirst_eq (h : Cert.Pre_Kernel32Ideal m) : (dats m hO 0 c).arrAt 7 (cfgM m hO).N = newFirst m c :=
  (dats m hO 0 c).arrAt_eq_of_coversWhere_of_agree 7 _ (fun β => β (0 : Fin 3) = 1)
    ⟨filled, fun t _ => ⟨congrFun (index t).1.2.2.1 (0 : Fin 3), fun _ => .inl rfl⟩,
      fun β e => (reach (fun t => (index t).1.2.2.1) blocks β e).imp fun _ e => ⟨e, flush0_7 _ _⟩⟩
    (fun t _ y => (congrFun ((after0_7 m hO c t).trans (out_first m c hO t)) y).trans ((first_apply _ _ _ y).trans
      ((held m c hO h t).new_first (index t).1.2.2.1 y _ (((cfgM m hO).win 7).rect_emb_val t y))))
    (fun _ hj => (congrFun (kept m c).2.2.1 _).trans (if_neg fun e => hj ((Nat.div_one _).trans e)).symm)

/-- The second moments at the end. -/
abbrev newSecond : (Whole 128 1024).Idx → EReal := seconds 1 (grad m c) (m ((c : Thread nD τ).loc main_arg5)) (m ((c : Thread nD τ).loc main_arg9))

/-- The fourth result is they. -/
theorem newSecond_eq (h : Cert.Pre_Kernel32Ideal m) : (dats m hO 0 c).arrAt 8 (cfgM m hO).N = newSecond m c :=
  (dats m hO 0 c).arrAt_eq_of_coversWhere_of_agree 8 _ (fun β => β (0 : Fin 3) = 1)
    ⟨filled, fun t _ => ⟨congrFun (index t).1.2.2.2 (0 : Fin 3), fun _ => .inl rfl⟩,
      fun β e => (reach (fun t => (index t).1.2.2.2) blocks β e).imp fun _ e => ⟨e, flush0_8 _ _⟩⟩
    (fun t _ y => (congrFun ((after0_8 m hO c t).trans (out_second m c hO t)) y).trans ((second_apply _ _ _ y).trans
      ((held m c hO h t).new_second (index t).1.2.2.2 y _ (((cfgM m hO).win 8).rect_emb_val t y))))
    (fun _ hj => (congrFun (kept m c).2.2.2 _).trans (if_neg fun e => hj ((Nat.div_one _).trans e)).symm)

/-- The kernel and the reference end with the same four arrays. -/
theorem algebraic : Cert.algebraic_Kernel32Ideal_Reference32Ideal := by
  intro m g m' g' h hArgs
  have hO := inside m h
  refine ⟨fun d => newGrad m d, fun d => newStep m d, fun d => newFirst m d, fun d => newSecond m d, ?_, ?_⟩
  · refine (θ_run _ _ _).mono (fun r p d => ?_) (θ_run_and (run_main m g hO) (unchanged m g hO))
    exact ⟨((p.1 d).1 5).trans (newGrad_eq m d hO h), ((p.1 d).1 6).trans (newStep_eq m d hO h),
      ((p.1 d).1 7).trans (newFirst_eq m d hO h), ((p.1 d).1 8).trans (newSecond_eq m d hO h), p.2 d⟩
  · refine (θ_run _ _ _).mono (fun r p d => ?_) (Cert.Reference32Ideal.Value.run m' g')
    obtain ⟨r0, r1, r2, r3, kept⟩ := p d
    obtain ⟨a0, a1, a2, a3, a4, a5, a6, a7, a8, a9⟩ := hArgs d
    refine ⟨r0.trans ?_, r1.trans ?_, r2.trans ?_, r3.trans ?_, kept⟩
    all_goals
      clear r0 r1 r2 r3 kept p
      funext y
      simp only [a0, a1, a2, a3, a4, a5, a6, a7, a8, a9, newGrad, newStep, newFirst, newSecond, steps, firsts, seconds, layer, step, first,
        second, total, own, mine]
      pointwise
      rw [pick_layer _ 1 (y 0).isLt (by decide), pick]
    all_goals rfl

end L1

/-! The first layer's program. -/

namespace L0
open Cert.Kernel33Ideal Cert.Kernel33Ideal.Gen

/-- The precondition puts the blocks inside their arrays, in the rounded program. -/
theorem inside_bits (m : (ℓ : Loc Cert.Kernel33.nD Cert.Kernel33.τ Cert.Kernel33.sig) → Buf (Elt Bits) ℓ) (h : Cert.Pre_Kernel33 m) :
    Cert.Kernel33.Gen.Ok (F := Bits) m :=
  ok_bits _ (zero_or_one _ (congrFun (h 0) (ix1 0)))

variable (m : (ℓ : Loc nD τ sig) → Buf (Elt Ideal) ℓ) (c : Dev nD)

/-- The device's coordinate. -/
def mine : BitVec 32 := m ((c : Thread nD τ).loc main_arg0) (ix1 0)

/-- The precondition leaves it two values. -/
theorem mine_eq (h : Cert.Pre_Kernel33Ideal m) : mine m c = 0#32 ∨ mine m c = 1#32 := zero_or_one _ (congrFun (h c) (ix1 0))

/-- The precondition puts the blocks inside their arrays. -/
theorem inside (h : Cert.Pre_Kernel33Ideal m) : Gen.Ok (F := Ideal) m := ok _ (mine_eq m 0 h)

/-- Point `t` reads and writes block `t` of the layer's rows, whatever the table holds. -/
theorem index : ∀ t : Fin grid0.N, (cc0_transform_9 (grid0.coords t) = ![0, t.val, 0] ∧ cc0_transform_10 (grid0.coords t) = ![0, t.val, 0]
    ∧ cc0_transform_11 (grid0.coords t) = ![0, t.val, 0] ∧ cc0_transform_12 (grid0.coords t) = ![0, t.val, 0])
    ∧ cc0_transform_1 (grid0.coords t) = ![t.val, 0] ∧ cc0_transform_2 (grid0.coords t) = ![0, t.val, 0]
    ∧ cc0_transform_3 (grid0.coords t) = ![0, t.val, 0] ∧ cc0_transform_4 (grid0.coords t) = ![0, t.val, 0] := by decide +kernel

variable (hO : Gen.Ok (F := Ideal) m)

/-- It reads block `t` of the device's own half of the gradient. -/
theorem own_index (t : Fin grid0.N) : ((cfgM m hO).win 0).index t = ![(mine m c).toNat, t.val, 0] := by
  obtain rfl : c = 0 := Subsingleton.elim _ _
  have e : ((cfgM m hO).win 0).index t = ![(mine m 0).toNat, (BitVec.ofNat 32 (grid0.coords t 0).val).toNat, (0#32).toNat] :=
    congrArg (fun x : BitVec 32 => ![x.toNat, (BitVec.ofNat 32 (grid0.coords t 0).val).toNat, (0#32).toNat])
      ((congrFun (V_main_arg0 m 0) _).trans (congrArg (m ((0 : Dev nD), main_arg0)) (only_index _)))
  exact e.trans (congrArg (fun n : Nat => ![(mine m 0).toNat, n, 0]) (coord t))

/-- The gradient: the device's own half and the received one. -/
abbrev grad : (Whole 128 1024).Idx → EReal :=
  total (mine m c) (m ((c : Thread nD τ).loc main_arg1)) (m ((c : Thread nD τ).loc main_arg2))

/-- A point's blocks hold its rows. -/
theorem held (h : Cert.Pre_Kernel33Ideal m) (t : Fin grid0.N) : Held (B := 128) 0 t.val (grad m c) (m ((c : Thread nD τ).loc main_arg3))
    (m ((c : Thread nD τ).loc main_arg4)) (m ((c : Thread nD τ).loc main_arg5)) (iblk m hO c 0 t) (iblk m hO c 1 t) (iblk m hO c 2 t)
    (iblk m hO c 3 t) (iblk m hO c 4 t) where
  sum y z h1 h2 := congrArg₂ (fun a b : EReal => a + b)
    ((congrFun (V_main_arg1 m c) _).trans (read_own (mine_eq m c h) (own_index m c hO t) _ y _ (((cfgM m hO).win 0).rect_emb_val t y) z h1 h2))
    ((congrFun (V_main_arg2 m c) _).trans (read_flat (index t).2.1 _ y _ (((cfgM m hO).win 1).rect_emb_val t (ix2 (y 1) (y 2))) z h1 h2))
  weight y z h0 h1 h2 := (congrFun (V_main_arg3 m c) _).trans
    (read_rows (index t).2.2.1 _ y _ (((cfgM m hO).win 2).rect_emb_val t y) z h0 h1 h2)
  first y z h0 h1 h2 := (congrFun (V_main_arg4 m c) _).trans
    (read_rows (index t).2.2.2.1 _ y _ (((cfgM m hO).win 3).rect_emb_val t y) z h0 h1 h2)
  second y z h0 h1 h2 := (congrFun (V_main_arg5 m c) _).trans
    (read_rows (index t).2.2.2.2 _ y _ (((cfgM m hO).win 4).rect_emb_val t y) z h0 h1 h2)

/-- The results find their arguments' contents. -/
theorem kept : V m c main_v0_0 = m ((c : Thread nD τ).loc main_arg6) ∧ V m c main_v0_1 = m ((c : Thread nD τ).loc main_arg7)
    ∧ V m c main_v0_2 = m ((c : Thread nD τ).loc main_arg8) ∧ V m c main_v0_3 = m ((c : Thread nD τ).loc main_arg9) := by
  refine ⟨?_, ?_, ?_, ?_⟩
  all_goals
    unfold V hostOps0
    after_results
    rfl

/-- What point `t` writes of the gradients. -/
theorem out_grad (t : Fin grid0.N) : (outsAt0 m hO c t).1 = k0_pay1 (F := Ideal) (k0_pay5 (iblk m hO c 0 t) (iblk m hO c 1 t)) := by
  frame_out
  exact congrArg (k0_pay1 (F := Ideal)) (congrArg₂ k0_pay5 ((hs0_0 m hO t).read_unread _) ((hs0_1 m hO t).read_unread _))

/-- What it writes of the steps. -/
theorem out_step (t : Fin grid0.N) : (outsAt0 m hO c t).2.1 = k0_pay2 (F := Ideal)
    (k0_pay8 (iblk m hO c 0 t) (iblk m hO c 1 t) (iblk m hO c 2 t) (iblk m hO c 3 t) (iblk m hO c 4 t)) := by
  frame_out
  exact congrArg (k0_pay2 (F := Ideal)) (congr (congr (congr (congrArg₂ k0_pay8 ((hs0_0 m hO t).read_unread _)
    ((hs0_1 m hO t).read_unread _)) ((hs0_2 m hO t).read_unread _)) ((hs0_3 m hO t).read_unread _)) ((hs0_4 m hO t).read_unread _))

/-- What it writes of the first moments. -/
theorem out_first (t : Fin grid0.N) : (outsAt0 m hO c t).2.2.1 = k0_pay3 (F := Ideal)
    (k0_pay6 (iblk m hO c 0 t) (iblk m hO c 1 t) (iblk m hO c 3 t)) := by
  frame_out
  exact congrArg (k0_pay3 (F := Ideal)) (congr (congrArg₂ k0_pay6 ((hs0_0 m hO t).read_unread _)
    ((hs0_1 m hO t).read_unread _)) ((hs0_3 m hO t).read_unread _))

/-- What it writes of the second moments. -/
theorem out_second (t : Fin grid0.N) : (outsAt0 m hO c t).2.2.2 = k0_pay4 (F := Ideal)
    (k0_pay7 (iblk m hO c 0 t) (iblk m hO c 1 t) (iblk m hO c 4 t)) := by
  frame_out
  exact congrArg (k0_pay4 (F := Ideal)) (congr (congrArg₂ k0_pay7 ((hs0_0 m hO t).read_unread _)
    ((hs0_1 m hO t).read_unread _)) ((hs0_4 m hO t).read_unread _))

/-- The gradients at the end. -/
abbrev newGrad : (Whole 128 1024).Idx → EReal := layer 0 (grad m c) (m ((c : Thread nD τ).loc main_arg6))

/-- The first result is they. -/
theorem newGrad_eq (h : Cert.Pre_Kernel33Ideal m) : (dats m hO 0 c).arrAt 5 (cfgM m hO).N = newGrad m c :=
  (dats m hO 0 c).arrAt_eq_of_coversWhere_of_agree 5 _ (fun β => β (0 : Fin 3) = 0)
    ⟨filled, fun t _ => ⟨congrFun (index t).1.1 (0 : Fin 3), fun _ => .inl rfl⟩,
      fun β e => (reach (fun t => (index t).1.1) blocks β e).imp fun _ e => ⟨e, flush0_5 _ _⟩⟩
    (fun t _ y => (congrFun ((after0_5 m hO c t).trans (out_grad m c hO t)) y).trans ((grad_apply _ _ y).trans
      ((held m c hO h t).new_grad (index t).1.1 y _ (((cfgM m hO).win 5).rect_emb_val t y))))
    (fun _ hj => (congrFun (kept m c).1 _).trans (if_neg fun e => hj ((Nat.div_one _).trans e)).symm)

/-- The steps at the end. -/
abbrev newStep : (Whole 128 1024).Idx → EReal := steps 0 (grad m c) (m ((c : Thread nD τ).loc main_arg3)) (m ((c : Thread nD τ).loc main_arg4))
  (m ((c : Thread nD τ).loc main_arg5)) (m ((c : Thread nD τ).loc main_arg7))

/-- The second result is they. -/
theorem newStep_eq (h : Cert.Pre_Kernel33Ideal m) : (dats m hO 0 c).arrAt 6 (cfgM m hO).N = newStep m c :=
  (dats m hO 0 c).arrAt_eq_of_coversWhere_of_agree 6 _ (fun β => β (0 : Fin 3) = 0)
    ⟨filled, fun t _ => ⟨congrFun (index t).1.2.1 (0 : Fin 3), fun _ => .inl rfl⟩,
      fun β e => (reach (fun t => (index t).1.2.1) blocks β e).imp fun _ e => ⟨e, flush0_6 _ _⟩⟩
    (fun t _ y => (congrFun ((after0_6 m hO c t).trans (out_step m c hO t)) y).trans ((step_apply _ _ _ _ _ y).trans
      ((held m c hO h t).new_step (index t).1.2.1 y _ (((cfgM m hO).win 6).rect_emb_val t y))))
    (fun _ hj => (congrFun (kept m c).2.1 _).trans (if_neg fun e => hj ((Nat.div_one _).trans e)).symm)

/-- The first moments at the end. -/
abbrev newFirst : (Whole 128 1024).Idx → EReal := firsts 0 (grad m c) (m ((c : Thread nD τ).loc main_arg4)) (m ((c : Thread nD τ).loc main_arg8))

/-- The third result is they. -/
theorem newFirst_eq (h : Cert.Pre_Kernel33Ideal m) : (dats m hO 0 c).arrAt 7 (cfgM m hO).N = newFirst m c :=
  (dats m hO 0 c).arrAt_eq_of_coversWhere_of_agree 7 _ (fun β => β (0 : Fin 3) = 0)
    ⟨filled, fun t _ => ⟨congrFun (index t).1.2.2.1 (0 : Fin 3), fun _ => .inl rfl⟩,
      fun β e => (reach (fun t => (index t).1.2.2.1) blocks β e).imp fun _ e => ⟨e, flush0_7 _ _⟩⟩
    (fun t _ y => (congrFun ((after0_7 m hO c t).trans (out_first m c hO t)) y).trans ((first_apply _ _ _ y).trans
      ((held m c hO h t).new_first (index t).1.2.2.1 y _ (((cfgM m hO).win 7).rect_emb_val t y))))
    (fun _ hj => (congrFun (kept m c).2.2.1 _).trans (if_neg fun e => hj ((Nat.div_one _).trans e)).symm)

/-- The second moments at the end. -/
abbrev newSecond : (Whole 128 1024).Idx → EReal := seconds 0 (grad m c) (m ((c : Thread nD τ).loc main_arg5)) (m ((c : Thread nD τ).loc main_arg9))

/-- The fourth result is they. -/
theorem newSecond_eq (h : Cert.Pre_Kernel33Ideal m) : (dats m hO 0 c).arrAt 8 (cfgM m hO).N = newSecond m c :=
  (dats m hO 0 c).arrAt_eq_of_coversWhere_of_agree 8 _ (fun β => β (0 : Fin 3) = 0)
    ⟨filled, fun t _ => ⟨congrFun (index t).1.2.2.2 (0 : Fin 3), fun _ => .inl rfl⟩,
      fun β e => (reach (fun t => (index t).1.2.2.2) blocks β e).imp fun _ e => ⟨e, flush0_8 _ _⟩⟩
    (fun t _ y => (congrFun ((after0_8 m hO c t).trans (out_second m c hO t)) y).trans ((second_apply _ _ _ y).trans
      ((held m c hO h t).new_second (index t).1.2.2.2 y _ (((cfgM m hO).win 8).rect_emb_val t y))))
    (fun _ hj => (congrFun (kept m c).2.2.2 _).trans (if_neg fun e => hj ((Nat.div_one _).trans e)).symm)

/-- The kernel and the reference end with the same four arrays. -/
theorem algebraic : Cert.algebraic_Kernel33Ideal_Reference33Ideal := by
  intro m g m' g' h hArgs
  have hO := inside m h
  refine ⟨fun d => newGrad m d, fun d => newStep m d, fun d => newFirst m d, fun d => newSecond m d, ?_, ?_⟩
  · refine (θ_run _ _ _).mono (fun r p d => ?_) (θ_run_and (run_main m g hO) (unchanged m g hO))
    exact ⟨((p.1 d).1 5).trans (newGrad_eq m d hO h), ((p.1 d).1 6).trans (newStep_eq m d hO h),
      ((p.1 d).1 7).trans (newFirst_eq m d hO h), ((p.1 d).1 8).trans (newSecond_eq m d hO h), p.2 d⟩
  · refine (θ_run _ _ _).mono (fun r p d => ?_) (Cert.Reference33Ideal.Value.run m' g')
    obtain ⟨r0, r1, r2, r3, kept⟩ := p d
    obtain ⟨a0, a1, a2, a3, a4, a5, a6, a7, a8, a9⟩ := hArgs d
    refine ⟨r0.trans ?_, r1.trans ?_, r2.trans ?_, r3.trans ?_, kept⟩
    all_goals
      clear r0 r1 r2 r3 kept p
      funext y
      simp only [a0, a1, a2, a3, a4, a5, a6, a7, a8, a9, newGrad, newStep, newFirst, newSecond, steps, firsts, seconds, layer, step, first,
        second, total, own, mine]
      pointwise
      rw [pick_layer _ 0 (y 0).isLt (by decide), pick]
    all_goals rfl

end L0

end Cert.Opt.Glu
end
-- ==== Proof.Opt.Out.lean ====
/- The optimiser's step of the output weights, layer by layer: the kernel's results are the reference's. -/
module
public import proofs.«01_k».proof.Defs
public import proofs.«01_k».proof.Proof.Opt.Layer
public import proofs.«01_k».proof.Proof.Gen.Kernel34.Frame
public import proofs.«01_k».proof.Proof.Gen.Kernel34Ideal.Frame
public import proofs.«01_k».proof.Proof.Gen.Reference34Ideal.Run
public import proofs.«01_k».proof.Proof.Gen.Kernel35.Frame
public import proofs.«01_k».proof.Proof.Gen.Kernel35Ideal.Frame
public import proofs.«01_k».proof.Proof.Gen.Reference35Ideal.Run
public import proofs.«01_k».proof.Proof.Gen.Kernel36.Frame
public import proofs.«01_k».proof.Proof.Gen.Kernel36Ideal.Frame
public import proofs.«01_k».proof.Proof.Gen.Reference36Ideal.Run
public import proofs.«01_k».proof.Proof.Gen.Kernel37.Frame
public import proofs.«01_k».proof.Proof.Gen.Kernel37Ideal.Frame
public import proofs.«01_k».proof.Proof.Gen.Reference37Ideal.Run
public import proofs.«01_k».proof.Proof.Gen.Pre_pair6

@[expose] public section
set_option maxRecDepth 16384

noncomputable section
namespace Cert.Opt.Out
open Idealize.ShloMosaic
open Idealize.ShloMosaic.TcCoe Idealize.ShloMosaic.Tactic

/-! What the four layers' programs share: their tables, their arithmetic and their blocks are the same. -/

section
open Cert.Kernel34

set_option backward.proofsInPublic true in
/-- A table that holds 0 or 1 puts the first operand's block inside its array, in the rounded program. -/
theorem ok_bits (pf : pre0.Contents (Elt Bits)) (h : pf 0 (ix1 0) = 0#32 ∨ pf 0 (ix1 0) = 1#32) : ok0 (F := Bits) pf := by
  have e : pf = fun | ⟨0, _⟩ => fun _ => pf 0 (ix1 0) | ⟨_ + 1, h⟩ => absurd h (by simp) :=
    funext fun | ⟨0, _⟩ => funext fun x => congrArg (pf 0) (only_index x)
  rw [e]
  rcases h with h | h <;> rw [h] <;> decide +kernel

end

section
open Cert.Kernel34Ideal Cert.Kernel34Ideal.Gen

set_option backward.proofsInPublic true in
/-- A table that holds 0 or 1 puts the first operand's block inside its array. -/
theorem ok (pf : pre0.Contents (Elt Ideal)) (h : pf 0 (ix1 0) = 0#32 ∨ pf 0 (ix1 0) = 1#32) : ok0 (F := Ideal) pf := by
  have e : pf = fun | ⟨0, _⟩ => fun _ => pf 0 (ix1 0) | ⟨_ + 1, h⟩ => absurd h (by simp) :=
    funext fun | ⟨0, _⟩ => funext fun x => congrArg (pf 0) (only_index x)
  rw [e]
  rcases h with h | h <;> rw [h] <;> decide +kernel

/-- The one grid coordinate of a point, as a word, is the point's number. -/
theorem coord : ∀ t : Fin grid0.N, (BitVec.ofNat 32 (grid0.coords t 0).val).toNat = t.val := by decide +kernel

/-- The blocks of a result: four layers of the grid's points. -/
theorem blocks : ∀ a : Fin 3, ((Whole 256 2048).size a + (Rows 128 2048).size a - 1) / (Rows 128 2048).size a = ![4, grid0.N, 1] a := by decide

/-- A block is not empty. -/
theorem filled : ∀ a : Fin 3, 0 < (Rows 128 2048).size a := by decide

section
variable (x0 : Vec Ideal (Rows 128 2048) .bf16) (x1 : Vec Ideal (Flat 128 2048) .bf16) (x2 x3 x4 : Vec Ideal (Rows 128 2048) .f32) (y : (Rows 128 2048).Idx)

/-- What the kernel stores as the gradient: its own half plus the received one. -/
theorem grad_apply : k0_pay1 (F := Ideal) (k0_pay5 x0 x1) y = add x0 x1 y := by
  unfold add
  pointwise [k0_pay1, k0_pay5]

/-- What it stores as the first moment. -/
theorem first_apply : k0_pay3 (F := Ideal) (k0_pay6 x0 x1 x3) y = first (add x0 x1 y) (x3 y) := by
  unfold first add
  pointwise [k0_pay3, k0_pay6, k0_pay5]

/-- What it stores as the second moment. -/
theorem second_apply : k0_pay4 (F := Ideal) (k0_pay7 x0 x1 x4) y = second (add x0 x1 y) (x4 y) := by
  unfold second add
  pointwise [k0_pay4, k0_pay7, k0_pay5]

/-- What it stores as the step. -/
theorem step_apply : k0_pay2 (F := Ideal) (k0_pay8 x0 x1 x2 x3 x4) y = step (add x0 x1 y) (x2 y) (x3 y) (x4 y) := by
  unfold step first second add
  pointwise [k0_pay2, k0_pay8, k0_pay6, k0_pay7, k0_pay5]

end

end

/-! The last layer's program. -/

namespace L3
open Cert.Kernel34Ideal Cert.Kernel34Ideal.Gen

/-- The precondition puts the blocks inside their arrays, in the rounded program. -/
theorem inside_bits (m : (ℓ : Loc Cert.Kernel34.nD Cert.Kernel34.τ Cert.Kernel34.sig) → Buf (Elt Bits) ℓ) (h : Cert.Pre_Kernel34 m) :
    Cert.Kernel34.Gen.Ok (F := Bits) m :=
  ok_bits _ (zero_or_one _ (congrFun (h 0) (ix1 0)))

variable (m : (ℓ : Loc nD τ sig) → Buf (Elt Ideal) ℓ) (c : Dev nD)

/-- The device's coordinate. -/
def mine : BitVec 32 := m ((c : Thread nD τ).loc main_arg0) (ix1 0)

/-- The precondition leaves it two values. -/
theorem mine_eq (h : Cert.Pre_Kernel34Ideal m) : mine m c = 0#32 ∨ mine m c = 1#32 := zero_or_one _ (congrFun (h c) (ix1 0))

/-- The precondition puts the blocks inside their arrays. -/
theorem inside (h : Cert.Pre_Kernel34Ideal m) : Gen.Ok (F := Ideal) m := ok _ (mine_eq m 0 h)

/-- Point `t` reads and writes block `t` of the layer's rows, whatever the table holds. -/
theorem index : ∀ t : Fin grid0.N, (cc0_transform_9 (grid0.coords t) = ![3, t.val, 0] ∧ cc0_transform_10 (grid0.coords t) = ![3, t.val, 0]
    ∧ cc0_transform_11 (grid0.coords t) = ![3, t.val, 0] ∧ cc0_transform_12 (grid0.coords t) = ![3, t.val, 0])
    ∧ cc0_transform_1 (grid0.coords t) = ![t.val, 0] ∧ cc0_transform_2 (grid0.coords t) = ![3, t.val, 0]
    ∧ cc0_transform_3 (grid0.coords t) = ![3, t.val, 0] ∧ cc0_transform_4 (grid0.coords t) = ![3, t.val, 0] := by decide +kernel

variable (hO : Gen.Ok (F := Ideal) m)

/-- It reads block `t` of the device's own half of the gradient. -/
theorem own_index (t : Fin grid0.N) : ((cfgM m hO).win 0).index t = ![(mine m c).toNat, t.val, 0] := by
  obtain rfl : c = 0 := Subsingleton.elim _ _
  have e : ((cfgM m hO).win 0).index t = ![(mine m 0).toNat, (BitVec.ofNat 32 (grid0.coords t 0).val).toNat, (0#32).toNat] :=
    congrArg (fun x : BitVec 32 => ![x.toNat, (BitVec.ofNat 32 (grid0.coords t 0).val).toNat, (0#32).toNat])
      ((congrFun (V_main_arg0 m 0) _).trans (congrArg (m ((0 : Dev nD), main_arg0)) (only_index _)))
  exact e.trans (congrArg (fun n : Nat => ![(mine m 0).toNat, n, 0]) (coord t))

/-- The gradient: the device's own half and the received one. -/
abbrev grad : (Whole 256 2048).Idx → EReal :=
  total (mine m c) (m ((c : Thread nD τ).loc main_arg1)) (m ((c : Thread nD τ).loc main_arg2))

/-- A point's blocks hold its rows. -/
theorem held (h : Cert.Pre_Kernel34Ideal m) (t : Fin grid0.N) : Held (B := 128) 3 t.val (grad m c) (m ((c : Thread nD τ).loc main_arg3))
    (m ((c : Thread nD τ).loc main_arg4)) (m ((c : Thread nD τ).loc main_arg5)) (iblk m hO c 0 t) (iblk m hO c 1 t) (iblk m hO c 2 t)
    (iblk m hO c 3 t) (iblk m hO c 4 t) where
  sum y z h1 h2 := congrArg₂ (fun a b : EReal => a + b)
    ((congrFun (V_main_arg1 m c) _).trans (read_own (mine_eq m c h) (own_index m c hO t) _ y _ (((cfgM m hO).win 0).rect_emb_val t y) z h1 h2))
    ((congrFun (V_main_arg2 m c) _).trans (read_flat (index t).2.1 _ y _ (((cfgM m hO).win 1).rect_emb_val t (ix2 (y 1) (y 2))) z h1 h2))
  weight y z h0 h1 h2 := (congrFun (V_main_arg3 m c) _).trans
    (read_rows (index t).2.2.1 _ y _ (((cfgM m hO).win 2).rect_emb_val t y) z h0 h1 h2)
  first y z h0 h1 h2 := (congrFun (V_main_arg4 m c) _).trans
    (read_rows (index t).2.2.2.1 _ y _ (((cfgM m hO).win 3).rect_emb_val t y) z h0 h1 h2)
  second y z h0 h1 h2 := (congrFun (V_main_arg5 m c) _).trans
    (read_rows (index t).2.2.2.2 _ y _ (((cfgM m hO).win 4).rect_emb_val t y) z h0 h1 h2)

/-- The results find their arguments' contents. -/
theorem kept : V m c main_v0_0 = m ((c : Thread nD τ).loc main_arg6) ∧ V m c main_v0_1 = m ((c : Thread nD τ).loc main_arg7)
    ∧ V m c main_v0_2 = m ((c : Thread nD τ).loc main_arg8) ∧ V m c main_v0_3 = m ((c : Thread nD τ).loc main_arg9) := by
  refine ⟨?_, ?_, ?_, ?_⟩
  all_goals
    unfold V hostOps0
    after_results
    rfl

/-- What point `t` writes of the gradients. -/
theorem out_grad (t : Fin grid0.N) : (outsAt0 m hO c t).1 = k0_pay1 (F := Ideal) (k0_pay5 (iblk m hO c 0 t) (iblk m hO c 1 t)) := by
  frame_out
  exact congrArg (k0_pay1 (F := Ideal)) (congrArg₂ k0_pay5 ((hs0_0 m hO t).read_unread _) ((hs0_1 m hO t).read_unread _))

/-- What it writes of the steps. -/
theorem out_step (t : Fin grid0.N) : (outsAt0 m hO c t).2.1 = k0_pay2 (F := Ideal)
    (k0_pay8 (iblk m hO c 0 t) (iblk m hO c 1 t) (iblk m hO c 2 t) (iblk m hO c 3 t) (iblk m hO c 4 t)) := by
  frame_out
  exact congrArg (k0_pay2 (F := Ideal)) (congr (congr (congr (congrArg₂ k0_pay8 ((hs0_0 m hO t).read_unread _)
    ((hs0_1 m hO t).read_unread _)) ((hs0_2 m hO t).read_unread _)) ((hs0_3 m hO t).read_unread _)) ((hs0_4 m hO t).read_unread _))

/-- What it writes of the first moments. -/
theorem out_first (t : Fin grid0.N) : (outsAt0 m hO c t).2.2.1 = k0_pay3 (F := Ideal)
    (k0_pay6 (iblk m hO c 0 t) (iblk m hO c 1 t) (iblk m hO c 3 t)) := by
  frame_out
  exact congrArg (k0_pay3 (F := Ideal)) (congr (congrArg₂ k0_pay6 ((hs0_0 m hO t).read_unread _)
    ((hs0_1 m hO t).read_unread _)) ((hs0_3 m hO t).read_unread _))

/-- What it writes of the second moments. -/
theorem out_second (t : Fin grid0.N) : (outsAt0 m hO c t).2.2.2 = k0_pay4 (F := Ideal)
    (k0_pay7 (iblk m hO c 0 t) (iblk m hO c 1 t) (iblk m hO c 4 t)) := by
  frame_out
  exact congrArg (k0_pay4 (F := Ideal)) (congr (congrArg₂ k0_pay7 ((hs0_0 m hO t).read_unread _)
    ((hs0_1 m hO t).read_unread _)) ((hs0_4 m hO t).read_unread _))

/-- The gradients at the end. -/
abbrev newGrad : (Whole 256 2048).Idx → EReal := layer 3 (grad m c) (m ((c : Thread nD τ).loc main_arg6))

/-- The first result is they. -/
theorem newGrad_eq (h : Cert.Pre_Kernel34Ideal m) : (dats m hO 0 c).arrAt 5 (cfgM m hO).N = newGrad m c :=
  (dats m hO 0 c).arrAt_eq_of_coversWhere_of_agree 5 _ (fun β => β (0 : Fin 3) = 3)
    ⟨filled, fun t _ => ⟨congrFun (index t).1.1 (0 : Fin 3), fun _ => .inl rfl⟩,
      fun β e => (reach (fun t => (index t).1.1) blocks β e).imp fun _ e => ⟨e, flush0_5 _ _⟩⟩
    (fun t _ y => (congrFun ((after0_5 m hO c t).trans (out_grad m c hO t)) y).trans ((grad_apply _ _ y).trans
      ((held m c hO h t).new_grad (index t).1.1 y _ (((cfgM m hO).win 5).rect_emb_val t y))))
    (fun _ hj => (congrFun (kept m c).1 _).trans (if_neg fun e => hj ((Nat.div_one _).trans e)).symm)

/-- The steps at the end. -/
abbrev newStep : (Whole 256 2048).Idx → EReal := steps 3 (grad m c) (m ((c : Thread nD τ).loc main_arg3)) (m ((c : Thread nD τ).loc main_arg4))
  (m ((c : Thread nD τ).loc main_arg5)) (m ((c : Thread nD τ).loc main_arg7))

/-- The second result is they. -/
theorem newStep_eq (h : Cert.Pre_Kernel34Ideal m) : (dats m hO 0 c).arrAt 6 (cfgM m hO).N = newStep m c :=
  (dats m hO 0 c).arrAt_eq_of_coversWhere_of_agree 6 _ (fun β => β (0 : Fin 3) = 3)
    ⟨filled, fun t _ => ⟨congrFun (index t).1.2.1 (0 : Fin 3), fun _ => .inl rfl⟩,
      fun β e => (reach (fun t => (index t).1.2.1) blocks β e).imp fun _ e => ⟨e, flush0_6 _ _⟩⟩
    (fun t _ y => (congrFun ((after0_6 m hO c t).trans (out_step m c hO t)) y).trans ((step_apply _ _ _ _ _ y).trans
      ((held m c hO h t).new_step (index t).1.2.1 y _ (((cfgM m hO).win 6).rect_emb_val t y))))
    (fun _ hj => (congrFun (kept m c).2.1 _).trans (if_neg fun e => hj ((Nat.div_one _).trans e)).symm)

/-- The first moments at the end. -/
abbrev newFirst : (Whole 256 2048).Idx → EReal := firsts 3 (grad m c) (m ((c : Thread nD τ).loc main_arg4)) (m ((c : Thread nD τ).loc main_arg8))

/-- The third result is they. -/
theorem newFirst_eq (h : Cert.Pre_Kernel34Ideal m) : (dats m hO 0 c).arrAt 7 (cfgM m hO).N = newFirst m c :=
  (dats m hO 0 c).arrAt_eq_of_coversWhere_of_agree 7 _ (fun β => β (0 : Fin 3) = 3)
    ⟨filled, fun t _ => ⟨congrFun (index t).1.2.2.1 (0 : Fin 3), fun _ => .inl rfl⟩,
      fun β e => (reach (fun t => (index t).1.2.2.1) blocks β e).imp fun _ e => ⟨e, flush0_7 _ _⟩⟩
    (fun t _ y => (congrFun ((after0_7 m hO c t).trans (out_first m c hO t)) y).trans ((first_apply _ _ _ y).trans
      ((held m c hO h t).new_first (index t).1.2.2.1 y _ (((cfgM m hO).win 7).rect_emb_val t y))))
    (fun _ hj => (congrFun (kept m c).2.2.1 _).trans (if_neg fun e => hj ((Nat.div_one _).trans e)).symm)

/-- The second moments at the end. -/
abbrev newSecond : (Whole 256 2048).Idx → EReal := seconds 3 (grad m c) (m ((c : Thread nD τ).loc main_arg5)) (m ((c : Thread nD τ).loc main_arg9))

/-- The fourth result is they. -/
theorem newSecond_eq (h : Cert.Pre_Kernel34Ideal m) : (dats m hO 0 c).arrAt 8 (cfgM m hO).N = newSecond m c :=
  (dats m hO 0 c).arrAt_eq_of_coversWhere_of_agree 8 _ (fun β => β (0 : Fin 3) = 3)
    ⟨filled, fun t _ => ⟨congrFun (index t).1.2.2.2 (0 : Fin 3), fun _ => .inl rfl⟩,
      fun β e => (reach (fun t => (index t).1.2.2.2) blocks β e).imp fun _ e => ⟨e, flush0_8 _ _⟩⟩
    (fun t _ y => (congrFun ((after0_8 m hO c t).trans (out_second m c hO t)) y).trans ((second_apply _ _ _ y).trans
      ((held m c hO h t).new_second (index t).1.2.2.2 y _ (((cfgM m hO).win 8).rect_emb_val t y))))
    (fun _ hj => (congrFun (kept m c).2.2.2 _).trans (if_neg fun e => hj ((Nat.div_one _).trans e)).symm)

/-- The kernel and the reference end with the same four arrays. -/
theorem algebraic : Cert.algebraic_Kernel34Ideal_Reference34Ideal := by
  intro m g m' g' h hArgs
  have hO := inside m h
  refine ⟨fun d => newGrad m d, fun d => newStep m d, fun d => newFirst m d, fun d => newSecond m d, ?_, ?_⟩
  · refine (θ_run _ _ _).mono (fun r p d => ?_) (θ_run_and (run_main m g hO) (unchanged m g hO))
    exact ⟨((p.1 d).1 5).trans (newGrad_eq m d hO h), ((p.1 d).1 6).trans (newStep_eq m d hO h),
      ((p.1 d).1 7).trans (newFirst_eq m d hO h), ((p.1 d).1 8).trans (newSecond_eq m d hO h), p.2 d⟩
  · refine (θ_run _ _ _).mono (fun r p d => ?_) (Cert.Reference34Ideal.Value.run m' g')
    obtain ⟨r0, r1, r2, r3, kept⟩ := p d
    obtain ⟨a0, a1, a2, a3, a4, a5, a6, a7, a8, a9⟩ := hArgs d
    refine ⟨r0.trans ?_, r1.trans ?_, r2.trans ?_, r3.trans ?_, kept⟩
    all_goals
      clear r0 r1 r2 r3 kept p
      funext y
      simp only [a0, a1, a2, a3, a4, a5, a6, a7, a8, a9, newGrad, newStep, newFirst, newSecond, steps, firsts, seconds, layer, step, first,
        second, total, own, mine]
      pointwise
      rw [pick_layer _ 3 (y 0).isLt (by decide), pick]
    all_goals rfl

end L3

/-! The third layer's program. -/

namespace L2
open Cert.Kernel35Ideal Cert.Kernel35Ideal.Gen

/-- The precondition puts the blocks inside their arrays, in the rounded program. -/
theorem inside_bits (m : (ℓ : Loc Cert.Kernel35.nD Cert.Kernel35.τ Cert.Kernel35.sig) → Buf (Elt Bits) ℓ) (h : Cert.Pre_Kernel35 m) :
    Cert.Kernel35.Gen.Ok (F := Bits) m :=
  ok_bits _ (zero_or_one _ (congrFun (h 0) (ix1 0)))

variable (m : (ℓ : Loc nD τ sig) → Buf (Elt Ideal) ℓ) (c : Dev nD)

/-- The device's coordinate. -/
def mine : BitVec 32 := m ((c : Thread nD τ).loc main_arg0) (ix1 0)

/-- The precondition leaves it two values. -/
theorem mine_eq (h : Cert.Pre_Kernel35Ideal m) : mine m c = 0#32 ∨ mine m c = 1#32 := zero_or_one _ (congrFun (h c) (ix1 0))

/-- The precondition puts the blocks inside their arrays. -/
theorem inside (h : Cert.Pre_Kernel35Ideal m) : Gen.Ok (F := Ideal) m := ok _ (mine_eq m 0 h)

/-- Point `t` reads and writes block `t` of the layer's rows, whatever the table holds. -/
theorem index : ∀ t : Fin grid0.N, (cc0_transform_9 (grid0.coords t) = ![2, t.val, 0] ∧ cc0_transform_10 (grid0.coords t) = ![2, t.val, 0]
    ∧ cc0_transform_11 (grid0.coords t) = ![2, t.val, 0] ∧ cc0_transform_12 (grid0.coords t) = ![2, t.val, 0])
    ∧ cc0_transform_1 (grid0.coords t) = ![t.val, 0] ∧ cc0_transform_2 (grid0.coords t) = ![2, t.val, 0]
    ∧ cc0_transform_3 (grid0.coords t) = ![2, t.val, 0] ∧ cc0_transform_4 (grid0.coords t) = ![2, t.val, 0] := by decide +kernel

variable (hO : Gen.Ok (F := Ideal) m)

/-- It reads block `t` of the device's own half of the gradient. -/
theorem own_index (t : Fin grid0.N) : ((cfgM m hO).win 0).index t = ![(mine m c).toNat, t.val, 0] := by
  obtain rfl : c = 0 := Subsingleton.elim _ _
  have e : ((cfgM m hO).win 0).index t = ![(mine m 0).toNat, (BitVec.ofNat 32 (grid0.coords t 0).val).toNat, (0#32).toNat] :=
    congrArg (fun x : BitVec 32 => ![x.toNat, (BitVec.ofNat 32 (grid0.coords t 0).val).toNat, (0#32).toNat])
      ((congrFun (V_main_arg0 m 0) _).trans (congrArg (m ((0 : Dev nD), main_arg0)) (only_index _)))
  exact e.trans (congrArg (fun n : Nat => ![(mine m 0).toNat, n, 0]) (coord t))

/-- The gradient: the device's own half and the received one. -/
abbrev grad : (Whole 256 2048).Idx → EReal :=
  total (mine m c) (m ((c : Thread nD τ).loc main_arg1)) (m ((c : Thread nD τ).loc main_arg2))

/-- A point's blocks hold its rows. -/
theorem held (h : Cert.Pre_Kernel35Ideal m) (t : Fin grid0.N) : Held (B := 128) 2 t.val (grad m c) (m ((c : Thread nD τ).loc main_arg3))
    (m ((c : Thread nD τ).loc main_arg4)) (m ((c : Thread nD τ).loc main_arg5)) (iblk m hO c 0 t) (iblk m hO c 1 t) (iblk m hO c 2 t)
    (iblk m hO c 3 t) (iblk m hO c 4 t) where
  sum y z h1 h2 := congrArg₂ (fun a b : EReal => a + b)
    ((congrFun (V_main_arg1 m c) _).trans (read_own (mine_eq m c h) (own_index m c hO t) _ y _ (((cfgM m hO).win 0).rect_emb_val t y) z h1 h2))
    ((congrFun (V_main_arg2 m c) _).trans (read_flat (index t).2.1 _ y _ (((cfgM m hO).win 1).rect_emb_val t (ix2 (y 1) (y 2))) z h1 h2))
  weight y z h0 h1 h2 := (congrFun (V_main_arg3 m c) _).trans
    (read_rows (index t).2.2.1 _ y _ (((cfgM m hO).win 2).rect_emb_val t y) z h0 h1 h2)
  first y z h0 h1 h2 := (congrFun (V_main_arg4 m c) _).trans
    (read_rows (index t).2.2.2.1 _ y _ (((cfgM m hO).win 3).rect_emb_val t y) z h0 h1 h2)
  second y z h0 h1 h2 := (congrFun (V_main_arg5 m c) _).trans
    (read_rows (index t).2.2.2.2 _ y _ (((cfgM m hO).win 4).rect_emb_val t y) z h0 h1 h2)

/-- The results find their arguments' contents. -/
theorem kept : V m c main_v0_0 = m ((c : Thread nD τ).loc main_arg6) ∧ V m c main_v0_1 = m ((c : Thread nD τ).loc main_arg7)
    ∧ V m c main_v0_2 = m ((c : Thread nD τ).loc main_arg8) ∧ V m c main_v0_3 = m ((c : Thread nD τ).loc main_arg9) := by
  refine ⟨?_, ?_, ?_, ?_⟩
  all_goals
    unfold V hostOps0
    after_results
    rfl

/-- What point `t` writes of the gradients. -/
theorem out_grad (t : Fin grid0.N) : (outsAt0 m hO c t).1 = k0_pay1 (F := Ideal) (k0_pay5 (iblk m hO c 0 t) (iblk m hO c 1 t)) := by
  frame_out
  exact congrArg (k0_pay1 (F := Ideal)) (congrArg₂ k0_pay5 ((hs0_0 m hO t).read_unread _) ((hs0_1 m hO t).read_unread _))

/-- What it writes of the steps. -/
theorem out_step (t : Fin grid0.N) : (outsAt0 m hO c t).2.1 = k0_pay2 (F := Ideal)
    (k0_pay8 (iblk m hO c 0 t) (iblk m hO c 1 t) (iblk m hO c 2 t) (iblk m hO c 3 t) (iblk m hO c 4 t)) := by
  frame_out
  exact congrArg (k0_pay2 (F := Ideal)) (congr (congr (congr (congrArg₂ k0_pay8 ((hs0_0 m hO t).read_unread _)
    ((hs0_1 m hO t).read_unread _)) ((hs0_2 m hO t).read_unread _)) ((hs0_3 m hO t).read_unread _)) ((hs0_4 m hO t).read_unread _))

/-- What it writes of the first moments. -/
theorem out_first (t : Fin grid0.N) : (outsAt0 m hO c t).2.2.1 = k0_pay3 (F := Ideal)
    (k0_pay6 (iblk m hO c 0 t) (iblk m hO c 1 t) (iblk m hO c 3 t)) := by
  frame_out
  exact congrArg (k0_pay3 (F := Ideal)) (congr (congrArg₂ k0_pay6 ((hs0_0 m hO t).read_unread _)
    ((hs0_1 m hO t).read_unread _)) ((hs0_3 m hO t).read_unread _))

/-- What it writes of the second moments. -/
theorem out_second (t : Fin grid0.N) : (outsAt0 m hO c t).2.2.2 = k0_pay4 (F := Ideal)
    (k0_pay7 (iblk m hO c 0 t) (iblk m hO c 1 t) (iblk m hO c 4 t)) := by
  frame_out
  exact congrArg (k0_pay4 (F := Ideal)) (congr (congrArg₂ k0_pay7 ((hs0_0 m hO t).read_unread _)
    ((hs0_1 m hO t).read_unread _)) ((hs0_4 m hO t).read_unread _))

/-- The gradients at the end. -/
abbrev newGrad : (Whole 256 2048).Idx → EReal := layer 2 (grad m c) (m ((c : Thread nD τ).loc main_arg6))

/-- The first result is they. -/
theorem newGrad_eq (h : Cert.Pre_Kernel35Ideal m) : (dats m hO 0 c).arrAt 5 (cfgM m hO).N = newGrad m c :=
  (dats m hO 0 c).arrAt_eq_of_coversWhere_of_agree 5 _ (fun β => β (0 : Fin 3) = 2)
    ⟨filled, fun t _ => ⟨congrFun (index t).1.1 (0 : Fin 3), fun _ => .inl rfl⟩,
      fun β e => (reach (fun t => (index t).1.1) blocks β e).imp fun _ e => ⟨e, flush0_5 _ _⟩⟩
    (fun t _ y => (congrFun ((after0_5 m hO c t).trans (out_grad m c hO t)) y).trans ((grad_apply _ _ y).trans
      ((held m c hO h t).new_grad (index t).1.1 y _ (((cfgM m hO).win 5).rect_emb_val t y))))
    (fun _ hj => (congrFun (kept m c).1 _).trans (if_neg fun e => hj ((Nat.div_one _).trans e)).symm)

/-- The steps at the end. -/
abbrev newStep : (Whole 256 2048).Idx → EReal := steps 2 (grad m c) (m ((c : Thread nD τ).loc main_arg3)) (m ((c : Thread nD τ).loc main_arg4))
  (m ((c : Thread nD τ).loc main_arg5)) (m ((c : Thread nD τ).loc main_arg7))

/-- The second result is they. -/
theorem newStep_eq (h : Cert.Pre_Kernel35Ideal m) : (dats m hO 0 c).arrAt 6 (cfgM m hO).N = newStep m c :=
  (dats m hO 0 c).arrAt_eq_of_coversWhere_of_agree 6 _ (fun β => β (0 : Fin 3) = 2)
    ⟨filled, fun t _ => ⟨congrFun (index t).1.2.1 (0 : Fin 3), fun _ => .inl rfl⟩,
      fun β e => (reach (fun t => (index t).1.2.1) blocks β e).imp fun _ e => ⟨e, flush0_6 _ _⟩⟩
    (fun t _ y => (congrFun ((after0_6 m hO c t).trans (out_step m c hO t)) y).trans ((step_apply _ _ _ _ _ y).trans
      ((held m c hO h t).new_step (index t).1.2.1 y _ (((cfgM m hO).win 6).rect_emb_val t y))))
    (fun _ hj => (congrFun (kept m c).2.1 _).trans (if_neg fun e => hj ((Nat.div_one _).trans e)).symm)

/-- The first moments at the end. -/
abbrev newFirst : (Whole 256 2048).Idx → EReal := firsts 2 (grad m c) (m ((c : Thread nD τ).loc main_arg4)) (m ((c : Thread nD τ).loc main_arg8))

/-- The third result is they. -/
theorem newFirst_eq (h : Cert.Pre_Kernel35Ideal m) : (dats m hO 0 c).arrAt 7 (cfgM m hO).N = newFirst m c :=
  (dats m hO 0 c).arrAt_eq_of_coversWhere_of_agree 7 _ (fun β => β (0 : Fin 3) = 2)
    ⟨filled, fun t _ => ⟨congrFun (index t).1.2.2.1 (0 : Fin 3), fun _ => .inl rfl⟩,
      fun β e => (reach (fun t => (index t).1.2.2.1) blocks β e).imp fun _ e => ⟨e, flush0_7 _ _⟩⟩
    (fun t _ y => (congrFun ((after0_7 m hO c t).trans (out_first m c hO t)) y).trans ((first_apply _ _ _ y).trans
      ((held m c hO h t).new_first (index t).1.2.2.1 y _ (((cfgM m hO).win 7).rect_emb_val t y))))
    (fun _ hj => (congrFun (kept m c).2.2.1 _).trans (if_neg fun e => hj ((Nat.div_one _).trans e)).symm)

/-- The second moments at the end. -/
abbrev newSecond : (Whole 256 2048).Idx → EReal := seconds 2 (grad m c) (m ((c : Thread nD τ).loc main_arg5)) (m ((c : Thread nD τ).loc main_arg9))

/-- The fourth result is they. -/
theorem newSecond_eq (h : Cert.Pre_Kernel35Ideal m) : (dats m hO 0 c).arrAt 8 (cfgM m hO).N = newSecond m c :=
  (dats m hO 0 c).arrAt_eq_of_coversWhere_of_agree 8 _ (fun β => β (0 : Fin 3) = 2)
    ⟨filled, fun t _ => ⟨congrFun (index t).1.2.2.2 (0 : Fin 3), fun _ => .inl rfl⟩,
      fun β e => (reach (fun t => (index t).1.2.2.2) blocks β e).imp fun _ e => ⟨e, flush0_8 _ _⟩⟩
    (fun t _ y => (congrFun ((after0_8 m hO c t).trans (out_second m c hO t)) y).trans ((second_apply _ _ _ y).trans
      ((held m c hO h t).new_second (index t).1.2.2.2 y _ (((cfgM m hO).win 8).rect_emb_val t y))))
    (fun _ hj => (congrFun (kept m c).2.2.2 _).trans (if_neg fun e => hj ((Nat.div_one _).trans e)).symm)

/-- The kernel and the reference end with the same four arrays. -/
theorem algebraic : Cert.algebraic_Kernel35Ideal_Reference35Ideal := by
  intro m g m' g' h hArgs
  have hO := inside m h
  refine ⟨fun d => newGrad m d, fun d => newStep m d, fun d => newFirst m d, fun d => newSecond m d, ?_, ?_⟩
  · refine (θ_run _ _ _).mono (fun r p d => ?_) (θ_run_and (run_main m g hO) (unchanged m g hO))
    exact ⟨((p.1 d).1 5).trans (newGrad_eq m d hO h), ((p.1 d).1 6).trans (newStep_eq m d hO h),
      ((p.1 d).1 7).trans (newFirst_eq m d hO h), ((p.1 d).1 8).trans (newSecond_eq m d hO h), p.2 d⟩
  · refine (θ_run _ _ _).mono (fun r p d => ?_) (Cert.Reference35Ideal.Value.run m' g')
    obtain ⟨r0, r1, r2, r3, kept⟩ := p d
    obtain ⟨a0, a1, a2, a3, a4, a5, a6, a7, a8, a9⟩ := hArgs d
    refine ⟨r0.trans ?_, r1.trans ?_, r2.trans ?_, r3.trans ?_, kept⟩
    all_goals
      clear r0 r1 r2 r3 kept p
      funext y
      simp only [a0, a1, a2, a3, a4, a5, a6, a7, a8, a9, newGrad, newStep, newFirst, newSecond, steps, firsts, seconds, layer, step, first,
        second, total, own, mine]
      pointwise
      rw [pick_layer _ 2 (y 0).isLt (by decide), pick]
    all_goals rfl

end L2

/-! The second layer's program. -/

namespace L1
open Cert.Kernel36Ideal Cert.Kernel36Ideal.Gen

/-- The precondition puts the blocks inside their arrays, in the rounded program. -/
theorem inside_bits (m : (ℓ : Loc Cert.Kernel36.nD Cert.Kernel36.τ Cert.Kernel36.sig) → Buf (Elt Bits) ℓ) (h : Cert.Pre_Kernel36 m) :
    Cert.Kernel36.Gen.Ok (F := Bits) m :=
  ok_bits _ (zero_or_one _ (congrFun (h 0) (ix1 0)))

variable (m : (ℓ : Loc nD τ sig) → Buf (Elt Ideal) ℓ) (c : Dev nD)

/-- The device's coordinate. -/
def mine : BitVec 32 := m ((c : Thread nD τ).loc main_arg0) (ix1 0)

/-- The precondition leaves it two values. -/
theorem mine_eq (h : Cert.Pre_Kernel36Ideal m) : mine m c = 0#32 ∨ mine m c = 1#32 := zero_or_one _ (congrFun (h c) (ix1 0))

/-- The precondition puts the blocks inside their arrays. -/
theorem inside (h : Cert.Pre_Kernel36Ideal m) : Gen.Ok (F := Ideal) m := ok _ (mine_eq m 0 h)

/-- Point `t` reads and writes block `t` of the layer's rows, whatever the table holds. -/
theorem index : ∀ t : Fin grid0.N, (cc0_transform_9 (grid0.coords t) = ![1, t.val, 0] ∧ cc0_transform_10 (grid0.coords t) = ![1, t.val, 0]
    ∧ cc0_transform_11 (grid0.coords t) = ![1, t.val, 0] ∧ cc0_transform_12 (grid0.coords t) = ![1, t.val, 0])
    ∧ cc0_transform_1 (grid0.coords t) = ![t.val, 0] ∧ cc0_transform_2 (grid0.coords t) = ![1, t.val, 0]
    ∧ cc0_transform_3 (grid0.coords t) = ![1, t.val, 0] ∧ cc0_transform_4 (grid0.coords t) = ![1, t.val, 0] := by decide +kernel

variable (hO : Gen.Ok (F := Ideal) m)

/-- It reads block `t` of the device's own half of the gradient. -/
theorem own_index (t : Fin grid0.N) : ((cfgM m hO).win 0).index t = ![(mine m c).toNat, t.val, 0] := by
  obtain rfl : c = 0 := Subsingleton.elim _ _
  have e : ((cfgM m hO).win 0).index t = ![(mine m 0).toNat, (BitVec.ofNat 32 (grid0.coords t 0).val).toNat, (0#32).toNat] :=
    congrArg (fun x : BitVec 32 => ![x.toNat, (BitVec.ofNat 32 (grid0.coords t 0).val).toNat, (0#32).toNat])
      ((congrFun (V_main_arg0 m 0) _).trans (congrArg (m ((0 : Dev nD), main_arg0)) (only_index _)))
  exact e.trans (congrArg (fun n : Nat => ![(mine m 0).toNat, n, 0]) (coord t))

/-- The gradient: the device's own half and the received one. -/
abbrev grad : (Whole 256 2048).Idx → EReal :=
  total (mine m c) (m ((c : Thread nD τ).loc main_arg1)) (m ((c : Thread nD τ).loc main_arg2))

/-- A point's blocks hold its rows. -/
theorem held (h : Cert.Pre_Kernel36Ideal m) (t : Fin grid0.N) : Held (B := 128) 1 t.val (grad m c) (m ((c : Thread nD τ).loc main_arg3))
    (m ((c : Thread nD τ).loc main_arg4)) (m ((c : Thread nD τ).loc main_arg5)) (iblk m hO c 0 t) (iblk m hO c 1 t) (iblk m hO c 2 t)
    (iblk m hO c 3 t) (iblk m hO c 4 t) where
  sum y z h1 h2 := congrArg₂ (fun a b : EReal => a + b)
    ((congrFun (V_main_arg1 m c) _).trans (read_own (mine_eq m c h) (own_index m c hO t) _ y _ (((cfgM m hO).win 0).rect_emb_val t y) z h1 h2))
    ((congrFun (V_main_arg2 m c) _).trans (read_flat (index t).2.1 _ y _ (((cfgM m hO).win 1).rect_emb_val t (ix2 (y 1) (y 2))) z h1 h2))
  weight y z h0 h1 h2 := (congrFun (V_main_arg3 m c) _).trans
    (read_rows (index t).2.2.1 _ y _ (((cfgM m hO).win 2).rect_emb_val t y) z h0 h1 h2)
  first y z h0 h1 h2 := (congrFun (V_main_arg4 m c) _).trans
    (read_rows (index t).2.2.2.1 _ y _ (((cfgM m hO).win 3).rect_emb_val t y) z h0 h1 h2)
  second y z h0 h1 h2 := (congrFun (V_main_arg5 m c) _).trans
    (read_rows (index t).2.2.2.2 _ y _ (((cfgM m hO).win 4).rect_emb_val t y) z h0 h1 h2)

/-- The results find their arguments' contents. -/
theorem kept : V m c main_v0_0 = m ((c : Thread nD τ).loc main_arg6) ∧ V m c main_v0_1 = m ((c : Thread nD τ).loc main_arg7)
    ∧ V m c main_v0_2 = m ((c : Thread nD τ).loc main_arg8) ∧ V m c main_v0_3 = m ((c : Thread nD τ).loc main_arg9) := by
  refine ⟨?_, ?_, ?_, ?_⟩
  all_goals
    unfold V hostOps0
    after_results
    rfl

/-- What point `t` writes of the gradients. -/
theorem out_grad (t : Fin grid0.N) : (outsAt0 m hO c t).1 = k0_pay1 (F := Ideal) (k0_pay5 (iblk m hO c 0 t) (iblk m hO c 1 t)) := by
  frame_out
  exact congrArg (k0_pay1 (F := Ideal)) (congrArg₂ k0_pay5 ((hs0_0 m hO t).read_unread _) ((hs0_1 m hO t).read_unread _))

/-- What it writes of the steps. -/
theorem out_step (t : Fin grid0.N) : (outsAt0 m hO c t).2.1 = k0_pay2 (F := Ideal)
    (k0_pay8 (iblk m hO c 0 t) (iblk m hO c 1 t) (iblk m hO c 2 t) (iblk m hO c 3 t) (iblk m hO c 4 t)) := by
  frame_out
  exact congrArg (k0_pay2 (F := Ideal)) (congr (congr (congr (congrArg₂ k0_pay8 ((hs0_0 m hO t).read_unread _)
    ((hs0_1 m hO t).read_unread _)) ((hs0_2 m hO t).read_unread _)) ((hs0_3 m hO t).read_unread _)) ((hs0_4 m hO t).read_unread _))

/-- What it writes of the first moments. -/
theorem out_first (t : Fin grid0.N) : (outsAt0 m hO c t).2.2.1 = k0_pay3 (F := Ideal)
    (k0_pay6 (iblk m hO c 0 t) (iblk m hO c 1 t) (iblk m hO c 3 t)) := by
  frame_out
  exact congrArg (k0_pay3 (F := Ideal)) (congr (congrArg₂ k0_pay6 ((hs0_0 m hO t).read_unread _)
    ((hs0_1 m hO t).read_unread _)) ((hs0_3 m hO t).read_unread _))

/-- What it writes of the second moments. -/
theorem out_second (t : Fin grid0.N) : (outsAt0 m hO c t).2.2.2 = k0_pay4 (F := Ideal)
    (k0_pay7 (iblk m hO c 0 t) (iblk m hO c 1 t) (iblk m hO c 4 t)) := by
  frame_out
  exact congrArg (k0_pay4 (F := Ideal)) (congr (congrArg₂ k0_pay7 ((hs0_0 m hO t).read_unread _)
    ((hs0_1 m hO t).read_unread _)) ((hs0_4 m hO t).read_unread _))

/-- The gradients at the end. -/
abbrev newGrad : (Whole 256 2048).Idx → EReal := layer 1 (grad m c) (m ((c : Thread nD τ).loc main_arg6))

/-- The first result is they. -/
theorem newGrad_eq (h : Cert.Pre_Kernel36Ideal m) : (dats m hO 0 c).arrAt 5 (cfgM m hO).N = newGrad m c :=
  (dats m hO 0 c).arrAt_eq_of_coversWhere_of_agree 5 _ (fun β => β (0 : Fin 3) = 1)
    ⟨filled, fun t _ => ⟨congrFun (index t).1.1 (0 : Fin 3), fun _ => .inl rfl⟩,
      fun β e => (reach (fun t => (index t).1.1) blocks β e).imp fun _ e => ⟨e, flush0_5 _ _⟩⟩
    (fun t _ y => (congrFun ((after0_5 m hO c t).trans (out_grad m c hO t)) y).trans ((grad_apply _ _ y).trans
      ((held m c hO h t).new_grad (index t).1.1 y _ (((cfgM m hO).win 5).rect_emb_val t y))))
    (fun _ hj => (congrFun (kept m c).1 _).trans (if_neg fun e => hj ((Nat.div_one _).trans e)).symm)

/-- The steps at the end. -/
abbrev newStep : (Whole 256 2048).Idx → EReal := steps 1 (grad m c) (m ((c : Thread nD τ).loc main_arg3)) (m ((c : Thread nD τ).loc main_arg4))
  (m ((c : Thread nD τ).loc main_arg5)) (m ((c : Thread nD τ).loc main_arg7))

/-- The second result is they. -/
theorem newStep_eq (h : Cert.Pre_Kernel36Ideal m) : (dats m hO 0 c).arrAt 6 (cfgM m hO).N = newStep m c :=
  (dats m hO 0 c).arrAt_eq_of_coversWhere_of_agree 6 _ (fun β => β (0 : Fin 3) = 1)
    ⟨filled, fun t _ => ⟨congrFun (index t).1.2.1 (0 : Fin 3), fun _ => .inl rfl⟩,
      fun β e => (reach (fun t => (index t).1.2.1) blocks β e).imp fun _ e => ⟨e, flush0_6 _ _⟩⟩
    (fun t _ y => (congrFun ((after0_6 m hO c t).trans (out_step m c hO t)) y).trans ((step_apply _ _ _ _ _ y).trans
      ((held m c hO h t).new_step (index t).1.2.1 y _ (((cfgM m hO).win 6).rect_emb_val t y))))
    (fun _ hj => (congrFun (kept m c).2.1 _).trans (if_neg fun e => hj ((Nat.div_one _).trans e)).symm)

/-- The first moments at the end. -/
abbrev newFirst : (Whole 256 2048).Idx → EReal := firsts 1 (grad m c) (m ((c : Thread nD τ).loc main_arg4)) (m ((c : Thread nD τ).loc main_arg8))

/-- The third result is they. -/
theorem newFirst_eq (h : Cert.Pre_Kernel36Ideal m) : (dats m hO 0 c).arrAt 7 (cfgM m hO).N = newFirst m c :=
  (dats m hO 0 c).arrAt_eq_of_coversWhere_of_agree 7 _ (fun β => β (0 : Fin 3) = 1)
    ⟨filled, fun t _ => ⟨congrFun (index t).1.2.2.1 (0 : Fin 3), fun _ => .inl rfl⟩,
      fun β e => (reach (fun t => (index t).1.2.2.1) blocks β e).imp fun _ e => ⟨e, flush0_7 _ _⟩⟩
    (fun t _ y => (congrFun ((after0_7 m hO c t).trans (out_first m c hO t)) y).trans ((first_apply _ _ _ y).trans
      ((held m c hO h t).new_first (index t).1.2.2.1 y _ (((cfgM m hO).win 7).rect_emb_val t y))))
    (fun _ hj => (congrFun (kept m c).2.2.1 _).trans (if_neg fun e => hj ((Nat.div_one _).trans e)).symm)

/-- The second moments at the end. -/
abbrev newSecond : (Whole 256 2048).Idx → EReal := seconds 1 (grad m c) (m ((c : Thread nD τ).loc main_arg5)) (m ((c : Thread nD τ).loc main_arg9))

/-- The fourth result is they. -/
theorem newSecond_eq (h : Cert.Pre_Kernel36Ideal m) : (dats m hO 0 c).arrAt 8 (cfgM m hO).N = newSecond m c :=
  (dats m hO 0 c).arrAt_eq_of_coversWhere_of_agree 8 _ (fun β => β (0 : Fin 3) = 1)
    ⟨filled, fun t _ => ⟨congrFun (index t).1.2.2.2 (0 : Fin 3), fun _ => .inl rfl⟩,
      fun β e => (reach (fun t => (index t).1.2.2.2) blocks β e).imp fun _ e => ⟨e, flush0_8 _ _⟩⟩
    (fun t _ y => (congrFun ((after0_8 m hO c t).trans (out_second m c hO t)) y).trans ((second_apply _ _ _ y).trans
      ((held m c hO h t).new_second (index t).1.2.2.2 y _ (((cfgM m hO).win 8).rect_emb_val t y))))
    (fun _ hj => (congrFun (kept m c).2.2.2 _).trans (if_neg fun e => hj ((Nat.div_one _).trans e)).symm)

/-- The kernel and the reference end with the same four arrays. -/
theorem algebraic : Cert.algebraic_Kernel36Ideal_Reference36Ideal := by
  intro m g m' g' h hArgs
  have hO := inside m h
  refine ⟨fun d => newGrad m d, fun d => newStep m d, fun d => newFirst m d, fun d => newSecond m d, ?_, ?_⟩
  · refine (θ_run _ _ _).mono (fun r p d => ?_) (θ_run_and (run_main m g hO) (unchanged m g hO))
    exact ⟨((p.1 d).1 5).trans (newGrad_eq m d hO h), ((p.1 d).1 6).trans (newStep_eq m d hO h),
      ((p.1 d).1 7).trans (newFirst_eq m d hO h), ((p.1 d).1 8).trans (newSecond_eq m d hO h), p.2 d⟩
  · refine (θ_run _ _ _).mono (fun r p d => ?_) (Cert.Reference36Ideal.Value.run m' g')
    obtain ⟨r0, r1, r2, r3, kept⟩ := p d
    obtain ⟨a0, a1, a2, a3, a4, a5, a6, a7, a8, a9⟩ := hArgs d
    refine ⟨r0.trans ?_, r1.trans ?_, r2.trans ?_, r3.trans ?_, kept⟩
    all_goals
      clear r0 r1 r2 r3 kept p
      funext y
      simp only [a0, a1, a2, a3, a4, a5, a6, a7, a8, a9, newGrad, newStep, newFirst, newSecond, steps, firsts, seconds, layer, step, first,
        second, total, own, mine]
      pointwise
      rw [pick_layer _ 1 (y 0).isLt (by decide), pick]
    all_goals rfl

end L1

/-! The first layer's program. -/

namespace L0
open Cert.Kernel37Ideal Cert.Kernel37Ideal.Gen

/-- The precondition puts the blocks inside their arrays, in the rounded program. -/
theorem inside_bits (m : (ℓ : Loc Cert.Kernel37.nD Cert.Kernel37.τ Cert.Kernel37.sig) → Buf (Elt Bits) ℓ) (h : Cert.Pre_Kernel37 m) :
    Cert.Kernel37.Gen.Ok (F := Bits) m :=
  ok_bits _ (zero_or_one _ (congrFun (h 0) (ix1 0)))

variable (m : (ℓ : Loc nD τ sig) → Buf (Elt Ideal) ℓ) (c : Dev nD)

/-- The device's coordinate. -/
def mine : BitVec 32 := m ((c : Thread nD τ).loc main_arg0) (ix1 0)

/-- The precondition leaves it two values. -/
theorem mine_eq (h : Cert.Pre_Kernel37Ideal m) : mine m c = 0#32 ∨ mine m c = 1#32 := zero_or_one _ (congrFun (h c) (ix1 0))

/-- The precondition puts the blocks inside their arrays. -/
theorem inside (h : Cert.Pre_Kernel37Ideal m) : Gen.Ok (F := Ideal) m := ok _ (mine_eq m 0 h)

/-- Point `t` reads and writes block `t` of the layer's rows, whatever the table holds. -/
theorem index : ∀ t : Fin grid0.N, (cc0_transform_9 (grid0.coords t) = ![0, t.val, 0] ∧ cc0_transform_10 (grid0.coords t) = ![0, t.val, 0]
    ∧ cc0_transform_11 (grid0.coords t) = ![0, t.val, 0] ∧ cc0_transform_12 (grid0.coords t) = ![0, t.val, 0])
    ∧ cc0_transform_1 (grid0.coords t) = ![t.val, 0] ∧ cc0_transform_2 (grid0.coords t) = ![0, t.val, 0]
    ∧ cc0_transform_3 (grid0.coords t) = ![0, t.val, 0] ∧ cc0_transform_4 (grid0.coords t) = ![0, t.val, 0] := by decide +kernel

variable (hO : Gen.Ok (F := Ideal) m)

/-- It reads block `t` of the device's own half of the gradient. -/
theorem own_index (t : Fin grid0.N) : ((cfgM m hO).win 0).index t = ![(mine m c).toNat, t.val, 0] := by
  obtain rfl : c = 0 := Subsingleton.elim _ _
  have e : ((cfgM m hO).win 0).index t = ![(mine m 0).toNat, (BitVec.ofNat 32 (grid0.coords t 0).val).toNat, (0#32).toNat] :=
    congrArg (fun x : BitVec 32 => ![x.toNat, (BitVec.ofNat 32 (grid0.coords t 0).val).toNat, (0#32).toNat])
      ((congrFun (V_main_arg0 m 0) _).trans (congrArg (m ((0 : Dev nD), main_arg0)) (only_index _)))
  exact e.trans (congrArg (fun n : Nat => ![(mine m 0).toNat, n, 0]) (coord t))

/-- The gradient: the device's own half and the received one. -/
abbrev grad : (Whole 256 2048).Idx → EReal :=
  total (mine m c) (m ((c : Thread nD τ).loc main_arg1)) (m ((c : Thread nD τ).loc main_arg2))

/-- A point's blocks hold its rows. -/
theorem held (h : Cert.Pre_Kernel37Ideal m) (t : Fin grid0.N) : Held (B := 128) 0 t.val (grad m c) (m ((c : Thread nD τ).loc main_arg3))
    (m ((c : Thread nD τ).loc main_arg4)) (m ((c : Thread nD τ).loc main_arg5)) (iblk m hO c 0 t) (iblk m hO c 1 t) (iblk m hO c 2 t)
    (iblk m hO c 3 t) (iblk m hO c 4 t) where
  sum y z h1 h2 := congrArg₂ (fun a b : EReal => a + b)
    ((congrFun (V_main_arg1 m c) _).trans (read_own (mine_eq m c h) (own_index m c hO t) _ y _ (((cfgM m hO).win 0).rect_emb_val t y) z h1 h2))
    ((congrFun (V_main_arg2 m c) _).trans (read_flat (index t).2.1 _ y _ (((cfgM m hO).win 1).rect_emb_val t (ix2 (y 1) (y 2))) z h1 h2))
  weight y z h0 h1 h2 := (congrFun (V_main_arg3 m c) _).trans
    (read_rows (index t).2.2.1 _ y _ (((cfgM m hO).win 2).rect_emb_val t y) z h0 h1 h2)
  first y z h0 h1 h2 := (congrFun (V_main_arg4 m c) _).trans
    (read_rows (index t).2.2.2.1 _ y _ (((cfgM m hO).win 3).rect_emb_val t y) z h0 h1 h2)
  second y z h0 h1 h2 := (congrFun (V_main_arg5 m c) _).trans
    (read_rows (index t).2.2.2.2 _ y _ (((cfgM m hO).win 4).rect_emb_val t y) z h0 h1 h2)

/-- The results find their arguments' contents. -/
theorem kept : V m c main_v0_0 = m ((c : Thread nD τ).loc main_arg6) ∧ V m c main_v0_1 = m ((c : Thread nD τ).loc main_arg7)
    ∧ V m c main_v0_2 = m ((c : Thread nD τ).loc main_arg8) ∧ V m c main_v0_3 = m ((c : Thread nD τ).loc main_arg9) := by
  refine ⟨?_, ?_, ?_, ?_⟩
  all_goals
    unfold V hostOps0
    after_results
    rfl

/-- What point `t` writes of the gradients. -/
theorem out_grad (t : Fin grid0.N) : (outsAt0 m hO c t).1 = k0_pay1 (F := Ideal) (k0_pay5 (iblk m hO c 0 t) (iblk m hO c 1 t)) := by
  frame_out
  exact congrArg (k0_pay1 (F := Ideal)) (congrArg₂ k0_pay5 ((hs0_0 m hO t).read_unread _) ((hs0_1 m hO t).read_unread _))

/-- What it writes of the steps. -/
theorem out_step (t : Fin grid0.N) : (outsAt0 m hO c t).2.1 = k0_pay2 (F := Ideal)
    (k0_pay8 (iblk m hO c 0 t) (iblk m hO c 1 t) (iblk m hO c 2 t) (iblk m hO c 3 t) (iblk m hO c 4 t)) := by
  frame_out
  exact congrArg (k0_pay2 (F := Ideal)) (congr (congr (congr (congrArg₂ k0_pay8 ((hs0_0 m hO t).read_unread _)
    ((hs0_1 m hO t).read_unread _)) ((hs0_2 m hO t).read_unread _)) ((hs0_3 m hO t).read_unread _)) ((hs0_4 m hO t).read_unread _))

/-- What it writes of the first moments. -/
theorem out_first (t : Fin grid0.N) : (outsAt0 m hO c t).2.2.1 = k0_pay3 (F := Ideal)
    (k0_pay6 (iblk m hO c 0 t) (iblk m hO c 1 t) (iblk m hO c 3 t)) := by
  frame_out
  exact congrArg (k0_pay3 (F := Ideal)) (congr (congrArg₂ k0_pay6 ((hs0_0 m hO t).read_unread _)
    ((hs0_1 m hO t).read_unread _)) ((hs0_3 m hO t).read_unread _))

/-- What it writes of the second moments. -/
theorem out_second (t : Fin grid0.N) : (outsAt0 m hO c t).2.2.2 = k0_pay4 (F := Ideal)
    (k0_pay7 (iblk m hO c 0 t) (iblk m hO c 1 t) (iblk m hO c 4 t)) := by
  frame_out
  exact congrArg (k0_pay4 (F := Ideal)) (congr (congrArg₂ k0_pay7 ((hs0_0 m hO t).read_unread _)
    ((hs0_1 m hO t).read_unread _)) ((hs0_4 m hO t).read_unread _))

/-- The gradients at the end. -/
abbrev newGrad : (Whole 256 2048).Idx → EReal := layer 0 (grad m c) (m ((c : Thread nD τ).loc main_arg6))

/-- The first result is they. -/
theorem newGrad_eq (h : Cert.Pre_Kernel37Ideal m) : (dats m hO 0 c).arrAt 5 (cfgM m hO).N = newGrad m c :=
  (dats m hO 0 c).arrAt_eq_of_coversWhere_of_agree 5 _ (fun β => β (0 : Fin 3) = 0)
    ⟨filled, fun t _ => ⟨congrFun (index t).1.1 (0 : Fin 3), fun _ => .inl rfl⟩,
      fun β e => (reach (fun t => (index t).1.1) blocks β e).imp fun _ e => ⟨e, flush0_5 _ _⟩⟩
    (fun t _ y => (congrFun ((after0_5 m hO c t).trans (out_grad m c hO t)) y).trans ((grad_apply _ _ y).trans
      ((held m c hO h t).new_grad (index t).1.1 y _ (((cfgM m hO).win 5).rect_emb_val t y))))
    (fun _ hj => (congrFun (kept m c).1 _).trans (if_neg fun e => hj ((Nat.div_one _).trans e)).symm)

/-- The steps at the end. -/
abbrev newStep : (Whole 256 2048).Idx → EReal := steps 0 (grad m c) (m ((c : Thread nD τ).loc main_arg3)) (m ((c : Thread nD τ).loc main_arg4))
  (m ((c : Thread nD τ).loc main_arg5)) (m ((c : Thread nD τ).loc main_arg7))

/-- The second result is they. -/
theorem newStep_eq (h : Cert.Pre_Kernel37Ideal m) : (dats m hO 0 c).arrAt 6 (cfgM m hO).N = newStep m c :=
  (dats m hO 0 c).arrAt_eq_of_coversWhere_of_agree 6 _ (fun β => β (0 : Fin 3) = 0)
    ⟨filled, fun t _ => ⟨congrFun (index t).1.2.1 (0 : Fin 3), fun _ => .inl rfl⟩,
      fun β e => (reach (fun t => (index t).1.2.1) blocks β e).imp fun _ e => ⟨e, flush0_6 _ _⟩⟩
    (fun t _ y => (congrFun ((after0_6 m hO c t).trans (out_step m c hO t)) y).trans ((step_apply _ _ _ _ _ y).trans
      ((held m c hO h t).new_step (index t).1.2.1 y _ (((cfgM m hO).win 6).rect_emb_val t y))))
    (fun _ hj => (congrFun (kept m c).2.1 _).trans (if_neg fun e => hj ((Nat.div_one _).trans e)).symm)

/-- The first moments at the end. -/
abbrev newFirst : (Whole 256 2048).Idx → EReal := firsts 0 (grad m c) (m ((c : Thread nD τ).loc main_arg4)) (m ((c : Thread nD τ).loc main_arg8))

/-- The third result is they. -/
theorem newFirst_eq (h : Cert.Pre_Kernel37Ideal m) : (dats m hO 0 c).arrAt 7 (cfgM m hO).N = newFirst m c :=
  (dats m hO 0 c).arrAt_eq_of_coversWhere_of_agree 7 _ (fun β => β (0 : Fin 3) = 0)
    ⟨filled, fun t _ => ⟨congrFun (index t).1.2.2.1 (0 : Fin 3), fun _ => .inl rfl⟩,
      fun β e => (reach (fun t => (index t).1.2.2.1) blocks β e).imp fun _ e => ⟨e, flush0_7 _ _⟩⟩
    (fun t _ y => (congrFun ((after0_7 m hO c t).trans (out_first m c hO t)) y).trans ((first_apply _ _ _ y).trans
      ((held m c hO h t).new_first (index t).1.2.2.1 y _ (((cfgM m hO).win 7).rect_emb_val t y))))
    (fun _ hj => (congrFun (kept m c).2.2.1 _).trans (if_neg fun e => hj ((Nat.div_one _).trans e)).symm)

/-- The second moments at the end. -/
abbrev newSecond : (Whole 256 2048).Idx → EReal := seconds 0 (grad m c) (m ((c : Thread nD τ).loc main_arg5)) (m ((c : Thread nD τ).loc main_arg9))

/-- The fourth result is they. -/
theorem newSecond_eq (h : Cert.Pre_Kernel37Ideal m) : (dats m hO 0 c).arrAt 8 (cfgM m hO).N = newSecond m c :=
  (dats m hO 0 c).arrAt_eq_of_coversWhere_of_agree 8 _ (fun β => β (0 : Fin 3) = 0)
    ⟨filled, fun t _ => ⟨congrFun (index t).1.2.2.2 (0 : Fin 3), fun _ => .inl rfl⟩,
      fun β e => (reach (fun t => (index t).1.2.2.2) blocks β e).imp fun _ e => ⟨e, flush0_8 _ _⟩⟩
    (fun t _ y => (congrFun ((after0_8 m hO c t).trans (out_second m c hO t)) y).trans ((second_apply _ _ _ y).trans
      ((held m c hO h t).new_second (index t).1.2.2.2 y _ (((cfgM m hO).win 8).rect_emb_val t y))))
    (fun _ hj => (congrFun (kept m c).2.2.2 _).trans (if_neg fun e => hj ((Nat.div_one _).trans e)).symm)

/-- The kernel and the reference end with the same four arrays. -/
theorem algebraic : Cert.algebraic_Kernel37Ideal_Reference37Ideal := by
  intro m g m' g' h hArgs
  have hO := inside m h
  refine ⟨fun d => newGrad m d, fun d => newStep m d, fun d => newFirst m d, fun d => newSecond m d, ?_, ?_⟩
  · refine (θ_run _ _ _).mono (fun r p d => ?_) (θ_run_and (run_main m g hO) (unchanged m g hO))
    exact ⟨((p.1 d).1 5).trans (newGrad_eq m d hO h), ((p.1 d).1 6).trans (newStep_eq m d hO h),
      ((p.1 d).1 7).trans (newFirst_eq m d hO h), ((p.1 d).1 8).trans (newSecond_eq m d hO h), p.2 d⟩
  · refine (θ_run _ _ _).mono (fun r p d => ?_) (Cert.Reference37Ideal.Value.run m' g')
    obtain ⟨r0, r1, r2, r3, kept⟩ := p d
    obtain ⟨a0, a1, a2, a3, a4, a5, a6, a7, a8, a9⟩ := hArgs d
    refine ⟨r0.trans ?_, r1.trans ?_, r2.trans ?_, r3.trans ?_, kept⟩
    all_goals
      clear r0 r1 r2 r3 kept p
      funext y
      simp only [a0, a1, a2, a3, a4, a5, a6, a7, a8, a9, newGrad, newStep, newFirst, newSecond, steps, firsts, seconds, layer, step, first,
        second, total, own, mine]
      pointwise
      rw [pick_layer _ 0 (y 0).isLt (by decide), pick]
    all_goals rfl

end L0

end Cert.Opt.Out
end
-- ==== Proof.Opt.Conv.lean ====
/- The optimiser's step of the convolution's weights, layer by layer: the kernel's results are the reference's. -/
module
public import proofs.«01_k».proof.Defs
public import proofs.«01_k».proof.Proof.Opt.Layer
public import proofs.«01_k».proof.Proof.Gen.Kernel38.Frame
public import proofs.«01_k».proof.Proof.Gen.Kernel38Ideal.Frame
public import proofs.«01_k».proof.Proof.Gen.Reference38Ideal.Run
public import proofs.«01_k».proof.Proof.Gen.Kernel39.Frame
public import proofs.«01_k».proof.Proof.Gen.Kernel39Ideal.Frame
public import proofs.«01_k».proof.Proof.Gen.Reference39Ideal.Run
public import proofs.«01_k».proof.Proof.Gen.Kernel40.Frame
public import proofs.«01_k».proof.Proof.Gen.Kernel40Ideal.Frame
public import proofs.«01_k».proof.Proof.Gen.Reference40Ideal.Run
public import proofs.«01_k».proof.Proof.Gen.Kernel41.Frame
public import proofs.«01_k».proof.Proof.Gen.Kernel41Ideal.Frame
public import proofs.«01_k».proof.Proof.Gen.Reference41Ideal.Run
public import proofs.«01_k».proof.Proof.Gen.Pre_pair7

@[expose] public section
set_option maxRecDepth 16384

noncomputable section
namespace Cert.Opt.Conv
open Idealize.ShloMosaic
open Idealize.ShloMosaic.TcCoe Idealize.ShloMosaic.Tactic

/-! What the four layers' programs share: their tables, their arithmetic and their blocks are the same. -/

section
open Cert.Kernel38

set_option backward.proofsInPublic true in
/-- A table that holds 0 or 1 puts the first operand's block inside its array, in the rounded program. -/
theorem ok_bits (pf : pre0.Contents (Elt Bits)) (h : pf 0 (ix1 0) = 0#32 ∨ pf 0 (ix1 0) = 1#32) : ok0 (F := Bits) pf := by
  have e : pf = fun | ⟨0, _⟩ => fun _ => pf 0 (ix1 0) | ⟨_ + 1, h⟩ => absurd h (by simp) :=
    funext fun | ⟨0, _⟩ => funext fun x => congrArg (pf 0) (only_index x)
  rw [e]
  rcases h with h | h <;> rw [h] <;> decide +kernel

end

section
open Cert.Kernel38Ideal Cert.Kernel38Ideal.Gen

set_option backward.proofsInPublic true in
/-- A table that holds 0 or 1 puts the first operand's block inside its array. -/
theorem ok (pf : pre0.Contents (Elt Ideal)) (h : pf 0 (ix1 0) = 0#32 ∨ pf 0 (ix1 0) = 1#32) : ok0 (F := Ideal) pf := by
  have e : pf = fun | ⟨0, _⟩ => fun _ => pf 0 (ix1 0) | ⟨_ + 1, h⟩ => absurd h (by simp) :=
    funext fun | ⟨0, _⟩ => funext fun x => congrArg (pf 0) (only_index x)
  rw [e]
  rcases h with h | h <;> rw [h] <;> decide +kernel

/-- The one grid coordinate of a point, as a word, is the point's number. -/
theorem coord : ∀ t : Fin grid0.N, (BitVec.ofNat 32 (grid0.coords t 0).val).toNat = t.val := by decide +kernel

/-- The blocks of a result: four layers of the grid's points. -/
theorem blocks : ∀ a : Fin 3, ((Whole 4 384).size a + (Rows 4 384).size a - 1) / (Rows 4 384).size a = ![4, grid0.N, 1] a := by decide

/-- A block is not empty. -/
theorem filled : ∀ a : Fin 3, 0 < (Rows 4 384).size a := by decide

section
variable (x0 : Vec Ideal (Rows 4 384) .f32) (x1 : Vec Ideal (Flat 4 384) .f32) (x2 x3 x4 : Vec Ideal (Rows 4 384) .f32) (y : (Rows 4 384).Idx)

/-- What the kernel stores as the gradient: its own half plus the received one. -/
theorem grad_apply : k0_pay1 (F := Ideal) (k0_pay5 x0 x1) y = add x0 x1 y := by
  unfold add
  pointwise [k0_pay1, k0_pay5]

/-- What it stores as the first moment. -/
theorem first_apply : k0_pay3 (F := Ideal) (k0_pay6 x0 x1 x3) y = first (add x0 x1 y) (x3 y) := by
  unfold first add
  pointwise [k0_pay3, k0_pay6, k0_pay5]

/-- What it stores as the second moment. -/
theorem second_apply : k0_pay4 (F := Ideal) (k0_pay7 x0 x1 x4) y = second (add x0 x1 y) (x4 y) := by
  unfold second add
  pointwise [k0_pay4, k0_pay7, k0_pay5]

/-- What it stores as the step. -/
theorem step_apply : k0_pay2 (F := Ideal) (k0_pay8 x0 x1 x2 x3 x4) y = step (add x0 x1 y) (x2 y) (x3 y) (x4 y) := by
  unfold step first second add
  pointwise [k0_pay2, k0_pay8, k0_pay6, k0_pay7, k0_pay5]

end

end

/-! The last layer's program. -/

namespace L3
open Cert.Kernel38Ideal Cert.Kernel38Ideal.Gen

/-- The precondition puts the blocks inside their arrays, in the rounded program. -/
theorem inside_bits (m : (ℓ : Loc Cert.Kernel38.nD Cert.Kernel38.τ Cert.Kernel38.sig) → Buf (Elt Bits) ℓ) (h : Cert.Pre_Kernel38 m) :
    Cert.Kernel38.Gen.Ok (F := Bits) m :=
  ok_bits _ (zero_or_one _ (congrFun (h 0) (ix1 0)))

variable (m : (ℓ : Loc nD τ sig) → Buf (Elt Ideal) ℓ) (c : Dev nD)

/-- The device's coordinate. -/
def mine : BitVec 32 := m ((c : Thread nD τ).loc main_arg0) (ix1 0)

/-- The precondition leaves it two values. -/
theorem mine_eq (h : Cert.Pre_Kernel38Ideal m) : mine m c = 0#32 ∨ mine m c = 1#32 := zero_or_one _ (congrFun (h c) (ix1 0))

/-- The precondition puts the blocks inside their arrays. -/
theorem inside (h : Cert.Pre_Kernel38Ideal m) : Gen.Ok (F := Ideal) m := ok _ (mine_eq m 0 h)

/-- Point `t` reads and writes block `t` of the layer's rows, whatever the table holds. -/
theorem index : ∀ t : Fin grid0.N, (cc0_transform_9 (grid0.coords t) = ![3, t.val, 0] ∧ cc0_transform_10 (grid0.coords t) = ![3, t.val, 0]
    ∧ cc0_transform_11 (grid0.coords t) = ![3, t.val, 0] ∧ cc0_transform_12 (grid0.coords t) = ![3, t.val, 0])
    ∧ cc0_transform_1 (grid0.coords t) = ![t.val, 0] ∧ cc0_transform_2 (grid0.coords t) = ![3, t.val, 0]
    ∧ cc0_transform_3 (grid0.coords t) = ![3, t.val, 0] ∧ cc0_transform_4 (grid0.coords t) = ![3, t.val, 0] := by decide +kernel

variable (hO : Gen.Ok (F := Ideal) m)

/-- It reads block `t` of the device's own half of the gradient. -/
theorem own_index (t : Fin grid0.N) : ((cfgM m hO).win 0).index t = ![(mine m c).toNat, t.val, 0] := by
  obtain rfl : c = 0 := Subsingleton.elim _ _
  have e : ((cfgM m hO).win 0).index t = ![(mine m 0).toNat, (BitVec.ofNat 32 (grid0.coords t 0).val).toNat, (0#32).toNat] :=
    congrArg (fun x : BitVec 32 => ![x.toNat, (BitVec.ofNat 32 (grid0.coords t 0).val).toNat, (0#32).toNat])
      ((congrFun (V_main_arg0 m 0) _).trans (congrArg (m ((0 : Dev nD), main_arg0)) (only_index _)))
  exact e.trans (congrArg (fun n : Nat => ![(mine m 0).toNat, n, 0]) (coord t))

/-- The gradient: the device's own half and the received one. -/
abbrev grad : (Whole 4 384).Idx → EReal :=
  total (mine m c) (m ((c : Thread nD τ).loc main_arg1)) (m ((c : Thread nD τ).loc main_arg2))

/-- A point's blocks hold its rows. -/
theorem held (h : Cert.Pre_Kernel38Ideal m) (t : Fin grid0.N) : Held (B := 4) 3 t.val (grad m c) (m ((c : Thread nD τ).loc main_arg3))
    (m ((c : Thread nD τ).loc main_arg4)) (m ((c : Thread nD τ).loc main_arg5)) (iblk m hO c 0 t) (iblk m hO c 1 t) (iblk m hO c 2 t)
    (iblk m hO c 3 t) (iblk m hO c 4 t) where
  sum y z h1 h2 := congrArg₂ (fun a b : EReal => a + b)
    ((congrFun (V_main_arg1 m c) _).trans (read_own (mine_eq m c h) (own_index m c hO t) _ y _ (((cfgM m hO).win 0).rect_emb_val t y) z h1 h2))
    ((congrFun (V_main_arg2 m c) _).trans (read_flat (index t).2.1 _ y _ (((cfgM m hO).win 1).rect_emb_val t (ix2 (y 1) (y 2))) z h1 h2))
  weight y z h0 h1 h2 := (congrFun (V_main_arg3 m c) _).trans
    (read_rows (index t).2.2.1 _ y _ (((cfgM m hO).win 2).rect_emb_val t y) z h0 h1 h2)
  first y z h0 h1 h2 := (congrFun (V_main_arg4 m c) _).trans
    (read_rows (index t).2.2.2.1 _ y _ (((cfgM m hO).win 3).rect_emb_val t y) z h0 h1 h2)
  second y z h0 h1 h2 := (congrFun (V_main_arg5 m c) _).trans
    (read_rows (index t).2.2.2.2 _ y _ (((cfgM m hO).win 4).rect_emb_val t y) z h0 h1 h2)

/-- The results find their arguments' contents. -/
theorem kept : V m c main_v0_0 = m ((c : Thread nD τ).loc main_arg6) ∧ V m c main_v0_1 = m ((c : Thread nD τ).loc main_arg7)
    ∧ V m c main_v0_2 = m ((c : Thread nD τ).loc main_arg8) ∧ V m c main_v0_3 = m ((c : Thread nD τ).loc main_arg9) := by
  refine ⟨?_, ?_, ?_, ?_⟩
  all_goals
    unfold V hostOps0
    after_results
    rfl

/-- What point `t` writes of the gradients. -/
theorem out_grad (t : Fin grid0.N) : (outsAt0 m hO c t).1 = k0_pay1 (F := Ideal) (k0_pay5 (iblk m hO c 0 t) (iblk m hO c 1 t)) := by
  frame_out
  exact congrArg (k0_pay1 (F := Ideal)) (congrArg₂ k0_pay5 ((hs0_0 m hO t).read_unread _) ((hs0_1 m hO t).read_unread _))

/-- What it writes of the steps. -/
theorem out_step (t : Fin grid0.N) : (outsAt0 m hO c t).2.1 = k0_pay2 (F := Ideal)
    (k0_pay8 (iblk m hO c 0 t) (iblk m hO c 1 t) (iblk m hO c 2 t) (iblk m hO c 3 t) (iblk m hO c 4 t)) := by
  frame_out
  exact congrArg (k0_pay2 (F := Ideal)) (congr (congr (congr (congrArg₂ k0_pay8 ((hs0_0 m hO t).read_unread _)
    ((hs0_1 m hO t).read_unread _)) ((hs0_2 m hO t).read_unread _)) ((hs0_3 m hO t).read_unread _)) ((hs0_4 m hO t).read_unread _))

/-- What it writes of the first moments. -/
theorem out_first (t : Fin grid0.N) : (outsAt0 m hO c t).2.2.1 = k0_pay3 (F := Ideal)
    (k0_pay6 (iblk m hO c 0 t) (iblk m hO c 1 t) (iblk m hO c 3 t)) := by
  frame_out
  exact congrArg (k0_pay3 (F := Ideal)) (congr (congrArg₂ k0_pay6 ((hs0_0 m hO t).read_unread _)
    ((hs0_1 m hO t).read_unread _)) ((hs0_3 m hO t).read_unread _))

/-- What it writes of the second moments. -/
theorem out_second (t : Fin grid0.N) : (outsAt0 m hO c t).2.2.2 = k0_pay4 (F := Ideal)
    (k0_pay7 (iblk m hO c 0 t) (iblk m hO c 1 t) (iblk m hO c 4 t)) := by
  frame_out
  exact congrArg (k0_pay4 (F := Ideal)) (congr (congrArg₂ k0_pay7 ((hs0_0 m hO t).read_unread _)
    ((hs0_1 m hO t).read_unread _)) ((hs0_4 m hO t).read_unread _))

/-- The gradients at the end. -/
abbrev newGrad : (Whole 4 384).Idx → EReal := layer 3 (grad m c) (m ((c : Thread nD τ).loc main_arg6))

/-- The first result is they. -/
theorem newGrad_eq (h : Cert.Pre_Kernel38Ideal m) : (dats m hO 0 c).arrAt 5 (cfgM m hO).N = newGrad m c :=
  (dats m hO 0 c).arrAt_eq_of_coversWhere_of_agree 5 _ (fun β => β (0 : Fin 3) = 3)
    ⟨filled, fun t _ => ⟨congrFun (index t).1.1 (0 : Fin 3), fun _ => .inl rfl⟩,
      fun β e => (reach (fun t => (index t).1.1) blocks β e).imp fun _ e => ⟨e, flush0_5 _ _⟩⟩
    (fun t _ y => (congrFun ((after0_5 m hO c t).trans (out_grad m c hO t)) y).trans ((grad_apply _ _ y).trans
      ((held m c hO h t).new_grad (index t).1.1 y _ (((cfgM m hO).win 5).rect_emb_val t y))))
    (fun _ hj => (congrFun (kept m c).1 _).trans (if_neg fun e => hj ((Nat.div_one _).trans e)).symm)

/-- The steps at the end. -/
abbrev newStep : (Whole 4 384).Idx → EReal := steps 3 (grad m c) (m ((c : Thread nD τ).loc main_arg3)) (m ((c : Thread nD τ).loc main_arg4))
  (m ((c : Thread nD τ).loc main_arg5)) (m ((c : Thread nD τ).loc main_arg7))

/-- The second result is they. -/
theorem newStep_eq (h : Cert.Pre_Kernel38Ideal m) : (dats m hO 0 c).arrAt 6 (cfgM m hO).N = newStep m c :=
  (dats m hO 0 c).arrAt_eq_of_coversWhere_of_agree 6 _ (fun β => β (0 : Fin 3) = 3)
    ⟨filled, fun t _ => ⟨congrFun (index t).1.2.1 (0 : Fin 3), fun _ => .inl rfl⟩,
      fun β e => (reach (fun t => (index t).1.2.1) blocks β e).imp fun _ e => ⟨e, flush0_6 _ _⟩⟩
    (fun t _ y => (congrFun ((after0_6 m hO c t).trans (out_step m c hO t)) y).trans ((step_apply _ _ _ _ _ y).trans
      ((held m c hO h t).new_step (index t).1.2.1 y _ (((cfgM m hO).win 6).rect_emb_val t y))))
    (fun _ hj => (congrFun (kept m c).2.1 _).trans (if_neg fun e => hj ((Nat.div_one _).trans e)).symm)

/-- The first moments at the end. -/
abbrev newFirst : (Whole 4 384).Idx → EReal := firsts 3 (grad m c) (m ((c : Thread nD τ).loc main_arg4)) (m ((c : Thread nD τ).loc main_arg8))

/-- The third result is they. -/
theorem newFirst_eq (h : Cert.Pre_Kernel38Ideal m) : (dats m hO 0 c).arrAt 7 (cfgM m hO).N = newFirst m c :=
  (dats m hO 0 c).arrAt_eq_of_coversWhere_of_agree 7 _ (fun β => β (0 : Fin 3) = 3)
    ⟨filled, fun t _ => ⟨congrFun (index t).1.2.2.1 (0 : Fin 3), fun _ => .inl rfl⟩,
      fun β e => (reach (fun t => (index t).1.2.2.1) blocks β e).imp fun _ e => ⟨e, flush0_7 _ _⟩⟩
    (fun t _ y => (congrFun ((after0_7 m hO c t).trans (out_first m c hO t)) y).trans ((first_apply _ _ _ y).trans
      ((held m c hO h t).new_first (index t).1.2.2.1 y _ (((cfgM m hO).win 7).rect_emb_val t y))))
    (fun _ hj => (congrFun (kept m c).2.2.1 _).trans (if_neg fun e => hj ((Nat.div_one _).trans e)).symm)

/-- The second moments at the end. -/
abbrev newSecond : (Whole 4 384).Idx → EReal := seconds 3 (grad m c) (m ((c : Thread nD τ).loc main_arg5)) (m ((c : Thread nD τ).loc main_arg9))

/-- The fourth result is they. -/
theorem newSecond_eq (h : Cert.Pre_Kernel38Ideal m) : (dats m hO 0 c).arrAt 8 (cfgM m hO).N = newSecond m c :=
  (dats m hO 0 c).arrAt_eq_of_coversWhere_of_agree 8 _ (fun β => β (0 : Fin 3) = 3)
    ⟨filled, fun t _ => ⟨congrFun (index t).1.2.2.2 (0 : Fin 3), fun _ => .inl rfl⟩,
      fun β e => (reach (fun t => (index t).1.2.2.2) blocks β e).imp fun _ e => ⟨e, flush0_8 _ _⟩⟩
    (fun t _ y => (congrFun ((after0_8 m hO c t).trans (out_second m c hO t)) y).trans ((second_apply _ _ _ y).trans
      ((held m c hO h t).new_second (index t).1.2.2.2 y _ (((cfgM m hO).win 8).rect_emb_val t y))))
    (fun _ hj => (congrFun (kept m c).2.2.2 _).trans (if_neg fun e => hj ((Nat.div_one _).trans e)).symm)

/-- The kernel and the reference end with the same four arrays. -/
theorem algebraic : Cert.algebraic_Kernel38Ideal_Reference38Ideal := by
  intro m g m' g' h hArgs
  have hO := inside m h
  refine ⟨fun d => newGrad m d, fun d => newStep m d, fun d => newFirst m d, fun d => newSecond m d, ?_, ?_⟩
  · refine (θ_run _ _ _).mono (fun r p d => ?_) (θ_run_and (run_main m g hO) (unchanged m g hO))
    exact ⟨((p.1 d).1 5).trans (newGrad_eq m d hO h), ((p.1 d).1 6).trans (newStep_eq m d hO h),
      ((p.1 d).1 7).trans (newFirst_eq m d hO h), ((p.1 d).1 8).trans (newSecond_eq m d hO h), p.2 d⟩
  · refine (θ_run _ _ _).mono (fun r p d => ?_) (Cert.Reference38Ideal.Value.run m' g')
    obtain ⟨r0, r1, r2, r3, kept⟩ := p d
    obtain ⟨a0, a1, a2, a3, a4, a5, a6, a7, a8, a9⟩ := hArgs d
    refine ⟨r0.trans ?_, r1.trans ?_, r2.trans ?_, r3.trans ?_, kept⟩
    all_goals
      clear r0 r1 r2 r3 kept p
      funext y
      simp only [a0, a1, a2, a3, a4, a5, a6, a7, a8, a9, newGrad, newStep, newFirst, newSecond, steps, firsts, seconds, layer, step, first,
        second, total, own, mine]
      pointwise
      rw [pick_layer _ 3 (y 0).isLt (by decide), pick]
    all_goals rfl

end L3

/-! The third layer's program. -/

namespace L2
open Cert.Kernel39Ideal Cert.Kernel39Ideal.Gen

/-- The precondition puts the blocks inside their arrays, in the rounded program. -/
theorem inside_bits (m : (ℓ : Loc Cert.Kernel39.nD Cert.Kernel39.τ Cert.Kernel39.sig) → Buf (Elt Bits) ℓ) (h : Cert.Pre_Kernel39 m) :
    Cert.Kernel39.Gen.Ok (F := Bits) m :=
  ok_bits _ (zero_or_one _ (congrFun (h 0) (ix1 0)))

variable (m : (ℓ : Loc nD τ sig) → Buf (Elt Ideal) ℓ) (c : Dev nD)

/-- The device's coordinate. -/
def mine : BitVec 32 := m ((c : Thread nD τ).loc main_arg0) (ix1 0)

/-- The precondition leaves it two values. -/
theorem mine_eq (h : Cert.Pre_Kernel39Ideal m) : mine m c = 0#32 ∨ mine m c = 1#32 := zero_or_one _ (congrFun (h c) (ix1 0))

/-- The precondition puts the blocks inside their arrays. -/
theorem inside (h : Cert.Pre_Kernel39Ideal m) : Gen.Ok (F := Ideal) m := ok _ (mine_eq m 0 h)

/-- Point `t` reads and writes block `t` of the layer's rows, whatever the table holds. -/
theorem index : ∀ t : Fin grid0.N, (cc0_transform_9 (grid0.coords t) = ![2, t.val, 0] ∧ cc0_transform_10 (grid0.coords t) = ![2, t.val, 0]
    ∧ cc0_transform_11 (grid0.coords t) = ![2, t.val, 0] ∧ cc0_transform_12 (grid0.coords t) = ![2, t.val, 0])
    ∧ cc0_transform_1 (grid0.coords t) = ![t.val, 0] ∧ cc0_transform_2 (grid0.coords t) = ![2, t.val, 0]
    ∧ cc0_transform_3 (grid0.coords t) = ![2, t.val, 0] ∧ cc0_transform_4 (grid0.coords t) = ![2, t.val, 0] := by decide +kernel

variable (hO : Gen.Ok (F := Ideal) m)

/-- It reads block `t` of the device's own half of the gradient. -/
theorem own_index (t : Fin grid0.N) : ((cfgM m hO).win 0).index t = ![(mine m c).toNat, t.val, 0] := by
  obtain rfl : c = 0 := Subsingleton.elim _ _
  have e : ((cfgM m hO).win 0).index t = ![(mine m 0).toNat, (BitVec.ofNat 32 (grid0.coords t 0).val).toNat, (0#32).toNat] :=
    congrArg (fun x : BitVec 32 => ![x.toNat, (BitVec.ofNat 32 (grid0.coords t 0).val).toNat, (0#32).toNat])
      ((congrFun (V_main_arg0 m 0) _).trans (congrArg (m ((0 : Dev nD), main_arg0)) (only_index _)))
  exact e.trans (congrArg (fun n : Nat => ![(mine m 0).toNat, n, 0]) (coord t))

/-- The gradient: the device's own half and the received one. -/
abbrev grad : (Whole 4 384).Idx → EReal :=
  total (mine m c) (m ((c : Thread nD τ).loc main_arg1)) (m ((c : Thread nD τ).loc main_arg2))

/-- A point's blocks hold its rows. -/
theorem held (h : Cert.Pre_Kernel39Ideal m) (t : Fin grid0.N) : Held (B := 4) 2 t.val (grad m c) (m ((c : Thread nD τ).loc main_arg3))
    (m ((c : Thread nD τ).loc main_arg4)) (m ((c : Thread nD τ).loc main_arg5)) (iblk m hO c 0 t) (iblk m hO c 1 t) (iblk m hO c 2 t)
    (iblk m hO c 3 t) (iblk m hO c 4 t) where
  sum y z h1 h2 := congrArg₂ (fun a b : EReal => a + b)
    ((congrFun (V_main_arg1 m c) _).trans (read_own (mine_eq m c h) (own_index m c hO t) _ y _ (((cfgM m hO).win 0).rect_emb_val t y) z h1 h2))
    ((congrFun (V_main_arg2 m c) _).trans (read_flat (index t).2.1 _ y _ (((cfgM m hO).win 1).rect_emb_val t (ix2 (y 1) (y 2))) z h1 h2))
  weight y z h0 h1 h2 := (congrFun (V_main_arg3 m c) _).trans
    (read_rows (index t).2.2.1 _ y _ (((cfgM m hO).win 2).rect_emb_val t y) z h0 h1 h2)
  first y z h0 h1 h2 := (congrFun (V_main_arg4 m c) _).trans
    (read_rows (index t).2.2.2.1 _ y _ (((cfgM m hO).win 3).rect_emb_val t y) z h0 h1 h2)
  second y z h0 h1 h2 := (congrFun (V_main_arg5 m c) _).trans
    (read_rows (index t).2.2.2.2 _ y _ (((cfgM m hO).win 4).rect_emb_val t y) z h0 h1 h2)

/-- The results find their arguments' contents. -/
theorem kept : V m c main_v0_0 = m ((c : Thread nD τ).loc main_arg6) ∧ V m c main_v0_1 = m ((c : Thread nD τ).loc main_arg7)
    ∧ V m c main_v0_2 = m ((c : Thread nD τ).loc main_arg8) ∧ V m c main_v0_3 = m ((c : Thread nD τ).loc main_arg9) := by
  refine ⟨?_, ?_, ?_, ?_⟩
  all_goals
    unfold V hostOps0
    after_results
    rfl

/-- What point `t` writes of the gradients. -/
theorem out_grad (t : Fin grid0.N) : (outsAt0 m hO c t).1 = k0_pay1 (F := Ideal) (k0_pay5 (iblk m hO c 0 t) (iblk m hO c 1 t)) := by
  frame_out
  exact congrArg (k0_pay1 (F := Ideal)) (congrArg₂ k0_pay5 ((hs0_0 m hO t).read_unread _) ((hs0_1 m hO t).read_unread _))

/-- What it writes of the steps. -/
theorem out_step (t : Fin grid0.N) : (outsAt0 m hO c t).2.1 = k0_pay2 (F := Ideal)
    (k0_pay8 (iblk m hO c 0 t) (iblk m hO c 1 t) (iblk m hO c 2 t) (iblk m hO c 3 t) (iblk m hO c 4 t)) := by
  frame_out
  exact congrArg (k0_pay2 (F := Ideal)) (congr (congr (congr (congrArg₂ k0_pay8 ((hs0_0 m hO t).read_unread _)
    ((hs0_1 m hO t).read_unread _)) ((hs0_2 m hO t).read_unread _)) ((hs0_3 m hO t).read_unread _)) ((hs0_4 m hO t).read_unread _))

/-- What it writes of the first moments. -/
theorem out_first (t : Fin grid0.N) : (outsAt0 m hO c t).2.2.1 = k0_pay3 (F := Ideal)
    (k0_pay6 (iblk m hO c 0 t) (iblk m hO c 1 t) (iblk m hO c 3 t)) := by
  frame_out
  exact congrArg (k0_pay3 (F := Ideal)) (congr (congrArg₂ k0_pay6 ((hs0_0 m hO t).read_unread _)
    ((hs0_1 m hO t).read_unread _)) ((hs0_3 m hO t).read_unread _))

/-- What it writes of the second moments. -/
theorem out_second (t : Fin grid0.N) : (outsAt0 m hO c t).2.2.2 = k0_pay4 (F := Ideal)
    (k0_pay7 (iblk m hO c 0 t) (iblk m hO c 1 t) (iblk m hO c 4 t)) := by
  frame_out
  exact congrArg (k0_pay4 (F := Ideal)) (congr (congrArg₂ k0_pay7 ((hs0_0 m hO t).read_unread _)
    ((hs0_1 m hO t).read_unread _)) ((hs0_4 m hO t).read_unread _))

/-- The gradients at the end. -/
abbrev newGrad : (Whole 4 384).Idx → EReal := layer 2 (grad m c) (m ((c : Thread nD τ).loc main_arg6))

/-- The first result is they. -/
theorem newGrad_eq (h : Cert.Pre_Kernel39Ideal m) : (dats m hO 0 c).arrAt 5 (cfgM m hO).N = newGrad m c :=
  (dats m hO 0 c).arrAt_eq_of_coversWhere_of_agree 5 _ (fun β => β (0 : Fin 3) = 2)
    ⟨filled, fun t _ => ⟨congrFun (index t).1.1 (0 : Fin 3), fun _ => .inl rfl⟩,
      fun β e => (reach (fun t => (index t).1.1) blocks β e).imp fun _ e => ⟨e, flush0_5 _ _⟩⟩
    (fun t _ y => (congrFun ((after0_5 m hO c t).trans (out_grad m c hO t)) y).trans ((grad_apply _ _ y).trans
      ((held m c hO h t).new_grad (index t).1.1 y _ (((cfgM m hO).win 5).rect_emb_val t y))))
    (fun _ hj => (congrFun (kept m c).1 _).trans (if_neg fun e => hj ((Nat.div_one _).trans e)).symm)

/-- The steps at the end. -/
abbrev newStep : (Whole 4 384).Idx → EReal := steps 2 (grad m c) (m ((c : Thread nD τ).loc main_arg3)) (m ((c : Thread nD τ).loc main_arg4))
  (m ((c : Thread nD τ).loc main_arg5)) (m ((c : Thread nD τ).loc main_arg7))

/-- The second result is they. -/
theorem newStep_eq (h : Cert.Pre_Kernel39Ideal m) : (dats m hO 0 c).arrAt 6 (cfgM m hO).N = newStep m c :=
  (dats m hO 0 c).arrAt_eq_of_coversWhere_of_agree 6 _ (fun β => β (0 : Fin 3) = 2)
    ⟨filled, fun t _ => ⟨congrFun (index t).1.2.1 (0 : Fin 3), fun _ => .inl rfl⟩,
      fun β e => (reach (fun t => (index t).1.2.1) blocks β e).imp fun _ e => ⟨e, flush0_6 _ _⟩⟩
    (fun t _ y => (congrFun ((after0_6 m hO c t).trans (out_step m c hO t)) y).trans ((step_apply _ _ _ _ _ y).trans
      ((held m c hO h t).new_step (index t).1.2.1 y _ (((cfgM m hO).win 6).rect_emb_val t y))))
    (fun _ hj => (congrFun (kept m c).2.1 _).trans (if_neg fun e => hj ((Nat.div_one _).trans e)).symm)

/-- The first moments at the end. -/
abbrev newFirst : (Whole 4 384).Idx → EReal := firsts 2 (grad m c) (m ((c : Thread nD τ).loc main_arg4)) (m ((c : Thread nD τ).loc main_arg8))

/-- The third result is they. -/
theorem newFirst_eq (h : Cert.Pre_Kernel39Ideal m) : (dats m hO 0 c).arrAt 7 (cfgM m hO).N = newFirst m c :=
  (dats m hO 0 c).arrAt_eq_of_coversWhere_of_agree 7 _ (fun β => β (0 : Fin 3) = 2)
    ⟨filled, fun t _ => ⟨congrFun (index t).1.2.2.1 (0 : Fin 3), fun _ => .inl rfl⟩,
      fun β e => (reach (fun t => (index t).1.2.2.1) blocks β e).imp fun _ e => ⟨e, flush0_7 _ _⟩⟩
    (fun t _ y => (congrFun ((after0_7 m hO c t).trans (out_first m c hO t)) y).trans ((first_apply _ _ _ y).trans
      ((held m c hO h t).new_first (index t).1.2.2.1 y _ (((cfgM m hO).win 7).rect_emb_val t y))))
    (fun _ hj => (congrFun (kept m c).2.2.1 _).trans (if_neg fun e => hj ((Nat.div_one _).trans e)).symm)

/-- The second moments at the end. -/
abbrev newSecond : (Whole 4 384).Idx → EReal := seconds 2 (grad m c) (m ((c : Thread nD τ).loc main_arg5)) (m ((c : Thread nD τ).loc main_arg9))

/-- The fourth result is they. -/
theorem newSecond_eq (h : Cert.Pre_Kernel39Ideal m) : (dats m hO 0 c).arrAt 8 (cfgM m hO).N = newSecond m c :=
  (dats m hO 0 c).arrAt_eq_of_coversWhere_of_agree 8 _ (fun β => β (0 : Fin 3) = 2)
    ⟨filled, fun t _ => ⟨congrFun (index t).1.2.2.2 (0 : Fin 3), fun _ => .inl rfl⟩,
      fun β e => (reach (fun t => (index t).1.2.2.2) blocks β e).imp fun _ e => ⟨e, flush0_8 _ _⟩⟩
    (fun t _ y => (congrFun ((after0_8 m hO c t).trans (out_second m c hO t)) y).trans ((second_apply _ _ _ y).trans
      ((held m c hO h t).new_second (index t).1.2.2.2 y _ (((cfgM m hO).win 8).rect_emb_val t y))))
    (fun _ hj => (congrFun (kept m c).2.2.2 _).trans (if_neg fun e => hj ((Nat.div_one _).trans e)).symm)

/-- The kernel and the reference end with the same four arrays. -/
theorem algebraic : Cert.algebraic_Kernel39Ideal_Reference39Ideal := by
  intro m g m' g' h hArgs
  have hO := inside m h
  refine ⟨fun d => newGrad m d, fun d => newStep m d, fun d => newFirst m d, fun d => newSecond m d, ?_, ?_⟩
  · refine (θ_run _ _ _).mono (fun r p d => ?_) (θ_run_and (run_main m g hO) (unchanged m g hO))
    exact ⟨((p.1 d).1 5).trans (newGrad_eq m d hO h), ((p.1 d).1 6).trans (newStep_eq m d hO h),
      ((p.1 d).1 7).trans (newFirst_eq m d hO h), ((p.1 d).1 8).trans (newSecond_eq m d hO h), p.2 d⟩
  · refine (θ_run _ _ _).mono (fun r p d => ?_) (Cert.Reference39Ideal.Value.run m' g')
    obtain ⟨r0, r1, r2, r3, kept⟩ := p d
    obtain ⟨a0, a1, a2, a3, a4, a5, a6, a7, a8, a9⟩ := hArgs d
    refine ⟨r0.trans ?_, r1.trans ?_, r2.trans ?_, r3.trans ?_, kept⟩
    all_goals
      clear r0 r1 r2 r3 kept p
      funext y
      simp only [a0, a1, a2, a3, a4, a5, a6, a7, a8, a9, newGrad, newStep, newFirst, newSecond, steps, firsts, seconds, layer, step, first,
        second, total, own, mine]
      pointwise
      rw [pick_layer _ 2 (y 0).isLt (by decide), pick]
    all_goals rfl

end L2

/-! The second layer's program. -/

namespace L1
open Cert.Kernel40Ideal Cert.Kernel40Ideal.Gen

/-- The precondition puts the blocks inside their arrays, in the rounded program. -/
theorem inside_bits (m : (ℓ : Loc Cert.Kernel40.nD Cert.Kernel40.τ Cert.Kernel40.sig) → Buf (Elt Bits) ℓ) (h : Cert.Pre_Kernel40 m) :
    Cert.Kernel40.Gen.Ok (F := Bits) m :=
  ok_bits _ (zero_or_one _ (congrFun (h 0) (ix1 0)))

variable (m : (ℓ : Loc nD τ sig) → Buf (Elt Ideal) ℓ) (c : Dev nD)

/-- The device's coordinate. -/
def mine : BitVec 32 := m ((c : Thread nD τ).loc main_arg0) (ix1 0)

/-- The precondition leaves it two values. -/
theorem mine_eq (h : Cert.Pre_Kernel40Ideal m) : mine m c = 0#32 ∨ mine m c = 1#32 := zero_or_one _ (congrFun (h c) (ix1 0))

/-- The precondition puts the blocks inside their arrays. -/
theorem inside (h : Cert.Pre_Kernel40Ideal m) : Gen.Ok (F := Ideal) m := ok _ (mine_eq m 0 h)

/-- Point `t` reads and writes block `t` of the layer's rows, whatever the table holds. -/
theorem index : ∀ t : Fin grid0.N, (cc0_transform_9 (grid0.coords t) = ![1, t.val, 0] ∧ cc0_transform_10 (grid0.coords t) = ![1, t.val, 0]
    ∧ cc0_transform_11 (grid0.coords t) = ![1, t.val, 0] ∧ cc0_transform_12 (grid0.coords t) = ![1, t.val, 0])
    ∧ cc0_transform_1 (grid0.coords t) = ![t.val, 0] ∧ cc0_transform_2 (grid0.coords t) = ![1, t.val, 0]
    ∧ cc0_transform_3 (grid0.coords t) = ![1, t.val, 0] ∧ cc0_transform_4 (grid0.coords t) = ![1, t.val, 0] := by decide +kernel

variable (hO : Gen.Ok (F := Ideal) m)

/-- It reads block `t` of the device's own half of the gradient. -/
theorem own_index (t : Fin grid0.N) : ((cfgM m hO).win 0).index t = ![(mine m c).toNat, t.val, 0] := by
  obtain rfl : c = 0 := Subsingleton.elim _ _
  have e : ((cfgM m hO).win 0).index t = ![(mine m 0).toNat, (BitVec.ofNat 32 (grid0.coords t 0).val).toNat, (0#32).toNat] :=
    congrArg (fun x : BitVec 32 => ![x.toNat, (BitVec.ofNat 32 (grid0.coords t 0).val).toNat, (0#32).toNat])
      ((congrFun (V_main_arg0 m 0) _).trans (congrArg (m ((0 : Dev nD), main_arg0)) (only_index _)))
  exact e.trans (congrArg (fun n : Nat => ![(mine m 0).toNat, n, 0]) (coord t))

/-- The gradient: the device's own half and the received one. -/
abbrev grad : (Whole 4 384).Idx → EReal :=
  total (mine m c) (m ((c : Thread nD τ).loc main_arg1)) (m ((c : Thread nD τ).loc main_arg2))

/-- A point's blocks hold its rows. -/
theorem held (h : Cert.Pre_Kernel40Ideal m) (t : Fin grid0.N) : Held (B := 4) 1 t.val (grad m c) (m ((c : Thread nD τ).loc main_arg3))
    (m ((c : Thread nD τ).loc main_arg4)) (m ((c : Thread nD τ).loc main_arg5)) (iblk m hO c 0 t) (iblk m hO c 1 t) (iblk m hO c 2 t)
    (iblk m hO c 3 t) (iblk m hO c 4 t) where
  sum y z h1 h2 := congrArg₂ (fun a b : EReal => a + b)
    ((congrFun (V_main_arg1 m c) _).trans (read_own (mine_eq m c h) (own_index m c hO t) _ y _ (((cfgM m hO).win 0).rect_emb_val t y) z h1 h2))
    ((congrFun (V_main_arg2 m c) _).trans (read_flat (index t).2.1 _ y _ (((cfgM m hO).win 1).rect_emb_val t (ix2 (y 1) (y 2))) z h1 h2))
  weight y z h0 h1 h2 := (congrFun (V_main_arg3 m c) _).trans
    (read_rows (index t).2.2.1 _ y _ (((cfgM m hO).win 2).rect_emb_val t y) z h0 h1 h2)
  first y z h0 h1 h2 := (congrFun (V_main_arg4 m c) _).trans
    (read_rows (index t).2.2.2.1 _ y _ (((cfgM m hO).win 3).rect_emb_val t y) z h0 h1 h2)
  second y z h0 h1 h2 := (congrFun (V_main_arg5 m c) _).trans
    (read_rows (index t).2.2.2.2 _ y _ (((cfgM m hO).win 4).rect_emb_val t y) z h0 h1 h2)

/-- The results find their arguments' contents. -/
theorem kept : V m c main_v0_0 = m ((c : Thread nD τ).loc main_arg6) ∧ V m c main_v0_1 = m ((c : Thread nD τ).loc main_arg7)
    ∧ V m c main_v0_2 = m ((c : Thread nD τ).loc main_arg8) ∧ V m c main_v0_3 = m ((c : Thread nD τ).loc main_arg9) := by
  refine ⟨?_, ?_, ?_, ?_⟩
  all_goals
    unfold V hostOps0
    after_results
    rfl

/-- What point `t` writes of the gradients. -/
theorem out_grad (t : Fin grid0.N) : (outsAt0 m hO c t).1 = k0_pay1 (F := Ideal) (k0_pay5 (iblk m hO c 0 t) (iblk m hO c 1 t)) := by
  frame_out
  exact congrArg (k0_pay1 (F := Ideal)) (congrArg₂ k0_pay5 ((hs0_0 m hO t).read_unread _) ((hs0_1 m hO t).read_unread _))

/-- What it writes of the steps. -/
theorem out_step (t : Fin grid0.N) : (outsAt0 m hO c t).2.1 = k0_pay2 (F := Ideal)
    (k0_pay8 (iblk m hO c 0 t) (iblk m hO c 1 t) (iblk m hO c 2 t) (iblk m hO c 3 t) (iblk m hO c 4 t)) := by
  frame_out
  exact congrArg (k0_pay2 (F := Ideal)) (congr (congr (congr (congrArg₂ k0_pay8 ((hs0_0 m hO t).read_unread _)
    ((hs0_1 m hO t).read_unread _)) ((hs0_2 m hO t).read_unread _)) ((hs0_3 m hO t).read_unread _)) ((hs0_4 m hO t).read_unread _))

/-- What it writes of the first moments. -/
theorem out_first (t : Fin grid0.N) : (outsAt0 m hO c t).2.2.1 = k0_pay3 (F := Ideal)
    (k0_pay6 (iblk m hO c 0 t) (iblk m hO c 1 t) (iblk m hO c 3 t)) := by
  frame_out
  exact congrArg (k0_pay3 (F := Ideal)) (congr (congrArg₂ k0_pay6 ((hs0_0 m hO t).read_unread _)
    ((hs0_1 m hO t).read_unread _)) ((hs0_3 m hO t).read_unread _))

/-- What it writes of the second moments. -/
theorem out_second (t : Fin grid0.N) : (outsAt0 m hO c t).2.2.2 = k0_pay4 (F := Ideal)
    (k0_pay7 (iblk m hO c 0 t) (iblk m hO c 1 t) (iblk m hO c 4 t)) := by
  frame_out
  exact congrArg (k0_pay4 (F := Ideal)) (congr (congrArg₂ k0_pay7 ((hs0_0 m hO t).read_unread _)
    ((hs0_1 m hO t).read_unread _)) ((hs0_4 m hO t).read_unread _))

/-- The gradients at the end. -/
abbrev newGrad : (Whole 4 384).Idx → EReal := layer 1 (grad m c) (m ((c : Thread nD τ).loc main_arg6))

/-- The first result is they. -/
theorem newGrad_eq (h : Cert.Pre_Kernel40Ideal m) : (dats m hO 0 c).arrAt 5 (cfgM m hO).N = newGrad m c :=
  (dats m hO 0 c).arrAt_eq_of_coversWhere_of_agree 5 _ (fun β => β (0 : Fin 3) = 1)
    ⟨filled, fun t _ => ⟨congrFun (index t).1.1 (0 : Fin 3), fun _ => .inl rfl⟩,
      fun β e => (reach (fun t => (index t).1.1) blocks β e).imp fun _ e => ⟨e, flush0_5 _ _⟩⟩
    (fun t _ y => (congrFun ((after0_5 m hO c t).trans (out_grad m c hO t)) y).trans ((grad_apply _ _ y).trans
      ((held m c hO h t).new_grad (index t).1.1 y _ (((cfgM m hO).win 5).rect_emb_val t y))))
    (fun _ hj => (congrFun (kept m c).1 _).trans (if_neg fun e => hj ((Nat.div_one _).trans e)).symm)

/-- The steps at the end. -/
abbrev newStep : (Whole 4 384).Idx → EReal := steps 1 (grad m c) (m ((c : Thread nD τ).loc main_arg3)) (m ((c : Thread nD τ).loc main_arg4))
  (m ((c : Thread nD τ).loc main_arg5)) (m ((c : Thread nD τ).loc main_arg7))

/-- The second result is they. -/
theorem newStep_eq (h : Cert.Pre_Kernel40Ideal m) : (dats m hO 0 c).arrAt 6 (cfgM m hO).N = newStep m c :=
  (dats m hO 0 c).arrAt_eq_of_coversWhere_of_agree 6 _ (fun β => β (0 : Fin 3) = 1)
    ⟨filled, fun t _ => ⟨congrFun (index t).1.2.1 (0 : Fin 3), fun _ => .inl rfl⟩,
      fun β e => (reach (fun t => (index t).1.2.1) blocks β e).imp fun _ e => ⟨e, flush0_6 _ _⟩⟩
    (fun t _ y => (congrFun ((after0_6 m hO c t).trans (out_step m c hO t)) y).trans ((step_apply _ _ _ _ _ y).trans
      ((held m c hO h t).new_step (index t).1.2.1 y _ (((cfgM m hO).win 6).rect_emb_val t y))))
    (fun _ hj => (congrFun (kept m c).2.1 _).trans (if_neg fun e => hj ((Nat.div_one _).trans e)).symm)

/-- The first moments at the end. -/
abbrev newFirst : (Whole 4 384).Idx → EReal := firsts 1 (grad m c) (m ((c : Thread nD τ).loc main_arg4)) (m ((c : Thread nD τ).loc main_arg8))

/-- The third result is they. -/
theorem newFirst_eq (h : Cert.Pre_Kernel40Ideal m) : (dats m hO 0 c).arrAt 7 (cfgM m hO).N = newFirst m c :=
  (dats m hO 0 c).arrAt_eq_of_coversWhere_of_agree 7 _ (fun β => β (0 : Fin 3) = 1)
    ⟨filled, fun t _ => ⟨congrFun (index t).1.2.2.1 (0 : Fin 3), fun _ => .inl rfl⟩,
      fun β e => (reach (fun t => (index t).1.2.2.1) blocks β e).imp fun _ e => ⟨e, flush0_7 _ _⟩⟩
    (fun t _ y => (congrFun ((after0_7 m hO c t).trans (out_first m c hO t)) y).trans ((first_apply _ _ _ y).trans
      ((held m c hO h t).new_first (index t).1.2.2.1 y _ (((cfgM m hO).win 7).rect_emb_val t y))))
    (fun _ hj => (congrFun (kept m c).2.2.1 _).trans (if_neg fun e => hj ((Nat.div_one _).trans e)).symm)

/-- The second moments at the end. -/
abbrev newSecond : (Whole 4 384).Idx → EReal := seconds 1 (grad m c) (m ((c : Thread nD τ).loc main_arg5)) (m ((c : Thread nD τ).loc main_arg9))

/-- The fourth result is they. -/
theorem newSecond_eq (h : Cert.Pre_Kernel40Ideal m) : (dats m hO 0 c).arrAt 8 (cfgM m hO).N = newSecond m c :=
  (dats m hO 0 c).arrAt_eq_of_coversWhere_of_agree 8 _ (fun β => β (0 : Fin 3) = 1)
    ⟨filled, fun t _ => ⟨congrFun (index t).1.2.2.2 (0 : Fin 3), fun _ => .inl rfl⟩,
      fun β e => (reach (fun t => (index t).1.2.2.2) blocks β e).imp fun _ e => ⟨e, flush0_8 _ _⟩⟩
    (fun t _ y => (congrFun ((after0_8 m hO c t).trans (out_second m c hO t)) y).trans ((second_apply _ _ _ y).trans
      ((held m c hO h t).new_second (index t).1.2.2.2 y _ (((cfgM m hO).win 8).rect_emb_val t y))))
    (fun _ hj => (congrFun (kept m c).2.2.2 _).trans (if_neg fun e => hj ((Nat.div_one _).trans e)).symm)

/-- The kernel and the reference end with the same four arrays. -/
theorem algebraic : Cert.algebraic_Kernel40Ideal_Reference40Ideal := by
  intro m g m' g' h hArgs
  have hO := inside m h
  refine ⟨fun d => newGrad m d, fun d => newStep m d, fun d => newFirst m d, fun d => newSecond m d, ?_, ?_⟩
  · refine (θ_run _ _ _).mono (fun r p d => ?_) (θ_run_and (run_main m g hO) (unchanged m g hO))
    exact ⟨((p.1 d).1 5).trans (newGrad_eq m d hO h), ((p.1 d).1 6).trans (newStep_eq m d hO h),
      ((p.1 d).1 7).trans (newFirst_eq m d hO h), ((p.1 d).1 8).trans (newSecond_eq m d hO h), p.2 d⟩
  · refine (θ_run _ _ _).mono (fun r p d => ?_) (Cert.Reference40Ideal.Value.run m' g')
    obtain ⟨r0, r1, r2, r3, kept⟩ := p d
    obtain ⟨a0, a1, a2, a3, a4, a5, a6, a7, a8, a9⟩ := hArgs d
    refine ⟨r0.trans ?_, r1.trans ?_, r2.trans ?_, r3.trans ?_, kept⟩
    all_goals
      clear r0 r1 r2 r3 kept p
      funext y
      simp only [a0, a1, a2, a3, a4, a5, a6, a7, a8, a9, newGrad, newStep, newFirst, newSecond, steps, firsts, seconds, layer, step, first,
        second, total, own, mine]
      pointwise
      rw [pick_layer _ 1 (y 0).isLt (by decide), pick]
    all_goals rfl

end L1

/-! The first layer's program. -/

namespace L0
open Cert.Kernel41Ideal Cert.Kernel41Ideal.Gen

/-- The precondition puts the blocks inside their arrays, in the rounded program. -/
theorem inside_bits (m : (ℓ : Loc Cert.Kernel41.nD Cert.Kernel41.τ Cert.Kernel41.sig) → Buf (Elt Bits) ℓ) (h : Cert.Pre_Kernel41 m) :
    Cert.Kernel41.Gen.Ok (F := Bits) m :=
  ok_bits _ (zero_or_one _ (congrFun (h 0) (ix1 0)))

variable (m : (ℓ : Loc nD τ sig) → Buf (Elt Ideal) ℓ) (c : Dev nD)

/-- The device's coordinate. -/
def mine : BitVec 32 := m ((c : Thread nD τ).loc main_arg0) (ix1 0)

/-- The precondition leaves it two values. -/
theorem mine_eq (h : Cert.Pre_Kernel41Ideal m) : mine m c = 0#32 ∨ mine m c = 1#32 := zero_or_one _ (congrFun (h c) (ix1 0))

/-- The precondition puts the blocks inside their arrays. -/
theorem inside (h : Cert.Pre_Kernel41Ideal m) : Gen.Ok (F := Ideal) m := ok _ (mine_eq m 0 h)

/-- Point `t` reads and writes block `t` of the layer's rows, whatever the table holds. -/
theorem index : ∀ t : Fin grid0.N, (cc0_transform_9 (grid0.coords t) = ![0, t.val, 0] ∧ cc0_transform_10 (grid0.coords t) = ![0, t.val, 0]
    ∧ cc0_transform_11 (grid0.coords t) = ![0, t.val, 0] ∧ cc0_transform_12 (grid0.coords t) = ![0, t.val, 0])
    ∧ cc0_transform_1 (grid0.coords t) = ![t.val, 0] ∧ cc0_transform_2 (grid0.coords t) = ![0, t.val, 0]
    ∧ cc0_transform_3 (grid0.coords t) = ![0, t.val, 0] ∧ cc0_transform_4 (grid0.coords t) = ![0, t.val, 0] := by decide +kernel

variable (hO : Gen.Ok (F := Ideal) m)

/-- It reads block `t` of the device's own half of the gradient. -/
theorem own_index (t : Fin grid0.N) : ((cfgM m hO).win 0).index t = ![(mine m c).toNat, t.val, 0] := by
  obtain rfl : c = 0 := Subsingleton.elim _ _
  have e : ((cfgM m hO).win 0).index t = ![(mine m 0).toNat, (BitVec.ofNat 32 (grid0.coords t 0).val).toNat, (0#32).toNat] :=
    congrArg (fun x : BitVec 32 => ![x.toNat, (BitVec.ofNat 32 (grid0.coords t 0).val).toNat, (0#32).toNat])
      ((congrFun (V_main_arg0 m 0) _).trans (congrArg (m ((0 : Dev nD), main_arg0)) (only_index _)))
  exact e.trans (congrArg (fun n : Nat => ![(mine m 0).toNat, n, 0]) (coord t))

/-- The gradient: the device's own half and the received one. -/
abbrev grad : (Whole 4 384).Idx → EReal :=
  total (mine m c) (m ((c : Thread nD τ).loc main_arg1)) (m ((c : Thread nD τ).loc main_arg2))

/-- A point's blocks hold its rows. -/
theorem held (h : Cert.Pre_Kernel41Ideal m) (t : Fin grid0.N) : Held (B := 4) 0 t.val (grad m c) (m ((c : Thread nD τ).loc main_arg3))
    (m ((c : Thread nD τ).loc main_arg4)) (m ((c : Thread nD τ).loc main_arg5)) (iblk m hO c 0 t) (iblk m hO c 1 t) (iblk m hO c 2 t)
    (iblk m hO c 3 t) (iblk m hO c 4 t) where
  sum y z h1 h2 := congrArg₂ (fun a b : EReal => a + b)
    ((congrFun (V_main_arg1 m c) _).trans (read_own (mine_eq m c h) (own_index m c hO t) _ y _ (((cfgM m hO).win 0).rect_emb_val t y) z h1 h2))
    ((congrFun (V_main_arg2 m c) _).trans (read_flat (index t).2.1 _ y _ (((cfgM m hO).win 1).rect_emb_val t (ix2 (y 1) (y 2))) z h1 h2))
  weight y z h0 h1 h2 := (congrFun (V_main_arg3 m c) _).trans
    (read_rows (index t).2.2.1 _ y _ (((cfgM m hO).win 2).rect_emb_val t y) z h0 h1 h2)
  first y z h0 h1 h2 := (congrFun (V_main_arg4 m c) _).trans
    (read_rows (index t).2.2.2.1 _ y _ (((cfgM m hO).win 3).rect_emb_val t y) z h0 h1 h2)
  second y z h0 h1 h2 := (congrFun (V_main_arg5 m c) _).trans
    (read_rows (index t).2.2.2.2 _ y _ (((cfgM m hO).win 4).rect_emb_val t y) z h0 h1 h2)

/-- The results find their arguments' contents. -/
theorem kept : V m c main_v0_0 = m ((c : Thread nD τ).loc main_arg6) ∧ V m c main_v0_1 = m ((c : Thread nD τ).loc main_arg7)
    ∧ V m c main_v0_2 = m ((c : Thread nD τ).loc main_arg8) ∧ V m c main_v0_3 = m ((c : Thread nD τ).loc main_arg9) := by
  refine ⟨?_, ?_, ?_, ?_⟩
  all_goals
    unfold V hostOps0
    after_results
    rfl

/-- What point `t` writes of the gradients. -/
theorem out_grad (t : Fin grid0.N) : (outsAt0 m hO c t).1 = k0_pay1 (F := Ideal) (k0_pay5 (iblk m hO c 0 t) (iblk m hO c 1 t)) := by
  frame_out
  exact congrArg (k0_pay1 (F := Ideal)) (congrArg₂ k0_pay5 ((hs0_0 m hO t).read_unread _) ((hs0_1 m hO t).read_unread _))

/-- What it writes of the steps. -/
theorem out_step (t : Fin grid0.N) : (outsAt0 m hO c t).2.1 = k0_pay2 (F := Ideal)
    (k0_pay8 (iblk m hO c 0 t) (iblk m hO c 1 t) (iblk m hO c 2 t) (iblk m hO c 3 t) (iblk m hO c 4 t)) := by
  frame_out
  exact congrArg (k0_pay2 (F := Ideal)) (congr (congr (congr (congrArg₂ k0_pay8 ((hs0_0 m hO t).read_unread _)
    ((hs0_1 m hO t).read_unread _)) ((hs0_2 m hO t).read_unread _)) ((hs0_3 m hO t).read_unread _)) ((hs0_4 m hO t).read_unread _))

/-- What it writes of the first moments. -/
theorem out_first (t : Fin grid0.N) : (outsAt0 m hO c t).2.2.1 = k0_pay3 (F := Ideal)
    (k0_pay6 (iblk m hO c 0 t) (iblk m hO c 1 t) (iblk m hO c 3 t)) := by
  frame_out
  exact congrArg (k0_pay3 (F := Ideal)) (congr (congrArg₂ k0_pay6 ((hs0_0 m hO t).read_unread _)
    ((hs0_1 m hO t).read_unread _)) ((hs0_3 m hO t).read_unread _))

/-- What it writes of the second moments. -/
theorem out_second (t : Fin grid0.N) : (outsAt0 m hO c t).2.2.2 = k0_pay4 (F := Ideal)
    (k0_pay7 (iblk m hO c 0 t) (iblk m hO c 1 t) (iblk m hO c 4 t)) := by
  frame_out
  exact congrArg (k0_pay4 (F := Ideal)) (congr (congrArg₂ k0_pay7 ((hs0_0 m hO t).read_unread _)
    ((hs0_1 m hO t).read_unread _)) ((hs0_4 m hO t).read_unread _))

/-- The gradients at the end. -/
abbrev newGrad : (Whole 4 384).Idx → EReal := layer 0 (grad m c) (m ((c : Thread nD τ).loc main_arg6))

/-- The first result is they. -/
theorem newGrad_eq (h : Cert.Pre_Kernel41Ideal m) : (dats m hO 0 c).arrAt 5 (cfgM m hO).N = newGrad m c :=
  (dats m hO 0 c).arrAt_eq_of_coversWhere_of_agree 5 _ (fun β => β (0 : Fin 3) = 0)
    ⟨filled, fun t _ => ⟨congrFun (index t).1.1 (0 : Fin 3), fun _ => .inl rfl⟩,
      fun β e => (reach (fun t => (index t).1.1) blocks β e).imp fun _ e => ⟨e, flush0_5 _ _⟩⟩
    (fun t _ y => (congrFun ((after0_5 m hO c t).trans (out_grad m c hO t)) y).trans ((grad_apply _ _ y).trans
      ((held m c hO h t).new_grad (index t).1.1 y _ (((cfgM m hO).win 5).rect_emb_val t y))))
    (fun _ hj => (congrFun (kept m c).1 _).trans (if_neg fun e => hj ((Nat.div_one _).trans e)).symm)

/-- The steps at the end. -/
abbrev newStep : (Whole 4 384).Idx → EReal := steps 0 (grad m c) (m ((c : Thread nD τ).loc main_arg3)) (m ((c : Thread nD τ).loc main_arg4))
  (m ((c : Thread nD τ).loc main_arg5)) (m ((c : Thread nD τ).loc main_arg7))

/-- The second result is they. -/
theorem newStep_eq (h : Cert.Pre_Kernel41Ideal m) : (dats m hO 0 c).arrAt 6 (cfgM m hO).N = newStep m c :=
  (dats m hO 0 c).arrAt_eq_of_coversWhere_of_agree 6 _ (fun β => β (0 : Fin 3) = 0)
    ⟨filled, fun t _ => ⟨congrFun (index t).1.2.1 (0 : Fin 3), fun _ => .inl rfl⟩,
      fun β e => (reach (fun t => (index t).1.2.1) blocks β e).imp fun _ e => ⟨e, flush0_6 _ _⟩⟩
    (fun t _ y => (congrFun ((after0_6 m hO c t).trans (out_step m c hO t)) y).trans ((step_apply _ _ _ _ _ y).trans
      ((held m c hO h t).new_step (index t).1.2.1 y _ (((cfgM m hO).win 6).rect_emb_val t y))))
    (fun _ hj => (congrFun (kept m c).2.1 _).trans (if_neg fun e => hj ((Nat.div_one _).trans e)).symm)

/-- The first moments at the end. -/
abbrev newFirst : (Whole 4 384).Idx → EReal := firsts 0 (grad m c) (m ((c : Thread nD τ).loc main_arg4)) (m ((c : Thread nD τ).loc main_arg8))

/-- The third result is they. -/
theorem newFirst_eq (h : Cert.Pre_Kernel41Ideal m) : (dats m hO 0 c).arrAt 7 (cfgM m hO).N = newFirst m c :=
  (dats m hO 0 c).arrAt_eq_of_coversWhere_of_agree 7 _ (fun β => β (0 : Fin 3) = 0)
    ⟨filled, fun t _ => ⟨congrFun (index t).1.2.2.1 (0 : Fin 3), fun _ => .inl rfl⟩,
      fun β e => (reach (fun t => (index t).1.2.2.1) blocks β e).imp fun _ e => ⟨e, flush0_7 _ _⟩⟩
    (fun t _ y => (congrFun ((after0_7 m hO c t).trans (out_first m c hO t)) y).trans ((first_apply _ _ _ y).trans
      ((held m c hO h t).new_first (index t).1.2.2.1 y _ (((cfgM m hO).win 7).rect_emb_val t y))))
    (fun _ hj => (congrFun (kept m c).2.2.1 _).trans (if_neg fun e => hj ((Nat.div_one _).trans e)).symm)

/-- The second moments at the end. -/
abbrev newSecond : (Whole 4 384).Idx → EReal := seconds 0 (grad m c) (m ((c : Thread nD τ).loc main_arg5)) (m ((c : Thread nD τ).loc main_arg9))

/-- The fourth result is they. -/
theorem newSecond_eq (h : Cert.Pre_Kernel41Ideal m) : (dats m hO 0 c).arrAt 8 (cfgM m hO).N = newSecond m c :=
  (dats m hO 0 c).arrAt_eq_of_coversWhere_of_agree 8 _ (fun β => β (0 : Fin 3) = 0)
    ⟨filled, fun t _ => ⟨congrFun (index t).1.2.2.2 (0 : Fin 3), fun _ => .inl rfl⟩,
      fun β e => (reach (fun t => (index t).1.2.2.2) blocks β e).imp fun _ e => ⟨e, flush0_8 _ _⟩⟩
    (fun t _ y => (congrFun ((after0_8 m hO c t).trans (out_second m c hO t)) y).trans ((second_apply _ _ _ y).trans
      ((held m c hO h t).new_second (index t).1.2.2.2 y _ (((cfgM m hO).win 8).rect_emb_val t y))))
    (fun _ hj => (congrFun (kept m c).2.2.2 _).trans (if_neg fun e => hj ((Nat.div_one _).trans e)).symm)

/-- The kernel and the reference end with the same four arrays. -/
theorem algebraic : Cert.algebraic_Kernel41Ideal_Reference41Ideal := by
  intro m g m' g' h hArgs
  have hO := inside m h
  refine ⟨fun d => newGrad m d, fun d => newStep m d, fun d => newFirst m d, fun d => newSecond m d, ?_, ?_⟩
  · refine (θ_run _ _ _).mono (fun r p d => ?_) (θ_run_and (run_main m g hO) (unchanged m g hO))
    exact ⟨((p.1 d).1 5).trans (newGrad_eq m d hO h), ((p.1 d).1 6).trans (newStep_eq m d hO h),
      ((p.1 d).1 7).trans (newFirst_eq m d hO h), ((p.1 d).1 8).trans (newSecond_eq m d hO h), p.2 d⟩
  · refine (θ_run _ _ _).mono (fun r p d => ?_) (Cert.Reference41Ideal.Value.run m' g')
    obtain ⟨r0, r1, r2, r3, kept⟩ := p d
    obtain ⟨a0, a1, a2, a3, a4, a5, a6, a7, a8, a9⟩ := hArgs d
    refine ⟨r0.trans ?_, r1.trans ?_, r2.trans ?_, r3.trans ?_, kept⟩
    all_goals
      clear r0 r1 r2 r3 kept p
      funext y
      simp only [a0, a1, a2, a3, a4, a5, a6, a7, a8, a9, newGrad, newStep, newFirst, newSecond, steps, firsts, seconds, layer, step, first,
        second, total, own, mine]
      pointwise
      rw [pick_layer _ 0 (y 0).isLt (by decide), pick]
    all_goals rfl

end L0

end Cert.Opt.Conv
end
-- ==== Proof.lean ====
/- The proof of the certificate's claim: the frames of every program, that idealizing changed no operation, and the value claim of each kernel. -/
module

public import proofs.«01_k».proof.Defs
public import proofs.«01_k».proof.Proof.Gen.Kernel.Frame
public import proofs.«01_k».proof.Proof.Gen.Kernel2.Frame
public import proofs.«01_k».proof.Proof.Gen.Pre_finite
public import proofs.«01_k».proof.Proof.Gen.Pre_finite2
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Bwd.Equation
public import proofs.«01_k».proof.Proof.Ffn.Dh
public import proofs.«01_k».proof.Proof.Ffn.DwDown
public import proofs.«01_k».proof.Proof.Ffn.Dx
public import proofs.«01_k».proof.Proof.Ffn.DwGu
public import proofs.«01_k».proof.Proof.Ffn.Up
public import proofs.«01_k».proof.Proof.Ffn.Down
public import proofs.«01_k».proof.Proof.Mix.In
public import proofs.«01_k».proof.Proof.Mix.Dx
public import proofs.«01_k».proof.Proof.Mix.Dw
public import proofs.«01_k».proof.Proof.Mix.Ssm
public import proofs.«01_k».proof.Proof.Mix.Merge
public import proofs.«01_k».proof.Proof.Mix.DMerge
public import proofs.«01_k».proof.Proof.Mix.DwOut
public import proofs.«01_k».proof.Proof.Mix.DBranch
public import proofs.«01_k».proof.Proof.Mix.DwBranch
public import proofs.«01_k».proof.Proof.Mix.Glu
public import proofs.«01_k».proof.Proof.Gen.Kernel42.Frame
public import proofs.«01_k».proof.Proof.Gen.Kernel43.Frame
public import proofs.«01_k».proof.Proof.Gen.Kernel44.Frame
public import proofs.«01_k».proof.Proof.Gen.Kernel45.Frame
public import proofs.«01_k».proof.Proof.Gen.Kernel46.Frame
public import proofs.«01_k».proof.Proof.Gen.Kernel47.Frame
public import proofs.«01_k».proof.Proof.Gen.Kernel48.Frame
public import proofs.«01_k».proof.Proof.Opt.Loss
public import proofs.«01_k».proof.Proof.Opt.Small
public import proofs.«01_k».proof.Proof.Opt.Gu
public import proofs.«01_k».proof.Proof.Opt.Down
public import proofs.«01_k».proof.Proof.Opt.Br
public import proofs.«01_k».proof.Proof.Opt.Win
public import proofs.«01_k».proof.Proof.Opt.Glu
public import proofs.«01_k».proof.Proof.Opt.Out
public import proofs.«01_k».proof.Proof.Opt.Conv
public import proofs.«01_k».proof.Proof.Gen.Pre_pair
public import proofs.«01_k».proof.Proof.Gen.Pre_pair2
public import proofs.«01_k».proof.Proof.Gen.Pre_pair3
public import proofs.«01_k».proof.Proof.Gen.Pre_pair4
public import proofs.«01_k».proof.Proof.Gen.Pre_pair5
public import proofs.«01_k».proof.Proof.Gen.Pre_pair6
public import proofs.«01_k».proof.Proof.Gen.Pre_pair7
public import Idealize.ShloMosaic.Adequacy
public import Idealize.ShloMosaic.Init

@[expose] public section

noncomputable section

namespace Cert.Proof

open Idealize.ShloMosaic

/-- The backward scan's reference runs and leaves its arguments unchanged; it declares no semaphore. -/
theorem referenceFrame : Cert.quiescent_ReferenceIdeal := fun m g _ =>
  (θ_run _ _ _).mono (fun r h => ⟨fun c => (h c).2.2.2.2, sem_eq_zero_of_no_sems (by decide) r.2⟩) (Cert.ReferenceIdeal.Value.run m g)

/-- Everything claimed: the frames, that the ideal programs are the printed ones, and that each kernel's results are its
    reference's. A reference declares no semaphore, and its run leaves the arguments unchanged. -/
theorem claim : Cert.Claim := ⟨
  Kernel.Gen.facts, KernelIdeal.Gen.facts, ReferenceIdeal.Gen.facts,
  Kernel2.Gen.facts, Kernel2Ideal.Gen.facts, Reference2Ideal.Gen.facts,
  Kernel3.Gen.facts, Kernel3Ideal.Gen.facts, Reference3Ideal.Gen.facts,
  Kernel4.Gen.facts, Kernel4Ideal.Gen.facts, Reference4Ideal.Gen.facts,
  Kernel5.Gen.facts, Kernel5Ideal.Gen.facts, Reference5Ideal.Gen.facts,
  Kernel6.Gen.facts, Kernel6Ideal.Gen.facts, Reference6Ideal.Gen.facts,
  Kernel7.Gen.facts, Kernel7Ideal.Gen.facts, Reference7Ideal.Gen.facts,
  Kernel8.Gen.facts, Kernel8Ideal.Gen.facts, Reference8Ideal.Gen.facts,
  Kernel9.Gen.facts, Kernel9Ideal.Gen.facts, Reference9Ideal.Gen.facts,
  Kernel10.Gen.facts, Kernel10Ideal.Gen.facts, Reference10Ideal.Gen.facts,
  Kernel11.Gen.facts, Kernel11Ideal.Gen.facts, Reference11Ideal.Gen.facts,
  Kernel12.Gen.facts, Kernel12Ideal.Gen.facts, Reference12Ideal.Gen.facts,
  Kernel13.Gen.facts, Kernel13Ideal.Gen.facts, Reference13Ideal.Gen.facts,
  Kernel14.Gen.facts, Kernel14Ideal.Gen.facts, Reference14Ideal.Gen.facts,
  Kernel15.Gen.facts, Kernel15Ideal.Gen.facts, Reference15Ideal.Gen.facts,
  Kernel16.Gen.facts, Kernel16Ideal.Gen.facts, Reference16Ideal.Gen.facts,
  Kernel17.Gen.facts, Kernel17Ideal.Gen.facts, Reference17Ideal.Gen.facts,
  Kernel18.Gen.facts, Kernel18Ideal.Gen.facts, Reference18Ideal.Gen.facts,
  Kernel19.Gen.facts, Kernel19Ideal.Gen.facts, Reference19Ideal.Gen.facts,
  Kernel20.Gen.facts, Kernel20Ideal.Gen.facts, Reference20Ideal.Gen.facts,
  Kernel21.Gen.facts, Kernel21Ideal.Gen.facts, Reference21Ideal.Gen.facts,
  Kernel22.Gen.facts, Kernel22Ideal.Gen.facts, Reference22Ideal.Gen.facts,
  Kernel23.Gen.facts, Kernel23Ideal.Gen.facts, Reference23Ideal.Gen.facts,
  Kernel24.Gen.facts, Kernel24Ideal.Gen.facts, Reference24Ideal.Gen.facts,
  Kernel25.Gen.facts, Kernel25Ideal.Gen.facts, Reference25Ideal.Gen.facts,
  Kernel26.Gen.facts, Kernel26Ideal.Gen.facts, Reference26Ideal.Gen.facts,
  Kernel27.Gen.facts, Kernel27Ideal.Gen.facts, Reference27Ideal.Gen.facts,
  Kernel28.Gen.facts, Kernel28Ideal.Gen.facts, Reference28Ideal.Gen.facts,
  Kernel29.Gen.facts, Kernel29Ideal.Gen.facts, Reference29Ideal.Gen.facts,
  Kernel30.Gen.facts, Kernel30Ideal.Gen.facts, Reference30Ideal.Gen.facts,
  Kernel31.Gen.facts, Kernel31Ideal.Gen.facts, Reference31Ideal.Gen.facts,
  Kernel32.Gen.facts, Kernel32Ideal.Gen.facts, Reference32Ideal.Gen.facts,
  Kernel33.Gen.facts, Kernel33Ideal.Gen.facts, Reference33Ideal.Gen.facts,
  Kernel34.Gen.facts, Kernel34Ideal.Gen.facts, Reference34Ideal.Gen.facts,
  Kernel35.Gen.facts, Kernel35Ideal.Gen.facts, Reference35Ideal.Gen.facts,
  Kernel36.Gen.facts, Kernel36Ideal.Gen.facts, Reference36Ideal.Gen.facts,
  Kernel37.Gen.facts, Kernel37Ideal.Gen.facts, Reference37Ideal.Gen.facts,
  Kernel38.Gen.facts, Kernel38Ideal.Gen.facts, Reference38Ideal.Gen.facts,
  Kernel39.Gen.facts, Kernel39Ideal.Gen.facts, Reference39Ideal.Gen.facts,
  Kernel40.Gen.facts, Kernel40Ideal.Gen.facts, Reference40Ideal.Gen.facts,
  Kernel41.Gen.facts, Kernel41Ideal.Gen.facts, Reference41Ideal.Gen.facts,
  Kernel42.Gen.facts, Kernel42Ideal.Gen.facts, Reference42Ideal.Gen.facts,
  Kernel43.Gen.facts, Kernel43Ideal.Gen.facts, Reference43Ideal.Gen.facts,
  Kernel44.Gen.facts, Kernel44Ideal.Gen.facts, Reference44Ideal.Gen.facts,
  Kernel45.Gen.facts, Kernel45Ideal.Gen.facts, Reference45Ideal.Gen.facts,
  Kernel46.Gen.facts, Kernel46Ideal.Gen.facts, Reference46Ideal.Gen.facts,
  Kernel47.Gen.facts, Kernel47Ideal.Gen.facts, Reference47Ideal.Gen.facts,
  Kernel48.Gen.facts, Kernel48Ideal.Gen.facts, Reference48Ideal.Gen.facts,
  Pre_finite.Gen.facts, Pre_finite2.Gen.facts, Pre_pair.Gen.facts, Pre_pair2.Gen.facts, Pre_pair3.Gen.facts, Pre_pair4.Gen.facts, Pre_pair5.Gen.facts, Pre_pair6.Gen.facts, Pre_pair7.Gen.facts,
  fun m ρ _ => Kernel.Gen.frame m ρ, fun m ρ _ => KernelIdeal.Gen.frame m ρ, referenceFrame,
  fun m ρ _ => Kernel2.Gen.frame m ρ, fun m ρ _ => Kernel2Ideal.Gen.frame m ρ,
    fun m g _ => (θ_run _ _ _).mono (fun r h => ⟨fun c => (h c).2.2, sem_eq_zero_of_no_sems (by decide) r.2⟩) (Reference2Ideal.Value.run m g),
  fun m ρ _ => Kernel3.Gen.frame m ρ, fun m ρ _ => Kernel3Ideal.Gen.frame m ρ,
    fun m g _ => (θ_run _ _ _).mono (fun r h => ⟨fun c => (h c).2, sem_eq_zero_of_no_sems (by decide) r.2⟩) (Reference3Ideal.Value.run m g),
  fun m ρ _ => Kernel4.Gen.frame m ρ, fun m ρ _ => Kernel4Ideal.Gen.frame m ρ,
    fun m g _ => (θ_run _ _ _).mono (fun r h => ⟨fun c => (h c).2, sem_eq_zero_of_no_sems (by decide) r.2⟩) (Reference4Ideal.Value.run m g),
  fun m ρ _ => Kernel5.Gen.frame m ρ, fun m ρ _ => Kernel5Ideal.Gen.frame m ρ,
    fun m g _ => (θ_run _ _ _).mono (fun r h => ⟨fun c => (h c).2, sem_eq_zero_of_no_sems (by decide) r.2⟩) (Reference5Ideal.Value.run m g),
  fun m ρ _ => Kernel6.Gen.frame m ρ, fun m ρ _ => Kernel6Ideal.Gen.frame m ρ,
    fun m g _ => (θ_run _ _ _).mono (fun r h => ⟨fun c => (h c).2, sem_eq_zero_of_no_sems (by decide) r.2⟩) (Reference6Ideal.Value.run m g),
  fun m ρ _ => Kernel7.Gen.frame m ρ, fun m ρ _ => Kernel7Ideal.Gen.frame m ρ,
    fun m g _ => (θ_run _ _ _).mono (fun r h => ⟨fun c => (h c).2.2.2, sem_eq_zero_of_no_sems (by decide) r.2⟩) (Reference7Ideal.Value.run m g),
  fun m ρ _ => Kernel8.Gen.frame m ρ, fun m ρ _ => Kernel8Ideal.Gen.frame m ρ,
    fun m g _ => (θ_run _ _ _).mono (fun r h => ⟨fun c => (h c).2.2.2.2, sem_eq_zero_of_no_sems (by decide) r.2⟩) (Reference8Ideal.Value.run m g),
  fun m ρ _ => Kernel9.Gen.frame m ρ, fun m ρ _ => Kernel9Ideal.Gen.frame m ρ,
    fun m g _ => (θ_run _ _ _).mono (fun r h => ⟨fun c => (h c).2, sem_eq_zero_of_no_sems (by decide) r.2⟩) (Reference9Ideal.Value.run m g),
  fun m ρ _ => Kernel10.Gen.frame m ρ, fun m ρ _ => Kernel10Ideal.Gen.frame m ρ,
    fun m g _ => (θ_run _ _ _).mono (fun r h => ⟨fun c => (h c).2, sem_eq_zero_of_no_sems (by decide) r.2⟩) (Reference10Ideal.Value.run m g),
  fun m ρ _ => Kernel11.Gen.frame m ρ, fun m ρ _ => Kernel11Ideal.Gen.frame m ρ,
    fun m g _ => (θ_run _ _ _).mono (fun r h => ⟨fun c => (h c).2, sem_eq_zero_of_no_sems (by decide) r.2⟩) (Reference11Ideal.Value.run m g),
  fun m ρ _ => Kernel12.Gen.frame m ρ, fun m ρ _ => Kernel12Ideal.Gen.frame m ρ,
    fun m g _ => (θ_run _ _ _).mono (fun r h => ⟨fun c => (h c).2.2, sem_eq_zero_of_no_sems (by decide) r.2⟩) (Reference12Ideal.Value.run m g),
  fun m ρ _ => Kernel13.Gen.frame m ρ, fun m ρ _ => Kernel13Ideal.Gen.frame m ρ,
    fun m g _ => (θ_run _ _ _).mono (fun r h => ⟨fun c => (h c).2.2.2.2, sem_eq_zero_of_no_sems (by decide) r.2⟩) (Reference13Ideal.Value.run m g),
  fun m ρ h => Kernel14.Gen.frame m ρ (Opt.Gu.L3.inside_bits m h), fun m ρ h => Kernel14Ideal.Gen.frame m ρ (Opt.Gu.L3.inside m h),
    fun m g _ => (θ_run _ _ _).mono (fun r h => ⟨fun c => (h c).2.2.2.2, sem_eq_zero_of_no_sems (by decide) r.2⟩) (Reference14Ideal.Value.run m g),
  fun m ρ h => Kernel15.Gen.frame m ρ (Opt.Gu.L2.inside_bits m h), fun m ρ h => Kernel15Ideal.Gen.frame m ρ (Opt.Gu.L2.inside m h),
    fun m g _ => (θ_run _ _ _).mono (fun r h => ⟨fun c => (h c).2.2.2.2, sem_eq_zero_of_no_sems (by decide) r.2⟩) (Reference15Ideal.Value.run m g),
  fun m ρ h => Kernel16.Gen.frame m ρ (Opt.Gu.L1.inside_bits m h), fun m ρ h => Kernel16Ideal.Gen.frame m ρ (Opt.Gu.L1.inside m h),
    fun m g _ => (θ_run _ _ _).mono (fun r h => ⟨fun c => (h c).2.2.2.2, sem_eq_zero_of_no_sems (by decide) r.2⟩) (Reference16Ideal.Value.run m g),
  fun m ρ h => Kernel17.Gen.frame m ρ (Opt.Gu.L0.inside_bits m h), fun m ρ h => Kernel17Ideal.Gen.frame m ρ (Opt.Gu.L0.inside m h),
    fun m g _ => (θ_run _ _ _).mono (fun r h => ⟨fun c => (h c).2.2.2.2, sem_eq_zero_of_no_sems (by decide) r.2⟩) (Reference17Ideal.Value.run m g),
  fun m ρ h => Kernel18.Gen.frame m ρ (Opt.Down.L3.inside_bits m h), fun m ρ h => Kernel18Ideal.Gen.frame m ρ (Opt.Down.L3.inside m h),
    fun m g _ => (θ_run _ _ _).mono (fun r h => ⟨fun c => (h c).2.2.2.2, sem_eq_zero_of_no_sems (by decide) r.2⟩) (Reference18Ideal.Value.run m g),
  fun m ρ h => Kernel19.Gen.frame m ρ (Opt.Down.L2.inside_bits m h), fun m ρ h => Kernel19Ideal.Gen.frame m ρ (Opt.Down.L2.inside m h),
    fun m g _ => (θ_run _ _ _).mono (fun r h => ⟨fun c => (h c).2.2.2.2, sem_eq_zero_of_no_sems (by decide) r.2⟩) (Reference19Ideal.Value.run m g),
  fun m ρ h => Kernel20.Gen.frame m ρ (Opt.Down.L1.inside_bits m h), fun m ρ h => Kernel20Ideal.Gen.frame m ρ (Opt.Down.L1.inside m h),
    fun m g _ => (θ_run _ _ _).mono (fun r h => ⟨fun c => (h c).2.2.2.2, sem_eq_zero_of_no_sems (by decide) r.2⟩) (Reference20Ideal.Value.run m g),
  fun m ρ h => Kernel21.Gen.frame m ρ (Opt.Down.L0.inside_bits m h), fun m ρ h => Kernel21Ideal.Gen.frame m ρ (Opt.Down.L0.inside m h),
    fun m g _ => (θ_run _ _ _).mono (fun r h => ⟨fun c => (h c).2.2.2.2, sem_eq_zero_of_no_sems (by decide) r.2⟩) (Reference21Ideal.Value.run m g),
  fun m ρ h => Kernel22.Gen.frame m ρ (Opt.Br.L3.inside_bits m h), fun m ρ h => Kernel22Ideal.Gen.frame m ρ (Opt.Br.L3.inside m h),
    fun m g _ => (θ_run _ _ _).mono (fun r h => ⟨fun c => (h c).2.2.2.2, sem_eq_zero_of_no_sems (by decide) r.2⟩) (Reference22Ideal.Value.run m g),
  fun m ρ h => Kernel23.Gen.frame m ρ (Opt.Br.L2.inside_bits m h), fun m ρ h => Kernel23Ideal.Gen.frame m ρ (Opt.Br.L2.inside m h),
    fun m g _ => (θ_run _ _ _).mono (fun r h => ⟨fun c => (h c).2.2.2.2, sem_eq_zero_of_no_sems (by decide) r.2⟩) (Reference23Ideal.Value.run m g),
  fun m ρ h => Kernel24.Gen.frame m ρ (Opt.Br.L1.inside_bits m h), fun m ρ h => Kernel24Ideal.Gen.frame m ρ (Opt.Br.L1.inside m h),
    fun m g _ => (θ_run _ _ _).mono (fun r h => ⟨fun c => (h c).2.2.2.2, sem_eq_zero_of_no_sems (by decide) r.2⟩) (Reference24Ideal.Value.run m g),
  fun m ρ h => Kernel25.Gen.frame m ρ (Opt.Br.L0.inside_bits m h), fun m ρ h => Kernel25Ideal.Gen.frame m ρ (Opt.Br.L0.inside m h),
    fun m g _ => (θ_run _ _ _).mono (fun r h => ⟨fun c => (h c).2.2.2.2, sem_eq_zero_of_no_sems (by decide) r.2⟩) (Reference25Ideal.Value.run m g),
  fun m ρ h => Kernel26.Gen.frame m ρ (Opt.Win.L3.inside_bits m h), fun m ρ h => Kernel26Ideal.Gen.frame m ρ (Opt.Win.L3.inside m h),
    fun m g _ => (θ_run _ _ _).mono (fun r h => ⟨fun c => (h c).2.2.2.2, sem_eq_zero_of_no_sems (by decide) r.2⟩) (Reference26Ideal.Value.run m g),
  fun m ρ h => Kernel27.Gen.frame m ρ (Opt.Win.L2.inside_bits m h), fun m ρ h => Kernel27Ideal.Gen.frame m ρ (Opt.Win.L2.inside m h),
    fun m g _ => (θ_run _ _ _).mono (fun r h => ⟨fun c => (h c).2.2.2.2, sem_eq_zero_of_no_sems (by decide) r.2⟩) (Reference27Ideal.Value.run m g),
  fun m ρ h => Kernel28.Gen.frame m ρ (Opt.Win.L1.inside_bits m h), fun m ρ h => Kernel28Ideal.Gen.frame m ρ (Opt.Win.L1.inside m h),
    fun m g _ => (θ_run _ _ _).mono (fun r h => ⟨fun c => (h c).2.2.2.2, sem_eq_zero_of_no_sems (by decide) r.2⟩) (Reference28Ideal.Value.run m g),
  fun m ρ h => Kernel29.Gen.frame m ρ (Opt.Win.L0.inside_bits m h), fun m ρ h => Kernel29Ideal.Gen.frame m ρ (Opt.Win.L0.inside m h),
    fun m g _ => (θ_run _ _ _).mono (fun r h => ⟨fun c => (h c).2.2.2.2, sem_eq_zero_of_no_sems (by decide) r.2⟩) (Reference29Ideal.Value.run m g),
  fun m ρ h => Kernel30.Gen.frame m ρ (Opt.Glu.L3.inside_bits m h), fun m ρ h => Kernel30Ideal.Gen.frame m ρ (Opt.Glu.L3.inside m h),
    fun m g _ => (θ_run _ _ _).mono (fun r h => ⟨fun c => (h c).2.2.2.2, sem_eq_zero_of_no_sems (by decide) r.2⟩) (Reference30Ideal.Value.run m g),
  fun m ρ h => Kernel31.Gen.frame m ρ (Opt.Glu.L2.inside_bits m h), fun m ρ h => Kernel31Ideal.Gen.frame m ρ (Opt.Glu.L2.inside m h),
    fun m g _ => (θ_run _ _ _).mono (fun r h => ⟨fun c => (h c).2.2.2.2, sem_eq_zero_of_no_sems (by decide) r.2⟩) (Reference31Ideal.Value.run m g),
  fun m ρ h => Kernel32.Gen.frame m ρ (Opt.Glu.L1.inside_bits m h), fun m ρ h => Kernel32Ideal.Gen.frame m ρ (Opt.Glu.L1.inside m h),
    fun m g _ => (θ_run _ _ _).mono (fun r h => ⟨fun c => (h c).2.2.2.2, sem_eq_zero_of_no_sems (by decide) r.2⟩) (Reference32Ideal.Value.run m g),
  fun m ρ h => Kernel33.Gen.frame m ρ (Opt.Glu.L0.inside_bits m h), fun m ρ h => Kernel33Ideal.Gen.frame m ρ (Opt.Glu.L0.inside m h),
    fun m g _ => (θ_run _ _ _).mono (fun r h => ⟨fun c => (h c).2.2.2.2, sem_eq_zero_of_no_sems (by decide) r.2⟩) (Reference33Ideal.Value.run m g),
  fun m ρ h => Kernel34.Gen.frame m ρ (Opt.Out.L3.inside_bits m h), fun m ρ h => Kernel34Ideal.Gen.frame m ρ (Opt.Out.L3.inside m h),
    fun m g _ => (θ_run _ _ _).mono (fun r h => ⟨fun c => (h c).2.2.2.2, sem_eq_zero_of_no_sems (by decide) r.2⟩) (Reference34Ideal.Value.run m g),
  fun m ρ h => Kernel35.Gen.frame m ρ (Opt.Out.L2.inside_bits m h), fun m ρ h => Kernel35Ideal.Gen.frame m ρ (Opt.Out.L2.inside m h),
    fun m g _ => (θ_run _ _ _).mono (fun r h => ⟨fun c => (h c).2.2.2.2, sem_eq_zero_of_no_sems (by decide) r.2⟩) (Reference35Ideal.Value.run m g),
  fun m ρ h => Kernel36.Gen.frame m ρ (Opt.Out.L1.inside_bits m h), fun m ρ h => Kernel36Ideal.Gen.frame m ρ (Opt.Out.L1.inside m h),
    fun m g _ => (θ_run _ _ _).mono (fun r h => ⟨fun c => (h c).2.2.2.2, sem_eq_zero_of_no_sems (by decide) r.2⟩) (Reference36Ideal.Value.run m g),
  fun m ρ h => Kernel37.Gen.frame m ρ (Opt.Out.L0.inside_bits m h), fun m ρ h => Kernel37Ideal.Gen.frame m ρ (Opt.Out.L0.inside m h),
    fun m g _ => (θ_run _ _ _).mono (fun r h => ⟨fun c => (h c).2.2.2.2, sem_eq_zero_of_no_sems (by decide) r.2⟩) (Reference37Ideal.Value.run m g),
  fun m ρ h => Kernel38.Gen.frame m ρ (Opt.Conv.L3.inside_bits m h), fun m ρ h => Kernel38Ideal.Gen.frame m ρ (Opt.Conv.L3.inside m h),
    fun m g _ => (θ_run _ _ _).mono (fun r h => ⟨fun c => (h c).2.2.2.2, sem_eq_zero_of_no_sems (by decide) r.2⟩) (Reference38Ideal.Value.run m g),
  fun m ρ h => Kernel39.Gen.frame m ρ (Opt.Conv.L2.inside_bits m h), fun m ρ h => Kernel39Ideal.Gen.frame m ρ (Opt.Conv.L2.inside m h),
    fun m g _ => (θ_run _ _ _).mono (fun r h => ⟨fun c => (h c).2.2.2.2, sem_eq_zero_of_no_sems (by decide) r.2⟩) (Reference39Ideal.Value.run m g),
  fun m ρ h => Kernel40.Gen.frame m ρ (Opt.Conv.L1.inside_bits m h), fun m ρ h => Kernel40Ideal.Gen.frame m ρ (Opt.Conv.L1.inside m h),
    fun m g _ => (θ_run _ _ _).mono (fun r h => ⟨fun c => (h c).2.2.2.2, sem_eq_zero_of_no_sems (by decide) r.2⟩) (Reference40Ideal.Value.run m g),
  fun m ρ h => Kernel41.Gen.frame m ρ (Opt.Conv.L0.inside_bits m h), fun m ρ h => Kernel41Ideal.Gen.frame m ρ (Opt.Conv.L0.inside m h),
    fun m g _ => (θ_run _ _ _).mono (fun r h => ⟨fun c => (h c).2.2.2.2, sem_eq_zero_of_no_sems (by decide) r.2⟩) (Reference41Ideal.Value.run m g),
  fun m ρ _ => Kernel42.Gen.frame m ρ, fun m ρ _ => Kernel42Ideal.Gen.frame m ρ,
    fun m g _ => (θ_run _ _ _).mono (fun r h => ⟨fun c => (h c).2, sem_eq_zero_of_no_sems (by decide) r.2⟩) (Reference42Ideal.Value.run m g),
  fun m ρ _ => Kernel43.Gen.frame m ρ, fun m ρ _ => Kernel43Ideal.Gen.frame m ρ,
    fun m g _ => (θ_run _ _ _).mono (fun r h => ⟨fun c => (h c).2.2, sem_eq_zero_of_no_sems (by decide) r.2⟩) (Reference43Ideal.Value.run m g),
  fun m ρ _ => Kernel44.Gen.frame m ρ, fun m ρ _ => Kernel44Ideal.Gen.frame m ρ,
    fun m g _ => (θ_run _ _ _).mono (fun r h => ⟨fun c => (h c).2.2.2.2, sem_eq_zero_of_no_sems (by decide) r.2⟩) (Reference44Ideal.Value.run m g),
  fun m ρ _ => Kernel45.Gen.frame m ρ, fun m ρ _ => Kernel45Ideal.Gen.frame m ρ,
    fun m g _ => (θ_run _ _ _).mono (fun r h => ⟨fun c => (h c).2, sem_eq_zero_of_no_sems (by decide) r.2⟩) (Reference45Ideal.Value.run m g),
  fun m ρ _ => Kernel46.Gen.frame m ρ, fun m ρ _ => Kernel46Ideal.Gen.frame m ρ,
    fun m g _ => (θ_run _ _ _).mono (fun r h => ⟨fun c => (h c).2, sem_eq_zero_of_no_sems (by decide) r.2⟩) (Reference46Ideal.Value.run m g),
  fun m ρ _ => Kernel47.Gen.frame m ρ, fun m ρ _ => Kernel47Ideal.Gen.frame m ρ,
    fun m g _ => (θ_run _ _ _).mono (fun r h => ⟨fun c => (h c).2, sem_eq_zero_of_no_sems (by decide) r.2⟩) (Reference47Ideal.Value.run m g),
  fun m ρ _ => Kernel48.Gen.frame m ρ, fun m ρ _ => Kernel48Ideal.Gen.frame m ρ,
    fun m g _ => (θ_run _ _ _).mono (fun r h => ⟨fun c => (h c).2.2, sem_eq_zero_of_no_sems (by decide) r.2⟩) (Reference48Ideal.Value.run m g),
  trivial, S5.Bwd.algebraic,
  trivial, S5.Fwd.algebraic,
  trivial, Ffn.Dh.algebraic,
  trivial, Ffn.DwDown.algebraic,
  trivial, Ffn.Dx.algebraic,
  trivial, Ffn.DwGu.algebraic,
  trivial, Ffn.Up.algebraic,
  trivial, Ffn.Down.algebraic,
  trivial, Mix.In.algebraic,
  trivial, Mix.Dx.algebraic,
  trivial, Mix.Dw.algebraic,
  trivial, Opt.Loss.algebraic,
  trivial, Opt.Small.algebraic,
  trivial, Opt.Gu.L3.algebraic,
  trivial, Opt.Gu.L2.algebraic,
  trivial, Opt.Gu.L1.algebraic,
  trivial, Opt.Gu.L0.algebraic,
  trivial, Opt.Down.L3.algebraic,
  trivial, Opt.Down.L2.algebraic,
  trivial, Opt.Down.L1.algebraic,
  trivial, Opt.Down.L0.algebraic,
  trivial, Opt.Br.L3.algebraic,
  trivial, Opt.Br.L2.algebraic,
  trivial, Opt.Br.L1.algebraic,
  trivial, Opt.Br.L0.algebraic,
  trivial, Opt.Win.L3.algebraic,
  trivial, Opt.Win.L2.algebraic,
  trivial, Opt.Win.L1.algebraic,
  trivial, Opt.Win.L0.algebraic,
  trivial, Opt.Glu.L3.algebraic,
  trivial, Opt.Glu.L2.algebraic,
  trivial, Opt.Glu.L1.algebraic,
  trivial, Opt.Glu.L0.algebraic,
  trivial, Opt.Out.L3.algebraic,
  trivial, Opt.Out.L2.algebraic,
  trivial, Opt.Out.L1.algebraic,
  trivial, Opt.Out.L0.algebraic,
  trivial, Opt.Conv.L3.algebraic,
  trivial, Opt.Conv.L2.algebraic,
  trivial, Opt.Conv.L1.algebraic,
  trivial, Opt.Conv.L0.algebraic,
  trivial, Mix.Ssm.algebraic,
  trivial, Mix.Merge.algebraic,
  trivial, Mix.DMerge.algebraic,
  trivial, Mix.DwOut.algebraic,
  trivial, Mix.DBranch.algebraic,
  trivial, Mix.DwBranch.algebraic,
  trivial, Mix.Glu.algebraic⟩

end Cert.Proof

end
